-- ==== Defs.lean ====
def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v218) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernelIdeal : Cert.KernelIdeal.Facts) (hReferenceIdeal : Cert.ReferenceIdeal.Facts),
    quiescent_KernelIdeal (hKernelIdeal := hKernelIdeal)
    ∧ quiescent_ReferenceIdeal (hReferenceIdeal := hReferenceIdeal)
    ∧ algebraic_KernelIdeal_ReferenceIdeal (hKernelIdeal := hKernelIdeal) (hReferenceIdeal := hReferenceIdeal)
-- ==== KernelIdeal.lean ====
abbrev S8x256x200x200 : Shape := ⟨4, ![8, 256, 200, 200]⟩
abbrev S8x256x4 : Shape := ⟨3, ![8, 256, 4]⟩
abbrev S8x200x200x256 : Shape := ⟨4, ![8, 200, 200, 256]⟩
abbrev S8192 : Shape := ⟨1, ![8192]⟩
abbrev S49x2048x256 : Shape := ⟨3, ![49, 2048, 256]⟩
abbrev S49x32x256 : Shape := ⟨3, ![49, 32, 256]⟩
abbrev S200x216x256 : Shape := ⟨3, ![200, 216, 256]⟩
abbrev S_ : Shape := ⟨0, ![]⟩
abbrev S200x200x256 : Shape := ⟨3, ![200, 200, 256]⟩
abbrev S1x200x200x256 : Shape := ⟨4, ![1, 200, 200, 256]⟩
abbrev S1 : Shape := ⟨1, ![1]⟩
abbrev S1x16x256 : Shape := ⟨3, ![1, 16, 256]⟩
abbrev S16x256 : Shape := ⟨2, ![16, 256]⟩
abbrev S1x256 : Shape := ⟨2, ![1, 256]⟩
abbrev S256 : Shape := ⟨1, ![256]⟩
abbrev S1x1x256 : Shape := ⟨3, ![1, 1, 256]⟩
abbrev S2048x256x49 : Shape := ⟨3, ![2048, 256, 49]⟩
abbrev S2048x256x7x7 : Shape := ⟨4, ![2048, 256, 7, 7]⟩

abbrev nBuf : Space → Nat
  | .hbm => 7
  | .vmem => 3
  | .smem => 1
  | _ => 0

abbrev bufTy : (tb : Table) → Fin (tcTables nBuf tb) → BufTy
  | .hbm, ⟨0, _⟩ => ⟨S8x256x200x200, .f32⟩
  | .hbm, ⟨1, _⟩ => ⟨S8x256x4, .i32⟩
  | .hbm, ⟨2, _⟩ => ⟨S8x200x200x256, .f32⟩
  | .hbm, ⟨3, _⟩ => ⟨S8192, .i32⟩
  | .hbm, ⟨4, _⟩ => ⟨S49x2048x256, .f32⟩
  | .hbm, ⟨5, _⟩ => ⟨S2048x256x49, .f32⟩
  | .hbm, ⟨6, _⟩ => ⟨S2048x256x7x7, .f32⟩
  | .local _ .vmem, ⟨0, _⟩ => ⟨S49x32x256, .f32⟩
  | .local _ .vmem, ⟨1, _⟩ => ⟨S49x32x256, .f32⟩
  | .local _ .vmem, ⟨2, _⟩ => ⟨S200x216x256, .f32⟩
  | .local _ .smem, ⟨0, _⟩ => ⟨S8192, .i32⟩
  | _, _ => ⟨S8x256x200x200, .f32⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg1_0 : Ref sig .tc := ⟨.vmem, 0, rfl⟩
abbrev cc0_stg1_1 : Ref sig .tc := ⟨.vmem, 1, rfl⟩
abbrev cc0_scratch0 : Ref sig .tc := ⟨.vmem, 2, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2

abbrev nD : Nat := 1
abbrev τ : Topo := Topo.v7x

variable {F : FTy → Type} [FloatOps F]

abbrev grid0 : Pipeline.Grid := ⟨2, ![8, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_off1 (i : grid0.Coords) : Fin 4 → Nat :=
  let arg0 : BitVec 32 := BitVec.ofNat 32 (i 0).val
  let c0_i32_6 : BitVec 32 := 0#32
  let c0_i32_7 : BitVec 32 := 0#32
  let c0_i32_8 : BitVec 32 := 0#32
  ![arg0.toNat, 0, 0, 0]
@[reducible] def k0_t1_loop : Scf.Loop 32 :=
  let c0_i32_1 : BitVec 32 := 0#32
  let c4_i32 : BitVec 32 := 4#32
  let v3 : BitVec 32 := Scalar.addi c0_i32_1 c4_i32
  let c1_i32 : BitVec 32 := 1#32
  ⟨c0_i32_1, v3, c1_i32⟩
def k0_mult1 (k0_t1 : Fin k0_t1_loop.trips) : BitVec 32 :=
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  v4
def k0_off2 (i : grid0.Coords) (k0_t1 : Fin k0_t1_loop.trips) (c0_i32_5 : BitVec 32) : Fin 1 → Nat :=
  let arg0 : BitVec 32 := BitVec.ofNat 32 (i 0).val
  let c256_i32 : BitVec 32 := 256#32
  let v7 : BitVec 32 := Scalar.muli arg0 c256_i32
  let arg1 : BitVec 32 := BitVec.ofNat 32 (i 1).val
  let c32_i32 : BitVec 32 := 32#32
  let v8 : BitVec 32 := Scalar.muli arg1 c32_i32
  let v9 : BitVec 32 := Scalar.addi v7 v8
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c0_i32_3 : BitVec 32 := 0#32
  let v6 : BitVec 32 := Scalar.addi v5 c0_i32_3
  let v10 : BitVec 32 := Scalar.addi v9 v6
  let c4_i32_4 : BitVec 32 := 4#32
  let v11 : BitVec 32 := Scalar.muli v10 c4_i32_4
  let v12 : BitVec 32 := Scalar.addi v11 c0_i32_5
  let v13 : Index := Scalar.indexCast v12
  ![v13.toNat]
def k0_mult2 (v14 : BitVec 32) (v108 : BitVec 32) : BitVec 32 :=
  let c199_i32 : BitVec 32 := 199#32
  let c0_i32_6 : BitVec 32 := 0#32
  let v15 : BitVec 32 := Scalar.maxsi c0_i32_6 v14
  let v16 : BitVec 32 := Scalar.minsi c199_i32 v15
  let v109 : BitVec 32 := Scalar.addi v16 v108
  let c3_i32_49 : BitVec 32 := 3#32
  let v112 : BitVec 32 := Scalar.shrsi v109 c3_i32_49
  let c3_i32_50 : BitVec 32 := 3#32
  let v113 : BitVec 32 := Scalar.shli v112 c3_i32_50
  v113

def k0_mult3 (v14 : BitVec 32) (v121 : BitVec 32) : BitVec 32 :=
  let c199_i32 : BitVec 32 := 199#32
  let c0_i32_6 : BitVec 32 := 0#32
  let v15 : BitVec 32 := Scalar.maxsi c0_i32_6 v14
  let v16 : BitVec 32 := Scalar.minsi c199_i32 v15
  let v122 : BitVec 32 := Scalar.addi v16 v121
  let c3_i32_55 : BitVec 32 := 3#32
  let v125 : BitVec 32 := Scalar.shrsi v122 c3_i32_55
  let c3_i32_56 : BitVec 32 := 3#32
  let v126 : BitVec 32 := Scalar.shli v125 c3_i32_56
  v126

def k0_mult4 (v14 : BitVec 32) (v134 : BitVec 32) : BitVec 32 :=
  let c199_i32 : BitVec 32 := 199#32
  let c0_i32_6 : BitVec 32 := 0#32
  let v15 : BitVec 32 := Scalar.maxsi c0_i32_6 v14
  let v16 : BitVec 32 := Scalar.minsi c199_i32 v15
  let v135 : BitVec 32 := Scalar.addi v16 v134
  let c3_i32_62 : BitVec 32 := 3#32
  let v138 : BitVec 32 := Scalar.shrsi v135 c3_i32_62
  let c3_i32_63 : BitVec 32 := 3#32
  let v139 : BitVec 32 := Scalar.shli v138 c3_i32_63
  v139

def k0_mult5 (v14 : BitVec 32) (v147 : BitVec 32) : BitVec 32 :=
  let c199_i32 : BitVec 32 := 199#32
  let c0_i32_6 : BitVec 32 := 0#32
  let v15 : BitVec 32 := Scalar.maxsi c0_i32_6 v14
  let v16 : BitVec 32 := Scalar.minsi c199_i32 v15
  let v148 : BitVec 32 := Scalar.addi v16 v147
  let c3_i32_69 : BitVec 32 := 3#32
  let v151 : BitVec 32 := Scalar.shrsi v148 c3_i32_69
  let c3_i32_70 : BitVec 32 := 3#32
  let v152 : BitVec 32 := Scalar.shli v151 c3_i32_70
  v152

def k0_mult6 (v14 : BitVec 32) (v160 : BitVec 32) : BitVec 32 :=
  let c199_i32 : BitVec 32 := 199#32
  let c0_i32_6 : BitVec 32 := 0#32
  let v15 : BitVec 32 := Scalar.maxsi c0_i32_6 v14
  let v16 : BitVec 32 := Scalar.minsi c199_i32 v15
  let v161 : BitVec 32 := Scalar.addi v16 v160
  let c3_i32_76 : BitVec 32 := 3#32
  let v164 : BitVec 32 := Scalar.shrsi v161 c3_i32_76
  let c3_i32_77 : BitVec 32 := 3#32
  let v165 : BitVec 32 := Scalar.shli v164 c3_i32_77
  v165

def k0_mult7 (v14 : BitVec 32) (v173 : BitVec 32) : BitVec 32 :=
  let c199_i32 : BitVec 32 := 199#32
  let c0_i32_6 : BitVec 32 := 0#32
  let v15 : BitVec 32 := Scalar.maxsi c0_i32_6 v14
  let v16 : BitVec 32 := Scalar.minsi c199_i32 v15
  let v174 : BitVec 32 := Scalar.addi v16 v173
  let c3_i32_83 : BitVec 32 := 3#32
  let v177 : BitVec 32 := Scalar.shrsi v174 c3_i32_83
  let c3_i32_84 : BitVec 32 := 3#32
  let v178 : BitVec 32 := Scalar.shli v177 c3_i32_84
  v178

def k0_mult8 (v14 : BitVec 32) (v186 : BitVec 32) : BitVec 32 :=
  let c199_i32 : BitVec 32 := 199#32
  let c0_i32_6 : BitVec 32 := 0#32
  let v15 : BitVec 32 := Scalar.maxsi c0_i32_6 v14
  let v16 : BitVec 32 := Scalar.minsi c199_i32 v15
  let v187 : BitVec 32 := Scalar.addi v16 v186
  let c3_i32_90 : BitVec 32 := 3#32
  let v190 : BitVec 32 := Scalar.shrsi v187 c3_i32_90
  let c3_i32_91 : BitVec 32 := 3#32
  let v191 : BitVec 32 := Scalar.shli v190 c3_i32_91
  v191

def k0_off3 (v14 : BitVec 32) (v19 : BitVec 32) (v45 : BitVec 32) (v108 : BitVec 32) : Fin 3 → Nat :=
  let c199_i32_9 : BitVec 32 := 199#32
  let c0_i32_8 : BitVec 32 := 0#32
  let v20 : BitVec 32 := Scalar.maxsi c0_i32_8 v19
  let v21 : BitVec 32 := Scalar.minsi c199_i32_9 v20
  let v46 : BitVec 32 := Scalar.addi v21 v45
  let v196 : Index := Scalar.indexCast v46
  let c199_i32 : BitVec 32 := 199#32
  let c0_i32_6 : BitVec 32 := 0#32
  let v15 : BitVec 32 := Scalar.maxsi c0_i32_6 v14
  let v16 : BitVec 32 := Scalar.minsi c199_i32 v15
  let v109 : BitVec 32 := Scalar.addi v16 v108
  let c3_i32_49 : BitVec 32 := 3#32
  let v112 : BitVec 32 := Scalar.shrsi v109 c3_i32_49
  let c3_i32_50 : BitVec 32 := 3#32
  let v113 : BitVec 32 := Scalar.shli v112 c3_i32_50
  let v114 : BitVec 32 := v113
  let v197 : Index := Scalar.indexCast v114
  let c0 : Index := 0#32
  ![v196.toNat, v197.toNat, 0]
def k0_off4 (v14 : BitVec 32) (v19 : BitVec 32) (v29 : BitVec 32) (v45 : BitVec 32) (v108 : BitVec 32) : Fin 3 → Nat :=
  let c199_i32_9 : BitVec 32 := 199#32
  let c0_i32_8 : BitVec 32 := 0#32
  let v20 : BitVec 32 := Scalar.maxsi c0_i32_8 v19
  let v21 : BitVec 32 := Scalar.minsi c199_i32_9 v20
  let v46 : BitVec 32 := Scalar.addi v21 v45
  let c1_i32_20 : BitVec 32 := 1#32
  let v47 : BitVec 32 := Scalar.addi v46 c1_i32_20
  let c199_i32_13 : BitVec 32 := 199#32
  let c0_i32_12 : BitVec 32 := 0#32
  let v30 : BitVec 32 := Scalar.maxsi c0_i32_12 v29
  let v31 : BitVec 32 := Scalar.minsi c199_i32_13 v30
  let v48 : BitVec 32 := Scalar.minsi v47 v31
  let v200 : Index := Scalar.indexCast v48
  let c199_i32 : BitVec 32 := 199#32
  let c0_i32_6 : BitVec 32 := 0#32
  let v15 : BitVec 32 := Scalar.maxsi c0_i32_6 v14
  let v16 : BitVec 32 := Scalar.minsi c199_i32 v15
  let v109 : BitVec 32 := Scalar.addi v16 v108
  let c3_i32_49 : BitVec 32 := 3#32
  let v112 : BitVec 32 := Scalar.shrsi v109 c3_i32_49
  let c3_i32_50 : BitVec 32 := 3#32
  let v113 : BitVec 32 := Scalar.shli v112 c3_i32_50
  let v114 : BitVec 32 := v113
  let v201 : Index := Scalar.indexCast v114
  let c0_95 : Index := 0#32
  ![v200.toNat, v201.toNat, 0]
def k0_off5 (k0_t1 : Fin k0_t1_loop.trips) : Fin 3 → Nat :=
  let c0_97 : Index := 0#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c0_i32_3 : BitVec 32 := 0#32
  let v6 : BitVec 32 := Scalar.addi v5 c0_i32_3
  let v220 : Index := Scalar.indexCast v6
  let c0_98 : Index := 0#32
  ![0, v220.toNat, 0]
def k0_off6 (v14 : BitVec 32) (v19 : BitVec 32) (v45 : BitVec 32) (v121 : BitVec 32) : Fin 3 → Nat :=
  let c199_i32_9 : BitVec 32 := 199#32
  let c0_i32_8 : BitVec 32 := 0#32
  let v20 : BitVec 32 := Scalar.maxsi c0_i32_8 v19
  let v21 : BitVec 32 := Scalar.minsi c199_i32_9 v20
  let v46 : BitVec 32 := Scalar.addi v21 v45
  let v225 : Index := Scalar.indexCast v46
  let c199_i32 : BitVec 32 := 199#32
  let c0_i32_6 : BitVec 32 := 0#32
  let v15 : BitVec 32 := Scalar.maxsi c0_i32_6 v14
  let v16 : BitVec 32 := Scalar.minsi c199_i32 v15
  let v122 : BitVec 32 := Scalar.addi v16 v121
  let c3_i32_55 : BitVec 32 := 3#32
  let v125 : BitVec 32 := Scalar.shrsi v122 c3_i32_55
  let c3_i32_56 : BitVec 32 := 3#32
  let v126 : BitVec 32 := Scalar.shli v125 c3_i32_56
  let v127 : BitVec 32 := v126
  let v226 : Index := Scalar.indexCast v127
  let c0_100 : Index := 0#32
  ![v225.toNat, v226.toNat, 0]
def k0_off7 (v14 : BitVec 32) (v19 : BitVec 32) (v29 : BitVec 32) (v45 : BitVec 32) (v121 : BitVec 32) : Fin 3 → Nat :=
  let c199_i32_9 : BitVec 32 := 199#32
  let c0_i32_8 : BitVec 32 := 0#32
  let v20 : BitVec 32 := Scalar.maxsi c0_i32_8 v19
  let v21 : BitVec 32 := Scalar.minsi c199_i32_9 v20
  let v46 : BitVec 32 := Scalar.addi v21 v45
  let c1_i32_20 : BitVec 32 := 1#32
  let v47 : BitVec 32 := Scalar.addi v46 c1_i32_20
  let c199_i32_13 : BitVec 32 := 199#32
  let c0_i32_12 : BitVec 32 := 0#32
  let v30 : BitVec 32 := Scalar.maxsi c0_i32_12 v29
  let v31 : BitVec 32 := Scalar.minsi c199_i32_13 v30
  let v48 : BitVec 32 := Scalar.minsi v47 v31
  let v229 : Index := Scalar.indexCast v48
  let c199_i32 : BitVec 32 := 199#32
  let c0_i32_6 : BitVec 32 := 0#32
  let v15 : BitVec 32 := Scalar.maxsi c0_i32_6 v14
  let v16 : BitVec 32 := Scalar.minsi c199_i32 v15
  let v122 : BitVec 32 := Scalar.addi v16 v121
  let c3_i32_55 : BitVec 32 := 3#32
  let v125 : BitVec 32 := Scalar.shrsi v122 c3_i32_55
  let c3_i32_56 : BitVec 32 := 3#32
  let v126 : BitVec 32 := Scalar.shli v125 c3_i32_56
  let v127 : BitVec 32 := v126
  let v230 : Index := Scalar.indexCast v127
  let c0_101 : Index := 0#32
  ![v229.toNat, v230.toNat, 0]
def k0_off8 (k0_t1 : Fin k0_t1_loop.trips) : Fin 3 → Nat :=
  let c1 : Index := 1#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c0_i32_3 : BitVec 32 := 0#32
  let v6 : BitVec 32 := Scalar.addi v5 c0_i32_3
  let v249 : Index := Scalar.indexCast v6
  let c0_103 : Index := 0#32
  ![1, v249.toNat, 0]
def k0_off9 (v14 : BitVec 32) (v19 : BitVec 32) (v45 : BitVec 32) (v134 : BitVec 32) : Fin 3 → Nat :=
  let c199_i32_9 : BitVec 32 := 199#32
  let c0_i32_8 : BitVec 32 := 0#32
  let v20 : BitVec 32 := Scalar.maxsi c0_i32_8 v19
  let v21 : BitVec 32 := Scalar.minsi c199_i32_9 v20
  let v46 : BitVec 32 := Scalar.addi v21 v45
  let v254 : Index := Scalar.indexCast v46
  let c199_i32 : BitVec 32 := 199#32
  let c0_i32_6 : BitVec 32 := 0#32
  let v15 : BitVec 32 := Scalar.maxsi c0_i32_6 v14
  let v16 : BitVec 32 := Scalar.minsi c199_i32 v15
  let v135 : BitVec 32 := Scalar.addi v16 v134
  let c3_i32_62 : BitVec 32 := 3#32
  let v138 : BitVec 32 := Scalar.shrsi v135 c3_i32_62
  let c3_i32_63 : BitVec 32 := 3#32
  let v139 : BitVec 32 := Scalar.shli v138 c3_i32_63
  let v140 : BitVec 32 := v139
  let v255 : Index := Scalar.indexCast v140
  let c0_105 : Index := 0#32
  ![v254.toNat, v255.toNat, 0]
def k0_off10 (v14 : BitVec 32) (v19 : BitVec 32) (v29 : BitVec 32) (v45 : BitVec 32) (v134 : BitVec 32) : Fin 3 → Nat :=
  let c199_i32_9 : BitVec 32 := 199#32
  let c0_i32_8 : BitVec 32 := 0#32
  let v20 : BitVec 32 := Scalar.maxsi c0_i32_8 v19
  let v21 : BitVec 32 := Scalar.minsi c199_i32_9 v20
  let v46 : BitVec 32 := Scalar.addi v21 v45
  let c1_i32_20 : BitVec 32 := 1#32
  let v47 : BitVec 32 := Scalar.addi v46 c1_i32_20
  let c199_i32_13 : BitVec 32 := 199#32
  let c0_i32_12 : BitVec 32 := 0#32
  let v30 : BitVec 32 := Scalar.maxsi c0_i32_12 v29
  let v31 : BitVec 32 := Scalar.minsi c199_i32_13 v30
  let v48 : BitVec 32 := Scalar.minsi v47 v31
  let v258 : Index := Scalar.indexCast v48
  let c199_i32 : BitVec 32 := 199#32
  let c0_i32_6 : BitVec 32 := 0#32
  let v15 : BitVec 32 := Scalar.maxsi c0_i32_6 v14
  let v16 : BitVec 32 := Scalar.minsi c199_i32 v15
  let v135 : BitVec 32 := Scalar.addi v16 v134
  let c3_i32_62 : BitVec 32 := 3#32
  let v138 : BitVec 32 := Scalar.shrsi v135 c3_i32_62
  let c3_i32_63 : BitVec 32 := 3#32
  let v139 : BitVec 32 := Scalar.shli v138 c3_i32_63
  let v140 : BitVec 32 := v139
  let v259 : Index := Scalar.indexCast v140
  let c0_106 : Index := 0#32
  ![v258.toNat, v259.toNat, 0]
def k0_off11 (k0_t1 : Fin k0_t1_loop.trips) : Fin 3 → Nat :=
  let c2 : Index := 2#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c0_i32_3 : BitVec 32 := 0#32
  let v6 : BitVec 32 := Scalar.addi v5 c0_i32_3
  let v278 : Index := Scalar.indexCast v6
  let c0_108 : Index := 0#32
  ![2, v278.toNat, 0]
def k0_off12 (v14 : BitVec 32) (v19 : BitVec 32) (v45 : BitVec 32) (v147 : BitVec 32) : Fin 3 → Nat :=
  let c199_i32_9 : BitVec 32 := 199#32
  let c0_i32_8 : BitVec 32 := 0#32
  let v20 : BitVec 32 := Scalar.maxsi c0_i32_8 v19
  let v21 : BitVec 32 := Scalar.minsi c199_i32_9 v20
  let v46 : BitVec 32 := Scalar.addi v21 v45
  let v283 : Index := Scalar.indexCast v46
  let c199_i32 : BitVec 32 := 199#32
  let c0_i32_6 : BitVec 32 := 0#32
  let v15 : BitVec 32 := Scalar.maxsi c0_i32_6 v14
  let v16 : BitVec 32 := Scalar.minsi c199_i32 v15
  let v148 : BitVec 32 := Scalar.addi v16 v147
  let c3_i32_69 : BitVec 32 := 3#32
  let v151 : BitVec 32 := Scalar.shrsi v148 c3_i32_69
  let c3_i32_70 : BitVec 32 := 3#32
  let v152 : BitVec 32 := Scalar.shli v151 c3_i32_70
  let v153 : BitVec 32 := v152
  let v284 : Index := Scalar.indexCast v153
  let c0_110 : Index := 0#32
  ![v283.toNat, v284.toNat, 0]
def k0_off13 (v14 : BitVec 32) (v19 : BitVec 32) (v29 : BitVec 32) (v45 : BitVec 32) (v147 : BitVec 32) : Fin 3 → Nat :=
  let c199_i32_9 : BitVec 32 := 199#32
  let c0_i32_8 : BitVec 32 := 0#32
  let v20 : BitVec 32 := Scalar.maxsi c0_i32_8 v19
  let v21 : BitVec 32 := Scalar.minsi c199_i32_9 v20
  let v46 : BitVec 32 := Scalar.addi v21 v45
  let c1_i32_20 : BitVec 32 := 1#32
  let v47 : BitVec 32 := Scalar.addi v46 c1_i32_20
  let c199_i32_13 : BitVec 32 := 199#32
  let c0_i32_12 : BitVec 32 := 0#32
  let v30 : BitVec 32 := Scalar.maxsi c0_i32_12 v29
  let v31 : BitVec 32 := Scalar.minsi c199_i32_13 v30
  let v48 : BitVec 32 := Scalar.minsi v47 v31
  let v287 : Index := Scalar.indexCast v48
  let c199_i32 : BitVec 32 := 199#32
  let c0_i32_6 : BitVec 32 := 0#32
  let v15 : BitVec 32 := Scalar.maxsi c0_i32_6 v14
  let v16 : BitVec 32 := Scalar.minsi c199_i32 v15
  let v148 : BitVec 32 := Scalar.addi v16 v147
  let c3_i32_69 : BitVec 32 := 3#32
  let v151 : BitVec 32 := Scalar.shrsi v148 c3_i32_69
  let c3_i32_70 : BitVec 32 := 3#32
  let v152 : BitVec 32 := Scalar.shli v151 c3_i32_70
  let v153 : BitVec 32 := v152
  let v288 : Index := Scalar.indexCast v153
  let c0_111 : Index := 0#32
  ![v287.toNat, v288.toNat, 0]
def k0_off14 (k0_t1 : Fin k0_t1_loop.trips) : Fin 3 → Nat :=
  let c3 : Index := 3#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c0_i32_3 : BitVec 32 := 0#32
  let v6 : BitVec 32 := Scalar.addi v5 c0_i32_3
  let v307 : Index := Scalar.indexCast v6
  let c0_113 : Index := 0#32
  ![3, v307.toNat, 0]
def k0_off15 (v14 : BitVec 32) (v19 : BitVec 32) (v45 : BitVec 32) (v160 : BitVec 32) : Fin 3 → Nat :=
  let c199_i32_9 : BitVec 32 := 199#32
  let c0_i32_8 : BitVec 32 := 0#32
  let v20 : BitVec 32 := Scalar.maxsi c0_i32_8 v19
  let v21 : BitVec 32 := Scalar.minsi c199_i32_9 v20
  let v46 : BitVec 32 := Scalar.addi v21 v45
  let v312 : Index := Scalar.indexCast v46
  let c199_i32 : BitVec 32 := 199#32
  let c0_i32_6 : BitVec 32 := 0#32
  let v15 : BitVec 32 := Scalar.maxsi c0_i32_6 v14
  let v16 : BitVec 32 := Scalar.minsi c199_i32 v15
  let v161 : BitVec 32 := Scalar.addi v16 v160
  let c3_i32_76 : BitVec 32 := 3#32
  let v164 : BitVec 32 := Scalar.shrsi v161 c3_i32_76
  let c3_i32_77 : BitVec 32 := 3#32
  let v165 : BitVec 32 := Scalar.shli v164 c3_i32_77
  let v166 : BitVec 32 := v165
  let v313 : Index := Scalar.indexCast v166
  let c0_115 : Index := 0#32
  ![v312.toNat, v313.toNat, 0]
def k0_off16 (v14 : BitVec 32) (v19 : BitVec 32) (v29 : BitVec 32) (v45 : BitVec 32) (v160 : BitVec 32) : Fin 3 → Nat :=
  let c199_i32_9 : BitVec 32 := 199#32
  let c0_i32_8 : BitVec 32 := 0#32
  let v20 : BitVec 32 := Scalar.maxsi c0_i32_8 v19
  let v21 : BitVec 32 := Scalar.minsi c199_i32_9 v20
  let v46 : BitVec 32 := Scalar.addi v21 v45
  let c1_i32_20 : BitVec 32 := 1#32
  let v47 : BitVec 32 := Scalar.addi v46 c1_i32_20
  let c199_i32_13 : BitVec 32 := 199#32
  let c0_i32_12 : BitVec 32 := 0#32
  let v30 : BitVec 32 := Scalar.maxsi c0_i32_12 v29
  let v31 : BitVec 32 := Scalar.minsi c199_i32_13 v30
  let v48 : BitVec 32 := Scalar.minsi v47 v31
  let v316 : Index := Scalar.indexCast v48
  let c199_i32 : BitVec 32 := 199#32
  let c0_i32_6 : BitVec 32 := 0#32
  let v15 : BitVec 32 := Scalar.maxsi c0_i32_6 v14
  let v16 : BitVec 32 := Scalar.minsi c199_i32 v15
  let v161 : BitVec 32 := Scalar.addi v16 v160
  let c3_i32_76 : BitVec 32 := 3#32
  let v164 : BitVec 32 := Scalar.shrsi v161 c3_i32_76
  let c3_i32_77 : BitVec 32 := 3#32
  let v165 : BitVec 32 := Scalar.shli v164 c3_i32_77
  let v166 : BitVec 32 := v165
  let v317 : Index := Scalar.indexCast v166
  let c0_116 : Index := 0#32
  ![v316.toNat, v317.toNat, 0]
def k0_off17 (k0_t1 : Fin k0_t1_loop.trips) : Fin 3 → Nat :=
  let c4 : Index := 4#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c0_i32_3 : BitVec 32 := 0#32
  let v6 : BitVec 32 := Scalar.addi v5 c0_i32_3
  let v336 : Index := Scalar.indexCast v6
  let c0_118 : Index := 0#32
  ![4, v336.toNat, 0]
def k0_off18 (v14 : BitVec 32) (v19 : BitVec 32) (v45 : BitVec 32) (v173 : BitVec 32) : Fin 3 → Nat :=
  let c199_i32_9 : BitVec 32 := 199#32
  let c0_i32_8 : BitVec 32 := 0#32
  let v20 : BitVec 32 := Scalar.maxsi c0_i32_8 v19
  let v21 : BitVec 32 := Scalar.minsi c199_i32_9 v20
  let v46 : BitVec 32 := Scalar.addi v21 v45
  let v341 : Index := Scalar.indexCast v46
  let c199_i32 : BitVec 32 := 199#32
  let c0_i32_6 : BitVec 32 := 0#32
  let v15 : BitVec 32 := Scalar.maxsi c0_i32_6 v14
  let v16 : BitVec 32 := Scalar.minsi c199_i32 v15
  let v174 : BitVec 32 := Scalar.addi v16 v173
  let c3_i32_83 : BitVec 32 := 3#32
  let v177 : BitVec 32 := Scalar.shrsi v174 c3_i32_83
  let c3_i32_84 : BitVec 32 := 3#32
  let v178 : BitVec 32 := Scalar.shli v177 c3_i32_84
  let v179 : BitVec 32 := v178
  let v342 : Index := Scalar.indexCast v179
  let c0_120 : Index := 0#32
  ![v341.toNat, v342.toNat, 0]
def k0_off19 (v14 : BitVec 32) (v19 : BitVec 32) (v29 : BitVec 32) (v45 : BitVec 32) (v173 : BitVec 32) : Fin 3 → Nat :=
  let c199_i32_9 : BitVec 32 := 199#32
  let c0_i32_8 : BitVec 32 := 0#32
  let v20 : BitVec 32 := Scalar.maxsi c0_i32_8 v19
  let v21 : BitVec 32 := Scalar.minsi c199_i32_9 v20
  let v46 : BitVec 32 := Scalar.addi v21 v45
  let c1_i32_20 : BitVec 32 := 1#32
  let v47 : BitVec 32 := Scalar.addi v46 c1_i32_20
  let c199_i32_13 : BitVec 32 := 199#32
  let c0_i32_12 : BitVec 32 := 0#32
  let v30 : BitVec 32 := Scalar.maxsi c0_i32_12 v29
  let v31 : BitVec 32 := Scalar.minsi c199_i32_13 v30
  let v48 : BitVec 32 := Scalar.minsi v47 v31
  let v345 : Index := Scalar.indexCast v48
  let c199_i32 : BitVec 32 := 199#32
  let c0_i32_6 : BitVec 32 := 0#32
  let v15 : BitVec 32 := Scalar.maxsi c0_i32_6 v14
  let v16 : BitVec 32 := Scalar.minsi c199_i32 v15
  let v174 : BitVec 32 := Scalar.addi v16 v173
  let c3_i32_83 : BitVec 32 := 3#32
  let v177 : BitVec 32 := Scalar.shrsi v174 c3_i32_83
  let c3_i32_84 : BitVec 32 := 3#32
  let v178 : BitVec 32 := Scalar.shli v177 c3_i32_84
  let v179 : BitVec 32 := v178
  let v346 : Index := Scalar.indexCast v179
  let c0_121 : Index := 0#32
  ![v345.toNat, v346.toNat, 0]
def k0_off20 (k0_t1 : Fin k0_t1_loop.trips) : Fin 3 → Nat :=
  let c5 : Index := 5#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c0_i32_3 : BitVec 32 := 0#32
  let v6 : BitVec 32 := Scalar.addi v5 c0_i32_3
  let v365 : Index := Scalar.indexCast v6
  let c0_123 : Index := 0#32
  ![5, v365.toNat, 0]
def k0_off21 (v14 : BitVec 32) (v19 : BitVec 32) (v45 : BitVec 32) (v186 : BitVec 32) : Fin 3 → Nat :=
  let c199_i32_9 : BitVec 32 := 199#32
  let c0_i32_8 : BitVec 32 := 0#32
  let v20 : BitVec 32 := Scalar.maxsi c0_i32_8 v19
  let v21 : BitVec 32 := Scalar.minsi c199_i32_9 v20
  let v46 : BitVec 32 := Scalar.addi v21 v45
  let v370 : Index := Scalar.indexCast v46
  let c199_i32 : BitVec 32 := 199#32
  let c0_i32_6 : BitVec 32 := 0#32
  let v15 : BitVec 32 := Scalar.maxsi c0_i32_6 v14
  let v16 : BitVec 32 := Scalar.minsi c199_i32 v15
  let v187 : BitVec 32 := Scalar.addi v16 v186
  let c3_i32_90 : BitVec 32 := 3#32
  let v190 : BitVec 32 := Scalar.shrsi v187 c3_i32_90
  let c3_i32_91 : BitVec 32 := 3#32
  let v191 : BitVec 32 := Scalar.shli v190 c3_i32_91
  let v192 : BitVec 32 := v191
  let v371 : Index := Scalar.indexCast v192
  let c0_125 : Index := 0#32
  ![v370.toNat, v371.toNat, 0]
def k0_off22 (v14 : BitVec 32) (v19 : BitVec 32) (v29 : BitVec 32) (v45 : BitVec 32) (v186 : BitVec 32) : Fin 3 → Nat :=
  let c199_i32_9 : BitVec 32 := 199#32
  let c0_i32_8 : BitVec 32 := 0#32
  let v20 : BitVec 32 := Scalar.maxsi c0_i32_8 v19
  let v21 : BitVec 32 := Scalar.minsi c199_i32_9 v20
  let v46 : BitVec 32 := Scalar.addi v21 v45
  let c1_i32_20 : BitVec 32 := 1#32
  let v47 : BitVec 32 := Scalar.addi v46 c1_i32_20
  let c199_i32_13 : BitVec 32 := 199#32
  let c0_i32_12 : BitVec 32 := 0#32
  let v30 : BitVec 32 := Scalar.maxsi c0_i32_12 v29
  let v31 : BitVec 32 := Scalar.minsi c199_i32_13 v30
  let v48 : BitVec 32 := Scalar.minsi v47 v31
  let v374 : Index := Scalar.indexCast v48
  let c199_i32 : BitVec 32 := 199#32
  let c0_i32_6 : BitVec 32 := 0#32
  let v15 : BitVec 32 := Scalar.maxsi c0_i32_6 v14
  let v16 : BitVec 32 := Scalar.minsi c199_i32 v15
  let v187 : BitVec 32 := Scalar.addi v16 v186
  let c3_i32_90 : BitVec 32 := 3#32
  let v190 : BitVec 32 := Scalar.shrsi v187 c3_i32_90
  let c3_i32_91 : BitVec 32 := 3#32
  let v191 : BitVec 32 := Scalar.shli v190 c3_i32_91
  let v192 : BitVec 32 := v191
  let v375 : Index := Scalar.indexCast v192
  let c0_126 : Index := 0#32
  ![v374.toNat, v375.toNat, 0]
def k0_off23 (k0_t1 : Fin k0_t1_loop.trips) : Fin 3 → Nat :=
  let c6 : Index := 6#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c0_i32_3 : BitVec 32 := 0#32
  let v6 : BitVec 32 := Scalar.addi v5 c0_i32_3
  let v394 : Index := Scalar.indexCast v6
  let c0_128 : Index := 0#32
  ![6, v394.toNat, 0]
def k0_off24 (v14 : BitVec 32) (v19 : BitVec 32) (v54 : BitVec 32) (v108 : BitVec 32) : Fin 3 → Nat :=
  let c199_i32_9 : BitVec 32 := 199#32
  let c0_i32_8 : BitVec 32 := 0#32
  let v20 : BitVec 32 := Scalar.maxsi c0_i32_8 v19
  let v21 : BitVec 32 := Scalar.minsi c199_i32_9 v20
  let v55 : BitVec 32 := Scalar.addi v21 v54
  let v400 : Index := Scalar.indexCast v55
  let c199_i32 : BitVec 32 := 199#32
  let c0_i32_6 : BitVec 32 := 0#32
  let v15 : BitVec 32 := Scalar.maxsi c0_i32_6 v14
  let v16 : BitVec 32 := Scalar.minsi c199_i32 v15
  let v109 : BitVec 32 := Scalar.addi v16 v108
  let c3_i32_49 : BitVec 32 := 3#32
  let v112 : BitVec 32 := Scalar.shrsi v109 c3_i32_49
  let c3_i32_50 : BitVec 32 := 3#32
  let v113 : BitVec 32 := Scalar.shli v112 c3_i32_50
  let v114 : BitVec 32 := v113
  let v401 : Index := Scalar.indexCast v114
  let c0_131 : Index := 0#32
  ![v400.toNat, v401.toNat, 0]
def k0_off25 (v14 : BitVec 32) (v19 : BitVec 32) (v29 : BitVec 32) (v54 : BitVec 32) (v108 : BitVec 32) : Fin 3 → Nat :=
  let c199_i32_9 : BitVec 32 := 199#32
  let c0_i32_8 : BitVec 32 := 0#32
  let v20 : BitVec 32 := Scalar.maxsi c0_i32_8 v19
  let v21 : BitVec 32 := Scalar.minsi c199_i32_9 v20
  let v55 : BitVec 32 := Scalar.addi v21 v54
  let c1_i32_24 : BitVec 32 := 1#32
  let v56 : BitVec 32 := Scalar.addi v55 c1_i32_24
  let c199_i32_13 : BitVec 32 := 199#32
  let c0_i32_12 : BitVec 32 := 0#32
  let v30 : BitVec 32 := Scalar.maxsi c0_i32_12 v29
  let v31 : BitVec 32 := Scalar.minsi c199_i32_13 v30
  let v57 : BitVec 32 := Scalar.minsi v56 v31
  let v404 : Index := Scalar.indexCast v57
  let c199_i32 : BitVec 32 := 199#32
  let c0_i32_6 : BitVec 32 := 0#32
  let v15 : BitVec 32 := Scalar.maxsi c0_i32_6 v14
  let v16 : BitVec 32 := Scalar.minsi c199_i32 v15
  let v109 : BitVec 32 := Scalar.addi v16 v108
  let c3_i32_49 : BitVec 32 := 3#32
  let v112 : BitVec 32 := Scalar.shrsi v109 c3_i32_49
  let c3_i32_50 : BitVec 32 := 3#32
  let v113 : BitVec 32 := Scalar.shli v112 c3_i32_50
  let v114 : BitVec 32 := v113
  let v405 : Index := Scalar.indexCast v114
  let c0_132 : Index := 0#32
  ![v404.toNat, v405.toNat, 0]
def k0_off26 (k0_t1 : Fin k0_t1_loop.trips) : Fin 3 → Nat :=
  let c7 : Index := 7#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c0_i32_3 : BitVec 32 := 0#32
  let v6 : BitVec 32 := Scalar.addi v5 c0_i32_3
  let v424 : Index := Scalar.indexCast v6
  let c0_134 : Index := 0#32
  ![7, v424.toNat, 0]
def k0_off27 (v14 : BitVec 32) (v19 : BitVec 32) (v54 : BitVec 32) (v121 : BitVec 32) : Fin 3 → Nat :=
  let c199_i32_9 : BitVec 32 := 199#32
  let c0_i32_8 : BitVec 32 := 0#32
  let v20 : BitVec 32 := Scalar.maxsi c0_i32_8 v19
  let v21 : BitVec 32 := Scalar.minsi c199_i32_9 v20
  let v55 : BitVec 32 := Scalar.addi v21 v54
  let v429 : Index := Scalar.indexCast v55
  let c199_i32 : BitVec 32 := 199#32
  let c0_i32_6 : BitVec 32 := 0#32
  let v15 : BitVec 32 := Scalar.maxsi c0_i32_6 v14
  let v16 : BitVec 32 := Scalar.minsi c199_i32 v15
  let v122 : BitVec 32 := Scalar.addi v16 v121
  let c3_i32_55 : BitVec 32 := 3#32
  let v125 : BitVec 32 := Scalar.shrsi v122 c3_i32_55
  let c3_i32_56 : BitVec 32 := 3#32
  let v126 : BitVec 32 := Scalar.shli v125 c3_i32_56
  let v127 : BitVec 32 := v126
  let v430 : Index := Scalar.indexCast v127
  let c0_136 : Index := 0#32
  ![v429.toNat, v430.toNat, 0]
def k0_off28 (v14 : BitVec 32) (v19 : BitVec 32) (v29 : BitVec 32) (v54 : BitVec 32) (v121 : BitVec 32) : Fin 3 → Nat :=
  let c199_i32_9 : BitVec 32 := 199#32
  let c0_i32_8 : BitVec 32 := 0#32
  let v20 : BitVec 32 := Scalar.maxsi c0_i32_8 v19
  let v21 : BitVec 32 := Scalar.minsi c199_i32_9 v20
  let v55 : BitVec 32 := Scalar.addi v21 v54
  let c1_i32_24 : BitVec 32 := 1#32
  let v56 : BitVec 32 := Scalar.addi v55 c1_i32_24
  let c199_i32_13 : BitVec 32 := 199#32
  let c0_i32_12 : BitVec 32 := 0#32
  let v30 : BitVec 32 := Scalar.maxsi c0_i32_12 v29
  let v31 : BitVec 32 := Scalar.minsi c199_i32_13 v30
  let v57 : BitVec 32 := Scalar.minsi v56 v31
  let v433 : Index := Scalar.indexCast v57
  let c199_i32 : BitVec 32 := 199#32
  let c0_i32_6 : BitVec 32 := 0#32
  let v15 : BitVec 32 := Scalar.maxsi c0_i32_6 v14
  let v16 : BitVec 32 := Scalar.minsi c199_i32 v15
  let v122 : BitVec 32 := Scalar.addi v16 v121
  let c3_i32_55 : BitVec 32 := 3#32
  let v125 : BitVec 32 := Scalar.shrsi v122 c3_i32_55
  let c3_i32_56 : BitVec 32 := 3#32
  let v126 : BitVec 32 := Scalar.shli v125 c3_i32_56
  let v127 : BitVec 32 := v126
  let v434 : Index := Scalar.indexCast v127
  let c0_137 : Index := 0#32
  ![v433.toNat, v434.toNat, 0]
def k0_off29 (k0_t1 : Fin k0_t1_loop.trips) : Fin 3 → Nat :=
  let c8 : Index := 8#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c0_i32_3 : BitVec 32 := 0#32
  let v6 : BitVec 32 := Scalar.addi v5 c0_i32_3
  let v453 : Index := Scalar.indexCast v6
  let c0_139 : Index := 0#32
  ![8, v453.toNat, 0]
def k0_off30 (v14 : BitVec 32) (v19 : BitVec 32) (v54 : BitVec 32) (v134 : BitVec 32) : Fin 3 → Nat :=
  let c199_i32_9 : BitVec 32 := 199#32
  let c0_i32_8 : BitVec 32 := 0#32
  let v20 : BitVec 32 := Scalar.maxsi c0_i32_8 v19
  let v21 : BitVec 32 := Scalar.minsi c199_i32_9 v20
  let v55 : BitVec 32 := Scalar.addi v21 v54
  let v458 : Index := Scalar.indexCast v55
  let c199_i32 : BitVec 32 := 199#32
  let c0_i32_6 : BitVec 32 := 0#32
  let v15 : BitVec 32 := Scalar.maxsi c0_i32_6 v14
  let v16 : BitVec 32 := Scalar.minsi c199_i32 v15
  let v135 : BitVec 32 := Scalar.addi v16 v134
  let c3_i32_62 : BitVec 32 := 3#32
  let v138 : BitVec 32 := Scalar.shrsi v135 c3_i32_62
  let c3_i32_63 : BitVec 32 := 3#32
  let v139 : BitVec 32 := Scalar.shli v138 c3_i32_63
  let v140 : BitVec 32 := v139
  let v459 : Index := Scalar.indexCast v140
  let c0_141 : Index := 0#32
  ![v458.toNat, v459.toNat, 0]
def k0_off31 (v14 : BitVec 32) (v19 : BitVec 32) (v29 : BitVec 32) (v54 : BitVec 32) (v134 : BitVec 32) : Fin 3 → Nat :=
  let c199_i32_9 : BitVec 32 := 199#32
  let c0_i32_8 : BitVec 32 := 0#32
  let v20 : BitVec 32 := Scalar.maxsi c0_i32_8 v19
  let v21 : BitVec 32 := Scalar.minsi c199_i32_9 v20
  let v55 : BitVec 32 := Scalar.addi v21 v54
  let c1_i32_24 : BitVec 32 := 1#32
  let v56 : BitVec 32 := Scalar.addi v55 c1_i32_24
  let c199_i32_13 : BitVec 32 := 199#32
  let c0_i32_12 : BitVec 32 := 0#32
  let v30 : BitVec 32 := Scalar.maxsi c0_i32_12 v29
  let v31 : BitVec 32 := Scalar.minsi c199_i32_13 v30
  let v57 : BitVec 32 := Scalar.minsi v56 v31
  let v462 : Index := Scalar.indexCast v57
  let c199_i32 : BitVec 32 := 199#32
  let c0_i32_6 : BitVec 32 := 0#32
  let v15 : BitVec 32 := Scalar.maxsi c0_i32_6 v14
  let v16 : BitVec 32 := Scalar.minsi c199_i32 v15
  let v135 : BitVec 32 := Scalar.addi v16 v134
  let c3_i32_62 : BitVec 32 := 3#32
  let v138 : BitVec 32 := Scalar.shrsi v135 c3_i32_62
  let c3_i32_63 : BitVec 32 := 3#32
  let v139 : BitVec 32 := Scalar.shli v138 c3_i32_63
  let v140 : BitVec 32 := v139
  let v463 : Index := Scalar.indexCast v140
  let c0_142 : Index := 0#32
  ![v462.toNat, v463.toNat, 0]
def k0_off32 (k0_t1 : Fin k0_t1_loop.trips) : Fin 3 → Nat :=
  let c9 : Index := 9#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c0_i32_3 : BitVec 32 := 0#32
  let v6 : BitVec 32 := Scalar.addi v5 c0_i32_3
  let v482 : Index := Scalar.indexCast v6
  let c0_144 : Index := 0#32
  ![9, v482.toNat, 0]
def k0_off33 (v14 : BitVec 32) (v19 : BitVec 32) (v54 : BitVec 32) (v147 : BitVec 32) : Fin 3 → Nat :=
  let c199_i32_9 : BitVec 32 := 199#32
  let c0_i32_8 : BitVec 32 := 0#32
  let v20 : BitVec 32 := Scalar.maxsi c0_i32_8 v19
  let v21 : BitVec 32 := Scalar.minsi c199_i32_9 v20
  let v55 : BitVec 32 := Scalar.addi v21 v54
  let v487 : Index := Scalar.indexCast v55
  let c199_i32 : BitVec 32 := 199#32
  let c0_i32_6 : BitVec 32 := 0#32
  let v15 : BitVec 32 := Scalar.maxsi c0_i32_6 v14
  let v16 : BitVec 32 := Scalar.minsi c199_i32 v15
  let v148 : BitVec 32 := Scalar.addi v16 v147
  let c3_i32_69 : BitVec 32 := 3#32
  let v151 : BitVec 32 := Scalar.shrsi v148 c3_i32_69
  let c3_i32_70 : BitVec 32 := 3#32
  let v152 : BitVec 32 := Scalar.shli v151 c3_i32_70
  let v153 : BitVec 32 := v152
  let v488 : Index := Scalar.indexCast v153
  let c0_146 : Index := 0#32
  ![v487.toNat, v488.toNat, 0]
def k0_off34 (v14 : BitVec 32) (v19 : BitVec 32) (v29 : BitVec 32) (v54 : BitVec 32) (v147 : BitVec 32) : Fin 3 → Nat :=
  let c199_i32_9 : BitVec 32 := 199#32
  let c0_i32_8 : BitVec 32 := 0#32
  let v20 : BitVec 32 := Scalar.maxsi c0_i32_8 v19
  let v21 : BitVec 32 := Scalar.minsi c199_i32_9 v20
  let v55 : BitVec 32 := Scalar.addi v21 v54
  let c1_i32_24 : BitVec 32 := 1#32
  let v56 : BitVec 32 := Scalar.addi v55 c1_i32_24
  let c199_i32_13 : BitVec 32 := 199#32
  let c0_i32_12 : BitVec 32 := 0#32
  let v30 : BitVec 32 := Scalar.maxsi c0_i32_12 v29
  let v31 : BitVec 32 := Scalar.minsi c199_i32_13 v30
  let v57 : BitVec 32 := Scalar.minsi v56 v31
  let v491 : Index := Scalar.indexCast v57
  let c199_i32 : BitVec 32 := 199#32
  let c0_i32_6 : BitVec 32 := 0#32
  let v15 : BitVec 32 := Scalar.maxsi c0_i32_6 v14
  let v16 : BitVec 32 := Scalar.minsi c199_i32 v15
  let v148 : BitVec 32 := Scalar.addi v16 v147
  let c3_i32_69 : BitVec 32 := 3#32
  let v151 : BitVec 32 := Scalar.shrsi v148 c3_i32_69
  let c3_i32_70 : BitVec 32 := 3#32
  let v152 : BitVec 32 := Scalar.shli v151 c3_i32_70
  let v153 : BitVec 32 := v152
  let v492 : Index := Scalar.indexCast v153
  let c0_147 : Index := 0#32
  ![v491.toNat, v492.toNat, 0]
def k0_off35 (k0_t1 : Fin k0_t1_loop.trips) : Fin 3 → Nat :=
  let c10 : Index := 10#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c0_i32_3 : BitVec 32 := 0#32
  let v6 : BitVec 32 := Scalar.addi v5 c0_i32_3
  let v511 : Index := Scalar.indexCast v6
  let c0_149 : Index := 0#32
  ![10, v511.toNat, 0]
def k0_off36 (v14 : BitVec 32) (v19 : BitVec 32) (v54 : BitVec 32) (v160 : BitVec 32) : Fin 3 → Nat :=
  let c199_i32_9 : BitVec 32 := 199#32
  let c0_i32_8 : BitVec 32 := 0#32
  let v20 : BitVec 32 := Scalar.maxsi c0_i32_8 v19
  let v21 : BitVec 32 := Scalar.minsi c199_i32_9 v20
  let v55 : BitVec 32 := Scalar.addi v21 v54
  let v516 : Index := Scalar.indexCast v55
  let c199_i32 : BitVec 32 := 199#32
  let c0_i32_6 : BitVec 32 := 0#32
  let v15 : BitVec 32 := Scalar.maxsi c0_i32_6 v14
  let v16 : BitVec 32 := Scalar.minsi c199_i32 v15
  let v161 : BitVec 32 := Scalar.addi v16 v160
  let c3_i32_76 : BitVec 32 := 3#32
  let v164 : BitVec 32 := Scalar.shrsi v161 c3_i32_76
  let c3_i32_77 : BitVec 32 := 3#32
  let v165 : BitVec 32 := Scalar.shli v164 c3_i32_77
  let v166 : BitVec 32 := v165
  let v517 : Index := Scalar.indexCast v166
  let c0_151 : Index := 0#32
  ![v516.toNat, v517.toNat, 0]
def k0_off37 (v14 : BitVec 32) (v19 : BitVec 32) (v29 : BitVec 32) (v54 : BitVec 32) (v160 : BitVec 32) : Fin 3 → Nat :=
  let c199_i32_9 : BitVec 32 := 199#32
  let c0_i32_8 : BitVec 32 := 0#32
  let v20 : BitVec 32 := Scalar.maxsi c0_i32_8 v19
  let v21 : BitVec 32 := Scalar.minsi c199_i32_9 v20
  let v55 : BitVec 32 := Scalar.addi v21 v54
  let c1_i32_24 : BitVec 32 := 1#32
  let v56 : BitVec 32 := Scalar.addi v55 c1_i32_24
  let c199_i32_13 : BitVec 32 := 199#32
  let c0_i32_12 : BitVec 32 := 0#32
  let v30 : BitVec 32 := Scalar.maxsi c0_i32_12 v29
  let v31 : BitVec 32 := Scalar.minsi c199_i32_13 v30
  let v57 : BitVec 32 := Scalar.minsi v56 v31
  let v520 : Index := Scalar.indexCast v57
  let c199_i32 : BitVec 32 := 199#32
  let c0_i32_6 : BitVec 32 := 0#32
  let v15 : BitVec 32 := Scalar.maxsi c0_i32_6 v14
  let v16 : BitVec 32 := Scalar.minsi c199_i32 v15
  let v161 : BitVec 32 := Scalar.addi v16 v160
  let c3_i32_76 : BitVec 32 := 3#32
  let v164 : BitVec 32 := Scalar.shrsi v161 c3_i32_76
  let c3_i32_77 : BitVec 32 := 3#32
  let v165 : BitVec 32 := Scalar.shli v164 c3_i32_77
  let v166 : BitVec 32 := v165
  let v521 : Index := Scalar.indexCast v166
  let c0_152 : Index := 0#32
  ![v520.toNat, v521.toNat, 0]
def k0_off38 (k0_t1 : Fin k0_t1_loop.trips) : Fin 3 → Nat :=
  let c11 : Index := 11#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c0_i32_3 : BitVec 32 := 0#32
  let v6 : BitVec 32 := Scalar.addi v5 c0_i32_3
  let v540 : Index := Scalar.indexCast v6
  let c0_154 : Index := 0#32
  ![11, v540.toNat, 0]
def k0_off39 (v14 : BitVec 32) (v19 : BitVec 32) (v54 : BitVec 32) (v173 : BitVec 32) : Fin 3 → Nat :=
  let c199_i32_9 : BitVec 32 := 199#32
  let c0_i32_8 : BitVec 32 := 0#32
  let v20 : BitVec 32 := Scalar.maxsi c0_i32_8 v19
  let v21 : BitVec 32 := Scalar.minsi c199_i32_9 v20
  let v55 : BitVec 32 := Scalar.addi v21 v54
  let v545 : Index := Scalar.indexCast v55
  let c199_i32 : BitVec 32 := 199#32
  let c0_i32_6 : BitVec 32 := 0#32
  let v15 : BitVec 32 := Scalar.maxsi c0_i32_6 v14
  let v16 : BitVec 32 := Scalar.minsi c199_i32 v15
  let v174 : BitVec 32 := Scalar.addi v16 v173
  let c3_i32_83 : BitVec 32 := 3#32
  let v177 : BitVec 32 := Scalar.shrsi v174 c3_i32_83
  let c3_i32_84 : BitVec 32 := 3#32
  let v178 : BitVec 32 := Scalar.shli v177 c3_i32_84
  let v179 : BitVec 32 := v178
  let v546 : Index := Scalar.indexCast v179
  let c0_156 : Index := 0#32
  ![v545.toNat, v546.toNat, 0]
def k0_off40 (v14 : BitVec 32) (v19 : BitVec 32) (v29 : BitVec 32) (v54 : BitVec 32) (v173 : BitVec 32) : Fin 3 → Nat :=
  let c199_i32_9 : BitVec 32 := 199#32
  let c0_i32_8 : BitVec 32 := 0#32
  let v20 : BitVec 32 := Scalar.maxsi c0_i32_8 v19
  let v21 : BitVec 32 := Scalar.minsi c199_i32_9 v20
  let v55 : BitVec 32 := Scalar.addi v21 v54
  let c1_i32_24 : BitVec 32 := 1#32
  let v56 : BitVec 32 := Scalar.addi v55 c1_i32_24
  let c199_i32_13 : BitVec 32 := 199#32
  let c0_i32_12 : BitVec 32 := 0#32
  let v30 : BitVec 32 := Scalar.maxsi c0_i32_12 v29
  let v31 : BitVec 32 := Scalar.minsi c199_i32_13 v30
  let v57 : BitVec 32 := Scalar.minsi v56 v31
  let v549 : Index := Scalar.indexCast v57
  let c199_i32 : BitVec 32 := 199#32
  let c0_i32_6 : BitVec 32 := 0#32
  let v15 : BitVec 32 := Scalar.maxsi c0_i32_6 v14
  let v16 : BitVec 32 := Scalar.minsi c199_i32 v15
  let v174 : BitVec 32 := Scalar.addi v16 v173
  let c3_i32_83 : BitVec 32 := 3#32
  let v177 : BitVec 32 := Scalar.shrsi v174 c3_i32_83
  let c3_i32_84 : BitVec 32 := 3#32
  let v178 : BitVec 32 := Scalar.shli v177 c3_i32_84
  let v179 : BitVec 32 := v178
  let v550 : Index := Scalar.indexCast v179
  let c0_157 : Index := 0#32
  ![v549.toNat, v550.toNat, 0]
def k0_off41 (k0_t1 : Fin k0_t1_loop.trips) : Fin 3 → Nat :=
  let c12 : Index := 12#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c0_i32_3 : BitVec 32 := 0#32
  let v6 : BitVec 32 := Scalar.addi v5 c0_i32_3
  let v569 : Index := Scalar.indexCast v6
  let c0_159 : Index := 0#32
  ![12, v569.toNat, 0]
def k0_off42 (v14 : BitVec 32) (v19 : BitVec 32) (v54 : BitVec 32) (v186 : BitVec 32) : Fin 3 → Nat :=
  let c199_i32_9 : BitVec 32 := 199#32
  let c0_i32_8 : BitVec 32 := 0#32
  let v20 : BitVec 32 := Scalar.maxsi c0_i32_8 v19
  let v21 : BitVec 32 := Scalar.minsi c199_i32_9 v20
  let v55 : BitVec 32 := Scalar.addi v21 v54
  let v574 : Index := Scalar.indexCast v55
  let c199_i32 : BitVec 32 := 199#32
  let c0_i32_6 : BitVec 32 := 0#32
  let v15 : BitVec 32 := Scalar.maxsi c0_i32_6 v14
  let v16 : BitVec 32 := Scalar.minsi c199_i32 v15
  let v187 : BitVec 32 := Scalar.addi v16 v186
  let c3_i32_90 : BitVec 32 := 3#32
  let v190 : BitVec 32 := Scalar.shrsi v187 c3_i32_90
  let c3_i32_91 : BitVec 32 := 3#32
  let v191 : BitVec 32 := Scalar.shli v190 c3_i32_91
  let v192 : BitVec 32 := v191
  let v575 : Index := Scalar.indexCast v192
  let c0_161 : Index := 0#32
  ![v574.toNat, v575.toNat, 0]
def k0_off43 (v14 : BitVec 32) (v19 : BitVec 32) (v29 : BitVec 32) (v54 : BitVec 32) (v186 : BitVec 32) : Fin 3 → Nat :=
  let c199_i32_9 : BitVec 32 := 199#32
  let c0_i32_8 : BitVec 32 := 0#32
  let v20 : BitVec 32 := Scalar.maxsi c0_i32_8 v19
  let v21 : BitVec 32 := Scalar.minsi c199_i32_9 v20
  let v55 : BitVec 32 := Scalar.addi v21 v54
  let c1_i32_24 : BitVec 32 := 1#32
  let v56 : BitVec 32 := Scalar.addi v55 c1_i32_24
  let c199_i32_13 : BitVec 32 := 199#32
  let c0_i32_12 : BitVec 32 := 0#32
  let v30 : BitVec 32 := Scalar.maxsi c0_i32_12 v29
  let v31 : BitVec 32 := Scalar.minsi c199_i32_13 v30
  let v57 : BitVec 32 := Scalar.minsi v56 v31
  let v578 : Index := Scalar.indexCast v57
  let c199_i32 : BitVec 32 := 199#32
  let c0_i32_6 : BitVec 32 := 0#32
  let v15 : BitVec 32 := Scalar.maxsi c0_i32_6 v14
  let v16 : BitVec 32 := Scalar.minsi c199_i32 v15
  let v187 : BitVec 32 := Scalar.addi v16 v186
  let c3_i32_90 : BitVec 32 := 3#32
  let v190 : BitVec 32 := Scalar.shrsi v187 c3_i32_90
  let c3_i32_91 : BitVec 32 := 3#32
  let v191 : BitVec 32 := Scalar.shli v190 c3_i32_91
  let v192 : BitVec 32 := v191
  let v579 : Index := Scalar.indexCast v192
  let c0_162 : Index := 0#32
  ![v578.toNat, v579.toNat, 0]
def k0_off44 (k0_t1 : Fin k0_t1_loop.trips) : Fin 3 → Nat :=
  let c13 : Index := 13#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c0_i32_3 : BitVec 32 := 0#32
  let v6 : BitVec 32 := Scalar.addi v5 c0_i32_3
  let v598 : Index := Scalar.indexCast v6
  let c0_164 : Index := 0#32
  ![13, v598.toNat, 0]
def k0_off45 (v14 : BitVec 32) (v19 : BitVec 32) (v63 : BitVec 32) (v108 : BitVec 32) : Fin 3 → Nat :=
  let c199_i32_9 : BitVec 32 := 199#32
  let c0_i32_8 : BitVec 32 := 0#32
  let v20 : BitVec 32 := Scalar.maxsi c0_i32_8 v19
  let v21 : BitVec 32 := Scalar.minsi c199_i32_9 v20
  let v64 : BitVec 32 := Scalar.addi v21 v63
  let v604 : Index := Scalar.indexCast v64
  let c199_i32 : BitVec 32 := 199#32
  let c0_i32_6 : BitVec 32 := 0#32
  let v15 : BitVec 32 := Scalar.maxsi c0_i32_6 v14
  let v16 : BitVec 32 := Scalar.minsi c199_i32 v15
  let v109 : BitVec 32 := Scalar.addi v16 v108
  let c3_i32_49 : BitVec 32 := 3#32
  let v112 : BitVec 32 := Scalar.shrsi v109 c3_i32_49
  let c3_i32_50 : BitVec 32 := 3#32
  let v113 : BitVec 32 := Scalar.shli v112 c3_i32_50
  let v114 : BitVec 32 := v113
  let v605 : Index := Scalar.indexCast v114
  let c0_167 : Index := 0#32
  ![v604.toNat, v605.toNat, 0]
def k0_off46 (v14 : BitVec 32) (v19 : BitVec 32) (v29 : BitVec 32) (v63 : BitVec 32) (v108 : BitVec 32) : Fin 3 → Nat :=
  let c199_i32_9 : BitVec 32 := 199#32
  let c0_i32_8 : BitVec 32 := 0#32
  let v20 : BitVec 32 := Scalar.maxsi c0_i32_8 v19
  let v21 : BitVec 32 := Scalar.minsi c199_i32_9 v20
  let v64 : BitVec 32 := Scalar.addi v21 v63
  let c1_i32_28 : BitVec 32 := 1#32
  let v65 : BitVec 32 := Scalar.addi v64 c1_i32_28
  let c199_i32_13 : BitVec 32 := 199#32
  let c0_i32_12 : BitVec 32 := 0#32
  let v30 : BitVec 32 := Scalar.maxsi c0_i32_12 v29
  let v31 : BitVec 32 := Scalar.minsi c199_i32_13 v30
  let v66 : BitVec 32 := Scalar.minsi v65 v31
  let v608 : Index := Scalar.indexCast v66
  let c199_i32 : BitVec 32 := 199#32
  let c0_i32_6 : BitVec 32 := 0#32
  let v15 : BitVec 32 := Scalar.maxsi c0_i32_6 v14
  let v16 : BitVec 32 := Scalar.minsi c199_i32 v15
  let v109 : BitVec 32 := Scalar.addi v16 v108
  let c3_i32_49 : BitVec 32 := 3#32
  let v112 : BitVec 32 := Scalar.shrsi v109 c3_i32_49
  let c3_i32_50 : BitVec 32 := 3#32
  let v113 : BitVec 32 := Scalar.shli v112 c3_i32_50
  let v114 : BitVec 32 := v113
  let v609 : Index := Scalar.indexCast v114
  let c0_168 : Index := 0#32
  ![v608.toNat, v609.toNat, 0]
def k0_off47 (k0_t1 : Fin k0_t1_loop.trips) : Fin 3 → Nat :=
  let c14 : Index := 14#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c0_i32_3 : BitVec 32 := 0#32
  let v6 : BitVec 32 := Scalar.addi v5 c0_i32_3
  let v628 : Index := Scalar.indexCast v6
  let c0_170 : Index := 0#32
  ![14, v628.toNat, 0]
def k0_off48 (v14 : BitVec 32) (v19 : BitVec 32) (v63 : BitVec 32) (v121 : BitVec 32) : Fin 3 → Nat :=
  let c199_i32_9 : BitVec 32 := 199#32
  let c0_i32_8 : BitVec 32 := 0#32
  let v20 : BitVec 32 := Scalar.maxsi c0_i32_8 v19
  let v21 : BitVec 32 := Scalar.minsi c199_i32_9 v20
  let v64 : BitVec 32 := Scalar.addi v21 v63
  let v633 : Index := Scalar.indexCast v64
  let c199_i32 : BitVec 32 := 199#32
  let c0_i32_6 : BitVec 32 := 0#32
  let v15 : BitVec 32 := Scalar.maxsi c0_i32_6 v14
  let v16 : BitVec 32 := Scalar.minsi c199_i32 v15
  let v122 : BitVec 32 := Scalar.addi v16 v121
  let c3_i32_55 : BitVec 32 := 3#32
  let v125 : BitVec 32 := Scalar.shrsi v122 c3_i32_55
  let c3_i32_56 : BitVec 32 := 3#32
  let v126 : BitVec 32 := Scalar.shli v125 c3_i32_56
  let v127 : BitVec 32 := v126
  let v634 : Index := Scalar.indexCast v127
  let c0_172 : Index := 0#32
  ![v633.toNat, v634.toNat, 0]
def k0_off49 (v14 : BitVec 32) (v19 : BitVec 32) (v29 : BitVec 32) (v63 : BitVec 32) (v121 : BitVec 32) : Fin 3 → Nat :=
  let c199_i32_9 : BitVec 32 := 199#32
  let c0_i32_8 : BitVec 32 := 0#32
  let v20 : BitVec 32 := Scalar.maxsi c0_i32_8 v19
  let v21 : BitVec 32 := Scalar.minsi c199_i32_9 v20
  let v64 : BitVec 32 := Scalar.addi v21 v63
  let c1_i32_28 : BitVec 32 := 1#32
  let v65 : BitVec 32 := Scalar.addi v64 c1_i32_28
  let c199_i32_13 : BitVec 32 := 199#32
  let c0_i32_12 : BitVec 32 := 0#32
  let v30 : BitVec 32 := Scalar.maxsi c0_i32_12 v29
  let v31 : BitVec 32 := Scalar.minsi c199_i32_13 v30
  let v66 : BitVec 32 := Scalar.minsi v65 v31
  let v637 : Index := Scalar.indexCast v66
  let c199_i32 : BitVec 32 := 199#32
  let c0_i32_6 : BitVec 32 := 0#32
  let v15 : BitVec 32 := Scalar.maxsi c0_i32_6 v14
  let v16 : BitVec 32 := Scalar.minsi c199_i32 v15
  let v122 : BitVec 32 := Scalar.addi v16 v121
  let c3_i32_55 : BitVec 32 := 3#32
  let v125 : BitVec 32 := Scalar.shrsi v122 c3_i32_55
  let c3_i32_56 : BitVec 32 := 3#32
  let v126 : BitVec 32 := Scalar.shli v125 c3_i32_56
  let v127 : BitVec 32 := v126
  let v638 : Index := Scalar.indexCast v127
  let c0_173 : Index := 0#32
  ![v637.toNat, v638.toNat, 0]
def k0_off50 (k0_t1 : Fin k0_t1_loop.trips) : Fin 3 → Nat :=
  let c15 : Index := 15#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c0_i32_3 : BitVec 32 := 0#32
  let v6 : BitVec 32 := Scalar.addi v5 c0_i32_3
  let v657 : Index := Scalar.indexCast v6
  let c0_175 : Index := 0#32
  ![15, v657.toNat, 0]
def k0_off51 (v14 : BitVec 32) (v19 : BitVec 32) (v63 : BitVec 32) (v134 : BitVec 32) : Fin 3 → Nat :=
  let c199_i32_9 : BitVec 32 := 199#32
  let c0_i32_8 : BitVec 32 := 0#32
  let v20 : BitVec 32 := Scalar.maxsi c0_i32_8 v19
  let v21 : BitVec 32 := Scalar.minsi c199_i32_9 v20
  let v64 : BitVec 32 := Scalar.addi v21 v63
  let v662 : Index := Scalar.indexCast v64
  let c199_i32 : BitVec 32 := 199#32
  let c0_i32_6 : BitVec 32 := 0#32
  let v15 : BitVec 32 := Scalar.maxsi c0_i32_6 v14
  let v16 : BitVec 32 := Scalar.minsi c199_i32 v15
  let v135 : BitVec 32 := Scalar.addi v16 v134
  let c3_i32_62 : BitVec 32 := 3#32
  let v138 : BitVec 32 := Scalar.shrsi v135 c3_i32_62
  let c3_i32_63 : BitVec 32 := 3#32
  let v139 : BitVec 32 := Scalar.shli v138 c3_i32_63
  let v140 : BitVec 32 := v139
  let v663 : Index := Scalar.indexCast v140
  let c0_177 : Index := 0#32
  ![v662.toNat, v663.toNat, 0]
def k0_off52 (v14 : BitVec 32) (v19 : BitVec 32) (v29 : BitVec 32) (v63 : BitVec 32) (v134 : BitVec 32) : Fin 3 → Nat :=
  let c199_i32_9 : BitVec 32 := 199#32
  let c0_i32_8 : BitVec 32 := 0#32
  let v20 : BitVec 32 := Scalar.maxsi c0_i32_8 v19
  let v21 : BitVec 32 := Scalar.minsi c199_i32_9 v20
  let v64 : BitVec 32 := Scalar.addi v21 v63
  let c1_i32_28 : BitVec 32 := 1#32
  let v65 : BitVec 32 := Scalar.addi v64 c1_i32_28
  let c199_i32_13 : BitVec 32 := 199#32
  let c0_i32_12 : BitVec 32 := 0#32
  let v30 : BitVec 32 := Scalar.maxsi c0_i32_12 v29
  let v31 : BitVec 32 := Scalar.minsi c199_i32_13 v30
  let v66 : BitVec 32 := Scalar.minsi v65 v31
  let v666 : Index := Scalar.indexCast v66
  let c199_i32 : BitVec 32 := 199#32
  let c0_i32_6 : BitVec 32 := 0#32
  let v15 : BitVec 32 := Scalar.maxsi c0_i32_6 v14
  let v16 : BitVec 32 := Scalar.minsi c199_i32 v15
  let v135 : BitVec 32 := Scalar.addi v16 v134
  let c3_i32_62 : BitVec 32 := 3#32
  let v138 : BitVec 32 := Scalar.shrsi v135 c3_i32_62
  let c3_i32_63 : BitVec 32 := 3#32
  let v139 : BitVec 32 := Scalar.shli v138 c3_i32_63
  let v140 : BitVec 32 := v139
  let v667 : Index := Scalar.indexCast v140
  let c0_178 : Index := 0#32
  ![v666.toNat, v667.toNat, 0]
def k0_off53 (k0_t1 : Fin k0_t1_loop.trips) : Fin 3 → Nat :=
  let c16 : Index := 16#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c0_i32_3 : BitVec 32 := 0#32
  let v6 : BitVec 32 := Scalar.addi v5 c0_i32_3
  let v686 : Index := Scalar.indexCast v6
  let c0_180 : Index := 0#32
  ![16, v686.toNat, 0]
def k0_off54 (v14 : BitVec 32) (v19 : BitVec 32) (v63 : BitVec 32) (v147 : BitVec 32) : Fin 3 → Nat :=
  let c199_i32_9 : BitVec 32 := 199#32
  let c0_i32_8 : BitVec 32 := 0#32
  let v20 : BitVec 32 := Scalar.maxsi c0_i32_8 v19
  let v21 : BitVec 32 := Scalar.minsi c199_i32_9 v20
  let v64 : BitVec 32 := Scalar.addi v21 v63
  let v691 : Index := Scalar.indexCast v64
  let c199_i32 : BitVec 32 := 199#32
  let c0_i32_6 : BitVec 32 := 0#32
  let v15 : BitVec 32 := Scalar.maxsi c0_i32_6 v14
  let v16 : BitVec 32 := Scalar.minsi c199_i32 v15
  let v148 : BitVec 32 := Scalar.addi v16 v147
  let c3_i32_69 : BitVec 32 := 3#32
  let v151 : BitVec 32 := Scalar.shrsi v148 c3_i32_69
  let c3_i32_70 : BitVec 32 := 3#32
  let v152 : BitVec 32 := Scalar.shli v151 c3_i32_70
  let v153 : BitVec 32 := v152
  let v692 : Index := Scalar.indexCast v153
  let c0_182 : Index := 0#32
  ![v691.toNat, v692.toNat, 0]
def k0_off55 (v14 : BitVec 32) (v19 : BitVec 32) (v29 : BitVec 32) (v63 : BitVec 32) (v147 : BitVec 32) : Fin 3 → Nat :=
  let c199_i32_9 : BitVec 32 := 199#32
  let c0_i32_8 : BitVec 32 := 0#32
  let v20 : BitVec 32 := Scalar.maxsi c0_i32_8 v19
  let v21 : BitVec 32 := Scalar.minsi c199_i32_9 v20
  let v64 : BitVec 32 := Scalar.addi v21 v63
  let c1_i32_28 : BitVec 32 := 1#32
  let v65 : BitVec 32 := Scalar.addi v64 c1_i32_28
  let c199_i32_13 : BitVec 32 := 199#32
  let c0_i32_12 : BitVec 32 := 0#32
  let v30 : BitVec 32 := Scalar.maxsi c0_i32_12 v29
  let v31 : BitVec 32 := Scalar.minsi c199_i32_13 v30
  let v66 : BitVec 32 := Scalar.minsi v65 v31
  let v695 : Index := Scalar.indexCast v66
  let c199_i32 : BitVec 32 := 199#32
  let c0_i32_6 : BitVec 32 := 0#32
  let v15 : BitVec 32 := Scalar.maxsi c0_i32_6 v14
  let v16 : BitVec 32 := Scalar.minsi c199_i32 v15
  let v148 : BitVec 32 := Scalar.addi v16 v147
  let c3_i32_69 : BitVec 32 := 3#32
  let v151 : BitVec 32 := Scalar.shrsi v148 c3_i32_69
  let c3_i32_70 : BitVec 32 := 3#32
  let v152 : BitVec 32 := Scalar.shli v151 c3_i32_70
  let v153 : BitVec 32 := v152
  let v696 : Index := Scalar.indexCast v153
  let c0_183 : Index := 0#32
  ![v695.toNat, v696.toNat, 0]
def k0_off56 (k0_t1 : Fin k0_t1_loop.trips) : Fin 3 → Nat :=
  let c17 : Index := 17#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c0_i32_3 : BitVec 32 := 0#32
  let v6 : BitVec 32 := Scalar.addi v5 c0_i32_3
  let v715 : Index := Scalar.indexCast v6
  let c0_185 : Index := 0#32
  ![17, v715.toNat, 0]
def k0_off57 (v14 : BitVec 32) (v19 : BitVec 32) (v63 : BitVec 32) (v160 : BitVec 32) : Fin 3 → Nat :=
  let c199_i32_9 : BitVec 32 := 199#32
  let c0_i32_8 : BitVec 32 := 0#32
  let v20 : BitVec 32 := Scalar.maxsi c0_i32_8 v19
  let v21 : BitVec 32 := Scalar.minsi c199_i32_9 v20
  let v64 : BitVec 32 := Scalar.addi v21 v63
  let v720 : Index := Scalar.indexCast v64
  let c199_i32 : BitVec 32 := 199#32
  let c0_i32_6 : BitVec 32 := 0#32
  let v15 : BitVec 32 := Scalar.maxsi c0_i32_6 v14
  let v16 : BitVec 32 := Scalar.minsi c199_i32 v15
  let v161 : BitVec 32 := Scalar.addi v16 v160
  let c3_i32_76 : BitVec 32 := 3#32
  let v164 : BitVec 32 := Scalar.shrsi v161 c3_i32_76
  let c3_i32_77 : BitVec 32 := 3#32
  let v165 : BitVec 32 := Scalar.shli v164 c3_i32_77
  let v166 : BitVec 32 := v165
  let v721 : Index := Scalar.indexCast v166
  let c0_187 : Index := 0#32
  ![v720.toNat, v721.toNat, 0]
def k0_off58 (v14 : BitVec 32) (v19 : BitVec 32) (v29 : BitVec 32) (v63 : BitVec 32) (v160 : BitVec 32) : Fin 3 → Nat :=
  let c199_i32_9 : BitVec 32 := 199#32
  let c0_i32_8 : BitVec 32 := 0#32
  let v20 : BitVec 32 := Scalar.maxsi c0_i32_8 v19
  let v21 : BitVec 32 := Scalar.minsi c199_i32_9 v20
  let v64 : BitVec 32 := Scalar.addi v21 v63
  let c1_i32_28 : BitVec 32 := 1#32
  let v65 : BitVec 32 := Scalar.addi v64 c1_i32_28
  let c199_i32_13 : BitVec 32 := 199#32
  let c0_i32_12 : BitVec 32 := 0#32
  let v30 : BitVec 32 := Scalar.maxsi c0_i32_12 v29
  let v31 : BitVec 32 := Scalar.minsi c199_i32_13 v30
  let v66 : BitVec 32 := Scalar.minsi v65 v31
  let v724 : Index := Scalar.indexCast v66
  let c199_i32 : BitVec 32 := 199#32
  let c0_i32_6 : BitVec 32 := 0#32
  let v15 : BitVec 32 := Scalar.maxsi c0_i32_6 v14
  let v16 : BitVec 32 := Scalar.minsi c199_i32 v15
  let v161 : BitVec 32 := Scalar.addi v16 v160
  let c3_i32_76 : BitVec 32 := 3#32
  let v164 : BitVec 32 := Scalar.shrsi v161 c3_i32_76
  let c3_i32_77 : BitVec 32 := 3#32
  let v165 : BitVec 32 := Scalar.shli v164 c3_i32_77
  let v166 : BitVec 32 := v165
  let v725 : Index := Scalar.indexCast v166
  let c0_188 : Index := 0#32
  ![v724.toNat, v725.toNat, 0]
def k0_off59 (k0_t1 : Fin k0_t1_loop.trips) : Fin 3 → Nat :=
  let c18 : Index := 18#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c0_i32_3 : BitVec 32 := 0#32
  let v6 : BitVec 32 := Scalar.addi v5 c0_i32_3
  let v744 : Index := Scalar.indexCast v6
  let c0_190 : Index := 0#32
  ![18, v744.toNat, 0]
def k0_off60 (v14 : BitVec 32) (v19 : BitVec 32) (v63 : BitVec 32) (v173 : BitVec 32) : Fin 3 → Nat :=
  let c199_i32_9 : BitVec 32 := 199#32
  let c0_i32_8 : BitVec 32 := 0#32
  let v20 : BitVec 32 := Scalar.maxsi c0_i32_8 v19
  let v21 : BitVec 32 := Scalar.minsi c199_i32_9 v20
  let v64 : BitVec 32 := Scalar.addi v21 v63
  let v749 : Index := Scalar.indexCast v64
  let c199_i32 : BitVec 32 := 199#32
  let c0_i32_6 : BitVec 32 := 0#32
  let v15 : BitVec 32 := Scalar.maxsi c0_i32_6 v14
  let v16 : BitVec 32 := Scalar.minsi c199_i32 v15
  let v174 : BitVec 32 := Scalar.addi v16 v173
  let c3_i32_83 : BitVec 32 := 3#32
  let v177 : BitVec 32 := Scalar.shrsi v174 c3_i32_83
  let c3_i32_84 : BitVec 32 := 3#32
  let v178 : BitVec 32 := Scalar.shli v177 c3_i32_84
  let v179 : BitVec 32 := v178
  let v750 : Index := Scalar.indexCast v179
  let c0_192 : Index := 0#32
  ![v749.toNat, v750.toNat, 0]
def k0_off61 (v14 : BitVec 32) (v19 : BitVec 32) (v29 : BitVec 32) (v63 : BitVec 32) (v173 : BitVec 32) : Fin 3 → Nat :=
  let c199_i32_9 : BitVec 32 := 199#32
  let c0_i32_8 : BitVec 32 := 0#32
  let v20 : BitVec 32 := Scalar.maxsi c0_i32_8 v19
  let v21 : BitVec 32 := Scalar.minsi c199_i32_9 v20
  let v64 : BitVec 32 := Scalar.addi v21 v63
  let c1_i32_28 : BitVec 32 := 1#32
  let v65 : BitVec 32 := Scalar.addi v64 c1_i32_28
  let c199_i32_13 : BitVec 32 := 199#32
  let c0_i32_12 : BitVec 32 := 0#32
  let v30 : BitVec 32 := Scalar.maxsi c0_i32_12 v29
  let v31 : BitVec 32 := Scalar.minsi c199_i32_13 v30
  let v66 : BitVec 32 := Scalar.minsi v65 v31
  let v753 : Index := Scalar.indexCast v66
  let c199_i32 : BitVec 32 := 199#32
  let c0_i32_6 : BitVec 32 := 0#32
  let v15 : BitVec 32 := Scalar.maxsi c0_i32_6 v14
  let v16 : BitVec 32 := Scalar.minsi c199_i32 v15
  let v174 : BitVec 32 := Scalar.addi v16 v173
  let c3_i32_83 : BitVec 32 := 3#32
  let v177 : BitVec 32 := Scalar.shrsi v174 c3_i32_83
  let c3_i32_84 : BitVec 32 := 3#32
  let v178 : BitVec 32 := Scalar.shli v177 c3_i32_84
  let v179 : BitVec 32 := v178
  let v754 : Index := Scalar.indexCast v179
  let c0_193 : Index := 0#32
  ![v753.toNat, v754.toNat, 0]
def k0_off62 (k0_t1 : Fin k0_t1_loop.trips) : Fin 3 → Nat :=
  let c19 : Index := 19#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c0_i32_3 : BitVec 32 := 0#32
  let v6 : BitVec 32 := Scalar.addi v5 c0_i32_3
  let v773 : Index := Scalar.indexCast v6
  let c0_195 : Index := 0#32
  ![19, v773.toNat, 0]
def k0_off63 (v14 : BitVec 32) (v19 : BitVec 32) (v63 : BitVec 32) (v186 : BitVec 32) : Fin 3 → Nat :=
  let c199_i32_9 : BitVec 32 := 199#32
  let c0_i32_8 : BitVec 32 := 0#32
  let v20 : BitVec 32 := Scalar.maxsi c0_i32_8 v19
  let v21 : BitVec 32 := Scalar.minsi c199_i32_9 v20
  let v64 : BitVec 32 := Scalar.addi v21 v63
  let v778 : Index := Scalar.indexCast v64
  let c199_i32 : BitVec 32 := 199#32
  let c0_i32_6 : BitVec 32 := 0#32
  let v15 : BitVec 32 := Scalar.maxsi c0_i32_6 v14
  let v16 : BitVec 32 := Scalar.minsi c199_i32 v15
  let v187 : BitVec 32 := Scalar.addi v16 v186
  let c3_i32_90 : BitVec 32 := 3#32
  let v190 : BitVec 32 := Scalar.shrsi v187 c3_i32_90
  let c3_i32_91 : BitVec 32 := 3#32
  let v191 : BitVec 32 := Scalar.shli v190 c3_i32_91
  let v192 : BitVec 32 := v191
  let v779 : Index := Scalar.indexCast v192
  let c0_197 : Index := 0#32
  ![v778.toNat, v779.toNat, 0]
def k0_off64 (v14 : BitVec 32) (v19 : BitVec 32) (v29 : BitVec 32) (v63 : BitVec 32) (v186 : BitVec 32) : Fin 3 → Nat :=
  let c199_i32_9 : BitVec 32 := 199#32
  let c0_i32_8 : BitVec 32 := 0#32
  let v20 : BitVec 32 := Scalar.maxsi c0_i32_8 v19
  let v21 : BitVec 32 := Scalar.minsi c199_i32_9 v20
  let v64 : BitVec 32 := Scalar.addi v21 v63
  let c1_i32_28 : BitVec 32 := 1#32
  let v65 : BitVec 32 := Scalar.addi v64 c1_i32_28
  let c199_i32_13 : BitVec 32 := 199#32
  let c0_i32_12 : BitVec 32 := 0#32
  let v30 : BitVec 32 := Scalar.maxsi c0_i32_12 v29
  let v31 : BitVec 32 := Scalar.minsi c199_i32_13 v30
  let v66 : BitVec 32 := Scalar.minsi v65 v31
  let v782 : Index := Scalar.indexCast v66
  let c199_i32 : BitVec 32 := 199#32
  let c0_i32_6 : BitVec 32 := 0#32
  let v15 : BitVec 32 := Scalar.maxsi c0_i32_6 v14
  let v16 : BitVec 32 := Scalar.minsi c199_i32 v15
  let v187 : BitVec 32 := Scalar.addi v16 v186
  let c3_i32_90 : BitVec 32 := 3#32
  let v190 : BitVec 32 := Scalar.shrsi v187 c3_i32_90
  let c3_i32_91 : BitVec 32 := 3#32
  let v191 : BitVec 32 := Scalar.shli v190 c3_i32_91
  let v192 : BitVec 32 := v191
  let v783 : Index := Scalar.indexCast v192
  let c0_198 : Index := 0#32
  ![v782.toNat, v783.toNat, 0]
def k0_off65 (k0_t1 : Fin k0_t1_loop.trips) : Fin 3 → Nat :=
  let c20 : Index := 20#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c0_i32_3 : BitVec 32 := 0#32
  let v6 : BitVec 32 := Scalar.addi v5 c0_i32_3
  let v802 : Index := Scalar.indexCast v6
  let c0_200 : Index := 0#32
  ![20, v802.toNat, 0]
def k0_off66 (v14 : BitVec 32) (v19 : BitVec 32) (v72 : BitVec 32) (v108 : BitVec 32) : Fin 3 → Nat :=
  let c199_i32_9 : BitVec 32 := 199#32
  let c0_i32_8 : BitVec 32 := 0#32
  let v20 : BitVec 32 := Scalar.maxsi c0_i32_8 v19
  let v21 : BitVec 32 := Scalar.minsi c199_i32_9 v20
  let v73 : BitVec 32 := Scalar.addi v21 v72
  let v808 : Index := Scalar.indexCast v73
  let c199_i32 : BitVec 32 := 199#32
  let c0_i32_6 : BitVec 32 := 0#32
  let v15 : BitVec 32 := Scalar.maxsi c0_i32_6 v14
  let v16 : BitVec 32 := Scalar.minsi c199_i32 v15
  let v109 : BitVec 32 := Scalar.addi v16 v108
  let c3_i32_49 : BitVec 32 := 3#32
  let v112 : BitVec 32 := Scalar.shrsi v109 c3_i32_49
  let c3_i32_50 : BitVec 32 := 3#32
  let v113 : BitVec 32 := Scalar.shli v112 c3_i32_50
  let v114 : BitVec 32 := v113
  let v809 : Index := Scalar.indexCast v114
  let c0_203 : Index := 0#32
  ![v808.toNat, v809.toNat, 0]
def k0_off67 (v14 : BitVec 32) (v19 : BitVec 32) (v29 : BitVec 32) (v72 : BitVec 32) (v108 : BitVec 32) : Fin 3 → Nat :=
  let c199_i32_9 : BitVec 32 := 199#32
  let c0_i32_8 : BitVec 32 := 0#32
  let v20 : BitVec 32 := Scalar.maxsi c0_i32_8 v19
  let v21 : BitVec 32 := Scalar.minsi c199_i32_9 v20
  let v73 : BitVec 32 := Scalar.addi v21 v72
  let c1_i32_32 : BitVec 32 := 1#32
  let v74 : BitVec 32 := Scalar.addi v73 c1_i32_32
  let c199_i32_13 : BitVec 32 := 199#32
  let c0_i32_12 : BitVec 32 := 0#32
  let v30 : BitVec 32 := Scalar.maxsi c0_i32_12 v29
  let v31 : BitVec 32 := Scalar.minsi c199_i32_13 v30
  let v75 : BitVec 32 := Scalar.minsi v74 v31
  let v812 : Index := Scalar.indexCast v75
  let c199_i32 : BitVec 32 := 199#32
  let c0_i32_6 : BitVec 32 := 0#32
  let v15 : BitVec 32 := Scalar.maxsi c0_i32_6 v14
  let v16 : BitVec 32 := Scalar.minsi c199_i32 v15
  let v109 : BitVec 32 := Scalar.addi v16 v108
  let c3_i32_49 : BitVec 32 := 3#32
  let v112 : BitVec 32 := Scalar.shrsi v109 c3_i32_49
  let c3_i32_50 : BitVec 32 := 3#32
  let v113 : BitVec 32 := Scalar.shli v112 c3_i32_50
  let v114 : BitVec 32 := v113
  let v813 : Index := Scalar.indexCast v114
  let c0_204 : Index := 0#32
  ![v812.toNat, v813.toNat, 0]
def k0_off68 (k0_t1 : Fin k0_t1_loop.trips) : Fin 3 → Nat :=
  let c21 : Index := 21#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c0_i32_3 : BitVec 32 := 0#32
  let v6 : BitVec 32 := Scalar.addi v5 c0_i32_3
  let v832 : Index := Scalar.indexCast v6
  let c0_206 : Index := 0#32
  ![21, v832.toNat, 0]
def k0_off69 (v14 : BitVec 32) (v19 : BitVec 32) (v72 : BitVec 32) (v121 : BitVec 32) : Fin 3 → Nat :=
  let c199_i32_9 : BitVec 32 := 199#32
  let c0_i32_8 : BitVec 32 := 0#32
  let v20 : BitVec 32 := Scalar.maxsi c0_i32_8 v19
  let v21 : BitVec 32 := Scalar.minsi c199_i32_9 v20
  let v73 : BitVec 32 := Scalar.addi v21 v72
  let v837 : Index := Scalar.indexCast v73
  let c199_i32 : BitVec 32 := 199#32
  let c0_i32_6 : BitVec 32 := 0#32
  let v15 : BitVec 32 := Scalar.maxsi c0_i32_6 v14
  let v16 : BitVec 32 := Scalar.minsi c199_i32 v15
  let v122 : BitVec 32 := Scalar.addi v16 v121
  let c3_i32_55 : BitVec 32 := 3#32
  let v125 : BitVec 32 := Scalar.shrsi v122 c3_i32_55
  let c3_i32_56 : BitVec 32 := 3#32
  let v126 : BitVec 32 := Scalar.shli v125 c3_i32_56
  let v127 : BitVec 32 := v126
  let v838 : Index := Scalar.indexCast v127
  let c0_208 : Index := 0#32
  ![v837.toNat, v838.toNat, 0]
def k0_off70 (v14 : BitVec 32) (v19 : BitVec 32) (v29 : BitVec 32) (v72 : BitVec 32) (v121 : BitVec 32) : Fin 3 → Nat :=
  let c199_i32_9 : BitVec 32 := 199#32
  let c0_i32_8 : BitVec 32 := 0#32
  let v20 : BitVec 32 := Scalar.maxsi c0_i32_8 v19
  let v21 : BitVec 32 := Scalar.minsi c199_i32_9 v20
  let v73 : BitVec 32 := Scalar.addi v21 v72
  let c1_i32_32 : BitVec 32 := 1#32
  let v74 : BitVec 32 := Scalar.addi v73 c1_i32_32
  let c199_i32_13 : BitVec 32 := 199#32
  let c0_i32_12 : BitVec 32 := 0#32
  let v30 : BitVec 32 := Scalar.maxsi c0_i32_12 v29
  let v31 : BitVec 32 := Scalar.minsi c199_i32_13 v30
  let v75 : BitVec 32 := Scalar.minsi v74 v31
  let v841 : Index := Scalar.indexCast v75
  let c199_i32 : BitVec 32 := 199#32
  let c0_i32_6 : BitVec 32 := 0#32
  let v15 : BitVec 32 := Scalar.maxsi c0_i32_6 v14
  let v16 : BitVec 32 := Scalar.minsi c199_i32 v15
  let v122 : BitVec 32 := Scalar.addi v16 v121
  let c3_i32_55 : BitVec 32 := 3#32
  let v125 : BitVec 32 := Scalar.shrsi v122 c3_i32_55
  let c3_i32_56 : BitVec 32 := 3#32
  let v126 : BitVec 32 := Scalar.shli v125 c3_i32_56
  let v127 : BitVec 32 := v126
  let v842 : Index := Scalar.indexCast v127
  let c0_209 : Index := 0#32
  ![v841.toNat, v842.toNat, 0]
def k0_off71 (k0_t1 : Fin k0_t1_loop.trips) : Fin 3 → Nat :=
  let c22 : Index := 22#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c0_i32_3 : BitVec 32 := 0#32
  let v6 : BitVec 32 := Scalar.addi v5 c0_i32_3
  let v861 : Index := Scalar.indexCast v6
  let c0_211 : Index := 0#32
  ![22, v861.toNat, 0]
def k0_off72 (v14 : BitVec 32) (v19 : BitVec 32) (v72 : BitVec 32) (v134 : BitVec 32) : Fin 3 → Nat :=
  let c199_i32_9 : BitVec 32 := 199#32
  let c0_i32_8 : BitVec 32 := 0#32
  let v20 : BitVec 32 := Scalar.maxsi c0_i32_8 v19
  let v21 : BitVec 32 := Scalar.minsi c199_i32_9 v20
  let v73 : BitVec 32 := Scalar.addi v21 v72
  let v866 : Index := Scalar.indexCast v73
  let c199_i32 : BitVec 32 := 199#32
  let c0_i32_6 : BitVec 32 := 0#32
  let v15 : BitVec 32 := Scalar.maxsi c0_i32_6 v14
  let v16 : BitVec 32 := Scalar.minsi c199_i32 v15
  let v135 : BitVec 32 := Scalar.addi v16 v134
  let c3_i32_62 : BitVec 32 := 3#32
  let v138 : BitVec 32 := Scalar.shrsi v135 c3_i32_62
  let c3_i32_63 : BitVec 32 := 3#32
  let v139 : BitVec 32 := Scalar.shli v138 c3_i32_63
  let v140 : BitVec 32 := v139
  let v867 : Index := Scalar.indexCast v140
  let c0_213 : Index := 0#32
  ![v866.toNat, v867.toNat, 0]
def k0_off73 (v14 : BitVec 32) (v19 : BitVec 32) (v29 : BitVec 32) (v72 : BitVec 32) (v134 : BitVec 32) : Fin 3 → Nat :=
  let c199_i32_9 : BitVec 32 := 199#32
  let c0_i32_8 : BitVec 32 := 0#32
  let v20 : BitVec 32 := Scalar.maxsi c0_i32_8 v19
  let v21 : BitVec 32 := Scalar.minsi c199_i32_9 v20
  let v73 : BitVec 32 := Scalar.addi v21 v72
  let c1_i32_32 : BitVec 32 := 1#32
  let v74 : BitVec 32 := Scalar.addi v73 c1_i32_32
  let c199_i32_13 : BitVec 32 := 199#32
  let c0_i32_12 : BitVec 32 := 0#32
  let v30 : BitVec 32 := Scalar.maxsi c0_i32_12 v29
  let v31 : BitVec 32 := Scalar.minsi c199_i32_13 v30
  let v75 : BitVec 32 := Scalar.minsi v74 v31
  let v870 : Index := Scalar.indexCast v75
  let c199_i32 : BitVec 32 := 199#32
  let c0_i32_6 : BitVec 32 := 0#32
  let v15 : BitVec 32 := Scalar.maxsi c0_i32_6 v14
  let v16 : BitVec 32 := Scalar.minsi c199_i32 v15
  let v135 : BitVec 32 := Scalar.addi v16 v134
  let c3_i32_62 : BitVec 32 := 3#32
  let v138 : BitVec 32 := Scalar.shrsi v135 c3_i32_62
  let c3_i32_63 : BitVec 32 := 3#32
  let v139 : BitVec 32 := Scalar.shli v138 c3_i32_63
  let v140 : BitVec 32 := v139
  let v871 : Index := Scalar.indexCast v140
  let c0_214 : Index := 0#32
  ![v870.toNat, v871.toNat, 0]
def k0_off74 (k0_t1 : Fin k0_t1_loop.trips) : Fin 3 → Nat :=
  let c23 : Index := 23#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c0_i32_3 : BitVec 32 := 0#32
  let v6 : BitVec 32 := Scalar.addi v5 c0_i32_3
  let v890 : Index := Scalar.indexCast v6
  let c0_216 : Index := 0#32
  ![23, v890.toNat, 0]
def k0_off75 (v14 : BitVec 32) (v19 : BitVec 32) (v72 : BitVec 32) (v147 : BitVec 32) : Fin 3 → Nat :=
  let c199_i32_9 : BitVec 32 := 199#32
  let c0_i32_8 : BitVec 32 := 0#32
  let v20 : BitVec 32 := Scalar.maxsi c0_i32_8 v19
  let v21 : BitVec 32 := Scalar.minsi c199_i32_9 v20
  let v73 : BitVec 32 := Scalar.addi v21 v72
  let v895 : Index := Scalar.indexCast v73
  let c199_i32 : BitVec 32 := 199#32
  let c0_i32_6 : BitVec 32 := 0#32
  let v15 : BitVec 32 := Scalar.maxsi c0_i32_6 v14
  let v16 : BitVec 32 := Scalar.minsi c199_i32 v15
  let v148 : BitVec 32 := Scalar.addi v16 v147
  let c3_i32_69 : BitVec 32 := 3#32
  let v151 : BitVec 32 := Scalar.shrsi v148 c3_i32_69
  let c3_i32_70 : BitVec 32 := 3#32
  let v152 : BitVec 32 := Scalar.shli v151 c3_i32_70
  let v153 : BitVec 32 := v152
  let v896 : Index := Scalar.indexCast v153
  let c0_218 : Index := 0#32
  ![v895.toNat, v896.toNat, 0]
def k0_off76 (v14 : BitVec 32) (v19 : BitVec 32) (v29 : BitVec 32) (v72 : BitVec 32) (v147 : BitVec 32) : Fin 3 → Nat :=
  let c199_i32_9 : BitVec 32 := 199#32
  let c0_i32_8 : BitVec 32 := 0#32
  let v20 : BitVec 32 := Scalar.maxsi c0_i32_8 v19
  let v21 : BitVec 32 := Scalar.minsi c199_i32_9 v20
  let v73 : BitVec 32 := Scalar.addi v21 v72
  let c1_i32_32 : BitVec 32 := 1#32
  let v74 : BitVec 32 := Scalar.addi v73 c1_i32_32
  let c199_i32_13 : BitVec 32 := 199#32
  let c0_i32_12 : BitVec 32 := 0#32
  let v30 : BitVec 32 := Scalar.maxsi c0_i32_12 v29
  let v31 : BitVec 32 := Scalar.minsi c199_i32_13 v30
  let v75 : BitVec 32 := Scalar.minsi v74 v31
  let v899 : Index := Scalar.indexCast v75
  let c199_i32 : BitVec 32 := 199#32
  let c0_i32_6 : BitVec 32 := 0#32
  let v15 : BitVec 32 := Scalar.maxsi c0_i32_6 v14
  let v16 : BitVec 32 := Scalar.minsi c199_i32 v15
  let v148 : BitVec 32 := Scalar.addi v16 v147
  let c3_i32_69 : BitVec 32 := 3#32
  let v151 : BitVec 32 := Scalar.shrsi v148 c3_i32_69
  let c3_i32_70 : BitVec 32 := 3#32
  let v152 : BitVec 32 := Scalar.shli v151 c3_i32_70
  let v153 : BitVec 32 := v152
  let v900 : Index := Scalar.indexCast v153
  let c0_219 : Index := 0#32
  ![v899.toNat, v900.toNat, 0]
def k0_off77 (k0_t1 : Fin k0_t1_loop.trips) : Fin 3 → Nat :=
  let c24 : Index := 24#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c0_i32_3 : BitVec 32 := 0#32
  let v6 : BitVec 32 := Scalar.addi v5 c0_i32_3
  let v919 : Index := Scalar.indexCast v6
  let c0_221 : Index := 0#32
  ![24, v919.toNat, 0]
def k0_off78 (v14 : BitVec 32) (v19 : BitVec 32) (v72 : BitVec 32) (v160 : BitVec 32) : Fin 3 → Nat :=
  let c199_i32_9 : BitVec 32 := 199#32
  let c0_i32_8 : BitVec 32 := 0#32
  let v20 : BitVec 32 := Scalar.maxsi c0_i32_8 v19
  let v21 : BitVec 32 := Scalar.minsi c199_i32_9 v20
  let v73 : BitVec 32 := Scalar.addi v21 v72
  let v924 : Index := Scalar.indexCast v73
  let c199_i32 : BitVec 32 := 199#32
  let c0_i32_6 : BitVec 32 := 0#32
  let v15 : BitVec 32 := Scalar.maxsi c0_i32_6 v14
  let v16 : BitVec 32 := Scalar.minsi c199_i32 v15
  let v161 : BitVec 32 := Scalar.addi v16 v160
  let c3_i32_76 : BitVec 32 := 3#32
  let v164 : BitVec 32 := Scalar.shrsi v161 c3_i32_76
  let c3_i32_77 : BitVec 32 := 3#32
  let v165 : BitVec 32 := Scalar.shli v164 c3_i32_77
  let v166 : BitVec 32 := v165
  let v925 : Index := Scalar.indexCast v166
  let c0_223 : Index := 0#32
  ![v924.toNat, v925.toNat, 0]
def k0_off79 (v14 : BitVec 32) (v19 : BitVec 32) (v29 : BitVec 32) (v72 : BitVec 32) (v160 : BitVec 32) : Fin 3 → Nat :=
  let c199_i32_9 : BitVec 32 := 199#32
  let c0_i32_8 : BitVec 32 := 0#32
  let v20 : BitVec 32 := Scalar.maxsi c0_i32_8 v19
  let v21 : BitVec 32 := Scalar.minsi c199_i32_9 v20
  let v73 : BitVec 32 := Scalar.addi v21 v72
  let c1_i32_32 : BitVec 32 := 1#32
  let v74 : BitVec 32 := Scalar.addi v73 c1_i32_32
  let c199_i32_13 : BitVec 32 := 199#32
  let c0_i32_12 : BitVec 32 := 0#32
  let v30 : BitVec 32 := Scalar.maxsi c0_i32_12 v29
  let v31 : BitVec 32 := Scalar.minsi c199_i32_13 v30
  let v75 : BitVec 32 := Scalar.minsi v74 v31
  let v928 : Index := Scalar.indexCast v75
  let c199_i32 : BitVec 32 := 199#32
  let c0_i32_6 : BitVec 32 := 0#32
  let v15 : BitVec 32 := Scalar.maxsi c0_i32_6 v14
  let v16 : BitVec 32 := Scalar.minsi c199_i32 v15
  let v161 : BitVec 32 := Scalar.addi v16 v160
  let c3_i32_76 : BitVec 32 := 3#32
  let v164 : BitVec 32 := Scalar.shrsi v161 c3_i32_76
  let c3_i32_77 : BitVec 32 := 3#32
  let v165 : BitVec 32 := Scalar.shli v164 c3_i32_77
  let v166 : BitVec 32 := v165
  let v929 : Index := Scalar.indexCast v166
  let c0_224 : Index := 0#32
  ![v928.toNat, v929.toNat, 0]
def k0_off80 (k0_t1 : Fin k0_t1_loop.trips) : Fin 3 → Nat :=
  let c25 : Index := 25#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c0_i32_3 : BitVec 32 := 0#32
  let v6 : BitVec 32 := Scalar.addi v5 c0_i32_3
  let v948 : Index := Scalar.indexCast v6
  let c0_226 : Index := 0#32
  ![25, v948.toNat, 0]
def k0_off81 (v14 : BitVec 32) (v19 : BitVec 32) (v72 : BitVec 32) (v173 : BitVec 32) : Fin 3 → Nat :=
  let c199_i32_9 : BitVec 32 := 199#32
  let c0_i32_8 : BitVec 32 := 0#32
  let v20 : BitVec 32 := Scalar.maxsi c0_i32_8 v19
  let v21 : BitVec 32 := Scalar.minsi c199_i32_9 v20
  let v73 : BitVec 32 := Scalar.addi v21 v72
  let v953 : Index := Scalar.indexCast v73
  let c199_i32 : BitVec 32 := 199#32
  let c0_i32_6 : BitVec 32 := 0#32
  let v15 : BitVec 32 := Scalar.maxsi c0_i32_6 v14
  let v16 : BitVec 32 := Scalar.minsi c199_i32 v15
  let v174 : BitVec 32 := Scalar.addi v16 v173
  let c3_i32_83 : BitVec 32 := 3#32
  let v177 : BitVec 32 := Scalar.shrsi v174 c3_i32_83
  let c3_i32_84 : BitVec 32 := 3#32
  let v178 : BitVec 32 := Scalar.shli v177 c3_i32_84
  let v179 : BitVec 32 := v178
  let v954 : Index := Scalar.indexCast v179
  let c0_228 : Index := 0#32
  ![v953.toNat, v954.toNat, 0]
def k0_off82 (v14 : BitVec 32) (v19 : BitVec 32) (v29 : BitVec 32) (v72 : BitVec 32) (v173 : BitVec 32) : Fin 3 → Nat :=
  let c199_i32_9 : BitVec 32 := 199#32
  let c0_i32_8 : BitVec 32 := 0#32
  let v20 : BitVec 32 := Scalar.maxsi c0_i32_8 v19
  let v21 : BitVec 32 := Scalar.minsi c199_i32_9 v20
  let v73 : BitVec 32 := Scalar.addi v21 v72
  let c1_i32_32 : BitVec 32 := 1#32
  let v74 : BitVec 32 := Scalar.addi v73 c1_i32_32
  let c199_i32_13 : BitVec 32 := 199#32
  let c0_i32_12 : BitVec 32 := 0#32
  let v30 : BitVec 32 := Scalar.maxsi c0_i32_12 v29
  let v31 : BitVec 32 := Scalar.minsi c199_i32_13 v30
  let v75 : BitVec 32 := Scalar.minsi v74 v31
  let v957 : Index := Scalar.indexCast v75
  let c199_i32 : BitVec 32 := 199#32
  let c0_i32_6 : BitVec 32 := 0#32
  let v15 : BitVec 32 := Scalar.maxsi c0_i32_6 v14
  let v16 : BitVec 32 := Scalar.minsi c199_i32 v15
  let v174 : BitVec 32 := Scalar.addi v16 v173
  let c3_i32_83 : BitVec 32 := 3#32
  let v177 : BitVec 32 := Scalar.shrsi v174 c3_i32_83
  let c3_i32_84 : BitVec 32 := 3#32
  let v178 : BitVec 32 := Scalar.shli v177 c3_i32_84
  let v179 : BitVec 32 := v178
  let v958 : Index := Scalar.indexCast v179
  let c0_229 : Index := 0#32
  ![v957.toNat, v958.toNat, 0]
def k0_off83 (k0_t1 : Fin k0_t1_loop.trips) : Fin 3 → Nat :=
  let c26 : Index := 26#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c0_i32_3 : BitVec 32 := 0#32
  let v6 : BitVec 32 := Scalar.addi v5 c0_i32_3
  let v977 : Index := Scalar.indexCast v6
  let c0_231 : Index := 0#32
  ![26, v977.toNat, 0]
def k0_off84 (v14 : BitVec 32) (v19 : BitVec 32) (v72 : BitVec 32) (v186 : BitVec 32) : Fin 3 → Nat :=
  let c199_i32_9 : BitVec 32 := 199#32
  let c0_i32_8 : BitVec 32 := 0#32
  let v20 : BitVec 32 := Scalar.maxsi c0_i32_8 v19
  let v21 : BitVec 32 := Scalar.minsi c199_i32_9 v20
  let v73 : BitVec 32 := Scalar.addi v21 v72
  let v982 : Index := Scalar.indexCast v73
  let c199_i32 : BitVec 32 := 199#32
  let c0_i32_6 : BitVec 32 := 0#32
  let v15 : BitVec 32 := Scalar.maxsi c0_i32_6 v14
  let v16 : BitVec 32 := Scalar.minsi c199_i32 v15
  let v187 : BitVec 32 := Scalar.addi v16 v186
  let c3_i32_90 : BitVec 32 := 3#32
  let v190 : BitVec 32 := Scalar.shrsi v187 c3_i32_90
  let c3_i32_91 : BitVec 32 := 3#32
  let v191 : BitVec 32 := Scalar.shli v190 c3_i32_91
  let v192 : BitVec 32 := v191
  let v983 : Index := Scalar.indexCast v192
  let c0_233 : Index := 0#32
  ![v982.toNat, v983.toNat, 0]
def k0_off85 (v14 : BitVec 32) (v19 : BitVec 32) (v29 : BitVec 32) (v72 : BitVec 32) (v186 : BitVec 32) : Fin 3 → Nat :=
  let c199_i32_9 : BitVec 32 := 199#32
  let c0_i32_8 : BitVec 32 := 0#32
  let v20 : BitVec 32 := Scalar.maxsi c0_i32_8 v19
  let v21 : BitVec 32 := Scalar.minsi c199_i32_9 v20
  let v73 : BitVec 32 := Scalar.addi v21 v72
  let c1_i32_32 : BitVec 32 := 1#32
  let v74 : BitVec 32 := Scalar.addi v73 c1_i32_32
  let c199_i32_13 : BitVec 32 := 199#32
  let c0_i32_12 : BitVec 32 := 0#32
  let v30 : BitVec 32 := Scalar.maxsi c0_i32_12 v29
  let v31 : BitVec 32 := Scalar.minsi c199_i32_13 v30
  let v75 : BitVec 32 := Scalar.minsi v74 v31
  let v986 : Index := Scalar.indexCast v75
  let c199_i32 : BitVec 32 := 199#32
  let c0_i32_6 : BitVec 32 := 0#32
  let v15 : BitVec 32 := Scalar.maxsi c0_i32_6 v14
  let v16 : BitVec 32 := Scalar.minsi c199_i32 v15
  let v187 : BitVec 32 := Scalar.addi v16 v186
  let c3_i32_90 : BitVec 32 := 3#32
  let v190 : BitVec 32 := Scalar.shrsi v187 c3_i32_90
  let c3_i32_91 : BitVec 32 := 3#32
  let v191 : BitVec 32 := Scalar.shli v190 c3_i32_91
  let v192 : BitVec 32 := v191
  let v987 : Index := Scalar.indexCast v192
  let c0_234 : Index := 0#32
  ![v986.toNat, v987.toNat, 0]
def k0_off86 (k0_t1 : Fin k0_t1_loop.trips) : Fin 3 → Nat :=
  let c27 : Index := 27#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c0_i32_3 : BitVec 32 := 0#32
  let v6 : BitVec 32 := Scalar.addi v5 c0_i32_3
  let v1006 : Index := Scalar.indexCast v6
  let c0_236 : Index := 0#32
  ![27, v1006.toNat, 0]
def k0_off87 (v14 : BitVec 32) (v19 : BitVec 32) (v81 : BitVec 32) (v108 : BitVec 32) : Fin 3 → Nat :=
  let c199_i32_9 : BitVec 32 := 199#32
  let c0_i32_8 : BitVec 32 := 0#32
  let v20 : BitVec 32 := Scalar.maxsi c0_i32_8 v19
  let v21 : BitVec 32 := Scalar.minsi c199_i32_9 v20
  let v82 : BitVec 32 := Scalar.addi v21 v81
  let v1012 : Index := Scalar.indexCast v82
  let c199_i32 : BitVec 32 := 199#32
  let c0_i32_6 : BitVec 32 := 0#32
  let v15 : BitVec 32 := Scalar.maxsi c0_i32_6 v14
  let v16 : BitVec 32 := Scalar.minsi c199_i32 v15
  let v109 : BitVec 32 := Scalar.addi v16 v108
  let c3_i32_49 : BitVec 32 := 3#32
  let v112 : BitVec 32 := Scalar.shrsi v109 c3_i32_49
  let c3_i32_50 : BitVec 32 := 3#32
  let v113 : BitVec 32 := Scalar.shli v112 c3_i32_50
  let v114 : BitVec 32 := v113
  let v1013 : Index := Scalar.indexCast v114
  let c0_239 : Index := 0#32
  ![v1012.toNat, v1013.toNat, 0]
def k0_off88 (v14 : BitVec 32) (v19 : BitVec 32) (v29 : BitVec 32) (v81 : BitVec 32) (v108 : BitVec 32) : Fin 3 → Nat :=
  let c199_i32_9 : BitVec 32 := 199#32
  let c0_i32_8 : BitVec 32 := 0#32
  let v20 : BitVec 32 := Scalar.maxsi c0_i32_8 v19
  let v21 : BitVec 32 := Scalar.minsi c199_i32_9 v20
  let v82 : BitVec 32 := Scalar.addi v21 v81
  let c1_i32_36 : BitVec 32 := 1#32
  let v83 : BitVec 32 := Scalar.addi v82 c1_i32_36
  let c199_i32_13 : BitVec 32 := 199#32
  let c0_i32_12 : BitVec 32 := 0#32
  let v30 : BitVec 32 := Scalar.maxsi c0_i32_12 v29
  let v31 : BitVec 32 := Scalar.minsi c199_i32_13 v30
  let v84 : BitVec 32 := Scalar.minsi v83 v31
  let v1016 : Index := Scalar.indexCast v84
  let c199_i32 : BitVec 32 := 199#32
  let c0_i32_6 : BitVec 32 := 0#32
  let v15 : BitVec 32 := Scalar.maxsi c0_i32_6 v14
  let v16 : BitVec 32 := Scalar.minsi c199_i32 v15
  let v109 : BitVec 32 := Scalar.addi v16 v108
  let c3_i32_49 : BitVec 32 := 3#32
  let v112 : BitVec 32 := Scalar.shrsi v109 c3_i32_49
  let c3_i32_50 : BitVec 32 := 3#32
  let v113 : BitVec 32 := Scalar.shli v112 c3_i32_50
  let v114 : BitVec 32 := v113
  let v1017 : Index := Scalar.indexCast v114
  let c0_240 : Index := 0#32
  ![v1016.toNat, v1017.toNat, 0]
def k0_off89 (k0_t1 : Fin k0_t1_loop.trips) : Fin 3 → Nat :=
  let c28 : Index := 28#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c0_i32_3 : BitVec 32 := 0#32
  let v6 : BitVec 32 := Scalar.addi v5 c0_i32_3
  let v1036 : Index := Scalar.indexCast v6
  let c0_242 : Index := 0#32
  ![28, v1036.toNat, 0]
def k0_off90 (v14 : BitVec 32) (v19 : BitVec 32) (v81 : BitVec 32) (v121 : BitVec 32) : Fin 3 → Nat :=
  let c199_i32_9 : BitVec 32 := 199#32
  let c0_i32_8 : BitVec 32 := 0#32
  let v20 : BitVec 32 := Scalar.maxsi c0_i32_8 v19
  let v21 : BitVec 32 := Scalar.minsi c199_i32_9 v20
  let v82 : BitVec 32 := Scalar.addi v21 v81
  let v1041 : Index := Scalar.indexCast v82
  let c199_i32 : BitVec 32 := 199#32
  let c0_i32_6 : BitVec 32 := 0#32
  let v15 : BitVec 32 := Scalar.maxsi c0_i32_6 v14
  let v16 : BitVec 32 := Scalar.minsi c199_i32 v15
  let v122 : BitVec 32 := Scalar.addi v16 v121
  let c3_i32_55 : BitVec 32 := 3#32
  let v125 : BitVec 32 := Scalar.shrsi v122 c3_i32_55
  let c3_i32_56 : BitVec 32 := 3#32
  let v126 : BitVec 32 := Scalar.shli v125 c3_i32_56
  let v127 : BitVec 32 := v126
  let v1042 : Index := Scalar.indexCast v127
  let c0_244 : Index := 0#32
  ![v1041.toNat, v1042.toNat, 0]
def k0_off91 (v14 : BitVec 32) (v19 : BitVec 32) (v29 : BitVec 32) (v81 : BitVec 32) (v121 : BitVec 32) : Fin 3 → Nat :=
  let c199_i32_9 : BitVec 32 := 199#32
  let c0_i32_8 : BitVec 32 := 0#32
  let v20 : BitVec 32 := Scalar.maxsi c0_i32_8 v19
  let v21 : BitVec 32 := Scalar.minsi c199_i32_9 v20
  let v82 : BitVec 32 := Scalar.addi v21 v81
  let c1_i32_36 : BitVec 32 := 1#32
  let v83 : BitVec 32 := Scalar.addi v82 c1_i32_36
  let c199_i32_13 : BitVec 32 := 199#32
  let c0_i32_12 : BitVec 32 := 0#32
  let v30 : BitVec 32 := Scalar.maxsi c0_i32_12 v29
  let v31 : BitVec 32 := Scalar.minsi c199_i32_13 v30
  let v84 : BitVec 32 := Scalar.minsi v83 v31
  let v1045 : Index := Scalar.indexCast v84
  let c199_i32 : BitVec 32 := 199#32
  let c0_i32_6 : BitVec 32 := 0#32
  let v15 : BitVec 32 := Scalar.maxsi c0_i32_6 v14
  let v16 : BitVec 32 := Scalar.minsi c199_i32 v15
  let v122 : BitVec 32 := Scalar.addi v16 v121
  let c3_i32_55 : BitVec 32 := 3#32
  let v125 : BitVec 32 := Scalar.shrsi v122 c3_i32_55
  let c3_i32_56 : BitVec 32 := 3#32
  let v126 : BitVec 32 := Scalar.shli v125 c3_i32_56
  let v127 : BitVec 32 := v126
  let v1046 : Index := Scalar.indexCast v127
  let c0_245 : Index := 0#32
  ![v1045.toNat, v1046.toNat, 0]
def k0_off92 (k0_t1 : Fin k0_t1_loop.trips) : Fin 3 → Nat :=
  let c29 : Index := 29#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c0_i32_3 : BitVec 32 := 0#32
  let v6 : BitVec 32 := Scalar.addi v5 c0_i32_3
  let v1065 : Index := Scalar.indexCast v6
  let c0_247 : Index := 0#32
  ![29, v1065.toNat, 0]
def k0_off93 (v14 : BitVec 32) (v19 : BitVec 32) (v81 : BitVec 32) (v134 : BitVec 32) : Fin 3 → Nat :=
  let c199_i32_9 : BitVec 32 := 199#32
  let c0_i32_8 : BitVec 32 := 0#32
  let v20 : BitVec 32 := Scalar.maxsi c0_i32_8 v19
  let v21 : BitVec 32 := Scalar.minsi c199_i32_9 v20
  let v82 : BitVec 32 := Scalar.addi v21 v81
  let v1070 : Index := Scalar.indexCast v82
  let c199_i32 : BitVec 32 := 199#32
  let c0_i32_6 : BitVec 32 := 0#32
  let v15 : BitVec 32 := Scalar.maxsi c0_i32_6 v14
  let v16 : BitVec 32 := Scalar.minsi c199_i32 v15
  let v135 : BitVec 32 := Scalar.addi v16 v134
  let c3_i32_62 : BitVec 32 := 3#32
  let v138 : BitVec 32 := Scalar.shrsi v135 c3_i32_62
  let c3_i32_63 : BitVec 32 := 3#32
  let v139 : BitVec 32 := Scalar.shli v138 c3_i32_63
  let v140 : BitVec 32 := v139
  let v1071 : Index := Scalar.indexCast v140
  let c0_249 : Index := 0#32
  ![v1070.toNat, v1071.toNat, 0]
def k0_off94 (v14 : BitVec 32) (v19 : BitVec 32) (v29 : BitVec 32) (v81 : BitVec 32) (v134 : BitVec 32) : Fin 3 → Nat :=
  let c199_i32_9 : BitVec 32 := 199#32
  let c0_i32_8 : BitVec 32 := 0#32
  let v20 : BitVec 32 := Scalar.maxsi c0_i32_8 v19
  let v21 : BitVec 32 := Scalar.minsi c199_i32_9 v20
  let v82 : BitVec 32 := Scalar.addi v21 v81
  let c1_i32_36 : BitVec 32 := 1#32
  let v83 : BitVec 32 := Scalar.addi v82 c1_i32_36
  let c199_i32_13 : BitVec 32 := 199#32
  let c0_i32_12 : BitVec 32 := 0#32
  let v30 : BitVec 32 := Scalar.maxsi c0_i32_12 v29
  let v31 : BitVec 32 := Scalar.minsi c199_i32_13 v30
  let v84 : BitVec 32 := Scalar.minsi v83 v31
  let v1074 : Index := Scalar.indexCast v84
  let c199_i32 : BitVec 32 := 199#32
  let c0_i32_6 : BitVec 32 := 0#32
  let v15 : BitVec 32 := Scalar.maxsi c0_i32_6 v14
  let v16 : BitVec 32 := Scalar.minsi c199_i32 v15
  let v135 : BitVec 32 := Scalar.addi v16 v134
  let c3_i32_62 : BitVec 32 := 3#32
  let v138 : BitVec 32 := Scalar.shrsi v135 c3_i32_62
  let c3_i32_63 : BitVec 32 := 3#32
  let v139 : BitVec 32 := Scalar.shli v138 c3_i32_63
  let v140 : BitVec 32 := v139
  let v1075 : Index := Scalar.indexCast v140
  let c0_250 : Index := 0#32
  ![v1074.toNat, v1075.toNat, 0]
def k0_off95 (k0_t1 : Fin k0_t1_loop.trips) : Fin 3 → Nat :=
  let c30 : Index := 30#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c0_i32_3 : BitVec 32 := 0#32
  let v6 : BitVec 32 := Scalar.addi v5 c0_i32_3
  let v1094 : Index := Scalar.indexCast v6
  let c0_252 : Index := 0#32
  ![30, v1094.toNat, 0]
def k0_off96 (v14 : BitVec 32) (v19 : BitVec 32) (v81 : BitVec 32) (v147 : BitVec 32) : Fin 3 → Nat :=
  let c199_i32_9 : BitVec 32 := 199#32
  let c0_i32_8 : BitVec 32 := 0#32
  let v20 : BitVec 32 := Scalar.maxsi c0_i32_8 v19
  let v21 : BitVec 32 := Scalar.minsi c199_i32_9 v20
  let v82 : BitVec 32 := Scalar.addi v21 v81
  let v1099 : Index := Scalar.indexCast v82
  let c199_i32 : BitVec 32 := 199#32
  let c0_i32_6 : BitVec 32 := 0#32
  let v15 : BitVec 32 := Scalar.maxsi c0_i32_6 v14
  let v16 : BitVec 32 := Scalar.minsi c199_i32 v15
  let v148 : BitVec 32 := Scalar.addi v16 v147
  let c3_i32_69 : BitVec 32 := 3#32
  let v151 : BitVec 32 := Scalar.shrsi v148 c3_i32_69
  let c3_i32_70 : BitVec 32 := 3#32
  let v152 : BitVec 32 := Scalar.shli v151 c3_i32_70
  let v153 : BitVec 32 := v152
  let v1100 : Index := Scalar.indexCast v153
  let c0_254 : Index := 0#32
  ![v1099.toNat, v1100.toNat, 0]
def k0_off97 (v14 : BitVec 32) (v19 : BitVec 32) (v29 : BitVec 32) (v81 : BitVec 32) (v147 : BitVec 32) : Fin 3 → Nat :=
  let c199_i32_9 : BitVec 32 := 199#32
  let c0_i32_8 : BitVec 32 := 0#32
  let v20 : BitVec 32 := Scalar.maxsi c0_i32_8 v19
  let v21 : BitVec 32 := Scalar.minsi c199_i32_9 v20
  let v82 : BitVec 32 := Scalar.addi v21 v81
  let c1_i32_36 : BitVec 32 := 1#32
  let v83 : BitVec 32 := Scalar.addi v82 c1_i32_36
  let c199_i32_13 : BitVec 32 := 199#32
  let c0_i32_12 : BitVec 32 := 0#32
  let v30 : BitVec 32 := Scalar.maxsi c0_i32_12 v29
  let v31 : BitVec 32 := Scalar.minsi c199_i32_13 v30
  let v84 : BitVec 32 := Scalar.minsi v83 v31
  let v1103 : Index := Scalar.indexCast v84
  let c199_i32 : BitVec 32 := 199#32
  let c0_i32_6 : BitVec 32 := 0#32
  let v15 : BitVec 32 := Scalar.maxsi c0_i32_6 v14
  let v16 : BitVec 32 := Scalar.minsi c199_i32 v15
  let v148 : BitVec 32 := Scalar.addi v16 v147
  let c3_i32_69 : BitVec 32 := 3#32
  let v151 : BitVec 32 := Scalar.shrsi v148 c3_i32_69
  let c3_i32_70 : BitVec 32 := 3#32
  let v152 : BitVec 32 := Scalar.shli v151 c3_i32_70
  let v153 : BitVec 32 := v152
  let v1104 : Index := Scalar.indexCast v153
  let c0_255 : Index := 0#32
  ![v1103.toNat, v1104.toNat, 0]
def k0_off98 (k0_t1 : Fin k0_t1_loop.trips) : Fin 3 → Nat :=
  let c31 : Index := 31#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c0_i32_3 : BitVec 32 := 0#32
  let v6 : BitVec 32 := Scalar.addi v5 c0_i32_3
  let v1123 : Index := Scalar.indexCast v6
  let c0_257 : Index := 0#32
  ![31, v1123.toNat, 0]
def k0_off99 (v14 : BitVec 32) (v19 : BitVec 32) (v81 : BitVec 32) (v160 : BitVec 32) : Fin 3 → Nat :=
  let c199_i32_9 : BitVec 32 := 199#32
  let c0_i32_8 : BitVec 32 := 0#32
  let v20 : BitVec 32 := Scalar.maxsi c0_i32_8 v19
  let v21 : BitVec 32 := Scalar.minsi c199_i32_9 v20
  let v82 : BitVec 32 := Scalar.addi v21 v81
  let v1128 : Index := Scalar.indexCast v82
  let c199_i32 : BitVec 32 := 199#32
  let c0_i32_6 : BitVec 32 := 0#32
  let v15 : BitVec 32 := Scalar.maxsi c0_i32_6 v14
  let v16 : BitVec 32 := Scalar.minsi c199_i32 v15
  let v161 : BitVec 32 := Scalar.addi v16 v160
  let c3_i32_76 : BitVec 32 := 3#32
  let v164 : BitVec 32 := Scalar.shrsi v161 c3_i32_76
  let c3_i32_77 : BitVec 32 := 3#32
  let v165 : BitVec 32 := Scalar.shli v164 c3_i32_77
  let v166 : BitVec 32 := v165
  let v1129 : Index := Scalar.indexCast v166
  let c0_259 : Index := 0#32
  ![v1128.toNat, v1129.toNat, 0]
def k0_off100 (v14 : BitVec 32) (v19 : BitVec 32) (v29 : BitVec 32) (v81 : BitVec 32) (v160 : BitVec 32) : Fin 3 → Nat :=
  let c199_i32_9 : BitVec 32 := 199#32
  let c0_i32_8 : BitVec 32 := 0#32
  let v20 : BitVec 32 := Scalar.maxsi c0_i32_8 v19
  let v21 : BitVec 32 := Scalar.minsi c199_i32_9 v20
  let v82 : BitVec 32 := Scalar.addi v21 v81
  let c1_i32_36 : BitVec 32 := 1#32
  let v83 : BitVec 32 := Scalar.addi v82 c1_i32_36
  let c199_i32_13 : BitVec 32 := 199#32
  let c0_i32_12 : BitVec 32 := 0#32
  let v30 : BitVec 32 := Scalar.maxsi c0_i32_12 v29
  let v31 : BitVec 32 := Scalar.minsi c199_i32_13 v30
  let v84 : BitVec 32 := Scalar.minsi v83 v31
  let v1132 : Index := Scalar.indexCast v84
  let c199_i32 : BitVec 32 := 199#32
  let c0_i32_6 : BitVec 32 := 0#32
  let v15 : BitVec 32 := Scalar.maxsi c0_i32_6 v14
  let v16 : BitVec 32 := Scalar.minsi c199_i32 v15
  let v161 : BitVec 32 := Scalar.addi v16 v160
  let c3_i32_76 : BitVec 32 := 3#32
  let v164 : BitVec 32 := Scalar.shrsi v161 c3_i32_76
  let c3_i32_77 : BitVec 32 := 3#32
  let v165 : BitVec 32 := Scalar.shli v164 c3_i32_77
  let v166 : BitVec 32 := v165
  let v1133 : Index := Scalar.indexCast v166
  let c0_260 : Index := 0#32
  ![v1132.toNat, v1133.toNat, 0]
def k0_off101 (k0_t1 : Fin k0_t1_loop.trips) : Fin 3 → Nat :=
  let c32 : Index := 32#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c0_i32_3 : BitVec 32 := 0#32
  let v6 : BitVec 32 := Scalar.addi v5 c0_i32_3
  let v1152 : Index := Scalar.indexCast v6
  let c0_262 : Index := 0#32
  ![32, v1152.toNat, 0]
def k0_off102 (v14 : BitVec 32) (v19 : BitVec 32) (v81 : BitVec 32) (v173 : BitVec 32) : Fin 3 → Nat :=
  let c199_i32_9 : BitVec 32 := 199#32
  let c0_i32_8 : BitVec 32 := 0#32
  let v20 : BitVec 32 := Scalar.maxsi c0_i32_8 v19
  let v21 : BitVec 32 := Scalar.minsi c199_i32_9 v20
  let v82 : BitVec 32 := Scalar.addi v21 v81
  let v1157 : Index := Scalar.indexCast v82
  let c199_i32 : BitVec 32 := 199#32
  let c0_i32_6 : BitVec 32 := 0#32
  let v15 : BitVec 32 := Scalar.maxsi c0_i32_6 v14
  let v16 : BitVec 32 := Scalar.minsi c199_i32 v15
  let v174 : BitVec 32 := Scalar.addi v16 v173
  let c3_i32_83 : BitVec 32 := 3#32
  let v177 : BitVec 32 := Scalar.shrsi v174 c3_i32_83
  let c3_i32_84 : BitVec 32 := 3#32
  let v178 : BitVec 32 := Scalar.shli v177 c3_i32_84
  let v179 : BitVec 32 := v178
  let v1158 : Index := Scalar.indexCast v179
  let c0_264 : Index := 0#32
  ![v1157.toNat, v1158.toNat, 0]
def k0_off103 (v14 : BitVec 32) (v19 : BitVec 32) (v29 : BitVec 32) (v81 : BitVec 32) (v173 : BitVec 32) : Fin 3 → Nat :=
  let c199_i32_9 : BitVec 32 := 199#32
  let c0_i32_8 : BitVec 32 := 0#32
  let v20 : BitVec 32 := Scalar.maxsi c0_i32_8 v19
  let v21 : BitVec 32 := Scalar.minsi c199_i32_9 v20
  let v82 : BitVec 32 := Scalar.addi v21 v81
  let c1_i32_36 : BitVec 32 := 1#32
  let v83 : BitVec 32 := Scalar.addi v82 c1_i32_36
  let c199_i32_13 : BitVec 32 := 199#32
  let c0_i32_12 : BitVec 32 := 0#32
  let v30 : BitVec 32 := Scalar.maxsi c0_i32_12 v29
  let v31 : BitVec 32 := Scalar.minsi c199_i32_13 v30
  let v84 : BitVec 32 := Scalar.minsi v83 v31
  let v1161 : Index := Scalar.indexCast v84
  let c199_i32 : BitVec 32 := 199#32
  let c0_i32_6 : BitVec 32 := 0#32
  let v15 : BitVec 32 := Scalar.maxsi c0_i32_6 v14
  let v16 : BitVec 32 := Scalar.minsi c199_i32 v15
  let v174 : BitVec 32 := Scalar.addi v16 v173
  let c3_i32_83 : BitVec 32 := 3#32
  let v177 : BitVec 32 := Scalar.shrsi v174 c3_i32_83
  let c3_i32_84 : BitVec 32 := 3#32
  let v178 : BitVec 32 := Scalar.shli v177 c3_i32_84
  let v179 : BitVec 32 := v178
  let v1162 : Index := Scalar.indexCast v179
  let c0_265 : Index := 0#32
  ![v1161.toNat, v1162.toNat, 0]
def k0_off104 (k0_t1 : Fin k0_t1_loop.trips) : Fin 3 → Nat :=
  let c33 : Index := 33#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c0_i32_3 : BitVec 32 := 0#32
  let v6 : BitVec 32 := Scalar.addi v5 c0_i32_3
  let v1181 : Index := Scalar.indexCast v6
  let c0_267 : Index := 0#32
  ![33, v1181.toNat, 0]
def k0_off105 (v14 : BitVec 32) (v19 : BitVec 32) (v81 : BitVec 32) (v186 : BitVec 32) : Fin 3 → Nat :=
  let c199_i32_9 : BitVec 32 := 199#32
  let c0_i32_8 : BitVec 32 := 0#32
  let v20 : BitVec 32 := Scalar.maxsi c0_i32_8 v19
  let v21 : BitVec 32 := Scalar.minsi c199_i32_9 v20
  let v82 : BitVec 32 := Scalar.addi v21 v81
  let v1186 : Index := Scalar.indexCast v82
  let c199_i32 : BitVec 32 := 199#32
  let c0_i32_6 : BitVec 32 := 0#32
  let v15 : BitVec 32 := Scalar.maxsi c0_i32_6 v14
  let v16 : BitVec 32 := Scalar.minsi c199_i32 v15
  let v187 : BitVec 32 := Scalar.addi v16 v186
  let c3_i32_90 : BitVec 32 := 3#32
  let v190 : BitVec 32 := Scalar.shrsi v187 c3_i32_90
  let c3_i32_91 : BitVec 32 := 3#32
  let v191 : BitVec 32 := Scalar.shli v190 c3_i32_91
  let v192 : BitVec 32 := v191
  let v1187 : Index := Scalar.indexCast v192
  let c0_269 : Index := 0#32
  ![v1186.toNat, v1187.toNat, 0]
def k0_off106 (v14 : BitVec 32) (v19 : BitVec 32) (v29 : BitVec 32) (v81 : BitVec 32) (v186 : BitVec 32) : Fin 3 → Nat :=
  let c199_i32_9 : BitVec 32 := 199#32
  let c0_i32_8 : BitVec 32 := 0#32
  let v20 : BitVec 32 := Scalar.maxsi c0_i32_8 v19
  let v21 : BitVec 32 := Scalar.minsi c199_i32_9 v20
  let v82 : BitVec 32 := Scalar.addi v21 v81
  let c1_i32_36 : BitVec 32 := 1#32
  let v83 : BitVec 32 := Scalar.addi v82 c1_i32_36
  let c199_i32_13 : BitVec 32 := 199#32
  let c0_i32_12 : BitVec 32 := 0#32
  let v30 : BitVec 32 := Scalar.maxsi c0_i32_12 v29
  let v31 : BitVec 32 := Scalar.minsi c199_i32_13 v30
  let v84 : BitVec 32 := Scalar.minsi v83 v31
  let v1190 : Index := Scalar.indexCast v84
  let c199_i32 : BitVec 32 := 199#32
  let c0_i32_6 : BitVec 32 := 0#32
  let v15 : BitVec 32 := Scalar.maxsi c0_i32_6 v14
  let v16 : BitVec 32 := Scalar.minsi c199_i32 v15
  let v187 : BitVec 32 := Scalar.addi v16 v186
  let c3_i32_90 : BitVec 32 := 3#32
  let v190 : BitVec 32 := Scalar.shrsi v187 c3_i32_90
  let c3_i32_91 : BitVec 32 := 3#32
  let v191 : BitVec 32 := Scalar.shli v190 c3_i32_91
  let v192 : BitVec 32 := v191
  let v1191 : Index := Scalar.indexCast v192
  let c0_270 : Index := 0#32
  ![v1190.toNat, v1191.toNat, 0]
def k0_off107 (k0_t1 : Fin k0_t1_loop.trips) : Fin 3 → Nat :=
  let c34 : Index := 34#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c0_i32_3 : BitVec 32 := 0#32
  let v6 : BitVec 32 := Scalar.addi v5 c0_i32_3
  let v1210 : Index := Scalar.indexCast v6
  let c0_272 : Index := 0#32
  ![34, v1210.toNat, 0]
def k0_off108 (v14 : BitVec 32) (v19 : BitVec 32) (v90 : BitVec 32) (v108 : BitVec 32) : Fin 3 → Nat :=
  let c199_i32_9 : BitVec 32 := 199#32
  let c0_i32_8 : BitVec 32 := 0#32
  let v20 : BitVec 32 := Scalar.maxsi c0_i32_8 v19
  let v21 : BitVec 32 := Scalar.minsi c199_i32_9 v20
  let v91 : BitVec 32 := Scalar.addi v21 v90
  let v1216 : Index := Scalar.indexCast v91
  let c199_i32 : BitVec 32 := 199#32
  let c0_i32_6 : BitVec 32 := 0#32
  let v15 : BitVec 32 := Scalar.maxsi c0_i32_6 v14
  let v16 : BitVec 32 := Scalar.minsi c199_i32 v15
  let v109 : BitVec 32 := Scalar.addi v16 v108
  let c3_i32_49 : BitVec 32 := 3#32
  let v112 : BitVec 32 := Scalar.shrsi v109 c3_i32_49
  let c3_i32_50 : BitVec 32 := 3#32
  let v113 : BitVec 32 := Scalar.shli v112 c3_i32_50
  let v114 : BitVec 32 := v113
  let v1217 : Index := Scalar.indexCast v114
  let c0_275 : Index := 0#32
  ![v1216.toNat, v1217.toNat, 0]
def k0_off109 (v14 : BitVec 32) (v19 : BitVec 32) (v29 : BitVec 32) (v90 : BitVec 32) (v108 : BitVec 32) : Fin 3 → Nat :=
  let c199_i32_9 : BitVec 32 := 199#32
  let c0_i32_8 : BitVec 32 := 0#32
  let v20 : BitVec 32 := Scalar.maxsi c0_i32_8 v19
  let v21 : BitVec 32 := Scalar.minsi c199_i32_9 v20
  let v91 : BitVec 32 := Scalar.addi v21 v90
  let c1_i32_40 : BitVec 32 := 1#32
  let v92 : BitVec 32 := Scalar.addi v91 c1_i32_40
  let c199_i32_13 : BitVec 32 := 199#32
  let c0_i32_12 : BitVec 32 := 0#32
  let v30 : BitVec 32 := Scalar.maxsi c0_i32_12 v29
  let v31 : BitVec 32 := Scalar.minsi c199_i32_13 v30
  let v93 : BitVec 32 := Scalar.minsi v92 v31
  let v1220 : Index := Scalar.indexCast v93
  let c199_i32 : BitVec 32 := 199#32
  let c0_i32_6 : BitVec 32 := 0#32
  let v15 : BitVec 32 := Scalar.maxsi c0_i32_6 v14
  let v16 : BitVec 32 := Scalar.minsi c199_i32 v15
  let v109 : BitVec 32 := Scalar.addi v16 v108
  let c3_i32_49 : BitVec 32 := 3#32
  let v112 : BitVec 32 := Scalar.shrsi v109 c3_i32_49
  let c3_i32_50 : BitVec 32 := 3#32
  let v113 : BitVec 32 := Scalar.shli v112 c3_i32_50
  let v114 : BitVec 32 := v113
  let v1221 : Index := Scalar.indexCast v114
  let c0_276 : Index := 0#32
  ![v1220.toNat, v1221.toNat, 0]
def k0_off110 (k0_t1 : Fin k0_t1_loop.trips) : Fin 3 → Nat :=
  let c35 : Index := 35#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c0_i32_3 : BitVec 32 := 0#32
  let v6 : BitVec 32 := Scalar.addi v5 c0_i32_3
  let v1240 : Index := Scalar.indexCast v6
  let c0_278 : Index := 0#32
  ![35, v1240.toNat, 0]
def k0_off111 (v14 : BitVec 32) (v19 : BitVec 32) (v90 : BitVec 32) (v121 : BitVec 32) : Fin 3 → Nat :=
  let c199_i32_9 : BitVec 32 := 199#32
  let c0_i32_8 : BitVec 32 := 0#32
  let v20 : BitVec 32 := Scalar.maxsi c0_i32_8 v19
  let v21 : BitVec 32 := Scalar.minsi c199_i32_9 v20
  let v91 : BitVec 32 := Scalar.addi v21 v90
  let v1245 : Index := Scalar.indexCast v91
  let c199_i32 : BitVec 32 := 199#32
  let c0_i32_6 : BitVec 32 := 0#32
  let v15 : BitVec 32 := Scalar.maxsi c0_i32_6 v14
  let v16 : BitVec 32 := Scalar.minsi c199_i32 v15
  let v122 : BitVec 32 := Scalar.addi v16 v121
  let c3_i32_55 : BitVec 32 := 3#32
  let v125 : BitVec 32 := Scalar.shrsi v122 c3_i32_55
  let c3_i32_56 : BitVec 32 := 3#32
  let v126 : BitVec 32 := Scalar.shli v125 c3_i32_56
  let v127 : BitVec 32 := v126
  let v1246 : Index := Scalar.indexCast v127
  let c0_280 : Index := 0#32
  ![v1245.toNat, v1246.toNat, 0]
def k0_off112 (v14 : BitVec 32) (v19 : BitVec 32) (v29 : BitVec 32) (v90 : BitVec 32) (v121 : BitVec 32) : Fin 3 → Nat :=
  let c199_i32_9 : BitVec 32 := 199#32
  let c0_i32_8 : BitVec 32 := 0#32
  let v20 : BitVec 32 := Scalar.maxsi c0_i32_8 v19
  let v21 : BitVec 32 := Scalar.minsi c199_i32_9 v20
  let v91 : BitVec 32 := Scalar.addi v21 v90
  let c1_i32_40 : BitVec 32 := 1#32
  let v92 : BitVec 32 := Scalar.addi v91 c1_i32_40
  let c199_i32_13 : BitVec 32 := 199#32
  let c0_i32_12 : BitVec 32 := 0#32
  let v30 : BitVec 32 := Scalar.maxsi c0_i32_12 v29
  let v31 : BitVec 32 := Scalar.minsi c199_i32_13 v30
  let v93 : BitVec 32 := Scalar.minsi v92 v31
  let v1249 : Index := Scalar.indexCast v93
  let c199_i32 : BitVec 32 := 199#32
  let c0_i32_6 : BitVec 32 := 0#32
  let v15 : BitVec 32 := Scalar.maxsi c0_i32_6 v14
  let v16 : BitVec 32 := Scalar.minsi c199_i32 v15
  let v122 : BitVec 32 := Scalar.addi v16 v121
  let c3_i32_55 : BitVec 32 := 3#32
  let v125 : BitVec 32 := Scalar.shrsi v122 c3_i32_55
  let c3_i32_56 : BitVec 32 := 3#32
  let v126 : BitVec 32 := Scalar.shli v125 c3_i32_56
  let v127 : BitVec 32 := v126
  let v1250 : Index := Scalar.indexCast v127
  let c0_281 : Index := 0#32
  ![v1249.toNat, v1250.toNat, 0]
def k0_off113 (k0_t1 : Fin k0_t1_loop.trips) : Fin 3 → Nat :=
  let c36 : Index := 36#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c0_i32_3 : BitVec 32 := 0#32
  let v6 : BitVec 32 := Scalar.addi v5 c0_i32_3
  let v1269 : Index := Scalar.indexCast v6
  let c0_283 : Index := 0#32
  ![36, v1269.toNat, 0]
def k0_off114 (v14 : BitVec 32) (v19 : BitVec 32) (v90 : BitVec 32) (v134 : BitVec 32) : Fin 3 → Nat :=
  let c199_i32_9 : BitVec 32 := 199#32
  let c0_i32_8 : BitVec 32 := 0#32
  let v20 : BitVec 32 := Scalar.maxsi c0_i32_8 v19
  let v21 : BitVec 32 := Scalar.minsi c199_i32_9 v20
  let v91 : BitVec 32 := Scalar.addi v21 v90
  let v1274 : Index := Scalar.indexCast v91
  let c199_i32 : BitVec 32 := 199#32
  let c0_i32_6 : BitVec 32 := 0#32
  let v15 : BitVec 32 := Scalar.maxsi c0_i32_6 v14
  let v16 : BitVec 32 := Scalar.minsi c199_i32 v15
  let v135 : BitVec 32 := Scalar.addi v16 v134
  let c3_i32_62 : BitVec 32 := 3#32
  let v138 : BitVec 32 := Scalar.shrsi v135 c3_i32_62
  let c3_i32_63 : BitVec 32 := 3#32
  let v139 : BitVec 32 := Scalar.shli v138 c3_i32_63
  let v140 : BitVec 32 := v139
  let v1275 : Index := Scalar.indexCast v140
  let c0_285 : Index := 0#32
  ![v1274.toNat, v1275.toNat, 0]
def k0_off115 (v14 : BitVec 32) (v19 : BitVec 32) (v29 : BitVec 32) (v90 : BitVec 32) (v134 : BitVec 32) : Fin 3 → Nat :=
  let c199_i32_9 : BitVec 32 := 199#32
  let c0_i32_8 : BitVec 32 := 0#32
  let v20 : BitVec 32 := Scalar.maxsi c0_i32_8 v19
  let v21 : BitVec 32 := Scalar.minsi c199_i32_9 v20
  let v91 : BitVec 32 := Scalar.addi v21 v90
  let c1_i32_40 : BitVec 32 := 1#32
  let v92 : BitVec 32 := Scalar.addi v91 c1_i32_40
  let c199_i32_13 : BitVec 32 := 199#32
  let c0_i32_12 : BitVec 32 := 0#32
  let v30 : BitVec 32 := Scalar.maxsi c0_i32_12 v29
  let v31 : BitVec 32 := Scalar.minsi c199_i32_13 v30
  let v93 : BitVec 32 := Scalar.minsi v92 v31
  let v1278 : Index := Scalar.indexCast v93
  let c199_i32 : BitVec 32 := 199#32
  let c0_i32_6 : BitVec 32 := 0#32
  let v15 : BitVec 32 := Scalar.maxsi c0_i32_6 v14
  let v16 : BitVec 32 := Scalar.minsi c199_i32 v15
  let v135 : BitVec 32 := Scalar.addi v16 v134
  let c3_i32_62 : BitVec 32 := 3#32
  let v138 : BitVec 32 := Scalar.shrsi v135 c3_i32_62
  let c3_i32_63 : BitVec 32 := 3#32
  let v139 : BitVec 32 := Scalar.shli v138 c3_i32_63
  let v140 : BitVec 32 := v139
  let v1279 : Index := Scalar.indexCast v140
  let c0_286 : Index := 0#32
  ![v1278.toNat, v1279.toNat, 0]
def k0_off116 (k0_t1 : Fin k0_t1_loop.trips) : Fin 3 → Nat :=
  let c37 : Index := 37#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c0_i32_3 : BitVec 32 := 0#32
  let v6 : BitVec 32 := Scalar.addi v5 c0_i32_3
  let v1298 : Index := Scalar.indexCast v6
  let c0_288 : Index := 0#32
  ![37, v1298.toNat, 0]
def k0_off117 (v14 : BitVec 32) (v19 : BitVec 32) (v90 : BitVec 32) (v147 : BitVec 32) : Fin 3 → Nat :=
  let c199_i32_9 : BitVec 32 := 199#32
  let c0_i32_8 : BitVec 32 := 0#32
  let v20 : BitVec 32 := Scalar.maxsi c0_i32_8 v19
  let v21 : BitVec 32 := Scalar.minsi c199_i32_9 v20
  let v91 : BitVec 32 := Scalar.addi v21 v90
  let v1303 : Index := Scalar.indexCast v91
  let c199_i32 : BitVec 32 := 199#32
  let c0_i32_6 : BitVec 32 := 0#32
  let v15 : BitVec 32 := Scalar.maxsi c0_i32_6 v14
  let v16 : BitVec 32 := Scalar.minsi c199_i32 v15
  let v148 : BitVec 32 := Scalar.addi v16 v147
  let c3_i32_69 : BitVec 32 := 3#32
  let v151 : BitVec 32 := Scalar.shrsi v148 c3_i32_69
  let c3_i32_70 : BitVec 32 := 3#32
  let v152 : BitVec 32 := Scalar.shli v151 c3_i32_70
  let v153 : BitVec 32 := v152
  let v1304 : Index := Scalar.indexCast v153
  let c0_290 : Index := 0#32
  ![v1303.toNat, v1304.toNat, 0]
def k0_off118 (v14 : BitVec 32) (v19 : BitVec 32) (v29 : BitVec 32) (v90 : BitVec 32) (v147 : BitVec 32) : Fin 3 → Nat :=
  let c199_i32_9 : BitVec 32 := 199#32
  let c0_i32_8 : BitVec 32 := 0#32
  let v20 : BitVec 32 := Scalar.maxsi c0_i32_8 v19
  let v21 : BitVec 32 := Scalar.minsi c199_i32_9 v20
  let v91 : BitVec 32 := Scalar.addi v21 v90
  let c1_i32_40 : BitVec 32 := 1#32
  let v92 : BitVec 32 := Scalar.addi v91 c1_i32_40
  let c199_i32_13 : BitVec 32 := 199#32
  let c0_i32_12 : BitVec 32 := 0#32
  let v30 : BitVec 32 := Scalar.maxsi c0_i32_12 v29
  let v31 : BitVec 32 := Scalar.minsi c199_i32_13 v30
  let v93 : BitVec 32 := Scalar.minsi v92 v31
  let v1307 : Index := Scalar.indexCast v93
  let c199_i32 : BitVec 32 := 199#32
  let c0_i32_6 : BitVec 32 := 0#32
  let v15 : BitVec 32 := Scalar.maxsi c0_i32_6 v14
  let v16 : BitVec 32 := Scalar.minsi c199_i32 v15
  let v148 : BitVec 32 := Scalar.addi v16 v147
  let c3_i32_69 : BitVec 32 := 3#32
  let v151 : BitVec 32 := Scalar.shrsi v148 c3_i32_69
  let c3_i32_70 : BitVec 32 := 3#32
  let v152 : BitVec 32 := Scalar.shli v151 c3_i32_70
  let v153 : BitVec 32 := v152
  let v1308 : Index := Scalar.indexCast v153
  let c0_291 : Index := 0#32
  ![v1307.toNat, v1308.toNat, 0]
def k0_off119 (k0_t1 : Fin k0_t1_loop.trips) : Fin 3 → Nat :=
  let c38 : Index := 38#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c0_i32_3 : BitVec 32 := 0#32
  let v6 : BitVec 32 := Scalar.addi v5 c0_i32_3
  let v1327 : Index := Scalar.indexCast v6
  let c0_293 : Index := 0#32
  ![38, v1327.toNat, 0]
def k0_off120 (v14 : BitVec 32) (v19 : BitVec 32) (v90 : BitVec 32) (v160 : BitVec 32) : Fin 3 → Nat :=
  let c199_i32_9 : BitVec 32 := 199#32
  let c0_i32_8 : BitVec 32 := 0#32
  let v20 : BitVec 32 := Scalar.maxsi c0_i32_8 v19
  let v21 : BitVec 32 := Scalar.minsi c199_i32_9 v20
  let v91 : BitVec 32 := Scalar.addi v21 v90
  let v1332 : Index := Scalar.indexCast v91
  let c199_i32 : BitVec 32 := 199#32
  let c0_i32_6 : BitVec 32 := 0#32
  let v15 : BitVec 32 := Scalar.maxsi c0_i32_6 v14
  let v16 : BitVec 32 := Scalar.minsi c199_i32 v15
  let v161 : BitVec 32 := Scalar.addi v16 v160
  let c3_i32_76 : BitVec 32 := 3#32
  let v164 : BitVec 32 := Scalar.shrsi v161 c3_i32_76
  let c3_i32_77 : BitVec 32 := 3#32
  let v165 : BitVec 32 := Scalar.shli v164 c3_i32_77
  let v166 : BitVec 32 := v165
  let v1333 : Index := Scalar.indexCast v166
  let c0_295 : Index := 0#32
  ![v1332.toNat, v1333.toNat, 0]
def k0_off121 (v14 : BitVec 32) (v19 : BitVec 32) (v29 : BitVec 32) (v90 : BitVec 32) (v160 : BitVec 32) : Fin 3 → Nat :=
  let c199_i32_9 : BitVec 32 := 199#32
  let c0_i32_8 : BitVec 32 := 0#32
  let v20 : BitVec 32 := Scalar.maxsi c0_i32_8 v19
  let v21 : BitVec 32 := Scalar.minsi c199_i32_9 v20
  let v91 : BitVec 32 := Scalar.addi v21 v90
  let c1_i32_40 : BitVec 32 := 1#32
  let v92 : BitVec 32 := Scalar.addi v91 c1_i32_40
  let c199_i32_13 : BitVec 32 := 199#32
  let c0_i32_12 : BitVec 32 := 0#32
  let v30 : BitVec 32 := Scalar.maxsi c0_i32_12 v29
  let v31 : BitVec 32 := Scalar.minsi c199_i32_13 v30
  let v93 : BitVec 32 := Scalar.minsi v92 v31
  let v1336 : Index := Scalar.indexCast v93
  let c199_i32 : BitVec 32 := 199#32
  let c0_i32_6 : BitVec 32 := 0#32
  let v15 : BitVec 32 := Scalar.maxsi c0_i32_6 v14
  let v16 : BitVec 32 := Scalar.minsi c199_i32 v15
  let v161 : BitVec 32 := Scalar.addi v16 v160
  let c3_i32_76 : BitVec 32 := 3#32
  let v164 : BitVec 32 := Scalar.shrsi v161 c3_i32_76
  let c3_i32_77 : BitVec 32 := 3#32
  let v165 : BitVec 32 := Scalar.shli v164 c3_i32_77
  let v166 : BitVec 32 := v165
  let v1337 : Index := Scalar.indexCast v166
  let c0_296 : Index := 0#32
  ![v1336.toNat, v1337.toNat, 0]
def k0_off122 (k0_t1 : Fin k0_t1_loop.trips) : Fin 3 → Nat :=
  let c39 : Index := 39#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c0_i32_3 : BitVec 32 := 0#32
  let v6 : BitVec 32 := Scalar.addi v5 c0_i32_3
  let v1356 : Index := Scalar.indexCast v6
  let c0_298 : Index := 0#32
  ![39, v1356.toNat, 0]
def k0_off123 (v14 : BitVec 32) (v19 : BitVec 32) (v90 : BitVec 32) (v173 : BitVec 32) : Fin 3 → Nat :=
  let c199_i32_9 : BitVec 32 := 199#32
  let c0_i32_8 : BitVec 32 := 0#32
  let v20 : BitVec 32 := Scalar.maxsi c0_i32_8 v19
  let v21 : BitVec 32 := Scalar.minsi c199_i32_9 v20
  let v91 : BitVec 32 := Scalar.addi v21 v90
  let v1361 : Index := Scalar.indexCast v91
  let c199_i32 : BitVec 32 := 199#32
  let c0_i32_6 : BitVec 32 := 0#32
  let v15 : BitVec 32 := Scalar.maxsi c0_i32_6 v14
  let v16 : BitVec 32 := Scalar.minsi c199_i32 v15
  let v174 : BitVec 32 := Scalar.addi v16 v173
  let c3_i32_83 : BitVec 32 := 3#32
  let v177 : BitVec 32 := Scalar.shrsi v174 c3_i32_83
  let c3_i32_84 : BitVec 32 := 3#32
  let v178 : BitVec 32 := Scalar.shli v177 c3_i32_84
  let v179 : BitVec 32 := v178
  let v1362 : Index := Scalar.indexCast v179
  let c0_300 : Index := 0#32
  ![v1361.toNat, v1362.toNat, 0]
def k0_off124 (v14 : BitVec 32) (v19 : BitVec 32) (v29 : BitVec 32) (v90 : BitVec 32) (v173 : BitVec 32) : Fin 3 → Nat :=
  let c199_i32_9 : BitVec 32 := 199#32
  let c0_i32_8 : BitVec 32 := 0#32
  let v20 : BitVec 32 := Scalar.maxsi c0_i32_8 v19
  let v21 : BitVec 32 := Scalar.minsi c199_i32_9 v20
  let v91 : BitVec 32 := Scalar.addi v21 v90
  let c1_i32_40 : BitVec 32 := 1#32
  let v92 : BitVec 32 := Scalar.addi v91 c1_i32_40
  let c199_i32_13 : BitVec 32 := 199#32
  let c0_i32_12 : BitVec 32 := 0#32
  let v30 : BitVec 32 := Scalar.maxsi c0_i32_12 v29
  let v31 : BitVec 32 := Scalar.minsi c199_i32_13 v30
  let v93 : BitVec 32 := Scalar.minsi v92 v31
  let v1365 : Index := Scalar.indexCast v93
  let c199_i32 : BitVec 32 := 199#32
  let c0_i32_6 : BitVec 32 := 0#32
  let v15 : BitVec 32 := Scalar.maxsi c0_i32_6 v14
  let v16 : BitVec 32 := Scalar.minsi c199_i32 v15
  let v174 : BitVec 32 := Scalar.addi v16 v173
  let c3_i32_83 : BitVec 32 := 3#32
  let v177 : BitVec 32 := Scalar.shrsi v174 c3_i32_83
  let c3_i32_84 : BitVec 32 := 3#32
  let v178 : BitVec 32 := Scalar.shli v177 c3_i32_84
  let v179 : BitVec 32 := v178
  let v1366 : Index := Scalar.indexCast v179
  let c0_301 : Index := 0#32
  ![v1365.toNat, v1366.toNat, 0]
def k0_off125 (k0_t1 : Fin k0_t1_loop.trips) : Fin 3 → Nat :=
  let c40 : Index := 40#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c0_i32_3 : BitVec 32 := 0#32
  let v6 : BitVec 32 := Scalar.addi v5 c0_i32_3
  let v1385 : Index := Scalar.indexCast v6
  let c0_303 : Index := 0#32
  ![40, v1385.toNat, 0]
def k0_off126 (v14 : BitVec 32) (v19 : BitVec 32) (v90 : BitVec 32) (v186 : BitVec 32) : Fin 3 → Nat :=
  let c199_i32_9 : BitVec 32 := 199#32
  let c0_i32_8 : BitVec 32 := 0#32
  let v20 : BitVec 32 := Scalar.maxsi c0_i32_8 v19
  let v21 : BitVec 32 := Scalar.minsi c199_i32_9 v20
  let v91 : BitVec 32 := Scalar.addi v21 v90
  let v1390 : Index := Scalar.indexCast v91
  let c199_i32 : BitVec 32 := 199#32
  let c0_i32_6 : BitVec 32 := 0#32
  let v15 : BitVec 32 := Scalar.maxsi c0_i32_6 v14
  let v16 : BitVec 32 := Scalar.minsi c199_i32 v15
  let v187 : BitVec 32 := Scalar.addi v16 v186
  let c3_i32_90 : BitVec 32 := 3#32
  let v190 : BitVec 32 := Scalar.shrsi v187 c3_i32_90
  let c3_i32_91 : BitVec 32 := 3#32
  let v191 : BitVec 32 := Scalar.shli v190 c3_i32_91
  let v192 : BitVec 32 := v191
  let v1391 : Index := Scalar.indexCast v192
  let c0_305 : Index := 0#32
  ![v1390.toNat, v1391.toNat, 0]
def k0_off127 (v14 : BitVec 32) (v19 : BitVec 32) (v29 : BitVec 32) (v90 : BitVec 32) (v186 : BitVec 32) : Fin 3 → Nat :=
  let c199_i32_9 : BitVec 32 := 199#32
  let c0_i32_8 : BitVec 32 := 0#32
  let v20 : BitVec 32 := Scalar.maxsi c0_i32_8 v19
  let v21 : BitVec 32 := Scalar.minsi c199_i32_9 v20
  let v91 : BitVec 32 := Scalar.addi v21 v90
  let c1_i32_40 : BitVec 32 := 1#32
  let v92 : BitVec 32 := Scalar.addi v91 c1_i32_40
  let c199_i32_13 : BitVec 32 := 199#32
  let c0_i32_12 : BitVec 32 := 0#32
  let v30 : BitVec 32 := Scalar.maxsi c0_i32_12 v29
  let v31 : BitVec 32 := Scalar.minsi c199_i32_13 v30
  let v93 : BitVec 32 := Scalar.minsi v92 v31
  let v1394 : Index := Scalar.indexCast v93
  let c199_i32 : BitVec 32 := 199#32
  let c0_i32_6 : BitVec 32 := 0#32
  let v15 : BitVec 32 := Scalar.maxsi c0_i32_6 v14
  let v16 : BitVec 32 := Scalar.minsi c199_i32 v15
  let v187 : BitVec 32 := Scalar.addi v16 v186
  let c3_i32_90 : BitVec 32 := 3#32
  let v190 : BitVec 32 := Scalar.shrsi v187 c3_i32_90
  let c3_i32_91 : BitVec 32 := 3#32
  let v191 : BitVec 32 := Scalar.shli v190 c3_i32_91
  let v192 : BitVec 32 := v191
  let v1395 : Index := Scalar.indexCast v192
  let c0_306 : Index := 0#32
  ![v1394.toNat, v1395.toNat, 0]
def k0_off128 (k0_t1 : Fin k0_t1_loop.trips) : Fin 3 → Nat :=
  let c41 : Index := 41#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c0_i32_3 : BitVec 32 := 0#32
  let v6 : BitVec 32 := Scalar.addi v5 c0_i32_3
  let v1414 : Index := Scalar.indexCast v6
  let c0_308 : Index := 0#32
  ![41, v1414.toNat, 0]
def k0_off129 (v14 : BitVec 32) (v19 : BitVec 32) (v99 : BitVec 32) (v108 : BitVec 32) : Fin 3 → Nat :=
  let c199_i32_9 : BitVec 32 := 199#32
  let c0_i32_8 : BitVec 32 := 0#32
  let v20 : BitVec 32 := Scalar.maxsi c0_i32_8 v19
  let v21 : BitVec 32 := Scalar.minsi c199_i32_9 v20
  let v100 : BitVec 32 := Scalar.addi v21 v99
  let v1420 : Index := Scalar.indexCast v100
  let c199_i32 : BitVec 32 := 199#32
  let c0_i32_6 : BitVec 32 := 0#32
  let v15 : BitVec 32 := Scalar.maxsi c0_i32_6 v14
  let v16 : BitVec 32 := Scalar.minsi c199_i32 v15
  let v109 : BitVec 32 := Scalar.addi v16 v108
  let c3_i32_49 : BitVec 32 := 3#32
  let v112 : BitVec 32 := Scalar.shrsi v109 c3_i32_49
  let c3_i32_50 : BitVec 32 := 3#32
  let v113 : BitVec 32 := Scalar.shli v112 c3_i32_50
  let v114 : BitVec 32 := v113
  let v1421 : Index := Scalar.indexCast v114
  let c0_311 : Index := 0#32
  ![v1420.toNat, v1421.toNat, 0]
def k0_off130 (v14 : BitVec 32) (v19 : BitVec 32) (v29 : BitVec 32) (v99 : BitVec 32) (v108 : BitVec 32) : Fin 3 → Nat :=
  let c199_i32_9 : BitVec 32 := 199#32
  let c0_i32_8 : BitVec 32 := 0#32
  let v20 : BitVec 32 := Scalar.maxsi c0_i32_8 v19
  let v21 : BitVec 32 := Scalar.minsi c199_i32_9 v20
  let v100 : BitVec 32 := Scalar.addi v21 v99
  let c1_i32_44 : BitVec 32 := 1#32
  let v101 : BitVec 32 := Scalar.addi v100 c1_i32_44
  let c199_i32_13 : BitVec 32 := 199#32
  let c0_i32_12 : BitVec 32 := 0#32
  let v30 : BitVec 32 := Scalar.maxsi c0_i32_12 v29
  let v31 : BitVec 32 := Scalar.minsi c199_i32_13 v30
  let v102 : BitVec 32 := Scalar.minsi v101 v31
  let v1424 : Index := Scalar.indexCast v102
  let c199_i32 : BitVec 32 := 199#32
  let c0_i32_6 : BitVec 32 := 0#32
  let v15 : BitVec 32 := Scalar.maxsi c0_i32_6 v14
  let v16 : BitVec 32 := Scalar.minsi c199_i32 v15
  let v109 : BitVec 32 := Scalar.addi v16 v108
  let c3_i32_49 : BitVec 32 := 3#32
  let v112 : BitVec 32 := Scalar.shrsi v109 c3_i32_49
  let c3_i32_50 : BitVec 32 := 3#32
  let v113 : BitVec 32 := Scalar.shli v112 c3_i32_50
  let v114 : BitVec 32 := v113
  let v1425 : Index := Scalar.indexCast v114
  let c0_312 : Index := 0#32
  ![v1424.toNat, v1425.toNat, 0]

def k0_chk1 (v14 : BitVec 32) (v19 : BitVec 32) (v29 : BitVec 32) (v45 : BitVec 32) (v54 : BitVec 32) (v63 : BitVec 32) (v72 : BitVec 32) (v81 : BitVec 32) (v90 : BitVec 32) (v99 : BitVec 32) (v108 : BitVec 32) : Prop :=
  (8 ∣ (k0_mult2 v14 v108).toNat) ∧
  (∀ a, (k0_off3 v14 v19 v45 v108) a + S1x16x256.size a ≤ S200x216x256.size a) ∧
  (∀ a, (k0_off4 v14 v19 v29 v45 v108) a + S1x16x256.size a ≤ S200x216x256.size a) ∧
  (∀ a, (k0_off24 v14 v19 v54 v108) a + S1x16x256.size a ≤ S200x216x256.size a) ∧
  (∀ a, (k0_off25 v14 v19 v29 v54 v108) a + S1x16x256.size a ≤ S200x216x256.size a) ∧
  (∀ a, (k0_off45 v14 v19 v63 v108) a + S1x16x256.size a ≤ S200x216x256.size a) ∧
  (∀ a, (k0_off46 v14 v19 v29 v63 v108) a + S1x16x256.size a ≤ S200x216x256.size a) ∧
  (∀ a, (k0_off66 v14 v19 v72 v108) a + S1x16x256.size a ≤ S200x216x256.size a) ∧
  (∀ a, (k0_off67 v14 v19 v29 v72 v108) a + S1x16x256.size a ≤ S200x216x256.size a) ∧
  (∀ a, (k0_off87 v14 v19 v81 v108) a + S1x16x256.size a ≤ S200x216x256.size a) ∧
  (∀ a, (k0_off88 v14 v19 v29 v81 v108) a + S1x16x256.size a ≤ S200x216x256.size a) ∧
  (∀ a, (k0_off108 v14 v19 v90 v108) a + S1x16x256.size a ≤ S200x216x256.size a) ∧
  (∀ a, (k0_off109 v14 v19 v29 v90 v108) a + S1x16x256.size a ≤ S200x216x256.size a) ∧
  (∀ a, (k0_off129 v14 v19 v99 v108) a + S1x16x256.size a ≤ S200x216x256.size a) ∧
  (∀ a, (k0_off130 v14 v19 v29 v99 v108) a + S1x16x256.size a ≤ S200x216x256.size a)
theorem k0_mult2_dvd : ∀ (v14 : BitVec 32) (v19 : BitVec 32) (v29 : BitVec 32) (v45 : BitVec 32) (v54 : BitVec 32) (v63 : BitVec 32) (v72 : BitVec 32) (v81 : BitVec 32) (v90 : BitVec 32) (v99 : BitVec 32) (v108 : BitVec 32) (k0_hw1 : k0_chk1 v14 v19 v29 v45 v54 v63 v72 v81 v90 v99 v108), 8 ∣ (k0_mult2 v14 v108).toNat := fun v14 v19 v29 v45 v54 v63 v72 v81 v90 v99 v108 k0_hw1 => k0_hw1.1
theorem k0_off3_inb : ∀ (v14 : BitVec 32) (v19 : BitVec 32) (v29 : BitVec 32) (v45 : BitVec 32) (v54 : BitVec 32) (v63 : BitVec 32) (v72 : BitVec 32) (v81 : BitVec 32) (v90 : BitVec 32) (v99 : BitVec 32) (v108 : BitVec 32) (k0_hw1 : k0_chk1 v14 v19 v29 v45 v54 v63 v72 v81 v90 v99 v108), ∀ a, (k0_off3 v14 v19 v45 v108) a + S1x16x256.size a ≤ S200x216x256.size a := fun v14 v19 v29 v45 v54 v63 v72 v81 v90 v99 v108 k0_hw1 => k0_hw1.2.1
theorem k0_off4_inb : ∀ (v14 : BitVec 32) (v19 : BitVec 32) (v29 : BitVec 32) (v45 : BitVec 32) (v54 : BitVec 32) (v63 : BitVec 32) (v72 : BitVec 32) (v81 : BitVec 32) (v90 : BitVec 32) (v99 : BitVec 32) (v108 : BitVec 32) (k0_hw1 : k0_chk1 v14 v19 v29 v45 v54 v63 v72 v81 v90 v99 v108), ∀ a, (k0_off4 v14 v19 v29 v45 v108) a + S1x16x256.size a ≤ S200x216x256.size a := fun v14 v19 v29 v45 v54 v63 v72 v81 v90 v99 v108 k0_hw1 => k0_hw1.2.2.1
theorem k0_off24_inb : ∀ (v14 : BitVec 32) (v19 : BitVec 32) (v29 : BitVec 32) (v45 : BitVec 32) (v54 : BitVec 32) (v63 : BitVec 32) (v72 : BitVec 32) (v81 : BitVec 32) (v90 : BitVec 32) (v99 : BitVec 32) (v108 : BitVec 32) (k0_hw1 : k0_chk1 v14 v19 v29 v45 v54 v63 v72 v81 v90 v99 v108), ∀ a, (k0_off24 v14 v19 v54 v108) a + S1x16x256.size a ≤ S200x216x256.size a := fun v14 v19 v29 v45 v54 v63 v72 v81 v90 v99 v108 k0_hw1 => k0_hw1.2.2.2.1
theorem k0_off25_inb : ∀ (v14 : BitVec 32) (v19 : BitVec 32) (v29 : BitVec 32) (v45 : BitVec 32) (v54 : BitVec 32) (v63 : BitVec 32) (v72 : BitVec 32) (v81 : BitVec 32) (v90 : BitVec 32) (v99 : BitVec 32) (v108 : BitVec 32) (k0_hw1 : k0_chk1 v14 v19 v29 v45 v54 v63 v72 v81 v90 v99 v108), ∀ a, (k0_off25 v14 v19 v29 v54 v108) a + S1x16x256.size a ≤ S200x216x256.size a := fun v14 v19 v29 v45 v54 v63 v72 v81 v90 v99 v108 k0_hw1 => k0_hw1.2.2.2.2.1
theorem k0_off45_inb : ∀ (v14 : BitVec 32) (v19 : BitVec 32) (v29 : BitVec 32) (v45 : BitVec 32) (v54 : BitVec 32) (v63 : BitVec 32) (v72 : BitVec 32) (v81 : BitVec 32) (v90 : BitVec 32) (v99 : BitVec 32) (v108 : BitVec 32) (k0_hw1 : k0_chk1 v14 v19 v29 v45 v54 v63 v72 v81 v90 v99 v108), ∀ a, (k0_off45 v14 v19 v63 v108) a + S1x16x256.size a ≤ S200x216x256.size a := fun v14 v19 v29 v45 v54 v63 v72 v81 v90 v99 v108 k0_hw1 => k0_hw1.2.2.2.2.2.1
theorem k0_off46_inb : ∀ (v14 : BitVec 32) (v19 : BitVec 32) (v29 : BitVec 32) (v45 : BitVec 32) (v54 : BitVec 32) (v63 : BitVec 32) (v72 : BitVec 32) (v81 : BitVec 32) (v90 : BitVec 32) (v99 : BitVec 32) (v108 : BitVec 32) (k0_hw1 : k0_chk1 v14 v19 v29 v45 v54 v63 v72 v81 v90 v99 v108), ∀ a, (k0_off46 v14 v19 v29 v63 v108) a + S1x16x256.size a ≤ S200x216x256.size a := fun v14 v19 v29 v45 v54 v63 v72 v81 v90 v99 v108 k0_hw1 => k0_hw1.2.2.2.2.2.2.1
theorem k0_off66_inb : ∀ (v14 : BitVec 32) (v19 : BitVec 32) (v29 : BitVec 32) (v45 : BitVec 32) (v54 : BitVec 32) (v63 : BitVec 32) (v72 : BitVec 32) (v81 : BitVec 32) (v90 : BitVec 32) (v99 : BitVec 32) (v108 : BitVec 32) (k0_hw1 : k0_chk1 v14 v19 v29 v45 v54 v63 v72 v81 v90 v99 v108), ∀ a, (k0_off66 v14 v19 v72 v108) a + S1x16x256.size a ≤ S200x216x256.size a := fun v14 v19 v29 v45 v54 v63 v72 v81 v90 v99 v108 k0_hw1 => k0_hw1.2.2.2.2.2.2.2.1
theorem k0_off67_inb : ∀ (v14 : BitVec 32) (v19 : BitVec 32) (v29 : BitVec 32) (v45 : BitVec 32) (v54 : BitVec 32) (v63 : BitVec 32) (v72 : BitVec 32) (v81 : BitVec 32) (v90 : BitVec 32) (v99 : BitVec 32) (v108 : BitVec 32) (k0_hw1 : k0_chk1 v14 v19 v29 v45 v54 v63 v72 v81 v90 v99 v108), ∀ a, (k0_off67 v14 v19 v29 v72 v108) a + S1x16x256.size a ≤ S200x216x256.size a := fun v14 v19 v29 v45 v54 v63 v72 v81 v90 v99 v108 k0_hw1 => k0_hw1.2.2.2.2.2.2.2.2.1
theorem k0_off87_inb : ∀ (v14 : BitVec 32) (v19 : BitVec 32) (v29 : BitVec 32) (v45 : BitVec 32) (v54 : BitVec 32) (v63 : BitVec 32) (v72 : BitVec 32) (v81 : BitVec 32) (v90 : BitVec 32) (v99 : BitVec 32) (v108 : BitVec 32) (k0_hw1 : k0_chk1 v14 v19 v29 v45 v54 v63 v72 v81 v90 v99 v108), ∀ a, (k0_off87 v14 v19 v81 v108) a + S1x16x256.size a ≤ S200x216x256.size a := fun v14 v19 v29 v45 v54 v63 v72 v81 v90 v99 v108 k0_hw1 => k0_hw1.2.2.2.2.2.2.2.2.2.1
theorem k0_off88_inb : ∀ (v14 : BitVec 32) (v19 : BitVec 32) (v29 : BitVec 32) (v45 : BitVec 32) (v54 : BitVec 32) (v63 : BitVec 32) (v72 : BitVec 32) (v81 : BitVec 32) (v90 : BitVec 32) (v99 : BitVec 32) (v108 : BitVec 32) (k0_hw1 : k0_chk1 v14 v19 v29 v45 v54 v63 v72 v81 v90 v99 v108), ∀ a, (k0_off88 v14 v19 v29 v81 v108) a + S1x16x256.size a ≤ S200x216x256.size a := fun v14 v19 v29 v45 v54 v63 v72 v81 v90 v99 v108 k0_hw1 => k0_hw1.2.2.2.2.2.2.2.2.2.2.1
theorem k0_off108_inb : ∀ (v14 : BitVec 32) (v19 : BitVec 32) (v29 : BitVec 32) (v45 : BitVec 32) (v54 : BitVec 32) (v63 : BitVec 32) (v72 : BitVec 32) (v81 : BitVec 32) (v90 : BitVec 32) (v99 : BitVec 32) (v108 : BitVec 32) (k0_hw1 : k0_chk1 v14 v19 v29 v45 v54 v63 v72 v81 v90 v99 v108), ∀ a, (k0_off108 v14 v19 v90 v108) a + S1x16x256.size a ≤ S200x216x256.size a := fun v14 v19 v29 v45 v54 v63 v72 v81 v90 v99 v108 k0_hw1 => k0_hw1.2.2.2.2.2.2.2.2.2.2.2.1
theorem k0_off109_inb : ∀ (v14 : BitVec 32) (v19 : BitVec 32) (v29 : BitVec 32) (v45 : BitVec 32) (v54 : BitVec 32) (v63 : BitVec 32) (v72 : BitVec 32) (v81 : BitVec 32) (v90 : BitVec 32) (v99 : BitVec 32) (v108 : BitVec 32) (k0_hw1 : k0_chk1 v14 v19 v29 v45 v54 v63 v72 v81 v90 v99 v108), ∀ a, (k0_off109 v14 v19 v29 v90 v108) a + S1x16x256.size a ≤ S200x216x256.size a := fun v14 v19 v29 v45 v54 v63 v72 v81 v90 v99 v108 k0_hw1 => k0_hw1.2.2.2.2.2.2.2.2.2.2.2.2.1
theorem k0_off129_inb : ∀ (v14 : BitVec 32) (v19 : BitVec 32) (v29 : BitVec 32) (v45 : BitVec 32) (v54 : BitVec 32) (v63 : BitVec 32) (v72 : BitVec 32) (v81 : BitVec 32) (v90 : BitVec 32) (v99 : BitVec 32) (v108 : BitVec 32) (k0_hw1 : k0_chk1 v14 v19 v29 v45 v54 v63 v72 v81 v90 v99 v108), ∀ a, (k0_off129 v14 v19 v99 v108) a + S1x16x256.size a ≤ S200x216x256.size a := fun v14 v19 v29 v45 v54 v63 v72 v81 v90 v99 v108 k0_hw1 => k0_hw1.2.2.2.2.2.2.2.2.2.2.2.2.2.1
theorem k0_off130_inb : ∀ (v14 : BitVec 32) (v19 : BitVec 32) (v29 : BitVec 32) (v45 : BitVec 32) (v54 : BitVec 32) (v63 : BitVec 32) (v72 : BitVec 32) (v81 : BitVec 32) (v90 : BitVec 32) (v99 : BitVec 32) (v108 : BitVec 32) (k0_hw1 : k0_chk1 v14 v19 v29 v45 v54 v63 v72 v81 v90 v99 v108), ∀ a, (k0_off130 v14 v19 v29 v99 v108) a + S1x16x256.size a ≤ S200x216x256.size a := fun v14 v19 v29 v45 v54 v63 v72 v81 v90 v99 v108 k0_hw1 => k0_hw1.2.2.2.2.2.2.2.2.2.2.2.2.2.2

def k0_off131 (k0_t1 : Fin k0_t1_loop.trips) : Fin 3 → Nat :=
  let c42 : Index := 42#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c0_i32_3 : BitVec 32 := 0#32
  let v6 : BitVec 32 := Scalar.addi v5 c0_i32_3
  let v1444 : Index := Scalar.indexCast v6
  let c0_314 : Index := 0#32
  ![42, v1444.toNat, 0]
def k0_off132 (v14 : BitVec 32) (v19 : BitVec 32) (v99 : BitVec 32) (v121 : BitVec 32) : Fin 3 → Nat :=
  let c199_i32_9 : BitVec 32 := 199#32
  let c0_i32_8 : BitVec 32 := 0#32
  let v20 : BitVec 32 := Scalar.maxsi c0_i32_8 v19
  let v21 : BitVec 32 := Scalar.minsi c199_i32_9 v20
  let v100 : BitVec 32 := Scalar.addi v21 v99
  let v1449 : Index := Scalar.indexCast v100
  let c199_i32 : BitVec 32 := 199#32
  let c0_i32_6 : BitVec 32 := 0#32
  let v15 : BitVec 32 := Scalar.maxsi c0_i32_6 v14
  let v16 : BitVec 32 := Scalar.minsi c199_i32 v15
  let v122 : BitVec 32 := Scalar.addi v16 v121
  let c3_i32_55 : BitVec 32 := 3#32
  let v125 : BitVec 32 := Scalar.shrsi v122 c3_i32_55
  let c3_i32_56 : BitVec 32 := 3#32
  let v126 : BitVec 32 := Scalar.shli v125 c3_i32_56
  let v127 : BitVec 32 := v126
  let v1450 : Index := Scalar.indexCast v127
  let c0_316 : Index := 0#32
  ![v1449.toNat, v1450.toNat, 0]
def k0_off133 (v14 : BitVec 32) (v19 : BitVec 32) (v29 : BitVec 32) (v99 : BitVec 32) (v121 : BitVec 32) : Fin 3 → Nat :=
  let c199_i32_9 : BitVec 32 := 199#32
  let c0_i32_8 : BitVec 32 := 0#32
  let v20 : BitVec 32 := Scalar.maxsi c0_i32_8 v19
  let v21 : BitVec 32 := Scalar.minsi c199_i32_9 v20
  let v100 : BitVec 32 := Scalar.addi v21 v99
  let c1_i32_44 : BitVec 32 := 1#32
  let v101 : BitVec 32 := Scalar.addi v100 c1_i32_44
  let c199_i32_13 : BitVec 32 := 199#32
  let c0_i32_12 : BitVec 32 := 0#32
  let v30 : BitVec 32 := Scalar.maxsi c0_i32_12 v29
  let v31 : BitVec 32 := Scalar.minsi c199_i32_13 v30
  let v102 : BitVec 32 := Scalar.minsi v101 v31
  let v1453 : Index := Scalar.indexCast v102
  let c199_i32 : BitVec 32 := 199#32
  let c0_i32_6 : BitVec 32 := 0#32
  let v15 : BitVec 32 := Scalar.maxsi c0_i32_6 v14
  let v16 : BitVec 32 := Scalar.minsi c199_i32 v15
  let v122 : BitVec 32 := Scalar.addi v16 v121
  let c3_i32_55 : BitVec 32 := 3#32
  let v125 : BitVec 32 := Scalar.shrsi v122 c3_i32_55
  let c3_i32_56 : BitVec 32 := 3#32
  let v126 : BitVec 32 := Scalar.shli v125 c3_i32_56
  let v127 : BitVec 32 := v126
  let v1454 : Index := Scalar.indexCast v127
  let c0_317 : Index := 0#32
  ![v1453.toNat, v1454.toNat, 0]

def k0_chk2 (v14 : BitVec 32) (v19 : BitVec 32) (v29 : BitVec 32) (v45 : BitVec 32) (v54 : BitVec 32) (v63 : BitVec 32) (v72 : BitVec 32) (v81 : BitVec 32) (v90 : BitVec 32) (v99 : BitVec 32) (v121 : BitVec 32) : Prop :=
  (8 ∣ (k0_mult3 v14 v121).toNat) ∧
  (∀ a, (k0_off6 v14 v19 v45 v121) a + S1x16x256.size a ≤ S200x216x256.size a) ∧
  (∀ a, (k0_off7 v14 v19 v29 v45 v121) a + S1x16x256.size a ≤ S200x216x256.size a) ∧
  (∀ a, (k0_off27 v14 v19 v54 v121) a + S1x16x256.size a ≤ S200x216x256.size a) ∧
  (∀ a, (k0_off28 v14 v19 v29 v54 v121) a + S1x16x256.size a ≤ S200x216x256.size a) ∧
  (∀ a, (k0_off48 v14 v19 v63 v121) a + S1x16x256.size a ≤ S200x216x256.size a) ∧
  (∀ a, (k0_off49 v14 v19 v29 v63 v121) a + S1x16x256.size a ≤ S200x216x256.size a) ∧
  (∀ a, (k0_off69 v14 v19 v72 v121) a + S1x16x256.size a ≤ S200x216x256.size a) ∧
  (∀ a, (k0_off70 v14 v19 v29 v72 v121) a + S1x16x256.size a ≤ S200x216x256.size a) ∧
  (∀ a, (k0_off90 v14 v19 v81 v121) a + S1x16x256.size a ≤ S200x216x256.size a) ∧
  (∀ a, (k0_off91 v14 v19 v29 v81 v121) a + S1x16x256.size a ≤ S200x216x256.size a) ∧
  (∀ a, (k0_off111 v14 v19 v90 v121) a + S1x16x256.size a ≤ S200x216x256.size a) ∧
  (∀ a, (k0_off112 v14 v19 v29 v90 v121) a + S1x16x256.size a ≤ S200x216x256.size a) ∧
  (∀ a, (k0_off132 v14 v19 v99 v121) a + S1x16x256.size a ≤ S200x216x256.size a) ∧
  (∀ a, (k0_off133 v14 v19 v29 v99 v121) a + S1x16x256.size a ≤ S200x216x256.size a)
theorem k0_mult3_dvd : ∀ (v14 : BitVec 32) (v19 : BitVec 32) (v29 : BitVec 32) (v45 : BitVec 32) (v54 : BitVec 32) (v63 : BitVec 32) (v72 : BitVec 32) (v81 : BitVec 32) (v90 : BitVec 32) (v99 : BitVec 32) (v121 : BitVec 32) (k0_hw2 : k0_chk2 v14 v19 v29 v45 v54 v63 v72 v81 v90 v99 v121), 8 ∣ (k0_mult3 v14 v121).toNat := fun v14 v19 v29 v45 v54 v63 v72 v81 v90 v99 v121 k0_hw2 => k0_hw2.1
theorem k0_off6_inb : ∀ (v14 : BitVec 32) (v19 : BitVec 32) (v29 : BitVec 32) (v45 : BitVec 32) (v54 : BitVec 32) (v63 : BitVec 32) (v72 : BitVec 32) (v81 : BitVec 32) (v90 : BitVec 32) (v99 : BitVec 32) (v121 : BitVec 32) (k0_hw2 : k0_chk2 v14 v19 v29 v45 v54 v63 v72 v81 v90 v99 v121), ∀ a, (k0_off6 v14 v19 v45 v121) a + S1x16x256.size a ≤ S200x216x256.size a := fun v14 v19 v29 v45 v54 v63 v72 v81 v90 v99 v121 k0_hw2 => k0_hw2.2.1
theorem k0_off7_inb : ∀ (v14 : BitVec 32) (v19 : BitVec 32) (v29 : BitVec 32) (v45 : BitVec 32) (v54 : BitVec 32) (v63 : BitVec 32) (v72 : BitVec 32) (v81 : BitVec 32) (v90 : BitVec 32) (v99 : BitVec 32) (v121 : BitVec 32) (k0_hw2 : k0_chk2 v14 v19 v29 v45 v54 v63 v72 v81 v90 v99 v121), ∀ a, (k0_off7 v14 v19 v29 v45 v121) a + S1x16x256.size a ≤ S200x216x256.size a := fun v14 v19 v29 v45 v54 v63 v72 v81 v90 v99 v121 k0_hw2 => k0_hw2.2.2.1
theorem k0_off27_inb : ∀ (v14 : BitVec 32) (v19 : BitVec 32) (v29 : BitVec 32) (v45 : BitVec 32) (v54 : BitVec 32) (v63 : BitVec 32) (v72 : BitVec 32) (v81 : BitVec 32) (v90 : BitVec 32) (v99 : BitVec 32) (v121 : BitVec 32) (k0_hw2 : k0_chk2 v14 v19 v29 v45 v54 v63 v72 v81 v90 v99 v121), ∀ a, (k0_off27 v14 v19 v54 v121) a + S1x16x256.size a ≤ S200x216x256.size a := fun v14 v19 v29 v45 v54 v63 v72 v81 v90 v99 v121 k0_hw2 => k0_hw2.2.2.2.1
theorem k0_off28_inb : ∀ (v14 : BitVec 32) (v19 : BitVec 32) (v29 : BitVec 32) (v45 : BitVec 32) (v54 : BitVec 32) (v63 : BitVec 32) (v72 : BitVec 32) (v81 : BitVec 32) (v90 : BitVec 32) (v99 : BitVec 32) (v121 : BitVec 32) (k0_hw2 : k0_chk2 v14 v19 v29 v45 v54 v63 v72 v81 v90 v99 v121), ∀ a, (k0_off28 v14 v19 v29 v54 v121) a + S1x16x256.size a ≤ S200x216x256.size a := fun v14 v19 v29 v45 v54 v63 v72 v81 v90 v99 v121 k0_hw2 => k0_hw2.2.2.2.2.1
theorem k0_off48_inb : ∀ (v14 : BitVec 32) (v19 : BitVec 32) (v29 : BitVec 32) (v45 : BitVec 32) (v54 : BitVec 32) (v63 : BitVec 32) (v72 : BitVec 32) (v81 : BitVec 32) (v90 : BitVec 32) (v99 : BitVec 32) (v121 : BitVec 32) (k0_hw2 : k0_chk2 v14 v19 v29 v45 v54 v63 v72 v81 v90 v99 v121), ∀ a, (k0_off48 v14 v19 v63 v121) a + S1x16x256.size a ≤ S200x216x256.size a := fun v14 v19 v29 v45 v54 v63 v72 v81 v90 v99 v121 k0_hw2 => k0_hw2.2.2.2.2.2.1
theorem k0_off49_inb : ∀ (v14 : BitVec 32) (v19 : BitVec 32) (v29 : BitVec 32) (v45 : BitVec 32) (v54 : BitVec 32) (v63 : BitVec 32) (v72 : BitVec 32) (v81 : BitVec 32) (v90 : BitVec 32) (v99 : BitVec 32) (v121 : BitVec 32) (k0_hw2 : k0_chk2 v14 v19 v29 v45 v54 v63 v72 v81 v90 v99 v121), ∀ a, (k0_off49 v14 v19 v29 v63 v121) a + S1x16x256.size a ≤ S200x216x256.size a := fun v14 v19 v29 v45 v54 v63 v72 v81 v90 v99 v121 k0_hw2 => k0_hw2.2.2.2.2.2.2.1
theorem k0_off69_inb : ∀ (v14 : BitVec 32) (v19 : BitVec 32) (v29 : BitVec 32) (v45 : BitVec 32) (v54 : BitVec 32) (v63 : BitVec 32) (v72 : BitVec 32) (v81 : BitVec 32) (v90 : BitVec 32) (v99 : BitVec 32) (v121 : BitVec 32) (k0_hw2 : k0_chk2 v14 v19 v29 v45 v54 v63 v72 v81 v90 v99 v121), ∀ a, (k0_off69 v14 v19 v72 v121) a + S1x16x256.size a ≤ S200x216x256.size a := fun v14 v19 v29 v45 v54 v63 v72 v81 v90 v99 v121 k0_hw2 => k0_hw2.2.2.2.2.2.2.2.1
theorem k0_off70_inb : ∀ (v14 : BitVec 32) (v19 : BitVec 32) (v29 : BitVec 32) (v45 : BitVec 32) (v54 : BitVec 32) (v63 : BitVec 32) (v72 : BitVec 32) (v81 : BitVec 32) (v90 : BitVec 32) (v99 : BitVec 32) (v121 : BitVec 32) (k0_hw2 : k0_chk2 v14 v19 v29 v45 v54 v63 v72 v81 v90 v99 v121), ∀ a, (k0_off70 v14 v19 v29 v72 v121) a + S1x16x256.size a ≤ S200x216x256.size a := fun v14 v19 v29 v45 v54 v63 v72 v81 v90 v99 v121 k0_hw2 => k0_hw2.2.2.2.2.2.2.2.2.1
theorem k0_off90_inb : ∀ (v14 : BitVec 32) (v19 : BitVec 32) (v29 : BitVec 32) (v45 : BitVec 32) (v54 : BitVec 32) (v63 : BitVec 32) (v72 : BitVec 32) (v81 : BitVec 32) (v90 : BitVec 32) (v99 : BitVec 32) (v121 : BitVec 32) (k0_hw2 : k0_chk2 v14 v19 v29 v45 v54 v63 v72 v81 v90 v99 v121), ∀ a, (k0_off90 v14 v19 v81 v121) a + S1x16x256.size a ≤ S200x216x256.size a := fun v14 v19 v29 v45 v54 v63 v72 v81 v90 v99 v121 k0_hw2 => k0_hw2.2.2.2.2.2.2.2.2.2.1
theorem k0_off91_inb : ∀ (v14 : BitVec 32) (v19 : BitVec 32) (v29 : BitVec 32) (v45 : BitVec 32) (v54 : BitVec 32) (v63 : BitVec 32) (v72 : BitVec 32) (v81 : BitVec 32) (v90 : BitVec 32) (v99 : BitVec 32) (v121 : BitVec 32) (k0_hw2 : k0_chk2 v14 v19 v29 v45 v54 v63 v72 v81 v90 v99 v121), ∀ a, (k0_off91 v14 v19 v29 v81 v121) a + S1x16x256.size a ≤ S200x216x256.size a := fun v14 v19 v29 v45 v54 v63 v72 v81 v90 v99 v121 k0_hw2 => k0_hw2.2.2.2.2.2.2.2.2.2.2.1
theorem k0_off111_inb : ∀ (v14 : BitVec 32) (v19 : BitVec 32) (v29 : BitVec 32) (v45 : BitVec 32) (v54 : BitVec 32) (v63 : BitVec 32) (v72 : BitVec 32) (v81 : BitVec 32) (v90 : BitVec 32) (v99 : BitVec 32) (v121 : BitVec 32) (k0_hw2 : k0_chk2 v14 v19 v29 v45 v54 v63 v72 v81 v90 v99 v121), ∀ a, (k0_off111 v14 v19 v90 v121) a + S1x16x256.size a ≤ S200x216x256.size a := fun v14 v19 v29 v45 v54 v63 v72 v81 v90 v99 v121 k0_hw2 => k0_hw2.2.2.2.2.2.2.2.2.2.2.2.1
theorem k0_off112_inb : ∀ (v14 : BitVec 32) (v19 : BitVec 32) (v29 : BitVec 32) (v45 : BitVec 32) (v54 : BitVec 32) (v63 : BitVec 32) (v72 : BitVec 32) (v81 : BitVec 32) (v90 : BitVec 32) (v99 : BitVec 32) (v121 : BitVec 32) (k0_hw2 : k0_chk2 v14 v19 v29 v45 v54 v63 v72 v81 v90 v99 v121), ∀ a, (k0_off112 v14 v19 v29 v90 v121) a + S1x16x256.size a ≤ S200x216x256.size a := fun v14 v19 v29 v45 v54 v63 v72 v81 v90 v99 v121 k0_hw2 => k0_hw2.2.2.2.2.2.2.2.2.2.2.2.2.1
theorem k0_off132_inb : ∀ (v14 : BitVec 32) (v19 : BitVec 32) (v29 : BitVec 32) (v45 : BitVec 32) (v54 : BitVec 32) (v63 : BitVec 32) (v72 : BitVec 32) (v81 : BitVec 32) (v90 : BitVec 32) (v99 : BitVec 32) (v121 : BitVec 32) (k0_hw2 : k0_chk2 v14 v19 v29 v45 v54 v63 v72 v81 v90 v99 v121), ∀ a, (k0_off132 v14 v19 v99 v121) a + S1x16x256.size a ≤ S200x216x256.size a := fun v14 v19 v29 v45 v54 v63 v72 v81 v90 v99 v121 k0_hw2 => k0_hw2.2.2.2.2.2.2.2.2.2.2.2.2.2.1
theorem k0_off133_inb : ∀ (v14 : BitVec 32) (v19 : BitVec 32) (v29 : BitVec 32) (v45 : BitVec 32) (v54 : BitVec 32) (v63 : BitVec 32) (v72 : BitVec 32) (v81 : BitVec 32) (v90 : BitVec 32) (v99 : BitVec 32) (v121 : BitVec 32) (k0_hw2 : k0_chk2 v14 v19 v29 v45 v54 v63 v72 v81 v90 v99 v121), ∀ a, (k0_off133 v14 v19 v29 v99 v121) a + S1x16x256.size a ≤ S200x216x256.size a := fun v14 v19 v29 v45 v54 v63 v72 v81 v90 v99 v121 k0_hw2 => k0_hw2.2.2.2.2.2.2.2.2.2.2.2.2.2.2

def k0_off134 (k0_t1 : Fin k0_t1_loop.trips) : Fin 3 → Nat :=
  let c43 : Index := 43#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c0_i32_3 : BitVec 32 := 0#32
  let v6 : BitVec 32 := Scalar.addi v5 c0_i32_3
  let v1473 : Index := Scalar.indexCast v6
  let c0_319 : Index := 0#32
  ![43, v1473.toNat, 0]
def k0_off135 (v14 : BitVec 32) (v19 : BitVec 32) (v99 : BitVec 32) (v134 : BitVec 32) : Fin 3 → Nat :=
  let c199_i32_9 : BitVec 32 := 199#32
  let c0_i32_8 : BitVec 32 := 0#32
  let v20 : BitVec 32 := Scalar.maxsi c0_i32_8 v19
  let v21 : BitVec 32 := Scalar.minsi c199_i32_9 v20
  let v100 : BitVec 32 := Scalar.addi v21 v99
  let v1478 : Index := Scalar.indexCast v100
  let c199_i32 : BitVec 32 := 199#32
  let c0_i32_6 : BitVec 32 := 0#32
  let v15 : BitVec 32 := Scalar.maxsi c0_i32_6 v14
  let v16 : BitVec 32 := Scalar.minsi c199_i32 v15
  let v135 : BitVec 32 := Scalar.addi v16 v134
  let c3_i32_62 : BitVec 32 := 3#32
  let v138 : BitVec 32 := Scalar.shrsi v135 c3_i32_62
  let c3_i32_63 : BitVec 32 := 3#32
  let v139 : BitVec 32 := Scalar.shli v138 c3_i32_63
  let v140 : BitVec 32 := v139
  let v1479 : Index := Scalar.indexCast v140
  let c0_321 : Index := 0#32
  ![v1478.toNat, v1479.toNat, 0]
def k0_off136 (v14 : BitVec 32) (v19 : BitVec 32) (v29 : BitVec 32) (v99 : BitVec 32) (v134 : BitVec 32) : Fin 3 → Nat :=
  let c199_i32_9 : BitVec 32 := 199#32
  let c0_i32_8 : BitVec 32 := 0#32
  let v20 : BitVec 32 := Scalar.maxsi c0_i32_8 v19
  let v21 : BitVec 32 := Scalar.minsi c199_i32_9 v20
  let v100 : BitVec 32 := Scalar.addi v21 v99
  let c1_i32_44 : BitVec 32 := 1#32
  let v101 : BitVec 32 := Scalar.addi v100 c1_i32_44
  let c199_i32_13 : BitVec 32 := 199#32
  let c0_i32_12 : BitVec 32 := 0#32
  let v30 : BitVec 32 := Scalar.maxsi c0_i32_12 v29
  let v31 : BitVec 32 := Scalar.minsi c199_i32_13 v30
  let v102 : BitVec 32 := Scalar.minsi v101 v31
  let v1482 : Index := Scalar.indexCast v102
  let c199_i32 : BitVec 32 := 199#32
  let c0_i32_6 : BitVec 32 := 0#32
  let v15 : BitVec 32 := Scalar.maxsi c0_i32_6 v14
  let v16 : BitVec 32 := Scalar.minsi c199_i32 v15
  let v135 : BitVec 32 := Scalar.addi v16 v134
  let c3_i32_62 : BitVec 32 := 3#32
  let v138 : BitVec 32 := Scalar.shrsi v135 c3_i32_62
  let c3_i32_63 : BitVec 32 := 3#32
  let v139 : BitVec 32 := Scalar.shli v138 c3_i32_63
  let v140 : BitVec 32 := v139
  let v1483 : Index := Scalar.indexCast v140
  let c0_322 : Index := 0#32
  ![v1482.toNat, v1483.toNat, 0]

def k0_chk3 (v14 : BitVec 32) (v19 : BitVec 32) (v29 : BitVec 32) (v45 : BitVec 32) (v54 : BitVec 32) (v63 : BitVec 32) (v72 : BitVec 32) (v81 : BitVec 32) (v90 : BitVec 32) (v99 : BitVec 32) (v134 : BitVec 32) : Prop :=
  (8 ∣ (k0_mult4 v14 v134).toNat) ∧
  (∀ a, (k0_off9 v14 v19 v45 v134) a + S1x16x256.size a ≤ S200x216x256.size a) ∧
  (∀ a, (k0_off10 v14 v19 v29 v45 v134) a + S1x16x256.size a ≤ S200x216x256.size a) ∧
  (∀ a, (k0_off30 v14 v19 v54 v134) a + S1x16x256.size a ≤ S200x216x256.size a) ∧
  (∀ a, (k0_off31 v14 v19 v29 v54 v134) a + S1x16x256.size a ≤ S200x216x256.size a) ∧
  (∀ a, (k0_off51 v14 v19 v63 v134) a + S1x16x256.size a ≤ S200x216x256.size a) ∧
  (∀ a, (k0_off52 v14 v19 v29 v63 v134) a + S1x16x256.size a ≤ S200x216x256.size a) ∧
  (∀ a, (k0_off72 v14 v19 v72 v134) a + S1x16x256.size a ≤ S200x216x256.size a) ∧
  (∀ a, (k0_off73 v14 v19 v29 v72 v134) a + S1x16x256.size a ≤ S200x216x256.size a) ∧
  (∀ a, (k0_off93 v14 v19 v81 v134) a + S1x16x256.size a ≤ S200x216x256.size a) ∧
  (∀ a, (k0_off94 v14 v19 v29 v81 v134) a + S1x16x256.size a ≤ S200x216x256.size a) ∧
  (∀ a, (k0_off114 v14 v19 v90 v134) a + S1x16x256.size a ≤ S200x216x256.size a) ∧
  (∀ a, (k0_off115 v14 v19 v29 v90 v134) a + S1x16x256.size a ≤ S200x216x256.size a) ∧
  (∀ a, (k0_off135 v14 v19 v99 v134) a + S1x16x256.size a ≤ S200x216x256.size a) ∧
  (∀ a, (k0_off136 v14 v19 v29 v99 v134) a + S1x16x256.size a ≤ S200x216x256.size a)
theorem k0_mult4_dvd : ∀ (v14 : BitVec 32) (v19 : BitVec 32) (v29 : BitVec 32) (v45 : BitVec 32) (v54 : BitVec 32) (v63 : BitVec 32) (v72 : BitVec 32) (v81 : BitVec 32) (v90 : BitVec 32) (v99 : BitVec 32) (v134 : BitVec 32) (k0_hw3 : k0_chk3 v14 v19 v29 v45 v54 v63 v72 v81 v90 v99 v134), 8 ∣ (k0_mult4 v14 v134).toNat := fun v14 v19 v29 v45 v54 v63 v72 v81 v90 v99 v134 k0_hw3 => k0_hw3.1
theorem k0_off9_inb : ∀ (v14 : BitVec 32) (v19 : BitVec 32) (v29 : BitVec 32) (v45 : BitVec 32) (v54 : BitVec 32) (v63 : BitVec 32) (v72 : BitVec 32) (v81 : BitVec 32) (v90 : BitVec 32) (v99 : BitVec 32) (v134 : BitVec 32) (k0_hw3 : k0_chk3 v14 v19 v29 v45 v54 v63 v72 v81 v90 v99 v134), ∀ a, (k0_off9 v14 v19 v45 v134) a + S1x16x256.size a ≤ S200x216x256.size a := fun v14 v19 v29 v45 v54 v63 v72 v81 v90 v99 v134 k0_hw3 => k0_hw3.2.1
theorem k0_off10_inb : ∀ (v14 : BitVec 32) (v19 : BitVec 32) (v29 : BitVec 32) (v45 : BitVec 32) (v54 : BitVec 32) (v63 : BitVec 32) (v72 : BitVec 32) (v81 : BitVec 32) (v90 : BitVec 32) (v99 : BitVec 32) (v134 : BitVec 32) (k0_hw3 : k0_chk3 v14 v19 v29 v45 v54 v63 v72 v81 v90 v99 v134), ∀ a, (k0_off10 v14 v19 v29 v45 v134) a + S1x16x256.size a ≤ S200x216x256.size a := fun v14 v19 v29 v45 v54 v63 v72 v81 v90 v99 v134 k0_hw3 => k0_hw3.2.2.1
theorem k0_off30_inb : ∀ (v14 : BitVec 32) (v19 : BitVec 32) (v29 : BitVec 32) (v45 : BitVec 32) (v54 : BitVec 32) (v63 : BitVec 32) (v72 : BitVec 32) (v81 : BitVec 32) (v90 : BitVec 32) (v99 : BitVec 32) (v134 : BitVec 32) (k0_hw3 : k0_chk3 v14 v19 v29 v45 v54 v63 v72 v81 v90 v99 v134), ∀ a, (k0_off30 v14 v19 v54 v134) a + S1x16x256.size a ≤ S200x216x256.size a := fun v14 v19 v29 v45 v54 v63 v72 v81 v90 v99 v134 k0_hw3 => k0_hw3.2.2.2.1
theorem k0_off31_inb : ∀ (v14 : BitVec 32) (v19 : BitVec 32) (v29 : BitVec 32) (v45 : BitVec 32) (v54 : BitVec 32) (v63 : BitVec 32) (v72 : BitVec 32) (v81 : BitVec 32) (v90 : BitVec 32) (v99 : BitVec 32) (v134 : BitVec 32) (k0_hw3 : k0_chk3 v14 v19 v29 v45 v54 v63 v72 v81 v90 v99 v134), ∀ a, (k0_off31 v14 v19 v29 v54 v134) a + S1x16x256.size a ≤ S200x216x256.size a := fun v14 v19 v29 v45 v54 v63 v72 v81 v90 v99 v134 k0_hw3 => k0_hw3.2.2.2.2.1
theorem k0_off51_inb : ∀ (v14 : BitVec 32) (v19 : BitVec 32) (v29 : BitVec 32) (v45 : BitVec 32) (v54 : BitVec 32) (v63 : BitVec 32) (v72 : BitVec 32) (v81 : BitVec 32) (v90 : BitVec 32) (v99 : BitVec 32) (v134 : BitVec 32) (k0_hw3 : k0_chk3 v14 v19 v29 v45 v54 v63 v72 v81 v90 v99 v134), ∀ a, (k0_off51 v14 v19 v63 v134) a + S1x16x256.size a ≤ S200x216x256.size a := fun v14 v19 v29 v45 v54 v63 v72 v81 v90 v99 v134 k0_hw3 => k0_hw3.2.2.2.2.2.1
theorem k0_off52_inb : ∀ (v14 : BitVec 32) (v19 : BitVec 32) (v29 : BitVec 32) (v45 : BitVec 32) (v54 : BitVec 32) (v63 : BitVec 32) (v72 : BitVec 32) (v81 : BitVec 32) (v90 : BitVec 32) (v99 : BitVec 32) (v134 : BitVec 32) (k0_hw3 : k0_chk3 v14 v19 v29 v45 v54 v63 v72 v81 v90 v99 v134), ∀ a, (k0_off52 v14 v19 v29 v63 v134) a + S1x16x256.size a ≤ S200x216x256.size a := fun v14 v19 v29 v45 v54 v63 v72 v81 v90 v99 v134 k0_hw3 => k0_hw3.2.2.2.2.2.2.1
theorem k0_off72_inb : ∀ (v14 : BitVec 32) (v19 : BitVec 32) (v29 : BitVec 32) (v45 : BitVec 32) (v54 : BitVec 32) (v63 : BitVec 32) (v72 : BitVec 32) (v81 : BitVec 32) (v90 : BitVec 32) (v99 : BitVec 32) (v134 : BitVec 32) (k0_hw3 : k0_chk3 v14 v19 v29 v45 v54 v63 v72 v81 v90 v99 v134), ∀ a, (k0_off72 v14 v19 v72 v134) a + S1x16x256.size a ≤ S200x216x256.size a := fun v14 v19 v29 v45 v54 v63 v72 v81 v90 v99 v134 k0_hw3 => k0_hw3.2.2.2.2.2.2.2.1
theorem k0_off73_inb : ∀ (v14 : BitVec 32) (v19 : BitVec 32) (v29 : BitVec 32) (v45 : BitVec 32) (v54 : BitVec 32) (v63 : BitVec 32) (v72 : BitVec 32) (v81 : BitVec 32) (v90 : BitVec 32) (v99 : BitVec 32) (v134 : BitVec 32) (k0_hw3 : k0_chk3 v14 v19 v29 v45 v54 v63 v72 v81 v90 v99 v134), ∀ a, (k0_off73 v14 v19 v29 v72 v134) a + S1x16x256.size a ≤ S200x216x256.size a := fun v14 v19 v29 v45 v54 v63 v72 v81 v90 v99 v134 k0_hw3 => k0_hw3.2.2.2.2.2.2.2.2.1
theorem k0_off93_inb : ∀ (v14 : BitVec 32) (v19 : BitVec 32) (v29 : BitVec 32) (v45 : BitVec 32) (v54 : BitVec 32) (v63 : BitVec 32) (v72 : BitVec 32) (v81 : BitVec 32) (v90 : BitVec 32) (v99 : BitVec 32) (v134 : BitVec 32) (k0_hw3 : k0_chk3 v14 v19 v29 v45 v54 v63 v72 v81 v90 v99 v134), ∀ a, (k0_off93 v14 v19 v81 v134) a + S1x16x256.size a ≤ S200x216x256.size a := fun v14 v19 v29 v45 v54 v63 v72 v81 v90 v99 v134 k0_hw3 => k0_hw3.2.2.2.2.2.2.2.2.2.1
theorem k0_off94_inb : ∀ (v14 : BitVec 32) (v19 : BitVec 32) (v29 : BitVec 32) (v45 : BitVec 32) (v54 : BitVec 32) (v63 : BitVec 32) (v72 : BitVec 32) (v81 : BitVec 32) (v90 : BitVec 32) (v99 : BitVec 32) (v134 : BitVec 32) (k0_hw3 : k0_chk3 v14 v19 v29 v45 v54 v63 v72 v81 v90 v99 v134), ∀ a, (k0_off94 v14 v19 v29 v81 v134) a + S1x16x256.size a ≤ S200x216x256.size a := fun v14 v19 v29 v45 v54 v63 v72 v81 v90 v99 v134 k0_hw3 => k0_hw3.2.2.2.2.2.2.2.2.2.2.1
theorem k0_off114_inb : ∀ (v14 : BitVec 32) (v19 : BitVec 32) (v29 : BitVec 32) (v45 : BitVec 32) (v54 : BitVec 32) (v63 : BitVec 32) (v72 : BitVec 32) (v81 : BitVec 32) (v90 : BitVec 32) (v99 : BitVec 32) (v134 : BitVec 32) (k0_hw3 : k0_chk3 v14 v19 v29 v45 v54 v63 v72 v81 v90 v99 v134), ∀ a, (k0_off114 v14 v19 v90 v134) a + S1x16x256.size a ≤ S200x216x256.size a := fun v14 v19 v29 v45 v54 v63 v72 v81 v90 v99 v134 k0_hw3 => k0_hw3.2.2.2.2.2.2.2.2.2.2.2.1
theorem k0_off115_inb : ∀ (v14 : BitVec 32) (v19 : BitVec 32) (v29 : BitVec 32) (v45 : BitVec 32) (v54 : BitVec 32) (v63 : BitVec 32) (v72 : BitVec 32) (v81 : BitVec 32) (v90 : BitVec 32) (v99 : BitVec 32) (v134 : BitVec 32) (k0_hw3 : k0_chk3 v14 v19 v29 v45 v54 v63 v72 v81 v90 v99 v134), ∀ a, (k0_off115 v14 v19 v29 v90 v134) a + S1x16x256.size a ≤ S200x216x256.size a := fun v14 v19 v29 v45 v54 v63 v72 v81 v90 v99 v134 k0_hw3 => k0_hw3.2.2.2.2.2.2.2.2.2.2.2.2.1
theorem k0_off135_inb : ∀ (v14 : BitVec 32) (v19 : BitVec 32) (v29 : BitVec 32) (v45 : BitVec 32) (v54 : BitVec 32) (v63 : BitVec 32) (v72 : BitVec 32) (v81 : BitVec 32) (v90 : BitVec 32) (v99 : BitVec 32) (v134 : BitVec 32) (k0_hw3 : k0_chk3 v14 v19 v29 v45 v54 v63 v72 v81 v90 v99 v134), ∀ a, (k0_off135 v14 v19 v99 v134) a + S1x16x256.size a ≤ S200x216x256.size a := fun v14 v19 v29 v45 v54 v63 v72 v81 v90 v99 v134 k0_hw3 => k0_hw3.2.2.2.2.2.2.2.2.2.2.2.2.2.1
theorem k0_off136_inb : ∀ (v14 : BitVec 32) (v19 : BitVec 32) (v29 : BitVec 32) (v45 : BitVec 32) (v54 : BitVec 32) (v63 : BitVec 32) (v72 : BitVec 32) (v81 : BitVec 32) (v90 : BitVec 32) (v99 : BitVec 32) (v134 : BitVec 32) (k0_hw3 : k0_chk3 v14 v19 v29 v45 v54 v63 v72 v81 v90 v99 v134), ∀ a, (k0_off136 v14 v19 v29 v99 v134) a + S1x16x256.size a ≤ S200x216x256.size a := fun v14 v19 v29 v45 v54 v63 v72 v81 v90 v99 v134 k0_hw3 => k0_hw3.2.2.2.2.2.2.2.2.2.2.2.2.2.2

def k0_off137 (k0_t1 : Fin k0_t1_loop.trips) : Fin 3 → Nat :=
  let c44 : Index := 44#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c0_i32_3 : BitVec 32 := 0#32
  let v6 : BitVec 32 := Scalar.addi v5 c0_i32_3
  let v1502 : Index := Scalar.indexCast v6
  let c0_324 : Index := 0#32
  ![44, v1502.toNat, 0]
def k0_off138 (v14 : BitVec 32) (v19 : BitVec 32) (v99 : BitVec 32) (v147 : BitVec 32) : Fin 3 → Nat :=
  let c199_i32_9 : BitVec 32 := 199#32
  let c0_i32_8 : BitVec 32 := 0#32
  let v20 : BitVec 32 := Scalar.maxsi c0_i32_8 v19
  let v21 : BitVec 32 := Scalar.minsi c199_i32_9 v20
  let v100 : BitVec 32 := Scalar.addi v21 v99
  let v1507 : Index := Scalar.indexCast v100
  let c199_i32 : BitVec 32 := 199#32
  let c0_i32_6 : BitVec 32 := 0#32
  let v15 : BitVec 32 := Scalar.maxsi c0_i32_6 v14
  let v16 : BitVec 32 := Scalar.minsi c199_i32 v15
  let v148 : BitVec 32 := Scalar.addi v16 v147
  let c3_i32_69 : BitVec 32 := 3#32
  let v151 : BitVec 32 := Scalar.shrsi v148 c3_i32_69
  let c3_i32_70 : BitVec 32 := 3#32
  let v152 : BitVec 32 := Scalar.shli v151 c3_i32_70
  let v153 : BitVec 32 := v152
  let v1508 : Index := Scalar.indexCast v153
  let c0_326 : Index := 0#32
  ![v1507.toNat, v1508.toNat, 0]
def k0_off139 (v14 : BitVec 32) (v19 : BitVec 32) (v29 : BitVec 32) (v99 : BitVec 32) (v147 : BitVec 32) : Fin 3 → Nat :=
  let c199_i32_9 : BitVec 32 := 199#32
  let c0_i32_8 : BitVec 32 := 0#32
  let v20 : BitVec 32 := Scalar.maxsi c0_i32_8 v19
  let v21 : BitVec 32 := Scalar.minsi c199_i32_9 v20
  let v100 : BitVec 32 := Scalar.addi v21 v99
  let c1_i32_44 : BitVec 32 := 1#32
  let v101 : BitVec 32 := Scalar.addi v100 c1_i32_44
  let c199_i32_13 : BitVec 32 := 199#32
  let c0_i32_12 : BitVec 32 := 0#32
  let v30 : BitVec 32 := Scalar.maxsi c0_i32_12 v29
  let v31 : BitVec 32 := Scalar.minsi c199_i32_13 v30
  let v102 : BitVec 32 := Scalar.minsi v101 v31
  let v1511 : Index := Scalar.indexCast v102
  let c199_i32 : BitVec 32 := 199#32
  let c0_i32_6 : BitVec 32 := 0#32
  let v15 : BitVec 32 := Scalar.maxsi c0_i32_6 v14
  let v16 : BitVec 32 := Scalar.minsi c199_i32 v15
  let v148 : BitVec 32 := Scalar.addi v16 v147
  let c3_i32_69 : BitVec 32 := 3#32
  let v151 : BitVec 32 := Scalar.shrsi v148 c3_i32_69
  let c3_i32_70 : BitVec 32 := 3#32
  let v152 : BitVec 32 := Scalar.shli v151 c3_i32_70
  let v153 : BitVec 32 := v152
  let v1512 : Index := Scalar.indexCast v153
  let c0_327 : Index := 0#32
  ![v1511.toNat, v1512.toNat, 0]

def k0_chk4 (v14 : BitVec 32) (v19 : BitVec 32) (v29 : BitVec 32) (v45 : BitVec 32) (v54 : BitVec 32) (v63 : BitVec 32) (v72 : BitVec 32) (v81 : BitVec 32) (v90 : BitVec 32) (v99 : BitVec 32) (v147 : BitVec 32) : Prop :=
  (8 ∣ (k0_mult5 v14 v147).toNat) ∧
  (∀ a, (k0_off12 v14 v19 v45 v147) a + S1x16x256.size a ≤ S200x216x256.size a) ∧
  (∀ a, (k0_off13 v14 v19 v29 v45 v147) a + S1x16x256.size a ≤ S200x216x256.size a) ∧
  (∀ a, (k0_off33 v14 v19 v54 v147) a + S1x16x256.size a ≤ S200x216x256.size a) ∧
  (∀ a, (k0_off34 v14 v19 v29 v54 v147) a + S1x16x256.size a ≤ S200x216x256.size a) ∧
  (∀ a, (k0_off54 v14 v19 v63 v147) a + S1x16x256.size a ≤ S200x216x256.size a) ∧
  (∀ a, (k0_off55 v14 v19 v29 v63 v147) a + S1x16x256.size a ≤ S200x216x256.size a) ∧
  (∀ a, (k0_off75 v14 v19 v72 v147) a + S1x16x256.size a ≤ S200x216x256.size a) ∧
  (∀ a, (k0_off76 v14 v19 v29 v72 v147) a + S1x16x256.size a ≤ S200x216x256.size a) ∧
  (∀ a, (k0_off96 v14 v19 v81 v147) a + S1x16x256.size a ≤ S200x216x256.size a) ∧
  (∀ a, (k0_off97 v14 v19 v29 v81 v147) a + S1x16x256.size a ≤ S200x216x256.size a) ∧
  (∀ a, (k0_off117 v14 v19 v90 v147) a + S1x16x256.size a ≤ S200x216x256.size a) ∧
  (∀ a, (k0_off118 v14 v19 v29 v90 v147) a + S1x16x256.size a ≤ S200x216x256.size a) ∧
  (∀ a, (k0_off138 v14 v19 v99 v147) a + S1x16x256.size a ≤ S200x216x256.size a) ∧
  (∀ a, (k0_off139 v14 v19 v29 v99 v147) a + S1x16x256.size a ≤ S200x216x256.size a)
theorem k0_mult5_dvd : ∀ (v14 : BitVec 32) (v19 : BitVec 32) (v29 : BitVec 32) (v45 : BitVec 32) (v54 : BitVec 32) (v63 : BitVec 32) (v72 : BitVec 32) (v81 : BitVec 32) (v90 : BitVec 32) (v99 : BitVec 32) (v147 : BitVec 32) (k0_hw4 : k0_chk4 v14 v19 v29 v45 v54 v63 v72 v81 v90 v99 v147), 8 ∣ (k0_mult5 v14 v147).toNat := fun v14 v19 v29 v45 v54 v63 v72 v81 v90 v99 v147 k0_hw4 => k0_hw4.1
theorem k0_off12_inb : ∀ (v14 : BitVec 32) (v19 : BitVec 32) (v29 : BitVec 32) (v45 : BitVec 32) (v54 : BitVec 32) (v63 : BitVec 32) (v72 : BitVec 32) (v81 : BitVec 32) (v90 : BitVec 32) (v99 : BitVec 32) (v147 : BitVec 32) (k0_hw4 : k0_chk4 v14 v19 v29 v45 v54 v63 v72 v81 v90 v99 v147), ∀ a, (k0_off12 v14 v19 v45 v147) a + S1x16x256.size a ≤ S200x216x256.size a := fun v14 v19 v29 v45 v54 v63 v72 v81 v90 v99 v147 k0_hw4 => k0_hw4.2.1
theorem k0_off13_inb : ∀ (v14 : BitVec 32) (v19 : BitVec 32) (v29 : BitVec 32) (v45 : BitVec 32) (v54 : BitVec 32) (v63 : BitVec 32) (v72 : BitVec 32) (v81 : BitVec 32) (v90 : BitVec 32) (v99 : BitVec 32) (v147 : BitVec 32) (k0_hw4 : k0_chk4 v14 v19 v29 v45 v54 v63 v72 v81 v90 v99 v147), ∀ a, (k0_off13 v14 v19 v29 v45 v147) a + S1x16x256.size a ≤ S200x216x256.size a := fun v14 v19 v29 v45 v54 v63 v72 v81 v90 v99 v147 k0_hw4 => k0_hw4.2.2.1
theorem k0_off33_inb : ∀ (v14 : BitVec 32) (v19 : BitVec 32) (v29 : BitVec 32) (v45 : BitVec 32) (v54 : BitVec 32) (v63 : BitVec 32) (v72 : BitVec 32) (v81 : BitVec 32) (v90 : BitVec 32) (v99 : BitVec 32) (v147 : BitVec 32) (k0_hw4 : k0_chk4 v14 v19 v29 v45 v54 v63 v72 v81 v90 v99 v147), ∀ a, (k0_off33 v14 v19 v54 v147) a + S1x16x256.size a ≤ S200x216x256.size a := fun v14 v19 v29 v45 v54 v63 v72 v81 v90 v99 v147 k0_hw4 => k0_hw4.2.2.2.1
theorem k0_off34_inb : ∀ (v14 : BitVec 32) (v19 : BitVec 32) (v29 : BitVec 32) (v45 : BitVec 32) (v54 : BitVec 32) (v63 : BitVec 32) (v72 : BitVec 32) (v81 : BitVec 32) (v90 : BitVec 32) (v99 : BitVec 32) (v147 : BitVec 32) (k0_hw4 : k0_chk4 v14 v19 v29 v45 v54 v63 v72 v81 v90 v99 v147), ∀ a, (k0_off34 v14 v19 v29 v54 v147) a + S1x16x256.size a ≤ S200x216x256.size a := fun v14 v19 v29 v45 v54 v63 v72 v81 v90 v99 v147 k0_hw4 => k0_hw4.2.2.2.2.1
theorem k0_off54_inb : ∀ (v14 : BitVec 32) (v19 : BitVec 32) (v29 : BitVec 32) (v45 : BitVec 32) (v54 : BitVec 32) (v63 : BitVec 32) (v72 : BitVec 32) (v81 : BitVec 32) (v90 : BitVec 32) (v99 : BitVec 32) (v147 : BitVec 32) (k0_hw4 : k0_chk4 v14 v19 v29 v45 v54 v63 v72 v81 v90 v99 v147), ∀ a, (k0_off54 v14 v19 v63 v147) a + S1x16x256.size a ≤ S200x216x256.size a := fun v14 v19 v29 v45 v54 v63 v72 v81 v90 v99 v147 k0_hw4 => k0_hw4.2.2.2.2.2.1
theorem k0_off55_inb : ∀ (v14 : BitVec 32) (v19 : BitVec 32) (v29 : BitVec 32) (v45 : BitVec 32) (v54 : BitVec 32) (v63 : BitVec 32) (v72 : BitVec 32) (v81 : BitVec 32) (v90 : BitVec 32) (v99 : BitVec 32) (v147 : BitVec 32) (k0_hw4 : k0_chk4 v14 v19 v29 v45 v54 v63 v72 v81 v90 v99 v147), ∀ a, (k0_off55 v14 v19 v29 v63 v147) a + S1x16x256.size a ≤ S200x216x256.size a := fun v14 v19 v29 v45 v54 v63 v72 v81 v90 v99 v147 k0_hw4 => k0_hw4.2.2.2.2.2.2.1
theorem k0_off75_inb : ∀ (v14 : BitVec 32) (v19 : BitVec 32) (v29 : BitVec 32) (v45 : BitVec 32) (v54 : BitVec 32) (v63 : BitVec 32) (v72 : BitVec 32) (v81 : BitVec 32) (v90 : BitVec 32) (v99 : BitVec 32) (v147 : BitVec 32) (k0_hw4 : k0_chk4 v14 v19 v29 v45 v54 v63 v72 v81 v90 v99 v147), ∀ a, (k0_off75 v14 v19 v72 v147) a + S1x16x256.size a ≤ S200x216x256.size a := fun v14 v19 v29 v45 v54 v63 v72 v81 v90 v99 v147 k0_hw4 => k0_hw4.2.2.2.2.2.2.2.1
theorem k0_off76_inb : ∀ (v14 : BitVec 32) (v19 : BitVec 32) (v29 : BitVec 32) (v45 : BitVec 32) (v54 : BitVec 32) (v63 : BitVec 32) (v72 : BitVec 32) (v81 : BitVec 32) (v90 : BitVec 32) (v99 : BitVec 32) (v147 : BitVec 32) (k0_hw4 : k0_chk4 v14 v19 v29 v45 v54 v63 v72 v81 v90 v99 v147), ∀ a, (k0_off76 v14 v19 v29 v72 v147) a + S1x16x256.size a ≤ S200x216x256.size a := fun v14 v19 v29 v45 v54 v63 v72 v81 v90 v99 v147 k0_hw4 => k0_hw4.2.2.2.2.2.2.2.2.1
theorem k0_off96_inb : ∀ (v14 : BitVec 32) (v19 : BitVec 32) (v29 : BitVec 32) (v45 : BitVec 32) (v54 : BitVec 32) (v63 : BitVec 32) (v72 : BitVec 32) (v81 : BitVec 32) (v90 : BitVec 32) (v99 : BitVec 32) (v147 : BitVec 32) (k0_hw4 : k0_chk4 v14 v19 v29 v45 v54 v63 v72 v81 v90 v99 v147), ∀ a, (k0_off96 v14 v19 v81 v147) a + S1x16x256.size a ≤ S200x216x256.size a := fun v14 v19 v29 v45 v54 v63 v72 v81 v90 v99 v147 k0_hw4 => k0_hw4.2.2.2.2.2.2.2.2.2.1
theorem k0_off97_inb : ∀ (v14 : BitVec 32) (v19 : BitVec 32) (v29 : BitVec 32) (v45 : BitVec 32) (v54 : BitVec 32) (v63 : BitVec 32) (v72 : BitVec 32) (v81 : BitVec 32) (v90 : BitVec 32) (v99 : BitVec 32) (v147 : BitVec 32) (k0_hw4 : k0_chk4 v14 v19 v29 v45 v54 v63 v72 v81 v90 v99 v147), ∀ a, (k0_off97 v14 v19 v29 v81 v147) a + S1x16x256.size a ≤ S200x216x256.size a := fun v14 v19 v29 v45 v54 v63 v72 v81 v90 v99 v147 k0_hw4 => k0_hw4.2.2.2.2.2.2.2.2.2.2.1
theorem k0_off117_inb : ∀ (v14 : BitVec 32) (v19 : BitVec 32) (v29 : BitVec 32) (v45 : BitVec 32) (v54 : BitVec 32) (v63 : BitVec 32) (v72 : BitVec 32) (v81 : BitVec 32) (v90 : BitVec 32) (v99 : BitVec 32) (v147 : BitVec 32) (k0_hw4 : k0_chk4 v14 v19 v29 v45 v54 v63 v72 v81 v90 v99 v147), ∀ a, (k0_off117 v14 v19 v90 v147) a + S1x16x256.size a ≤ S200x216x256.size a := fun v14 v19 v29 v45 v54 v63 v72 v81 v90 v99 v147 k0_hw4 => k0_hw4.2.2.2.2.2.2.2.2.2.2.2.1
theorem k0_off118_inb : ∀ (v14 : BitVec 32) (v19 : BitVec 32) (v29 : BitVec 32) (v45 : BitVec 32) (v54 : BitVec 32) (v63 : BitVec 32) (v72 : BitVec 32) (v81 : BitVec 32) (v90 : BitVec 32) (v99 : BitVec 32) (v147 : BitVec 32) (k0_hw4 : k0_chk4 v14 v19 v29 v45 v54 v63 v72 v81 v90 v99 v147), ∀ a, (k0_off118 v14 v19 v29 v90 v147) a + S1x16x256.size a ≤ S200x216x256.size a := fun v14 v19 v29 v45 v54 v63 v72 v81 v90 v99 v147 k0_hw4 => k0_hw4.2.2.2.2.2.2.2.2.2.2.2.2.1
theorem k0_off138_inb : ∀ (v14 : BitVec 32) (v19 : BitVec 32) (v29 : BitVec 32) (v45 : BitVec 32) (v54 : BitVec 32) (v63 : BitVec 32) (v72 : BitVec 32) (v81 : BitVec 32) (v90 : BitVec 32) (v99 : BitVec 32) (v147 : BitVec 32) (k0_hw4 : k0_chk4 v14 v19 v29 v45 v54 v63 v72 v81 v90 v99 v147), ∀ a, (k0_off138 v14 v19 v99 v147) a + S1x16x256.size a ≤ S200x216x256.size a := fun v14 v19 v29 v45 v54 v63 v72 v81 v90 v99 v147 k0_hw4 => k0_hw4.2.2.2.2.2.2.2.2.2.2.2.2.2.1
theorem k0_off139_inb : ∀ (v14 : BitVec 32) (v19 : BitVec 32) (v29 : BitVec 32) (v45 : BitVec 32) (v54 : BitVec 32) (v63 : BitVec 32) (v72 : BitVec 32) (v81 : BitVec 32) (v90 : BitVec 32) (v99 : BitVec 32) (v147 : BitVec 32) (k0_hw4 : k0_chk4 v14 v19 v29 v45 v54 v63 v72 v81 v90 v99 v147), ∀ a, (k0_off139 v14 v19 v29 v99 v147) a + S1x16x256.size a ≤ S200x216x256.size a := fun v14 v19 v29 v45 v54 v63 v72 v81 v90 v99 v147 k0_hw4 => k0_hw4.2.2.2.2.2.2.2.2.2.2.2.2.2.2

def k0_off140 (k0_t1 : Fin k0_t1_loop.trips) : Fin 3 → Nat :=
  let c45 : Index := 45#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c0_i32_3 : BitVec 32 := 0#32
  let v6 : BitVec 32 := Scalar.addi v5 c0_i32_3
  let v1531 : Index := Scalar.indexCast v6
  let c0_329 : Index := 0#32
  ![45, v1531.toNat, 0]
def k0_off141 (v14 : BitVec 32) (v19 : BitVec 32) (v99 : BitVec 32) (v160 : BitVec 32) : Fin 3 → Nat :=
  let c199_i32_9 : BitVec 32 := 199#32
  let c0_i32_8 : BitVec 32 := 0#32
  let v20 : BitVec 32 := Scalar.maxsi c0_i32_8 v19
  let v21 : BitVec 32 := Scalar.minsi c199_i32_9 v20
  let v100 : BitVec 32 := Scalar.addi v21 v99
  let v1536 : Index := Scalar.indexCast v100
  let c199_i32 : BitVec 32 := 199#32
  let c0_i32_6 : BitVec 32 := 0#32
  let v15 : BitVec 32 := Scalar.maxsi c0_i32_6 v14
  let v16 : BitVec 32 := Scalar.minsi c199_i32 v15
  let v161 : BitVec 32 := Scalar.addi v16 v160
  let c3_i32_76 : BitVec 32 := 3#32
  let v164 : BitVec 32 := Scalar.shrsi v161 c3_i32_76
  let c3_i32_77 : BitVec 32 := 3#32
  let v165 : BitVec 32 := Scalar.shli v164 c3_i32_77
  let v166 : BitVec 32 := v165
  let v1537 : Index := Scalar.indexCast v166
  let c0_331 : Index := 0#32
  ![v1536.toNat, v1537.toNat, 0]
def k0_off142 (v14 : BitVec 32) (v19 : BitVec 32) (v29 : BitVec 32) (v99 : BitVec 32) (v160 : BitVec 32) : Fin 3 → Nat :=
  let c199_i32_9 : BitVec 32 := 199#32
  let c0_i32_8 : BitVec 32 := 0#32
  let v20 : BitVec 32 := Scalar.maxsi c0_i32_8 v19
  let v21 : BitVec 32 := Scalar.minsi c199_i32_9 v20
  let v100 : BitVec 32 := Scalar.addi v21 v99
  let c1_i32_44 : BitVec 32 := 1#32
  let v101 : BitVec 32 := Scalar.addi v100 c1_i32_44
  let c199_i32_13 : BitVec 32 := 199#32
  let c0_i32_12 : BitVec 32 := 0#32
  let v30 : BitVec 32 := Scalar.maxsi c0_i32_12 v29
  let v31 : BitVec 32 := Scalar.minsi c199_i32_13 v30
  let v102 : BitVec 32 := Scalar.minsi v101 v31
  let v1540 : Index := Scalar.indexCast v102
  let c199_i32 : BitVec 32 := 199#32
  let c0_i32_6 : BitVec 32 := 0#32
  let v15 : BitVec 32 := Scalar.maxsi c0_i32_6 v14
  let v16 : BitVec 32 := Scalar.minsi c199_i32 v15
  let v161 : BitVec 32 := Scalar.addi v16 v160
  let c3_i32_76 : BitVec 32 := 3#32
  let v164 : BitVec 32 := Scalar.shrsi v161 c3_i32_76
  let c3_i32_77 : BitVec 32 := 3#32
  let v165 : BitVec 32 := Scalar.shli v164 c3_i32_77
  let v166 : BitVec 32 := v165
  let v1541 : Index := Scalar.indexCast v166
  let c0_332 : Index := 0#32
  ![v1540.toNat, v1541.toNat, 0]

def k0_chk5 (v14 : BitVec 32) (v19 : BitVec 32) (v29 : BitVec 32) (v45 : BitVec 32) (v54 : BitVec 32) (v63 : BitVec 32) (v72 : BitVec 32) (v81 : BitVec 32) (v90 : BitVec 32) (v99 : BitVec 32) (v160 : BitVec 32) : Prop :=
  (8 ∣ (k0_mult6 v14 v160).toNat) ∧
  (∀ a, (k0_off15 v14 v19 v45 v160) a + S1x16x256.size a ≤ S200x216x256.size a) ∧
  (∀ a, (k0_off16 v14 v19 v29 v45 v160) a + S1x16x256.size a ≤ S200x216x256.size a) ∧
  (∀ a, (k0_off36 v14 v19 v54 v160) a + S1x16x256.size a ≤ S200x216x256.size a) ∧
  (∀ a, (k0_off37 v14 v19 v29 v54 v160) a + S1x16x256.size a ≤ S200x216x256.size a) ∧
  (∀ a, (k0_off57 v14 v19 v63 v160) a + S1x16x256.size a ≤ S200x216x256.size a) ∧
  (∀ a, (k0_off58 v14 v19 v29 v63 v160) a + S1x16x256.size a ≤ S200x216x256.size a) ∧
  (∀ a, (k0_off78 v14 v19 v72 v160) a + S1x16x256.size a ≤ S200x216x256.size a) ∧
  (∀ a, (k0_off79 v14 v19 v29 v72 v160) a + S1x16x256.size a ≤ S200x216x256.size a) ∧
  (∀ a, (k0_off99 v14 v19 v81 v160) a + S1x16x256.size a ≤ S200x216x256.size a) ∧
  (∀ a, (k0_off100 v14 v19 v29 v81 v160) a + S1x16x256.size a ≤ S200x216x256.size a) ∧
  (∀ a, (k0_off120 v14 v19 v90 v160) a + S1x16x256.size a ≤ S200x216x256.size a) ∧
  (∀ a, (k0_off121 v14 v19 v29 v90 v160) a + S1x16x256.size a ≤ S200x216x256.size a) ∧
  (∀ a, (k0_off141 v14 v19 v99 v160) a + S1x16x256.size a ≤ S200x216x256.size a) ∧
  (∀ a, (k0_off142 v14 v19 v29 v99 v160) a + S1x16x256.size a ≤ S200x216x256.size a)
theorem k0_mult6_dvd : ∀ (v14 : BitVec 32) (v19 : BitVec 32) (v29 : BitVec 32) (v45 : BitVec 32) (v54 : BitVec 32) (v63 : BitVec 32) (v72 : BitVec 32) (v81 : BitVec 32) (v90 : BitVec 32) (v99 : BitVec 32) (v160 : BitVec 32) (k0_hw5 : k0_chk5 v14 v19 v29 v45 v54 v63 v72 v81 v90 v99 v160), 8 ∣ (k0_mult6 v14 v160).toNat := fun v14 v19 v29 v45 v54 v63 v72 v81 v90 v99 v160 k0_hw5 => k0_hw5.1
theorem k0_off15_inb : ∀ (v14 : BitVec 32) (v19 : BitVec 32) (v29 : BitVec 32) (v45 : BitVec 32) (v54 : BitVec 32) (v63 : BitVec 32) (v72 : BitVec 32) (v81 : BitVec 32) (v90 : BitVec 32) (v99 : BitVec 32) (v160 : BitVec 32) (k0_hw5 : k0_chk5 v14 v19 v29 v45 v54 v63 v72 v81 v90 v99 v160), ∀ a, (k0_off15 v14 v19 v45 v160) a + S1x16x256.size a ≤ S200x216x256.size a := fun v14 v19 v29 v45 v54 v63 v72 v81 v90 v99 v160 k0_hw5 => k0_hw5.2.1
theorem k0_off16_inb : ∀ (v14 : BitVec 32) (v19 : BitVec 32) (v29 : BitVec 32) (v45 : BitVec 32) (v54 : BitVec 32) (v63 : BitVec 32) (v72 : BitVec 32) (v81 : BitVec 32) (v90 : BitVec 32) (v99 : BitVec 32) (v160 : BitVec 32) (k0_hw5 : k0_chk5 v14 v19 v29 v45 v54 v63 v72 v81 v90 v99 v160), ∀ a, (k0_off16 v14 v19 v29 v45 v160) a + S1x16x256.size a ≤ S200x216x256.size a := fun v14 v19 v29 v45 v54 v63 v72 v81 v90 v99 v160 k0_hw5 => k0_hw5.2.2.1
theorem k0_off36_inb : ∀ (v14 : BitVec 32) (v19 : BitVec 32) (v29 : BitVec 32) (v45 : BitVec 32) (v54 : BitVec 32) (v63 : BitVec 32) (v72 : BitVec 32) (v81 : BitVec 32) (v90 : BitVec 32) (v99 : BitVec 32) (v160 : BitVec 32) (k0_hw5 : k0_chk5 v14 v19 v29 v45 v54 v63 v72 v81 v90 v99 v160), ∀ a, (k0_off36 v14 v19 v54 v160) a + S1x16x256.size a ≤ S200x216x256.size a := fun v14 v19 v29 v45 v54 v63 v72 v81 v90 v99 v160 k0_hw5 => k0_hw5.2.2.2.1
theorem k0_off37_inb : ∀ (v14 : BitVec 32) (v19 : BitVec 32) (v29 : BitVec 32) (v45 : BitVec 32) (v54 : BitVec 32) (v63 : BitVec 32) (v72 : BitVec 32) (v81 : BitVec 32) (v90 : BitVec 32) (v99 : BitVec 32) (v160 : BitVec 32) (k0_hw5 : k0_chk5 v14 v19 v29 v45 v54 v63 v72 v81 v90 v99 v160), ∀ a, (k0_off37 v14 v19 v29 v54 v160) a + S1x16x256.size a ≤ S200x216x256.size a := fun v14 v19 v29 v45 v54 v63 v72 v81 v90 v99 v160 k0_hw5 => k0_hw5.2.2.2.2.1
theorem k0_off57_inb : ∀ (v14 : BitVec 32) (v19 : BitVec 32) (v29 : BitVec 32) (v45 : BitVec 32) (v54 : BitVec 32) (v63 : BitVec 32) (v72 : BitVec 32) (v81 : BitVec 32) (v90 : BitVec 32) (v99 : BitVec 32) (v160 : BitVec 32) (k0_hw5 : k0_chk5 v14 v19 v29 v45 v54 v63 v72 v81 v90 v99 v160), ∀ a, (k0_off57 v14 v19 v63 v160) a + S1x16x256.size a ≤ S200x216x256.size a := fun v14 v19 v29 v45 v54 v63 v72 v81 v90 v99 v160 k0_hw5 => k0_hw5.2.2.2.2.2.1
theorem k0_off58_inb : ∀ (v14 : BitVec 32) (v19 : BitVec 32) (v29 : BitVec 32) (v45 : BitVec 32) (v54 : BitVec 32) (v63 : BitVec 32) (v72 : BitVec 32) (v81 : BitVec 32) (v90 : BitVec 32) (v99 : BitVec 32) (v160 : BitVec 32) (k0_hw5 : k0_chk5 v14 v19 v29 v45 v54 v63 v72 v81 v90 v99 v160), ∀ a, (k0_off58 v14 v19 v29 v63 v160) a + S1x16x256.size a ≤ S200x216x256.size a := fun v14 v19 v29 v45 v54 v63 v72 v81 v90 v99 v160 k0_hw5 => k0_hw5.2.2.2.2.2.2.1
theorem k0_off78_inb : ∀ (v14 : BitVec 32) (v19 : BitVec 32) (v29 : BitVec 32) (v45 : BitVec 32) (v54 : BitVec 32) (v63 : BitVec 32) (v72 : BitVec 32) (v81 : BitVec 32) (v90 : BitVec 32) (v99 : BitVec 32) (v160 : BitVec 32) (k0_hw5 : k0_chk5 v14 v19 v29 v45 v54 v63 v72 v81 v90 v99 v160), ∀ a, (k0_off78 v14 v19 v72 v160) a + S1x16x256.size a ≤ S200x216x256.size a := fun v14 v19 v29 v45 v54 v63 v72 v81 v90 v99 v160 k0_hw5 => k0_hw5.2.2.2.2.2.2.2.1
theorem k0_off79_inb : ∀ (v14 : BitVec 32) (v19 : BitVec 32) (v29 : BitVec 32) (v45 : BitVec 32) (v54 : BitVec 32) (v63 : BitVec 32) (v72 : BitVec 32) (v81 : BitVec 32) (v90 : BitVec 32) (v99 : BitVec 32) (v160 : BitVec 32) (k0_hw5 : k0_chk5 v14 v19 v29 v45 v54 v63 v72 v81 v90 v99 v160), ∀ a, (k0_off79 v14 v19 v29 v72 v160) a + S1x16x256.size a ≤ S200x216x256.size a := fun v14 v19 v29 v45 v54 v63 v72 v81 v90 v99 v160 k0_hw5 => k0_hw5.2.2.2.2.2.2.2.2.1
theorem k0_off99_inb : ∀ (v14 : BitVec 32) (v19 : BitVec 32) (v29 : BitVec 32) (v45 : BitVec 32) (v54 : BitVec 32) (v63 : BitVec 32) (v72 : BitVec 32) (v81 : BitVec 32) (v90 : BitVec 32) (v99 : BitVec 32) (v160 : BitVec 32) (k0_hw5 : k0_chk5 v14 v19 v29 v45 v54 v63 v72 v81 v90 v99 v160), ∀ a, (k0_off99 v14 v19 v81 v160) a + S1x16x256.size a ≤ S200x216x256.size a := fun v14 v19 v29 v45 v54 v63 v72 v81 v90 v99 v160 k0_hw5 => k0_hw5.2.2.2.2.2.2.2.2.2.1
theorem k0_off100_inb : ∀ (v14 : BitVec 32) (v19 : BitVec 32) (v29 : BitVec 32) (v45 : BitVec 32) (v54 : BitVec 32) (v63 : BitVec 32) (v72 : BitVec 32) (v81 : BitVec 32) (v90 : BitVec 32) (v99 : BitVec 32) (v160 : BitVec 32) (k0_hw5 : k0_chk5 v14 v19 v29 v45 v54 v63 v72 v81 v90 v99 v160), ∀ a, (k0_off100 v14 v19 v29 v81 v160) a + S1x16x256.size a ≤ S200x216x256.size a := fun v14 v19 v29 v45 v54 v63 v72 v81 v90 v99 v160 k0_hw5 => k0_hw5.2.2.2.2.2.2.2.2.2.2.1
theorem k0_off120_inb : ∀ (v14 : BitVec 32) (v19 : BitVec 32) (v29 : BitVec 32) (v45 : BitVec 32) (v54 : BitVec 32) (v63 : BitVec 32) (v72 : BitVec 32) (v81 : BitVec 32) (v90 : BitVec 32) (v99 : BitVec 32) (v160 : BitVec 32) (k0_hw5 : k0_chk5 v14 v19 v29 v45 v54 v63 v72 v81 v90 v99 v160), ∀ a, (k0_off120 v14 v19 v90 v160) a + S1x16x256.size a ≤ S200x216x256.size a := fun v14 v19 v29 v45 v54 v63 v72 v81 v90 v99 v160 k0_hw5 => k0_hw5.2.2.2.2.2.2.2.2.2.2.2.1
theorem k0_off121_inb : ∀ (v14 : BitVec 32) (v19 : BitVec 32) (v29 : BitVec 32) (v45 : BitVec 32) (v54 : BitVec 32) (v63 : BitVec 32) (v72 : BitVec 32) (v81 : BitVec 32) (v90 : BitVec 32) (v99 : BitVec 32) (v160 : BitVec 32) (k0_hw5 : k0_chk5 v14 v19 v29 v45 v54 v63 v72 v81 v90 v99 v160), ∀ a, (k0_off121 v14 v19 v29 v90 v160) a + S1x16x256.size a ≤ S200x216x256.size a := fun v14 v19 v29 v45 v54 v63 v72 v81 v90 v99 v160 k0_hw5 => k0_hw5.2.2.2.2.2.2.2.2.2.2.2.2.1
theorem k0_off141_inb : ∀ (v14 : BitVec 32) (v19 : BitVec 32) (v29 : BitVec 32) (v45 : BitVec 32) (v54 : BitVec 32) (v63 : BitVec 32) (v72 : BitVec 32) (v81 : BitVec 32) (v90 : BitVec 32) (v99 : BitVec 32) (v160 : BitVec 32) (k0_hw5 : k0_chk5 v14 v19 v29 v45 v54 v63 v72 v81 v90 v99 v160), ∀ a, (k0_off141 v14 v19 v99 v160) a + S1x16x256.size a ≤ S200x216x256.size a := fun v14 v19 v29 v45 v54 v63 v72 v81 v90 v99 v160 k0_hw5 => k0_hw5.2.2.2.2.2.2.2.2.2.2.2.2.2.1
theorem k0_off142_inb : ∀ (v14 : BitVec 32) (v19 : BitVec 32) (v29 : BitVec 32) (v45 : BitVec 32) (v54 : BitVec 32) (v63 : BitVec 32) (v72 : BitVec 32) (v81 : BitVec 32) (v90 : BitVec 32) (v99 : BitVec 32) (v160 : BitVec 32) (k0_hw5 : k0_chk5 v14 v19 v29 v45 v54 v63 v72 v81 v90 v99 v160), ∀ a, (k0_off142 v14 v19 v29 v99 v160) a + S1x16x256.size a ≤ S200x216x256.size a := fun v14 v19 v29 v45 v54 v63 v72 v81 v90 v99 v160 k0_hw5 => k0_hw5.2.2.2.2.2.2.2.2.2.2.2.2.2.2

def k0_off143 (k0_t1 : Fin k0_t1_loop.trips) : Fin 3 → Nat :=
  let c46 : Index := 46#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c0_i32_3 : BitVec 32 := 0#32
  let v6 : BitVec 32 := Scalar.addi v5 c0_i32_3
  let v1560 : Index := Scalar.indexCast v6
  let c0_334 : Index := 0#32
  ![46, v1560.toNat, 0]
def k0_off144 (v14 : BitVec 32) (v19 : BitVec 32) (v99 : BitVec 32) (v173 : BitVec 32) : Fin 3 → Nat :=
  let c199_i32_9 : BitVec 32 := 199#32
  let c0_i32_8 : BitVec 32 := 0#32
  let v20 : BitVec 32 := Scalar.maxsi c0_i32_8 v19
  let v21 : BitVec 32 := Scalar.minsi c199_i32_9 v20
  let v100 : BitVec 32 := Scalar.addi v21 v99
  let v1565 : Index := Scalar.indexCast v100
  let c199_i32 : BitVec 32 := 199#32
  let c0_i32_6 : BitVec 32 := 0#32
  let v15 : BitVec 32 := Scalar.maxsi c0_i32_6 v14
  let v16 : BitVec 32 := Scalar.minsi c199_i32 v15
  let v174 : BitVec 32 := Scalar.addi v16 v173
  let c3_i32_83 : BitVec 32 := 3#32
  let v177 : BitVec 32 := Scalar.shrsi v174 c3_i32_83
  let c3_i32_84 : BitVec 32 := 3#32
  let v178 : BitVec 32 := Scalar.shli v177 c3_i32_84
  let v179 : BitVec 32 := v178
  let v1566 : Index := Scalar.indexCast v179
  let c0_336 : Index := 0#32
  ![v1565.toNat, v1566.toNat, 0]
def k0_off145 (v14 : BitVec 32) (v19 : BitVec 32) (v29 : BitVec 32) (v99 : BitVec 32) (v173 : BitVec 32) : Fin 3 → Nat :=
  let c199_i32_9 : BitVec 32 := 199#32
  let c0_i32_8 : BitVec 32 := 0#32
  let v20 : BitVec 32 := Scalar.maxsi c0_i32_8 v19
  let v21 : BitVec 32 := Scalar.minsi c199_i32_9 v20
  let v100 : BitVec 32 := Scalar.addi v21 v99
  let c1_i32_44 : BitVec 32 := 1#32
  let v101 : BitVec 32 := Scalar.addi v100 c1_i32_44
  let c199_i32_13 : BitVec 32 := 199#32
  let c0_i32_12 : BitVec 32 := 0#32
  let v30 : BitVec 32 := Scalar.maxsi c0_i32_12 v29
  let v31 : BitVec 32 := Scalar.minsi c199_i32_13 v30
  let v102 : BitVec 32 := Scalar.minsi v101 v31
  let v1569 : Index := Scalar.indexCast v102
  let c199_i32 : BitVec 32 := 199#32
  let c0_i32_6 : BitVec 32 := 0#32
  let v15 : BitVec 32 := Scalar.maxsi c0_i32_6 v14
  let v16 : BitVec 32 := Scalar.minsi c199_i32 v15
  let v174 : BitVec 32 := Scalar.addi v16 v173
  let c3_i32_83 : BitVec 32 := 3#32
  let v177 : BitVec 32 := Scalar.shrsi v174 c3_i32_83
  let c3_i32_84 : BitVec 32 := 3#32
  let v178 : BitVec 32 := Scalar.shli v177 c3_i32_84
  let v179 : BitVec 32 := v178
  let v1570 : Index := Scalar.indexCast v179
  let c0_337 : Index := 0#32
  ![v1569.toNat, v1570.toNat, 0]

def k0_chk6 (v14 : BitVec 32) (v19 : BitVec 32) (v29 : BitVec 32) (v45 : BitVec 32) (v54 : BitVec 32) (v63 : BitVec 32) (v72 : BitVec 32) (v81 : BitVec 32) (v90 : BitVec 32) (v99 : BitVec 32) (v173 : BitVec 32) : Prop :=
  (8 ∣ (k0_mult7 v14 v173).toNat) ∧
  (∀ a, (k0_off18 v14 v19 v45 v173) a + S1x16x256.size a ≤ S200x216x256.size a) ∧
  (∀ a, (k0_off19 v14 v19 v29 v45 v173) a + S1x16x256.size a ≤ S200x216x256.size a) ∧
  (∀ a, (k0_off39 v14 v19 v54 v173) a + S1x16x256.size a ≤ S200x216x256.size a) ∧
  (∀ a, (k0_off40 v14 v19 v29 v54 v173) a + S1x16x256.size a ≤ S200x216x256.size a) ∧
  (∀ a, (k0_off60 v14 v19 v63 v173) a + S1x16x256.size a ≤ S200x216x256.size a) ∧
  (∀ a, (k0_off61 v14 v19 v29 v63 v173) a + S1x16x256.size a ≤ S200x216x256.size a) ∧
  (∀ a, (k0_off81 v14 v19 v72 v173) a + S1x16x256.size a ≤ S200x216x256.size a) ∧
  (∀ a, (k0_off82 v14 v19 v29 v72 v173) a + S1x16x256.size a ≤ S200x216x256.size a) ∧
  (∀ a, (k0_off102 v14 v19 v81 v173) a + S1x16x256.size a ≤ S200x216x256.size a) ∧
  (∀ a, (k0_off103 v14 v19 v29 v81 v173) a + S1x16x256.size a ≤ S200x216x256.size a) ∧
  (∀ a, (k0_off123 v14 v19 v90 v173) a + S1x16x256.size a ≤ S200x216x256.size a) ∧
  (∀ a, (k0_off124 v14 v19 v29 v90 v173) a + S1x16x256.size a ≤ S200x216x256.size a) ∧
  (∀ a, (k0_off144 v14 v19 v99 v173) a + S1x16x256.size a ≤ S200x216x256.size a) ∧
  (∀ a, (k0_off145 v14 v19 v29 v99 v173) a + S1x16x256.size a ≤ S200x216x256.size a)
theorem k0_mult7_dvd : ∀ (v14 : BitVec 32) (v19 : BitVec 32) (v29 : BitVec 32) (v45 : BitVec 32) (v54 : BitVec 32) (v63 : BitVec 32) (v72 : BitVec 32) (v81 : BitVec 32) (v90 : BitVec 32) (v99 : BitVec 32) (v173 : BitVec 32) (k0_hw6 : k0_chk6 v14 v19 v29 v45 v54 v63 v72 v81 v90 v99 v173), 8 ∣ (k0_mult7 v14 v173).toNat := fun v14 v19 v29 v45 v54 v63 v72 v81 v90 v99 v173 k0_hw6 => k0_hw6.1
theorem k0_off18_inb : ∀ (v14 : BitVec 32) (v19 : BitVec 32) (v29 : BitVec 32) (v45 : BitVec 32) (v54 : BitVec 32) (v63 : BitVec 32) (v72 : BitVec 32) (v81 : BitVec 32) (v90 : BitVec 32) (v99 : BitVec 32) (v173 : BitVec 32) (k0_hw6 : k0_chk6 v14 v19 v29 v45 v54 v63 v72 v81 v90 v99 v173), ∀ a, (k0_off18 v14 v19 v45 v173) a + S1x16x256.size a ≤ S200x216x256.size a := fun v14 v19 v29 v45 v54 v63 v72 v81 v90 v99 v173 k0_hw6 => k0_hw6.2.1
theorem k0_off19_inb : ∀ (v14 : BitVec 32) (v19 : BitVec 32) (v29 : BitVec 32) (v45 : BitVec 32) (v54 : BitVec 32) (v63 : BitVec 32) (v72 : BitVec 32) (v81 : BitVec 32) (v90 : BitVec 32) (v99 : BitVec 32) (v173 : BitVec 32) (k0_hw6 : k0_chk6 v14 v19 v29 v45 v54 v63 v72 v81 v90 v99 v173), ∀ a, (k0_off19 v14 v19 v29 v45 v173) a + S1x16x256.size a ≤ S200x216x256.size a := fun v14 v19 v29 v45 v54 v63 v72 v81 v90 v99 v173 k0_hw6 => k0_hw6.2.2.1
theorem k0_off39_inb : ∀ (v14 : BitVec 32) (v19 : BitVec 32) (v29 : BitVec 32) (v45 : BitVec 32) (v54 : BitVec 32) (v63 : BitVec 32) (v72 : BitVec 32) (v81 : BitVec 32) (v90 : BitVec 32) (v99 : BitVec 32) (v173 : BitVec 32) (k0_hw6 : k0_chk6 v14 v19 v29 v45 v54 v63 v72 v81 v90 v99 v173), ∀ a, (k0_off39 v14 v19 v54 v173) a + S1x16x256.size a ≤ S200x216x256.size a := fun v14 v19 v29 v45 v54 v63 v72 v81 v90 v99 v173 k0_hw6 => k0_hw6.2.2.2.1
theorem k0_off40_inb : ∀ (v14 : BitVec 32) (v19 : BitVec 32) (v29 : BitVec 32) (v45 : BitVec 32) (v54 : BitVec 32) (v63 : BitVec 32) (v72 : BitVec 32) (v81 : BitVec 32) (v90 : BitVec 32) (v99 : BitVec 32) (v173 : BitVec 32) (k0_hw6 : k0_chk6 v14 v19 v29 v45 v54 v63 v72 v81 v90 v99 v173), ∀ a, (k0_off40 v14 v19 v29 v54 v173) a + S1x16x256.size a ≤ S200x216x256.size a := fun v14 v19 v29 v45 v54 v63 v72 v81 v90 v99 v173 k0_hw6 => k0_hw6.2.2.2.2.1
theorem k0_off60_inb : ∀ (v14 : BitVec 32) (v19 : BitVec 32) (v29 : BitVec 32) (v45 : BitVec 32) (v54 : BitVec 32) (v63 : BitVec 32) (v72 : BitVec 32) (v81 : BitVec 32) (v90 : BitVec 32) (v99 : BitVec 32) (v173 : BitVec 32) (k0_hw6 : k0_chk6 v14 v19 v29 v45 v54 v63 v72 v81 v90 v99 v173), ∀ a, (k0_off60 v14 v19 v63 v173) a + S1x16x256.size a ≤ S200x216x256.size a := fun v14 v19 v29 v45 v54 v63 v72 v81 v90 v99 v173 k0_hw6 => k0_hw6.2.2.2.2.2.1
theorem k0_off61_inb : ∀ (v14 : BitVec 32) (v19 : BitVec 32) (v29 : BitVec 32) (v45 : BitVec 32) (v54 : BitVec 32) (v63 : BitVec 32) (v72 : BitVec 32) (v81 : BitVec 32) (v90 : BitVec 32) (v99 : BitVec 32) (v173 : BitVec 32) (k0_hw6 : k0_chk6 v14 v19 v29 v45 v54 v63 v72 v81 v90 v99 v173), ∀ a, (k0_off61 v14 v19 v29 v63 v173) a + S1x16x256.size a ≤ S200x216x256.size a := fun v14 v19 v29 v45 v54 v63 v72 v81 v90 v99 v173 k0_hw6 => k0_hw6.2.2.2.2.2.2.1
theorem k0_off81_inb : ∀ (v14 : BitVec 32) (v19 : BitVec 32) (v29 : BitVec 32) (v45 : BitVec 32) (v54 : BitVec 32) (v63 : BitVec 32) (v72 : BitVec 32) (v81 : BitVec 32) (v90 : BitVec 32) (v99 : BitVec 32) (v173 : BitVec 32) (k0_hw6 : k0_chk6 v14 v19 v29 v45 v54 v63 v72 v81 v90 v99 v173), ∀ a, (k0_off81 v14 v19 v72 v173) a + S1x16x256.size a ≤ S200x216x256.size a := fun v14 v19 v29 v45 v54 v63 v72 v81 v90 v99 v173 k0_hw6 => k0_hw6.2.2.2.2.2.2.2.1
theorem k0_off82_inb : ∀ (v14 : BitVec 32) (v19 : BitVec 32) (v29 : BitVec 32) (v45 : BitVec 32) (v54 : BitVec 32) (v63 : BitVec 32) (v72 : BitVec 32) (v81 : BitVec 32) (v90 : BitVec 32) (v99 : BitVec 32) (v173 : BitVec 32) (k0_hw6 : k0_chk6 v14 v19 v29 v45 v54 v63 v72 v81 v90 v99 v173), ∀ a, (k0_off82 v14 v19 v29 v72 v173) a + S1x16x256.size a ≤ S200x216x256.size a := fun v14 v19 v29 v45 v54 v63 v72 v81 v90 v99 v173 k0_hw6 => k0_hw6.2.2.2.2.2.2.2.2.1
theorem k0_off102_inb : ∀ (v14 : BitVec 32) (v19 : BitVec 32) (v29 : BitVec 32) (v45 : BitVec 32) (v54 : BitVec 32) (v63 : BitVec 32) (v72 : BitVec 32) (v81 : BitVec 32) (v90 : BitVec 32) (v99 : BitVec 32) (v173 : BitVec 32) (k0_hw6 : k0_chk6 v14 v19 v29 v45 v54 v63 v72 v81 v90 v99 v173), ∀ a, (k0_off102 v14 v19 v81 v173) a + S1x16x256.size a ≤ S200x216x256.size a := fun v14 v19 v29 v45 v54 v63 v72 v81 v90 v99 v173 k0_hw6 => k0_hw6.2.2.2.2.2.2.2.2.2.1
theorem k0_off103_inb : ∀ (v14 : BitVec 32) (v19 : BitVec 32) (v29 : BitVec 32) (v45 : BitVec 32) (v54 : BitVec 32) (v63 : BitVec 32) (v72 : BitVec 32) (v81 : BitVec 32) (v90 : BitVec 32) (v99 : BitVec 32) (v173 : BitVec 32) (k0_hw6 : k0_chk6 v14 v19 v29 v45 v54 v63 v72 v81 v90 v99 v173), ∀ a, (k0_off103 v14 v19 v29 v81 v173) a + S1x16x256.size a ≤ S200x216x256.size a := fun v14 v19 v29 v45 v54 v63 v72 v81 v90 v99 v173 k0_hw6 => k0_hw6.2.2.2.2.2.2.2.2.2.2.1
theorem k0_off123_inb : ∀ (v14 : BitVec 32) (v19 : BitVec 32) (v29 : BitVec 32) (v45 : BitVec 32) (v54 : BitVec 32) (v63 : BitVec 32) (v72 : BitVec 32) (v81 : BitVec 32) (v90 : BitVec 32) (v99 : BitVec 32) (v173 : BitVec 32) (k0_hw6 : k0_chk6 v14 v19 v29 v45 v54 v63 v72 v81 v90 v99 v173), ∀ a, (k0_off123 v14 v19 v90 v173) a + S1x16x256.size a ≤ S200x216x256.size a := fun v14 v19 v29 v45 v54 v63 v72 v81 v90 v99 v173 k0_hw6 => k0_hw6.2.2.2.2.2.2.2.2.2.2.2.1
theorem k0_off124_inb : ∀ (v14 : BitVec 32) (v19 : BitVec 32) (v29 : BitVec 32) (v45 : BitVec 32) (v54 : BitVec 32) (v63 : BitVec 32) (v72 : BitVec 32) (v81 : BitVec 32) (v90 : BitVec 32) (v99 : BitVec 32) (v173 : BitVec 32) (k0_hw6 : k0_chk6 v14 v19 v29 v45 v54 v63 v72 v81 v90 v99 v173), ∀ a, (k0_off124 v14 v19 v29 v90 v173) a + S1x16x256.size a ≤ S200x216x256.size a := fun v14 v19 v29 v45 v54 v63 v72 v81 v90 v99 v173 k0_hw6 => k0_hw6.2.2.2.2.2.2.2.2.2.2.2.2.1
theorem k0_off144_inb : ∀ (v14 : BitVec 32) (v19 : BitVec 32) (v29 : BitVec 32) (v45 : BitVec 32) (v54 : BitVec 32) (v63 : BitVec 32) (v72 : BitVec 32) (v81 : BitVec 32) (v90 : BitVec 32) (v99 : BitVec 32) (v173 : BitVec 32) (k0_hw6 : k0_chk6 v14 v19 v29 v45 v54 v63 v72 v81 v90 v99 v173), ∀ a, (k0_off144 v14 v19 v99 v173) a + S1x16x256.size a ≤ S200x216x256.size a := fun v14 v19 v29 v45 v54 v63 v72 v81 v90 v99 v173 k0_hw6 => k0_hw6.2.2.2.2.2.2.2.2.2.2.2.2.2.1
theorem k0_off145_inb : ∀ (v14 : BitVec 32) (v19 : BitVec 32) (v29 : BitVec 32) (v45 : BitVec 32) (v54 : BitVec 32) (v63 : BitVec 32) (v72 : BitVec 32) (v81 : BitVec 32) (v90 : BitVec 32) (v99 : BitVec 32) (v173 : BitVec 32) (k0_hw6 : k0_chk6 v14 v19 v29 v45 v54 v63 v72 v81 v90 v99 v173), ∀ a, (k0_off145 v14 v19 v29 v99 v173) a + S1x16x256.size a ≤ S200x216x256.size a := fun v14 v19 v29 v45 v54 v63 v72 v81 v90 v99 v173 k0_hw6 => k0_hw6.2.2.2.2.2.2.2.2.2.2.2.2.2.2

def k0_off146 (k0_t1 : Fin k0_t1_loop.trips) : Fin 3 → Nat :=
  let c47 : Index := 47#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c0_i32_3 : BitVec 32 := 0#32
  let v6 : BitVec 32 := Scalar.addi v5 c0_i32_3
  let v1589 : Index := Scalar.indexCast v6
  let c0_339 : Index := 0#32
  ![47, v1589.toNat, 0]
def k0_off147 (v14 : BitVec 32) (v19 : BitVec 32) (v99 : BitVec 32) (v186 : BitVec 32) : Fin 3 → Nat :=
  let c199_i32_9 : BitVec 32 := 199#32
  let c0_i32_8 : BitVec 32 := 0#32
  let v20 : BitVec 32 := Scalar.maxsi c0_i32_8 v19
  let v21 : BitVec 32 := Scalar.minsi c199_i32_9 v20
  let v100 : BitVec 32 := Scalar.addi v21 v99
  let v1594 : Index := Scalar.indexCast v100
  let c199_i32 : BitVec 32 := 199#32
  let c0_i32_6 : BitVec 32 := 0#32
  let v15 : BitVec 32 := Scalar.maxsi c0_i32_6 v14
  let v16 : BitVec 32 := Scalar.minsi c199_i32 v15
  let v187 : BitVec 32 := Scalar.addi v16 v186
  let c3_i32_90 : BitVec 32 := 3#32
  let v190 : BitVec 32 := Scalar.shrsi v187 c3_i32_90
  let c3_i32_91 : BitVec 32 := 3#32
  let v191 : BitVec 32 := Scalar.shli v190 c3_i32_91
  let v192 : BitVec 32 := v191
  let v1595 : Index := Scalar.indexCast v192
  let c0_341 : Index := 0#32
  ![v1594.toNat, v1595.toNat, 0]
def k0_off148 (v14 : BitVec 32) (v19 : BitVec 32) (v29 : BitVec 32) (v99 : BitVec 32) (v186 : BitVec 32) : Fin 3 → Nat :=
  let c199_i32_9 : BitVec 32 := 199#32
  let c0_i32_8 : BitVec 32 := 0#32
  let v20 : BitVec 32 := Scalar.maxsi c0_i32_8 v19
  let v21 : BitVec 32 := Scalar.minsi c199_i32_9 v20
  let v100 : BitVec 32 := Scalar.addi v21 v99
  let c1_i32_44 : BitVec 32 := 1#32
  let v101 : BitVec 32 := Scalar.addi v100 c1_i32_44
  let c199_i32_13 : BitVec 32 := 199#32
  let c0_i32_12 : BitVec 32 := 0#32
  let v30 : BitVec 32 := Scalar.maxsi c0_i32_12 v29
  let v31 : BitVec 32 := Scalar.minsi c199_i32_13 v30
  let v102 : BitVec 32 := Scalar.minsi v101 v31
  let v1598 : Index := Scalar.indexCast v102
  let c199_i32 : BitVec 32 := 199#32
  let c0_i32_6 : BitVec 32 := 0#32
  let v15 : BitVec 32 := Scalar.maxsi c0_i32_6 v14
  let v16 : BitVec 32 := Scalar.minsi c199_i32 v15
  let v187 : BitVec 32 := Scalar.addi v16 v186
  let c3_i32_90 : BitVec 32 := 3#32
  let v190 : BitVec 32 := Scalar.shrsi v187 c3_i32_90
  let c3_i32_91 : BitVec 32 := 3#32
  let v191 : BitVec 32 := Scalar.shli v190 c3_i32_91
  let v192 : BitVec 32 := v191
  let v1599 : Index := Scalar.indexCast v192
  let c0_342 : Index := 0#32
  ![v1598.toNat, v1599.toNat, 0]

def k0_chk7 (v14 : BitVec 32) (v19 : BitVec 32) (v29 : BitVec 32) (v45 : BitVec 32) (v54 : BitVec 32) (v63 : BitVec 32) (v72 : BitVec 32) (v81 : BitVec 32) (v90 : BitVec 32) (v99 : BitVec 32) (v186 : BitVec 32) : Prop :=
  (8 ∣ (k0_mult8 v14 v186).toNat) ∧
  (∀ a, (k0_off21 v14 v19 v45 v186) a + S1x16x256.size a ≤ S200x216x256.size a) ∧
  (∀ a, (k0_off22 v14 v19 v29 v45 v186) a + S1x16x256.size a ≤ S200x216x256.size a) ∧
  (∀ a, (k0_off42 v14 v19 v54 v186) a + S1x16x256.size a ≤ S200x216x256.size a) ∧
  (∀ a, (k0_off43 v14 v19 v29 v54 v186) a + S1x16x256.size a ≤ S200x216x256.size a) ∧
  (∀ a, (k0_off63 v14 v19 v63 v186) a + S1x16x256.size a ≤ S200x216x256.size a) ∧
  (∀ a, (k0_off64 v14 v19 v29 v63 v186) a + S1x16x256.size a ≤ S200x216x256.size a) ∧
  (∀ a, (k0_off84 v14 v19 v72 v186) a + S1x16x256.size a ≤ S200x216x256.size a) ∧
  (∀ a, (k0_off85 v14 v19 v29 v72 v186) a + S1x16x256.size a ≤ S200x216x256.size a) ∧
  (∀ a, (k0_off105 v14 v19 v81 v186) a + S1x16x256.size a ≤ S200x216x256.size a) ∧
  (∀ a, (k0_off106 v14 v19 v29 v81 v186) a + S1x16x256.size a ≤ S200x216x256.size a) ∧
  (∀ a, (k0_off126 v14 v19 v90 v186) a + S1x16x256.size a ≤ S200x216x256.size a) ∧
  (∀ a, (k0_off127 v14 v19 v29 v90 v186) a + S1x16x256.size a ≤ S200x216x256.size a) ∧
  (∀ a, (k0_off147 v14 v19 v99 v186) a + S1x16x256.size a ≤ S200x216x256.size a) ∧
  (∀ a, (k0_off148 v14 v19 v29 v99 v186) a + S1x16x256.size a ≤ S200x216x256.size a)
theorem k0_mult8_dvd : ∀ (v14 : BitVec 32) (v19 : BitVec 32) (v29 : BitVec 32) (v45 : BitVec 32) (v54 : BitVec 32) (v63 : BitVec 32) (v72 : BitVec 32) (v81 : BitVec 32) (v90 : BitVec 32) (v99 : BitVec 32) (v186 : BitVec 32) (k0_hw7 : k0_chk7 v14 v19 v29 v45 v54 v63 v72 v81 v90 v99 v186), 8 ∣ (k0_mult8 v14 v186).toNat := fun v14 v19 v29 v45 v54 v63 v72 v81 v90 v99 v186 k0_hw7 => k0_hw7.1
theorem k0_off21_inb : ∀ (v14 : BitVec 32) (v19 : BitVec 32) (v29 : BitVec 32) (v45 : BitVec 32) (v54 : BitVec 32) (v63 : BitVec 32) (v72 : BitVec 32) (v81 : BitVec 32) (v90 : BitVec 32) (v99 : BitVec 32) (v186 : BitVec 32) (k0_hw7 : k0_chk7 v14 v19 v29 v45 v54 v63 v72 v81 v90 v99 v186), ∀ a, (k0_off21 v14 v19 v45 v186) a + S1x16x256.size a ≤ S200x216x256.size a := fun v14 v19 v29 v45 v54 v63 v72 v81 v90 v99 v186 k0_hw7 => k0_hw7.2.1
theorem k0_off22_inb : ∀ (v14 : BitVec 32) (v19 : BitVec 32) (v29 : BitVec 32) (v45 : BitVec 32) (v54 : BitVec 32) (v63 : BitVec 32) (v72 : BitVec 32) (v81 : BitVec 32) (v90 : BitVec 32) (v99 : BitVec 32) (v186 : BitVec 32) (k0_hw7 : k0_chk7 v14 v19 v29 v45 v54 v63 v72 v81 v90 v99 v186), ∀ a, (k0_off22 v14 v19 v29 v45 v186) a + S1x16x256.size a ≤ S200x216x256.size a := fun v14 v19 v29 v45 v54 v63 v72 v81 v90 v99 v186 k0_hw7 => k0_hw7.2.2.1
theorem k0_off42_inb : ∀ (v14 : BitVec 32) (v19 : BitVec 32) (v29 : BitVec 32) (v45 : BitVec 32) (v54 : BitVec 32) (v63 : BitVec 32) (v72 : BitVec 32) (v81 : BitVec 32) (v90 : BitVec 32) (v99 : BitVec 32) (v186 : BitVec 32) (k0_hw7 : k0_chk7 v14 v19 v29 v45 v54 v63 v72 v81 v90 v99 v186), ∀ a, (k0_off42 v14 v19 v54 v186) a + S1x16x256.size a ≤ S200x216x256.size a := fun v14 v19 v29 v45 v54 v63 v72 v81 v90 v99 v186 k0_hw7 => k0_hw7.2.2.2.1
theorem k0_off43_inb : ∀ (v14 : BitVec 32) (v19 : BitVec 32) (v29 : BitVec 32) (v45 : BitVec 32) (v54 : BitVec 32) (v63 : BitVec 32) (v72 : BitVec 32) (v81 : BitVec 32) (v90 : BitVec 32) (v99 : BitVec 32) (v186 : BitVec 32) (k0_hw7 : k0_chk7 v14 v19 v29 v45 v54 v63 v72 v81 v90 v99 v186), ∀ a, (k0_off43 v14 v19 v29 v54 v186) a + S1x16x256.size a ≤ S200x216x256.size a := fun v14 v19 v29 v45 v54 v63 v72 v81 v90 v99 v186 k0_hw7 => k0_hw7.2.2.2.2.1
theorem k0_off63_inb : ∀ (v14 : BitVec 32) (v19 : BitVec 32) (v29 : BitVec 32) (v45 : BitVec 32) (v54 : BitVec 32) (v63 : BitVec 32) (v72 : BitVec 32) (v81 : BitVec 32) (v90 : BitVec 32) (v99 : BitVec 32) (v186 : BitVec 32) (k0_hw7 : k0_chk7 v14 v19 v29 v45 v54 v63 v72 v81 v90 v99 v186), ∀ a, (k0_off63 v14 v19 v63 v186) a + S1x16x256.size a ≤ S200x216x256.size a := fun v14 v19 v29 v45 v54 v63 v72 v81 v90 v99 v186 k0_hw7 => k0_hw7.2.2.2.2.2.1
theorem k0_off64_inb : ∀ (v14 : BitVec 32) (v19 : BitVec 32) (v29 : BitVec 32) (v45 : BitVec 32) (v54 : BitVec 32) (v63 : BitVec 32) (v72 : BitVec 32) (v81 : BitVec 32) (v90 : BitVec 32) (v99 : BitVec 32) (v186 : BitVec 32) (k0_hw7 : k0_chk7 v14 v19 v29 v45 v54 v63 v72 v81 v90 v99 v186), ∀ a, (k0_off64 v14 v19 v29 v63 v186) a + S1x16x256.size a ≤ S200x216x256.size a := fun v14 v19 v29 v45 v54 v63 v72 v81 v90 v99 v186 k0_hw7 => k0_hw7.2.2.2.2.2.2.1
theorem k0_off84_inb : ∀ (v14 : BitVec 32) (v19 : BitVec 32) (v29 : BitVec 32) (v45 : BitVec 32) (v54 : BitVec 32) (v63 : BitVec 32) (v72 : BitVec 32) (v81 : BitVec 32) (v90 : BitVec 32) (v99 : BitVec 32) (v186 : BitVec 32) (k0_hw7 : k0_chk7 v14 v19 v29 v45 v54 v63 v72 v81 v90 v99 v186), ∀ a, (k0_off84 v14 v19 v72 v186) a + S1x16x256.size a ≤ S200x216x256.size a := fun v14 v19 v29 v45 v54 v63 v72 v81 v90 v99 v186 k0_hw7 => k0_hw7.2.2.2.2.2.2.2.1
theorem k0_off85_inb : ∀ (v14 : BitVec 32) (v19 : BitVec 32) (v29 : BitVec 32) (v45 : BitVec 32) (v54 : BitVec 32) (v63 : BitVec 32) (v72 : BitVec 32) (v81 : BitVec 32) (v90 : BitVec 32) (v99 : BitVec 32) (v186 : BitVec 32) (k0_hw7 : k0_chk7 v14 v19 v29 v45 v54 v63 v72 v81 v90 v99 v186), ∀ a, (k0_off85 v14 v19 v29 v72 v186) a + S1x16x256.size a ≤ S200x216x256.size a := fun v14 v19 v29 v45 v54 v63 v72 v81 v90 v99 v186 k0_hw7 => k0_hw7.2.2.2.2.2.2.2.2.1
theorem k0_off105_inb : ∀ (v14 : BitVec 32) (v19 : BitVec 32) (v29 : BitVec 32) (v45 : BitVec 32) (v54 : BitVec 32) (v63 : BitVec 32) (v72 : BitVec 32) (v81 : BitVec 32) (v90 : BitVec 32) (v99 : BitVec 32) (v186 : BitVec 32) (k0_hw7 : k0_chk7 v14 v19 v29 v45 v54 v63 v72 v81 v90 v99 v186), ∀ a, (k0_off105 v14 v19 v81 v186) a + S1x16x256.size a ≤ S200x216x256.size a := fun v14 v19 v29 v45 v54 v63 v72 v81 v90 v99 v186 k0_hw7 => k0_hw7.2.2.2.2.2.2.2.2.2.1
theorem k0_off106_inb : ∀ (v14 : BitVec 32) (v19 : BitVec 32) (v29 : BitVec 32) (v45 : BitVec 32) (v54 : BitVec 32) (v63 : BitVec 32) (v72 : BitVec 32) (v81 : BitVec 32) (v90 : BitVec 32) (v99 : BitVec 32) (v186 : BitVec 32) (k0_hw7 : k0_chk7 v14 v19 v29 v45 v54 v63 v72 v81 v90 v99 v186), ∀ a, (k0_off106 v14 v19 v29 v81 v186) a + S1x16x256.size a ≤ S200x216x256.size a := fun v14 v19 v29 v45 v54 v63 v72 v81 v90 v99 v186 k0_hw7 => k0_hw7.2.2.2.2.2.2.2.2.2.2.1
theorem k0_off126_inb : ∀ (v14 : BitVec 32) (v19 : BitVec 32) (v29 : BitVec 32) (v45 : BitVec 32) (v54 : BitVec 32) (v63 : BitVec 32) (v72 : BitVec 32) (v81 : BitVec 32) (v90 : BitVec 32) (v99 : BitVec 32) (v186 : BitVec 32) (k0_hw7 : k0_chk7 v14 v19 v29 v45 v54 v63 v72 v81 v90 v99 v186), ∀ a, (k0_off126 v14 v19 v90 v186) a + S1x16x256.size a ≤ S200x216x256.size a := fun v14 v19 v29 v45 v54 v63 v72 v81 v90 v99 v186 k0_hw7 => k0_hw7.2.2.2.2.2.2.2.2.2.2.2.1
theorem k0_off127_inb : ∀ (v14 : BitVec 32) (v19 : BitVec 32) (v29 : BitVec 32) (v45 : BitVec 32) (v54 : BitVec 32) (v63 : BitVec 32) (v72 : BitVec 32) (v81 : BitVec 32) (v90 : BitVec 32) (v99 : BitVec 32) (v186 : BitVec 32) (k0_hw7 : k0_chk7 v14 v19 v29 v45 v54 v63 v72 v81 v90 v99 v186), ∀ a, (k0_off127 v14 v19 v29 v90 v186) a + S1x16x256.size a ≤ S200x216x256.size a := fun v14 v19 v29 v45 v54 v63 v72 v81 v90 v99 v186 k0_hw7 => k0_hw7.2.2.2.2.2.2.2.2.2.2.2.2.1
theorem k0_off147_inb : ∀ (v14 : BitVec 32) (v19 : BitVec 32) (v29 : BitVec 32) (v45 : BitVec 32) (v54 : BitVec 32) (v63 : BitVec 32) (v72 : BitVec 32) (v81 : BitVec 32) (v90 : BitVec 32) (v99 : BitVec 32) (v186 : BitVec 32) (k0_hw7 : k0_chk7 v14 v19 v29 v45 v54 v63 v72 v81 v90 v99 v186), ∀ a, (k0_off147 v14 v19 v99 v186) a + S1x16x256.size a ≤ S200x216x256.size a := fun v14 v19 v29 v45 v54 v63 v72 v81 v90 v99 v186 k0_hw7 => k0_hw7.2.2.2.2.2.2.2.2.2.2.2.2.2.1
theorem k0_off148_inb : ∀ (v14 : BitVec 32) (v19 : BitVec 32) (v29 : BitVec 32) (v45 : BitVec 32) (v54 : BitVec 32) (v63 : BitVec 32) (v72 : BitVec 32) (v81 : BitVec 32) (v90 : BitVec 32) (v99 : BitVec 32) (v186 : BitVec 32) (k0_hw7 : k0_chk7 v14 v19 v29 v45 v54 v63 v72 v81 v90 v99 v186), ∀ a, (k0_off148 v14 v19 v29 v99 v186) a + S1x16x256.size a ≤ S200x216x256.size a := fun v14 v19 v29 v45 v54 v63 v72 v81 v90 v99 v186 k0_hw7 => k0_hw7.2.2.2.2.2.2.2.2.2.2.2.2.2.2

def k0_off149 (k0_t1 : Fin k0_t1_loop.trips) : Fin 3 → Nat :=
  let c48 : Index := 48#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c0_i32_3 : BitVec 32 := 0#32
  let v6 : BitVec 32 := Scalar.addi v5 c0_i32_3
  let v1618 : Index := Scalar.indexCast v6
  let c0_344 : Index := 0#32
  ![48, v1618.toNat, 0]
def k0_off150 (i : grid0.Coords) (k0_t1 : Fin k0_t1_loop.trips) (c0_i32_349 : BitVec 32) : Fin 1 → Nat :=
  let arg0 : BitVec 32 := BitVec.ofNat 32 (i 0).val
  let c256_i32_346 : BitVec 32 := 256#32
  let v1623 : BitVec 32 := Scalar.muli arg0 c256_i32_346
  let arg1 : BitVec 32 := BitVec.ofNat 32 (i 1).val
  let c32_i32_347 : BitVec 32 := 32#32
  let v1624 : BitVec 32 := Scalar.muli arg1 c32_i32_347
  let v1625 : BitVec 32 := Scalar.addi v1623 v1624
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c1_i32_345 : BitVec 32 := 1#32
  let v1622 : BitVec 32 := Scalar.addi v5 c1_i32_345
  let v1626 : BitVec 32 := Scalar.addi v1625 v1622
  let c4_i32_348 : BitVec 32 := 4#32
  let v1627 : BitVec 32 := Scalar.muli v1626 c4_i32_348
  let v1628 : BitVec 32 := Scalar.addi v1627 c0_i32_349
  let v1629 : Index := Scalar.indexCast v1628
  ![v1629.toNat]
def k0_mult9 (v1630 : BitVec 32) (v1724 : BitVec 32) : BitVec 32 :=
  let c199_i32_351 : BitVec 32 := 199#32
  let c0_i32_350 : BitVec 32 := 0#32
  let v1631 : BitVec 32 := Scalar.maxsi c0_i32_350 v1630
  let v1632 : BitVec 32 := Scalar.minsi c199_i32_351 v1631
  let v1725 : BitVec 32 := Scalar.addi v1632 v1724
  let c3_i32_397 : BitVec 32 := 3#32
  let v1728 : BitVec 32 := Scalar.shrsi v1725 c3_i32_397
  let c3_i32_398 : BitVec 32 := 3#32
  let v1729 : BitVec 32 := Scalar.shli v1728 c3_i32_398
  v1729

def k0_mult10 (v1630 : BitVec 32) (v1737 : BitVec 32) : BitVec 32 :=
  let c199_i32_351 : BitVec 32 := 199#32
  let c0_i32_350 : BitVec 32 := 0#32
  let v1631 : BitVec 32 := Scalar.maxsi c0_i32_350 v1630
  let v1632 : BitVec 32 := Scalar.minsi c199_i32_351 v1631
  let v1738 : BitVec 32 := Scalar.addi v1632 v1737
  let c3_i32_404 : BitVec 32 := 3#32
  let v1741 : BitVec 32 := Scalar.shrsi v1738 c3_i32_404
  let c3_i32_405 : BitVec 32 := 3#32
  let v1742 : BitVec 32 := Scalar.shli v1741 c3_i32_405
  v1742

def k0_mult11 (v1630 : BitVec 32) (v1750 : BitVec 32) : BitVec 32 :=
  let c199_i32_351 : BitVec 32 := 199#32
  let c0_i32_350 : BitVec 32 := 0#32
  let v1631 : BitVec 32 := Scalar.maxsi c0_i32_350 v1630
  let v1632 : BitVec 32 := Scalar.minsi c199_i32_351 v1631
  let v1751 : BitVec 32 := Scalar.addi v1632 v1750
  let c3_i32_411 : BitVec 32 := 3#32
  let v1754 : BitVec 32 := Scalar.shrsi v1751 c3_i32_411
  let c3_i32_412 : BitVec 32 := 3#32
  let v1755 : BitVec 32 := Scalar.shli v1754 c3_i32_412
  v1755

def k0_mult12 (v1630 : BitVec 32) (v1763 : BitVec 32) : BitVec 32 :=
  let c199_i32_351 : BitVec 32 := 199#32
  let c0_i32_350 : BitVec 32 := 0#32
  let v1631 : BitVec 32 := Scalar.maxsi c0_i32_350 v1630
  let v1632 : BitVec 32 := Scalar.minsi c199_i32_351 v1631
  let v1764 : BitVec 32 := Scalar.addi v1632 v1763
  let c3_i32_418 : BitVec 32 := 3#32
  let v1767 : BitVec 32 := Scalar.shrsi v1764 c3_i32_418
  let c3_i32_419 : BitVec 32 := 3#32
  let v1768 : BitVec 32 := Scalar.shli v1767 c3_i32_419
  v1768

def k0_mult13 (v1630 : BitVec 32) (v1776 : BitVec 32) : BitVec 32 :=
  let c199_i32_351 : BitVec 32 := 199#32
  let c0_i32_350 : BitVec 32 := 0#32
  let v1631 : BitVec 32 := Scalar.maxsi c0_i32_350 v1630
  let v1632 : BitVec 32 := Scalar.minsi c199_i32_351 v1631
  let v1777 : BitVec 32 := Scalar.addi v1632 v1776
  let c3_i32_425 : BitVec 32 := 3#32
  let v1780 : BitVec 32 := Scalar.shrsi v1777 c3_i32_425
  let c3_i32_426 : BitVec 32 := 3#32
  let v1781 : BitVec 32 := Scalar.shli v1780 c3_i32_426
  v1781

def k0_mult14 (v1630 : BitVec 32) (v1789 : BitVec 32) : BitVec 32 :=
  let c199_i32_351 : BitVec 32 := 199#32
  let c0_i32_350 : BitVec 32 := 0#32
  let v1631 : BitVec 32 := Scalar.maxsi c0_i32_350 v1630
  let v1632 : BitVec 32 := Scalar.minsi c199_i32_351 v1631
  let v1790 : BitVec 32 := Scalar.addi v1632 v1789
  let c3_i32_432 : BitVec 32 := 3#32
  let v1793 : BitVec 32 := Scalar.shrsi v1790 c3_i32_432
  let c3_i32_433 : BitVec 32 := 3#32
  let v1794 : BitVec 32 := Scalar.shli v1793 c3_i32_433
  v1794

def k0_mult15 (v1630 : BitVec 32) (v1802 : BitVec 32) : BitVec 32 :=
  let c199_i32_351 : BitVec 32 := 199#32
  let c0_i32_350 : BitVec 32 := 0#32
  let v1631 : BitVec 32 := Scalar.maxsi c0_i32_350 v1630
  let v1632 : BitVec 32 := Scalar.minsi c199_i32_351 v1631
  let v1803 : BitVec 32 := Scalar.addi v1632 v1802
  let c3_i32_439 : BitVec 32 := 3#32
  let v1806 : BitVec 32 := Scalar.shrsi v1803 c3_i32_439
  let c3_i32_440 : BitVec 32 := 3#32
  let v1807 : BitVec 32 := Scalar.shli v1806 c3_i32_440
  v1807

def k0_off151 (v1630 : BitVec 32) (v1635 : BitVec 32) (v1661 : BitVec 32) (v1724 : BitVec 32) : Fin 3 → Nat :=
  let c199_i32_354 : BitVec 32 := 199#32
  let c0_i32_353 : BitVec 32 := 0#32
  let v1636 : BitVec 32 := Scalar.maxsi c0_i32_353 v1635
  let v1637 : BitVec 32 := Scalar.minsi c199_i32_354 v1636
  let v1662 : BitVec 32 := Scalar.addi v1637 v1661
  let v1812 : Index := Scalar.indexCast v1662
  let c199_i32_351 : BitVec 32 := 199#32
  let c0_i32_350 : BitVec 32 := 0#32
  let v1631 : BitVec 32 := Scalar.maxsi c0_i32_350 v1630
  let v1632 : BitVec 32 := Scalar.minsi c199_i32_351 v1631
  let v1725 : BitVec 32 := Scalar.addi v1632 v1724
  let c3_i32_397 : BitVec 32 := 3#32
  let v1728 : BitVec 32 := Scalar.shrsi v1725 c3_i32_397
  let c3_i32_398 : BitVec 32 := 3#32
  let v1729 : BitVec 32 := Scalar.shli v1728 c3_i32_398
  let v1730 : BitVec 32 := v1729
  let v1813 : Index := Scalar.indexCast v1730
  let c0_444 : Index := 0#32
  ![v1812.toNat, v1813.toNat, 0]
def k0_off152 (v1630 : BitVec 32) (v1635 : BitVec 32) (v1645 : BitVec 32) (v1661 : BitVec 32) (v1724 : BitVec 32) : Fin 3 → Nat :=
  let c199_i32_354 : BitVec 32 := 199#32
  let c0_i32_353 : BitVec 32 := 0#32
  let v1636 : BitVec 32 := Scalar.maxsi c0_i32_353 v1635
  let v1637 : BitVec 32 := Scalar.minsi c199_i32_354 v1636
  let v1662 : BitVec 32 := Scalar.addi v1637 v1661
  let c1_i32_368 : BitVec 32 := 1#32
  let v1663 : BitVec 32 := Scalar.addi v1662 c1_i32_368
  let c199_i32_360 : BitVec 32 := 199#32
  let c0_i32_359 : BitVec 32 := 0#32
  let v1646 : BitVec 32 := Scalar.maxsi c0_i32_359 v1645
  let v1647 : BitVec 32 := Scalar.minsi c199_i32_360 v1646
  let v1664 : BitVec 32 := Scalar.minsi v1663 v1647
  let v1816 : Index := Scalar.indexCast v1664
  let c199_i32_351 : BitVec 32 := 199#32
  let c0_i32_350 : BitVec 32 := 0#32
  let v1631 : BitVec 32 := Scalar.maxsi c0_i32_350 v1630
  let v1632 : BitVec 32 := Scalar.minsi c199_i32_351 v1631
  let v1725 : BitVec 32 := Scalar.addi v1632 v1724
  let c3_i32_397 : BitVec 32 := 3#32
  let v1728 : BitVec 32 := Scalar.shrsi v1725 c3_i32_397
  let c3_i32_398 : BitVec 32 := 3#32
  let v1729 : BitVec 32 := Scalar.shli v1728 c3_i32_398
  let v1730 : BitVec 32 := v1729
  let v1817 : Index := Scalar.indexCast v1730
  let c0_445 : Index := 0#32
  ![v1816.toNat, v1817.toNat, 0]
def k0_off153 (k0_t1 : Fin k0_t1_loop.trips) : Fin 3 → Nat :=
  let c0_447 : Index := 0#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c1_i32_345 : BitVec 32 := 1#32
  let v1622 : BitVec 32 := Scalar.addi v5 c1_i32_345
  let v1836 : Index := Scalar.indexCast v1622
  let c0_448 : Index := 0#32
  ![0, v1836.toNat, 0]
def k0_off154 (v1630 : BitVec 32) (v1635 : BitVec 32) (v1661 : BitVec 32) (v1737 : BitVec 32) : Fin 3 → Nat :=
  let c199_i32_354 : BitVec 32 := 199#32
  let c0_i32_353 : BitVec 32 := 0#32
  let v1636 : BitVec 32 := Scalar.maxsi c0_i32_353 v1635
  let v1637 : BitVec 32 := Scalar.minsi c199_i32_354 v1636
  let v1662 : BitVec 32 := Scalar.addi v1637 v1661
  let v1841 : Index := Scalar.indexCast v1662
  let c199_i32_351 : BitVec 32 := 199#32
  let c0_i32_350 : BitVec 32 := 0#32
  let v1631 : BitVec 32 := Scalar.maxsi c0_i32_350 v1630
  let v1632 : BitVec 32 := Scalar.minsi c199_i32_351 v1631
  let v1738 : BitVec 32 := Scalar.addi v1632 v1737
  let c3_i32_404 : BitVec 32 := 3#32
  let v1741 : BitVec 32 := Scalar.shrsi v1738 c3_i32_404
  let c3_i32_405 : BitVec 32 := 3#32
  let v1742 : BitVec 32 := Scalar.shli v1741 c3_i32_405
  let v1743 : BitVec 32 := v1742
  let v1842 : Index := Scalar.indexCast v1743
  let c0_450 : Index := 0#32
  ![v1841.toNat, v1842.toNat, 0]
def k0_off155 (v1630 : BitVec 32) (v1635 : BitVec 32) (v1645 : BitVec 32) (v1661 : BitVec 32) (v1737 : BitVec 32) : Fin 3 → Nat :=
  let c199_i32_354 : BitVec 32 := 199#32
  let c0_i32_353 : BitVec 32 := 0#32
  let v1636 : BitVec 32 := Scalar.maxsi c0_i32_353 v1635
  let v1637 : BitVec 32 := Scalar.minsi c199_i32_354 v1636
  let v1662 : BitVec 32 := Scalar.addi v1637 v1661
  let c1_i32_368 : BitVec 32 := 1#32
  let v1663 : BitVec 32 := Scalar.addi v1662 c1_i32_368
  let c199_i32_360 : BitVec 32 := 199#32
  let c0_i32_359 : BitVec 32 := 0#32
  let v1646 : BitVec 32 := Scalar.maxsi c0_i32_359 v1645
  let v1647 : BitVec 32 := Scalar.minsi c199_i32_360 v1646
  let v1664 : BitVec 32 := Scalar.minsi v1663 v1647
  let v1845 : Index := Scalar.indexCast v1664
  let c199_i32_351 : BitVec 32 := 199#32
  let c0_i32_350 : BitVec 32 := 0#32
  let v1631 : BitVec 32 := Scalar.maxsi c0_i32_350 v1630
  let v1632 : BitVec 32 := Scalar.minsi c199_i32_351 v1631
  let v1738 : BitVec 32 := Scalar.addi v1632 v1737
  let c3_i32_404 : BitVec 32 := 3#32
  let v1741 : BitVec 32 := Scalar.shrsi v1738 c3_i32_404
  let c3_i32_405 : BitVec 32 := 3#32
  let v1742 : BitVec 32 := Scalar.shli v1741 c3_i32_405
  let v1743 : BitVec 32 := v1742
  let v1846 : Index := Scalar.indexCast v1743
  let c0_451 : Index := 0#32
  ![v1845.toNat, v1846.toNat, 0]
def k0_off156 (k0_t1 : Fin k0_t1_loop.trips) : Fin 3 → Nat :=
  let c1_453 : Index := 1#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c1_i32_345 : BitVec 32 := 1#32
  let v1622 : BitVec 32 := Scalar.addi v5 c1_i32_345
  let v1865 : Index := Scalar.indexCast v1622
  let c0_454 : Index := 0#32
  ![1, v1865.toNat, 0]
def k0_off157 (v1630 : BitVec 32) (v1635 : BitVec 32) (v1661 : BitVec 32) (v1750 : BitVec 32) : Fin 3 → Nat :=
  let c199_i32_354 : BitVec 32 := 199#32
  let c0_i32_353 : BitVec 32 := 0#32
  let v1636 : BitVec 32 := Scalar.maxsi c0_i32_353 v1635
  let v1637 : BitVec 32 := Scalar.minsi c199_i32_354 v1636
  let v1662 : BitVec 32 := Scalar.addi v1637 v1661
  let v1870 : Index := Scalar.indexCast v1662
  let c199_i32_351 : BitVec 32 := 199#32
  let c0_i32_350 : BitVec 32 := 0#32
  let v1631 : BitVec 32 := Scalar.maxsi c0_i32_350 v1630
  let v1632 : BitVec 32 := Scalar.minsi c199_i32_351 v1631
  let v1751 : BitVec 32 := Scalar.addi v1632 v1750
  let c3_i32_411 : BitVec 32 := 3#32
  let v1754 : BitVec 32 := Scalar.shrsi v1751 c3_i32_411
  let c3_i32_412 : BitVec 32 := 3#32
  let v1755 : BitVec 32 := Scalar.shli v1754 c3_i32_412
  let v1756 : BitVec 32 := v1755
  let v1871 : Index := Scalar.indexCast v1756
  let c0_456 : Index := 0#32
  ![v1870.toNat, v1871.toNat, 0]
def k0_off158 (v1630 : BitVec 32) (v1635 : BitVec 32) (v1645 : BitVec 32) (v1661 : BitVec 32) (v1750 : BitVec 32) : Fin 3 → Nat :=
  let c199_i32_354 : BitVec 32 := 199#32
  let c0_i32_353 : BitVec 32 := 0#32
  let v1636 : BitVec 32 := Scalar.maxsi c0_i32_353 v1635
  let v1637 : BitVec 32 := Scalar.minsi c199_i32_354 v1636
  let v1662 : BitVec 32 := Scalar.addi v1637 v1661
  let c1_i32_368 : BitVec 32 := 1#32
  let v1663 : BitVec 32 := Scalar.addi v1662 c1_i32_368
  let c199_i32_360 : BitVec 32 := 199#32
  let c0_i32_359 : BitVec 32 := 0#32
  let v1646 : BitVec 32 := Scalar.maxsi c0_i32_359 v1645
  let v1647 : BitVec 32 := Scalar.minsi c199_i32_360 v1646
  let v1664 : BitVec 32 := Scalar.minsi v1663 v1647
  let v1874 : Index := Scalar.indexCast v1664
  let c199_i32_351 : BitVec 32 := 199#32
  let c0_i32_350 : BitVec 32 := 0#32
  let v1631 : BitVec 32 := Scalar.maxsi c0_i32_350 v1630
  let v1632 : BitVec 32 := Scalar.minsi c199_i32_351 v1631
  let v1751 : BitVec 32 := Scalar.addi v1632 v1750
  let c3_i32_411 : BitVec 32 := 3#32
  let v1754 : BitVec 32 := Scalar.shrsi v1751 c3_i32_411
  let c3_i32_412 : BitVec 32 := 3#32
  let v1755 : BitVec 32 := Scalar.shli v1754 c3_i32_412
  let v1756 : BitVec 32 := v1755
  let v1875 : Index := Scalar.indexCast v1756
  let c0_457 : Index := 0#32
  ![v1874.toNat, v1875.toNat, 0]
def k0_off159 (k0_t1 : Fin k0_t1_loop.trips) : Fin 3 → Nat :=
  let c2_459 : Index := 2#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c1_i32_345 : BitVec 32 := 1#32
  let v1622 : BitVec 32 := Scalar.addi v5 c1_i32_345
  let v1894 : Index := Scalar.indexCast v1622
  let c0_460 : Index := 0#32
  ![2, v1894.toNat, 0]
def k0_off160 (v1630 : BitVec 32) (v1635 : BitVec 32) (v1661 : BitVec 32) (v1763 : BitVec 32) : Fin 3 → Nat :=
  let c199_i32_354 : BitVec 32 := 199#32
  let c0_i32_353 : BitVec 32 := 0#32
  let v1636 : BitVec 32 := Scalar.maxsi c0_i32_353 v1635
  let v1637 : BitVec 32 := Scalar.minsi c199_i32_354 v1636
  let v1662 : BitVec 32 := Scalar.addi v1637 v1661
  let v1899 : Index := Scalar.indexCast v1662
  let c199_i32_351 : BitVec 32 := 199#32
  let c0_i32_350 : BitVec 32 := 0#32
  let v1631 : BitVec 32 := Scalar.maxsi c0_i32_350 v1630
  let v1632 : BitVec 32 := Scalar.minsi c199_i32_351 v1631
  let v1764 : BitVec 32 := Scalar.addi v1632 v1763
  let c3_i32_418 : BitVec 32 := 3#32
  let v1767 : BitVec 32 := Scalar.shrsi v1764 c3_i32_418
  let c3_i32_419 : BitVec 32 := 3#32
  let v1768 : BitVec 32 := Scalar.shli v1767 c3_i32_419
  let v1769 : BitVec 32 := v1768
  let v1900 : Index := Scalar.indexCast v1769
  let c0_462 : Index := 0#32
  ![v1899.toNat, v1900.toNat, 0]
def k0_off161 (v1630 : BitVec 32) (v1635 : BitVec 32) (v1645 : BitVec 32) (v1661 : BitVec 32) (v1763 : BitVec 32) : Fin 3 → Nat :=
  let c199_i32_354 : BitVec 32 := 199#32
  let c0_i32_353 : BitVec 32 := 0#32
  let v1636 : BitVec 32 := Scalar.maxsi c0_i32_353 v1635
  let v1637 : BitVec 32 := Scalar.minsi c199_i32_354 v1636
  let v1662 : BitVec 32 := Scalar.addi v1637 v1661
  let c1_i32_368 : BitVec 32 := 1#32
  let v1663 : BitVec 32 := Scalar.addi v1662 c1_i32_368
  let c199_i32_360 : BitVec 32 := 199#32
  let c0_i32_359 : BitVec 32 := 0#32
  let v1646 : BitVec 32 := Scalar.maxsi c0_i32_359 v1645
  let v1647 : BitVec 32 := Scalar.minsi c199_i32_360 v1646
  let v1664 : BitVec 32 := Scalar.minsi v1663 v1647
  let v1903 : Index := Scalar.indexCast v1664
  let c199_i32_351 : BitVec 32 := 199#32
  let c0_i32_350 : BitVec 32 := 0#32
  let v1631 : BitVec 32 := Scalar.maxsi c0_i32_350 v1630
  let v1632 : BitVec 32 := Scalar.minsi c199_i32_351 v1631
  let v1764 : BitVec 32 := Scalar.addi v1632 v1763
  let c3_i32_418 : BitVec 32 := 3#32
  let v1767 : BitVec 32 := Scalar.shrsi v1764 c3_i32_418
  let c3_i32_419 : BitVec 32 := 3#32
  let v1768 : BitVec 32 := Scalar.shli v1767 c3_i32_419
  let v1769 : BitVec 32 := v1768
  let v1904 : Index := Scalar.indexCast v1769
  let c0_463 : Index := 0#32
  ![v1903.toNat, v1904.toNat, 0]
def k0_off162 (k0_t1 : Fin k0_t1_loop.trips) : Fin 3 → Nat :=
  let c3_465 : Index := 3#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c1_i32_345 : BitVec 32 := 1#32
  let v1622 : BitVec 32 := Scalar.addi v5 c1_i32_345
  let v1923 : Index := Scalar.indexCast v1622
  let c0_466 : Index := 0#32
  ![3, v1923.toNat, 0]
def k0_off163 (v1630 : BitVec 32) (v1635 : BitVec 32) (v1661 : BitVec 32) (v1776 : BitVec 32) : Fin 3 → Nat :=
  let c199_i32_354 : BitVec 32 := 199#32
  let c0_i32_353 : BitVec 32 := 0#32
  let v1636 : BitVec 32 := Scalar.maxsi c0_i32_353 v1635
  let v1637 : BitVec 32 := Scalar.minsi c199_i32_354 v1636
  let v1662 : BitVec 32 := Scalar.addi v1637 v1661
  let v1928 : Index := Scalar.indexCast v1662
  let c199_i32_351 : BitVec 32 := 199#32
  let c0_i32_350 : BitVec 32 := 0#32
  let v1631 : BitVec 32 := Scalar.maxsi c0_i32_350 v1630
  let v1632 : BitVec 32 := Scalar.minsi c199_i32_351 v1631
  let v1777 : BitVec 32 := Scalar.addi v1632 v1776
  let c3_i32_425 : BitVec 32 := 3#32
  let v1780 : BitVec 32 := Scalar.shrsi v1777 c3_i32_425
  let c3_i32_426 : BitVec 32 := 3#32
  let v1781 : BitVec 32 := Scalar.shli v1780 c3_i32_426
  let v1782 : BitVec 32 := v1781
  let v1929 : Index := Scalar.indexCast v1782
  let c0_468 : Index := 0#32
  ![v1928.toNat, v1929.toNat, 0]
def k0_off164 (v1630 : BitVec 32) (v1635 : BitVec 32) (v1645 : BitVec 32) (v1661 : BitVec 32) (v1776 : BitVec 32) : Fin 3 → Nat :=
  let c199_i32_354 : BitVec 32 := 199#32
  let c0_i32_353 : BitVec 32 := 0#32
  let v1636 : BitVec 32 := Scalar.maxsi c0_i32_353 v1635
  let v1637 : BitVec 32 := Scalar.minsi c199_i32_354 v1636
  let v1662 : BitVec 32 := Scalar.addi v1637 v1661
  let c1_i32_368 : BitVec 32 := 1#32
  let v1663 : BitVec 32 := Scalar.addi v1662 c1_i32_368
  let c199_i32_360 : BitVec 32 := 199#32
  let c0_i32_359 : BitVec 32 := 0#32
  let v1646 : BitVec 32 := Scalar.maxsi c0_i32_359 v1645
  let v1647 : BitVec 32 := Scalar.minsi c199_i32_360 v1646
  let v1664 : BitVec 32 := Scalar.minsi v1663 v1647
  let v1932 : Index := Scalar.indexCast v1664
  let c199_i32_351 : BitVec 32 := 199#32
  let c0_i32_350 : BitVec 32 := 0#32
  let v1631 : BitVec 32 := Scalar.maxsi c0_i32_350 v1630
  let v1632 : BitVec 32 := Scalar.minsi c199_i32_351 v1631
  let v1777 : BitVec 32 := Scalar.addi v1632 v1776
  let c3_i32_425 : BitVec 32 := 3#32
  let v1780 : BitVec 32 := Scalar.shrsi v1777 c3_i32_425
  let c3_i32_426 : BitVec 32 := 3#32
  let v1781 : BitVec 32 := Scalar.shli v1780 c3_i32_426
  let v1782 : BitVec 32 := v1781
  let v1933 : Index := Scalar.indexCast v1782
  let c0_469 : Index := 0#32
  ![v1932.toNat, v1933.toNat, 0]
def k0_off165 (k0_t1 : Fin k0_t1_loop.trips) : Fin 3 → Nat :=
  let c4_471 : Index := 4#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c1_i32_345 : BitVec 32 := 1#32
  let v1622 : BitVec 32 := Scalar.addi v5 c1_i32_345
  let v1952 : Index := Scalar.indexCast v1622
  let c0_472 : Index := 0#32
  ![4, v1952.toNat, 0]
def k0_off166 (v1630 : BitVec 32) (v1635 : BitVec 32) (v1661 : BitVec 32) (v1789 : BitVec 32) : Fin 3 → Nat :=
  let c199_i32_354 : BitVec 32 := 199#32
  let c0_i32_353 : BitVec 32 := 0#32
  let v1636 : BitVec 32 := Scalar.maxsi c0_i32_353 v1635
  let v1637 : BitVec 32 := Scalar.minsi c199_i32_354 v1636
  let v1662 : BitVec 32 := Scalar.addi v1637 v1661
  let v1957 : Index := Scalar.indexCast v1662
  let c199_i32_351 : BitVec 32 := 199#32
  let c0_i32_350 : BitVec 32 := 0#32
  let v1631 : BitVec 32 := Scalar.maxsi c0_i32_350 v1630
  let v1632 : BitVec 32 := Scalar.minsi c199_i32_351 v1631
  let v1790 : BitVec 32 := Scalar.addi v1632 v1789
  let c3_i32_432 : BitVec 32 := 3#32
  let v1793 : BitVec 32 := Scalar.shrsi v1790 c3_i32_432
  let c3_i32_433 : BitVec 32 := 3#32
  let v1794 : BitVec 32 := Scalar.shli v1793 c3_i32_433
  let v1795 : BitVec 32 := v1794
  let v1958 : Index := Scalar.indexCast v1795
  let c0_474 : Index := 0#32
  ![v1957.toNat, v1958.toNat, 0]
def k0_off167 (v1630 : BitVec 32) (v1635 : BitVec 32) (v1645 : BitVec 32) (v1661 : BitVec 32) (v1789 : BitVec 32) : Fin 3 → Nat :=
  let c199_i32_354 : BitVec 32 := 199#32
  let c0_i32_353 : BitVec 32 := 0#32
  let v1636 : BitVec 32 := Scalar.maxsi c0_i32_353 v1635
  let v1637 : BitVec 32 := Scalar.minsi c199_i32_354 v1636
  let v1662 : BitVec 32 := Scalar.addi v1637 v1661
  let c1_i32_368 : BitVec 32 := 1#32
  let v1663 : BitVec 32 := Scalar.addi v1662 c1_i32_368
  let c199_i32_360 : BitVec 32 := 199#32
  let c0_i32_359 : BitVec 32 := 0#32
  let v1646 : BitVec 32 := Scalar.maxsi c0_i32_359 v1645
  let v1647 : BitVec 32 := Scalar.minsi c199_i32_360 v1646
  let v1664 : BitVec 32 := Scalar.minsi v1663 v1647
  let v1961 : Index := Scalar.indexCast v1664
  let c199_i32_351 : BitVec 32 := 199#32
  let c0_i32_350 : BitVec 32 := 0#32
  let v1631 : BitVec 32 := Scalar.maxsi c0_i32_350 v1630
  let v1632 : BitVec 32 := Scalar.minsi c199_i32_351 v1631
  let v1790 : BitVec 32 := Scalar.addi v1632 v1789
  let c3_i32_432 : BitVec 32 := 3#32
  let v1793 : BitVec 32 := Scalar.shrsi v1790 c3_i32_432
  let c3_i32_433 : BitVec 32 := 3#32
  let v1794 : BitVec 32 := Scalar.shli v1793 c3_i32_433
  let v1795 : BitVec 32 := v1794
  let v1962 : Index := Scalar.indexCast v1795
  let c0_475 : Index := 0#32
  ![v1961.toNat, v1962.toNat, 0]
def k0_off168 (k0_t1 : Fin k0_t1_loop.trips) : Fin 3 → Nat :=
  let c5_477 : Index := 5#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c1_i32_345 : BitVec 32 := 1#32
  let v1622 : BitVec 32 := Scalar.addi v5 c1_i32_345
  let v1981 : Index := Scalar.indexCast v1622
  let c0_478 : Index := 0#32
  ![5, v1981.toNat, 0]
def k0_off169 (v1630 : BitVec 32) (v1635 : BitVec 32) (v1661 : BitVec 32) (v1802 : BitVec 32) : Fin 3 → Nat :=
  let c199_i32_354 : BitVec 32 := 199#32
  let c0_i32_353 : BitVec 32 := 0#32
  let v1636 : BitVec 32 := Scalar.maxsi c0_i32_353 v1635
  let v1637 : BitVec 32 := Scalar.minsi c199_i32_354 v1636
  let v1662 : BitVec 32 := Scalar.addi v1637 v1661
  let v1986 : Index := Scalar.indexCast v1662
  let c199_i32_351 : BitVec 32 := 199#32
  let c0_i32_350 : BitVec 32 := 0#32
  let v1631 : BitVec 32 := Scalar.maxsi c0_i32_350 v1630
  let v1632 : BitVec 32 := Scalar.minsi c199_i32_351 v1631
  let v1803 : BitVec 32 := Scalar.addi v1632 v1802
  let c3_i32_439 : BitVec 32 := 3#32
  let v1806 : BitVec 32 := Scalar.shrsi v1803 c3_i32_439
  let c3_i32_440 : BitVec 32 := 3#32
  let v1807 : BitVec 32 := Scalar.shli v1806 c3_i32_440
  let v1808 : BitVec 32 := v1807
  let v1987 : Index := Scalar.indexCast v1808
  let c0_480 : Index := 0#32
  ![v1986.toNat, v1987.toNat, 0]
def k0_off170 (v1630 : BitVec 32) (v1635 : BitVec 32) (v1645 : BitVec 32) (v1661 : BitVec 32) (v1802 : BitVec 32) : Fin 3 → Nat :=
  let c199_i32_354 : BitVec 32 := 199#32
  let c0_i32_353 : BitVec 32 := 0#32
  let v1636 : BitVec 32 := Scalar.maxsi c0_i32_353 v1635
  let v1637 : BitVec 32 := Scalar.minsi c199_i32_354 v1636
  let v1662 : BitVec 32 := Scalar.addi v1637 v1661
  let c1_i32_368 : BitVec 32 := 1#32
  let v1663 : BitVec 32 := Scalar.addi v1662 c1_i32_368
  let c199_i32_360 : BitVec 32 := 199#32
  let c0_i32_359 : BitVec 32 := 0#32
  let v1646 : BitVec 32 := Scalar.maxsi c0_i32_359 v1645
  let v1647 : BitVec 32 := Scalar.minsi c199_i32_360 v1646
  let v1664 : BitVec 32 := Scalar.minsi v1663 v1647
  let v1990 : Index := Scalar.indexCast v1664
  let c199_i32_351 : BitVec 32 := 199#32
  let c0_i32_350 : BitVec 32 := 0#32
  let v1631 : BitVec 32 := Scalar.maxsi c0_i32_350 v1630
  let v1632 : BitVec 32 := Scalar.minsi c199_i32_351 v1631
  let v1803 : BitVec 32 := Scalar.addi v1632 v1802
  let c3_i32_439 : BitVec 32 := 3#32
  let v1806 : BitVec 32 := Scalar.shrsi v1803 c3_i32_439
  let c3_i32_440 : BitVec 32 := 3#32
  let v1807 : BitVec 32 := Scalar.shli v1806 c3_i32_440
  let v1808 : BitVec 32 := v1807
  let v1991 : Index := Scalar.indexCast v1808
  let c0_481 : Index := 0#32
  ![v1990.toNat, v1991.toNat, 0]
def k0_off171 (k0_t1 : Fin k0_t1_loop.trips) : Fin 3 → Nat :=
  let c6_483 : Index := 6#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c1_i32_345 : BitVec 32 := 1#32
  let v1622 : BitVec 32 := Scalar.addi v5 c1_i32_345
  let v2010 : Index := Scalar.indexCast v1622
  let c0_484 : Index := 0#32
  ![6, v2010.toNat, 0]
def k0_off172 (v1630 : BitVec 32) (v1635 : BitVec 32) (v1670 : BitVec 32) (v1724 : BitVec 32) : Fin 3 → Nat :=
  let c199_i32_354 : BitVec 32 := 199#32
  let c0_i32_353 : BitVec 32 := 0#32
  let v1636 : BitVec 32 := Scalar.maxsi c0_i32_353 v1635
  let v1637 : BitVec 32 := Scalar.minsi c199_i32_354 v1636
  let v1671 : BitVec 32 := Scalar.addi v1637 v1670
  let v2016 : Index := Scalar.indexCast v1671
  let c199_i32_351 : BitVec 32 := 199#32
  let c0_i32_350 : BitVec 32 := 0#32
  let v1631 : BitVec 32 := Scalar.maxsi c0_i32_350 v1630
  let v1632 : BitVec 32 := Scalar.minsi c199_i32_351 v1631
  let v1725 : BitVec 32 := Scalar.addi v1632 v1724
  let c3_i32_397 : BitVec 32 := 3#32
  let v1728 : BitVec 32 := Scalar.shrsi v1725 c3_i32_397
  let c3_i32_398 : BitVec 32 := 3#32
  let v1729 : BitVec 32 := Scalar.shli v1728 c3_i32_398
  let v1730 : BitVec 32 := v1729
  let v2017 : Index := Scalar.indexCast v1730
  let c0_487 : Index := 0#32
  ![v2016.toNat, v2017.toNat, 0]
def k0_off173 (v1630 : BitVec 32) (v1635 : BitVec 32) (v1645 : BitVec 32) (v1670 : BitVec 32) (v1724 : BitVec 32) : Fin 3 → Nat :=
  let c199_i32_354 : BitVec 32 := 199#32
  let c0_i32_353 : BitVec 32 := 0#32
  let v1636 : BitVec 32 := Scalar.maxsi c0_i32_353 v1635
  let v1637 : BitVec 32 := Scalar.minsi c199_i32_354 v1636
  let v1671 : BitVec 32 := Scalar.addi v1637 v1670
  let c1_i32_372 : BitVec 32 := 1#32
  let v1672 : BitVec 32 := Scalar.addi v1671 c1_i32_372
  let c199_i32_360 : BitVec 32 := 199#32
  let c0_i32_359 : BitVec 32 := 0#32
  let v1646 : BitVec 32 := Scalar.maxsi c0_i32_359 v1645
  let v1647 : BitVec 32 := Scalar.minsi c199_i32_360 v1646
  let v1673 : BitVec 32 := Scalar.minsi v1672 v1647
  let v2020 : Index := Scalar.indexCast v1673
  let c199_i32_351 : BitVec 32 := 199#32
  let c0_i32_350 : BitVec 32 := 0#32
  let v1631 : BitVec 32 := Scalar.maxsi c0_i32_350 v1630
  let v1632 : BitVec 32 := Scalar.minsi c199_i32_351 v1631
  let v1725 : BitVec 32 := Scalar.addi v1632 v1724
  let c3_i32_397 : BitVec 32 := 3#32
  let v1728 : BitVec 32 := Scalar.shrsi v1725 c3_i32_397
  let c3_i32_398 : BitVec 32 := 3#32
  let v1729 : BitVec 32 := Scalar.shli v1728 c3_i32_398
  let v1730 : BitVec 32 := v1729
  let v2021 : Index := Scalar.indexCast v1730
  let c0_488 : Index := 0#32
  ![v2020.toNat, v2021.toNat, 0]
def k0_off174 (k0_t1 : Fin k0_t1_loop.trips) : Fin 3 → Nat :=
  let c7_490 : Index := 7#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c1_i32_345 : BitVec 32 := 1#32
  let v1622 : BitVec 32 := Scalar.addi v5 c1_i32_345
  let v2040 : Index := Scalar.indexCast v1622
  let c0_491 : Index := 0#32
  ![7, v2040.toNat, 0]
def k0_off175 (v1630 : BitVec 32) (v1635 : BitVec 32) (v1670 : BitVec 32) (v1737 : BitVec 32) : Fin 3 → Nat :=
  let c199_i32_354 : BitVec 32 := 199#32
  let c0_i32_353 : BitVec 32 := 0#32
  let v1636 : BitVec 32 := Scalar.maxsi c0_i32_353 v1635
  let v1637 : BitVec 32 := Scalar.minsi c199_i32_354 v1636
  let v1671 : BitVec 32 := Scalar.addi v1637 v1670
  let v2045 : Index := Scalar.indexCast v1671
  let c199_i32_351 : BitVec 32 := 199#32
  let c0_i32_350 : BitVec 32 := 0#32
  let v1631 : BitVec 32 := Scalar.maxsi c0_i32_350 v1630
  let v1632 : BitVec 32 := Scalar.minsi c199_i32_351 v1631
  let v1738 : BitVec 32 := Scalar.addi v1632 v1737
  let c3_i32_404 : BitVec 32 := 3#32
  let v1741 : BitVec 32 := Scalar.shrsi v1738 c3_i32_404
  let c3_i32_405 : BitVec 32 := 3#32
  let v1742 : BitVec 32 := Scalar.shli v1741 c3_i32_405
  let v1743 : BitVec 32 := v1742
  let v2046 : Index := Scalar.indexCast v1743
  let c0_493 : Index := 0#32
  ![v2045.toNat, v2046.toNat, 0]
def k0_off176 (v1630 : BitVec 32) (v1635 : BitVec 32) (v1645 : BitVec 32) (v1670 : BitVec 32) (v1737 : BitVec 32) : Fin 3 → Nat :=
  let c199_i32_354 : BitVec 32 := 199#32
  let c0_i32_353 : BitVec 32 := 0#32
  let v1636 : BitVec 32 := Scalar.maxsi c0_i32_353 v1635
  let v1637 : BitVec 32 := Scalar.minsi c199_i32_354 v1636
  let v1671 : BitVec 32 := Scalar.addi v1637 v1670
  let c1_i32_372 : BitVec 32 := 1#32
  let v1672 : BitVec 32 := Scalar.addi v1671 c1_i32_372
  let c199_i32_360 : BitVec 32 := 199#32
  let c0_i32_359 : BitVec 32 := 0#32
  let v1646 : BitVec 32 := Scalar.maxsi c0_i32_359 v1645
  let v1647 : BitVec 32 := Scalar.minsi c199_i32_360 v1646
  let v1673 : BitVec 32 := Scalar.minsi v1672 v1647
  let v2049 : Index := Scalar.indexCast v1673
  let c199_i32_351 : BitVec 32 := 199#32
  let c0_i32_350 : BitVec 32 := 0#32
  let v1631 : BitVec 32 := Scalar.maxsi c0_i32_350 v1630
  let v1632 : BitVec 32 := Scalar.minsi c199_i32_351 v1631
  let v1738 : BitVec 32 := Scalar.addi v1632 v1737
  let c3_i32_404 : BitVec 32 := 3#32
  let v1741 : BitVec 32 := Scalar.shrsi v1738 c3_i32_404
  let c3_i32_405 : BitVec 32 := 3#32
  let v1742 : BitVec 32 := Scalar.shli v1741 c3_i32_405
  let v1743 : BitVec 32 := v1742
  let v2050 : Index := Scalar.indexCast v1743
  let c0_494 : Index := 0#32
  ![v2049.toNat, v2050.toNat, 0]
def k0_off177 (k0_t1 : Fin k0_t1_loop.trips) : Fin 3 → Nat :=
  let c8_496 : Index := 8#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c1_i32_345 : BitVec 32 := 1#32
  let v1622 : BitVec 32 := Scalar.addi v5 c1_i32_345
  let v2069 : Index := Scalar.indexCast v1622
  let c0_497 : Index := 0#32
  ![8, v2069.toNat, 0]
def k0_off178 (v1630 : BitVec 32) (v1635 : BitVec 32) (v1670 : BitVec 32) (v1750 : BitVec 32) : Fin 3 → Nat :=
  let c199_i32_354 : BitVec 32 := 199#32
  let c0_i32_353 : BitVec 32 := 0#32
  let v1636 : BitVec 32 := Scalar.maxsi c0_i32_353 v1635
  let v1637 : BitVec 32 := Scalar.minsi c199_i32_354 v1636
  let v1671 : BitVec 32 := Scalar.addi v1637 v1670
  let v2074 : Index := Scalar.indexCast v1671
  let c199_i32_351 : BitVec 32 := 199#32
  let c0_i32_350 : BitVec 32 := 0#32
  let v1631 : BitVec 32 := Scalar.maxsi c0_i32_350 v1630
  let v1632 : BitVec 32 := Scalar.minsi c199_i32_351 v1631
  let v1751 : BitVec 32 := Scalar.addi v1632 v1750
  let c3_i32_411 : BitVec 32 := 3#32
  let v1754 : BitVec 32 := Scalar.shrsi v1751 c3_i32_411
  let c3_i32_412 : BitVec 32 := 3#32
  let v1755 : BitVec 32 := Scalar.shli v1754 c3_i32_412
  let v1756 : BitVec 32 := v1755
  let v2075 : Index := Scalar.indexCast v1756
  let c0_499 : Index := 0#32
  ![v2074.toNat, v2075.toNat, 0]
def k0_off179 (v1630 : BitVec 32) (v1635 : BitVec 32) (v1645 : BitVec 32) (v1670 : BitVec 32) (v1750 : BitVec 32) : Fin 3 → Nat :=
  let c199_i32_354 : BitVec 32 := 199#32
  let c0_i32_353 : BitVec 32 := 0#32
  let v1636 : BitVec 32 := Scalar.maxsi c0_i32_353 v1635
  let v1637 : BitVec 32 := Scalar.minsi c199_i32_354 v1636
  let v1671 : BitVec 32 := Scalar.addi v1637 v1670
  let c1_i32_372 : BitVec 32 := 1#32
  let v1672 : BitVec 32 := Scalar.addi v1671 c1_i32_372
  let c199_i32_360 : BitVec 32 := 199#32
  let c0_i32_359 : BitVec 32 := 0#32
  let v1646 : BitVec 32 := Scalar.maxsi c0_i32_359 v1645
  let v1647 : BitVec 32 := Scalar.minsi c199_i32_360 v1646
  let v1673 : BitVec 32 := Scalar.minsi v1672 v1647
  let v2078 : Index := Scalar.indexCast v1673
  let c199_i32_351 : BitVec 32 := 199#32
  let c0_i32_350 : BitVec 32 := 0#32
  let v1631 : BitVec 32 := Scalar.maxsi c0_i32_350 v1630
  let v1632 : BitVec 32 := Scalar.minsi c199_i32_351 v1631
  let v1751 : BitVec 32 := Scalar.addi v1632 v1750
  let c3_i32_411 : BitVec 32 := 3#32
  let v1754 : BitVec 32 := Scalar.shrsi v1751 c3_i32_411
  let c3_i32_412 : BitVec 32 := 3#32
  let v1755 : BitVec 32 := Scalar.shli v1754 c3_i32_412
  let v1756 : BitVec 32 := v1755
  let v2079 : Index := Scalar.indexCast v1756
  let c0_500 : Index := 0#32
  ![v2078.toNat, v2079.toNat, 0]
def k0_off180 (k0_t1 : Fin k0_t1_loop.trips) : Fin 3 → Nat :=
  let c9_502 : Index := 9#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c1_i32_345 : BitVec 32 := 1#32
  let v1622 : BitVec 32 := Scalar.addi v5 c1_i32_345
  let v2098 : Index := Scalar.indexCast v1622
  let c0_503 : Index := 0#32
  ![9, v2098.toNat, 0]
def k0_off181 (v1630 : BitVec 32) (v1635 : BitVec 32) (v1670 : BitVec 32) (v1763 : BitVec 32) : Fin 3 → Nat :=
  let c199_i32_354 : BitVec 32 := 199#32
  let c0_i32_353 : BitVec 32 := 0#32
  let v1636 : BitVec 32 := Scalar.maxsi c0_i32_353 v1635
  let v1637 : BitVec 32 := Scalar.minsi c199_i32_354 v1636
  let v1671 : BitVec 32 := Scalar.addi v1637 v1670
  let v2103 : Index := Scalar.indexCast v1671
  let c199_i32_351 : BitVec 32 := 199#32
  let c0_i32_350 : BitVec 32 := 0#32
  let v1631 : BitVec 32 := Scalar.maxsi c0_i32_350 v1630
  let v1632 : BitVec 32 := Scalar.minsi c199_i32_351 v1631
  let v1764 : BitVec 32 := Scalar.addi v1632 v1763
  let c3_i32_418 : BitVec 32 := 3#32
  let v1767 : BitVec 32 := Scalar.shrsi v1764 c3_i32_418
  let c3_i32_419 : BitVec 32 := 3#32
  let v1768 : BitVec 32 := Scalar.shli v1767 c3_i32_419
  let v1769 : BitVec 32 := v1768
  let v2104 : Index := Scalar.indexCast v1769
  let c0_505 : Index := 0#32
  ![v2103.toNat, v2104.toNat, 0]
def k0_off182 (v1630 : BitVec 32) (v1635 : BitVec 32) (v1645 : BitVec 32) (v1670 : BitVec 32) (v1763 : BitVec 32) : Fin 3 → Nat :=
  let c199_i32_354 : BitVec 32 := 199#32
  let c0_i32_353 : BitVec 32 := 0#32
  let v1636 : BitVec 32 := Scalar.maxsi c0_i32_353 v1635
  let v1637 : BitVec 32 := Scalar.minsi c199_i32_354 v1636
  let v1671 : BitVec 32 := Scalar.addi v1637 v1670
  let c1_i32_372 : BitVec 32 := 1#32
  let v1672 : BitVec 32 := Scalar.addi v1671 c1_i32_372
  let c199_i32_360 : BitVec 32 := 199#32
  let c0_i32_359 : BitVec 32 := 0#32
  let v1646 : BitVec 32 := Scalar.maxsi c0_i32_359 v1645
  let v1647 : BitVec 32 := Scalar.minsi c199_i32_360 v1646
  let v1673 : BitVec 32 := Scalar.minsi v1672 v1647
  let v2107 : Index := Scalar.indexCast v1673
  let c199_i32_351 : BitVec 32 := 199#32
  let c0_i32_350 : BitVec 32 := 0#32
  let v1631 : BitVec 32 := Scalar.maxsi c0_i32_350 v1630
  let v1632 : BitVec 32 := Scalar.minsi c199_i32_351 v1631
  let v1764 : BitVec 32 := Scalar.addi v1632 v1763
  let c3_i32_418 : BitVec 32 := 3#32
  let v1767 : BitVec 32 := Scalar.shrsi v1764 c3_i32_418
  let c3_i32_419 : BitVec 32 := 3#32
  let v1768 : BitVec 32 := Scalar.shli v1767 c3_i32_419
  let v1769 : BitVec 32 := v1768
  let v2108 : Index := Scalar.indexCast v1769
  let c0_506 : Index := 0#32
  ![v2107.toNat, v2108.toNat, 0]
def k0_off183 (k0_t1 : Fin k0_t1_loop.trips) : Fin 3 → Nat :=
  let c10_508 : Index := 10#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c1_i32_345 : BitVec 32 := 1#32
  let v1622 : BitVec 32 := Scalar.addi v5 c1_i32_345
  let v2127 : Index := Scalar.indexCast v1622
  let c0_509 : Index := 0#32
  ![10, v2127.toNat, 0]
def k0_off184 (v1630 : BitVec 32) (v1635 : BitVec 32) (v1670 : BitVec 32) (v1776 : BitVec 32) : Fin 3 → Nat :=
  let c199_i32_354 : BitVec 32 := 199#32
  let c0_i32_353 : BitVec 32 := 0#32
  let v1636 : BitVec 32 := Scalar.maxsi c0_i32_353 v1635
  let v1637 : BitVec 32 := Scalar.minsi c199_i32_354 v1636
  let v1671 : BitVec 32 := Scalar.addi v1637 v1670
  let v2132 : Index := Scalar.indexCast v1671
  let c199_i32_351 : BitVec 32 := 199#32
  let c0_i32_350 : BitVec 32 := 0#32
  let v1631 : BitVec 32 := Scalar.maxsi c0_i32_350 v1630
  let v1632 : BitVec 32 := Scalar.minsi c199_i32_351 v1631
  let v1777 : BitVec 32 := Scalar.addi v1632 v1776
  let c3_i32_425 : BitVec 32 := 3#32
  let v1780 : BitVec 32 := Scalar.shrsi v1777 c3_i32_425
  let c3_i32_426 : BitVec 32 := 3#32
  let v1781 : BitVec 32 := Scalar.shli v1780 c3_i32_426
  let v1782 : BitVec 32 := v1781
  let v2133 : Index := Scalar.indexCast v1782
  let c0_511 : Index := 0#32
  ![v2132.toNat, v2133.toNat, 0]
def k0_off185 (v1630 : BitVec 32) (v1635 : BitVec 32) (v1645 : BitVec 32) (v1670 : BitVec 32) (v1776 : BitVec 32) : Fin 3 → Nat :=
  let c199_i32_354 : BitVec 32 := 199#32
  let c0_i32_353 : BitVec 32 := 0#32
  let v1636 : BitVec 32 := Scalar.maxsi c0_i32_353 v1635
  let v1637 : BitVec 32 := Scalar.minsi c199_i32_354 v1636
  let v1671 : BitVec 32 := Scalar.addi v1637 v1670
  let c1_i32_372 : BitVec 32 := 1#32
  let v1672 : BitVec 32 := Scalar.addi v1671 c1_i32_372
  let c199_i32_360 : BitVec 32 := 199#32
  let c0_i32_359 : BitVec 32 := 0#32
  let v1646 : BitVec 32 := Scalar.maxsi c0_i32_359 v1645
  let v1647 : BitVec 32 := Scalar.minsi c199_i32_360 v1646
  let v1673 : BitVec 32 := Scalar.minsi v1672 v1647
  let v2136 : Index := Scalar.indexCast v1673
  let c199_i32_351 : BitVec 32 := 199#32
  let c0_i32_350 : BitVec 32 := 0#32
  let v1631 : BitVec 32 := Scalar.maxsi c0_i32_350 v1630
  let v1632 : BitVec 32 := Scalar.minsi c199_i32_351 v1631
  let v1777 : BitVec 32 := Scalar.addi v1632 v1776
  let c3_i32_425 : BitVec 32 := 3#32
  let v1780 : BitVec 32 := Scalar.shrsi v1777 c3_i32_425
  let c3_i32_426 : BitVec 32 := 3#32
  let v1781 : BitVec 32 := Scalar.shli v1780 c3_i32_426
  let v1782 : BitVec 32 := v1781
  let v2137 : Index := Scalar.indexCast v1782
  let c0_512 : Index := 0#32
  ![v2136.toNat, v2137.toNat, 0]
def k0_off186 (k0_t1 : Fin k0_t1_loop.trips) : Fin 3 → Nat :=
  let c11_514 : Index := 11#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c1_i32_345 : BitVec 32 := 1#32
  let v1622 : BitVec 32 := Scalar.addi v5 c1_i32_345
  let v2156 : Index := Scalar.indexCast v1622
  let c0_515 : Index := 0#32
  ![11, v2156.toNat, 0]
def k0_off187 (v1630 : BitVec 32) (v1635 : BitVec 32) (v1670 : BitVec 32) (v1789 : BitVec 32) : Fin 3 → Nat :=
  let c199_i32_354 : BitVec 32 := 199#32
  let c0_i32_353 : BitVec 32 := 0#32
  let v1636 : BitVec 32 := Scalar.maxsi c0_i32_353 v1635
  let v1637 : BitVec 32 := Scalar.minsi c199_i32_354 v1636
  let v1671 : BitVec 32 := Scalar.addi v1637 v1670
  let v2161 : Index := Scalar.indexCast v1671
  let c199_i32_351 : BitVec 32 := 199#32
  let c0_i32_350 : BitVec 32 := 0#32
  let v1631 : BitVec 32 := Scalar.maxsi c0_i32_350 v1630
  let v1632 : BitVec 32 := Scalar.minsi c199_i32_351 v1631
  let v1790 : BitVec 32 := Scalar.addi v1632 v1789
  let c3_i32_432 : BitVec 32 := 3#32
  let v1793 : BitVec 32 := Scalar.shrsi v1790 c3_i32_432
  let c3_i32_433 : BitVec 32 := 3#32
  let v1794 : BitVec 32 := Scalar.shli v1793 c3_i32_433
  let v1795 : BitVec 32 := v1794
  let v2162 : Index := Scalar.indexCast v1795
  let c0_517 : Index := 0#32
  ![v2161.toNat, v2162.toNat, 0]
def k0_off188 (v1630 : BitVec 32) (v1635 : BitVec 32) (v1645 : BitVec 32) (v1670 : BitVec 32) (v1789 : BitVec 32) : Fin 3 → Nat :=
  let c199_i32_354 : BitVec 32 := 199#32
  let c0_i32_353 : BitVec 32 := 0#32
  let v1636 : BitVec 32 := Scalar.maxsi c0_i32_353 v1635
  let v1637 : BitVec 32 := Scalar.minsi c199_i32_354 v1636
  let v1671 : BitVec 32 := Scalar.addi v1637 v1670
  let c1_i32_372 : BitVec 32 := 1#32
  let v1672 : BitVec 32 := Scalar.addi v1671 c1_i32_372
  let c199_i32_360 : BitVec 32 := 199#32
  let c0_i32_359 : BitVec 32 := 0#32
  let v1646 : BitVec 32 := Scalar.maxsi c0_i32_359 v1645
  let v1647 : BitVec 32 := Scalar.minsi c199_i32_360 v1646
  let v1673 : BitVec 32 := Scalar.minsi v1672 v1647
  let v2165 : Index := Scalar.indexCast v1673
  let c199_i32_351 : BitVec 32 := 199#32
  let c0_i32_350 : BitVec 32 := 0#32
  let v1631 : BitVec 32 := Scalar.maxsi c0_i32_350 v1630
  let v1632 : BitVec 32 := Scalar.minsi c199_i32_351 v1631
  let v1790 : BitVec 32 := Scalar.addi v1632 v1789
  let c3_i32_432 : BitVec 32 := 3#32
  let v1793 : BitVec 32 := Scalar.shrsi v1790 c3_i32_432
  let c3_i32_433 : BitVec 32 := 3#32
  let v1794 : BitVec 32 := Scalar.shli v1793 c3_i32_433
  let v1795 : BitVec 32 := v1794
  let v2166 : Index := Scalar.indexCast v1795
  let c0_518 : Index := 0#32
  ![v2165.toNat, v2166.toNat, 0]
def k0_off189 (k0_t1 : Fin k0_t1_loop.trips) : Fin 3 → Nat :=
  let c12_520 : Index := 12#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c1_i32_345 : BitVec 32 := 1#32
  let v1622 : BitVec 32 := Scalar.addi v5 c1_i32_345
  let v2185 : Index := Scalar.indexCast v1622
  let c0_521 : Index := 0#32
  ![12, v2185.toNat, 0]
def k0_off190 (v1630 : BitVec 32) (v1635 : BitVec 32) (v1670 : BitVec 32) (v1802 : BitVec 32) : Fin 3 → Nat :=
  let c199_i32_354 : BitVec 32 := 199#32
  let c0_i32_353 : BitVec 32 := 0#32
  let v1636 : BitVec 32 := Scalar.maxsi c0_i32_353 v1635
  let v1637 : BitVec 32 := Scalar.minsi c199_i32_354 v1636
  let v1671 : BitVec 32 := Scalar.addi v1637 v1670
  let v2190 : Index := Scalar.indexCast v1671
  let c199_i32_351 : BitVec 32 := 199#32
  let c0_i32_350 : BitVec 32 := 0#32
  let v1631 : BitVec 32 := Scalar.maxsi c0_i32_350 v1630
  let v1632 : BitVec 32 := Scalar.minsi c199_i32_351 v1631
  let v1803 : BitVec 32 := Scalar.addi v1632 v1802
  let c3_i32_439 : BitVec 32 := 3#32
  let v1806 : BitVec 32 := Scalar.shrsi v1803 c3_i32_439
  let c3_i32_440 : BitVec 32 := 3#32
  let v1807 : BitVec 32 := Scalar.shli v1806 c3_i32_440
  let v1808 : BitVec 32 := v1807
  let v2191 : Index := Scalar.indexCast v1808
  let c0_523 : Index := 0#32
  ![v2190.toNat, v2191.toNat, 0]
def k0_off191 (v1630 : BitVec 32) (v1635 : BitVec 32) (v1645 : BitVec 32) (v1670 : BitVec 32) (v1802 : BitVec 32) : Fin 3 → Nat :=
  let c199_i32_354 : BitVec 32 := 199#32
  let c0_i32_353 : BitVec 32 := 0#32
  let v1636 : BitVec 32 := Scalar.maxsi c0_i32_353 v1635
  let v1637 : BitVec 32 := Scalar.minsi c199_i32_354 v1636
  let v1671 : BitVec 32 := Scalar.addi v1637 v1670
  let c1_i32_372 : BitVec 32 := 1#32
  let v1672 : BitVec 32 := Scalar.addi v1671 c1_i32_372
  let c199_i32_360 : BitVec 32 := 199#32
  let c0_i32_359 : BitVec 32 := 0#32
  let v1646 : BitVec 32 := Scalar.maxsi c0_i32_359 v1645
  let v1647 : BitVec 32 := Scalar.minsi c199_i32_360 v1646
  let v1673 : BitVec 32 := Scalar.minsi v1672 v1647
  let v2194 : Index := Scalar.indexCast v1673
  let c199_i32_351 : BitVec 32 := 199#32
  let c0_i32_350 : BitVec 32 := 0#32
  let v1631 : BitVec 32 := Scalar.maxsi c0_i32_350 v1630
  let v1632 : BitVec 32 := Scalar.minsi c199_i32_351 v1631
  let v1803 : BitVec 32 := Scalar.addi v1632 v1802
  let c3_i32_439 : BitVec 32 := 3#32
  let v1806 : BitVec 32 := Scalar.shrsi v1803 c3_i32_439
  let c3_i32_440 : BitVec 32 := 3#32
  let v1807 : BitVec 32 := Scalar.shli v1806 c3_i32_440
  let v1808 : BitVec 32 := v1807
  let v2195 : Index := Scalar.indexCast v1808
  let c0_524 : Index := 0#32
  ![v2194.toNat, v2195.toNat, 0]
def k0_off192 (k0_t1 : Fin k0_t1_loop.trips) : Fin 3 → Nat :=
  let c13_526 : Index := 13#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c1_i32_345 : BitVec 32 := 1#32
  let v1622 : BitVec 32 := Scalar.addi v5 c1_i32_345
  let v2214 : Index := Scalar.indexCast v1622
  let c0_527 : Index := 0#32
  ![13, v2214.toNat, 0]
def k0_off193 (v1630 : BitVec 32) (v1635 : BitVec 32) (v1679 : BitVec 32) (v1724 : BitVec 32) : Fin 3 → Nat :=
  let c199_i32_354 : BitVec 32 := 199#32
  let c0_i32_353 : BitVec 32 := 0#32
  let v1636 : BitVec 32 := Scalar.maxsi c0_i32_353 v1635
  let v1637 : BitVec 32 := Scalar.minsi c199_i32_354 v1636
  let v1680 : BitVec 32 := Scalar.addi v1637 v1679
  let v2220 : Index := Scalar.indexCast v1680
  let c199_i32_351 : BitVec 32 := 199#32
  let c0_i32_350 : BitVec 32 := 0#32
  let v1631 : BitVec 32 := Scalar.maxsi c0_i32_350 v1630
  let v1632 : BitVec 32 := Scalar.minsi c199_i32_351 v1631
  let v1725 : BitVec 32 := Scalar.addi v1632 v1724
  let c3_i32_397 : BitVec 32 := 3#32
  let v1728 : BitVec 32 := Scalar.shrsi v1725 c3_i32_397
  let c3_i32_398 : BitVec 32 := 3#32
  let v1729 : BitVec 32 := Scalar.shli v1728 c3_i32_398
  let v1730 : BitVec 32 := v1729
  let v2221 : Index := Scalar.indexCast v1730
  let c0_530 : Index := 0#32
  ![v2220.toNat, v2221.toNat, 0]
def k0_off194 (v1630 : BitVec 32) (v1635 : BitVec 32) (v1645 : BitVec 32) (v1679 : BitVec 32) (v1724 : BitVec 32) : Fin 3 → Nat :=
  let c199_i32_354 : BitVec 32 := 199#32
  let c0_i32_353 : BitVec 32 := 0#32
  let v1636 : BitVec 32 := Scalar.maxsi c0_i32_353 v1635
  let v1637 : BitVec 32 := Scalar.minsi c199_i32_354 v1636
  let v1680 : BitVec 32 := Scalar.addi v1637 v1679
  let c1_i32_376 : BitVec 32 := 1#32
  let v1681 : BitVec 32 := Scalar.addi v1680 c1_i32_376
  let c199_i32_360 : BitVec 32 := 199#32
  let c0_i32_359 : BitVec 32 := 0#32
  let v1646 : BitVec 32 := Scalar.maxsi c0_i32_359 v1645
  let v1647 : BitVec 32 := Scalar.minsi c199_i32_360 v1646
  let v1682 : BitVec 32 := Scalar.minsi v1681 v1647
  let v2224 : Index := Scalar.indexCast v1682
  let c199_i32_351 : BitVec 32 := 199#32
  let c0_i32_350 : BitVec 32 := 0#32
  let v1631 : BitVec 32 := Scalar.maxsi c0_i32_350 v1630
  let v1632 : BitVec 32 := Scalar.minsi c199_i32_351 v1631
  let v1725 : BitVec 32 := Scalar.addi v1632 v1724
  let c3_i32_397 : BitVec 32 := 3#32
  let v1728 : BitVec 32 := Scalar.shrsi v1725 c3_i32_397
  let c3_i32_398 : BitVec 32 := 3#32
  let v1729 : BitVec 32 := Scalar.shli v1728 c3_i32_398
  let v1730 : BitVec 32 := v1729
  let v2225 : Index := Scalar.indexCast v1730
  let c0_531 : Index := 0#32
  ![v2224.toNat, v2225.toNat, 0]
def k0_off195 (k0_t1 : Fin k0_t1_loop.trips) : Fin 3 → Nat :=
  let c14_533 : Index := 14#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c1_i32_345 : BitVec 32 := 1#32
  let v1622 : BitVec 32 := Scalar.addi v5 c1_i32_345
  let v2244 : Index := Scalar.indexCast v1622
  let c0_534 : Index := 0#32
  ![14, v2244.toNat, 0]
def k0_off196 (v1630 : BitVec 32) (v1635 : BitVec 32) (v1679 : BitVec 32) (v1737 : BitVec 32) : Fin 3 → Nat :=
  let c199_i32_354 : BitVec 32 := 199#32
  let c0_i32_353 : BitVec 32 := 0#32
  let v1636 : BitVec 32 := Scalar.maxsi c0_i32_353 v1635
  let v1637 : BitVec 32 := Scalar.minsi c199_i32_354 v1636
  let v1680 : BitVec 32 := Scalar.addi v1637 v1679
  let v2249 : Index := Scalar.indexCast v1680
  let c199_i32_351 : BitVec 32 := 199#32
  let c0_i32_350 : BitVec 32 := 0#32
  let v1631 : BitVec 32 := Scalar.maxsi c0_i32_350 v1630
  let v1632 : BitVec 32 := Scalar.minsi c199_i32_351 v1631
  let v1738 : BitVec 32 := Scalar.addi v1632 v1737
  let c3_i32_404 : BitVec 32 := 3#32
  let v1741 : BitVec 32 := Scalar.shrsi v1738 c3_i32_404
  let c3_i32_405 : BitVec 32 := 3#32
  let v1742 : BitVec 32 := Scalar.shli v1741 c3_i32_405
  let v1743 : BitVec 32 := v1742
  let v2250 : Index := Scalar.indexCast v1743
  let c0_536 : Index := 0#32
  ![v2249.toNat, v2250.toNat, 0]
def k0_off197 (v1630 : BitVec 32) (v1635 : BitVec 32) (v1645 : BitVec 32) (v1679 : BitVec 32) (v1737 : BitVec 32) : Fin 3 → Nat :=
  let c199_i32_354 : BitVec 32 := 199#32
  let c0_i32_353 : BitVec 32 := 0#32
  let v1636 : BitVec 32 := Scalar.maxsi c0_i32_353 v1635
  let v1637 : BitVec 32 := Scalar.minsi c199_i32_354 v1636
  let v1680 : BitVec 32 := Scalar.addi v1637 v1679
  let c1_i32_376 : BitVec 32 := 1#32
  let v1681 : BitVec 32 := Scalar.addi v1680 c1_i32_376
  let c199_i32_360 : BitVec 32 := 199#32
  let c0_i32_359 : BitVec 32 := 0#32
  let v1646 : BitVec 32 := Scalar.maxsi c0_i32_359 v1645
  let v1647 : BitVec 32 := Scalar.minsi c199_i32_360 v1646
  let v1682 : BitVec 32 := Scalar.minsi v1681 v1647
  let v2253 : Index := Scalar.indexCast v1682
  let c199_i32_351 : BitVec 32 := 199#32
  let c0_i32_350 : BitVec 32 := 0#32
  let v1631 : BitVec 32 := Scalar.maxsi c0_i32_350 v1630
  let v1632 : BitVec 32 := Scalar.minsi c199_i32_351 v1631
  let v1738 : BitVec 32 := Scalar.addi v1632 v1737
  let c3_i32_404 : BitVec 32 := 3#32
  let v1741 : BitVec 32 := Scalar.shrsi v1738 c3_i32_404
  let c3_i32_405 : BitVec 32 := 3#32
  let v1742 : BitVec 32 := Scalar.shli v1741 c3_i32_405
  let v1743 : BitVec 32 := v1742
  let v2254 : Index := Scalar.indexCast v1743
  let c0_537 : Index := 0#32
  ![v2253.toNat, v2254.toNat, 0]
def k0_off198 (k0_t1 : Fin k0_t1_loop.trips) : Fin 3 → Nat :=
  let c15_539 : Index := 15#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c1_i32_345 : BitVec 32 := 1#32
  let v1622 : BitVec 32 := Scalar.addi v5 c1_i32_345
  let v2273 : Index := Scalar.indexCast v1622
  let c0_540 : Index := 0#32
  ![15, v2273.toNat, 0]
def k0_off199 (v1630 : BitVec 32) (v1635 : BitVec 32) (v1679 : BitVec 32) (v1750 : BitVec 32) : Fin 3 → Nat :=
  let c199_i32_354 : BitVec 32 := 199#32
  let c0_i32_353 : BitVec 32 := 0#32
  let v1636 : BitVec 32 := Scalar.maxsi c0_i32_353 v1635
  let v1637 : BitVec 32 := Scalar.minsi c199_i32_354 v1636
  let v1680 : BitVec 32 := Scalar.addi v1637 v1679
  let v2278 : Index := Scalar.indexCast v1680
  let c199_i32_351 : BitVec 32 := 199#32
  let c0_i32_350 : BitVec 32 := 0#32
  let v1631 : BitVec 32 := Scalar.maxsi c0_i32_350 v1630
  let v1632 : BitVec 32 := Scalar.minsi c199_i32_351 v1631
  let v1751 : BitVec 32 := Scalar.addi v1632 v1750
  let c3_i32_411 : BitVec 32 := 3#32
  let v1754 : BitVec 32 := Scalar.shrsi v1751 c3_i32_411
  let c3_i32_412 : BitVec 32 := 3#32
  let v1755 : BitVec 32 := Scalar.shli v1754 c3_i32_412
  let v1756 : BitVec 32 := v1755
  let v2279 : Index := Scalar.indexCast v1756
  let c0_542 : Index := 0#32
  ![v2278.toNat, v2279.toNat, 0]
def k0_off200 (v1630 : BitVec 32) (v1635 : BitVec 32) (v1645 : BitVec 32) (v1679 : BitVec 32) (v1750 : BitVec 32) : Fin 3 → Nat :=
  let c199_i32_354 : BitVec 32 := 199#32
  let c0_i32_353 : BitVec 32 := 0#32
  let v1636 : BitVec 32 := Scalar.maxsi c0_i32_353 v1635
  let v1637 : BitVec 32 := Scalar.minsi c199_i32_354 v1636
  let v1680 : BitVec 32 := Scalar.addi v1637 v1679
  let c1_i32_376 : BitVec 32 := 1#32
  let v1681 : BitVec 32 := Scalar.addi v1680 c1_i32_376
  let c199_i32_360 : BitVec 32 := 199#32
  let c0_i32_359 : BitVec 32 := 0#32
  let v1646 : BitVec 32 := Scalar.maxsi c0_i32_359 v1645
  let v1647 : BitVec 32 := Scalar.minsi c199_i32_360 v1646
  let v1682 : BitVec 32 := Scalar.minsi v1681 v1647
  let v2282 : Index := Scalar.indexCast v1682
  let c199_i32_351 : BitVec 32 := 199#32
  let c0_i32_350 : BitVec 32 := 0#32
  let v1631 : BitVec 32 := Scalar.maxsi c0_i32_350 v1630
  let v1632 : BitVec 32 := Scalar.minsi c199_i32_351 v1631
  let v1751 : BitVec 32 := Scalar.addi v1632 v1750
  let c3_i32_411 : BitVec 32 := 3#32
  let v1754 : BitVec 32 := Scalar.shrsi v1751 c3_i32_411
  let c3_i32_412 : BitVec 32 := 3#32
  let v1755 : BitVec 32 := Scalar.shli v1754 c3_i32_412
  let v1756 : BitVec 32 := v1755
  let v2283 : Index := Scalar.indexCast v1756
  let c0_543 : Index := 0#32
  ![v2282.toNat, v2283.toNat, 0]
def k0_off201 (k0_t1 : Fin k0_t1_loop.trips) : Fin 3 → Nat :=
  let c16_545 : Index := 16#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c1_i32_345 : BitVec 32 := 1#32
  let v1622 : BitVec 32 := Scalar.addi v5 c1_i32_345
  let v2302 : Index := Scalar.indexCast v1622
  let c0_546 : Index := 0#32
  ![16, v2302.toNat, 0]
def k0_off202 (v1630 : BitVec 32) (v1635 : BitVec 32) (v1679 : BitVec 32) (v1763 : BitVec 32) : Fin 3 → Nat :=
  let c199_i32_354 : BitVec 32 := 199#32
  let c0_i32_353 : BitVec 32 := 0#32
  let v1636 : BitVec 32 := Scalar.maxsi c0_i32_353 v1635
  let v1637 : BitVec 32 := Scalar.minsi c199_i32_354 v1636
  let v1680 : BitVec 32 := Scalar.addi v1637 v1679
  let v2307 : Index := Scalar.indexCast v1680
  let c199_i32_351 : BitVec 32 := 199#32
  let c0_i32_350 : BitVec 32 := 0#32
  let v1631 : BitVec 32 := Scalar.maxsi c0_i32_350 v1630
  let v1632 : BitVec 32 := Scalar.minsi c199_i32_351 v1631
  let v1764 : BitVec 32 := Scalar.addi v1632 v1763
  let c3_i32_418 : BitVec 32 := 3#32
  let v1767 : BitVec 32 := Scalar.shrsi v1764 c3_i32_418
  let c3_i32_419 : BitVec 32 := 3#32
  let v1768 : BitVec 32 := Scalar.shli v1767 c3_i32_419
  let v1769 : BitVec 32 := v1768
  let v2308 : Index := Scalar.indexCast v1769
  let c0_548 : Index := 0#32
  ![v2307.toNat, v2308.toNat, 0]
def k0_off203 (v1630 : BitVec 32) (v1635 : BitVec 32) (v1645 : BitVec 32) (v1679 : BitVec 32) (v1763 : BitVec 32) : Fin 3 → Nat :=
  let c199_i32_354 : BitVec 32 := 199#32
  let c0_i32_353 : BitVec 32 := 0#32
  let v1636 : BitVec 32 := Scalar.maxsi c0_i32_353 v1635
  let v1637 : BitVec 32 := Scalar.minsi c199_i32_354 v1636
  let v1680 : BitVec 32 := Scalar.addi v1637 v1679
  let c1_i32_376 : BitVec 32 := 1#32
  let v1681 : BitVec 32 := Scalar.addi v1680 c1_i32_376
  let c199_i32_360 : BitVec 32 := 199#32
  let c0_i32_359 : BitVec 32 := 0#32
  let v1646 : BitVec 32 := Scalar.maxsi c0_i32_359 v1645
  let v1647 : BitVec 32 := Scalar.minsi c199_i32_360 v1646
  let v1682 : BitVec 32 := Scalar.minsi v1681 v1647
  let v2311 : Index := Scalar.indexCast v1682
  let c199_i32_351 : BitVec 32 := 199#32
  let c0_i32_350 : BitVec 32 := 0#32
  let v1631 : BitVec 32 := Scalar.maxsi c0_i32_350 v1630
  let v1632 : BitVec 32 := Scalar.minsi c199_i32_351 v1631
  let v1764 : BitVec 32 := Scalar.addi v1632 v1763
  let c3_i32_418 : BitVec 32 := 3#32
  let v1767 : BitVec 32 := Scalar.shrsi v1764 c3_i32_418
  let c3_i32_419 : BitVec 32 := 3#32
  let v1768 : BitVec 32 := Scalar.shli v1767 c3_i32_419
  let v1769 : BitVec 32 := v1768
  let v2312 : Index := Scalar.indexCast v1769
  let c0_549 : Index := 0#32
  ![v2311.toNat, v2312.toNat, 0]
def k0_off204 (k0_t1 : Fin k0_t1_loop.trips) : Fin 3 → Nat :=
  let c17_551 : Index := 17#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c1_i32_345 : BitVec 32 := 1#32
  let v1622 : BitVec 32 := Scalar.addi v5 c1_i32_345
  let v2331 : Index := Scalar.indexCast v1622
  let c0_552 : Index := 0#32
  ![17, v2331.toNat, 0]
def k0_off205 (v1630 : BitVec 32) (v1635 : BitVec 32) (v1679 : BitVec 32) (v1776 : BitVec 32) : Fin 3 → Nat :=
  let c199_i32_354 : BitVec 32 := 199#32
  let c0_i32_353 : BitVec 32 := 0#32
  let v1636 : BitVec 32 := Scalar.maxsi c0_i32_353 v1635
  let v1637 : BitVec 32 := Scalar.minsi c199_i32_354 v1636
  let v1680 : BitVec 32 := Scalar.addi v1637 v1679
  let v2336 : Index := Scalar.indexCast v1680
  let c199_i32_351 : BitVec 32 := 199#32
  let c0_i32_350 : BitVec 32 := 0#32
  let v1631 : BitVec 32 := Scalar.maxsi c0_i32_350 v1630
  let v1632 : BitVec 32 := Scalar.minsi c199_i32_351 v1631
  let v1777 : BitVec 32 := Scalar.addi v1632 v1776
  let c3_i32_425 : BitVec 32 := 3#32
  let v1780 : BitVec 32 := Scalar.shrsi v1777 c3_i32_425
  let c3_i32_426 : BitVec 32 := 3#32
  let v1781 : BitVec 32 := Scalar.shli v1780 c3_i32_426
  let v1782 : BitVec 32 := v1781
  let v2337 : Index := Scalar.indexCast v1782
  let c0_554 : Index := 0#32
  ![v2336.toNat, v2337.toNat, 0]
def k0_off206 (v1630 : BitVec 32) (v1635 : BitVec 32) (v1645 : BitVec 32) (v1679 : BitVec 32) (v1776 : BitVec 32) : Fin 3 → Nat :=
  let c199_i32_354 : BitVec 32 := 199#32
  let c0_i32_353 : BitVec 32 := 0#32
  let v1636 : BitVec 32 := Scalar.maxsi c0_i32_353 v1635
  let v1637 : BitVec 32 := Scalar.minsi c199_i32_354 v1636
  let v1680 : BitVec 32 := Scalar.addi v1637 v1679
  let c1_i32_376 : BitVec 32 := 1#32
  let v1681 : BitVec 32 := Scalar.addi v1680 c1_i32_376
  let c199_i32_360 : BitVec 32 := 199#32
  let c0_i32_359 : BitVec 32 := 0#32
  let v1646 : BitVec 32 := Scalar.maxsi c0_i32_359 v1645
  let v1647 : BitVec 32 := Scalar.minsi c199_i32_360 v1646
  let v1682 : BitVec 32 := Scalar.minsi v1681 v1647
  let v2340 : Index := Scalar.indexCast v1682
  let c199_i32_351 : BitVec 32 := 199#32
  let c0_i32_350 : BitVec 32 := 0#32
  let v1631 : BitVec 32 := Scalar.maxsi c0_i32_350 v1630
  let v1632 : BitVec 32 := Scalar.minsi c199_i32_351 v1631
  let v1777 : BitVec 32 := Scalar.addi v1632 v1776
  let c3_i32_425 : BitVec 32 := 3#32
  let v1780 : BitVec 32 := Scalar.shrsi v1777 c3_i32_425
  let c3_i32_426 : BitVec 32 := 3#32
  let v1781 : BitVec 32 := Scalar.shli v1780 c3_i32_426
  let v1782 : BitVec 32 := v1781
  let v2341 : Index := Scalar.indexCast v1782
  let c0_555 : Index := 0#32
  ![v2340.toNat, v2341.toNat, 0]
def k0_off207 (k0_t1 : Fin k0_t1_loop.trips) : Fin 3 → Nat :=
  let c18_557 : Index := 18#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c1_i32_345 : BitVec 32 := 1#32
  let v1622 : BitVec 32 := Scalar.addi v5 c1_i32_345
  let v2360 : Index := Scalar.indexCast v1622
  let c0_558 : Index := 0#32
  ![18, v2360.toNat, 0]
def k0_off208 (v1630 : BitVec 32) (v1635 : BitVec 32) (v1679 : BitVec 32) (v1789 : BitVec 32) : Fin 3 → Nat :=
  let c199_i32_354 : BitVec 32 := 199#32
  let c0_i32_353 : BitVec 32 := 0#32
  let v1636 : BitVec 32 := Scalar.maxsi c0_i32_353 v1635
  let v1637 : BitVec 32 := Scalar.minsi c199_i32_354 v1636
  let v1680 : BitVec 32 := Scalar.addi v1637 v1679
  let v2365 : Index := Scalar.indexCast v1680
  let c199_i32_351 : BitVec 32 := 199#32
  let c0_i32_350 : BitVec 32 := 0#32
  let v1631 : BitVec 32 := Scalar.maxsi c0_i32_350 v1630
  let v1632 : BitVec 32 := Scalar.minsi c199_i32_351 v1631
  let v1790 : BitVec 32 := Scalar.addi v1632 v1789
  let c3_i32_432 : BitVec 32 := 3#32
  let v1793 : BitVec 32 := Scalar.shrsi v1790 c3_i32_432
  let c3_i32_433 : BitVec 32 := 3#32
  let v1794 : BitVec 32 := Scalar.shli v1793 c3_i32_433
  let v1795 : BitVec 32 := v1794
  let v2366 : Index := Scalar.indexCast v1795
  let c0_560 : Index := 0#32
  ![v2365.toNat, v2366.toNat, 0]
def k0_off209 (v1630 : BitVec 32) (v1635 : BitVec 32) (v1645 : BitVec 32) (v1679 : BitVec 32) (v1789 : BitVec 32) : Fin 3 → Nat :=
  let c199_i32_354 : BitVec 32 := 199#32
  let c0_i32_353 : BitVec 32 := 0#32
  let v1636 : BitVec 32 := Scalar.maxsi c0_i32_353 v1635
  let v1637 : BitVec 32 := Scalar.minsi c199_i32_354 v1636
  let v1680 : BitVec 32 := Scalar.addi v1637 v1679
  let c1_i32_376 : BitVec 32 := 1#32
  let v1681 : BitVec 32 := Scalar.addi v1680 c1_i32_376
  let c199_i32_360 : BitVec 32 := 199#32
  let c0_i32_359 : BitVec 32 := 0#32
  let v1646 : BitVec 32 := Scalar.maxsi c0_i32_359 v1645
  let v1647 : BitVec 32 := Scalar.minsi c199_i32_360 v1646
  let v1682 : BitVec 32 := Scalar.minsi v1681 v1647
  let v2369 : Index := Scalar.indexCast v1682
  let c199_i32_351 : BitVec 32 := 199#32
  let c0_i32_350 : BitVec 32 := 0#32
  let v1631 : BitVec 32 := Scalar.maxsi c0_i32_350 v1630
  let v1632 : BitVec 32 := Scalar.minsi c199_i32_351 v1631
  let v1790 : BitVec 32 := Scalar.addi v1632 v1789
  let c3_i32_432 : BitVec 32 := 3#32
  let v1793 : BitVec 32 := Scalar.shrsi v1790 c3_i32_432
  let c3_i32_433 : BitVec 32 := 3#32
  let v1794 : BitVec 32 := Scalar.shli v1793 c3_i32_433
  let v1795 : BitVec 32 := v1794
  let v2370 : Index := Scalar.indexCast v1795
  let c0_561 : Index := 0#32
  ![v2369.toNat, v2370.toNat, 0]
def k0_off210 (k0_t1 : Fin k0_t1_loop.trips) : Fin 3 → Nat :=
  let c19_563 : Index := 19#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c1_i32_345 : BitVec 32 := 1#32
  let v1622 : BitVec 32 := Scalar.addi v5 c1_i32_345
  let v2389 : Index := Scalar.indexCast v1622
  let c0_564 : Index := 0#32
  ![19, v2389.toNat, 0]
def k0_off211 (v1630 : BitVec 32) (v1635 : BitVec 32) (v1679 : BitVec 32) (v1802 : BitVec 32) : Fin 3 → Nat :=
  let c199_i32_354 : BitVec 32 := 199#32
  let c0_i32_353 : BitVec 32 := 0#32
  let v1636 : BitVec 32 := Scalar.maxsi c0_i32_353 v1635
  let v1637 : BitVec 32 := Scalar.minsi c199_i32_354 v1636
  let v1680 : BitVec 32 := Scalar.addi v1637 v1679
  let v2394 : Index := Scalar.indexCast v1680
  let c199_i32_351 : BitVec 32 := 199#32
  let c0_i32_350 : BitVec 32 := 0#32
  let v1631 : BitVec 32 := Scalar.maxsi c0_i32_350 v1630
  let v1632 : BitVec 32 := Scalar.minsi c199_i32_351 v1631
  let v1803 : BitVec 32 := Scalar.addi v1632 v1802
  let c3_i32_439 : BitVec 32 := 3#32
  let v1806 : BitVec 32 := Scalar.shrsi v1803 c3_i32_439
  let c3_i32_440 : BitVec 32 := 3#32
  let v1807 : BitVec 32 := Scalar.shli v1806 c3_i32_440
  let v1808 : BitVec 32 := v1807
  let v2395 : Index := Scalar.indexCast v1808
  let c0_566 : Index := 0#32
  ![v2394.toNat, v2395.toNat, 0]
def k0_off212 (v1630 : BitVec 32) (v1635 : BitVec 32) (v1645 : BitVec 32) (v1679 : BitVec 32) (v1802 : BitVec 32) : Fin 3 → Nat :=
  let c199_i32_354 : BitVec 32 := 199#32
  let c0_i32_353 : BitVec 32 := 0#32
  let v1636 : BitVec 32 := Scalar.maxsi c0_i32_353 v1635
  let v1637 : BitVec 32 := Scalar.minsi c199_i32_354 v1636
  let v1680 : BitVec 32 := Scalar.addi v1637 v1679
  let c1_i32_376 : BitVec 32 := 1#32
  let v1681 : BitVec 32 := Scalar.addi v1680 c1_i32_376
  let c199_i32_360 : BitVec 32 := 199#32
  let c0_i32_359 : BitVec 32 := 0#32
  let v1646 : BitVec 32 := Scalar.maxsi c0_i32_359 v1645
  let v1647 : BitVec 32 := Scalar.minsi c199_i32_360 v1646
  let v1682 : BitVec 32 := Scalar.minsi v1681 v1647
  let v2398 : Index := Scalar.indexCast v1682
  let c199_i32_351 : BitVec 32 := 199#32
  let c0_i32_350 : BitVec 32 := 0#32
  let v1631 : BitVec 32 := Scalar.maxsi c0_i32_350 v1630
  let v1632 : BitVec 32 := Scalar.minsi c199_i32_351 v1631
  let v1803 : BitVec 32 := Scalar.addi v1632 v1802
  let c3_i32_439 : BitVec 32 := 3#32
  let v1806 : BitVec 32 := Scalar.shrsi v1803 c3_i32_439
  let c3_i32_440 : BitVec 32 := 3#32
  let v1807 : BitVec 32 := Scalar.shli v1806 c3_i32_440
  let v1808 : BitVec 32 := v1807
  let v2399 : Index := Scalar.indexCast v1808
  let c0_567 : Index := 0#32
  ![v2398.toNat, v2399.toNat, 0]
def k0_off213 (k0_t1 : Fin k0_t1_loop.trips) : Fin 3 → Nat :=
  let c20_569 : Index := 20#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c1_i32_345 : BitVec 32 := 1#32
  let v1622 : BitVec 32 := Scalar.addi v5 c1_i32_345
  let v2418 : Index := Scalar.indexCast v1622
  let c0_570 : Index := 0#32
  ![20, v2418.toNat, 0]
def k0_off214 (v1630 : BitVec 32) (v1635 : BitVec 32) (v1688 : BitVec 32) (v1724 : BitVec 32) : Fin 3 → Nat :=
  let c199_i32_354 : BitVec 32 := 199#32
  let c0_i32_353 : BitVec 32 := 0#32
  let v1636 : BitVec 32 := Scalar.maxsi c0_i32_353 v1635
  let v1637 : BitVec 32 := Scalar.minsi c199_i32_354 v1636
  let v1689 : BitVec 32 := Scalar.addi v1637 v1688
  let v2424 : Index := Scalar.indexCast v1689
  let c199_i32_351 : BitVec 32 := 199#32
  let c0_i32_350 : BitVec 32 := 0#32
  let v1631 : BitVec 32 := Scalar.maxsi c0_i32_350 v1630
  let v1632 : BitVec 32 := Scalar.minsi c199_i32_351 v1631
  let v1725 : BitVec 32 := Scalar.addi v1632 v1724
  let c3_i32_397 : BitVec 32 := 3#32
  let v1728 : BitVec 32 := Scalar.shrsi v1725 c3_i32_397
  let c3_i32_398 : BitVec 32 := 3#32
  let v1729 : BitVec 32 := Scalar.shli v1728 c3_i32_398
  let v1730 : BitVec 32 := v1729
  let v2425 : Index := Scalar.indexCast v1730
  let c0_573 : Index := 0#32
  ![v2424.toNat, v2425.toNat, 0]
def k0_off215 (v1630 : BitVec 32) (v1635 : BitVec 32) (v1645 : BitVec 32) (v1688 : BitVec 32) (v1724 : BitVec 32) : Fin 3 → Nat :=
  let c199_i32_354 : BitVec 32 := 199#32
  let c0_i32_353 : BitVec 32 := 0#32
  let v1636 : BitVec 32 := Scalar.maxsi c0_i32_353 v1635
  let v1637 : BitVec 32 := Scalar.minsi c199_i32_354 v1636
  let v1689 : BitVec 32 := Scalar.addi v1637 v1688
  let c1_i32_380 : BitVec 32 := 1#32
  let v1690 : BitVec 32 := Scalar.addi v1689 c1_i32_380
  let c199_i32_360 : BitVec 32 := 199#32
  let c0_i32_359 : BitVec 32 := 0#32
  let v1646 : BitVec 32 := Scalar.maxsi c0_i32_359 v1645
  let v1647 : BitVec 32 := Scalar.minsi c199_i32_360 v1646
  let v1691 : BitVec 32 := Scalar.minsi v1690 v1647
  let v2428 : Index := Scalar.indexCast v1691
  let c199_i32_351 : BitVec 32 := 199#32
  let c0_i32_350 : BitVec 32 := 0#32
  let v1631 : BitVec 32 := Scalar.maxsi c0_i32_350 v1630
  let v1632 : BitVec 32 := Scalar.minsi c199_i32_351 v1631
  let v1725 : BitVec 32 := Scalar.addi v1632 v1724
  let c3_i32_397 : BitVec 32 := 3#32
  let v1728 : BitVec 32 := Scalar.shrsi v1725 c3_i32_397
  let c3_i32_398 : BitVec 32 := 3#32
  let v1729 : BitVec 32 := Scalar.shli v1728 c3_i32_398
  let v1730 : BitVec 32 := v1729
  let v2429 : Index := Scalar.indexCast v1730
  let c0_574 : Index := 0#32
  ![v2428.toNat, v2429.toNat, 0]
def k0_off216 (k0_t1 : Fin k0_t1_loop.trips) : Fin 3 → Nat :=
  let c21_576 : Index := 21#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c1_i32_345 : BitVec 32 := 1#32
  let v1622 : BitVec 32 := Scalar.addi v5 c1_i32_345
  let v2448 : Index := Scalar.indexCast v1622
  let c0_577 : Index := 0#32
  ![21, v2448.toNat, 0]
def k0_off217 (v1630 : BitVec 32) (v1635 : BitVec 32) (v1688 : BitVec 32) (v1737 : BitVec 32) : Fin 3 → Nat :=
  let c199_i32_354 : BitVec 32 := 199#32
  let c0_i32_353 : BitVec 32 := 0#32
  let v1636 : BitVec 32 := Scalar.maxsi c0_i32_353 v1635
  let v1637 : BitVec 32 := Scalar.minsi c199_i32_354 v1636
  let v1689 : BitVec 32 := Scalar.addi v1637 v1688
  let v2453 : Index := Scalar.indexCast v1689
  let c199_i32_351 : BitVec 32 := 199#32
  let c0_i32_350 : BitVec 32 := 0#32
  let v1631 : BitVec 32 := Scalar.maxsi c0_i32_350 v1630
  let v1632 : BitVec 32 := Scalar.minsi c199_i32_351 v1631
  let v1738 : BitVec 32 := Scalar.addi v1632 v1737
  let c3_i32_404 : BitVec 32 := 3#32
  let v1741 : BitVec 32 := Scalar.shrsi v1738 c3_i32_404
  let c3_i32_405 : BitVec 32 := 3#32
  let v1742 : BitVec 32 := Scalar.shli v1741 c3_i32_405
  let v1743 : BitVec 32 := v1742
  let v2454 : Index := Scalar.indexCast v1743
  let c0_579 : Index := 0#32
  ![v2453.toNat, v2454.toNat, 0]
def k0_off218 (v1630 : BitVec 32) (v1635 : BitVec 32) (v1645 : BitVec 32) (v1688 : BitVec 32) (v1737 : BitVec 32) : Fin 3 → Nat :=
  let c199_i32_354 : BitVec 32 := 199#32
  let c0_i32_353 : BitVec 32 := 0#32
  let v1636 : BitVec 32 := Scalar.maxsi c0_i32_353 v1635
  let v1637 : BitVec 32 := Scalar.minsi c199_i32_354 v1636
  let v1689 : BitVec 32 := Scalar.addi v1637 v1688
  let c1_i32_380 : BitVec 32 := 1#32
  let v1690 : BitVec 32 := Scalar.addi v1689 c1_i32_380
  let c199_i32_360 : BitVec 32 := 199#32
  let c0_i32_359 : BitVec 32 := 0#32
  let v1646 : BitVec 32 := Scalar.maxsi c0_i32_359 v1645
  let v1647 : BitVec 32 := Scalar.minsi c199_i32_360 v1646
  let v1691 : BitVec 32 := Scalar.minsi v1690 v1647
  let v2457 : Index := Scalar.indexCast v1691
  let c199_i32_351 : BitVec 32 := 199#32
  let c0_i32_350 : BitVec 32 := 0#32
  let v1631 : BitVec 32 := Scalar.maxsi c0_i32_350 v1630
  let v1632 : BitVec 32 := Scalar.minsi c199_i32_351 v1631
  let v1738 : BitVec 32 := Scalar.addi v1632 v1737
  let c3_i32_404 : BitVec 32 := 3#32
  let v1741 : BitVec 32 := Scalar.shrsi v1738 c3_i32_404
  let c3_i32_405 : BitVec 32 := 3#32
  let v1742 : BitVec 32 := Scalar.shli v1741 c3_i32_405
  let v1743 : BitVec 32 := v1742
  let v2458 : Index := Scalar.indexCast v1743
  let c0_580 : Index := 0#32
  ![v2457.toNat, v2458.toNat, 0]
def k0_off219 (k0_t1 : Fin k0_t1_loop.trips) : Fin 3 → Nat :=
  let c22_582 : Index := 22#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c1_i32_345 : BitVec 32 := 1#32
  let v1622 : BitVec 32 := Scalar.addi v5 c1_i32_345
  let v2477 : Index := Scalar.indexCast v1622
  let c0_583 : Index := 0#32
  ![22, v2477.toNat, 0]
def k0_off220 (v1630 : BitVec 32) (v1635 : BitVec 32) (v1688 : BitVec 32) (v1750 : BitVec 32) : Fin 3 → Nat :=
  let c199_i32_354 : BitVec 32 := 199#32
  let c0_i32_353 : BitVec 32 := 0#32
  let v1636 : BitVec 32 := Scalar.maxsi c0_i32_353 v1635
  let v1637 : BitVec 32 := Scalar.minsi c199_i32_354 v1636
  let v1689 : BitVec 32 := Scalar.addi v1637 v1688
  let v2482 : Index := Scalar.indexCast v1689
  let c199_i32_351 : BitVec 32 := 199#32
  let c0_i32_350 : BitVec 32 := 0#32
  let v1631 : BitVec 32 := Scalar.maxsi c0_i32_350 v1630
  let v1632 : BitVec 32 := Scalar.minsi c199_i32_351 v1631
  let v1751 : BitVec 32 := Scalar.addi v1632 v1750
  let c3_i32_411 : BitVec 32 := 3#32
  let v1754 : BitVec 32 := Scalar.shrsi v1751 c3_i32_411
  let c3_i32_412 : BitVec 32 := 3#32
  let v1755 : BitVec 32 := Scalar.shli v1754 c3_i32_412
  let v1756 : BitVec 32 := v1755
  let v2483 : Index := Scalar.indexCast v1756
  let c0_585 : Index := 0#32
  ![v2482.toNat, v2483.toNat, 0]
def k0_off221 (v1630 : BitVec 32) (v1635 : BitVec 32) (v1645 : BitVec 32) (v1688 : BitVec 32) (v1750 : BitVec 32) : Fin 3 → Nat :=
  let c199_i32_354 : BitVec 32 := 199#32
  let c0_i32_353 : BitVec 32 := 0#32
  let v1636 : BitVec 32 := Scalar.maxsi c0_i32_353 v1635
  let v1637 : BitVec 32 := Scalar.minsi c199_i32_354 v1636
  let v1689 : BitVec 32 := Scalar.addi v1637 v1688
  let c1_i32_380 : BitVec 32 := 1#32
  let v1690 : BitVec 32 := Scalar.addi v1689 c1_i32_380
  let c199_i32_360 : BitVec 32 := 199#32
  let c0_i32_359 : BitVec 32 := 0#32
  let v1646 : BitVec 32 := Scalar.maxsi c0_i32_359 v1645
  let v1647 : BitVec 32 := Scalar.minsi c199_i32_360 v1646
  let v1691 : BitVec 32 := Scalar.minsi v1690 v1647
  let v2486 : Index := Scalar.indexCast v1691
  let c199_i32_351 : BitVec 32 := 199#32
  let c0_i32_350 : BitVec 32 := 0#32
  let v1631 : BitVec 32 := Scalar.maxsi c0_i32_350 v1630
  let v1632 : BitVec 32 := Scalar.minsi c199_i32_351 v1631
  let v1751 : BitVec 32 := Scalar.addi v1632 v1750
  let c3_i32_411 : BitVec 32 := 3#32
  let v1754 : BitVec 32 := Scalar.shrsi v1751 c3_i32_411
  let c3_i32_412 : BitVec 32 := 3#32
  let v1755 : BitVec 32 := Scalar.shli v1754 c3_i32_412
  let v1756 : BitVec 32 := v1755
  let v2487 : Index := Scalar.indexCast v1756
  let c0_586 : Index := 0#32
  ![v2486.toNat, v2487.toNat, 0]
def k0_off222 (k0_t1 : Fin k0_t1_loop.trips) : Fin 3 → Nat :=
  let c23_588 : Index := 23#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c1_i32_345 : BitVec 32 := 1#32
  let v1622 : BitVec 32 := Scalar.addi v5 c1_i32_345
  let v2506 : Index := Scalar.indexCast v1622
  let c0_589 : Index := 0#32
  ![23, v2506.toNat, 0]
def k0_off223 (v1630 : BitVec 32) (v1635 : BitVec 32) (v1688 : BitVec 32) (v1763 : BitVec 32) : Fin 3 → Nat :=
  let c199_i32_354 : BitVec 32 := 199#32
  let c0_i32_353 : BitVec 32 := 0#32
  let v1636 : BitVec 32 := Scalar.maxsi c0_i32_353 v1635
  let v1637 : BitVec 32 := Scalar.minsi c199_i32_354 v1636
  let v1689 : BitVec 32 := Scalar.addi v1637 v1688
  let v2511 : Index := Scalar.indexCast v1689
  let c199_i32_351 : BitVec 32 := 199#32
  let c0_i32_350 : BitVec 32 := 0#32
  let v1631 : BitVec 32 := Scalar.maxsi c0_i32_350 v1630
  let v1632 : BitVec 32 := Scalar.minsi c199_i32_351 v1631
  let v1764 : BitVec 32 := Scalar.addi v1632 v1763
  let c3_i32_418 : BitVec 32 := 3#32
  let v1767 : BitVec 32 := Scalar.shrsi v1764 c3_i32_418
  let c3_i32_419 : BitVec 32 := 3#32
  let v1768 : BitVec 32 := Scalar.shli v1767 c3_i32_419
  let v1769 : BitVec 32 := v1768
  let v2512 : Index := Scalar.indexCast v1769
  let c0_591 : Index := 0#32
  ![v2511.toNat, v2512.toNat, 0]
def k0_off224 (v1630 : BitVec 32) (v1635 : BitVec 32) (v1645 : BitVec 32) (v1688 : BitVec 32) (v1763 : BitVec 32) : Fin 3 → Nat :=
  let c199_i32_354 : BitVec 32 := 199#32
  let c0_i32_353 : BitVec 32 := 0#32
  let v1636 : BitVec 32 := Scalar.maxsi c0_i32_353 v1635
  let v1637 : BitVec 32 := Scalar.minsi c199_i32_354 v1636
  let v1689 : BitVec 32 := Scalar.addi v1637 v1688
  let c1_i32_380 : BitVec 32 := 1#32
  let v1690 : BitVec 32 := Scalar.addi v1689 c1_i32_380
  let c199_i32_360 : BitVec 32 := 199#32
  let c0_i32_359 : BitVec 32 := 0#32
  let v1646 : BitVec 32 := Scalar.maxsi c0_i32_359 v1645
  let v1647 : BitVec 32 := Scalar.minsi c199_i32_360 v1646
  let v1691 : BitVec 32 := Scalar.minsi v1690 v1647
  let v2515 : Index := Scalar.indexCast v1691
  let c199_i32_351 : BitVec 32 := 199#32
  let c0_i32_350 : BitVec 32 := 0#32
  let v1631 : BitVec 32 := Scalar.maxsi c0_i32_350 v1630
  let v1632 : BitVec 32 := Scalar.minsi c199_i32_351 v1631
  let v1764 : BitVec 32 := Scalar.addi v1632 v1763
  let c3_i32_418 : BitVec 32 := 3#32
  let v1767 : BitVec 32 := Scalar.shrsi v1764 c3_i32_418
  let c3_i32_419 : BitVec 32 := 3#32
  let v1768 : BitVec 32 := Scalar.shli v1767 c3_i32_419
  let v1769 : BitVec 32 := v1768
  let v2516 : Index := Scalar.indexCast v1769
  let c0_592 : Index := 0#32
  ![v2515.toNat, v2516.toNat, 0]
def k0_off225 (k0_t1 : Fin k0_t1_loop.trips) : Fin 3 → Nat :=
  let c24_594 : Index := 24#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c1_i32_345 : BitVec 32 := 1#32
  let v1622 : BitVec 32 := Scalar.addi v5 c1_i32_345
  let v2535 : Index := Scalar.indexCast v1622
  let c0_595 : Index := 0#32
  ![24, v2535.toNat, 0]
def k0_off226 (v1630 : BitVec 32) (v1635 : BitVec 32) (v1688 : BitVec 32) (v1776 : BitVec 32) : Fin 3 → Nat :=
  let c199_i32_354 : BitVec 32 := 199#32
  let c0_i32_353 : BitVec 32 := 0#32
  let v1636 : BitVec 32 := Scalar.maxsi c0_i32_353 v1635
  let v1637 : BitVec 32 := Scalar.minsi c199_i32_354 v1636
  let v1689 : BitVec 32 := Scalar.addi v1637 v1688
  let v2540 : Index := Scalar.indexCast v1689
  let c199_i32_351 : BitVec 32 := 199#32
  let c0_i32_350 : BitVec 32 := 0#32
  let v1631 : BitVec 32 := Scalar.maxsi c0_i32_350 v1630
  let v1632 : BitVec 32 := Scalar.minsi c199_i32_351 v1631
  let v1777 : BitVec 32 := Scalar.addi v1632 v1776
  let c3_i32_425 : BitVec 32 := 3#32
  let v1780 : BitVec 32 := Scalar.shrsi v1777 c3_i32_425
  let c3_i32_426 : BitVec 32 := 3#32
  let v1781 : BitVec 32 := Scalar.shli v1780 c3_i32_426
  let v1782 : BitVec 32 := v1781
  let v2541 : Index := Scalar.indexCast v1782
  let c0_597 : Index := 0#32
  ![v2540.toNat, v2541.toNat, 0]
def k0_off227 (v1630 : BitVec 32) (v1635 : BitVec 32) (v1645 : BitVec 32) (v1688 : BitVec 32) (v1776 : BitVec 32) : Fin 3 → Nat :=
  let c199_i32_354 : BitVec 32 := 199#32
  let c0_i32_353 : BitVec 32 := 0#32
  let v1636 : BitVec 32 := Scalar.maxsi c0_i32_353 v1635
  let v1637 : BitVec 32 := Scalar.minsi c199_i32_354 v1636
  let v1689 : BitVec 32 := Scalar.addi v1637 v1688
  let c1_i32_380 : BitVec 32 := 1#32
  let v1690 : BitVec 32 := Scalar.addi v1689 c1_i32_380
  let c199_i32_360 : BitVec 32 := 199#32
  let c0_i32_359 : BitVec 32 := 0#32
  let v1646 : BitVec 32 := Scalar.maxsi c0_i32_359 v1645
  let v1647 : BitVec 32 := Scalar.minsi c199_i32_360 v1646
  let v1691 : BitVec 32 := Scalar.minsi v1690 v1647
  let v2544 : Index := Scalar.indexCast v1691
  let c199_i32_351 : BitVec 32 := 199#32
  let c0_i32_350 : BitVec 32 := 0#32
  let v1631 : BitVec 32 := Scalar.maxsi c0_i32_350 v1630
  let v1632 : BitVec 32 := Scalar.minsi c199_i32_351 v1631
  let v1777 : BitVec 32 := Scalar.addi v1632 v1776
  let c3_i32_425 : BitVec 32 := 3#32
  let v1780 : BitVec 32 := Scalar.shrsi v1777 c3_i32_425
  let c3_i32_426 : BitVec 32 := 3#32
  let v1781 : BitVec 32 := Scalar.shli v1780 c3_i32_426
  let v1782 : BitVec 32 := v1781
  let v2545 : Index := Scalar.indexCast v1782
  let c0_598 : Index := 0#32
  ![v2544.toNat, v2545.toNat, 0]
def k0_off228 (k0_t1 : Fin k0_t1_loop.trips) : Fin 3 → Nat :=
  let c25_600 : Index := 25#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c1_i32_345 : BitVec 32 := 1#32
  let v1622 : BitVec 32 := Scalar.addi v5 c1_i32_345
  let v2564 : Index := Scalar.indexCast v1622
  let c0_601 : Index := 0#32
  ![25, v2564.toNat, 0]
def k0_off229 (v1630 : BitVec 32) (v1635 : BitVec 32) (v1688 : BitVec 32) (v1789 : BitVec 32) : Fin 3 → Nat :=
  let c199_i32_354 : BitVec 32 := 199#32
  let c0_i32_353 : BitVec 32 := 0#32
  let v1636 : BitVec 32 := Scalar.maxsi c0_i32_353 v1635
  let v1637 : BitVec 32 := Scalar.minsi c199_i32_354 v1636
  let v1689 : BitVec 32 := Scalar.addi v1637 v1688
  let v2569 : Index := Scalar.indexCast v1689
  let c199_i32_351 : BitVec 32 := 199#32
  let c0_i32_350 : BitVec 32 := 0#32
  let v1631 : BitVec 32 := Scalar.maxsi c0_i32_350 v1630
  let v1632 : BitVec 32 := Scalar.minsi c199_i32_351 v1631
  let v1790 : BitVec 32 := Scalar.addi v1632 v1789
  let c3_i32_432 : BitVec 32 := 3#32
  let v1793 : BitVec 32 := Scalar.shrsi v1790 c3_i32_432
  let c3_i32_433 : BitVec 32 := 3#32
  let v1794 : BitVec 32 := Scalar.shli v1793 c3_i32_433
  let v1795 : BitVec 32 := v1794
  let v2570 : Index := Scalar.indexCast v1795
  let c0_603 : Index := 0#32
  ![v2569.toNat, v2570.toNat, 0]
def k0_off230 (v1630 : BitVec 32) (v1635 : BitVec 32) (v1645 : BitVec 32) (v1688 : BitVec 32) (v1789 : BitVec 32) : Fin 3 → Nat :=
  let c199_i32_354 : BitVec 32 := 199#32
  let c0_i32_353 : BitVec 32 := 0#32
  let v1636 : BitVec 32 := Scalar.maxsi c0_i32_353 v1635
  let v1637 : BitVec 32 := Scalar.minsi c199_i32_354 v1636
  let v1689 : BitVec 32 := Scalar.addi v1637 v1688
  let c1_i32_380 : BitVec 32 := 1#32
  let v1690 : BitVec 32 := Scalar.addi v1689 c1_i32_380
  let c199_i32_360 : BitVec 32 := 199#32
  let c0_i32_359 : BitVec 32 := 0#32
  let v1646 : BitVec 32 := Scalar.maxsi c0_i32_359 v1645
  let v1647 : BitVec 32 := Scalar.minsi c199_i32_360 v1646
  let v1691 : BitVec 32 := Scalar.minsi v1690 v1647
  let v2573 : Index := Scalar.indexCast v1691
  let c199_i32_351 : BitVec 32 := 199#32
  let c0_i32_350 : BitVec 32 := 0#32
  let v1631 : BitVec 32 := Scalar.maxsi c0_i32_350 v1630
  let v1632 : BitVec 32 := Scalar.minsi c199_i32_351 v1631
  let v1790 : BitVec 32 := Scalar.addi v1632 v1789
  let c3_i32_432 : BitVec 32 := 3#32
  let v1793 : BitVec 32 := Scalar.shrsi v1790 c3_i32_432
  let c3_i32_433 : BitVec 32 := 3#32
  let v1794 : BitVec 32 := Scalar.shli v1793 c3_i32_433
  let v1795 : BitVec 32 := v1794
  let v2574 : Index := Scalar.indexCast v1795
  let c0_604 : Index := 0#32
  ![v2573.toNat, v2574.toNat, 0]
def k0_off231 (k0_t1 : Fin k0_t1_loop.trips) : Fin 3 → Nat :=
  let c26_606 : Index := 26#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c1_i32_345 : BitVec 32 := 1#32
  let v1622 : BitVec 32 := Scalar.addi v5 c1_i32_345
  let v2593 : Index := Scalar.indexCast v1622
  let c0_607 : Index := 0#32
  ![26, v2593.toNat, 0]
def k0_off232 (v1630 : BitVec 32) (v1635 : BitVec 32) (v1688 : BitVec 32) (v1802 : BitVec 32) : Fin 3 → Nat :=
  let c199_i32_354 : BitVec 32 := 199#32
  let c0_i32_353 : BitVec 32 := 0#32
  let v1636 : BitVec 32 := Scalar.maxsi c0_i32_353 v1635
  let v1637 : BitVec 32 := Scalar.minsi c199_i32_354 v1636
  let v1689 : BitVec 32 := Scalar.addi v1637 v1688
  let v2598 : Index := Scalar.indexCast v1689
  let c199_i32_351 : BitVec 32 := 199#32
  let c0_i32_350 : BitVec 32 := 0#32
  let v1631 : BitVec 32 := Scalar.maxsi c0_i32_350 v1630
  let v1632 : BitVec 32 := Scalar.minsi c199_i32_351 v1631
  let v1803 : BitVec 32 := Scalar.addi v1632 v1802
  let c3_i32_439 : BitVec 32 := 3#32
  let v1806 : BitVec 32 := Scalar.shrsi v1803 c3_i32_439
  let c3_i32_440 : BitVec 32 := 3#32
  let v1807 : BitVec 32 := Scalar.shli v1806 c3_i32_440
  let v1808 : BitVec 32 := v1807
  let v2599 : Index := Scalar.indexCast v1808
  let c0_609 : Index := 0#32
  ![v2598.toNat, v2599.toNat, 0]
def k0_off233 (v1630 : BitVec 32) (v1635 : BitVec 32) (v1645 : BitVec 32) (v1688 : BitVec 32) (v1802 : BitVec 32) : Fin 3 → Nat :=
  let c199_i32_354 : BitVec 32 := 199#32
  let c0_i32_353 : BitVec 32 := 0#32
  let v1636 : BitVec 32 := Scalar.maxsi c0_i32_353 v1635
  let v1637 : BitVec 32 := Scalar.minsi c199_i32_354 v1636
  let v1689 : BitVec 32 := Scalar.addi v1637 v1688
  let c1_i32_380 : BitVec 32 := 1#32
  let v1690 : BitVec 32 := Scalar.addi v1689 c1_i32_380
  let c199_i32_360 : BitVec 32 := 199#32
  let c0_i32_359 : BitVec 32 := 0#32
  let v1646 : BitVec 32 := Scalar.maxsi c0_i32_359 v1645
  let v1647 : BitVec 32 := Scalar.minsi c199_i32_360 v1646
  let v1691 : BitVec 32 := Scalar.minsi v1690 v1647
  let v2602 : Index := Scalar.indexCast v1691
  let c199_i32_351 : BitVec 32 := 199#32
  let c0_i32_350 : BitVec 32 := 0#32
  let v1631 : BitVec 32 := Scalar.maxsi c0_i32_350 v1630
  let v1632 : BitVec 32 := Scalar.minsi c199_i32_351 v1631
  let v1803 : BitVec 32 := Scalar.addi v1632 v1802
  let c3_i32_439 : BitVec 32 := 3#32
  let v1806 : BitVec 32 := Scalar.shrsi v1803 c3_i32_439
  let c3_i32_440 : BitVec 32 := 3#32
  let v1807 : BitVec 32 := Scalar.shli v1806 c3_i32_440
  let v1808 : BitVec 32 := v1807
  let v2603 : Index := Scalar.indexCast v1808
  let c0_610 : Index := 0#32
  ![v2602.toNat, v2603.toNat, 0]
def k0_off234 (k0_t1 : Fin k0_t1_loop.trips) : Fin 3 → Nat :=
  let c27_612 : Index := 27#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c1_i32_345 : BitVec 32 := 1#32
  let v1622 : BitVec 32 := Scalar.addi v5 c1_i32_345
  let v2622 : Index := Scalar.indexCast v1622
  let c0_613 : Index := 0#32
  ![27, v2622.toNat, 0]
def k0_off235 (v1630 : BitVec 32) (v1635 : BitVec 32) (v1697 : BitVec 32) (v1724 : BitVec 32) : Fin 3 → Nat :=
  let c199_i32_354 : BitVec 32 := 199#32
  let c0_i32_353 : BitVec 32 := 0#32
  let v1636 : BitVec 32 := Scalar.maxsi c0_i32_353 v1635
  let v1637 : BitVec 32 := Scalar.minsi c199_i32_354 v1636
  let v1698 : BitVec 32 := Scalar.addi v1637 v1697
  let v2628 : Index := Scalar.indexCast v1698
  let c199_i32_351 : BitVec 32 := 199#32
  let c0_i32_350 : BitVec 32 := 0#32
  let v1631 : BitVec 32 := Scalar.maxsi c0_i32_350 v1630
  let v1632 : BitVec 32 := Scalar.minsi c199_i32_351 v1631
  let v1725 : BitVec 32 := Scalar.addi v1632 v1724
  let c3_i32_397 : BitVec 32 := 3#32
  let v1728 : BitVec 32 := Scalar.shrsi v1725 c3_i32_397
  let c3_i32_398 : BitVec 32 := 3#32
  let v1729 : BitVec 32 := Scalar.shli v1728 c3_i32_398
  let v1730 : BitVec 32 := v1729
  let v2629 : Index := Scalar.indexCast v1730
  let c0_616 : Index := 0#32
  ![v2628.toNat, v2629.toNat, 0]
def k0_off236 (v1630 : BitVec 32) (v1635 : BitVec 32) (v1645 : BitVec 32) (v1697 : BitVec 32) (v1724 : BitVec 32) : Fin 3 → Nat :=
  let c199_i32_354 : BitVec 32 := 199#32
  let c0_i32_353 : BitVec 32 := 0#32
  let v1636 : BitVec 32 := Scalar.maxsi c0_i32_353 v1635
  let v1637 : BitVec 32 := Scalar.minsi c199_i32_354 v1636
  let v1698 : BitVec 32 := Scalar.addi v1637 v1697
  let c1_i32_384 : BitVec 32 := 1#32
  let v1699 : BitVec 32 := Scalar.addi v1698 c1_i32_384
  let c199_i32_360 : BitVec 32 := 199#32
  let c0_i32_359 : BitVec 32 := 0#32
  let v1646 : BitVec 32 := Scalar.maxsi c0_i32_359 v1645
  let v1647 : BitVec 32 := Scalar.minsi c199_i32_360 v1646
  let v1700 : BitVec 32 := Scalar.minsi v1699 v1647
  let v2632 : Index := Scalar.indexCast v1700
  let c199_i32_351 : BitVec 32 := 199#32
  let c0_i32_350 : BitVec 32 := 0#32
  let v1631 : BitVec 32 := Scalar.maxsi c0_i32_350 v1630
  let v1632 : BitVec 32 := Scalar.minsi c199_i32_351 v1631
  let v1725 : BitVec 32 := Scalar.addi v1632 v1724
  let c3_i32_397 : BitVec 32 := 3#32
  let v1728 : BitVec 32 := Scalar.shrsi v1725 c3_i32_397
  let c3_i32_398 : BitVec 32 := 3#32
  let v1729 : BitVec 32 := Scalar.shli v1728 c3_i32_398
  let v1730 : BitVec 32 := v1729
  let v2633 : Index := Scalar.indexCast v1730
  let c0_617 : Index := 0#32
  ![v2632.toNat, v2633.toNat, 0]
def k0_off237 (k0_t1 : Fin k0_t1_loop.trips) : Fin 3 → Nat :=
  let c28_619 : Index := 28#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c1_i32_345 : BitVec 32 := 1#32
  let v1622 : BitVec 32 := Scalar.addi v5 c1_i32_345
  let v2652 : Index := Scalar.indexCast v1622
  let c0_620 : Index := 0#32
  ![28, v2652.toNat, 0]
def k0_off238 (v1630 : BitVec 32) (v1635 : BitVec 32) (v1697 : BitVec 32) (v1737 : BitVec 32) : Fin 3 → Nat :=
  let c199_i32_354 : BitVec 32 := 199#32
  let c0_i32_353 : BitVec 32 := 0#32
  let v1636 : BitVec 32 := Scalar.maxsi c0_i32_353 v1635
  let v1637 : BitVec 32 := Scalar.minsi c199_i32_354 v1636
  let v1698 : BitVec 32 := Scalar.addi v1637 v1697
  let v2657 : Index := Scalar.indexCast v1698
  let c199_i32_351 : BitVec 32 := 199#32
  let c0_i32_350 : BitVec 32 := 0#32
  let v1631 : BitVec 32 := Scalar.maxsi c0_i32_350 v1630
  let v1632 : BitVec 32 := Scalar.minsi c199_i32_351 v1631
  let v1738 : BitVec 32 := Scalar.addi v1632 v1737
  let c3_i32_404 : BitVec 32 := 3#32
  let v1741 : BitVec 32 := Scalar.shrsi v1738 c3_i32_404
  let c3_i32_405 : BitVec 32 := 3#32
  let v1742 : BitVec 32 := Scalar.shli v1741 c3_i32_405
  let v1743 : BitVec 32 := v1742
  let v2658 : Index := Scalar.indexCast v1743
  let c0_622 : Index := 0#32
  ![v2657.toNat, v2658.toNat, 0]
def k0_off239 (v1630 : BitVec 32) (v1635 : BitVec 32) (v1645 : BitVec 32) (v1697 : BitVec 32) (v1737 : BitVec 32) : Fin 3 → Nat :=
  let c199_i32_354 : BitVec 32 := 199#32
  let c0_i32_353 : BitVec 32 := 0#32
  let v1636 : BitVec 32 := Scalar.maxsi c0_i32_353 v1635
  let v1637 : BitVec 32 := Scalar.minsi c199_i32_354 v1636
  let v1698 : BitVec 32 := Scalar.addi v1637 v1697
  let c1_i32_384 : BitVec 32 := 1#32
  let v1699 : BitVec 32 := Scalar.addi v1698 c1_i32_384
  let c199_i32_360 : BitVec 32 := 199#32
  let c0_i32_359 : BitVec 32 := 0#32
  let v1646 : BitVec 32 := Scalar.maxsi c0_i32_359 v1645
  let v1647 : BitVec 32 := Scalar.minsi c199_i32_360 v1646
  let v1700 : BitVec 32 := Scalar.minsi v1699 v1647
  let v2661 : Index := Scalar.indexCast v1700
  let c199_i32_351 : BitVec 32 := 199#32
  let c0_i32_350 : BitVec 32 := 0#32
  let v1631 : BitVec 32 := Scalar.maxsi c0_i32_350 v1630
  let v1632 : BitVec 32 := Scalar.minsi c199_i32_351 v1631
  let v1738 : BitVec 32 := Scalar.addi v1632 v1737
  let c3_i32_404 : BitVec 32 := 3#32
  let v1741 : BitVec 32 := Scalar.shrsi v1738 c3_i32_404
  let c3_i32_405 : BitVec 32 := 3#32
  let v1742 : BitVec 32 := Scalar.shli v1741 c3_i32_405
  let v1743 : BitVec 32 := v1742
  let v2662 : Index := Scalar.indexCast v1743
  let c0_623 : Index := 0#32
  ![v2661.toNat, v2662.toNat, 0]
def k0_off240 (k0_t1 : Fin k0_t1_loop.trips) : Fin 3 → Nat :=
  let c29_625 : Index := 29#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c1_i32_345 : BitVec 32 := 1#32
  let v1622 : BitVec 32 := Scalar.addi v5 c1_i32_345
  let v2681 : Index := Scalar.indexCast v1622
  let c0_626 : Index := 0#32
  ![29, v2681.toNat, 0]
def k0_off241 (v1630 : BitVec 32) (v1635 : BitVec 32) (v1697 : BitVec 32) (v1750 : BitVec 32) : Fin 3 → Nat :=
  let c199_i32_354 : BitVec 32 := 199#32
  let c0_i32_353 : BitVec 32 := 0#32
  let v1636 : BitVec 32 := Scalar.maxsi c0_i32_353 v1635
  let v1637 : BitVec 32 := Scalar.minsi c199_i32_354 v1636
  let v1698 : BitVec 32 := Scalar.addi v1637 v1697
  let v2686 : Index := Scalar.indexCast v1698
  let c199_i32_351 : BitVec 32 := 199#32
  let c0_i32_350 : BitVec 32 := 0#32
  let v1631 : BitVec 32 := Scalar.maxsi c0_i32_350 v1630
  let v1632 : BitVec 32 := Scalar.minsi c199_i32_351 v1631
  let v1751 : BitVec 32 := Scalar.addi v1632 v1750
  let c3_i32_411 : BitVec 32 := 3#32
  let v1754 : BitVec 32 := Scalar.shrsi v1751 c3_i32_411
  let c3_i32_412 : BitVec 32 := 3#32
  let v1755 : BitVec 32 := Scalar.shli v1754 c3_i32_412
  let v1756 : BitVec 32 := v1755
  let v2687 : Index := Scalar.indexCast v1756
  let c0_628 : Index := 0#32
  ![v2686.toNat, v2687.toNat, 0]
def k0_off242 (v1630 : BitVec 32) (v1635 : BitVec 32) (v1645 : BitVec 32) (v1697 : BitVec 32) (v1750 : BitVec 32) : Fin 3 → Nat :=
  let c199_i32_354 : BitVec 32 := 199#32
  let c0_i32_353 : BitVec 32 := 0#32
  let v1636 : BitVec 32 := Scalar.maxsi c0_i32_353 v1635
  let v1637 : BitVec 32 := Scalar.minsi c199_i32_354 v1636
  let v1698 : BitVec 32 := Scalar.addi v1637 v1697
  let c1_i32_384 : BitVec 32 := 1#32
  let v1699 : BitVec 32 := Scalar.addi v1698 c1_i32_384
  let c199_i32_360 : BitVec 32 := 199#32
  let c0_i32_359 : BitVec 32 := 0#32
  let v1646 : BitVec 32 := Scalar.maxsi c0_i32_359 v1645
  let v1647 : BitVec 32 := Scalar.minsi c199_i32_360 v1646
  let v1700 : BitVec 32 := Scalar.minsi v1699 v1647
  let v2690 : Index := Scalar.indexCast v1700
  let c199_i32_351 : BitVec 32 := 199#32
  let c0_i32_350 : BitVec 32 := 0#32
  let v1631 : BitVec 32 := Scalar.maxsi c0_i32_350 v1630
  let v1632 : BitVec 32 := Scalar.minsi c199_i32_351 v1631
  let v1751 : BitVec 32 := Scalar.addi v1632 v1750
  let c3_i32_411 : BitVec 32 := 3#32
  let v1754 : BitVec 32 := Scalar.shrsi v1751 c3_i32_411
  let c3_i32_412 : BitVec 32 := 3#32
  let v1755 : BitVec 32 := Scalar.shli v1754 c3_i32_412
  let v1756 : BitVec 32 := v1755
  let v2691 : Index := Scalar.indexCast v1756
  let c0_629 : Index := 0#32
  ![v2690.toNat, v2691.toNat, 0]
def k0_off243 (k0_t1 : Fin k0_t1_loop.trips) : Fin 3 → Nat :=
  let c30_631 : Index := 30#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c1_i32_345 : BitVec 32 := 1#32
  let v1622 : BitVec 32 := Scalar.addi v5 c1_i32_345
  let v2710 : Index := Scalar.indexCast v1622
  let c0_632 : Index := 0#32
  ![30, v2710.toNat, 0]
def k0_off244 (v1630 : BitVec 32) (v1635 : BitVec 32) (v1697 : BitVec 32) (v1763 : BitVec 32) : Fin 3 → Nat :=
  let c199_i32_354 : BitVec 32 := 199#32
  let c0_i32_353 : BitVec 32 := 0#32
  let v1636 : BitVec 32 := Scalar.maxsi c0_i32_353 v1635
  let v1637 : BitVec 32 := Scalar.minsi c199_i32_354 v1636
  let v1698 : BitVec 32 := Scalar.addi v1637 v1697
  let v2715 : Index := Scalar.indexCast v1698
  let c199_i32_351 : BitVec 32 := 199#32
  let c0_i32_350 : BitVec 32 := 0#32
  let v1631 : BitVec 32 := Scalar.maxsi c0_i32_350 v1630
  let v1632 : BitVec 32 := Scalar.minsi c199_i32_351 v1631
  let v1764 : BitVec 32 := Scalar.addi v1632 v1763
  let c3_i32_418 : BitVec 32 := 3#32
  let v1767 : BitVec 32 := Scalar.shrsi v1764 c3_i32_418
  let c3_i32_419 : BitVec 32 := 3#32
  let v1768 : BitVec 32 := Scalar.shli v1767 c3_i32_419
  let v1769 : BitVec 32 := v1768
  let v2716 : Index := Scalar.indexCast v1769
  let c0_634 : Index := 0#32
  ![v2715.toNat, v2716.toNat, 0]
def k0_off245 (v1630 : BitVec 32) (v1635 : BitVec 32) (v1645 : BitVec 32) (v1697 : BitVec 32) (v1763 : BitVec 32) : Fin 3 → Nat :=
  let c199_i32_354 : BitVec 32 := 199#32
  let c0_i32_353 : BitVec 32 := 0#32
  let v1636 : BitVec 32 := Scalar.maxsi c0_i32_353 v1635
  let v1637 : BitVec 32 := Scalar.minsi c199_i32_354 v1636
  let v1698 : BitVec 32 := Scalar.addi v1637 v1697
  let c1_i32_384 : BitVec 32 := 1#32
  let v1699 : BitVec 32 := Scalar.addi v1698 c1_i32_384
  let c199_i32_360 : BitVec 32 := 199#32
  let c0_i32_359 : BitVec 32 := 0#32
  let v1646 : BitVec 32 := Scalar.maxsi c0_i32_359 v1645
  let v1647 : BitVec 32 := Scalar.minsi c199_i32_360 v1646
  let v1700 : BitVec 32 := Scalar.minsi v1699 v1647
  let v2719 : Index := Scalar.indexCast v1700
  let c199_i32_351 : BitVec 32 := 199#32
  let c0_i32_350 : BitVec 32 := 0#32
  let v1631 : BitVec 32 := Scalar.maxsi c0_i32_350 v1630
  let v1632 : BitVec 32 := Scalar.minsi c199_i32_351 v1631
  let v1764 : BitVec 32 := Scalar.addi v1632 v1763
  let c3_i32_418 : BitVec 32 := 3#32
  let v1767 : BitVec 32 := Scalar.shrsi v1764 c3_i32_418
  let c3_i32_419 : BitVec 32 := 3#32
  let v1768 : BitVec 32 := Scalar.shli v1767 c3_i32_419
  let v1769 : BitVec 32 := v1768
  let v2720 : Index := Scalar.indexCast v1769
  let c0_635 : Index := 0#32
  ![v2719.toNat, v2720.toNat, 0]
def k0_off246 (k0_t1 : Fin k0_t1_loop.trips) : Fin 3 → Nat :=
  let c31_637 : Index := 31#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c1_i32_345 : BitVec 32 := 1#32
  let v1622 : BitVec 32 := Scalar.addi v5 c1_i32_345
  let v2739 : Index := Scalar.indexCast v1622
  let c0_638 : Index := 0#32
  ![31, v2739.toNat, 0]
def k0_off247 (v1630 : BitVec 32) (v1635 : BitVec 32) (v1697 : BitVec 32) (v1776 : BitVec 32) : Fin 3 → Nat :=
  let c199_i32_354 : BitVec 32 := 199#32
  let c0_i32_353 : BitVec 32 := 0#32
  let v1636 : BitVec 32 := Scalar.maxsi c0_i32_353 v1635
  let v1637 : BitVec 32 := Scalar.minsi c199_i32_354 v1636
  let v1698 : BitVec 32 := Scalar.addi v1637 v1697
  let v2744 : Index := Scalar.indexCast v1698
  let c199_i32_351 : BitVec 32 := 199#32
  let c0_i32_350 : BitVec 32 := 0#32
  let v1631 : BitVec 32 := Scalar.maxsi c0_i32_350 v1630
  let v1632 : BitVec 32 := Scalar.minsi c199_i32_351 v1631
  let v1777 : BitVec 32 := Scalar.addi v1632 v1776
  let c3_i32_425 : BitVec 32 := 3#32
  let v1780 : BitVec 32 := Scalar.shrsi v1777 c3_i32_425
  let c3_i32_426 : BitVec 32 := 3#32
  let v1781 : BitVec 32 := Scalar.shli v1780 c3_i32_426
  let v1782 : BitVec 32 := v1781
  let v2745 : Index := Scalar.indexCast v1782
  let c0_640 : Index := 0#32
  ![v2744.toNat, v2745.toNat, 0]
def k0_off248 (v1630 : BitVec 32) (v1635 : BitVec 32) (v1645 : BitVec 32) (v1697 : BitVec 32) (v1776 : BitVec 32) : Fin 3 → Nat :=
  let c199_i32_354 : BitVec 32 := 199#32
  let c0_i32_353 : BitVec 32 := 0#32
  let v1636 : BitVec 32 := Scalar.maxsi c0_i32_353 v1635
  let v1637 : BitVec 32 := Scalar.minsi c199_i32_354 v1636
  let v1698 : BitVec 32 := Scalar.addi v1637 v1697
  let c1_i32_384 : BitVec 32 := 1#32
  let v1699 : BitVec 32 := Scalar.addi v1698 c1_i32_384
  let c199_i32_360 : BitVec 32 := 199#32
  let c0_i32_359 : BitVec 32 := 0#32
  let v1646 : BitVec 32 := Scalar.maxsi c0_i32_359 v1645
  let v1647 : BitVec 32 := Scalar.minsi c199_i32_360 v1646
  let v1700 : BitVec 32 := Scalar.minsi v1699 v1647
  let v2748 : Index := Scalar.indexCast v1700
  let c199_i32_351 : BitVec 32 := 199#32
  let c0_i32_350 : BitVec 32 := 0#32
  let v1631 : BitVec 32 := Scalar.maxsi c0_i32_350 v1630
  let v1632 : BitVec 32 := Scalar.minsi c199_i32_351 v1631
  let v1777 : BitVec 32 := Scalar.addi v1632 v1776
  let c3_i32_425 : BitVec 32 := 3#32
  let v1780 : BitVec 32 := Scalar.shrsi v1777 c3_i32_425
  let c3_i32_426 : BitVec 32 := 3#32
  let v1781 : BitVec 32 := Scalar.shli v1780 c3_i32_426
  let v1782 : BitVec 32 := v1781
  let v2749 : Index := Scalar.indexCast v1782
  let c0_641 : Index := 0#32
  ![v2748.toNat, v2749.toNat, 0]
def k0_off249 (k0_t1 : Fin k0_t1_loop.trips) : Fin 3 → Nat :=
  let c32_643 : Index := 32#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c1_i32_345 : BitVec 32 := 1#32
  let v1622 : BitVec 32 := Scalar.addi v5 c1_i32_345
  let v2768 : Index := Scalar.indexCast v1622
  let c0_644 : Index := 0#32
  ![32, v2768.toNat, 0]
def k0_off250 (v1630 : BitVec 32) (v1635 : BitVec 32) (v1697 : BitVec 32) (v1789 : BitVec 32) : Fin 3 → Nat :=
  let c199_i32_354 : BitVec 32 := 199#32
  let c0_i32_353 : BitVec 32 := 0#32
  let v1636 : BitVec 32 := Scalar.maxsi c0_i32_353 v1635
  let v1637 : BitVec 32 := Scalar.minsi c199_i32_354 v1636
  let v1698 : BitVec 32 := Scalar.addi v1637 v1697
  let v2773 : Index := Scalar.indexCast v1698
  let c199_i32_351 : BitVec 32 := 199#32
  let c0_i32_350 : BitVec 32 := 0#32
  let v1631 : BitVec 32 := Scalar.maxsi c0_i32_350 v1630
  let v1632 : BitVec 32 := Scalar.minsi c199_i32_351 v1631
  let v1790 : BitVec 32 := Scalar.addi v1632 v1789
  let c3_i32_432 : BitVec 32 := 3#32
  let v1793 : BitVec 32 := Scalar.shrsi v1790 c3_i32_432
  let c3_i32_433 : BitVec 32 := 3#32
  let v1794 : BitVec 32 := Scalar.shli v1793 c3_i32_433
  let v1795 : BitVec 32 := v1794
  let v2774 : Index := Scalar.indexCast v1795
  let c0_646 : Index := 0#32
  ![v2773.toNat, v2774.toNat, 0]
def k0_off251 (v1630 : BitVec 32) (v1635 : BitVec 32) (v1645 : BitVec 32) (v1697 : BitVec 32) (v1789 : BitVec 32) : Fin 3 → Nat :=
  let c199_i32_354 : BitVec 32 := 199#32
  let c0_i32_353 : BitVec 32 := 0#32
  let v1636 : BitVec 32 := Scalar.maxsi c0_i32_353 v1635
  let v1637 : BitVec 32 := Scalar.minsi c199_i32_354 v1636
  let v1698 : BitVec 32 := Scalar.addi v1637 v1697
  let c1_i32_384 : BitVec 32 := 1#32
  let v1699 : BitVec 32 := Scalar.addi v1698 c1_i32_384
  let c199_i32_360 : BitVec 32 := 199#32
  let c0_i32_359 : BitVec 32 := 0#32
  let v1646 : BitVec 32 := Scalar.maxsi c0_i32_359 v1645
  let v1647 : BitVec 32 := Scalar.minsi c199_i32_360 v1646
  let v1700 : BitVec 32 := Scalar.minsi v1699 v1647
  let v2777 : Index := Scalar.indexCast v1700
  let c199_i32_351 : BitVec 32 := 199#32
  let c0_i32_350 : BitVec 32 := 0#32
  let v1631 : BitVec 32 := Scalar.maxsi c0_i32_350 v1630
  let v1632 : BitVec 32 := Scalar.minsi c199_i32_351 v1631
  let v1790 : BitVec 32 := Scalar.addi v1632 v1789
  let c3_i32_432 : BitVec 32 := 3#32
  let v1793 : BitVec 32 := Scalar.shrsi v1790 c3_i32_432
  let c3_i32_433 : BitVec 32 := 3#32
  let v1794 : BitVec 32 := Scalar.shli v1793 c3_i32_433
  let v1795 : BitVec 32 := v1794
  let v2778 : Index := Scalar.indexCast v1795
  let c0_647 : Index := 0#32
  ![v2777.toNat, v2778.toNat, 0]
def k0_off252 (k0_t1 : Fin k0_t1_loop.trips) : Fin 3 → Nat :=
  let c33_649 : Index := 33#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c1_i32_345 : BitVec 32 := 1#32
  let v1622 : BitVec 32 := Scalar.addi v5 c1_i32_345
  let v2797 : Index := Scalar.indexCast v1622
  let c0_650 : Index := 0#32
  ![33, v2797.toNat, 0]
def k0_off253 (v1630 : BitVec 32) (v1635 : BitVec 32) (v1697 : BitVec 32) (v1802 : BitVec 32) : Fin 3 → Nat :=
  let c199_i32_354 : BitVec 32 := 199#32
  let c0_i32_353 : BitVec 32 := 0#32
  let v1636 : BitVec 32 := Scalar.maxsi c0_i32_353 v1635
  let v1637 : BitVec 32 := Scalar.minsi c199_i32_354 v1636
  let v1698 : BitVec 32 := Scalar.addi v1637 v1697
  let v2802 : Index := Scalar.indexCast v1698
  let c199_i32_351 : BitVec 32 := 199#32
  let c0_i32_350 : BitVec 32 := 0#32
  let v1631 : BitVec 32 := Scalar.maxsi c0_i32_350 v1630
  let v1632 : BitVec 32 := Scalar.minsi c199_i32_351 v1631
  let v1803 : BitVec 32 := Scalar.addi v1632 v1802
  let c3_i32_439 : BitVec 32 := 3#32
  let v1806 : BitVec 32 := Scalar.shrsi v1803 c3_i32_439
  let c3_i32_440 : BitVec 32 := 3#32
  let v1807 : BitVec 32 := Scalar.shli v1806 c3_i32_440
  let v1808 : BitVec 32 := v1807
  let v2803 : Index := Scalar.indexCast v1808
  let c0_652 : Index := 0#32
  ![v2802.toNat, v2803.toNat, 0]
def k0_off254 (v1630 : BitVec 32) (v1635 : BitVec 32) (v1645 : BitVec 32) (v1697 : BitVec 32) (v1802 : BitVec 32) : Fin 3 → Nat :=
  let c199_i32_354 : BitVec 32 := 199#32
  let c0_i32_353 : BitVec 32 := 0#32
  let v1636 : BitVec 32 := Scalar.maxsi c0_i32_353 v1635
  let v1637 : BitVec 32 := Scalar.minsi c199_i32_354 v1636
  let v1698 : BitVec 32 := Scalar.addi v1637 v1697
  let c1_i32_384 : BitVec 32 := 1#32
  let v1699 : BitVec 32 := Scalar.addi v1698 c1_i32_384
  let c199_i32_360 : BitVec 32 := 199#32
  let c0_i32_359 : BitVec 32 := 0#32
  let v1646 : BitVec 32 := Scalar.maxsi c0_i32_359 v1645
  let v1647 : BitVec 32 := Scalar.minsi c199_i32_360 v1646
  let v1700 : BitVec 32 := Scalar.minsi v1699 v1647
  let v2806 : Index := Scalar.indexCast v1700
  let c199_i32_351 : BitVec 32 := 199#32
  let c0_i32_350 : BitVec 32 := 0#32
  let v1631 : BitVec 32 := Scalar.maxsi c0_i32_350 v1630
  let v1632 : BitVec 32 := Scalar.minsi c199_i32_351 v1631
  let v1803 : BitVec 32 := Scalar.addi v1632 v1802
  let c3_i32_439 : BitVec 32 := 3#32
  let v1806 : BitVec 32 := Scalar.shrsi v1803 c3_i32_439
  let c3_i32_440 : BitVec 32 := 3#32
  let v1807 : BitVec 32 := Scalar.shli v1806 c3_i32_440
  let v1808 : BitVec 32 := v1807
  let v2807 : Index := Scalar.indexCast v1808
  let c0_653 : Index := 0#32
  ![v2806.toNat, v2807.toNat, 0]
def k0_off255 (k0_t1 : Fin k0_t1_loop.trips) : Fin 3 → Nat :=
  let c34_655 : Index := 34#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c1_i32_345 : BitVec 32 := 1#32
  let v1622 : BitVec 32 := Scalar.addi v5 c1_i32_345
  let v2826 : Index := Scalar.indexCast v1622
  let c0_656 : Index := 0#32
  ![34, v2826.toNat, 0]
def k0_off256 (v1630 : BitVec 32) (v1635 : BitVec 32) (v1706 : BitVec 32) (v1724 : BitVec 32) : Fin 3 → Nat :=
  let c199_i32_354 : BitVec 32 := 199#32
  let c0_i32_353 : BitVec 32 := 0#32
  let v1636 : BitVec 32 := Scalar.maxsi c0_i32_353 v1635
  let v1637 : BitVec 32 := Scalar.minsi c199_i32_354 v1636
  let v1707 : BitVec 32 := Scalar.addi v1637 v1706
  let v2832 : Index := Scalar.indexCast v1707
  let c199_i32_351 : BitVec 32 := 199#32
  let c0_i32_350 : BitVec 32 := 0#32
  let v1631 : BitVec 32 := Scalar.maxsi c0_i32_350 v1630
  let v1632 : BitVec 32 := Scalar.minsi c199_i32_351 v1631
  let v1725 : BitVec 32 := Scalar.addi v1632 v1724
  let c3_i32_397 : BitVec 32 := 3#32
  let v1728 : BitVec 32 := Scalar.shrsi v1725 c3_i32_397
  let c3_i32_398 : BitVec 32 := 3#32
  let v1729 : BitVec 32 := Scalar.shli v1728 c3_i32_398
  let v1730 : BitVec 32 := v1729
  let v2833 : Index := Scalar.indexCast v1730
  let c0_659 : Index := 0#32
  ![v2832.toNat, v2833.toNat, 0]
def k0_off257 (v1630 : BitVec 32) (v1635 : BitVec 32) (v1645 : BitVec 32) (v1706 : BitVec 32) (v1724 : BitVec 32) : Fin 3 → Nat :=
  let c199_i32_354 : BitVec 32 := 199#32
  let c0_i32_353 : BitVec 32 := 0#32
  let v1636 : BitVec 32 := Scalar.maxsi c0_i32_353 v1635
  let v1637 : BitVec 32 := Scalar.minsi c199_i32_354 v1636
  let v1707 : BitVec 32 := Scalar.addi v1637 v1706
  let c1_i32_388 : BitVec 32 := 1#32
  let v1708 : BitVec 32 := Scalar.addi v1707 c1_i32_388
  let c199_i32_360 : BitVec 32 := 199#32
  let c0_i32_359 : BitVec 32 := 0#32
  let v1646 : BitVec 32 := Scalar.maxsi c0_i32_359 v1645
  let v1647 : BitVec 32 := Scalar.minsi c199_i32_360 v1646
  let v1709 : BitVec 32 := Scalar.minsi v1708 v1647
  let v2836 : Index := Scalar.indexCast v1709
  let c199_i32_351 : BitVec 32 := 199#32
  let c0_i32_350 : BitVec 32 := 0#32
  let v1631 : BitVec 32 := Scalar.maxsi c0_i32_350 v1630
  let v1632 : BitVec 32 := Scalar.minsi c199_i32_351 v1631
  let v1725 : BitVec 32 := Scalar.addi v1632 v1724
  let c3_i32_397 : BitVec 32 := 3#32
  let v1728 : BitVec 32 := Scalar.shrsi v1725 c3_i32_397
  let c3_i32_398 : BitVec 32 := 3#32
  let v1729 : BitVec 32 := Scalar.shli v1728 c3_i32_398
  let v1730 : BitVec 32 := v1729
  let v2837 : Index := Scalar.indexCast v1730
  let c0_660 : Index := 0#32
  ![v2836.toNat, v2837.toNat, 0]
def k0_off258 (k0_t1 : Fin k0_t1_loop.trips) : Fin 3 → Nat :=
  let c35_662 : Index := 35#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c1_i32_345 : BitVec 32 := 1#32
  let v1622 : BitVec 32 := Scalar.addi v5 c1_i32_345
  let v2856 : Index := Scalar.indexCast v1622
  let c0_663 : Index := 0#32
  ![35, v2856.toNat, 0]
def k0_off259 (v1630 : BitVec 32) (v1635 : BitVec 32) (v1706 : BitVec 32) (v1737 : BitVec 32) : Fin 3 → Nat :=
  let c199_i32_354 : BitVec 32 := 199#32
  let c0_i32_353 : BitVec 32 := 0#32
  let v1636 : BitVec 32 := Scalar.maxsi c0_i32_353 v1635
  let v1637 : BitVec 32 := Scalar.minsi c199_i32_354 v1636
  let v1707 : BitVec 32 := Scalar.addi v1637 v1706
  let v2861 : Index := Scalar.indexCast v1707
  let c199_i32_351 : BitVec 32 := 199#32
  let c0_i32_350 : BitVec 32 := 0#32
  let v1631 : BitVec 32 := Scalar.maxsi c0_i32_350 v1630
  let v1632 : BitVec 32 := Scalar.minsi c199_i32_351 v1631
  let v1738 : BitVec 32 := Scalar.addi v1632 v1737
  let c3_i32_404 : BitVec 32 := 3#32
  let v1741 : BitVec 32 := Scalar.shrsi v1738 c3_i32_404
  let c3_i32_405 : BitVec 32 := 3#32
  let v1742 : BitVec 32 := Scalar.shli v1741 c3_i32_405
  let v1743 : BitVec 32 := v1742
  let v2862 : Index := Scalar.indexCast v1743
  let c0_665 : Index := 0#32
  ![v2861.toNat, v2862.toNat, 0]
def k0_off260 (v1630 : BitVec 32) (v1635 : BitVec 32) (v1645 : BitVec 32) (v1706 : BitVec 32) (v1737 : BitVec 32) : Fin 3 → Nat :=
  let c199_i32_354 : BitVec 32 := 199#32
  let c0_i32_353 : BitVec 32 := 0#32
  let v1636 : BitVec 32 := Scalar.maxsi c0_i32_353 v1635
  let v1637 : BitVec 32 := Scalar.minsi c199_i32_354 v1636
  let v1707 : BitVec 32 := Scalar.addi v1637 v1706
  let c1_i32_388 : BitVec 32 := 1#32
  let v1708 : BitVec 32 := Scalar.addi v1707 c1_i32_388
  let c199_i32_360 : BitVec 32 := 199#32
  let c0_i32_359 : BitVec 32 := 0#32
  let v1646 : BitVec 32 := Scalar.maxsi c0_i32_359 v1645
  let v1647 : BitVec 32 := Scalar.minsi c199_i32_360 v1646
  let v1709 : BitVec 32 := Scalar.minsi v1708 v1647
  let v2865 : Index := Scalar.indexCast v1709
  let c199_i32_351 : BitVec 32 := 199#32
  let c0_i32_350 : BitVec 32 := 0#32
  let v1631 : BitVec 32 := Scalar.maxsi c0_i32_350 v1630
  let v1632 : BitVec 32 := Scalar.minsi c199_i32_351 v1631
  let v1738 : BitVec 32 := Scalar.addi v1632 v1737
  let c3_i32_404 : BitVec 32 := 3#32
  let v1741 : BitVec 32 := Scalar.shrsi v1738 c3_i32_404
  let c3_i32_405 : BitVec 32 := 3#32
  let v1742 : BitVec 32 := Scalar.shli v1741 c3_i32_405
  let v1743 : BitVec 32 := v1742
  let v2866 : Index := Scalar.indexCast v1743
  let c0_666 : Index := 0#32
  ![v2865.toNat, v2866.toNat, 0]
def k0_off261 (k0_t1 : Fin k0_t1_loop.trips) : Fin 3 → Nat :=
  let c36_668 : Index := 36#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c1_i32_345 : BitVec 32 := 1#32
  let v1622 : BitVec 32 := Scalar.addi v5 c1_i32_345
  let v2885 : Index := Scalar.indexCast v1622
  let c0_669 : Index := 0#32
  ![36, v2885.toNat, 0]
def k0_off262 (v1630 : BitVec 32) (v1635 : BitVec 32) (v1706 : BitVec 32) (v1750 : BitVec 32) : Fin 3 → Nat :=
  let c199_i32_354 : BitVec 32 := 199#32
  let c0_i32_353 : BitVec 32 := 0#32
  let v1636 : BitVec 32 := Scalar.maxsi c0_i32_353 v1635
  let v1637 : BitVec 32 := Scalar.minsi c199_i32_354 v1636
  let v1707 : BitVec 32 := Scalar.addi v1637 v1706
  let v2890 : Index := Scalar.indexCast v1707
  let c199_i32_351 : BitVec 32 := 199#32
  let c0_i32_350 : BitVec 32 := 0#32
  let v1631 : BitVec 32 := Scalar.maxsi c0_i32_350 v1630
  let v1632 : BitVec 32 := Scalar.minsi c199_i32_351 v1631
  let v1751 : BitVec 32 := Scalar.addi v1632 v1750
  let c3_i32_411 : BitVec 32 := 3#32
  let v1754 : BitVec 32 := Scalar.shrsi v1751 c3_i32_411
  let c3_i32_412 : BitVec 32 := 3#32
  let v1755 : BitVec 32 := Scalar.shli v1754 c3_i32_412
  let v1756 : BitVec 32 := v1755
  let v2891 : Index := Scalar.indexCast v1756
  let c0_671 : Index := 0#32
  ![v2890.toNat, v2891.toNat, 0]
def k0_off263 (v1630 : BitVec 32) (v1635 : BitVec 32) (v1645 : BitVec 32) (v1706 : BitVec 32) (v1750 : BitVec 32) : Fin 3 → Nat :=
  let c199_i32_354 : BitVec 32 := 199#32
  let c0_i32_353 : BitVec 32 := 0#32
  let v1636 : BitVec 32 := Scalar.maxsi c0_i32_353 v1635
  let v1637 : BitVec 32 := Scalar.minsi c199_i32_354 v1636
  let v1707 : BitVec 32 := Scalar.addi v1637 v1706
  let c1_i32_388 : BitVec 32 := 1#32
  let v1708 : BitVec 32 := Scalar.addi v1707 c1_i32_388
  let c199_i32_360 : BitVec 32 := 199#32
  let c0_i32_359 : BitVec 32 := 0#32
  let v1646 : BitVec 32 := Scalar.maxsi c0_i32_359 v1645
  let v1647 : BitVec 32 := Scalar.minsi c199_i32_360 v1646
  let v1709 : BitVec 32 := Scalar.minsi v1708 v1647
  let v2894 : Index := Scalar.indexCast v1709
  let c199_i32_351 : BitVec 32 := 199#32
  let c0_i32_350 : BitVec 32 := 0#32
  let v1631 : BitVec 32 := Scalar.maxsi c0_i32_350 v1630
  let v1632 : BitVec 32 := Scalar.minsi c199_i32_351 v1631
  let v1751 : BitVec 32 := Scalar.addi v1632 v1750
  let c3_i32_411 : BitVec 32 := 3#32
  let v1754 : BitVec 32 := Scalar.shrsi v1751 c3_i32_411
  let c3_i32_412 : BitVec 32 := 3#32
  let v1755 : BitVec 32 := Scalar.shli v1754 c3_i32_412
  let v1756 : BitVec 32 := v1755
  let v2895 : Index := Scalar.indexCast v1756
  let c0_672 : Index := 0#32
  ![v2894.toNat, v2895.toNat, 0]
def k0_off264 (k0_t1 : Fin k0_t1_loop.trips) : Fin 3 → Nat :=
  let c37_674 : Index := 37#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c1_i32_345 : BitVec 32 := 1#32
  let v1622 : BitVec 32 := Scalar.addi v5 c1_i32_345
  let v2914 : Index := Scalar.indexCast v1622
  let c0_675 : Index := 0#32
  ![37, v2914.toNat, 0]
def k0_off265 (v1630 : BitVec 32) (v1635 : BitVec 32) (v1706 : BitVec 32) (v1763 : BitVec 32) : Fin 3 → Nat :=
  let c199_i32_354 : BitVec 32 := 199#32
  let c0_i32_353 : BitVec 32 := 0#32
  let v1636 : BitVec 32 := Scalar.maxsi c0_i32_353 v1635
  let v1637 : BitVec 32 := Scalar.minsi c199_i32_354 v1636
  let v1707 : BitVec 32 := Scalar.addi v1637 v1706
  let v2919 : Index := Scalar.indexCast v1707
  let c199_i32_351 : BitVec 32 := 199#32
  let c0_i32_350 : BitVec 32 := 0#32
  let v1631 : BitVec 32 := Scalar.maxsi c0_i32_350 v1630
  let v1632 : BitVec 32 := Scalar.minsi c199_i32_351 v1631
  let v1764 : BitVec 32 := Scalar.addi v1632 v1763
  let c3_i32_418 : BitVec 32 := 3#32
  let v1767 : BitVec 32 := Scalar.shrsi v1764 c3_i32_418
  let c3_i32_419 : BitVec 32 := 3#32
  let v1768 : BitVec 32 := Scalar.shli v1767 c3_i32_419
  let v1769 : BitVec 32 := v1768
  let v2920 : Index := Scalar.indexCast v1769
  let c0_677 : Index := 0#32
  ![v2919.toNat, v2920.toNat, 0]
def k0_off266 (v1630 : BitVec 32) (v1635 : BitVec 32) (v1645 : BitVec 32) (v1706 : BitVec 32) (v1763 : BitVec 32) : Fin 3 → Nat :=
  let c199_i32_354 : BitVec 32 := 199#32
  let c0_i32_353 : BitVec 32 := 0#32
  let v1636 : BitVec 32 := Scalar.maxsi c0_i32_353 v1635
  let v1637 : BitVec 32 := Scalar.minsi c199_i32_354 v1636
  let v1707 : BitVec 32 := Scalar.addi v1637 v1706
  let c1_i32_388 : BitVec 32 := 1#32
  let v1708 : BitVec 32 := Scalar.addi v1707 c1_i32_388
  let c199_i32_360 : BitVec 32 := 199#32
  let c0_i32_359 : BitVec 32 := 0#32
  let v1646 : BitVec 32 := Scalar.maxsi c0_i32_359 v1645
  let v1647 : BitVec 32 := Scalar.minsi c199_i32_360 v1646
  let v1709 : BitVec 32 := Scalar.minsi v1708 v1647
  let v2923 : Index := Scalar.indexCast v1709
  let c199_i32_351 : BitVec 32 := 199#32
  let c0_i32_350 : BitVec 32 := 0#32
  let v1631 : BitVec 32 := Scalar.maxsi c0_i32_350 v1630
  let v1632 : BitVec 32 := Scalar.minsi c199_i32_351 v1631
  let v1764 : BitVec 32 := Scalar.addi v1632 v1763
  let c3_i32_418 : BitVec 32 := 3#32
  let v1767 : BitVec 32 := Scalar.shrsi v1764 c3_i32_418
  let c3_i32_419 : BitVec 32 := 3#32
  let v1768 : BitVec 32 := Scalar.shli v1767 c3_i32_419
  let v1769 : BitVec 32 := v1768
  let v2924 : Index := Scalar.indexCast v1769
  let c0_678 : Index := 0#32
  ![v2923.toNat, v2924.toNat, 0]
def k0_off267 (k0_t1 : Fin k0_t1_loop.trips) : Fin 3 → Nat :=
  let c38_680 : Index := 38#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c1_i32_345 : BitVec 32 := 1#32
  let v1622 : BitVec 32 := Scalar.addi v5 c1_i32_345
  let v2943 : Index := Scalar.indexCast v1622
  let c0_681 : Index := 0#32
  ![38, v2943.toNat, 0]
def k0_off268 (v1630 : BitVec 32) (v1635 : BitVec 32) (v1706 : BitVec 32) (v1776 : BitVec 32) : Fin 3 → Nat :=
  let c199_i32_354 : BitVec 32 := 199#32
  let c0_i32_353 : BitVec 32 := 0#32
  let v1636 : BitVec 32 := Scalar.maxsi c0_i32_353 v1635
  let v1637 : BitVec 32 := Scalar.minsi c199_i32_354 v1636
  let v1707 : BitVec 32 := Scalar.addi v1637 v1706
  let v2948 : Index := Scalar.indexCast v1707
  let c199_i32_351 : BitVec 32 := 199#32
  let c0_i32_350 : BitVec 32 := 0#32
  let v1631 : BitVec 32 := Scalar.maxsi c0_i32_350 v1630
  let v1632 : BitVec 32 := Scalar.minsi c199_i32_351 v1631
  let v1777 : BitVec 32 := Scalar.addi v1632 v1776
  let c3_i32_425 : BitVec 32 := 3#32
  let v1780 : BitVec 32 := Scalar.shrsi v1777 c3_i32_425
  let c3_i32_426 : BitVec 32 := 3#32
  let v1781 : BitVec 32 := Scalar.shli v1780 c3_i32_426
  let v1782 : BitVec 32 := v1781
  let v2949 : Index := Scalar.indexCast v1782
  let c0_683 : Index := 0#32
  ![v2948.toNat, v2949.toNat, 0]
def k0_off269 (v1630 : BitVec 32) (v1635 : BitVec 32) (v1645 : BitVec 32) (v1706 : BitVec 32) (v1776 : BitVec 32) : Fin 3 → Nat :=
  let c199_i32_354 : BitVec 32 := 199#32
  let c0_i32_353 : BitVec 32 := 0#32
  let v1636 : BitVec 32 := Scalar.maxsi c0_i32_353 v1635
  let v1637 : BitVec 32 := Scalar.minsi c199_i32_354 v1636
  let v1707 : BitVec 32 := Scalar.addi v1637 v1706
  let c1_i32_388 : BitVec 32 := 1#32
  let v1708 : BitVec 32 := Scalar.addi v1707 c1_i32_388
  let c199_i32_360 : BitVec 32 := 199#32
  let c0_i32_359 : BitVec 32 := 0#32
  let v1646 : BitVec 32 := Scalar.maxsi c0_i32_359 v1645
  let v1647 : BitVec 32 := Scalar.minsi c199_i32_360 v1646
  let v1709 : BitVec 32 := Scalar.minsi v1708 v1647
  let v2952 : Index := Scalar.indexCast v1709
  let c199_i32_351 : BitVec 32 := 199#32
  let c0_i32_350 : BitVec 32 := 0#32
  let v1631 : BitVec 32 := Scalar.maxsi c0_i32_350 v1630
  let v1632 : BitVec 32 := Scalar.minsi c199_i32_351 v1631
  let v1777 : BitVec 32 := Scalar.addi v1632 v1776
  let c3_i32_425 : BitVec 32 := 3#32
  let v1780 : BitVec 32 := Scalar.shrsi v1777 c3_i32_425
  let c3_i32_426 : BitVec 32 := 3#32
  let v1781 : BitVec 32 := Scalar.shli v1780 c3_i32_426
  let v1782 : BitVec 32 := v1781
  let v2953 : Index := Scalar.indexCast v1782
  let c0_684 : Index := 0#32
  ![v2952.toNat, v2953.toNat, 0]
def k0_off270 (k0_t1 : Fin k0_t1_loop.trips) : Fin 3 → Nat :=
  let c39_686 : Index := 39#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c1_i32_345 : BitVec 32 := 1#32
  let v1622 : BitVec 32 := Scalar.addi v5 c1_i32_345
  let v2972 : Index := Scalar.indexCast v1622
  let c0_687 : Index := 0#32
  ![39, v2972.toNat, 0]
def k0_off271 (v1630 : BitVec 32) (v1635 : BitVec 32) (v1706 : BitVec 32) (v1789 : BitVec 32) : Fin 3 → Nat :=
  let c199_i32_354 : BitVec 32 := 199#32
  let c0_i32_353 : BitVec 32 := 0#32
  let v1636 : BitVec 32 := Scalar.maxsi c0_i32_353 v1635
  let v1637 : BitVec 32 := Scalar.minsi c199_i32_354 v1636
  let v1707 : BitVec 32 := Scalar.addi v1637 v1706
  let v2977 : Index := Scalar.indexCast v1707
  let c199_i32_351 : BitVec 32 := 199#32
  let c0_i32_350 : BitVec 32 := 0#32
  let v1631 : BitVec 32 := Scalar.maxsi c0_i32_350 v1630
  let v1632 : BitVec 32 := Scalar.minsi c199_i32_351 v1631
  let v1790 : BitVec 32 := Scalar.addi v1632 v1789
  let c3_i32_432 : BitVec 32 := 3#32
  let v1793 : BitVec 32 := Scalar.shrsi v1790 c3_i32_432
  let c3_i32_433 : BitVec 32 := 3#32
  let v1794 : BitVec 32 := Scalar.shli v1793 c3_i32_433
  let v1795 : BitVec 32 := v1794
  let v2978 : Index := Scalar.indexCast v1795
  let c0_689 : Index := 0#32
  ![v2977.toNat, v2978.toNat, 0]
def k0_off272 (v1630 : BitVec 32) (v1635 : BitVec 32) (v1645 : BitVec 32) (v1706 : BitVec 32) (v1789 : BitVec 32) : Fin 3 → Nat :=
  let c199_i32_354 : BitVec 32 := 199#32
  let c0_i32_353 : BitVec 32 := 0#32
  let v1636 : BitVec 32 := Scalar.maxsi c0_i32_353 v1635
  let v1637 : BitVec 32 := Scalar.minsi c199_i32_354 v1636
  let v1707 : BitVec 32 := Scalar.addi v1637 v1706
  let c1_i32_388 : BitVec 32 := 1#32
  let v1708 : BitVec 32 := Scalar.addi v1707 c1_i32_388
  let c199_i32_360 : BitVec 32 := 199#32
  let c0_i32_359 : BitVec 32 := 0#32
  let v1646 : BitVec 32 := Scalar.maxsi c0_i32_359 v1645
  let v1647 : BitVec 32 := Scalar.minsi c199_i32_360 v1646
  let v1709 : BitVec 32 := Scalar.minsi v1708 v1647
  let v2981 : Index := Scalar.indexCast v1709
  let c199_i32_351 : BitVec 32 := 199#32
  let c0_i32_350 : BitVec 32 := 0#32
  let v1631 : BitVec 32 := Scalar.maxsi c0_i32_350 v1630
  let v1632 : BitVec 32 := Scalar.minsi c199_i32_351 v1631
  let v1790 : BitVec 32 := Scalar.addi v1632 v1789
  let c3_i32_432 : BitVec 32 := 3#32
  let v1793 : BitVec 32 := Scalar.shrsi v1790 c3_i32_432
  let c3_i32_433 : BitVec 32 := 3#32
  let v1794 : BitVec 32 := Scalar.shli v1793 c3_i32_433
  let v1795 : BitVec 32 := v1794
  let v2982 : Index := Scalar.indexCast v1795
  let c0_690 : Index := 0#32
  ![v2981.toNat, v2982.toNat, 0]
def k0_off273 (k0_t1 : Fin k0_t1_loop.trips) : Fin 3 → Nat :=
  let c40_692 : Index := 40#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c1_i32_345 : BitVec 32 := 1#32
  let v1622 : BitVec 32 := Scalar.addi v5 c1_i32_345
  let v3001 : Index := Scalar.indexCast v1622
  let c0_693 : Index := 0#32
  ![40, v3001.toNat, 0]
def k0_off274 (v1630 : BitVec 32) (v1635 : BitVec 32) (v1706 : BitVec 32) (v1802 : BitVec 32) : Fin 3 → Nat :=
  let c199_i32_354 : BitVec 32 := 199#32
  let c0_i32_353 : BitVec 32 := 0#32
  let v1636 : BitVec 32 := Scalar.maxsi c0_i32_353 v1635
  let v1637 : BitVec 32 := Scalar.minsi c199_i32_354 v1636
  let v1707 : BitVec 32 := Scalar.addi v1637 v1706
  let v3006 : Index := Scalar.indexCast v1707
  let c199_i32_351 : BitVec 32 := 199#32
  let c0_i32_350 : BitVec 32 := 0#32
  let v1631 : BitVec 32 := Scalar.maxsi c0_i32_350 v1630
  let v1632 : BitVec 32 := Scalar.minsi c199_i32_351 v1631
  let v1803 : BitVec 32 := Scalar.addi v1632 v1802
  let c3_i32_439 : BitVec 32 := 3#32
  let v1806 : BitVec 32 := Scalar.shrsi v1803 c3_i32_439
  let c3_i32_440 : BitVec 32 := 3#32
  let v1807 : BitVec 32 := Scalar.shli v1806 c3_i32_440
  let v1808 : BitVec 32 := v1807
  let v3007 : Index := Scalar.indexCast v1808
  let c0_695 : Index := 0#32
  ![v3006.toNat, v3007.toNat, 0]
def k0_off275 (v1630 : BitVec 32) (v1635 : BitVec 32) (v1645 : BitVec 32) (v1706 : BitVec 32) (v1802 : BitVec 32) : Fin 3 → Nat :=
  let c199_i32_354 : BitVec 32 := 199#32
  let c0_i32_353 : BitVec 32 := 0#32
  let v1636 : BitVec 32 := Scalar.maxsi c0_i32_353 v1635
  let v1637 : BitVec 32 := Scalar.minsi c199_i32_354 v1636
  let v1707 : BitVec 32 := Scalar.addi v1637 v1706
  let c1_i32_388 : BitVec 32 := 1#32
  let v1708 : BitVec 32 := Scalar.addi v1707 c1_i32_388
  let c199_i32_360 : BitVec 32 := 199#32
  let c0_i32_359 : BitVec 32 := 0#32
  let v1646 : BitVec 32 := Scalar.maxsi c0_i32_359 v1645
  let v1647 : BitVec 32 := Scalar.minsi c199_i32_360 v1646
  let v1709 : BitVec 32 := Scalar.minsi v1708 v1647
  let v3010 : Index := Scalar.indexCast v1709
  let c199_i32_351 : BitVec 32 := 199#32
  let c0_i32_350 : BitVec 32 := 0#32
  let v1631 : BitVec 32 := Scalar.maxsi c0_i32_350 v1630
  let v1632 : BitVec 32 := Scalar.minsi c199_i32_351 v1631
  let v1803 : BitVec 32 := Scalar.addi v1632 v1802
  let c3_i32_439 : BitVec 32 := 3#32
  let v1806 : BitVec 32 := Scalar.shrsi v1803 c3_i32_439
  let c3_i32_440 : BitVec 32 := 3#32
  let v1807 : BitVec 32 := Scalar.shli v1806 c3_i32_440
  let v1808 : BitVec 32 := v1807
  let v3011 : Index := Scalar.indexCast v1808
  let c0_696 : Index := 0#32
  ![v3010.toNat, v3011.toNat, 0]
def k0_off276 (k0_t1 : Fin k0_t1_loop.trips) : Fin 3 → Nat :=
  let c41_698 : Index := 41#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c1_i32_345 : BitVec 32 := 1#32
  let v1622 : BitVec 32 := Scalar.addi v5 c1_i32_345
  let v3030 : Index := Scalar.indexCast v1622
  let c0_699 : Index := 0#32
  ![41, v3030.toNat, 0]
def k0_off277 (v1630 : BitVec 32) (v1635 : BitVec 32) (v1715 : BitVec 32) (v1724 : BitVec 32) : Fin 3 → Nat :=
  let c199_i32_354 : BitVec 32 := 199#32
  let c0_i32_353 : BitVec 32 := 0#32
  let v1636 : BitVec 32 := Scalar.maxsi c0_i32_353 v1635
  let v1637 : BitVec 32 := Scalar.minsi c199_i32_354 v1636
  let v1716 : BitVec 32 := Scalar.addi v1637 v1715
  let v3036 : Index := Scalar.indexCast v1716
  let c199_i32_351 : BitVec 32 := 199#32
  let c0_i32_350 : BitVec 32 := 0#32
  let v1631 : BitVec 32 := Scalar.maxsi c0_i32_350 v1630
  let v1632 : BitVec 32 := Scalar.minsi c199_i32_351 v1631
  let v1725 : BitVec 32 := Scalar.addi v1632 v1724
  let c3_i32_397 : BitVec 32 := 3#32
  let v1728 : BitVec 32 := Scalar.shrsi v1725 c3_i32_397
  let c3_i32_398 : BitVec 32 := 3#32
  let v1729 : BitVec 32 := Scalar.shli v1728 c3_i32_398
  let v1730 : BitVec 32 := v1729
  let v3037 : Index := Scalar.indexCast v1730
  let c0_702 : Index := 0#32
  ![v3036.toNat, v3037.toNat, 0]
def k0_off278 (v1630 : BitVec 32) (v1635 : BitVec 32) (v1645 : BitVec 32) (v1715 : BitVec 32) (v1724 : BitVec 32) : Fin 3 → Nat :=
  let c199_i32_354 : BitVec 32 := 199#32
  let c0_i32_353 : BitVec 32 := 0#32
  let v1636 : BitVec 32 := Scalar.maxsi c0_i32_353 v1635
  let v1637 : BitVec 32 := Scalar.minsi c199_i32_354 v1636
  let v1716 : BitVec 32 := Scalar.addi v1637 v1715
  let c1_i32_392 : BitVec 32 := 1#32
  let v1717 : BitVec 32 := Scalar.addi v1716 c1_i32_392
  let c199_i32_360 : BitVec 32 := 199#32
  let c0_i32_359 : BitVec 32 := 0#32
  let v1646 : BitVec 32 := Scalar.maxsi c0_i32_359 v1645
  let v1647 : BitVec 32 := Scalar.minsi c199_i32_360 v1646
  let v1718 : BitVec 32 := Scalar.minsi v1717 v1647
  let v3040 : Index := Scalar.indexCast v1718
  let c199_i32_351 : BitVec 32 := 199#32
  let c0_i32_350 : BitVec 32 := 0#32
  let v1631 : BitVec 32 := Scalar.maxsi c0_i32_350 v1630
  let v1632 : BitVec 32 := Scalar.minsi c199_i32_351 v1631
  let v1725 : BitVec 32 := Scalar.addi v1632 v1724
  let c3_i32_397 : BitVec 32 := 3#32
  let v1728 : BitVec 32 := Scalar.shrsi v1725 c3_i32_397
  let c3_i32_398 : BitVec 32 := 3#32
  let v1729 : BitVec 32 := Scalar.shli v1728 c3_i32_398
  let v1730 : BitVec 32 := v1729
  let v3041 : Index := Scalar.indexCast v1730
  let c0_703 : Index := 0#32
  ![v3040.toNat, v3041.toNat, 0]

def k0_chk8 (v1630 : BitVec 32) (v1635 : BitVec 32) (v1645 : BitVec 32) (v1661 : BitVec 32) (v1670 : BitVec 32) (v1679 : BitVec 32) (v1688 : BitVec 32) (v1697 : BitVec 32) (v1706 : BitVec 32) (v1715 : BitVec 32) (v1724 : BitVec 32) : Prop :=
  (8 ∣ (k0_mult9 v1630 v1724).toNat) ∧
  (∀ a, (k0_off151 v1630 v1635 v1661 v1724) a + S1x16x256.size a ≤ S200x216x256.size a) ∧
  (∀ a, (k0_off152 v1630 v1635 v1645 v1661 v1724) a + S1x16x256.size a ≤ S200x216x256.size a) ∧
  (∀ a, (k0_off172 v1630 v1635 v1670 v1724) a + S1x16x256.size a ≤ S200x216x256.size a) ∧
  (∀ a, (k0_off173 v1630 v1635 v1645 v1670 v1724) a + S1x16x256.size a ≤ S200x216x256.size a) ∧
  (∀ a, (k0_off193 v1630 v1635 v1679 v1724) a + S1x16x256.size a ≤ S200x216x256.size a) ∧
  (∀ a, (k0_off194 v1630 v1635 v1645 v1679 v1724) a + S1x16x256.size a ≤ S200x216x256.size a) ∧
  (∀ a, (k0_off214 v1630 v1635 v1688 v1724) a + S1x16x256.size a ≤ S200x216x256.size a) ∧
  (∀ a, (k0_off215 v1630 v1635 v1645 v1688 v1724) a + S1x16x256.size a ≤ S200x216x256.size a) ∧
  (∀ a, (k0_off235 v1630 v1635 v1697 v1724) a + S1x16x256.size a ≤ S200x216x256.size a) ∧
  (∀ a, (k0_off236 v1630 v1635 v1645 v1697 v1724) a + S1x16x256.size a ≤ S200x216x256.size a) ∧
  (∀ a, (k0_off256 v1630 v1635 v1706 v1724) a + S1x16x256.size a ≤ S200x216x256.size a) ∧
  (∀ a, (k0_off257 v1630 v1635 v1645 v1706 v1724) a + S1x16x256.size a ≤ S200x216x256.size a) ∧
  (∀ a, (k0_off277 v1630 v1635 v1715 v1724) a + S1x16x256.size a ≤ S200x216x256.size a) ∧
  (∀ a, (k0_off278 v1630 v1635 v1645 v1715 v1724) a + S1x16x256.size a ≤ S200x216x256.size a)
theorem k0_mult9_dvd : ∀ (v1630 : BitVec 32) (v1635 : BitVec 32) (v1645 : BitVec 32) (v1661 : BitVec 32) (v1670 : BitVec 32) (v1679 : BitVec 32) (v1688 : BitVec 32) (v1697 : BitVec 32) (v1706 : BitVec 32) (v1715 : BitVec 32) (v1724 : BitVec 32) (k0_hw8 : k0_chk8 v1630 v1635 v1645 v1661 v1670 v1679 v1688 v1697 v1706 v1715 v1724), 8 ∣ (k0_mult9 v1630 v1724).toNat := fun v1630 v1635 v1645 v1661 v1670 v1679 v1688 v1697 v1706 v1715 v1724 k0_hw8 => k0_hw8.1
theorem k0_off151_inb : ∀ (v1630 : BitVec 32) (v1635 : BitVec 32) (v1645 : BitVec 32) (v1661 : BitVec 32) (v1670 : BitVec 32) (v1679 : BitVec 32) (v1688 : BitVec 32) (v1697 : BitVec 32) (v1706 : BitVec 32) (v1715 : BitVec 32) (v1724 : BitVec 32) (k0_hw8 : k0_chk8 v1630 v1635 v1645 v1661 v1670 v1679 v1688 v1697 v1706 v1715 v1724), ∀ a, (k0_off151 v1630 v1635 v1661 v1724) a + S1x16x256.size a ≤ S200x216x256.size a := fun v1630 v1635 v1645 v1661 v1670 v1679 v1688 v1697 v1706 v1715 v1724 k0_hw8 => k0_hw8.2.1
theorem k0_off152_inb : ∀ (v1630 : BitVec 32) (v1635 : BitVec 32) (v1645 : BitVec 32) (v1661 : BitVec 32) (v1670 : BitVec 32) (v1679 : BitVec 32) (v1688 : BitVec 32) (v1697 : BitVec 32) (v1706 : BitVec 32) (v1715 : BitVec 32) (v1724 : BitVec 32) (k0_hw8 : k0_chk8 v1630 v1635 v1645 v1661 v1670 v1679 v1688 v1697 v1706 v1715 v1724), ∀ a, (k0_off152 v1630 v1635 v1645 v1661 v1724) a + S1x16x256.size a ≤ S200x216x256.size a := fun v1630 v1635 v1645 v1661 v1670 v1679 v1688 v1697 v1706 v1715 v1724 k0_hw8 => k0_hw8.2.2.1
theorem k0_off172_inb : ∀ (v1630 : BitVec 32) (v1635 : BitVec 32) (v1645 : BitVec 32) (v1661 : BitVec 32) (v1670 : BitVec 32) (v1679 : BitVec 32) (v1688 : BitVec 32) (v1697 : BitVec 32) (v1706 : BitVec 32) (v1715 : BitVec 32) (v1724 : BitVec 32) (k0_hw8 : k0_chk8 v1630 v1635 v1645 v1661 v1670 v1679 v1688 v1697 v1706 v1715 v1724), ∀ a, (k0_off172 v1630 v1635 v1670 v1724) a + S1x16x256.size a ≤ S200x216x256.size a := fun v1630 v1635 v1645 v1661 v1670 v1679 v1688 v1697 v1706 v1715 v1724 k0_hw8 => k0_hw8.2.2.2.1
theorem k0_off173_inb : ∀ (v1630 : BitVec 32) (v1635 : BitVec 32) (v1645 : BitVec 32) (v1661 : BitVec 32) (v1670 : BitVec 32) (v1679 : BitVec 32) (v1688 : BitVec 32) (v1697 : BitVec 32) (v1706 : BitVec 32) (v1715 : BitVec 32) (v1724 : BitVec 32) (k0_hw8 : k0_chk8 v1630 v1635 v1645 v1661 v1670 v1679 v1688 v1697 v1706 v1715 v1724), ∀ a, (k0_off173 v1630 v1635 v1645 v1670 v1724) a + S1x16x256.size a ≤ S200x216x256.size a := fun v1630 v1635 v1645 v1661 v1670 v1679 v1688 v1697 v1706 v1715 v1724 k0_hw8 => k0_hw8.2.2.2.2.1
theorem k0_off193_inb : ∀ (v1630 : BitVec 32) (v1635 : BitVec 32) (v1645 : BitVec 32) (v1661 : BitVec 32) (v1670 : BitVec 32) (v1679 : BitVec 32) (v1688 : BitVec 32) (v1697 : BitVec 32) (v1706 : BitVec 32) (v1715 : BitVec 32) (v1724 : BitVec 32) (k0_hw8 : k0_chk8 v1630 v1635 v1645 v1661 v1670 v1679 v1688 v1697 v1706 v1715 v1724), ∀ a, (k0_off193 v1630 v1635 v1679 v1724) a + S1x16x256.size a ≤ S200x216x256.size a := fun v1630 v1635 v1645 v1661 v1670 v1679 v1688 v1697 v1706 v1715 v1724 k0_hw8 => k0_hw8.2.2.2.2.2.1
theorem k0_off194_inb : ∀ (v1630 : BitVec 32) (v1635 : BitVec 32) (v1645 : BitVec 32) (v1661 : BitVec 32) (v1670 : BitVec 32) (v1679 : BitVec 32) (v1688 : BitVec 32) (v1697 : BitVec 32) (v1706 : BitVec 32) (v1715 : BitVec 32) (v1724 : BitVec 32) (k0_hw8 : k0_chk8 v1630 v1635 v1645 v1661 v1670 v1679 v1688 v1697 v1706 v1715 v1724), ∀ a, (k0_off194 v1630 v1635 v1645 v1679 v1724) a + S1x16x256.size a ≤ S200x216x256.size a := fun v1630 v1635 v1645 v1661 v1670 v1679 v1688 v1697 v1706 v1715 v1724 k0_hw8 => k0_hw8.2.2.2.2.2.2.1
theorem k0_off214_inb : ∀ (v1630 : BitVec 32) (v1635 : BitVec 32) (v1645 : BitVec 32) (v1661 : BitVec 32) (v1670 : BitVec 32) (v1679 : BitVec 32) (v1688 : BitVec 32) (v1697 : BitVec 32) (v1706 : BitVec 32) (v1715 : BitVec 32) (v1724 : BitVec 32) (k0_hw8 : k0_chk8 v1630 v1635 v1645 v1661 v1670 v1679 v1688 v1697 v1706 v1715 v1724), ∀ a, (k0_off214 v1630 v1635 v1688 v1724) a + S1x16x256.size a ≤ S200x216x256.size a := fun v1630 v1635 v1645 v1661 v1670 v1679 v1688 v1697 v1706 v1715 v1724 k0_hw8 => k0_hw8.2.2.2.2.2.2.2.1
theorem k0_off215_inb : ∀ (v1630 : BitVec 32) (v1635 : BitVec 32) (v1645 : BitVec 32) (v1661 : BitVec 32) (v1670 : BitVec 32) (v1679 : BitVec 32) (v1688 : BitVec 32) (v1697 : BitVec 32) (v1706 : BitVec 32) (v1715 : BitVec 32) (v1724 : BitVec 32) (k0_hw8 : k0_chk8 v1630 v1635 v1645 v1661 v1670 v1679 v1688 v1697 v1706 v1715 v1724), ∀ a, (k0_off215 v1630 v1635 v1645 v1688 v1724) a + S1x16x256.size a ≤ S200x216x256.size a := fun v1630 v1635 v1645 v1661 v1670 v1679 v1688 v1697 v1706 v1715 v1724 k0_hw8 => k0_hw8.2.2.2.2.2.2.2.2.1
theorem k0_off235_inb : ∀ (v1630 : BitVec 32) (v1635 : BitVec 32) (v1645 : BitVec 32) (v1661 : BitVec 32) (v1670 : BitVec 32) (v1679 : BitVec 32) (v1688 : BitVec 32) (v1697 : BitVec 32) (v1706 : BitVec 32) (v1715 : BitVec 32) (v1724 : BitVec 32) (k0_hw8 : k0_chk8 v1630 v1635 v1645 v1661 v1670 v1679 v1688 v1697 v1706 v1715 v1724), ∀ a, (k0_off235 v1630 v1635 v1697 v1724) a + S1x16x256.size a ≤ S200x216x256.size a := fun v1630 v1635 v1645 v1661 v1670 v1679 v1688 v1697 v1706 v1715 v1724 k0_hw8 => k0_hw8.2.2.2.2.2.2.2.2.2.1
theorem k0_off236_inb : ∀ (v1630 : BitVec 32) (v1635 : BitVec 32) (v1645 : BitVec 32) (v1661 : BitVec 32) (v1670 : BitVec 32) (v1679 : BitVec 32) (v1688 : BitVec 32) (v1697 : BitVec 32) (v1706 : BitVec 32) (v1715 : BitVec 32) (v1724 : BitVec 32) (k0_hw8 : k0_chk8 v1630 v1635 v1645 v1661 v1670 v1679 v1688 v1697 v1706 v1715 v1724), ∀ a, (k0_off236 v1630 v1635 v1645 v1697 v1724) a + S1x16x256.size a ≤ S200x216x256.size a := fun v1630 v1635 v1645 v1661 v1670 v1679 v1688 v1697 v1706 v1715 v1724 k0_hw8 => k0_hw8.2.2.2.2.2.2.2.2.2.2.1
theorem k0_off256_inb : ∀ (v1630 : BitVec 32) (v1635 : BitVec 32) (v1645 : BitVec 32) (v1661 : BitVec 32) (v1670 : BitVec 32) (v1679 : BitVec 32) (v1688 : BitVec 32) (v1697 : BitVec 32) (v1706 : BitVec 32) (v1715 : BitVec 32) (v1724 : BitVec 32) (k0_hw8 : k0_chk8 v1630 v1635 v1645 v1661 v1670 v1679 v1688 v1697 v1706 v1715 v1724), ∀ a, (k0_off256 v1630 v1635 v1706 v1724) a + S1x16x256.size a ≤ S200x216x256.size a := fun v1630 v1635 v1645 v1661 v1670 v1679 v1688 v1697 v1706 v1715 v1724 k0_hw8 => k0_hw8.2.2.2.2.2.2.2.2.2.2.2.1
theorem k0_off257_inb : ∀ (v1630 : BitVec 32) (v1635 : BitVec 32) (v1645 : BitVec 32) (v1661 : BitVec 32) (v1670 : BitVec 32) (v1679 : BitVec 32) (v1688 : BitVec 32) (v1697 : BitVec 32) (v1706 : BitVec 32) (v1715 : BitVec 32) (v1724 : BitVec 32) (k0_hw8 : k0_chk8 v1630 v1635 v1645 v1661 v1670 v1679 v1688 v1697 v1706 v1715 v1724), ∀ a, (k0_off257 v1630 v1635 v1645 v1706 v1724) a + S1x16x256.size a ≤ S200x216x256.size a := fun v1630 v1635 v1645 v1661 v1670 v1679 v1688 v1697 v1706 v1715 v1724 k0_hw8 => k0_hw8.2.2.2.2.2.2.2.2.2.2.2.2.1
theorem k0_off277_inb : ∀ (v1630 : BitVec 32) (v1635 : BitVec 32) (v1645 : BitVec 32) (v1661 : BitVec 32) (v1670 : BitVec 32) (v1679 : BitVec 32) (v1688 : BitVec 32) (v1697 : BitVec 32) (v1706 : BitVec 32) (v1715 : BitVec 32) (v1724 : BitVec 32) (k0_hw8 : k0_chk8 v1630 v1635 v1645 v1661 v1670 v1679 v1688 v1697 v1706 v1715 v1724), ∀ a, (k0_off277 v1630 v1635 v1715 v1724) a + S1x16x256.size a ≤ S200x216x256.size a := fun v1630 v1635 v1645 v1661 v1670 v1679 v1688 v1697 v1706 v1715 v1724 k0_hw8 => k0_hw8.2.2.2.2.2.2.2.2.2.2.2.2.2.1
theorem k0_off278_inb : ∀ (v1630 : BitVec 32) (v1635 : BitVec 32) (v1645 : BitVec 32) (v1661 : BitVec 32) (v1670 : BitVec 32) (v1679 : BitVec 32) (v1688 : BitVec 32) (v1697 : BitVec 32) (v1706 : BitVec 32) (v1715 : BitVec 32) (v1724 : BitVec 32) (k0_hw8 : k0_chk8 v1630 v1635 v1645 v1661 v1670 v1679 v1688 v1697 v1706 v1715 v1724), ∀ a, (k0_off278 v1630 v1635 v1645 v1715 v1724) a + S1x16x256.size a ≤ S200x216x256.size a := fun v1630 v1635 v1645 v1661 v1670 v1679 v1688 v1697 v1706 v1715 v1724 k0_hw8 => k0_hw8.2.2.2.2.2.2.2.2.2.2.2.2.2.2

def k0_off279 (k0_t1 : Fin k0_t1_loop.trips) : Fin 3 → Nat :=
  let c42_705 : Index := 42#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c1_i32_345 : BitVec 32 := 1#32
  let v1622 : BitVec 32 := Scalar.addi v5 c1_i32_345
  let v3060 : Index := Scalar.indexCast v1622
  let c0_706 : Index := 0#32
  ![42, v3060.toNat, 0]
def k0_off280 (v1630 : BitVec 32) (v1635 : BitVec 32) (v1715 : BitVec 32) (v1737 : BitVec 32) : Fin 3 → Nat :=
  let c199_i32_354 : BitVec 32 := 199#32
  let c0_i32_353 : BitVec 32 := 0#32
  let v1636 : BitVec 32 := Scalar.maxsi c0_i32_353 v1635
  let v1637 : BitVec 32 := Scalar.minsi c199_i32_354 v1636
  let v1716 : BitVec 32 := Scalar.addi v1637 v1715
  let v3065 : Index := Scalar.indexCast v1716
  let c199_i32_351 : BitVec 32 := 199#32
  let c0_i32_350 : BitVec 32 := 0#32
  let v1631 : BitVec 32 := Scalar.maxsi c0_i32_350 v1630
  let v1632 : BitVec 32 := Scalar.minsi c199_i32_351 v1631
  let v1738 : BitVec 32 := Scalar.addi v1632 v1737
  let c3_i32_404 : BitVec 32 := 3#32
  let v1741 : BitVec 32 := Scalar.shrsi v1738 c3_i32_404
  let c3_i32_405 : BitVec 32 := 3#32
  let v1742 : BitVec 32 := Scalar.shli v1741 c3_i32_405
  let v1743 : BitVec 32 := v1742
  let v3066 : Index := Scalar.indexCast v1743
  let c0_708 : Index := 0#32
  ![v3065.toNat, v3066.toNat, 0]
def k0_off281 (v1630 : BitVec 32) (v1635 : BitVec 32) (v1645 : BitVec 32) (v1715 : BitVec 32) (v1737 : BitVec 32) : Fin 3 → Nat :=
  let c199_i32_354 : BitVec 32 := 199#32
  let c0_i32_353 : BitVec 32 := 0#32
  let v1636 : BitVec 32 := Scalar.maxsi c0_i32_353 v1635
  let v1637 : BitVec 32 := Scalar.minsi c199_i32_354 v1636
  let v1716 : BitVec 32 := Scalar.addi v1637 v1715
  let c1_i32_392 : BitVec 32 := 1#32
  let v1717 : BitVec 32 := Scalar.addi v1716 c1_i32_392
  let c199_i32_360 : BitVec 32 := 199#32
  let c0_i32_359 : BitVec 32 := 0#32
  let v1646 : BitVec 32 := Scalar.maxsi c0_i32_359 v1645
  let v1647 : BitVec 32 := Scalar.minsi c199_i32_360 v1646
  let v1718 : BitVec 32 := Scalar.minsi v1717 v1647
  let v3069 : Index := Scalar.indexCast v1718
  let c199_i32_351 : BitVec 32 := 199#32
  let c0_i32_350 : BitVec 32 := 0#32
  let v1631 : BitVec 32 := Scalar.maxsi c0_i32_350 v1630
  let v1632 : BitVec 32 := Scalar.minsi c199_i32_351 v1631
  let v1738 : BitVec 32 := Scalar.addi v1632 v1737
  let c3_i32_404 : BitVec 32 := 3#32
  let v1741 : BitVec 32 := Scalar.shrsi v1738 c3_i32_404
  let c3_i32_405 : BitVec 32 := 3#32
  let v1742 : BitVec 32 := Scalar.shli v1741 c3_i32_405
  let v1743 : BitVec 32 := v1742
  let v3070 : Index := Scalar.indexCast v1743
  let c0_709 : Index := 0#32
  ![v3069.toNat, v3070.toNat, 0]

def k0_chk9 (v1630 : BitVec 32) (v1635 : BitVec 32) (v1645 : BitVec 32) (v1661 : BitVec 32) (v1670 : BitVec 32) (v1679 : BitVec 32) (v1688 : BitVec 32) (v1697 : BitVec 32) (v1706 : BitVec 32) (v1715 : BitVec 32) (v1737 : BitVec 32) : Prop :=
  (8 ∣ (k0_mult10 v1630 v1737).toNat) ∧
  (∀ a, (k0_off154 v1630 v1635 v1661 v1737) a + S1x16x256.size a ≤ S200x216x256.size a) ∧
  (∀ a, (k0_off155 v1630 v1635 v1645 v1661 v1737) a + S1x16x256.size a ≤ S200x216x256.size a) ∧
  (∀ a, (k0_off175 v1630 v1635 v1670 v1737) a + S1x16x256.size a ≤ S200x216x256.size a) ∧
  (∀ a, (k0_off176 v1630 v1635 v1645 v1670 v1737) a + S1x16x256.size a ≤ S200x216x256.size a) ∧
  (∀ a, (k0_off196 v1630 v1635 v1679 v1737) a + S1x16x256.size a ≤ S200x216x256.size a) ∧
  (∀ a, (k0_off197 v1630 v1635 v1645 v1679 v1737) a + S1x16x256.size a ≤ S200x216x256.size a) ∧
  (∀ a, (k0_off217 v1630 v1635 v1688 v1737) a + S1x16x256.size a ≤ S200x216x256.size a) ∧
  (∀ a, (k0_off218 v1630 v1635 v1645 v1688 v1737) a + S1x16x256.size a ≤ S200x216x256.size a) ∧
  (∀ a, (k0_off238 v1630 v1635 v1697 v1737) a + S1x16x256.size a ≤ S200x216x256.size a) ∧
  (∀ a, (k0_off239 v1630 v1635 v1645 v1697 v1737) a + S1x16x256.size a ≤ S200x216x256.size a) ∧
  (∀ a, (k0_off259 v1630 v1635 v1706 v1737) a + S1x16x256.size a ≤ S200x216x256.size a) ∧
  (∀ a, (k0_off260 v1630 v1635 v1645 v1706 v1737) a + S1x16x256.size a ≤ S200x216x256.size a) ∧
  (∀ a, (k0_off280 v1630 v1635 v1715 v1737) a + S1x16x256.size a ≤ S200x216x256.size a) ∧
  (∀ a, (k0_off281 v1630 v1635 v1645 v1715 v1737) a + S1x16x256.size a ≤ S200x216x256.size a)
theorem k0_mult10_dvd : ∀ (v1630 : BitVec 32) (v1635 : BitVec 32) (v1645 : BitVec 32) (v1661 : BitVec 32) (v1670 : BitVec 32) (v1679 : BitVec 32) (v1688 : BitVec 32) (v1697 : BitVec 32) (v1706 : BitVec 32) (v1715 : BitVec 32) (v1737 : BitVec 32) (k0_hw9 : k0_chk9 v1630 v1635 v1645 v1661 v1670 v1679 v1688 v1697 v1706 v1715 v1737), 8 ∣ (k0_mult10 v1630 v1737).toNat := fun v1630 v1635 v1645 v1661 v1670 v1679 v1688 v1697 v1706 v1715 v1737 k0_hw9 => k0_hw9.1
theorem k0_off154_inb : ∀ (v1630 : BitVec 32) (v1635 : BitVec 32) (v1645 : BitVec 32) (v1661 : BitVec 32) (v1670 : BitVec 32) (v1679 : BitVec 32) (v1688 : BitVec 32) (v1697 : BitVec 32) (v1706 : BitVec 32) (v1715 : BitVec 32) (v1737 : BitVec 32) (k0_hw9 : k0_chk9 v1630 v1635 v1645 v1661 v1670 v1679 v1688 v1697 v1706 v1715 v1737), ∀ a, (k0_off154 v1630 v1635 v1661 v1737) a + S1x16x256.size a ≤ S200x216x256.size a := fun v1630 v1635 v1645 v1661 v1670 v1679 v1688 v1697 v1706 v1715 v1737 k0_hw9 => k0_hw9.2.1
theorem k0_off155_inb : ∀ (v1630 : BitVec 32) (v1635 : BitVec 32) (v1645 : BitVec 32) (v1661 : BitVec 32) (v1670 : BitVec 32) (v1679 : BitVec 32) (v1688 : BitVec 32) (v1697 : BitVec 32) (v1706 : BitVec 32) (v1715 : BitVec 32) (v1737 : BitVec 32) (k0_hw9 : k0_chk9 v1630 v1635 v1645 v1661 v1670 v1679 v1688 v1697 v1706 v1715 v1737), ∀ a, (k0_off155 v1630 v1635 v1645 v1661 v1737) a + S1x16x256.size a ≤ S200x216x256.size a := fun v1630 v1635 v1645 v1661 v1670 v1679 v1688 v1697 v1706 v1715 v1737 k0_hw9 => k0_hw9.2.2.1
theorem k0_off175_inb : ∀ (v1630 : BitVec 32) (v1635 : BitVec 32) (v1645 : BitVec 32) (v1661 : BitVec 32) (v1670 : BitVec 32) (v1679 : BitVec 32) (v1688 : BitVec 32) (v1697 : BitVec 32) (v1706 : BitVec 32) (v1715 : BitVec 32) (v1737 : BitVec 32) (k0_hw9 : k0_chk9 v1630 v1635 v1645 v1661 v1670 v1679 v1688 v1697 v1706 v1715 v1737), ∀ a, (k0_off175 v1630 v1635 v1670 v1737) a + S1x16x256.size a ≤ S200x216x256.size a := fun v1630 v1635 v1645 v1661 v1670 v1679 v1688 v1697 v1706 v1715 v1737 k0_hw9 => k0_hw9.2.2.2.1
theorem k0_off176_inb : ∀ (v1630 : BitVec 32) (v1635 : BitVec 32) (v1645 : BitVec 32) (v1661 : BitVec 32) (v1670 : BitVec 32) (v1679 : BitVec 32) (v1688 : BitVec 32) (v1697 : BitVec 32) (v1706 : BitVec 32) (v1715 : BitVec 32) (v1737 : BitVec 32) (k0_hw9 : k0_chk9 v1630 v1635 v1645 v1661 v1670 v1679 v1688 v1697 v1706 v1715 v1737), ∀ a, (k0_off176 v1630 v1635 v1645 v1670 v1737) a + S1x16x256.size a ≤ S200x216x256.size a := fun v1630 v1635 v1645 v1661 v1670 v1679 v1688 v1697 v1706 v1715 v1737 k0_hw9 => k0_hw9.2.2.2.2.1
theorem k0_off196_inb : ∀ (v1630 : BitVec 32) (v1635 : BitVec 32) (v1645 : BitVec 32) (v1661 : BitVec 32) (v1670 : BitVec 32) (v1679 : BitVec 32) (v1688 : BitVec 32) (v1697 : BitVec 32) (v1706 : BitVec 32) (v1715 : BitVec 32) (v1737 : BitVec 32) (k0_hw9 : k0_chk9 v1630 v1635 v1645 v1661 v1670 v1679 v1688 v1697 v1706 v1715 v1737), ∀ a, (k0_off196 v1630 v1635 v1679 v1737) a + S1x16x256.size a ≤ S200x216x256.size a := fun v1630 v1635 v1645 v1661 v1670 v1679 v1688 v1697 v1706 v1715 v1737 k0_hw9 => k0_hw9.2.2.2.2.2.1
theorem k0_off197_inb : ∀ (v1630 : BitVec 32) (v1635 : BitVec 32) (v1645 : BitVec 32) (v1661 : BitVec 32) (v1670 : BitVec 32) (v1679 : BitVec 32) (v1688 : BitVec 32) (v1697 : BitVec 32) (v1706 : BitVec 32) (v1715 : BitVec 32) (v1737 : BitVec 32) (k0_hw9 : k0_chk9 v1630 v1635 v1645 v1661 v1670 v1679 v1688 v1697 v1706 v1715 v1737), ∀ a, (k0_off197 v1630 v1635 v1645 v1679 v1737) a + S1x16x256.size a ≤ S200x216x256.size a := fun v1630 v1635 v1645 v1661 v1670 v1679 v1688 v1697 v1706 v1715 v1737 k0_hw9 => k0_hw9.2.2.2.2.2.2.1
theorem k0_off217_inb : ∀ (v1630 : BitVec 32) (v1635 : BitVec 32) (v1645 : BitVec 32) (v1661 : BitVec 32) (v1670 : BitVec 32) (v1679 : BitVec 32) (v1688 : BitVec 32) (v1697 : BitVec 32) (v1706 : BitVec 32) (v1715 : BitVec 32) (v1737 : BitVec 32) (k0_hw9 : k0_chk9 v1630 v1635 v1645 v1661 v1670 v1679 v1688 v1697 v1706 v1715 v1737), ∀ a, (k0_off217 v1630 v1635 v1688 v1737) a + S1x16x256.size a ≤ S200x216x256.size a := fun v1630 v1635 v1645 v1661 v1670 v1679 v1688 v1697 v1706 v1715 v1737 k0_hw9 => k0_hw9.2.2.2.2.2.2.2.1
theorem k0_off218_inb : ∀ (v1630 : BitVec 32) (v1635 : BitVec 32) (v1645 : BitVec 32) (v1661 : BitVec 32) (v1670 : BitVec 32) (v1679 : BitVec 32) (v1688 : BitVec 32) (v1697 : BitVec 32) (v1706 : BitVec 32) (v1715 : BitVec 32) (v1737 : BitVec 32) (k0_hw9 : k0_chk9 v1630 v1635 v1645 v1661 v1670 v1679 v1688 v1697 v1706 v1715 v1737), ∀ a, (k0_off218 v1630 v1635 v1645 v1688 v1737) a + S1x16x256.size a ≤ S200x216x256.size a := fun v1630 v1635 v1645 v1661 v1670 v1679 v1688 v1697 v1706 v1715 v1737 k0_hw9 => k0_hw9.2.2.2.2.2.2.2.2.1
theorem k0_off238_inb : ∀ (v1630 : BitVec 32) (v1635 : BitVec 32) (v1645 : BitVec 32) (v1661 : BitVec 32) (v1670 : BitVec 32) (v1679 : BitVec 32) (v1688 : BitVec 32) (v1697 : BitVec 32) (v1706 : BitVec 32) (v1715 : BitVec 32) (v1737 : BitVec 32) (k0_hw9 : k0_chk9 v1630 v1635 v1645 v1661 v1670 v1679 v1688 v1697 v1706 v1715 v1737), ∀ a, (k0_off238 v1630 v1635 v1697 v1737) a + S1x16x256.size a ≤ S200x216x256.size a := fun v1630 v1635 v1645 v1661 v1670 v1679 v1688 v1697 v1706 v1715 v1737 k0_hw9 => k0_hw9.2.2.2.2.2.2.2.2.2.1
theorem k0_off239_inb : ∀ (v1630 : BitVec 32) (v1635 : BitVec 32) (v1645 : BitVec 32) (v1661 : BitVec 32) (v1670 : BitVec 32) (v1679 : BitVec 32) (v1688 : BitVec 32) (v1697 : BitVec 32) (v1706 : BitVec 32) (v1715 : BitVec 32) (v1737 : BitVec 32) (k0_hw9 : k0_chk9 v1630 v1635 v1645 v1661 v1670 v1679 v1688 v1697 v1706 v1715 v1737), ∀ a, (k0_off239 v1630 v1635 v1645 v1697 v1737) a + S1x16x256.size a ≤ S200x216x256.size a := fun v1630 v1635 v1645 v1661 v1670 v1679 v1688 v1697 v1706 v1715 v1737 k0_hw9 => k0_hw9.2.2.2.2.2.2.2.2.2.2.1
theorem k0_off259_inb : ∀ (v1630 : BitVec 32) (v1635 : BitVec 32) (v1645 : BitVec 32) (v1661 : BitVec 32) (v1670 : BitVec 32) (v1679 : BitVec 32) (v1688 : BitVec 32) (v1697 : BitVec 32) (v1706 : BitVec 32) (v1715 : BitVec 32) (v1737 : BitVec 32) (k0_hw9 : k0_chk9 v1630 v1635 v1645 v1661 v1670 v1679 v1688 v1697 v1706 v1715 v1737), ∀ a, (k0_off259 v1630 v1635 v1706 v1737) a + S1x16x256.size a ≤ S200x216x256.size a := fun v1630 v1635 v1645 v1661 v1670 v1679 v1688 v1697 v1706 v1715 v1737 k0_hw9 => k0_hw9.2.2.2.2.2.2.2.2.2.2.2.1
theorem k0_off260_inb : ∀ (v1630 : BitVec 32) (v1635 : BitVec 32) (v1645 : BitVec 32) (v1661 : BitVec 32) (v1670 : BitVec 32) (v1679 : BitVec 32) (v1688 : BitVec 32) (v1697 : BitVec 32) (v1706 : BitVec 32) (v1715 : BitVec 32) (v1737 : BitVec 32) (k0_hw9 : k0_chk9 v1630 v1635 v1645 v1661 v1670 v1679 v1688 v1697 v1706 v1715 v1737), ∀ a, (k0_off260 v1630 v1635 v1645 v1706 v1737) a + S1x16x256.size a ≤ S200x216x256.size a := fun v1630 v1635 v1645 v1661 v1670 v1679 v1688 v1697 v1706 v1715 v1737 k0_hw9 => k0_hw9.2.2.2.2.2.2.2.2.2.2.2.2.1
theorem k0_off280_inb : ∀ (v1630 : BitVec 32) (v1635 : BitVec 32) (v1645 : BitVec 32) (v1661 : BitVec 32) (v1670 : BitVec 32) (v1679 : BitVec 32) (v1688 : BitVec 32) (v1697 : BitVec 32) (v1706 : BitVec 32) (v1715 : BitVec 32) (v1737 : BitVec 32) (k0_hw9 : k0_chk9 v1630 v1635 v1645 v1661 v1670 v1679 v1688 v1697 v1706 v1715 v1737), ∀ a, (k0_off280 v1630 v1635 v1715 v1737) a + S1x16x256.size a ≤ S200x216x256.size a := fun v1630 v1635 v1645 v1661 v1670 v1679 v1688 v1697 v1706 v1715 v1737 k0_hw9 => k0_hw9.2.2.2.2.2.2.2.2.2.2.2.2.2.1
theorem k0_off281_inb : ∀ (v1630 : BitVec 32) (v1635 : BitVec 32) (v1645 : BitVec 32) (v1661 : BitVec 32) (v1670 : BitVec 32) (v1679 : BitVec 32) (v1688 : BitVec 32) (v1697 : BitVec 32) (v1706 : BitVec 32) (v1715 : BitVec 32) (v1737 : BitVec 32) (k0_hw9 : k0_chk9 v1630 v1635 v1645 v1661 v1670 v1679 v1688 v1697 v1706 v1715 v1737), ∀ a, (k0_off281 v1630 v1635 v1645 v1715 v1737) a + S1x16x256.size a ≤ S200x216x256.size a := fun v1630 v1635 v1645 v1661 v1670 v1679 v1688 v1697 v1706 v1715 v1737 k0_hw9 => k0_hw9.2.2.2.2.2.2.2.2.2.2.2.2.2.2

def k0_off282 (k0_t1 : Fin k0_t1_loop.trips) : Fin 3 → Nat :=
  let c43_711 : Index := 43#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c1_i32_345 : BitVec 32 := 1#32
  let v1622 : BitVec 32 := Scalar.addi v5 c1_i32_345
  let v3089 : Index := Scalar.indexCast v1622
  let c0_712 : Index := 0#32
  ![43, v3089.toNat, 0]
def k0_off283 (v1630 : BitVec 32) (v1635 : BitVec 32) (v1715 : BitVec 32) (v1750 : BitVec 32) : Fin 3 → Nat :=
  let c199_i32_354 : BitVec 32 := 199#32
  let c0_i32_353 : BitVec 32 := 0#32
  let v1636 : BitVec 32 := Scalar.maxsi c0_i32_353 v1635
  let v1637 : BitVec 32 := Scalar.minsi c199_i32_354 v1636
  let v1716 : BitVec 32 := Scalar.addi v1637 v1715
  let v3094 : Index := Scalar.indexCast v1716
  let c199_i32_351 : BitVec 32 := 199#32
  let c0_i32_350 : BitVec 32 := 0#32
  let v1631 : BitVec 32 := Scalar.maxsi c0_i32_350 v1630
  let v1632 : BitVec 32 := Scalar.minsi c199_i32_351 v1631
  let v1751 : BitVec 32 := Scalar.addi v1632 v1750
  let c3_i32_411 : BitVec 32 := 3#32
  let v1754 : BitVec 32 := Scalar.shrsi v1751 c3_i32_411
  let c3_i32_412 : BitVec 32 := 3#32
  let v1755 : BitVec 32 := Scalar.shli v1754 c3_i32_412
  let v1756 : BitVec 32 := v1755
  let v3095 : Index := Scalar.indexCast v1756
  let c0_714 : Index := 0#32
  ![v3094.toNat, v3095.toNat, 0]
def k0_off284 (v1630 : BitVec 32) (v1635 : BitVec 32) (v1645 : BitVec 32) (v1715 : BitVec 32) (v1750 : BitVec 32) : Fin 3 → Nat :=
  let c199_i32_354 : BitVec 32 := 199#32
  let c0_i32_353 : BitVec 32 := 0#32
  let v1636 : BitVec 32 := Scalar.maxsi c0_i32_353 v1635
  let v1637 : BitVec 32 := Scalar.minsi c199_i32_354 v1636
  let v1716 : BitVec 32 := Scalar.addi v1637 v1715
  let c1_i32_392 : BitVec 32 := 1#32
  let v1717 : BitVec 32 := Scalar.addi v1716 c1_i32_392
  let c199_i32_360 : BitVec 32 := 199#32
  let c0_i32_359 : BitVec 32 := 0#32
  let v1646 : BitVec 32 := Scalar.maxsi c0_i32_359 v1645
  let v1647 : BitVec 32 := Scalar.minsi c199_i32_360 v1646
  let v1718 : BitVec 32 := Scalar.minsi v1717 v1647
  let v3098 : Index := Scalar.indexCast v1718
  let c199_i32_351 : BitVec 32 := 199#32
  let c0_i32_350 : BitVec 32 := 0#32
  let v1631 : BitVec 32 := Scalar.maxsi c0_i32_350 v1630
  let v1632 : BitVec 32 := Scalar.minsi c199_i32_351 v1631
  let v1751 : BitVec 32 := Scalar.addi v1632 v1750
  let c3_i32_411 : BitVec 32 := 3#32
  let v1754 : BitVec 32 := Scalar.shrsi v1751 c3_i32_411
  let c3_i32_412 : BitVec 32 := 3#32
  let v1755 : BitVec 32 := Scalar.shli v1754 c3_i32_412
  let v1756 : BitVec 32 := v1755
  let v3099 : Index := Scalar.indexCast v1756
  let c0_715 : Index := 0#32
  ![v3098.toNat, v3099.toNat, 0]

def k0_chk10 (v1630 : BitVec 32) (v1635 : BitVec 32) (v1645 : BitVec 32) (v1661 : BitVec 32) (v1670 : BitVec 32) (v1679 : BitVec 32) (v1688 : BitVec 32) (v1697 : BitVec 32) (v1706 : BitVec 32) (v1715 : BitVec 32) (v1750 : BitVec 32) : Prop :=
  (8 ∣ (k0_mult11 v1630 v1750).toNat) ∧
  (∀ a, (k0_off157 v1630 v1635 v1661 v1750) a + S1x16x256.size a ≤ S200x216x256.size a) ∧
  (∀ a, (k0_off158 v1630 v1635 v1645 v1661 v1750) a + S1x16x256.size a ≤ S200x216x256.size a) ∧
  (∀ a, (k0_off178 v1630 v1635 v1670 v1750) a + S1x16x256.size a ≤ S200x216x256.size a) ∧
  (∀ a, (k0_off179 v1630 v1635 v1645 v1670 v1750) a + S1x16x256.size a ≤ S200x216x256.size a) ∧
  (∀ a, (k0_off199 v1630 v1635 v1679 v1750) a + S1x16x256.size a ≤ S200x216x256.size a) ∧
  (∀ a, (k0_off200 v1630 v1635 v1645 v1679 v1750) a + S1x16x256.size a ≤ S200x216x256.size a) ∧
  (∀ a, (k0_off220 v1630 v1635 v1688 v1750) a + S1x16x256.size a ≤ S200x216x256.size a) ∧
  (∀ a, (k0_off221 v1630 v1635 v1645 v1688 v1750) a + S1x16x256.size a ≤ S200x216x256.size a) ∧
  (∀ a, (k0_off241 v1630 v1635 v1697 v1750) a + S1x16x256.size a ≤ S200x216x256.size a) ∧
  (∀ a, (k0_off242 v1630 v1635 v1645 v1697 v1750) a + S1x16x256.size a ≤ S200x216x256.size a) ∧
  (∀ a, (k0_off262 v1630 v1635 v1706 v1750) a + S1x16x256.size a ≤ S200x216x256.size a) ∧
  (∀ a, (k0_off263 v1630 v1635 v1645 v1706 v1750) a + S1x16x256.size a ≤ S200x216x256.size a) ∧
  (∀ a, (k0_off283 v1630 v1635 v1715 v1750) a + S1x16x256.size a ≤ S200x216x256.size a) ∧
  (∀ a, (k0_off284 v1630 v1635 v1645 v1715 v1750) a + S1x16x256.size a ≤ S200x216x256.size a)
theorem k0_mult11_dvd : ∀ (v1630 : BitVec 32) (v1635 : BitVec 32) (v1645 : BitVec 32) (v1661 : BitVec 32) (v1670 : BitVec 32) (v1679 : BitVec 32) (v1688 : BitVec 32) (v1697 : BitVec 32) (v1706 : BitVec 32) (v1715 : BitVec 32) (v1750 : BitVec 32) (k0_hw10 : k0_chk10 v1630 v1635 v1645 v1661 v1670 v1679 v1688 v1697 v1706 v1715 v1750), 8 ∣ (k0_mult11 v1630 v1750).toNat := fun v1630 v1635 v1645 v1661 v1670 v1679 v1688 v1697 v1706 v1715 v1750 k0_hw10 => k0_hw10.1
theorem k0_off157_inb : ∀ (v1630 : BitVec 32) (v1635 : BitVec 32) (v1645 : BitVec 32) (v1661 : BitVec 32) (v1670 : BitVec 32) (v1679 : BitVec 32) (v1688 : BitVec 32) (v1697 : BitVec 32) (v1706 : BitVec 32) (v1715 : BitVec 32) (v1750 : BitVec 32) (k0_hw10 : k0_chk10 v1630 v1635 v1645 v1661 v1670 v1679 v1688 v1697 v1706 v1715 v1750), ∀ a, (k0_off157 v1630 v1635 v1661 v1750) a + S1x16x256.size a ≤ S200x216x256.size a := fun v1630 v1635 v1645 v1661 v1670 v1679 v1688 v1697 v1706 v1715 v1750 k0_hw10 => k0_hw10.2.1
theorem k0_off158_inb : ∀ (v1630 : BitVec 32) (v1635 : BitVec 32) (v1645 : BitVec 32) (v1661 : BitVec 32) (v1670 : BitVec 32) (v1679 : BitVec 32) (v1688 : BitVec 32) (v1697 : BitVec 32) (v1706 : BitVec 32) (v1715 : BitVec 32) (v1750 : BitVec 32) (k0_hw10 : k0_chk10 v1630 v1635 v1645 v1661 v1670 v1679 v1688 v1697 v1706 v1715 v1750), ∀ a, (k0_off158 v1630 v1635 v1645 v1661 v1750) a + S1x16x256.size a ≤ S200x216x256.size a := fun v1630 v1635 v1645 v1661 v1670 v1679 v1688 v1697 v1706 v1715 v1750 k0_hw10 => k0_hw10.2.2.1
theorem k0_off178_inb : ∀ (v1630 : BitVec 32) (v1635 : BitVec 32) (v1645 : BitVec 32) (v1661 : BitVec 32) (v1670 : BitVec 32) (v1679 : BitVec 32) (v1688 : BitVec 32) (v1697 : BitVec 32) (v1706 : BitVec 32) (v1715 : BitVec 32) (v1750 : BitVec 32) (k0_hw10 : k0_chk10 v1630 v1635 v1645 v1661 v1670 v1679 v1688 v1697 v1706 v1715 v1750), ∀ a, (k0_off178 v1630 v1635 v1670 v1750) a + S1x16x256.size a ≤ S200x216x256.size a := fun v1630 v1635 v1645 v1661 v1670 v1679 v1688 v1697 v1706 v1715 v1750 k0_hw10 => k0_hw10.2.2.2.1
theorem k0_off179_inb : ∀ (v1630 : BitVec 32) (v1635 : BitVec 32) (v1645 : BitVec 32) (v1661 : BitVec 32) (v1670 : BitVec 32) (v1679 : BitVec 32) (v1688 : BitVec 32) (v1697 : BitVec 32) (v1706 : BitVec 32) (v1715 : BitVec 32) (v1750 : BitVec 32) (k0_hw10 : k0_chk10 v1630 v1635 v1645 v1661 v1670 v1679 v1688 v1697 v1706 v1715 v1750), ∀ a, (k0_off179 v1630 v1635 v1645 v1670 v1750) a + S1x16x256.size a ≤ S200x216x256.size a := fun v1630 v1635 v1645 v1661 v1670 v1679 v1688 v1697 v1706 v1715 v1750 k0_hw10 => k0_hw10.2.2.2.2.1
theorem k0_off199_inb : ∀ (v1630 : BitVec 32) (v1635 : BitVec 32) (v1645 : BitVec 32) (v1661 : BitVec 32) (v1670 : BitVec 32) (v1679 : BitVec 32) (v1688 : BitVec 32) (v1697 : BitVec 32) (v1706 : BitVec 32) (v1715 : BitVec 32) (v1750 : BitVec 32) (k0_hw10 : k0_chk10 v1630 v1635 v1645 v1661 v1670 v1679 v1688 v1697 v1706 v1715 v1750), ∀ a, (k0_off199 v1630 v1635 v1679 v1750) a + S1x16x256.size a ≤ S200x216x256.size a := fun v1630 v1635 v1645 v1661 v1670 v1679 v1688 v1697 v1706 v1715 v1750 k0_hw10 => k0_hw10.2.2.2.2.2.1
theorem k0_off200_inb : ∀ (v1630 : BitVec 32) (v1635 : BitVec 32) (v1645 : BitVec 32) (v1661 : BitVec 32) (v1670 : BitVec 32) (v1679 : BitVec 32) (v1688 : BitVec 32) (v1697 : BitVec 32) (v1706 : BitVec 32) (v1715 : BitVec 32) (v1750 : BitVec 32) (k0_hw10 : k0_chk10 v1630 v1635 v1645 v1661 v1670 v1679 v1688 v1697 v1706 v1715 v1750), ∀ a, (k0_off200 v1630 v1635 v1645 v1679 v1750) a + S1x16x256.size a ≤ S200x216x256.size a := fun v1630 v1635 v1645 v1661 v1670 v1679 v1688 v1697 v1706 v1715 v1750 k0_hw10 => k0_hw10.2.2.2.2.2.2.1
theorem k0_off220_inb : ∀ (v1630 : BitVec 32) (v1635 : BitVec 32) (v1645 : BitVec 32) (v1661 : BitVec 32) (v1670 : BitVec 32) (v1679 : BitVec 32) (v1688 : BitVec 32) (v1697 : BitVec 32) (v1706 : BitVec 32) (v1715 : BitVec 32) (v1750 : BitVec 32) (k0_hw10 : k0_chk10 v1630 v1635 v1645 v1661 v1670 v1679 v1688 v1697 v1706 v1715 v1750), ∀ a, (k0_off220 v1630 v1635 v1688 v1750) a + S1x16x256.size a ≤ S200x216x256.size a := fun v1630 v1635 v1645 v1661 v1670 v1679 v1688 v1697 v1706 v1715 v1750 k0_hw10 => k0_hw10.2.2.2.2.2.2.2.1
theorem k0_off221_inb : ∀ (v1630 : BitVec 32) (v1635 : BitVec 32) (v1645 : BitVec 32) (v1661 : BitVec 32) (v1670 : BitVec 32) (v1679 : BitVec 32) (v1688 : BitVec 32) (v1697 : BitVec 32) (v1706 : BitVec 32) (v1715 : BitVec 32) (v1750 : BitVec 32) (k0_hw10 : k0_chk10 v1630 v1635 v1645 v1661 v1670 v1679 v1688 v1697 v1706 v1715 v1750), ∀ a, (k0_off221 v1630 v1635 v1645 v1688 v1750) a + S1x16x256.size a ≤ S200x216x256.size a := fun v1630 v1635 v1645 v1661 v1670 v1679 v1688 v1697 v1706 v1715 v1750 k0_hw10 => k0_hw10.2.2.2.2.2.2.2.2.1
theorem k0_off241_inb : ∀ (v1630 : BitVec 32) (v1635 : BitVec 32) (v1645 : BitVec 32) (v1661 : BitVec 32) (v1670 : BitVec 32) (v1679 : BitVec 32) (v1688 : BitVec 32) (v1697 : BitVec 32) (v1706 : BitVec 32) (v1715 : BitVec 32) (v1750 : BitVec 32) (k0_hw10 : k0_chk10 v1630 v1635 v1645 v1661 v1670 v1679 v1688 v1697 v1706 v1715 v1750), ∀ a, (k0_off241 v1630 v1635 v1697 v1750) a + S1x16x256.size a ≤ S200x216x256.size a := fun v1630 v1635 v1645 v1661 v1670 v1679 v1688 v1697 v1706 v1715 v1750 k0_hw10 => k0_hw10.2.2.2.2.2.2.2.2.2.1
theorem k0_off242_inb : ∀ (v1630 : BitVec 32) (v1635 : BitVec 32) (v1645 : BitVec 32) (v1661 : BitVec 32) (v1670 : BitVec 32) (v1679 : BitVec 32) (v1688 : BitVec 32) (v1697 : BitVec 32) (v1706 : BitVec 32) (v1715 : BitVec 32) (v1750 : BitVec 32) (k0_hw10 : k0_chk10 v1630 v1635 v1645 v1661 v1670 v1679 v1688 v1697 v1706 v1715 v1750), ∀ a, (k0_off242 v1630 v1635 v1645 v1697 v1750) a + S1x16x256.size a ≤ S200x216x256.size a := fun v1630 v1635 v1645 v1661 v1670 v1679 v1688 v1697 v1706 v1715 v1750 k0_hw10 => k0_hw10.2.2.2.2.2.2.2.2.2.2.1
theorem k0_off262_inb : ∀ (v1630 : BitVec 32) (v1635 : BitVec 32) (v1645 : BitVec 32) (v1661 : BitVec 32) (v1670 : BitVec 32) (v1679 : BitVec 32) (v1688 : BitVec 32) (v1697 : BitVec 32) (v1706 : BitVec 32) (v1715 : BitVec 32) (v1750 : BitVec 32) (k0_hw10 : k0_chk10 v1630 v1635 v1645 v1661 v1670 v1679 v1688 v1697 v1706 v1715 v1750), ∀ a, (k0_off262 v1630 v1635 v1706 v1750) a + S1x16x256.size a ≤ S200x216x256.size a := fun v1630 v1635 v1645 v1661 v1670 v1679 v1688 v1697 v1706 v1715 v1750 k0_hw10 => k0_hw10.2.2.2.2.2.2.2.2.2.2.2.1
theorem k0_off263_inb : ∀ (v1630 : BitVec 32) (v1635 : BitVec 32) (v1645 : BitVec 32) (v1661 : BitVec 32) (v1670 : BitVec 32) (v1679 : BitVec 32) (v1688 : BitVec 32) (v1697 : BitVec 32) (v1706 : BitVec 32) (v1715 : BitVec 32) (v1750 : BitVec 32) (k0_hw10 : k0_chk10 v1630 v1635 v1645 v1661 v1670 v1679 v1688 v1697 v1706 v1715 v1750), ∀ a, (k0_off263 v1630 v1635 v1645 v1706 v1750) a + S1x16x256.size a ≤ S200x216x256.size a := fun v1630 v1635 v1645 v1661 v1670 v1679 v1688 v1697 v1706 v1715 v1750 k0_hw10 => k0_hw10.2.2.2.2.2.2.2.2.2.2.2.2.1
theorem k0_off283_inb : ∀ (v1630 : BitVec 32) (v1635 : BitVec 32) (v1645 : BitVec 32) (v1661 : BitVec 32) (v1670 : BitVec 32) (v1679 : BitVec 32) (v1688 : BitVec 32) (v1697 : BitVec 32) (v1706 : BitVec 32) (v1715 : BitVec 32) (v1750 : BitVec 32) (k0_hw10 : k0_chk10 v1630 v1635 v1645 v1661 v1670 v1679 v1688 v1697 v1706 v1715 v1750), ∀ a, (k0_off283 v1630 v1635 v1715 v1750) a + S1x16x256.size a ≤ S200x216x256.size a := fun v1630 v1635 v1645 v1661 v1670 v1679 v1688 v1697 v1706 v1715 v1750 k0_hw10 => k0_hw10.2.2.2.2.2.2.2.2.2.2.2.2.2.1
theorem k0_off284_inb : ∀ (v1630 : BitVec 32) (v1635 : BitVec 32) (v1645 : BitVec 32) (v1661 : BitVec 32) (v1670 : BitVec 32) (v1679 : BitVec 32) (v1688 : BitVec 32) (v1697 : BitVec 32) (v1706 : BitVec 32) (v1715 : BitVec 32) (v1750 : BitVec 32) (k0_hw10 : k0_chk10 v1630 v1635 v1645 v1661 v1670 v1679 v1688 v1697 v1706 v1715 v1750), ∀ a, (k0_off284 v1630 v1635 v1645 v1715 v1750) a + S1x16x256.size a ≤ S200x216x256.size a := fun v1630 v1635 v1645 v1661 v1670 v1679 v1688 v1697 v1706 v1715 v1750 k0_hw10 => k0_hw10.2.2.2.2.2.2.2.2.2.2.2.2.2.2

def k0_off285 (k0_t1 : Fin k0_t1_loop.trips) : Fin 3 → Nat :=
  let c44_717 : Index := 44#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c1_i32_345 : BitVec 32 := 1#32
  let v1622 : BitVec 32 := Scalar.addi v5 c1_i32_345
  let v3118 : Index := Scalar.indexCast v1622
  let c0_718 : Index := 0#32
  ![44, v3118.toNat, 0]
def k0_off286 (v1630 : BitVec 32) (v1635 : BitVec 32) (v1715 : BitVec 32) (v1763 : BitVec 32) : Fin 3 → Nat :=
  let c199_i32_354 : BitVec 32 := 199#32
  let c0_i32_353 : BitVec 32 := 0#32
  let v1636 : BitVec 32 := Scalar.maxsi c0_i32_353 v1635
  let v1637 : BitVec 32 := Scalar.minsi c199_i32_354 v1636
  let v1716 : BitVec 32 := Scalar.addi v1637 v1715
  let v3123 : Index := Scalar.indexCast v1716
  let c199_i32_351 : BitVec 32 := 199#32
  let c0_i32_350 : BitVec 32 := 0#32
  let v1631 : BitVec 32 := Scalar.maxsi c0_i32_350 v1630
  let v1632 : BitVec 32 := Scalar.minsi c199_i32_351 v1631
  let v1764 : BitVec 32 := Scalar.addi v1632 v1763
  let c3_i32_418 : BitVec 32 := 3#32
  let v1767 : BitVec 32 := Scalar.shrsi v1764 c3_i32_418
  let c3_i32_419 : BitVec 32 := 3#32
  let v1768 : BitVec 32 := Scalar.shli v1767 c3_i32_419
  let v1769 : BitVec 32 := v1768
  let v3124 : Index := Scalar.indexCast v1769
  let c0_720 : Index := 0#32
  ![v3123.toNat, v3124.toNat, 0]
def k0_off287 (v1630 : BitVec 32) (v1635 : BitVec 32) (v1645 : BitVec 32) (v1715 : BitVec 32) (v1763 : BitVec 32) : Fin 3 → Nat :=
  let c199_i32_354 : BitVec 32 := 199#32
  let c0_i32_353 : BitVec 32 := 0#32
  let v1636 : BitVec 32 := Scalar.maxsi c0_i32_353 v1635
  let v1637 : BitVec 32 := Scalar.minsi c199_i32_354 v1636
  let v1716 : BitVec 32 := Scalar.addi v1637 v1715
  let c1_i32_392 : BitVec 32 := 1#32
  let v1717 : BitVec 32 := Scalar.addi v1716 c1_i32_392
  let c199_i32_360 : BitVec 32 := 199#32
  let c0_i32_359 : BitVec 32 := 0#32
  let v1646 : BitVec 32 := Scalar.maxsi c0_i32_359 v1645
  let v1647 : BitVec 32 := Scalar.minsi c199_i32_360 v1646
  let v1718 : BitVec 32 := Scalar.minsi v1717 v1647
  let v3127 : Index := Scalar.indexCast v1718
  let c199_i32_351 : BitVec 32 := 199#32
  let c0_i32_350 : BitVec 32 := 0#32
  let v1631 : BitVec 32 := Scalar.maxsi c0_i32_350 v1630
  let v1632 : BitVec 32 := Scalar.minsi c199_i32_351 v1631
  let v1764 : BitVec 32 := Scalar.addi v1632 v1763
  let c3_i32_418 : BitVec 32 := 3#32
  let v1767 : BitVec 32 := Scalar.shrsi v1764 c3_i32_418
  let c3_i32_419 : BitVec 32 := 3#32
  let v1768 : BitVec 32 := Scalar.shli v1767 c3_i32_419
  let v1769 : BitVec 32 := v1768
  let v3128 : Index := Scalar.indexCast v1769
  let c0_721 : Index := 0#32
  ![v3127.toNat, v3128.toNat, 0]

def k0_chk11 (v1630 : BitVec 32) (v1635 : BitVec 32) (v1645 : BitVec 32) (v1661 : BitVec 32) (v1670 : BitVec 32) (v1679 : BitVec 32) (v1688 : BitVec 32) (v1697 : BitVec 32) (v1706 : BitVec 32) (v1715 : BitVec 32) (v1763 : BitVec 32) : Prop :=
  (8 ∣ (k0_mult12 v1630 v1763).toNat) ∧
  (∀ a, (k0_off160 v1630 v1635 v1661 v1763) a + S1x16x256.size a ≤ S200x216x256.size a) ∧
  (∀ a, (k0_off161 v1630 v1635 v1645 v1661 v1763) a + S1x16x256.size a ≤ S200x216x256.size a) ∧
  (∀ a, (k0_off181 v1630 v1635 v1670 v1763) a + S1x16x256.size a ≤ S200x216x256.size a) ∧
  (∀ a, (k0_off182 v1630 v1635 v1645 v1670 v1763) a + S1x16x256.size a ≤ S200x216x256.size a) ∧
  (∀ a, (k0_off202 v1630 v1635 v1679 v1763) a + S1x16x256.size a ≤ S200x216x256.size a) ∧
  (∀ a, (k0_off203 v1630 v1635 v1645 v1679 v1763) a + S1x16x256.size a ≤ S200x216x256.size a) ∧
  (∀ a, (k0_off223 v1630 v1635 v1688 v1763) a + S1x16x256.size a ≤ S200x216x256.size a) ∧
  (∀ a, (k0_off224 v1630 v1635 v1645 v1688 v1763) a + S1x16x256.size a ≤ S200x216x256.size a) ∧
  (∀ a, (k0_off244 v1630 v1635 v1697 v1763) a + S1x16x256.size a ≤ S200x216x256.size a) ∧
  (∀ a, (k0_off245 v1630 v1635 v1645 v1697 v1763) a + S1x16x256.size a ≤ S200x216x256.size a) ∧
  (∀ a, (k0_off265 v1630 v1635 v1706 v1763) a + S1x16x256.size a ≤ S200x216x256.size a) ∧
  (∀ a, (k0_off266 v1630 v1635 v1645 v1706 v1763) a + S1x16x256.size a ≤ S200x216x256.size a) ∧
  (∀ a, (k0_off286 v1630 v1635 v1715 v1763) a + S1x16x256.size a ≤ S200x216x256.size a) ∧
  (∀ a, (k0_off287 v1630 v1635 v1645 v1715 v1763) a + S1x16x256.size a ≤ S200x216x256.size a)
theorem k0_mult12_dvd : ∀ (v1630 : BitVec 32) (v1635 : BitVec 32) (v1645 : BitVec 32) (v1661 : BitVec 32) (v1670 : BitVec 32) (v1679 : BitVec 32) (v1688 : BitVec 32) (v1697 : BitVec 32) (v1706 : BitVec 32) (v1715 : BitVec 32) (v1763 : BitVec 32) (k0_hw11 : k0_chk11 v1630 v1635 v1645 v1661 v1670 v1679 v1688 v1697 v1706 v1715 v1763), 8 ∣ (k0_mult12 v1630 v1763).toNat := fun v1630 v1635 v1645 v1661 v1670 v1679 v1688 v1697 v1706 v1715 v1763 k0_hw11 => k0_hw11.1
theorem k0_off160_inb : ∀ (v1630 : BitVec 32) (v1635 : BitVec 32) (v1645 : BitVec 32) (v1661 : BitVec 32) (v1670 : BitVec 32) (v1679 : BitVec 32) (v1688 : BitVec 32) (v1697 : BitVec 32) (v1706 : BitVec 32) (v1715 : BitVec 32) (v1763 : BitVec 32) (k0_hw11 : k0_chk11 v1630 v1635 v1645 v1661 v1670 v1679 v1688 v1697 v1706 v1715 v1763), ∀ a, (k0_off160 v1630 v1635 v1661 v1763) a + S1x16x256.size a ≤ S200x216x256.size a := fun v1630 v1635 v1645 v1661 v1670 v1679 v1688 v1697 v1706 v1715 v1763 k0_hw11 => k0_hw11.2.1
theorem k0_off161_inb : ∀ (v1630 : BitVec 32) (v1635 : BitVec 32) (v1645 : BitVec 32) (v1661 : BitVec 32) (v1670 : BitVec 32) (v1679 : BitVec 32) (v1688 : BitVec 32) (v1697 : BitVec 32) (v1706 : BitVec 32) (v1715 : BitVec 32) (v1763 : BitVec 32) (k0_hw11 : k0_chk11 v1630 v1635 v1645 v1661 v1670 v1679 v1688 v1697 v1706 v1715 v1763), ∀ a, (k0_off161 v1630 v1635 v1645 v1661 v1763) a + S1x16x256.size a ≤ S200x216x256.size a := fun v1630 v1635 v1645 v1661 v1670 v1679 v1688 v1697 v1706 v1715 v1763 k0_hw11 => k0_hw11.2.2.1
theorem k0_off181_inb : ∀ (v1630 : BitVec 32) (v1635 : BitVec 32) (v1645 : BitVec 32) (v1661 : BitVec 32) (v1670 : BitVec 32) (v1679 : BitVec 32) (v1688 : BitVec 32) (v1697 : BitVec 32) (v1706 : BitVec 32) (v1715 : BitVec 32) (v1763 : BitVec 32) (k0_hw11 : k0_chk11 v1630 v1635 v1645 v1661 v1670 v1679 v1688 v1697 v1706 v1715 v1763), ∀ a, (k0_off181 v1630 v1635 v1670 v1763) a + S1x16x256.size a ≤ S200x216x256.size a := fun v1630 v1635 v1645 v1661 v1670 v1679 v1688 v1697 v1706 v1715 v1763 k0_hw11 => k0_hw11.2.2.2.1
theorem k0_off182_inb : ∀ (v1630 : BitVec 32) (v1635 : BitVec 32) (v1645 : BitVec 32) (v1661 : BitVec 32) (v1670 : BitVec 32) (v1679 : BitVec 32) (v1688 : BitVec 32) (v1697 : BitVec 32) (v1706 : BitVec 32) (v1715 : BitVec 32) (v1763 : BitVec 32) (k0_hw11 : k0_chk11 v1630 v1635 v1645 v1661 v1670 v1679 v1688 v1697 v1706 v1715 v1763), ∀ a, (k0_off182 v1630 v1635 v1645 v1670 v1763) a + S1x16x256.size a ≤ S200x216x256.size a := fun v1630 v1635 v1645 v1661 v1670 v1679 v1688 v1697 v1706 v1715 v1763 k0_hw11 => k0_hw11.2.2.2.2.1
theorem k0_off202_inb : ∀ (v1630 : BitVec 32) (v1635 : BitVec 32) (v1645 : BitVec 32) (v1661 : BitVec 32) (v1670 : BitVec 32) (v1679 : BitVec 32) (v1688 : BitVec 32) (v1697 : BitVec 32) (v1706 : BitVec 32) (v1715 : BitVec 32) (v1763 : BitVec 32) (k0_hw11 : k0_chk11 v1630 v1635 v1645 v1661 v1670 v1679 v1688 v1697 v1706 v1715 v1763), ∀ a, (k0_off202 v1630 v1635 v1679 v1763) a + S1x16x256.size a ≤ S200x216x256.size a := fun v1630 v1635 v1645 v1661 v1670 v1679 v1688 v1697 v1706 v1715 v1763 k0_hw11 => k0_hw11.2.2.2.2.2.1
theorem k0_off203_inb : ∀ (v1630 : BitVec 32) (v1635 : BitVec 32) (v1645 : BitVec 32) (v1661 : BitVec 32) (v1670 : BitVec 32) (v1679 : BitVec 32) (v1688 : BitVec 32) (v1697 : BitVec 32) (v1706 : BitVec 32) (v1715 : BitVec 32) (v1763 : BitVec 32) (k0_hw11 : k0_chk11 v1630 v1635 v1645 v1661 v1670 v1679 v1688 v1697 v1706 v1715 v1763), ∀ a, (k0_off203 v1630 v1635 v1645 v1679 v1763) a + S1x16x256.size a ≤ S200x216x256.size a := fun v1630 v1635 v1645 v1661 v1670 v1679 v1688 v1697 v1706 v1715 v1763 k0_hw11 => k0_hw11.2.2.2.2.2.2.1
theorem k0_off223_inb : ∀ (v1630 : BitVec 32) (v1635 : BitVec 32) (v1645 : BitVec 32) (v1661 : BitVec 32) (v1670 : BitVec 32) (v1679 : BitVec 32) (v1688 : BitVec 32) (v1697 : BitVec 32) (v1706 : BitVec 32) (v1715 : BitVec 32) (v1763 : BitVec 32) (k0_hw11 : k0_chk11 v1630 v1635 v1645 v1661 v1670 v1679 v1688 v1697 v1706 v1715 v1763), ∀ a, (k0_off223 v1630 v1635 v1688 v1763) a + S1x16x256.size a ≤ S200x216x256.size a := fun v1630 v1635 v1645 v1661 v1670 v1679 v1688 v1697 v1706 v1715 v1763 k0_hw11 => k0_hw11.2.2.2.2.2.2.2.1
theorem k0_off224_inb : ∀ (v1630 : BitVec 32) (v1635 : BitVec 32) (v1645 : BitVec 32) (v1661 : BitVec 32) (v1670 : BitVec 32) (v1679 : BitVec 32) (v1688 : BitVec 32) (v1697 : BitVec 32) (v1706 : BitVec 32) (v1715 : BitVec 32) (v1763 : BitVec 32) (k0_hw11 : k0_chk11 v1630 v1635 v1645 v1661 v1670 v1679 v1688 v1697 v1706 v1715 v1763), ∀ a, (k0_off224 v1630 v1635 v1645 v1688 v1763) a + S1x16x256.size a ≤ S200x216x256.size a := fun v1630 v1635 v1645 v1661 v1670 v1679 v1688 v1697 v1706 v1715 v1763 k0_hw11 => k0_hw11.2.2.2.2.2.2.2.2.1
theorem k0_off244_inb : ∀ (v1630 : BitVec 32) (v1635 : BitVec 32) (v1645 : BitVec 32) (v1661 : BitVec 32) (v1670 : BitVec 32) (v1679 : BitVec 32) (v1688 : BitVec 32) (v1697 : BitVec 32) (v1706 : BitVec 32) (v1715 : BitVec 32) (v1763 : BitVec 32) (k0_hw11 : k0_chk11 v1630 v1635 v1645 v1661 v1670 v1679 v1688 v1697 v1706 v1715 v1763), ∀ a, (k0_off244 v1630 v1635 v1697 v1763) a + S1x16x256.size a ≤ S200x216x256.size a := fun v1630 v1635 v1645 v1661 v1670 v1679 v1688 v1697 v1706 v1715 v1763 k0_hw11 => k0_hw11.2.2.2.2.2.2.2.2.2.1
theorem k0_off245_inb : ∀ (v1630 : BitVec 32) (v1635 : BitVec 32) (v1645 : BitVec 32) (v1661 : BitVec 32) (v1670 : BitVec 32) (v1679 : BitVec 32) (v1688 : BitVec 32) (v1697 : BitVec 32) (v1706 : BitVec 32) (v1715 : BitVec 32) (v1763 : BitVec 32) (k0_hw11 : k0_chk11 v1630 v1635 v1645 v1661 v1670 v1679 v1688 v1697 v1706 v1715 v1763), ∀ a, (k0_off245 v1630 v1635 v1645 v1697 v1763) a + S1x16x256.size a ≤ S200x216x256.size a := fun v1630 v1635 v1645 v1661 v1670 v1679 v1688 v1697 v1706 v1715 v1763 k0_hw11 => k0_hw11.2.2.2.2.2.2.2.2.2.2.1
theorem k0_off265_inb : ∀ (v1630 : BitVec 32) (v1635 : BitVec 32) (v1645 : BitVec 32) (v1661 : BitVec 32) (v1670 : BitVec 32) (v1679 : BitVec 32) (v1688 : BitVec 32) (v1697 : BitVec 32) (v1706 : BitVec 32) (v1715 : BitVec 32) (v1763 : BitVec 32) (k0_hw11 : k0_chk11 v1630 v1635 v1645 v1661 v1670 v1679 v1688 v1697 v1706 v1715 v1763), ∀ a, (k0_off265 v1630 v1635 v1706 v1763) a + S1x16x256.size a ≤ S200x216x256.size a := fun v1630 v1635 v1645 v1661 v1670 v1679 v1688 v1697 v1706 v1715 v1763 k0_hw11 => k0_hw11.2.2.2.2.2.2.2.2.2.2.2.1
theorem k0_off266_inb : ∀ (v1630 : BitVec 32) (v1635 : BitVec 32) (v1645 : BitVec 32) (v1661 : BitVec 32) (v1670 : BitVec 32) (v1679 : BitVec 32) (v1688 : BitVec 32) (v1697 : BitVec 32) (v1706 : BitVec 32) (v1715 : BitVec 32) (v1763 : BitVec 32) (k0_hw11 : k0_chk11 v1630 v1635 v1645 v1661 v1670 v1679 v1688 v1697 v1706 v1715 v1763), ∀ a, (k0_off266 v1630 v1635 v1645 v1706 v1763) a + S1x16x256.size a ≤ S200x216x256.size a := fun v1630 v1635 v1645 v1661 v1670 v1679 v1688 v1697 v1706 v1715 v1763 k0_hw11 => k0_hw11.2.2.2.2.2.2.2.2.2.2.2.2.1
theorem k0_off286_inb : ∀ (v1630 : BitVec 32) (v1635 : BitVec 32) (v1645 : BitVec 32) (v1661 : BitVec 32) (v1670 : BitVec 32) (v1679 : BitVec 32) (v1688 : BitVec 32) (v1697 : BitVec 32) (v1706 : BitVec 32) (v1715 : BitVec 32) (v1763 : BitVec 32) (k0_hw11 : k0_chk11 v1630 v1635 v1645 v1661 v1670 v1679 v1688 v1697 v1706 v1715 v1763), ∀ a, (k0_off286 v1630 v1635 v1715 v1763) a + S1x16x256.size a ≤ S200x216x256.size a := fun v1630 v1635 v1645 v1661 v1670 v1679 v1688 v1697 v1706 v1715 v1763 k0_hw11 => k0_hw11.2.2.2.2.2.2.2.2.2.2.2.2.2.1
theorem k0_off287_inb : ∀ (v1630 : BitVec 32) (v1635 : BitVec 32) (v1645 : BitVec 32) (v1661 : BitVec 32) (v1670 : BitVec 32) (v1679 : BitVec 32) (v1688 : BitVec 32) (v1697 : BitVec 32) (v1706 : BitVec 32) (v1715 : BitVec 32) (v1763 : BitVec 32) (k0_hw11 : k0_chk11 v1630 v1635 v1645 v1661 v1670 v1679 v1688 v1697 v1706 v1715 v1763), ∀ a, (k0_off287 v1630 v1635 v1645 v1715 v1763) a + S1x16x256.size a ≤ S200x216x256.size a := fun v1630 v1635 v1645 v1661 v1670 v1679 v1688 v1697 v1706 v1715 v1763 k0_hw11 => k0_hw11.2.2.2.2.2.2.2.2.2.2.2.2.2.2

def k0_off288 (k0_t1 : Fin k0_t1_loop.trips) : Fin 3 → Nat :=
  let c45_723 : Index := 45#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c1_i32_345 : BitVec 32 := 1#32
  let v1622 : BitVec 32 := Scalar.addi v5 c1_i32_345
  let v3147 : Index := Scalar.indexCast v1622
  let c0_724 : Index := 0#32
  ![45, v3147.toNat, 0]
def k0_off289 (v1630 : BitVec 32) (v1635 : BitVec 32) (v1715 : BitVec 32) (v1776 : BitVec 32) : Fin 3 → Nat :=
  let c199_i32_354 : BitVec 32 := 199#32
  let c0_i32_353 : BitVec 32 := 0#32
  let v1636 : BitVec 32 := Scalar.maxsi c0_i32_353 v1635
  let v1637 : BitVec 32 := Scalar.minsi c199_i32_354 v1636
  let v1716 : BitVec 32 := Scalar.addi v1637 v1715
  let v3152 : Index := Scalar.indexCast v1716
  let c199_i32_351 : BitVec 32 := 199#32
  let c0_i32_350 : BitVec 32 := 0#32
  let v1631 : BitVec 32 := Scalar.maxsi c0_i32_350 v1630
  let v1632 : BitVec 32 := Scalar.minsi c199_i32_351 v1631
  let v1777 : BitVec 32 := Scalar.addi v1632 v1776
  let c3_i32_425 : BitVec 32 := 3#32
  let v1780 : BitVec 32 := Scalar.shrsi v1777 c3_i32_425
  let c3_i32_426 : BitVec 32 := 3#32
  let v1781 : BitVec 32 := Scalar.shli v1780 c3_i32_426
  let v1782 : BitVec 32 := v1781
  let v3153 : Index := Scalar.indexCast v1782
  let c0_726 : Index := 0#32
  ![v3152.toNat, v3153.toNat, 0]
def k0_off290 (v1630 : BitVec 32) (v1635 : BitVec 32) (v1645 : BitVec 32) (v1715 : BitVec 32) (v1776 : BitVec 32) : Fin 3 → Nat :=
  let c199_i32_354 : BitVec 32 := 199#32
  let c0_i32_353 : BitVec 32 := 0#32
  let v1636 : BitVec 32 := Scalar.maxsi c0_i32_353 v1635
  let v1637 : BitVec 32 := Scalar.minsi c199_i32_354 v1636
  let v1716 : BitVec 32 := Scalar.addi v1637 v1715
  let c1_i32_392 : BitVec 32 := 1#32
  let v1717 : BitVec 32 := Scalar.addi v1716 c1_i32_392
  let c199_i32_360 : BitVec 32 := 199#32
  let c0_i32_359 : BitVec 32 := 0#32
  let v1646 : BitVec 32 := Scalar.maxsi c0_i32_359 v1645
  let v1647 : BitVec 32 := Scalar.minsi c199_i32_360 v1646
  let v1718 : BitVec 32 := Scalar.minsi v1717 v1647
  let v3156 : Index := Scalar.indexCast v1718
  let c199_i32_351 : BitVec 32 := 199#32
  let c0_i32_350 : BitVec 32 := 0#32
  let v1631 : BitVec 32 := Scalar.maxsi c0_i32_350 v1630
  let v1632 : BitVec 32 := Scalar.minsi c199_i32_351 v1631
  let v1777 : BitVec 32 := Scalar.addi v1632 v1776
  let c3_i32_425 : BitVec 32 := 3#32
  let v1780 : BitVec 32 := Scalar.shrsi v1777 c3_i32_425
  let c3_i32_426 : BitVec 32 := 3#32
  let v1781 : BitVec 32 := Scalar.shli v1780 c3_i32_426
  let v1782 : BitVec 32 := v1781
  let v3157 : Index := Scalar.indexCast v1782
  let c0_727 : Index := 0#32
  ![v3156.toNat, v3157.toNat, 0]

def k0_chk12 (v1630 : BitVec 32) (v1635 : BitVec 32) (v1645 : BitVec 32) (v1661 : BitVec 32) (v1670 : BitVec 32) (v1679 : BitVec 32) (v1688 : BitVec 32) (v1697 : BitVec 32) (v1706 : BitVec 32) (v1715 : BitVec 32) (v1776 : BitVec 32) : Prop :=
  (8 ∣ (k0_mult13 v1630 v1776).toNat) ∧
  (∀ a, (k0_off163 v1630 v1635 v1661 v1776) a + S1x16x256.size a ≤ S200x216x256.size a) ∧
  (∀ a, (k0_off164 v1630 v1635 v1645 v1661 v1776) a + S1x16x256.size a ≤ S200x216x256.size a) ∧
  (∀ a, (k0_off184 v1630 v1635 v1670 v1776) a + S1x16x256.size a ≤ S200x216x256.size a) ∧
  (∀ a, (k0_off185 v1630 v1635 v1645 v1670 v1776) a + S1x16x256.size a ≤ S200x216x256.size a) ∧
  (∀ a, (k0_off205 v1630 v1635 v1679 v1776) a + S1x16x256.size a ≤ S200x216x256.size a) ∧
  (∀ a, (k0_off206 v1630 v1635 v1645 v1679 v1776) a + S1x16x256.size a ≤ S200x216x256.size a) ∧
  (∀ a, (k0_off226 v1630 v1635 v1688 v1776) a + S1x16x256.size a ≤ S200x216x256.size a) ∧
  (∀ a, (k0_off227 v1630 v1635 v1645 v1688 v1776) a + S1x16x256.size a ≤ S200x216x256.size a) ∧
  (∀ a, (k0_off247 v1630 v1635 v1697 v1776) a + S1x16x256.size a ≤ S200x216x256.size a) ∧
  (∀ a, (k0_off248 v1630 v1635 v1645 v1697 v1776) a + S1x16x256.size a ≤ S200x216x256.size a) ∧
  (∀ a, (k0_off268 v1630 v1635 v1706 v1776) a + S1x16x256.size a ≤ S200x216x256.size a) ∧
  (∀ a, (k0_off269 v1630 v1635 v1645 v1706 v1776) a + S1x16x256.size a ≤ S200x216x256.size a) ∧
  (∀ a, (k0_off289 v1630 v1635 v1715 v1776) a + S1x16x256.size a ≤ S200x216x256.size a) ∧
  (∀ a, (k0_off290 v1630 v1635 v1645 v1715 v1776) a + S1x16x256.size a ≤ S200x216x256.size a)
theorem k0_mult13_dvd : ∀ (v1630 : BitVec 32) (v1635 : BitVec 32) (v1645 : BitVec 32) (v1661 : BitVec 32) (v1670 : BitVec 32) (v1679 : BitVec 32) (v1688 : BitVec 32) (v1697 : BitVec 32) (v1706 : BitVec 32) (v1715 : BitVec 32) (v1776 : BitVec 32) (k0_hw12 : k0_chk12 v1630 v1635 v1645 v1661 v1670 v1679 v1688 v1697 v1706 v1715 v1776), 8 ∣ (k0_mult13 v1630 v1776).toNat := fun v1630 v1635 v1645 v1661 v1670 v1679 v1688 v1697 v1706 v1715 v1776 k0_hw12 => k0_hw12.1
theorem k0_off163_inb : ∀ (v1630 : BitVec 32) (v1635 : BitVec 32) (v1645 : BitVec 32) (v1661 : BitVec 32) (v1670 : BitVec 32) (v1679 : BitVec 32) (v1688 : BitVec 32) (v1697 : BitVec 32) (v1706 : BitVec 32) (v1715 : BitVec 32) (v1776 : BitVec 32) (k0_hw12 : k0_chk12 v1630 v1635 v1645 v1661 v1670 v1679 v1688 v1697 v1706 v1715 v1776), ∀ a, (k0_off163 v1630 v1635 v1661 v1776) a + S1x16x256.size a ≤ S200x216x256.size a := fun v1630 v1635 v1645 v1661 v1670 v1679 v1688 v1697 v1706 v1715 v1776 k0_hw12 => k0_hw12.2.1
theorem k0_off164_inb : ∀ (v1630 : BitVec 32) (v1635 : BitVec 32) (v1645 : BitVec 32) (v1661 : BitVec 32) (v1670 : BitVec 32) (v1679 : BitVec 32) (v1688 : BitVec 32) (v1697 : BitVec 32) (v1706 : BitVec 32) (v1715 : BitVec 32) (v1776 : BitVec 32) (k0_hw12 : k0_chk12 v1630 v1635 v1645 v1661 v1670 v1679 v1688 v1697 v1706 v1715 v1776), ∀ a, (k0_off164 v1630 v1635 v1645 v1661 v1776) a + S1x16x256.size a ≤ S200x216x256.size a := fun v1630 v1635 v1645 v1661 v1670 v1679 v1688 v1697 v1706 v1715 v1776 k0_hw12 => k0_hw12.2.2.1
theorem k0_off184_inb : ∀ (v1630 : BitVec 32) (v1635 : BitVec 32) (v1645 : BitVec 32) (v1661 : BitVec 32) (v1670 : BitVec 32) (v1679 : BitVec 32) (v1688 : BitVec 32) (v1697 : BitVec 32) (v1706 : BitVec 32) (v1715 : BitVec 32) (v1776 : BitVec 32) (k0_hw12 : k0_chk12 v1630 v1635 v1645 v1661 v1670 v1679 v1688 v1697 v1706 v1715 v1776), ∀ a, (k0_off184 v1630 v1635 v1670 v1776) a + S1x16x256.size a ≤ S200x216x256.size a := fun v1630 v1635 v1645 v1661 v1670 v1679 v1688 v1697 v1706 v1715 v1776 k0_hw12 => k0_hw12.2.2.2.1
theorem k0_off185_inb : ∀ (v1630 : BitVec 32) (v1635 : BitVec 32) (v1645 : BitVec 32) (v1661 : BitVec 32) (v1670 : BitVec 32) (v1679 : BitVec 32) (v1688 : BitVec 32) (v1697 : BitVec 32) (v1706 : BitVec 32) (v1715 : BitVec 32) (v1776 : BitVec 32) (k0_hw12 : k0_chk12 v1630 v1635 v1645 v1661 v1670 v1679 v1688 v1697 v1706 v1715 v1776), ∀ a, (k0_off185 v1630 v1635 v1645 v1670 v1776) a + S1x16x256.size a ≤ S200x216x256.size a := fun v1630 v1635 v1645 v1661 v1670 v1679 v1688 v1697 v1706 v1715 v1776 k0_hw12 => k0_hw12.2.2.2.2.1
theorem k0_off205_inb : ∀ (v1630 : BitVec 32) (v1635 : BitVec 32) (v1645 : BitVec 32) (v1661 : BitVec 32) (v1670 : BitVec 32) (v1679 : BitVec 32) (v1688 : BitVec 32) (v1697 : BitVec 32) (v1706 : BitVec 32) (v1715 : BitVec 32) (v1776 : BitVec 32) (k0_hw12 : k0_chk12 v1630 v1635 v1645 v1661 v1670 v1679 v1688 v1697 v1706 v1715 v1776), ∀ a, (k0_off205 v1630 v1635 v1679 v1776) a + S1x16x256.size a ≤ S200x216x256.size a := fun v1630 v1635 v1645 v1661 v1670 v1679 v1688 v1697 v1706 v1715 v1776 k0_hw12 => k0_hw12.2.2.2.2.2.1
theorem k0_off206_inb : ∀ (v1630 : BitVec 32) (v1635 : BitVec 32) (v1645 : BitVec 32) (v1661 : BitVec 32) (v1670 : BitVec 32) (v1679 : BitVec 32) (v1688 : BitVec 32) (v1697 : BitVec 32) (v1706 : BitVec 32) (v1715 : BitVec 32) (v1776 : BitVec 32) (k0_hw12 : k0_chk12 v1630 v1635 v1645 v1661 v1670 v1679 v1688 v1697 v1706 v1715 v1776), ∀ a, (k0_off206 v1630 v1635 v1645 v1679 v1776) a + S1x16x256.size a ≤ S200x216x256.size a := fun v1630 v1635 v1645 v1661 v1670 v1679 v1688 v1697 v1706 v1715 v1776 k0_hw12 => k0_hw12.2.2.2.2.2.2.1
theorem k0_off226_inb : ∀ (v1630 : BitVec 32) (v1635 : BitVec 32) (v1645 : BitVec 32) (v1661 : BitVec 32) (v1670 : BitVec 32) (v1679 : BitVec 32) (v1688 : BitVec 32) (v1697 : BitVec 32) (v1706 : BitVec 32) (v1715 : BitVec 32) (v1776 : BitVec 32) (k0_hw12 : k0_chk12 v1630 v1635 v1645 v1661 v1670 v1679 v1688 v1697 v1706 v1715 v1776), ∀ a, (k0_off226 v1630 v1635 v1688 v1776) a + S1x16x256.size a ≤ S200x216x256.size a := fun v1630 v1635 v1645 v1661 v1670 v1679 v1688 v1697 v1706 v1715 v1776 k0_hw12 => k0_hw12.2.2.2.2.2.2.2.1
theorem k0_off227_inb : ∀ (v1630 : BitVec 32) (v1635 : BitVec 32) (v1645 : BitVec 32) (v1661 : BitVec 32) (v1670 : BitVec 32) (v1679 : BitVec 32) (v1688 : BitVec 32) (v1697 : BitVec 32) (v1706 : BitVec 32) (v1715 : BitVec 32) (v1776 : BitVec 32) (k0_hw12 : k0_chk12 v1630 v1635 v1645 v1661 v1670 v1679 v1688 v1697 v1706 v1715 v1776), ∀ a, (k0_off227 v1630 v1635 v1645 v1688 v1776) a + S1x16x256.size a ≤ S200x216x256.size a := fun v1630 v1635 v1645 v1661 v1670 v1679 v1688 v1697 v1706 v1715 v1776 k0_hw12 => k0_hw12.2.2.2.2.2.2.2.2.1
theorem k0_off247_inb : ∀ (v1630 : BitVec 32) (v1635 : BitVec 32) (v1645 : BitVec 32) (v1661 : BitVec 32) (v1670 : BitVec 32) (v1679 : BitVec 32) (v1688 : BitVec 32) (v1697 : BitVec 32) (v1706 : BitVec 32) (v1715 : BitVec 32) (v1776 : BitVec 32) (k0_hw12 : k0_chk12 v1630 v1635 v1645 v1661 v1670 v1679 v1688 v1697 v1706 v1715 v1776), ∀ a, (k0_off247 v1630 v1635 v1697 v1776) a + S1x16x256.size a ≤ S200x216x256.size a := fun v1630 v1635 v1645 v1661 v1670 v1679 v1688 v1697 v1706 v1715 v1776 k0_hw12 => k0_hw12.2.2.2.2.2.2.2.2.2.1
theorem k0_off248_inb : ∀ (v1630 : BitVec 32) (v1635 : BitVec 32) (v1645 : BitVec 32) (v1661 : BitVec 32) (v1670 : BitVec 32) (v1679 : BitVec 32) (v1688 : BitVec 32) (v1697 : BitVec 32) (v1706 : BitVec 32) (v1715 : BitVec 32) (v1776 : BitVec 32) (k0_hw12 : k0_chk12 v1630 v1635 v1645 v1661 v1670 v1679 v1688 v1697 v1706 v1715 v1776), ∀ a, (k0_off248 v1630 v1635 v1645 v1697 v1776) a + S1x16x256.size a ≤ S200x216x256.size a := fun v1630 v1635 v1645 v1661 v1670 v1679 v1688 v1697 v1706 v1715 v1776 k0_hw12 => k0_hw12.2.2.2.2.2.2.2.2.2.2.1
theorem k0_off268_inb : ∀ (v1630 : BitVec 32) (v1635 : BitVec 32) (v1645 : BitVec 32) (v1661 : BitVec 32) (v1670 : BitVec 32) (v1679 : BitVec 32) (v1688 : BitVec 32) (v1697 : BitVec 32) (v1706 : BitVec 32) (v1715 : BitVec 32) (v1776 : BitVec 32) (k0_hw12 : k0_chk12 v1630 v1635 v1645 v1661 v1670 v1679 v1688 v1697 v1706 v1715 v1776), ∀ a, (k0_off268 v1630 v1635 v1706 v1776) a + S1x16x256.size a ≤ S200x216x256.size a := fun v1630 v1635 v1645 v1661 v1670 v1679 v1688 v1697 v1706 v1715 v1776 k0_hw12 => k0_hw12.2.2.2.2.2.2.2.2.2.2.2.1
theorem k0_off269_inb : ∀ (v1630 : BitVec 32) (v1635 : BitVec 32) (v1645 : BitVec 32) (v1661 : BitVec 32) (v1670 : BitVec 32) (v1679 : BitVec 32) (v1688 : BitVec 32) (v1697 : BitVec 32) (v1706 : BitVec 32) (v1715 : BitVec 32) (v1776 : BitVec 32) (k0_hw12 : k0_chk12 v1630 v1635 v1645 v1661 v1670 v1679 v1688 v1697 v1706 v1715 v1776), ∀ a, (k0_off269 v1630 v1635 v1645 v1706 v1776) a + S1x16x256.size a ≤ S200x216x256.size a := fun v1630 v1635 v1645 v1661 v1670 v1679 v1688 v1697 v1706 v1715 v1776 k0_hw12 => k0_hw12.2.2.2.2.2.2.2.2.2.2.2.2.1
theorem k0_off289_inb : ∀ (v1630 : BitVec 32) (v1635 : BitVec 32) (v1645 : BitVec 32) (v1661 : BitVec 32) (v1670 : BitVec 32) (v1679 : BitVec 32) (v1688 : BitVec 32) (v1697 : BitVec 32) (v1706 : BitVec 32) (v1715 : BitVec 32) (v1776 : BitVec 32) (k0_hw12 : k0_chk12 v1630 v1635 v1645 v1661 v1670 v1679 v1688 v1697 v1706 v1715 v1776), ∀ a, (k0_off289 v1630 v1635 v1715 v1776) a + S1x16x256.size a ≤ S200x216x256.size a := fun v1630 v1635 v1645 v1661 v1670 v1679 v1688 v1697 v1706 v1715 v1776 k0_hw12 => k0_hw12.2.2.2.2.2.2.2.2.2.2.2.2.2.1
theorem k0_off290_inb : ∀ (v1630 : BitVec 32) (v1635 : BitVec 32) (v1645 : BitVec 32) (v1661 : BitVec 32) (v1670 : BitVec 32) (v1679 : BitVec 32) (v1688 : BitVec 32) (v1697 : BitVec 32) (v1706 : BitVec 32) (v1715 : BitVec 32) (v1776 : BitVec 32) (k0_hw12 : k0_chk12 v1630 v1635 v1645 v1661 v1670 v1679 v1688 v1697 v1706 v1715 v1776), ∀ a, (k0_off290 v1630 v1635 v1645 v1715 v1776) a + S1x16x256.size a ≤ S200x216x256.size a := fun v1630 v1635 v1645 v1661 v1670 v1679 v1688 v1697 v1706 v1715 v1776 k0_hw12 => k0_hw12.2.2.2.2.2.2.2.2.2.2.2.2.2.2

def k0_off291 (k0_t1 : Fin k0_t1_loop.trips) : Fin 3 → Nat :=
  let c46_729 : Index := 46#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c1_i32_345 : BitVec 32 := 1#32
  let v1622 : BitVec 32 := Scalar.addi v5 c1_i32_345
  let v3176 : Index := Scalar.indexCast v1622
  let c0_730 : Index := 0#32
  ![46, v3176.toNat, 0]
def k0_off292 (v1630 : BitVec 32) (v1635 : BitVec 32) (v1715 : BitVec 32) (v1789 : BitVec 32) : Fin 3 → Nat :=
  let c199_i32_354 : BitVec 32 := 199#32
  let c0_i32_353 : BitVec 32 := 0#32
  let v1636 : BitVec 32 := Scalar.maxsi c0_i32_353 v1635
  let v1637 : BitVec 32 := Scalar.minsi c199_i32_354 v1636
  let v1716 : BitVec 32 := Scalar.addi v1637 v1715
  let v3181 : Index := Scalar.indexCast v1716
  let c199_i32_351 : BitVec 32 := 199#32
  let c0_i32_350 : BitVec 32 := 0#32
  let v1631 : BitVec 32 := Scalar.maxsi c0_i32_350 v1630
  let v1632 : BitVec 32 := Scalar.minsi c199_i32_351 v1631
  let v1790 : BitVec 32 := Scalar.addi v1632 v1789
  let c3_i32_432 : BitVec 32 := 3#32
  let v1793 : BitVec 32 := Scalar.shrsi v1790 c3_i32_432
  let c3_i32_433 : BitVec 32 := 3#32
  let v1794 : BitVec 32 := Scalar.shli v1793 c3_i32_433
  let v1795 : BitVec 32 := v1794
  let v3182 : Index := Scalar.indexCast v1795
  let c0_732 : Index := 0#32
  ![v3181.toNat, v3182.toNat, 0]
def k0_off293 (v1630 : BitVec 32) (v1635 : BitVec 32) (v1645 : BitVec 32) (v1715 : BitVec 32) (v1789 : BitVec 32) : Fin 3 → Nat :=
  let c199_i32_354 : BitVec 32 := 199#32
  let c0_i32_353 : BitVec 32 := 0#32
  let v1636 : BitVec 32 := Scalar.maxsi c0_i32_353 v1635
  let v1637 : BitVec 32 := Scalar.minsi c199_i32_354 v1636
  let v1716 : BitVec 32 := Scalar.addi v1637 v1715
  let c1_i32_392 : BitVec 32 := 1#32
  let v1717 : BitVec 32 := Scalar.addi v1716 c1_i32_392
  let c199_i32_360 : BitVec 32 := 199#32
  let c0_i32_359 : BitVec 32 := 0#32
  let v1646 : BitVec 32 := Scalar.maxsi c0_i32_359 v1645
  let v1647 : BitVec 32 := Scalar.minsi c199_i32_360 v1646
  let v1718 : BitVec 32 := Scalar.minsi v1717 v1647
  let v3185 : Index := Scalar.indexCast v1718
  let c199_i32_351 : BitVec 32 := 199#32
  let c0_i32_350 : BitVec 32 := 0#32
  let v1631 : BitVec 32 := Scalar.maxsi c0_i32_350 v1630
  let v1632 : BitVec 32 := Scalar.minsi c199_i32_351 v1631
  let v1790 : BitVec 32 := Scalar.addi v1632 v1789
  let c3_i32_432 : BitVec 32 := 3#32
  let v1793 : BitVec 32 := Scalar.shrsi v1790 c3_i32_432
  let c3_i32_433 : BitVec 32 := 3#32
  let v1794 : BitVec 32 := Scalar.shli v1793 c3_i32_433
  let v1795 : BitVec 32 := v1794
  let v3186 : Index := Scalar.indexCast v1795
  let c0_733 : Index := 0#32
  ![v3185.toNat, v3186.toNat, 0]

def k0_chk13 (v1630 : BitVec 32) (v1635 : BitVec 32) (v1645 : BitVec 32) (v1661 : BitVec 32) (v1670 : BitVec 32) (v1679 : BitVec 32) (v1688 : BitVec 32) (v1697 : BitVec 32) (v1706 : BitVec 32) (v1715 : BitVec 32) (v1789 : BitVec 32) : Prop :=
  (8 ∣ (k0_mult14 v1630 v1789).toNat) ∧
  (∀ a, (k0_off166 v1630 v1635 v1661 v1789) a + S1x16x256.size a ≤ S200x216x256.size a) ∧
  (∀ a, (k0_off167 v1630 v1635 v1645 v1661 v1789) a + S1x16x256.size a ≤ S200x216x256.size a) ∧
  (∀ a, (k0_off187 v1630 v1635 v1670 v1789) a + S1x16x256.size a ≤ S200x216x256.size a) ∧
  (∀ a, (k0_off188 v1630 v1635 v1645 v1670 v1789) a + S1x16x256.size a ≤ S200x216x256.size a) ∧
  (∀ a, (k0_off208 v1630 v1635 v1679 v1789) a + S1x16x256.size a ≤ S200x216x256.size a) ∧
  (∀ a, (k0_off209 v1630 v1635 v1645 v1679 v1789) a + S1x16x256.size a ≤ S200x216x256.size a) ∧
  (∀ a, (k0_off229 v1630 v1635 v1688 v1789) a + S1x16x256.size a ≤ S200x216x256.size a) ∧
  (∀ a, (k0_off230 v1630 v1635 v1645 v1688 v1789) a + S1x16x256.size a ≤ S200x216x256.size a) ∧
  (∀ a, (k0_off250 v1630 v1635 v1697 v1789) a + S1x16x256.size a ≤ S200x216x256.size a) ∧
  (∀ a, (k0_off251 v1630 v1635 v1645 v1697 v1789) a + S1x16x256.size a ≤ S200x216x256.size a) ∧
  (∀ a, (k0_off271 v1630 v1635 v1706 v1789) a + S1x16x256.size a ≤ S200x216x256.size a) ∧
  (∀ a, (k0_off272 v1630 v1635 v1645 v1706 v1789) a + S1x16x256.size a ≤ S200x216x256.size a) ∧
  (∀ a, (k0_off292 v1630 v1635 v1715 v1789) a + S1x16x256.size a ≤ S200x216x256.size a) ∧
  (∀ a, (k0_off293 v1630 v1635 v1645 v1715 v1789) a + S1x16x256.size a ≤ S200x216x256.size a)
theorem k0_mult14_dvd : ∀ (v1630 : BitVec 32) (v1635 : BitVec 32) (v1645 : BitVec 32) (v1661 : BitVec 32) (v1670 : BitVec 32) (v1679 : BitVec 32) (v1688 : BitVec 32) (v1697 : BitVec 32) (v1706 : BitVec 32) (v1715 : BitVec 32) (v1789 : BitVec 32) (k0_hw13 : k0_chk13 v1630 v1635 v1645 v1661 v1670 v1679 v1688 v1697 v1706 v1715 v1789), 8 ∣ (k0_mult14 v1630 v1789).toNat := fun v1630 v1635 v1645 v1661 v1670 v1679 v1688 v1697 v1706 v1715 v1789 k0_hw13 => k0_hw13.1
theorem k0_off166_inb : ∀ (v1630 : BitVec 32) (v1635 : BitVec 32) (v1645 : BitVec 32) (v1661 : BitVec 32) (v1670 : BitVec 32) (v1679 : BitVec 32) (v1688 : BitVec 32) (v1697 : BitVec 32) (v1706 : BitVec 32) (v1715 : BitVec 32) (v1789 : BitVec 32) (k0_hw13 : k0_chk13 v1630 v1635 v1645 v1661 v1670 v1679 v1688 v1697 v1706 v1715 v1789), ∀ a, (k0_off166 v1630 v1635 v1661 v1789) a + S1x16x256.size a ≤ S200x216x256.size a := fun v1630 v1635 v1645 v1661 v1670 v1679 v1688 v1697 v1706 v1715 v1789 k0_hw13 => k0_hw13.2.1
theorem k0_off167_inb : ∀ (v1630 : BitVec 32) (v1635 : BitVec 32) (v1645 : BitVec 32) (v1661 : BitVec 32) (v1670 : BitVec 32) (v1679 : BitVec 32) (v1688 : BitVec 32) (v1697 : BitVec 32) (v1706 : BitVec 32) (v1715 : BitVec 32) (v1789 : BitVec 32) (k0_hw13 : k0_chk13 v1630 v1635 v1645 v1661 v1670 v1679 v1688 v1697 v1706 v1715 v1789), ∀ a, (k0_off167 v1630 v1635 v1645 v1661 v1789) a + S1x16x256.size a ≤ S200x216x256.size a := fun v1630 v1635 v1645 v1661 v1670 v1679 v1688 v1697 v1706 v1715 v1789 k0_hw13 => k0_hw13.2.2.1
theorem k0_off187_inb : ∀ (v1630 : BitVec 32) (v1635 : BitVec 32) (v1645 : BitVec 32) (v1661 : BitVec 32) (v1670 : BitVec 32) (v1679 : BitVec 32) (v1688 : BitVec 32) (v1697 : BitVec 32) (v1706 : BitVec 32) (v1715 : BitVec 32) (v1789 : BitVec 32) (k0_hw13 : k0_chk13 v1630 v1635 v1645 v1661 v1670 v1679 v1688 v1697 v1706 v1715 v1789), ∀ a, (k0_off187 v1630 v1635 v1670 v1789) a + S1x16x256.size a ≤ S200x216x256.size a := fun v1630 v1635 v1645 v1661 v1670 v1679 v1688 v1697 v1706 v1715 v1789 k0_hw13 => k0_hw13.2.2.2.1
theorem k0_off188_inb : ∀ (v1630 : BitVec 32) (v1635 : BitVec 32) (v1645 : BitVec 32) (v1661 : BitVec 32) (v1670 : BitVec 32) (v1679 : BitVec 32) (v1688 : BitVec 32) (v1697 : BitVec 32) (v1706 : BitVec 32) (v1715 : BitVec 32) (v1789 : BitVec 32) (k0_hw13 : k0_chk13 v1630 v1635 v1645 v1661 v1670 v1679 v1688 v1697 v1706 v1715 v1789), ∀ a, (k0_off188 v1630 v1635 v1645 v1670 v1789) a + S1x16x256.size a ≤ S200x216x256.size a := fun v1630 v1635 v1645 v1661 v1670 v1679 v1688 v1697 v1706 v1715 v1789 k0_hw13 => k0_hw13.2.2.2.2.1
theorem k0_off208_inb : ∀ (v1630 : BitVec 32) (v1635 : BitVec 32) (v1645 : BitVec 32) (v1661 : BitVec 32) (v1670 : BitVec 32) (v1679 : BitVec 32) (v1688 : BitVec 32) (v1697 : BitVec 32) (v1706 : BitVec 32) (v1715 : BitVec 32) (v1789 : BitVec 32) (k0_hw13 : k0_chk13 v1630 v1635 v1645 v1661 v1670 v1679 v1688 v1697 v1706 v1715 v1789), ∀ a, (k0_off208 v1630 v1635 v1679 v1789) a + S1x16x256.size a ≤ S200x216x256.size a := fun v1630 v1635 v1645 v1661 v1670 v1679 v1688 v1697 v1706 v1715 v1789 k0_hw13 => k0_hw13.2.2.2.2.2.1
theorem k0_off209_inb : ∀ (v1630 : BitVec 32) (v1635 : BitVec 32) (v1645 : BitVec 32) (v1661 : BitVec 32) (v1670 : BitVec 32) (v1679 : BitVec 32) (v1688 : BitVec 32) (v1697 : BitVec 32) (v1706 : BitVec 32) (v1715 : BitVec 32) (v1789 : BitVec 32) (k0_hw13 : k0_chk13 v1630 v1635 v1645 v1661 v1670 v1679 v1688 v1697 v1706 v1715 v1789), ∀ a, (k0_off209 v1630 v1635 v1645 v1679 v1789) a + S1x16x256.size a ≤ S200x216x256.size a := fun v1630 v1635 v1645 v1661 v1670 v1679 v1688 v1697 v1706 v1715 v1789 k0_hw13 => k0_hw13.2.2.2.2.2.2.1
theorem k0_off229_inb : ∀ (v1630 : BitVec 32) (v1635 : BitVec 32) (v1645 : BitVec 32) (v1661 : BitVec 32) (v1670 : BitVec 32) (v1679 : BitVec 32) (v1688 : BitVec 32) (v1697 : BitVec 32) (v1706 : BitVec 32) (v1715 : BitVec 32) (v1789 : BitVec 32) (k0_hw13 : k0_chk13 v1630 v1635 v1645 v1661 v1670 v1679 v1688 v1697 v1706 v1715 v1789), ∀ a, (k0_off229 v1630 v1635 v1688 v1789) a + S1x16x256.size a ≤ S200x216x256.size a := fun v1630 v1635 v1645 v1661 v1670 v1679 v1688 v1697 v1706 v1715 v1789 k0_hw13 => k0_hw13.2.2.2.2.2.2.2.1
theorem k0_off230_inb : ∀ (v1630 : BitVec 32) (v1635 : BitVec 32) (v1645 : BitVec 32) (v1661 : BitVec 32) (v1670 : BitVec 32) (v1679 : BitVec 32) (v1688 : BitVec 32) (v1697 : BitVec 32) (v1706 : BitVec 32) (v1715 : BitVec 32) (v1789 : BitVec 32) (k0_hw13 : k0_chk13 v1630 v1635 v1645 v1661 v1670 v1679 v1688 v1697 v1706 v1715 v1789), ∀ a, (k0_off230 v1630 v1635 v1645 v1688 v1789) a + S1x16x256.size a ≤ S200x216x256.size a := fun v1630 v1635 v1645 v1661 v1670 v1679 v1688 v1697 v1706 v1715 v1789 k0_hw13 => k0_hw13.2.2.2.2.2.2.2.2.1
theorem k0_off250_inb : ∀ (v1630 : BitVec 32) (v1635 : BitVec 32) (v1645 : BitVec 32) (v1661 : BitVec 32) (v1670 : BitVec 32) (v1679 : BitVec 32) (v1688 : BitVec 32) (v1697 : BitVec 32) (v1706 : BitVec 32) (v1715 : BitVec 32) (v1789 : BitVec 32) (k0_hw13 : k0_chk13 v1630 v1635 v1645 v1661 v1670 v1679 v1688 v1697 v1706 v1715 v1789), ∀ a, (k0_off250 v1630 v1635 v1697 v1789) a + S1x16x256.size a ≤ S200x216x256.size a := fun v1630 v1635 v1645 v1661 v1670 v1679 v1688 v1697 v1706 v1715 v1789 k0_hw13 => k0_hw13.2.2.2.2.2.2.2.2.2.1
theorem k0_off251_inb : ∀ (v1630 : BitVec 32) (v1635 : BitVec 32) (v1645 : BitVec 32) (v1661 : BitVec 32) (v1670 : BitVec 32) (v1679 : BitVec 32) (v1688 : BitVec 32) (v1697 : BitVec 32) (v1706 : BitVec 32) (v1715 : BitVec 32) (v1789 : BitVec 32) (k0_hw13 : k0_chk13 v1630 v1635 v1645 v1661 v1670 v1679 v1688 v1697 v1706 v1715 v1789), ∀ a, (k0_off251 v1630 v1635 v1645 v1697 v1789) a + S1x16x256.size a ≤ S200x216x256.size a := fun v1630 v1635 v1645 v1661 v1670 v1679 v1688 v1697 v1706 v1715 v1789 k0_hw13 => k0_hw13.2.2.2.2.2.2.2.2.2.2.1
theorem k0_off271_inb : ∀ (v1630 : BitVec 32) (v1635 : BitVec 32) (v1645 : BitVec 32) (v1661 : BitVec 32) (v1670 : BitVec 32) (v1679 : BitVec 32) (v1688 : BitVec 32) (v1697 : BitVec 32) (v1706 : BitVec 32) (v1715 : BitVec 32) (v1789 : BitVec 32) (k0_hw13 : k0_chk13 v1630 v1635 v1645 v1661 v1670 v1679 v1688 v1697 v1706 v1715 v1789), ∀ a, (k0_off271 v1630 v1635 v1706 v1789) a + S1x16x256.size a ≤ S200x216x256.size a := fun v1630 v1635 v1645 v1661 v1670 v1679 v1688 v1697 v1706 v1715 v1789 k0_hw13 => k0_hw13.2.2.2.2.2.2.2.2.2.2.2.1
theorem k0_off272_inb : ∀ (v1630 : BitVec 32) (v1635 : BitVec 32) (v1645 : BitVec 32) (v1661 : BitVec 32) (v1670 : BitVec 32) (v1679 : BitVec 32) (v1688 : BitVec 32) (v1697 : BitVec 32) (v1706 : BitVec 32) (v1715 : BitVec 32) (v1789 : BitVec 32) (k0_hw13 : k0_chk13 v1630 v1635 v1645 v1661 v1670 v1679 v1688 v1697 v1706 v1715 v1789), ∀ a, (k0_off272 v1630 v1635 v1645 v1706 v1789) a + S1x16x256.size a ≤ S200x216x256.size a := fun v1630 v1635 v1645 v1661 v1670 v1679 v1688 v1697 v1706 v1715 v1789 k0_hw13 => k0_hw13.2.2.2.2.2.2.2.2.2.2.2.2.1
theorem k0_off292_inb : ∀ (v1630 : BitVec 32) (v1635 : BitVec 32) (v1645 : BitVec 32) (v1661 : BitVec 32) (v1670 : BitVec 32) (v1679 : BitVec 32) (v1688 : BitVec 32) (v1697 : BitVec 32) (v1706 : BitVec 32) (v1715 : BitVec 32) (v1789 : BitVec 32) (k0_hw13 : k0_chk13 v1630 v1635 v1645 v1661 v1670 v1679 v1688 v1697 v1706 v1715 v1789), ∀ a, (k0_off292 v1630 v1635 v1715 v1789) a + S1x16x256.size a ≤ S200x216x256.size a := fun v1630 v1635 v1645 v1661 v1670 v1679 v1688 v1697 v1706 v1715 v1789 k0_hw13 => k0_hw13.2.2.2.2.2.2.2.2.2.2.2.2.2.1
theorem k0_off293_inb : ∀ (v1630 : BitVec 32) (v1635 : BitVec 32) (v1645 : BitVec 32) (v1661 : BitVec 32) (v1670 : BitVec 32) (v1679 : BitVec 32) (v1688 : BitVec 32) (v1697 : BitVec 32) (v1706 : BitVec 32) (v1715 : BitVec 32) (v1789 : BitVec 32) (k0_hw13 : k0_chk13 v1630 v1635 v1645 v1661 v1670 v1679 v1688 v1697 v1706 v1715 v1789), ∀ a, (k0_off293 v1630 v1635 v1645 v1715 v1789) a + S1x16x256.size a ≤ S200x216x256.size a := fun v1630 v1635 v1645 v1661 v1670 v1679 v1688 v1697 v1706 v1715 v1789 k0_hw13 => k0_hw13.2.2.2.2.2.2.2.2.2.2.2.2.2.2

def k0_off294 (k0_t1 : Fin k0_t1_loop.trips) : Fin 3 → Nat :=
  let c47_735 : Index := 47#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c1_i32_345 : BitVec 32 := 1#32
  let v1622 : BitVec 32 := Scalar.addi v5 c1_i32_345
  let v3205 : Index := Scalar.indexCast v1622
  let c0_736 : Index := 0#32
  ![47, v3205.toNat, 0]
def k0_off295 (v1630 : BitVec 32) (v1635 : BitVec 32) (v1715 : BitVec 32) (v1802 : BitVec 32) : Fin 3 → Nat :=
  let c199_i32_354 : BitVec 32 := 199#32
  let c0_i32_353 : BitVec 32 := 0#32
  let v1636 : BitVec 32 := Scalar.maxsi c0_i32_353 v1635
  let v1637 : BitVec 32 := Scalar.minsi c199_i32_354 v1636
  let v1716 : BitVec 32 := Scalar.addi v1637 v1715
  let v3210 : Index := Scalar.indexCast v1716
  let c199_i32_351 : BitVec 32 := 199#32
  let c0_i32_350 : BitVec 32 := 0#32
  let v1631 : BitVec 32 := Scalar.maxsi c0_i32_350 v1630
  let v1632 : BitVec 32 := Scalar.minsi c199_i32_351 v1631
  let v1803 : BitVec 32 := Scalar.addi v1632 v1802
  let c3_i32_439 : BitVec 32 := 3#32
  let v1806 : BitVec 32 := Scalar.shrsi v1803 c3_i32_439
  let c3_i32_440 : BitVec 32 := 3#32
  let v1807 : BitVec 32 := Scalar.shli v1806 c3_i32_440
  let v1808 : BitVec 32 := v1807
  let v3211 : Index := Scalar.indexCast v1808
  let c0_738 : Index := 0#32
  ![v3210.toNat, v3211.toNat, 0]
def k0_off296 (v1630 : BitVec 32) (v1635 : BitVec 32) (v1645 : BitVec 32) (v1715 : BitVec 32) (v1802 : BitVec 32) : Fin 3 → Nat :=
  let c199_i32_354 : BitVec 32 := 199#32
  let c0_i32_353 : BitVec 32 := 0#32
  let v1636 : BitVec 32 := Scalar.maxsi c0_i32_353 v1635
  let v1637 : BitVec 32 := Scalar.minsi c199_i32_354 v1636
  let v1716 : BitVec 32 := Scalar.addi v1637 v1715
  let c1_i32_392 : BitVec 32 := 1#32
  let v1717 : BitVec 32 := Scalar.addi v1716 c1_i32_392
  let c199_i32_360 : BitVec 32 := 199#32
  let c0_i32_359 : BitVec 32 := 0#32
  let v1646 : BitVec 32 := Scalar.maxsi c0_i32_359 v1645
  let v1647 : BitVec 32 := Scalar.minsi c199_i32_360 v1646
  let v1718 : BitVec 32 := Scalar.minsi v1717 v1647
  let v3214 : Index := Scalar.indexCast v1718
  let c199_i32_351 : BitVec 32 := 199#32
  let c0_i32_350 : BitVec 32 := 0#32
  let v1631 : BitVec 32 := Scalar.maxsi c0_i32_350 v1630
  let v1632 : BitVec 32 := Scalar.minsi c199_i32_351 v1631
  let v1803 : BitVec 32 := Scalar.addi v1632 v1802
  let c3_i32_439 : BitVec 32 := 3#32
  let v1806 : BitVec 32 := Scalar.shrsi v1803 c3_i32_439
  let c3_i32_440 : BitVec 32 := 3#32
  let v1807 : BitVec 32 := Scalar.shli v1806 c3_i32_440
  let v1808 : BitVec 32 := v1807
  let v3215 : Index := Scalar.indexCast v1808
  let c0_739 : Index := 0#32
  ![v3214.toNat, v3215.toNat, 0]

def k0_chk14 (v1630 : BitVec 32) (v1635 : BitVec 32) (v1645 : BitVec 32) (v1661 : BitVec 32) (v1670 : BitVec 32) (v1679 : BitVec 32) (v1688 : BitVec 32) (v1697 : BitVec 32) (v1706 : BitVec 32) (v1715 : BitVec 32) (v1802 : BitVec 32) : Prop :=
  (8 ∣ (k0_mult15 v1630 v1802).toNat) ∧
  (∀ a, (k0_off169 v1630 v1635 v1661 v1802) a + S1x16x256.size a ≤ S200x216x256.size a) ∧
  (∀ a, (k0_off170 v1630 v1635 v1645 v1661 v1802) a + S1x16x256.size a ≤ S200x216x256.size a) ∧
  (∀ a, (k0_off190 v1630 v1635 v1670 v1802) a + S1x16x256.size a ≤ S200x216x256.size a) ∧
  (∀ a, (k0_off191 v1630 v1635 v1645 v1670 v1802) a + S1x16x256.size a ≤ S200x216x256.size a) ∧
  (∀ a, (k0_off211 v1630 v1635 v1679 v1802) a + S1x16x256.size a ≤ S200x216x256.size a) ∧
  (∀ a, (k0_off212 v1630 v1635 v1645 v1679 v1802) a + S1x16x256.size a ≤ S200x216x256.size a) ∧
  (∀ a, (k0_off232 v1630 v1635 v1688 v1802) a + S1x16x256.size a ≤ S200x216x256.size a) ∧
  (∀ a, (k0_off233 v1630 v1635 v1645 v1688 v1802) a + S1x16x256.size a ≤ S200x216x256.size a) ∧
  (∀ a, (k0_off253 v1630 v1635 v1697 v1802) a + S1x16x256.size a ≤ S200x216x256.size a) ∧
  (∀ a, (k0_off254 v1630 v1635 v1645 v1697 v1802) a + S1x16x256.size a ≤ S200x216x256.size a) ∧
  (∀ a, (k0_off274 v1630 v1635 v1706 v1802) a + S1x16x256.size a ≤ S200x216x256.size a) ∧
  (∀ a, (k0_off275 v1630 v1635 v1645 v1706 v1802) a + S1x16x256.size a ≤ S200x216x256.size a) ∧
  (∀ a, (k0_off295 v1630 v1635 v1715 v1802) a + S1x16x256.size a ≤ S200x216x256.size a) ∧
  (∀ a, (k0_off296 v1630 v1635 v1645 v1715 v1802) a + S1x16x256.size a ≤ S200x216x256.size a)
theorem k0_mult15_dvd : ∀ (v1630 : BitVec 32) (v1635 : BitVec 32) (v1645 : BitVec 32) (v1661 : BitVec 32) (v1670 : BitVec 32) (v1679 : BitVec 32) (v1688 : BitVec 32) (v1697 : BitVec 32) (v1706 : BitVec 32) (v1715 : BitVec 32) (v1802 : BitVec 32) (k0_hw14 : k0_chk14 v1630 v1635 v1645 v1661 v1670 v1679 v1688 v1697 v1706 v1715 v1802), 8 ∣ (k0_mult15 v1630 v1802).toNat := fun v1630 v1635 v1645 v1661 v1670 v1679 v1688 v1697 v1706 v1715 v1802 k0_hw14 => k0_hw14.1
theorem k0_off169_inb : ∀ (v1630 : BitVec 32) (v1635 : BitVec 32) (v1645 : BitVec 32) (v1661 : BitVec 32) (v1670 : BitVec 32) (v1679 : BitVec 32) (v1688 : BitVec 32) (v1697 : BitVec 32) (v1706 : BitVec 32) (v1715 : BitVec 32) (v1802 : BitVec 32) (k0_hw14 : k0_chk14 v1630 v1635 v1645 v1661 v1670 v1679 v1688 v1697 v1706 v1715 v1802), ∀ a, (k0_off169 v1630 v1635 v1661 v1802) a + S1x16x256.size a ≤ S200x216x256.size a := fun v1630 v1635 v1645 v1661 v1670 v1679 v1688 v1697 v1706 v1715 v1802 k0_hw14 => k0_hw14.2.1
theorem k0_off170_inb : ∀ (v1630 : BitVec 32) (v1635 : BitVec 32) (v1645 : BitVec 32) (v1661 : BitVec 32) (v1670 : BitVec 32) (v1679 : BitVec 32) (v1688 : BitVec 32) (v1697 : BitVec 32) (v1706 : BitVec 32) (v1715 : BitVec 32) (v1802 : BitVec 32) (k0_hw14 : k0_chk14 v1630 v1635 v1645 v1661 v1670 v1679 v1688 v1697 v1706 v1715 v1802), ∀ a, (k0_off170 v1630 v1635 v1645 v1661 v1802) a + S1x16x256.size a ≤ S200x216x256.size a := fun v1630 v1635 v1645 v1661 v1670 v1679 v1688 v1697 v1706 v1715 v1802 k0_hw14 => k0_hw14.2.2.1
theorem k0_off190_inb : ∀ (v1630 : BitVec 32) (v1635 : BitVec 32) (v1645 : BitVec 32) (v1661 : BitVec 32) (v1670 : BitVec 32) (v1679 : BitVec 32) (v1688 : BitVec 32) (v1697 : BitVec 32) (v1706 : BitVec 32) (v1715 : BitVec 32) (v1802 : BitVec 32) (k0_hw14 : k0_chk14 v1630 v1635 v1645 v1661 v1670 v1679 v1688 v1697 v1706 v1715 v1802), ∀ a, (k0_off190 v1630 v1635 v1670 v1802) a + S1x16x256.size a ≤ S200x216x256.size a := fun v1630 v1635 v1645 v1661 v1670 v1679 v1688 v1697 v1706 v1715 v1802 k0_hw14 => k0_hw14.2.2.2.1
theorem k0_off191_inb : ∀ (v1630 : BitVec 32) (v1635 : BitVec 32) (v1645 : BitVec 32) (v1661 : BitVec 32) (v1670 : BitVec 32) (v1679 : BitVec 32) (v1688 : BitVec 32) (v1697 : BitVec 32) (v1706 : BitVec 32) (v1715 : BitVec 32) (v1802 : BitVec 32) (k0_hw14 : k0_chk14 v1630 v1635 v1645 v1661 v1670 v1679 v1688 v1697 v1706 v1715 v1802), ∀ a, (k0_off191 v1630 v1635 v1645 v1670 v1802) a + S1x16x256.size a ≤ S200x216x256.size a := fun v1630 v1635 v1645 v1661 v1670 v1679 v1688 v1697 v1706 v1715 v1802 k0_hw14 => k0_hw14.2.2.2.2.1
theorem k0_off211_inb : ∀ (v1630 : BitVec 32) (v1635 : BitVec 32) (v1645 : BitVec 32) (v1661 : BitVec 32) (v1670 : BitVec 32) (v1679 : BitVec 32) (v1688 : BitVec 32) (v1697 : BitVec 32) (v1706 : BitVec 32) (v1715 : BitVec 32) (v1802 : BitVec 32) (k0_hw14 : k0_chk14 v1630 v1635 v1645 v1661 v1670 v1679 v1688 v1697 v1706 v1715 v1802), ∀ a, (k0_off211 v1630 v1635 v1679 v1802) a + S1x16x256.size a ≤ S200x216x256.size a := fun v1630 v1635 v1645 v1661 v1670 v1679 v1688 v1697 v1706 v1715 v1802 k0_hw14 => k0_hw14.2.2.2.2.2.1
theorem k0_off212_inb : ∀ (v1630 : BitVec 32) (v1635 : BitVec 32) (v1645 : BitVec 32) (v1661 : BitVec 32) (v1670 : BitVec 32) (v1679 : BitVec 32) (v1688 : BitVec 32) (v1697 : BitVec 32) (v1706 : BitVec 32) (v1715 : BitVec 32) (v1802 : BitVec 32) (k0_hw14 : k0_chk14 v1630 v1635 v1645 v1661 v1670 v1679 v1688 v1697 v1706 v1715 v1802), ∀ a, (k0_off212 v1630 v1635 v1645 v1679 v1802) a + S1x16x256.size a ≤ S200x216x256.size a := fun v1630 v1635 v1645 v1661 v1670 v1679 v1688 v1697 v1706 v1715 v1802 k0_hw14 => k0_hw14.2.2.2.2.2.2.1
theorem k0_off232_inb : ∀ (v1630 : BitVec 32) (v1635 : BitVec 32) (v1645 : BitVec 32) (v1661 : BitVec 32) (v1670 : BitVec 32) (v1679 : BitVec 32) (v1688 : BitVec 32) (v1697 : BitVec 32) (v1706 : BitVec 32) (v1715 : BitVec 32) (v1802 : BitVec 32) (k0_hw14 : k0_chk14 v1630 v1635 v1645 v1661 v1670 v1679 v1688 v1697 v1706 v1715 v1802), ∀ a, (k0_off232 v1630 v1635 v1688 v1802) a + S1x16x256.size a ≤ S200x216x256.size a := fun v1630 v1635 v1645 v1661 v1670 v1679 v1688 v1697 v1706 v1715 v1802 k0_hw14 => k0_hw14.2.2.2.2.2.2.2.1
theorem k0_off233_inb : ∀ (v1630 : BitVec 32) (v1635 : BitVec 32) (v1645 : BitVec 32) (v1661 : BitVec 32) (v1670 : BitVec 32) (v1679 : BitVec 32) (v1688 : BitVec 32) (v1697 : BitVec 32) (v1706 : BitVec 32) (v1715 : BitVec 32) (v1802 : BitVec 32) (k0_hw14 : k0_chk14 v1630 v1635 v1645 v1661 v1670 v1679 v1688 v1697 v1706 v1715 v1802), ∀ a, (k0_off233 v1630 v1635 v1645 v1688 v1802) a + S1x16x256.size a ≤ S200x216x256.size a := fun v1630 v1635 v1645 v1661 v1670 v1679 v1688 v1697 v1706 v1715 v1802 k0_hw14 => k0_hw14.2.2.2.2.2.2.2.2.1
theorem k0_off253_inb : ∀ (v1630 : BitVec 32) (v1635 : BitVec 32) (v1645 : BitVec 32) (v1661 : BitVec 32) (v1670 : BitVec 32) (v1679 : BitVec 32) (v1688 : BitVec 32) (v1697 : BitVec 32) (v1706 : BitVec 32) (v1715 : BitVec 32) (v1802 : BitVec 32) (k0_hw14 : k0_chk14 v1630 v1635 v1645 v1661 v1670 v1679 v1688 v1697 v1706 v1715 v1802), ∀ a, (k0_off253 v1630 v1635 v1697 v1802) a + S1x16x256.size a ≤ S200x216x256.size a := fun v1630 v1635 v1645 v1661 v1670 v1679 v1688 v1697 v1706 v1715 v1802 k0_hw14 => k0_hw14.2.2.2.2.2.2.2.2.2.1
theorem k0_off254_inb : ∀ (v1630 : BitVec 32) (v1635 : BitVec 32) (v1645 : BitVec 32) (v1661 : BitVec 32) (v1670 : BitVec 32) (v1679 : BitVec 32) (v1688 : BitVec 32) (v1697 : BitVec 32) (v1706 : BitVec 32) (v1715 : BitVec 32) (v1802 : BitVec 32) (k0_hw14 : k0_chk14 v1630 v1635 v1645 v1661 v1670 v1679 v1688 v1697 v1706 v1715 v1802), ∀ a, (k0_off254 v1630 v1635 v1645 v1697 v1802) a + S1x16x256.size a ≤ S200x216x256.size a := fun v1630 v1635 v1645 v1661 v1670 v1679 v1688 v1697 v1706 v1715 v1802 k0_hw14 => k0_hw14.2.2.2.2.2.2.2.2.2.2.1
theorem k0_off274_inb : ∀ (v1630 : BitVec 32) (v1635 : BitVec 32) (v1645 : BitVec 32) (v1661 : BitVec 32) (v1670 : BitVec 32) (v1679 : BitVec 32) (v1688 : BitVec 32) (v1697 : BitVec 32) (v1706 : BitVec 32) (v1715 : BitVec 32) (v1802 : BitVec 32) (k0_hw14 : k0_chk14 v1630 v1635 v1645 v1661 v1670 v1679 v1688 v1697 v1706 v1715 v1802), ∀ a, (k0_off274 v1630 v1635 v1706 v1802) a + S1x16x256.size a ≤ S200x216x256.size a := fun v1630 v1635 v1645 v1661 v1670 v1679 v1688 v1697 v1706 v1715 v1802 k0_hw14 => k0_hw14.2.2.2.2.2.2.2.2.2.2.2.1
theorem k0_off275_inb : ∀ (v1630 : BitVec 32) (v1635 : BitVec 32) (v1645 : BitVec 32) (v1661 : BitVec 32) (v1670 : BitVec 32) (v1679 : BitVec 32) (v1688 : BitVec 32) (v1697 : BitVec 32) (v1706 : BitVec 32) (v1715 : BitVec 32) (v1802 : BitVec 32) (k0_hw14 : k0_chk14 v1630 v1635 v1645 v1661 v1670 v1679 v1688 v1697 v1706 v1715 v1802), ∀ a, (k0_off275 v1630 v1635 v1645 v1706 v1802) a + S1x16x256.size a ≤ S200x216x256.size a := fun v1630 v1635 v1645 v1661 v1670 v1679 v1688 v1697 v1706 v1715 v1802 k0_hw14 => k0_hw14.2.2.2.2.2.2.2.2.2.2.2.2.1
theorem k0_off295_inb : ∀ (v1630 : BitVec 32) (v1635 : BitVec 32) (v1645 : BitVec 32) (v1661 : BitVec 32) (v1670 : BitVec 32) (v1679 : BitVec 32) (v1688 : BitVec 32) (v1697 : BitVec 32) (v1706 : BitVec 32) (v1715 : BitVec 32) (v1802 : BitVec 32) (k0_hw14 : k0_chk14 v1630 v1635 v1645 v1661 v1670 v1679 v1688 v1697 v1706 v1715 v1802), ∀ a, (k0_off295 v1630 v1635 v1715 v1802) a + S1x16x256.size a ≤ S200x216x256.size a := fun v1630 v1635 v1645 v1661 v1670 v1679 v1688 v1697 v1706 v1715 v1802 k0_hw14 => k0_hw14.2.2.2.2.2.2.2.2.2.2.2.2.2.1
theorem k0_off296_inb : ∀ (v1630 : BitVec 32) (v1635 : BitVec 32) (v1645 : BitVec 32) (v1661 : BitVec 32) (v1670 : BitVec 32) (v1679 : BitVec 32) (v1688 : BitVec 32) (v1697 : BitVec 32) (v1706 : BitVec 32) (v1715 : BitVec 32) (v1802 : BitVec 32) (k0_hw14 : k0_chk14 v1630 v1635 v1645 v1661 v1670 v1679 v1688 v1697 v1706 v1715 v1802), ∀ a, (k0_off296 v1630 v1635 v1645 v1715 v1802) a + S1x16x256.size a ≤ S200x216x256.size a := fun v1630 v1635 v1645 v1661 v1670 v1679 v1688 v1697 v1706 v1715 v1802 k0_hw14 => k0_hw14.2.2.2.2.2.2.2.2.2.2.2.2.2.2

def k0_off297 (k0_t1 : Fin k0_t1_loop.trips) : Fin 3 → Nat :=
  let c48_741 : Index := 48#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c1_i32_345 : BitVec 32 := 1#32
  let v1622 : BitVec 32 := Scalar.addi v5 c1_i32_345
  let v3234 : Index := Scalar.indexCast v1622
  let c0_742 : Index := 0#32
  ![48, v3234.toNat, 0]
def k0_off298 (i : grid0.Coords) (k0_t1 : Fin k0_t1_loop.trips) (c0_i32_747 : BitVec 32) : Fin 1 → Nat :=
  let arg0 : BitVec 32 := BitVec.ofNat 32 (i 0).val
  let c256_i32_744 : BitVec 32 := 256#32
  let v3239 : BitVec 32 := Scalar.muli arg0 c256_i32_744
  let arg1 : BitVec 32 := BitVec.ofNat 32 (i 1).val
  let c32_i32_745 : BitVec 32 := 32#32
  let v3240 : BitVec 32 := Scalar.muli arg1 c32_i32_745
  let v3241 : BitVec 32 := Scalar.addi v3239 v3240
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c2_i32_743 : BitVec 32 := 2#32
  let v3238 : BitVec 32 := Scalar.addi v5 c2_i32_743
  let v3242 : BitVec 32 := Scalar.addi v3241 v3238
  let c4_i32_746 : BitVec 32 := 4#32
  let v3243 : BitVec 32 := Scalar.muli v3242 c4_i32_746
  let v3244 : BitVec 32 := Scalar.addi v3243 c0_i32_747
  let v3245 : Index := Scalar.indexCast v3244
  ![v3245.toNat]
def k0_mult16 (v3246 : BitVec 32) (v3340 : BitVec 32) : BitVec 32 :=
  let c199_i32_749 : BitVec 32 := 199#32
  let c0_i32_748 : BitVec 32 := 0#32
  let v3247 : BitVec 32 := Scalar.maxsi c0_i32_748 v3246
  let v3248 : BitVec 32 := Scalar.minsi c199_i32_749 v3247
  let v3341 : BitVec 32 := Scalar.addi v3248 v3340
  let c3_i32_795 : BitVec 32 := 3#32
  let v3344 : BitVec 32 := Scalar.shrsi v3341 c3_i32_795
  let c3_i32_796 : BitVec 32 := 3#32
  let v3345 : BitVec 32 := Scalar.shli v3344 c3_i32_796
  v3345

def k0_mult17 (v3246 : BitVec 32) (v3353 : BitVec 32) : BitVec 32 :=
  let c199_i32_749 : BitVec 32 := 199#32
  let c0_i32_748 : BitVec 32 := 0#32
  let v3247 : BitVec 32 := Scalar.maxsi c0_i32_748 v3246
  let v3248 : BitVec 32 := Scalar.minsi c199_i32_749 v3247
  let v3354 : BitVec 32 := Scalar.addi v3248 v3353
  let c3_i32_802 : BitVec 32 := 3#32
  let v3357 : BitVec 32 := Scalar.shrsi v3354 c3_i32_802
  let c3_i32_803 : BitVec 32 := 3#32
  let v3358 : BitVec 32 := Scalar.shli v3357 c3_i32_803
  v3358

def k0_mult18 (v3246 : BitVec 32) (v3366 : BitVec 32) : BitVec 32 :=
  let c199_i32_749 : BitVec 32 := 199#32
  let c0_i32_748 : BitVec 32 := 0#32
  let v3247 : BitVec 32 := Scalar.maxsi c0_i32_748 v3246
  let v3248 : BitVec 32 := Scalar.minsi c199_i32_749 v3247
  let v3367 : BitVec 32 := Scalar.addi v3248 v3366
  let c3_i32_809 : BitVec 32 := 3#32
  let v3370 : BitVec 32 := Scalar.shrsi v3367 c3_i32_809
  let c3_i32_810 : BitVec 32 := 3#32
  let v3371 : BitVec 32 := Scalar.shli v3370 c3_i32_810
  v3371

def k0_mult19 (v3246 : BitVec 32) (v3379 : BitVec 32) : BitVec 32 :=
  let c199_i32_749 : BitVec 32 := 199#32
  let c0_i32_748 : BitVec 32 := 0#32
  let v3247 : BitVec 32 := Scalar.maxsi c0_i32_748 v3246
  let v3248 : BitVec 32 := Scalar.minsi c199_i32_749 v3247
  let v3380 : BitVec 32 := Scalar.addi v3248 v3379
  let c3_i32_816 : BitVec 32 := 3#32
  let v3383 : BitVec 32 := Scalar.shrsi v3380 c3_i32_816
  let c3_i32_817 : BitVec 32 := 3#32
  let v3384 : BitVec 32 := Scalar.shli v3383 c3_i32_817
  v3384

def k0_mult20 (v3246 : BitVec 32) (v3392 : BitVec 32) : BitVec 32 :=
  let c199_i32_749 : BitVec 32 := 199#32
  let c0_i32_748 : BitVec 32 := 0#32
  let v3247 : BitVec 32 := Scalar.maxsi c0_i32_748 v3246
  let v3248 : BitVec 32 := Scalar.minsi c199_i32_749 v3247
  let v3393 : BitVec 32 := Scalar.addi v3248 v3392
  let c3_i32_823 : BitVec 32 := 3#32
  let v3396 : BitVec 32 := Scalar.shrsi v3393 c3_i32_823
  let c3_i32_824 : BitVec 32 := 3#32
  let v3397 : BitVec 32 := Scalar.shli v3396 c3_i32_824
  v3397

def k0_mult21 (v3246 : BitVec 32) (v3405 : BitVec 32) : BitVec 32 :=
  let c199_i32_749 : BitVec 32 := 199#32
  let c0_i32_748 : BitVec 32 := 0#32
  let v3247 : BitVec 32 := Scalar.maxsi c0_i32_748 v3246
  let v3248 : BitVec 32 := Scalar.minsi c199_i32_749 v3247
  let v3406 : BitVec 32 := Scalar.addi v3248 v3405
  let c3_i32_830 : BitVec 32 := 3#32
  let v3409 : BitVec 32 := Scalar.shrsi v3406 c3_i32_830
  let c3_i32_831 : BitVec 32 := 3#32
  let v3410 : BitVec 32 := Scalar.shli v3409 c3_i32_831
  v3410

def k0_mult22 (v3246 : BitVec 32) (v3418 : BitVec 32) : BitVec 32 :=
  let c199_i32_749 : BitVec 32 := 199#32
  let c0_i32_748 : BitVec 32 := 0#32
  let v3247 : BitVec 32 := Scalar.maxsi c0_i32_748 v3246
  let v3248 : BitVec 32 := Scalar.minsi c199_i32_749 v3247
  let v3419 : BitVec 32 := Scalar.addi v3248 v3418
  let c3_i32_837 : BitVec 32 := 3#32
  let v3422 : BitVec 32 := Scalar.shrsi v3419 c3_i32_837
  let c3_i32_838 : BitVec 32 := 3#32
  let v3423 : BitVec 32 := Scalar.shli v3422 c3_i32_838
  v3423

def k0_off299 (v3246 : BitVec 32) (v3251 : BitVec 32) (v3277 : BitVec 32) (v3340 : BitVec 32) : Fin 3 → Nat :=
  let c199_i32_752 : BitVec 32 := 199#32
  let c0_i32_751 : BitVec 32 := 0#32
  let v3252 : BitVec 32 := Scalar.maxsi c0_i32_751 v3251
  let v3253 : BitVec 32 := Scalar.minsi c199_i32_752 v3252
  let v3278 : BitVec 32 := Scalar.addi v3253 v3277
  let v3428 : Index := Scalar.indexCast v3278
  let c199_i32_749 : BitVec 32 := 199#32
  let c0_i32_748 : BitVec 32 := 0#32
  let v3247 : BitVec 32 := Scalar.maxsi c0_i32_748 v3246
  let v3248 : BitVec 32 := Scalar.minsi c199_i32_749 v3247
  let v3341 : BitVec 32 := Scalar.addi v3248 v3340
  let c3_i32_795 : BitVec 32 := 3#32
  let v3344 : BitVec 32 := Scalar.shrsi v3341 c3_i32_795
  let c3_i32_796 : BitVec 32 := 3#32
  let v3345 : BitVec 32 := Scalar.shli v3344 c3_i32_796
  let v3346 : BitVec 32 := v3345
  let v3429 : Index := Scalar.indexCast v3346
  let c0_842 : Index := 0#32
  ![v3428.toNat, v3429.toNat, 0]
def k0_off300 (v3246 : BitVec 32) (v3251 : BitVec 32) (v3261 : BitVec 32) (v3277 : BitVec 32) (v3340 : BitVec 32) : Fin 3 → Nat :=
  let c199_i32_752 : BitVec 32 := 199#32
  let c0_i32_751 : BitVec 32 := 0#32
  let v3252 : BitVec 32 := Scalar.maxsi c0_i32_751 v3251
  let v3253 : BitVec 32 := Scalar.minsi c199_i32_752 v3252
  let v3278 : BitVec 32 := Scalar.addi v3253 v3277
  let c1_i32_766 : BitVec 32 := 1#32
  let v3279 : BitVec 32 := Scalar.addi v3278 c1_i32_766
  let c199_i32_758 : BitVec 32 := 199#32
  let c0_i32_757 : BitVec 32 := 0#32
  let v3262 : BitVec 32 := Scalar.maxsi c0_i32_757 v3261
  let v3263 : BitVec 32 := Scalar.minsi c199_i32_758 v3262
  let v3280 : BitVec 32 := Scalar.minsi v3279 v3263
  let v3432 : Index := Scalar.indexCast v3280
  let c199_i32_749 : BitVec 32 := 199#32
  let c0_i32_748 : BitVec 32 := 0#32
  let v3247 : BitVec 32 := Scalar.maxsi c0_i32_748 v3246
  let v3248 : BitVec 32 := Scalar.minsi c199_i32_749 v3247
  let v3341 : BitVec 32 := Scalar.addi v3248 v3340
  let c3_i32_795 : BitVec 32 := 3#32
  let v3344 : BitVec 32 := Scalar.shrsi v3341 c3_i32_795
  let c3_i32_796 : BitVec 32 := 3#32
  let v3345 : BitVec 32 := Scalar.shli v3344 c3_i32_796
  let v3346 : BitVec 32 := v3345
  let v3433 : Index := Scalar.indexCast v3346
  let c0_843 : Index := 0#32
  ![v3432.toNat, v3433.toNat, 0]
def k0_off301 (k0_t1 : Fin k0_t1_loop.trips) : Fin 3 → Nat :=
  let c0_845 : Index := 0#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c2_i32_743 : BitVec 32 := 2#32
  let v3238 : BitVec 32 := Scalar.addi v5 c2_i32_743
  let v3452 : Index := Scalar.indexCast v3238
  let c0_846 : Index := 0#32
  ![0, v3452.toNat, 0]
def k0_off302 (v3246 : BitVec 32) (v3251 : BitVec 32) (v3277 : BitVec 32) (v3353 : BitVec 32) : Fin 3 → Nat :=
  let c199_i32_752 : BitVec 32 := 199#32
  let c0_i32_751 : BitVec 32 := 0#32
  let v3252 : BitVec 32 := Scalar.maxsi c0_i32_751 v3251
  let v3253 : BitVec 32 := Scalar.minsi c199_i32_752 v3252
  let v3278 : BitVec 32 := Scalar.addi v3253 v3277
  let v3457 : Index := Scalar.indexCast v3278
  let c199_i32_749 : BitVec 32 := 199#32
  let c0_i32_748 : BitVec 32 := 0#32
  let v3247 : BitVec 32 := Scalar.maxsi c0_i32_748 v3246
  let v3248 : BitVec 32 := Scalar.minsi c199_i32_749 v3247
  let v3354 : BitVec 32 := Scalar.addi v3248 v3353
  let c3_i32_802 : BitVec 32 := 3#32
  let v3357 : BitVec 32 := Scalar.shrsi v3354 c3_i32_802
  let c3_i32_803 : BitVec 32 := 3#32
  let v3358 : BitVec 32 := Scalar.shli v3357 c3_i32_803
  let v3359 : BitVec 32 := v3358
  let v3458 : Index := Scalar.indexCast v3359
  let c0_848 : Index := 0#32
  ![v3457.toNat, v3458.toNat, 0]
def k0_off303 (v3246 : BitVec 32) (v3251 : BitVec 32) (v3261 : BitVec 32) (v3277 : BitVec 32) (v3353 : BitVec 32) : Fin 3 → Nat :=
  let c199_i32_752 : BitVec 32 := 199#32
  let c0_i32_751 : BitVec 32 := 0#32
  let v3252 : BitVec 32 := Scalar.maxsi c0_i32_751 v3251
  let v3253 : BitVec 32 := Scalar.minsi c199_i32_752 v3252
  let v3278 : BitVec 32 := Scalar.addi v3253 v3277
  let c1_i32_766 : BitVec 32 := 1#32
  let v3279 : BitVec 32 := Scalar.addi v3278 c1_i32_766
  let c199_i32_758 : BitVec 32 := 199#32
  let c0_i32_757 : BitVec 32 := 0#32
  let v3262 : BitVec 32 := Scalar.maxsi c0_i32_757 v3261
  let v3263 : BitVec 32 := Scalar.minsi c199_i32_758 v3262
  let v3280 : BitVec 32 := Scalar.minsi v3279 v3263
  let v3461 : Index := Scalar.indexCast v3280
  let c199_i32_749 : BitVec 32 := 199#32
  let c0_i32_748 : BitVec 32 := 0#32
  let v3247 : BitVec 32 := Scalar.maxsi c0_i32_748 v3246
  let v3248 : BitVec 32 := Scalar.minsi c199_i32_749 v3247
  let v3354 : BitVec 32 := Scalar.addi v3248 v3353
  let c3_i32_802 : BitVec 32 := 3#32
  let v3357 : BitVec 32 := Scalar.shrsi v3354 c3_i32_802
  let c3_i32_803 : BitVec 32 := 3#32
  let v3358 : BitVec 32 := Scalar.shli v3357 c3_i32_803
  let v3359 : BitVec 32 := v3358
  let v3462 : Index := Scalar.indexCast v3359
  let c0_849 : Index := 0#32
  ![v3461.toNat, v3462.toNat, 0]
def k0_off304 (k0_t1 : Fin k0_t1_loop.trips) : Fin 3 → Nat :=
  let c1_851 : Index := 1#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c2_i32_743 : BitVec 32 := 2#32
  let v3238 : BitVec 32 := Scalar.addi v5 c2_i32_743
  let v3481 : Index := Scalar.indexCast v3238
  let c0_852 : Index := 0#32
  ![1, v3481.toNat, 0]
def k0_off305 (v3246 : BitVec 32) (v3251 : BitVec 32) (v3277 : BitVec 32) (v3366 : BitVec 32) : Fin 3 → Nat :=
  let c199_i32_752 : BitVec 32 := 199#32
  let c0_i32_751 : BitVec 32 := 0#32
  let v3252 : BitVec 32 := Scalar.maxsi c0_i32_751 v3251
  let v3253 : BitVec 32 := Scalar.minsi c199_i32_752 v3252
  let v3278 : BitVec 32 := Scalar.addi v3253 v3277
  let v3486 : Index := Scalar.indexCast v3278
  let c199_i32_749 : BitVec 32 := 199#32
  let c0_i32_748 : BitVec 32 := 0#32
  let v3247 : BitVec 32 := Scalar.maxsi c0_i32_748 v3246
  let v3248 : BitVec 32 := Scalar.minsi c199_i32_749 v3247
  let v3367 : BitVec 32 := Scalar.addi v3248 v3366
  let c3_i32_809 : BitVec 32 := 3#32
  let v3370 : BitVec 32 := Scalar.shrsi v3367 c3_i32_809
  let c3_i32_810 : BitVec 32 := 3#32
  let v3371 : BitVec 32 := Scalar.shli v3370 c3_i32_810
  let v3372 : BitVec 32 := v3371
  let v3487 : Index := Scalar.indexCast v3372
  let c0_854 : Index := 0#32
  ![v3486.toNat, v3487.toNat, 0]
def k0_off306 (v3246 : BitVec 32) (v3251 : BitVec 32) (v3261 : BitVec 32) (v3277 : BitVec 32) (v3366 : BitVec 32) : Fin 3 → Nat :=
  let c199_i32_752 : BitVec 32 := 199#32
  let c0_i32_751 : BitVec 32 := 0#32
  let v3252 : BitVec 32 := Scalar.maxsi c0_i32_751 v3251
  let v3253 : BitVec 32 := Scalar.minsi c199_i32_752 v3252
  let v3278 : BitVec 32 := Scalar.addi v3253 v3277
  let c1_i32_766 : BitVec 32 := 1#32
  let v3279 : BitVec 32 := Scalar.addi v3278 c1_i32_766
  let c199_i32_758 : BitVec 32 := 199#32
  let c0_i32_757 : BitVec 32 := 0#32
  let v3262 : BitVec 32 := Scalar.maxsi c0_i32_757 v3261
  let v3263 : BitVec 32 := Scalar.minsi c199_i32_758 v3262
  let v3280 : BitVec 32 := Scalar.minsi v3279 v3263
  let v3490 : Index := Scalar.indexCast v3280
  let c199_i32_749 : BitVec 32 := 199#32
  let c0_i32_748 : BitVec 32 := 0#32
  let v3247 : BitVec 32 := Scalar.maxsi c0_i32_748 v3246
  let v3248 : BitVec 32 := Scalar.minsi c199_i32_749 v3247
  let v3367 : BitVec 32 := Scalar.addi v3248 v3366
  let c3_i32_809 : BitVec 32 := 3#32
  let v3370 : BitVec 32 := Scalar.shrsi v3367 c3_i32_809
  let c3_i32_810 : BitVec 32 := 3#32
  let v3371 : BitVec 32 := Scalar.shli v3370 c3_i32_810
  let v3372 : BitVec 32 := v3371
  let v3491 : Index := Scalar.indexCast v3372
  let c0_855 : Index := 0#32
  ![v3490.toNat, v3491.toNat, 0]
def k0_off307 (k0_t1 : Fin k0_t1_loop.trips) : Fin 3 → Nat :=
  let c2_857 : Index := 2#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c2_i32_743 : BitVec 32 := 2#32
  let v3238 : BitVec 32 := Scalar.addi v5 c2_i32_743
  let v3510 : Index := Scalar.indexCast v3238
  let c0_858 : Index := 0#32
  ![2, v3510.toNat, 0]
def k0_off308 (v3246 : BitVec 32) (v3251 : BitVec 32) (v3277 : BitVec 32) (v3379 : BitVec 32) : Fin 3 → Nat :=
  let c199_i32_752 : BitVec 32 := 199#32
  let c0_i32_751 : BitVec 32 := 0#32
  let v3252 : BitVec 32 := Scalar.maxsi c0_i32_751 v3251
  let v3253 : BitVec 32 := Scalar.minsi c199_i32_752 v3252
  let v3278 : BitVec 32 := Scalar.addi v3253 v3277
  let v3515 : Index := Scalar.indexCast v3278
  let c199_i32_749 : BitVec 32 := 199#32
  let c0_i32_748 : BitVec 32 := 0#32
  let v3247 : BitVec 32 := Scalar.maxsi c0_i32_748 v3246
  let v3248 : BitVec 32 := Scalar.minsi c199_i32_749 v3247
  let v3380 : BitVec 32 := Scalar.addi v3248 v3379
  let c3_i32_816 : BitVec 32 := 3#32
  let v3383 : BitVec 32 := Scalar.shrsi v3380 c3_i32_816
  let c3_i32_817 : BitVec 32 := 3#32
  let v3384 : BitVec 32 := Scalar.shli v3383 c3_i32_817
  let v3385 : BitVec 32 := v3384
  let v3516 : Index := Scalar.indexCast v3385
  let c0_860 : Index := 0#32
  ![v3515.toNat, v3516.toNat, 0]
def k0_off309 (v3246 : BitVec 32) (v3251 : BitVec 32) (v3261 : BitVec 32) (v3277 : BitVec 32) (v3379 : BitVec 32) : Fin 3 → Nat :=
  let c199_i32_752 : BitVec 32 := 199#32
  let c0_i32_751 : BitVec 32 := 0#32
  let v3252 : BitVec 32 := Scalar.maxsi c0_i32_751 v3251
  let v3253 : BitVec 32 := Scalar.minsi c199_i32_752 v3252
  let v3278 : BitVec 32 := Scalar.addi v3253 v3277
  let c1_i32_766 : BitVec 32 := 1#32
  let v3279 : BitVec 32 := Scalar.addi v3278 c1_i32_766
  let c199_i32_758 : BitVec 32 := 199#32
  let c0_i32_757 : BitVec 32 := 0#32
  let v3262 : BitVec 32 := Scalar.maxsi c0_i32_757 v3261
  let v3263 : BitVec 32 := Scalar.minsi c199_i32_758 v3262
  let v3280 : BitVec 32 := Scalar.minsi v3279 v3263
  let v3519 : Index := Scalar.indexCast v3280
  let c199_i32_749 : BitVec 32 := 199#32
  let c0_i32_748 : BitVec 32 := 0#32
  let v3247 : BitVec 32 := Scalar.maxsi c0_i32_748 v3246
  let v3248 : BitVec 32 := Scalar.minsi c199_i32_749 v3247
  let v3380 : BitVec 32 := Scalar.addi v3248 v3379
  let c3_i32_816 : BitVec 32 := 3#32
  let v3383 : BitVec 32 := Scalar.shrsi v3380 c3_i32_816
  let c3_i32_817 : BitVec 32 := 3#32
  let v3384 : BitVec 32 := Scalar.shli v3383 c3_i32_817
  let v3385 : BitVec 32 := v3384
  let v3520 : Index := Scalar.indexCast v3385
  let c0_861 : Index := 0#32
  ![v3519.toNat, v3520.toNat, 0]
def k0_off310 (k0_t1 : Fin k0_t1_loop.trips) : Fin 3 → Nat :=
  let c3_863 : Index := 3#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c2_i32_743 : BitVec 32 := 2#32
  let v3238 : BitVec 32 := Scalar.addi v5 c2_i32_743
  let v3539 : Index := Scalar.indexCast v3238
  let c0_864 : Index := 0#32
  ![3, v3539.toNat, 0]
def k0_off311 (v3246 : BitVec 32) (v3251 : BitVec 32) (v3277 : BitVec 32) (v3392 : BitVec 32) : Fin 3 → Nat :=
  let c199_i32_752 : BitVec 32 := 199#32
  let c0_i32_751 : BitVec 32 := 0#32
  let v3252 : BitVec 32 := Scalar.maxsi c0_i32_751 v3251
  let v3253 : BitVec 32 := Scalar.minsi c199_i32_752 v3252
  let v3278 : BitVec 32 := Scalar.addi v3253 v3277
  let v3544 : Index := Scalar.indexCast v3278
  let c199_i32_749 : BitVec 32 := 199#32
  let c0_i32_748 : BitVec 32 := 0#32
  let v3247 : BitVec 32 := Scalar.maxsi c0_i32_748 v3246
  let v3248 : BitVec 32 := Scalar.minsi c199_i32_749 v3247
  let v3393 : BitVec 32 := Scalar.addi v3248 v3392
  let c3_i32_823 : BitVec 32 := 3#32
  let v3396 : BitVec 32 := Scalar.shrsi v3393 c3_i32_823
  let c3_i32_824 : BitVec 32 := 3#32
  let v3397 : BitVec 32 := Scalar.shli v3396 c3_i32_824
  let v3398 : BitVec 32 := v3397
  let v3545 : Index := Scalar.indexCast v3398
  let c0_866 : Index := 0#32
  ![v3544.toNat, v3545.toNat, 0]
def k0_off312 (v3246 : BitVec 32) (v3251 : BitVec 32) (v3261 : BitVec 32) (v3277 : BitVec 32) (v3392 : BitVec 32) : Fin 3 → Nat :=
  let c199_i32_752 : BitVec 32 := 199#32
  let c0_i32_751 : BitVec 32 := 0#32
  let v3252 : BitVec 32 := Scalar.maxsi c0_i32_751 v3251
  let v3253 : BitVec 32 := Scalar.minsi c199_i32_752 v3252
  let v3278 : BitVec 32 := Scalar.addi v3253 v3277
  let c1_i32_766 : BitVec 32 := 1#32
  let v3279 : BitVec 32 := Scalar.addi v3278 c1_i32_766
  let c199_i32_758 : BitVec 32 := 199#32
  let c0_i32_757 : BitVec 32 := 0#32
  let v3262 : BitVec 32 := Scalar.maxsi c0_i32_757 v3261
  let v3263 : BitVec 32 := Scalar.minsi c199_i32_758 v3262
  let v3280 : BitVec 32 := Scalar.minsi v3279 v3263
  let v3548 : Index := Scalar.indexCast v3280
  let c199_i32_749 : BitVec 32 := 199#32
  let c0_i32_748 : BitVec 32 := 0#32
  let v3247 : BitVec 32 := Scalar.maxsi c0_i32_748 v3246
  let v3248 : BitVec 32 := Scalar.minsi c199_i32_749 v3247
  let v3393 : BitVec 32 := Scalar.addi v3248 v3392
  let c3_i32_823 : BitVec 32 := 3#32
  let v3396 : BitVec 32 := Scalar.shrsi v3393 c3_i32_823
  let c3_i32_824 : BitVec 32 := 3#32
  let v3397 : BitVec 32 := Scalar.shli v3396 c3_i32_824
  let v3398 : BitVec 32 := v3397
  let v3549 : Index := Scalar.indexCast v3398
  let c0_867 : Index := 0#32
  ![v3548.toNat, v3549.toNat, 0]
def k0_off313 (k0_t1 : Fin k0_t1_loop.trips) : Fin 3 → Nat :=
  let c4_869 : Index := 4#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c2_i32_743 : BitVec 32 := 2#32
  let v3238 : BitVec 32 := Scalar.addi v5 c2_i32_743
  let v3568 : Index := Scalar.indexCast v3238
  let c0_870 : Index := 0#32
  ![4, v3568.toNat, 0]
def k0_off314 (v3246 : BitVec 32) (v3251 : BitVec 32) (v3277 : BitVec 32) (v3405 : BitVec 32) : Fin 3 → Nat :=
  let c199_i32_752 : BitVec 32 := 199#32
  let c0_i32_751 : BitVec 32 := 0#32
  let v3252 : BitVec 32 := Scalar.maxsi c0_i32_751 v3251
  let v3253 : BitVec 32 := Scalar.minsi c199_i32_752 v3252
  let v3278 : BitVec 32 := Scalar.addi v3253 v3277
  let v3573 : Index := Scalar.indexCast v3278
  let c199_i32_749 : BitVec 32 := 199#32
  let c0_i32_748 : BitVec 32 := 0#32
  let v3247 : BitVec 32 := Scalar.maxsi c0_i32_748 v3246
  let v3248 : BitVec 32 := Scalar.minsi c199_i32_749 v3247
  let v3406 : BitVec 32 := Scalar.addi v3248 v3405
  let c3_i32_830 : BitVec 32 := 3#32
  let v3409 : BitVec 32 := Scalar.shrsi v3406 c3_i32_830
  let c3_i32_831 : BitVec 32 := 3#32
  let v3410 : BitVec 32 := Scalar.shli v3409 c3_i32_831
  let v3411 : BitVec 32 := v3410
  let v3574 : Index := Scalar.indexCast v3411
  let c0_872 : Index := 0#32
  ![v3573.toNat, v3574.toNat, 0]
def k0_off315 (v3246 : BitVec 32) (v3251 : BitVec 32) (v3261 : BitVec 32) (v3277 : BitVec 32) (v3405 : BitVec 32) : Fin 3 → Nat :=
  let c199_i32_752 : BitVec 32 := 199#32
  let c0_i32_751 : BitVec 32 := 0#32
  let v3252 : BitVec 32 := Scalar.maxsi c0_i32_751 v3251
  let v3253 : BitVec 32 := Scalar.minsi c199_i32_752 v3252
  let v3278 : BitVec 32 := Scalar.addi v3253 v3277
  let c1_i32_766 : BitVec 32 := 1#32
  let v3279 : BitVec 32 := Scalar.addi v3278 c1_i32_766
  let c199_i32_758 : BitVec 32 := 199#32
  let c0_i32_757 : BitVec 32 := 0#32
  let v3262 : BitVec 32 := Scalar.maxsi c0_i32_757 v3261
  let v3263 : BitVec 32 := Scalar.minsi c199_i32_758 v3262
  let v3280 : BitVec 32 := Scalar.minsi v3279 v3263
  let v3577 : Index := Scalar.indexCast v3280
  let c199_i32_749 : BitVec 32 := 199#32
  let c0_i32_748 : BitVec 32 := 0#32
  let v3247 : BitVec 32 := Scalar.maxsi c0_i32_748 v3246
  let v3248 : BitVec 32 := Scalar.minsi c199_i32_749 v3247
  let v3406 : BitVec 32 := Scalar.addi v3248 v3405
  let c3_i32_830 : BitVec 32 := 3#32
  let v3409 : BitVec 32 := Scalar.shrsi v3406 c3_i32_830
  let c3_i32_831 : BitVec 32 := 3#32
  let v3410 : BitVec 32 := Scalar.shli v3409 c3_i32_831
  let v3411 : BitVec 32 := v3410
  let v3578 : Index := Scalar.indexCast v3411
  let c0_873 : Index := 0#32
  ![v3577.toNat, v3578.toNat, 0]
def k0_off316 (k0_t1 : Fin k0_t1_loop.trips) : Fin 3 → Nat :=
  let c5_875 : Index := 5#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c2_i32_743 : BitVec 32 := 2#32
  let v3238 : BitVec 32 := Scalar.addi v5 c2_i32_743
  let v3597 : Index := Scalar.indexCast v3238
  let c0_876 : Index := 0#32
  ![5, v3597.toNat, 0]
def k0_off317 (v3246 : BitVec 32) (v3251 : BitVec 32) (v3277 : BitVec 32) (v3418 : BitVec 32) : Fin 3 → Nat :=
  let c199_i32_752 : BitVec 32 := 199#32
  let c0_i32_751 : BitVec 32 := 0#32
  let v3252 : BitVec 32 := Scalar.maxsi c0_i32_751 v3251
  let v3253 : BitVec 32 := Scalar.minsi c199_i32_752 v3252
  let v3278 : BitVec 32 := Scalar.addi v3253 v3277
  let v3602 : Index := Scalar.indexCast v3278
  let c199_i32_749 : BitVec 32 := 199#32
  let c0_i32_748 : BitVec 32 := 0#32
  let v3247 : BitVec 32 := Scalar.maxsi c0_i32_748 v3246
  let v3248 : BitVec 32 := Scalar.minsi c199_i32_749 v3247
  let v3419 : BitVec 32 := Scalar.addi v3248 v3418
  let c3_i32_837 : BitVec 32 := 3#32
  let v3422 : BitVec 32 := Scalar.shrsi v3419 c3_i32_837
  let c3_i32_838 : BitVec 32 := 3#32
  let v3423 : BitVec 32 := Scalar.shli v3422 c3_i32_838
  let v3424 : BitVec 32 := v3423
  let v3603 : Index := Scalar.indexCast v3424
  let c0_878 : Index := 0#32
  ![v3602.toNat, v3603.toNat, 0]
def k0_off318 (v3246 : BitVec 32) (v3251 : BitVec 32) (v3261 : BitVec 32) (v3277 : BitVec 32) (v3418 : BitVec 32) : Fin 3 → Nat :=
  let c199_i32_752 : BitVec 32 := 199#32
  let c0_i32_751 : BitVec 32 := 0#32
  let v3252 : BitVec 32 := Scalar.maxsi c0_i32_751 v3251
  let v3253 : BitVec 32 := Scalar.minsi c199_i32_752 v3252
  let v3278 : BitVec 32 := Scalar.addi v3253 v3277
  let c1_i32_766 : BitVec 32 := 1#32
  let v3279 : BitVec 32 := Scalar.addi v3278 c1_i32_766
  let c199_i32_758 : BitVec 32 := 199#32
  let c0_i32_757 : BitVec 32 := 0#32
  let v3262 : BitVec 32 := Scalar.maxsi c0_i32_757 v3261
  let v3263 : BitVec 32 := Scalar.minsi c199_i32_758 v3262
  let v3280 : BitVec 32 := Scalar.minsi v3279 v3263
  let v3606 : Index := Scalar.indexCast v3280
  let c199_i32_749 : BitVec 32 := 199#32
  let c0_i32_748 : BitVec 32 := 0#32
  let v3247 : BitVec 32 := Scalar.maxsi c0_i32_748 v3246
  let v3248 : BitVec 32 := Scalar.minsi c199_i32_749 v3247
  let v3419 : BitVec 32 := Scalar.addi v3248 v3418
  let c3_i32_837 : BitVec 32 := 3#32
  let v3422 : BitVec 32 := Scalar.shrsi v3419 c3_i32_837
  let c3_i32_838 : BitVec 32 := 3#32
  let v3423 : BitVec 32 := Scalar.shli v3422 c3_i32_838
  let v3424 : BitVec 32 := v3423
  let v3607 : Index := Scalar.indexCast v3424
  let c0_879 : Index := 0#32
  ![v3606.toNat, v3607.toNat, 0]
def k0_off319 (k0_t1 : Fin k0_t1_loop.trips) : Fin 3 → Nat :=
  let c6_881 : Index := 6#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c2_i32_743 : BitVec 32 := 2#32
  let v3238 : BitVec 32 := Scalar.addi v5 c2_i32_743
  let v3626 : Index := Scalar.indexCast v3238
  let c0_882 : Index := 0#32
  ![6, v3626.toNat, 0]
def k0_off320 (v3246 : BitVec 32) (v3251 : BitVec 32) (v3286 : BitVec 32) (v3340 : BitVec 32) : Fin 3 → Nat :=
  let c199_i32_752 : BitVec 32 := 199#32
  let c0_i32_751 : BitVec 32 := 0#32
  let v3252 : BitVec 32 := Scalar.maxsi c0_i32_751 v3251
  let v3253 : BitVec 32 := Scalar.minsi c199_i32_752 v3252
  let v3287 : BitVec 32 := Scalar.addi v3253 v3286
  let v3632 : Index := Scalar.indexCast v3287
  let c199_i32_749 : BitVec 32 := 199#32
  let c0_i32_748 : BitVec 32 := 0#32
  let v3247 : BitVec 32 := Scalar.maxsi c0_i32_748 v3246
  let v3248 : BitVec 32 := Scalar.minsi c199_i32_749 v3247
  let v3341 : BitVec 32 := Scalar.addi v3248 v3340
  let c3_i32_795 : BitVec 32 := 3#32
  let v3344 : BitVec 32 := Scalar.shrsi v3341 c3_i32_795
  let c3_i32_796 : BitVec 32 := 3#32
  let v3345 : BitVec 32 := Scalar.shli v3344 c3_i32_796
  let v3346 : BitVec 32 := v3345
  let v3633 : Index := Scalar.indexCast v3346
  let c0_885 : Index := 0#32
  ![v3632.toNat, v3633.toNat, 0]
def k0_off321 (v3246 : BitVec 32) (v3251 : BitVec 32) (v3261 : BitVec 32) (v3286 : BitVec 32) (v3340 : BitVec 32) : Fin 3 → Nat :=
  let c199_i32_752 : BitVec 32 := 199#32
  let c0_i32_751 : BitVec 32 := 0#32
  let v3252 : BitVec 32 := Scalar.maxsi c0_i32_751 v3251
  let v3253 : BitVec 32 := Scalar.minsi c199_i32_752 v3252
  let v3287 : BitVec 32 := Scalar.addi v3253 v3286
  let c1_i32_770 : BitVec 32 := 1#32
  let v3288 : BitVec 32 := Scalar.addi v3287 c1_i32_770
  let c199_i32_758 : BitVec 32 := 199#32
  let c0_i32_757 : BitVec 32 := 0#32
  let v3262 : BitVec 32 := Scalar.maxsi c0_i32_757 v3261
  let v3263 : BitVec 32 := Scalar.minsi c199_i32_758 v3262
  let v3289 : BitVec 32 := Scalar.minsi v3288 v3263
  let v3636 : Index := Scalar.indexCast v3289
  let c199_i32_749 : BitVec 32 := 199#32
  let c0_i32_748 : BitVec 32 := 0#32
  let v3247 : BitVec 32 := Scalar.maxsi c0_i32_748 v3246
  let v3248 : BitVec 32 := Scalar.minsi c199_i32_749 v3247
  let v3341 : BitVec 32 := Scalar.addi v3248 v3340
  let c3_i32_795 : BitVec 32 := 3#32
  let v3344 : BitVec 32 := Scalar.shrsi v3341 c3_i32_795
  let c3_i32_796 : BitVec 32 := 3#32
  let v3345 : BitVec 32 := Scalar.shli v3344 c3_i32_796
  let v3346 : BitVec 32 := v3345
  let v3637 : Index := Scalar.indexCast v3346
  let c0_886 : Index := 0#32
  ![v3636.toNat, v3637.toNat, 0]
def k0_off322 (k0_t1 : Fin k0_t1_loop.trips) : Fin 3 → Nat :=
  let c7_888 : Index := 7#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c2_i32_743 : BitVec 32 := 2#32
  let v3238 : BitVec 32 := Scalar.addi v5 c2_i32_743
  let v3656 : Index := Scalar.indexCast v3238
  let c0_889 : Index := 0#32
  ![7, v3656.toNat, 0]
def k0_off323 (v3246 : BitVec 32) (v3251 : BitVec 32) (v3286 : BitVec 32) (v3353 : BitVec 32) : Fin 3 → Nat :=
  let c199_i32_752 : BitVec 32 := 199#32
  let c0_i32_751 : BitVec 32 := 0#32
  let v3252 : BitVec 32 := Scalar.maxsi c0_i32_751 v3251
  let v3253 : BitVec 32 := Scalar.minsi c199_i32_752 v3252
  let v3287 : BitVec 32 := Scalar.addi v3253 v3286
  let v3661 : Index := Scalar.indexCast v3287
  let c199_i32_749 : BitVec 32 := 199#32
  let c0_i32_748 : BitVec 32 := 0#32
  let v3247 : BitVec 32 := Scalar.maxsi c0_i32_748 v3246
  let v3248 : BitVec 32 := Scalar.minsi c199_i32_749 v3247
  let v3354 : BitVec 32 := Scalar.addi v3248 v3353
  let c3_i32_802 : BitVec 32 := 3#32
  let v3357 : BitVec 32 := Scalar.shrsi v3354 c3_i32_802
  let c3_i32_803 : BitVec 32 := 3#32
  let v3358 : BitVec 32 := Scalar.shli v3357 c3_i32_803
  let v3359 : BitVec 32 := v3358
  let v3662 : Index := Scalar.indexCast v3359
  let c0_891 : Index := 0#32
  ![v3661.toNat, v3662.toNat, 0]
def k0_off324 (v3246 : BitVec 32) (v3251 : BitVec 32) (v3261 : BitVec 32) (v3286 : BitVec 32) (v3353 : BitVec 32) : Fin 3 → Nat :=
  let c199_i32_752 : BitVec 32 := 199#32
  let c0_i32_751 : BitVec 32 := 0#32
  let v3252 : BitVec 32 := Scalar.maxsi c0_i32_751 v3251
  let v3253 : BitVec 32 := Scalar.minsi c199_i32_752 v3252
  let v3287 : BitVec 32 := Scalar.addi v3253 v3286
  let c1_i32_770 : BitVec 32 := 1#32
  let v3288 : BitVec 32 := Scalar.addi v3287 c1_i32_770
  let c199_i32_758 : BitVec 32 := 199#32
  let c0_i32_757 : BitVec 32 := 0#32
  let v3262 : BitVec 32 := Scalar.maxsi c0_i32_757 v3261
  let v3263 : BitVec 32 := Scalar.minsi c199_i32_758 v3262
  let v3289 : BitVec 32 := Scalar.minsi v3288 v3263
  let v3665 : Index := Scalar.indexCast v3289
  let c199_i32_749 : BitVec 32 := 199#32
  let c0_i32_748 : BitVec 32 := 0#32
  let v3247 : BitVec 32 := Scalar.maxsi c0_i32_748 v3246
  let v3248 : BitVec 32 := Scalar.minsi c199_i32_749 v3247
  let v3354 : BitVec 32 := Scalar.addi v3248 v3353
  let c3_i32_802 : BitVec 32 := 3#32
  let v3357 : BitVec 32 := Scalar.shrsi v3354 c3_i32_802
  let c3_i32_803 : BitVec 32 := 3#32
  let v3358 : BitVec 32 := Scalar.shli v3357 c3_i32_803
  let v3359 : BitVec 32 := v3358
  let v3666 : Index := Scalar.indexCast v3359
  let c0_892 : Index := 0#32
  ![v3665.toNat, v3666.toNat, 0]
def k0_off325 (k0_t1 : Fin k0_t1_loop.trips) : Fin 3 → Nat :=
  let c8_894 : Index := 8#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c2_i32_743 : BitVec 32 := 2#32
  let v3238 : BitVec 32 := Scalar.addi v5 c2_i32_743
  let v3685 : Index := Scalar.indexCast v3238
  let c0_895 : Index := 0#32
  ![8, v3685.toNat, 0]
def k0_off326 (v3246 : BitVec 32) (v3251 : BitVec 32) (v3286 : BitVec 32) (v3366 : BitVec 32) : Fin 3 → Nat :=
  let c199_i32_752 : BitVec 32 := 199#32
  let c0_i32_751 : BitVec 32 := 0#32
  let v3252 : BitVec 32 := Scalar.maxsi c0_i32_751 v3251
  let v3253 : BitVec 32 := Scalar.minsi c199_i32_752 v3252
  let v3287 : BitVec 32 := Scalar.addi v3253 v3286
  let v3690 : Index := Scalar.indexCast v3287
  let c199_i32_749 : BitVec 32 := 199#32
  let c0_i32_748 : BitVec 32 := 0#32
  let v3247 : BitVec 32 := Scalar.maxsi c0_i32_748 v3246
  let v3248 : BitVec 32 := Scalar.minsi c199_i32_749 v3247
  let v3367 : BitVec 32 := Scalar.addi v3248 v3366
  let c3_i32_809 : BitVec 32 := 3#32
  let v3370 : BitVec 32 := Scalar.shrsi v3367 c3_i32_809
  let c3_i32_810 : BitVec 32 := 3#32
  let v3371 : BitVec 32 := Scalar.shli v3370 c3_i32_810
  let v3372 : BitVec 32 := v3371
  let v3691 : Index := Scalar.indexCast v3372
  let c0_897 : Index := 0#32
  ![v3690.toNat, v3691.toNat, 0]
def k0_off327 (v3246 : BitVec 32) (v3251 : BitVec 32) (v3261 : BitVec 32) (v3286 : BitVec 32) (v3366 : BitVec 32) : Fin 3 → Nat :=
  let c199_i32_752 : BitVec 32 := 199#32
  let c0_i32_751 : BitVec 32 := 0#32
  let v3252 : BitVec 32 := Scalar.maxsi c0_i32_751 v3251
  let v3253 : BitVec 32 := Scalar.minsi c199_i32_752 v3252
  let v3287 : BitVec 32 := Scalar.addi v3253 v3286
  let c1_i32_770 : BitVec 32 := 1#32
  let v3288 : BitVec 32 := Scalar.addi v3287 c1_i32_770
  let c199_i32_758 : BitVec 32 := 199#32
  let c0_i32_757 : BitVec 32 := 0#32
  let v3262 : BitVec 32 := Scalar.maxsi c0_i32_757 v3261
  let v3263 : BitVec 32 := Scalar.minsi c199_i32_758 v3262
  let v3289 : BitVec 32 := Scalar.minsi v3288 v3263
  let v3694 : Index := Scalar.indexCast v3289
  let c199_i32_749 : BitVec 32 := 199#32
  let c0_i32_748 : BitVec 32 := 0#32
  let v3247 : BitVec 32 := Scalar.maxsi c0_i32_748 v3246
  let v3248 : BitVec 32 := Scalar.minsi c199_i32_749 v3247
  let v3367 : BitVec 32 := Scalar.addi v3248 v3366
  let c3_i32_809 : BitVec 32 := 3#32
  let v3370 : BitVec 32 := Scalar.shrsi v3367 c3_i32_809
  let c3_i32_810 : BitVec 32 := 3#32
  let v3371 : BitVec 32 := Scalar.shli v3370 c3_i32_810
  let v3372 : BitVec 32 := v3371
  let v3695 : Index := Scalar.indexCast v3372
  let c0_898 : Index := 0#32
  ![v3694.toNat, v3695.toNat, 0]
def k0_off328 (k0_t1 : Fin k0_t1_loop.trips) : Fin 3 → Nat :=
  let c9_900 : Index := 9#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c2_i32_743 : BitVec 32 := 2#32
  let v3238 : BitVec 32 := Scalar.addi v5 c2_i32_743
  let v3714 : Index := Scalar.indexCast v3238
  let c0_901 : Index := 0#32
  ![9, v3714.toNat, 0]
def k0_off329 (v3246 : BitVec 32) (v3251 : BitVec 32) (v3286 : BitVec 32) (v3379 : BitVec 32) : Fin 3 → Nat :=
  let c199_i32_752 : BitVec 32 := 199#32
  let c0_i32_751 : BitVec 32 := 0#32
  let v3252 : BitVec 32 := Scalar.maxsi c0_i32_751 v3251
  let v3253 : BitVec 32 := Scalar.minsi c199_i32_752 v3252
  let v3287 : BitVec 32 := Scalar.addi v3253 v3286
  let v3719 : Index := Scalar.indexCast v3287
  let c199_i32_749 : BitVec 32 := 199#32
  let c0_i32_748 : BitVec 32 := 0#32
  let v3247 : BitVec 32 := Scalar.maxsi c0_i32_748 v3246
  let v3248 : BitVec 32 := Scalar.minsi c199_i32_749 v3247
  let v3380 : BitVec 32 := Scalar.addi v3248 v3379
  let c3_i32_816 : BitVec 32 := 3#32
  let v3383 : BitVec 32 := Scalar.shrsi v3380 c3_i32_816
  let c3_i32_817 : BitVec 32 := 3#32
  let v3384 : BitVec 32 := Scalar.shli v3383 c3_i32_817
  let v3385 : BitVec 32 := v3384
  let v3720 : Index := Scalar.indexCast v3385
  let c0_903 : Index := 0#32
  ![v3719.toNat, v3720.toNat, 0]
def k0_off330 (v3246 : BitVec 32) (v3251 : BitVec 32) (v3261 : BitVec 32) (v3286 : BitVec 32) (v3379 : BitVec 32) : Fin 3 → Nat :=
  let c199_i32_752 : BitVec 32 := 199#32
  let c0_i32_751 : BitVec 32 := 0#32
  let v3252 : BitVec 32 := Scalar.maxsi c0_i32_751 v3251
  let v3253 : BitVec 32 := Scalar.minsi c199_i32_752 v3252
  let v3287 : BitVec 32 := Scalar.addi v3253 v3286
  let c1_i32_770 : BitVec 32 := 1#32
  let v3288 : BitVec 32 := Scalar.addi v3287 c1_i32_770
  let c199_i32_758 : BitVec 32 := 199#32
  let c0_i32_757 : BitVec 32 := 0#32
  let v3262 : BitVec 32 := Scalar.maxsi c0_i32_757 v3261
  let v3263 : BitVec 32 := Scalar.minsi c199_i32_758 v3262
  let v3289 : BitVec 32 := Scalar.minsi v3288 v3263
  let v3723 : Index := Scalar.indexCast v3289
  let c199_i32_749 : BitVec 32 := 199#32
  let c0_i32_748 : BitVec 32 := 0#32
  let v3247 : BitVec 32 := Scalar.maxsi c0_i32_748 v3246
  let v3248 : BitVec 32 := Scalar.minsi c199_i32_749 v3247
  let v3380 : BitVec 32 := Scalar.addi v3248 v3379
  let c3_i32_816 : BitVec 32 := 3#32
  let v3383 : BitVec 32 := Scalar.shrsi v3380 c3_i32_816
  let c3_i32_817 : BitVec 32 := 3#32
  let v3384 : BitVec 32 := Scalar.shli v3383 c3_i32_817
  let v3385 : BitVec 32 := v3384
  let v3724 : Index := Scalar.indexCast v3385
  let c0_904 : Index := 0#32
  ![v3723.toNat, v3724.toNat, 0]
def k0_off331 (k0_t1 : Fin k0_t1_loop.trips) : Fin 3 → Nat :=
  let c10_906 : Index := 10#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c2_i32_743 : BitVec 32 := 2#32
  let v3238 : BitVec 32 := Scalar.addi v5 c2_i32_743
  let v3743 : Index := Scalar.indexCast v3238
  let c0_907 : Index := 0#32
  ![10, v3743.toNat, 0]
def k0_off332 (v3246 : BitVec 32) (v3251 : BitVec 32) (v3286 : BitVec 32) (v3392 : BitVec 32) : Fin 3 → Nat :=
  let c199_i32_752 : BitVec 32 := 199#32
  let c0_i32_751 : BitVec 32 := 0#32
  let v3252 : BitVec 32 := Scalar.maxsi c0_i32_751 v3251
  let v3253 : BitVec 32 := Scalar.minsi c199_i32_752 v3252
  let v3287 : BitVec 32 := Scalar.addi v3253 v3286
  let v3748 : Index := Scalar.indexCast v3287
  let c199_i32_749 : BitVec 32 := 199#32
  let c0_i32_748 : BitVec 32 := 0#32
  let v3247 : BitVec 32 := Scalar.maxsi c0_i32_748 v3246
  let v3248 : BitVec 32 := Scalar.minsi c199_i32_749 v3247
  let v3393 : BitVec 32 := Scalar.addi v3248 v3392
  let c3_i32_823 : BitVec 32 := 3#32
  let v3396 : BitVec 32 := Scalar.shrsi v3393 c3_i32_823
  let c3_i32_824 : BitVec 32 := 3#32
  let v3397 : BitVec 32 := Scalar.shli v3396 c3_i32_824
  let v3398 : BitVec 32 := v3397
  let v3749 : Index := Scalar.indexCast v3398
  let c0_909 : Index := 0#32
  ![v3748.toNat, v3749.toNat, 0]
def k0_off333 (v3246 : BitVec 32) (v3251 : BitVec 32) (v3261 : BitVec 32) (v3286 : BitVec 32) (v3392 : BitVec 32) : Fin 3 → Nat :=
  let c199_i32_752 : BitVec 32 := 199#32
  let c0_i32_751 : BitVec 32 := 0#32
  let v3252 : BitVec 32 := Scalar.maxsi c0_i32_751 v3251
  let v3253 : BitVec 32 := Scalar.minsi c199_i32_752 v3252
  let v3287 : BitVec 32 := Scalar.addi v3253 v3286
  let c1_i32_770 : BitVec 32 := 1#32
  let v3288 : BitVec 32 := Scalar.addi v3287 c1_i32_770
  let c199_i32_758 : BitVec 32 := 199#32
  let c0_i32_757 : BitVec 32 := 0#32
  let v3262 : BitVec 32 := Scalar.maxsi c0_i32_757 v3261
  let v3263 : BitVec 32 := Scalar.minsi c199_i32_758 v3262
  let v3289 : BitVec 32 := Scalar.minsi v3288 v3263
  let v3752 : Index := Scalar.indexCast v3289
  let c199_i32_749 : BitVec 32 := 199#32
  let c0_i32_748 : BitVec 32 := 0#32
  let v3247 : BitVec 32 := Scalar.maxsi c0_i32_748 v3246
  let v3248 : BitVec 32 := Scalar.minsi c199_i32_749 v3247
  let v3393 : BitVec 32 := Scalar.addi v3248 v3392
  let c3_i32_823 : BitVec 32 := 3#32
  let v3396 : BitVec 32 := Scalar.shrsi v3393 c3_i32_823
  let c3_i32_824 : BitVec 32 := 3#32
  let v3397 : BitVec 32 := Scalar.shli v3396 c3_i32_824
  let v3398 : BitVec 32 := v3397
  let v3753 : Index := Scalar.indexCast v3398
  let c0_910 : Index := 0#32
  ![v3752.toNat, v3753.toNat, 0]
def k0_off334 (k0_t1 : Fin k0_t1_loop.trips) : Fin 3 → Nat :=
  let c11_912 : Index := 11#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c2_i32_743 : BitVec 32 := 2#32
  let v3238 : BitVec 32 := Scalar.addi v5 c2_i32_743
  let v3772 : Index := Scalar.indexCast v3238
  let c0_913 : Index := 0#32
  ![11, v3772.toNat, 0]
def k0_off335 (v3246 : BitVec 32) (v3251 : BitVec 32) (v3286 : BitVec 32) (v3405 : BitVec 32) : Fin 3 → Nat :=
  let c199_i32_752 : BitVec 32 := 199#32
  let c0_i32_751 : BitVec 32 := 0#32
  let v3252 : BitVec 32 := Scalar.maxsi c0_i32_751 v3251
  let v3253 : BitVec 32 := Scalar.minsi c199_i32_752 v3252
  let v3287 : BitVec 32 := Scalar.addi v3253 v3286
  let v3777 : Index := Scalar.indexCast v3287
  let c199_i32_749 : BitVec 32 := 199#32
  let c0_i32_748 : BitVec 32 := 0#32
  let v3247 : BitVec 32 := Scalar.maxsi c0_i32_748 v3246
  let v3248 : BitVec 32 := Scalar.minsi c199_i32_749 v3247
  let v3406 : BitVec 32 := Scalar.addi v3248 v3405
  let c3_i32_830 : BitVec 32 := 3#32
  let v3409 : BitVec 32 := Scalar.shrsi v3406 c3_i32_830
  let c3_i32_831 : BitVec 32 := 3#32
  let v3410 : BitVec 32 := Scalar.shli v3409 c3_i32_831
  let v3411 : BitVec 32 := v3410
  let v3778 : Index := Scalar.indexCast v3411
  let c0_915 : Index := 0#32
  ![v3777.toNat, v3778.toNat, 0]
def k0_off336 (v3246 : BitVec 32) (v3251 : BitVec 32) (v3261 : BitVec 32) (v3286 : BitVec 32) (v3405 : BitVec 32) : Fin 3 → Nat :=
  let c199_i32_752 : BitVec 32 := 199#32
  let c0_i32_751 : BitVec 32 := 0#32
  let v3252 : BitVec 32 := Scalar.maxsi c0_i32_751 v3251
  let v3253 : BitVec 32 := Scalar.minsi c199_i32_752 v3252
  let v3287 : BitVec 32 := Scalar.addi v3253 v3286
  let c1_i32_770 : BitVec 32 := 1#32
  let v3288 : BitVec 32 := Scalar.addi v3287 c1_i32_770
  let c199_i32_758 : BitVec 32 := 199#32
  let c0_i32_757 : BitVec 32 := 0#32
  let v3262 : BitVec 32 := Scalar.maxsi c0_i32_757 v3261
  let v3263 : BitVec 32 := Scalar.minsi c199_i32_758 v3262
  let v3289 : BitVec 32 := Scalar.minsi v3288 v3263
  let v3781 : Index := Scalar.indexCast v3289
  let c199_i32_749 : BitVec 32 := 199#32
  let c0_i32_748 : BitVec 32 := 0#32
  let v3247 : BitVec 32 := Scalar.maxsi c0_i32_748 v3246
  let v3248 : BitVec 32 := Scalar.minsi c199_i32_749 v3247
  let v3406 : BitVec 32 := Scalar.addi v3248 v3405
  let c3_i32_830 : BitVec 32 := 3#32
  let v3409 : BitVec 32 := Scalar.shrsi v3406 c3_i32_830
  let c3_i32_831 : BitVec 32 := 3#32
  let v3410 : BitVec 32 := Scalar.shli v3409 c3_i32_831
  let v3411 : BitVec 32 := v3410
  let v3782 : Index := Scalar.indexCast v3411
  let c0_916 : Index := 0#32
  ![v3781.toNat, v3782.toNat, 0]
def k0_off337 (k0_t1 : Fin k0_t1_loop.trips) : Fin 3 → Nat :=
  let c12_918 : Index := 12#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c2_i32_743 : BitVec 32 := 2#32
  let v3238 : BitVec 32 := Scalar.addi v5 c2_i32_743
  let v3801 : Index := Scalar.indexCast v3238
  let c0_919 : Index := 0#32
  ![12, v3801.toNat, 0]
def k0_off338 (v3246 : BitVec 32) (v3251 : BitVec 32) (v3286 : BitVec 32) (v3418 : BitVec 32) : Fin 3 → Nat :=
  let c199_i32_752 : BitVec 32 := 199#32
  let c0_i32_751 : BitVec 32 := 0#32
  let v3252 : BitVec 32 := Scalar.maxsi c0_i32_751 v3251
  let v3253 : BitVec 32 := Scalar.minsi c199_i32_752 v3252
  let v3287 : BitVec 32 := Scalar.addi v3253 v3286
  let v3806 : Index := Scalar.indexCast v3287
  let c199_i32_749 : BitVec 32 := 199#32
  let c0_i32_748 : BitVec 32 := 0#32
  let v3247 : BitVec 32 := Scalar.maxsi c0_i32_748 v3246
  let v3248 : BitVec 32 := Scalar.minsi c199_i32_749 v3247
  let v3419 : BitVec 32 := Scalar.addi v3248 v3418
  let c3_i32_837 : BitVec 32 := 3#32
  let v3422 : BitVec 32 := Scalar.shrsi v3419 c3_i32_837
  let c3_i32_838 : BitVec 32 := 3#32
  let v3423 : BitVec 32 := Scalar.shli v3422 c3_i32_838
  let v3424 : BitVec 32 := v3423
  let v3807 : Index := Scalar.indexCast v3424
  let c0_921 : Index := 0#32
  ![v3806.toNat, v3807.toNat, 0]
def k0_off339 (v3246 : BitVec 32) (v3251 : BitVec 32) (v3261 : BitVec 32) (v3286 : BitVec 32) (v3418 : BitVec 32) : Fin 3 → Nat :=
  let c199_i32_752 : BitVec 32 := 199#32
  let c0_i32_751 : BitVec 32 := 0#32
  let v3252 : BitVec 32 := Scalar.maxsi c0_i32_751 v3251
  let v3253 : BitVec 32 := Scalar.minsi c199_i32_752 v3252
  let v3287 : BitVec 32 := Scalar.addi v3253 v3286
  let c1_i32_770 : BitVec 32 := 1#32
  let v3288 : BitVec 32 := Scalar.addi v3287 c1_i32_770
  let c199_i32_758 : BitVec 32 := 199#32
  let c0_i32_757 : BitVec 32 := 0#32
  let v3262 : BitVec 32 := Scalar.maxsi c0_i32_757 v3261
  let v3263 : BitVec 32 := Scalar.minsi c199_i32_758 v3262
  let v3289 : BitVec 32 := Scalar.minsi v3288 v3263
  let v3810 : Index := Scalar.indexCast v3289
  let c199_i32_749 : BitVec 32 := 199#32
  let c0_i32_748 : BitVec 32 := 0#32
  let v3247 : BitVec 32 := Scalar.maxsi c0_i32_748 v3246
  let v3248 : BitVec 32 := Scalar.minsi c199_i32_749 v3247
  let v3419 : BitVec 32 := Scalar.addi v3248 v3418
  let c3_i32_837 : BitVec 32 := 3#32
  let v3422 : BitVec 32 := Scalar.shrsi v3419 c3_i32_837
  let c3_i32_838 : BitVec 32 := 3#32
  let v3423 : BitVec 32 := Scalar.shli v3422 c3_i32_838
  let v3424 : BitVec 32 := v3423
  let v3811 : Index := Scalar.indexCast v3424
  let c0_922 : Index := 0#32
  ![v3810.toNat, v3811.toNat, 0]
def k0_off340 (k0_t1 : Fin k0_t1_loop.trips) : Fin 3 → Nat :=
  let c13_924 : Index := 13#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c2_i32_743 : BitVec 32 := 2#32
  let v3238 : BitVec 32 := Scalar.addi v5 c2_i32_743
  let v3830 : Index := Scalar.indexCast v3238
  let c0_925 : Index := 0#32
  ![13, v3830.toNat, 0]
def k0_off341 (v3246 : BitVec 32) (v3251 : BitVec 32) (v3295 : BitVec 32) (v3340 : BitVec 32) : Fin 3 → Nat :=
  let c199_i32_752 : BitVec 32 := 199#32
  let c0_i32_751 : BitVec 32 := 0#32
  let v3252 : BitVec 32 := Scalar.maxsi c0_i32_751 v3251
  let v3253 : BitVec 32 := Scalar.minsi c199_i32_752 v3252
  let v3296 : BitVec 32 := Scalar.addi v3253 v3295
  let v3836 : Index := Scalar.indexCast v3296
  let c199_i32_749 : BitVec 32 := 199#32
  let c0_i32_748 : BitVec 32 := 0#32
  let v3247 : BitVec 32 := Scalar.maxsi c0_i32_748 v3246
  let v3248 : BitVec 32 := Scalar.minsi c199_i32_749 v3247
  let v3341 : BitVec 32 := Scalar.addi v3248 v3340
  let c3_i32_795 : BitVec 32 := 3#32
  let v3344 : BitVec 32 := Scalar.shrsi v3341 c3_i32_795
  let c3_i32_796 : BitVec 32 := 3#32
  let v3345 : BitVec 32 := Scalar.shli v3344 c3_i32_796
  let v3346 : BitVec 32 := v3345
  let v3837 : Index := Scalar.indexCast v3346
  let c0_928 : Index := 0#32
  ![v3836.toNat, v3837.toNat, 0]
def k0_off342 (v3246 : BitVec 32) (v3251 : BitVec 32) (v3261 : BitVec 32) (v3295 : BitVec 32) (v3340 : BitVec 32) : Fin 3 → Nat :=
  let c199_i32_752 : BitVec 32 := 199#32
  let c0_i32_751 : BitVec 32 := 0#32
  let v3252 : BitVec 32 := Scalar.maxsi c0_i32_751 v3251
  let v3253 : BitVec 32 := Scalar.minsi c199_i32_752 v3252
  let v3296 : BitVec 32 := Scalar.addi v3253 v3295
  let c1_i32_774 : BitVec 32 := 1#32
  let v3297 : BitVec 32 := Scalar.addi v3296 c1_i32_774
  let c199_i32_758 : BitVec 32 := 199#32
  let c0_i32_757 : BitVec 32 := 0#32
  let v3262 : BitVec 32 := Scalar.maxsi c0_i32_757 v3261
  let v3263 : BitVec 32 := Scalar.minsi c199_i32_758 v3262
  let v3298 : BitVec 32 := Scalar.minsi v3297 v3263
  let v3840 : Index := Scalar.indexCast v3298
  let c199_i32_749 : BitVec 32 := 199#32
  let c0_i32_748 : BitVec 32 := 0#32
  let v3247 : BitVec 32 := Scalar.maxsi c0_i32_748 v3246
  let v3248 : BitVec 32 := Scalar.minsi c199_i32_749 v3247
  let v3341 : BitVec 32 := Scalar.addi v3248 v3340
  let c3_i32_795 : BitVec 32 := 3#32
  let v3344 : BitVec 32 := Scalar.shrsi v3341 c3_i32_795
  let c3_i32_796 : BitVec 32 := 3#32
  let v3345 : BitVec 32 := Scalar.shli v3344 c3_i32_796
  let v3346 : BitVec 32 := v3345
  let v3841 : Index := Scalar.indexCast v3346
  let c0_929 : Index := 0#32
  ![v3840.toNat, v3841.toNat, 0]
def k0_off343 (k0_t1 : Fin k0_t1_loop.trips) : Fin 3 → Nat :=
  let c14_931 : Index := 14#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c2_i32_743 : BitVec 32 := 2#32
  let v3238 : BitVec 32 := Scalar.addi v5 c2_i32_743
  let v3860 : Index := Scalar.indexCast v3238
  let c0_932 : Index := 0#32
  ![14, v3860.toNat, 0]
def k0_off344 (v3246 : BitVec 32) (v3251 : BitVec 32) (v3295 : BitVec 32) (v3353 : BitVec 32) : Fin 3 → Nat :=
  let c199_i32_752 : BitVec 32 := 199#32
  let c0_i32_751 : BitVec 32 := 0#32
  let v3252 : BitVec 32 := Scalar.maxsi c0_i32_751 v3251
  let v3253 : BitVec 32 := Scalar.minsi c199_i32_752 v3252
  let v3296 : BitVec 32 := Scalar.addi v3253 v3295
  let v3865 : Index := Scalar.indexCast v3296
  let c199_i32_749 : BitVec 32 := 199#32
  let c0_i32_748 : BitVec 32 := 0#32
  let v3247 : BitVec 32 := Scalar.maxsi c0_i32_748 v3246
  let v3248 : BitVec 32 := Scalar.minsi c199_i32_749 v3247
  let v3354 : BitVec 32 := Scalar.addi v3248 v3353
  let c3_i32_802 : BitVec 32 := 3#32
  let v3357 : BitVec 32 := Scalar.shrsi v3354 c3_i32_802
  let c3_i32_803 : BitVec 32 := 3#32
  let v3358 : BitVec 32 := Scalar.shli v3357 c3_i32_803
  let v3359 : BitVec 32 := v3358
  let v3866 : Index := Scalar.indexCast v3359
  let c0_934 : Index := 0#32
  ![v3865.toNat, v3866.toNat, 0]
def k0_off345 (v3246 : BitVec 32) (v3251 : BitVec 32) (v3261 : BitVec 32) (v3295 : BitVec 32) (v3353 : BitVec 32) : Fin 3 → Nat :=
  let c199_i32_752 : BitVec 32 := 199#32
  let c0_i32_751 : BitVec 32 := 0#32
  let v3252 : BitVec 32 := Scalar.maxsi c0_i32_751 v3251
  let v3253 : BitVec 32 := Scalar.minsi c199_i32_752 v3252
  let v3296 : BitVec 32 := Scalar.addi v3253 v3295
  let c1_i32_774 : BitVec 32 := 1#32
  let v3297 : BitVec 32 := Scalar.addi v3296 c1_i32_774
  let c199_i32_758 : BitVec 32 := 199#32
  let c0_i32_757 : BitVec 32 := 0#32
  let v3262 : BitVec 32 := Scalar.maxsi c0_i32_757 v3261
  let v3263 : BitVec 32 := Scalar.minsi c199_i32_758 v3262
  let v3298 : BitVec 32 := Scalar.minsi v3297 v3263
  let v3869 : Index := Scalar.indexCast v3298
  let c199_i32_749 : BitVec 32 := 199#32
  let c0_i32_748 : BitVec 32 := 0#32
  let v3247 : BitVec 32 := Scalar.maxsi c0_i32_748 v3246
  let v3248 : BitVec 32 := Scalar.minsi c199_i32_749 v3247
  let v3354 : BitVec 32 := Scalar.addi v3248 v3353
  let c3_i32_802 : BitVec 32 := 3#32
  let v3357 : BitVec 32 := Scalar.shrsi v3354 c3_i32_802
  let c3_i32_803 : BitVec 32 := 3#32
  let v3358 : BitVec 32 := Scalar.shli v3357 c3_i32_803
  let v3359 : BitVec 32 := v3358
  let v3870 : Index := Scalar.indexCast v3359
  let c0_935 : Index := 0#32
  ![v3869.toNat, v3870.toNat, 0]
def k0_off346 (k0_t1 : Fin k0_t1_loop.trips) : Fin 3 → Nat :=
  let c15_937 : Index := 15#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c2_i32_743 : BitVec 32 := 2#32
  let v3238 : BitVec 32 := Scalar.addi v5 c2_i32_743
  let v3889 : Index := Scalar.indexCast v3238
  let c0_938 : Index := 0#32
  ![15, v3889.toNat, 0]
def k0_off347 (v3246 : BitVec 32) (v3251 : BitVec 32) (v3295 : BitVec 32) (v3366 : BitVec 32) : Fin 3 → Nat :=
  let c199_i32_752 : BitVec 32 := 199#32
  let c0_i32_751 : BitVec 32 := 0#32
  let v3252 : BitVec 32 := Scalar.maxsi c0_i32_751 v3251
  let v3253 : BitVec 32 := Scalar.minsi c199_i32_752 v3252
  let v3296 : BitVec 32 := Scalar.addi v3253 v3295
  let v3894 : Index := Scalar.indexCast v3296
  let c199_i32_749 : BitVec 32 := 199#32
  let c0_i32_748 : BitVec 32 := 0#32
  let v3247 : BitVec 32 := Scalar.maxsi c0_i32_748 v3246
  let v3248 : BitVec 32 := Scalar.minsi c199_i32_749 v3247
  let v3367 : BitVec 32 := Scalar.addi v3248 v3366
  let c3_i32_809 : BitVec 32 := 3#32
  let v3370 : BitVec 32 := Scalar.shrsi v3367 c3_i32_809
  let c3_i32_810 : BitVec 32 := 3#32
  let v3371 : BitVec 32 := Scalar.shli v3370 c3_i32_810
  let v3372 : BitVec 32 := v3371
  let v3895 : Index := Scalar.indexCast v3372
  let c0_940 : Index := 0#32
  ![v3894.toNat, v3895.toNat, 0]
def k0_off348 (v3246 : BitVec 32) (v3251 : BitVec 32) (v3261 : BitVec 32) (v3295 : BitVec 32) (v3366 : BitVec 32) : Fin 3 → Nat :=
  let c199_i32_752 : BitVec 32 := 199#32
  let c0_i32_751 : BitVec 32 := 0#32
  let v3252 : BitVec 32 := Scalar.maxsi c0_i32_751 v3251
  let v3253 : BitVec 32 := Scalar.minsi c199_i32_752 v3252
  let v3296 : BitVec 32 := Scalar.addi v3253 v3295
  let c1_i32_774 : BitVec 32 := 1#32
  let v3297 : BitVec 32 := Scalar.addi v3296 c1_i32_774
  let c199_i32_758 : BitVec 32 := 199#32
  let c0_i32_757 : BitVec 32 := 0#32
  let v3262 : BitVec 32 := Scalar.maxsi c0_i32_757 v3261
  let v3263 : BitVec 32 := Scalar.minsi c199_i32_758 v3262
  let v3298 : BitVec 32 := Scalar.minsi v3297 v3263
  let v3898 : Index := Scalar.indexCast v3298
  let c199_i32_749 : BitVec 32 := 199#32
  let c0_i32_748 : BitVec 32 := 0#32
  let v3247 : BitVec 32 := Scalar.maxsi c0_i32_748 v3246
  let v3248 : BitVec 32 := Scalar.minsi c199_i32_749 v3247
  let v3367 : BitVec 32 := Scalar.addi v3248 v3366
  let c3_i32_809 : BitVec 32 := 3#32
  let v3370 : BitVec 32 := Scalar.shrsi v3367 c3_i32_809
  let c3_i32_810 : BitVec 32 := 3#32
  let v3371 : BitVec 32 := Scalar.shli v3370 c3_i32_810
  let v3372 : BitVec 32 := v3371
  let v3899 : Index := Scalar.indexCast v3372
  let c0_941 : Index := 0#32
  ![v3898.toNat, v3899.toNat, 0]
def k0_off349 (k0_t1 : Fin k0_t1_loop.trips) : Fin 3 → Nat :=
  let c16_943 : Index := 16#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c2_i32_743 : BitVec 32 := 2#32
  let v3238 : BitVec 32 := Scalar.addi v5 c2_i32_743
  let v3918 : Index := Scalar.indexCast v3238
  let c0_944 : Index := 0#32
  ![16, v3918.toNat, 0]
def k0_off350 (v3246 : BitVec 32) (v3251 : BitVec 32) (v3295 : BitVec 32) (v3379 : BitVec 32) : Fin 3 → Nat :=
  let c199_i32_752 : BitVec 32 := 199#32
  let c0_i32_751 : BitVec 32 := 0#32
  let v3252 : BitVec 32 := Scalar.maxsi c0_i32_751 v3251
  let v3253 : BitVec 32 := Scalar.minsi c199_i32_752 v3252
  let v3296 : BitVec 32 := Scalar.addi v3253 v3295
  let v3923 : Index := Scalar.indexCast v3296
  let c199_i32_749 : BitVec 32 := 199#32
  let c0_i32_748 : BitVec 32 := 0#32
  let v3247 : BitVec 32 := Scalar.maxsi c0_i32_748 v3246
  let v3248 : BitVec 32 := Scalar.minsi c199_i32_749 v3247
  let v3380 : BitVec 32 := Scalar.addi v3248 v3379
  let c3_i32_816 : BitVec 32 := 3#32
  let v3383 : BitVec 32 := Scalar.shrsi v3380 c3_i32_816
  let c3_i32_817 : BitVec 32 := 3#32
  let v3384 : BitVec 32 := Scalar.shli v3383 c3_i32_817
  let v3385 : BitVec 32 := v3384
  let v3924 : Index := Scalar.indexCast v3385
  let c0_946 : Index := 0#32
  ![v3923.toNat, v3924.toNat, 0]
def k0_off351 (v3246 : BitVec 32) (v3251 : BitVec 32) (v3261 : BitVec 32) (v3295 : BitVec 32) (v3379 : BitVec 32) : Fin 3 → Nat :=
  let c199_i32_752 : BitVec 32 := 199#32
  let c0_i32_751 : BitVec 32 := 0#32
  let v3252 : BitVec 32 := Scalar.maxsi c0_i32_751 v3251
  let v3253 : BitVec 32 := Scalar.minsi c199_i32_752 v3252
  let v3296 : BitVec 32 := Scalar.addi v3253 v3295
  let c1_i32_774 : BitVec 32 := 1#32
  let v3297 : BitVec 32 := Scalar.addi v3296 c1_i32_774
  let c199_i32_758 : BitVec 32 := 199#32
  let c0_i32_757 : BitVec 32 := 0#32
  let v3262 : BitVec 32 := Scalar.maxsi c0_i32_757 v3261
  let v3263 : BitVec 32 := Scalar.minsi c199_i32_758 v3262
  let v3298 : BitVec 32 := Scalar.minsi v3297 v3263
  let v3927 : Index := Scalar.indexCast v3298
  let c199_i32_749 : BitVec 32 := 199#32
  let c0_i32_748 : BitVec 32 := 0#32
  let v3247 : BitVec 32 := Scalar.maxsi c0_i32_748 v3246
  let v3248 : BitVec 32 := Scalar.minsi c199_i32_749 v3247
  let v3380 : BitVec 32 := Scalar.addi v3248 v3379
  let c3_i32_816 : BitVec 32 := 3#32
  let v3383 : BitVec 32 := Scalar.shrsi v3380 c3_i32_816
  let c3_i32_817 : BitVec 32 := 3#32
  let v3384 : BitVec 32 := Scalar.shli v3383 c3_i32_817
  let v3385 : BitVec 32 := v3384
  let v3928 : Index := Scalar.indexCast v3385
  let c0_947 : Index := 0#32
  ![v3927.toNat, v3928.toNat, 0]
def k0_off352 (k0_t1 : Fin k0_t1_loop.trips) : Fin 3 → Nat :=
  let c17_949 : Index := 17#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c2_i32_743 : BitVec 32 := 2#32
  let v3238 : BitVec 32 := Scalar.addi v5 c2_i32_743
  let v3947 : Index := Scalar.indexCast v3238
  let c0_950 : Index := 0#32
  ![17, v3947.toNat, 0]
def k0_off353 (v3246 : BitVec 32) (v3251 : BitVec 32) (v3295 : BitVec 32) (v3392 : BitVec 32) : Fin 3 → Nat :=
  let c199_i32_752 : BitVec 32 := 199#32
  let c0_i32_751 : BitVec 32 := 0#32
  let v3252 : BitVec 32 := Scalar.maxsi c0_i32_751 v3251
  let v3253 : BitVec 32 := Scalar.minsi c199_i32_752 v3252
  let v3296 : BitVec 32 := Scalar.addi v3253 v3295
  let v3952 : Index := Scalar.indexCast v3296
  let c199_i32_749 : BitVec 32 := 199#32
  let c0_i32_748 : BitVec 32 := 0#32
  let v3247 : BitVec 32 := Scalar.maxsi c0_i32_748 v3246
  let v3248 : BitVec 32 := Scalar.minsi c199_i32_749 v3247
  let v3393 : BitVec 32 := Scalar.addi v3248 v3392
  let c3_i32_823 : BitVec 32 := 3#32
  let v3396 : BitVec 32 := Scalar.shrsi v3393 c3_i32_823
  let c3_i32_824 : BitVec 32 := 3#32
  let v3397 : BitVec 32 := Scalar.shli v3396 c3_i32_824
  let v3398 : BitVec 32 := v3397
  let v3953 : Index := Scalar.indexCast v3398
  let c0_952 : Index := 0#32
  ![v3952.toNat, v3953.toNat, 0]
def k0_off354 (v3246 : BitVec 32) (v3251 : BitVec 32) (v3261 : BitVec 32) (v3295 : BitVec 32) (v3392 : BitVec 32) : Fin 3 → Nat :=
  let c199_i32_752 : BitVec 32 := 199#32
  let c0_i32_751 : BitVec 32 := 0#32
  let v3252 : BitVec 32 := Scalar.maxsi c0_i32_751 v3251
  let v3253 : BitVec 32 := Scalar.minsi c199_i32_752 v3252
  let v3296 : BitVec 32 := Scalar.addi v3253 v3295
  let c1_i32_774 : BitVec 32 := 1#32
  let v3297 : BitVec 32 := Scalar.addi v3296 c1_i32_774
  let c199_i32_758 : BitVec 32 := 199#32
  let c0_i32_757 : BitVec 32 := 0#32
  let v3262 : BitVec 32 := Scalar.maxsi c0_i32_757 v3261
  let v3263 : BitVec 32 := Scalar.minsi c199_i32_758 v3262
  let v3298 : BitVec 32 := Scalar.minsi v3297 v3263
  let v3956 : Index := Scalar.indexCast v3298
  let c199_i32_749 : BitVec 32 := 199#32
  let c0_i32_748 : BitVec 32 := 0#32
  let v3247 : BitVec 32 := Scalar.maxsi c0_i32_748 v3246
  let v3248 : BitVec 32 := Scalar.minsi c199_i32_749 v3247
  let v3393 : BitVec 32 := Scalar.addi v3248 v3392
  let c3_i32_823 : BitVec 32 := 3#32
  let v3396 : BitVec 32 := Scalar.shrsi v3393 c3_i32_823
  let c3_i32_824 : BitVec 32 := 3#32
  let v3397 : BitVec 32 := Scalar.shli v3396 c3_i32_824
  let v3398 : BitVec 32 := v3397
  let v3957 : Index := Scalar.indexCast v3398
  let c0_953 : Index := 0#32
  ![v3956.toNat, v3957.toNat, 0]
def k0_off355 (k0_t1 : Fin k0_t1_loop.trips) : Fin 3 → Nat :=
  let c18_955 : Index := 18#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c2_i32_743 : BitVec 32 := 2#32
  let v3238 : BitVec 32 := Scalar.addi v5 c2_i32_743
  let v3976 : Index := Scalar.indexCast v3238
  let c0_956 : Index := 0#32
  ![18, v3976.toNat, 0]
def k0_off356 (v3246 : BitVec 32) (v3251 : BitVec 32) (v3295 : BitVec 32) (v3405 : BitVec 32) : Fin 3 → Nat :=
  let c199_i32_752 : BitVec 32 := 199#32
  let c0_i32_751 : BitVec 32 := 0#32
  let v3252 : BitVec 32 := Scalar.maxsi c0_i32_751 v3251
  let v3253 : BitVec 32 := Scalar.minsi c199_i32_752 v3252
  let v3296 : BitVec 32 := Scalar.addi v3253 v3295
  let v3981 : Index := Scalar.indexCast v3296
  let c199_i32_749 : BitVec 32 := 199#32
  let c0_i32_748 : BitVec 32 := 0#32
  let v3247 : BitVec 32 := Scalar.maxsi c0_i32_748 v3246
  let v3248 : BitVec 32 := Scalar.minsi c199_i32_749 v3247
  let v3406 : BitVec 32 := Scalar.addi v3248 v3405
  let c3_i32_830 : BitVec 32 := 3#32
  let v3409 : BitVec 32 := Scalar.shrsi v3406 c3_i32_830
  let c3_i32_831 : BitVec 32 := 3#32
  let v3410 : BitVec 32 := Scalar.shli v3409 c3_i32_831
  let v3411 : BitVec 32 := v3410
  let v3982 : Index := Scalar.indexCast v3411
  let c0_958 : Index := 0#32
  ![v3981.toNat, v3982.toNat, 0]
def k0_off357 (v3246 : BitVec 32) (v3251 : BitVec 32) (v3261 : BitVec 32) (v3295 : BitVec 32) (v3405 : BitVec 32) : Fin 3 → Nat :=
  let c199_i32_752 : BitVec 32 := 199#32
  let c0_i32_751 : BitVec 32 := 0#32
  let v3252 : BitVec 32 := Scalar.maxsi c0_i32_751 v3251
  let v3253 : BitVec 32 := Scalar.minsi c199_i32_752 v3252
  let v3296 : BitVec 32 := Scalar.addi v3253 v3295
  let c1_i32_774 : BitVec 32 := 1#32
  let v3297 : BitVec 32 := Scalar.addi v3296 c1_i32_774
  let c199_i32_758 : BitVec 32 := 199#32
  let c0_i32_757 : BitVec 32 := 0#32
  let v3262 : BitVec 32 := Scalar.maxsi c0_i32_757 v3261
  let v3263 : BitVec 32 := Scalar.minsi c199_i32_758 v3262
  let v3298 : BitVec 32 := Scalar.minsi v3297 v3263
  let v3985 : Index := Scalar.indexCast v3298
  let c199_i32_749 : BitVec 32 := 199#32
  let c0_i32_748 : BitVec 32 := 0#32
  let v3247 : BitVec 32 := Scalar.maxsi c0_i32_748 v3246
  let v3248 : BitVec 32 := Scalar.minsi c199_i32_749 v3247
  let v3406 : BitVec 32 := Scalar.addi v3248 v3405
  let c3_i32_830 : BitVec 32 := 3#32
  let v3409 : BitVec 32 := Scalar.shrsi v3406 c3_i32_830
  let c3_i32_831 : BitVec 32 := 3#32
  let v3410 : BitVec 32 := Scalar.shli v3409 c3_i32_831
  let v3411 : BitVec 32 := v3410
  let v3986 : Index := Scalar.indexCast v3411
  let c0_959 : Index := 0#32
  ![v3985.toNat, v3986.toNat, 0]
def k0_off358 (k0_t1 : Fin k0_t1_loop.trips) : Fin 3 → Nat :=
  let c19_961 : Index := 19#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c2_i32_743 : BitVec 32 := 2#32
  let v3238 : BitVec 32 := Scalar.addi v5 c2_i32_743
  let v4005 : Index := Scalar.indexCast v3238
  let c0_962 : Index := 0#32
  ![19, v4005.toNat, 0]
def k0_off359 (v3246 : BitVec 32) (v3251 : BitVec 32) (v3295 : BitVec 32) (v3418 : BitVec 32) : Fin 3 → Nat :=
  let c199_i32_752 : BitVec 32 := 199#32
  let c0_i32_751 : BitVec 32 := 0#32
  let v3252 : BitVec 32 := Scalar.maxsi c0_i32_751 v3251
  let v3253 : BitVec 32 := Scalar.minsi c199_i32_752 v3252
  let v3296 : BitVec 32 := Scalar.addi v3253 v3295
  let v4010 : Index := Scalar.indexCast v3296
  let c199_i32_749 : BitVec 32 := 199#32
  let c0_i32_748 : BitVec 32 := 0#32
  let v3247 : BitVec 32 := Scalar.maxsi c0_i32_748 v3246
  let v3248 : BitVec 32 := Scalar.minsi c199_i32_749 v3247
  let v3419 : BitVec 32 := Scalar.addi v3248 v3418
  let c3_i32_837 : BitVec 32 := 3#32
  let v3422 : BitVec 32 := Scalar.shrsi v3419 c3_i32_837
  let c3_i32_838 : BitVec 32 := 3#32
  let v3423 : BitVec 32 := Scalar.shli v3422 c3_i32_838
  let v3424 : BitVec 32 := v3423
  let v4011 : Index := Scalar.indexCast v3424
  let c0_964 : Index := 0#32
  ![v4010.toNat, v4011.toNat, 0]
def k0_off360 (v3246 : BitVec 32) (v3251 : BitVec 32) (v3261 : BitVec 32) (v3295 : BitVec 32) (v3418 : BitVec 32) : Fin 3 → Nat :=
  let c199_i32_752 : BitVec 32 := 199#32
  let c0_i32_751 : BitVec 32 := 0#32
  let v3252 : BitVec 32 := Scalar.maxsi c0_i32_751 v3251
  let v3253 : BitVec 32 := Scalar.minsi c199_i32_752 v3252
  let v3296 : BitVec 32 := Scalar.addi v3253 v3295
  let c1_i32_774 : BitVec 32 := 1#32
  let v3297 : BitVec 32 := Scalar.addi v3296 c1_i32_774
  let c199_i32_758 : BitVec 32 := 199#32
  let c0_i32_757 : BitVec 32 := 0#32
  let v3262 : BitVec 32 := Scalar.maxsi c0_i32_757 v3261
  let v3263 : BitVec 32 := Scalar.minsi c199_i32_758 v3262
  let v3298 : BitVec 32 := Scalar.minsi v3297 v3263
  let v4014 : Index := Scalar.indexCast v3298
  let c199_i32_749 : BitVec 32 := 199#32
  let c0_i32_748 : BitVec 32 := 0#32
  let v3247 : BitVec 32 := Scalar.maxsi c0_i32_748 v3246
  let v3248 : BitVec 32 := Scalar.minsi c199_i32_749 v3247
  let v3419 : BitVec 32 := Scalar.addi v3248 v3418
  let c3_i32_837 : BitVec 32 := 3#32
  let v3422 : BitVec 32 := Scalar.shrsi v3419 c3_i32_837
  let c3_i32_838 : BitVec 32 := 3#32
  let v3423 : BitVec 32 := Scalar.shli v3422 c3_i32_838
  let v3424 : BitVec 32 := v3423
  let v4015 : Index := Scalar.indexCast v3424
  let c0_965 : Index := 0#32
  ![v4014.toNat, v4015.toNat, 0]
def k0_off361 (k0_t1 : Fin k0_t1_loop.trips) : Fin 3 → Nat :=
  let c20_967 : Index := 20#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c2_i32_743 : BitVec 32 := 2#32
  let v3238 : BitVec 32 := Scalar.addi v5 c2_i32_743
  let v4034 : Index := Scalar.indexCast v3238
  let c0_968 : Index := 0#32
  ![20, v4034.toNat, 0]
def k0_off362 (v3246 : BitVec 32) (v3251 : BitVec 32) (v3304 : BitVec 32) (v3340 : BitVec 32) : Fin 3 → Nat :=
  let c199_i32_752 : BitVec 32 := 199#32
  let c0_i32_751 : BitVec 32 := 0#32
  let v3252 : BitVec 32 := Scalar.maxsi c0_i32_751 v3251
  let v3253 : BitVec 32 := Scalar.minsi c199_i32_752 v3252
  let v3305 : BitVec 32 := Scalar.addi v3253 v3304
  let v4040 : Index := Scalar.indexCast v3305
  let c199_i32_749 : BitVec 32 := 199#32
  let c0_i32_748 : BitVec 32 := 0#32
  let v3247 : BitVec 32 := Scalar.maxsi c0_i32_748 v3246
  let v3248 : BitVec 32 := Scalar.minsi c199_i32_749 v3247
  let v3341 : BitVec 32 := Scalar.addi v3248 v3340
  let c3_i32_795 : BitVec 32 := 3#32
  let v3344 : BitVec 32 := Scalar.shrsi v3341 c3_i32_795
  let c3_i32_796 : BitVec 32 := 3#32
  let v3345 : BitVec 32 := Scalar.shli v3344 c3_i32_796
  let v3346 : BitVec 32 := v3345
  let v4041 : Index := Scalar.indexCast v3346
  let c0_971 : Index := 0#32
  ![v4040.toNat, v4041.toNat, 0]
def k0_off363 (v3246 : BitVec 32) (v3251 : BitVec 32) (v3261 : BitVec 32) (v3304 : BitVec 32) (v3340 : BitVec 32) : Fin 3 → Nat :=
  let c199_i32_752 : BitVec 32 := 199#32
  let c0_i32_751 : BitVec 32 := 0#32
  let v3252 : BitVec 32 := Scalar.maxsi c0_i32_751 v3251
  let v3253 : BitVec 32 := Scalar.minsi c199_i32_752 v3252
  let v3305 : BitVec 32 := Scalar.addi v3253 v3304
  let c1_i32_778 : BitVec 32 := 1#32
  let v3306 : BitVec 32 := Scalar.addi v3305 c1_i32_778
  let c199_i32_758 : BitVec 32 := 199#32
  let c0_i32_757 : BitVec 32 := 0#32
  let v3262 : BitVec 32 := Scalar.maxsi c0_i32_757 v3261
  let v3263 : BitVec 32 := Scalar.minsi c199_i32_758 v3262
  let v3307 : BitVec 32 := Scalar.minsi v3306 v3263
  let v4044 : Index := Scalar.indexCast v3307
  let c199_i32_749 : BitVec 32 := 199#32
  let c0_i32_748 : BitVec 32 := 0#32
  let v3247 : BitVec 32 := Scalar.maxsi c0_i32_748 v3246
  let v3248 : BitVec 32 := Scalar.minsi c199_i32_749 v3247
  let v3341 : BitVec 32 := Scalar.addi v3248 v3340
  let c3_i32_795 : BitVec 32 := 3#32
  let v3344 : BitVec 32 := Scalar.shrsi v3341 c3_i32_795
  let c3_i32_796 : BitVec 32 := 3#32
  let v3345 : BitVec 32 := Scalar.shli v3344 c3_i32_796
  let v3346 : BitVec 32 := v3345
  let v4045 : Index := Scalar.indexCast v3346
  let c0_972 : Index := 0#32
  ![v4044.toNat, v4045.toNat, 0]
def k0_off364 (k0_t1 : Fin k0_t1_loop.trips) : Fin 3 → Nat :=
  let c21_974 : Index := 21#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c2_i32_743 : BitVec 32 := 2#32
  let v3238 : BitVec 32 := Scalar.addi v5 c2_i32_743
  let v4064 : Index := Scalar.indexCast v3238
  let c0_975 : Index := 0#32
  ![21, v4064.toNat, 0]
def k0_off365 (v3246 : BitVec 32) (v3251 : BitVec 32) (v3304 : BitVec 32) (v3353 : BitVec 32) : Fin 3 → Nat :=
  let c199_i32_752 : BitVec 32 := 199#32
  let c0_i32_751 : BitVec 32 := 0#32
  let v3252 : BitVec 32 := Scalar.maxsi c0_i32_751 v3251
  let v3253 : BitVec 32 := Scalar.minsi c199_i32_752 v3252
  let v3305 : BitVec 32 := Scalar.addi v3253 v3304
  let v4069 : Index := Scalar.indexCast v3305
  let c199_i32_749 : BitVec 32 := 199#32
  let c0_i32_748 : BitVec 32 := 0#32
  let v3247 : BitVec 32 := Scalar.maxsi c0_i32_748 v3246
  let v3248 : BitVec 32 := Scalar.minsi c199_i32_749 v3247
  let v3354 : BitVec 32 := Scalar.addi v3248 v3353
  let c3_i32_802 : BitVec 32 := 3#32
  let v3357 : BitVec 32 := Scalar.shrsi v3354 c3_i32_802
  let c3_i32_803 : BitVec 32 := 3#32
  let v3358 : BitVec 32 := Scalar.shli v3357 c3_i32_803
  let v3359 : BitVec 32 := v3358
  let v4070 : Index := Scalar.indexCast v3359
  let c0_977 : Index := 0#32
  ![v4069.toNat, v4070.toNat, 0]
def k0_off366 (v3246 : BitVec 32) (v3251 : BitVec 32) (v3261 : BitVec 32) (v3304 : BitVec 32) (v3353 : BitVec 32) : Fin 3 → Nat :=
  let c199_i32_752 : BitVec 32 := 199#32
  let c0_i32_751 : BitVec 32 := 0#32
  let v3252 : BitVec 32 := Scalar.maxsi c0_i32_751 v3251
  let v3253 : BitVec 32 := Scalar.minsi c199_i32_752 v3252
  let v3305 : BitVec 32 := Scalar.addi v3253 v3304
  let c1_i32_778 : BitVec 32 := 1#32
  let v3306 : BitVec 32 := Scalar.addi v3305 c1_i32_778
  let c199_i32_758 : BitVec 32 := 199#32
  let c0_i32_757 : BitVec 32 := 0#32
  let v3262 : BitVec 32 := Scalar.maxsi c0_i32_757 v3261
  let v3263 : BitVec 32 := Scalar.minsi c199_i32_758 v3262
  let v3307 : BitVec 32 := Scalar.minsi v3306 v3263
  let v4073 : Index := Scalar.indexCast v3307
  let c199_i32_749 : BitVec 32 := 199#32
  let c0_i32_748 : BitVec 32 := 0#32
  let v3247 : BitVec 32 := Scalar.maxsi c0_i32_748 v3246
  let v3248 : BitVec 32 := Scalar.minsi c199_i32_749 v3247
  let v3354 : BitVec 32 := Scalar.addi v3248 v3353
  let c3_i32_802 : BitVec 32 := 3#32
  let v3357 : BitVec 32 := Scalar.shrsi v3354 c3_i32_802
  let c3_i32_803 : BitVec 32 := 3#32
  let v3358 : BitVec 32 := Scalar.shli v3357 c3_i32_803
  let v3359 : BitVec 32 := v3358
  let v4074 : Index := Scalar.indexCast v3359
  let c0_978 : Index := 0#32
  ![v4073.toNat, v4074.toNat, 0]
def k0_off367 (k0_t1 : Fin k0_t1_loop.trips) : Fin 3 → Nat :=
  let c22_980 : Index := 22#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c2_i32_743 : BitVec 32 := 2#32
  let v3238 : BitVec 32 := Scalar.addi v5 c2_i32_743
  let v4093 : Index := Scalar.indexCast v3238
  let c0_981 : Index := 0#32
  ![22, v4093.toNat, 0]
def k0_off368 (v3246 : BitVec 32) (v3251 : BitVec 32) (v3304 : BitVec 32) (v3366 : BitVec 32) : Fin 3 → Nat :=
  let c199_i32_752 : BitVec 32 := 199#32
  let c0_i32_751 : BitVec 32 := 0#32
  let v3252 : BitVec 32 := Scalar.maxsi c0_i32_751 v3251
  let v3253 : BitVec 32 := Scalar.minsi c199_i32_752 v3252
  let v3305 : BitVec 32 := Scalar.addi v3253 v3304
  let v4098 : Index := Scalar.indexCast v3305
  let c199_i32_749 : BitVec 32 := 199#32
  let c0_i32_748 : BitVec 32 := 0#32
  let v3247 : BitVec 32 := Scalar.maxsi c0_i32_748 v3246
  let v3248 : BitVec 32 := Scalar.minsi c199_i32_749 v3247
  let v3367 : BitVec 32 := Scalar.addi v3248 v3366
  let c3_i32_809 : BitVec 32 := 3#32
  let v3370 : BitVec 32 := Scalar.shrsi v3367 c3_i32_809
  let c3_i32_810 : BitVec 32 := 3#32
  let v3371 : BitVec 32 := Scalar.shli v3370 c3_i32_810
  let v3372 : BitVec 32 := v3371
  let v4099 : Index := Scalar.indexCast v3372
  let c0_983 : Index := 0#32
  ![v4098.toNat, v4099.toNat, 0]
def k0_off369 (v3246 : BitVec 32) (v3251 : BitVec 32) (v3261 : BitVec 32) (v3304 : BitVec 32) (v3366 : BitVec 32) : Fin 3 → Nat :=
  let c199_i32_752 : BitVec 32 := 199#32
  let c0_i32_751 : BitVec 32 := 0#32
  let v3252 : BitVec 32 := Scalar.maxsi c0_i32_751 v3251
  let v3253 : BitVec 32 := Scalar.minsi c199_i32_752 v3252
  let v3305 : BitVec 32 := Scalar.addi v3253 v3304
  let c1_i32_778 : BitVec 32 := 1#32
  let v3306 : BitVec 32 := Scalar.addi v3305 c1_i32_778
  let c199_i32_758 : BitVec 32 := 199#32
  let c0_i32_757 : BitVec 32 := 0#32
  let v3262 : BitVec 32 := Scalar.maxsi c0_i32_757 v3261
  let v3263 : BitVec 32 := Scalar.minsi c199_i32_758 v3262
  let v3307 : BitVec 32 := Scalar.minsi v3306 v3263
  let v4102 : Index := Scalar.indexCast v3307
  let c199_i32_749 : BitVec 32 := 199#32
  let c0_i32_748 : BitVec 32 := 0#32
  let v3247 : BitVec 32 := Scalar.maxsi c0_i32_748 v3246
  let v3248 : BitVec 32 := Scalar.minsi c199_i32_749 v3247
  let v3367 : BitVec 32 := Scalar.addi v3248 v3366
  let c3_i32_809 : BitVec 32 := 3#32
  let v3370 : BitVec 32 := Scalar.shrsi v3367 c3_i32_809
  let c3_i32_810 : BitVec 32 := 3#32
  let v3371 : BitVec 32 := Scalar.shli v3370 c3_i32_810
  let v3372 : BitVec 32 := v3371
  let v4103 : Index := Scalar.indexCast v3372
  let c0_984 : Index := 0#32
  ![v4102.toNat, v4103.toNat, 0]
def k0_off370 (k0_t1 : Fin k0_t1_loop.trips) : Fin 3 → Nat :=
  let c23_986 : Index := 23#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c2_i32_743 : BitVec 32 := 2#32
  let v3238 : BitVec 32 := Scalar.addi v5 c2_i32_743
  let v4122 : Index := Scalar.indexCast v3238
  let c0_987 : Index := 0#32
  ![23, v4122.toNat, 0]
def k0_off371 (v3246 : BitVec 32) (v3251 : BitVec 32) (v3304 : BitVec 32) (v3379 : BitVec 32) : Fin 3 → Nat :=
  let c199_i32_752 : BitVec 32 := 199#32
  let c0_i32_751 : BitVec 32 := 0#32
  let v3252 : BitVec 32 := Scalar.maxsi c0_i32_751 v3251
  let v3253 : BitVec 32 := Scalar.minsi c199_i32_752 v3252
  let v3305 : BitVec 32 := Scalar.addi v3253 v3304
  let v4127 : Index := Scalar.indexCast v3305
  let c199_i32_749 : BitVec 32 := 199#32
  let c0_i32_748 : BitVec 32 := 0#32
  let v3247 : BitVec 32 := Scalar.maxsi c0_i32_748 v3246
  let v3248 : BitVec 32 := Scalar.minsi c199_i32_749 v3247
  let v3380 : BitVec 32 := Scalar.addi v3248 v3379
  let c3_i32_816 : BitVec 32 := 3#32
  let v3383 : BitVec 32 := Scalar.shrsi v3380 c3_i32_816
  let c3_i32_817 : BitVec 32 := 3#32
  let v3384 : BitVec 32 := Scalar.shli v3383 c3_i32_817
  let v3385 : BitVec 32 := v3384
  let v4128 : Index := Scalar.indexCast v3385
  let c0_989 : Index := 0#32
  ![v4127.toNat, v4128.toNat, 0]
def k0_off372 (v3246 : BitVec 32) (v3251 : BitVec 32) (v3261 : BitVec 32) (v3304 : BitVec 32) (v3379 : BitVec 32) : Fin 3 → Nat :=
  let c199_i32_752 : BitVec 32 := 199#32
  let c0_i32_751 : BitVec 32 := 0#32
  let v3252 : BitVec 32 := Scalar.maxsi c0_i32_751 v3251
  let v3253 : BitVec 32 := Scalar.minsi c199_i32_752 v3252
  let v3305 : BitVec 32 := Scalar.addi v3253 v3304
  let c1_i32_778 : BitVec 32 := 1#32
  let v3306 : BitVec 32 := Scalar.addi v3305 c1_i32_778
  let c199_i32_758 : BitVec 32 := 199#32
  let c0_i32_757 : BitVec 32 := 0#32
  let v3262 : BitVec 32 := Scalar.maxsi c0_i32_757 v3261
  let v3263 : BitVec 32 := Scalar.minsi c199_i32_758 v3262
  let v3307 : BitVec 32 := Scalar.minsi v3306 v3263
  let v4131 : Index := Scalar.indexCast v3307
  let c199_i32_749 : BitVec 32 := 199#32
  let c0_i32_748 : BitVec 32 := 0#32
  let v3247 : BitVec 32 := Scalar.maxsi c0_i32_748 v3246
  let v3248 : BitVec 32 := Scalar.minsi c199_i32_749 v3247
  let v3380 : BitVec 32 := Scalar.addi v3248 v3379
  let c3_i32_816 : BitVec 32 := 3#32
  let v3383 : BitVec 32 := Scalar.shrsi v3380 c3_i32_816
  let c3_i32_817 : BitVec 32 := 3#32
  let v3384 : BitVec 32 := Scalar.shli v3383 c3_i32_817
  let v3385 : BitVec 32 := v3384
  let v4132 : Index := Scalar.indexCast v3385
  let c0_990 : Index := 0#32
  ![v4131.toNat, v4132.toNat, 0]
def k0_off373 (k0_t1 : Fin k0_t1_loop.trips) : Fin 3 → Nat :=
  let c24_992 : Index := 24#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c2_i32_743 : BitVec 32 := 2#32
  let v3238 : BitVec 32 := Scalar.addi v5 c2_i32_743
  let v4151 : Index := Scalar.indexCast v3238
  let c0_993 : Index := 0#32
  ![24, v4151.toNat, 0]
def k0_off374 (v3246 : BitVec 32) (v3251 : BitVec 32) (v3304 : BitVec 32) (v3392 : BitVec 32) : Fin 3 → Nat :=
  let c199_i32_752 : BitVec 32 := 199#32
  let c0_i32_751 : BitVec 32 := 0#32
  let v3252 : BitVec 32 := Scalar.maxsi c0_i32_751 v3251
  let v3253 : BitVec 32 := Scalar.minsi c199_i32_752 v3252
  let v3305 : BitVec 32 := Scalar.addi v3253 v3304
  let v4156 : Index := Scalar.indexCast v3305
  let c199_i32_749 : BitVec 32 := 199#32
  let c0_i32_748 : BitVec 32 := 0#32
  let v3247 : BitVec 32 := Scalar.maxsi c0_i32_748 v3246
  let v3248 : BitVec 32 := Scalar.minsi c199_i32_749 v3247
  let v3393 : BitVec 32 := Scalar.addi v3248 v3392
  let c3_i32_823 : BitVec 32 := 3#32
  let v3396 : BitVec 32 := Scalar.shrsi v3393 c3_i32_823
  let c3_i32_824 : BitVec 32 := 3#32
  let v3397 : BitVec 32 := Scalar.shli v3396 c3_i32_824
  let v3398 : BitVec 32 := v3397
  let v4157 : Index := Scalar.indexCast v3398
  let c0_995 : Index := 0#32
  ![v4156.toNat, v4157.toNat, 0]
def k0_off375 (v3246 : BitVec 32) (v3251 : BitVec 32) (v3261 : BitVec 32) (v3304 : BitVec 32) (v3392 : BitVec 32) : Fin 3 → Nat :=
  let c199_i32_752 : BitVec 32 := 199#32
  let c0_i32_751 : BitVec 32 := 0#32
  let v3252 : BitVec 32 := Scalar.maxsi c0_i32_751 v3251
  let v3253 : BitVec 32 := Scalar.minsi c199_i32_752 v3252
  let v3305 : BitVec 32 := Scalar.addi v3253 v3304
  let c1_i32_778 : BitVec 32 := 1#32
  let v3306 : BitVec 32 := Scalar.addi v3305 c1_i32_778
  let c199_i32_758 : BitVec 32 := 199#32
  let c0_i32_757 : BitVec 32 := 0#32
  let v3262 : BitVec 32 := Scalar.maxsi c0_i32_757 v3261
  let v3263 : BitVec 32 := Scalar.minsi c199_i32_758 v3262
  let v3307 : BitVec 32 := Scalar.minsi v3306 v3263
  let v4160 : Index := Scalar.indexCast v3307
  let c199_i32_749 : BitVec 32 := 199#32
  let c0_i32_748 : BitVec 32 := 0#32
  let v3247 : BitVec 32 := Scalar.maxsi c0_i32_748 v3246
  let v3248 : BitVec 32 := Scalar.minsi c199_i32_749 v3247
  let v3393 : BitVec 32 := Scalar.addi v3248 v3392
  let c3_i32_823 : BitVec 32 := 3#32
  let v3396 : BitVec 32 := Scalar.shrsi v3393 c3_i32_823
  let c3_i32_824 : BitVec 32 := 3#32
  let v3397 : BitVec 32 := Scalar.shli v3396 c3_i32_824
  let v3398 : BitVec 32 := v3397
  let v4161 : Index := Scalar.indexCast v3398
  let c0_996 : Index := 0#32
  ![v4160.toNat, v4161.toNat, 0]
def k0_off376 (k0_t1 : Fin k0_t1_loop.trips) : Fin 3 → Nat :=
  let c25_998 : Index := 25#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c2_i32_743 : BitVec 32 := 2#32
  let v3238 : BitVec 32 := Scalar.addi v5 c2_i32_743
  let v4180 : Index := Scalar.indexCast v3238
  let c0_999 : Index := 0#32
  ![25, v4180.toNat, 0]
def k0_off377 (v3246 : BitVec 32) (v3251 : BitVec 32) (v3304 : BitVec 32) (v3405 : BitVec 32) : Fin 3 → Nat :=
  let c199_i32_752 : BitVec 32 := 199#32
  let c0_i32_751 : BitVec 32 := 0#32
  let v3252 : BitVec 32 := Scalar.maxsi c0_i32_751 v3251
  let v3253 : BitVec 32 := Scalar.minsi c199_i32_752 v3252
  let v3305 : BitVec 32 := Scalar.addi v3253 v3304
  let v4185 : Index := Scalar.indexCast v3305
  let c199_i32_749 : BitVec 32 := 199#32
  let c0_i32_748 : BitVec 32 := 0#32
  let v3247 : BitVec 32 := Scalar.maxsi c0_i32_748 v3246
  let v3248 : BitVec 32 := Scalar.minsi c199_i32_749 v3247
  let v3406 : BitVec 32 := Scalar.addi v3248 v3405
  let c3_i32_830 : BitVec 32 := 3#32
  let v3409 : BitVec 32 := Scalar.shrsi v3406 c3_i32_830
  let c3_i32_831 : BitVec 32 := 3#32
  let v3410 : BitVec 32 := Scalar.shli v3409 c3_i32_831
  let v3411 : BitVec 32 := v3410
  let v4186 : Index := Scalar.indexCast v3411
  let c0_1001 : Index := 0#32
  ![v4185.toNat, v4186.toNat, 0]
def k0_off378 (v3246 : BitVec 32) (v3251 : BitVec 32) (v3261 : BitVec 32) (v3304 : BitVec 32) (v3405 : BitVec 32) : Fin 3 → Nat :=
  let c199_i32_752 : BitVec 32 := 199#32
  let c0_i32_751 : BitVec 32 := 0#32
  let v3252 : BitVec 32 := Scalar.maxsi c0_i32_751 v3251
  let v3253 : BitVec 32 := Scalar.minsi c199_i32_752 v3252
  let v3305 : BitVec 32 := Scalar.addi v3253 v3304
  let c1_i32_778 : BitVec 32 := 1#32
  let v3306 : BitVec 32 := Scalar.addi v3305 c1_i32_778
  let c199_i32_758 : BitVec 32 := 199#32
  let c0_i32_757 : BitVec 32 := 0#32
  let v3262 : BitVec 32 := Scalar.maxsi c0_i32_757 v3261
  let v3263 : BitVec 32 := Scalar.minsi c199_i32_758 v3262
  let v3307 : BitVec 32 := Scalar.minsi v3306 v3263
  let v4189 : Index := Scalar.indexCast v3307
  let c199_i32_749 : BitVec 32 := 199#32
  let c0_i32_748 : BitVec 32 := 0#32
  let v3247 : BitVec 32 := Scalar.maxsi c0_i32_748 v3246
  let v3248 : BitVec 32 := Scalar.minsi c199_i32_749 v3247
  let v3406 : BitVec 32 := Scalar.addi v3248 v3405
  let c3_i32_830 : BitVec 32 := 3#32
  let v3409 : BitVec 32 := Scalar.shrsi v3406 c3_i32_830
  let c3_i32_831 : BitVec 32 := 3#32
  let v3410 : BitVec 32 := Scalar.shli v3409 c3_i32_831
  let v3411 : BitVec 32 := v3410
  let v4190 : Index := Scalar.indexCast v3411
  let c0_1002 : Index := 0#32
  ![v4189.toNat, v4190.toNat, 0]
def k0_off379 (k0_t1 : Fin k0_t1_loop.trips) : Fin 3 → Nat :=
  let c26_1004 : Index := 26#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c2_i32_743 : BitVec 32 := 2#32
  let v3238 : BitVec 32 := Scalar.addi v5 c2_i32_743
  let v4209 : Index := Scalar.indexCast v3238
  let c0_1005 : Index := 0#32
  ![26, v4209.toNat, 0]
def k0_off380 (v3246 : BitVec 32) (v3251 : BitVec 32) (v3304 : BitVec 32) (v3418 : BitVec 32) : Fin 3 → Nat :=
  let c199_i32_752 : BitVec 32 := 199#32
  let c0_i32_751 : BitVec 32 := 0#32
  let v3252 : BitVec 32 := Scalar.maxsi c0_i32_751 v3251
  let v3253 : BitVec 32 := Scalar.minsi c199_i32_752 v3252
  let v3305 : BitVec 32 := Scalar.addi v3253 v3304
  let v4214 : Index := Scalar.indexCast v3305
  let c199_i32_749 : BitVec 32 := 199#32
  let c0_i32_748 : BitVec 32 := 0#32
  let v3247 : BitVec 32 := Scalar.maxsi c0_i32_748 v3246
  let v3248 : BitVec 32 := Scalar.minsi c199_i32_749 v3247
  let v3419 : BitVec 32 := Scalar.addi v3248 v3418
  let c3_i32_837 : BitVec 32 := 3#32
  let v3422 : BitVec 32 := Scalar.shrsi v3419 c3_i32_837
  let c3_i32_838 : BitVec 32 := 3#32
  let v3423 : BitVec 32 := Scalar.shli v3422 c3_i32_838
  let v3424 : BitVec 32 := v3423
  let v4215 : Index := Scalar.indexCast v3424
  let c0_1007 : Index := 0#32
  ![v4214.toNat, v4215.toNat, 0]
def k0_off381 (v3246 : BitVec 32) (v3251 : BitVec 32) (v3261 : BitVec 32) (v3304 : BitVec 32) (v3418 : BitVec 32) : Fin 3 → Nat :=
  let c199_i32_752 : BitVec 32 := 199#32
  let c0_i32_751 : BitVec 32 := 0#32
  let v3252 : BitVec 32 := Scalar.maxsi c0_i32_751 v3251
  let v3253 : BitVec 32 := Scalar.minsi c199_i32_752 v3252
  let v3305 : BitVec 32 := Scalar.addi v3253 v3304
  let c1_i32_778 : BitVec 32 := 1#32
  let v3306 : BitVec 32 := Scalar.addi v3305 c1_i32_778
  let c199_i32_758 : BitVec 32 := 199#32
  let c0_i32_757 : BitVec 32 := 0#32
  let v3262 : BitVec 32 := Scalar.maxsi c0_i32_757 v3261
  let v3263 : BitVec 32 := Scalar.minsi c199_i32_758 v3262
  let v3307 : BitVec 32 := Scalar.minsi v3306 v3263
  let v4218 : Index := Scalar.indexCast v3307
  let c199_i32_749 : BitVec 32 := 199#32
  let c0_i32_748 : BitVec 32 := 0#32
  let v3247 : BitVec 32 := Scalar.maxsi c0_i32_748 v3246
  let v3248 : BitVec 32 := Scalar.minsi c199_i32_749 v3247
  let v3419 : BitVec 32 := Scalar.addi v3248 v3418
  let c3_i32_837 : BitVec 32 := 3#32
  let v3422 : BitVec 32 := Scalar.shrsi v3419 c3_i32_837
  let c3_i32_838 : BitVec 32 := 3#32
  let v3423 : BitVec 32 := Scalar.shli v3422 c3_i32_838
  let v3424 : BitVec 32 := v3423
  let v4219 : Index := Scalar.indexCast v3424
  let c0_1008 : Index := 0#32
  ![v4218.toNat, v4219.toNat, 0]
def k0_off382 (k0_t1 : Fin k0_t1_loop.trips) : Fin 3 → Nat :=
  let c27_1010 : Index := 27#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c2_i32_743 : BitVec 32 := 2#32
  let v3238 : BitVec 32 := Scalar.addi v5 c2_i32_743
  let v4238 : Index := Scalar.indexCast v3238
  let c0_1011 : Index := 0#32
  ![27, v4238.toNat, 0]
def k0_off383 (v3246 : BitVec 32) (v3251 : BitVec 32) (v3313 : BitVec 32) (v3340 : BitVec 32) : Fin 3 → Nat :=
  let c199_i32_752 : BitVec 32 := 199#32
  let c0_i32_751 : BitVec 32 := 0#32
  let v3252 : BitVec 32 := Scalar.maxsi c0_i32_751 v3251
  let v3253 : BitVec 32 := Scalar.minsi c199_i32_752 v3252
  let v3314 : BitVec 32 := Scalar.addi v3253 v3313
  let v4244 : Index := Scalar.indexCast v3314
  let c199_i32_749 : BitVec 32 := 199#32
  let c0_i32_748 : BitVec 32 := 0#32
  let v3247 : BitVec 32 := Scalar.maxsi c0_i32_748 v3246
  let v3248 : BitVec 32 := Scalar.minsi c199_i32_749 v3247
  let v3341 : BitVec 32 := Scalar.addi v3248 v3340
  let c3_i32_795 : BitVec 32 := 3#32
  let v3344 : BitVec 32 := Scalar.shrsi v3341 c3_i32_795
  let c3_i32_796 : BitVec 32 := 3#32
  let v3345 : BitVec 32 := Scalar.shli v3344 c3_i32_796
  let v3346 : BitVec 32 := v3345
  let v4245 : Index := Scalar.indexCast v3346
  let c0_1014 : Index := 0#32
  ![v4244.toNat, v4245.toNat, 0]
def k0_off384 (v3246 : BitVec 32) (v3251 : BitVec 32) (v3261 : BitVec 32) (v3313 : BitVec 32) (v3340 : BitVec 32) : Fin 3 → Nat :=
  let c199_i32_752 : BitVec 32 := 199#32
  let c0_i32_751 : BitVec 32 := 0#32
  let v3252 : BitVec 32 := Scalar.maxsi c0_i32_751 v3251
  let v3253 : BitVec 32 := Scalar.minsi c199_i32_752 v3252
  let v3314 : BitVec 32 := Scalar.addi v3253 v3313
  let c1_i32_782 : BitVec 32 := 1#32
  let v3315 : BitVec 32 := Scalar.addi v3314 c1_i32_782
  let c199_i32_758 : BitVec 32 := 199#32
  let c0_i32_757 : BitVec 32 := 0#32
  let v3262 : BitVec 32 := Scalar.maxsi c0_i32_757 v3261
  let v3263 : BitVec 32 := Scalar.minsi c199_i32_758 v3262
  let v3316 : BitVec 32 := Scalar.minsi v3315 v3263
  let v4248 : Index := Scalar.indexCast v3316
  let c199_i32_749 : BitVec 32 := 199#32
  let c0_i32_748 : BitVec 32 := 0#32
  let v3247 : BitVec 32 := Scalar.maxsi c0_i32_748 v3246
  let v3248 : BitVec 32 := Scalar.minsi c199_i32_749 v3247
  let v3341 : BitVec 32 := Scalar.addi v3248 v3340
  let c3_i32_795 : BitVec 32 := 3#32
  let v3344 : BitVec 32 := Scalar.shrsi v3341 c3_i32_795
  let c3_i32_796 : BitVec 32 := 3#32
  let v3345 : BitVec 32 := Scalar.shli v3344 c3_i32_796
  let v3346 : BitVec 32 := v3345
  let v4249 : Index := Scalar.indexCast v3346
  let c0_1015 : Index := 0#32
  ![v4248.toNat, v4249.toNat, 0]
def k0_off385 (k0_t1 : Fin k0_t1_loop.trips) : Fin 3 → Nat :=
  let c28_1017 : Index := 28#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c2_i32_743 : BitVec 32 := 2#32
  let v3238 : BitVec 32 := Scalar.addi v5 c2_i32_743
  let v4268 : Index := Scalar.indexCast v3238
  let c0_1018 : Index := 0#32
  ![28, v4268.toNat, 0]
def k0_off386 (v3246 : BitVec 32) (v3251 : BitVec 32) (v3313 : BitVec 32) (v3353 : BitVec 32) : Fin 3 → Nat :=
  let c199_i32_752 : BitVec 32 := 199#32
  let c0_i32_751 : BitVec 32 := 0#32
  let v3252 : BitVec 32 := Scalar.maxsi c0_i32_751 v3251
  let v3253 : BitVec 32 := Scalar.minsi c199_i32_752 v3252
  let v3314 : BitVec 32 := Scalar.addi v3253 v3313
  let v4273 : Index := Scalar.indexCast v3314
  let c199_i32_749 : BitVec 32 := 199#32
  let c0_i32_748 : BitVec 32 := 0#32
  let v3247 : BitVec 32 := Scalar.maxsi c0_i32_748 v3246
  let v3248 : BitVec 32 := Scalar.minsi c199_i32_749 v3247
  let v3354 : BitVec 32 := Scalar.addi v3248 v3353
  let c3_i32_802 : BitVec 32 := 3#32
  let v3357 : BitVec 32 := Scalar.shrsi v3354 c3_i32_802
  let c3_i32_803 : BitVec 32 := 3#32
  let v3358 : BitVec 32 := Scalar.shli v3357 c3_i32_803
  let v3359 : BitVec 32 := v3358
  let v4274 : Index := Scalar.indexCast v3359
  let c0_1020 : Index := 0#32
  ![v4273.toNat, v4274.toNat, 0]
def k0_off387 (v3246 : BitVec 32) (v3251 : BitVec 32) (v3261 : BitVec 32) (v3313 : BitVec 32) (v3353 : BitVec 32) : Fin 3 → Nat :=
  let c199_i32_752 : BitVec 32 := 199#32
  let c0_i32_751 : BitVec 32 := 0#32
  let v3252 : BitVec 32 := Scalar.maxsi c0_i32_751 v3251
  let v3253 : BitVec 32 := Scalar.minsi c199_i32_752 v3252
  let v3314 : BitVec 32 := Scalar.addi v3253 v3313
  let c1_i32_782 : BitVec 32 := 1#32
  let v3315 : BitVec 32 := Scalar.addi v3314 c1_i32_782
  let c199_i32_758 : BitVec 32 := 199#32
  let c0_i32_757 : BitVec 32 := 0#32
  let v3262 : BitVec 32 := Scalar.maxsi c0_i32_757 v3261
  let v3263 : BitVec 32 := Scalar.minsi c199_i32_758 v3262
  let v3316 : BitVec 32 := Scalar.minsi v3315 v3263
  let v4277 : Index := Scalar.indexCast v3316
  let c199_i32_749 : BitVec 32 := 199#32
  let c0_i32_748 : BitVec 32 := 0#32
  let v3247 : BitVec 32 := Scalar.maxsi c0_i32_748 v3246
  let v3248 : BitVec 32 := Scalar.minsi c199_i32_749 v3247
  let v3354 : BitVec 32 := Scalar.addi v3248 v3353
  let c3_i32_802 : BitVec 32 := 3#32
  let v3357 : BitVec 32 := Scalar.shrsi v3354 c3_i32_802
  let c3_i32_803 : BitVec 32 := 3#32
  let v3358 : BitVec 32 := Scalar.shli v3357 c3_i32_803
  let v3359 : BitVec 32 := v3358
  let v4278 : Index := Scalar.indexCast v3359
  let c0_1021 : Index := 0#32
  ![v4277.toNat, v4278.toNat, 0]
def k0_off388 (k0_t1 : Fin k0_t1_loop.trips) : Fin 3 → Nat :=
  let c29_1023 : Index := 29#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c2_i32_743 : BitVec 32 := 2#32
  let v3238 : BitVec 32 := Scalar.addi v5 c2_i32_743
  let v4297 : Index := Scalar.indexCast v3238
  let c0_1024 : Index := 0#32
  ![29, v4297.toNat, 0]
def k0_off389 (v3246 : BitVec 32) (v3251 : BitVec 32) (v3313 : BitVec 32) (v3366 : BitVec 32) : Fin 3 → Nat :=
  let c199_i32_752 : BitVec 32 := 199#32
  let c0_i32_751 : BitVec 32 := 0#32
  let v3252 : BitVec 32 := Scalar.maxsi c0_i32_751 v3251
  let v3253 : BitVec 32 := Scalar.minsi c199_i32_752 v3252
  let v3314 : BitVec 32 := Scalar.addi v3253 v3313
  let v4302 : Index := Scalar.indexCast v3314
  let c199_i32_749 : BitVec 32 := 199#32
  let c0_i32_748 : BitVec 32 := 0#32
  let v3247 : BitVec 32 := Scalar.maxsi c0_i32_748 v3246
  let v3248 : BitVec 32 := Scalar.minsi c199_i32_749 v3247
  let v3367 : BitVec 32 := Scalar.addi v3248 v3366
  let c3_i32_809 : BitVec 32 := 3#32
  let v3370 : BitVec 32 := Scalar.shrsi v3367 c3_i32_809
  let c3_i32_810 : BitVec 32 := 3#32
  let v3371 : BitVec 32 := Scalar.shli v3370 c3_i32_810
  let v3372 : BitVec 32 := v3371
  let v4303 : Index := Scalar.indexCast v3372
  let c0_1026 : Index := 0#32
  ![v4302.toNat, v4303.toNat, 0]
def k0_off390 (v3246 : BitVec 32) (v3251 : BitVec 32) (v3261 : BitVec 32) (v3313 : BitVec 32) (v3366 : BitVec 32) : Fin 3 → Nat :=
  let c199_i32_752 : BitVec 32 := 199#32
  let c0_i32_751 : BitVec 32 := 0#32
  let v3252 : BitVec 32 := Scalar.maxsi c0_i32_751 v3251
  let v3253 : BitVec 32 := Scalar.minsi c199_i32_752 v3252
  let v3314 : BitVec 32 := Scalar.addi v3253 v3313
  let c1_i32_782 : BitVec 32 := 1#32
  let v3315 : BitVec 32 := Scalar.addi v3314 c1_i32_782
  let c199_i32_758 : BitVec 32 := 199#32
  let c0_i32_757 : BitVec 32 := 0#32
  let v3262 : BitVec 32 := Scalar.maxsi c0_i32_757 v3261
  let v3263 : BitVec 32 := Scalar.minsi c199_i32_758 v3262
  let v3316 : BitVec 32 := Scalar.minsi v3315 v3263
  let v4306 : Index := Scalar.indexCast v3316
  let c199_i32_749 : BitVec 32 := 199#32
  let c0_i32_748 : BitVec 32 := 0#32
  let v3247 : BitVec 32 := Scalar.maxsi c0_i32_748 v3246
  let v3248 : BitVec 32 := Scalar.minsi c199_i32_749 v3247
  let v3367 : BitVec 32 := Scalar.addi v3248 v3366
  let c3_i32_809 : BitVec 32 := 3#32
  let v3370 : BitVec 32 := Scalar.shrsi v3367 c3_i32_809
  let c3_i32_810 : BitVec 32 := 3#32
  let v3371 : BitVec 32 := Scalar.shli v3370 c3_i32_810
  let v3372 : BitVec 32 := v3371
  let v4307 : Index := Scalar.indexCast v3372
  let c0_1027 : Index := 0#32
  ![v4306.toNat, v4307.toNat, 0]
def k0_off391 (k0_t1 : Fin k0_t1_loop.trips) : Fin 3 → Nat :=
  let c30_1029 : Index := 30#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c2_i32_743 : BitVec 32 := 2#32
  let v3238 : BitVec 32 := Scalar.addi v5 c2_i32_743
  let v4326 : Index := Scalar.indexCast v3238
  let c0_1030 : Index := 0#32
  ![30, v4326.toNat, 0]
def k0_off392 (v3246 : BitVec 32) (v3251 : BitVec 32) (v3313 : BitVec 32) (v3379 : BitVec 32) : Fin 3 → Nat :=
  let c199_i32_752 : BitVec 32 := 199#32
  let c0_i32_751 : BitVec 32 := 0#32
  let v3252 : BitVec 32 := Scalar.maxsi c0_i32_751 v3251
  let v3253 : BitVec 32 := Scalar.minsi c199_i32_752 v3252
  let v3314 : BitVec 32 := Scalar.addi v3253 v3313
  let v4331 : Index := Scalar.indexCast v3314
  let c199_i32_749 : BitVec 32 := 199#32
  let c0_i32_748 : BitVec 32 := 0#32
  let v3247 : BitVec 32 := Scalar.maxsi c0_i32_748 v3246
  let v3248 : BitVec 32 := Scalar.minsi c199_i32_749 v3247
  let v3380 : BitVec 32 := Scalar.addi v3248 v3379
  let c3_i32_816 : BitVec 32 := 3#32
  let v3383 : BitVec 32 := Scalar.shrsi v3380 c3_i32_816
  let c3_i32_817 : BitVec 32 := 3#32
  let v3384 : BitVec 32 := Scalar.shli v3383 c3_i32_817
  let v3385 : BitVec 32 := v3384
  let v4332 : Index := Scalar.indexCast v3385
  let c0_1032 : Index := 0#32
  ![v4331.toNat, v4332.toNat, 0]
def k0_off393 (v3246 : BitVec 32) (v3251 : BitVec 32) (v3261 : BitVec 32) (v3313 : BitVec 32) (v3379 : BitVec 32) : Fin 3 → Nat :=
  let c199_i32_752 : BitVec 32 := 199#32
  let c0_i32_751 : BitVec 32 := 0#32
  let v3252 : BitVec 32 := Scalar.maxsi c0_i32_751 v3251
  let v3253 : BitVec 32 := Scalar.minsi c199_i32_752 v3252
  let v3314 : BitVec 32 := Scalar.addi v3253 v3313
  let c1_i32_782 : BitVec 32 := 1#32
  let v3315 : BitVec 32 := Scalar.addi v3314 c1_i32_782
  let c199_i32_758 : BitVec 32 := 199#32
  let c0_i32_757 : BitVec 32 := 0#32
  let v3262 : BitVec 32 := Scalar.maxsi c0_i32_757 v3261
  let v3263 : BitVec 32 := Scalar.minsi c199_i32_758 v3262
  let v3316 : BitVec 32 := Scalar.minsi v3315 v3263
  let v4335 : Index := Scalar.indexCast v3316
  let c199_i32_749 : BitVec 32 := 199#32
  let c0_i32_748 : BitVec 32 := 0#32
  let v3247 : BitVec 32 := Scalar.maxsi c0_i32_748 v3246
  let v3248 : BitVec 32 := Scalar.minsi c199_i32_749 v3247
  let v3380 : BitVec 32 := Scalar.addi v3248 v3379
  let c3_i32_816 : BitVec 32 := 3#32
  let v3383 : BitVec 32 := Scalar.shrsi v3380 c3_i32_816
  let c3_i32_817 : BitVec 32 := 3#32
  let v3384 : BitVec 32 := Scalar.shli v3383 c3_i32_817
  let v3385 : BitVec 32 := v3384
  let v4336 : Index := Scalar.indexCast v3385
  let c0_1033 : Index := 0#32
  ![v4335.toNat, v4336.toNat, 0]
def k0_off394 (k0_t1 : Fin k0_t1_loop.trips) : Fin 3 → Nat :=
  let c31_1035 : Index := 31#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c2_i32_743 : BitVec 32 := 2#32
  let v3238 : BitVec 32 := Scalar.addi v5 c2_i32_743
  let v4355 : Index := Scalar.indexCast v3238
  let c0_1036 : Index := 0#32
  ![31, v4355.toNat, 0]
def k0_off395 (v3246 : BitVec 32) (v3251 : BitVec 32) (v3313 : BitVec 32) (v3392 : BitVec 32) : Fin 3 → Nat :=
  let c199_i32_752 : BitVec 32 := 199#32
  let c0_i32_751 : BitVec 32 := 0#32
  let v3252 : BitVec 32 := Scalar.maxsi c0_i32_751 v3251
  let v3253 : BitVec 32 := Scalar.minsi c199_i32_752 v3252
  let v3314 : BitVec 32 := Scalar.addi v3253 v3313
  let v4360 : Index := Scalar.indexCast v3314
  let c199_i32_749 : BitVec 32 := 199#32
  let c0_i32_748 : BitVec 32 := 0#32
  let v3247 : BitVec 32 := Scalar.maxsi c0_i32_748 v3246
  let v3248 : BitVec 32 := Scalar.minsi c199_i32_749 v3247
  let v3393 : BitVec 32 := Scalar.addi v3248 v3392
  let c3_i32_823 : BitVec 32 := 3#32
  let v3396 : BitVec 32 := Scalar.shrsi v3393 c3_i32_823
  let c3_i32_824 : BitVec 32 := 3#32
  let v3397 : BitVec 32 := Scalar.shli v3396 c3_i32_824
  let v3398 : BitVec 32 := v3397
  let v4361 : Index := Scalar.indexCast v3398
  let c0_1038 : Index := 0#32
  ![v4360.toNat, v4361.toNat, 0]
def k0_off396 (v3246 : BitVec 32) (v3251 : BitVec 32) (v3261 : BitVec 32) (v3313 : BitVec 32) (v3392 : BitVec 32) : Fin 3 → Nat :=
  let c199_i32_752 : BitVec 32 := 199#32
  let c0_i32_751 : BitVec 32 := 0#32
  let v3252 : BitVec 32 := Scalar.maxsi c0_i32_751 v3251
  let v3253 : BitVec 32 := Scalar.minsi c199_i32_752 v3252
  let v3314 : BitVec 32 := Scalar.addi v3253 v3313
  let c1_i32_782 : BitVec 32 := 1#32
  let v3315 : BitVec 32 := Scalar.addi v3314 c1_i32_782
  let c199_i32_758 : BitVec 32 := 199#32
  let c0_i32_757 : BitVec 32 := 0#32
  let v3262 : BitVec 32 := Scalar.maxsi c0_i32_757 v3261
  let v3263 : BitVec 32 := Scalar.minsi c199_i32_758 v3262
  let v3316 : BitVec 32 := Scalar.minsi v3315 v3263
  let v4364 : Index := Scalar.indexCast v3316
  let c199_i32_749 : BitVec 32 := 199#32
  let c0_i32_748 : BitVec 32 := 0#32
  let v3247 : BitVec 32 := Scalar.maxsi c0_i32_748 v3246
  let v3248 : BitVec 32 := Scalar.minsi c199_i32_749 v3247
  let v3393 : BitVec 32 := Scalar.addi v3248 v3392
  let c3_i32_823 : BitVec 32 := 3#32
  let v3396 : BitVec 32 := Scalar.shrsi v3393 c3_i32_823
  let c3_i32_824 : BitVec 32 := 3#32
  let v3397 : BitVec 32 := Scalar.shli v3396 c3_i32_824
  let v3398 : BitVec 32 := v3397
  let v4365 : Index := Scalar.indexCast v3398
  let c0_1039 : Index := 0#32
  ![v4364.toNat, v4365.toNat, 0]
def k0_off397 (k0_t1 : Fin k0_t1_loop.trips) : Fin 3 → Nat :=
  let c32_1041 : Index := 32#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c2_i32_743 : BitVec 32 := 2#32
  let v3238 : BitVec 32 := Scalar.addi v5 c2_i32_743
  let v4384 : Index := Scalar.indexCast v3238
  let c0_1042 : Index := 0#32
  ![32, v4384.toNat, 0]
def k0_off398 (v3246 : BitVec 32) (v3251 : BitVec 32) (v3313 : BitVec 32) (v3405 : BitVec 32) : Fin 3 → Nat :=
  let c199_i32_752 : BitVec 32 := 199#32
  let c0_i32_751 : BitVec 32 := 0#32
  let v3252 : BitVec 32 := Scalar.maxsi c0_i32_751 v3251
  let v3253 : BitVec 32 := Scalar.minsi c199_i32_752 v3252
  let v3314 : BitVec 32 := Scalar.addi v3253 v3313
  let v4389 : Index := Scalar.indexCast v3314
  let c199_i32_749 : BitVec 32 := 199#32
  let c0_i32_748 : BitVec 32 := 0#32
  let v3247 : BitVec 32 := Scalar.maxsi c0_i32_748 v3246
  let v3248 : BitVec 32 := Scalar.minsi c199_i32_749 v3247
  let v3406 : BitVec 32 := Scalar.addi v3248 v3405
  let c3_i32_830 : BitVec 32 := 3#32
  let v3409 : BitVec 32 := Scalar.shrsi v3406 c3_i32_830
  let c3_i32_831 : BitVec 32 := 3#32
  let v3410 : BitVec 32 := Scalar.shli v3409 c3_i32_831
  let v3411 : BitVec 32 := v3410
  let v4390 : Index := Scalar.indexCast v3411
  let c0_1044 : Index := 0#32
  ![v4389.toNat, v4390.toNat, 0]
def k0_off399 (v3246 : BitVec 32) (v3251 : BitVec 32) (v3261 : BitVec 32) (v3313 : BitVec 32) (v3405 : BitVec 32) : Fin 3 → Nat :=
  let c199_i32_752 : BitVec 32 := 199#32
  let c0_i32_751 : BitVec 32 := 0#32
  let v3252 : BitVec 32 := Scalar.maxsi c0_i32_751 v3251
  let v3253 : BitVec 32 := Scalar.minsi c199_i32_752 v3252
  let v3314 : BitVec 32 := Scalar.addi v3253 v3313
  let c1_i32_782 : BitVec 32 := 1#32
  let v3315 : BitVec 32 := Scalar.addi v3314 c1_i32_782
  let c199_i32_758 : BitVec 32 := 199#32
  let c0_i32_757 : BitVec 32 := 0#32
  let v3262 : BitVec 32 := Scalar.maxsi c0_i32_757 v3261
  let v3263 : BitVec 32 := Scalar.minsi c199_i32_758 v3262
  let v3316 : BitVec 32 := Scalar.minsi v3315 v3263
  let v4393 : Index := Scalar.indexCast v3316
  let c199_i32_749 : BitVec 32 := 199#32
  let c0_i32_748 : BitVec 32 := 0#32
  let v3247 : BitVec 32 := Scalar.maxsi c0_i32_748 v3246
  let v3248 : BitVec 32 := Scalar.minsi c199_i32_749 v3247
  let v3406 : BitVec 32 := Scalar.addi v3248 v3405
  let c3_i32_830 : BitVec 32 := 3#32
  let v3409 : BitVec 32 := Scalar.shrsi v3406 c3_i32_830
  let c3_i32_831 : BitVec 32 := 3#32
  let v3410 : BitVec 32 := Scalar.shli v3409 c3_i32_831
  let v3411 : BitVec 32 := v3410
  let v4394 : Index := Scalar.indexCast v3411
  let c0_1045 : Index := 0#32
  ![v4393.toNat, v4394.toNat, 0]
def k0_off400 (k0_t1 : Fin k0_t1_loop.trips) : Fin 3 → Nat :=
  let c33_1047 : Index := 33#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c2_i32_743 : BitVec 32 := 2#32
  let v3238 : BitVec 32 := Scalar.addi v5 c2_i32_743
  let v4413 : Index := Scalar.indexCast v3238
  let c0_1048 : Index := 0#32
  ![33, v4413.toNat, 0]
def k0_off401 (v3246 : BitVec 32) (v3251 : BitVec 32) (v3313 : BitVec 32) (v3418 : BitVec 32) : Fin 3 → Nat :=
  let c199_i32_752 : BitVec 32 := 199#32
  let c0_i32_751 : BitVec 32 := 0#32
  let v3252 : BitVec 32 := Scalar.maxsi c0_i32_751 v3251
  let v3253 : BitVec 32 := Scalar.minsi c199_i32_752 v3252
  let v3314 : BitVec 32 := Scalar.addi v3253 v3313
  let v4418 : Index := Scalar.indexCast v3314
  let c199_i32_749 : BitVec 32 := 199#32
  let c0_i32_748 : BitVec 32 := 0#32
  let v3247 : BitVec 32 := Scalar.maxsi c0_i32_748 v3246
  let v3248 : BitVec 32 := Scalar.minsi c199_i32_749 v3247
  let v3419 : BitVec 32 := Scalar.addi v3248 v3418
  let c3_i32_837 : BitVec 32 := 3#32
  let v3422 : BitVec 32 := Scalar.shrsi v3419 c3_i32_837
  let c3_i32_838 : BitVec 32 := 3#32
  let v3423 : BitVec 32 := Scalar.shli v3422 c3_i32_838
  let v3424 : BitVec 32 := v3423
  let v4419 : Index := Scalar.indexCast v3424
  let c0_1050 : Index := 0#32
  ![v4418.toNat, v4419.toNat, 0]
def k0_off402 (v3246 : BitVec 32) (v3251 : BitVec 32) (v3261 : BitVec 32) (v3313 : BitVec 32) (v3418 : BitVec 32) : Fin 3 → Nat :=
  let c199_i32_752 : BitVec 32 := 199#32
  let c0_i32_751 : BitVec 32 := 0#32
  let v3252 : BitVec 32 := Scalar.maxsi c0_i32_751 v3251
  let v3253 : BitVec 32 := Scalar.minsi c199_i32_752 v3252
  let v3314 : BitVec 32 := Scalar.addi v3253 v3313
  let c1_i32_782 : BitVec 32 := 1#32
  let v3315 : BitVec 32 := Scalar.addi v3314 c1_i32_782
  let c199_i32_758 : BitVec 32 := 199#32
  let c0_i32_757 : BitVec 32 := 0#32
  let v3262 : BitVec 32 := Scalar.maxsi c0_i32_757 v3261
  let v3263 : BitVec 32 := Scalar.minsi c199_i32_758 v3262
  let v3316 : BitVec 32 := Scalar.minsi v3315 v3263
  let v4422 : Index := Scalar.indexCast v3316
  let c199_i32_749 : BitVec 32 := 199#32
  let c0_i32_748 : BitVec 32 := 0#32
  let v3247 : BitVec 32 := Scalar.maxsi c0_i32_748 v3246
  let v3248 : BitVec 32 := Scalar.minsi c199_i32_749 v3247
  let v3419 : BitVec 32 := Scalar.addi v3248 v3418
  let c3_i32_837 : BitVec 32 := 3#32
  let v3422 : BitVec 32 := Scalar.shrsi v3419 c3_i32_837
  let c3_i32_838 : BitVec 32 := 3#32
  let v3423 : BitVec 32 := Scalar.shli v3422 c3_i32_838
  let v3424 : BitVec 32 := v3423
  let v4423 : Index := Scalar.indexCast v3424
  let c0_1051 : Index := 0#32
  ![v4422.toNat, v4423.toNat, 0]
def k0_off403 (k0_t1 : Fin k0_t1_loop.trips) : Fin 3 → Nat :=
  let c34_1053 : Index := 34#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c2_i32_743 : BitVec 32 := 2#32
  let v3238 : BitVec 32 := Scalar.addi v5 c2_i32_743
  let v4442 : Index := Scalar.indexCast v3238
  let c0_1054 : Index := 0#32
  ![34, v4442.toNat, 0]
def k0_off404 (v3246 : BitVec 32) (v3251 : BitVec 32) (v3322 : BitVec 32) (v3340 : BitVec 32) : Fin 3 → Nat :=
  let c199_i32_752 : BitVec 32 := 199#32
  let c0_i32_751 : BitVec 32 := 0#32
  let v3252 : BitVec 32 := Scalar.maxsi c0_i32_751 v3251
  let v3253 : BitVec 32 := Scalar.minsi c199_i32_752 v3252
  let v3323 : BitVec 32 := Scalar.addi v3253 v3322
  let v4448 : Index := Scalar.indexCast v3323
  let c199_i32_749 : BitVec 32 := 199#32
  let c0_i32_748 : BitVec 32 := 0#32
  let v3247 : BitVec 32 := Scalar.maxsi c0_i32_748 v3246
  let v3248 : BitVec 32 := Scalar.minsi c199_i32_749 v3247
  let v3341 : BitVec 32 := Scalar.addi v3248 v3340
  let c3_i32_795 : BitVec 32 := 3#32
  let v3344 : BitVec 32 := Scalar.shrsi v3341 c3_i32_795
  let c3_i32_796 : BitVec 32 := 3#32
  let v3345 : BitVec 32 := Scalar.shli v3344 c3_i32_796
  let v3346 : BitVec 32 := v3345
  let v4449 : Index := Scalar.indexCast v3346
  let c0_1057 : Index := 0#32
  ![v4448.toNat, v4449.toNat, 0]
def k0_off405 (v3246 : BitVec 32) (v3251 : BitVec 32) (v3261 : BitVec 32) (v3322 : BitVec 32) (v3340 : BitVec 32) : Fin 3 → Nat :=
  let c199_i32_752 : BitVec 32 := 199#32
  let c0_i32_751 : BitVec 32 := 0#32
  let v3252 : BitVec 32 := Scalar.maxsi c0_i32_751 v3251
  let v3253 : BitVec 32 := Scalar.minsi c199_i32_752 v3252
  let v3323 : BitVec 32 := Scalar.addi v3253 v3322
  let c1_i32_786 : BitVec 32 := 1#32
  let v3324 : BitVec 32 := Scalar.addi v3323 c1_i32_786
  let c199_i32_758 : BitVec 32 := 199#32
  let c0_i32_757 : BitVec 32 := 0#32
  let v3262 : BitVec 32 := Scalar.maxsi c0_i32_757 v3261
  let v3263 : BitVec 32 := Scalar.minsi c199_i32_758 v3262
  let v3325 : BitVec 32 := Scalar.minsi v3324 v3263
  let v4452 : Index := Scalar.indexCast v3325
  let c199_i32_749 : BitVec 32 := 199#32
  let c0_i32_748 : BitVec 32 := 0#32
  let v3247 : BitVec 32 := Scalar.maxsi c0_i32_748 v3246
  let v3248 : BitVec 32 := Scalar.minsi c199_i32_749 v3247
  let v3341 : BitVec 32 := Scalar.addi v3248 v3340
  let c3_i32_795 : BitVec 32 := 3#32
  let v3344 : BitVec 32 := Scalar.shrsi v3341 c3_i32_795
  let c3_i32_796 : BitVec 32 := 3#32
  let v3345 : BitVec 32 := Scalar.shli v3344 c3_i32_796
  let v3346 : BitVec 32 := v3345
  let v4453 : Index := Scalar.indexCast v3346
  let c0_1058 : Index := 0#32
  ![v4452.toNat, v4453.toNat, 0]
def k0_off406 (k0_t1 : Fin k0_t1_loop.trips) : Fin 3 → Nat :=
  let c35_1060 : Index := 35#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c2_i32_743 : BitVec 32 := 2#32
  let v3238 : BitVec 32 := Scalar.addi v5 c2_i32_743
  let v4472 : Index := Scalar.indexCast v3238
  let c0_1061 : Index := 0#32
  ![35, v4472.toNat, 0]
def k0_off407 (v3246 : BitVec 32) (v3251 : BitVec 32) (v3322 : BitVec 32) (v3353 : BitVec 32) : Fin 3 → Nat :=
  let c199_i32_752 : BitVec 32 := 199#32
  let c0_i32_751 : BitVec 32 := 0#32
  let v3252 : BitVec 32 := Scalar.maxsi c0_i32_751 v3251
  let v3253 : BitVec 32 := Scalar.minsi c199_i32_752 v3252
  let v3323 : BitVec 32 := Scalar.addi v3253 v3322
  let v4477 : Index := Scalar.indexCast v3323
  let c199_i32_749 : BitVec 32 := 199#32
  let c0_i32_748 : BitVec 32 := 0#32
  let v3247 : BitVec 32 := Scalar.maxsi c0_i32_748 v3246
  let v3248 : BitVec 32 := Scalar.minsi c199_i32_749 v3247
  let v3354 : BitVec 32 := Scalar.addi v3248 v3353
  let c3_i32_802 : BitVec 32 := 3#32
  let v3357 : BitVec 32 := Scalar.shrsi v3354 c3_i32_802
  let c3_i32_803 : BitVec 32 := 3#32
  let v3358 : BitVec 32 := Scalar.shli v3357 c3_i32_803
  let v3359 : BitVec 32 := v3358
  let v4478 : Index := Scalar.indexCast v3359
  let c0_1063 : Index := 0#32
  ![v4477.toNat, v4478.toNat, 0]
def k0_off408 (v3246 : BitVec 32) (v3251 : BitVec 32) (v3261 : BitVec 32) (v3322 : BitVec 32) (v3353 : BitVec 32) : Fin 3 → Nat :=
  let c199_i32_752 : BitVec 32 := 199#32
  let c0_i32_751 : BitVec 32 := 0#32
  let v3252 : BitVec 32 := Scalar.maxsi c0_i32_751 v3251
  let v3253 : BitVec 32 := Scalar.minsi c199_i32_752 v3252
  let v3323 : BitVec 32 := Scalar.addi v3253 v3322
  let c1_i32_786 : BitVec 32 := 1#32
  let v3324 : BitVec 32 := Scalar.addi v3323 c1_i32_786
  let c199_i32_758 : BitVec 32 := 199#32
  let c0_i32_757 : BitVec 32 := 0#32
  let v3262 : BitVec 32 := Scalar.maxsi c0_i32_757 v3261
  let v3263 : BitVec 32 := Scalar.minsi c199_i32_758 v3262
  let v3325 : BitVec 32 := Scalar.minsi v3324 v3263
  let v4481 : Index := Scalar.indexCast v3325
  let c199_i32_749 : BitVec 32 := 199#32
  let c0_i32_748 : BitVec 32 := 0#32
  let v3247 : BitVec 32 := Scalar.maxsi c0_i32_748 v3246
  let v3248 : BitVec 32 := Scalar.minsi c199_i32_749 v3247
  let v3354 : BitVec 32 := Scalar.addi v3248 v3353
  let c3_i32_802 : BitVec 32 := 3#32
  let v3357 : BitVec 32 := Scalar.shrsi v3354 c3_i32_802
  let c3_i32_803 : BitVec 32 := 3#32
  let v3358 : BitVec 32 := Scalar.shli v3357 c3_i32_803
  let v3359 : BitVec 32 := v3358
  let v4482 : Index := Scalar.indexCast v3359
  let c0_1064 : Index := 0#32
  ![v4481.toNat, v4482.toNat, 0]
def k0_off409 (k0_t1 : Fin k0_t1_loop.trips) : Fin 3 → Nat :=
  let c36_1066 : Index := 36#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c2_i32_743 : BitVec 32 := 2#32
  let v3238 : BitVec 32 := Scalar.addi v5 c2_i32_743
  let v4501 : Index := Scalar.indexCast v3238
  let c0_1067 : Index := 0#32
  ![36, v4501.toNat, 0]
def k0_off410 (v3246 : BitVec 32) (v3251 : BitVec 32) (v3322 : BitVec 32) (v3366 : BitVec 32) : Fin 3 → Nat :=
  let c199_i32_752 : BitVec 32 := 199#32
  let c0_i32_751 : BitVec 32 := 0#32
  let v3252 : BitVec 32 := Scalar.maxsi c0_i32_751 v3251
  let v3253 : BitVec 32 := Scalar.minsi c199_i32_752 v3252
  let v3323 : BitVec 32 := Scalar.addi v3253 v3322
  let v4506 : Index := Scalar.indexCast v3323
  let c199_i32_749 : BitVec 32 := 199#32
  let c0_i32_748 : BitVec 32 := 0#32
  let v3247 : BitVec 32 := Scalar.maxsi c0_i32_748 v3246
  let v3248 : BitVec 32 := Scalar.minsi c199_i32_749 v3247
  let v3367 : BitVec 32 := Scalar.addi v3248 v3366
  let c3_i32_809 : BitVec 32 := 3#32
  let v3370 : BitVec 32 := Scalar.shrsi v3367 c3_i32_809
  let c3_i32_810 : BitVec 32 := 3#32
  let v3371 : BitVec 32 := Scalar.shli v3370 c3_i32_810
  let v3372 : BitVec 32 := v3371
  let v4507 : Index := Scalar.indexCast v3372
  let c0_1069 : Index := 0#32
  ![v4506.toNat, v4507.toNat, 0]
def k0_off411 (v3246 : BitVec 32) (v3251 : BitVec 32) (v3261 : BitVec 32) (v3322 : BitVec 32) (v3366 : BitVec 32) : Fin 3 → Nat :=
  let c199_i32_752 : BitVec 32 := 199#32
  let c0_i32_751 : BitVec 32 := 0#32
  let v3252 : BitVec 32 := Scalar.maxsi c0_i32_751 v3251
  let v3253 : BitVec 32 := Scalar.minsi c199_i32_752 v3252
  let v3323 : BitVec 32 := Scalar.addi v3253 v3322
  let c1_i32_786 : BitVec 32 := 1#32
  let v3324 : BitVec 32 := Scalar.addi v3323 c1_i32_786
  let c199_i32_758 : BitVec 32 := 199#32
  let c0_i32_757 : BitVec 32 := 0#32
  let v3262 : BitVec 32 := Scalar.maxsi c0_i32_757 v3261
  let v3263 : BitVec 32 := Scalar.minsi c199_i32_758 v3262
  let v3325 : BitVec 32 := Scalar.minsi v3324 v3263
  let v4510 : Index := Scalar.indexCast v3325
  let c199_i32_749 : BitVec 32 := 199#32
  let c0_i32_748 : BitVec 32 := 0#32
  let v3247 : BitVec 32 := Scalar.maxsi c0_i32_748 v3246
  let v3248 : BitVec 32 := Scalar.minsi c199_i32_749 v3247
  let v3367 : BitVec 32 := Scalar.addi v3248 v3366
  let c3_i32_809 : BitVec 32 := 3#32
  let v3370 : BitVec 32 := Scalar.shrsi v3367 c3_i32_809
  let c3_i32_810 : BitVec 32 := 3#32
  let v3371 : BitVec 32 := Scalar.shli v3370 c3_i32_810
  let v3372 : BitVec 32 := v3371
  let v4511 : Index := Scalar.indexCast v3372
  let c0_1070 : Index := 0#32
  ![v4510.toNat, v4511.toNat, 0]
def k0_off412 (k0_t1 : Fin k0_t1_loop.trips) : Fin 3 → Nat :=
  let c37_1072 : Index := 37#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c2_i32_743 : BitVec 32 := 2#32
  let v3238 : BitVec 32 := Scalar.addi v5 c2_i32_743
  let v4530 : Index := Scalar.indexCast v3238
  let c0_1073 : Index := 0#32
  ![37, v4530.toNat, 0]
def k0_off413 (v3246 : BitVec 32) (v3251 : BitVec 32) (v3322 : BitVec 32) (v3379 : BitVec 32) : Fin 3 → Nat :=
  let c199_i32_752 : BitVec 32 := 199#32
  let c0_i32_751 : BitVec 32 := 0#32
  let v3252 : BitVec 32 := Scalar.maxsi c0_i32_751 v3251
  let v3253 : BitVec 32 := Scalar.minsi c199_i32_752 v3252
  let v3323 : BitVec 32 := Scalar.addi v3253 v3322
  let v4535 : Index := Scalar.indexCast v3323
  let c199_i32_749 : BitVec 32 := 199#32
  let c0_i32_748 : BitVec 32 := 0#32
  let v3247 : BitVec 32 := Scalar.maxsi c0_i32_748 v3246
  let v3248 : BitVec 32 := Scalar.minsi c199_i32_749 v3247
  let v3380 : BitVec 32 := Scalar.addi v3248 v3379
  let c3_i32_816 : BitVec 32 := 3#32
  let v3383 : BitVec 32 := Scalar.shrsi v3380 c3_i32_816
  let c3_i32_817 : BitVec 32 := 3#32
  let v3384 : BitVec 32 := Scalar.shli v3383 c3_i32_817
  let v3385 : BitVec 32 := v3384
  let v4536 : Index := Scalar.indexCast v3385
  let c0_1075 : Index := 0#32
  ![v4535.toNat, v4536.toNat, 0]
def k0_off414 (v3246 : BitVec 32) (v3251 : BitVec 32) (v3261 : BitVec 32) (v3322 : BitVec 32) (v3379 : BitVec 32) : Fin 3 → Nat :=
  let c199_i32_752 : BitVec 32 := 199#32
  let c0_i32_751 : BitVec 32 := 0#32
  let v3252 : BitVec 32 := Scalar.maxsi c0_i32_751 v3251
  let v3253 : BitVec 32 := Scalar.minsi c199_i32_752 v3252
  let v3323 : BitVec 32 := Scalar.addi v3253 v3322
  let c1_i32_786 : BitVec 32 := 1#32
  let v3324 : BitVec 32 := Scalar.addi v3323 c1_i32_786
  let c199_i32_758 : BitVec 32 := 199#32
  let c0_i32_757 : BitVec 32 := 0#32
  let v3262 : BitVec 32 := Scalar.maxsi c0_i32_757 v3261
  let v3263 : BitVec 32 := Scalar.minsi c199_i32_758 v3262
  let v3325 : BitVec 32 := Scalar.minsi v3324 v3263
  let v4539 : Index := Scalar.indexCast v3325
  let c199_i32_749 : BitVec 32 := 199#32
  let c0_i32_748 : BitVec 32 := 0#32
  let v3247 : BitVec 32 := Scalar.maxsi c0_i32_748 v3246
  let v3248 : BitVec 32 := Scalar.minsi c199_i32_749 v3247
  let v3380 : BitVec 32 := Scalar.addi v3248 v3379
  let c3_i32_816 : BitVec 32 := 3#32
  let v3383 : BitVec 32 := Scalar.shrsi v3380 c3_i32_816
  let c3_i32_817 : BitVec 32 := 3#32
  let v3384 : BitVec 32 := Scalar.shli v3383 c3_i32_817
  let v3385 : BitVec 32 := v3384
  let v4540 : Index := Scalar.indexCast v3385
  let c0_1076 : Index := 0#32
  ![v4539.toNat, v4540.toNat, 0]
def k0_off415 (k0_t1 : Fin k0_t1_loop.trips) : Fin 3 → Nat :=
  let c38_1078 : Index := 38#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c2_i32_743 : BitVec 32 := 2#32
  let v3238 : BitVec 32 := Scalar.addi v5 c2_i32_743
  let v4559 : Index := Scalar.indexCast v3238
  let c0_1079 : Index := 0#32
  ![38, v4559.toNat, 0]
def k0_off416 (v3246 : BitVec 32) (v3251 : BitVec 32) (v3322 : BitVec 32) (v3392 : BitVec 32) : Fin 3 → Nat :=
  let c199_i32_752 : BitVec 32 := 199#32
  let c0_i32_751 : BitVec 32 := 0#32
  let v3252 : BitVec 32 := Scalar.maxsi c0_i32_751 v3251
  let v3253 : BitVec 32 := Scalar.minsi c199_i32_752 v3252
  let v3323 : BitVec 32 := Scalar.addi v3253 v3322
  let v4564 : Index := Scalar.indexCast v3323
  let c199_i32_749 : BitVec 32 := 199#32
  let c0_i32_748 : BitVec 32 := 0#32
  let v3247 : BitVec 32 := Scalar.maxsi c0_i32_748 v3246
  let v3248 : BitVec 32 := Scalar.minsi c199_i32_749 v3247
  let v3393 : BitVec 32 := Scalar.addi v3248 v3392
  let c3_i32_823 : BitVec 32 := 3#32
  let v3396 : BitVec 32 := Scalar.shrsi v3393 c3_i32_823
  let c3_i32_824 : BitVec 32 := 3#32
  let v3397 : BitVec 32 := Scalar.shli v3396 c3_i32_824
  let v3398 : BitVec 32 := v3397
  let v4565 : Index := Scalar.indexCast v3398
  let c0_1081 : Index := 0#32
  ![v4564.toNat, v4565.toNat, 0]
def k0_off417 (v3246 : BitVec 32) (v3251 : BitVec 32) (v3261 : BitVec 32) (v3322 : BitVec 32) (v3392 : BitVec 32) : Fin 3 → Nat :=
  let c199_i32_752 : BitVec 32 := 199#32
  let c0_i32_751 : BitVec 32 := 0#32
  let v3252 : BitVec 32 := Scalar.maxsi c0_i32_751 v3251
  let v3253 : BitVec 32 := Scalar.minsi c199_i32_752 v3252
  let v3323 : BitVec 32 := Scalar.addi v3253 v3322
  let c1_i32_786 : BitVec 32 := 1#32
  let v3324 : BitVec 32 := Scalar.addi v3323 c1_i32_786
  let c199_i32_758 : BitVec 32 := 199#32
  let c0_i32_757 : BitVec 32 := 0#32
  let v3262 : BitVec 32 := Scalar.maxsi c0_i32_757 v3261
  let v3263 : BitVec 32 := Scalar.minsi c199_i32_758 v3262
  let v3325 : BitVec 32 := Scalar.minsi v3324 v3263
  let v4568 : Index := Scalar.indexCast v3325
  let c199_i32_749 : BitVec 32 := 199#32
  let c0_i32_748 : BitVec 32 := 0#32
  let v3247 : BitVec 32 := Scalar.maxsi c0_i32_748 v3246
  let v3248 : BitVec 32 := Scalar.minsi c199_i32_749 v3247
  let v3393 : BitVec 32 := Scalar.addi v3248 v3392
  let c3_i32_823 : BitVec 32 := 3#32
  let v3396 : BitVec 32 := Scalar.shrsi v3393 c3_i32_823
  let c3_i32_824 : BitVec 32 := 3#32
  let v3397 : BitVec 32 := Scalar.shli v3396 c3_i32_824
  let v3398 : BitVec 32 := v3397
  let v4569 : Index := Scalar.indexCast v3398
  let c0_1082 : Index := 0#32
  ![v4568.toNat, v4569.toNat, 0]
def k0_off418 (k0_t1 : Fin k0_t1_loop.trips) : Fin 3 → Nat :=
  let c39_1084 : Index := 39#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c2_i32_743 : BitVec 32 := 2#32
  let v3238 : BitVec 32 := Scalar.addi v5 c2_i32_743
  let v4588 : Index := Scalar.indexCast v3238
  let c0_1085 : Index := 0#32
  ![39, v4588.toNat, 0]
def k0_off419 (v3246 : BitVec 32) (v3251 : BitVec 32) (v3322 : BitVec 32) (v3405 : BitVec 32) : Fin 3 → Nat :=
  let c199_i32_752 : BitVec 32 := 199#32
  let c0_i32_751 : BitVec 32 := 0#32
  let v3252 : BitVec 32 := Scalar.maxsi c0_i32_751 v3251
  let v3253 : BitVec 32 := Scalar.minsi c199_i32_752 v3252
  let v3323 : BitVec 32 := Scalar.addi v3253 v3322
  let v4593 : Index := Scalar.indexCast v3323
  let c199_i32_749 : BitVec 32 := 199#32
  let c0_i32_748 : BitVec 32 := 0#32
  let v3247 : BitVec 32 := Scalar.maxsi c0_i32_748 v3246
  let v3248 : BitVec 32 := Scalar.minsi c199_i32_749 v3247
  let v3406 : BitVec 32 := Scalar.addi v3248 v3405
  let c3_i32_830 : BitVec 32 := 3#32
  let v3409 : BitVec 32 := Scalar.shrsi v3406 c3_i32_830
  let c3_i32_831 : BitVec 32 := 3#32
  let v3410 : BitVec 32 := Scalar.shli v3409 c3_i32_831
  let v3411 : BitVec 32 := v3410
  let v4594 : Index := Scalar.indexCast v3411
  let c0_1087 : Index := 0#32
  ![v4593.toNat, v4594.toNat, 0]
def k0_off420 (v3246 : BitVec 32) (v3251 : BitVec 32) (v3261 : BitVec 32) (v3322 : BitVec 32) (v3405 : BitVec 32) : Fin 3 → Nat :=
  let c199_i32_752 : BitVec 32 := 199#32
  let c0_i32_751 : BitVec 32 := 0#32
  let v3252 : BitVec 32 := Scalar.maxsi c0_i32_751 v3251
  let v3253 : BitVec 32 := Scalar.minsi c199_i32_752 v3252
  let v3323 : BitVec 32 := Scalar.addi v3253 v3322
  let c1_i32_786 : BitVec 32 := 1#32
  let v3324 : BitVec 32 := Scalar.addi v3323 c1_i32_786
  let c199_i32_758 : BitVec 32 := 199#32
  let c0_i32_757 : BitVec 32 := 0#32
  let v3262 : BitVec 32 := Scalar.maxsi c0_i32_757 v3261
  let v3263 : BitVec 32 := Scalar.minsi c199_i32_758 v3262
  let v3325 : BitVec 32 := Scalar.minsi v3324 v3263
  let v4597 : Index := Scalar.indexCast v3325
  let c199_i32_749 : BitVec 32 := 199#32
  let c0_i32_748 : BitVec 32 := 0#32
  let v3247 : BitVec 32 := Scalar.maxsi c0_i32_748 v3246
  let v3248 : BitVec 32 := Scalar.minsi c199_i32_749 v3247
  let v3406 : BitVec 32 := Scalar.addi v3248 v3405
  let c3_i32_830 : BitVec 32 := 3#32
  let v3409 : BitVec 32 := Scalar.shrsi v3406 c3_i32_830
  let c3_i32_831 : BitVec 32 := 3#32
  let v3410 : BitVec 32 := Scalar.shli v3409 c3_i32_831
  let v3411 : BitVec 32 := v3410
  let v4598 : Index := Scalar.indexCast v3411
  let c0_1088 : Index := 0#32
  ![v4597.toNat, v4598.toNat, 0]
def k0_off421 (k0_t1 : Fin k0_t1_loop.trips) : Fin 3 → Nat :=
  let c40_1090 : Index := 40#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c2_i32_743 : BitVec 32 := 2#32
  let v3238 : BitVec 32 := Scalar.addi v5 c2_i32_743
  let v4617 : Index := Scalar.indexCast v3238
  let c0_1091 : Index := 0#32
  ![40, v4617.toNat, 0]
def k0_off422 (v3246 : BitVec 32) (v3251 : BitVec 32) (v3322 : BitVec 32) (v3418 : BitVec 32) : Fin 3 → Nat :=
  let c199_i32_752 : BitVec 32 := 199#32
  let c0_i32_751 : BitVec 32 := 0#32
  let v3252 : BitVec 32 := Scalar.maxsi c0_i32_751 v3251
  let v3253 : BitVec 32 := Scalar.minsi c199_i32_752 v3252
  let v3323 : BitVec 32 := Scalar.addi v3253 v3322
  let v4622 : Index := Scalar.indexCast v3323
  let c199_i32_749 : BitVec 32 := 199#32
  let c0_i32_748 : BitVec 32 := 0#32
  let v3247 : BitVec 32 := Scalar.maxsi c0_i32_748 v3246
  let v3248 : BitVec 32 := Scalar.minsi c199_i32_749 v3247
  let v3419 : BitVec 32 := Scalar.addi v3248 v3418
  let c3_i32_837 : BitVec 32 := 3#32
  let v3422 : BitVec 32 := Scalar.shrsi v3419 c3_i32_837
  let c3_i32_838 : BitVec 32 := 3#32
  let v3423 : BitVec 32 := Scalar.shli v3422 c3_i32_838
  let v3424 : BitVec 32 := v3423
  let v4623 : Index := Scalar.indexCast v3424
  let c0_1093 : Index := 0#32
  ![v4622.toNat, v4623.toNat, 0]
def k0_off423 (v3246 : BitVec 32) (v3251 : BitVec 32) (v3261 : BitVec 32) (v3322 : BitVec 32) (v3418 : BitVec 32) : Fin 3 → Nat :=
  let c199_i32_752 : BitVec 32 := 199#32
  let c0_i32_751 : BitVec 32 := 0#32
  let v3252 : BitVec 32 := Scalar.maxsi c0_i32_751 v3251
  let v3253 : BitVec 32 := Scalar.minsi c199_i32_752 v3252
  let v3323 : BitVec 32 := Scalar.addi v3253 v3322
  let c1_i32_786 : BitVec 32 := 1#32
  let v3324 : BitVec 32 := Scalar.addi v3323 c1_i32_786
  let c199_i32_758 : BitVec 32 := 199#32
  let c0_i32_757 : BitVec 32 := 0#32
  let v3262 : BitVec 32 := Scalar.maxsi c0_i32_757 v3261
  let v3263 : BitVec 32 := Scalar.minsi c199_i32_758 v3262
  let v3325 : BitVec 32 := Scalar.minsi v3324 v3263
  let v4626 : Index := Scalar.indexCast v3325
  let c199_i32_749 : BitVec 32 := 199#32
  let c0_i32_748 : BitVec 32 := 0#32
  let v3247 : BitVec 32 := Scalar.maxsi c0_i32_748 v3246
  let v3248 : BitVec 32 := Scalar.minsi c199_i32_749 v3247
  let v3419 : BitVec 32 := Scalar.addi v3248 v3418
  let c3_i32_837 : BitVec 32 := 3#32
  let v3422 : BitVec 32 := Scalar.shrsi v3419 c3_i32_837
  let c3_i32_838 : BitVec 32 := 3#32
  let v3423 : BitVec 32 := Scalar.shli v3422 c3_i32_838
  let v3424 : BitVec 32 := v3423
  let v4627 : Index := Scalar.indexCast v3424
  let c0_1094 : Index := 0#32
  ![v4626.toNat, v4627.toNat, 0]
def k0_off424 (k0_t1 : Fin k0_t1_loop.trips) : Fin 3 → Nat :=
  let c41_1096 : Index := 41#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c2_i32_743 : BitVec 32 := 2#32
  let v3238 : BitVec 32 := Scalar.addi v5 c2_i32_743
  let v4646 : Index := Scalar.indexCast v3238
  let c0_1097 : Index := 0#32
  ![41, v4646.toNat, 0]
def k0_off425 (v3246 : BitVec 32) (v3251 : BitVec 32) (v3331 : BitVec 32) (v3340 : BitVec 32) : Fin 3 → Nat :=
  let c199_i32_752 : BitVec 32 := 199#32
  let c0_i32_751 : BitVec 32 := 0#32
  let v3252 : BitVec 32 := Scalar.maxsi c0_i32_751 v3251
  let v3253 : BitVec 32 := Scalar.minsi c199_i32_752 v3252
  let v3332 : BitVec 32 := Scalar.addi v3253 v3331
  let v4652 : Index := Scalar.indexCast v3332
  let c199_i32_749 : BitVec 32 := 199#32
  let c0_i32_748 : BitVec 32 := 0#32
  let v3247 : BitVec 32 := Scalar.maxsi c0_i32_748 v3246
  let v3248 : BitVec 32 := Scalar.minsi c199_i32_749 v3247
  let v3341 : BitVec 32 := Scalar.addi v3248 v3340
  let c3_i32_795 : BitVec 32 := 3#32
  let v3344 : BitVec 32 := Scalar.shrsi v3341 c3_i32_795
  let c3_i32_796 : BitVec 32 := 3#32
  let v3345 : BitVec 32 := Scalar.shli v3344 c3_i32_796
  let v3346 : BitVec 32 := v3345
  let v4653 : Index := Scalar.indexCast v3346
  let c0_1100 : Index := 0#32
  ![v4652.toNat, v4653.toNat, 0]
def k0_off426 (v3246 : BitVec 32) (v3251 : BitVec 32) (v3261 : BitVec 32) (v3331 : BitVec 32) (v3340 : BitVec 32) : Fin 3 → Nat :=
  let c199_i32_752 : BitVec 32 := 199#32
  let c0_i32_751 : BitVec 32 := 0#32
  let v3252 : BitVec 32 := Scalar.maxsi c0_i32_751 v3251
  let v3253 : BitVec 32 := Scalar.minsi c199_i32_752 v3252
  let v3332 : BitVec 32 := Scalar.addi v3253 v3331
  let c1_i32_790 : BitVec 32 := 1#32
  let v3333 : BitVec 32 := Scalar.addi v3332 c1_i32_790
  let c199_i32_758 : BitVec 32 := 199#32
  let c0_i32_757 : BitVec 32 := 0#32
  let v3262 : BitVec 32 := Scalar.maxsi c0_i32_757 v3261
  let v3263 : BitVec 32 := Scalar.minsi c199_i32_758 v3262
  let v3334 : BitVec 32 := Scalar.minsi v3333 v3263
  let v4656 : Index := Scalar.indexCast v3334
  let c199_i32_749 : BitVec 32 := 199#32
  let c0_i32_748 : BitVec 32 := 0#32
  let v3247 : BitVec 32 := Scalar.maxsi c0_i32_748 v3246
  let v3248 : BitVec 32 := Scalar.minsi c199_i32_749 v3247
  let v3341 : BitVec 32 := Scalar.addi v3248 v3340
  let c3_i32_795 : BitVec 32 := 3#32
  let v3344 : BitVec 32 := Scalar.shrsi v3341 c3_i32_795
  let c3_i32_796 : BitVec 32 := 3#32
  let v3345 : BitVec 32 := Scalar.shli v3344 c3_i32_796
  let v3346 : BitVec 32 := v3345
  let v4657 : Index := Scalar.indexCast v3346
  let c0_1101 : Index := 0#32
  ![v4656.toNat, v4657.toNat, 0]

def k0_chk15 (v3246 : BitVec 32) (v3251 : BitVec 32) (v3261 : BitVec 32) (v3277 : BitVec 32) (v3286 : BitVec 32) (v3295 : BitVec 32) (v3304 : BitVec 32) (v3313 : BitVec 32) (v3322 : BitVec 32) (v3331 : BitVec 32) (v3340 : BitVec 32) : Prop :=
  (8 ∣ (k0_mult16 v3246 v3340).toNat) ∧
  (∀ a, (k0_off299 v3246 v3251 v3277 v3340) a + S1x16x256.size a ≤ S200x216x256.size a) ∧
  (∀ a, (k0_off300 v3246 v3251 v3261 v3277 v3340) a + S1x16x256.size a ≤ S200x216x256.size a) ∧
  (∀ a, (k0_off320 v3246 v3251 v3286 v3340) a + S1x16x256.size a ≤ S200x216x256.size a) ∧
  (∀ a, (k0_off321 v3246 v3251 v3261 v3286 v3340) a + S1x16x256.size a ≤ S200x216x256.size a) ∧
  (∀ a, (k0_off341 v3246 v3251 v3295 v3340) a + S1x16x256.size a ≤ S200x216x256.size a) ∧
  (∀ a, (k0_off342 v3246 v3251 v3261 v3295 v3340) a + S1x16x256.size a ≤ S200x216x256.size a) ∧
  (∀ a, (k0_off362 v3246 v3251 v3304 v3340) a + S1x16x256.size a ≤ S200x216x256.size a) ∧
  (∀ a, (k0_off363 v3246 v3251 v3261 v3304 v3340) a + S1x16x256.size a ≤ S200x216x256.size a) ∧
  (∀ a, (k0_off383 v3246 v3251 v3313 v3340) a + S1x16x256.size a ≤ S200x216x256.size a) ∧
  (∀ a, (k0_off384 v3246 v3251 v3261 v3313 v3340) a + S1x16x256.size a ≤ S200x216x256.size a) ∧
  (∀ a, (k0_off404 v3246 v3251 v3322 v3340) a + S1x16x256.size a ≤ S200x216x256.size a) ∧
  (∀ a, (k0_off405 v3246 v3251 v3261 v3322 v3340) a + S1x16x256.size a ≤ S200x216x256.size a) ∧
  (∀ a, (k0_off425 v3246 v3251 v3331 v3340) a + S1x16x256.size a ≤ S200x216x256.size a) ∧
  (∀ a, (k0_off426 v3246 v3251 v3261 v3331 v3340) a + S1x16x256.size a ≤ S200x216x256.size a)
theorem k0_mult16_dvd : ∀ (v3246 : BitVec 32) (v3251 : BitVec 32) (v3261 : BitVec 32) (v3277 : BitVec 32) (v3286 : BitVec 32) (v3295 : BitVec 32) (v3304 : BitVec 32) (v3313 : BitVec 32) (v3322 : BitVec 32) (v3331 : BitVec 32) (v3340 : BitVec 32) (k0_hw15 : k0_chk15 v3246 v3251 v3261 v3277 v3286 v3295 v3304 v3313 v3322 v3331 v3340), 8 ∣ (k0_mult16 v3246 v3340).toNat := fun v3246 v3251 v3261 v3277 v3286 v3295 v3304 v3313 v3322 v3331 v3340 k0_hw15 => k0_hw15.1
theorem k0_off299_inb : ∀ (v3246 : BitVec 32) (v3251 : BitVec 32) (v3261 : BitVec 32) (v3277 : BitVec 32) (v3286 : BitVec 32) (v3295 : BitVec 32) (v3304 : BitVec 32) (v3313 : BitVec 32) (v3322 : BitVec 32) (v3331 : BitVec 32) (v3340 : BitVec 32) (k0_hw15 : k0_chk15 v3246 v3251 v3261 v3277 v3286 v3295 v3304 v3313 v3322 v3331 v3340), ∀ a, (k0_off299 v3246 v3251 v3277 v3340) a + S1x16x256.size a ≤ S200x216x256.size a := fun v3246 v3251 v3261 v3277 v3286 v3295 v3304 v3313 v3322 v3331 v3340 k0_hw15 => k0_hw15.2.1
theorem k0_off300_inb : ∀ (v3246 : BitVec 32) (v3251 : BitVec 32) (v3261 : BitVec 32) (v3277 : BitVec 32) (v3286 : BitVec 32) (v3295 : BitVec 32) (v3304 : BitVec 32) (v3313 : BitVec 32) (v3322 : BitVec 32) (v3331 : BitVec 32) (v3340 : BitVec 32) (k0_hw15 : k0_chk15 v3246 v3251 v3261 v3277 v3286 v3295 v3304 v3313 v3322 v3331 v3340), ∀ a, (k0_off300 v3246 v3251 v3261 v3277 v3340) a + S1x16x256.size a ≤ S200x216x256.size a := fun v3246 v3251 v3261 v3277 v3286 v3295 v3304 v3313 v3322 v3331 v3340 k0_hw15 => k0_hw15.2.2.1
theorem k0_off320_inb : ∀ (v3246 : BitVec 32) (v3251 : BitVec 32) (v3261 : BitVec 32) (v3277 : BitVec 32) (v3286 : BitVec 32) (v3295 : BitVec 32) (v3304 : BitVec 32) (v3313 : BitVec 32) (v3322 : BitVec 32) (v3331 : BitVec 32) (v3340 : BitVec 32) (k0_hw15 : k0_chk15 v3246 v3251 v3261 v3277 v3286 v3295 v3304 v3313 v3322 v3331 v3340), ∀ a, (k0_off320 v3246 v3251 v3286 v3340) a + S1x16x256.size a ≤ S200x216x256.size a := fun v3246 v3251 v3261 v3277 v3286 v3295 v3304 v3313 v3322 v3331 v3340 k0_hw15 => k0_hw15.2.2.2.1
theorem k0_off321_inb : ∀ (v3246 : BitVec 32) (v3251 : BitVec 32) (v3261 : BitVec 32) (v3277 : BitVec 32) (v3286 : BitVec 32) (v3295 : BitVec 32) (v3304 : BitVec 32) (v3313 : BitVec 32) (v3322 : BitVec 32) (v3331 : BitVec 32) (v3340 : BitVec 32) (k0_hw15 : k0_chk15 v3246 v3251 v3261 v3277 v3286 v3295 v3304 v3313 v3322 v3331 v3340), ∀ a, (k0_off321 v3246 v3251 v3261 v3286 v3340) a + S1x16x256.size a ≤ S200x216x256.size a := fun v3246 v3251 v3261 v3277 v3286 v3295 v3304 v3313 v3322 v3331 v3340 k0_hw15 => k0_hw15.2.2.2.2.1
theorem k0_off341_inb : ∀ (v3246 : BitVec 32) (v3251 : BitVec 32) (v3261 : BitVec 32) (v3277 : BitVec 32) (v3286 : BitVec 32) (v3295 : BitVec 32) (v3304 : BitVec 32) (v3313 : BitVec 32) (v3322 : BitVec 32) (v3331 : BitVec 32) (v3340 : BitVec 32) (k0_hw15 : k0_chk15 v3246 v3251 v3261 v3277 v3286 v3295 v3304 v3313 v3322 v3331 v3340), ∀ a, (k0_off341 v3246 v3251 v3295 v3340) a + S1x16x256.size a ≤ S200x216x256.size a := fun v3246 v3251 v3261 v3277 v3286 v3295 v3304 v3313 v3322 v3331 v3340 k0_hw15 => k0_hw15.2.2.2.2.2.1
theorem k0_off342_inb : ∀ (v3246 : BitVec 32) (v3251 : BitVec 32) (v3261 : BitVec 32) (v3277 : BitVec 32) (v3286 : BitVec 32) (v3295 : BitVec 32) (v3304 : BitVec 32) (v3313 : BitVec 32) (v3322 : BitVec 32) (v3331 : BitVec 32) (v3340 : BitVec 32) (k0_hw15 : k0_chk15 v3246 v3251 v3261 v3277 v3286 v3295 v3304 v3313 v3322 v3331 v3340), ∀ a, (k0_off342 v3246 v3251 v3261 v3295 v3340) a + S1x16x256.size a ≤ S200x216x256.size a := fun v3246 v3251 v3261 v3277 v3286 v3295 v3304 v3313 v3322 v3331 v3340 k0_hw15 => k0_hw15.2.2.2.2.2.2.1
theorem k0_off362_inb : ∀ (v3246 : BitVec 32) (v3251 : BitVec 32) (v3261 : BitVec 32) (v3277 : BitVec 32) (v3286 : BitVec 32) (v3295 : BitVec 32) (v3304 : BitVec 32) (v3313 : BitVec 32) (v3322 : BitVec 32) (v3331 : BitVec 32) (v3340 : BitVec 32) (k0_hw15 : k0_chk15 v3246 v3251 v3261 v3277 v3286 v3295 v3304 v3313 v3322 v3331 v3340), ∀ a, (k0_off362 v3246 v3251 v3304 v3340) a + S1x16x256.size a ≤ S200x216x256.size a := fun v3246 v3251 v3261 v3277 v3286 v3295 v3304 v3313 v3322 v3331 v3340 k0_hw15 => k0_hw15.2.2.2.2.2.2.2.1
theorem k0_off363_inb : ∀ (v3246 : BitVec 32) (v3251 : BitVec 32) (v3261 : BitVec 32) (v3277 : BitVec 32) (v3286 : BitVec 32) (v3295 : BitVec 32) (v3304 : BitVec 32) (v3313 : BitVec 32) (v3322 : BitVec 32) (v3331 : BitVec 32) (v3340 : BitVec 32) (k0_hw15 : k0_chk15 v3246 v3251 v3261 v3277 v3286 v3295 v3304 v3313 v3322 v3331 v3340), ∀ a, (k0_off363 v3246 v3251 v3261 v3304 v3340) a + S1x16x256.size a ≤ S200x216x256.size a := fun v3246 v3251 v3261 v3277 v3286 v3295 v3304 v3313 v3322 v3331 v3340 k0_hw15 => k0_hw15.2.2.2.2.2.2.2.2.1
theorem k0_off383_inb : ∀ (v3246 : BitVec 32) (v3251 : BitVec 32) (v3261 : BitVec 32) (v3277 : BitVec 32) (v3286 : BitVec 32) (v3295 : BitVec 32) (v3304 : BitVec 32) (v3313 : BitVec 32) (v3322 : BitVec 32) (v3331 : BitVec 32) (v3340 : BitVec 32) (k0_hw15 : k0_chk15 v3246 v3251 v3261 v3277 v3286 v3295 v3304 v3313 v3322 v3331 v3340), ∀ a, (k0_off383 v3246 v3251 v3313 v3340) a + S1x16x256.size a ≤ S200x216x256.size a := fun v3246 v3251 v3261 v3277 v3286 v3295 v3304 v3313 v3322 v3331 v3340 k0_hw15 => k0_hw15.2.2.2.2.2.2.2.2.2.1
theorem k0_off384_inb : ∀ (v3246 : BitVec 32) (v3251 : BitVec 32) (v3261 : BitVec 32) (v3277 : BitVec 32) (v3286 : BitVec 32) (v3295 : BitVec 32) (v3304 : BitVec 32) (v3313 : BitVec 32) (v3322 : BitVec 32) (v3331 : BitVec 32) (v3340 : BitVec 32) (k0_hw15 : k0_chk15 v3246 v3251 v3261 v3277 v3286 v3295 v3304 v3313 v3322 v3331 v3340), ∀ a, (k0_off384 v3246 v3251 v3261 v3313 v3340) a + S1x16x256.size a ≤ S200x216x256.size a := fun v3246 v3251 v3261 v3277 v3286 v3295 v3304 v3313 v3322 v3331 v3340 k0_hw15 => k0_hw15.2.2.2.2.2.2.2.2.2.2.1
theorem k0_off404_inb : ∀ (v3246 : BitVec 32) (v3251 : BitVec 32) (v3261 : BitVec 32) (v3277 : BitVec 32) (v3286 : BitVec 32) (v3295 : BitVec 32) (v3304 : BitVec 32) (v3313 : BitVec 32) (v3322 : BitVec 32) (v3331 : BitVec 32) (v3340 : BitVec 32) (k0_hw15 : k0_chk15 v3246 v3251 v3261 v3277 v3286 v3295 v3304 v3313 v3322 v3331 v3340), ∀ a, (k0_off404 v3246 v3251 v3322 v3340) a + S1x16x256.size a ≤ S200x216x256.size a := fun v3246 v3251 v3261 v3277 v3286 v3295 v3304 v3313 v3322 v3331 v3340 k0_hw15 => k0_hw15.2.2.2.2.2.2.2.2.2.2.2.1
theorem k0_off405_inb : ∀ (v3246 : BitVec 32) (v3251 : BitVec 32) (v3261 : BitVec 32) (v3277 : BitVec 32) (v3286 : BitVec 32) (v3295 : BitVec 32) (v3304 : BitVec 32) (v3313 : BitVec 32) (v3322 : BitVec 32) (v3331 : BitVec 32) (v3340 : BitVec 32) (k0_hw15 : k0_chk15 v3246 v3251 v3261 v3277 v3286 v3295 v3304 v3313 v3322 v3331 v3340), ∀ a, (k0_off405 v3246 v3251 v3261 v3322 v3340) a + S1x16x256.size a ≤ S200x216x256.size a := fun v3246 v3251 v3261 v3277 v3286 v3295 v3304 v3313 v3322 v3331 v3340 k0_hw15 => k0_hw15.2.2.2.2.2.2.2.2.2.2.2.2.1
theorem k0_off425_inb : ∀ (v3246 : BitVec 32) (v3251 : BitVec 32) (v3261 : BitVec 32) (v3277 : BitVec 32) (v3286 : BitVec 32) (v3295 : BitVec 32) (v3304 : BitVec 32) (v3313 : BitVec 32) (v3322 : BitVec 32) (v3331 : BitVec 32) (v3340 : BitVec 32) (k0_hw15 : k0_chk15 v3246 v3251 v3261 v3277 v3286 v3295 v3304 v3313 v3322 v3331 v3340), ∀ a, (k0_off425 v3246 v3251 v3331 v3340) a + S1x16x256.size a ≤ S200x216x256.size a := fun v3246 v3251 v3261 v3277 v3286 v3295 v3304 v3313 v3322 v3331 v3340 k0_hw15 => k0_hw15.2.2.2.2.2.2.2.2.2.2.2.2.2.1
theorem k0_off426_inb : ∀ (v3246 : BitVec 32) (v3251 : BitVec 32) (v3261 : BitVec 32) (v3277 : BitVec 32) (v3286 : BitVec 32) (v3295 : BitVec 32) (v3304 : BitVec 32) (v3313 : BitVec 32) (v3322 : BitVec 32) (v3331 : BitVec 32) (v3340 : BitVec 32) (k0_hw15 : k0_chk15 v3246 v3251 v3261 v3277 v3286 v3295 v3304 v3313 v3322 v3331 v3340), ∀ a, (k0_off426 v3246 v3251 v3261 v3331 v3340) a + S1x16x256.size a ≤ S200x216x256.size a := fun v3246 v3251 v3261 v3277 v3286 v3295 v3304 v3313 v3322 v3331 v3340 k0_hw15 => k0_hw15.2.2.2.2.2.2.2.2.2.2.2.2.2.2

def k0_off427 (k0_t1 : Fin k0_t1_loop.trips) : Fin 3 → Nat :=
  let c42_1103 : Index := 42#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c2_i32_743 : BitVec 32 := 2#32
  let v3238 : BitVec 32 := Scalar.addi v5 c2_i32_743
  let v4676 : Index := Scalar.indexCast v3238
  let c0_1104 : Index := 0#32
  ![42, v4676.toNat, 0]
def k0_off428 (v3246 : BitVec 32) (v3251 : BitVec 32) (v3331 : BitVec 32) (v3353 : BitVec 32) : Fin 3 → Nat :=
  let c199_i32_752 : BitVec 32 := 199#32
  let c0_i32_751 : BitVec 32 := 0#32
  let v3252 : BitVec 32 := Scalar.maxsi c0_i32_751 v3251
  let v3253 : BitVec 32 := Scalar.minsi c199_i32_752 v3252
  let v3332 : BitVec 32 := Scalar.addi v3253 v3331
  let v4681 : Index := Scalar.indexCast v3332
  let c199_i32_749 : BitVec 32 := 199#32
  let c0_i32_748 : BitVec 32 := 0#32
  let v3247 : BitVec 32 := Scalar.maxsi c0_i32_748 v3246
  let v3248 : BitVec 32 := Scalar.minsi c199_i32_749 v3247
  let v3354 : BitVec 32 := Scalar.addi v3248 v3353
  let c3_i32_802 : BitVec 32 := 3#32
  let v3357 : BitVec 32 := Scalar.shrsi v3354 c3_i32_802
  let c3_i32_803 : BitVec 32 := 3#32
  let v3358 : BitVec 32 := Scalar.shli v3357 c3_i32_803
  let v3359 : BitVec 32 := v3358
  let v4682 : Index := Scalar.indexCast v3359
  let c0_1106 : Index := 0#32
  ![v4681.toNat, v4682.toNat, 0]
def k0_off429 (v3246 : BitVec 32) (v3251 : BitVec 32) (v3261 : BitVec 32) (v3331 : BitVec 32) (v3353 : BitVec 32) : Fin 3 → Nat :=
  let c199_i32_752 : BitVec 32 := 199#32
  let c0_i32_751 : BitVec 32 := 0#32
  let v3252 : BitVec 32 := Scalar.maxsi c0_i32_751 v3251
  let v3253 : BitVec 32 := Scalar.minsi c199_i32_752 v3252
  let v3332 : BitVec 32 := Scalar.addi v3253 v3331
  let c1_i32_790 : BitVec 32 := 1#32
  let v3333 : BitVec 32 := Scalar.addi v3332 c1_i32_790
  let c199_i32_758 : BitVec 32 := 199#32
  let c0_i32_757 : BitVec 32 := 0#32
  let v3262 : BitVec 32 := Scalar.maxsi c0_i32_757 v3261
  let v3263 : BitVec 32 := Scalar.minsi c199_i32_758 v3262
  let v3334 : BitVec 32 := Scalar.minsi v3333 v3263
  let v4685 : Index := Scalar.indexCast v3334
  let c199_i32_749 : BitVec 32 := 199#32
  let c0_i32_748 : BitVec 32 := 0#32
  let v3247 : BitVec 32 := Scalar.maxsi c0_i32_748 v3246
  let v3248 : BitVec 32 := Scalar.minsi c199_i32_749 v3247
  let v3354 : BitVec 32 := Scalar.addi v3248 v3353
  let c3_i32_802 : BitVec 32 := 3#32
  let v3357 : BitVec 32 := Scalar.shrsi v3354 c3_i32_802
  let c3_i32_803 : BitVec 32 := 3#32
  let v3358 : BitVec 32 := Scalar.shli v3357 c3_i32_803
  let v3359 : BitVec 32 := v3358
  let v4686 : Index := Scalar.indexCast v3359
  let c0_1107 : Index := 0#32
  ![v4685.toNat, v4686.toNat, 0]

def k0_chk16 (v3246 : BitVec 32) (v3251 : BitVec 32) (v3261 : BitVec 32) (v3277 : BitVec 32) (v3286 : BitVec 32) (v3295 : BitVec 32) (v3304 : BitVec 32) (v3313 : BitVec 32) (v3322 : BitVec 32) (v3331 : BitVec 32) (v3353 : BitVec 32) : Prop :=
  (8 ∣ (k0_mult17 v3246 v3353).toNat) ∧
  (∀ a, (k0_off302 v3246 v3251 v3277 v3353) a + S1x16x256.size a ≤ S200x216x256.size a) ∧
  (∀ a, (k0_off303 v3246 v3251 v3261 v3277 v3353) a + S1x16x256.size a ≤ S200x216x256.size a) ∧
  (∀ a, (k0_off323 v3246 v3251 v3286 v3353) a + S1x16x256.size a ≤ S200x216x256.size a) ∧
  (∀ a, (k0_off324 v3246 v3251 v3261 v3286 v3353) a + S1x16x256.size a ≤ S200x216x256.size a) ∧
  (∀ a, (k0_off344 v3246 v3251 v3295 v3353) a + S1x16x256.size a ≤ S200x216x256.size a) ∧
  (∀ a, (k0_off345 v3246 v3251 v3261 v3295 v3353) a + S1x16x256.size a ≤ S200x216x256.size a) ∧
  (∀ a, (k0_off365 v3246 v3251 v3304 v3353) a + S1x16x256.size a ≤ S200x216x256.size a) ∧
  (∀ a, (k0_off366 v3246 v3251 v3261 v3304 v3353) a + S1x16x256.size a ≤ S200x216x256.size a) ∧
  (∀ a, (k0_off386 v3246 v3251 v3313 v3353) a + S1x16x256.size a ≤ S200x216x256.size a) ∧
  (∀ a, (k0_off387 v3246 v3251 v3261 v3313 v3353) a + S1x16x256.size a ≤ S200x216x256.size a) ∧
  (∀ a, (k0_off407 v3246 v3251 v3322 v3353) a + S1x16x256.size a ≤ S200x216x256.size a) ∧
  (∀ a, (k0_off408 v3246 v3251 v3261 v3322 v3353) a + S1x16x256.size a ≤ S200x216x256.size a) ∧
  (∀ a, (k0_off428 v3246 v3251 v3331 v3353) a + S1x16x256.size a ≤ S200x216x256.size a) ∧
  (∀ a, (k0_off429 v3246 v3251 v3261 v3331 v3353) a + S1x16x256.size a ≤ S200x216x256.size a)
theorem k0_mult17_dvd : ∀ (v3246 : BitVec 32) (v3251 : BitVec 32) (v3261 : BitVec 32) (v3277 : BitVec 32) (v3286 : BitVec 32) (v3295 : BitVec 32) (v3304 : BitVec 32) (v3313 : BitVec 32) (v3322 : BitVec 32) (v3331 : BitVec 32) (v3353 : BitVec 32) (k0_hw16 : k0_chk16 v3246 v3251 v3261 v3277 v3286 v3295 v3304 v3313 v3322 v3331 v3353), 8 ∣ (k0_mult17 v3246 v3353).toNat := fun v3246 v3251 v3261 v3277 v3286 v3295 v3304 v3313 v3322 v3331 v3353 k0_hw16 => k0_hw16.1
theorem k0_off302_inb : ∀ (v3246 : BitVec 32) (v3251 : BitVec 32) (v3261 : BitVec 32) (v3277 : BitVec 32) (v3286 : BitVec 32) (v3295 : BitVec 32) (v3304 : BitVec 32) (v3313 : BitVec 32) (v3322 : BitVec 32) (v3331 : BitVec 32) (v3353 : BitVec 32) (k0_hw16 : k0_chk16 v3246 v3251 v3261 v3277 v3286 v3295 v3304 v3313 v3322 v3331 v3353), ∀ a, (k0_off302 v3246 v3251 v3277 v3353) a + S1x16x256.size a ≤ S200x216x256.size a := fun v3246 v3251 v3261 v3277 v3286 v3295 v3304 v3313 v3322 v3331 v3353 k0_hw16 => k0_hw16.2.1
theorem k0_off303_inb : ∀ (v3246 : BitVec 32) (v3251 : BitVec 32) (v3261 : BitVec 32) (v3277 : BitVec 32) (v3286 : BitVec 32) (v3295 : BitVec 32) (v3304 : BitVec 32) (v3313 : BitVec 32) (v3322 : BitVec 32) (v3331 : BitVec 32) (v3353 : BitVec 32) (k0_hw16 : k0_chk16 v3246 v3251 v3261 v3277 v3286 v3295 v3304 v3313 v3322 v3331 v3353), ∀ a, (k0_off303 v3246 v3251 v3261 v3277 v3353) a + S1x16x256.size a ≤ S200x216x256.size a := fun v3246 v3251 v3261 v3277 v3286 v3295 v3304 v3313 v3322 v3331 v3353 k0_hw16 => k0_hw16.2.2.1
theorem k0_off323_inb : ∀ (v3246 : BitVec 32) (v3251 : BitVec 32) (v3261 : BitVec 32) (v3277 : BitVec 32) (v3286 : BitVec 32) (v3295 : BitVec 32) (v3304 : BitVec 32) (v3313 : BitVec 32) (v3322 : BitVec 32) (v3331 : BitVec 32) (v3353 : BitVec 32) (k0_hw16 : k0_chk16 v3246 v3251 v3261 v3277 v3286 v3295 v3304 v3313 v3322 v3331 v3353), ∀ a, (k0_off323 v3246 v3251 v3286 v3353) a + S1x16x256.size a ≤ S200x216x256.size a := fun v3246 v3251 v3261 v3277 v3286 v3295 v3304 v3313 v3322 v3331 v3353 k0_hw16 => k0_hw16.2.2.2.1
theorem k0_off324_inb : ∀ (v3246 : BitVec 32) (v3251 : BitVec 32) (v3261 : BitVec 32) (v3277 : BitVec 32) (v3286 : BitVec 32) (v3295 : BitVec 32) (v3304 : BitVec 32) (v3313 : BitVec 32) (v3322 : BitVec 32) (v3331 : BitVec 32) (v3353 : BitVec 32) (k0_hw16 : k0_chk16 v3246 v3251 v3261 v3277 v3286 v3295 v3304 v3313 v3322 v3331 v3353), ∀ a, (k0_off324 v3246 v3251 v3261 v3286 v3353) a + S1x16x256.size a ≤ S200x216x256.size a := fun v3246 v3251 v3261 v3277 v3286 v3295 v3304 v3313 v3322 v3331 v3353 k0_hw16 => k0_hw16.2.2.2.2.1
theorem k0_off344_inb : ∀ (v3246 : BitVec 32) (v3251 : BitVec 32) (v3261 : BitVec 32) (v3277 : BitVec 32) (v3286 : BitVec 32) (v3295 : BitVec 32) (v3304 : BitVec 32) (v3313 : BitVec 32) (v3322 : BitVec 32) (v3331 : BitVec 32) (v3353 : BitVec 32) (k0_hw16 : k0_chk16 v3246 v3251 v3261 v3277 v3286 v3295 v3304 v3313 v3322 v3331 v3353), ∀ a, (k0_off344 v3246 v3251 v3295 v3353) a + S1x16x256.size a ≤ S200x216x256.size a := fun v3246 v3251 v3261 v3277 v3286 v3295 v3304 v3313 v3322 v3331 v3353 k0_hw16 => k0_hw16.2.2.2.2.2.1
theorem k0_off345_inb : ∀ (v3246 : BitVec 32) (v3251 : BitVec 32) (v3261 : BitVec 32) (v3277 : BitVec 32) (v3286 : BitVec 32) (v3295 : BitVec 32) (v3304 : BitVec 32) (v3313 : BitVec 32) (v3322 : BitVec 32) (v3331 : BitVec 32) (v3353 : BitVec 32) (k0_hw16 : k0_chk16 v3246 v3251 v3261 v3277 v3286 v3295 v3304 v3313 v3322 v3331 v3353), ∀ a, (k0_off345 v3246 v3251 v3261 v3295 v3353) a + S1x16x256.size a ≤ S200x216x256.size a := fun v3246 v3251 v3261 v3277 v3286 v3295 v3304 v3313 v3322 v3331 v3353 k0_hw16 => k0_hw16.2.2.2.2.2.2.1
theorem k0_off365_inb : ∀ (v3246 : BitVec 32) (v3251 : BitVec 32) (v3261 : BitVec 32) (v3277 : BitVec 32) (v3286 : BitVec 32) (v3295 : BitVec 32) (v3304 : BitVec 32) (v3313 : BitVec 32) (v3322 : BitVec 32) (v3331 : BitVec 32) (v3353 : BitVec 32) (k0_hw16 : k0_chk16 v3246 v3251 v3261 v3277 v3286 v3295 v3304 v3313 v3322 v3331 v3353), ∀ a, (k0_off365 v3246 v3251 v3304 v3353) a + S1x16x256.size a ≤ S200x216x256.size a := fun v3246 v3251 v3261 v3277 v3286 v3295 v3304 v3313 v3322 v3331 v3353 k0_hw16 => k0_hw16.2.2.2.2.2.2.2.1
theorem k0_off366_inb : ∀ (v3246 : BitVec 32) (v3251 : BitVec 32) (v3261 : BitVec 32) (v3277 : BitVec 32) (v3286 : BitVec 32) (v3295 : BitVec 32) (v3304 : BitVec 32) (v3313 : BitVec 32) (v3322 : BitVec 32) (v3331 : BitVec 32) (v3353 : BitVec 32) (k0_hw16 : k0_chk16 v3246 v3251 v3261 v3277 v3286 v3295 v3304 v3313 v3322 v3331 v3353), ∀ a, (k0_off366 v3246 v3251 v3261 v3304 v3353) a + S1x16x256.size a ≤ S200x216x256.size a := fun v3246 v3251 v3261 v3277 v3286 v3295 v3304 v3313 v3322 v3331 v3353 k0_hw16 => k0_hw16.2.2.2.2.2.2.2.2.1
theorem k0_off386_inb : ∀ (v3246 : BitVec 32) (v3251 : BitVec 32) (v3261 : BitVec 32) (v3277 : BitVec 32) (v3286 : BitVec 32) (v3295 : BitVec 32) (v3304 : BitVec 32) (v3313 : BitVec 32) (v3322 : BitVec 32) (v3331 : BitVec 32) (v3353 : BitVec 32) (k0_hw16 : k0_chk16 v3246 v3251 v3261 v3277 v3286 v3295 v3304 v3313 v3322 v3331 v3353), ∀ a, (k0_off386 v3246 v3251 v3313 v3353) a + S1x16x256.size a ≤ S200x216x256.size a := fun v3246 v3251 v3261 v3277 v3286 v3295 v3304 v3313 v3322 v3331 v3353 k0_hw16 => k0_hw16.2.2.2.2.2.2.2.2.2.1
theorem k0_off387_inb : ∀ (v3246 : BitVec 32) (v3251 : BitVec 32) (v3261 : BitVec 32) (v3277 : BitVec 32) (v3286 : BitVec 32) (v3295 : BitVec 32) (v3304 : BitVec 32) (v3313 : BitVec 32) (v3322 : BitVec 32) (v3331 : BitVec 32) (v3353 : BitVec 32) (k0_hw16 : k0_chk16 v3246 v3251 v3261 v3277 v3286 v3295 v3304 v3313 v3322 v3331 v3353), ∀ a, (k0_off387 v3246 v3251 v3261 v3313 v3353) a + S1x16x256.size a ≤ S200x216x256.size a := fun v3246 v3251 v3261 v3277 v3286 v3295 v3304 v3313 v3322 v3331 v3353 k0_hw16 => k0_hw16.2.2.2.2.2.2.2.2.2.2.1
theorem k0_off407_inb : ∀ (v3246 : BitVec 32) (v3251 : BitVec 32) (v3261 : BitVec 32) (v3277 : BitVec 32) (v3286 : BitVec 32) (v3295 : BitVec 32) (v3304 : BitVec 32) (v3313 : BitVec 32) (v3322 : BitVec 32) (v3331 : BitVec 32) (v3353 : BitVec 32) (k0_hw16 : k0_chk16 v3246 v3251 v3261 v3277 v3286 v3295 v3304 v3313 v3322 v3331 v3353), ∀ a, (k0_off407 v3246 v3251 v3322 v3353) a + S1x16x256.size a ≤ S200x216x256.size a := fun v3246 v3251 v3261 v3277 v3286 v3295 v3304 v3313 v3322 v3331 v3353 k0_hw16 => k0_hw16.2.2.2.2.2.2.2.2.2.2.2.1
theorem k0_off408_inb : ∀ (v3246 : BitVec 32) (v3251 : BitVec 32) (v3261 : BitVec 32) (v3277 : BitVec 32) (v3286 : BitVec 32) (v3295 : BitVec 32) (v3304 : BitVec 32) (v3313 : BitVec 32) (v3322 : BitVec 32) (v3331 : BitVec 32) (v3353 : BitVec 32) (k0_hw16 : k0_chk16 v3246 v3251 v3261 v3277 v3286 v3295 v3304 v3313 v3322 v3331 v3353), ∀ a, (k0_off408 v3246 v3251 v3261 v3322 v3353) a + S1x16x256.size a ≤ S200x216x256.size a := fun v3246 v3251 v3261 v3277 v3286 v3295 v3304 v3313 v3322 v3331 v3353 k0_hw16 => k0_hw16.2.2.2.2.2.2.2.2.2.2.2.2.1
theorem k0_off428_inb : ∀ (v3246 : BitVec 32) (v3251 : BitVec 32) (v3261 : BitVec 32) (v3277 : BitVec 32) (v3286 : BitVec 32) (v3295 : BitVec 32) (v3304 : BitVec 32) (v3313 : BitVec 32) (v3322 : BitVec 32) (v3331 : BitVec 32) (v3353 : BitVec 32) (k0_hw16 : k0_chk16 v3246 v3251 v3261 v3277 v3286 v3295 v3304 v3313 v3322 v3331 v3353), ∀ a, (k0_off428 v3246 v3251 v3331 v3353) a + S1x16x256.size a ≤ S200x216x256.size a := fun v3246 v3251 v3261 v3277 v3286 v3295 v3304 v3313 v3322 v3331 v3353 k0_hw16 => k0_hw16.2.2.2.2.2.2.2.2.2.2.2.2.2.1
theorem k0_off429_inb : ∀ (v3246 : BitVec 32) (v3251 : BitVec 32) (v3261 : BitVec 32) (v3277 : BitVec 32) (v3286 : BitVec 32) (v3295 : BitVec 32) (v3304 : BitVec 32) (v3313 : BitVec 32) (v3322 : BitVec 32) (v3331 : BitVec 32) (v3353 : BitVec 32) (k0_hw16 : k0_chk16 v3246 v3251 v3261 v3277 v3286 v3295 v3304 v3313 v3322 v3331 v3353), ∀ a, (k0_off429 v3246 v3251 v3261 v3331 v3353) a + S1x16x256.size a ≤ S200x216x256.size a := fun v3246 v3251 v3261 v3277 v3286 v3295 v3304 v3313 v3322 v3331 v3353 k0_hw16 => k0_hw16.2.2.2.2.2.2.2.2.2.2.2.2.2.2

def k0_off430 (k0_t1 : Fin k0_t1_loop.trips) : Fin 3 → Nat :=
  let c43_1109 : Index := 43#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c2_i32_743 : BitVec 32 := 2#32
  let v3238 : BitVec 32 := Scalar.addi v5 c2_i32_743
  let v4705 : Index := Scalar.indexCast v3238
  let c0_1110 : Index := 0#32
  ![43, v4705.toNat, 0]
def k0_off431 (v3246 : BitVec 32) (v3251 : BitVec 32) (v3331 : BitVec 32) (v3366 : BitVec 32) : Fin 3 → Nat :=
  let c199_i32_752 : BitVec 32 := 199#32
  let c0_i32_751 : BitVec 32 := 0#32
  let v3252 : BitVec 32 := Scalar.maxsi c0_i32_751 v3251
  let v3253 : BitVec 32 := Scalar.minsi c199_i32_752 v3252
  let v3332 : BitVec 32 := Scalar.addi v3253 v3331
  let v4710 : Index := Scalar.indexCast v3332
  let c199_i32_749 : BitVec 32 := 199#32
  let c0_i32_748 : BitVec 32 := 0#32
  let v3247 : BitVec 32 := Scalar.maxsi c0_i32_748 v3246
  let v3248 : BitVec 32 := Scalar.minsi c199_i32_749 v3247
  let v3367 : BitVec 32 := Scalar.addi v3248 v3366
  let c3_i32_809 : BitVec 32 := 3#32
  let v3370 : BitVec 32 := Scalar.shrsi v3367 c3_i32_809
  let c3_i32_810 : BitVec 32 := 3#32
  let v3371 : BitVec 32 := Scalar.shli v3370 c3_i32_810
  let v3372 : BitVec 32 := v3371
  let v4711 : Index := Scalar.indexCast v3372
  let c0_1112 : Index := 0#32
  ![v4710.toNat, v4711.toNat, 0]
def k0_off432 (v3246 : BitVec 32) (v3251 : BitVec 32) (v3261 : BitVec 32) (v3331 : BitVec 32) (v3366 : BitVec 32) : Fin 3 → Nat :=
  let c199_i32_752 : BitVec 32 := 199#32
  let c0_i32_751 : BitVec 32 := 0#32
  let v3252 : BitVec 32 := Scalar.maxsi c0_i32_751 v3251
  let v3253 : BitVec 32 := Scalar.minsi c199_i32_752 v3252
  let v3332 : BitVec 32 := Scalar.addi v3253 v3331
  let c1_i32_790 : BitVec 32 := 1#32
  let v3333 : BitVec 32 := Scalar.addi v3332 c1_i32_790
  let c199_i32_758 : BitVec 32 := 199#32
  let c0_i32_757 : BitVec 32 := 0#32
  let v3262 : BitVec 32 := Scalar.maxsi c0_i32_757 v3261
  let v3263 : BitVec 32 := Scalar.minsi c199_i32_758 v3262
  let v3334 : BitVec 32 := Scalar.minsi v3333 v3263
  let v4714 : Index := Scalar.indexCast v3334
  let c199_i32_749 : BitVec 32 := 199#32
  let c0_i32_748 : BitVec 32 := 0#32
  let v3247 : BitVec 32 := Scalar.maxsi c0_i32_748 v3246
  let v3248 : BitVec 32 := Scalar.minsi c199_i32_749 v3247
  let v3367 : BitVec 32 := Scalar.addi v3248 v3366
  let c3_i32_809 : BitVec 32 := 3#32
  let v3370 : BitVec 32 := Scalar.shrsi v3367 c3_i32_809
  let c3_i32_810 : BitVec 32 := 3#32
  let v3371 : BitVec 32 := Scalar.shli v3370 c3_i32_810
  let v3372 : BitVec 32 := v3371
  let v4715 : Index := Scalar.indexCast v3372
  let c0_1113 : Index := 0#32
  ![v4714.toNat, v4715.toNat, 0]

def k0_chk17 (v3246 : BitVec 32) (v3251 : BitVec 32) (v3261 : BitVec 32) (v3277 : BitVec 32) (v3286 : BitVec 32) (v3295 : BitVec 32) (v3304 : BitVec 32) (v3313 : BitVec 32) (v3322 : BitVec 32) (v3331 : BitVec 32) (v3366 : BitVec 32) : Prop :=
  (8 ∣ (k0_mult18 v3246 v3366).toNat) ∧
  (∀ a, (k0_off305 v3246 v3251 v3277 v3366) a + S1x16x256.size a ≤ S200x216x256.size a) ∧
  (∀ a, (k0_off306 v3246 v3251 v3261 v3277 v3366) a + S1x16x256.size a ≤ S200x216x256.size a) ∧
  (∀ a, (k0_off326 v3246 v3251 v3286 v3366) a + S1x16x256.size a ≤ S200x216x256.size a) ∧
  (∀ a, (k0_off327 v3246 v3251 v3261 v3286 v3366) a + S1x16x256.size a ≤ S200x216x256.size a) ∧
  (∀ a, (k0_off347 v3246 v3251 v3295 v3366) a + S1x16x256.size a ≤ S200x216x256.size a) ∧
  (∀ a, (k0_off348 v3246 v3251 v3261 v3295 v3366) a + S1x16x256.size a ≤ S200x216x256.size a) ∧
  (∀ a, (k0_off368 v3246 v3251 v3304 v3366) a + S1x16x256.size a ≤ S200x216x256.size a) ∧
  (∀ a, (k0_off369 v3246 v3251 v3261 v3304 v3366) a + S1x16x256.size a ≤ S200x216x256.size a) ∧
  (∀ a, (k0_off389 v3246 v3251 v3313 v3366) a + S1x16x256.size a ≤ S200x216x256.size a) ∧
  (∀ a, (k0_off390 v3246 v3251 v3261 v3313 v3366) a + S1x16x256.size a ≤ S200x216x256.size a) ∧
  (∀ a, (k0_off410 v3246 v3251 v3322 v3366) a + S1x16x256.size a ≤ S200x216x256.size a) ∧
  (∀ a, (k0_off411 v3246 v3251 v3261 v3322 v3366) a + S1x16x256.size a ≤ S200x216x256.size a) ∧
  (∀ a, (k0_off431 v3246 v3251 v3331 v3366) a + S1x16x256.size a ≤ S200x216x256.size a) ∧
  (∀ a, (k0_off432 v3246 v3251 v3261 v3331 v3366) a + S1x16x256.size a ≤ S200x216x256.size a)
theorem k0_mult18_dvd : ∀ (v3246 : BitVec 32) (v3251 : BitVec 32) (v3261 : BitVec 32) (v3277 : BitVec 32) (v3286 : BitVec 32) (v3295 : BitVec 32) (v3304 : BitVec 32) (v3313 : BitVec 32) (v3322 : BitVec 32) (v3331 : BitVec 32) (v3366 : BitVec 32) (k0_hw17 : k0_chk17 v3246 v3251 v3261 v3277 v3286 v3295 v3304 v3313 v3322 v3331 v3366), 8 ∣ (k0_mult18 v3246 v3366).toNat := fun v3246 v3251 v3261 v3277 v3286 v3295 v3304 v3313 v3322 v3331 v3366 k0_hw17 => k0_hw17.1
theorem k0_off305_inb : ∀ (v3246 : BitVec 32) (v3251 : BitVec 32) (v3261 : BitVec 32) (v3277 : BitVec 32) (v3286 : BitVec 32) (v3295 : BitVec 32) (v3304 : BitVec 32) (v3313 : BitVec 32) (v3322 : BitVec 32) (v3331 : BitVec 32) (v3366 : BitVec 32) (k0_hw17 : k0_chk17 v3246 v3251 v3261 v3277 v3286 v3295 v3304 v3313 v3322 v3331 v3366), ∀ a, (k0_off305 v3246 v3251 v3277 v3366) a + S1x16x256.size a ≤ S200x216x256.size a := fun v3246 v3251 v3261 v3277 v3286 v3295 v3304 v3313 v3322 v3331 v3366 k0_hw17 => k0_hw17.2.1
theorem k0_off306_inb : ∀ (v3246 : BitVec 32) (v3251 : BitVec 32) (v3261 : BitVec 32) (v3277 : BitVec 32) (v3286 : BitVec 32) (v3295 : BitVec 32) (v3304 : BitVec 32) (v3313 : BitVec 32) (v3322 : BitVec 32) (v3331 : BitVec 32) (v3366 : BitVec 32) (k0_hw17 : k0_chk17 v3246 v3251 v3261 v3277 v3286 v3295 v3304 v3313 v3322 v3331 v3366), ∀ a, (k0_off306 v3246 v3251 v3261 v3277 v3366) a + S1x16x256.size a ≤ S200x216x256.size a := fun v3246 v3251 v3261 v3277 v3286 v3295 v3304 v3313 v3322 v3331 v3366 k0_hw17 => k0_hw17.2.2.1
theorem k0_off326_inb : ∀ (v3246 : BitVec 32) (v3251 : BitVec 32) (v3261 : BitVec 32) (v3277 : BitVec 32) (v3286 : BitVec 32) (v3295 : BitVec 32) (v3304 : BitVec 32) (v3313 : BitVec 32) (v3322 : BitVec 32) (v3331 : BitVec 32) (v3366 : BitVec 32) (k0_hw17 : k0_chk17 v3246 v3251 v3261 v3277 v3286 v3295 v3304 v3313 v3322 v3331 v3366), ∀ a, (k0_off326 v3246 v3251 v3286 v3366) a + S1x16x256.size a ≤ S200x216x256.size a := fun v3246 v3251 v3261 v3277 v3286 v3295 v3304 v3313 v3322 v3331 v3366 k0_hw17 => k0_hw17.2.2.2.1
theorem k0_off327_inb : ∀ (v3246 : BitVec 32) (v3251 : BitVec 32) (v3261 : BitVec 32) (v3277 : BitVec 32) (v3286 : BitVec 32) (v3295 : BitVec 32) (v3304 : BitVec 32) (v3313 : BitVec 32) (v3322 : BitVec 32) (v3331 : BitVec 32) (v3366 : BitVec 32) (k0_hw17 : k0_chk17 v3246 v3251 v3261 v3277 v3286 v3295 v3304 v3313 v3322 v3331 v3366), ∀ a, (k0_off327 v3246 v3251 v3261 v3286 v3366) a + S1x16x256.size a ≤ S200x216x256.size a := fun v3246 v3251 v3261 v3277 v3286 v3295 v3304 v3313 v3322 v3331 v3366 k0_hw17 => k0_hw17.2.2.2.2.1
theorem k0_off347_inb : ∀ (v3246 : BitVec 32) (v3251 : BitVec 32) (v3261 : BitVec 32) (v3277 : BitVec 32) (v3286 : BitVec 32) (v3295 : BitVec 32) (v3304 : BitVec 32) (v3313 : BitVec 32) (v3322 : BitVec 32) (v3331 : BitVec 32) (v3366 : BitVec 32) (k0_hw17 : k0_chk17 v3246 v3251 v3261 v3277 v3286 v3295 v3304 v3313 v3322 v3331 v3366), ∀ a, (k0_off347 v3246 v3251 v3295 v3366) a + S1x16x256.size a ≤ S200x216x256.size a := fun v3246 v3251 v3261 v3277 v3286 v3295 v3304 v3313 v3322 v3331 v3366 k0_hw17 => k0_hw17.2.2.2.2.2.1
theorem k0_off348_inb : ∀ (v3246 : BitVec 32) (v3251 : BitVec 32) (v3261 : BitVec 32) (v3277 : BitVec 32) (v3286 : BitVec 32) (v3295 : BitVec 32) (v3304 : BitVec 32) (v3313 : BitVec 32) (v3322 : BitVec 32) (v3331 : BitVec 32) (v3366 : BitVec 32) (k0_hw17 : k0_chk17 v3246 v3251 v3261 v3277 v3286 v3295 v3304 v3313 v3322 v3331 v3366), ∀ a, (k0_off348 v3246 v3251 v3261 v3295 v3366) a + S1x16x256.size a ≤ S200x216x256.size a := fun v3246 v3251 v3261 v3277 v3286 v3295 v3304 v3313 v3322 v3331 v3366 k0_hw17 => k0_hw17.2.2.2.2.2.2.1
theorem k0_off368_inb : ∀ (v3246 : BitVec 32) (v3251 : BitVec 32) (v3261 : BitVec 32) (v3277 : BitVec 32) (v3286 : BitVec 32) (v3295 : BitVec 32) (v3304 : BitVec 32) (v3313 : BitVec 32) (v3322 : BitVec 32) (v3331 : BitVec 32) (v3366 : BitVec 32) (k0_hw17 : k0_chk17 v3246 v3251 v3261 v3277 v3286 v3295 v3304 v3313 v3322 v3331 v3366), ∀ a, (k0_off368 v3246 v3251 v3304 v3366) a + S1x16x256.size a ≤ S200x216x256.size a := fun v3246 v3251 v3261 v3277 v3286 v3295 v3304 v3313 v3322 v3331 v3366 k0_hw17 => k0_hw17.2.2.2.2.2.2.2.1
theorem k0_off369_inb : ∀ (v3246 : BitVec 32) (v3251 : BitVec 32) (v3261 : BitVec 32) (v3277 : BitVec 32) (v3286 : BitVec 32) (v3295 : BitVec 32) (v3304 : BitVec 32) (v3313 : BitVec 32) (v3322 : BitVec 32) (v3331 : BitVec 32) (v3366 : BitVec 32) (k0_hw17 : k0_chk17 v3246 v3251 v3261 v3277 v3286 v3295 v3304 v3313 v3322 v3331 v3366), ∀ a, (k0_off369 v3246 v3251 v3261 v3304 v3366) a + S1x16x256.size a ≤ S200x216x256.size a := fun v3246 v3251 v3261 v3277 v3286 v3295 v3304 v3313 v3322 v3331 v3366 k0_hw17 => k0_hw17.2.2.2.2.2.2.2.2.1
theorem k0_off389_inb : ∀ (v3246 : BitVec 32) (v3251 : BitVec 32) (v3261 : BitVec 32) (v3277 : BitVec 32) (v3286 : BitVec 32) (v3295 : BitVec 32) (v3304 : BitVec 32) (v3313 : BitVec 32) (v3322 : BitVec 32) (v3331 : BitVec 32) (v3366 : BitVec 32) (k0_hw17 : k0_chk17 v3246 v3251 v3261 v3277 v3286 v3295 v3304 v3313 v3322 v3331 v3366), ∀ a, (k0_off389 v3246 v3251 v3313 v3366) a + S1x16x256.size a ≤ S200x216x256.size a := fun v3246 v3251 v3261 v3277 v3286 v3295 v3304 v3313 v3322 v3331 v3366 k0_hw17 => k0_hw17.2.2.2.2.2.2.2.2.2.1
theorem k0_off390_inb : ∀ (v3246 : BitVec 32) (v3251 : BitVec 32) (v3261 : BitVec 32) (v3277 : BitVec 32) (v3286 : BitVec 32) (v3295 : BitVec 32) (v3304 : BitVec 32) (v3313 : BitVec 32) (v3322 : BitVec 32) (v3331 : BitVec 32) (v3366 : BitVec 32) (k0_hw17 : k0_chk17 v3246 v3251 v3261 v3277 v3286 v3295 v3304 v3313 v3322 v3331 v3366), ∀ a, (k0_off390 v3246 v3251 v3261 v3313 v3366) a + S1x16x256.size a ≤ S200x216x256.size a := fun v3246 v3251 v3261 v3277 v3286 v3295 v3304 v3313 v3322 v3331 v3366 k0_hw17 => k0_hw17.2.2.2.2.2.2.2.2.2.2.1
theorem k0_off410_inb : ∀ (v3246 : BitVec 32) (v3251 : BitVec 32) (v3261 : BitVec 32) (v3277 : BitVec 32) (v3286 : BitVec 32) (v3295 : BitVec 32) (v3304 : BitVec 32) (v3313 : BitVec 32) (v3322 : BitVec 32) (v3331 : BitVec 32) (v3366 : BitVec 32) (k0_hw17 : k0_chk17 v3246 v3251 v3261 v3277 v3286 v3295 v3304 v3313 v3322 v3331 v3366), ∀ a, (k0_off410 v3246 v3251 v3322 v3366) a + S1x16x256.size a ≤ S200x216x256.size a := fun v3246 v3251 v3261 v3277 v3286 v3295 v3304 v3313 v3322 v3331 v3366 k0_hw17 => k0_hw17.2.2.2.2.2.2.2.2.2.2.2.1
theorem k0_off411_inb : ∀ (v3246 : BitVec 32) (v3251 : BitVec 32) (v3261 : BitVec 32) (v3277 : BitVec 32) (v3286 : BitVec 32) (v3295 : BitVec 32) (v3304 : BitVec 32) (v3313 : BitVec 32) (v3322 : BitVec 32) (v3331 : BitVec 32) (v3366 : BitVec 32) (k0_hw17 : k0_chk17 v3246 v3251 v3261 v3277 v3286 v3295 v3304 v3313 v3322 v3331 v3366), ∀ a, (k0_off411 v3246 v3251 v3261 v3322 v3366) a + S1x16x256.size a ≤ S200x216x256.size a := fun v3246 v3251 v3261 v3277 v3286 v3295 v3304 v3313 v3322 v3331 v3366 k0_hw17 => k0_hw17.2.2.2.2.2.2.2.2.2.2.2.2.1
theorem k0_off431_inb : ∀ (v3246 : BitVec 32) (v3251 : BitVec 32) (v3261 : BitVec 32) (v3277 : BitVec 32) (v3286 : BitVec 32) (v3295 : BitVec 32) (v3304 : BitVec 32) (v3313 : BitVec 32) (v3322 : BitVec 32) (v3331 : BitVec 32) (v3366 : BitVec 32) (k0_hw17 : k0_chk17 v3246 v3251 v3261 v3277 v3286 v3295 v3304 v3313 v3322 v3331 v3366), ∀ a, (k0_off431 v3246 v3251 v3331 v3366) a + S1x16x256.size a ≤ S200x216x256.size a := fun v3246 v3251 v3261 v3277 v3286 v3295 v3304 v3313 v3322 v3331 v3366 k0_hw17 => k0_hw17.2.2.2.2.2.2.2.2.2.2.2.2.2.1
theorem k0_off432_inb : ∀ (v3246 : BitVec 32) (v3251 : BitVec 32) (v3261 : BitVec 32) (v3277 : BitVec 32) (v3286 : BitVec 32) (v3295 : BitVec 32) (v3304 : BitVec 32) (v3313 : BitVec 32) (v3322 : BitVec 32) (v3331 : BitVec 32) (v3366 : BitVec 32) (k0_hw17 : k0_chk17 v3246 v3251 v3261 v3277 v3286 v3295 v3304 v3313 v3322 v3331 v3366), ∀ a, (k0_off432 v3246 v3251 v3261 v3331 v3366) a + S1x16x256.size a ≤ S200x216x256.size a := fun v3246 v3251 v3261 v3277 v3286 v3295 v3304 v3313 v3322 v3331 v3366 k0_hw17 => k0_hw17.2.2.2.2.2.2.2.2.2.2.2.2.2.2

def k0_off433 (k0_t1 : Fin k0_t1_loop.trips) : Fin 3 → Nat :=
  let c44_1115 : Index := 44#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c2_i32_743 : BitVec 32 := 2#32
  let v3238 : BitVec 32 := Scalar.addi v5 c2_i32_743
  let v4734 : Index := Scalar.indexCast v3238
  let c0_1116 : Index := 0#32
  ![44, v4734.toNat, 0]
def k0_off434 (v3246 : BitVec 32) (v3251 : BitVec 32) (v3331 : BitVec 32) (v3379 : BitVec 32) : Fin 3 → Nat :=
  let c199_i32_752 : BitVec 32 := 199#32
  let c0_i32_751 : BitVec 32 := 0#32
  let v3252 : BitVec 32 := Scalar.maxsi c0_i32_751 v3251
  let v3253 : BitVec 32 := Scalar.minsi c199_i32_752 v3252
  let v3332 : BitVec 32 := Scalar.addi v3253 v3331
  let v4739 : Index := Scalar.indexCast v3332
  let c199_i32_749 : BitVec 32 := 199#32
  let c0_i32_748 : BitVec 32 := 0#32
  let v3247 : BitVec 32 := Scalar.maxsi c0_i32_748 v3246
  let v3248 : BitVec 32 := Scalar.minsi c199_i32_749 v3247
  let v3380 : BitVec 32 := Scalar.addi v3248 v3379
  let c3_i32_816 : BitVec 32 := 3#32
  let v3383 : BitVec 32 := Scalar.shrsi v3380 c3_i32_816
  let c3_i32_817 : BitVec 32 := 3#32
  let v3384 : BitVec 32 := Scalar.shli v3383 c3_i32_817
  let v3385 : BitVec 32 := v3384
  let v4740 : Index := Scalar.indexCast v3385
  let c0_1118 : Index := 0#32
  ![v4739.toNat, v4740.toNat, 0]
def k0_off435 (v3246 : BitVec 32) (v3251 : BitVec 32) (v3261 : BitVec 32) (v3331 : BitVec 32) (v3379 : BitVec 32) : Fin 3 → Nat :=
  let c199_i32_752 : BitVec 32 := 199#32
  let c0_i32_751 : BitVec 32 := 0#32
  let v3252 : BitVec 32 := Scalar.maxsi c0_i32_751 v3251
  let v3253 : BitVec 32 := Scalar.minsi c199_i32_752 v3252
  let v3332 : BitVec 32 := Scalar.addi v3253 v3331
  let c1_i32_790 : BitVec 32 := 1#32
  let v3333 : BitVec 32 := Scalar.addi v3332 c1_i32_790
  let c199_i32_758 : BitVec 32 := 199#32
  let c0_i32_757 : BitVec 32 := 0#32
  let v3262 : BitVec 32 := Scalar.maxsi c0_i32_757 v3261
  let v3263 : BitVec 32 := Scalar.minsi c199_i32_758 v3262
  let v3334 : BitVec 32 := Scalar.minsi v3333 v3263
  let v4743 : Index := Scalar.indexCast v3334
  let c199_i32_749 : BitVec 32 := 199#32
  let c0_i32_748 : BitVec 32 := 0#32
  let v3247 : BitVec 32 := Scalar.maxsi c0_i32_748 v3246
  let v3248 : BitVec 32 := Scalar.minsi c199_i32_749 v3247
  let v3380 : BitVec 32 := Scalar.addi v3248 v3379
  let c3_i32_816 : BitVec 32 := 3#32
  let v3383 : BitVec 32 := Scalar.shrsi v3380 c3_i32_816
  let c3_i32_817 : BitVec 32 := 3#32
  let v3384 : BitVec 32 := Scalar.shli v3383 c3_i32_817
  let v3385 : BitVec 32 := v3384
  let v4744 : Index := Scalar.indexCast v3385
  let c0_1119 : Index := 0#32
  ![v4743.toNat, v4744.toNat, 0]

def k0_chk18 (v3246 : BitVec 32) (v3251 : BitVec 32) (v3261 : BitVec 32) (v3277 : BitVec 32) (v3286 : BitVec 32) (v3295 : BitVec 32) (v3304 : BitVec 32) (v3313 : BitVec 32) (v3322 : BitVec 32) (v3331 : BitVec 32) (v3379 : BitVec 32) : Prop :=
  (8 ∣ (k0_mult19 v3246 v3379).toNat) ∧
  (∀ a, (k0_off308 v3246 v3251 v3277 v3379) a + S1x16x256.size a ≤ S200x216x256.size a) ∧
  (∀ a, (k0_off309 v3246 v3251 v3261 v3277 v3379) a + S1x16x256.size a ≤ S200x216x256.size a) ∧
  (∀ a, (k0_off329 v3246 v3251 v3286 v3379) a + S1x16x256.size a ≤ S200x216x256.size a) ∧
  (∀ a, (k0_off330 v3246 v3251 v3261 v3286 v3379) a + S1x16x256.size a ≤ S200x216x256.size a) ∧
  (∀ a, (k0_off350 v3246 v3251 v3295 v3379) a + S1x16x256.size a ≤ S200x216x256.size a) ∧
  (∀ a, (k0_off351 v3246 v3251 v3261 v3295 v3379) a + S1x16x256.size a ≤ S200x216x256.size a) ∧
  (∀ a, (k0_off371 v3246 v3251 v3304 v3379) a + S1x16x256.size a ≤ S200x216x256.size a) ∧
  (∀ a, (k0_off372 v3246 v3251 v3261 v3304 v3379) a + S1x16x256.size a ≤ S200x216x256.size a) ∧
  (∀ a, (k0_off392 v3246 v3251 v3313 v3379) a + S1x16x256.size a ≤ S200x216x256.size a) ∧
  (∀ a, (k0_off393 v3246 v3251 v3261 v3313 v3379) a + S1x16x256.size a ≤ S200x216x256.size a) ∧
  (∀ a, (k0_off413 v3246 v3251 v3322 v3379) a + S1x16x256.size a ≤ S200x216x256.size a) ∧
  (∀ a, (k0_off414 v3246 v3251 v3261 v3322 v3379) a + S1x16x256.size a ≤ S200x216x256.size a) ∧
  (∀ a, (k0_off434 v3246 v3251 v3331 v3379) a + S1x16x256.size a ≤ S200x216x256.size a) ∧
  (∀ a, (k0_off435 v3246 v3251 v3261 v3331 v3379) a + S1x16x256.size a ≤ S200x216x256.size a)
theorem k0_mult19_dvd : ∀ (v3246 : BitVec 32) (v3251 : BitVec 32) (v3261 : BitVec 32) (v3277 : BitVec 32) (v3286 : BitVec 32) (v3295 : BitVec 32) (v3304 : BitVec 32) (v3313 : BitVec 32) (v3322 : BitVec 32) (v3331 : BitVec 32) (v3379 : BitVec 32) (k0_hw18 : k0_chk18 v3246 v3251 v3261 v3277 v3286 v3295 v3304 v3313 v3322 v3331 v3379), 8 ∣ (k0_mult19 v3246 v3379).toNat := fun v3246 v3251 v3261 v3277 v3286 v3295 v3304 v3313 v3322 v3331 v3379 k0_hw18 => k0_hw18.1
theorem k0_off308_inb : ∀ (v3246 : BitVec 32) (v3251 : BitVec 32) (v3261 : BitVec 32) (v3277 : BitVec 32) (v3286 : BitVec 32) (v3295 : BitVec 32) (v3304 : BitVec 32) (v3313 : BitVec 32) (v3322 : BitVec 32) (v3331 : BitVec 32) (v3379 : BitVec 32) (k0_hw18 : k0_chk18 v3246 v3251 v3261 v3277 v3286 v3295 v3304 v3313 v3322 v3331 v3379), ∀ a, (k0_off308 v3246 v3251 v3277 v3379) a + S1x16x256.size a ≤ S200x216x256.size a := fun v3246 v3251 v3261 v3277 v3286 v3295 v3304 v3313 v3322 v3331 v3379 k0_hw18 => k0_hw18.2.1
theorem k0_off309_inb : ∀ (v3246 : BitVec 32) (v3251 : BitVec 32) (v3261 : BitVec 32) (v3277 : BitVec 32) (v3286 : BitVec 32) (v3295 : BitVec 32) (v3304 : BitVec 32) (v3313 : BitVec 32) (v3322 : BitVec 32) (v3331 : BitVec 32) (v3379 : BitVec 32) (k0_hw18 : k0_chk18 v3246 v3251 v3261 v3277 v3286 v3295 v3304 v3313 v3322 v3331 v3379), ∀ a, (k0_off309 v3246 v3251 v3261 v3277 v3379) a + S1x16x256.size a ≤ S200x216x256.size a := fun v3246 v3251 v3261 v3277 v3286 v3295 v3304 v3313 v3322 v3331 v3379 k0_hw18 => k0_hw18.2.2.1
theorem k0_off329_inb : ∀ (v3246 : BitVec 32) (v3251 : BitVec 32) (v3261 : BitVec 32) (v3277 : BitVec 32) (v3286 : BitVec 32) (v3295 : BitVec 32) (v3304 : BitVec 32) (v3313 : BitVec 32) (v3322 : BitVec 32) (v3331 : BitVec 32) (v3379 : BitVec 32) (k0_hw18 : k0_chk18 v3246 v3251 v3261 v3277 v3286 v3295 v3304 v3313 v3322 v3331 v3379), ∀ a, (k0_off329 v3246 v3251 v3286 v3379) a + S1x16x256.size a ≤ S200x216x256.size a := fun v3246 v3251 v3261 v3277 v3286 v3295 v3304 v3313 v3322 v3331 v3379 k0_hw18 => k0_hw18.2.2.2.1
theorem k0_off330_inb : ∀ (v3246 : BitVec 32) (v3251 : BitVec 32) (v3261 : BitVec 32) (v3277 : BitVec 32) (v3286 : BitVec 32) (v3295 : BitVec 32) (v3304 : BitVec 32) (v3313 : BitVec 32) (v3322 : BitVec 32) (v3331 : BitVec 32) (v3379 : BitVec 32) (k0_hw18 : k0_chk18 v3246 v3251 v3261 v3277 v3286 v3295 v3304 v3313 v3322 v3331 v3379), ∀ a, (k0_off330 v3246 v3251 v3261 v3286 v3379) a + S1x16x256.size a ≤ S200x216x256.size a := fun v3246 v3251 v3261 v3277 v3286 v3295 v3304 v3313 v3322 v3331 v3379 k0_hw18 => k0_hw18.2.2.2.2.1
theorem k0_off350_inb : ∀ (v3246 : BitVec 32) (v3251 : BitVec 32) (v3261 : BitVec 32) (v3277 : BitVec 32) (v3286 : BitVec 32) (v3295 : BitVec 32) (v3304 : BitVec 32) (v3313 : BitVec 32) (v3322 : BitVec 32) (v3331 : BitVec 32) (v3379 : BitVec 32) (k0_hw18 : k0_chk18 v3246 v3251 v3261 v3277 v3286 v3295 v3304 v3313 v3322 v3331 v3379), ∀ a, (k0_off350 v3246 v3251 v3295 v3379) a + S1x16x256.size a ≤ S200x216x256.size a := fun v3246 v3251 v3261 v3277 v3286 v3295 v3304 v3313 v3322 v3331 v3379 k0_hw18 => k0_hw18.2.2.2.2.2.1
theorem k0_off351_inb : ∀ (v3246 : BitVec 32) (v3251 : BitVec 32) (v3261 : BitVec 32) (v3277 : BitVec 32) (v3286 : BitVec 32) (v3295 : BitVec 32) (v3304 : BitVec 32) (v3313 : BitVec 32) (v3322 : BitVec 32) (v3331 : BitVec 32) (v3379 : BitVec 32) (k0_hw18 : k0_chk18 v3246 v3251 v3261 v3277 v3286 v3295 v3304 v3313 v3322 v3331 v3379), ∀ a, (k0_off351 v3246 v3251 v3261 v3295 v3379) a + S1x16x256.size a ≤ S200x216x256.size a := fun v3246 v3251 v3261 v3277 v3286 v3295 v3304 v3313 v3322 v3331 v3379 k0_hw18 => k0_hw18.2.2.2.2.2.2.1
theorem k0_off371_inb : ∀ (v3246 : BitVec 32) (v3251 : BitVec 32) (v3261 : BitVec 32) (v3277 : BitVec 32) (v3286 : BitVec 32) (v3295 : BitVec 32) (v3304 : BitVec 32) (v3313 : BitVec 32) (v3322 : BitVec 32) (v3331 : BitVec 32) (v3379 : BitVec 32) (k0_hw18 : k0_chk18 v3246 v3251 v3261 v3277 v3286 v3295 v3304 v3313 v3322 v3331 v3379), ∀ a, (k0_off371 v3246 v3251 v3304 v3379) a + S1x16x256.size a ≤ S200x216x256.size a := fun v3246 v3251 v3261 v3277 v3286 v3295 v3304 v3313 v3322 v3331 v3379 k0_hw18 => k0_hw18.2.2.2.2.2.2.2.1
theorem k0_off372_inb : ∀ (v3246 : BitVec 32) (v3251 : BitVec 32) (v3261 : BitVec 32) (v3277 : BitVec 32) (v3286 : BitVec 32) (v3295 : BitVec 32) (v3304 : BitVec 32) (v3313 : BitVec 32) (v3322 : BitVec 32) (v3331 : BitVec 32) (v3379 : BitVec 32) (k0_hw18 : k0_chk18 v3246 v3251 v3261 v3277 v3286 v3295 v3304 v3313 v3322 v3331 v3379), ∀ a, (k0_off372 v3246 v3251 v3261 v3304 v3379) a + S1x16x256.size a ≤ S200x216x256.size a := fun v3246 v3251 v3261 v3277 v3286 v3295 v3304 v3313 v3322 v3331 v3379 k0_hw18 => k0_hw18.2.2.2.2.2.2.2.2.1
theorem k0_off392_inb : ∀ (v3246 : BitVec 32) (v3251 : BitVec 32) (v3261 : BitVec 32) (v3277 : BitVec 32) (v3286 : BitVec 32) (v3295 : BitVec 32) (v3304 : BitVec 32) (v3313 : BitVec 32) (v3322 : BitVec 32) (v3331 : BitVec 32) (v3379 : BitVec 32) (k0_hw18 : k0_chk18 v3246 v3251 v3261 v3277 v3286 v3295 v3304 v3313 v3322 v3331 v3379), ∀ a, (k0_off392 v3246 v3251 v3313 v3379) a + S1x16x256.size a ≤ S200x216x256.size a := fun v3246 v3251 v3261 v3277 v3286 v3295 v3304 v3313 v3322 v3331 v3379 k0_hw18 => k0_hw18.2.2.2.2.2.2.2.2.2.1
theorem k0_off393_inb : ∀ (v3246 : BitVec 32) (v3251 : BitVec 32) (v3261 : BitVec 32) (v3277 : BitVec 32) (v3286 : BitVec 32) (v3295 : BitVec 32) (v3304 : BitVec 32) (v3313 : BitVec 32) (v3322 : BitVec 32) (v3331 : BitVec 32) (v3379 : BitVec 32) (k0_hw18 : k0_chk18 v3246 v3251 v3261 v3277 v3286 v3295 v3304 v3313 v3322 v3331 v3379), ∀ a, (k0_off393 v3246 v3251 v3261 v3313 v3379) a + S1x16x256.size a ≤ S200x216x256.size a := fun v3246 v3251 v3261 v3277 v3286 v3295 v3304 v3313 v3322 v3331 v3379 k0_hw18 => k0_hw18.2.2.2.2.2.2.2.2.2.2.1
theorem k0_off413_inb : ∀ (v3246 : BitVec 32) (v3251 : BitVec 32) (v3261 : BitVec 32) (v3277 : BitVec 32) (v3286 : BitVec 32) (v3295 : BitVec 32) (v3304 : BitVec 32) (v3313 : BitVec 32) (v3322 : BitVec 32) (v3331 : BitVec 32) (v3379 : BitVec 32) (k0_hw18 : k0_chk18 v3246 v3251 v3261 v3277 v3286 v3295 v3304 v3313 v3322 v3331 v3379), ∀ a, (k0_off413 v3246 v3251 v3322 v3379) a + S1x16x256.size a ≤ S200x216x256.size a := fun v3246 v3251 v3261 v3277 v3286 v3295 v3304 v3313 v3322 v3331 v3379 k0_hw18 => k0_hw18.2.2.2.2.2.2.2.2.2.2.2.1
theorem k0_off414_inb : ∀ (v3246 : BitVec 32) (v3251 : BitVec 32) (v3261 : BitVec 32) (v3277 : BitVec 32) (v3286 : BitVec 32) (v3295 : BitVec 32) (v3304 : BitVec 32) (v3313 : BitVec 32) (v3322 : BitVec 32) (v3331 : BitVec 32) (v3379 : BitVec 32) (k0_hw18 : k0_chk18 v3246 v3251 v3261 v3277 v3286 v3295 v3304 v3313 v3322 v3331 v3379), ∀ a, (k0_off414 v3246 v3251 v3261 v3322 v3379) a + S1x16x256.size a ≤ S200x216x256.size a := fun v3246 v3251 v3261 v3277 v3286 v3295 v3304 v3313 v3322 v3331 v3379 k0_hw18 => k0_hw18.2.2.2.2.2.2.2.2.2.2.2.2.1
theorem k0_off434_inb : ∀ (v3246 : BitVec 32) (v3251 : BitVec 32) (v3261 : BitVec 32) (v3277 : BitVec 32) (v3286 : BitVec 32) (v3295 : BitVec 32) (v3304 : BitVec 32) (v3313 : BitVec 32) (v3322 : BitVec 32) (v3331 : BitVec 32) (v3379 : BitVec 32) (k0_hw18 : k0_chk18 v3246 v3251 v3261 v3277 v3286 v3295 v3304 v3313 v3322 v3331 v3379), ∀ a, (k0_off434 v3246 v3251 v3331 v3379) a + S1x16x256.size a ≤ S200x216x256.size a := fun v3246 v3251 v3261 v3277 v3286 v3295 v3304 v3313 v3322 v3331 v3379 k0_hw18 => k0_hw18.2.2.2.2.2.2.2.2.2.2.2.2.2.1
theorem k0_off435_inb : ∀ (v3246 : BitVec 32) (v3251 : BitVec 32) (v3261 : BitVec 32) (v3277 : BitVec 32) (v3286 : BitVec 32) (v3295 : BitVec 32) (v3304 : BitVec 32) (v3313 : BitVec 32) (v3322 : BitVec 32) (v3331 : BitVec 32) (v3379 : BitVec 32) (k0_hw18 : k0_chk18 v3246 v3251 v3261 v3277 v3286 v3295 v3304 v3313 v3322 v3331 v3379), ∀ a, (k0_off435 v3246 v3251 v3261 v3331 v3379) a + S1x16x256.size a ≤ S200x216x256.size a := fun v3246 v3251 v3261 v3277 v3286 v3295 v3304 v3313 v3322 v3331 v3379 k0_hw18 => k0_hw18.2.2.2.2.2.2.2.2.2.2.2.2.2.2

def k0_off436 (k0_t1 : Fin k0_t1_loop.trips) : Fin 3 → Nat :=
  let c45_1121 : Index := 45#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c2_i32_743 : BitVec 32 := 2#32
  let v3238 : BitVec 32 := Scalar.addi v5 c2_i32_743
  let v4763 : Index := Scalar.indexCast v3238
  let c0_1122 : Index := 0#32
  ![45, v4763.toNat, 0]
def k0_off437 (v3246 : BitVec 32) (v3251 : BitVec 32) (v3331 : BitVec 32) (v3392 : BitVec 32) : Fin 3 → Nat :=
  let c199_i32_752 : BitVec 32 := 199#32
  let c0_i32_751 : BitVec 32 := 0#32
  let v3252 : BitVec 32 := Scalar.maxsi c0_i32_751 v3251
  let v3253 : BitVec 32 := Scalar.minsi c199_i32_752 v3252
  let v3332 : BitVec 32 := Scalar.addi v3253 v3331
  let v4768 : Index := Scalar.indexCast v3332
  let c199_i32_749 : BitVec 32 := 199#32
  let c0_i32_748 : BitVec 32 := 0#32
  let v3247 : BitVec 32 := Scalar.maxsi c0_i32_748 v3246
  let v3248 : BitVec 32 := Scalar.minsi c199_i32_749 v3247
  let v3393 : BitVec 32 := Scalar.addi v3248 v3392
  let c3_i32_823 : BitVec 32 := 3#32
  let v3396 : BitVec 32 := Scalar.shrsi v3393 c3_i32_823
  let c3_i32_824 : BitVec 32 := 3#32
  let v3397 : BitVec 32 := Scalar.shli v3396 c3_i32_824
  let v3398 : BitVec 32 := v3397
  let v4769 : Index := Scalar.indexCast v3398
  let c0_1124 : Index := 0#32
  ![v4768.toNat, v4769.toNat, 0]
def k0_off438 (v3246 : BitVec 32) (v3251 : BitVec 32) (v3261 : BitVec 32) (v3331 : BitVec 32) (v3392 : BitVec 32) : Fin 3 → Nat :=
  let c199_i32_752 : BitVec 32 := 199#32
  let c0_i32_751 : BitVec 32 := 0#32
  let v3252 : BitVec 32 := Scalar.maxsi c0_i32_751 v3251
  let v3253 : BitVec 32 := Scalar.minsi c199_i32_752 v3252
  let v3332 : BitVec 32 := Scalar.addi v3253 v3331
  let c1_i32_790 : BitVec 32 := 1#32
  let v3333 : BitVec 32 := Scalar.addi v3332 c1_i32_790
  let c199_i32_758 : BitVec 32 := 199#32
  let c0_i32_757 : BitVec 32 := 0#32
  let v3262 : BitVec 32 := Scalar.maxsi c0_i32_757 v3261
  let v3263 : BitVec 32 := Scalar.minsi c199_i32_758 v3262
  let v3334 : BitVec 32 := Scalar.minsi v3333 v3263
  let v4772 : Index := Scalar.indexCast v3334
  let c199_i32_749 : BitVec 32 := 199#32
  let c0_i32_748 : BitVec 32 := 0#32
  let v3247 : BitVec 32 := Scalar.maxsi c0_i32_748 v3246
  let v3248 : BitVec 32 := Scalar.minsi c199_i32_749 v3247
  let v3393 : BitVec 32 := Scalar.addi v3248 v3392
  let c3_i32_823 : BitVec 32 := 3#32
  let v3396 : BitVec 32 := Scalar.shrsi v3393 c3_i32_823
  let c3_i32_824 : BitVec 32 := 3#32
  let v3397 : BitVec 32 := Scalar.shli v3396 c3_i32_824
  let v3398 : BitVec 32 := v3397
  let v4773 : Index := Scalar.indexCast v3398
  let c0_1125 : Index := 0#32
  ![v4772.toNat, v4773.toNat, 0]

def k0_chk19 (v3246 : BitVec 32) (v3251 : BitVec 32) (v3261 : BitVec 32) (v3277 : BitVec 32) (v3286 : BitVec 32) (v3295 : BitVec 32) (v3304 : BitVec 32) (v3313 : BitVec 32) (v3322 : BitVec 32) (v3331 : BitVec 32) (v3392 : BitVec 32) : Prop :=
  (8 ∣ (k0_mult20 v3246 v3392).toNat) ∧
  (∀ a, (k0_off311 v3246 v3251 v3277 v3392) a + S1x16x256.size a ≤ S200x216x256.size a) ∧
  (∀ a, (k0_off312 v3246 v3251 v3261 v3277 v3392) a + S1x16x256.size a ≤ S200x216x256.size a) ∧
  (∀ a, (k0_off332 v3246 v3251 v3286 v3392) a + S1x16x256.size a ≤ S200x216x256.size a) ∧
  (∀ a, (k0_off333 v3246 v3251 v3261 v3286 v3392) a + S1x16x256.size a ≤ S200x216x256.size a) ∧
  (∀ a, (k0_off353 v3246 v3251 v3295 v3392) a + S1x16x256.size a ≤ S200x216x256.size a) ∧
  (∀ a, (k0_off354 v3246 v3251 v3261 v3295 v3392) a + S1x16x256.size a ≤ S200x216x256.size a) ∧
  (∀ a, (k0_off374 v3246 v3251 v3304 v3392) a + S1x16x256.size a ≤ S200x216x256.size a) ∧
  (∀ a, (k0_off375 v3246 v3251 v3261 v3304 v3392) a + S1x16x256.size a ≤ S200x216x256.size a) ∧
  (∀ a, (k0_off395 v3246 v3251 v3313 v3392) a + S1x16x256.size a ≤ S200x216x256.size a) ∧
  (∀ a, (k0_off396 v3246 v3251 v3261 v3313 v3392) a + S1x16x256.size a ≤ S200x216x256.size a) ∧
  (∀ a, (k0_off416 v3246 v3251 v3322 v3392) a + S1x16x256.size a ≤ S200x216x256.size a) ∧
  (∀ a, (k0_off417 v3246 v3251 v3261 v3322 v3392) a + S1x16x256.size a ≤ S200x216x256.size a) ∧
  (∀ a, (k0_off437 v3246 v3251 v3331 v3392) a + S1x16x256.size a ≤ S200x216x256.size a) ∧
  (∀ a, (k0_off438 v3246 v3251 v3261 v3331 v3392) a + S1x16x256.size a ≤ S200x216x256.size a)
theorem k0_mult20_dvd : ∀ (v3246 : BitVec 32) (v3251 : BitVec 32) (v3261 : BitVec 32) (v3277 : BitVec 32) (v3286 : BitVec 32) (v3295 : BitVec 32) (v3304 : BitVec 32) (v3313 : BitVec 32) (v3322 : BitVec 32) (v3331 : BitVec 32) (v3392 : BitVec 32) (k0_hw19 : k0_chk19 v3246 v3251 v3261 v3277 v3286 v3295 v3304 v3313 v3322 v3331 v3392), 8 ∣ (k0_mult20 v3246 v3392).toNat := fun v3246 v3251 v3261 v3277 v3286 v3295 v3304 v3313 v3322 v3331 v3392 k0_hw19 => k0_hw19.1
theorem k0_off311_inb : ∀ (v3246 : BitVec 32) (v3251 : BitVec 32) (v3261 : BitVec 32) (v3277 : BitVec 32) (v3286 : BitVec 32) (v3295 : BitVec 32) (v3304 : BitVec 32) (v3313 : BitVec 32) (v3322 : BitVec 32) (v3331 : BitVec 32) (v3392 : BitVec 32) (k0_hw19 : k0_chk19 v3246 v3251 v3261 v3277 v3286 v3295 v3304 v3313 v3322 v3331 v3392), ∀ a, (k0_off311 v3246 v3251 v3277 v3392) a + S1x16x256.size a ≤ S200x216x256.size a := fun v3246 v3251 v3261 v3277 v3286 v3295 v3304 v3313 v3322 v3331 v3392 k0_hw19 => k0_hw19.2.1
theorem k0_off312_inb : ∀ (v3246 : BitVec 32) (v3251 : BitVec 32) (v3261 : BitVec 32) (v3277 : BitVec 32) (v3286 : BitVec 32) (v3295 : BitVec 32) (v3304 : BitVec 32) (v3313 : BitVec 32) (v3322 : BitVec 32) (v3331 : BitVec 32) (v3392 : BitVec 32) (k0_hw19 : k0_chk19 v3246 v3251 v3261 v3277 v3286 v3295 v3304 v3313 v3322 v3331 v3392), ∀ a, (k0_off312 v3246 v3251 v3261 v3277 v3392) a + S1x16x256.size a ≤ S200x216x256.size a := fun v3246 v3251 v3261 v3277 v3286 v3295 v3304 v3313 v3322 v3331 v3392 k0_hw19 => k0_hw19.2.2.1
theorem k0_off332_inb : ∀ (v3246 : BitVec 32) (v3251 : BitVec 32) (v3261 : BitVec 32) (v3277 : BitVec 32) (v3286 : BitVec 32) (v3295 : BitVec 32) (v3304 : BitVec 32) (v3313 : BitVec 32) (v3322 : BitVec 32) (v3331 : BitVec 32) (v3392 : BitVec 32) (k0_hw19 : k0_chk19 v3246 v3251 v3261 v3277 v3286 v3295 v3304 v3313 v3322 v3331 v3392), ∀ a, (k0_off332 v3246 v3251 v3286 v3392) a + S1x16x256.size a ≤ S200x216x256.size a := fun v3246 v3251 v3261 v3277 v3286 v3295 v3304 v3313 v3322 v3331 v3392 k0_hw19 => k0_hw19.2.2.2.1
theorem k0_off333_inb : ∀ (v3246 : BitVec 32) (v3251 : BitVec 32) (v3261 : BitVec 32) (v3277 : BitVec 32) (v3286 : BitVec 32) (v3295 : BitVec 32) (v3304 : BitVec 32) (v3313 : BitVec 32) (v3322 : BitVec 32) (v3331 : BitVec 32) (v3392 : BitVec 32) (k0_hw19 : k0_chk19 v3246 v3251 v3261 v3277 v3286 v3295 v3304 v3313 v3322 v3331 v3392), ∀ a, (k0_off333 v3246 v3251 v3261 v3286 v3392) a + S1x16x256.size a ≤ S200x216x256.size a := fun v3246 v3251 v3261 v3277 v3286 v3295 v3304 v3313 v3322 v3331 v3392 k0_hw19 => k0_hw19.2.2.2.2.1
theorem k0_off353_inb : ∀ (v3246 : BitVec 32) (v3251 : BitVec 32) (v3261 : BitVec 32) (v3277 : BitVec 32) (v3286 : BitVec 32) (v3295 : BitVec 32) (v3304 : BitVec 32) (v3313 : BitVec 32) (v3322 : BitVec 32) (v3331 : BitVec 32) (v3392 : BitVec 32) (k0_hw19 : k0_chk19 v3246 v3251 v3261 v3277 v3286 v3295 v3304 v3313 v3322 v3331 v3392), ∀ a, (k0_off353 v3246 v3251 v3295 v3392) a + S1x16x256.size a ≤ S200x216x256.size a := fun v3246 v3251 v3261 v3277 v3286 v3295 v3304 v3313 v3322 v3331 v3392 k0_hw19 => k0_hw19.2.2.2.2.2.1
theorem k0_off354_inb : ∀ (v3246 : BitVec 32) (v3251 : BitVec 32) (v3261 : BitVec 32) (v3277 : BitVec 32) (v3286 : BitVec 32) (v3295 : BitVec 32) (v3304 : BitVec 32) (v3313 : BitVec 32) (v3322 : BitVec 32) (v3331 : BitVec 32) (v3392 : BitVec 32) (k0_hw19 : k0_chk19 v3246 v3251 v3261 v3277 v3286 v3295 v3304 v3313 v3322 v3331 v3392), ∀ a, (k0_off354 v3246 v3251 v3261 v3295 v3392) a + S1x16x256.size a ≤ S200x216x256.size a := fun v3246 v3251 v3261 v3277 v3286 v3295 v3304 v3313 v3322 v3331 v3392 k0_hw19 => k0_hw19.2.2.2.2.2.2.1
theorem k0_off374_inb : ∀ (v3246 : BitVec 32) (v3251 : BitVec 32) (v3261 : BitVec 32) (v3277 : BitVec 32) (v3286 : BitVec 32) (v3295 : BitVec 32) (v3304 : BitVec 32) (v3313 : BitVec 32) (v3322 : BitVec 32) (v3331 : BitVec 32) (v3392 : BitVec 32) (k0_hw19 : k0_chk19 v3246 v3251 v3261 v3277 v3286 v3295 v3304 v3313 v3322 v3331 v3392), ∀ a, (k0_off374 v3246 v3251 v3304 v3392) a + S1x16x256.size a ≤ S200x216x256.size a := fun v3246 v3251 v3261 v3277 v3286 v3295 v3304 v3313 v3322 v3331 v3392 k0_hw19 => k0_hw19.2.2.2.2.2.2.2.1
theorem k0_off375_inb : ∀ (v3246 : BitVec 32) (v3251 : BitVec 32) (v3261 : BitVec 32) (v3277 : BitVec 32) (v3286 : BitVec 32) (v3295 : BitVec 32) (v3304 : BitVec 32) (v3313 : BitVec 32) (v3322 : BitVec 32) (v3331 : BitVec 32) (v3392 : BitVec 32) (k0_hw19 : k0_chk19 v3246 v3251 v3261 v3277 v3286 v3295 v3304 v3313 v3322 v3331 v3392), ∀ a, (k0_off375 v3246 v3251 v3261 v3304 v3392) a + S1x16x256.size a ≤ S200x216x256.size a := fun v3246 v3251 v3261 v3277 v3286 v3295 v3304 v3313 v3322 v3331 v3392 k0_hw19 => k0_hw19.2.2.2.2.2.2.2.2.1
theorem k0_off395_inb : ∀ (v3246 : BitVec 32) (v3251 : BitVec 32) (v3261 : BitVec 32) (v3277 : BitVec 32) (v3286 : BitVec 32) (v3295 : BitVec 32) (v3304 : BitVec 32) (v3313 : BitVec 32) (v3322 : BitVec 32) (v3331 : BitVec 32) (v3392 : BitVec 32) (k0_hw19 : k0_chk19 v3246 v3251 v3261 v3277 v3286 v3295 v3304 v3313 v3322 v3331 v3392), ∀ a, (k0_off395 v3246 v3251 v3313 v3392) a + S1x16x256.size a ≤ S200x216x256.size a := fun v3246 v3251 v3261 v3277 v3286 v3295 v3304 v3313 v3322 v3331 v3392 k0_hw19 => k0_hw19.2.2.2.2.2.2.2.2.2.1
theorem k0_off396_inb : ∀ (v3246 : BitVec 32) (v3251 : BitVec 32) (v3261 : BitVec 32) (v3277 : BitVec 32) (v3286 : BitVec 32) (v3295 : BitVec 32) (v3304 : BitVec 32) (v3313 : BitVec 32) (v3322 : BitVec 32) (v3331 : BitVec 32) (v3392 : BitVec 32) (k0_hw19 : k0_chk19 v3246 v3251 v3261 v3277 v3286 v3295 v3304 v3313 v3322 v3331 v3392), ∀ a, (k0_off396 v3246 v3251 v3261 v3313 v3392) a + S1x16x256.size a ≤ S200x216x256.size a := fun v3246 v3251 v3261 v3277 v3286 v3295 v3304 v3313 v3322 v3331 v3392 k0_hw19 => k0_hw19.2.2.2.2.2.2.2.2.2.2.1
theorem k0_off416_inb : ∀ (v3246 : BitVec 32) (v3251 : BitVec 32) (v3261 : BitVec 32) (v3277 : BitVec 32) (v3286 : BitVec 32) (v3295 : BitVec 32) (v3304 : BitVec 32) (v3313 : BitVec 32) (v3322 : BitVec 32) (v3331 : BitVec 32) (v3392 : BitVec 32) (k0_hw19 : k0_chk19 v3246 v3251 v3261 v3277 v3286 v3295 v3304 v3313 v3322 v3331 v3392), ∀ a, (k0_off416 v3246 v3251 v3322 v3392) a + S1x16x256.size a ≤ S200x216x256.size a := fun v3246 v3251 v3261 v3277 v3286 v3295 v3304 v3313 v3322 v3331 v3392 k0_hw19 => k0_hw19.2.2.2.2.2.2.2.2.2.2.2.1
theorem k0_off417_inb : ∀ (v3246 : BitVec 32) (v3251 : BitVec 32) (v3261 : BitVec 32) (v3277 : BitVec 32) (v3286 : BitVec 32) (v3295 : BitVec 32) (v3304 : BitVec 32) (v3313 : BitVec 32) (v3322 : BitVec 32) (v3331 : BitVec 32) (v3392 : BitVec 32) (k0_hw19 : k0_chk19 v3246 v3251 v3261 v3277 v3286 v3295 v3304 v3313 v3322 v3331 v3392), ∀ a, (k0_off417 v3246 v3251 v3261 v3322 v3392) a + S1x16x256.size a ≤ S200x216x256.size a := fun v3246 v3251 v3261 v3277 v3286 v3295 v3304 v3313 v3322 v3331 v3392 k0_hw19 => k0_hw19.2.2.2.2.2.2.2.2.2.2.2.2.1
theorem k0_off437_inb : ∀ (v3246 : BitVec 32) (v3251 : BitVec 32) (v3261 : BitVec 32) (v3277 : BitVec 32) (v3286 : BitVec 32) (v3295 : BitVec 32) (v3304 : BitVec 32) (v3313 : BitVec 32) (v3322 : BitVec 32) (v3331 : BitVec 32) (v3392 : BitVec 32) (k0_hw19 : k0_chk19 v3246 v3251 v3261 v3277 v3286 v3295 v3304 v3313 v3322 v3331 v3392), ∀ a, (k0_off437 v3246 v3251 v3331 v3392) a + S1x16x256.size a ≤ S200x216x256.size a := fun v3246 v3251 v3261 v3277 v3286 v3295 v3304 v3313 v3322 v3331 v3392 k0_hw19 => k0_hw19.2.2.2.2.2.2.2.2.2.2.2.2.2.1
theorem k0_off438_inb : ∀ (v3246 : BitVec 32) (v3251 : BitVec 32) (v3261 : BitVec 32) (v3277 : BitVec 32) (v3286 : BitVec 32) (v3295 : BitVec 32) (v3304 : BitVec 32) (v3313 : BitVec 32) (v3322 : BitVec 32) (v3331 : BitVec 32) (v3392 : BitVec 32) (k0_hw19 : k0_chk19 v3246 v3251 v3261 v3277 v3286 v3295 v3304 v3313 v3322 v3331 v3392), ∀ a, (k0_off438 v3246 v3251 v3261 v3331 v3392) a + S1x16x256.size a ≤ S200x216x256.size a := fun v3246 v3251 v3261 v3277 v3286 v3295 v3304 v3313 v3322 v3331 v3392 k0_hw19 => k0_hw19.2.2.2.2.2.2.2.2.2.2.2.2.2.2

def k0_off439 (k0_t1 : Fin k0_t1_loop.trips) : Fin 3 → Nat :=
  let c46_1127 : Index := 46#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c2_i32_743 : BitVec 32 := 2#32
  let v3238 : BitVec 32 := Scalar.addi v5 c2_i32_743
  let v4792 : Index := Scalar.indexCast v3238
  let c0_1128 : Index := 0#32
  ![46, v4792.toNat, 0]
def k0_off440 (v3246 : BitVec 32) (v3251 : BitVec 32) (v3331 : BitVec 32) (v3405 : BitVec 32) : Fin 3 → Nat :=
  let c199_i32_752 : BitVec 32 := 199#32
  let c0_i32_751 : BitVec 32 := 0#32
  let v3252 : BitVec 32 := Scalar.maxsi c0_i32_751 v3251
  let v3253 : BitVec 32 := Scalar.minsi c199_i32_752 v3252
  let v3332 : BitVec 32 := Scalar.addi v3253 v3331
  let v4797 : Index := Scalar.indexCast v3332
  let c199_i32_749 : BitVec 32 := 199#32
  let c0_i32_748 : BitVec 32 := 0#32
  let v3247 : BitVec 32 := Scalar.maxsi c0_i32_748 v3246
  let v3248 : BitVec 32 := Scalar.minsi c199_i32_749 v3247
  let v3406 : BitVec 32 := Scalar.addi v3248 v3405
  let c3_i32_830 : BitVec 32 := 3#32
  let v3409 : BitVec 32 := Scalar.shrsi v3406 c3_i32_830
  let c3_i32_831 : BitVec 32 := 3#32
  let v3410 : BitVec 32 := Scalar.shli v3409 c3_i32_831
  let v3411 : BitVec 32 := v3410
  let v4798 : Index := Scalar.indexCast v3411
  let c0_1130 : Index := 0#32
  ![v4797.toNat, v4798.toNat, 0]
def k0_off441 (v3246 : BitVec 32) (v3251 : BitVec 32) (v3261 : BitVec 32) (v3331 : BitVec 32) (v3405 : BitVec 32) : Fin 3 → Nat :=
  let c199_i32_752 : BitVec 32 := 199#32
  let c0_i32_751 : BitVec 32 := 0#32
  let v3252 : BitVec 32 := Scalar.maxsi c0_i32_751 v3251
  let v3253 : BitVec 32 := Scalar.minsi c199_i32_752 v3252
  let v3332 : BitVec 32 := Scalar.addi v3253 v3331
  let c1_i32_790 : BitVec 32 := 1#32
  let v3333 : BitVec 32 := Scalar.addi v3332 c1_i32_790
  let c199_i32_758 : BitVec 32 := 199#32
  let c0_i32_757 : BitVec 32 := 0#32
  let v3262 : BitVec 32 := Scalar.maxsi c0_i32_757 v3261
  let v3263 : BitVec 32 := Scalar.minsi c199_i32_758 v3262
  let v3334 : BitVec 32 := Scalar.minsi v3333 v3263
  let v4801 : Index := Scalar.indexCast v3334
  let c199_i32_749 : BitVec 32 := 199#32
  let c0_i32_748 : BitVec 32 := 0#32
  let v3247 : BitVec 32 := Scalar.maxsi c0_i32_748 v3246
  let v3248 : BitVec 32 := Scalar.minsi c199_i32_749 v3247
  let v3406 : BitVec 32 := Scalar.addi v3248 v3405
  let c3_i32_830 : BitVec 32 := 3#32
  let v3409 : BitVec 32 := Scalar.shrsi v3406 c3_i32_830
  let c3_i32_831 : BitVec 32 := 3#32
  let v3410 : BitVec 32 := Scalar.shli v3409 c3_i32_831
  let v3411 : BitVec 32 := v3410
  let v4802 : Index := Scalar.indexCast v3411
  let c0_1131 : Index := 0#32
  ![v4801.toNat, v4802.toNat, 0]

def k0_chk20 (v3246 : BitVec 32) (v3251 : BitVec 32) (v3261 : BitVec 32) (v3277 : BitVec 32) (v3286 : BitVec 32) (v3295 : BitVec 32) (v3304 : BitVec 32) (v3313 : BitVec 32) (v3322 : BitVec 32) (v3331 : BitVec 32) (v3405 : BitVec 32) : Prop :=
  (8 ∣ (k0_mult21 v3246 v3405).toNat) ∧
  (∀ a, (k0_off314 v3246 v3251 v3277 v3405) a + S1x16x256.size a ≤ S200x216x256.size a) ∧
  (∀ a, (k0_off315 v3246 v3251 v3261 v3277 v3405) a + S1x16x256.size a ≤ S200x216x256.size a) ∧
  (∀ a, (k0_off335 v3246 v3251 v3286 v3405) a + S1x16x256.size a ≤ S200x216x256.size a) ∧
  (∀ a, (k0_off336 v3246 v3251 v3261 v3286 v3405) a + S1x16x256.size a ≤ S200x216x256.size a) ∧
  (∀ a, (k0_off356 v3246 v3251 v3295 v3405) a + S1x16x256.size a ≤ S200x216x256.size a) ∧
  (∀ a, (k0_off357 v3246 v3251 v3261 v3295 v3405) a + S1x16x256.size a ≤ S200x216x256.size a) ∧
  (∀ a, (k0_off377 v3246 v3251 v3304 v3405) a + S1x16x256.size a ≤ S200x216x256.size a) ∧
  (∀ a, (k0_off378 v3246 v3251 v3261 v3304 v3405) a + S1x16x256.size a ≤ S200x216x256.size a) ∧
  (∀ a, (k0_off398 v3246 v3251 v3313 v3405) a + S1x16x256.size a ≤ S200x216x256.size a) ∧
  (∀ a, (k0_off399 v3246 v3251 v3261 v3313 v3405) a + S1x16x256.size a ≤ S200x216x256.size a) ∧
  (∀ a, (k0_off419 v3246 v3251 v3322 v3405) a + S1x16x256.size a ≤ S200x216x256.size a) ∧
  (∀ a, (k0_off420 v3246 v3251 v3261 v3322 v3405) a + S1x16x256.size a ≤ S200x216x256.size a) ∧
  (∀ a, (k0_off440 v3246 v3251 v3331 v3405) a + S1x16x256.size a ≤ S200x216x256.size a) ∧
  (∀ a, (k0_off441 v3246 v3251 v3261 v3331 v3405) a + S1x16x256.size a ≤ S200x216x256.size a)
theorem k0_mult21_dvd : ∀ (v3246 : BitVec 32) (v3251 : BitVec 32) (v3261 : BitVec 32) (v3277 : BitVec 32) (v3286 : BitVec 32) (v3295 : BitVec 32) (v3304 : BitVec 32) (v3313 : BitVec 32) (v3322 : BitVec 32) (v3331 : BitVec 32) (v3405 : BitVec 32) (k0_hw20 : k0_chk20 v3246 v3251 v3261 v3277 v3286 v3295 v3304 v3313 v3322 v3331 v3405), 8 ∣ (k0_mult21 v3246 v3405).toNat := fun v3246 v3251 v3261 v3277 v3286 v3295 v3304 v3313 v3322 v3331 v3405 k0_hw20 => k0_hw20.1
theorem k0_off314_inb : ∀ (v3246 : BitVec 32) (v3251 : BitVec 32) (v3261 : BitVec 32) (v3277 : BitVec 32) (v3286 : BitVec 32) (v3295 : BitVec 32) (v3304 : BitVec 32) (v3313 : BitVec 32) (v3322 : BitVec 32) (v3331 : BitVec 32) (v3405 : BitVec 32) (k0_hw20 : k0_chk20 v3246 v3251 v3261 v3277 v3286 v3295 v3304 v3313 v3322 v3331 v3405), ∀ a, (k0_off314 v3246 v3251 v3277 v3405) a + S1x16x256.size a ≤ S200x216x256.size a := fun v3246 v3251 v3261 v3277 v3286 v3295 v3304 v3313 v3322 v3331 v3405 k0_hw20 => k0_hw20.2.1
theorem k0_off315_inb : ∀ (v3246 : BitVec 32) (v3251 : BitVec 32) (v3261 : BitVec 32) (v3277 : BitVec 32) (v3286 : BitVec 32) (v3295 : BitVec 32) (v3304 : BitVec 32) (v3313 : BitVec 32) (v3322 : BitVec 32) (v3331 : BitVec 32) (v3405 : BitVec 32) (k0_hw20 : k0_chk20 v3246 v3251 v3261 v3277 v3286 v3295 v3304 v3313 v3322 v3331 v3405), ∀ a, (k0_off315 v3246 v3251 v3261 v3277 v3405) a + S1x16x256.size a ≤ S200x216x256.size a := fun v3246 v3251 v3261 v3277 v3286 v3295 v3304 v3313 v3322 v3331 v3405 k0_hw20 => k0_hw20.2.2.1
theorem k0_off335_inb : ∀ (v3246 : BitVec 32) (v3251 : BitVec 32) (v3261 : BitVec 32) (v3277 : BitVec 32) (v3286 : BitVec 32) (v3295 : BitVec 32) (v3304 : BitVec 32) (v3313 : BitVec 32) (v3322 : BitVec 32) (v3331 : BitVec 32) (v3405 : BitVec 32) (k0_hw20 : k0_chk20 v3246 v3251 v3261 v3277 v3286 v3295 v3304 v3313 v3322 v3331 v3405), ∀ a, (k0_off335 v3246 v3251 v3286 v3405) a + S1x16x256.size a ≤ S200x216x256.size a := fun v3246 v3251 v3261 v3277 v3286 v3295 v3304 v3313 v3322 v3331 v3405 k0_hw20 => k0_hw20.2.2.2.1
theorem k0_off336_inb : ∀ (v3246 : BitVec 32) (v3251 : BitVec 32) (v3261 : BitVec 32) (v3277 : BitVec 32) (v3286 : BitVec 32) (v3295 : BitVec 32) (v3304 : BitVec 32) (v3313 : BitVec 32) (v3322 : BitVec 32) (v3331 : BitVec 32) (v3405 : BitVec 32) (k0_hw20 : k0_chk20 v3246 v3251 v3261 v3277 v3286 v3295 v3304 v3313 v3322 v3331 v3405), ∀ a, (k0_off336 v3246 v3251 v3261 v3286 v3405) a + S1x16x256.size a ≤ S200x216x256.size a := fun v3246 v3251 v3261 v3277 v3286 v3295 v3304 v3313 v3322 v3331 v3405 k0_hw20 => k0_hw20.2.2.2.2.1
theorem k0_off356_inb : ∀ (v3246 : BitVec 32) (v3251 : BitVec 32) (v3261 : BitVec 32) (v3277 : BitVec 32) (v3286 : BitVec 32) (v3295 : BitVec 32) (v3304 : BitVec 32) (v3313 : BitVec 32) (v3322 : BitVec 32) (v3331 : BitVec 32) (v3405 : BitVec 32) (k0_hw20 : k0_chk20 v3246 v3251 v3261 v3277 v3286 v3295 v3304 v3313 v3322 v3331 v3405), ∀ a, (k0_off356 v3246 v3251 v3295 v3405) a + S1x16x256.size a ≤ S200x216x256.size a := fun v3246 v3251 v3261 v3277 v3286 v3295 v3304 v3313 v3322 v3331 v3405 k0_hw20 => k0_hw20.2.2.2.2.2.1
theorem k0_off357_inb : ∀ (v3246 : BitVec 32) (v3251 : BitVec 32) (v3261 : BitVec 32) (v3277 : BitVec 32) (v3286 : BitVec 32) (v3295 : BitVec 32) (v3304 : BitVec 32) (v3313 : BitVec 32) (v3322 : BitVec 32) (v3331 : BitVec 32) (v3405 : BitVec 32) (k0_hw20 : k0_chk20 v3246 v3251 v3261 v3277 v3286 v3295 v3304 v3313 v3322 v3331 v3405), ∀ a, (k0_off357 v3246 v3251 v3261 v3295 v3405) a + S1x16x256.size a ≤ S200x216x256.size a := fun v3246 v3251 v3261 v3277 v3286 v3295 v3304 v3313 v3322 v3331 v3405 k0_hw20 => k0_hw20.2.2.2.2.2.2.1
theorem k0_off377_inb : ∀ (v3246 : BitVec 32) (v3251 : BitVec 32) (v3261 : BitVec 32) (v3277 : BitVec 32) (v3286 : BitVec 32) (v3295 : BitVec 32) (v3304 : BitVec 32) (v3313 : BitVec 32) (v3322 : BitVec 32) (v3331 : BitVec 32) (v3405 : BitVec 32) (k0_hw20 : k0_chk20 v3246 v3251 v3261 v3277 v3286 v3295 v3304 v3313 v3322 v3331 v3405), ∀ a, (k0_off377 v3246 v3251 v3304 v3405) a + S1x16x256.size a ≤ S200x216x256.size a := fun v3246 v3251 v3261 v3277 v3286 v3295 v3304 v3313 v3322 v3331 v3405 k0_hw20 => k0_hw20.2.2.2.2.2.2.2.1
theorem k0_off378_inb : ∀ (v3246 : BitVec 32) (v3251 : BitVec 32) (v3261 : BitVec 32) (v3277 : BitVec 32) (v3286 : BitVec 32) (v3295 : BitVec 32) (v3304 : BitVec 32) (v3313 : BitVec 32) (v3322 : BitVec 32) (v3331 : BitVec 32) (v3405 : BitVec 32) (k0_hw20 : k0_chk20 v3246 v3251 v3261 v3277 v3286 v3295 v3304 v3313 v3322 v3331 v3405), ∀ a, (k0_off378 v3246 v3251 v3261 v3304 v3405) a + S1x16x256.size a ≤ S200x216x256.size a := fun v3246 v3251 v3261 v3277 v3286 v3295 v3304 v3313 v3322 v3331 v3405 k0_hw20 => k0_hw20.2.2.2.2.2.2.2.2.1
theorem k0_off398_inb : ∀ (v3246 : BitVec 32) (v3251 : BitVec 32) (v3261 : BitVec 32) (v3277 : BitVec 32) (v3286 : BitVec 32) (v3295 : BitVec 32) (v3304 : BitVec 32) (v3313 : BitVec 32) (v3322 : BitVec 32) (v3331 : BitVec 32) (v3405 : BitVec 32) (k0_hw20 : k0_chk20 v3246 v3251 v3261 v3277 v3286 v3295 v3304 v3313 v3322 v3331 v3405), ∀ a, (k0_off398 v3246 v3251 v3313 v3405) a + S1x16x256.size a ≤ S200x216x256.size a := fun v3246 v3251 v3261 v3277 v3286 v3295 v3304 v3313 v3322 v3331 v3405 k0_hw20 => k0_hw20.2.2.2.2.2.2.2.2.2.1
theorem k0_off399_inb : ∀ (v3246 : BitVec 32) (v3251 : BitVec 32) (v3261 : BitVec 32) (v3277 : BitVec 32) (v3286 : BitVec 32) (v3295 : BitVec 32) (v3304 : BitVec 32) (v3313 : BitVec 32) (v3322 : BitVec 32) (v3331 : BitVec 32) (v3405 : BitVec 32) (k0_hw20 : k0_chk20 v3246 v3251 v3261 v3277 v3286 v3295 v3304 v3313 v3322 v3331 v3405), ∀ a, (k0_off399 v3246 v3251 v3261 v3313 v3405) a + S1x16x256.size a ≤ S200x216x256.size a := fun v3246 v3251 v3261 v3277 v3286 v3295 v3304 v3313 v3322 v3331 v3405 k0_hw20 => k0_hw20.2.2.2.2.2.2.2.2.2.2.1
theorem k0_off419_inb : ∀ (v3246 : BitVec 32) (v3251 : BitVec 32) (v3261 : BitVec 32) (v3277 : BitVec 32) (v3286 : BitVec 32) (v3295 : BitVec 32) (v3304 : BitVec 32) (v3313 : BitVec 32) (v3322 : BitVec 32) (v3331 : BitVec 32) (v3405 : BitVec 32) (k0_hw20 : k0_chk20 v3246 v3251 v3261 v3277 v3286 v3295 v3304 v3313 v3322 v3331 v3405), ∀ a, (k0_off419 v3246 v3251 v3322 v3405) a + S1x16x256.size a ≤ S200x216x256.size a := fun v3246 v3251 v3261 v3277 v3286 v3295 v3304 v3313 v3322 v3331 v3405 k0_hw20 => k0_hw20.2.2.2.2.2.2.2.2.2.2.2.1
theorem k0_off420_inb : ∀ (v3246 : BitVec 32) (v3251 : BitVec 32) (v3261 : BitVec 32) (v3277 : BitVec 32) (v3286 : BitVec 32) (v3295 : BitVec 32) (v3304 : BitVec 32) (v3313 : BitVec 32) (v3322 : BitVec 32) (v3331 : BitVec 32) (v3405 : BitVec 32) (k0_hw20 : k0_chk20 v3246 v3251 v3261 v3277 v3286 v3295 v3304 v3313 v3322 v3331 v3405), ∀ a, (k0_off420 v3246 v3251 v3261 v3322 v3405) a + S1x16x256.size a ≤ S200x216x256.size a := fun v3246 v3251 v3261 v3277 v3286 v3295 v3304 v3313 v3322 v3331 v3405 k0_hw20 => k0_hw20.2.2.2.2.2.2.2.2.2.2.2.2.1
theorem k0_off440_inb : ∀ (v3246 : BitVec 32) (v3251 : BitVec 32) (v3261 : BitVec 32) (v3277 : BitVec 32) (v3286 : BitVec 32) (v3295 : BitVec 32) (v3304 : BitVec 32) (v3313 : BitVec 32) (v3322 : BitVec 32) (v3331 : BitVec 32) (v3405 : BitVec 32) (k0_hw20 : k0_chk20 v3246 v3251 v3261 v3277 v3286 v3295 v3304 v3313 v3322 v3331 v3405), ∀ a, (k0_off440 v3246 v3251 v3331 v3405) a + S1x16x256.size a ≤ S200x216x256.size a := fun v3246 v3251 v3261 v3277 v3286 v3295 v3304 v3313 v3322 v3331 v3405 k0_hw20 => k0_hw20.2.2.2.2.2.2.2.2.2.2.2.2.2.1
theorem k0_off441_inb : ∀ (v3246 : BitVec 32) (v3251 : BitVec 32) (v3261 : BitVec 32) (v3277 : BitVec 32) (v3286 : BitVec 32) (v3295 : BitVec 32) (v3304 : BitVec 32) (v3313 : BitVec 32) (v3322 : BitVec 32) (v3331 : BitVec 32) (v3405 : BitVec 32) (k0_hw20 : k0_chk20 v3246 v3251 v3261 v3277 v3286 v3295 v3304 v3313 v3322 v3331 v3405), ∀ a, (k0_off441 v3246 v3251 v3261 v3331 v3405) a + S1x16x256.size a ≤ S200x216x256.size a := fun v3246 v3251 v3261 v3277 v3286 v3295 v3304 v3313 v3322 v3331 v3405 k0_hw20 => k0_hw20.2.2.2.2.2.2.2.2.2.2.2.2.2.2

def k0_off442 (k0_t1 : Fin k0_t1_loop.trips) : Fin 3 → Nat :=
  let c47_1133 : Index := 47#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c2_i32_743 : BitVec 32 := 2#32
  let v3238 : BitVec 32 := Scalar.addi v5 c2_i32_743
  let v4821 : Index := Scalar.indexCast v3238
  let c0_1134 : Index := 0#32
  ![47, v4821.toNat, 0]
def k0_off443 (v3246 : BitVec 32) (v3251 : BitVec 32) (v3331 : BitVec 32) (v3418 : BitVec 32) : Fin 3 → Nat :=
  let c199_i32_752 : BitVec 32 := 199#32
  let c0_i32_751 : BitVec 32 := 0#32
  let v3252 : BitVec 32 := Scalar.maxsi c0_i32_751 v3251
  let v3253 : BitVec 32 := Scalar.minsi c199_i32_752 v3252
  let v3332 : BitVec 32 := Scalar.addi v3253 v3331
  let v4826 : Index := Scalar.indexCast v3332
  let c199_i32_749 : BitVec 32 := 199#32
  let c0_i32_748 : BitVec 32 := 0#32
  let v3247 : BitVec 32 := Scalar.maxsi c0_i32_748 v3246
  let v3248 : BitVec 32 := Scalar.minsi c199_i32_749 v3247
  let v3419 : BitVec 32 := Scalar.addi v3248 v3418
  let c3_i32_837 : BitVec 32 := 3#32
  let v3422 : BitVec 32 := Scalar.shrsi v3419 c3_i32_837
  let c3_i32_838 : BitVec 32 := 3#32
  let v3423 : BitVec 32 := Scalar.shli v3422 c3_i32_838
  let v3424 : BitVec 32 := v3423
  let v4827 : Index := Scalar.indexCast v3424
  let c0_1136 : Index := 0#32
  ![v4826.toNat, v4827.toNat, 0]
def k0_off444 (v3246 : BitVec 32) (v3251 : BitVec 32) (v3261 : BitVec 32) (v3331 : BitVec 32) (v3418 : BitVec 32) : Fin 3 → Nat :=
  let c199_i32_752 : BitVec 32 := 199#32
  let c0_i32_751 : BitVec 32 := 0#32
  let v3252 : BitVec 32 := Scalar.maxsi c0_i32_751 v3251
  let v3253 : BitVec 32 := Scalar.minsi c199_i32_752 v3252
  let v3332 : BitVec 32 := Scalar.addi v3253 v3331
  let c1_i32_790 : BitVec 32 := 1#32
  let v3333 : BitVec 32 := Scalar.addi v3332 c1_i32_790
  let c199_i32_758 : BitVec 32 := 199#32
  let c0_i32_757 : BitVec 32 := 0#32
  let v3262 : BitVec 32 := Scalar.maxsi c0_i32_757 v3261
  let v3263 : BitVec 32 := Scalar.minsi c199_i32_758 v3262
  let v3334 : BitVec 32 := Scalar.minsi v3333 v3263
  let v4830 : Index := Scalar.indexCast v3334
  let c199_i32_749 : BitVec 32 := 199#32
  let c0_i32_748 : BitVec 32 := 0#32
  let v3247 : BitVec 32 := Scalar.maxsi c0_i32_748 v3246
  let v3248 : BitVec 32 := Scalar.minsi c199_i32_749 v3247
  let v3419 : BitVec 32 := Scalar.addi v3248 v3418
  let c3_i32_837 : BitVec 32 := 3#32
  let v3422 : BitVec 32 := Scalar.shrsi v3419 c3_i32_837
  let c3_i32_838 : BitVec 32 := 3#32
  let v3423 : BitVec 32 := Scalar.shli v3422 c3_i32_838
  let v3424 : BitVec 32 := v3423
  let v4831 : Index := Scalar.indexCast v3424
  let c0_1137 : Index := 0#32
  ![v4830.toNat, v4831.toNat, 0]

def k0_chk21 (v3246 : BitVec 32) (v3251 : BitVec 32) (v3261 : BitVec 32) (v3277 : BitVec 32) (v3286 : BitVec 32) (v3295 : BitVec 32) (v3304 : BitVec 32) (v3313 : BitVec 32) (v3322 : BitVec 32) (v3331 : BitVec 32) (v3418 : BitVec 32) : Prop :=
  (8 ∣ (k0_mult22 v3246 v3418).toNat) ∧
  (∀ a, (k0_off317 v3246 v3251 v3277 v3418) a + S1x16x256.size a ≤ S200x216x256.size a) ∧
  (∀ a, (k0_off318 v3246 v3251 v3261 v3277 v3418) a + S1x16x256.size a ≤ S200x216x256.size a) ∧
  (∀ a, (k0_off338 v3246 v3251 v3286 v3418) a + S1x16x256.size a ≤ S200x216x256.size a) ∧
  (∀ a, (k0_off339 v3246 v3251 v3261 v3286 v3418) a + S1x16x256.size a ≤ S200x216x256.size a) ∧
  (∀ a, (k0_off359 v3246 v3251 v3295 v3418) a + S1x16x256.size a ≤ S200x216x256.size a) ∧
  (∀ a, (k0_off360 v3246 v3251 v3261 v3295 v3418) a + S1x16x256.size a ≤ S200x216x256.size a) ∧
  (∀ a, (k0_off380 v3246 v3251 v3304 v3418) a + S1x16x256.size a ≤ S200x216x256.size a) ∧
  (∀ a, (k0_off381 v3246 v3251 v3261 v3304 v3418) a + S1x16x256.size a ≤ S200x216x256.size a) ∧
  (∀ a, (k0_off401 v3246 v3251 v3313 v3418) a + S1x16x256.size a ≤ S200x216x256.size a) ∧
  (∀ a, (k0_off402 v3246 v3251 v3261 v3313 v3418) a + S1x16x256.size a ≤ S200x216x256.size a) ∧
  (∀ a, (k0_off422 v3246 v3251 v3322 v3418) a + S1x16x256.size a ≤ S200x216x256.size a) ∧
  (∀ a, (k0_off423 v3246 v3251 v3261 v3322 v3418) a + S1x16x256.size a ≤ S200x216x256.size a) ∧
  (∀ a, (k0_off443 v3246 v3251 v3331 v3418) a + S1x16x256.size a ≤ S200x216x256.size a) ∧
  (∀ a, (k0_off444 v3246 v3251 v3261 v3331 v3418) a + S1x16x256.size a ≤ S200x216x256.size a)
theorem k0_mult22_dvd : ∀ (v3246 : BitVec 32) (v3251 : BitVec 32) (v3261 : BitVec 32) (v3277 : BitVec 32) (v3286 : BitVec 32) (v3295 : BitVec 32) (v3304 : BitVec 32) (v3313 : BitVec 32) (v3322 : BitVec 32) (v3331 : BitVec 32) (v3418 : BitVec 32) (k0_hw21 : k0_chk21 v3246 v3251 v3261 v3277 v3286 v3295 v3304 v3313 v3322 v3331 v3418), 8 ∣ (k0_mult22 v3246 v3418).toNat := fun v3246 v3251 v3261 v3277 v3286 v3295 v3304 v3313 v3322 v3331 v3418 k0_hw21 => k0_hw21.1
theorem k0_off317_inb : ∀ (v3246 : BitVec 32) (v3251 : BitVec 32) (v3261 : BitVec 32) (v3277 : BitVec 32) (v3286 : BitVec 32) (v3295 : BitVec 32) (v3304 : BitVec 32) (v3313 : BitVec 32) (v3322 : BitVec 32) (v3331 : BitVec 32) (v3418 : BitVec 32) (k0_hw21 : k0_chk21 v3246 v3251 v3261 v3277 v3286 v3295 v3304 v3313 v3322 v3331 v3418), ∀ a, (k0_off317 v3246 v3251 v3277 v3418) a + S1x16x256.size a ≤ S200x216x256.size a := fun v3246 v3251 v3261 v3277 v3286 v3295 v3304 v3313 v3322 v3331 v3418 k0_hw21 => k0_hw21.2.1
theorem k0_off318_inb : ∀ (v3246 : BitVec 32) (v3251 : BitVec 32) (v3261 : BitVec 32) (v3277 : BitVec 32) (v3286 : BitVec 32) (v3295 : BitVec 32) (v3304 : BitVec 32) (v3313 : BitVec 32) (v3322 : BitVec 32) (v3331 : BitVec 32) (v3418 : BitVec 32) (k0_hw21 : k0_chk21 v3246 v3251 v3261 v3277 v3286 v3295 v3304 v3313 v3322 v3331 v3418), ∀ a, (k0_off318 v3246 v3251 v3261 v3277 v3418) a + S1x16x256.size a ≤ S200x216x256.size a := fun v3246 v3251 v3261 v3277 v3286 v3295 v3304 v3313 v3322 v3331 v3418 k0_hw21 => k0_hw21.2.2.1
theorem k0_off338_inb : ∀ (v3246 : BitVec 32) (v3251 : BitVec 32) (v3261 : BitVec 32) (v3277 : BitVec 32) (v3286 : BitVec 32) (v3295 : BitVec 32) (v3304 : BitVec 32) (v3313 : BitVec 32) (v3322 : BitVec 32) (v3331 : BitVec 32) (v3418 : BitVec 32) (k0_hw21 : k0_chk21 v3246 v3251 v3261 v3277 v3286 v3295 v3304 v3313 v3322 v3331 v3418), ∀ a, (k0_off338 v3246 v3251 v3286 v3418) a + S1x16x256.size a ≤ S200x216x256.size a := fun v3246 v3251 v3261 v3277 v3286 v3295 v3304 v3313 v3322 v3331 v3418 k0_hw21 => k0_hw21.2.2.2.1
theorem k0_off339_inb : ∀ (v3246 : BitVec 32) (v3251 : BitVec 32) (v3261 : BitVec 32) (v3277 : BitVec 32) (v3286 : BitVec 32) (v3295 : BitVec 32) (v3304 : BitVec 32) (v3313 : BitVec 32) (v3322 : BitVec 32) (v3331 : BitVec 32) (v3418 : BitVec 32) (k0_hw21 : k0_chk21 v3246 v3251 v3261 v3277 v3286 v3295 v3304 v3313 v3322 v3331 v3418), ∀ a, (k0_off339 v3246 v3251 v3261 v3286 v3418) a + S1x16x256.size a ≤ S200x216x256.size a := fun v3246 v3251 v3261 v3277 v3286 v3295 v3304 v3313 v3322 v3331 v3418 k0_hw21 => k0_hw21.2.2.2.2.1
theorem k0_off359_inb : ∀ (v3246 : BitVec 32) (v3251 : BitVec 32) (v3261 : BitVec 32) (v3277 : BitVec 32) (v3286 : BitVec 32) (v3295 : BitVec 32) (v3304 : BitVec 32) (v3313 : BitVec 32) (v3322 : BitVec 32) (v3331 : BitVec 32) (v3418 : BitVec 32) (k0_hw21 : k0_chk21 v3246 v3251 v3261 v3277 v3286 v3295 v3304 v3313 v3322 v3331 v3418), ∀ a, (k0_off359 v3246 v3251 v3295 v3418) a + S1x16x256.size a ≤ S200x216x256.size a := fun v3246 v3251 v3261 v3277 v3286 v3295 v3304 v3313 v3322 v3331 v3418 k0_hw21 => k0_hw21.2.2.2.2.2.1
theorem k0_off360_inb : ∀ (v3246 : BitVec 32) (v3251 : BitVec 32) (v3261 : BitVec 32) (v3277 : BitVec 32) (v3286 : BitVec 32) (v3295 : BitVec 32) (v3304 : BitVec 32) (v3313 : BitVec 32) (v3322 : BitVec 32) (v3331 : BitVec 32) (v3418 : BitVec 32) (k0_hw21 : k0_chk21 v3246 v3251 v3261 v3277 v3286 v3295 v3304 v3313 v3322 v3331 v3418), ∀ a, (k0_off360 v3246 v3251 v3261 v3295 v3418) a + S1x16x256.size a ≤ S200x216x256.size a := fun v3246 v3251 v3261 v3277 v3286 v3295 v3304 v3313 v3322 v3331 v3418 k0_hw21 => k0_hw21.2.2.2.2.2.2.1
theorem k0_off380_inb : ∀ (v3246 : BitVec 32) (v3251 : BitVec 32) (v3261 : BitVec 32) (v3277 : BitVec 32) (v3286 : BitVec 32) (v3295 : BitVec 32) (v3304 : BitVec 32) (v3313 : BitVec 32) (v3322 : BitVec 32) (v3331 : BitVec 32) (v3418 : BitVec 32) (k0_hw21 : k0_chk21 v3246 v3251 v3261 v3277 v3286 v3295 v3304 v3313 v3322 v3331 v3418), ∀ a, (k0_off380 v3246 v3251 v3304 v3418) a + S1x16x256.size a ≤ S200x216x256.size a := fun v3246 v3251 v3261 v3277 v3286 v3295 v3304 v3313 v3322 v3331 v3418 k0_hw21 => k0_hw21.2.2.2.2.2.2.2.1
theorem k0_off381_inb : ∀ (v3246 : BitVec 32) (v3251 : BitVec 32) (v3261 : BitVec 32) (v3277 : BitVec 32) (v3286 : BitVec 32) (v3295 : BitVec 32) (v3304 : BitVec 32) (v3313 : BitVec 32) (v3322 : BitVec 32) (v3331 : BitVec 32) (v3418 : BitVec 32) (k0_hw21 : k0_chk21 v3246 v3251 v3261 v3277 v3286 v3295 v3304 v3313 v3322 v3331 v3418), ∀ a, (k0_off381 v3246 v3251 v3261 v3304 v3418) a + S1x16x256.size a ≤ S200x216x256.size a := fun v3246 v3251 v3261 v3277 v3286 v3295 v3304 v3313 v3322 v3331 v3418 k0_hw21 => k0_hw21.2.2.2.2.2.2.2.2.1
theorem k0_off401_inb : ∀ (v3246 : BitVec 32) (v3251 : BitVec 32) (v3261 : BitVec 32) (v3277 : BitVec 32) (v3286 : BitVec 32) (v3295 : BitVec 32) (v3304 : BitVec 32) (v3313 : BitVec 32) (v3322 : BitVec 32) (v3331 : BitVec 32) (v3418 : BitVec 32) (k0_hw21 : k0_chk21 v3246 v3251 v3261 v3277 v3286 v3295 v3304 v3313 v3322 v3331 v3418), ∀ a, (k0_off401 v3246 v3251 v3313 v3418) a + S1x16x256.size a ≤ S200x216x256.size a := fun v3246 v3251 v3261 v3277 v3286 v3295 v3304 v3313 v3322 v3331 v3418 k0_hw21 => k0_hw21.2.2.2.2.2.2.2.2.2.1
theorem k0_off402_inb : ∀ (v3246 : BitVec 32) (v3251 : BitVec 32) (v3261 : BitVec 32) (v3277 : BitVec 32) (v3286 : BitVec 32) (v3295 : BitVec 32) (v3304 : BitVec 32) (v3313 : BitVec 32) (v3322 : BitVec 32) (v3331 : BitVec 32) (v3418 : BitVec 32) (k0_hw21 : k0_chk21 v3246 v3251 v3261 v3277 v3286 v3295 v3304 v3313 v3322 v3331 v3418), ∀ a, (k0_off402 v3246 v3251 v3261 v3313 v3418) a + S1x16x256.size a ≤ S200x216x256.size a := fun v3246 v3251 v3261 v3277 v3286 v3295 v3304 v3313 v3322 v3331 v3418 k0_hw21 => k0_hw21.2.2.2.2.2.2.2.2.2.2.1
theorem k0_off422_inb : ∀ (v3246 : BitVec 32) (v3251 : BitVec 32) (v3261 : BitVec 32) (v3277 : BitVec 32) (v3286 : BitVec 32) (v3295 : BitVec 32) (v3304 : BitVec 32) (v3313 : BitVec 32) (v3322 : BitVec 32) (v3331 : BitVec 32) (v3418 : BitVec 32) (k0_hw21 : k0_chk21 v3246 v3251 v3261 v3277 v3286 v3295 v3304 v3313 v3322 v3331 v3418), ∀ a, (k0_off422 v3246 v3251 v3322 v3418) a + S1x16x256.size a ≤ S200x216x256.size a := fun v3246 v3251 v3261 v3277 v3286 v3295 v3304 v3313 v3322 v3331 v3418 k0_hw21 => k0_hw21.2.2.2.2.2.2.2.2.2.2.2.1
theorem k0_off423_inb : ∀ (v3246 : BitVec 32) (v3251 : BitVec 32) (v3261 : BitVec 32) (v3277 : BitVec 32) (v3286 : BitVec 32) (v3295 : BitVec 32) (v3304 : BitVec 32) (v3313 : BitVec 32) (v3322 : BitVec 32) (v3331 : BitVec 32) (v3418 : BitVec 32) (k0_hw21 : k0_chk21 v3246 v3251 v3261 v3277 v3286 v3295 v3304 v3313 v3322 v3331 v3418), ∀ a, (k0_off423 v3246 v3251 v3261 v3322 v3418) a + S1x16x256.size a ≤ S200x216x256.size a := fun v3246 v3251 v3261 v3277 v3286 v3295 v3304 v3313 v3322 v3331 v3418 k0_hw21 => k0_hw21.2.2.2.2.2.2.2.2.2.2.2.2.1
theorem k0_off443_inb : ∀ (v3246 : BitVec 32) (v3251 : BitVec 32) (v3261 : BitVec 32) (v3277 : BitVec 32) (v3286 : BitVec 32) (v3295 : BitVec 32) (v3304 : BitVec 32) (v3313 : BitVec 32) (v3322 : BitVec 32) (v3331 : BitVec 32) (v3418 : BitVec 32) (k0_hw21 : k0_chk21 v3246 v3251 v3261 v3277 v3286 v3295 v3304 v3313 v3322 v3331 v3418), ∀ a, (k0_off443 v3246 v3251 v3331 v3418) a + S1x16x256.size a ≤ S200x216x256.size a := fun v3246 v3251 v3261 v3277 v3286 v3295 v3304 v3313 v3322 v3331 v3418 k0_hw21 => k0_hw21.2.2.2.2.2.2.2.2.2.2.2.2.2.1
theorem k0_off444_inb : ∀ (v3246 : BitVec 32) (v3251 : BitVec 32) (v3261 : BitVec 32) (v3277 : BitVec 32) (v3286 : BitVec 32) (v3295 : BitVec 32) (v3304 : BitVec 32) (v3313 : BitVec 32) (v3322 : BitVec 32) (v3331 : BitVec 32) (v3418 : BitVec 32) (k0_hw21 : k0_chk21 v3246 v3251 v3261 v3277 v3286 v3295 v3304 v3313 v3322 v3331 v3418), ∀ a, (k0_off444 v3246 v3251 v3261 v3331 v3418) a + S1x16x256.size a ≤ S200x216x256.size a := fun v3246 v3251 v3261 v3277 v3286 v3295 v3304 v3313 v3322 v3331 v3418 k0_hw21 => k0_hw21.2.2.2.2.2.2.2.2.2.2.2.2.2.2

def k0_off445 (k0_t1 : Fin k0_t1_loop.trips) : Fin 3 → Nat :=
  let c48_1139 : Index := 48#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c2_i32_743 : BitVec 32 := 2#32
  let v3238 : BitVec 32 := Scalar.addi v5 c2_i32_743
  let v4850 : Index := Scalar.indexCast v3238
  let c0_1140 : Index := 0#32
  ![48, v4850.toNat, 0]
def k0_off446 (i : grid0.Coords) (k0_t1 : Fin k0_t1_loop.trips) (c0_i32_1145 : BitVec 32) : Fin 1 → Nat :=
  let arg0 : BitVec 32 := BitVec.ofNat 32 (i 0).val
  let c256_i32_1142 : BitVec 32 := 256#32
  let v4855 : BitVec 32 := Scalar.muli arg0 c256_i32_1142
  let arg1 : BitVec 32 := BitVec.ofNat 32 (i 1).val
  let c32_i32_1143 : BitVec 32 := 32#32
  let v4856 : BitVec 32 := Scalar.muli arg1 c32_i32_1143
  let v4857 : BitVec 32 := Scalar.addi v4855 v4856
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c3_i32_1141 : BitVec 32 := 3#32
  let v4854 : BitVec 32 := Scalar.addi v5 c3_i32_1141
  let v4858 : BitVec 32 := Scalar.addi v4857 v4854
  let c4_i32_1144 : BitVec 32 := 4#32
  let v4859 : BitVec 32 := Scalar.muli v4858 c4_i32_1144
  let v4860 : BitVec 32 := Scalar.addi v4859 c0_i32_1145
  let v4861 : Index := Scalar.indexCast v4860
  ![v4861.toNat]
def k0_mult23 (v4862 : BitVec 32) (v4956 : BitVec 32) : BitVec 32 :=
  let c199_i32_1147 : BitVec 32 := 199#32
  let c0_i32_1146 : BitVec 32 := 0#32
  let v4863 : BitVec 32 := Scalar.maxsi c0_i32_1146 v4862
  let v4864 : BitVec 32 := Scalar.minsi c199_i32_1147 v4863
  let v4957 : BitVec 32 := Scalar.addi v4864 v4956
  let c3_i32_1193 : BitVec 32 := 3#32
  let v4960 : BitVec 32 := Scalar.shrsi v4957 c3_i32_1193
  let c3_i32_1194 : BitVec 32 := 3#32
  let v4961 : BitVec 32 := Scalar.shli v4960 c3_i32_1194
  v4961

def k0_mult24 (v4862 : BitVec 32) (v4969 : BitVec 32) : BitVec 32 :=
  let c199_i32_1147 : BitVec 32 := 199#32
  let c0_i32_1146 : BitVec 32 := 0#32
  let v4863 : BitVec 32 := Scalar.maxsi c0_i32_1146 v4862
  let v4864 : BitVec 32 := Scalar.minsi c199_i32_1147 v4863
  let v4970 : BitVec 32 := Scalar.addi v4864 v4969
  let c3_i32_1200 : BitVec 32 := 3#32
  let v4973 : BitVec 32 := Scalar.shrsi v4970 c3_i32_1200
  let c3_i32_1201 : BitVec 32 := 3#32
  let v4974 : BitVec 32 := Scalar.shli v4973 c3_i32_1201
  v4974

def k0_mult25 (v4862 : BitVec 32) (v4982 : BitVec 32) : BitVec 32 :=
  let c199_i32_1147 : BitVec 32 := 199#32
  let c0_i32_1146 : BitVec 32 := 0#32
  let v4863 : BitVec 32 := Scalar.maxsi c0_i32_1146 v4862
  let v4864 : BitVec 32 := Scalar.minsi c199_i32_1147 v4863
  let v4983 : BitVec 32 := Scalar.addi v4864 v4982
  let c3_i32_1207 : BitVec 32 := 3#32
  let v4986 : BitVec 32 := Scalar.shrsi v4983 c3_i32_1207
  let c3_i32_1208 : BitVec 32 := 3#32
  let v4987 : BitVec 32 := Scalar.shli v4986 c3_i32_1208
  v4987

def k0_mult26 (v4862 : BitVec 32) (v4995 : BitVec 32) : BitVec 32 :=
  let c199_i32_1147 : BitVec 32 := 199#32
  let c0_i32_1146 : BitVec 32 := 0#32
  let v4863 : BitVec 32 := Scalar.maxsi c0_i32_1146 v4862
  let v4864 : BitVec 32 := Scalar.minsi c199_i32_1147 v4863
  let v4996 : BitVec 32 := Scalar.addi v4864 v4995
  let c3_i32_1214 : BitVec 32 := 3#32
  let v4999 : BitVec 32 := Scalar.shrsi v4996 c3_i32_1214
  let c3_i32_1215 : BitVec 32 := 3#32
  let v5000 : BitVec 32 := Scalar.shli v4999 c3_i32_1215
  v5000

def k0_mult27 (v4862 : BitVec 32) (v5008 : BitVec 32) : BitVec 32 :=
  let c199_i32_1147 : BitVec 32 := 199#32
  let c0_i32_1146 : BitVec 32 := 0#32
  let v4863 : BitVec 32 := Scalar.maxsi c0_i32_1146 v4862
  let v4864 : BitVec 32 := Scalar.minsi c199_i32_1147 v4863
  let v5009 : BitVec 32 := Scalar.addi v4864 v5008
  let c3_i32_1221 : BitVec 32 := 3#32
  let v5012 : BitVec 32 := Scalar.shrsi v5009 c3_i32_1221
  let c3_i32_1222 : BitVec 32 := 3#32
  let v5013 : BitVec 32 := Scalar.shli v5012 c3_i32_1222
  v5013

def k0_mult28 (v4862 : BitVec 32) (v5021 : BitVec 32) : BitVec 32 :=
  let c199_i32_1147 : BitVec 32 := 199#32
  let c0_i32_1146 : BitVec 32 := 0#32
  let v4863 : BitVec 32 := Scalar.maxsi c0_i32_1146 v4862
  let v4864 : BitVec 32 := Scalar.minsi c199_i32_1147 v4863
  let v5022 : BitVec 32 := Scalar.addi v4864 v5021
  let c3_i32_1228 : BitVec 32 := 3#32
  let v5025 : BitVec 32 := Scalar.shrsi v5022 c3_i32_1228
  let c3_i32_1229 : BitVec 32 := 3#32
  let v5026 : BitVec 32 := Scalar.shli v5025 c3_i32_1229
  v5026

def k0_mult29 (v4862 : BitVec 32) (v5034 : BitVec 32) : BitVec 32 :=
  let c199_i32_1147 : BitVec 32 := 199#32
  let c0_i32_1146 : BitVec 32 := 0#32
  let v4863 : BitVec 32 := Scalar.maxsi c0_i32_1146 v4862
  let v4864 : BitVec 32 := Scalar.minsi c199_i32_1147 v4863
  let v5035 : BitVec 32 := Scalar.addi v4864 v5034
  let c3_i32_1235 : BitVec 32 := 3#32
  let v5038 : BitVec 32 := Scalar.shrsi v5035 c3_i32_1235
  let c3_i32_1236 : BitVec 32 := 3#32
  let v5039 : BitVec 32 := Scalar.shli v5038 c3_i32_1236
  v5039

def k0_off447 (v4862 : BitVec 32) (v4867 : BitVec 32) (v4893 : BitVec 32) (v4956 : BitVec 32) : Fin 3 → Nat :=
  let c199_i32_1150 : BitVec 32 := 199#32
  let c0_i32_1149 : BitVec 32 := 0#32
  let v4868 : BitVec 32 := Scalar.maxsi c0_i32_1149 v4867
  let v4869 : BitVec 32 := Scalar.minsi c199_i32_1150 v4868
  let v4894 : BitVec 32 := Scalar.addi v4869 v4893
  let v5044 : Index := Scalar.indexCast v4894
  let c199_i32_1147 : BitVec 32 := 199#32
  let c0_i32_1146 : BitVec 32 := 0#32
  let v4863 : BitVec 32 := Scalar.maxsi c0_i32_1146 v4862
  let v4864 : BitVec 32 := Scalar.minsi c199_i32_1147 v4863
  let v4957 : BitVec 32 := Scalar.addi v4864 v4956
  let c3_i32_1193 : BitVec 32 := 3#32
  let v4960 : BitVec 32 := Scalar.shrsi v4957 c3_i32_1193
  let c3_i32_1194 : BitVec 32 := 3#32
  let v4961 : BitVec 32 := Scalar.shli v4960 c3_i32_1194
  let v4962 : BitVec 32 := v4961
  let v5045 : Index := Scalar.indexCast v4962
  let c0_1240 : Index := 0#32
  ![v5044.toNat, v5045.toNat, 0]
def k0_off448 (v4862 : BitVec 32) (v4867 : BitVec 32) (v4877 : BitVec 32) (v4893 : BitVec 32) (v4956 : BitVec 32) : Fin 3 → Nat :=
  let c199_i32_1150 : BitVec 32 := 199#32
  let c0_i32_1149 : BitVec 32 := 0#32
  let v4868 : BitVec 32 := Scalar.maxsi c0_i32_1149 v4867
  let v4869 : BitVec 32 := Scalar.minsi c199_i32_1150 v4868
  let v4894 : BitVec 32 := Scalar.addi v4869 v4893
  let c1_i32_1164 : BitVec 32 := 1#32
  let v4895 : BitVec 32 := Scalar.addi v4894 c1_i32_1164
  let c199_i32_1156 : BitVec 32 := 199#32
  let c0_i32_1155 : BitVec 32 := 0#32
  let v4878 : BitVec 32 := Scalar.maxsi c0_i32_1155 v4877
  let v4879 : BitVec 32 := Scalar.minsi c199_i32_1156 v4878
  let v4896 : BitVec 32 := Scalar.minsi v4895 v4879
  let v5048 : Index := Scalar.indexCast v4896
  let c199_i32_1147 : BitVec 32 := 199#32
  let c0_i32_1146 : BitVec 32 := 0#32
  let v4863 : BitVec 32 := Scalar.maxsi c0_i32_1146 v4862
  let v4864 : BitVec 32 := Scalar.minsi c199_i32_1147 v4863
  let v4957 : BitVec 32 := Scalar.addi v4864 v4956
  let c3_i32_1193 : BitVec 32 := 3#32
  let v4960 : BitVec 32 := Scalar.shrsi v4957 c3_i32_1193
  let c3_i32_1194 : BitVec 32 := 3#32
  let v4961 : BitVec 32 := Scalar.shli v4960 c3_i32_1194
  let v4962 : BitVec 32 := v4961
  let v5049 : Index := Scalar.indexCast v4962
  let c0_1241 : Index := 0#32
  ![v5048.toNat, v5049.toNat, 0]
def k0_off449 (k0_t1 : Fin k0_t1_loop.trips) : Fin 3 → Nat :=
  let c0_1243 : Index := 0#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c3_i32_1141 : BitVec 32 := 3#32
  let v4854 : BitVec 32 := Scalar.addi v5 c3_i32_1141
  let v5068 : Index := Scalar.indexCast v4854
  let c0_1244 : Index := 0#32
  ![0, v5068.toNat, 0]
def k0_off450 (v4862 : BitVec 32) (v4867 : BitVec 32) (v4893 : BitVec 32) (v4969 : BitVec 32) : Fin 3 → Nat :=
  let c199_i32_1150 : BitVec 32 := 199#32
  let c0_i32_1149 : BitVec 32 := 0#32
  let v4868 : BitVec 32 := Scalar.maxsi c0_i32_1149 v4867
  let v4869 : BitVec 32 := Scalar.minsi c199_i32_1150 v4868
  let v4894 : BitVec 32 := Scalar.addi v4869 v4893
  let v5073 : Index := Scalar.indexCast v4894
  let c199_i32_1147 : BitVec 32 := 199#32
  let c0_i32_1146 : BitVec 32 := 0#32
  let v4863 : BitVec 32 := Scalar.maxsi c0_i32_1146 v4862
  let v4864 : BitVec 32 := Scalar.minsi c199_i32_1147 v4863
  let v4970 : BitVec 32 := Scalar.addi v4864 v4969
  let c3_i32_1200 : BitVec 32 := 3#32
  let v4973 : BitVec 32 := Scalar.shrsi v4970 c3_i32_1200
  let c3_i32_1201 : BitVec 32 := 3#32
  let v4974 : BitVec 32 := Scalar.shli v4973 c3_i32_1201
  let v4975 : BitVec 32 := v4974
  let v5074 : Index := Scalar.indexCast v4975
  let c0_1246 : Index := 0#32
  ![v5073.toNat, v5074.toNat, 0]
def k0_off451 (v4862 : BitVec 32) (v4867 : BitVec 32) (v4877 : BitVec 32) (v4893 : BitVec 32) (v4969 : BitVec 32) : Fin 3 → Nat :=
  let c199_i32_1150 : BitVec 32 := 199#32
  let c0_i32_1149 : BitVec 32 := 0#32
  let v4868 : BitVec 32 := Scalar.maxsi c0_i32_1149 v4867
  let v4869 : BitVec 32 := Scalar.minsi c199_i32_1150 v4868
  let v4894 : BitVec 32 := Scalar.addi v4869 v4893
  let c1_i32_1164 : BitVec 32 := 1#32
  let v4895 : BitVec 32 := Scalar.addi v4894 c1_i32_1164
  let c199_i32_1156 : BitVec 32 := 199#32
  let c0_i32_1155 : BitVec 32 := 0#32
  let v4878 : BitVec 32 := Scalar.maxsi c0_i32_1155 v4877
  let v4879 : BitVec 32 := Scalar.minsi c199_i32_1156 v4878
  let v4896 : BitVec 32 := Scalar.minsi v4895 v4879
  let v5077 : Index := Scalar.indexCast v4896
  let c199_i32_1147 : BitVec 32 := 199#32
  let c0_i32_1146 : BitVec 32 := 0#32
  let v4863 : BitVec 32 := Scalar.maxsi c0_i32_1146 v4862
  let v4864 : BitVec 32 := Scalar.minsi c199_i32_1147 v4863
  let v4970 : BitVec 32 := Scalar.addi v4864 v4969
  let c3_i32_1200 : BitVec 32 := 3#32
  let v4973 : BitVec 32 := Scalar.shrsi v4970 c3_i32_1200
  let c3_i32_1201 : BitVec 32 := 3#32
  let v4974 : BitVec 32 := Scalar.shli v4973 c3_i32_1201
  let v4975 : BitVec 32 := v4974
  let v5078 : Index := Scalar.indexCast v4975
  let c0_1247 : Index := 0#32
  ![v5077.toNat, v5078.toNat, 0]
def k0_off452 (k0_t1 : Fin k0_t1_loop.trips) : Fin 3 → Nat :=
  let c1_1249 : Index := 1#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c3_i32_1141 : BitVec 32 := 3#32
  let v4854 : BitVec 32 := Scalar.addi v5 c3_i32_1141
  let v5097 : Index := Scalar.indexCast v4854
  let c0_1250 : Index := 0#32
  ![1, v5097.toNat, 0]
def k0_off453 (v4862 : BitVec 32) (v4867 : BitVec 32) (v4893 : BitVec 32) (v4982 : BitVec 32) : Fin 3 → Nat :=
  let c199_i32_1150 : BitVec 32 := 199#32
  let c0_i32_1149 : BitVec 32 := 0#32
  let v4868 : BitVec 32 := Scalar.maxsi c0_i32_1149 v4867
  let v4869 : BitVec 32 := Scalar.minsi c199_i32_1150 v4868
  let v4894 : BitVec 32 := Scalar.addi v4869 v4893
  let v5102 : Index := Scalar.indexCast v4894
  let c199_i32_1147 : BitVec 32 := 199#32
  let c0_i32_1146 : BitVec 32 := 0#32
  let v4863 : BitVec 32 := Scalar.maxsi c0_i32_1146 v4862
  let v4864 : BitVec 32 := Scalar.minsi c199_i32_1147 v4863
  let v4983 : BitVec 32 := Scalar.addi v4864 v4982
  let c3_i32_1207 : BitVec 32 := 3#32
  let v4986 : BitVec 32 := Scalar.shrsi v4983 c3_i32_1207
  let c3_i32_1208 : BitVec 32 := 3#32
  let v4987 : BitVec 32 := Scalar.shli v4986 c3_i32_1208
  let v4988 : BitVec 32 := v4987
  let v5103 : Index := Scalar.indexCast v4988
  let c0_1252 : Index := 0#32
  ![v5102.toNat, v5103.toNat, 0]
def k0_off454 (v4862 : BitVec 32) (v4867 : BitVec 32) (v4877 : BitVec 32) (v4893 : BitVec 32) (v4982 : BitVec 32) : Fin 3 → Nat :=
  let c199_i32_1150 : BitVec 32 := 199#32
  let c0_i32_1149 : BitVec 32 := 0#32
  let v4868 : BitVec 32 := Scalar.maxsi c0_i32_1149 v4867
  let v4869 : BitVec 32 := Scalar.minsi c199_i32_1150 v4868
  let v4894 : BitVec 32 := Scalar.addi v4869 v4893
  let c1_i32_1164 : BitVec 32 := 1#32
  let v4895 : BitVec 32 := Scalar.addi v4894 c1_i32_1164
  let c199_i32_1156 : BitVec 32 := 199#32
  let c0_i32_1155 : BitVec 32 := 0#32
  let v4878 : BitVec 32 := Scalar.maxsi c0_i32_1155 v4877
  let v4879 : BitVec 32 := Scalar.minsi c199_i32_1156 v4878
  let v4896 : BitVec 32 := Scalar.minsi v4895 v4879
  let v5106 : Index := Scalar.indexCast v4896
  let c199_i32_1147 : BitVec 32 := 199#32
  let c0_i32_1146 : BitVec 32 := 0#32
  let v4863 : BitVec 32 := Scalar.maxsi c0_i32_1146 v4862
  let v4864 : BitVec 32 := Scalar.minsi c199_i32_1147 v4863
  let v4983 : BitVec 32 := Scalar.addi v4864 v4982
  let c3_i32_1207 : BitVec 32 := 3#32
  let v4986 : BitVec 32 := Scalar.shrsi v4983 c3_i32_1207
  let c3_i32_1208 : BitVec 32 := 3#32
  let v4987 : BitVec 32 := Scalar.shli v4986 c3_i32_1208
  let v4988 : BitVec 32 := v4987
  let v5107 : Index := Scalar.indexCast v4988
  let c0_1253 : Index := 0#32
  ![v5106.toNat, v5107.toNat, 0]
def k0_off455 (k0_t1 : Fin k0_t1_loop.trips) : Fin 3 → Nat :=
  let c2_1255 : Index := 2#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c3_i32_1141 : BitVec 32 := 3#32
  let v4854 : BitVec 32 := Scalar.addi v5 c3_i32_1141
  let v5126 : Index := Scalar.indexCast v4854
  let c0_1256 : Index := 0#32
  ![2, v5126.toNat, 0]
def k0_off456 (v4862 : BitVec 32) (v4867 : BitVec 32) (v4893 : BitVec 32) (v4995 : BitVec 32) : Fin 3 → Nat :=
  let c199_i32_1150 : BitVec 32 := 199#32
  let c0_i32_1149 : BitVec 32 := 0#32
  let v4868 : BitVec 32 := Scalar.maxsi c0_i32_1149 v4867
  let v4869 : BitVec 32 := Scalar.minsi c199_i32_1150 v4868
  let v4894 : BitVec 32 := Scalar.addi v4869 v4893
  let v5131 : Index := Scalar.indexCast v4894
  let c199_i32_1147 : BitVec 32 := 199#32
  let c0_i32_1146 : BitVec 32 := 0#32
  let v4863 : BitVec 32 := Scalar.maxsi c0_i32_1146 v4862
  let v4864 : BitVec 32 := Scalar.minsi c199_i32_1147 v4863
  let v4996 : BitVec 32 := Scalar.addi v4864 v4995
  let c3_i32_1214 : BitVec 32 := 3#32
  let v4999 : BitVec 32 := Scalar.shrsi v4996 c3_i32_1214
  let c3_i32_1215 : BitVec 32 := 3#32
  let v5000 : BitVec 32 := Scalar.shli v4999 c3_i32_1215
  let v5001 : BitVec 32 := v5000
  let v5132 : Index := Scalar.indexCast v5001
  let c0_1258 : Index := 0#32
  ![v5131.toNat, v5132.toNat, 0]
def k0_off457 (v4862 : BitVec 32) (v4867 : BitVec 32) (v4877 : BitVec 32) (v4893 : BitVec 32) (v4995 : BitVec 32) : Fin 3 → Nat :=
  let c199_i32_1150 : BitVec 32 := 199#32
  let c0_i32_1149 : BitVec 32 := 0#32
  let v4868 : BitVec 32 := Scalar.maxsi c0_i32_1149 v4867
  let v4869 : BitVec 32 := Scalar.minsi c199_i32_1150 v4868
  let v4894 : BitVec 32 := Scalar.addi v4869 v4893
  let c1_i32_1164 : BitVec 32 := 1#32
  let v4895 : BitVec 32 := Scalar.addi v4894 c1_i32_1164
  let c199_i32_1156 : BitVec 32 := 199#32
  let c0_i32_1155 : BitVec 32 := 0#32
  let v4878 : BitVec 32 := Scalar.maxsi c0_i32_1155 v4877
  let v4879 : BitVec 32 := Scalar.minsi c199_i32_1156 v4878
  let v4896 : BitVec 32 := Scalar.minsi v4895 v4879
  let v5135 : Index := Scalar.indexCast v4896
  let c199_i32_1147 : BitVec 32 := 199#32
  let c0_i32_1146 : BitVec 32 := 0#32
  let v4863 : BitVec 32 := Scalar.maxsi c0_i32_1146 v4862
  let v4864 : BitVec 32 := Scalar.minsi c199_i32_1147 v4863
  let v4996 : BitVec 32 := Scalar.addi v4864 v4995
  let c3_i32_1214 : BitVec 32 := 3#32
  let v4999 : BitVec 32 := Scalar.shrsi v4996 c3_i32_1214
  let c3_i32_1215 : BitVec 32 := 3#32
  let v5000 : BitVec 32 := Scalar.shli v4999 c3_i32_1215
  let v5001 : BitVec 32 := v5000
  let v5136 : Index := Scalar.indexCast v5001
  let c0_1259 : Index := 0#32
  ![v5135.toNat, v5136.toNat, 0]
def k0_off458 (k0_t1 : Fin k0_t1_loop.trips) : Fin 3 → Nat :=
  let c3_1261 : Index := 3#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c3_i32_1141 : BitVec 32 := 3#32
  let v4854 : BitVec 32 := Scalar.addi v5 c3_i32_1141
  let v5155 : Index := Scalar.indexCast v4854
  let c0_1262 : Index := 0#32
  ![3, v5155.toNat, 0]
def k0_off459 (v4862 : BitVec 32) (v4867 : BitVec 32) (v4893 : BitVec 32) (v5008 : BitVec 32) : Fin 3 → Nat :=
  let c199_i32_1150 : BitVec 32 := 199#32
  let c0_i32_1149 : BitVec 32 := 0#32
  let v4868 : BitVec 32 := Scalar.maxsi c0_i32_1149 v4867
  let v4869 : BitVec 32 := Scalar.minsi c199_i32_1150 v4868
  let v4894 : BitVec 32 := Scalar.addi v4869 v4893
  let v5160 : Index := Scalar.indexCast v4894
  let c199_i32_1147 : BitVec 32 := 199#32
  let c0_i32_1146 : BitVec 32 := 0#32
  let v4863 : BitVec 32 := Scalar.maxsi c0_i32_1146 v4862
  let v4864 : BitVec 32 := Scalar.minsi c199_i32_1147 v4863
  let v5009 : BitVec 32 := Scalar.addi v4864 v5008
  let c3_i32_1221 : BitVec 32 := 3#32
  let v5012 : BitVec 32 := Scalar.shrsi v5009 c3_i32_1221
  let c3_i32_1222 : BitVec 32 := 3#32
  let v5013 : BitVec 32 := Scalar.shli v5012 c3_i32_1222
  let v5014 : BitVec 32 := v5013
  let v5161 : Index := Scalar.indexCast v5014
  let c0_1264 : Index := 0#32
  ![v5160.toNat, v5161.toNat, 0]
def k0_off460 (v4862 : BitVec 32) (v4867 : BitVec 32) (v4877 : BitVec 32) (v4893 : BitVec 32) (v5008 : BitVec 32) : Fin 3 → Nat :=
  let c199_i32_1150 : BitVec 32 := 199#32
  let c0_i32_1149 : BitVec 32 := 0#32
  let v4868 : BitVec 32 := Scalar.maxsi c0_i32_1149 v4867
  let v4869 : BitVec 32 := Scalar.minsi c199_i32_1150 v4868
  let v4894 : BitVec 32 := Scalar.addi v4869 v4893
  let c1_i32_1164 : BitVec 32 := 1#32
  let v4895 : BitVec 32 := Scalar.addi v4894 c1_i32_1164
  let c199_i32_1156 : BitVec 32 := 199#32
  let c0_i32_1155 : BitVec 32 := 0#32
  let v4878 : BitVec 32 := Scalar.maxsi c0_i32_1155 v4877
  let v4879 : BitVec 32 := Scalar.minsi c199_i32_1156 v4878
  let v4896 : BitVec 32 := Scalar.minsi v4895 v4879
  let v5164 : Index := Scalar.indexCast v4896
  let c199_i32_1147 : BitVec 32 := 199#32
  let c0_i32_1146 : BitVec 32 := 0#32
  let v4863 : BitVec 32 := Scalar.maxsi c0_i32_1146 v4862
  let v4864 : BitVec 32 := Scalar.minsi c199_i32_1147 v4863
  let v5009 : BitVec 32 := Scalar.addi v4864 v5008
  let c3_i32_1221 : BitVec 32 := 3#32
  let v5012 : BitVec 32 := Scalar.shrsi v5009 c3_i32_1221
  let c3_i32_1222 : BitVec 32 := 3#32
  let v5013 : BitVec 32 := Scalar.shli v5012 c3_i32_1222
  let v5014 : BitVec 32 := v5013
  let v5165 : Index := Scalar.indexCast v5014
  let c0_1265 : Index := 0#32
  ![v5164.toNat, v5165.toNat, 0]
def k0_off461 (k0_t1 : Fin k0_t1_loop.trips) : Fin 3 → Nat :=
  let c4_1267 : Index := 4#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c3_i32_1141 : BitVec 32 := 3#32
  let v4854 : BitVec 32 := Scalar.addi v5 c3_i32_1141
  let v5184 : Index := Scalar.indexCast v4854
  let c0_1268 : Index := 0#32
  ![4, v5184.toNat, 0]
def k0_off462 (v4862 : BitVec 32) (v4867 : BitVec 32) (v4893 : BitVec 32) (v5021 : BitVec 32) : Fin 3 → Nat :=
  let c199_i32_1150 : BitVec 32 := 199#32
  let c0_i32_1149 : BitVec 32 := 0#32
  let v4868 : BitVec 32 := Scalar.maxsi c0_i32_1149 v4867
  let v4869 : BitVec 32 := Scalar.minsi c199_i32_1150 v4868
  let v4894 : BitVec 32 := Scalar.addi v4869 v4893
  let v5189 : Index := Scalar.indexCast v4894
  let c199_i32_1147 : BitVec 32 := 199#32
  let c0_i32_1146 : BitVec 32 := 0#32
  let v4863 : BitVec 32 := Scalar.maxsi c0_i32_1146 v4862
  let v4864 : BitVec 32 := Scalar.minsi c199_i32_1147 v4863
  let v5022 : BitVec 32 := Scalar.addi v4864 v5021
  let c3_i32_1228 : BitVec 32 := 3#32
  let v5025 : BitVec 32 := Scalar.shrsi v5022 c3_i32_1228
  let c3_i32_1229 : BitVec 32 := 3#32
  let v5026 : BitVec 32 := Scalar.shli v5025 c3_i32_1229
  let v5027 : BitVec 32 := v5026
  let v5190 : Index := Scalar.indexCast v5027
  let c0_1270 : Index := 0#32
  ![v5189.toNat, v5190.toNat, 0]
def k0_off463 (v4862 : BitVec 32) (v4867 : BitVec 32) (v4877 : BitVec 32) (v4893 : BitVec 32) (v5021 : BitVec 32) : Fin 3 → Nat :=
  let c199_i32_1150 : BitVec 32 := 199#32
  let c0_i32_1149 : BitVec 32 := 0#32
  let v4868 : BitVec 32 := Scalar.maxsi c0_i32_1149 v4867
  let v4869 : BitVec 32 := Scalar.minsi c199_i32_1150 v4868
  let v4894 : BitVec 32 := Scalar.addi v4869 v4893
  let c1_i32_1164 : BitVec 32 := 1#32
  let v4895 : BitVec 32 := Scalar.addi v4894 c1_i32_1164
  let c199_i32_1156 : BitVec 32 := 199#32
  let c0_i32_1155 : BitVec 32 := 0#32
  let v4878 : BitVec 32 := Scalar.maxsi c0_i32_1155 v4877
  let v4879 : BitVec 32 := Scalar.minsi c199_i32_1156 v4878
  let v4896 : BitVec 32 := Scalar.minsi v4895 v4879
  let v5193 : Index := Scalar.indexCast v4896
  let c199_i32_1147 : BitVec 32 := 199#32
  let c0_i32_1146 : BitVec 32 := 0#32
  let v4863 : BitVec 32 := Scalar.maxsi c0_i32_1146 v4862
  let v4864 : BitVec 32 := Scalar.minsi c199_i32_1147 v4863
  let v5022 : BitVec 32 := Scalar.addi v4864 v5021
  let c3_i32_1228 : BitVec 32 := 3#32
  let v5025 : BitVec 32 := Scalar.shrsi v5022 c3_i32_1228
  let c3_i32_1229 : BitVec 32 := 3#32
  let v5026 : BitVec 32 := Scalar.shli v5025 c3_i32_1229
  let v5027 : BitVec 32 := v5026
  let v5194 : Index := Scalar.indexCast v5027
  let c0_1271 : Index := 0#32
  ![v5193.toNat, v5194.toNat, 0]
def k0_off464 (k0_t1 : Fin k0_t1_loop.trips) : Fin 3 → Nat :=
  let c5_1273 : Index := 5#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c3_i32_1141 : BitVec 32 := 3#32
  let v4854 : BitVec 32 := Scalar.addi v5 c3_i32_1141
  let v5213 : Index := Scalar.indexCast v4854
  let c0_1274 : Index := 0#32
  ![5, v5213.toNat, 0]
def k0_off465 (v4862 : BitVec 32) (v4867 : BitVec 32) (v4893 : BitVec 32) (v5034 : BitVec 32) : Fin 3 → Nat :=
  let c199_i32_1150 : BitVec 32 := 199#32
  let c0_i32_1149 : BitVec 32 := 0#32
  let v4868 : BitVec 32 := Scalar.maxsi c0_i32_1149 v4867
  let v4869 : BitVec 32 := Scalar.minsi c199_i32_1150 v4868
  let v4894 : BitVec 32 := Scalar.addi v4869 v4893
  let v5218 : Index := Scalar.indexCast v4894
  let c199_i32_1147 : BitVec 32 := 199#32
  let c0_i32_1146 : BitVec 32 := 0#32
  let v4863 : BitVec 32 := Scalar.maxsi c0_i32_1146 v4862
  let v4864 : BitVec 32 := Scalar.minsi c199_i32_1147 v4863
  let v5035 : BitVec 32 := Scalar.addi v4864 v5034
  let c3_i32_1235 : BitVec 32 := 3#32
  let v5038 : BitVec 32 := Scalar.shrsi v5035 c3_i32_1235
  let c3_i32_1236 : BitVec 32 := 3#32
  let v5039 : BitVec 32 := Scalar.shli v5038 c3_i32_1236
  let v5040 : BitVec 32 := v5039
  let v5219 : Index := Scalar.indexCast v5040
  let c0_1276 : Index := 0#32
  ![v5218.toNat, v5219.toNat, 0]
def k0_off466 (v4862 : BitVec 32) (v4867 : BitVec 32) (v4877 : BitVec 32) (v4893 : BitVec 32) (v5034 : BitVec 32) : Fin 3 → Nat :=
  let c199_i32_1150 : BitVec 32 := 199#32
  let c0_i32_1149 : BitVec 32 := 0#32
  let v4868 : BitVec 32 := Scalar.maxsi c0_i32_1149 v4867
  let v4869 : BitVec 32 := Scalar.minsi c199_i32_1150 v4868
  let v4894 : BitVec 32 := Scalar.addi v4869 v4893
  let c1_i32_1164 : BitVec 32 := 1#32
  let v4895 : BitVec 32 := Scalar.addi v4894 c1_i32_1164
  let c199_i32_1156 : BitVec 32 := 199#32
  let c0_i32_1155 : BitVec 32 := 0#32
  let v4878 : BitVec 32 := Scalar.maxsi c0_i32_1155 v4877
  let v4879 : BitVec 32 := Scalar.minsi c199_i32_1156 v4878
  let v4896 : BitVec 32 := Scalar.minsi v4895 v4879
  let v5222 : Index := Scalar.indexCast v4896
  let c199_i32_1147 : BitVec 32 := 199#32
  let c0_i32_1146 : BitVec 32 := 0#32
  let v4863 : BitVec 32 := Scalar.maxsi c0_i32_1146 v4862
  let v4864 : BitVec 32 := Scalar.minsi c199_i32_1147 v4863
  let v5035 : BitVec 32 := Scalar.addi v4864 v5034
  let c3_i32_1235 : BitVec 32 := 3#32
  let v5038 : BitVec 32 := Scalar.shrsi v5035 c3_i32_1235
  let c3_i32_1236 : BitVec 32 := 3#32
  let v5039 : BitVec 32 := Scalar.shli v5038 c3_i32_1236
  let v5040 : BitVec 32 := v5039
  let v5223 : Index := Scalar.indexCast v5040
  let c0_1277 : Index := 0#32
  ![v5222.toNat, v5223.toNat, 0]
def k0_off467 (k0_t1 : Fin k0_t1_loop.trips) : Fin 3 → Nat :=
  let c6_1279 : Index := 6#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c3_i32_1141 : BitVec 32 := 3#32
  let v4854 : BitVec 32 := Scalar.addi v5 c3_i32_1141
  let v5242 : Index := Scalar.indexCast v4854
  let c0_1280 : Index := 0#32
  ![6, v5242.toNat, 0]
def k0_off468 (v4862 : BitVec 32) (v4867 : BitVec 32) (v4902 : BitVec 32) (v4956 : BitVec 32) : Fin 3 → Nat :=
  let c199_i32_1150 : BitVec 32 := 199#32
  let c0_i32_1149 : BitVec 32 := 0#32
  let v4868 : BitVec 32 := Scalar.maxsi c0_i32_1149 v4867
  let v4869 : BitVec 32 := Scalar.minsi c199_i32_1150 v4868
  let v4903 : BitVec 32 := Scalar.addi v4869 v4902
  let v5248 : Index := Scalar.indexCast v4903
  let c199_i32_1147 : BitVec 32 := 199#32
  let c0_i32_1146 : BitVec 32 := 0#32
  let v4863 : BitVec 32 := Scalar.maxsi c0_i32_1146 v4862
  let v4864 : BitVec 32 := Scalar.minsi c199_i32_1147 v4863
  let v4957 : BitVec 32 := Scalar.addi v4864 v4956
  let c3_i32_1193 : BitVec 32 := 3#32
  let v4960 : BitVec 32 := Scalar.shrsi v4957 c3_i32_1193
  let c3_i32_1194 : BitVec 32 := 3#32
  let v4961 : BitVec 32 := Scalar.shli v4960 c3_i32_1194
  let v4962 : BitVec 32 := v4961
  let v5249 : Index := Scalar.indexCast v4962
  let c0_1283 : Index := 0#32
  ![v5248.toNat, v5249.toNat, 0]
def k0_off469 (v4862 : BitVec 32) (v4867 : BitVec 32) (v4877 : BitVec 32) (v4902 : BitVec 32) (v4956 : BitVec 32) : Fin 3 → Nat :=
  let c199_i32_1150 : BitVec 32 := 199#32
  let c0_i32_1149 : BitVec 32 := 0#32
  let v4868 : BitVec 32 := Scalar.maxsi c0_i32_1149 v4867
  let v4869 : BitVec 32 := Scalar.minsi c199_i32_1150 v4868
  let v4903 : BitVec 32 := Scalar.addi v4869 v4902
  let c1_i32_1168 : BitVec 32 := 1#32
  let v4904 : BitVec 32 := Scalar.addi v4903 c1_i32_1168
  let c199_i32_1156 : BitVec 32 := 199#32
  let c0_i32_1155 : BitVec 32 := 0#32
  let v4878 : BitVec 32 := Scalar.maxsi c0_i32_1155 v4877
  let v4879 : BitVec 32 := Scalar.minsi c199_i32_1156 v4878
  let v4905 : BitVec 32 := Scalar.minsi v4904 v4879
  let v5252 : Index := Scalar.indexCast v4905
  let c199_i32_1147 : BitVec 32 := 199#32
  let c0_i32_1146 : BitVec 32 := 0#32
  let v4863 : BitVec 32 := Scalar.maxsi c0_i32_1146 v4862
  let v4864 : BitVec 32 := Scalar.minsi c199_i32_1147 v4863
  let v4957 : BitVec 32 := Scalar.addi v4864 v4956
  let c3_i32_1193 : BitVec 32 := 3#32
  let v4960 : BitVec 32 := Scalar.shrsi v4957 c3_i32_1193
  let c3_i32_1194 : BitVec 32 := 3#32
  let v4961 : BitVec 32 := Scalar.shli v4960 c3_i32_1194
  let v4962 : BitVec 32 := v4961
  let v5253 : Index := Scalar.indexCast v4962
  let c0_1284 : Index := 0#32
  ![v5252.toNat, v5253.toNat, 0]
def k0_off470 (k0_t1 : Fin k0_t1_loop.trips) : Fin 3 → Nat :=
  let c7_1286 : Index := 7#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c3_i32_1141 : BitVec 32 := 3#32
  let v4854 : BitVec 32 := Scalar.addi v5 c3_i32_1141
  let v5272 : Index := Scalar.indexCast v4854
  let c0_1287 : Index := 0#32
  ![7, v5272.toNat, 0]
def k0_off471 (v4862 : BitVec 32) (v4867 : BitVec 32) (v4902 : BitVec 32) (v4969 : BitVec 32) : Fin 3 → Nat :=
  let c199_i32_1150 : BitVec 32 := 199#32
  let c0_i32_1149 : BitVec 32 := 0#32
  let v4868 : BitVec 32 := Scalar.maxsi c0_i32_1149 v4867
  let v4869 : BitVec 32 := Scalar.minsi c199_i32_1150 v4868
  let v4903 : BitVec 32 := Scalar.addi v4869 v4902
  let v5277 : Index := Scalar.indexCast v4903
  let c199_i32_1147 : BitVec 32 := 199#32
  let c0_i32_1146 : BitVec 32 := 0#32
  let v4863 : BitVec 32 := Scalar.maxsi c0_i32_1146 v4862
  let v4864 : BitVec 32 := Scalar.minsi c199_i32_1147 v4863
  let v4970 : BitVec 32 := Scalar.addi v4864 v4969
  let c3_i32_1200 : BitVec 32 := 3#32
  let v4973 : BitVec 32 := Scalar.shrsi v4970 c3_i32_1200
  let c3_i32_1201 : BitVec 32 := 3#32
  let v4974 : BitVec 32 := Scalar.shli v4973 c3_i32_1201
  let v4975 : BitVec 32 := v4974
  let v5278 : Index := Scalar.indexCast v4975
  let c0_1289 : Index := 0#32
  ![v5277.toNat, v5278.toNat, 0]
def k0_off472 (v4862 : BitVec 32) (v4867 : BitVec 32) (v4877 : BitVec 32) (v4902 : BitVec 32) (v4969 : BitVec 32) : Fin 3 → Nat :=
  let c199_i32_1150 : BitVec 32 := 199#32
  let c0_i32_1149 : BitVec 32 := 0#32
  let v4868 : BitVec 32 := Scalar.maxsi c0_i32_1149 v4867
  let v4869 : BitVec 32 := Scalar.minsi c199_i32_1150 v4868
  let v4903 : BitVec 32 := Scalar.addi v4869 v4902
  let c1_i32_1168 : BitVec 32 := 1#32
  let v4904 : BitVec 32 := Scalar.addi v4903 c1_i32_1168
  let c199_i32_1156 : BitVec 32 := 199#32
  let c0_i32_1155 : BitVec 32 := 0#32
  let v4878 : BitVec 32 := Scalar.maxsi c0_i32_1155 v4877
  let v4879 : BitVec 32 := Scalar.minsi c199_i32_1156 v4878
  let v4905 : BitVec 32 := Scalar.minsi v4904 v4879
  let v5281 : Index := Scalar.indexCast v4905
  let c199_i32_1147 : BitVec 32 := 199#32
  let c0_i32_1146 : BitVec 32 := 0#32
  let v4863 : BitVec 32 := Scalar.maxsi c0_i32_1146 v4862
  let v4864 : BitVec 32 := Scalar.minsi c199_i32_1147 v4863
  let v4970 : BitVec 32 := Scalar.addi v4864 v4969
  let c3_i32_1200 : BitVec 32 := 3#32
  let v4973 : BitVec 32 := Scalar.shrsi v4970 c3_i32_1200
  let c3_i32_1201 : BitVec 32 := 3#32
  let v4974 : BitVec 32 := Scalar.shli v4973 c3_i32_1201
  let v4975 : BitVec 32 := v4974
  let v5282 : Index := Scalar.indexCast v4975
  let c0_1290 : Index := 0#32
  ![v5281.toNat, v5282.toNat, 0]
def k0_off473 (k0_t1 : Fin k0_t1_loop.trips) : Fin 3 → Nat :=
  let c8_1292 : Index := 8#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c3_i32_1141 : BitVec 32 := 3#32
  let v4854 : BitVec 32 := Scalar.addi v5 c3_i32_1141
  let v5301 : Index := Scalar.indexCast v4854
  let c0_1293 : Index := 0#32
  ![8, v5301.toNat, 0]
def k0_off474 (v4862 : BitVec 32) (v4867 : BitVec 32) (v4902 : BitVec 32) (v4982 : BitVec 32) : Fin 3 → Nat :=
  let c199_i32_1150 : BitVec 32 := 199#32
  let c0_i32_1149 : BitVec 32 := 0#32
  let v4868 : BitVec 32 := Scalar.maxsi c0_i32_1149 v4867
  let v4869 : BitVec 32 := Scalar.minsi c199_i32_1150 v4868
  let v4903 : BitVec 32 := Scalar.addi v4869 v4902
  let v5306 : Index := Scalar.indexCast v4903
  let c199_i32_1147 : BitVec 32 := 199#32
  let c0_i32_1146 : BitVec 32 := 0#32
  let v4863 : BitVec 32 := Scalar.maxsi c0_i32_1146 v4862
  let v4864 : BitVec 32 := Scalar.minsi c199_i32_1147 v4863
  let v4983 : BitVec 32 := Scalar.addi v4864 v4982
  let c3_i32_1207 : BitVec 32 := 3#32
  let v4986 : BitVec 32 := Scalar.shrsi v4983 c3_i32_1207
  let c3_i32_1208 : BitVec 32 := 3#32
  let v4987 : BitVec 32 := Scalar.shli v4986 c3_i32_1208
  let v4988 : BitVec 32 := v4987
  let v5307 : Index := Scalar.indexCast v4988
  let c0_1295 : Index := 0#32
  ![v5306.toNat, v5307.toNat, 0]
def k0_off475 (v4862 : BitVec 32) (v4867 : BitVec 32) (v4877 : BitVec 32) (v4902 : BitVec 32) (v4982 : BitVec 32) : Fin 3 → Nat :=
  let c199_i32_1150 : BitVec 32 := 199#32
  let c0_i32_1149 : BitVec 32 := 0#32
  let v4868 : BitVec 32 := Scalar.maxsi c0_i32_1149 v4867
  let v4869 : BitVec 32 := Scalar.minsi c199_i32_1150 v4868
  let v4903 : BitVec 32 := Scalar.addi v4869 v4902
  let c1_i32_1168 : BitVec 32 := 1#32
  let v4904 : BitVec 32 := Scalar.addi v4903 c1_i32_1168
  let c199_i32_1156 : BitVec 32 := 199#32
  let c0_i32_1155 : BitVec 32 := 0#32
  let v4878 : BitVec 32 := Scalar.maxsi c0_i32_1155 v4877
  let v4879 : BitVec 32 := Scalar.minsi c199_i32_1156 v4878
  let v4905 : BitVec 32 := Scalar.minsi v4904 v4879
  let v5310 : Index := Scalar.indexCast v4905
  let c199_i32_1147 : BitVec 32 := 199#32
  let c0_i32_1146 : BitVec 32 := 0#32
  let v4863 : BitVec 32 := Scalar.maxsi c0_i32_1146 v4862
  let v4864 : BitVec 32 := Scalar.minsi c199_i32_1147 v4863
  let v4983 : BitVec 32 := Scalar.addi v4864 v4982
  let c3_i32_1207 : BitVec 32 := 3#32
  let v4986 : BitVec 32 := Scalar.shrsi v4983 c3_i32_1207
  let c3_i32_1208 : BitVec 32 := 3#32
  let v4987 : BitVec 32 := Scalar.shli v4986 c3_i32_1208
  let v4988 : BitVec 32 := v4987
  let v5311 : Index := Scalar.indexCast v4988
  let c0_1296 : Index := 0#32
  ![v5310.toNat, v5311.toNat, 0]
def k0_off476 (k0_t1 : Fin k0_t1_loop.trips) : Fin 3 → Nat :=
  let c9_1298 : Index := 9#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c3_i32_1141 : BitVec 32 := 3#32
  let v4854 : BitVec 32 := Scalar.addi v5 c3_i32_1141
  let v5330 : Index := Scalar.indexCast v4854
  let c0_1299 : Index := 0#32
  ![9, v5330.toNat, 0]
def k0_off477 (v4862 : BitVec 32) (v4867 : BitVec 32) (v4902 : BitVec 32) (v4995 : BitVec 32) : Fin 3 → Nat :=
  let c199_i32_1150 : BitVec 32 := 199#32
  let c0_i32_1149 : BitVec 32 := 0#32
  let v4868 : BitVec 32 := Scalar.maxsi c0_i32_1149 v4867
  let v4869 : BitVec 32 := Scalar.minsi c199_i32_1150 v4868
  let v4903 : BitVec 32 := Scalar.addi v4869 v4902
  let v5335 : Index := Scalar.indexCast v4903
  let c199_i32_1147 : BitVec 32 := 199#32
  let c0_i32_1146 : BitVec 32 := 0#32
  let v4863 : BitVec 32 := Scalar.maxsi c0_i32_1146 v4862
  let v4864 : BitVec 32 := Scalar.minsi c199_i32_1147 v4863
  let v4996 : BitVec 32 := Scalar.addi v4864 v4995
  let c3_i32_1214 : BitVec 32 := 3#32
  let v4999 : BitVec 32 := Scalar.shrsi v4996 c3_i32_1214
  let c3_i32_1215 : BitVec 32 := 3#32
  let v5000 : BitVec 32 := Scalar.shli v4999 c3_i32_1215
  let v5001 : BitVec 32 := v5000
  let v5336 : Index := Scalar.indexCast v5001
  let c0_1301 : Index := 0#32
  ![v5335.toNat, v5336.toNat, 0]
def k0_off478 (v4862 : BitVec 32) (v4867 : BitVec 32) (v4877 : BitVec 32) (v4902 : BitVec 32) (v4995 : BitVec 32) : Fin 3 → Nat :=
  let c199_i32_1150 : BitVec 32 := 199#32
  let c0_i32_1149 : BitVec 32 := 0#32
  let v4868 : BitVec 32 := Scalar.maxsi c0_i32_1149 v4867
  let v4869 : BitVec 32 := Scalar.minsi c199_i32_1150 v4868
  let v4903 : BitVec 32 := Scalar.addi v4869 v4902
  let c1_i32_1168 : BitVec 32 := 1#32
  let v4904 : BitVec 32 := Scalar.addi v4903 c1_i32_1168
  let c199_i32_1156 : BitVec 32 := 199#32
  let c0_i32_1155 : BitVec 32 := 0#32
  let v4878 : BitVec 32 := Scalar.maxsi c0_i32_1155 v4877
  let v4879 : BitVec 32 := Scalar.minsi c199_i32_1156 v4878
  let v4905 : BitVec 32 := Scalar.minsi v4904 v4879
  let v5339 : Index := Scalar.indexCast v4905
  let c199_i32_1147 : BitVec 32 := 199#32
  let c0_i32_1146 : BitVec 32 := 0#32
  let v4863 : BitVec 32 := Scalar.maxsi c0_i32_1146 v4862
  let v4864 : BitVec 32 := Scalar.minsi c199_i32_1147 v4863
  let v4996 : BitVec 32 := Scalar.addi v4864 v4995
  let c3_i32_1214 : BitVec 32 := 3#32
  let v4999 : BitVec 32 := Scalar.shrsi v4996 c3_i32_1214
  let c3_i32_1215 : BitVec 32 := 3#32
  let v5000 : BitVec 32 := Scalar.shli v4999 c3_i32_1215
  let v5001 : BitVec 32 := v5000
  let v5340 : Index := Scalar.indexCast v5001
  let c0_1302 : Index := 0#32
  ![v5339.toNat, v5340.toNat, 0]
def k0_off479 (k0_t1 : Fin k0_t1_loop.trips) : Fin 3 → Nat :=
  let c10_1304 : Index := 10#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c3_i32_1141 : BitVec 32 := 3#32
  let v4854 : BitVec 32 := Scalar.addi v5 c3_i32_1141
  let v5359 : Index := Scalar.indexCast v4854
  let c0_1305 : Index := 0#32
  ![10, v5359.toNat, 0]
def k0_off480 (v4862 : BitVec 32) (v4867 : BitVec 32) (v4902 : BitVec 32) (v5008 : BitVec 32) : Fin 3 → Nat :=
  let c199_i32_1150 : BitVec 32 := 199#32
  let c0_i32_1149 : BitVec 32 := 0#32
  let v4868 : BitVec 32 := Scalar.maxsi c0_i32_1149 v4867
  let v4869 : BitVec 32 := Scalar.minsi c199_i32_1150 v4868
  let v4903 : BitVec 32 := Scalar.addi v4869 v4902
  let v5364 : Index := Scalar.indexCast v4903
  let c199_i32_1147 : BitVec 32 := 199#32
  let c0_i32_1146 : BitVec 32 := 0#32
  let v4863 : BitVec 32 := Scalar.maxsi c0_i32_1146 v4862
  let v4864 : BitVec 32 := Scalar.minsi c199_i32_1147 v4863
  let v5009 : BitVec 32 := Scalar.addi v4864 v5008
  let c3_i32_1221 : BitVec 32 := 3#32
  let v5012 : BitVec 32 := Scalar.shrsi v5009 c3_i32_1221
  let c3_i32_1222 : BitVec 32 := 3#32
  let v5013 : BitVec 32 := Scalar.shli v5012 c3_i32_1222
  let v5014 : BitVec 32 := v5013
  let v5365 : Index := Scalar.indexCast v5014
  let c0_1307 : Index := 0#32
  ![v5364.toNat, v5365.toNat, 0]
def k0_off481 (v4862 : BitVec 32) (v4867 : BitVec 32) (v4877 : BitVec 32) (v4902 : BitVec 32) (v5008 : BitVec 32) : Fin 3 → Nat :=
  let c199_i32_1150 : BitVec 32 := 199#32
  let c0_i32_1149 : BitVec 32 := 0#32
  let v4868 : BitVec 32 := Scalar.maxsi c0_i32_1149 v4867
  let v4869 : BitVec 32 := Scalar.minsi c199_i32_1150 v4868
  let v4903 : BitVec 32 := Scalar.addi v4869 v4902
  let c1_i32_1168 : BitVec 32 := 1#32
  let v4904 : BitVec 32 := Scalar.addi v4903 c1_i32_1168
  let c199_i32_1156 : BitVec 32 := 199#32
  let c0_i32_1155 : BitVec 32 := 0#32
  let v4878 : BitVec 32 := Scalar.maxsi c0_i32_1155 v4877
  let v4879 : BitVec 32 := Scalar.minsi c199_i32_1156 v4878
  let v4905 : BitVec 32 := Scalar.minsi v4904 v4879
  let v5368 : Index := Scalar.indexCast v4905
  let c199_i32_1147 : BitVec 32 := 199#32
  let c0_i32_1146 : BitVec 32 := 0#32
  let v4863 : BitVec 32 := Scalar.maxsi c0_i32_1146 v4862
  let v4864 : BitVec 32 := Scalar.minsi c199_i32_1147 v4863
  let v5009 : BitVec 32 := Scalar.addi v4864 v5008
  let c3_i32_1221 : BitVec 32 := 3#32
  let v5012 : BitVec 32 := Scalar.shrsi v5009 c3_i32_1221
  let c3_i32_1222 : BitVec 32 := 3#32
  let v5013 : BitVec 32 := Scalar.shli v5012 c3_i32_1222
  let v5014 : BitVec 32 := v5013
  let v5369 : Index := Scalar.indexCast v5014
  let c0_1308 : Index := 0#32
  ![v5368.toNat, v5369.toNat, 0]
def k0_off482 (k0_t1 : Fin k0_t1_loop.trips) : Fin 3 → Nat :=
  let c11_1310 : Index := 11#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c3_i32_1141 : BitVec 32 := 3#32
  let v4854 : BitVec 32 := Scalar.addi v5 c3_i32_1141
  let v5388 : Index := Scalar.indexCast v4854
  let c0_1311 : Index := 0#32
  ![11, v5388.toNat, 0]
def k0_off483 (v4862 : BitVec 32) (v4867 : BitVec 32) (v4902 : BitVec 32) (v5021 : BitVec 32) : Fin 3 → Nat :=
  let c199_i32_1150 : BitVec 32 := 199#32
  let c0_i32_1149 : BitVec 32 := 0#32
  let v4868 : BitVec 32 := Scalar.maxsi c0_i32_1149 v4867
  let v4869 : BitVec 32 := Scalar.minsi c199_i32_1150 v4868
  let v4903 : BitVec 32 := Scalar.addi v4869 v4902
  let v5393 : Index := Scalar.indexCast v4903
  let c199_i32_1147 : BitVec 32 := 199#32
  let c0_i32_1146 : BitVec 32 := 0#32
  let v4863 : BitVec 32 := Scalar.maxsi c0_i32_1146 v4862
  let v4864 : BitVec 32 := Scalar.minsi c199_i32_1147 v4863
  let v5022 : BitVec 32 := Scalar.addi v4864 v5021
  let c3_i32_1228 : BitVec 32 := 3#32
  let v5025 : BitVec 32 := Scalar.shrsi v5022 c3_i32_1228
  let c3_i32_1229 : BitVec 32 := 3#32
  let v5026 : BitVec 32 := Scalar.shli v5025 c3_i32_1229
  let v5027 : BitVec 32 := v5026
  let v5394 : Index := Scalar.indexCast v5027
  let c0_1313 : Index := 0#32
  ![v5393.toNat, v5394.toNat, 0]
def k0_off484 (v4862 : BitVec 32) (v4867 : BitVec 32) (v4877 : BitVec 32) (v4902 : BitVec 32) (v5021 : BitVec 32) : Fin 3 → Nat :=
  let c199_i32_1150 : BitVec 32 := 199#32
  let c0_i32_1149 : BitVec 32 := 0#32
  let v4868 : BitVec 32 := Scalar.maxsi c0_i32_1149 v4867
  let v4869 : BitVec 32 := Scalar.minsi c199_i32_1150 v4868
  let v4903 : BitVec 32 := Scalar.addi v4869 v4902
  let c1_i32_1168 : BitVec 32 := 1#32
  let v4904 : BitVec 32 := Scalar.addi v4903 c1_i32_1168
  let c199_i32_1156 : BitVec 32 := 199#32
  let c0_i32_1155 : BitVec 32 := 0#32
  let v4878 : BitVec 32 := Scalar.maxsi c0_i32_1155 v4877
  let v4879 : BitVec 32 := Scalar.minsi c199_i32_1156 v4878
  let v4905 : BitVec 32 := Scalar.minsi v4904 v4879
  let v5397 : Index := Scalar.indexCast v4905
  let c199_i32_1147 : BitVec 32 := 199#32
  let c0_i32_1146 : BitVec 32 := 0#32
  let v4863 : BitVec 32 := Scalar.maxsi c0_i32_1146 v4862
  let v4864 : BitVec 32 := Scalar.minsi c199_i32_1147 v4863
  let v5022 : BitVec 32 := Scalar.addi v4864 v5021
  let c3_i32_1228 : BitVec 32 := 3#32
  let v5025 : BitVec 32 := Scalar.shrsi v5022 c3_i32_1228
  let c3_i32_1229 : BitVec 32 := 3#32
  let v5026 : BitVec 32 := Scalar.shli v5025 c3_i32_1229
  let v5027 : BitVec 32 := v5026
  let v5398 : Index := Scalar.indexCast v5027
  let c0_1314 : Index := 0#32
  ![v5397.toNat, v5398.toNat, 0]
def k0_off485 (k0_t1 : Fin k0_t1_loop.trips) : Fin 3 → Nat :=
  let c12_1316 : Index := 12#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c3_i32_1141 : BitVec 32 := 3#32
  let v4854 : BitVec 32 := Scalar.addi v5 c3_i32_1141
  let v5417 : Index := Scalar.indexCast v4854
  let c0_1317 : Index := 0#32
  ![12, v5417.toNat, 0]
def k0_off486 (v4862 : BitVec 32) (v4867 : BitVec 32) (v4902 : BitVec 32) (v5034 : BitVec 32) : Fin 3 → Nat :=
  let c199_i32_1150 : BitVec 32 := 199#32
  let c0_i32_1149 : BitVec 32 := 0#32
  let v4868 : BitVec 32 := Scalar.maxsi c0_i32_1149 v4867
  let v4869 : BitVec 32 := Scalar.minsi c199_i32_1150 v4868
  let v4903 : BitVec 32 := Scalar.addi v4869 v4902
  let v5422 : Index := Scalar.indexCast v4903
  let c199_i32_1147 : BitVec 32 := 199#32
  let c0_i32_1146 : BitVec 32 := 0#32
  let v4863 : BitVec 32 := Scalar.maxsi c0_i32_1146 v4862
  let v4864 : BitVec 32 := Scalar.minsi c199_i32_1147 v4863
  let v5035 : BitVec 32 := Scalar.addi v4864 v5034
  let c3_i32_1235 : BitVec 32 := 3#32
  let v5038 : BitVec 32 := Scalar.shrsi v5035 c3_i32_1235
  let c3_i32_1236 : BitVec 32 := 3#32
  let v5039 : BitVec 32 := Scalar.shli v5038 c3_i32_1236
  let v5040 : BitVec 32 := v5039
  let v5423 : Index := Scalar.indexCast v5040
  let c0_1319 : Index := 0#32
  ![v5422.toNat, v5423.toNat, 0]
def k0_off487 (v4862 : BitVec 32) (v4867 : BitVec 32) (v4877 : BitVec 32) (v4902 : BitVec 32) (v5034 : BitVec 32) : Fin 3 → Nat :=
  let c199_i32_1150 : BitVec 32 := 199#32
  let c0_i32_1149 : BitVec 32 := 0#32
  let v4868 : BitVec 32 := Scalar.maxsi c0_i32_1149 v4867
  let v4869 : BitVec 32 := Scalar.minsi c199_i32_1150 v4868
  let v4903 : BitVec 32 := Scalar.addi v4869 v4902
  let c1_i32_1168 : BitVec 32 := 1#32
  let v4904 : BitVec 32 := Scalar.addi v4903 c1_i32_1168
  let c199_i32_1156 : BitVec 32 := 199#32
  let c0_i32_1155 : BitVec 32 := 0#32
  let v4878 : BitVec 32 := Scalar.maxsi c0_i32_1155 v4877
  let v4879 : BitVec 32 := Scalar.minsi c199_i32_1156 v4878
  let v4905 : BitVec 32 := Scalar.minsi v4904 v4879
  let v5426 : Index := Scalar.indexCast v4905
  let c199_i32_1147 : BitVec 32 := 199#32
  let c0_i32_1146 : BitVec 32 := 0#32
  let v4863 : BitVec 32 := Scalar.maxsi c0_i32_1146 v4862
  let v4864 : BitVec 32 := Scalar.minsi c199_i32_1147 v4863
  let v5035 : BitVec 32 := Scalar.addi v4864 v5034
  let c3_i32_1235 : BitVec 32 := 3#32
  let v5038 : BitVec 32 := Scalar.shrsi v5035 c3_i32_1235
  let c3_i32_1236 : BitVec 32 := 3#32
  let v5039 : BitVec 32 := Scalar.shli v5038 c3_i32_1236
  let v5040 : BitVec 32 := v5039
  let v5427 : Index := Scalar.indexCast v5040
  let c0_1320 : Index := 0#32
  ![v5426.toNat, v5427.toNat, 0]
def k0_off488 (k0_t1 : Fin k0_t1_loop.trips) : Fin 3 → Nat :=
  let c13_1322 : Index := 13#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c3_i32_1141 : BitVec 32 := 3#32
  let v4854 : BitVec 32 := Scalar.addi v5 c3_i32_1141
  let v5446 : Index := Scalar.indexCast v4854
  let c0_1323 : Index := 0#32
  ![13, v5446.toNat, 0]
def k0_off489 (v4862 : BitVec 32) (v4867 : BitVec 32) (v4911 : BitVec 32) (v4956 : BitVec 32) : Fin 3 → Nat :=
  let c199_i32_1150 : BitVec 32 := 199#32
  let c0_i32_1149 : BitVec 32 := 0#32
  let v4868 : BitVec 32 := Scalar.maxsi c0_i32_1149 v4867
  let v4869 : BitVec 32 := Scalar.minsi c199_i32_1150 v4868
  let v4912 : BitVec 32 := Scalar.addi v4869 v4911
  let v5452 : Index := Scalar.indexCast v4912
  let c199_i32_1147 : BitVec 32 := 199#32
  let c0_i32_1146 : BitVec 32 := 0#32
  let v4863 : BitVec 32 := Scalar.maxsi c0_i32_1146 v4862
  let v4864 : BitVec 32 := Scalar.minsi c199_i32_1147 v4863
  let v4957 : BitVec 32 := Scalar.addi v4864 v4956
  let c3_i32_1193 : BitVec 32 := 3#32
  let v4960 : BitVec 32 := Scalar.shrsi v4957 c3_i32_1193
  let c3_i32_1194 : BitVec 32 := 3#32
  let v4961 : BitVec 32 := Scalar.shli v4960 c3_i32_1194
  let v4962 : BitVec 32 := v4961
  let v5453 : Index := Scalar.indexCast v4962
  let c0_1326 : Index := 0#32
  ![v5452.toNat, v5453.toNat, 0]
def k0_off490 (v4862 : BitVec 32) (v4867 : BitVec 32) (v4877 : BitVec 32) (v4911 : BitVec 32) (v4956 : BitVec 32) : Fin 3 → Nat :=
  let c199_i32_1150 : BitVec 32 := 199#32
  let c0_i32_1149 : BitVec 32 := 0#32
  let v4868 : BitVec 32 := Scalar.maxsi c0_i32_1149 v4867
  let v4869 : BitVec 32 := Scalar.minsi c199_i32_1150 v4868
  let v4912 : BitVec 32 := Scalar.addi v4869 v4911
  let c1_i32_1172 : BitVec 32 := 1#32
  let v4913 : BitVec 32 := Scalar.addi v4912 c1_i32_1172
  let c199_i32_1156 : BitVec 32 := 199#32
  let c0_i32_1155 : BitVec 32 := 0#32
  let v4878 : BitVec 32 := Scalar.maxsi c0_i32_1155 v4877
  let v4879 : BitVec 32 := Scalar.minsi c199_i32_1156 v4878
  let v4914 : BitVec 32 := Scalar.minsi v4913 v4879
  let v5456 : Index := Scalar.indexCast v4914
  let c199_i32_1147 : BitVec 32 := 199#32
  let c0_i32_1146 : BitVec 32 := 0#32
  let v4863 : BitVec 32 := Scalar.maxsi c0_i32_1146 v4862
  let v4864 : BitVec 32 := Scalar.minsi c199_i32_1147 v4863
  let v4957 : BitVec 32 := Scalar.addi v4864 v4956
  let c3_i32_1193 : BitVec 32 := 3#32
  let v4960 : BitVec 32 := Scalar.shrsi v4957 c3_i32_1193
  let c3_i32_1194 : BitVec 32 := 3#32
  let v4961 : BitVec 32 := Scalar.shli v4960 c3_i32_1194
  let v4962 : BitVec 32 := v4961
  let v5457 : Index := Scalar.indexCast v4962
  let c0_1327 : Index := 0#32
  ![v5456.toNat, v5457.toNat, 0]
def k0_off491 (k0_t1 : Fin k0_t1_loop.trips) : Fin 3 → Nat :=
  let c14_1329 : Index := 14#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c3_i32_1141 : BitVec 32 := 3#32
  let v4854 : BitVec 32 := Scalar.addi v5 c3_i32_1141
  let v5476 : Index := Scalar.indexCast v4854
  let c0_1330 : Index := 0#32
  ![14, v5476.toNat, 0]
def k0_off492 (v4862 : BitVec 32) (v4867 : BitVec 32) (v4911 : BitVec 32) (v4969 : BitVec 32) : Fin 3 → Nat :=
  let c199_i32_1150 : BitVec 32 := 199#32
  let c0_i32_1149 : BitVec 32 := 0#32
  let v4868 : BitVec 32 := Scalar.maxsi c0_i32_1149 v4867
  let v4869 : BitVec 32 := Scalar.minsi c199_i32_1150 v4868
  let v4912 : BitVec 32 := Scalar.addi v4869 v4911
  let v5481 : Index := Scalar.indexCast v4912
  let c199_i32_1147 : BitVec 32 := 199#32
  let c0_i32_1146 : BitVec 32 := 0#32
  let v4863 : BitVec 32 := Scalar.maxsi c0_i32_1146 v4862
  let v4864 : BitVec 32 := Scalar.minsi c199_i32_1147 v4863
  let v4970 : BitVec 32 := Scalar.addi v4864 v4969
  let c3_i32_1200 : BitVec 32 := 3#32
  let v4973 : BitVec 32 := Scalar.shrsi v4970 c3_i32_1200
  let c3_i32_1201 : BitVec 32 := 3#32
  let v4974 : BitVec 32 := Scalar.shli v4973 c3_i32_1201
  let v4975 : BitVec 32 := v4974
  let v5482 : Index := Scalar.indexCast v4975
  let c0_1332 : Index := 0#32
  ![v5481.toNat, v5482.toNat, 0]
def k0_off493 (v4862 : BitVec 32) (v4867 : BitVec 32) (v4877 : BitVec 32) (v4911 : BitVec 32) (v4969 : BitVec 32) : Fin 3 → Nat :=
  let c199_i32_1150 : BitVec 32 := 199#32
  let c0_i32_1149 : BitVec 32 := 0#32
  let v4868 : BitVec 32 := Scalar.maxsi c0_i32_1149 v4867
  let v4869 : BitVec 32 := Scalar.minsi c199_i32_1150 v4868
  let v4912 : BitVec 32 := Scalar.addi v4869 v4911
  let c1_i32_1172 : BitVec 32 := 1#32
  let v4913 : BitVec 32 := Scalar.addi v4912 c1_i32_1172
  let c199_i32_1156 : BitVec 32 := 199#32
  let c0_i32_1155 : BitVec 32 := 0#32
  let v4878 : BitVec 32 := Scalar.maxsi c0_i32_1155 v4877
  let v4879 : BitVec 32 := Scalar.minsi c199_i32_1156 v4878
  let v4914 : BitVec 32 := Scalar.minsi v4913 v4879
  let v5485 : Index := Scalar.indexCast v4914
  let c199_i32_1147 : BitVec 32 := 199#32
  let c0_i32_1146 : BitVec 32 := 0#32
  let v4863 : BitVec 32 := Scalar.maxsi c0_i32_1146 v4862
  let v4864 : BitVec 32 := Scalar.minsi c199_i32_1147 v4863
  let v4970 : BitVec 32 := Scalar.addi v4864 v4969
  let c3_i32_1200 : BitVec 32 := 3#32
  let v4973 : BitVec 32 := Scalar.shrsi v4970 c3_i32_1200
  let c3_i32_1201 : BitVec 32 := 3#32
  let v4974 : BitVec 32 := Scalar.shli v4973 c3_i32_1201
  let v4975 : BitVec 32 := v4974
  let v5486 : Index := Scalar.indexCast v4975
  let c0_1333 : Index := 0#32
  ![v5485.toNat, v5486.toNat, 0]
def k0_off494 (k0_t1 : Fin k0_t1_loop.trips) : Fin 3 → Nat :=
  let c15_1335 : Index := 15#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c3_i32_1141 : BitVec 32 := 3#32
  let v4854 : BitVec 32 := Scalar.addi v5 c3_i32_1141
  let v5505 : Index := Scalar.indexCast v4854
  let c0_1336 : Index := 0#32
  ![15, v5505.toNat, 0]
def k0_off495 (v4862 : BitVec 32) (v4867 : BitVec 32) (v4911 : BitVec 32) (v4982 : BitVec 32) : Fin 3 → Nat :=
  let c199_i32_1150 : BitVec 32 := 199#32
  let c0_i32_1149 : BitVec 32 := 0#32
  let v4868 : BitVec 32 := Scalar.maxsi c0_i32_1149 v4867
  let v4869 : BitVec 32 := Scalar.minsi c199_i32_1150 v4868
  let v4912 : BitVec 32 := Scalar.addi v4869 v4911
  let v5510 : Index := Scalar.indexCast v4912
  let c199_i32_1147 : BitVec 32 := 199#32
  let c0_i32_1146 : BitVec 32 := 0#32
  let v4863 : BitVec 32 := Scalar.maxsi c0_i32_1146 v4862
  let v4864 : BitVec 32 := Scalar.minsi c199_i32_1147 v4863
  let v4983 : BitVec 32 := Scalar.addi v4864 v4982
  let c3_i32_1207 : BitVec 32 := 3#32
  let v4986 : BitVec 32 := Scalar.shrsi v4983 c3_i32_1207
  let c3_i32_1208 : BitVec 32 := 3#32
  let v4987 : BitVec 32 := Scalar.shli v4986 c3_i32_1208
  let v4988 : BitVec 32 := v4987
  let v5511 : Index := Scalar.indexCast v4988
  let c0_1338 : Index := 0#32
  ![v5510.toNat, v5511.toNat, 0]
def k0_off496 (v4862 : BitVec 32) (v4867 : BitVec 32) (v4877 : BitVec 32) (v4911 : BitVec 32) (v4982 : BitVec 32) : Fin 3 → Nat :=
  let c199_i32_1150 : BitVec 32 := 199#32
  let c0_i32_1149 : BitVec 32 := 0#32
  let v4868 : BitVec 32 := Scalar.maxsi c0_i32_1149 v4867
  let v4869 : BitVec 32 := Scalar.minsi c199_i32_1150 v4868
  let v4912 : BitVec 32 := Scalar.addi v4869 v4911
  let c1_i32_1172 : BitVec 32 := 1#32
  let v4913 : BitVec 32 := Scalar.addi v4912 c1_i32_1172
  let c199_i32_1156 : BitVec 32 := 199#32
  let c0_i32_1155 : BitVec 32 := 0#32
  let v4878 : BitVec 32 := Scalar.maxsi c0_i32_1155 v4877
  let v4879 : BitVec 32 := Scalar.minsi c199_i32_1156 v4878
  let v4914 : BitVec 32 := Scalar.minsi v4913 v4879
  let v5514 : Index := Scalar.indexCast v4914
  let c199_i32_1147 : BitVec 32 := 199#32
  let c0_i32_1146 : BitVec 32 := 0#32
  let v4863 : BitVec 32 := Scalar.maxsi c0_i32_1146 v4862
  let v4864 : BitVec 32 := Scalar.minsi c199_i32_1147 v4863
  let v4983 : BitVec 32 := Scalar.addi v4864 v4982
  let c3_i32_1207 : BitVec 32 := 3#32
  let v4986 : BitVec 32 := Scalar.shrsi v4983 c3_i32_1207
  let c3_i32_1208 : BitVec 32 := 3#32
  let v4987 : BitVec 32 := Scalar.shli v4986 c3_i32_1208
  let v4988 : BitVec 32 := v4987
  let v5515 : Index := Scalar.indexCast v4988
  let c0_1339 : Index := 0#32
  ![v5514.toNat, v5515.toNat, 0]
def k0_off497 (k0_t1 : Fin k0_t1_loop.trips) : Fin 3 → Nat :=
  let c16_1341 : Index := 16#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c3_i32_1141 : BitVec 32 := 3#32
  let v4854 : BitVec 32 := Scalar.addi v5 c3_i32_1141
  let v5534 : Index := Scalar.indexCast v4854
  let c0_1342 : Index := 0#32
  ![16, v5534.toNat, 0]
def k0_off498 (v4862 : BitVec 32) (v4867 : BitVec 32) (v4911 : BitVec 32) (v4995 : BitVec 32) : Fin 3 → Nat :=
  let c199_i32_1150 : BitVec 32 := 199#32
  let c0_i32_1149 : BitVec 32 := 0#32
  let v4868 : BitVec 32 := Scalar.maxsi c0_i32_1149 v4867
  let v4869 : BitVec 32 := Scalar.minsi c199_i32_1150 v4868
  let v4912 : BitVec 32 := Scalar.addi v4869 v4911
  let v5539 : Index := Scalar.indexCast v4912
  let c199_i32_1147 : BitVec 32 := 199#32
  let c0_i32_1146 : BitVec 32 := 0#32
  let v4863 : BitVec 32 := Scalar.maxsi c0_i32_1146 v4862
  let v4864 : BitVec 32 := Scalar.minsi c199_i32_1147 v4863
  let v4996 : BitVec 32 := Scalar.addi v4864 v4995
  let c3_i32_1214 : BitVec 32 := 3#32
  let v4999 : BitVec 32 := Scalar.shrsi v4996 c3_i32_1214
  let c3_i32_1215 : BitVec 32 := 3#32
  let v5000 : BitVec 32 := Scalar.shli v4999 c3_i32_1215
  let v5001 : BitVec 32 := v5000
  let v5540 : Index := Scalar.indexCast v5001
  let c0_1344 : Index := 0#32
  ![v5539.toNat, v5540.toNat, 0]
def k0_off499 (v4862 : BitVec 32) (v4867 : BitVec 32) (v4877 : BitVec 32) (v4911 : BitVec 32) (v4995 : BitVec 32) : Fin 3 → Nat :=
  let c199_i32_1150 : BitVec 32 := 199#32
  let c0_i32_1149 : BitVec 32 := 0#32
  let v4868 : BitVec 32 := Scalar.maxsi c0_i32_1149 v4867
  let v4869 : BitVec 32 := Scalar.minsi c199_i32_1150 v4868
  let v4912 : BitVec 32 := Scalar.addi v4869 v4911
  let c1_i32_1172 : BitVec 32 := 1#32
  let v4913 : BitVec 32 := Scalar.addi v4912 c1_i32_1172
  let c199_i32_1156 : BitVec 32 := 199#32
  let c0_i32_1155 : BitVec 32 := 0#32
  let v4878 : BitVec 32 := Scalar.maxsi c0_i32_1155 v4877
  let v4879 : BitVec 32 := Scalar.minsi c199_i32_1156 v4878
  let v4914 : BitVec 32 := Scalar.minsi v4913 v4879
  let v5543 : Index := Scalar.indexCast v4914
  let c199_i32_1147 : BitVec 32 := 199#32
  let c0_i32_1146 : BitVec 32 := 0#32
  let v4863 : BitVec 32 := Scalar.maxsi c0_i32_1146 v4862
  let v4864 : BitVec 32 := Scalar.minsi c199_i32_1147 v4863
  let v4996 : BitVec 32 := Scalar.addi v4864 v4995
  let c3_i32_1214 : BitVec 32 := 3#32
  let v4999 : BitVec 32 := Scalar.shrsi v4996 c3_i32_1214
  let c3_i32_1215 : BitVec 32 := 3#32
  let v5000 : BitVec 32 := Scalar.shli v4999 c3_i32_1215
  let v5001 : BitVec 32 := v5000
  let v5544 : Index := Scalar.indexCast v5001
  let c0_1345 : Index := 0#32
  ![v5543.toNat, v5544.toNat, 0]
def k0_off500 (k0_t1 : Fin k0_t1_loop.trips) : Fin 3 → Nat :=
  let c17_1347 : Index := 17#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c3_i32_1141 : BitVec 32 := 3#32
  let v4854 : BitVec 32 := Scalar.addi v5 c3_i32_1141
  let v5563 : Index := Scalar.indexCast v4854
  let c0_1348 : Index := 0#32
  ![17, v5563.toNat, 0]
def k0_off501 (v4862 : BitVec 32) (v4867 : BitVec 32) (v4911 : BitVec 32) (v5008 : BitVec 32) : Fin 3 → Nat :=
  let c199_i32_1150 : BitVec 32 := 199#32
  let c0_i32_1149 : BitVec 32 := 0#32
  let v4868 : BitVec 32 := Scalar.maxsi c0_i32_1149 v4867
  let v4869 : BitVec 32 := Scalar.minsi c199_i32_1150 v4868
  let v4912 : BitVec 32 := Scalar.addi v4869 v4911
  let v5568 : Index := Scalar.indexCast v4912
  let c199_i32_1147 : BitVec 32 := 199#32
  let c0_i32_1146 : BitVec 32 := 0#32
  let v4863 : BitVec 32 := Scalar.maxsi c0_i32_1146 v4862
  let v4864 : BitVec 32 := Scalar.minsi c199_i32_1147 v4863
  let v5009 : BitVec 32 := Scalar.addi v4864 v5008
  let c3_i32_1221 : BitVec 32 := 3#32
  let v5012 : BitVec 32 := Scalar.shrsi v5009 c3_i32_1221
  let c3_i32_1222 : BitVec 32 := 3#32
  let v5013 : BitVec 32 := Scalar.shli v5012 c3_i32_1222
  let v5014 : BitVec 32 := v5013
  let v5569 : Index := Scalar.indexCast v5014
  let c0_1350 : Index := 0#32
  ![v5568.toNat, v5569.toNat, 0]
def k0_off502 (v4862 : BitVec 32) (v4867 : BitVec 32) (v4877 : BitVec 32) (v4911 : BitVec 32) (v5008 : BitVec 32) : Fin 3 → Nat :=
  let c199_i32_1150 : BitVec 32 := 199#32
  let c0_i32_1149 : BitVec 32 := 0#32
  let v4868 : BitVec 32 := Scalar.maxsi c0_i32_1149 v4867
  let v4869 : BitVec 32 := Scalar.minsi c199_i32_1150 v4868
  let v4912 : BitVec 32 := Scalar.addi v4869 v4911
  let c1_i32_1172 : BitVec 32 := 1#32
  let v4913 : BitVec 32 := Scalar.addi v4912 c1_i32_1172
  let c199_i32_1156 : BitVec 32 := 199#32
  let c0_i32_1155 : BitVec 32 := 0#32
  let v4878 : BitVec 32 := Scalar.maxsi c0_i32_1155 v4877
  let v4879 : BitVec 32 := Scalar.minsi c199_i32_1156 v4878
  let v4914 : BitVec 32 := Scalar.minsi v4913 v4879
  let v5572 : Index := Scalar.indexCast v4914
  let c199_i32_1147 : BitVec 32 := 199#32
  let c0_i32_1146 : BitVec 32 := 0#32
  let v4863 : BitVec 32 := Scalar.maxsi c0_i32_1146 v4862
  let v4864 : BitVec 32 := Scalar.minsi c199_i32_1147 v4863
  let v5009 : BitVec 32 := Scalar.addi v4864 v5008
  let c3_i32_1221 : BitVec 32 := 3#32
  let v5012 : BitVec 32 := Scalar.shrsi v5009 c3_i32_1221
  let c3_i32_1222 : BitVec 32 := 3#32
  let v5013 : BitVec 32 := Scalar.shli v5012 c3_i32_1222
  let v5014 : BitVec 32 := v5013
  let v5573 : Index := Scalar.indexCast v5014
  let c0_1351 : Index := 0#32
  ![v5572.toNat, v5573.toNat, 0]
def k0_off503 (k0_t1 : Fin k0_t1_loop.trips) : Fin 3 → Nat :=
  let c18_1353 : Index := 18#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c3_i32_1141 : BitVec 32 := 3#32
  let v4854 : BitVec 32 := Scalar.addi v5 c3_i32_1141
  let v5592 : Index := Scalar.indexCast v4854
  let c0_1354 : Index := 0#32
  ![18, v5592.toNat, 0]
def k0_off504 (v4862 : BitVec 32) (v4867 : BitVec 32) (v4911 : BitVec 32) (v5021 : BitVec 32) : Fin 3 → Nat :=
  let c199_i32_1150 : BitVec 32 := 199#32
  let c0_i32_1149 : BitVec 32 := 0#32
  let v4868 : BitVec 32 := Scalar.maxsi c0_i32_1149 v4867
  let v4869 : BitVec 32 := Scalar.minsi c199_i32_1150 v4868
  let v4912 : BitVec 32 := Scalar.addi v4869 v4911
  let v5597 : Index := Scalar.indexCast v4912
  let c199_i32_1147 : BitVec 32 := 199#32
  let c0_i32_1146 : BitVec 32 := 0#32
  let v4863 : BitVec 32 := Scalar.maxsi c0_i32_1146 v4862
  let v4864 : BitVec 32 := Scalar.minsi c199_i32_1147 v4863
  let v5022 : BitVec 32 := Scalar.addi v4864 v5021
  let c3_i32_1228 : BitVec 32 := 3#32
  let v5025 : BitVec 32 := Scalar.shrsi v5022 c3_i32_1228
  let c3_i32_1229 : BitVec 32 := 3#32
  let v5026 : BitVec 32 := Scalar.shli v5025 c3_i32_1229
  let v5027 : BitVec 32 := v5026
  let v5598 : Index := Scalar.indexCast v5027
  let c0_1356 : Index := 0#32
  ![v5597.toNat, v5598.toNat, 0]
def k0_off505 (v4862 : BitVec 32) (v4867 : BitVec 32) (v4877 : BitVec 32) (v4911 : BitVec 32) (v5021 : BitVec 32) : Fin 3 → Nat :=
  let c199_i32_1150 : BitVec 32 := 199#32
  let c0_i32_1149 : BitVec 32 := 0#32
  let v4868 : BitVec 32 := Scalar.maxsi c0_i32_1149 v4867
  let v4869 : BitVec 32 := Scalar.minsi c199_i32_1150 v4868
  let v4912 : BitVec 32 := Scalar.addi v4869 v4911
  let c1_i32_1172 : BitVec 32 := 1#32
  let v4913 : BitVec 32 := Scalar.addi v4912 c1_i32_1172
  let c199_i32_1156 : BitVec 32 := 199#32
  let c0_i32_1155 : BitVec 32 := 0#32
  let v4878 : BitVec 32 := Scalar.maxsi c0_i32_1155 v4877
  let v4879 : BitVec 32 := Scalar.minsi c199_i32_1156 v4878
  let v4914 : BitVec 32 := Scalar.minsi v4913 v4879
  let v5601 : Index := Scalar.indexCast v4914
  let c199_i32_1147 : BitVec 32 := 199#32
  let c0_i32_1146 : BitVec 32 := 0#32
  let v4863 : BitVec 32 := Scalar.maxsi c0_i32_1146 v4862
  let v4864 : BitVec 32 := Scalar.minsi c199_i32_1147 v4863
  let v5022 : BitVec 32 := Scalar.addi v4864 v5021
  let c3_i32_1228 : BitVec 32 := 3#32
  let v5025 : BitVec 32 := Scalar.shrsi v5022 c3_i32_1228
  let c3_i32_1229 : BitVec 32 := 3#32
  let v5026 : BitVec 32 := Scalar.shli v5025 c3_i32_1229
  let v5027 : BitVec 32 := v5026
  let v5602 : Index := Scalar.indexCast v5027
  let c0_1357 : Index := 0#32
  ![v5601.toNat, v5602.toNat, 0]
def k0_off506 (k0_t1 : Fin k0_t1_loop.trips) : Fin 3 → Nat :=
  let c19_1359 : Index := 19#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c3_i32_1141 : BitVec 32 := 3#32
  let v4854 : BitVec 32 := Scalar.addi v5 c3_i32_1141
  let v5621 : Index := Scalar.indexCast v4854
  let c0_1360 : Index := 0#32
  ![19, v5621.toNat, 0]
def k0_off507 (v4862 : BitVec 32) (v4867 : BitVec 32) (v4911 : BitVec 32) (v5034 : BitVec 32) : Fin 3 → Nat :=
  let c199_i32_1150 : BitVec 32 := 199#32
  let c0_i32_1149 : BitVec 32 := 0#32
  let v4868 : BitVec 32 := Scalar.maxsi c0_i32_1149 v4867
  let v4869 : BitVec 32 := Scalar.minsi c199_i32_1150 v4868
  let v4912 : BitVec 32 := Scalar.addi v4869 v4911
  let v5626 : Index := Scalar.indexCast v4912
  let c199_i32_1147 : BitVec 32 := 199#32
  let c0_i32_1146 : BitVec 32 := 0#32
  let v4863 : BitVec 32 := Scalar.maxsi c0_i32_1146 v4862
  let v4864 : BitVec 32 := Scalar.minsi c199_i32_1147 v4863
  let v5035 : BitVec 32 := Scalar.addi v4864 v5034
  let c3_i32_1235 : BitVec 32 := 3#32
  let v5038 : BitVec 32 := Scalar.shrsi v5035 c3_i32_1235
  let c3_i32_1236 : BitVec 32 := 3#32
  let v5039 : BitVec 32 := Scalar.shli v5038 c3_i32_1236
  let v5040 : BitVec 32 := v5039
  let v5627 : Index := Scalar.indexCast v5040
  let c0_1362 : Index := 0#32
  ![v5626.toNat, v5627.toNat, 0]
def k0_off508 (v4862 : BitVec 32) (v4867 : BitVec 32) (v4877 : BitVec 32) (v4911 : BitVec 32) (v5034 : BitVec 32) : Fin 3 → Nat :=
  let c199_i32_1150 : BitVec 32 := 199#32
  let c0_i32_1149 : BitVec 32 := 0#32
  let v4868 : BitVec 32 := Scalar.maxsi c0_i32_1149 v4867
  let v4869 : BitVec 32 := Scalar.minsi c199_i32_1150 v4868
  let v4912 : BitVec 32 := Scalar.addi v4869 v4911
  let c1_i32_1172 : BitVec 32 := 1#32
  let v4913 : BitVec 32 := Scalar.addi v4912 c1_i32_1172
  let c199_i32_1156 : BitVec 32 := 199#32
  let c0_i32_1155 : BitVec 32 := 0#32
  let v4878 : BitVec 32 := Scalar.maxsi c0_i32_1155 v4877
  let v4879 : BitVec 32 := Scalar.minsi c199_i32_1156 v4878
  let v4914 : BitVec 32 := Scalar.minsi v4913 v4879
  let v5630 : Index := Scalar.indexCast v4914
  let c199_i32_1147 : BitVec 32 := 199#32
  let c0_i32_1146 : BitVec 32 := 0#32
  let v4863 : BitVec 32 := Scalar.maxsi c0_i32_1146 v4862
  let v4864 : BitVec 32 := Scalar.minsi c199_i32_1147 v4863
  let v5035 : BitVec 32 := Scalar.addi v4864 v5034
  let c3_i32_1235 : BitVec 32 := 3#32
  let v5038 : BitVec 32 := Scalar.shrsi v5035 c3_i32_1235
  let c3_i32_1236 : BitVec 32 := 3#32
  let v5039 : BitVec 32 := Scalar.shli v5038 c3_i32_1236
  let v5040 : BitVec 32 := v5039
  let v5631 : Index := Scalar.indexCast v5040
  let c0_1363 : Index := 0#32
  ![v5630.toNat, v5631.toNat, 0]
def k0_off509 (k0_t1 : Fin k0_t1_loop.trips) : Fin 3 → Nat :=
  let c20_1365 : Index := 20#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c3_i32_1141 : BitVec 32 := 3#32
  let v4854 : BitVec 32 := Scalar.addi v5 c3_i32_1141
  let v5650 : Index := Scalar.indexCast v4854
  let c0_1366 : Index := 0#32
  ![20, v5650.toNat, 0]
def k0_off510 (v4862 : BitVec 32) (v4867 : BitVec 32) (v4920 : BitVec 32) (v4956 : BitVec 32) : Fin 3 → Nat :=
  let c199_i32_1150 : BitVec 32 := 199#32
  let c0_i32_1149 : BitVec 32 := 0#32
  let v4868 : BitVec 32 := Scalar.maxsi c0_i32_1149 v4867
  let v4869 : BitVec 32 := Scalar.minsi c199_i32_1150 v4868
  let v4921 : BitVec 32 := Scalar.addi v4869 v4920
  let v5656 : Index := Scalar.indexCast v4921
  let c199_i32_1147 : BitVec 32 := 199#32
  let c0_i32_1146 : BitVec 32 := 0#32
  let v4863 : BitVec 32 := Scalar.maxsi c0_i32_1146 v4862
  let v4864 : BitVec 32 := Scalar.minsi c199_i32_1147 v4863
  let v4957 : BitVec 32 := Scalar.addi v4864 v4956
  let c3_i32_1193 : BitVec 32 := 3#32
  let v4960 : BitVec 32 := Scalar.shrsi v4957 c3_i32_1193
  let c3_i32_1194 : BitVec 32 := 3#32
  let v4961 : BitVec 32 := Scalar.shli v4960 c3_i32_1194
  let v4962 : BitVec 32 := v4961
  let v5657 : Index := Scalar.indexCast v4962
  let c0_1369 : Index := 0#32
  ![v5656.toNat, v5657.toNat, 0]
def k0_off511 (v4862 : BitVec 32) (v4867 : BitVec 32) (v4877 : BitVec 32) (v4920 : BitVec 32) (v4956 : BitVec 32) : Fin 3 → Nat :=
  let c199_i32_1150 : BitVec 32 := 199#32
  let c0_i32_1149 : BitVec 32 := 0#32
  let v4868 : BitVec 32 := Scalar.maxsi c0_i32_1149 v4867
  let v4869 : BitVec 32 := Scalar.minsi c199_i32_1150 v4868
  let v4921 : BitVec 32 := Scalar.addi v4869 v4920
  let c1_i32_1176 : BitVec 32 := 1#32
  let v4922 : BitVec 32 := Scalar.addi v4921 c1_i32_1176
  let c199_i32_1156 : BitVec 32 := 199#32
  let c0_i32_1155 : BitVec 32 := 0#32
  let v4878 : BitVec 32 := Scalar.maxsi c0_i32_1155 v4877
  let v4879 : BitVec 32 := Scalar.minsi c199_i32_1156 v4878
  let v4923 : BitVec 32 := Scalar.minsi v4922 v4879
  let v5660 : Index := Scalar.indexCast v4923
  let c199_i32_1147 : BitVec 32 := 199#32
  let c0_i32_1146 : BitVec 32 := 0#32
  let v4863 : BitVec 32 := Scalar.maxsi c0_i32_1146 v4862
  let v4864 : BitVec 32 := Scalar.minsi c199_i32_1147 v4863
  let v4957 : BitVec 32 := Scalar.addi v4864 v4956
  let c3_i32_1193 : BitVec 32 := 3#32
  let v4960 : BitVec 32 := Scalar.shrsi v4957 c3_i32_1193
  let c3_i32_1194 : BitVec 32 := 3#32
  let v4961 : BitVec 32 := Scalar.shli v4960 c3_i32_1194
  let v4962 : BitVec 32 := v4961
  let v5661 : Index := Scalar.indexCast v4962
  let c0_1370 : Index := 0#32
  ![v5660.toNat, v5661.toNat, 0]
def k0_off512 (k0_t1 : Fin k0_t1_loop.trips) : Fin 3 → Nat :=
  let c21_1372 : Index := 21#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c3_i32_1141 : BitVec 32 := 3#32
  let v4854 : BitVec 32 := Scalar.addi v5 c3_i32_1141
  let v5680 : Index := Scalar.indexCast v4854
  let c0_1373 : Index := 0#32
  ![21, v5680.toNat, 0]
def k0_off513 (v4862 : BitVec 32) (v4867 : BitVec 32) (v4920 : BitVec 32) (v4969 : BitVec 32) : Fin 3 → Nat :=
  let c199_i32_1150 : BitVec 32 := 199#32
  let c0_i32_1149 : BitVec 32 := 0#32
  let v4868 : BitVec 32 := Scalar.maxsi c0_i32_1149 v4867
  let v4869 : BitVec 32 := Scalar.minsi c199_i32_1150 v4868
  let v4921 : BitVec 32 := Scalar.addi v4869 v4920
  let v5685 : Index := Scalar.indexCast v4921
  let c199_i32_1147 : BitVec 32 := 199#32
  let c0_i32_1146 : BitVec 32 := 0#32
  let v4863 : BitVec 32 := Scalar.maxsi c0_i32_1146 v4862
  let v4864 : BitVec 32 := Scalar.minsi c199_i32_1147 v4863
  let v4970 : BitVec 32 := Scalar.addi v4864 v4969
  let c3_i32_1200 : BitVec 32 := 3#32
  let v4973 : BitVec 32 := Scalar.shrsi v4970 c3_i32_1200
  let c3_i32_1201 : BitVec 32 := 3#32
  let v4974 : BitVec 32 := Scalar.shli v4973 c3_i32_1201
  let v4975 : BitVec 32 := v4974
  let v5686 : Index := Scalar.indexCast v4975
  let c0_1375 : Index := 0#32
  ![v5685.toNat, v5686.toNat, 0]
def k0_off514 (v4862 : BitVec 32) (v4867 : BitVec 32) (v4877 : BitVec 32) (v4920 : BitVec 32) (v4969 : BitVec 32) : Fin 3 → Nat :=
  let c199_i32_1150 : BitVec 32 := 199#32
  let c0_i32_1149 : BitVec 32 := 0#32
  let v4868 : BitVec 32 := Scalar.maxsi c0_i32_1149 v4867
  let v4869 : BitVec 32 := Scalar.minsi c199_i32_1150 v4868
  let v4921 : BitVec 32 := Scalar.addi v4869 v4920
  let c1_i32_1176 : BitVec 32 := 1#32
  let v4922 : BitVec 32 := Scalar.addi v4921 c1_i32_1176
  let c199_i32_1156 : BitVec 32 := 199#32
  let c0_i32_1155 : BitVec 32 := 0#32
  let v4878 : BitVec 32 := Scalar.maxsi c0_i32_1155 v4877
  let v4879 : BitVec 32 := Scalar.minsi c199_i32_1156 v4878
  let v4923 : BitVec 32 := Scalar.minsi v4922 v4879
  let v5689 : Index := Scalar.indexCast v4923
  let c199_i32_1147 : BitVec 32 := 199#32
  let c0_i32_1146 : BitVec 32 := 0#32
  let v4863 : BitVec 32 := Scalar.maxsi c0_i32_1146 v4862
  let v4864 : BitVec 32 := Scalar.minsi c199_i32_1147 v4863
  let v4970 : BitVec 32 := Scalar.addi v4864 v4969
  let c3_i32_1200 : BitVec 32 := 3#32
  let v4973 : BitVec 32 := Scalar.shrsi v4970 c3_i32_1200
  let c3_i32_1201 : BitVec 32 := 3#32
  let v4974 : BitVec 32 := Scalar.shli v4973 c3_i32_1201
  let v4975 : BitVec 32 := v4974
  let v5690 : Index := Scalar.indexCast v4975
  let c0_1376 : Index := 0#32
  ![v5689.toNat, v5690.toNat, 0]
def k0_off515 (k0_t1 : Fin k0_t1_loop.trips) : Fin 3 → Nat :=
  let c22_1378 : Index := 22#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c3_i32_1141 : BitVec 32 := 3#32
  let v4854 : BitVec 32 := Scalar.addi v5 c3_i32_1141
  let v5709 : Index := Scalar.indexCast v4854
  let c0_1379 : Index := 0#32
  ![22, v5709.toNat, 0]
def k0_off516 (v4862 : BitVec 32) (v4867 : BitVec 32) (v4920 : BitVec 32) (v4982 : BitVec 32) : Fin 3 → Nat :=
  let c199_i32_1150 : BitVec 32 := 199#32
  let c0_i32_1149 : BitVec 32 := 0#32
  let v4868 : BitVec 32 := Scalar.maxsi c0_i32_1149 v4867
  let v4869 : BitVec 32 := Scalar.minsi c199_i32_1150 v4868
  let v4921 : BitVec 32 := Scalar.addi v4869 v4920
  let v5714 : Index := Scalar.indexCast v4921
  let c199_i32_1147 : BitVec 32 := 199#32
  let c0_i32_1146 : BitVec 32 := 0#32
  let v4863 : BitVec 32 := Scalar.maxsi c0_i32_1146 v4862
  let v4864 : BitVec 32 := Scalar.minsi c199_i32_1147 v4863
  let v4983 : BitVec 32 := Scalar.addi v4864 v4982
  let c3_i32_1207 : BitVec 32 := 3#32
  let v4986 : BitVec 32 := Scalar.shrsi v4983 c3_i32_1207
  let c3_i32_1208 : BitVec 32 := 3#32
  let v4987 : BitVec 32 := Scalar.shli v4986 c3_i32_1208
  let v4988 : BitVec 32 := v4987
  let v5715 : Index := Scalar.indexCast v4988
  let c0_1381 : Index := 0#32
  ![v5714.toNat, v5715.toNat, 0]
def k0_off517 (v4862 : BitVec 32) (v4867 : BitVec 32) (v4877 : BitVec 32) (v4920 : BitVec 32) (v4982 : BitVec 32) : Fin 3 → Nat :=
  let c199_i32_1150 : BitVec 32 := 199#32
  let c0_i32_1149 : BitVec 32 := 0#32
  let v4868 : BitVec 32 := Scalar.maxsi c0_i32_1149 v4867
  let v4869 : BitVec 32 := Scalar.minsi c199_i32_1150 v4868
  let v4921 : BitVec 32 := Scalar.addi v4869 v4920
  let c1_i32_1176 : BitVec 32 := 1#32
  let v4922 : BitVec 32 := Scalar.addi v4921 c1_i32_1176
  let c199_i32_1156 : BitVec 32 := 199#32
  let c0_i32_1155 : BitVec 32 := 0#32
  let v4878 : BitVec 32 := Scalar.maxsi c0_i32_1155 v4877
  let v4879 : BitVec 32 := Scalar.minsi c199_i32_1156 v4878
  let v4923 : BitVec 32 := Scalar.minsi v4922 v4879
  let v5718 : Index := Scalar.indexCast v4923
  let c199_i32_1147 : BitVec 32 := 199#32
  let c0_i32_1146 : BitVec 32 := 0#32
  let v4863 : BitVec 32 := Scalar.maxsi c0_i32_1146 v4862
  let v4864 : BitVec 32 := Scalar.minsi c199_i32_1147 v4863
  let v4983 : BitVec 32 := Scalar.addi v4864 v4982
  let c3_i32_1207 : BitVec 32 := 3#32
  let v4986 : BitVec 32 := Scalar.shrsi v4983 c3_i32_1207
  let c3_i32_1208 : BitVec 32 := 3#32
  let v4987 : BitVec 32 := Scalar.shli v4986 c3_i32_1208
  let v4988 : BitVec 32 := v4987
  let v5719 : Index := Scalar.indexCast v4988
  let c0_1382 : Index := 0#32
  ![v5718.toNat, v5719.toNat, 0]
def k0_off518 (k0_t1 : Fin k0_t1_loop.trips) : Fin 3 → Nat :=
  let c23_1384 : Index := 23#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c3_i32_1141 : BitVec 32 := 3#32
  let v4854 : BitVec 32 := Scalar.addi v5 c3_i32_1141
  let v5738 : Index := Scalar.indexCast v4854
  let c0_1385 : Index := 0#32
  ![23, v5738.toNat, 0]
def k0_off519 (v4862 : BitVec 32) (v4867 : BitVec 32) (v4920 : BitVec 32) (v4995 : BitVec 32) : Fin 3 → Nat :=
  let c199_i32_1150 : BitVec 32 := 199#32
  let c0_i32_1149 : BitVec 32 := 0#32
  let v4868 : BitVec 32 := Scalar.maxsi c0_i32_1149 v4867
  let v4869 : BitVec 32 := Scalar.minsi c199_i32_1150 v4868
  let v4921 : BitVec 32 := Scalar.addi v4869 v4920
  let v5743 : Index := Scalar.indexCast v4921
  let c199_i32_1147 : BitVec 32 := 199#32
  let c0_i32_1146 : BitVec 32 := 0#32
  let v4863 : BitVec 32 := Scalar.maxsi c0_i32_1146 v4862
  let v4864 : BitVec 32 := Scalar.minsi c199_i32_1147 v4863
  let v4996 : BitVec 32 := Scalar.addi v4864 v4995
  let c3_i32_1214 : BitVec 32 := 3#32
  let v4999 : BitVec 32 := Scalar.shrsi v4996 c3_i32_1214
  let c3_i32_1215 : BitVec 32 := 3#32
  let v5000 : BitVec 32 := Scalar.shli v4999 c3_i32_1215
  let v5001 : BitVec 32 := v5000
  let v5744 : Index := Scalar.indexCast v5001
  let c0_1387 : Index := 0#32
  ![v5743.toNat, v5744.toNat, 0]
def k0_off520 (v4862 : BitVec 32) (v4867 : BitVec 32) (v4877 : BitVec 32) (v4920 : BitVec 32) (v4995 : BitVec 32) : Fin 3 → Nat :=
  let c199_i32_1150 : BitVec 32 := 199#32
  let c0_i32_1149 : BitVec 32 := 0#32
  let v4868 : BitVec 32 := Scalar.maxsi c0_i32_1149 v4867
  let v4869 : BitVec 32 := Scalar.minsi c199_i32_1150 v4868
  let v4921 : BitVec 32 := Scalar.addi v4869 v4920
  let c1_i32_1176 : BitVec 32 := 1#32
  let v4922 : BitVec 32 := Scalar.addi v4921 c1_i32_1176
  let c199_i32_1156 : BitVec 32 := 199#32
  let c0_i32_1155 : BitVec 32 := 0#32
  let v4878 : BitVec 32 := Scalar.maxsi c0_i32_1155 v4877
  let v4879 : BitVec 32 := Scalar.minsi c199_i32_1156 v4878
  let v4923 : BitVec 32 := Scalar.minsi v4922 v4879
  let v5747 : Index := Scalar.indexCast v4923
  let c199_i32_1147 : BitVec 32 := 199#32
  let c0_i32_1146 : BitVec 32 := 0#32
  let v4863 : BitVec 32 := Scalar.maxsi c0_i32_1146 v4862
  let v4864 : BitVec 32 := Scalar.minsi c199_i32_1147 v4863
  let v4996 : BitVec 32 := Scalar.addi v4864 v4995
  let c3_i32_1214 : BitVec 32 := 3#32
  let v4999 : BitVec 32 := Scalar.shrsi v4996 c3_i32_1214
  let c3_i32_1215 : BitVec 32 := 3#32
  let v5000 : BitVec 32 := Scalar.shli v4999 c3_i32_1215
  let v5001 : BitVec 32 := v5000
  let v5748 : Index := Scalar.indexCast v5001
  let c0_1388 : Index := 0#32
  ![v5747.toNat, v5748.toNat, 0]
def k0_off521 (k0_t1 : Fin k0_t1_loop.trips) : Fin 3 → Nat :=
  let c24_1390 : Index := 24#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c3_i32_1141 : BitVec 32 := 3#32
  let v4854 : BitVec 32 := Scalar.addi v5 c3_i32_1141
  let v5767 : Index := Scalar.indexCast v4854
  let c0_1391 : Index := 0#32
  ![24, v5767.toNat, 0]
def k0_off522 (v4862 : BitVec 32) (v4867 : BitVec 32) (v4920 : BitVec 32) (v5008 : BitVec 32) : Fin 3 → Nat :=
  let c199_i32_1150 : BitVec 32 := 199#32
  let c0_i32_1149 : BitVec 32 := 0#32
  let v4868 : BitVec 32 := Scalar.maxsi c0_i32_1149 v4867
  let v4869 : BitVec 32 := Scalar.minsi c199_i32_1150 v4868
  let v4921 : BitVec 32 := Scalar.addi v4869 v4920
  let v5772 : Index := Scalar.indexCast v4921
  let c199_i32_1147 : BitVec 32 := 199#32
  let c0_i32_1146 : BitVec 32 := 0#32
  let v4863 : BitVec 32 := Scalar.maxsi c0_i32_1146 v4862
  let v4864 : BitVec 32 := Scalar.minsi c199_i32_1147 v4863
  let v5009 : BitVec 32 := Scalar.addi v4864 v5008
  let c3_i32_1221 : BitVec 32 := 3#32
  let v5012 : BitVec 32 := Scalar.shrsi v5009 c3_i32_1221
  let c3_i32_1222 : BitVec 32 := 3#32
  let v5013 : BitVec 32 := Scalar.shli v5012 c3_i32_1222
  let v5014 : BitVec 32 := v5013
  let v5773 : Index := Scalar.indexCast v5014
  let c0_1393 : Index := 0#32
  ![v5772.toNat, v5773.toNat, 0]
def k0_off523 (v4862 : BitVec 32) (v4867 : BitVec 32) (v4877 : BitVec 32) (v4920 : BitVec 32) (v5008 : BitVec 32) : Fin 3 → Nat :=
  let c199_i32_1150 : BitVec 32 := 199#32
  let c0_i32_1149 : BitVec 32 := 0#32
  let v4868 : BitVec 32 := Scalar.maxsi c0_i32_1149 v4867
  let v4869 : BitVec 32 := Scalar.minsi c199_i32_1150 v4868
  let v4921 : BitVec 32 := Scalar.addi v4869 v4920
  let c1_i32_1176 : BitVec 32 := 1#32
  let v4922 : BitVec 32 := Scalar.addi v4921 c1_i32_1176
  let c199_i32_1156 : BitVec 32 := 199#32
  let c0_i32_1155 : BitVec 32 := 0#32
  let v4878 : BitVec 32 := Scalar.maxsi c0_i32_1155 v4877
  let v4879 : BitVec 32 := Scalar.minsi c199_i32_1156 v4878
  let v4923 : BitVec 32 := Scalar.minsi v4922 v4879
  let v5776 : Index := Scalar.indexCast v4923
  let c199_i32_1147 : BitVec 32 := 199#32
  let c0_i32_1146 : BitVec 32 := 0#32
  let v4863 : BitVec 32 := Scalar.maxsi c0_i32_1146 v4862
  let v4864 : BitVec 32 := Scalar.minsi c199_i32_1147 v4863
  let v5009 : BitVec 32 := Scalar.addi v4864 v5008
  let c3_i32_1221 : BitVec 32 := 3#32
  let v5012 : BitVec 32 := Scalar.shrsi v5009 c3_i32_1221
  let c3_i32_1222 : BitVec 32 := 3#32
  let v5013 : BitVec 32 := Scalar.shli v5012 c3_i32_1222
  let v5014 : BitVec 32 := v5013
  let v5777 : Index := Scalar.indexCast v5014
  let c0_1394 : Index := 0#32
  ![v5776.toNat, v5777.toNat, 0]
def k0_off524 (k0_t1 : Fin k0_t1_loop.trips) : Fin 3 → Nat :=
  let c25_1396 : Index := 25#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c3_i32_1141 : BitVec 32 := 3#32
  let v4854 : BitVec 32 := Scalar.addi v5 c3_i32_1141
  let v5796 : Index := Scalar.indexCast v4854
  let c0_1397 : Index := 0#32
  ![25, v5796.toNat, 0]
def k0_off525 (v4862 : BitVec 32) (v4867 : BitVec 32) (v4920 : BitVec 32) (v5021 : BitVec 32) : Fin 3 → Nat :=
  let c199_i32_1150 : BitVec 32 := 199#32
  let c0_i32_1149 : BitVec 32 := 0#32
  let v4868 : BitVec 32 := Scalar.maxsi c0_i32_1149 v4867
  let v4869 : BitVec 32 := Scalar.minsi c199_i32_1150 v4868
  let v4921 : BitVec 32 := Scalar.addi v4869 v4920
  let v5801 : Index := Scalar.indexCast v4921
  let c199_i32_1147 : BitVec 32 := 199#32
  let c0_i32_1146 : BitVec 32 := 0#32
  let v4863 : BitVec 32 := Scalar.maxsi c0_i32_1146 v4862
  let v4864 : BitVec 32 := Scalar.minsi c199_i32_1147 v4863
  let v5022 : BitVec 32 := Scalar.addi v4864 v5021
  let c3_i32_1228 : BitVec 32 := 3#32
  let v5025 : BitVec 32 := Scalar.shrsi v5022 c3_i32_1228
  let c3_i32_1229 : BitVec 32 := 3#32
  let v5026 : BitVec 32 := Scalar.shli v5025 c3_i32_1229
  let v5027 : BitVec 32 := v5026
  let v5802 : Index := Scalar.indexCast v5027
  let c0_1399 : Index := 0#32
  ![v5801.toNat, v5802.toNat, 0]
def k0_off526 (v4862 : BitVec 32) (v4867 : BitVec 32) (v4877 : BitVec 32) (v4920 : BitVec 32) (v5021 : BitVec 32) : Fin 3 → Nat :=
  let c199_i32_1150 : BitVec 32 := 199#32
  let c0_i32_1149 : BitVec 32 := 0#32
  let v4868 : BitVec 32 := Scalar.maxsi c0_i32_1149 v4867
  let v4869 : BitVec 32 := Scalar.minsi c199_i32_1150 v4868
  let v4921 : BitVec 32 := Scalar.addi v4869 v4920
  let c1_i32_1176 : BitVec 32 := 1#32
  let v4922 : BitVec 32 := Scalar.addi v4921 c1_i32_1176
  let c199_i32_1156 : BitVec 32 := 199#32
  let c0_i32_1155 : BitVec 32 := 0#32
  let v4878 : BitVec 32 := Scalar.maxsi c0_i32_1155 v4877
  let v4879 : BitVec 32 := Scalar.minsi c199_i32_1156 v4878
  let v4923 : BitVec 32 := Scalar.minsi v4922 v4879
  let v5805 : Index := Scalar.indexCast v4923
  let c199_i32_1147 : BitVec 32 := 199#32
  let c0_i32_1146 : BitVec 32 := 0#32
  let v4863 : BitVec 32 := Scalar.maxsi c0_i32_1146 v4862
  let v4864 : BitVec 32 := Scalar.minsi c199_i32_1147 v4863
  let v5022 : BitVec 32 := Scalar.addi v4864 v5021
  let c3_i32_1228 : BitVec 32 := 3#32
  let v5025 : BitVec 32 := Scalar.shrsi v5022 c3_i32_1228
  let c3_i32_1229 : BitVec 32 := 3#32
  let v5026 : BitVec 32 := Scalar.shli v5025 c3_i32_1229
  let v5027 : BitVec 32 := v5026
  let v5806 : Index := Scalar.indexCast v5027
  let c0_1400 : Index := 0#32
  ![v5805.toNat, v5806.toNat, 0]
def k0_off527 (k0_t1 : Fin k0_t1_loop.trips) : Fin 3 → Nat :=
  let c26_1402 : Index := 26#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c3_i32_1141 : BitVec 32 := 3#32
  let v4854 : BitVec 32 := Scalar.addi v5 c3_i32_1141
  let v5825 : Index := Scalar.indexCast v4854
  let c0_1403 : Index := 0#32
  ![26, v5825.toNat, 0]
def k0_off528 (v4862 : BitVec 32) (v4867 : BitVec 32) (v4920 : BitVec 32) (v5034 : BitVec 32) : Fin 3 → Nat :=
  let c199_i32_1150 : BitVec 32 := 199#32
  let c0_i32_1149 : BitVec 32 := 0#32
  let v4868 : BitVec 32 := Scalar.maxsi c0_i32_1149 v4867
  let v4869 : BitVec 32 := Scalar.minsi c199_i32_1150 v4868
  let v4921 : BitVec 32 := Scalar.addi v4869 v4920
  let v5830 : Index := Scalar.indexCast v4921
  let c199_i32_1147 : BitVec 32 := 199#32
  let c0_i32_1146 : BitVec 32 := 0#32
  let v4863 : BitVec 32 := Scalar.maxsi c0_i32_1146 v4862
  let v4864 : BitVec 32 := Scalar.minsi c199_i32_1147 v4863
  let v5035 : BitVec 32 := Scalar.addi v4864 v5034
  let c3_i32_1235 : BitVec 32 := 3#32
  let v5038 : BitVec 32 := Scalar.shrsi v5035 c3_i32_1235
  let c3_i32_1236 : BitVec 32 := 3#32
  let v5039 : BitVec 32 := Scalar.shli v5038 c3_i32_1236
  let v5040 : BitVec 32 := v5039
  let v5831 : Index := Scalar.indexCast v5040
  let c0_1405 : Index := 0#32
  ![v5830.toNat, v5831.toNat, 0]
def k0_off529 (v4862 : BitVec 32) (v4867 : BitVec 32) (v4877 : BitVec 32) (v4920 : BitVec 32) (v5034 : BitVec 32) : Fin 3 → Nat :=
  let c199_i32_1150 : BitVec 32 := 199#32
  let c0_i32_1149 : BitVec 32 := 0#32
  let v4868 : BitVec 32 := Scalar.maxsi c0_i32_1149 v4867
  let v4869 : BitVec 32 := Scalar.minsi c199_i32_1150 v4868
  let v4921 : BitVec 32 := Scalar.addi v4869 v4920
  let c1_i32_1176 : BitVec 32 := 1#32
  let v4922 : BitVec 32 := Scalar.addi v4921 c1_i32_1176
  let c199_i32_1156 : BitVec 32 := 199#32
  let c0_i32_1155 : BitVec 32 := 0#32
  let v4878 : BitVec 32 := Scalar.maxsi c0_i32_1155 v4877
  let v4879 : BitVec 32 := Scalar.minsi c199_i32_1156 v4878
  let v4923 : BitVec 32 := Scalar.minsi v4922 v4879
  let v5834 : Index := Scalar.indexCast v4923
  let c199_i32_1147 : BitVec 32 := 199#32
  let c0_i32_1146 : BitVec 32 := 0#32
  let v4863 : BitVec 32 := Scalar.maxsi c0_i32_1146 v4862
  let v4864 : BitVec 32 := Scalar.minsi c199_i32_1147 v4863
  let v5035 : BitVec 32 := Scalar.addi v4864 v5034
  let c3_i32_1235 : BitVec 32 := 3#32
  let v5038 : BitVec 32 := Scalar.shrsi v5035 c3_i32_1235
  let c3_i32_1236 : BitVec 32 := 3#32
  let v5039 : BitVec 32 := Scalar.shli v5038 c3_i32_1236
  let v5040 : BitVec 32 := v5039
  let v5835 : Index := Scalar.indexCast v5040
  let c0_1406 : Index := 0#32
  ![v5834.toNat, v5835.toNat, 0]
def k0_off530 (k0_t1 : Fin k0_t1_loop.trips) : Fin 3 → Nat :=
  let c27_1408 : Index := 27#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c3_i32_1141 : BitVec 32 := 3#32
  let v4854 : BitVec 32 := Scalar.addi v5 c3_i32_1141
  let v5854 : Index := Scalar.indexCast v4854
  let c0_1409 : Index := 0#32
  ![27, v5854.toNat, 0]
def k0_off531 (v4862 : BitVec 32) (v4867 : BitVec 32) (v4929 : BitVec 32) (v4956 : BitVec 32) : Fin 3 → Nat :=
  let c199_i32_1150 : BitVec 32 := 199#32
  let c0_i32_1149 : BitVec 32 := 0#32
  let v4868 : BitVec 32 := Scalar.maxsi c0_i32_1149 v4867
  let v4869 : BitVec 32 := Scalar.minsi c199_i32_1150 v4868
  let v4930 : BitVec 32 := Scalar.addi v4869 v4929
  let v5860 : Index := Scalar.indexCast v4930
  let c199_i32_1147 : BitVec 32 := 199#32
  let c0_i32_1146 : BitVec 32 := 0#32
  let v4863 : BitVec 32 := Scalar.maxsi c0_i32_1146 v4862
  let v4864 : BitVec 32 := Scalar.minsi c199_i32_1147 v4863
  let v4957 : BitVec 32 := Scalar.addi v4864 v4956
  let c3_i32_1193 : BitVec 32 := 3#32
  let v4960 : BitVec 32 := Scalar.shrsi v4957 c3_i32_1193
  let c3_i32_1194 : BitVec 32 := 3#32
  let v4961 : BitVec 32 := Scalar.shli v4960 c3_i32_1194
  let v4962 : BitVec 32 := v4961
  let v5861 : Index := Scalar.indexCast v4962
  let c0_1412 : Index := 0#32
  ![v5860.toNat, v5861.toNat, 0]
def k0_off532 (v4862 : BitVec 32) (v4867 : BitVec 32) (v4877 : BitVec 32) (v4929 : BitVec 32) (v4956 : BitVec 32) : Fin 3 → Nat :=
  let c199_i32_1150 : BitVec 32 := 199#32
  let c0_i32_1149 : BitVec 32 := 0#32
  let v4868 : BitVec 32 := Scalar.maxsi c0_i32_1149 v4867
  let v4869 : BitVec 32 := Scalar.minsi c199_i32_1150 v4868
  let v4930 : BitVec 32 := Scalar.addi v4869 v4929
  let c1_i32_1180 : BitVec 32 := 1#32
  let v4931 : BitVec 32 := Scalar.addi v4930 c1_i32_1180
  let c199_i32_1156 : BitVec 32 := 199#32
  let c0_i32_1155 : BitVec 32 := 0#32
  let v4878 : BitVec 32 := Scalar.maxsi c0_i32_1155 v4877
  let v4879 : BitVec 32 := Scalar.minsi c199_i32_1156 v4878
  let v4932 : BitVec 32 := Scalar.minsi v4931 v4879
  let v5864 : Index := Scalar.indexCast v4932
  let c199_i32_1147 : BitVec 32 := 199#32
  let c0_i32_1146 : BitVec 32 := 0#32
  let v4863 : BitVec 32 := Scalar.maxsi c0_i32_1146 v4862
  let v4864 : BitVec 32 := Scalar.minsi c199_i32_1147 v4863
  let v4957 : BitVec 32 := Scalar.addi v4864 v4956
  let c3_i32_1193 : BitVec 32 := 3#32
  let v4960 : BitVec 32 := Scalar.shrsi v4957 c3_i32_1193
  let c3_i32_1194 : BitVec 32 := 3#32
  let v4961 : BitVec 32 := Scalar.shli v4960 c3_i32_1194
  let v4962 : BitVec 32 := v4961
  let v5865 : Index := Scalar.indexCast v4962
  let c0_1413 : Index := 0#32
  ![v5864.toNat, v5865.toNat, 0]
def k0_off533 (k0_t1 : Fin k0_t1_loop.trips) : Fin 3 → Nat :=
  let c28_1415 : Index := 28#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c3_i32_1141 : BitVec 32 := 3#32
  let v4854 : BitVec 32 := Scalar.addi v5 c3_i32_1141
  let v5884 : Index := Scalar.indexCast v4854
  let c0_1416 : Index := 0#32
  ![28, v5884.toNat, 0]
def k0_off534 (v4862 : BitVec 32) (v4867 : BitVec 32) (v4929 : BitVec 32) (v4969 : BitVec 32) : Fin 3 → Nat :=
  let c199_i32_1150 : BitVec 32 := 199#32
  let c0_i32_1149 : BitVec 32 := 0#32
  let v4868 : BitVec 32 := Scalar.maxsi c0_i32_1149 v4867
  let v4869 : BitVec 32 := Scalar.minsi c199_i32_1150 v4868
  let v4930 : BitVec 32 := Scalar.addi v4869 v4929
  let v5889 : Index := Scalar.indexCast v4930
  let c199_i32_1147 : BitVec 32 := 199#32
  let c0_i32_1146 : BitVec 32 := 0#32
  let v4863 : BitVec 32 := Scalar.maxsi c0_i32_1146 v4862
  let v4864 : BitVec 32 := Scalar.minsi c199_i32_1147 v4863
  let v4970 : BitVec 32 := Scalar.addi v4864 v4969
  let c3_i32_1200 : BitVec 32 := 3#32
  let v4973 : BitVec 32 := Scalar.shrsi v4970 c3_i32_1200
  let c3_i32_1201 : BitVec 32 := 3#32
  let v4974 : BitVec 32 := Scalar.shli v4973 c3_i32_1201
  let v4975 : BitVec 32 := v4974
  let v5890 : Index := Scalar.indexCast v4975
  let c0_1418 : Index := 0#32
  ![v5889.toNat, v5890.toNat, 0]
def k0_off535 (v4862 : BitVec 32) (v4867 : BitVec 32) (v4877 : BitVec 32) (v4929 : BitVec 32) (v4969 : BitVec 32) : Fin 3 → Nat :=
  let c199_i32_1150 : BitVec 32 := 199#32
  let c0_i32_1149 : BitVec 32 := 0#32
  let v4868 : BitVec 32 := Scalar.maxsi c0_i32_1149 v4867
  let v4869 : BitVec 32 := Scalar.minsi c199_i32_1150 v4868
  let v4930 : BitVec 32 := Scalar.addi v4869 v4929
  let c1_i32_1180 : BitVec 32 := 1#32
  let v4931 : BitVec 32 := Scalar.addi v4930 c1_i32_1180
  let c199_i32_1156 : BitVec 32 := 199#32
  let c0_i32_1155 : BitVec 32 := 0#32
  let v4878 : BitVec 32 := Scalar.maxsi c0_i32_1155 v4877
  let v4879 : BitVec 32 := Scalar.minsi c199_i32_1156 v4878
  let v4932 : BitVec 32 := Scalar.minsi v4931 v4879
  let v5893 : Index := Scalar.indexCast v4932
  let c199_i32_1147 : BitVec 32 := 199#32
  let c0_i32_1146 : BitVec 32 := 0#32
  let v4863 : BitVec 32 := Scalar.maxsi c0_i32_1146 v4862
  let v4864 : BitVec 32 := Scalar.minsi c199_i32_1147 v4863
  let v4970 : BitVec 32 := Scalar.addi v4864 v4969
  let c3_i32_1200 : BitVec 32 := 3#32
  let v4973 : BitVec 32 := Scalar.shrsi v4970 c3_i32_1200
  let c3_i32_1201 : BitVec 32 := 3#32
  let v4974 : BitVec 32 := Scalar.shli v4973 c3_i32_1201
  let v4975 : BitVec 32 := v4974
  let v5894 : Index := Scalar.indexCast v4975
  let c0_1419 : Index := 0#32
  ![v5893.toNat, v5894.toNat, 0]
def k0_off536 (k0_t1 : Fin k0_t1_loop.trips) : Fin 3 → Nat :=
  let c29_1421 : Index := 29#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c3_i32_1141 : BitVec 32 := 3#32
  let v4854 : BitVec 32 := Scalar.addi v5 c3_i32_1141
  let v5913 : Index := Scalar.indexCast v4854
  let c0_1422 : Index := 0#32
  ![29, v5913.toNat, 0]
def k0_off537 (v4862 : BitVec 32) (v4867 : BitVec 32) (v4929 : BitVec 32) (v4982 : BitVec 32) : Fin 3 → Nat :=
  let c199_i32_1150 : BitVec 32 := 199#32
  let c0_i32_1149 : BitVec 32 := 0#32
  let v4868 : BitVec 32 := Scalar.maxsi c0_i32_1149 v4867
  let v4869 : BitVec 32 := Scalar.minsi c199_i32_1150 v4868
  let v4930 : BitVec 32 := Scalar.addi v4869 v4929
  let v5918 : Index := Scalar.indexCast v4930
  let c199_i32_1147 : BitVec 32 := 199#32
  let c0_i32_1146 : BitVec 32 := 0#32
  let v4863 : BitVec 32 := Scalar.maxsi c0_i32_1146 v4862
  let v4864 : BitVec 32 := Scalar.minsi c199_i32_1147 v4863
  let v4983 : BitVec 32 := Scalar.addi v4864 v4982
  let c3_i32_1207 : BitVec 32 := 3#32
  let v4986 : BitVec 32 := Scalar.shrsi v4983 c3_i32_1207
  let c3_i32_1208 : BitVec 32 := 3#32
  let v4987 : BitVec 32 := Scalar.shli v4986 c3_i32_1208
  let v4988 : BitVec 32 := v4987
  let v5919 : Index := Scalar.indexCast v4988
  let c0_1424 : Index := 0#32
  ![v5918.toNat, v5919.toNat, 0]
def k0_off538 (v4862 : BitVec 32) (v4867 : BitVec 32) (v4877 : BitVec 32) (v4929 : BitVec 32) (v4982 : BitVec 32) : Fin 3 → Nat :=
  let c199_i32_1150 : BitVec 32 := 199#32
  let c0_i32_1149 : BitVec 32 := 0#32
  let v4868 : BitVec 32 := Scalar.maxsi c0_i32_1149 v4867
  let v4869 : BitVec 32 := Scalar.minsi c199_i32_1150 v4868
  let v4930 : BitVec 32 := Scalar.addi v4869 v4929
  let c1_i32_1180 : BitVec 32 := 1#32
  let v4931 : BitVec 32 := Scalar.addi v4930 c1_i32_1180
  let c199_i32_1156 : BitVec 32 := 199#32
  let c0_i32_1155 : BitVec 32 := 0#32
  let v4878 : BitVec 32 := Scalar.maxsi c0_i32_1155 v4877
  let v4879 : BitVec 32 := Scalar.minsi c199_i32_1156 v4878
  let v4932 : BitVec 32 := Scalar.minsi v4931 v4879
  let v5922 : Index := Scalar.indexCast v4932
  let c199_i32_1147 : BitVec 32 := 199#32
  let c0_i32_1146 : BitVec 32 := 0#32
  let v4863 : BitVec 32 := Scalar.maxsi c0_i32_1146 v4862
  let v4864 : BitVec 32 := Scalar.minsi c199_i32_1147 v4863
  let v4983 : BitVec 32 := Scalar.addi v4864 v4982
  let c3_i32_1207 : BitVec 32 := 3#32
  let v4986 : BitVec 32 := Scalar.shrsi v4983 c3_i32_1207
  let c3_i32_1208 : BitVec 32 := 3#32
  let v4987 : BitVec 32 := Scalar.shli v4986 c3_i32_1208
  let v4988 : BitVec 32 := v4987
  let v5923 : Index := Scalar.indexCast v4988
  let c0_1425 : Index := 0#32
  ![v5922.toNat, v5923.toNat, 0]
def k0_off539 (k0_t1 : Fin k0_t1_loop.trips) : Fin 3 → Nat :=
  let c30_1427 : Index := 30#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c3_i32_1141 : BitVec 32 := 3#32
  let v4854 : BitVec 32 := Scalar.addi v5 c3_i32_1141
  let v5942 : Index := Scalar.indexCast v4854
  let c0_1428 : Index := 0#32
  ![30, v5942.toNat, 0]
def k0_off540 (v4862 : BitVec 32) (v4867 : BitVec 32) (v4929 : BitVec 32) (v4995 : BitVec 32) : Fin 3 → Nat :=
  let c199_i32_1150 : BitVec 32 := 199#32
  let c0_i32_1149 : BitVec 32 := 0#32
  let v4868 : BitVec 32 := Scalar.maxsi c0_i32_1149 v4867
  let v4869 : BitVec 32 := Scalar.minsi c199_i32_1150 v4868
  let v4930 : BitVec 32 := Scalar.addi v4869 v4929
  let v5947 : Index := Scalar.indexCast v4930
  let c199_i32_1147 : BitVec 32 := 199#32
  let c0_i32_1146 : BitVec 32 := 0#32
  let v4863 : BitVec 32 := Scalar.maxsi c0_i32_1146 v4862
  let v4864 : BitVec 32 := Scalar.minsi c199_i32_1147 v4863
  let v4996 : BitVec 32 := Scalar.addi v4864 v4995
  let c3_i32_1214 : BitVec 32 := 3#32
  let v4999 : BitVec 32 := Scalar.shrsi v4996 c3_i32_1214
  let c3_i32_1215 : BitVec 32 := 3#32
  let v5000 : BitVec 32 := Scalar.shli v4999 c3_i32_1215
  let v5001 : BitVec 32 := v5000
  let v5948 : Index := Scalar.indexCast v5001
  let c0_1430 : Index := 0#32
  ![v5947.toNat, v5948.toNat, 0]
def k0_off541 (v4862 : BitVec 32) (v4867 : BitVec 32) (v4877 : BitVec 32) (v4929 : BitVec 32) (v4995 : BitVec 32) : Fin 3 → Nat :=
  let c199_i32_1150 : BitVec 32 := 199#32
  let c0_i32_1149 : BitVec 32 := 0#32
  let v4868 : BitVec 32 := Scalar.maxsi c0_i32_1149 v4867
  let v4869 : BitVec 32 := Scalar.minsi c199_i32_1150 v4868
  let v4930 : BitVec 32 := Scalar.addi v4869 v4929
  let c1_i32_1180 : BitVec 32 := 1#32
  let v4931 : BitVec 32 := Scalar.addi v4930 c1_i32_1180
  let c199_i32_1156 : BitVec 32 := 199#32
  let c0_i32_1155 : BitVec 32 := 0#32
  let v4878 : BitVec 32 := Scalar.maxsi c0_i32_1155 v4877
  let v4879 : BitVec 32 := Scalar.minsi c199_i32_1156 v4878
  let v4932 : BitVec 32 := Scalar.minsi v4931 v4879
  let v5951 : Index := Scalar.indexCast v4932
  let c199_i32_1147 : BitVec 32 := 199#32
  let c0_i32_1146 : BitVec 32 := 0#32
  let v4863 : BitVec 32 := Scalar.maxsi c0_i32_1146 v4862
  let v4864 : BitVec 32 := Scalar.minsi c199_i32_1147 v4863
  let v4996 : BitVec 32 := Scalar.addi v4864 v4995
  let c3_i32_1214 : BitVec 32 := 3#32
  let v4999 : BitVec 32 := Scalar.shrsi v4996 c3_i32_1214
  let c3_i32_1215 : BitVec 32 := 3#32
  let v5000 : BitVec 32 := Scalar.shli v4999 c3_i32_1215
  let v5001 : BitVec 32 := v5000
  let v5952 : Index := Scalar.indexCast v5001
  let c0_1431 : Index := 0#32
  ![v5951.toNat, v5952.toNat, 0]
def k0_off542 (k0_t1 : Fin k0_t1_loop.trips) : Fin 3 → Nat :=
  let c31_1433 : Index := 31#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c3_i32_1141 : BitVec 32 := 3#32
  let v4854 : BitVec 32 := Scalar.addi v5 c3_i32_1141
  let v5971 : Index := Scalar.indexCast v4854
  let c0_1434 : Index := 0#32
  ![31, v5971.toNat, 0]
def k0_off543 (v4862 : BitVec 32) (v4867 : BitVec 32) (v4929 : BitVec 32) (v5008 : BitVec 32) : Fin 3 → Nat :=
  let c199_i32_1150 : BitVec 32 := 199#32
  let c0_i32_1149 : BitVec 32 := 0#32
  let v4868 : BitVec 32 := Scalar.maxsi c0_i32_1149 v4867
  let v4869 : BitVec 32 := Scalar.minsi c199_i32_1150 v4868
  let v4930 : BitVec 32 := Scalar.addi v4869 v4929
  let v5976 : Index := Scalar.indexCast v4930
  let c199_i32_1147 : BitVec 32 := 199#32
  let c0_i32_1146 : BitVec 32 := 0#32
  let v4863 : BitVec 32 := Scalar.maxsi c0_i32_1146 v4862
  let v4864 : BitVec 32 := Scalar.minsi c199_i32_1147 v4863
  let v5009 : BitVec 32 := Scalar.addi v4864 v5008
  let c3_i32_1221 : BitVec 32 := 3#32
  let v5012 : BitVec 32 := Scalar.shrsi v5009 c3_i32_1221
  let c3_i32_1222 : BitVec 32 := 3#32
  let v5013 : BitVec 32 := Scalar.shli v5012 c3_i32_1222
  let v5014 : BitVec 32 := v5013
  let v5977 : Index := Scalar.indexCast v5014
  let c0_1436 : Index := 0#32
  ![v5976.toNat, v5977.toNat, 0]
def k0_off544 (v4862 : BitVec 32) (v4867 : BitVec 32) (v4877 : BitVec 32) (v4929 : BitVec 32) (v5008 : BitVec 32) : Fin 3 → Nat :=
  let c199_i32_1150 : BitVec 32 := 199#32
  let c0_i32_1149 : BitVec 32 := 0#32
  let v4868 : BitVec 32 := Scalar.maxsi c0_i32_1149 v4867
  let v4869 : BitVec 32 := Scalar.minsi c199_i32_1150 v4868
  let v4930 : BitVec 32 := Scalar.addi v4869 v4929
  let c1_i32_1180 : BitVec 32 := 1#32
  let v4931 : BitVec 32 := Scalar.addi v4930 c1_i32_1180
  let c199_i32_1156 : BitVec 32 := 199#32
  let c0_i32_1155 : BitVec 32 := 0#32
  let v4878 : BitVec 32 := Scalar.maxsi c0_i32_1155 v4877
  let v4879 : BitVec 32 := Scalar.minsi c199_i32_1156 v4878
  let v4932 : BitVec 32 := Scalar.minsi v4931 v4879
  let v5980 : Index := Scalar.indexCast v4932
  let c199_i32_1147 : BitVec 32 := 199#32
  let c0_i32_1146 : BitVec 32 := 0#32
  let v4863 : BitVec 32 := Scalar.maxsi c0_i32_1146 v4862
  let v4864 : BitVec 32 := Scalar.minsi c199_i32_1147 v4863
  let v5009 : BitVec 32 := Scalar.addi v4864 v5008
  let c3_i32_1221 : BitVec 32 := 3#32
  let v5012 : BitVec 32 := Scalar.shrsi v5009 c3_i32_1221
  let c3_i32_1222 : BitVec 32 := 3#32
  let v5013 : BitVec 32 := Scalar.shli v5012 c3_i32_1222
  let v5014 : BitVec 32 := v5013
  let v5981 : Index := Scalar.indexCast v5014
  let c0_1437 : Index := 0#32
  ![v5980.toNat, v5981.toNat, 0]
def k0_off545 (k0_t1 : Fin k0_t1_loop.trips) : Fin 3 → Nat :=
  let c32_1439 : Index := 32#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c3_i32_1141 : BitVec 32 := 3#32
  let v4854 : BitVec 32 := Scalar.addi v5 c3_i32_1141
  let v6000 : Index := Scalar.indexCast v4854
  let c0_1440 : Index := 0#32
  ![32, v6000.toNat, 0]
def k0_off546 (v4862 : BitVec 32) (v4867 : BitVec 32) (v4929 : BitVec 32) (v5021 : BitVec 32) : Fin 3 → Nat :=
  let c199_i32_1150 : BitVec 32 := 199#32
  let c0_i32_1149 : BitVec 32 := 0#32
  let v4868 : BitVec 32 := Scalar.maxsi c0_i32_1149 v4867
  let v4869 : BitVec 32 := Scalar.minsi c199_i32_1150 v4868
  let v4930 : BitVec 32 := Scalar.addi v4869 v4929
  let v6005 : Index := Scalar.indexCast v4930
  let c199_i32_1147 : BitVec 32 := 199#32
  let c0_i32_1146 : BitVec 32 := 0#32
  let v4863 : BitVec 32 := Scalar.maxsi c0_i32_1146 v4862
  let v4864 : BitVec 32 := Scalar.minsi c199_i32_1147 v4863
  let v5022 : BitVec 32 := Scalar.addi v4864 v5021
  let c3_i32_1228 : BitVec 32 := 3#32
  let v5025 : BitVec 32 := Scalar.shrsi v5022 c3_i32_1228
  let c3_i32_1229 : BitVec 32 := 3#32
  let v5026 : BitVec 32 := Scalar.shli v5025 c3_i32_1229
  let v5027 : BitVec 32 := v5026
  let v6006 : Index := Scalar.indexCast v5027
  let c0_1442 : Index := 0#32
  ![v6005.toNat, v6006.toNat, 0]
def k0_off547 (v4862 : BitVec 32) (v4867 : BitVec 32) (v4877 : BitVec 32) (v4929 : BitVec 32) (v5021 : BitVec 32) : Fin 3 → Nat :=
  let c199_i32_1150 : BitVec 32 := 199#32
  let c0_i32_1149 : BitVec 32 := 0#32
  let v4868 : BitVec 32 := Scalar.maxsi c0_i32_1149 v4867
  let v4869 : BitVec 32 := Scalar.minsi c199_i32_1150 v4868
  let v4930 : BitVec 32 := Scalar.addi v4869 v4929
  let c1_i32_1180 : BitVec 32 := 1#32
  let v4931 : BitVec 32 := Scalar.addi v4930 c1_i32_1180
  let c199_i32_1156 : BitVec 32 := 199#32
  let c0_i32_1155 : BitVec 32 := 0#32
  let v4878 : BitVec 32 := Scalar.maxsi c0_i32_1155 v4877
  let v4879 : BitVec 32 := Scalar.minsi c199_i32_1156 v4878
  let v4932 : BitVec 32 := Scalar.minsi v4931 v4879
  let v6009 : Index := Scalar.indexCast v4932
  let c199_i32_1147 : BitVec 32 := 199#32
  let c0_i32_1146 : BitVec 32 := 0#32
  let v4863 : BitVec 32 := Scalar.maxsi c0_i32_1146 v4862
  let v4864 : BitVec 32 := Scalar.minsi c199_i32_1147 v4863
  let v5022 : BitVec 32 := Scalar.addi v4864 v5021
  let c3_i32_1228 : BitVec 32 := 3#32
  let v5025 : BitVec 32 := Scalar.shrsi v5022 c3_i32_1228
  let c3_i32_1229 : BitVec 32 := 3#32
  let v5026 : BitVec 32 := Scalar.shli v5025 c3_i32_1229
  let v5027 : BitVec 32 := v5026
  let v6010 : Index := Scalar.indexCast v5027
  let c0_1443 : Index := 0#32
  ![v6009.toNat, v6010.toNat, 0]
def k0_off548 (k0_t1 : Fin k0_t1_loop.trips) : Fin 3 → Nat :=
  let c33_1445 : Index := 33#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c3_i32_1141 : BitVec 32 := 3#32
  let v4854 : BitVec 32 := Scalar.addi v5 c3_i32_1141
  let v6029 : Index := Scalar.indexCast v4854
  let c0_1446 : Index := 0#32
  ![33, v6029.toNat, 0]
def k0_off549 (v4862 : BitVec 32) (v4867 : BitVec 32) (v4929 : BitVec 32) (v5034 : BitVec 32) : Fin 3 → Nat :=
  let c199_i32_1150 : BitVec 32 := 199#32
  let c0_i32_1149 : BitVec 32 := 0#32
  let v4868 : BitVec 32 := Scalar.maxsi c0_i32_1149 v4867
  let v4869 : BitVec 32 := Scalar.minsi c199_i32_1150 v4868
  let v4930 : BitVec 32 := Scalar.addi v4869 v4929
  let v6034 : Index := Scalar.indexCast v4930
  let c199_i32_1147 : BitVec 32 := 199#32
  let c0_i32_1146 : BitVec 32 := 0#32
  let v4863 : BitVec 32 := Scalar.maxsi c0_i32_1146 v4862
  let v4864 : BitVec 32 := Scalar.minsi c199_i32_1147 v4863
  let v5035 : BitVec 32 := Scalar.addi v4864 v5034
  let c3_i32_1235 : BitVec 32 := 3#32
  let v5038 : BitVec 32 := Scalar.shrsi v5035 c3_i32_1235
  let c3_i32_1236 : BitVec 32 := 3#32
  let v5039 : BitVec 32 := Scalar.shli v5038 c3_i32_1236
  let v5040 : BitVec 32 := v5039
  let v6035 : Index := Scalar.indexCast v5040
  let c0_1448 : Index := 0#32
  ![v6034.toNat, v6035.toNat, 0]
def k0_off550 (v4862 : BitVec 32) (v4867 : BitVec 32) (v4877 : BitVec 32) (v4929 : BitVec 32) (v5034 : BitVec 32) : Fin 3 → Nat :=
  let c199_i32_1150 : BitVec 32 := 199#32
  let c0_i32_1149 : BitVec 32 := 0#32
  let v4868 : BitVec 32 := Scalar.maxsi c0_i32_1149 v4867
  let v4869 : BitVec 32 := Scalar.minsi c199_i32_1150 v4868
  let v4930 : BitVec 32 := Scalar.addi v4869 v4929
  let c1_i32_1180 : BitVec 32 := 1#32
  let v4931 : BitVec 32 := Scalar.addi v4930 c1_i32_1180
  let c199_i32_1156 : BitVec 32 := 199#32
  let c0_i32_1155 : BitVec 32 := 0#32
  let v4878 : BitVec 32 := Scalar.maxsi c0_i32_1155 v4877
  let v4879 : BitVec 32 := Scalar.minsi c199_i32_1156 v4878
  let v4932 : BitVec 32 := Scalar.minsi v4931 v4879
  let v6038 : Index := Scalar.indexCast v4932
  let c199_i32_1147 : BitVec 32 := 199#32
  let c0_i32_1146 : BitVec 32 := 0#32
  let v4863 : BitVec 32 := Scalar.maxsi c0_i32_1146 v4862
  let v4864 : BitVec 32 := Scalar.minsi c199_i32_1147 v4863
  let v5035 : BitVec 32 := Scalar.addi v4864 v5034
  let c3_i32_1235 : BitVec 32 := 3#32
  let v5038 : BitVec 32 := Scalar.shrsi v5035 c3_i32_1235
  let c3_i32_1236 : BitVec 32 := 3#32
  let v5039 : BitVec 32 := Scalar.shli v5038 c3_i32_1236
  let v5040 : BitVec 32 := v5039
  let v6039 : Index := Scalar.indexCast v5040
  let c0_1449 : Index := 0#32
  ![v6038.toNat, v6039.toNat, 0]
def k0_off551 (k0_t1 : Fin k0_t1_loop.trips) : Fin 3 → Nat :=
  let c34_1451 : Index := 34#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c3_i32_1141 : BitVec 32 := 3#32
  let v4854 : BitVec 32 := Scalar.addi v5 c3_i32_1141
  let v6058 : Index := Scalar.indexCast v4854
  let c0_1452 : Index := 0#32
  ![34, v6058.toNat, 0]
def k0_off552 (v4862 : BitVec 32) (v4867 : BitVec 32) (v4938 : BitVec 32) (v4956 : BitVec 32) : Fin 3 → Nat :=
  let c199_i32_1150 : BitVec 32 := 199#32
  let c0_i32_1149 : BitVec 32 := 0#32
  let v4868 : BitVec 32 := Scalar.maxsi c0_i32_1149 v4867
  let v4869 : BitVec 32 := Scalar.minsi c199_i32_1150 v4868
  let v4939 : BitVec 32 := Scalar.addi v4869 v4938
  let v6064 : Index := Scalar.indexCast v4939
  let c199_i32_1147 : BitVec 32 := 199#32
  let c0_i32_1146 : BitVec 32 := 0#32
  let v4863 : BitVec 32 := Scalar.maxsi c0_i32_1146 v4862
  let v4864 : BitVec 32 := Scalar.minsi c199_i32_1147 v4863
  let v4957 : BitVec 32 := Scalar.addi v4864 v4956
  let c3_i32_1193 : BitVec 32 := 3#32
  let v4960 : BitVec 32 := Scalar.shrsi v4957 c3_i32_1193
  let c3_i32_1194 : BitVec 32 := 3#32
  let v4961 : BitVec 32 := Scalar.shli v4960 c3_i32_1194
  let v4962 : BitVec 32 := v4961
  let v6065 : Index := Scalar.indexCast v4962
  let c0_1455 : Index := 0#32
  ![v6064.toNat, v6065.toNat, 0]
def k0_off553 (v4862 : BitVec 32) (v4867 : BitVec 32) (v4877 : BitVec 32) (v4938 : BitVec 32) (v4956 : BitVec 32) : Fin 3 → Nat :=
  let c199_i32_1150 : BitVec 32 := 199#32
  let c0_i32_1149 : BitVec 32 := 0#32
  let v4868 : BitVec 32 := Scalar.maxsi c0_i32_1149 v4867
  let v4869 : BitVec 32 := Scalar.minsi c199_i32_1150 v4868
  let v4939 : BitVec 32 := Scalar.addi v4869 v4938
  let c1_i32_1184 : BitVec 32 := 1#32
  let v4940 : BitVec 32 := Scalar.addi v4939 c1_i32_1184
  let c199_i32_1156 : BitVec 32 := 199#32
  let c0_i32_1155 : BitVec 32 := 0#32
  let v4878 : BitVec 32 := Scalar.maxsi c0_i32_1155 v4877
  let v4879 : BitVec 32 := Scalar.minsi c199_i32_1156 v4878
  let v4941 : BitVec 32 := Scalar.minsi v4940 v4879
  let v6068 : Index := Scalar.indexCast v4941
  let c199_i32_1147 : BitVec 32 := 199#32
  let c0_i32_1146 : BitVec 32 := 0#32
  let v4863 : BitVec 32 := Scalar.maxsi c0_i32_1146 v4862
  let v4864 : BitVec 32 := Scalar.minsi c199_i32_1147 v4863
  let v4957 : BitVec 32 := Scalar.addi v4864 v4956
  let c3_i32_1193 : BitVec 32 := 3#32
  let v4960 : BitVec 32 := Scalar.shrsi v4957 c3_i32_1193
  let c3_i32_1194 : BitVec 32 := 3#32
  let v4961 : BitVec 32 := Scalar.shli v4960 c3_i32_1194
  let v4962 : BitVec 32 := v4961
  let v6069 : Index := Scalar.indexCast v4962
  let c0_1456 : Index := 0#32
  ![v6068.toNat, v6069.toNat, 0]
def k0_off554 (k0_t1 : Fin k0_t1_loop.trips) : Fin 3 → Nat :=
  let c35_1458 : Index := 35#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c3_i32_1141 : BitVec 32 := 3#32
  let v4854 : BitVec 32 := Scalar.addi v5 c3_i32_1141
  let v6088 : Index := Scalar.indexCast v4854
  let c0_1459 : Index := 0#32
  ![35, v6088.toNat, 0]
def k0_off555 (v4862 : BitVec 32) (v4867 : BitVec 32) (v4938 : BitVec 32) (v4969 : BitVec 32) : Fin 3 → Nat :=
  let c199_i32_1150 : BitVec 32 := 199#32
  let c0_i32_1149 : BitVec 32 := 0#32
  let v4868 : BitVec 32 := Scalar.maxsi c0_i32_1149 v4867
  let v4869 : BitVec 32 := Scalar.minsi c199_i32_1150 v4868
  let v4939 : BitVec 32 := Scalar.addi v4869 v4938
  let v6093 : Index := Scalar.indexCast v4939
  let c199_i32_1147 : BitVec 32 := 199#32
  let c0_i32_1146 : BitVec 32 := 0#32
  let v4863 : BitVec 32 := Scalar.maxsi c0_i32_1146 v4862
  let v4864 : BitVec 32 := Scalar.minsi c199_i32_1147 v4863
  let v4970 : BitVec 32 := Scalar.addi v4864 v4969
  let c3_i32_1200 : BitVec 32 := 3#32
  let v4973 : BitVec 32 := Scalar.shrsi v4970 c3_i32_1200
  let c3_i32_1201 : BitVec 32 := 3#32
  let v4974 : BitVec 32 := Scalar.shli v4973 c3_i32_1201
  let v4975 : BitVec 32 := v4974
  let v6094 : Index := Scalar.indexCast v4975
  let c0_1461 : Index := 0#32
  ![v6093.toNat, v6094.toNat, 0]
def k0_off556 (v4862 : BitVec 32) (v4867 : BitVec 32) (v4877 : BitVec 32) (v4938 : BitVec 32) (v4969 : BitVec 32) : Fin 3 → Nat :=
  let c199_i32_1150 : BitVec 32 := 199#32
  let c0_i32_1149 : BitVec 32 := 0#32
  let v4868 : BitVec 32 := Scalar.maxsi c0_i32_1149 v4867
  let v4869 : BitVec 32 := Scalar.minsi c199_i32_1150 v4868
  let v4939 : BitVec 32 := Scalar.addi v4869 v4938
  let c1_i32_1184 : BitVec 32 := 1#32
  let v4940 : BitVec 32 := Scalar.addi v4939 c1_i32_1184
  let c199_i32_1156 : BitVec 32 := 199#32
  let c0_i32_1155 : BitVec 32 := 0#32
  let v4878 : BitVec 32 := Scalar.maxsi c0_i32_1155 v4877
  let v4879 : BitVec 32 := Scalar.minsi c199_i32_1156 v4878
  let v4941 : BitVec 32 := Scalar.minsi v4940 v4879
  let v6097 : Index := Scalar.indexCast v4941
  let c199_i32_1147 : BitVec 32 := 199#32
  let c0_i32_1146 : BitVec 32 := 0#32
  let v4863 : BitVec 32 := Scalar.maxsi c0_i32_1146 v4862
  let v4864 : BitVec 32 := Scalar.minsi c199_i32_1147 v4863
  let v4970 : BitVec 32 := Scalar.addi v4864 v4969
  let c3_i32_1200 : BitVec 32 := 3#32
  let v4973 : BitVec 32 := Scalar.shrsi v4970 c3_i32_1200
  let c3_i32_1201 : BitVec 32 := 3#32
  let v4974 : BitVec 32 := Scalar.shli v4973 c3_i32_1201
  let v4975 : BitVec 32 := v4974
  let v6098 : Index := Scalar.indexCast v4975
  let c0_1462 : Index := 0#32
  ![v6097.toNat, v6098.toNat, 0]
def k0_off557 (k0_t1 : Fin k0_t1_loop.trips) : Fin 3 → Nat :=
  let c36_1464 : Index := 36#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c3_i32_1141 : BitVec 32 := 3#32
  let v4854 : BitVec 32 := Scalar.addi v5 c3_i32_1141
  let v6117 : Index := Scalar.indexCast v4854
  let c0_1465 : Index := 0#32
  ![36, v6117.toNat, 0]
def k0_off558 (v4862 : BitVec 32) (v4867 : BitVec 32) (v4938 : BitVec 32) (v4982 : BitVec 32) : Fin 3 → Nat :=
  let c199_i32_1150 : BitVec 32 := 199#32
  let c0_i32_1149 : BitVec 32 := 0#32
  let v4868 : BitVec 32 := Scalar.maxsi c0_i32_1149 v4867
  let v4869 : BitVec 32 := Scalar.minsi c199_i32_1150 v4868
  let v4939 : BitVec 32 := Scalar.addi v4869 v4938
  let v6122 : Index := Scalar.indexCast v4939
  let c199_i32_1147 : BitVec 32 := 199#32
  let c0_i32_1146 : BitVec 32 := 0#32
  let v4863 : BitVec 32 := Scalar.maxsi c0_i32_1146 v4862
  let v4864 : BitVec 32 := Scalar.minsi c199_i32_1147 v4863
  let v4983 : BitVec 32 := Scalar.addi v4864 v4982
  let c3_i32_1207 : BitVec 32 := 3#32
  let v4986 : BitVec 32 := Scalar.shrsi v4983 c3_i32_1207
  let c3_i32_1208 : BitVec 32 := 3#32
  let v4987 : BitVec 32 := Scalar.shli v4986 c3_i32_1208
  let v4988 : BitVec 32 := v4987
  let v6123 : Index := Scalar.indexCast v4988
  let c0_1467 : Index := 0#32
  ![v6122.toNat, v6123.toNat, 0]
def k0_off559 (v4862 : BitVec 32) (v4867 : BitVec 32) (v4877 : BitVec 32) (v4938 : BitVec 32) (v4982 : BitVec 32) : Fin 3 → Nat :=
  let c199_i32_1150 : BitVec 32 := 199#32
  let c0_i32_1149 : BitVec 32 := 0#32
  let v4868 : BitVec 32 := Scalar.maxsi c0_i32_1149 v4867
  let v4869 : BitVec 32 := Scalar.minsi c199_i32_1150 v4868
  let v4939 : BitVec 32 := Scalar.addi v4869 v4938
  let c1_i32_1184 : BitVec 32 := 1#32
  let v4940 : BitVec 32 := Scalar.addi v4939 c1_i32_1184
  let c199_i32_1156 : BitVec 32 := 199#32
  let c0_i32_1155 : BitVec 32 := 0#32
  let v4878 : BitVec 32 := Scalar.maxsi c0_i32_1155 v4877
  let v4879 : BitVec 32 := Scalar.minsi c199_i32_1156 v4878
  let v4941 : BitVec 32 := Scalar.minsi v4940 v4879
  let v6126 : Index := Scalar.indexCast v4941
  let c199_i32_1147 : BitVec 32 := 199#32
  let c0_i32_1146 : BitVec 32 := 0#32
  let v4863 : BitVec 32 := Scalar.maxsi c0_i32_1146 v4862
  let v4864 : BitVec 32 := Scalar.minsi c199_i32_1147 v4863
  let v4983 : BitVec 32 := Scalar.addi v4864 v4982
  let c3_i32_1207 : BitVec 32 := 3#32
  let v4986 : BitVec 32 := Scalar.shrsi v4983 c3_i32_1207
  let c3_i32_1208 : BitVec 32 := 3#32
  let v4987 : BitVec 32 := Scalar.shli v4986 c3_i32_1208
  let v4988 : BitVec 32 := v4987
  let v6127 : Index := Scalar.indexCast v4988
  let c0_1468 : Index := 0#32
  ![v6126.toNat, v6127.toNat, 0]
def k0_off560 (k0_t1 : Fin k0_t1_loop.trips) : Fin 3 → Nat :=
  let c37_1470 : Index := 37#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c3_i32_1141 : BitVec 32 := 3#32
  let v4854 : BitVec 32 := Scalar.addi v5 c3_i32_1141
  let v6146 : Index := Scalar.indexCast v4854
  let c0_1471 : Index := 0#32
  ![37, v6146.toNat, 0]
def k0_off561 (v4862 : BitVec 32) (v4867 : BitVec 32) (v4938 : BitVec 32) (v4995 : BitVec 32) : Fin 3 → Nat :=
  let c199_i32_1150 : BitVec 32 := 199#32
  let c0_i32_1149 : BitVec 32 := 0#32
  let v4868 : BitVec 32 := Scalar.maxsi c0_i32_1149 v4867
  let v4869 : BitVec 32 := Scalar.minsi c199_i32_1150 v4868
  let v4939 : BitVec 32 := Scalar.addi v4869 v4938
  let v6151 : Index := Scalar.indexCast v4939
  let c199_i32_1147 : BitVec 32 := 199#32
  let c0_i32_1146 : BitVec 32 := 0#32
  let v4863 : BitVec 32 := Scalar.maxsi c0_i32_1146 v4862
  let v4864 : BitVec 32 := Scalar.minsi c199_i32_1147 v4863
  let v4996 : BitVec 32 := Scalar.addi v4864 v4995
  let c3_i32_1214 : BitVec 32 := 3#32
  let v4999 : BitVec 32 := Scalar.shrsi v4996 c3_i32_1214
  let c3_i32_1215 : BitVec 32 := 3#32
  let v5000 : BitVec 32 := Scalar.shli v4999 c3_i32_1215
  let v5001 : BitVec 32 := v5000
  let v6152 : Index := Scalar.indexCast v5001
  let c0_1473 : Index := 0#32
  ![v6151.toNat, v6152.toNat, 0]
def k0_off562 (v4862 : BitVec 32) (v4867 : BitVec 32) (v4877 : BitVec 32) (v4938 : BitVec 32) (v4995 : BitVec 32) : Fin 3 → Nat :=
  let c199_i32_1150 : BitVec 32 := 199#32
  let c0_i32_1149 : BitVec 32 := 0#32
  let v4868 : BitVec 32 := Scalar.maxsi c0_i32_1149 v4867
  let v4869 : BitVec 32 := Scalar.minsi c199_i32_1150 v4868
  let v4939 : BitVec 32 := Scalar.addi v4869 v4938
  let c1_i32_1184 : BitVec 32 := 1#32
  let v4940 : BitVec 32 := Scalar.addi v4939 c1_i32_1184
  let c199_i32_1156 : BitVec 32 := 199#32
  let c0_i32_1155 : BitVec 32 := 0#32
  let v4878 : BitVec 32 := Scalar.maxsi c0_i32_1155 v4877
  let v4879 : BitVec 32 := Scalar.minsi c199_i32_1156 v4878
  let v4941 : BitVec 32 := Scalar.minsi v4940 v4879
  let v6155 : Index := Scalar.indexCast v4941
  let c199_i32_1147 : BitVec 32 := 199#32
  let c0_i32_1146 : BitVec 32 := 0#32
  let v4863 : BitVec 32 := Scalar.maxsi c0_i32_1146 v4862
  let v4864 : BitVec 32 := Scalar.minsi c199_i32_1147 v4863
  let v4996 : BitVec 32 := Scalar.addi v4864 v4995
  let c3_i32_1214 : BitVec 32 := 3#32
  let v4999 : BitVec 32 := Scalar.shrsi v4996 c3_i32_1214
  let c3_i32_1215 : BitVec 32 := 3#32
  let v5000 : BitVec 32 := Scalar.shli v4999 c3_i32_1215
  let v5001 : BitVec 32 := v5000
  let v6156 : Index := Scalar.indexCast v5001
  let c0_1474 : Index := 0#32
  ![v6155.toNat, v6156.toNat, 0]
def k0_off563 (k0_t1 : Fin k0_t1_loop.trips) : Fin 3 → Nat :=
  let c38_1476 : Index := 38#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c3_i32_1141 : BitVec 32 := 3#32
  let v4854 : BitVec 32 := Scalar.addi v5 c3_i32_1141
  let v6175 : Index := Scalar.indexCast v4854
  let c0_1477 : Index := 0#32
  ![38, v6175.toNat, 0]
def k0_off564 (v4862 : BitVec 32) (v4867 : BitVec 32) (v4938 : BitVec 32) (v5008 : BitVec 32) : Fin 3 → Nat :=
  let c199_i32_1150 : BitVec 32 := 199#32
  let c0_i32_1149 : BitVec 32 := 0#32
  let v4868 : BitVec 32 := Scalar.maxsi c0_i32_1149 v4867
  let v4869 : BitVec 32 := Scalar.minsi c199_i32_1150 v4868
  let v4939 : BitVec 32 := Scalar.addi v4869 v4938
  let v6180 : Index := Scalar.indexCast v4939
  let c199_i32_1147 : BitVec 32 := 199#32
  let c0_i32_1146 : BitVec 32 := 0#32
  let v4863 : BitVec 32 := Scalar.maxsi c0_i32_1146 v4862
  let v4864 : BitVec 32 := Scalar.minsi c199_i32_1147 v4863
  let v5009 : BitVec 32 := Scalar.addi v4864 v5008
  let c3_i32_1221 : BitVec 32 := 3#32
  let v5012 : BitVec 32 := Scalar.shrsi v5009 c3_i32_1221
  let c3_i32_1222 : BitVec 32 := 3#32
  let v5013 : BitVec 32 := Scalar.shli v5012 c3_i32_1222
  let v5014 : BitVec 32 := v5013
  let v6181 : Index := Scalar.indexCast v5014
  let c0_1479 : Index := 0#32
  ![v6180.toNat, v6181.toNat, 0]
def k0_off565 (v4862 : BitVec 32) (v4867 : BitVec 32) (v4877 : BitVec 32) (v4938 : BitVec 32) (v5008 : BitVec 32) : Fin 3 → Nat :=
  let c199_i32_1150 : BitVec 32 := 199#32
  let c0_i32_1149 : BitVec 32 := 0#32
  let v4868 : BitVec 32 := Scalar.maxsi c0_i32_1149 v4867
  let v4869 : BitVec 32 := Scalar.minsi c199_i32_1150 v4868
  let v4939 : BitVec 32 := Scalar.addi v4869 v4938
  let c1_i32_1184 : BitVec 32 := 1#32
  let v4940 : BitVec 32 := Scalar.addi v4939 c1_i32_1184
  let c199_i32_1156 : BitVec 32 := 199#32
  let c0_i32_1155 : BitVec 32 := 0#32
  let v4878 : BitVec 32 := Scalar.maxsi c0_i32_1155 v4877
  let v4879 : BitVec 32 := Scalar.minsi c199_i32_1156 v4878
  let v4941 : BitVec 32 := Scalar.minsi v4940 v4879
  let v6184 : Index := Scalar.indexCast v4941
  let c199_i32_1147 : BitVec 32 := 199#32
  let c0_i32_1146 : BitVec 32 := 0#32
  let v4863 : BitVec 32 := Scalar.maxsi c0_i32_1146 v4862
  let v4864 : BitVec 32 := Scalar.minsi c199_i32_1147 v4863
  let v5009 : BitVec 32 := Scalar.addi v4864 v5008
  let c3_i32_1221 : BitVec 32 := 3#32
  let v5012 : BitVec 32 := Scalar.shrsi v5009 c3_i32_1221
  let c3_i32_1222 : BitVec 32 := 3#32
  let v5013 : BitVec 32 := Scalar.shli v5012 c3_i32_1222
  let v5014 : BitVec 32 := v5013
  let v6185 : Index := Scalar.indexCast v5014
  let c0_1480 : Index := 0#32
  ![v6184.toNat, v6185.toNat, 0]
def k0_off566 (k0_t1 : Fin k0_t1_loop.trips) : Fin 3 → Nat :=
  let c39_1482 : Index := 39#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c3_i32_1141 : BitVec 32 := 3#32
  let v4854 : BitVec 32 := Scalar.addi v5 c3_i32_1141
  let v6204 : Index := Scalar.indexCast v4854
  let c0_1483 : Index := 0#32
  ![39, v6204.toNat, 0]
def k0_off567 (v4862 : BitVec 32) (v4867 : BitVec 32) (v4938 : BitVec 32) (v5021 : BitVec 32) : Fin 3 → Nat :=
  let c199_i32_1150 : BitVec 32 := 199#32
  let c0_i32_1149 : BitVec 32 := 0#32
  let v4868 : BitVec 32 := Scalar.maxsi c0_i32_1149 v4867
  let v4869 : BitVec 32 := Scalar.minsi c199_i32_1150 v4868
  let v4939 : BitVec 32 := Scalar.addi v4869 v4938
  let v6209 : Index := Scalar.indexCast v4939
  let c199_i32_1147 : BitVec 32 := 199#32
  let c0_i32_1146 : BitVec 32 := 0#32
  let v4863 : BitVec 32 := Scalar.maxsi c0_i32_1146 v4862
  let v4864 : BitVec 32 := Scalar.minsi c199_i32_1147 v4863
  let v5022 : BitVec 32 := Scalar.addi v4864 v5021
  let c3_i32_1228 : BitVec 32 := 3#32
  let v5025 : BitVec 32 := Scalar.shrsi v5022 c3_i32_1228
  let c3_i32_1229 : BitVec 32 := 3#32
  let v5026 : BitVec 32 := Scalar.shli v5025 c3_i32_1229
  let v5027 : BitVec 32 := v5026
  let v6210 : Index := Scalar.indexCast v5027
  let c0_1485 : Index := 0#32
  ![v6209.toNat, v6210.toNat, 0]
def k0_off568 (v4862 : BitVec 32) (v4867 : BitVec 32) (v4877 : BitVec 32) (v4938 : BitVec 32) (v5021 : BitVec 32) : Fin 3 → Nat :=
  let c199_i32_1150 : BitVec 32 := 199#32
  let c0_i32_1149 : BitVec 32 := 0#32
  let v4868 : BitVec 32 := Scalar.maxsi c0_i32_1149 v4867
  let v4869 : BitVec 32 := Scalar.minsi c199_i32_1150 v4868
  let v4939 : BitVec 32 := Scalar.addi v4869 v4938
  let c1_i32_1184 : BitVec 32 := 1#32
  let v4940 : BitVec 32 := Scalar.addi v4939 c1_i32_1184
  let c199_i32_1156 : BitVec 32 := 199#32
  let c0_i32_1155 : BitVec 32 := 0#32
  let v4878 : BitVec 32 := Scalar.maxsi c0_i32_1155 v4877
  let v4879 : BitVec 32 := Scalar.minsi c199_i32_1156 v4878
  let v4941 : BitVec 32 := Scalar.minsi v4940 v4879
  let v6213 : Index := Scalar.indexCast v4941
  let c199_i32_1147 : BitVec 32 := 199#32
  let c0_i32_1146 : BitVec 32 := 0#32
  let v4863 : BitVec 32 := Scalar.maxsi c0_i32_1146 v4862
  let v4864 : BitVec 32 := Scalar.minsi c199_i32_1147 v4863
  let v5022 : BitVec 32 := Scalar.addi v4864 v5021
  let c3_i32_1228 : BitVec 32 := 3#32
  let v5025 : BitVec 32 := Scalar.shrsi v5022 c3_i32_1228
  let c3_i32_1229 : BitVec 32 := 3#32
  let v5026 : BitVec 32 := Scalar.shli v5025 c3_i32_1229
  let v5027 : BitVec 32 := v5026
  let v6214 : Index := Scalar.indexCast v5027
  let c0_1486 : Index := 0#32
  ![v6213.toNat, v6214.toNat, 0]
def k0_off569 (k0_t1 : Fin k0_t1_loop.trips) : Fin 3 → Nat :=
  let c40_1488 : Index := 40#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c3_i32_1141 : BitVec 32 := 3#32
  let v4854 : BitVec 32 := Scalar.addi v5 c3_i32_1141
  let v6233 : Index := Scalar.indexCast v4854
  let c0_1489 : Index := 0#32
  ![40, v6233.toNat, 0]
def k0_off570 (v4862 : BitVec 32) (v4867 : BitVec 32) (v4938 : BitVec 32) (v5034 : BitVec 32) : Fin 3 → Nat :=
  let c199_i32_1150 : BitVec 32 := 199#32
  let c0_i32_1149 : BitVec 32 := 0#32
  let v4868 : BitVec 32 := Scalar.maxsi c0_i32_1149 v4867
  let v4869 : BitVec 32 := Scalar.minsi c199_i32_1150 v4868
  let v4939 : BitVec 32 := Scalar.addi v4869 v4938
  let v6238 : Index := Scalar.indexCast v4939
  let c199_i32_1147 : BitVec 32 := 199#32
  let c0_i32_1146 : BitVec 32 := 0#32
  let v4863 : BitVec 32 := Scalar.maxsi c0_i32_1146 v4862
  let v4864 : BitVec 32 := Scalar.minsi c199_i32_1147 v4863
  let v5035 : BitVec 32 := Scalar.addi v4864 v5034
  let c3_i32_1235 : BitVec 32 := 3#32
  let v5038 : BitVec 32 := Scalar.shrsi v5035 c3_i32_1235
  let c3_i32_1236 : BitVec 32 := 3#32
  let v5039 : BitVec 32 := Scalar.shli v5038 c3_i32_1236
  let v5040 : BitVec 32 := v5039
  let v6239 : Index := Scalar.indexCast v5040
  let c0_1491 : Index := 0#32
  ![v6238.toNat, v6239.toNat, 0]
def k0_off571 (v4862 : BitVec 32) (v4867 : BitVec 32) (v4877 : BitVec 32) (v4938 : BitVec 32) (v5034 : BitVec 32) : Fin 3 → Nat :=
  let c199_i32_1150 : BitVec 32 := 199#32
  let c0_i32_1149 : BitVec 32 := 0#32
  let v4868 : BitVec 32 := Scalar.maxsi c0_i32_1149 v4867
  let v4869 : BitVec 32 := Scalar.minsi c199_i32_1150 v4868
  let v4939 : BitVec 32 := Scalar.addi v4869 v4938
  let c1_i32_1184 : BitVec 32 := 1#32
  let v4940 : BitVec 32 := Scalar.addi v4939 c1_i32_1184
  let c199_i32_1156 : BitVec 32 := 199#32
  let c0_i32_1155 : BitVec 32 := 0#32
  let v4878 : BitVec 32 := Scalar.maxsi c0_i32_1155 v4877
  let v4879 : BitVec 32 := Scalar.minsi c199_i32_1156 v4878
  let v4941 : BitVec 32 := Scalar.minsi v4940 v4879
  let v6242 : Index := Scalar.indexCast v4941
  let c199_i32_1147 : BitVec 32 := 199#32
  let c0_i32_1146 : BitVec 32 := 0#32
  let v4863 : BitVec 32 := Scalar.maxsi c0_i32_1146 v4862
  let v4864 : BitVec 32 := Scalar.minsi c199_i32_1147 v4863
  let v5035 : BitVec 32 := Scalar.addi v4864 v5034
  let c3_i32_1235 : BitVec 32 := 3#32
  let v5038 : BitVec 32 := Scalar.shrsi v5035 c3_i32_1235
  let c3_i32_1236 : BitVec 32 := 3#32
  let v5039 : BitVec 32 := Scalar.shli v5038 c3_i32_1236
  let v5040 : BitVec 32 := v5039
  let v6243 : Index := Scalar.indexCast v5040
  let c0_1492 : Index := 0#32
  ![v6242.toNat, v6243.toNat, 0]
def k0_off572 (k0_t1 : Fin k0_t1_loop.trips) : Fin 3 → Nat :=
  let c41_1494 : Index := 41#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c3_i32_1141 : BitVec 32 := 3#32
  let v4854 : BitVec 32 := Scalar.addi v5 c3_i32_1141
  let v6262 : Index := Scalar.indexCast v4854
  let c0_1495 : Index := 0#32
  ![41, v6262.toNat, 0]
def k0_off573 (v4862 : BitVec 32) (v4867 : BitVec 32) (v4947 : BitVec 32) (v4956 : BitVec 32) : Fin 3 → Nat :=
  let c199_i32_1150 : BitVec 32 := 199#32
  let c0_i32_1149 : BitVec 32 := 0#32
  let v4868 : BitVec 32 := Scalar.maxsi c0_i32_1149 v4867
  let v4869 : BitVec 32 := Scalar.minsi c199_i32_1150 v4868
  let v4948 : BitVec 32 := Scalar.addi v4869 v4947
  let v6268 : Index := Scalar.indexCast v4948
  let c199_i32_1147 : BitVec 32 := 199#32
  let c0_i32_1146 : BitVec 32 := 0#32
  let v4863 : BitVec 32 := Scalar.maxsi c0_i32_1146 v4862
  let v4864 : BitVec 32 := Scalar.minsi c199_i32_1147 v4863
  let v4957 : BitVec 32 := Scalar.addi v4864 v4956
  let c3_i32_1193 : BitVec 32 := 3#32
  let v4960 : BitVec 32 := Scalar.shrsi v4957 c3_i32_1193
  let c3_i32_1194 : BitVec 32 := 3#32
  let v4961 : BitVec 32 := Scalar.shli v4960 c3_i32_1194
  let v4962 : BitVec 32 := v4961
  let v6269 : Index := Scalar.indexCast v4962
  let c0_1498 : Index := 0#32
  ![v6268.toNat, v6269.toNat, 0]
def k0_off574 (v4862 : BitVec 32) (v4867 : BitVec 32) (v4877 : BitVec 32) (v4947 : BitVec 32) (v4956 : BitVec 32) : Fin 3 → Nat :=
  let c199_i32_1150 : BitVec 32 := 199#32
  let c0_i32_1149 : BitVec 32 := 0#32
  let v4868 : BitVec 32 := Scalar.maxsi c0_i32_1149 v4867
  let v4869 : BitVec 32 := Scalar.minsi c199_i32_1150 v4868
  let v4948 : BitVec 32 := Scalar.addi v4869 v4947
  let c1_i32_1188 : BitVec 32 := 1#32
  let v4949 : BitVec 32 := Scalar.addi v4948 c1_i32_1188
  let c199_i32_1156 : BitVec 32 := 199#32
  let c0_i32_1155 : BitVec 32 := 0#32
  let v4878 : BitVec 32 := Scalar.maxsi c0_i32_1155 v4877
  let v4879 : BitVec 32 := Scalar.minsi c199_i32_1156 v4878
  let v4950 : BitVec 32 := Scalar.minsi v4949 v4879
  let v6272 : Index := Scalar.indexCast v4950
  let c199_i32_1147 : BitVec 32 := 199#32
  let c0_i32_1146 : BitVec 32 := 0#32
  let v4863 : BitVec 32 := Scalar.maxsi c0_i32_1146 v4862
  let v4864 : BitVec 32 := Scalar.minsi c199_i32_1147 v4863
  let v4957 : BitVec 32 := Scalar.addi v4864 v4956
  let c3_i32_1193 : BitVec 32 := 3#32
  let v4960 : BitVec 32 := Scalar.shrsi v4957 c3_i32_1193
  let c3_i32_1194 : BitVec 32 := 3#32
  let v4961 : BitVec 32 := Scalar.shli v4960 c3_i32_1194
  let v4962 : BitVec 32 := v4961
  let v6273 : Index := Scalar.indexCast v4962
  let c0_1499 : Index := 0#32
  ![v6272.toNat, v6273.toNat, 0]

def k0_chk22 (v4862 : BitVec 32) (v4867 : BitVec 32) (v4877 : BitVec 32) (v4893 : BitVec 32) (v4902 : BitVec 32) (v4911 : BitVec 32) (v4920 : BitVec 32) (v4929 : BitVec 32) (v4938 : BitVec 32) (v4947 : BitVec 32) (v4956 : BitVec 32) : Prop :=
  (8 ∣ (k0_mult23 v4862 v4956).toNat) ∧
  (∀ a, (k0_off447 v4862 v4867 v4893 v4956) a + S1x16x256.size a ≤ S200x216x256.size a) ∧
  (∀ a, (k0_off448 v4862 v4867 v4877 v4893 v4956) a + S1x16x256.size a ≤ S200x216x256.size a) ∧
  (∀ a, (k0_off468 v4862 v4867 v4902 v4956) a + S1x16x256.size a ≤ S200x216x256.size a) ∧
  (∀ a, (k0_off469 v4862 v4867 v4877 v4902 v4956) a + S1x16x256.size a ≤ S200x216x256.size a) ∧
  (∀ a, (k0_off489 v4862 v4867 v4911 v4956) a + S1x16x256.size a ≤ S200x216x256.size a) ∧
  (∀ a, (k0_off490 v4862 v4867 v4877 v4911 v4956) a + S1x16x256.size a ≤ S200x216x256.size a) ∧
  (∀ a, (k0_off510 v4862 v4867 v4920 v4956) a + S1x16x256.size a ≤ S200x216x256.size a) ∧
  (∀ a, (k0_off511 v4862 v4867 v4877 v4920 v4956) a + S1x16x256.size a ≤ S200x216x256.size a) ∧
  (∀ a, (k0_off531 v4862 v4867 v4929 v4956) a + S1x16x256.size a ≤ S200x216x256.size a) ∧
  (∀ a, (k0_off532 v4862 v4867 v4877 v4929 v4956) a + S1x16x256.size a ≤ S200x216x256.size a) ∧
  (∀ a, (k0_off552 v4862 v4867 v4938 v4956) a + S1x16x256.size a ≤ S200x216x256.size a) ∧
  (∀ a, (k0_off553 v4862 v4867 v4877 v4938 v4956) a + S1x16x256.size a ≤ S200x216x256.size a) ∧
  (∀ a, (k0_off573 v4862 v4867 v4947 v4956) a + S1x16x256.size a ≤ S200x216x256.size a) ∧
  (∀ a, (k0_off574 v4862 v4867 v4877 v4947 v4956) a + S1x16x256.size a ≤ S200x216x256.size a)
theorem k0_mult23_dvd : ∀ (v4862 : BitVec 32) (v4867 : BitVec 32) (v4877 : BitVec 32) (v4893 : BitVec 32) (v4902 : BitVec 32) (v4911 : BitVec 32) (v4920 : BitVec 32) (v4929 : BitVec 32) (v4938 : BitVec 32) (v4947 : BitVec 32) (v4956 : BitVec 32) (k0_hw22 : k0_chk22 v4862 v4867 v4877 v4893 v4902 v4911 v4920 v4929 v4938 v4947 v4956), 8 ∣ (k0_mult23 v4862 v4956).toNat := fun v4862 v4867 v4877 v4893 v4902 v4911 v4920 v4929 v4938 v4947 v4956 k0_hw22 => k0_hw22.1
theorem k0_off447_inb : ∀ (v4862 : BitVec 32) (v4867 : BitVec 32) (v4877 : BitVec 32) (v4893 : BitVec 32) (v4902 : BitVec 32) (v4911 : BitVec 32) (v4920 : BitVec 32) (v4929 : BitVec 32) (v4938 : BitVec 32) (v4947 : BitVec 32) (v4956 : BitVec 32) (k0_hw22 : k0_chk22 v4862 v4867 v4877 v4893 v4902 v4911 v4920 v4929 v4938 v4947 v4956), ∀ a, (k0_off447 v4862 v4867 v4893 v4956) a + S1x16x256.size a ≤ S200x216x256.size a := fun v4862 v4867 v4877 v4893 v4902 v4911 v4920 v4929 v4938 v4947 v4956 k0_hw22 => k0_hw22.2.1
theorem k0_off448_inb : ∀ (v4862 : BitVec 32) (v4867 : BitVec 32) (v4877 : BitVec 32) (v4893 : BitVec 32) (v4902 : BitVec 32) (v4911 : BitVec 32) (v4920 : BitVec 32) (v4929 : BitVec 32) (v4938 : BitVec 32) (v4947 : BitVec 32) (v4956 : BitVec 32) (k0_hw22 : k0_chk22 v4862 v4867 v4877 v4893 v4902 v4911 v4920 v4929 v4938 v4947 v4956), ∀ a, (k0_off448 v4862 v4867 v4877 v4893 v4956) a + S1x16x256.size a ≤ S200x216x256.size a := fun v4862 v4867 v4877 v4893 v4902 v4911 v4920 v4929 v4938 v4947 v4956 k0_hw22 => k0_hw22.2.2.1
theorem k0_off468_inb : ∀ (v4862 : BitVec 32) (v4867 : BitVec 32) (v4877 : BitVec 32) (v4893 : BitVec 32) (v4902 : BitVec 32) (v4911 : BitVec 32) (v4920 : BitVec 32) (v4929 : BitVec 32) (v4938 : BitVec 32) (v4947 : BitVec 32) (v4956 : BitVec 32) (k0_hw22 : k0_chk22 v4862 v4867 v4877 v4893 v4902 v4911 v4920 v4929 v4938 v4947 v4956), ∀ a, (k0_off468 v4862 v4867 v4902 v4956) a + S1x16x256.size a ≤ S200x216x256.size a := fun v4862 v4867 v4877 v4893 v4902 v4911 v4920 v4929 v4938 v4947 v4956 k0_hw22 => k0_hw22.2.2.2.1
theorem k0_off469_inb : ∀ (v4862 : BitVec 32) (v4867 : BitVec 32) (v4877 : BitVec 32) (v4893 : BitVec 32) (v4902 : BitVec 32) (v4911 : BitVec 32) (v4920 : BitVec 32) (v4929 : BitVec 32) (v4938 : BitVec 32) (v4947 : BitVec 32) (v4956 : BitVec 32) (k0_hw22 : k0_chk22 v4862 v4867 v4877 v4893 v4902 v4911 v4920 v4929 v4938 v4947 v4956), ∀ a, (k0_off469 v4862 v4867 v4877 v4902 v4956) a + S1x16x256.size a ≤ S200x216x256.size a := fun v4862 v4867 v4877 v4893 v4902 v4911 v4920 v4929 v4938 v4947 v4956 k0_hw22 => k0_hw22.2.2.2.2.1
theorem k0_off489_inb : ∀ (v4862 : BitVec 32) (v4867 : BitVec 32) (v4877 : BitVec 32) (v4893 : BitVec 32) (v4902 : BitVec 32) (v4911 : BitVec 32) (v4920 : BitVec 32) (v4929 : BitVec 32) (v4938 : BitVec 32) (v4947 : BitVec 32) (v4956 : BitVec 32) (k0_hw22 : k0_chk22 v4862 v4867 v4877 v4893 v4902 v4911 v4920 v4929 v4938 v4947 v4956), ∀ a, (k0_off489 v4862 v4867 v4911 v4956) a + S1x16x256.size a ≤ S200x216x256.size a := fun v4862 v4867 v4877 v4893 v4902 v4911 v4920 v4929 v4938 v4947 v4956 k0_hw22 => k0_hw22.2.2.2.2.2.1
theorem k0_off490_inb : ∀ (v4862 : BitVec 32) (v4867 : BitVec 32) (v4877 : BitVec 32) (v4893 : BitVec 32) (v4902 : BitVec 32) (v4911 : BitVec 32) (v4920 : BitVec 32) (v4929 : BitVec 32) (v4938 : BitVec 32) (v4947 : BitVec 32) (v4956 : BitVec 32) (k0_hw22 : k0_chk22 v4862 v4867 v4877 v4893 v4902 v4911 v4920 v4929 v4938 v4947 v4956), ∀ a, (k0_off490 v4862 v4867 v4877 v4911 v4956) a + S1x16x256.size a ≤ S200x216x256.size a := fun v4862 v4867 v4877 v4893 v4902 v4911 v4920 v4929 v4938 v4947 v4956 k0_hw22 => k0_hw22.2.2.2.2.2.2.1
theorem k0_off510_inb : ∀ (v4862 : BitVec 32) (v4867 : BitVec 32) (v4877 : BitVec 32) (v4893 : BitVec 32) (v4902 : BitVec 32) (v4911 : BitVec 32) (v4920 : BitVec 32) (v4929 : BitVec 32) (v4938 : BitVec 32) (v4947 : BitVec 32) (v4956 : BitVec 32) (k0_hw22 : k0_chk22 v4862 v4867 v4877 v4893 v4902 v4911 v4920 v4929 v4938 v4947 v4956), ∀ a, (k0_off510 v4862 v4867 v4920 v4956) a + S1x16x256.size a ≤ S200x216x256.size a := fun v4862 v4867 v4877 v4893 v4902 v4911 v4920 v4929 v4938 v4947 v4956 k0_hw22 => k0_hw22.2.2.2.2.2.2.2.1
theorem k0_off511_inb : ∀ (v4862 : BitVec 32) (v4867 : BitVec 32) (v4877 : BitVec 32) (v4893 : BitVec 32) (v4902 : BitVec 32) (v4911 : BitVec 32) (v4920 : BitVec 32) (v4929 : BitVec 32) (v4938 : BitVec 32) (v4947 : BitVec 32) (v4956 : BitVec 32) (k0_hw22 : k0_chk22 v4862 v4867 v4877 v4893 v4902 v4911 v4920 v4929 v4938 v4947 v4956), ∀ a, (k0_off511 v4862 v4867 v4877 v4920 v4956) a + S1x16x256.size a ≤ S200x216x256.size a := fun v4862 v4867 v4877 v4893 v4902 v4911 v4920 v4929 v4938 v4947 v4956 k0_hw22 => k0_hw22.2.2.2.2.2.2.2.2.1
theorem k0_off531_inb : ∀ (v4862 : BitVec 32) (v4867 : BitVec 32) (v4877 : BitVec 32) (v4893 : BitVec 32) (v4902 : BitVec 32) (v4911 : BitVec 32) (v4920 : BitVec 32) (v4929 : BitVec 32) (v4938 : BitVec 32) (v4947 : BitVec 32) (v4956 : BitVec 32) (k0_hw22 : k0_chk22 v4862 v4867 v4877 v4893 v4902 v4911 v4920 v4929 v4938 v4947 v4956), ∀ a, (k0_off531 v4862 v4867 v4929 v4956) a + S1x16x256.size a ≤ S200x216x256.size a := fun v4862 v4867 v4877 v4893 v4902 v4911 v4920 v4929 v4938 v4947 v4956 k0_hw22 => k0_hw22.2.2.2.2.2.2.2.2.2.1
theorem k0_off532_inb : ∀ (v4862 : BitVec 32) (v4867 : BitVec 32) (v4877 : BitVec 32) (v4893 : BitVec 32) (v4902 : BitVec 32) (v4911 : BitVec 32) (v4920 : BitVec 32) (v4929 : BitVec 32) (v4938 : BitVec 32) (v4947 : BitVec 32) (v4956 : BitVec 32) (k0_hw22 : k0_chk22 v4862 v4867 v4877 v4893 v4902 v4911 v4920 v4929 v4938 v4947 v4956), ∀ a, (k0_off532 v4862 v4867 v4877 v4929 v4956) a + S1x16x256.size a ≤ S200x216x256.size a := fun v4862 v4867 v4877 v4893 v4902 v4911 v4920 v4929 v4938 v4947 v4956 k0_hw22 => k0_hw22.2.2.2.2.2.2.2.2.2.2.1
theorem k0_off552_inb : ∀ (v4862 : BitVec 32) (v4867 : BitVec 32) (v4877 : BitVec 32) (v4893 : BitVec 32) (v4902 : BitVec 32) (v4911 : BitVec 32) (v4920 : BitVec 32) (v4929 : BitVec 32) (v4938 : BitVec 32) (v4947 : BitVec 32) (v4956 : BitVec 32) (k0_hw22 : k0_chk22 v4862 v4867 v4877 v4893 v4902 v4911 v4920 v4929 v4938 v4947 v4956), ∀ a, (k0_off552 v4862 v4867 v4938 v4956) a + S1x16x256.size a ≤ S200x216x256.size a := fun v4862 v4867 v4877 v4893 v4902 v4911 v4920 v4929 v4938 v4947 v4956 k0_hw22 => k0_hw22.2.2.2.2.2.2.2.2.2.2.2.1
theorem k0_off553_inb : ∀ (v4862 : BitVec 32) (v4867 : BitVec 32) (v4877 : BitVec 32) (v4893 : BitVec 32) (v4902 : BitVec 32) (v4911 : BitVec 32) (v4920 : BitVec 32) (v4929 : BitVec 32) (v4938 : BitVec 32) (v4947 : BitVec 32) (v4956 : BitVec 32) (k0_hw22 : k0_chk22 v4862 v4867 v4877 v4893 v4902 v4911 v4920 v4929 v4938 v4947 v4956), ∀ a, (k0_off553 v4862 v4867 v4877 v4938 v4956) a + S1x16x256.size a ≤ S200x216x256.size a := fun v4862 v4867 v4877 v4893 v4902 v4911 v4920 v4929 v4938 v4947 v4956 k0_hw22 => k0_hw22.2.2.2.2.2.2.2.2.2.2.2.2.1
theorem k0_off573_inb : ∀ (v4862 : BitVec 32) (v4867 : BitVec 32) (v4877 : BitVec 32) (v4893 : BitVec 32) (v4902 : BitVec 32) (v4911 : BitVec 32) (v4920 : BitVec 32) (v4929 : BitVec 32) (v4938 : BitVec 32) (v4947 : BitVec 32) (v4956 : BitVec 32) (k0_hw22 : k0_chk22 v4862 v4867 v4877 v4893 v4902 v4911 v4920 v4929 v4938 v4947 v4956), ∀ a, (k0_off573 v4862 v4867 v4947 v4956) a + S1x16x256.size a ≤ S200x216x256.size a := fun v4862 v4867 v4877 v4893 v4902 v4911 v4920 v4929 v4938 v4947 v4956 k0_hw22 => k0_hw22.2.2.2.2.2.2.2.2.2.2.2.2.2.1
theorem k0_off574_inb : ∀ (v4862 : BitVec 32) (v4867 : BitVec 32) (v4877 : BitVec 32) (v4893 : BitVec 32) (v4902 : BitVec 32) (v4911 : BitVec 32) (v4920 : BitVec 32) (v4929 : BitVec 32) (v4938 : BitVec 32) (v4947 : BitVec 32) (v4956 : BitVec 32) (k0_hw22 : k0_chk22 v4862 v4867 v4877 v4893 v4902 v4911 v4920 v4929 v4938 v4947 v4956), ∀ a, (k0_off574 v4862 v4867 v4877 v4947 v4956) a + S1x16x256.size a ≤ S200x216x256.size a := fun v4862 v4867 v4877 v4893 v4902 v4911 v4920 v4929 v4938 v4947 v4956 k0_hw22 => k0_hw22.2.2.2.2.2.2.2.2.2.2.2.2.2.2

def k0_off575 (k0_t1 : Fin k0_t1_loop.trips) : Fin 3 → Nat :=
  let c42_1501 : Index := 42#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c3_i32_1141 : BitVec 32 := 3#32
  let v4854 : BitVec 32 := Scalar.addi v5 c3_i32_1141
  let v6292 : Index := Scalar.indexCast v4854
  let c0_1502 : Index := 0#32
  ![42, v6292.toNat, 0]
def k0_off576 (v4862 : BitVec 32) (v4867 : BitVec 32) (v4947 : BitVec 32) (v4969 : BitVec 32) : Fin 3 → Nat :=
  let c199_i32_1150 : BitVec 32 := 199#32
  let c0_i32_1149 : BitVec 32 := 0#32
  let v4868 : BitVec 32 := Scalar.maxsi c0_i32_1149 v4867
  let v4869 : BitVec 32 := Scalar.minsi c199_i32_1150 v4868
  let v4948 : BitVec 32 := Scalar.addi v4869 v4947
  let v6297 : Index := Scalar.indexCast v4948
  let c199_i32_1147 : BitVec 32 := 199#32
  let c0_i32_1146 : BitVec 32 := 0#32
  let v4863 : BitVec 32 := Scalar.maxsi c0_i32_1146 v4862
  let v4864 : BitVec 32 := Scalar.minsi c199_i32_1147 v4863
  let v4970 : BitVec 32 := Scalar.addi v4864 v4969
  let c3_i32_1200 : BitVec 32 := 3#32
  let v4973 : BitVec 32 := Scalar.shrsi v4970 c3_i32_1200
  let c3_i32_1201 : BitVec 32 := 3#32
  let v4974 : BitVec 32 := Scalar.shli v4973 c3_i32_1201
  let v4975 : BitVec 32 := v4974
  let v6298 : Index := Scalar.indexCast v4975
  let c0_1504 : Index := 0#32
  ![v6297.toNat, v6298.toNat, 0]
def k0_off577 (v4862 : BitVec 32) (v4867 : BitVec 32) (v4877 : BitVec 32) (v4947 : BitVec 32) (v4969 : BitVec 32) : Fin 3 → Nat :=
  let c199_i32_1150 : BitVec 32 := 199#32
  let c0_i32_1149 : BitVec 32 := 0#32
  let v4868 : BitVec 32 := Scalar.maxsi c0_i32_1149 v4867
  let v4869 : BitVec 32 := Scalar.minsi c199_i32_1150 v4868
  let v4948 : BitVec 32 := Scalar.addi v4869 v4947
  let c1_i32_1188 : BitVec 32 := 1#32
  let v4949 : BitVec 32 := Scalar.addi v4948 c1_i32_1188
  let c199_i32_1156 : BitVec 32 := 199#32
  let c0_i32_1155 : BitVec 32 := 0#32
  let v4878 : BitVec 32 := Scalar.maxsi c0_i32_1155 v4877
  let v4879 : BitVec 32 := Scalar.minsi c199_i32_1156 v4878
  let v4950 : BitVec 32 := Scalar.minsi v4949 v4879
  let v6301 : Index := Scalar.indexCast v4950
  let c199_i32_1147 : BitVec 32 := 199#32
  let c0_i32_1146 : BitVec 32 := 0#32
  let v4863 : BitVec 32 := Scalar.maxsi c0_i32_1146 v4862
  let v4864 : BitVec 32 := Scalar.minsi c199_i32_1147 v4863
  let v4970 : BitVec 32 := Scalar.addi v4864 v4969
  let c3_i32_1200 : BitVec 32 := 3#32
  let v4973 : BitVec 32 := Scalar.shrsi v4970 c3_i32_1200
  let c3_i32_1201 : BitVec 32 := 3#32
  let v4974 : BitVec 32 := Scalar.shli v4973 c3_i32_1201
  let v4975 : BitVec 32 := v4974
  let v6302 : Index := Scalar.indexCast v4975
  let c0_1505 : Index := 0#32
  ![v6301.toNat, v6302.toNat, 0]

def k0_chk23 (v4862 : BitVec 32) (v4867 : BitVec 32) (v4877 : BitVec 32) (v4893 : BitVec 32) (v4902 : BitVec 32) (v4911 : BitVec 32) (v4920 : BitVec 32) (v4929 : BitVec 32) (v4938 : BitVec 32) (v4947 : BitVec 32) (v4969 : BitVec 32) : Prop :=
  (8 ∣ (k0_mult24 v4862 v4969).toNat) ∧
  (∀ a, (k0_off450 v4862 v4867 v4893 v4969) a + S1x16x256.size a ≤ S200x216x256.size a) ∧
  (∀ a, (k0_off451 v4862 v4867 v4877 v4893 v4969) a + S1x16x256.size a ≤ S200x216x256.size a) ∧
  (∀ a, (k0_off471 v4862 v4867 v4902 v4969) a + S1x16x256.size a ≤ S200x216x256.size a) ∧
  (∀ a, (k0_off472 v4862 v4867 v4877 v4902 v4969) a + S1x16x256.size a ≤ S200x216x256.size a) ∧
  (∀ a, (k0_off492 v4862 v4867 v4911 v4969) a + S1x16x256.size a ≤ S200x216x256.size a) ∧
  (∀ a, (k0_off493 v4862 v4867 v4877 v4911 v4969) a + S1x16x256.size a ≤ S200x216x256.size a) ∧
  (∀ a, (k0_off513 v4862 v4867 v4920 v4969) a + S1x16x256.size a ≤ S200x216x256.size a) ∧
  (∀ a, (k0_off514 v4862 v4867 v4877 v4920 v4969) a + S1x16x256.size a ≤ S200x216x256.size a) ∧
  (∀ a, (k0_off534 v4862 v4867 v4929 v4969) a + S1x16x256.size a ≤ S200x216x256.size a) ∧
  (∀ a, (k0_off535 v4862 v4867 v4877 v4929 v4969) a + S1x16x256.size a ≤ S200x216x256.size a) ∧
  (∀ a, (k0_off555 v4862 v4867 v4938 v4969) a + S1x16x256.size a ≤ S200x216x256.size a) ∧
  (∀ a, (k0_off556 v4862 v4867 v4877 v4938 v4969) a + S1x16x256.size a ≤ S200x216x256.size a) ∧
  (∀ a, (k0_off576 v4862 v4867 v4947 v4969) a + S1x16x256.size a ≤ S200x216x256.size a) ∧
  (∀ a, (k0_off577 v4862 v4867 v4877 v4947 v4969) a + S1x16x256.size a ≤ S200x216x256.size a)
theorem k0_mult24_dvd : ∀ (v4862 : BitVec 32) (v4867 : BitVec 32) (v4877 : BitVec 32) (v4893 : BitVec 32) (v4902 : BitVec 32) (v4911 : BitVec 32) (v4920 : BitVec 32) (v4929 : BitVec 32) (v4938 : BitVec 32) (v4947 : BitVec 32) (v4969 : BitVec 32) (k0_hw23 : k0_chk23 v4862 v4867 v4877 v4893 v4902 v4911 v4920 v4929 v4938 v4947 v4969), 8 ∣ (k0_mult24 v4862 v4969).toNat := fun v4862 v4867 v4877 v4893 v4902 v4911 v4920 v4929 v4938 v4947 v4969 k0_hw23 => k0_hw23.1
theorem k0_off450_inb : ∀ (v4862 : BitVec 32) (v4867 : BitVec 32) (v4877 : BitVec 32) (v4893 : BitVec 32) (v4902 : BitVec 32) (v4911 : BitVec 32) (v4920 : BitVec 32) (v4929 : BitVec 32) (v4938 : BitVec 32) (v4947 : BitVec 32) (v4969 : BitVec 32) (k0_hw23 : k0_chk23 v4862 v4867 v4877 v4893 v4902 v4911 v4920 v4929 v4938 v4947 v4969), ∀ a, (k0_off450 v4862 v4867 v4893 v4969) a + S1x16x256.size a ≤ S200x216x256.size a := fun v4862 v4867 v4877 v4893 v4902 v4911 v4920 v4929 v4938 v4947 v4969 k0_hw23 => k0_hw23.2.1
theorem k0_off451_inb : ∀ (v4862 : BitVec 32) (v4867 : BitVec 32) (v4877 : BitVec 32) (v4893 : BitVec 32) (v4902 : BitVec 32) (v4911 : BitVec 32) (v4920 : BitVec 32) (v4929 : BitVec 32) (v4938 : BitVec 32) (v4947 : BitVec 32) (v4969 : BitVec 32) (k0_hw23 : k0_chk23 v4862 v4867 v4877 v4893 v4902 v4911 v4920 v4929 v4938 v4947 v4969), ∀ a, (k0_off451 v4862 v4867 v4877 v4893 v4969) a + S1x16x256.size a ≤ S200x216x256.size a := fun v4862 v4867 v4877 v4893 v4902 v4911 v4920 v4929 v4938 v4947 v4969 k0_hw23 => k0_hw23.2.2.1
theorem k0_off471_inb : ∀ (v4862 : BitVec 32) (v4867 : BitVec 32) (v4877 : BitVec 32) (v4893 : BitVec 32) (v4902 : BitVec 32) (v4911 : BitVec 32) (v4920 : BitVec 32) (v4929 : BitVec 32) (v4938 : BitVec 32) (v4947 : BitVec 32) (v4969 : BitVec 32) (k0_hw23 : k0_chk23 v4862 v4867 v4877 v4893 v4902 v4911 v4920 v4929 v4938 v4947 v4969), ∀ a, (k0_off471 v4862 v4867 v4902 v4969) a + S1x16x256.size a ≤ S200x216x256.size a := fun v4862 v4867 v4877 v4893 v4902 v4911 v4920 v4929 v4938 v4947 v4969 k0_hw23 => k0_hw23.2.2.2.1
theorem k0_off472_inb : ∀ (v4862 : BitVec 32) (v4867 : BitVec 32) (v4877 : BitVec 32) (v4893 : BitVec 32) (v4902 : BitVec 32) (v4911 : BitVec 32) (v4920 : BitVec 32) (v4929 : BitVec 32) (v4938 : BitVec 32) (v4947 : BitVec 32) (v4969 : BitVec 32) (k0_hw23 : k0_chk23 v4862 v4867 v4877 v4893 v4902 v4911 v4920 v4929 v4938 v4947 v4969), ∀ a, (k0_off472 v4862 v4867 v4877 v4902 v4969) a + S1x16x256.size a ≤ S200x216x256.size a := fun v4862 v4867 v4877 v4893 v4902 v4911 v4920 v4929 v4938 v4947 v4969 k0_hw23 => k0_hw23.2.2.2.2.1
theorem k0_off492_inb : ∀ (v4862 : BitVec 32) (v4867 : BitVec 32) (v4877 : BitVec 32) (v4893 : BitVec 32) (v4902 : BitVec 32) (v4911 : BitVec 32) (v4920 : BitVec 32) (v4929 : BitVec 32) (v4938 : BitVec 32) (v4947 : BitVec 32) (v4969 : BitVec 32) (k0_hw23 : k0_chk23 v4862 v4867 v4877 v4893 v4902 v4911 v4920 v4929 v4938 v4947 v4969), ∀ a, (k0_off492 v4862 v4867 v4911 v4969) a + S1x16x256.size a ≤ S200x216x256.size a := fun v4862 v4867 v4877 v4893 v4902 v4911 v4920 v4929 v4938 v4947 v4969 k0_hw23 => k0_hw23.2.2.2.2.2.1
theorem k0_off493_inb : ∀ (v4862 : BitVec 32) (v4867 : BitVec 32) (v4877 : BitVec 32) (v4893 : BitVec 32) (v4902 : BitVec 32) (v4911 : BitVec 32) (v4920 : BitVec 32) (v4929 : BitVec 32) (v4938 : BitVec 32) (v4947 : BitVec 32) (v4969 : BitVec 32) (k0_hw23 : k0_chk23 v4862 v4867 v4877 v4893 v4902 v4911 v4920 v4929 v4938 v4947 v4969), ∀ a, (k0_off493 v4862 v4867 v4877 v4911 v4969) a + S1x16x256.size a ≤ S200x216x256.size a := fun v4862 v4867 v4877 v4893 v4902 v4911 v4920 v4929 v4938 v4947 v4969 k0_hw23 => k0_hw23.2.2.2.2.2.2.1
theorem k0_off513_inb : ∀ (v4862 : BitVec 32) (v4867 : BitVec 32) (v4877 : BitVec 32) (v4893 : BitVec 32) (v4902 : BitVec 32) (v4911 : BitVec 32) (v4920 : BitVec 32) (v4929 : BitVec 32) (v4938 : BitVec 32) (v4947 : BitVec 32) (v4969 : BitVec 32) (k0_hw23 : k0_chk23 v4862 v4867 v4877 v4893 v4902 v4911 v4920 v4929 v4938 v4947 v4969), ∀ a, (k0_off513 v4862 v4867 v4920 v4969) a + S1x16x256.size a ≤ S200x216x256.size a := fun v4862 v4867 v4877 v4893 v4902 v4911 v4920 v4929 v4938 v4947 v4969 k0_hw23 => k0_hw23.2.2.2.2.2.2.2.1
theorem k0_off514_inb : ∀ (v4862 : BitVec 32) (v4867 : BitVec 32) (v4877 : BitVec 32) (v4893 : BitVec 32) (v4902 : BitVec 32) (v4911 : BitVec 32) (v4920 : BitVec 32) (v4929 : BitVec 32) (v4938 : BitVec 32) (v4947 : BitVec 32) (v4969 : BitVec 32) (k0_hw23 : k0_chk23 v4862 v4867 v4877 v4893 v4902 v4911 v4920 v4929 v4938 v4947 v4969), ∀ a, (k0_off514 v4862 v4867 v4877 v4920 v4969) a + S1x16x256.size a ≤ S200x216x256.size a := fun v4862 v4867 v4877 v4893 v4902 v4911 v4920 v4929 v4938 v4947 v4969 k0_hw23 => k0_hw23.2.2.2.2.2.2.2.2.1
theorem k0_off534_inb : ∀ (v4862 : BitVec 32) (v4867 : BitVec 32) (v4877 : BitVec 32) (v4893 : BitVec 32) (v4902 : BitVec 32) (v4911 : BitVec 32) (v4920 : BitVec 32) (v4929 : BitVec 32) (v4938 : BitVec 32) (v4947 : BitVec 32) (v4969 : BitVec 32) (k0_hw23 : k0_chk23 v4862 v4867 v4877 v4893 v4902 v4911 v4920 v4929 v4938 v4947 v4969), ∀ a, (k0_off534 v4862 v4867 v4929 v4969) a + S1x16x256.size a ≤ S200x216x256.size a := fun v4862 v4867 v4877 v4893 v4902 v4911 v4920 v4929 v4938 v4947 v4969 k0_hw23 => k0_hw23.2.2.2.2.2.2.2.2.2.1
theorem k0_off535_inb : ∀ (v4862 : BitVec 32) (v4867 : BitVec 32) (v4877 : BitVec 32) (v4893 : BitVec 32) (v4902 : BitVec 32) (v4911 : BitVec 32) (v4920 : BitVec 32) (v4929 : BitVec 32) (v4938 : BitVec 32) (v4947 : BitVec 32) (v4969 : BitVec 32) (k0_hw23 : k0_chk23 v4862 v4867 v4877 v4893 v4902 v4911 v4920 v4929 v4938 v4947 v4969), ∀ a, (k0_off535 v4862 v4867 v4877 v4929 v4969) a + S1x16x256.size a ≤ S200x216x256.size a := fun v4862 v4867 v4877 v4893 v4902 v4911 v4920 v4929 v4938 v4947 v4969 k0_hw23 => k0_hw23.2.2.2.2.2.2.2.2.2.2.1
theorem k0_off555_inb : ∀ (v4862 : BitVec 32) (v4867 : BitVec 32) (v4877 : BitVec 32) (v4893 : BitVec 32) (v4902 : BitVec 32) (v4911 : BitVec 32) (v4920 : BitVec 32) (v4929 : BitVec 32) (v4938 : BitVec 32) (v4947 : BitVec 32) (v4969 : BitVec 32) (k0_hw23 : k0_chk23 v4862 v4867 v4877 v4893 v4902 v4911 v4920 v4929 v4938 v4947 v4969), ∀ a, (k0_off555 v4862 v4867 v4938 v4969) a + S1x16x256.size a ≤ S200x216x256.size a := fun v4862 v4867 v4877 v4893 v4902 v4911 v4920 v4929 v4938 v4947 v4969 k0_hw23 => k0_hw23.2.2.2.2.2.2.2.2.2.2.2.1
theorem k0_off556_inb : ∀ (v4862 : BitVec 32) (v4867 : BitVec 32) (v4877 : BitVec 32) (v4893 : BitVec 32) (v4902 : BitVec 32) (v4911 : BitVec 32) (v4920 : BitVec 32) (v4929 : BitVec 32) (v4938 : BitVec 32) (v4947 : BitVec 32) (v4969 : BitVec 32) (k0_hw23 : k0_chk23 v4862 v4867 v4877 v4893 v4902 v4911 v4920 v4929 v4938 v4947 v4969), ∀ a, (k0_off556 v4862 v4867 v4877 v4938 v4969) a + S1x16x256.size a ≤ S200x216x256.size a := fun v4862 v4867 v4877 v4893 v4902 v4911 v4920 v4929 v4938 v4947 v4969 k0_hw23 => k0_hw23.2.2.2.2.2.2.2.2.2.2.2.2.1
theorem k0_off576_inb : ∀ (v4862 : BitVec 32) (v4867 : BitVec 32) (v4877 : BitVec 32) (v4893 : BitVec 32) (v4902 : BitVec 32) (v4911 : BitVec 32) (v4920 : BitVec 32) (v4929 : BitVec 32) (v4938 : BitVec 32) (v4947 : BitVec 32) (v4969 : BitVec 32) (k0_hw23 : k0_chk23 v4862 v4867 v4877 v4893 v4902 v4911 v4920 v4929 v4938 v4947 v4969), ∀ a, (k0_off576 v4862 v4867 v4947 v4969) a + S1x16x256.size a ≤ S200x216x256.size a := fun v4862 v4867 v4877 v4893 v4902 v4911 v4920 v4929 v4938 v4947 v4969 k0_hw23 => k0_hw23.2.2.2.2.2.2.2.2.2.2.2.2.2.1
theorem k0_off577_inb : ∀ (v4862 : BitVec 32) (v4867 : BitVec 32) (v4877 : BitVec 32) (v4893 : BitVec 32) (v4902 : BitVec 32) (v4911 : BitVec 32) (v4920 : BitVec 32) (v4929 : BitVec 32) (v4938 : BitVec 32) (v4947 : BitVec 32) (v4969 : BitVec 32) (k0_hw23 : k0_chk23 v4862 v4867 v4877 v4893 v4902 v4911 v4920 v4929 v4938 v4947 v4969), ∀ a, (k0_off577 v4862 v4867 v4877 v4947 v4969) a + S1x16x256.size a ≤ S200x216x256.size a := fun v4862 v4867 v4877 v4893 v4902 v4911 v4920 v4929 v4938 v4947 v4969 k0_hw23 => k0_hw23.2.2.2.2.2.2.2.2.2.2.2.2.2.2

def k0_off578 (k0_t1 : Fin k0_t1_loop.trips) : Fin 3 → Nat :=
  let c43_1507 : Index := 43#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c3_i32_1141 : BitVec 32 := 3#32
  let v4854 : BitVec 32 := Scalar.addi v5 c3_i32_1141
  let v6321 : Index := Scalar.indexCast v4854
  let c0_1508 : Index := 0#32
  ![43, v6321.toNat, 0]
def k0_off579 (v4862 : BitVec 32) (v4867 : BitVec 32) (v4947 : BitVec 32) (v4982 : BitVec 32) : Fin 3 → Nat :=
  let c199_i32_1150 : BitVec 32 := 199#32
  let c0_i32_1149 : BitVec 32 := 0#32
  let v4868 : BitVec 32 := Scalar.maxsi c0_i32_1149 v4867
  let v4869 : BitVec 32 := Scalar.minsi c199_i32_1150 v4868
  let v4948 : BitVec 32 := Scalar.addi v4869 v4947
  let v6326 : Index := Scalar.indexCast v4948
  let c199_i32_1147 : BitVec 32 := 199#32
  let c0_i32_1146 : BitVec 32 := 0#32
  let v4863 : BitVec 32 := Scalar.maxsi c0_i32_1146 v4862
  let v4864 : BitVec 32 := Scalar.minsi c199_i32_1147 v4863
  let v4983 : BitVec 32 := Scalar.addi v4864 v4982
  let c3_i32_1207 : BitVec 32 := 3#32
  let v4986 : BitVec 32 := Scalar.shrsi v4983 c3_i32_1207
  let c3_i32_1208 : BitVec 32 := 3#32
  let v4987 : BitVec 32 := Scalar.shli v4986 c3_i32_1208
  let v4988 : BitVec 32 := v4987
  let v6327 : Index := Scalar.indexCast v4988
  let c0_1510 : Index := 0#32
  ![v6326.toNat, v6327.toNat, 0]
def k0_off580 (v4862 : BitVec 32) (v4867 : BitVec 32) (v4877 : BitVec 32) (v4947 : BitVec 32) (v4982 : BitVec 32) : Fin 3 → Nat :=
  let c199_i32_1150 : BitVec 32 := 199#32
  let c0_i32_1149 : BitVec 32 := 0#32
  let v4868 : BitVec 32 := Scalar.maxsi c0_i32_1149 v4867
  let v4869 : BitVec 32 := Scalar.minsi c199_i32_1150 v4868
  let v4948 : BitVec 32 := Scalar.addi v4869 v4947
  let c1_i32_1188 : BitVec 32 := 1#32
  let v4949 : BitVec 32 := Scalar.addi v4948 c1_i32_1188
  let c199_i32_1156 : BitVec 32 := 199#32
  let c0_i32_1155 : BitVec 32 := 0#32
  let v4878 : BitVec 32 := Scalar.maxsi c0_i32_1155 v4877
  let v4879 : BitVec 32 := Scalar.minsi c199_i32_1156 v4878
  let v4950 : BitVec 32 := Scalar.minsi v4949 v4879
  let v6330 : Index := Scalar.indexCast v4950
  let c199_i32_1147 : BitVec 32 := 199#32
  let c0_i32_1146 : BitVec 32 := 0#32
  let v4863 : BitVec 32 := Scalar.maxsi c0_i32_1146 v4862
  let v4864 : BitVec 32 := Scalar.minsi c199_i32_1147 v4863
  let v4983 : BitVec 32 := Scalar.addi v4864 v4982
  let c3_i32_1207 : BitVec 32 := 3#32
  let v4986 : BitVec 32 := Scalar.shrsi v4983 c3_i32_1207
  let c3_i32_1208 : BitVec 32 := 3#32
  let v4987 : BitVec 32 := Scalar.shli v4986 c3_i32_1208
  let v4988 : BitVec 32 := v4987
  let v6331 : Index := Scalar.indexCast v4988
  let c0_1511 : Index := 0#32
  ![v6330.toNat, v6331.toNat, 0]

def k0_chk24 (v4862 : BitVec 32) (v4867 : BitVec 32) (v4877 : BitVec 32) (v4893 : BitVec 32) (v4902 : BitVec 32) (v4911 : BitVec 32) (v4920 : BitVec 32) (v4929 : BitVec 32) (v4938 : BitVec 32) (v4947 : BitVec 32) (v4982 : BitVec 32) : Prop :=
  (8 ∣ (k0_mult25 v4862 v4982).toNat) ∧
  (∀ a, (k0_off453 v4862 v4867 v4893 v4982) a + S1x16x256.size a ≤ S200x216x256.size a) ∧
  (∀ a, (k0_off454 v4862 v4867 v4877 v4893 v4982) a + S1x16x256.size a ≤ S200x216x256.size a) ∧
  (∀ a, (k0_off474 v4862 v4867 v4902 v4982) a + S1x16x256.size a ≤ S200x216x256.size a) ∧
  (∀ a, (k0_off475 v4862 v4867 v4877 v4902 v4982) a + S1x16x256.size a ≤ S200x216x256.size a) ∧
  (∀ a, (k0_off495 v4862 v4867 v4911 v4982) a + S1x16x256.size a ≤ S200x216x256.size a) ∧
  (∀ a, (k0_off496 v4862 v4867 v4877 v4911 v4982) a + S1x16x256.size a ≤ S200x216x256.size a) ∧
  (∀ a, (k0_off516 v4862 v4867 v4920 v4982) a + S1x16x256.size a ≤ S200x216x256.size a) ∧
  (∀ a, (k0_off517 v4862 v4867 v4877 v4920 v4982) a + S1x16x256.size a ≤ S200x216x256.size a) ∧
  (∀ a, (k0_off537 v4862 v4867 v4929 v4982) a + S1x16x256.size a ≤ S200x216x256.size a) ∧
  (∀ a, (k0_off538 v4862 v4867 v4877 v4929 v4982) a + S1x16x256.size a ≤ S200x216x256.size a) ∧
  (∀ a, (k0_off558 v4862 v4867 v4938 v4982) a + S1x16x256.size a ≤ S200x216x256.size a) ∧
  (∀ a, (k0_off559 v4862 v4867 v4877 v4938 v4982) a + S1x16x256.size a ≤ S200x216x256.size a) ∧
  (∀ a, (k0_off579 v4862 v4867 v4947 v4982) a + S1x16x256.size a ≤ S200x216x256.size a) ∧
  (∀ a, (k0_off580 v4862 v4867 v4877 v4947 v4982) a + S1x16x256.size a ≤ S200x216x256.size a)
theorem k0_mult25_dvd : ∀ (v4862 : BitVec 32) (v4867 : BitVec 32) (v4877 : BitVec 32) (v4893 : BitVec 32) (v4902 : BitVec 32) (v4911 : BitVec 32) (v4920 : BitVec 32) (v4929 : BitVec 32) (v4938 : BitVec 32) (v4947 : BitVec 32) (v4982 : BitVec 32) (k0_hw24 : k0_chk24 v4862 v4867 v4877 v4893 v4902 v4911 v4920 v4929 v4938 v4947 v4982), 8 ∣ (k0_mult25 v4862 v4982).toNat := fun v4862 v4867 v4877 v4893 v4902 v4911 v4920 v4929 v4938 v4947 v4982 k0_hw24 => k0_hw24.1
theorem k0_off453_inb : ∀ (v4862 : BitVec 32) (v4867 : BitVec 32) (v4877 : BitVec 32) (v4893 : BitVec 32) (v4902 : BitVec 32) (v4911 : BitVec 32) (v4920 : BitVec 32) (v4929 : BitVec 32) (v4938 : BitVec 32) (v4947 : BitVec 32) (v4982 : BitVec 32) (k0_hw24 : k0_chk24 v4862 v4867 v4877 v4893 v4902 v4911 v4920 v4929 v4938 v4947 v4982), ∀ a, (k0_off453 v4862 v4867 v4893 v4982) a + S1x16x256.size a ≤ S200x216x256.size a := fun v4862 v4867 v4877 v4893 v4902 v4911 v4920 v4929 v4938 v4947 v4982 k0_hw24 => k0_hw24.2.1
theorem k0_off454_inb : ∀ (v4862 : BitVec 32) (v4867 : BitVec 32) (v4877 : BitVec 32) (v4893 : BitVec 32) (v4902 : BitVec 32) (v4911 : BitVec 32) (v4920 : BitVec 32) (v4929 : BitVec 32) (v4938 : BitVec 32) (v4947 : BitVec 32) (v4982 : BitVec 32) (k0_hw24 : k0_chk24 v4862 v4867 v4877 v4893 v4902 v4911 v4920 v4929 v4938 v4947 v4982), ∀ a, (k0_off454 v4862 v4867 v4877 v4893 v4982) a + S1x16x256.size a ≤ S200x216x256.size a := fun v4862 v4867 v4877 v4893 v4902 v4911 v4920 v4929 v4938 v4947 v4982 k0_hw24 => k0_hw24.2.2.1
theorem k0_off474_inb : ∀ (v4862 : BitVec 32) (v4867 : BitVec 32) (v4877 : BitVec 32) (v4893 : BitVec 32) (v4902 : BitVec 32) (v4911 : BitVec 32) (v4920 : BitVec 32) (v4929 : BitVec 32) (v4938 : BitVec 32) (v4947 : BitVec 32) (v4982 : BitVec 32) (k0_hw24 : k0_chk24 v4862 v4867 v4877 v4893 v4902 v4911 v4920 v4929 v4938 v4947 v4982), ∀ a, (k0_off474 v4862 v4867 v4902 v4982) a + S1x16x256.size a ≤ S200x216x256.size a := fun v4862 v4867 v4877 v4893 v4902 v4911 v4920 v4929 v4938 v4947 v4982 k0_hw24 => k0_hw24.2.2.2.1
theorem k0_off475_inb : ∀ (v4862 : BitVec 32) (v4867 : BitVec 32) (v4877 : BitVec 32) (v4893 : BitVec 32) (v4902 : BitVec 32) (v4911 : BitVec 32) (v4920 : BitVec 32) (v4929 : BitVec 32) (v4938 : BitVec 32) (v4947 : BitVec 32) (v4982 : BitVec 32) (k0_hw24 : k0_chk24 v4862 v4867 v4877 v4893 v4902 v4911 v4920 v4929 v4938 v4947 v4982), ∀ a, (k0_off475 v4862 v4867 v4877 v4902 v4982) a + S1x16x256.size a ≤ S200x216x256.size a := fun v4862 v4867 v4877 v4893 v4902 v4911 v4920 v4929 v4938 v4947 v4982 k0_hw24 => k0_hw24.2.2.2.2.1
theorem k0_off495_inb : ∀ (v4862 : BitVec 32) (v4867 : BitVec 32) (v4877 : BitVec 32) (v4893 : BitVec 32) (v4902 : BitVec 32) (v4911 : BitVec 32) (v4920 : BitVec 32) (v4929 : BitVec 32) (v4938 : BitVec 32) (v4947 : BitVec 32) (v4982 : BitVec 32) (k0_hw24 : k0_chk24 v4862 v4867 v4877 v4893 v4902 v4911 v4920 v4929 v4938 v4947 v4982), ∀ a, (k0_off495 v4862 v4867 v4911 v4982) a + S1x16x256.size a ≤ S200x216x256.size a := fun v4862 v4867 v4877 v4893 v4902 v4911 v4920 v4929 v4938 v4947 v4982 k0_hw24 => k0_hw24.2.2.2.2.2.1
theorem k0_off496_inb : ∀ (v4862 : BitVec 32) (v4867 : BitVec 32) (v4877 : BitVec 32) (v4893 : BitVec 32) (v4902 : BitVec 32) (v4911 : BitVec 32) (v4920 : BitVec 32) (v4929 : BitVec 32) (v4938 : BitVec 32) (v4947 : BitVec 32) (v4982 : BitVec 32) (k0_hw24 : k0_chk24 v4862 v4867 v4877 v4893 v4902 v4911 v4920 v4929 v4938 v4947 v4982), ∀ a, (k0_off496 v4862 v4867 v4877 v4911 v4982) a + S1x16x256.size a ≤ S200x216x256.size a := fun v4862 v4867 v4877 v4893 v4902 v4911 v4920 v4929 v4938 v4947 v4982 k0_hw24 => k0_hw24.2.2.2.2.2.2.1
theorem k0_off516_inb : ∀ (v4862 : BitVec 32) (v4867 : BitVec 32) (v4877 : BitVec 32) (v4893 : BitVec 32) (v4902 : BitVec 32) (v4911 : BitVec 32) (v4920 : BitVec 32) (v4929 : BitVec 32) (v4938 : BitVec 32) (v4947 : BitVec 32) (v4982 : BitVec 32) (k0_hw24 : k0_chk24 v4862 v4867 v4877 v4893 v4902 v4911 v4920 v4929 v4938 v4947 v4982), ∀ a, (k0_off516 v4862 v4867 v4920 v4982) a + S1x16x256.size a ≤ S200x216x256.size a := fun v4862 v4867 v4877 v4893 v4902 v4911 v4920 v4929 v4938 v4947 v4982 k0_hw24 => k0_hw24.2.2.2.2.2.2.2.1
theorem k0_off517_inb : ∀ (v4862 : BitVec 32) (v4867 : BitVec 32) (v4877 : BitVec 32) (v4893 : BitVec 32) (v4902 : BitVec 32) (v4911 : BitVec 32) (v4920 : BitVec 32) (v4929 : BitVec 32) (v4938 : BitVec 32) (v4947 : BitVec 32) (v4982 : BitVec 32) (k0_hw24 : k0_chk24 v4862 v4867 v4877 v4893 v4902 v4911 v4920 v4929 v4938 v4947 v4982), ∀ a, (k0_off517 v4862 v4867 v4877 v4920 v4982) a + S1x16x256.size a ≤ S200x216x256.size a := fun v4862 v4867 v4877 v4893 v4902 v4911 v4920 v4929 v4938 v4947 v4982 k0_hw24 => k0_hw24.2.2.2.2.2.2.2.2.1
theorem k0_off537_inb : ∀ (v4862 : BitVec 32) (v4867 : BitVec 32) (v4877 : BitVec 32) (v4893 : BitVec 32) (v4902 : BitVec 32) (v4911 : BitVec 32) (v4920 : BitVec 32) (v4929 : BitVec 32) (v4938 : BitVec 32) (v4947 : BitVec 32) (v4982 : BitVec 32) (k0_hw24 : k0_chk24 v4862 v4867 v4877 v4893 v4902 v4911 v4920 v4929 v4938 v4947 v4982), ∀ a, (k0_off537 v4862 v4867 v4929 v4982) a + S1x16x256.size a ≤ S200x216x256.size a := fun v4862 v4867 v4877 v4893 v4902 v4911 v4920 v4929 v4938 v4947 v4982 k0_hw24 => k0_hw24.2.2.2.2.2.2.2.2.2.1
theorem k0_off538_inb : ∀ (v4862 : BitVec 32) (v4867 : BitVec 32) (v4877 : BitVec 32) (v4893 : BitVec 32) (v4902 : BitVec 32) (v4911 : BitVec 32) (v4920 : BitVec 32) (v4929 : BitVec 32) (v4938 : BitVec 32) (v4947 : BitVec 32) (v4982 : BitVec 32) (k0_hw24 : k0_chk24 v4862 v4867 v4877 v4893 v4902 v4911 v4920 v4929 v4938 v4947 v4982), ∀ a, (k0_off538 v4862 v4867 v4877 v4929 v4982) a + S1x16x256.size a ≤ S200x216x256.size a := fun v4862 v4867 v4877 v4893 v4902 v4911 v4920 v4929 v4938 v4947 v4982 k0_hw24 => k0_hw24.2.2.2.2.2.2.2.2.2.2.1
theorem k0_off558_inb : ∀ (v4862 : BitVec 32) (v4867 : BitVec 32) (v4877 : BitVec 32) (v4893 : BitVec 32) (v4902 : BitVec 32) (v4911 : BitVec 32) (v4920 : BitVec 32) (v4929 : BitVec 32) (v4938 : BitVec 32) (v4947 : BitVec 32) (v4982 : BitVec 32) (k0_hw24 : k0_chk24 v4862 v4867 v4877 v4893 v4902 v4911 v4920 v4929 v4938 v4947 v4982), ∀ a, (k0_off558 v4862 v4867 v4938 v4982) a + S1x16x256.size a ≤ S200x216x256.size a := fun v4862 v4867 v4877 v4893 v4902 v4911 v4920 v4929 v4938 v4947 v4982 k0_hw24 => k0_hw24.2.2.2.2.2.2.2.2.2.2.2.1
theorem k0_off559_inb : ∀ (v4862 : BitVec 32) (v4867 : BitVec 32) (v4877 : BitVec 32) (v4893 : BitVec 32) (v4902 : BitVec 32) (v4911 : BitVec 32) (v4920 : BitVec 32) (v4929 : BitVec 32) (v4938 : BitVec 32) (v4947 : BitVec 32) (v4982 : BitVec 32) (k0_hw24 : k0_chk24 v4862 v4867 v4877 v4893 v4902 v4911 v4920 v4929 v4938 v4947 v4982), ∀ a, (k0_off559 v4862 v4867 v4877 v4938 v4982) a + S1x16x256.size a ≤ S200x216x256.size a := fun v4862 v4867 v4877 v4893 v4902 v4911 v4920 v4929 v4938 v4947 v4982 k0_hw24 => k0_hw24.2.2.2.2.2.2.2.2.2.2.2.2.1
theorem k0_off579_inb : ∀ (v4862 : BitVec 32) (v4867 : BitVec 32) (v4877 : BitVec 32) (v4893 : BitVec 32) (v4902 : BitVec 32) (v4911 : BitVec 32) (v4920 : BitVec 32) (v4929 : BitVec 32) (v4938 : BitVec 32) (v4947 : BitVec 32) (v4982 : BitVec 32) (k0_hw24 : k0_chk24 v4862 v4867 v4877 v4893 v4902 v4911 v4920 v4929 v4938 v4947 v4982), ∀ a, (k0_off579 v4862 v4867 v4947 v4982) a + S1x16x256.size a ≤ S200x216x256.size a := fun v4862 v4867 v4877 v4893 v4902 v4911 v4920 v4929 v4938 v4947 v4982 k0_hw24 => k0_hw24.2.2.2.2.2.2.2.2.2.2.2.2.2.1
theorem k0_off580_inb : ∀ (v4862 : BitVec 32) (v4867 : BitVec 32) (v4877 : BitVec 32) (v4893 : BitVec 32) (v4902 : BitVec 32) (v4911 : BitVec 32) (v4920 : BitVec 32) (v4929 : BitVec 32) (v4938 : BitVec 32) (v4947 : BitVec 32) (v4982 : BitVec 32) (k0_hw24 : k0_chk24 v4862 v4867 v4877 v4893 v4902 v4911 v4920 v4929 v4938 v4947 v4982), ∀ a, (k0_off580 v4862 v4867 v4877 v4947 v4982) a + S1x16x256.size a ≤ S200x216x256.size a := fun v4862 v4867 v4877 v4893 v4902 v4911 v4920 v4929 v4938 v4947 v4982 k0_hw24 => k0_hw24.2.2.2.2.2.2.2.2.2.2.2.2.2.2

def k0_off581 (k0_t1 : Fin k0_t1_loop.trips) : Fin 3 → Nat :=
  let c44_1513 : Index := 44#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c3_i32_1141 : BitVec 32 := 3#32
  let v4854 : BitVec 32 := Scalar.addi v5 c3_i32_1141
  let v6350 : Index := Scalar.indexCast v4854
  let c0_1514 : Index := 0#32
  ![44, v6350.toNat, 0]
def k0_off582 (v4862 : BitVec 32) (v4867 : BitVec 32) (v4947 : BitVec 32) (v4995 : BitVec 32) : Fin 3 → Nat :=
  let c199_i32_1150 : BitVec 32 := 199#32
  let c0_i32_1149 : BitVec 32 := 0#32
  let v4868 : BitVec 32 := Scalar.maxsi c0_i32_1149 v4867
  let v4869 : BitVec 32 := Scalar.minsi c199_i32_1150 v4868
  let v4948 : BitVec 32 := Scalar.addi v4869 v4947
  let v6355 : Index := Scalar.indexCast v4948
  let c199_i32_1147 : BitVec 32 := 199#32
  let c0_i32_1146 : BitVec 32 := 0#32
  let v4863 : BitVec 32 := Scalar.maxsi c0_i32_1146 v4862
  let v4864 : BitVec 32 := Scalar.minsi c199_i32_1147 v4863
  let v4996 : BitVec 32 := Scalar.addi v4864 v4995
  let c3_i32_1214 : BitVec 32 := 3#32
  let v4999 : BitVec 32 := Scalar.shrsi v4996 c3_i32_1214
  let c3_i32_1215 : BitVec 32 := 3#32
  let v5000 : BitVec 32 := Scalar.shli v4999 c3_i32_1215
  let v5001 : BitVec 32 := v5000
  let v6356 : Index := Scalar.indexCast v5001
  let c0_1516 : Index := 0#32
  ![v6355.toNat, v6356.toNat, 0]
def k0_off583 (v4862 : BitVec 32) (v4867 : BitVec 32) (v4877 : BitVec 32) (v4947 : BitVec 32) (v4995 : BitVec 32) : Fin 3 → Nat :=
  let c199_i32_1150 : BitVec 32 := 199#32
  let c0_i32_1149 : BitVec 32 := 0#32
  let v4868 : BitVec 32 := Scalar.maxsi c0_i32_1149 v4867
  let v4869 : BitVec 32 := Scalar.minsi c199_i32_1150 v4868
  let v4948 : BitVec 32 := Scalar.addi v4869 v4947
  let c1_i32_1188 : BitVec 32 := 1#32
  let v4949 : BitVec 32 := Scalar.addi v4948 c1_i32_1188
  let c199_i32_1156 : BitVec 32 := 199#32
  let c0_i32_1155 : BitVec 32 := 0#32
  let v4878 : BitVec 32 := Scalar.maxsi c0_i32_1155 v4877
  let v4879 : BitVec 32 := Scalar.minsi c199_i32_1156 v4878
  let v4950 : BitVec 32 := Scalar.minsi v4949 v4879
  let v6359 : Index := Scalar.indexCast v4950
  let c199_i32_1147 : BitVec 32 := 199#32
  let c0_i32_1146 : BitVec 32 := 0#32
  let v4863 : BitVec 32 := Scalar.maxsi c0_i32_1146 v4862
  let v4864 : BitVec 32 := Scalar.minsi c199_i32_1147 v4863
  let v4996 : BitVec 32 := Scalar.addi v4864 v4995
  let c3_i32_1214 : BitVec 32 := 3#32
  let v4999 : BitVec 32 := Scalar.shrsi v4996 c3_i32_1214
  let c3_i32_1215 : BitVec 32 := 3#32
  let v5000 : BitVec 32 := Scalar.shli v4999 c3_i32_1215
  let v5001 : BitVec 32 := v5000
  let v6360 : Index := Scalar.indexCast v5001
  let c0_1517 : Index := 0#32
  ![v6359.toNat, v6360.toNat, 0]

def k0_chk25 (v4862 : BitVec 32) (v4867 : BitVec 32) (v4877 : BitVec 32) (v4893 : BitVec 32) (v4902 : BitVec 32) (v4911 : BitVec 32) (v4920 : BitVec 32) (v4929 : BitVec 32) (v4938 : BitVec 32) (v4947 : BitVec 32) (v4995 : BitVec 32) : Prop :=
  (8 ∣ (k0_mult26 v4862 v4995).toNat) ∧
  (∀ a, (k0_off456 v4862 v4867 v4893 v4995) a + S1x16x256.size a ≤ S200x216x256.size a) ∧
  (∀ a, (k0_off457 v4862 v4867 v4877 v4893 v4995) a + S1x16x256.size a ≤ S200x216x256.size a) ∧
  (∀ a, (k0_off477 v4862 v4867 v4902 v4995) a + S1x16x256.size a ≤ S200x216x256.size a) ∧
  (∀ a, (k0_off478 v4862 v4867 v4877 v4902 v4995) a + S1x16x256.size a ≤ S200x216x256.size a) ∧
  (∀ a, (k0_off498 v4862 v4867 v4911 v4995) a + S1x16x256.size a ≤ S200x216x256.size a) ∧
  (∀ a, (k0_off499 v4862 v4867 v4877 v4911 v4995) a + S1x16x256.size a ≤ S200x216x256.size a) ∧
  (∀ a, (k0_off519 v4862 v4867 v4920 v4995) a + S1x16x256.size a ≤ S200x216x256.size a) ∧
  (∀ a, (k0_off520 v4862 v4867 v4877 v4920 v4995) a + S1x16x256.size a ≤ S200x216x256.size a) ∧
  (∀ a, (k0_off540 v4862 v4867 v4929 v4995) a + S1x16x256.size a ≤ S200x216x256.size a) ∧
  (∀ a, (k0_off541 v4862 v4867 v4877 v4929 v4995) a + S1x16x256.size a ≤ S200x216x256.size a) ∧
  (∀ a, (k0_off561 v4862 v4867 v4938 v4995) a + S1x16x256.size a ≤ S200x216x256.size a) ∧
  (∀ a, (k0_off562 v4862 v4867 v4877 v4938 v4995) a + S1x16x256.size a ≤ S200x216x256.size a) ∧
  (∀ a, (k0_off582 v4862 v4867 v4947 v4995) a + S1x16x256.size a ≤ S200x216x256.size a) ∧
  (∀ a, (k0_off583 v4862 v4867 v4877 v4947 v4995) a + S1x16x256.size a ≤ S200x216x256.size a)
theorem k0_mult26_dvd : ∀ (v4862 : BitVec 32) (v4867 : BitVec 32) (v4877 : BitVec 32) (v4893 : BitVec 32) (v4902 : BitVec 32) (v4911 : BitVec 32) (v4920 : BitVec 32) (v4929 : BitVec 32) (v4938 : BitVec 32) (v4947 : BitVec 32) (v4995 : BitVec 32) (k0_hw25 : k0_chk25 v4862 v4867 v4877 v4893 v4902 v4911 v4920 v4929 v4938 v4947 v4995), 8 ∣ (k0_mult26 v4862 v4995).toNat := fun v4862 v4867 v4877 v4893 v4902 v4911 v4920 v4929 v4938 v4947 v4995 k0_hw25 => k0_hw25.1
theorem k0_off456_inb : ∀ (v4862 : BitVec 32) (v4867 : BitVec 32) (v4877 : BitVec 32) (v4893 : BitVec 32) (v4902 : BitVec 32) (v4911 : BitVec 32) (v4920 : BitVec 32) (v4929 : BitVec 32) (v4938 : BitVec 32) (v4947 : BitVec 32) (v4995 : BitVec 32) (k0_hw25 : k0_chk25 v4862 v4867 v4877 v4893 v4902 v4911 v4920 v4929 v4938 v4947 v4995), ∀ a, (k0_off456 v4862 v4867 v4893 v4995) a + S1x16x256.size a ≤ S200x216x256.size a := fun v4862 v4867 v4877 v4893 v4902 v4911 v4920 v4929 v4938 v4947 v4995 k0_hw25 => k0_hw25.2.1
theorem k0_off457_inb : ∀ (v4862 : BitVec 32) (v4867 : BitVec 32) (v4877 : BitVec 32) (v4893 : BitVec 32) (v4902 : BitVec 32) (v4911 : BitVec 32) (v4920 : BitVec 32) (v4929 : BitVec 32) (v4938 : BitVec 32) (v4947 : BitVec 32) (v4995 : BitVec 32) (k0_hw25 : k0_chk25 v4862 v4867 v4877 v4893 v4902 v4911 v4920 v4929 v4938 v4947 v4995), ∀ a, (k0_off457 v4862 v4867 v4877 v4893 v4995) a + S1x16x256.size a ≤ S200x216x256.size a := fun v4862 v4867 v4877 v4893 v4902 v4911 v4920 v4929 v4938 v4947 v4995 k0_hw25 => k0_hw25.2.2.1
theorem k0_off477_inb : ∀ (v4862 : BitVec 32) (v4867 : BitVec 32) (v4877 : BitVec 32) (v4893 : BitVec 32) (v4902 : BitVec 32) (v4911 : BitVec 32) (v4920 : BitVec 32) (v4929 : BitVec 32) (v4938 : BitVec 32) (v4947 : BitVec 32) (v4995 : BitVec 32) (k0_hw25 : k0_chk25 v4862 v4867 v4877 v4893 v4902 v4911 v4920 v4929 v4938 v4947 v4995), ∀ a, (k0_off477 v4862 v4867 v4902 v4995) a + S1x16x256.size a ≤ S200x216x256.size a := fun v4862 v4867 v4877 v4893 v4902 v4911 v4920 v4929 v4938 v4947 v4995 k0_hw25 => k0_hw25.2.2.2.1
theorem k0_off478_inb : ∀ (v4862 : BitVec 32) (v4867 : BitVec 32) (v4877 : BitVec 32) (v4893 : BitVec 32) (v4902 : BitVec 32) (v4911 : BitVec 32) (v4920 : BitVec 32) (v4929 : BitVec 32) (v4938 : BitVec 32) (v4947 : BitVec 32) (v4995 : BitVec 32) (k0_hw25 : k0_chk25 v4862 v4867 v4877 v4893 v4902 v4911 v4920 v4929 v4938 v4947 v4995), ∀ a, (k0_off478 v4862 v4867 v4877 v4902 v4995) a + S1x16x256.size a ≤ S200x216x256.size a := fun v4862 v4867 v4877 v4893 v4902 v4911 v4920 v4929 v4938 v4947 v4995 k0_hw25 => k0_hw25.2.2.2.2.1
theorem k0_off498_inb : ∀ (v4862 : BitVec 32) (v4867 : BitVec 32) (v4877 : BitVec 32) (v4893 : BitVec 32) (v4902 : BitVec 32) (v4911 : BitVec 32) (v4920 : BitVec 32) (v4929 : BitVec 32) (v4938 : BitVec 32) (v4947 : BitVec 32) (v4995 : BitVec 32) (k0_hw25 : k0_chk25 v4862 v4867 v4877 v4893 v4902 v4911 v4920 v4929 v4938 v4947 v4995), ∀ a, (k0_off498 v4862 v4867 v4911 v4995) a + S1x16x256.size a ≤ S200x216x256.size a := fun v4862 v4867 v4877 v4893 v4902 v4911 v4920 v4929 v4938 v4947 v4995 k0_hw25 => k0_hw25.2.2.2.2.2.1
theorem k0_off499_inb : ∀ (v4862 : BitVec 32) (v4867 : BitVec 32) (v4877 : BitVec 32) (v4893 : BitVec 32) (v4902 : BitVec 32) (v4911 : BitVec 32) (v4920 : BitVec 32) (v4929 : BitVec 32) (v4938 : BitVec 32) (v4947 : BitVec 32) (v4995 : BitVec 32) (k0_hw25 : k0_chk25 v4862 v4867 v4877 v4893 v4902 v4911 v4920 v4929 v4938 v4947 v4995), ∀ a, (k0_off499 v4862 v4867 v4877 v4911 v4995) a + S1x16x256.size a ≤ S200x216x256.size a := fun v4862 v4867 v4877 v4893 v4902 v4911 v4920 v4929 v4938 v4947 v4995 k0_hw25 => k0_hw25.2.2.2.2.2.2.1
theorem k0_off519_inb : ∀ (v4862 : BitVec 32) (v4867 : BitVec 32) (v4877 : BitVec 32) (v4893 : BitVec 32) (v4902 : BitVec 32) (v4911 : BitVec 32) (v4920 : BitVec 32) (v4929 : BitVec 32) (v4938 : BitVec 32) (v4947 : BitVec 32) (v4995 : BitVec 32) (k0_hw25 : k0_chk25 v4862 v4867 v4877 v4893 v4902 v4911 v4920 v4929 v4938 v4947 v4995), ∀ a, (k0_off519 v4862 v4867 v4920 v4995) a + S1x16x256.size a ≤ S200x216x256.size a := fun v4862 v4867 v4877 v4893 v4902 v4911 v4920 v4929 v4938 v4947 v4995 k0_hw25 => k0_hw25.2.2.2.2.2.2.2.1
theorem k0_off520_inb : ∀ (v4862 : BitVec 32) (v4867 : BitVec 32) (v4877 : BitVec 32) (v4893 : BitVec 32) (v4902 : BitVec 32) (v4911 : BitVec 32) (v4920 : BitVec 32) (v4929 : BitVec 32) (v4938 : BitVec 32) (v4947 : BitVec 32) (v4995 : BitVec 32) (k0_hw25 : k0_chk25 v4862 v4867 v4877 v4893 v4902 v4911 v4920 v4929 v4938 v4947 v4995), ∀ a, (k0_off520 v4862 v4867 v4877 v4920 v4995) a + S1x16x256.size a ≤ S200x216x256.size a := fun v4862 v4867 v4877 v4893 v4902 v4911 v4920 v4929 v4938 v4947 v4995 k0_hw25 => k0_hw25.2.2.2.2.2.2.2.2.1
theorem k0_off540_inb : ∀ (v4862 : BitVec 32) (v4867 : BitVec 32) (v4877 : BitVec 32) (v4893 : BitVec 32) (v4902 : BitVec 32) (v4911 : BitVec 32) (v4920 : BitVec 32) (v4929 : BitVec 32) (v4938 : BitVec 32) (v4947 : BitVec 32) (v4995 : BitVec 32) (k0_hw25 : k0_chk25 v4862 v4867 v4877 v4893 v4902 v4911 v4920 v4929 v4938 v4947 v4995), ∀ a, (k0_off540 v4862 v4867 v4929 v4995) a + S1x16x256.size a ≤ S200x216x256.size a := fun v4862 v4867 v4877 v4893 v4902 v4911 v4920 v4929 v4938 v4947 v4995 k0_hw25 => k0_hw25.2.2.2.2.2.2.2.2.2.1
theorem k0_off541_inb : ∀ (v4862 : BitVec 32) (v4867 : BitVec 32) (v4877 : BitVec 32) (v4893 : BitVec 32) (v4902 : BitVec 32) (v4911 : BitVec 32) (v4920 : BitVec 32) (v4929 : BitVec 32) (v4938 : BitVec 32) (v4947 : BitVec 32) (v4995 : BitVec 32) (k0_hw25 : k0_chk25 v4862 v4867 v4877 v4893 v4902 v4911 v4920 v4929 v4938 v4947 v4995), ∀ a, (k0_off541 v4862 v4867 v4877 v4929 v4995) a + S1x16x256.size a ≤ S200x216x256.size a := fun v4862 v4867 v4877 v4893 v4902 v4911 v4920 v4929 v4938 v4947 v4995 k0_hw25 => k0_hw25.2.2.2.2.2.2.2.2.2.2.1
theorem k0_off561_inb : ∀ (v4862 : BitVec 32) (v4867 : BitVec 32) (v4877 : BitVec 32) (v4893 : BitVec 32) (v4902 : BitVec 32) (v4911 : BitVec 32) (v4920 : BitVec 32) (v4929 : BitVec 32) (v4938 : BitVec 32) (v4947 : BitVec 32) (v4995 : BitVec 32) (k0_hw25 : k0_chk25 v4862 v4867 v4877 v4893 v4902 v4911 v4920 v4929 v4938 v4947 v4995), ∀ a, (k0_off561 v4862 v4867 v4938 v4995) a + S1x16x256.size a ≤ S200x216x256.size a := fun v4862 v4867 v4877 v4893 v4902 v4911 v4920 v4929 v4938 v4947 v4995 k0_hw25 => k0_hw25.2.2.2.2.2.2.2.2.2.2.2.1
theorem k0_off562_inb : ∀ (v4862 : BitVec 32) (v4867 : BitVec 32) (v4877 : BitVec 32) (v4893 : BitVec 32) (v4902 : BitVec 32) (v4911 : BitVec 32) (v4920 : BitVec 32) (v4929 : BitVec 32) (v4938 : BitVec 32) (v4947 : BitVec 32) (v4995 : BitVec 32) (k0_hw25 : k0_chk25 v4862 v4867 v4877 v4893 v4902 v4911 v4920 v4929 v4938 v4947 v4995), ∀ a, (k0_off562 v4862 v4867 v4877 v4938 v4995) a + S1x16x256.size a ≤ S200x216x256.size a := fun v4862 v4867 v4877 v4893 v4902 v4911 v4920 v4929 v4938 v4947 v4995 k0_hw25 => k0_hw25.2.2.2.2.2.2.2.2.2.2.2.2.1
theorem k0_off582_inb : ∀ (v4862 : BitVec 32) (v4867 : BitVec 32) (v4877 : BitVec 32) (v4893 : BitVec 32) (v4902 : BitVec 32) (v4911 : BitVec 32) (v4920 : BitVec 32) (v4929 : BitVec 32) (v4938 : BitVec 32) (v4947 : BitVec 32) (v4995 : BitVec 32) (k0_hw25 : k0_chk25 v4862 v4867 v4877 v4893 v4902 v4911 v4920 v4929 v4938 v4947 v4995), ∀ a, (k0_off582 v4862 v4867 v4947 v4995) a + S1x16x256.size a ≤ S200x216x256.size a := fun v4862 v4867 v4877 v4893 v4902 v4911 v4920 v4929 v4938 v4947 v4995 k0_hw25 => k0_hw25.2.2.2.2.2.2.2.2.2.2.2.2.2.1
theorem k0_off583_inb : ∀ (v4862 : BitVec 32) (v4867 : BitVec 32) (v4877 : BitVec 32) (v4893 : BitVec 32) (v4902 : BitVec 32) (v4911 : BitVec 32) (v4920 : BitVec 32) (v4929 : BitVec 32) (v4938 : BitVec 32) (v4947 : BitVec 32) (v4995 : BitVec 32) (k0_hw25 : k0_chk25 v4862 v4867 v4877 v4893 v4902 v4911 v4920 v4929 v4938 v4947 v4995), ∀ a, (k0_off583 v4862 v4867 v4877 v4947 v4995) a + S1x16x256.size a ≤ S200x216x256.size a := fun v4862 v4867 v4877 v4893 v4902 v4911 v4920 v4929 v4938 v4947 v4995 k0_hw25 => k0_hw25.2.2.2.2.2.2.2.2.2.2.2.2.2.2

def k0_off584 (k0_t1 : Fin k0_t1_loop.trips) : Fin 3 → Nat :=
  let c45_1519 : Index := 45#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c3_i32_1141 : BitVec 32 := 3#32
  let v4854 : BitVec 32 := Scalar.addi v5 c3_i32_1141
  let v6379 : Index := Scalar.indexCast v4854
  let c0_1520 : Index := 0#32
  ![45, v6379.toNat, 0]
def k0_off585 (v4862 : BitVec 32) (v4867 : BitVec 32) (v4947 : BitVec 32) (v5008 : BitVec 32) : Fin 3 → Nat :=
  let c199_i32_1150 : BitVec 32 := 199#32
  let c0_i32_1149 : BitVec 32 := 0#32
  let v4868 : BitVec 32 := Scalar.maxsi c0_i32_1149 v4867
  let v4869 : BitVec 32 := Scalar.minsi c199_i32_1150 v4868
  let v4948 : BitVec 32 := Scalar.addi v4869 v4947
  let v6384 : Index := Scalar.indexCast v4948
  let c199_i32_1147 : BitVec 32 := 199#32
  let c0_i32_1146 : BitVec 32 := 0#32
  let v4863 : BitVec 32 := Scalar.maxsi c0_i32_1146 v4862
  let v4864 : BitVec 32 := Scalar.minsi c199_i32_1147 v4863
  let v5009 : BitVec 32 := Scalar.addi v4864 v5008
  let c3_i32_1221 : BitVec 32 := 3#32
  let v5012 : BitVec 32 := Scalar.shrsi v5009 c3_i32_1221
  let c3_i32_1222 : BitVec 32 := 3#32
  let v5013 : BitVec 32 := Scalar.shli v5012 c3_i32_1222
  let v5014 : BitVec 32 := v5013
  let v6385 : Index := Scalar.indexCast v5014
  let c0_1522 : Index := 0#32
  ![v6384.toNat, v6385.toNat, 0]
def k0_off586 (v4862 : BitVec 32) (v4867 : BitVec 32) (v4877 : BitVec 32) (v4947 : BitVec 32) (v5008 : BitVec 32) : Fin 3 → Nat :=
  let c199_i32_1150 : BitVec 32 := 199#32
  let c0_i32_1149 : BitVec 32 := 0#32
  let v4868 : BitVec 32 := Scalar.maxsi c0_i32_1149 v4867
  let v4869 : BitVec 32 := Scalar.minsi c199_i32_1150 v4868
  let v4948 : BitVec 32 := Scalar.addi v4869 v4947
  let c1_i32_1188 : BitVec 32 := 1#32
  let v4949 : BitVec 32 := Scalar.addi v4948 c1_i32_1188
  let c199_i32_1156 : BitVec 32 := 199#32
  let c0_i32_1155 : BitVec 32 := 0#32
  let v4878 : BitVec 32 := Scalar.maxsi c0_i32_1155 v4877
  let v4879 : BitVec 32 := Scalar.minsi c199_i32_1156 v4878
  let v4950 : BitVec 32 := Scalar.minsi v4949 v4879
  let v6388 : Index := Scalar.indexCast v4950
  let c199_i32_1147 : BitVec 32 := 199#32
  let c0_i32_1146 : BitVec 32 := 0#32
  let v4863 : BitVec 32 := Scalar.maxsi c0_i32_1146 v4862
  let v4864 : BitVec 32 := Scalar.minsi c199_i32_1147 v4863
  let v5009 : BitVec 32 := Scalar.addi v4864 v5008
  let c3_i32_1221 : BitVec 32 := 3#32
  let v5012 : BitVec 32 := Scalar.shrsi v5009 c3_i32_1221
  let c3_i32_1222 : BitVec 32 := 3#32
  let v5013 : BitVec 32 := Scalar.shli v5012 c3_i32_1222
  let v5014 : BitVec 32 := v5013
  let v6389 : Index := Scalar.indexCast v5014
  let c0_1523 : Index := 0#32
  ![v6388.toNat, v6389.toNat, 0]

def k0_chk26 (v4862 : BitVec 32) (v4867 : BitVec 32) (v4877 : BitVec 32) (v4893 : BitVec 32) (v4902 : BitVec 32) (v4911 : BitVec 32) (v4920 : BitVec 32) (v4929 : BitVec 32) (v4938 : BitVec 32) (v4947 : BitVec 32) (v5008 : BitVec 32) : Prop :=
  (8 ∣ (k0_mult27 v4862 v5008).toNat) ∧
  (∀ a, (k0_off459 v4862 v4867 v4893 v5008) a + S1x16x256.size a ≤ S200x216x256.size a) ∧
  (∀ a, (k0_off460 v4862 v4867 v4877 v4893 v5008) a + S1x16x256.size a ≤ S200x216x256.size a) ∧
  (∀ a, (k0_off480 v4862 v4867 v4902 v5008) a + S1x16x256.size a ≤ S200x216x256.size a) ∧
  (∀ a, (k0_off481 v4862 v4867 v4877 v4902 v5008) a + S1x16x256.size a ≤ S200x216x256.size a) ∧
  (∀ a, (k0_off501 v4862 v4867 v4911 v5008) a + S1x16x256.size a ≤ S200x216x256.size a) ∧
  (∀ a, (k0_off502 v4862 v4867 v4877 v4911 v5008) a + S1x16x256.size a ≤ S200x216x256.size a) ∧
  (∀ a, (k0_off522 v4862 v4867 v4920 v5008) a + S1x16x256.size a ≤ S200x216x256.size a) ∧
  (∀ a, (k0_off523 v4862 v4867 v4877 v4920 v5008) a + S1x16x256.size a ≤ S200x216x256.size a) ∧
  (∀ a, (k0_off543 v4862 v4867 v4929 v5008) a + S1x16x256.size a ≤ S200x216x256.size a) ∧
  (∀ a, (k0_off544 v4862 v4867 v4877 v4929 v5008) a + S1x16x256.size a ≤ S200x216x256.size a) ∧
  (∀ a, (k0_off564 v4862 v4867 v4938 v5008) a + S1x16x256.size a ≤ S200x216x256.size a) ∧
  (∀ a, (k0_off565 v4862 v4867 v4877 v4938 v5008) a + S1x16x256.size a ≤ S200x216x256.size a) ∧
  (∀ a, (k0_off585 v4862 v4867 v4947 v5008) a + S1x16x256.size a ≤ S200x216x256.size a) ∧
  (∀ a, (k0_off586 v4862 v4867 v4877 v4947 v5008) a + S1x16x256.size a ≤ S200x216x256.size a)
theorem k0_mult27_dvd : ∀ (v4862 : BitVec 32) (v4867 : BitVec 32) (v4877 : BitVec 32) (v4893 : BitVec 32) (v4902 : BitVec 32) (v4911 : BitVec 32) (v4920 : BitVec 32) (v4929 : BitVec 32) (v4938 : BitVec 32) (v4947 : BitVec 32) (v5008 : BitVec 32) (k0_hw26 : k0_chk26 v4862 v4867 v4877 v4893 v4902 v4911 v4920 v4929 v4938 v4947 v5008), 8 ∣ (k0_mult27 v4862 v5008).toNat := fun v4862 v4867 v4877 v4893 v4902 v4911 v4920 v4929 v4938 v4947 v5008 k0_hw26 => k0_hw26.1
theorem k0_off459_inb : ∀ (v4862 : BitVec 32) (v4867 : BitVec 32) (v4877 : BitVec 32) (v4893 : BitVec 32) (v4902 : BitVec 32) (v4911 : BitVec 32) (v4920 : BitVec 32) (v4929 : BitVec 32) (v4938 : BitVec 32) (v4947 : BitVec 32) (v5008 : BitVec 32) (k0_hw26 : k0_chk26 v4862 v4867 v4877 v4893 v4902 v4911 v4920 v4929 v4938 v4947 v5008), ∀ a, (k0_off459 v4862 v4867 v4893 v5008) a + S1x16x256.size a ≤ S200x216x256.size a := fun v4862 v4867 v4877 v4893 v4902 v4911 v4920 v4929 v4938 v4947 v5008 k0_hw26 => k0_hw26.2.1
theorem k0_off460_inb : ∀ (v4862 : BitVec 32) (v4867 : BitVec 32) (v4877 : BitVec 32) (v4893 : BitVec 32) (v4902 : BitVec 32) (v4911 : BitVec 32) (v4920 : BitVec 32) (v4929 : BitVec 32) (v4938 : BitVec 32) (v4947 : BitVec 32) (v5008 : BitVec 32) (k0_hw26 : k0_chk26 v4862 v4867 v4877 v4893 v4902 v4911 v4920 v4929 v4938 v4947 v5008), ∀ a, (k0_off460 v4862 v4867 v4877 v4893 v5008) a + S1x16x256.size a ≤ S200x216x256.size a := fun v4862 v4867 v4877 v4893 v4902 v4911 v4920 v4929 v4938 v4947 v5008 k0_hw26 => k0_hw26.2.2.1
theorem k0_off480_inb : ∀ (v4862 : BitVec 32) (v4867 : BitVec 32) (v4877 : BitVec 32) (v4893 : BitVec 32) (v4902 : BitVec 32) (v4911 : BitVec 32) (v4920 : BitVec 32) (v4929 : BitVec 32) (v4938 : BitVec 32) (v4947 : BitVec 32) (v5008 : BitVec 32) (k0_hw26 : k0_chk26 v4862 v4867 v4877 v4893 v4902 v4911 v4920 v4929 v4938 v4947 v5008), ∀ a, (k0_off480 v4862 v4867 v4902 v5008) a + S1x16x256.size a ≤ S200x216x256.size a := fun v4862 v4867 v4877 v4893 v4902 v4911 v4920 v4929 v4938 v4947 v5008 k0_hw26 => k0_hw26.2.2.2.1
theorem k0_off481_inb : ∀ (v4862 : BitVec 32) (v4867 : BitVec 32) (v4877 : BitVec 32) (v4893 : BitVec 32) (v4902 : BitVec 32) (v4911 : BitVec 32) (v4920 : BitVec 32) (v4929 : BitVec 32) (v4938 : BitVec 32) (v4947 : BitVec 32) (v5008 : BitVec 32) (k0_hw26 : k0_chk26 v4862 v4867 v4877 v4893 v4902 v4911 v4920 v4929 v4938 v4947 v5008), ∀ a, (k0_off481 v4862 v4867 v4877 v4902 v5008) a + S1x16x256.size a ≤ S200x216x256.size a := fun v4862 v4867 v4877 v4893 v4902 v4911 v4920 v4929 v4938 v4947 v5008 k0_hw26 => k0_hw26.2.2.2.2.1
theorem k0_off501_inb : ∀ (v4862 : BitVec 32) (v4867 : BitVec 32) (v4877 : BitVec 32) (v4893 : BitVec 32) (v4902 : BitVec 32) (v4911 : BitVec 32) (v4920 : BitVec 32) (v4929 : BitVec 32) (v4938 : BitVec 32) (v4947 : BitVec 32) (v5008 : BitVec 32) (k0_hw26 : k0_chk26 v4862 v4867 v4877 v4893 v4902 v4911 v4920 v4929 v4938 v4947 v5008), ∀ a, (k0_off501 v4862 v4867 v4911 v5008) a + S1x16x256.size a ≤ S200x216x256.size a := fun v4862 v4867 v4877 v4893 v4902 v4911 v4920 v4929 v4938 v4947 v5008 k0_hw26 => k0_hw26.2.2.2.2.2.1
theorem k0_off502_inb : ∀ (v4862 : BitVec 32) (v4867 : BitVec 32) (v4877 : BitVec 32) (v4893 : BitVec 32) (v4902 : BitVec 32) (v4911 : BitVec 32) (v4920 : BitVec 32) (v4929 : BitVec 32) (v4938 : BitVec 32) (v4947 : BitVec 32) (v5008 : BitVec 32) (k0_hw26 : k0_chk26 v4862 v4867 v4877 v4893 v4902 v4911 v4920 v4929 v4938 v4947 v5008), ∀ a, (k0_off502 v4862 v4867 v4877 v4911 v5008) a + S1x16x256.size a ≤ S200x216x256.size a := fun v4862 v4867 v4877 v4893 v4902 v4911 v4920 v4929 v4938 v4947 v5008 k0_hw26 => k0_hw26.2.2.2.2.2.2.1
theorem k0_off522_inb : ∀ (v4862 : BitVec 32) (v4867 : BitVec 32) (v4877 : BitVec 32) (v4893 : BitVec 32) (v4902 : BitVec 32) (v4911 : BitVec 32) (v4920 : BitVec 32) (v4929 : BitVec 32) (v4938 : BitVec 32) (v4947 : BitVec 32) (v5008 : BitVec 32) (k0_hw26 : k0_chk26 v4862 v4867 v4877 v4893 v4902 v4911 v4920 v4929 v4938 v4947 v5008), ∀ a, (k0_off522 v4862 v4867 v4920 v5008) a + S1x16x256.size a ≤ S200x216x256.size a := fun v4862 v4867 v4877 v4893 v4902 v4911 v4920 v4929 v4938 v4947 v5008 k0_hw26 => k0_hw26.2.2.2.2.2.2.2.1
theorem k0_off523_inb : ∀ (v4862 : BitVec 32) (v4867 : BitVec 32) (v4877 : BitVec 32) (v4893 : BitVec 32) (v4902 : BitVec 32) (v4911 : BitVec 32) (v4920 : BitVec 32) (v4929 : BitVec 32) (v4938 : BitVec 32) (v4947 : BitVec 32) (v5008 : BitVec 32) (k0_hw26 : k0_chk26 v4862 v4867 v4877 v4893 v4902 v4911 v4920 v4929 v4938 v4947 v5008), ∀ a, (k0_off523 v4862 v4867 v4877 v4920 v5008) a + S1x16x256.size a ≤ S200x216x256.size a := fun v4862 v4867 v4877 v4893 v4902 v4911 v4920 v4929 v4938 v4947 v5008 k0_hw26 => k0_hw26.2.2.2.2.2.2.2.2.1
theorem k0_off543_inb : ∀ (v4862 : BitVec 32) (v4867 : BitVec 32) (v4877 : BitVec 32) (v4893 : BitVec 32) (v4902 : BitVec 32) (v4911 : BitVec 32) (v4920 : BitVec 32) (v4929 : BitVec 32) (v4938 : BitVec 32) (v4947 : BitVec 32) (v5008 : BitVec 32) (k0_hw26 : k0_chk26 v4862 v4867 v4877 v4893 v4902 v4911 v4920 v4929 v4938 v4947 v5008), ∀ a, (k0_off543 v4862 v4867 v4929 v5008) a + S1x16x256.size a ≤ S200x216x256.size a := fun v4862 v4867 v4877 v4893 v4902 v4911 v4920 v4929 v4938 v4947 v5008 k0_hw26 => k0_hw26.2.2.2.2.2.2.2.2.2.1
theorem k0_off544_inb : ∀ (v4862 : BitVec 32) (v4867 : BitVec 32) (v4877 : BitVec 32) (v4893 : BitVec 32) (v4902 : BitVec 32) (v4911 : BitVec 32) (v4920 : BitVec 32) (v4929 : BitVec 32) (v4938 : BitVec 32) (v4947 : BitVec 32) (v5008 : BitVec 32) (k0_hw26 : k0_chk26 v4862 v4867 v4877 v4893 v4902 v4911 v4920 v4929 v4938 v4947 v5008), ∀ a, (k0_off544 v4862 v4867 v4877 v4929 v5008) a + S1x16x256.size a ≤ S200x216x256.size a := fun v4862 v4867 v4877 v4893 v4902 v4911 v4920 v4929 v4938 v4947 v5008 k0_hw26 => k0_hw26.2.2.2.2.2.2.2.2.2.2.1
theorem k0_off564_inb : ∀ (v4862 : BitVec 32) (v4867 : BitVec 32) (v4877 : BitVec 32) (v4893 : BitVec 32) (v4902 : BitVec 32) (v4911 : BitVec 32) (v4920 : BitVec 32) (v4929 : BitVec 32) (v4938 : BitVec 32) (v4947 : BitVec 32) (v5008 : BitVec 32) (k0_hw26 : k0_chk26 v4862 v4867 v4877 v4893 v4902 v4911 v4920 v4929 v4938 v4947 v5008), ∀ a, (k0_off564 v4862 v4867 v4938 v5008) a + S1x16x256.size a ≤ S200x216x256.size a := fun v4862 v4867 v4877 v4893 v4902 v4911 v4920 v4929 v4938 v4947 v5008 k0_hw26 => k0_hw26.2.2.2.2.2.2.2.2.2.2.2.1
theorem k0_off565_inb : ∀ (v4862 : BitVec 32) (v4867 : BitVec 32) (v4877 : BitVec 32) (v4893 : BitVec 32) (v4902 : BitVec 32) (v4911 : BitVec 32) (v4920 : BitVec 32) (v4929 : BitVec 32) (v4938 : BitVec 32) (v4947 : BitVec 32) (v5008 : BitVec 32) (k0_hw26 : k0_chk26 v4862 v4867 v4877 v4893 v4902 v4911 v4920 v4929 v4938 v4947 v5008), ∀ a, (k0_off565 v4862 v4867 v4877 v4938 v5008) a + S1x16x256.size a ≤ S200x216x256.size a := fun v4862 v4867 v4877 v4893 v4902 v4911 v4920 v4929 v4938 v4947 v5008 k0_hw26 => k0_hw26.2.2.2.2.2.2.2.2.2.2.2.2.1
theorem k0_off585_inb : ∀ (v4862 : BitVec 32) (v4867 : BitVec 32) (v4877 : BitVec 32) (v4893 : BitVec 32) (v4902 : BitVec 32) (v4911 : BitVec 32) (v4920 : BitVec 32) (v4929 : BitVec 32) (v4938 : BitVec 32) (v4947 : BitVec 32) (v5008 : BitVec 32) (k0_hw26 : k0_chk26 v4862 v4867 v4877 v4893 v4902 v4911 v4920 v4929 v4938 v4947 v5008), ∀ a, (k0_off585 v4862 v4867 v4947 v5008) a + S1x16x256.size a ≤ S200x216x256.size a := fun v4862 v4867 v4877 v4893 v4902 v4911 v4920 v4929 v4938 v4947 v5008 k0_hw26 => k0_hw26.2.2.2.2.2.2.2.2.2.2.2.2.2.1
theorem k0_off586_inb : ∀ (v4862 : BitVec 32) (v4867 : BitVec 32) (v4877 : BitVec 32) (v4893 : BitVec 32) (v4902 : BitVec 32) (v4911 : BitVec 32) (v4920 : BitVec 32) (v4929 : BitVec 32) (v4938 : BitVec 32) (v4947 : BitVec 32) (v5008 : BitVec 32) (k0_hw26 : k0_chk26 v4862 v4867 v4877 v4893 v4902 v4911 v4920 v4929 v4938 v4947 v5008), ∀ a, (k0_off586 v4862 v4867 v4877 v4947 v5008) a + S1x16x256.size a ≤ S200x216x256.size a := fun v4862 v4867 v4877 v4893 v4902 v4911 v4920 v4929 v4938 v4947 v5008 k0_hw26 => k0_hw26.2.2.2.2.2.2.2.2.2.2.2.2.2.2

def k0_off587 (k0_t1 : Fin k0_t1_loop.trips) : Fin 3 → Nat :=
  let c46_1525 : Index := 46#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c3_i32_1141 : BitVec 32 := 3#32
  let v4854 : BitVec 32 := Scalar.addi v5 c3_i32_1141
  let v6408 : Index := Scalar.indexCast v4854
  let c0_1526 : Index := 0#32
  ![46, v6408.toNat, 0]
def k0_off588 (v4862 : BitVec 32) (v4867 : BitVec 32) (v4947 : BitVec 32) (v5021 : BitVec 32) : Fin 3 → Nat :=
  let c199_i32_1150 : BitVec 32 := 199#32
  let c0_i32_1149 : BitVec 32 := 0#32
  let v4868 : BitVec 32 := Scalar.maxsi c0_i32_1149 v4867
  let v4869 : BitVec 32 := Scalar.minsi c199_i32_1150 v4868
  let v4948 : BitVec 32 := Scalar.addi v4869 v4947
  let v6413 : Index := Scalar.indexCast v4948
  let c199_i32_1147 : BitVec 32 := 199#32
  let c0_i32_1146 : BitVec 32 := 0#32
  let v4863 : BitVec 32 := Scalar.maxsi c0_i32_1146 v4862
  let v4864 : BitVec 32 := Scalar.minsi c199_i32_1147 v4863
  let v5022 : BitVec 32 := Scalar.addi v4864 v5021
  let c3_i32_1228 : BitVec 32 := 3#32
  let v5025 : BitVec 32 := Scalar.shrsi v5022 c3_i32_1228
  let c3_i32_1229 : BitVec 32 := 3#32
  let v5026 : BitVec 32 := Scalar.shli v5025 c3_i32_1229
  let v5027 : BitVec 32 := v5026
  let v6414 : Index := Scalar.indexCast v5027
  let c0_1528 : Index := 0#32
  ![v6413.toNat, v6414.toNat, 0]
def k0_off589 (v4862 : BitVec 32) (v4867 : BitVec 32) (v4877 : BitVec 32) (v4947 : BitVec 32) (v5021 : BitVec 32) : Fin 3 → Nat :=
  let c199_i32_1150 : BitVec 32 := 199#32
  let c0_i32_1149 : BitVec 32 := 0#32
  let v4868 : BitVec 32 := Scalar.maxsi c0_i32_1149 v4867
  let v4869 : BitVec 32 := Scalar.minsi c199_i32_1150 v4868
  let v4948 : BitVec 32 := Scalar.addi v4869 v4947
  let c1_i32_1188 : BitVec 32 := 1#32
  let v4949 : BitVec 32 := Scalar.addi v4948 c1_i32_1188
  let c199_i32_1156 : BitVec 32 := 199#32
  let c0_i32_1155 : BitVec 32 := 0#32
  let v4878 : BitVec 32 := Scalar.maxsi c0_i32_1155 v4877
  let v4879 : BitVec 32 := Scalar.minsi c199_i32_1156 v4878
  let v4950 : BitVec 32 := Scalar.minsi v4949 v4879
  let v6417 : Index := Scalar.indexCast v4950
  let c199_i32_1147 : BitVec 32 := 199#32
  let c0_i32_1146 : BitVec 32 := 0#32
  let v4863 : BitVec 32 := Scalar.maxsi c0_i32_1146 v4862
  let v4864 : BitVec 32 := Scalar.minsi c199_i32_1147 v4863
  let v5022 : BitVec 32 := Scalar.addi v4864 v5021
  let c3_i32_1228 : BitVec 32 := 3#32
  let v5025 : BitVec 32 := Scalar.shrsi v5022 c3_i32_1228
  let c3_i32_1229 : BitVec 32 := 3#32
  let v5026 : BitVec 32 := Scalar.shli v5025 c3_i32_1229
  let v5027 : BitVec 32 := v5026
  let v6418 : Index := Scalar.indexCast v5027
  let c0_1529 : Index := 0#32
  ![v6417.toNat, v6418.toNat, 0]

def k0_chk27 (v4862 : BitVec 32) (v4867 : BitVec 32) (v4877 : BitVec 32) (v4893 : BitVec 32) (v4902 : BitVec 32) (v4911 : BitVec 32) (v4920 : BitVec 32) (v4929 : BitVec 32) (v4938 : BitVec 32) (v4947 : BitVec 32) (v5021 : BitVec 32) : Prop :=
  (8 ∣ (k0_mult28 v4862 v5021).toNat) ∧
  (∀ a, (k0_off462 v4862 v4867 v4893 v5021) a + S1x16x256.size a ≤ S200x216x256.size a) ∧
  (∀ a, (k0_off463 v4862 v4867 v4877 v4893 v5021) a + S1x16x256.size a ≤ S200x216x256.size a) ∧
  (∀ a, (k0_off483 v4862 v4867 v4902 v5021) a + S1x16x256.size a ≤ S200x216x256.size a) ∧
  (∀ a, (k0_off484 v4862 v4867 v4877 v4902 v5021) a + S1x16x256.size a ≤ S200x216x256.size a) ∧
  (∀ a, (k0_off504 v4862 v4867 v4911 v5021) a + S1x16x256.size a ≤ S200x216x256.size a) ∧
  (∀ a, (k0_off505 v4862 v4867 v4877 v4911 v5021) a + S1x16x256.size a ≤ S200x216x256.size a) ∧
  (∀ a, (k0_off525 v4862 v4867 v4920 v5021) a + S1x16x256.size a ≤ S200x216x256.size a) ∧
  (∀ a, (k0_off526 v4862 v4867 v4877 v4920 v5021) a + S1x16x256.size a ≤ S200x216x256.size a) ∧
  (∀ a, (k0_off546 v4862 v4867 v4929 v5021) a + S1x16x256.size a ≤ S200x216x256.size a) ∧
  (∀ a, (k0_off547 v4862 v4867 v4877 v4929 v5021) a + S1x16x256.size a ≤ S200x216x256.size a) ∧
  (∀ a, (k0_off567 v4862 v4867 v4938 v5021) a + S1x16x256.size a ≤ S200x216x256.size a) ∧
  (∀ a, (k0_off568 v4862 v4867 v4877 v4938 v5021) a + S1x16x256.size a ≤ S200x216x256.size a) ∧
  (∀ a, (k0_off588 v4862 v4867 v4947 v5021) a + S1x16x256.size a ≤ S200x216x256.size a) ∧
  (∀ a, (k0_off589 v4862 v4867 v4877 v4947 v5021) a + S1x16x256.size a ≤ S200x216x256.size a)
theorem k0_mult28_dvd : ∀ (v4862 : BitVec 32) (v4867 : BitVec 32) (v4877 : BitVec 32) (v4893 : BitVec 32) (v4902 : BitVec 32) (v4911 : BitVec 32) (v4920 : BitVec 32) (v4929 : BitVec 32) (v4938 : BitVec 32) (v4947 : BitVec 32) (v5021 : BitVec 32) (k0_hw27 : k0_chk27 v4862 v4867 v4877 v4893 v4902 v4911 v4920 v4929 v4938 v4947 v5021), 8 ∣ (k0_mult28 v4862 v5021).toNat := fun v4862 v4867 v4877 v4893 v4902 v4911 v4920 v4929 v4938 v4947 v5021 k0_hw27 => k0_hw27.1
theorem k0_off462_inb : ∀ (v4862 : BitVec 32) (v4867 : BitVec 32) (v4877 : BitVec 32) (v4893 : BitVec 32) (v4902 : BitVec 32) (v4911 : BitVec 32) (v4920 : BitVec 32) (v4929 : BitVec 32) (v4938 : BitVec 32) (v4947 : BitVec 32) (v5021 : BitVec 32) (k0_hw27 : k0_chk27 v4862 v4867 v4877 v4893 v4902 v4911 v4920 v4929 v4938 v4947 v5021), ∀ a, (k0_off462 v4862 v4867 v4893 v5021) a + S1x16x256.size a ≤ S200x216x256.size a := fun v4862 v4867 v4877 v4893 v4902 v4911 v4920 v4929 v4938 v4947 v5021 k0_hw27 => k0_hw27.2.1
theorem k0_off463_inb : ∀ (v4862 : BitVec 32) (v4867 : BitVec 32) (v4877 : BitVec 32) (v4893 : BitVec 32) (v4902 : BitVec 32) (v4911 : BitVec 32) (v4920 : BitVec 32) (v4929 : BitVec 32) (v4938 : BitVec 32) (v4947 : BitVec 32) (v5021 : BitVec 32) (k0_hw27 : k0_chk27 v4862 v4867 v4877 v4893 v4902 v4911 v4920 v4929 v4938 v4947 v5021), ∀ a, (k0_off463 v4862 v4867 v4877 v4893 v5021) a + S1x16x256.size a ≤ S200x216x256.size a := fun v4862 v4867 v4877 v4893 v4902 v4911 v4920 v4929 v4938 v4947 v5021 k0_hw27 => k0_hw27.2.2.1
theorem k0_off483_inb : ∀ (v4862 : BitVec 32) (v4867 : BitVec 32) (v4877 : BitVec 32) (v4893 : BitVec 32) (v4902 : BitVec 32) (v4911 : BitVec 32) (v4920 : BitVec 32) (v4929 : BitVec 32) (v4938 : BitVec 32) (v4947 : BitVec 32) (v5021 : BitVec 32) (k0_hw27 : k0_chk27 v4862 v4867 v4877 v4893 v4902 v4911 v4920 v4929 v4938 v4947 v5021), ∀ a, (k0_off483 v4862 v4867 v4902 v5021) a + S1x16x256.size a ≤ S200x216x256.size a := fun v4862 v4867 v4877 v4893 v4902 v4911 v4920 v4929 v4938 v4947 v5021 k0_hw27 => k0_hw27.2.2.2.1
theorem k0_off484_inb : ∀ (v4862 : BitVec 32) (v4867 : BitVec 32) (v4877 : BitVec 32) (v4893 : BitVec 32) (v4902 : BitVec 32) (v4911 : BitVec 32) (v4920 : BitVec 32) (v4929 : BitVec 32) (v4938 : BitVec 32) (v4947 : BitVec 32) (v5021 : BitVec 32) (k0_hw27 : k0_chk27 v4862 v4867 v4877 v4893 v4902 v4911 v4920 v4929 v4938 v4947 v5021), ∀ a, (k0_off484 v4862 v4867 v4877 v4902 v5021) a + S1x16x256.size a ≤ S200x216x256.size a := fun v4862 v4867 v4877 v4893 v4902 v4911 v4920 v4929 v4938 v4947 v5021 k0_hw27 => k0_hw27.2.2.2.2.1
theorem k0_off504_inb : ∀ (v4862 : BitVec 32) (v4867 : BitVec 32) (v4877 : BitVec 32) (v4893 : BitVec 32) (v4902 : BitVec 32) (v4911 : BitVec 32) (v4920 : BitVec 32) (v4929 : BitVec 32) (v4938 : BitVec 32) (v4947 : BitVec 32) (v5021 : BitVec 32) (k0_hw27 : k0_chk27 v4862 v4867 v4877 v4893 v4902 v4911 v4920 v4929 v4938 v4947 v5021), ∀ a, (k0_off504 v4862 v4867 v4911 v5021) a + S1x16x256.size a ≤ S200x216x256.size a := fun v4862 v4867 v4877 v4893 v4902 v4911 v4920 v4929 v4938 v4947 v5021 k0_hw27 => k0_hw27.2.2.2.2.2.1
theorem k0_off505_inb : ∀ (v4862 : BitVec 32) (v4867 : BitVec 32) (v4877 : BitVec 32) (v4893 : BitVec 32) (v4902 : BitVec 32) (v4911 : BitVec 32) (v4920 : BitVec 32) (v4929 : BitVec 32) (v4938 : BitVec 32) (v4947 : BitVec 32) (v5021 : BitVec 32) (k0_hw27 : k0_chk27 v4862 v4867 v4877 v4893 v4902 v4911 v4920 v4929 v4938 v4947 v5021), ∀ a, (k0_off505 v4862 v4867 v4877 v4911 v5021) a + S1x16x256.size a ≤ S200x216x256.size a := fun v4862 v4867 v4877 v4893 v4902 v4911 v4920 v4929 v4938 v4947 v5021 k0_hw27 => k0_hw27.2.2.2.2.2.2.1
theorem k0_off525_inb : ∀ (v4862 : BitVec 32) (v4867 : BitVec 32) (v4877 : BitVec 32) (v4893 : BitVec 32) (v4902 : BitVec 32) (v4911 : BitVec 32) (v4920 : BitVec 32) (v4929 : BitVec 32) (v4938 : BitVec 32) (v4947 : BitVec 32) (v5021 : BitVec 32) (k0_hw27 : k0_chk27 v4862 v4867 v4877 v4893 v4902 v4911 v4920 v4929 v4938 v4947 v5021), ∀ a, (k0_off525 v4862 v4867 v4920 v5021) a + S1x16x256.size a ≤ S200x216x256.size a := fun v4862 v4867 v4877 v4893 v4902 v4911 v4920 v4929 v4938 v4947 v5021 k0_hw27 => k0_hw27.2.2.2.2.2.2.2.1
theorem k0_off526_inb : ∀ (v4862 : BitVec 32) (v4867 : BitVec 32) (v4877 : BitVec 32) (v4893 : BitVec 32) (v4902 : BitVec 32) (v4911 : BitVec 32) (v4920 : BitVec 32) (v4929 : BitVec 32) (v4938 : BitVec 32) (v4947 : BitVec 32) (v5021 : BitVec 32) (k0_hw27 : k0_chk27 v4862 v4867 v4877 v4893 v4902 v4911 v4920 v4929 v4938 v4947 v5021), ∀ a, (k0_off526 v4862 v4867 v4877 v4920 v5021) a + S1x16x256.size a ≤ S200x216x256.size a := fun v4862 v4867 v4877 v4893 v4902 v4911 v4920 v4929 v4938 v4947 v5021 k0_hw27 => k0_hw27.2.2.2.2.2.2.2.2.1
theorem k0_off546_inb : ∀ (v4862 : BitVec 32) (v4867 : BitVec 32) (v4877 : BitVec 32) (v4893 : BitVec 32) (v4902 : BitVec 32) (v4911 : BitVec 32) (v4920 : BitVec 32) (v4929 : BitVec 32) (v4938 : BitVec 32) (v4947 : BitVec 32) (v5021 : BitVec 32) (k0_hw27 : k0_chk27 v4862 v4867 v4877 v4893 v4902 v4911 v4920 v4929 v4938 v4947 v5021), ∀ a, (k0_off546 v4862 v4867 v4929 v5021) a + S1x16x256.size a ≤ S200x216x256.size a := fun v4862 v4867 v4877 v4893 v4902 v4911 v4920 v4929 v4938 v4947 v5021 k0_hw27 => k0_hw27.2.2.2.2.2.2.2.2.2.1
theorem k0_off547_inb : ∀ (v4862 : BitVec 32) (v4867 : BitVec 32) (v4877 : BitVec 32) (v4893 : BitVec 32) (v4902 : BitVec 32) (v4911 : BitVec 32) (v4920 : BitVec 32) (v4929 : BitVec 32) (v4938 : BitVec 32) (v4947 : BitVec 32) (v5021 : BitVec 32) (k0_hw27 : k0_chk27 v4862 v4867 v4877 v4893 v4902 v4911 v4920 v4929 v4938 v4947 v5021), ∀ a, (k0_off547 v4862 v4867 v4877 v4929 v5021) a + S1x16x256.size a ≤ S200x216x256.size a := fun v4862 v4867 v4877 v4893 v4902 v4911 v4920 v4929 v4938 v4947 v5021 k0_hw27 => k0_hw27.2.2.2.2.2.2.2.2.2.2.1
theorem k0_off567_inb : ∀ (v4862 : BitVec 32) (v4867 : BitVec 32) (v4877 : BitVec 32) (v4893 : BitVec 32) (v4902 : BitVec 32) (v4911 : BitVec 32) (v4920 : BitVec 32) (v4929 : BitVec 32) (v4938 : BitVec 32) (v4947 : BitVec 32) (v5021 : BitVec 32) (k0_hw27 : k0_chk27 v4862 v4867 v4877 v4893 v4902 v4911 v4920 v4929 v4938 v4947 v5021), ∀ a, (k0_off567 v4862 v4867 v4938 v5021) a + S1x16x256.size a ≤ S200x216x256.size a := fun v4862 v4867 v4877 v4893 v4902 v4911 v4920 v4929 v4938 v4947 v5021 k0_hw27 => k0_hw27.2.2.2.2.2.2.2.2.2.2.2.1
theorem k0_off568_inb : ∀ (v4862 : BitVec 32) (v4867 : BitVec 32) (v4877 : BitVec 32) (v4893 : BitVec 32) (v4902 : BitVec 32) (v4911 : BitVec 32) (v4920 : BitVec 32) (v4929 : BitVec 32) (v4938 : BitVec 32) (v4947 : BitVec 32) (v5021 : BitVec 32) (k0_hw27 : k0_chk27 v4862 v4867 v4877 v4893 v4902 v4911 v4920 v4929 v4938 v4947 v5021), ∀ a, (k0_off568 v4862 v4867 v4877 v4938 v5021) a + S1x16x256.size a ≤ S200x216x256.size a := fun v4862 v4867 v4877 v4893 v4902 v4911 v4920 v4929 v4938 v4947 v5021 k0_hw27 => k0_hw27.2.2.2.2.2.2.2.2.2.2.2.2.1
theorem k0_off588_inb : ∀ (v4862 : BitVec 32) (v4867 : BitVec 32) (v4877 : BitVec 32) (v4893 : BitVec 32) (v4902 : BitVec 32) (v4911 : BitVec 32) (v4920 : BitVec 32) (v4929 : BitVec 32) (v4938 : BitVec 32) (v4947 : BitVec 32) (v5021 : BitVec 32) (k0_hw27 : k0_chk27 v4862 v4867 v4877 v4893 v4902 v4911 v4920 v4929 v4938 v4947 v5021), ∀ a, (k0_off588 v4862 v4867 v4947 v5021) a + S1x16x256.size a ≤ S200x216x256.size a := fun v4862 v4867 v4877 v4893 v4902 v4911 v4920 v4929 v4938 v4947 v5021 k0_hw27 => k0_hw27.2.2.2.2.2.2.2.2.2.2.2.2.2.1
theorem k0_off589_inb : ∀ (v4862 : BitVec 32) (v4867 : BitVec 32) (v4877 : BitVec 32) (v4893 : BitVec 32) (v4902 : BitVec 32) (v4911 : BitVec 32) (v4920 : BitVec 32) (v4929 : BitVec 32) (v4938 : BitVec 32) (v4947 : BitVec 32) (v5021 : BitVec 32) (k0_hw27 : k0_chk27 v4862 v4867 v4877 v4893 v4902 v4911 v4920 v4929 v4938 v4947 v5021), ∀ a, (k0_off589 v4862 v4867 v4877 v4947 v5021) a + S1x16x256.size a ≤ S200x216x256.size a := fun v4862 v4867 v4877 v4893 v4902 v4911 v4920 v4929 v4938 v4947 v5021 k0_hw27 => k0_hw27.2.2.2.2.2.2.2.2.2.2.2.2.2.2

def k0_off590 (k0_t1 : Fin k0_t1_loop.trips) : Fin 3 → Nat :=
  let c47_1531 : Index := 47#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c3_i32_1141 : BitVec 32 := 3#32
  let v4854 : BitVec 32 := Scalar.addi v5 c3_i32_1141
  let v6437 : Index := Scalar.indexCast v4854
  let c0_1532 : Index := 0#32
  ![47, v6437.toNat, 0]
def k0_off591 (v4862 : BitVec 32) (v4867 : BitVec 32) (v4947 : BitVec 32) (v5034 : BitVec 32) : Fin 3 → Nat :=
  let c199_i32_1150 : BitVec 32 := 199#32
  let c0_i32_1149 : BitVec 32 := 0#32
  let v4868 : BitVec 32 := Scalar.maxsi c0_i32_1149 v4867
  let v4869 : BitVec 32 := Scalar.minsi c199_i32_1150 v4868
  let v4948 : BitVec 32 := Scalar.addi v4869 v4947
  let v6442 : Index := Scalar.indexCast v4948
  let c199_i32_1147 : BitVec 32 := 199#32
  let c0_i32_1146 : BitVec 32 := 0#32
  let v4863 : BitVec 32 := Scalar.maxsi c0_i32_1146 v4862
  let v4864 : BitVec 32 := Scalar.minsi c199_i32_1147 v4863
  let v5035 : BitVec 32 := Scalar.addi v4864 v5034
  let c3_i32_1235 : BitVec 32 := 3#32
  let v5038 : BitVec 32 := Scalar.shrsi v5035 c3_i32_1235
  let c3_i32_1236 : BitVec 32 := 3#32
  let v5039 : BitVec 32 := Scalar.shli v5038 c3_i32_1236
  let v5040 : BitVec 32 := v5039
  let v6443 : Index := Scalar.indexCast v5040
  let c0_1534 : Index := 0#32
  ![v6442.toNat, v6443.toNat, 0]
def k0_off592 (v4862 : BitVec 32) (v4867 : BitVec 32) (v4877 : BitVec 32) (v4947 : BitVec 32) (v5034 : BitVec 32) : Fin 3 → Nat :=
  let c199_i32_1150 : BitVec 32 := 199#32
  let c0_i32_1149 : BitVec 32 := 0#32
  let v4868 : BitVec 32 := Scalar.maxsi c0_i32_1149 v4867
  let v4869 : BitVec 32 := Scalar.minsi c199_i32_1150 v4868
  let v4948 : BitVec 32 := Scalar.addi v4869 v4947
  let c1_i32_1188 : BitVec 32 := 1#32
  let v4949 : BitVec 32 := Scalar.addi v4948 c1_i32_1188
  let c199_i32_1156 : BitVec 32 := 199#32
  let c0_i32_1155 : BitVec 32 := 0#32
  let v4878 : BitVec 32 := Scalar.maxsi c0_i32_1155 v4877
  let v4879 : BitVec 32 := Scalar.minsi c199_i32_1156 v4878
  let v4950 : BitVec 32 := Scalar.minsi v4949 v4879
  let v6446 : Index := Scalar.indexCast v4950
  let c199_i32_1147 : BitVec 32 := 199#32
  let c0_i32_1146 : BitVec 32 := 0#32
  let v4863 : BitVec 32 := Scalar.maxsi c0_i32_1146 v4862
  let v4864 : BitVec 32 := Scalar.minsi c199_i32_1147 v4863
  let v5035 : BitVec 32 := Scalar.addi v4864 v5034
  let c3_i32_1235 : BitVec 32 := 3#32
  let v5038 : BitVec 32 := Scalar.shrsi v5035 c3_i32_1235
  let c3_i32_1236 : BitVec 32 := 3#32
  let v5039 : BitVec 32 := Scalar.shli v5038 c3_i32_1236
  let v5040 : BitVec 32 := v5039
  let v6447 : Index := Scalar.indexCast v5040
  let c0_1535 : Index := 0#32
  ![v6446.toNat, v6447.toNat, 0]

def k0_chk28 (v4862 : BitVec 32) (v4867 : BitVec 32) (v4877 : BitVec 32) (v4893 : BitVec 32) (v4902 : BitVec 32) (v4911 : BitVec 32) (v4920 : BitVec 32) (v4929 : BitVec 32) (v4938 : BitVec 32) (v4947 : BitVec 32) (v5034 : BitVec 32) : Prop :=
  (8 ∣ (k0_mult29 v4862 v5034).toNat) ∧
  (∀ a, (k0_off465 v4862 v4867 v4893 v5034) a + S1x16x256.size a ≤ S200x216x256.size a) ∧
  (∀ a, (k0_off466 v4862 v4867 v4877 v4893 v5034) a + S1x16x256.size a ≤ S200x216x256.size a) ∧
  (∀ a, (k0_off486 v4862 v4867 v4902 v5034) a + S1x16x256.size a ≤ S200x216x256.size a) ∧
  (∀ a, (k0_off487 v4862 v4867 v4877 v4902 v5034) a + S1x16x256.size a ≤ S200x216x256.size a) ∧
  (∀ a, (k0_off507 v4862 v4867 v4911 v5034) a + S1x16x256.size a ≤ S200x216x256.size a) ∧
  (∀ a, (k0_off508 v4862 v4867 v4877 v4911 v5034) a + S1x16x256.size a ≤ S200x216x256.size a) ∧
  (∀ a, (k0_off528 v4862 v4867 v4920 v5034) a + S1x16x256.size a ≤ S200x216x256.size a) ∧
  (∀ a, (k0_off529 v4862 v4867 v4877 v4920 v5034) a + S1x16x256.size a ≤ S200x216x256.size a) ∧
  (∀ a, (k0_off549 v4862 v4867 v4929 v5034) a + S1x16x256.size a ≤ S200x216x256.size a) ∧
  (∀ a, (k0_off550 v4862 v4867 v4877 v4929 v5034) a + S1x16x256.size a ≤ S200x216x256.size a) ∧
  (∀ a, (k0_off570 v4862 v4867 v4938 v5034) a + S1x16x256.size a ≤ S200x216x256.size a) ∧
  (∀ a, (k0_off571 v4862 v4867 v4877 v4938 v5034) a + S1x16x256.size a ≤ S200x216x256.size a) ∧
  (∀ a, (k0_off591 v4862 v4867 v4947 v5034) a + S1x16x256.size a ≤ S200x216x256.size a) ∧
  (∀ a, (k0_off592 v4862 v4867 v4877 v4947 v5034) a + S1x16x256.size a ≤ S200x216x256.size a)
theorem k0_mult29_dvd : ∀ (v4862 : BitVec 32) (v4867 : BitVec 32) (v4877 : BitVec 32) (v4893 : BitVec 32) (v4902 : BitVec 32) (v4911 : BitVec 32) (v4920 : BitVec 32) (v4929 : BitVec 32) (v4938 : BitVec 32) (v4947 : BitVec 32) (v5034 : BitVec 32) (k0_hw28 : k0_chk28 v4862 v4867 v4877 v4893 v4902 v4911 v4920 v4929 v4938 v4947 v5034), 8 ∣ (k0_mult29 v4862 v5034).toNat := fun v4862 v4867 v4877 v4893 v4902 v4911 v4920 v4929 v4938 v4947 v5034 k0_hw28 => k0_hw28.1
theorem k0_off465_inb : ∀ (v4862 : BitVec 32) (v4867 : BitVec 32) (v4877 : BitVec 32) (v4893 : BitVec 32) (v4902 : BitVec 32) (v4911 : BitVec 32) (v4920 : BitVec 32) (v4929 : BitVec 32) (v4938 : BitVec 32) (v4947 : BitVec 32) (v5034 : BitVec 32) (k0_hw28 : k0_chk28 v4862 v4867 v4877 v4893 v4902 v4911 v4920 v4929 v4938 v4947 v5034), ∀ a, (k0_off465 v4862 v4867 v4893 v5034) a + S1x16x256.size a ≤ S200x216x256.size a := fun v4862 v4867 v4877 v4893 v4902 v4911 v4920 v4929 v4938 v4947 v5034 k0_hw28 => k0_hw28.2.1
theorem k0_off466_inb : ∀ (v4862 : BitVec 32) (v4867 : BitVec 32) (v4877 : BitVec 32) (v4893 : BitVec 32) (v4902 : BitVec 32) (v4911 : BitVec 32) (v4920 : BitVec 32) (v4929 : BitVec 32) (v4938 : BitVec 32) (v4947 : BitVec 32) (v5034 : BitVec 32) (k0_hw28 : k0_chk28 v4862 v4867 v4877 v4893 v4902 v4911 v4920 v4929 v4938 v4947 v5034), ∀ a, (k0_off466 v4862 v4867 v4877 v4893 v5034) a + S1x16x256.size a ≤ S200x216x256.size a := fun v4862 v4867 v4877 v4893 v4902 v4911 v4920 v4929 v4938 v4947 v5034 k0_hw28 => k0_hw28.2.2.1
theorem k0_off486_inb : ∀ (v4862 : BitVec 32) (v4867 : BitVec 32) (v4877 : BitVec 32) (v4893 : BitVec 32) (v4902 : BitVec 32) (v4911 : BitVec 32) (v4920 : BitVec 32) (v4929 : BitVec 32) (v4938 : BitVec 32) (v4947 : BitVec 32) (v5034 : BitVec 32) (k0_hw28 : k0_chk28 v4862 v4867 v4877 v4893 v4902 v4911 v4920 v4929 v4938 v4947 v5034), ∀ a, (k0_off486 v4862 v4867 v4902 v5034) a + S1x16x256.size a ≤ S200x216x256.size a := fun v4862 v4867 v4877 v4893 v4902 v4911 v4920 v4929 v4938 v4947 v5034 k0_hw28 => k0_hw28.2.2.2.1
theorem k0_off487_inb : ∀ (v4862 : BitVec 32) (v4867 : BitVec 32) (v4877 : BitVec 32) (v4893 : BitVec 32) (v4902 : BitVec 32) (v4911 : BitVec 32) (v4920 : BitVec 32) (v4929 : BitVec 32) (v4938 : BitVec 32) (v4947 : BitVec 32) (v5034 : BitVec 32) (k0_hw28 : k0_chk28 v4862 v4867 v4877 v4893 v4902 v4911 v4920 v4929 v4938 v4947 v5034), ∀ a, (k0_off487 v4862 v4867 v4877 v4902 v5034) a + S1x16x256.size a ≤ S200x216x256.size a := fun v4862 v4867 v4877 v4893 v4902 v4911 v4920 v4929 v4938 v4947 v5034 k0_hw28 => k0_hw28.2.2.2.2.1
theorem k0_off507_inb : ∀ (v4862 : BitVec 32) (v4867 : BitVec 32) (v4877 : BitVec 32) (v4893 : BitVec 32) (v4902 : BitVec 32) (v4911 : BitVec 32) (v4920 : BitVec 32) (v4929 : BitVec 32) (v4938 : BitVec 32) (v4947 : BitVec 32) (v5034 : BitVec 32) (k0_hw28 : k0_chk28 v4862 v4867 v4877 v4893 v4902 v4911 v4920 v4929 v4938 v4947 v5034), ∀ a, (k0_off507 v4862 v4867 v4911 v5034) a + S1x16x256.size a ≤ S200x216x256.size a := fun v4862 v4867 v4877 v4893 v4902 v4911 v4920 v4929 v4938 v4947 v5034 k0_hw28 => k0_hw28.2.2.2.2.2.1
theorem k0_off508_inb : ∀ (v4862 : BitVec 32) (v4867 : BitVec 32) (v4877 : BitVec 32) (v4893 : BitVec 32) (v4902 : BitVec 32) (v4911 : BitVec 32) (v4920 : BitVec 32) (v4929 : BitVec 32) (v4938 : BitVec 32) (v4947 : BitVec 32) (v5034 : BitVec 32) (k0_hw28 : k0_chk28 v4862 v4867 v4877 v4893 v4902 v4911 v4920 v4929 v4938 v4947 v5034), ∀ a, (k0_off508 v4862 v4867 v4877 v4911 v5034) a + S1x16x256.size a ≤ S200x216x256.size a := fun v4862 v4867 v4877 v4893 v4902 v4911 v4920 v4929 v4938 v4947 v5034 k0_hw28 => k0_hw28.2.2.2.2.2.2.1
theorem k0_off528_inb : ∀ (v4862 : BitVec 32) (v4867 : BitVec 32) (v4877 : BitVec 32) (v4893 : BitVec 32) (v4902 : BitVec 32) (v4911 : BitVec 32) (v4920 : BitVec 32) (v4929 : BitVec 32) (v4938 : BitVec 32) (v4947 : BitVec 32) (v5034 : BitVec 32) (k0_hw28 : k0_chk28 v4862 v4867 v4877 v4893 v4902 v4911 v4920 v4929 v4938 v4947 v5034), ∀ a, (k0_off528 v4862 v4867 v4920 v5034) a + S1x16x256.size a ≤ S200x216x256.size a := fun v4862 v4867 v4877 v4893 v4902 v4911 v4920 v4929 v4938 v4947 v5034 k0_hw28 => k0_hw28.2.2.2.2.2.2.2.1
theorem k0_off529_inb : ∀ (v4862 : BitVec 32) (v4867 : BitVec 32) (v4877 : BitVec 32) (v4893 : BitVec 32) (v4902 : BitVec 32) (v4911 : BitVec 32) (v4920 : BitVec 32) (v4929 : BitVec 32) (v4938 : BitVec 32) (v4947 : BitVec 32) (v5034 : BitVec 32) (k0_hw28 : k0_chk28 v4862 v4867 v4877 v4893 v4902 v4911 v4920 v4929 v4938 v4947 v5034), ∀ a, (k0_off529 v4862 v4867 v4877 v4920 v5034) a + S1x16x256.size a ≤ S200x216x256.size a := fun v4862 v4867 v4877 v4893 v4902 v4911 v4920 v4929 v4938 v4947 v5034 k0_hw28 => k0_hw28.2.2.2.2.2.2.2.2.1
theorem k0_off549_inb : ∀ (v4862 : BitVec 32) (v4867 : BitVec 32) (v4877 : BitVec 32) (v4893 : BitVec 32) (v4902 : BitVec 32) (v4911 : BitVec 32) (v4920 : BitVec 32) (v4929 : BitVec 32) (v4938 : BitVec 32) (v4947 : BitVec 32) (v5034 : BitVec 32) (k0_hw28 : k0_chk28 v4862 v4867 v4877 v4893 v4902 v4911 v4920 v4929 v4938 v4947 v5034), ∀ a, (k0_off549 v4862 v4867 v4929 v5034) a + S1x16x256.size a ≤ S200x216x256.size a := fun v4862 v4867 v4877 v4893 v4902 v4911 v4920 v4929 v4938 v4947 v5034 k0_hw28 => k0_hw28.2.2.2.2.2.2.2.2.2.1
theorem k0_off550_inb : ∀ (v4862 : BitVec 32) (v4867 : BitVec 32) (v4877 : BitVec 32) (v4893 : BitVec 32) (v4902 : BitVec 32) (v4911 : BitVec 32) (v4920 : BitVec 32) (v4929 : BitVec 32) (v4938 : BitVec 32) (v4947 : BitVec 32) (v5034 : BitVec 32) (k0_hw28 : k0_chk28 v4862 v4867 v4877 v4893 v4902 v4911 v4920 v4929 v4938 v4947 v5034), ∀ a, (k0_off550 v4862 v4867 v4877 v4929 v5034) a + S1x16x256.size a ≤ S200x216x256.size a := fun v4862 v4867 v4877 v4893 v4902 v4911 v4920 v4929 v4938 v4947 v5034 k0_hw28 => k0_hw28.2.2.2.2.2.2.2.2.2.2.1
theorem k0_off570_inb : ∀ (v4862 : BitVec 32) (v4867 : BitVec 32) (v4877 : BitVec 32) (v4893 : BitVec 32) (v4902 : BitVec 32) (v4911 : BitVec 32) (v4920 : BitVec 32) (v4929 : BitVec 32) (v4938 : BitVec 32) (v4947 : BitVec 32) (v5034 : BitVec 32) (k0_hw28 : k0_chk28 v4862 v4867 v4877 v4893 v4902 v4911 v4920 v4929 v4938 v4947 v5034), ∀ a, (k0_off570 v4862 v4867 v4938 v5034) a + S1x16x256.size a ≤ S200x216x256.size a := fun v4862 v4867 v4877 v4893 v4902 v4911 v4920 v4929 v4938 v4947 v5034 k0_hw28 => k0_hw28.2.2.2.2.2.2.2.2.2.2.2.1
theorem k0_off571_inb : ∀ (v4862 : BitVec 32) (v4867 : BitVec 32) (v4877 : BitVec 32) (v4893 : BitVec 32) (v4902 : BitVec 32) (v4911 : BitVec 32) (v4920 : BitVec 32) (v4929 : BitVec 32) (v4938 : BitVec 32) (v4947 : BitVec 32) (v5034 : BitVec 32) (k0_hw28 : k0_chk28 v4862 v4867 v4877 v4893 v4902 v4911 v4920 v4929 v4938 v4947 v5034), ∀ a, (k0_off571 v4862 v4867 v4877 v4938 v5034) a + S1x16x256.size a ≤ S200x216x256.size a := fun v4862 v4867 v4877 v4893 v4902 v4911 v4920 v4929 v4938 v4947 v5034 k0_hw28 => k0_hw28.2.2.2.2.2.2.2.2.2.2.2.2.1
theorem k0_off591_inb : ∀ (v4862 : BitVec 32) (v4867 : BitVec 32) (v4877 : BitVec 32) (v4893 : BitVec 32) (v4902 : BitVec 32) (v4911 : BitVec 32) (v4920 : BitVec 32) (v4929 : BitVec 32) (v4938 : BitVec 32) (v4947 : BitVec 32) (v5034 : BitVec 32) (k0_hw28 : k0_chk28 v4862 v4867 v4877 v4893 v4902 v4911 v4920 v4929 v4938 v4947 v5034), ∀ a, (k0_off591 v4862 v4867 v4947 v5034) a + S1x16x256.size a ≤ S200x216x256.size a := fun v4862 v4867 v4877 v4893 v4902 v4911 v4920 v4929 v4938 v4947 v5034 k0_hw28 => k0_hw28.2.2.2.2.2.2.2.2.2.2.2.2.2.1
theorem k0_off592_inb : ∀ (v4862 : BitVec 32) (v4867 : BitVec 32) (v4877 : BitVec 32) (v4893 : BitVec 32) (v4902 : BitVec 32) (v4911 : BitVec 32) (v4920 : BitVec 32) (v4929 : BitVec 32) (v4938 : BitVec 32) (v4947 : BitVec 32) (v5034 : BitVec 32) (k0_hw28 : k0_chk28 v4862 v4867 v4877 v4893 v4902 v4911 v4920 v4929 v4938 v4947 v5034), ∀ a, (k0_off592 v4862 v4867 v4877 v4947 v5034) a + S1x16x256.size a ≤ S200x216x256.size a := fun v4862 v4867 v4877 v4893 v4902 v4911 v4920 v4929 v4938 v4947 v5034 k0_hw28 => k0_hw28.2.2.2.2.2.2.2.2.2.2.2.2.2.2

def k0_off593 (k0_t1 : Fin k0_t1_loop.trips) : Fin 3 → Nat :=
  let c48_1537 : Index := 48#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c3_i32_1141 : BitVec 32 := 3#32
  let v4854 : BitVec 32 := Scalar.addi v5 c3_i32_1141
  let v6466 : Index := Scalar.indexCast v4854
  let c0_1538 : Index := 0#32
  ![48, v6466.toNat, 0]
def k0_off594 (i : grid0.Coords) (k0_t1 : Fin k0_t1_loop.trips) (c0_i32_1543 : BitVec 32) : Fin 1 → Nat :=
  let arg0 : BitVec 32 := BitVec.ofNat 32 (i 0).val
  let c256_i32_1540 : BitVec 32 := 256#32
  let v6471 : BitVec 32 := Scalar.muli arg0 c256_i32_1540
  let arg1 : BitVec 32 := BitVec.ofNat 32 (i 1).val
  let c32_i32_1541 : BitVec 32 := 32#32
  let v6472 : BitVec 32 := Scalar.muli arg1 c32_i32_1541
  let v6473 : BitVec 32 := Scalar.addi v6471 v6472
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c4_i32_1539 : BitVec 32 := 4#32
  let v6470 : BitVec 32 := Scalar.addi v5 c4_i32_1539
  let v6474 : BitVec 32 := Scalar.addi v6473 v6470
  let c4_i32_1542 : BitVec 32 := 4#32
  let v6475 : BitVec 32 := Scalar.muli v6474 c4_i32_1542
  let v6476 : BitVec 32 := Scalar.addi v6475 c0_i32_1543
  let v6477 : Index := Scalar.indexCast v6476
  ![v6477.toNat]
def k0_mult30 (v6478 : BitVec 32) (v6572 : BitVec 32) : BitVec 32 :=
  let c199_i32_1545 : BitVec 32 := 199#32
  let c0_i32_1544 : BitVec 32 := 0#32
  let v6479 : BitVec 32 := Scalar.maxsi c0_i32_1544 v6478
  let v6480 : BitVec 32 := Scalar.minsi c199_i32_1545 v6479
  let v6573 : BitVec 32 := Scalar.addi v6480 v6572
  let c3_i32_1591 : BitVec 32 := 3#32
  let v6576 : BitVec 32 := Scalar.shrsi v6573 c3_i32_1591
  let c3_i32_1592 : BitVec 32 := 3#32
  let v6577 : BitVec 32 := Scalar.shli v6576 c3_i32_1592
  v6577

def k0_mult31 (v6478 : BitVec 32) (v6585 : BitVec 32) : BitVec 32 :=
  let c199_i32_1545 : BitVec 32 := 199#32
  let c0_i32_1544 : BitVec 32 := 0#32
  let v6479 : BitVec 32 := Scalar.maxsi c0_i32_1544 v6478
  let v6480 : BitVec 32 := Scalar.minsi c199_i32_1545 v6479
  let v6586 : BitVec 32 := Scalar.addi v6480 v6585
  let c3_i32_1598 : BitVec 32 := 3#32
  let v6589 : BitVec 32 := Scalar.shrsi v6586 c3_i32_1598
  let c3_i32_1599 : BitVec 32 := 3#32
  let v6590 : BitVec 32 := Scalar.shli v6589 c3_i32_1599
  v6590

def k0_mult32 (v6478 : BitVec 32) (v6598 : BitVec 32) : BitVec 32 :=
  let c199_i32_1545 : BitVec 32 := 199#32
  let c0_i32_1544 : BitVec 32 := 0#32
  let v6479 : BitVec 32 := Scalar.maxsi c0_i32_1544 v6478
  let v6480 : BitVec 32 := Scalar.minsi c199_i32_1545 v6479
  let v6599 : BitVec 32 := Scalar.addi v6480 v6598
  let c3_i32_1605 : BitVec 32 := 3#32
  let v6602 : BitVec 32 := Scalar.shrsi v6599 c3_i32_1605
  let c3_i32_1606 : BitVec 32 := 3#32
  let v6603 : BitVec 32 := Scalar.shli v6602 c3_i32_1606
  v6603

def k0_mult33 (v6478 : BitVec 32) (v6611 : BitVec 32) : BitVec 32 :=
  let c199_i32_1545 : BitVec 32 := 199#32
  let c0_i32_1544 : BitVec 32 := 0#32
  let v6479 : BitVec 32 := Scalar.maxsi c0_i32_1544 v6478
  let v6480 : BitVec 32 := Scalar.minsi c199_i32_1545 v6479
  let v6612 : BitVec 32 := Scalar.addi v6480 v6611
  let c3_i32_1612 : BitVec 32 := 3#32
  let v6615 : BitVec 32 := Scalar.shrsi v6612 c3_i32_1612
  let c3_i32_1613 : BitVec 32 := 3#32
  let v6616 : BitVec 32 := Scalar.shli v6615 c3_i32_1613
  v6616

def k0_mult34 (v6478 : BitVec 32) (v6624 : BitVec 32) : BitVec 32 :=
  let c199_i32_1545 : BitVec 32 := 199#32
  let c0_i32_1544 : BitVec 32 := 0#32
  let v6479 : BitVec 32 := Scalar.maxsi c0_i32_1544 v6478
  let v6480 : BitVec 32 := Scalar.minsi c199_i32_1545 v6479
  let v6625 : BitVec 32 := Scalar.addi v6480 v6624
  let c3_i32_1619 : BitVec 32 := 3#32
  let v6628 : BitVec 32 := Scalar.shrsi v6625 c3_i32_1619
  let c3_i32_1620 : BitVec 32 := 3#32
  let v6629 : BitVec 32 := Scalar.shli v6628 c3_i32_1620
  v6629

def k0_mult35 (v6478 : BitVec 32) (v6637 : BitVec 32) : BitVec 32 :=
  let c199_i32_1545 : BitVec 32 := 199#32
  let c0_i32_1544 : BitVec 32 := 0#32
  let v6479 : BitVec 32 := Scalar.maxsi c0_i32_1544 v6478
  let v6480 : BitVec 32 := Scalar.minsi c199_i32_1545 v6479
  let v6638 : BitVec 32 := Scalar.addi v6480 v6637
  let c3_i32_1626 : BitVec 32 := 3#32
  let v6641 : BitVec 32 := Scalar.shrsi v6638 c3_i32_1626
  let c3_i32_1627 : BitVec 32 := 3#32
  let v6642 : BitVec 32 := Scalar.shli v6641 c3_i32_1627
  v6642

def k0_mult36 (v6478 : BitVec 32) (v6650 : BitVec 32) : BitVec 32 :=
  let c199_i32_1545 : BitVec 32 := 199#32
  let c0_i32_1544 : BitVec 32 := 0#32
  let v6479 : BitVec 32 := Scalar.maxsi c0_i32_1544 v6478
  let v6480 : BitVec 32 := Scalar.minsi c199_i32_1545 v6479
  let v6651 : BitVec 32 := Scalar.addi v6480 v6650
  let c3_i32_1633 : BitVec 32 := 3#32
  let v6654 : BitVec 32 := Scalar.shrsi v6651 c3_i32_1633
  let c3_i32_1634 : BitVec 32 := 3#32
  let v6655 : BitVec 32 := Scalar.shli v6654 c3_i32_1634
  v6655

def k0_off595 (v6478 : BitVec 32) (v6483 : BitVec 32) (v6509 : BitVec 32) (v6572 : BitVec 32) : Fin 3 → Nat :=
  let c199_i32_1548 : BitVec 32 := 199#32
  let c0_i32_1547 : BitVec 32 := 0#32
  let v6484 : BitVec 32 := Scalar.maxsi c0_i32_1547 v6483
  let v6485 : BitVec 32 := Scalar.minsi c199_i32_1548 v6484
  let v6510 : BitVec 32 := Scalar.addi v6485 v6509
  let v6660 : Index := Scalar.indexCast v6510
  let c199_i32_1545 : BitVec 32 := 199#32
  let c0_i32_1544 : BitVec 32 := 0#32
  let v6479 : BitVec 32 := Scalar.maxsi c0_i32_1544 v6478
  let v6480 : BitVec 32 := Scalar.minsi c199_i32_1545 v6479
  let v6573 : BitVec 32 := Scalar.addi v6480 v6572
  let c3_i32_1591 : BitVec 32 := 3#32
  let v6576 : BitVec 32 := Scalar.shrsi v6573 c3_i32_1591
  let c3_i32_1592 : BitVec 32 := 3#32
  let v6577 : BitVec 32 := Scalar.shli v6576 c3_i32_1592
  let v6578 : BitVec 32 := v6577
  let v6661 : Index := Scalar.indexCast v6578
  let c0_1638 : Index := 0#32
  ![v6660.toNat, v6661.toNat, 0]
def k0_off596 (v6478 : BitVec 32) (v6483 : BitVec 32) (v6493 : BitVec 32) (v6509 : BitVec 32) (v6572 : BitVec 32) : Fin 3 → Nat :=
  let c199_i32_1548 : BitVec 32 := 199#32
  let c0_i32_1547 : BitVec 32 := 0#32
  let v6484 : BitVec 32 := Scalar.maxsi c0_i32_1547 v6483
  let v6485 : BitVec 32 := Scalar.minsi c199_i32_1548 v6484
  let v6510 : BitVec 32 := Scalar.addi v6485 v6509
  let c1_i32_1562 : BitVec 32 := 1#32
  let v6511 : BitVec 32 := Scalar.addi v6510 c1_i32_1562
  let c199_i32_1554 : BitVec 32 := 199#32
  let c0_i32_1553 : BitVec 32 := 0#32
  let v6494 : BitVec 32 := Scalar.maxsi c0_i32_1553 v6493
  let v6495 : BitVec 32 := Scalar.minsi c199_i32_1554 v6494
  let v6512 : BitVec 32 := Scalar.minsi v6511 v6495
  let v6664 : Index := Scalar.indexCast v6512
  let c199_i32_1545 : BitVec 32 := 199#32
  let c0_i32_1544 : BitVec 32 := 0#32
  let v6479 : BitVec 32 := Scalar.maxsi c0_i32_1544 v6478
  let v6480 : BitVec 32 := Scalar.minsi c199_i32_1545 v6479
  let v6573 : BitVec 32 := Scalar.addi v6480 v6572
  let c3_i32_1591 : BitVec 32 := 3#32
  let v6576 : BitVec 32 := Scalar.shrsi v6573 c3_i32_1591
  let c3_i32_1592 : BitVec 32 := 3#32
  let v6577 : BitVec 32 := Scalar.shli v6576 c3_i32_1592
  let v6578 : BitVec 32 := v6577
  let v6665 : Index := Scalar.indexCast v6578
  let c0_1639 : Index := 0#32
  ![v6664.toNat, v6665.toNat, 0]
def k0_off597 (k0_t1 : Fin k0_t1_loop.trips) : Fin 3 → Nat :=
  let c0_1641 : Index := 0#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c4_i32_1539 : BitVec 32 := 4#32
  let v6470 : BitVec 32 := Scalar.addi v5 c4_i32_1539
  let v6684 : Index := Scalar.indexCast v6470
  let c0_1642 : Index := 0#32
  ![0, v6684.toNat, 0]
def k0_off598 (v6478 : BitVec 32) (v6483 : BitVec 32) (v6509 : BitVec 32) (v6585 : BitVec 32) : Fin 3 → Nat :=
  let c199_i32_1548 : BitVec 32 := 199#32
  let c0_i32_1547 : BitVec 32 := 0#32
  let v6484 : BitVec 32 := Scalar.maxsi c0_i32_1547 v6483
  let v6485 : BitVec 32 := Scalar.minsi c199_i32_1548 v6484
  let v6510 : BitVec 32 := Scalar.addi v6485 v6509
  let v6689 : Index := Scalar.indexCast v6510
  let c199_i32_1545 : BitVec 32 := 199#32
  let c0_i32_1544 : BitVec 32 := 0#32
  let v6479 : BitVec 32 := Scalar.maxsi c0_i32_1544 v6478
  let v6480 : BitVec 32 := Scalar.minsi c199_i32_1545 v6479
  let v6586 : BitVec 32 := Scalar.addi v6480 v6585
  let c3_i32_1598 : BitVec 32 := 3#32
  let v6589 : BitVec 32 := Scalar.shrsi v6586 c3_i32_1598
  let c3_i32_1599 : BitVec 32 := 3#32
  let v6590 : BitVec 32 := Scalar.shli v6589 c3_i32_1599
  let v6591 : BitVec 32 := v6590
  let v6690 : Index := Scalar.indexCast v6591
  let c0_1644 : Index := 0#32
  ![v6689.toNat, v6690.toNat, 0]
def k0_off599 (v6478 : BitVec 32) (v6483 : BitVec 32) (v6493 : BitVec 32) (v6509 : BitVec 32) (v6585 : BitVec 32) : Fin 3 → Nat :=
  let c199_i32_1548 : BitVec 32 := 199#32
  let c0_i32_1547 : BitVec 32 := 0#32
  let v6484 : BitVec 32 := Scalar.maxsi c0_i32_1547 v6483
  let v6485 : BitVec 32 := Scalar.minsi c199_i32_1548 v6484
  let v6510 : BitVec 32 := Scalar.addi v6485 v6509
  let c1_i32_1562 : BitVec 32 := 1#32
  let v6511 : BitVec 32 := Scalar.addi v6510 c1_i32_1562
  let c199_i32_1554 : BitVec 32 := 199#32
  let c0_i32_1553 : BitVec 32 := 0#32
  let v6494 : BitVec 32 := Scalar.maxsi c0_i32_1553 v6493
  let v6495 : BitVec 32 := Scalar.minsi c199_i32_1554 v6494
  let v6512 : BitVec 32 := Scalar.minsi v6511 v6495
  let v6693 : Index := Scalar.indexCast v6512
  let c199_i32_1545 : BitVec 32 := 199#32
  let c0_i32_1544 : BitVec 32 := 0#32
  let v6479 : BitVec 32 := Scalar.maxsi c0_i32_1544 v6478
  let v6480 : BitVec 32 := Scalar.minsi c199_i32_1545 v6479
  let v6586 : BitVec 32 := Scalar.addi v6480 v6585
  let c3_i32_1598 : BitVec 32 := 3#32
  let v6589 : BitVec 32 := Scalar.shrsi v6586 c3_i32_1598
  let c3_i32_1599 : BitVec 32 := 3#32
  let v6590 : BitVec 32 := Scalar.shli v6589 c3_i32_1599
  let v6591 : BitVec 32 := v6590
  let v6694 : Index := Scalar.indexCast v6591
  let c0_1645 : Index := 0#32
  ![v6693.toNat, v6694.toNat, 0]
def k0_off600 (k0_t1 : Fin k0_t1_loop.trips) : Fin 3 → Nat :=
  let c1_1647 : Index := 1#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c4_i32_1539 : BitVec 32 := 4#32
  let v6470 : BitVec 32 := Scalar.addi v5 c4_i32_1539
  let v6713 : Index := Scalar.indexCast v6470
  let c0_1648 : Index := 0#32
  ![1, v6713.toNat, 0]
def k0_off601 (v6478 : BitVec 32) (v6483 : BitVec 32) (v6509 : BitVec 32) (v6598 : BitVec 32) : Fin 3 → Nat :=
  let c199_i32_1548 : BitVec 32 := 199#32
  let c0_i32_1547 : BitVec 32 := 0#32
  let v6484 : BitVec 32 := Scalar.maxsi c0_i32_1547 v6483
  let v6485 : BitVec 32 := Scalar.minsi c199_i32_1548 v6484
  let v6510 : BitVec 32 := Scalar.addi v6485 v6509
  let v6718 : Index := Scalar.indexCast v6510
  let c199_i32_1545 : BitVec 32 := 199#32
  let c0_i32_1544 : BitVec 32 := 0#32
  let v6479 : BitVec 32 := Scalar.maxsi c0_i32_1544 v6478
  let v6480 : BitVec 32 := Scalar.minsi c199_i32_1545 v6479
  let v6599 : BitVec 32 := Scalar.addi v6480 v6598
  let c3_i32_1605 : BitVec 32 := 3#32
  let v6602 : BitVec 32 := Scalar.shrsi v6599 c3_i32_1605
  let c3_i32_1606 : BitVec 32 := 3#32
  let v6603 : BitVec 32 := Scalar.shli v6602 c3_i32_1606
  let v6604 : BitVec 32 := v6603
  let v6719 : Index := Scalar.indexCast v6604
  let c0_1650 : Index := 0#32
  ![v6718.toNat, v6719.toNat, 0]
def k0_off602 (v6478 : BitVec 32) (v6483 : BitVec 32) (v6493 : BitVec 32) (v6509 : BitVec 32) (v6598 : BitVec 32) : Fin 3 → Nat :=
  let c199_i32_1548 : BitVec 32 := 199#32
  let c0_i32_1547 : BitVec 32 := 0#32
  let v6484 : BitVec 32 := Scalar.maxsi c0_i32_1547 v6483
  let v6485 : BitVec 32 := Scalar.minsi c199_i32_1548 v6484
  let v6510 : BitVec 32 := Scalar.addi v6485 v6509
  let c1_i32_1562 : BitVec 32 := 1#32
  let v6511 : BitVec 32 := Scalar.addi v6510 c1_i32_1562
  let c199_i32_1554 : BitVec 32 := 199#32
  let c0_i32_1553 : BitVec 32 := 0#32
  let v6494 : BitVec 32 := Scalar.maxsi c0_i32_1553 v6493
  let v6495 : BitVec 32 := Scalar.minsi c199_i32_1554 v6494
  let v6512 : BitVec 32 := Scalar.minsi v6511 v6495
  let v6722 : Index := Scalar.indexCast v6512
  let c199_i32_1545 : BitVec 32 := 199#32
  let c0_i32_1544 : BitVec 32 := 0#32
  let v6479 : BitVec 32 := Scalar.maxsi c0_i32_1544 v6478
  let v6480 : BitVec 32 := Scalar.minsi c199_i32_1545 v6479
  let v6599 : BitVec 32 := Scalar.addi v6480 v6598
  let c3_i32_1605 : BitVec 32 := 3#32
  let v6602 : BitVec 32 := Scalar.shrsi v6599 c3_i32_1605
  let c3_i32_1606 : BitVec 32 := 3#32
  let v6603 : BitVec 32 := Scalar.shli v6602 c3_i32_1606
  let v6604 : BitVec 32 := v6603
  let v6723 : Index := Scalar.indexCast v6604
  let c0_1651 : Index := 0#32
  ![v6722.toNat, v6723.toNat, 0]
def k0_off603 (k0_t1 : Fin k0_t1_loop.trips) : Fin 3 → Nat :=
  let c2_1653 : Index := 2#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c4_i32_1539 : BitVec 32 := 4#32
  let v6470 : BitVec 32 := Scalar.addi v5 c4_i32_1539
  let v6742 : Index := Scalar.indexCast v6470
  let c0_1654 : Index := 0#32
  ![2, v6742.toNat, 0]
def k0_off604 (v6478 : BitVec 32) (v6483 : BitVec 32) (v6509 : BitVec 32) (v6611 : BitVec 32) : Fin 3 → Nat :=
  let c199_i32_1548 : BitVec 32 := 199#32
  let c0_i32_1547 : BitVec 32 := 0#32
  let v6484 : BitVec 32 := Scalar.maxsi c0_i32_1547 v6483
  let v6485 : BitVec 32 := Scalar.minsi c199_i32_1548 v6484
  let v6510 : BitVec 32 := Scalar.addi v6485 v6509
  let v6747 : Index := Scalar.indexCast v6510
  let c199_i32_1545 : BitVec 32 := 199#32
  let c0_i32_1544 : BitVec 32 := 0#32
  let v6479 : BitVec 32 := Scalar.maxsi c0_i32_1544 v6478
  let v6480 : BitVec 32 := Scalar.minsi c199_i32_1545 v6479
  let v6612 : BitVec 32 := Scalar.addi v6480 v6611
  let c3_i32_1612 : BitVec 32 := 3#32
  let v6615 : BitVec 32 := Scalar.shrsi v6612 c3_i32_1612
  let c3_i32_1613 : BitVec 32 := 3#32
  let v6616 : BitVec 32 := Scalar.shli v6615 c3_i32_1613
  let v6617 : BitVec 32 := v6616
  let v6748 : Index := Scalar.indexCast v6617
  let c0_1656 : Index := 0#32
  ![v6747.toNat, v6748.toNat, 0]
def k0_off605 (v6478 : BitVec 32) (v6483 : BitVec 32) (v6493 : BitVec 32) (v6509 : BitVec 32) (v6611 : BitVec 32) : Fin 3 → Nat :=
  let c199_i32_1548 : BitVec 32 := 199#32
  let c0_i32_1547 : BitVec 32 := 0#32
  let v6484 : BitVec 32 := Scalar.maxsi c0_i32_1547 v6483
  let v6485 : BitVec 32 := Scalar.minsi c199_i32_1548 v6484
  let v6510 : BitVec 32 := Scalar.addi v6485 v6509
  let c1_i32_1562 : BitVec 32 := 1#32
  let v6511 : BitVec 32 := Scalar.addi v6510 c1_i32_1562
  let c199_i32_1554 : BitVec 32 := 199#32
  let c0_i32_1553 : BitVec 32 := 0#32
  let v6494 : BitVec 32 := Scalar.maxsi c0_i32_1553 v6493
  let v6495 : BitVec 32 := Scalar.minsi c199_i32_1554 v6494
  let v6512 : BitVec 32 := Scalar.minsi v6511 v6495
  let v6751 : Index := Scalar.indexCast v6512
  let c199_i32_1545 : BitVec 32 := 199#32
  let c0_i32_1544 : BitVec 32 := 0#32
  let v6479 : BitVec 32 := Scalar.maxsi c0_i32_1544 v6478
  let v6480 : BitVec 32 := Scalar.minsi c199_i32_1545 v6479
  let v6612 : BitVec 32 := Scalar.addi v6480 v6611
  let c3_i32_1612 : BitVec 32 := 3#32
  let v6615 : BitVec 32 := Scalar.shrsi v6612 c3_i32_1612
  let c3_i32_1613 : BitVec 32 := 3#32
  let v6616 : BitVec 32 := Scalar.shli v6615 c3_i32_1613
  let v6617 : BitVec 32 := v6616
  let v6752 : Index := Scalar.indexCast v6617
  let c0_1657 : Index := 0#32
  ![v6751.toNat, v6752.toNat, 0]
def k0_off606 (k0_t1 : Fin k0_t1_loop.trips) : Fin 3 → Nat :=
  let c3_1659 : Index := 3#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c4_i32_1539 : BitVec 32 := 4#32
  let v6470 : BitVec 32 := Scalar.addi v5 c4_i32_1539
  let v6771 : Index := Scalar.indexCast v6470
  let c0_1660 : Index := 0#32
  ![3, v6771.toNat, 0]
def k0_off607 (v6478 : BitVec 32) (v6483 : BitVec 32) (v6509 : BitVec 32) (v6624 : BitVec 32) : Fin 3 → Nat :=
  let c199_i32_1548 : BitVec 32 := 199#32
  let c0_i32_1547 : BitVec 32 := 0#32
  let v6484 : BitVec 32 := Scalar.maxsi c0_i32_1547 v6483
  let v6485 : BitVec 32 := Scalar.minsi c199_i32_1548 v6484
  let v6510 : BitVec 32 := Scalar.addi v6485 v6509
  let v6776 : Index := Scalar.indexCast v6510
  let c199_i32_1545 : BitVec 32 := 199#32
  let c0_i32_1544 : BitVec 32 := 0#32
  let v6479 : BitVec 32 := Scalar.maxsi c0_i32_1544 v6478
  let v6480 : BitVec 32 := Scalar.minsi c199_i32_1545 v6479
  let v6625 : BitVec 32 := Scalar.addi v6480 v6624
  let c3_i32_1619 : BitVec 32 := 3#32
  let v6628 : BitVec 32 := Scalar.shrsi v6625 c3_i32_1619
  let c3_i32_1620 : BitVec 32 := 3#32
  let v6629 : BitVec 32 := Scalar.shli v6628 c3_i32_1620
  let v6630 : BitVec 32 := v6629
  let v6777 : Index := Scalar.indexCast v6630
  let c0_1662 : Index := 0#32
  ![v6776.toNat, v6777.toNat, 0]
def k0_off608 (v6478 : BitVec 32) (v6483 : BitVec 32) (v6493 : BitVec 32) (v6509 : BitVec 32) (v6624 : BitVec 32) : Fin 3 → Nat :=
  let c199_i32_1548 : BitVec 32 := 199#32
  let c0_i32_1547 : BitVec 32 := 0#32
  let v6484 : BitVec 32 := Scalar.maxsi c0_i32_1547 v6483
  let v6485 : BitVec 32 := Scalar.minsi c199_i32_1548 v6484
  let v6510 : BitVec 32 := Scalar.addi v6485 v6509
  let c1_i32_1562 : BitVec 32 := 1#32
  let v6511 : BitVec 32 := Scalar.addi v6510 c1_i32_1562
  let c199_i32_1554 : BitVec 32 := 199#32
  let c0_i32_1553 : BitVec 32 := 0#32
  let v6494 : BitVec 32 := Scalar.maxsi c0_i32_1553 v6493
  let v6495 : BitVec 32 := Scalar.minsi c199_i32_1554 v6494
  let v6512 : BitVec 32 := Scalar.minsi v6511 v6495
  let v6780 : Index := Scalar.indexCast v6512
  let c199_i32_1545 : BitVec 32 := 199#32
  let c0_i32_1544 : BitVec 32 := 0#32
  let v6479 : BitVec 32 := Scalar.maxsi c0_i32_1544 v6478
  let v6480 : BitVec 32 := Scalar.minsi c199_i32_1545 v6479
  let v6625 : BitVec 32 := Scalar.addi v6480 v6624
  let c3_i32_1619 : BitVec 32 := 3#32
  let v6628 : BitVec 32 := Scalar.shrsi v6625 c3_i32_1619
  let c3_i32_1620 : BitVec 32 := 3#32
  let v6629 : BitVec 32 := Scalar.shli v6628 c3_i32_1620
  let v6630 : BitVec 32 := v6629
  let v6781 : Index := Scalar.indexCast v6630
  let c0_1663 : Index := 0#32
  ![v6780.toNat, v6781.toNat, 0]
def k0_off609 (k0_t1 : Fin k0_t1_loop.trips) : Fin 3 → Nat :=
  let c4_1665 : Index := 4#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c4_i32_1539 : BitVec 32 := 4#32
  let v6470 : BitVec 32 := Scalar.addi v5 c4_i32_1539
  let v6800 : Index := Scalar.indexCast v6470
  let c0_1666 : Index := 0#32
  ![4, v6800.toNat, 0]
def k0_off610 (v6478 : BitVec 32) (v6483 : BitVec 32) (v6509 : BitVec 32) (v6637 : BitVec 32) : Fin 3 → Nat :=
  let c199_i32_1548 : BitVec 32 := 199#32
  let c0_i32_1547 : BitVec 32 := 0#32
  let v6484 : BitVec 32 := Scalar.maxsi c0_i32_1547 v6483
  let v6485 : BitVec 32 := Scalar.minsi c199_i32_1548 v6484
  let v6510 : BitVec 32 := Scalar.addi v6485 v6509
  let v6805 : Index := Scalar.indexCast v6510
  let c199_i32_1545 : BitVec 32 := 199#32
  let c0_i32_1544 : BitVec 32 := 0#32
  let v6479 : BitVec 32 := Scalar.maxsi c0_i32_1544 v6478
  let v6480 : BitVec 32 := Scalar.minsi c199_i32_1545 v6479
  let v6638 : BitVec 32 := Scalar.addi v6480 v6637
  let c3_i32_1626 : BitVec 32 := 3#32
  let v6641 : BitVec 32 := Scalar.shrsi v6638 c3_i32_1626
  let c3_i32_1627 : BitVec 32 := 3#32
  let v6642 : BitVec 32 := Scalar.shli v6641 c3_i32_1627
  let v6643 : BitVec 32 := v6642
  let v6806 : Index := Scalar.indexCast v6643
  let c0_1668 : Index := 0#32
  ![v6805.toNat, v6806.toNat, 0]
def k0_off611 (v6478 : BitVec 32) (v6483 : BitVec 32) (v6493 : BitVec 32) (v6509 : BitVec 32) (v6637 : BitVec 32) : Fin 3 → Nat :=
  let c199_i32_1548 : BitVec 32 := 199#32
  let c0_i32_1547 : BitVec 32 := 0#32
  let v6484 : BitVec 32 := Scalar.maxsi c0_i32_1547 v6483
  let v6485 : BitVec 32 := Scalar.minsi c199_i32_1548 v6484
  let v6510 : BitVec 32 := Scalar.addi v6485 v6509
  let c1_i32_1562 : BitVec 32 := 1#32
  let v6511 : BitVec 32 := Scalar.addi v6510 c1_i32_1562
  let c199_i32_1554 : BitVec 32 := 199#32
  let c0_i32_1553 : BitVec 32 := 0#32
  let v6494 : BitVec 32 := Scalar.maxsi c0_i32_1553 v6493
  let v6495 : BitVec 32 := Scalar.minsi c199_i32_1554 v6494
  let v6512 : BitVec 32 := Scalar.minsi v6511 v6495
  let v6809 : Index := Scalar.indexCast v6512
  let c199_i32_1545 : BitVec 32 := 199#32
  let c0_i32_1544 : BitVec 32 := 0#32
  let v6479 : BitVec 32 := Scalar.maxsi c0_i32_1544 v6478
  let v6480 : BitVec 32 := Scalar.minsi c199_i32_1545 v6479
  let v6638 : BitVec 32 := Scalar.addi v6480 v6637
  let c3_i32_1626 : BitVec 32 := 3#32
  let v6641 : BitVec 32 := Scalar.shrsi v6638 c3_i32_1626
  let c3_i32_1627 : BitVec 32 := 3#32
  let v6642 : BitVec 32 := Scalar.shli v6641 c3_i32_1627
  let v6643 : BitVec 32 := v6642
  let v6810 : Index := Scalar.indexCast v6643
  let c0_1669 : Index := 0#32
  ![v6809.toNat, v6810.toNat, 0]
def k0_off612 (k0_t1 : Fin k0_t1_loop.trips) : Fin 3 → Nat :=
  let c5_1671 : Index := 5#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c4_i32_1539 : BitVec 32 := 4#32
  let v6470 : BitVec 32 := Scalar.addi v5 c4_i32_1539
  let v6829 : Index := Scalar.indexCast v6470
  let c0_1672 : Index := 0#32
  ![5, v6829.toNat, 0]
def k0_off613 (v6478 : BitVec 32) (v6483 : BitVec 32) (v6509 : BitVec 32) (v6650 : BitVec 32) : Fin 3 → Nat :=
  let c199_i32_1548 : BitVec 32 := 199#32
  let c0_i32_1547 : BitVec 32 := 0#32
  let v6484 : BitVec 32 := Scalar.maxsi c0_i32_1547 v6483
  let v6485 : BitVec 32 := Scalar.minsi c199_i32_1548 v6484
  let v6510 : BitVec 32 := Scalar.addi v6485 v6509
  let v6834 : Index := Scalar.indexCast v6510
  let c199_i32_1545 : BitVec 32 := 199#32
  let c0_i32_1544 : BitVec 32 := 0#32
  let v6479 : BitVec 32 := Scalar.maxsi c0_i32_1544 v6478
  let v6480 : BitVec 32 := Scalar.minsi c199_i32_1545 v6479
  let v6651 : BitVec 32 := Scalar.addi v6480 v6650
  let c3_i32_1633 : BitVec 32 := 3#32
  let v6654 : BitVec 32 := Scalar.shrsi v6651 c3_i32_1633
  let c3_i32_1634 : BitVec 32 := 3#32
  let v6655 : BitVec 32 := Scalar.shli v6654 c3_i32_1634
  let v6656 : BitVec 32 := v6655
  let v6835 : Index := Scalar.indexCast v6656
  let c0_1674 : Index := 0#32
  ![v6834.toNat, v6835.toNat, 0]
def k0_off614 (v6478 : BitVec 32) (v6483 : BitVec 32) (v6493 : BitVec 32) (v6509 : BitVec 32) (v6650 : BitVec 32) : Fin 3 → Nat :=
  let c199_i32_1548 : BitVec 32 := 199#32
  let c0_i32_1547 : BitVec 32 := 0#32
  let v6484 : BitVec 32 := Scalar.maxsi c0_i32_1547 v6483
  let v6485 : BitVec 32 := Scalar.minsi c199_i32_1548 v6484
  let v6510 : BitVec 32 := Scalar.addi v6485 v6509
  let c1_i32_1562 : BitVec 32 := 1#32
  let v6511 : BitVec 32 := Scalar.addi v6510 c1_i32_1562
  let c199_i32_1554 : BitVec 32 := 199#32
  let c0_i32_1553 : BitVec 32 := 0#32
  let v6494 : BitVec 32 := Scalar.maxsi c0_i32_1553 v6493
  let v6495 : BitVec 32 := Scalar.minsi c199_i32_1554 v6494
  let v6512 : BitVec 32 := Scalar.minsi v6511 v6495
  let v6838 : Index := Scalar.indexCast v6512
  let c199_i32_1545 : BitVec 32 := 199#32
  let c0_i32_1544 : BitVec 32 := 0#32
  let v6479 : BitVec 32 := Scalar.maxsi c0_i32_1544 v6478
  let v6480 : BitVec 32 := Scalar.minsi c199_i32_1545 v6479
  let v6651 : BitVec 32 := Scalar.addi v6480 v6650
  let c3_i32_1633 : BitVec 32 := 3#32
  let v6654 : BitVec 32 := Scalar.shrsi v6651 c3_i32_1633
  let c3_i32_1634 : BitVec 32 := 3#32
  let v6655 : BitVec 32 := Scalar.shli v6654 c3_i32_1634
  let v6656 : BitVec 32 := v6655
  let v6839 : Index := Scalar.indexCast v6656
  let c0_1675 : Index := 0#32
  ![v6838.toNat, v6839.toNat, 0]
def k0_off615 (k0_t1 : Fin k0_t1_loop.trips) : Fin 3 → Nat :=
  let c6_1677 : Index := 6#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c4_i32_1539 : BitVec 32 := 4#32
  let v6470 : BitVec 32 := Scalar.addi v5 c4_i32_1539
  let v6858 : Index := Scalar.indexCast v6470
  let c0_1678 : Index := 0#32
  ![6, v6858.toNat, 0]
def k0_off616 (v6478 : BitVec 32) (v6483 : BitVec 32) (v6518 : BitVec 32) (v6572 : BitVec 32) : Fin 3 → Nat :=
  let c199_i32_1548 : BitVec 32 := 199#32
  let c0_i32_1547 : BitVec 32 := 0#32
  let v6484 : BitVec 32 := Scalar.maxsi c0_i32_1547 v6483
  let v6485 : BitVec 32 := Scalar.minsi c199_i32_1548 v6484
  let v6519 : BitVec 32 := Scalar.addi v6485 v6518
  let v6864 : Index := Scalar.indexCast v6519
  let c199_i32_1545 : BitVec 32 := 199#32
  let c0_i32_1544 : BitVec 32 := 0#32
  let v6479 : BitVec 32 := Scalar.maxsi c0_i32_1544 v6478
  let v6480 : BitVec 32 := Scalar.minsi c199_i32_1545 v6479
  let v6573 : BitVec 32 := Scalar.addi v6480 v6572
  let c3_i32_1591 : BitVec 32 := 3#32
  let v6576 : BitVec 32 := Scalar.shrsi v6573 c3_i32_1591
  let c3_i32_1592 : BitVec 32 := 3#32
  let v6577 : BitVec 32 := Scalar.shli v6576 c3_i32_1592
  let v6578 : BitVec 32 := v6577
  let v6865 : Index := Scalar.indexCast v6578
  let c0_1681 : Index := 0#32
  ![v6864.toNat, v6865.toNat, 0]
def k0_off617 (v6478 : BitVec 32) (v6483 : BitVec 32) (v6493 : BitVec 32) (v6518 : BitVec 32) (v6572 : BitVec 32) : Fin 3 → Nat :=
  let c199_i32_1548 : BitVec 32 := 199#32
  let c0_i32_1547 : BitVec 32 := 0#32
  let v6484 : BitVec 32 := Scalar.maxsi c0_i32_1547 v6483
  let v6485 : BitVec 32 := Scalar.minsi c199_i32_1548 v6484
  let v6519 : BitVec 32 := Scalar.addi v6485 v6518
  let c1_i32_1566 : BitVec 32 := 1#32
  let v6520 : BitVec 32 := Scalar.addi v6519 c1_i32_1566
  let c199_i32_1554 : BitVec 32 := 199#32
  let c0_i32_1553 : BitVec 32 := 0#32
  let v6494 : BitVec 32 := Scalar.maxsi c0_i32_1553 v6493
  let v6495 : BitVec 32 := Scalar.minsi c199_i32_1554 v6494
  let v6521 : BitVec 32 := Scalar.minsi v6520 v6495
  let v6868 : Index := Scalar.indexCast v6521
  let c199_i32_1545 : BitVec 32 := 199#32
  let c0_i32_1544 : BitVec 32 := 0#32
  let v6479 : BitVec 32 := Scalar.maxsi c0_i32_1544 v6478
  let v6480 : BitVec 32 := Scalar.minsi c199_i32_1545 v6479
  let v6573 : BitVec 32 := Scalar.addi v6480 v6572
  let c3_i32_1591 : BitVec 32 := 3#32
  let v6576 : BitVec 32 := Scalar.shrsi v6573 c3_i32_1591
  let c3_i32_1592 : BitVec 32 := 3#32
  let v6577 : BitVec 32 := Scalar.shli v6576 c3_i32_1592
  let v6578 : BitVec 32 := v6577
  let v6869 : Index := Scalar.indexCast v6578
  let c0_1682 : Index := 0#32
  ![v6868.toNat, v6869.toNat, 0]
def k0_off618 (k0_t1 : Fin k0_t1_loop.trips) : Fin 3 → Nat :=
  let c7_1684 : Index := 7#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c4_i32_1539 : BitVec 32 := 4#32
  let v6470 : BitVec 32 := Scalar.addi v5 c4_i32_1539
  let v6888 : Index := Scalar.indexCast v6470
  let c0_1685 : Index := 0#32
  ![7, v6888.toNat, 0]
def k0_off619 (v6478 : BitVec 32) (v6483 : BitVec 32) (v6518 : BitVec 32) (v6585 : BitVec 32) : Fin 3 → Nat :=
  let c199_i32_1548 : BitVec 32 := 199#32
  let c0_i32_1547 : BitVec 32 := 0#32
  let v6484 : BitVec 32 := Scalar.maxsi c0_i32_1547 v6483
  let v6485 : BitVec 32 := Scalar.minsi c199_i32_1548 v6484
  let v6519 : BitVec 32 := Scalar.addi v6485 v6518
  let v6893 : Index := Scalar.indexCast v6519
  let c199_i32_1545 : BitVec 32 := 199#32
  let c0_i32_1544 : BitVec 32 := 0#32
  let v6479 : BitVec 32 := Scalar.maxsi c0_i32_1544 v6478
  let v6480 : BitVec 32 := Scalar.minsi c199_i32_1545 v6479
  let v6586 : BitVec 32 := Scalar.addi v6480 v6585
  let c3_i32_1598 : BitVec 32 := 3#32
  let v6589 : BitVec 32 := Scalar.shrsi v6586 c3_i32_1598
  let c3_i32_1599 : BitVec 32 := 3#32
  let v6590 : BitVec 32 := Scalar.shli v6589 c3_i32_1599
  let v6591 : BitVec 32 := v6590
  let v6894 : Index := Scalar.indexCast v6591
  let c0_1687 : Index := 0#32
  ![v6893.toNat, v6894.toNat, 0]
def k0_off620 (v6478 : BitVec 32) (v6483 : BitVec 32) (v6493 : BitVec 32) (v6518 : BitVec 32) (v6585 : BitVec 32) : Fin 3 → Nat :=
  let c199_i32_1548 : BitVec 32 := 199#32
  let c0_i32_1547 : BitVec 32 := 0#32
  let v6484 : BitVec 32 := Scalar.maxsi c0_i32_1547 v6483
  let v6485 : BitVec 32 := Scalar.minsi c199_i32_1548 v6484
  let v6519 : BitVec 32 := Scalar.addi v6485 v6518
  let c1_i32_1566 : BitVec 32 := 1#32
  let v6520 : BitVec 32 := Scalar.addi v6519 c1_i32_1566
  let c199_i32_1554 : BitVec 32 := 199#32
  let c0_i32_1553 : BitVec 32 := 0#32
  let v6494 : BitVec 32 := Scalar.maxsi c0_i32_1553 v6493
  let v6495 : BitVec 32 := Scalar.minsi c199_i32_1554 v6494
  let v6521 : BitVec 32 := Scalar.minsi v6520 v6495
  let v6897 : Index := Scalar.indexCast v6521
  let c199_i32_1545 : BitVec 32 := 199#32
  let c0_i32_1544 : BitVec 32 := 0#32
  let v6479 : BitVec 32 := Scalar.maxsi c0_i32_1544 v6478
  let v6480 : BitVec 32 := Scalar.minsi c199_i32_1545 v6479
  let v6586 : BitVec 32 := Scalar.addi v6480 v6585
  let c3_i32_1598 : BitVec 32 := 3#32
  let v6589 : BitVec 32 := Scalar.shrsi v6586 c3_i32_1598
  let c3_i32_1599 : BitVec 32 := 3#32
  let v6590 : BitVec 32 := Scalar.shli v6589 c3_i32_1599
  let v6591 : BitVec 32 := v6590
  let v6898 : Index := Scalar.indexCast v6591
  let c0_1688 : Index := 0#32
  ![v6897.toNat, v6898.toNat, 0]
def k0_off621 (k0_t1 : Fin k0_t1_loop.trips) : Fin 3 → Nat :=
  let c8_1690 : Index := 8#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c4_i32_1539 : BitVec 32 := 4#32
  let v6470 : BitVec 32 := Scalar.addi v5 c4_i32_1539
  let v6917 : Index := Scalar.indexCast v6470
  let c0_1691 : Index := 0#32
  ![8, v6917.toNat, 0]
def k0_off622 (v6478 : BitVec 32) (v6483 : BitVec 32) (v6518 : BitVec 32) (v6598 : BitVec 32) : Fin 3 → Nat :=
  let c199_i32_1548 : BitVec 32 := 199#32
  let c0_i32_1547 : BitVec 32 := 0#32
  let v6484 : BitVec 32 := Scalar.maxsi c0_i32_1547 v6483
  let v6485 : BitVec 32 := Scalar.minsi c199_i32_1548 v6484
  let v6519 : BitVec 32 := Scalar.addi v6485 v6518
  let v6922 : Index := Scalar.indexCast v6519
  let c199_i32_1545 : BitVec 32 := 199#32
  let c0_i32_1544 : BitVec 32 := 0#32
  let v6479 : BitVec 32 := Scalar.maxsi c0_i32_1544 v6478
  let v6480 : BitVec 32 := Scalar.minsi c199_i32_1545 v6479
  let v6599 : BitVec 32 := Scalar.addi v6480 v6598
  let c3_i32_1605 : BitVec 32 := 3#32
  let v6602 : BitVec 32 := Scalar.shrsi v6599 c3_i32_1605
  let c3_i32_1606 : BitVec 32 := 3#32
  let v6603 : BitVec 32 := Scalar.shli v6602 c3_i32_1606
  let v6604 : BitVec 32 := v6603
  let v6923 : Index := Scalar.indexCast v6604
  let c0_1693 : Index := 0#32
  ![v6922.toNat, v6923.toNat, 0]
def k0_off623 (v6478 : BitVec 32) (v6483 : BitVec 32) (v6493 : BitVec 32) (v6518 : BitVec 32) (v6598 : BitVec 32) : Fin 3 → Nat :=
  let c199_i32_1548 : BitVec 32 := 199#32
  let c0_i32_1547 : BitVec 32 := 0#32
  let v6484 : BitVec 32 := Scalar.maxsi c0_i32_1547 v6483
  let v6485 : BitVec 32 := Scalar.minsi c199_i32_1548 v6484
  let v6519 : BitVec 32 := Scalar.addi v6485 v6518
  let c1_i32_1566 : BitVec 32 := 1#32
  let v6520 : BitVec 32 := Scalar.addi v6519 c1_i32_1566
  let c199_i32_1554 : BitVec 32 := 199#32
  let c0_i32_1553 : BitVec 32 := 0#32
  let v6494 : BitVec 32 := Scalar.maxsi c0_i32_1553 v6493
  let v6495 : BitVec 32 := Scalar.minsi c199_i32_1554 v6494
  let v6521 : BitVec 32 := Scalar.minsi v6520 v6495
  let v6926 : Index := Scalar.indexCast v6521
  let c199_i32_1545 : BitVec 32 := 199#32
  let c0_i32_1544 : BitVec 32 := 0#32
  let v6479 : BitVec 32 := Scalar.maxsi c0_i32_1544 v6478
  let v6480 : BitVec 32 := Scalar.minsi c199_i32_1545 v6479
  let v6599 : BitVec 32 := Scalar.addi v6480 v6598
  let c3_i32_1605 : BitVec 32 := 3#32
  let v6602 : BitVec 32 := Scalar.shrsi v6599 c3_i32_1605
  let c3_i32_1606 : BitVec 32 := 3#32
  let v6603 : BitVec 32 := Scalar.shli v6602 c3_i32_1606
  let v6604 : BitVec 32 := v6603
  let v6927 : Index := Scalar.indexCast v6604
  let c0_1694 : Index := 0#32
  ![v6926.toNat, v6927.toNat, 0]
def k0_off624 (k0_t1 : Fin k0_t1_loop.trips) : Fin 3 → Nat :=
  let c9_1696 : Index := 9#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c4_i32_1539 : BitVec 32 := 4#32
  let v6470 : BitVec 32 := Scalar.addi v5 c4_i32_1539
  let v6946 : Index := Scalar.indexCast v6470
  let c0_1697 : Index := 0#32
  ![9, v6946.toNat, 0]
def k0_off625 (v6478 : BitVec 32) (v6483 : BitVec 32) (v6518 : BitVec 32) (v6611 : BitVec 32) : Fin 3 → Nat :=
  let c199_i32_1548 : BitVec 32 := 199#32
  let c0_i32_1547 : BitVec 32 := 0#32
  let v6484 : BitVec 32 := Scalar.maxsi c0_i32_1547 v6483
  let v6485 : BitVec 32 := Scalar.minsi c199_i32_1548 v6484
  let v6519 : BitVec 32 := Scalar.addi v6485 v6518
  let v6951 : Index := Scalar.indexCast v6519
  let c199_i32_1545 : BitVec 32 := 199#32
  let c0_i32_1544 : BitVec 32 := 0#32
  let v6479 : BitVec 32 := Scalar.maxsi c0_i32_1544 v6478
  let v6480 : BitVec 32 := Scalar.minsi c199_i32_1545 v6479
  let v6612 : BitVec 32 := Scalar.addi v6480 v6611
  let c3_i32_1612 : BitVec 32 := 3#32
  let v6615 : BitVec 32 := Scalar.shrsi v6612 c3_i32_1612
  let c3_i32_1613 : BitVec 32 := 3#32
  let v6616 : BitVec 32 := Scalar.shli v6615 c3_i32_1613
  let v6617 : BitVec 32 := v6616
  let v6952 : Index := Scalar.indexCast v6617
  let c0_1699 : Index := 0#32
  ![v6951.toNat, v6952.toNat, 0]
def k0_off626 (v6478 : BitVec 32) (v6483 : BitVec 32) (v6493 : BitVec 32) (v6518 : BitVec 32) (v6611 : BitVec 32) : Fin 3 → Nat :=
  let c199_i32_1548 : BitVec 32 := 199#32
  let c0_i32_1547 : BitVec 32 := 0#32
  let v6484 : BitVec 32 := Scalar.maxsi c0_i32_1547 v6483
  let v6485 : BitVec 32 := Scalar.minsi c199_i32_1548 v6484
  let v6519 : BitVec 32 := Scalar.addi v6485 v6518
  let c1_i32_1566 : BitVec 32 := 1#32
  let v6520 : BitVec 32 := Scalar.addi v6519 c1_i32_1566
  let c199_i32_1554 : BitVec 32 := 199#32
  let c0_i32_1553 : BitVec 32 := 0#32
  let v6494 : BitVec 32 := Scalar.maxsi c0_i32_1553 v6493
  let v6495 : BitVec 32 := Scalar.minsi c199_i32_1554 v6494
  let v6521 : BitVec 32 := Scalar.minsi v6520 v6495
  let v6955 : Index := Scalar.indexCast v6521
  let c199_i32_1545 : BitVec 32 := 199#32
  let c0_i32_1544 : BitVec 32 := 0#32
  let v6479 : BitVec 32 := Scalar.maxsi c0_i32_1544 v6478
  let v6480 : BitVec 32 := Scalar.minsi c199_i32_1545 v6479
  let v6612 : BitVec 32 := Scalar.addi v6480 v6611
  let c3_i32_1612 : BitVec 32 := 3#32
  let v6615 : BitVec 32 := Scalar.shrsi v6612 c3_i32_1612
  let c3_i32_1613 : BitVec 32 := 3#32
  let v6616 : BitVec 32 := Scalar.shli v6615 c3_i32_1613
  let v6617 : BitVec 32 := v6616
  let v6956 : Index := Scalar.indexCast v6617
  let c0_1700 : Index := 0#32
  ![v6955.toNat, v6956.toNat, 0]
def k0_off627 (k0_t1 : Fin k0_t1_loop.trips) : Fin 3 → Nat :=
  let c10_1702 : Index := 10#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c4_i32_1539 : BitVec 32 := 4#32
  let v6470 : BitVec 32 := Scalar.addi v5 c4_i32_1539
  let v6975 : Index := Scalar.indexCast v6470
  let c0_1703 : Index := 0#32
  ![10, v6975.toNat, 0]
def k0_off628 (v6478 : BitVec 32) (v6483 : BitVec 32) (v6518 : BitVec 32) (v6624 : BitVec 32) : Fin 3 → Nat :=
  let c199_i32_1548 : BitVec 32 := 199#32
  let c0_i32_1547 : BitVec 32 := 0#32
  let v6484 : BitVec 32 := Scalar.maxsi c0_i32_1547 v6483
  let v6485 : BitVec 32 := Scalar.minsi c199_i32_1548 v6484
  let v6519 : BitVec 32 := Scalar.addi v6485 v6518
  let v6980 : Index := Scalar.indexCast v6519
  let c199_i32_1545 : BitVec 32 := 199#32
  let c0_i32_1544 : BitVec 32 := 0#32
  let v6479 : BitVec 32 := Scalar.maxsi c0_i32_1544 v6478
  let v6480 : BitVec 32 := Scalar.minsi c199_i32_1545 v6479
  let v6625 : BitVec 32 := Scalar.addi v6480 v6624
  let c3_i32_1619 : BitVec 32 := 3#32
  let v6628 : BitVec 32 := Scalar.shrsi v6625 c3_i32_1619
  let c3_i32_1620 : BitVec 32 := 3#32
  let v6629 : BitVec 32 := Scalar.shli v6628 c3_i32_1620
  let v6630 : BitVec 32 := v6629
  let v6981 : Index := Scalar.indexCast v6630
  let c0_1705 : Index := 0#32
  ![v6980.toNat, v6981.toNat, 0]
def k0_off629 (v6478 : BitVec 32) (v6483 : BitVec 32) (v6493 : BitVec 32) (v6518 : BitVec 32) (v6624 : BitVec 32) : Fin 3 → Nat :=
  let c199_i32_1548 : BitVec 32 := 199#32
  let c0_i32_1547 : BitVec 32 := 0#32
  let v6484 : BitVec 32 := Scalar.maxsi c0_i32_1547 v6483
  let v6485 : BitVec 32 := Scalar.minsi c199_i32_1548 v6484
  let v6519 : BitVec 32 := Scalar.addi v6485 v6518
  let c1_i32_1566 : BitVec 32 := 1#32
  let v6520 : BitVec 32 := Scalar.addi v6519 c1_i32_1566
  let c199_i32_1554 : BitVec 32 := 199#32
  let c0_i32_1553 : BitVec 32 := 0#32
  let v6494 : BitVec 32 := Scalar.maxsi c0_i32_1553 v6493
  let v6495 : BitVec 32 := Scalar.minsi c199_i32_1554 v6494
  let v6521 : BitVec 32 := Scalar.minsi v6520 v6495
  let v6984 : Index := Scalar.indexCast v6521
  let c199_i32_1545 : BitVec 32 := 199#32
  let c0_i32_1544 : BitVec 32 := 0#32
  let v6479 : BitVec 32 := Scalar.maxsi c0_i32_1544 v6478
  let v6480 : BitVec 32 := Scalar.minsi c199_i32_1545 v6479
  let v6625 : BitVec 32 := Scalar.addi v6480 v6624
  let c3_i32_1619 : BitVec 32 := 3#32
  let v6628 : BitVec 32 := Scalar.shrsi v6625 c3_i32_1619
  let c3_i32_1620 : BitVec 32 := 3#32
  let v6629 : BitVec 32 := Scalar.shli v6628 c3_i32_1620
  let v6630 : BitVec 32 := v6629
  let v6985 : Index := Scalar.indexCast v6630
  let c0_1706 : Index := 0#32
  ![v6984.toNat, v6985.toNat, 0]
def k0_off630 (k0_t1 : Fin k0_t1_loop.trips) : Fin 3 → Nat :=
  let c11_1708 : Index := 11#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c4_i32_1539 : BitVec 32 := 4#32
  let v6470 : BitVec 32 := Scalar.addi v5 c4_i32_1539
  let v7004 : Index := Scalar.indexCast v6470
  let c0_1709 : Index := 0#32
  ![11, v7004.toNat, 0]
def k0_off631 (v6478 : BitVec 32) (v6483 : BitVec 32) (v6518 : BitVec 32) (v6637 : BitVec 32) : Fin 3 → Nat :=
  let c199_i32_1548 : BitVec 32 := 199#32
  let c0_i32_1547 : BitVec 32 := 0#32
  let v6484 : BitVec 32 := Scalar.maxsi c0_i32_1547 v6483
  let v6485 : BitVec 32 := Scalar.minsi c199_i32_1548 v6484
  let v6519 : BitVec 32 := Scalar.addi v6485 v6518
  let v7009 : Index := Scalar.indexCast v6519
  let c199_i32_1545 : BitVec 32 := 199#32
  let c0_i32_1544 : BitVec 32 := 0#32
  let v6479 : BitVec 32 := Scalar.maxsi c0_i32_1544 v6478
  let v6480 : BitVec 32 := Scalar.minsi c199_i32_1545 v6479
  let v6638 : BitVec 32 := Scalar.addi v6480 v6637
  let c3_i32_1626 : BitVec 32 := 3#32
  let v6641 : BitVec 32 := Scalar.shrsi v6638 c3_i32_1626
  let c3_i32_1627 : BitVec 32 := 3#32
  let v6642 : BitVec 32 := Scalar.shli v6641 c3_i32_1627
  let v6643 : BitVec 32 := v6642
  let v7010 : Index := Scalar.indexCast v6643
  let c0_1711 : Index := 0#32
  ![v7009.toNat, v7010.toNat, 0]
def k0_off632 (v6478 : BitVec 32) (v6483 : BitVec 32) (v6493 : BitVec 32) (v6518 : BitVec 32) (v6637 : BitVec 32) : Fin 3 → Nat :=
  let c199_i32_1548 : BitVec 32 := 199#32
  let c0_i32_1547 : BitVec 32 := 0#32
  let v6484 : BitVec 32 := Scalar.maxsi c0_i32_1547 v6483
  let v6485 : BitVec 32 := Scalar.minsi c199_i32_1548 v6484
  let v6519 : BitVec 32 := Scalar.addi v6485 v6518
  let c1_i32_1566 : BitVec 32 := 1#32
  let v6520 : BitVec 32 := Scalar.addi v6519 c1_i32_1566
  let c199_i32_1554 : BitVec 32 := 199#32
  let c0_i32_1553 : BitVec 32 := 0#32
  let v6494 : BitVec 32 := Scalar.maxsi c0_i32_1553 v6493
  let v6495 : BitVec 32 := Scalar.minsi c199_i32_1554 v6494
  let v6521 : BitVec 32 := Scalar.minsi v6520 v6495
  let v7013 : Index := Scalar.indexCast v6521
  let c199_i32_1545 : BitVec 32 := 199#32
  let c0_i32_1544 : BitVec 32 := 0#32
  let v6479 : BitVec 32 := Scalar.maxsi c0_i32_1544 v6478
  let v6480 : BitVec 32 := Scalar.minsi c199_i32_1545 v6479
  let v6638 : BitVec 32 := Scalar.addi v6480 v6637
  let c3_i32_1626 : BitVec 32 := 3#32
  let v6641 : BitVec 32 := Scalar.shrsi v6638 c3_i32_1626
  let c3_i32_1627 : BitVec 32 := 3#32
  let v6642 : BitVec 32 := Scalar.shli v6641 c3_i32_1627
  let v6643 : BitVec 32 := v6642
  let v7014 : Index := Scalar.indexCast v6643
  let c0_1712 : Index := 0#32
  ![v7013.toNat, v7014.toNat, 0]
def k0_off633 (k0_t1 : Fin k0_t1_loop.trips) : Fin 3 → Nat :=
  let c12_1714 : Index := 12#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c4_i32_1539 : BitVec 32 := 4#32
  let v6470 : BitVec 32 := Scalar.addi v5 c4_i32_1539
  let v7033 : Index := Scalar.indexCast v6470
  let c0_1715 : Index := 0#32
  ![12, v7033.toNat, 0]
def k0_off634 (v6478 : BitVec 32) (v6483 : BitVec 32) (v6518 : BitVec 32) (v6650 : BitVec 32) : Fin 3 → Nat :=
  let c199_i32_1548 : BitVec 32 := 199#32
  let c0_i32_1547 : BitVec 32 := 0#32
  let v6484 : BitVec 32 := Scalar.maxsi c0_i32_1547 v6483
  let v6485 : BitVec 32 := Scalar.minsi c199_i32_1548 v6484
  let v6519 : BitVec 32 := Scalar.addi v6485 v6518
  let v7038 : Index := Scalar.indexCast v6519
  let c199_i32_1545 : BitVec 32 := 199#32
  let c0_i32_1544 : BitVec 32 := 0#32
  let v6479 : BitVec 32 := Scalar.maxsi c0_i32_1544 v6478
  let v6480 : BitVec 32 := Scalar.minsi c199_i32_1545 v6479
  let v6651 : BitVec 32 := Scalar.addi v6480 v6650
  let c3_i32_1633 : BitVec 32 := 3#32
  let v6654 : BitVec 32 := Scalar.shrsi v6651 c3_i32_1633
  let c3_i32_1634 : BitVec 32 := 3#32
  let v6655 : BitVec 32 := Scalar.shli v6654 c3_i32_1634
  let v6656 : BitVec 32 := v6655
  let v7039 : Index := Scalar.indexCast v6656
  let c0_1717 : Index := 0#32
  ![v7038.toNat, v7039.toNat, 0]
def k0_off635 (v6478 : BitVec 32) (v6483 : BitVec 32) (v6493 : BitVec 32) (v6518 : BitVec 32) (v6650 : BitVec 32) : Fin 3 → Nat :=
  let c199_i32_1548 : BitVec 32 := 199#32
  let c0_i32_1547 : BitVec 32 := 0#32
  let v6484 : BitVec 32 := Scalar.maxsi c0_i32_1547 v6483
  let v6485 : BitVec 32 := Scalar.minsi c199_i32_1548 v6484
  let v6519 : BitVec 32 := Scalar.addi v6485 v6518
  let c1_i32_1566 : BitVec 32 := 1#32
  let v6520 : BitVec 32 := Scalar.addi v6519 c1_i32_1566
  let c199_i32_1554 : BitVec 32 := 199#32
  let c0_i32_1553 : BitVec 32 := 0#32
  let v6494 : BitVec 32 := Scalar.maxsi c0_i32_1553 v6493
  let v6495 : BitVec 32 := Scalar.minsi c199_i32_1554 v6494
  let v6521 : BitVec 32 := Scalar.minsi v6520 v6495
  let v7042 : Index := Scalar.indexCast v6521
  let c199_i32_1545 : BitVec 32 := 199#32
  let c0_i32_1544 : BitVec 32 := 0#32
  let v6479 : BitVec 32 := Scalar.maxsi c0_i32_1544 v6478
  let v6480 : BitVec 32 := Scalar.minsi c199_i32_1545 v6479
  let v6651 : BitVec 32 := Scalar.addi v6480 v6650
  let c3_i32_1633 : BitVec 32 := 3#32
  let v6654 : BitVec 32 := Scalar.shrsi v6651 c3_i32_1633
  let c3_i32_1634 : BitVec 32 := 3#32
  let v6655 : BitVec 32 := Scalar.shli v6654 c3_i32_1634
  let v6656 : BitVec 32 := v6655
  let v7043 : Index := Scalar.indexCast v6656
  let c0_1718 : Index := 0#32
  ![v7042.toNat, v7043.toNat, 0]
def k0_off636 (k0_t1 : Fin k0_t1_loop.trips) : Fin 3 → Nat :=
  let c13_1720 : Index := 13#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c4_i32_1539 : BitVec 32 := 4#32
  let v6470 : BitVec 32 := Scalar.addi v5 c4_i32_1539
  let v7062 : Index := Scalar.indexCast v6470
  let c0_1721 : Index := 0#32
  ![13, v7062.toNat, 0]
def k0_off637 (v6478 : BitVec 32) (v6483 : BitVec 32) (v6527 : BitVec 32) (v6572 : BitVec 32) : Fin 3 → Nat :=
  let c199_i32_1548 : BitVec 32 := 199#32
  let c0_i32_1547 : BitVec 32 := 0#32
  let v6484 : BitVec 32 := Scalar.maxsi c0_i32_1547 v6483
  let v6485 : BitVec 32 := Scalar.minsi c199_i32_1548 v6484
  let v6528 : BitVec 32 := Scalar.addi v6485 v6527
  let v7068 : Index := Scalar.indexCast v6528
  let c199_i32_1545 : BitVec 32 := 199#32
  let c0_i32_1544 : BitVec 32 := 0#32
  let v6479 : BitVec 32 := Scalar.maxsi c0_i32_1544 v6478
  let v6480 : BitVec 32 := Scalar.minsi c199_i32_1545 v6479
  let v6573 : BitVec 32 := Scalar.addi v6480 v6572
  let c3_i32_1591 : BitVec 32 := 3#32
  let v6576 : BitVec 32 := Scalar.shrsi v6573 c3_i32_1591
  let c3_i32_1592 : BitVec 32 := 3#32
  let v6577 : BitVec 32 := Scalar.shli v6576 c3_i32_1592
  let v6578 : BitVec 32 := v6577
  let v7069 : Index := Scalar.indexCast v6578
  let c0_1724 : Index := 0#32
  ![v7068.toNat, v7069.toNat, 0]
def k0_off638 (v6478 : BitVec 32) (v6483 : BitVec 32) (v6493 : BitVec 32) (v6527 : BitVec 32) (v6572 : BitVec 32) : Fin 3 → Nat :=
  let c199_i32_1548 : BitVec 32 := 199#32
  let c0_i32_1547 : BitVec 32 := 0#32
  let v6484 : BitVec 32 := Scalar.maxsi c0_i32_1547 v6483
  let v6485 : BitVec 32 := Scalar.minsi c199_i32_1548 v6484
  let v6528 : BitVec 32 := Scalar.addi v6485 v6527
  let c1_i32_1570 : BitVec 32 := 1#32
  let v6529 : BitVec 32 := Scalar.addi v6528 c1_i32_1570
  let c199_i32_1554 : BitVec 32 := 199#32
  let c0_i32_1553 : BitVec 32 := 0#32
  let v6494 : BitVec 32 := Scalar.maxsi c0_i32_1553 v6493
  let v6495 : BitVec 32 := Scalar.minsi c199_i32_1554 v6494
  let v6530 : BitVec 32 := Scalar.minsi v6529 v6495
  let v7072 : Index := Scalar.indexCast v6530
  let c199_i32_1545 : BitVec 32 := 199#32
  let c0_i32_1544 : BitVec 32 := 0#32
  let v6479 : BitVec 32 := Scalar.maxsi c0_i32_1544 v6478
  let v6480 : BitVec 32 := Scalar.minsi c199_i32_1545 v6479
  let v6573 : BitVec 32 := Scalar.addi v6480 v6572
  let c3_i32_1591 : BitVec 32 := 3#32
  let v6576 : BitVec 32 := Scalar.shrsi v6573 c3_i32_1591
  let c3_i32_1592 : BitVec 32 := 3#32
  let v6577 : BitVec 32 := Scalar.shli v6576 c3_i32_1592
  let v6578 : BitVec 32 := v6577
  let v7073 : Index := Scalar.indexCast v6578
  let c0_1725 : Index := 0#32
  ![v7072.toNat, v7073.toNat, 0]
def k0_off639 (k0_t1 : Fin k0_t1_loop.trips) : Fin 3 → Nat :=
  let c14_1727 : Index := 14#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c4_i32_1539 : BitVec 32 := 4#32
  let v6470 : BitVec 32 := Scalar.addi v5 c4_i32_1539
  let v7092 : Index := Scalar.indexCast v6470
  let c0_1728 : Index := 0#32
  ![14, v7092.toNat, 0]
def k0_off640 (v6478 : BitVec 32) (v6483 : BitVec 32) (v6527 : BitVec 32) (v6585 : BitVec 32) : Fin 3 → Nat :=
  let c199_i32_1548 : BitVec 32 := 199#32
  let c0_i32_1547 : BitVec 32 := 0#32
  let v6484 : BitVec 32 := Scalar.maxsi c0_i32_1547 v6483
  let v6485 : BitVec 32 := Scalar.minsi c199_i32_1548 v6484
  let v6528 : BitVec 32 := Scalar.addi v6485 v6527
  let v7097 : Index := Scalar.indexCast v6528
  let c199_i32_1545 : BitVec 32 := 199#32
  let c0_i32_1544 : BitVec 32 := 0#32
  let v6479 : BitVec 32 := Scalar.maxsi c0_i32_1544 v6478
  let v6480 : BitVec 32 := Scalar.minsi c199_i32_1545 v6479
  let v6586 : BitVec 32 := Scalar.addi v6480 v6585
  let c3_i32_1598 : BitVec 32 := 3#32
  let v6589 : BitVec 32 := Scalar.shrsi v6586 c3_i32_1598
  let c3_i32_1599 : BitVec 32 := 3#32
  let v6590 : BitVec 32 := Scalar.shli v6589 c3_i32_1599
  let v6591 : BitVec 32 := v6590
  let v7098 : Index := Scalar.indexCast v6591
  let c0_1730 : Index := 0#32
  ![v7097.toNat, v7098.toNat, 0]
def k0_off641 (v6478 : BitVec 32) (v6483 : BitVec 32) (v6493 : BitVec 32) (v6527 : BitVec 32) (v6585 : BitVec 32) : Fin 3 → Nat :=
  let c199_i32_1548 : BitVec 32 := 199#32
  let c0_i32_1547 : BitVec 32 := 0#32
  let v6484 : BitVec 32 := Scalar.maxsi c0_i32_1547 v6483
  let v6485 : BitVec 32 := Scalar.minsi c199_i32_1548 v6484
  let v6528 : BitVec 32 := Scalar.addi v6485 v6527
  let c1_i32_1570 : BitVec 32 := 1#32
  let v6529 : BitVec 32 := Scalar.addi v6528 c1_i32_1570
  let c199_i32_1554 : BitVec 32 := 199#32
  let c0_i32_1553 : BitVec 32 := 0#32
  let v6494 : BitVec 32 := Scalar.maxsi c0_i32_1553 v6493
  let v6495 : BitVec 32 := Scalar.minsi c199_i32_1554 v6494
  let v6530 : BitVec 32 := Scalar.minsi v6529 v6495
  let v7101 : Index := Scalar.indexCast v6530
  let c199_i32_1545 : BitVec 32 := 199#32
  let c0_i32_1544 : BitVec 32 := 0#32
  let v6479 : BitVec 32 := Scalar.maxsi c0_i32_1544 v6478
  let v6480 : BitVec 32 := Scalar.minsi c199_i32_1545 v6479
  let v6586 : BitVec 32 := Scalar.addi v6480 v6585
  let c3_i32_1598 : BitVec 32 := 3#32
  let v6589 : BitVec 32 := Scalar.shrsi v6586 c3_i32_1598
  let c3_i32_1599 : BitVec 32 := 3#32
  let v6590 : BitVec 32 := Scalar.shli v6589 c3_i32_1599
  let v6591 : BitVec 32 := v6590
  let v7102 : Index := Scalar.indexCast v6591
  let c0_1731 : Index := 0#32
  ![v7101.toNat, v7102.toNat, 0]
def k0_off642 (k0_t1 : Fin k0_t1_loop.trips) : Fin 3 → Nat :=
  let c15_1733 : Index := 15#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c4_i32_1539 : BitVec 32 := 4#32
  let v6470 : BitVec 32 := Scalar.addi v5 c4_i32_1539
  let v7121 : Index := Scalar.indexCast v6470
  let c0_1734 : Index := 0#32
  ![15, v7121.toNat, 0]
def k0_off643 (v6478 : BitVec 32) (v6483 : BitVec 32) (v6527 : BitVec 32) (v6598 : BitVec 32) : Fin 3 → Nat :=
  let c199_i32_1548 : BitVec 32 := 199#32
  let c0_i32_1547 : BitVec 32 := 0#32
  let v6484 : BitVec 32 := Scalar.maxsi c0_i32_1547 v6483
  let v6485 : BitVec 32 := Scalar.minsi c199_i32_1548 v6484
  let v6528 : BitVec 32 := Scalar.addi v6485 v6527
  let v7126 : Index := Scalar.indexCast v6528
  let c199_i32_1545 : BitVec 32 := 199#32
  let c0_i32_1544 : BitVec 32 := 0#32
  let v6479 : BitVec 32 := Scalar.maxsi c0_i32_1544 v6478
  let v6480 : BitVec 32 := Scalar.minsi c199_i32_1545 v6479
  let v6599 : BitVec 32 := Scalar.addi v6480 v6598
  let c3_i32_1605 : BitVec 32 := 3#32
  let v6602 : BitVec 32 := Scalar.shrsi v6599 c3_i32_1605
  let c3_i32_1606 : BitVec 32 := 3#32
  let v6603 : BitVec 32 := Scalar.shli v6602 c3_i32_1606
  let v6604 : BitVec 32 := v6603
  let v7127 : Index := Scalar.indexCast v6604
  let c0_1736 : Index := 0#32
  ![v7126.toNat, v7127.toNat, 0]
def k0_off644 (v6478 : BitVec 32) (v6483 : BitVec 32) (v6493 : BitVec 32) (v6527 : BitVec 32) (v6598 : BitVec 32) : Fin 3 → Nat :=
  let c199_i32_1548 : BitVec 32 := 199#32
  let c0_i32_1547 : BitVec 32 := 0#32
  let v6484 : BitVec 32 := Scalar.maxsi c0_i32_1547 v6483
  let v6485 : BitVec 32 := Scalar.minsi c199_i32_1548 v6484
  let v6528 : BitVec 32 := Scalar.addi v6485 v6527
  let c1_i32_1570 : BitVec 32 := 1#32
  let v6529 : BitVec 32 := Scalar.addi v6528 c1_i32_1570
  let c199_i32_1554 : BitVec 32 := 199#32
  let c0_i32_1553 : BitVec 32 := 0#32
  let v6494 : BitVec 32 := Scalar.maxsi c0_i32_1553 v6493
  let v6495 : BitVec 32 := Scalar.minsi c199_i32_1554 v6494
  let v6530 : BitVec 32 := Scalar.minsi v6529 v6495
  let v7130 : Index := Scalar.indexCast v6530
  let c199_i32_1545 : BitVec 32 := 199#32
  let c0_i32_1544 : BitVec 32 := 0#32
  let v6479 : BitVec 32 := Scalar.maxsi c0_i32_1544 v6478
  let v6480 : BitVec 32 := Scalar.minsi c199_i32_1545 v6479
  let v6599 : BitVec 32 := Scalar.addi v6480 v6598
  let c3_i32_1605 : BitVec 32 := 3#32
  let v6602 : BitVec 32 := Scalar.shrsi v6599 c3_i32_1605
  let c3_i32_1606 : BitVec 32 := 3#32
  let v6603 : BitVec 32 := Scalar.shli v6602 c3_i32_1606
  let v6604 : BitVec 32 := v6603
  let v7131 : Index := Scalar.indexCast v6604
  let c0_1737 : Index := 0#32
  ![v7130.toNat, v7131.toNat, 0]
def k0_off645 (k0_t1 : Fin k0_t1_loop.trips) : Fin 3 → Nat :=
  let c16_1739 : Index := 16#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c4_i32_1539 : BitVec 32 := 4#32
  let v6470 : BitVec 32 := Scalar.addi v5 c4_i32_1539
  let v7150 : Index := Scalar.indexCast v6470
  let c0_1740 : Index := 0#32
  ![16, v7150.toNat, 0]
def k0_off646 (v6478 : BitVec 32) (v6483 : BitVec 32) (v6527 : BitVec 32) (v6611 : BitVec 32) : Fin 3 → Nat :=
  let c199_i32_1548 : BitVec 32 := 199#32
  let c0_i32_1547 : BitVec 32 := 0#32
  let v6484 : BitVec 32 := Scalar.maxsi c0_i32_1547 v6483
  let v6485 : BitVec 32 := Scalar.minsi c199_i32_1548 v6484
  let v6528 : BitVec 32 := Scalar.addi v6485 v6527
  let v7155 : Index := Scalar.indexCast v6528
  let c199_i32_1545 : BitVec 32 := 199#32
  let c0_i32_1544 : BitVec 32 := 0#32
  let v6479 : BitVec 32 := Scalar.maxsi c0_i32_1544 v6478
  let v6480 : BitVec 32 := Scalar.minsi c199_i32_1545 v6479
  let v6612 : BitVec 32 := Scalar.addi v6480 v6611
  let c3_i32_1612 : BitVec 32 := 3#32
  let v6615 : BitVec 32 := Scalar.shrsi v6612 c3_i32_1612
  let c3_i32_1613 : BitVec 32 := 3#32
  let v6616 : BitVec 32 := Scalar.shli v6615 c3_i32_1613
  let v6617 : BitVec 32 := v6616
  let v7156 : Index := Scalar.indexCast v6617
  let c0_1742 : Index := 0#32
  ![v7155.toNat, v7156.toNat, 0]
def k0_off647 (v6478 : BitVec 32) (v6483 : BitVec 32) (v6493 : BitVec 32) (v6527 : BitVec 32) (v6611 : BitVec 32) : Fin 3 → Nat :=
  let c199_i32_1548 : BitVec 32 := 199#32
  let c0_i32_1547 : BitVec 32 := 0#32
  let v6484 : BitVec 32 := Scalar.maxsi c0_i32_1547 v6483
  let v6485 : BitVec 32 := Scalar.minsi c199_i32_1548 v6484
  let v6528 : BitVec 32 := Scalar.addi v6485 v6527
  let c1_i32_1570 : BitVec 32 := 1#32
  let v6529 : BitVec 32 := Scalar.addi v6528 c1_i32_1570
  let c199_i32_1554 : BitVec 32 := 199#32
  let c0_i32_1553 : BitVec 32 := 0#32
  let v6494 : BitVec 32 := Scalar.maxsi c0_i32_1553 v6493
  let v6495 : BitVec 32 := Scalar.minsi c199_i32_1554 v6494
  let v6530 : BitVec 32 := Scalar.minsi v6529 v6495
  let v7159 : Index := Scalar.indexCast v6530
  let c199_i32_1545 : BitVec 32 := 199#32
  let c0_i32_1544 : BitVec 32 := 0#32
  let v6479 : BitVec 32 := Scalar.maxsi c0_i32_1544 v6478
  let v6480 : BitVec 32 := Scalar.minsi c199_i32_1545 v6479
  let v6612 : BitVec 32 := Scalar.addi v6480 v6611
  let c3_i32_1612 : BitVec 32 := 3#32
  let v6615 : BitVec 32 := Scalar.shrsi v6612 c3_i32_1612
  let c3_i32_1613 : BitVec 32 := 3#32
  let v6616 : BitVec 32 := Scalar.shli v6615 c3_i32_1613
  let v6617 : BitVec 32 := v6616
  let v7160 : Index := Scalar.indexCast v6617
  let c0_1743 : Index := 0#32
  ![v7159.toNat, v7160.toNat, 0]
def k0_off648 (k0_t1 : Fin k0_t1_loop.trips) : Fin 3 → Nat :=
  let c17_1745 : Index := 17#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c4_i32_1539 : BitVec 32 := 4#32
  let v6470 : BitVec 32 := Scalar.addi v5 c4_i32_1539
  let v7179 : Index := Scalar.indexCast v6470
  let c0_1746 : Index := 0#32
  ![17, v7179.toNat, 0]
def k0_off649 (v6478 : BitVec 32) (v6483 : BitVec 32) (v6527 : BitVec 32) (v6624 : BitVec 32) : Fin 3 → Nat :=
  let c199_i32_1548 : BitVec 32 := 199#32
  let c0_i32_1547 : BitVec 32 := 0#32
  let v6484 : BitVec 32 := Scalar.maxsi c0_i32_1547 v6483
  let v6485 : BitVec 32 := Scalar.minsi c199_i32_1548 v6484
  let v6528 : BitVec 32 := Scalar.addi v6485 v6527
  let v7184 : Index := Scalar.indexCast v6528
  let c199_i32_1545 : BitVec 32 := 199#32
  let c0_i32_1544 : BitVec 32 := 0#32
  let v6479 : BitVec 32 := Scalar.maxsi c0_i32_1544 v6478
  let v6480 : BitVec 32 := Scalar.minsi c199_i32_1545 v6479
  let v6625 : BitVec 32 := Scalar.addi v6480 v6624
  let c3_i32_1619 : BitVec 32 := 3#32
  let v6628 : BitVec 32 := Scalar.shrsi v6625 c3_i32_1619
  let c3_i32_1620 : BitVec 32 := 3#32
  let v6629 : BitVec 32 := Scalar.shli v6628 c3_i32_1620
  let v6630 : BitVec 32 := v6629
  let v7185 : Index := Scalar.indexCast v6630
  let c0_1748 : Index := 0#32
  ![v7184.toNat, v7185.toNat, 0]
def k0_off650 (v6478 : BitVec 32) (v6483 : BitVec 32) (v6493 : BitVec 32) (v6527 : BitVec 32) (v6624 : BitVec 32) : Fin 3 → Nat :=
  let c199_i32_1548 : BitVec 32 := 199#32
  let c0_i32_1547 : BitVec 32 := 0#32
  let v6484 : BitVec 32 := Scalar.maxsi c0_i32_1547 v6483
  let v6485 : BitVec 32 := Scalar.minsi c199_i32_1548 v6484
  let v6528 : BitVec 32 := Scalar.addi v6485 v6527
  let c1_i32_1570 : BitVec 32 := 1#32
  let v6529 : BitVec 32 := Scalar.addi v6528 c1_i32_1570
  let c199_i32_1554 : BitVec 32 := 199#32
  let c0_i32_1553 : BitVec 32 := 0#32
  let v6494 : BitVec 32 := Scalar.maxsi c0_i32_1553 v6493
  let v6495 : BitVec 32 := Scalar.minsi c199_i32_1554 v6494
  let v6530 : BitVec 32 := Scalar.minsi v6529 v6495
  let v7188 : Index := Scalar.indexCast v6530
  let c199_i32_1545 : BitVec 32 := 199#32
  let c0_i32_1544 : BitVec 32 := 0#32
  let v6479 : BitVec 32 := Scalar.maxsi c0_i32_1544 v6478
  let v6480 : BitVec 32 := Scalar.minsi c199_i32_1545 v6479
  let v6625 : BitVec 32 := Scalar.addi v6480 v6624
  let c3_i32_1619 : BitVec 32 := 3#32
  let v6628 : BitVec 32 := Scalar.shrsi v6625 c3_i32_1619
  let c3_i32_1620 : BitVec 32 := 3#32
  let v6629 : BitVec 32 := Scalar.shli v6628 c3_i32_1620
  let v6630 : BitVec 32 := v6629
  let v7189 : Index := Scalar.indexCast v6630
  let c0_1749 : Index := 0#32
  ![v7188.toNat, v7189.toNat, 0]
def k0_off651 (k0_t1 : Fin k0_t1_loop.trips) : Fin 3 → Nat :=
  let c18_1751 : Index := 18#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c4_i32_1539 : BitVec 32 := 4#32
  let v6470 : BitVec 32 := Scalar.addi v5 c4_i32_1539
  let v7208 : Index := Scalar.indexCast v6470
  let c0_1752 : Index := 0#32
  ![18, v7208.toNat, 0]
def k0_off652 (v6478 : BitVec 32) (v6483 : BitVec 32) (v6527 : BitVec 32) (v6637 : BitVec 32) : Fin 3 → Nat :=
  let c199_i32_1548 : BitVec 32 := 199#32
  let c0_i32_1547 : BitVec 32 := 0#32
  let v6484 : BitVec 32 := Scalar.maxsi c0_i32_1547 v6483
  let v6485 : BitVec 32 := Scalar.minsi c199_i32_1548 v6484
  let v6528 : BitVec 32 := Scalar.addi v6485 v6527
  let v7213 : Index := Scalar.indexCast v6528
  let c199_i32_1545 : BitVec 32 := 199#32
  let c0_i32_1544 : BitVec 32 := 0#32
  let v6479 : BitVec 32 := Scalar.maxsi c0_i32_1544 v6478
  let v6480 : BitVec 32 := Scalar.minsi c199_i32_1545 v6479
  let v6638 : BitVec 32 := Scalar.addi v6480 v6637
  let c3_i32_1626 : BitVec 32 := 3#32
  let v6641 : BitVec 32 := Scalar.shrsi v6638 c3_i32_1626
  let c3_i32_1627 : BitVec 32 := 3#32
  let v6642 : BitVec 32 := Scalar.shli v6641 c3_i32_1627
  let v6643 : BitVec 32 := v6642
  let v7214 : Index := Scalar.indexCast v6643
  let c0_1754 : Index := 0#32
  ![v7213.toNat, v7214.toNat, 0]
def k0_off653 (v6478 : BitVec 32) (v6483 : BitVec 32) (v6493 : BitVec 32) (v6527 : BitVec 32) (v6637 : BitVec 32) : Fin 3 → Nat :=
  let c199_i32_1548 : BitVec 32 := 199#32
  let c0_i32_1547 : BitVec 32 := 0#32
  let v6484 : BitVec 32 := Scalar.maxsi c0_i32_1547 v6483
  let v6485 : BitVec 32 := Scalar.minsi c199_i32_1548 v6484
  let v6528 : BitVec 32 := Scalar.addi v6485 v6527
  let c1_i32_1570 : BitVec 32 := 1#32
  let v6529 : BitVec 32 := Scalar.addi v6528 c1_i32_1570
  let c199_i32_1554 : BitVec 32 := 199#32
  let c0_i32_1553 : BitVec 32 := 0#32
  let v6494 : BitVec 32 := Scalar.maxsi c0_i32_1553 v6493
  let v6495 : BitVec 32 := Scalar.minsi c199_i32_1554 v6494
  let v6530 : BitVec 32 := Scalar.minsi v6529 v6495
  let v7217 : Index := Scalar.indexCast v6530
  let c199_i32_1545 : BitVec 32 := 199#32
  let c0_i32_1544 : BitVec 32 := 0#32
  let v6479 : BitVec 32 := Scalar.maxsi c0_i32_1544 v6478
  let v6480 : BitVec 32 := Scalar.minsi c199_i32_1545 v6479
  let v6638 : BitVec 32 := Scalar.addi v6480 v6637
  let c3_i32_1626 : BitVec 32 := 3#32
  let v6641 : BitVec 32 := Scalar.shrsi v6638 c3_i32_1626
  let c3_i32_1627 : BitVec 32 := 3#32
  let v6642 : BitVec 32 := Scalar.shli v6641 c3_i32_1627
  let v6643 : BitVec 32 := v6642
  let v7218 : Index := Scalar.indexCast v6643
  let c0_1755 : Index := 0#32
  ![v7217.toNat, v7218.toNat, 0]
def k0_off654 (k0_t1 : Fin k0_t1_loop.trips) : Fin 3 → Nat :=
  let c19_1757 : Index := 19#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c4_i32_1539 : BitVec 32 := 4#32
  let v6470 : BitVec 32 := Scalar.addi v5 c4_i32_1539
  let v7237 : Index := Scalar.indexCast v6470
  let c0_1758 : Index := 0#32
  ![19, v7237.toNat, 0]
def k0_off655 (v6478 : BitVec 32) (v6483 : BitVec 32) (v6527 : BitVec 32) (v6650 : BitVec 32) : Fin 3 → Nat :=
  let c199_i32_1548 : BitVec 32 := 199#32
  let c0_i32_1547 : BitVec 32 := 0#32
  let v6484 : BitVec 32 := Scalar.maxsi c0_i32_1547 v6483
  let v6485 : BitVec 32 := Scalar.minsi c199_i32_1548 v6484
  let v6528 : BitVec 32 := Scalar.addi v6485 v6527
  let v7242 : Index := Scalar.indexCast v6528
  let c199_i32_1545 : BitVec 32 := 199#32
  let c0_i32_1544 : BitVec 32 := 0#32
  let v6479 : BitVec 32 := Scalar.maxsi c0_i32_1544 v6478
  let v6480 : BitVec 32 := Scalar.minsi c199_i32_1545 v6479
  let v6651 : BitVec 32 := Scalar.addi v6480 v6650
  let c3_i32_1633 : BitVec 32 := 3#32
  let v6654 : BitVec 32 := Scalar.shrsi v6651 c3_i32_1633
  let c3_i32_1634 : BitVec 32 := 3#32
  let v6655 : BitVec 32 := Scalar.shli v6654 c3_i32_1634
  let v6656 : BitVec 32 := v6655
  let v7243 : Index := Scalar.indexCast v6656
  let c0_1760 : Index := 0#32
  ![v7242.toNat, v7243.toNat, 0]
def k0_off656 (v6478 : BitVec 32) (v6483 : BitVec 32) (v6493 : BitVec 32) (v6527 : BitVec 32) (v6650 : BitVec 32) : Fin 3 → Nat :=
  let c199_i32_1548 : BitVec 32 := 199#32
  let c0_i32_1547 : BitVec 32 := 0#32
  let v6484 : BitVec 32 := Scalar.maxsi c0_i32_1547 v6483
  let v6485 : BitVec 32 := Scalar.minsi c199_i32_1548 v6484
  let v6528 : BitVec 32 := Scalar.addi v6485 v6527
  let c1_i32_1570 : BitVec 32 := 1#32
  let v6529 : BitVec 32 := Scalar.addi v6528 c1_i32_1570
  let c199_i32_1554 : BitVec 32 := 199#32
  let c0_i32_1553 : BitVec 32 := 0#32
  let v6494 : BitVec 32 := Scalar.maxsi c0_i32_1553 v6493
  let v6495 : BitVec 32 := Scalar.minsi c199_i32_1554 v6494
  let v6530 : BitVec 32 := Scalar.minsi v6529 v6495
  let v7246 : Index := Scalar.indexCast v6530
  let c199_i32_1545 : BitVec 32 := 199#32
  let c0_i32_1544 : BitVec 32 := 0#32
  let v6479 : BitVec 32 := Scalar.maxsi c0_i32_1544 v6478
  let v6480 : BitVec 32 := Scalar.minsi c199_i32_1545 v6479
  let v6651 : BitVec 32 := Scalar.addi v6480 v6650
  let c3_i32_1633 : BitVec 32 := 3#32
  let v6654 : BitVec 32 := Scalar.shrsi v6651 c3_i32_1633
  let c3_i32_1634 : BitVec 32 := 3#32
  let v6655 : BitVec 32 := Scalar.shli v6654 c3_i32_1634
  let v6656 : BitVec 32 := v6655
  let v7247 : Index := Scalar.indexCast v6656
  let c0_1761 : Index := 0#32
  ![v7246.toNat, v7247.toNat, 0]
def k0_off657 (k0_t1 : Fin k0_t1_loop.trips) : Fin 3 → Nat :=
  let c20_1763 : Index := 20#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c4_i32_1539 : BitVec 32 := 4#32
  let v6470 : BitVec 32 := Scalar.addi v5 c4_i32_1539
  let v7266 : Index := Scalar.indexCast v6470
  let c0_1764 : Index := 0#32
  ![20, v7266.toNat, 0]
def k0_off658 (v6478 : BitVec 32) (v6483 : BitVec 32) (v6536 : BitVec 32) (v6572 : BitVec 32) : Fin 3 → Nat :=
  let c199_i32_1548 : BitVec 32 := 199#32
  let c0_i32_1547 : BitVec 32 := 0#32
  let v6484 : BitVec 32 := Scalar.maxsi c0_i32_1547 v6483
  let v6485 : BitVec 32 := Scalar.minsi c199_i32_1548 v6484
  let v6537 : BitVec 32 := Scalar.addi v6485 v6536
  let v7272 : Index := Scalar.indexCast v6537
  let c199_i32_1545 : BitVec 32 := 199#32
  let c0_i32_1544 : BitVec 32 := 0#32
  let v6479 : BitVec 32 := Scalar.maxsi c0_i32_1544 v6478
  let v6480 : BitVec 32 := Scalar.minsi c199_i32_1545 v6479
  let v6573 : BitVec 32 := Scalar.addi v6480 v6572
  let c3_i32_1591 : BitVec 32 := 3#32
  let v6576 : BitVec 32 := Scalar.shrsi v6573 c3_i32_1591
  let c3_i32_1592 : BitVec 32 := 3#32
  let v6577 : BitVec 32 := Scalar.shli v6576 c3_i32_1592
  let v6578 : BitVec 32 := v6577
  let v7273 : Index := Scalar.indexCast v6578
  let c0_1767 : Index := 0#32
  ![v7272.toNat, v7273.toNat, 0]
def k0_off659 (v6478 : BitVec 32) (v6483 : BitVec 32) (v6493 : BitVec 32) (v6536 : BitVec 32) (v6572 : BitVec 32) : Fin 3 → Nat :=
  let c199_i32_1548 : BitVec 32 := 199#32
  let c0_i32_1547 : BitVec 32 := 0#32
  let v6484 : BitVec 32 := Scalar.maxsi c0_i32_1547 v6483
  let v6485 : BitVec 32 := Scalar.minsi c199_i32_1548 v6484
  let v6537 : BitVec 32 := Scalar.addi v6485 v6536
  let c1_i32_1574 : BitVec 32 := 1#32
  let v6538 : BitVec 32 := Scalar.addi v6537 c1_i32_1574
  let c199_i32_1554 : BitVec 32 := 199#32
  let c0_i32_1553 : BitVec 32 := 0#32
  let v6494 : BitVec 32 := Scalar.maxsi c0_i32_1553 v6493
  let v6495 : BitVec 32 := Scalar.minsi c199_i32_1554 v6494
  let v6539 : BitVec 32 := Scalar.minsi v6538 v6495
  let v7276 : Index := Scalar.indexCast v6539
  let c199_i32_1545 : BitVec 32 := 199#32
  let c0_i32_1544 : BitVec 32 := 0#32
  let v6479 : BitVec 32 := Scalar.maxsi c0_i32_1544 v6478
  let v6480 : BitVec 32 := Scalar.minsi c199_i32_1545 v6479
  let v6573 : BitVec 32 := Scalar.addi v6480 v6572
  let c3_i32_1591 : BitVec 32 := 3#32
  let v6576 : BitVec 32 := Scalar.shrsi v6573 c3_i32_1591
  let c3_i32_1592 : BitVec 32 := 3#32
  let v6577 : BitVec 32 := Scalar.shli v6576 c3_i32_1592
  let v6578 : BitVec 32 := v6577
  let v7277 : Index := Scalar.indexCast v6578
  let c0_1768 : Index := 0#32
  ![v7276.toNat, v7277.toNat, 0]
def k0_off660 (k0_t1 : Fin k0_t1_loop.trips) : Fin 3 → Nat :=
  let c21_1770 : Index := 21#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c4_i32_1539 : BitVec 32 := 4#32
  let v6470 : BitVec 32 := Scalar.addi v5 c4_i32_1539
  let v7296 : Index := Scalar.indexCast v6470
  let c0_1771 : Index := 0#32
  ![21, v7296.toNat, 0]
def k0_off661 (v6478 : BitVec 32) (v6483 : BitVec 32) (v6536 : BitVec 32) (v6585 : BitVec 32) : Fin 3 → Nat :=
  let c199_i32_1548 : BitVec 32 := 199#32
  let c0_i32_1547 : BitVec 32 := 0#32
  let v6484 : BitVec 32 := Scalar.maxsi c0_i32_1547 v6483
  let v6485 : BitVec 32 := Scalar.minsi c199_i32_1548 v6484
  let v6537 : BitVec 32 := Scalar.addi v6485 v6536
  let v7301 : Index := Scalar.indexCast v6537
  let c199_i32_1545 : BitVec 32 := 199#32
  let c0_i32_1544 : BitVec 32 := 0#32
  let v6479 : BitVec 32 := Scalar.maxsi c0_i32_1544 v6478
  let v6480 : BitVec 32 := Scalar.minsi c199_i32_1545 v6479
  let v6586 : BitVec 32 := Scalar.addi v6480 v6585
  let c3_i32_1598 : BitVec 32 := 3#32
  let v6589 : BitVec 32 := Scalar.shrsi v6586 c3_i32_1598
  let c3_i32_1599 : BitVec 32 := 3#32
  let v6590 : BitVec 32 := Scalar.shli v6589 c3_i32_1599
  let v6591 : BitVec 32 := v6590
  let v7302 : Index := Scalar.indexCast v6591
  let c0_1773 : Index := 0#32
  ![v7301.toNat, v7302.toNat, 0]
def k0_off662 (v6478 : BitVec 32) (v6483 : BitVec 32) (v6493 : BitVec 32) (v6536 : BitVec 32) (v6585 : BitVec 32) : Fin 3 → Nat :=
  let c199_i32_1548 : BitVec 32 := 199#32
  let c0_i32_1547 : BitVec 32 := 0#32
  let v6484 : BitVec 32 := Scalar.maxsi c0_i32_1547 v6483
  let v6485 : BitVec 32 := Scalar.minsi c199_i32_1548 v6484
  let v6537 : BitVec 32 := Scalar.addi v6485 v6536
  let c1_i32_1574 : BitVec 32 := 1#32
  let v6538 : BitVec 32 := Scalar.addi v6537 c1_i32_1574
  let c199_i32_1554 : BitVec 32 := 199#32
  let c0_i32_1553 : BitVec 32 := 0#32
  let v6494 : BitVec 32 := Scalar.maxsi c0_i32_1553 v6493
  let v6495 : BitVec 32 := Scalar.minsi c199_i32_1554 v6494
  let v6539 : BitVec 32 := Scalar.minsi v6538 v6495
  let v7305 : Index := Scalar.indexCast v6539
  let c199_i32_1545 : BitVec 32 := 199#32
  let c0_i32_1544 : BitVec 32 := 0#32
  let v6479 : BitVec 32 := Scalar.maxsi c0_i32_1544 v6478
  let v6480 : BitVec 32 := Scalar.minsi c199_i32_1545 v6479
  let v6586 : BitVec 32 := Scalar.addi v6480 v6585
  let c3_i32_1598 : BitVec 32 := 3#32
  let v6589 : BitVec 32 := Scalar.shrsi v6586 c3_i32_1598
  let c3_i32_1599 : BitVec 32 := 3#32
  let v6590 : BitVec 32 := Scalar.shli v6589 c3_i32_1599
  let v6591 : BitVec 32 := v6590
  let v7306 : Index := Scalar.indexCast v6591
  let c0_1774 : Index := 0#32
  ![v7305.toNat, v7306.toNat, 0]
def k0_off663 (k0_t1 : Fin k0_t1_loop.trips) : Fin 3 → Nat :=
  let c22_1776 : Index := 22#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c4_i32_1539 : BitVec 32 := 4#32
  let v6470 : BitVec 32 := Scalar.addi v5 c4_i32_1539
  let v7325 : Index := Scalar.indexCast v6470
  let c0_1777 : Index := 0#32
  ![22, v7325.toNat, 0]
def k0_off664 (v6478 : BitVec 32) (v6483 : BitVec 32) (v6536 : BitVec 32) (v6598 : BitVec 32) : Fin 3 → Nat :=
  let c199_i32_1548 : BitVec 32 := 199#32
  let c0_i32_1547 : BitVec 32 := 0#32
  let v6484 : BitVec 32 := Scalar.maxsi c0_i32_1547 v6483
  let v6485 : BitVec 32 := Scalar.minsi c199_i32_1548 v6484
  let v6537 : BitVec 32 := Scalar.addi v6485 v6536
  let v7330 : Index := Scalar.indexCast v6537
  let c199_i32_1545 : BitVec 32 := 199#32
  let c0_i32_1544 : BitVec 32 := 0#32
  let v6479 : BitVec 32 := Scalar.maxsi c0_i32_1544 v6478
  let v6480 : BitVec 32 := Scalar.minsi c199_i32_1545 v6479
  let v6599 : BitVec 32 := Scalar.addi v6480 v6598
  let c3_i32_1605 : BitVec 32 := 3#32
  let v6602 : BitVec 32 := Scalar.shrsi v6599 c3_i32_1605
  let c3_i32_1606 : BitVec 32 := 3#32
  let v6603 : BitVec 32 := Scalar.shli v6602 c3_i32_1606
  let v6604 : BitVec 32 := v6603
  let v7331 : Index := Scalar.indexCast v6604
  let c0_1779 : Index := 0#32
  ![v7330.toNat, v7331.toNat, 0]
def k0_off665 (v6478 : BitVec 32) (v6483 : BitVec 32) (v6493 : BitVec 32) (v6536 : BitVec 32) (v6598 : BitVec 32) : Fin 3 → Nat :=
  let c199_i32_1548 : BitVec 32 := 199#32
  let c0_i32_1547 : BitVec 32 := 0#32
  let v6484 : BitVec 32 := Scalar.maxsi c0_i32_1547 v6483
  let v6485 : BitVec 32 := Scalar.minsi c199_i32_1548 v6484
  let v6537 : BitVec 32 := Scalar.addi v6485 v6536
  let c1_i32_1574 : BitVec 32 := 1#32
  let v6538 : BitVec 32 := Scalar.addi v6537 c1_i32_1574
  let c199_i32_1554 : BitVec 32 := 199#32
  let c0_i32_1553 : BitVec 32 := 0#32
  let v6494 : BitVec 32 := Scalar.maxsi c0_i32_1553 v6493
  let v6495 : BitVec 32 := Scalar.minsi c199_i32_1554 v6494
  let v6539 : BitVec 32 := Scalar.minsi v6538 v6495
  let v7334 : Index := Scalar.indexCast v6539
  let c199_i32_1545 : BitVec 32 := 199#32
  let c0_i32_1544 : BitVec 32 := 0#32
  let v6479 : BitVec 32 := Scalar.maxsi c0_i32_1544 v6478
  let v6480 : BitVec 32 := Scalar.minsi c199_i32_1545 v6479
  let v6599 : BitVec 32 := Scalar.addi v6480 v6598
  let c3_i32_1605 : BitVec 32 := 3#32
  let v6602 : BitVec 32 := Scalar.shrsi v6599 c3_i32_1605
  let c3_i32_1606 : BitVec 32 := 3#32
  let v6603 : BitVec 32 := Scalar.shli v6602 c3_i32_1606
  let v6604 : BitVec 32 := v6603
  let v7335 : Index := Scalar.indexCast v6604
  let c0_1780 : Index := 0#32
  ![v7334.toNat, v7335.toNat, 0]
def k0_off666 (k0_t1 : Fin k0_t1_loop.trips) : Fin 3 → Nat :=
  let c23_1782 : Index := 23#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c4_i32_1539 : BitVec 32 := 4#32
  let v6470 : BitVec 32 := Scalar.addi v5 c4_i32_1539
  let v7354 : Index := Scalar.indexCast v6470
  let c0_1783 : Index := 0#32
  ![23, v7354.toNat, 0]
def k0_off667 (v6478 : BitVec 32) (v6483 : BitVec 32) (v6536 : BitVec 32) (v6611 : BitVec 32) : Fin 3 → Nat :=
  let c199_i32_1548 : BitVec 32 := 199#32
  let c0_i32_1547 : BitVec 32 := 0#32
  let v6484 : BitVec 32 := Scalar.maxsi c0_i32_1547 v6483
  let v6485 : BitVec 32 := Scalar.minsi c199_i32_1548 v6484
  let v6537 : BitVec 32 := Scalar.addi v6485 v6536
  let v7359 : Index := Scalar.indexCast v6537
  let c199_i32_1545 : BitVec 32 := 199#32
  let c0_i32_1544 : BitVec 32 := 0#32
  let v6479 : BitVec 32 := Scalar.maxsi c0_i32_1544 v6478
  let v6480 : BitVec 32 := Scalar.minsi c199_i32_1545 v6479
  let v6612 : BitVec 32 := Scalar.addi v6480 v6611
  let c3_i32_1612 : BitVec 32 := 3#32
  let v6615 : BitVec 32 := Scalar.shrsi v6612 c3_i32_1612
  let c3_i32_1613 : BitVec 32 := 3#32
  let v6616 : BitVec 32 := Scalar.shli v6615 c3_i32_1613
  let v6617 : BitVec 32 := v6616
  let v7360 : Index := Scalar.indexCast v6617
  let c0_1785 : Index := 0#32
  ![v7359.toNat, v7360.toNat, 0]
def k0_off668 (v6478 : BitVec 32) (v6483 : BitVec 32) (v6493 : BitVec 32) (v6536 : BitVec 32) (v6611 : BitVec 32) : Fin 3 → Nat :=
  let c199_i32_1548 : BitVec 32 := 199#32
  let c0_i32_1547 : BitVec 32 := 0#32
  let v6484 : BitVec 32 := Scalar.maxsi c0_i32_1547 v6483
  let v6485 : BitVec 32 := Scalar.minsi c199_i32_1548 v6484
  let v6537 : BitVec 32 := Scalar.addi v6485 v6536
  let c1_i32_1574 : BitVec 32 := 1#32
  let v6538 : BitVec 32 := Scalar.addi v6537 c1_i32_1574
  let c199_i32_1554 : BitVec 32 := 199#32
  let c0_i32_1553 : BitVec 32 := 0#32
  let v6494 : BitVec 32 := Scalar.maxsi c0_i32_1553 v6493
  let v6495 : BitVec 32 := Scalar.minsi c199_i32_1554 v6494
  let v6539 : BitVec 32 := Scalar.minsi v6538 v6495
  let v7363 : Index := Scalar.indexCast v6539
  let c199_i32_1545 : BitVec 32 := 199#32
  let c0_i32_1544 : BitVec 32 := 0#32
  let v6479 : BitVec 32 := Scalar.maxsi c0_i32_1544 v6478
  let v6480 : BitVec 32 := Scalar.minsi c199_i32_1545 v6479
  let v6612 : BitVec 32 := Scalar.addi v6480 v6611
  let c3_i32_1612 : BitVec 32 := 3#32
  let v6615 : BitVec 32 := Scalar.shrsi v6612 c3_i32_1612
  let c3_i32_1613 : BitVec 32 := 3#32
  let v6616 : BitVec 32 := Scalar.shli v6615 c3_i32_1613
  let v6617 : BitVec 32 := v6616
  let v7364 : Index := Scalar.indexCast v6617
  let c0_1786 : Index := 0#32
  ![v7363.toNat, v7364.toNat, 0]
def k0_off669 (k0_t1 : Fin k0_t1_loop.trips) : Fin 3 → Nat :=
  let c24_1788 : Index := 24#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c4_i32_1539 : BitVec 32 := 4#32
  let v6470 : BitVec 32 := Scalar.addi v5 c4_i32_1539
  let v7383 : Index := Scalar.indexCast v6470
  let c0_1789 : Index := 0#32
  ![24, v7383.toNat, 0]
def k0_off670 (v6478 : BitVec 32) (v6483 : BitVec 32) (v6536 : BitVec 32) (v6624 : BitVec 32) : Fin 3 → Nat :=
  let c199_i32_1548 : BitVec 32 := 199#32
  let c0_i32_1547 : BitVec 32 := 0#32
  let v6484 : BitVec 32 := Scalar.maxsi c0_i32_1547 v6483
  let v6485 : BitVec 32 := Scalar.minsi c199_i32_1548 v6484
  let v6537 : BitVec 32 := Scalar.addi v6485 v6536
  let v7388 : Index := Scalar.indexCast v6537
  let c199_i32_1545 : BitVec 32 := 199#32
  let c0_i32_1544 : BitVec 32 := 0#32
  let v6479 : BitVec 32 := Scalar.maxsi c0_i32_1544 v6478
  let v6480 : BitVec 32 := Scalar.minsi c199_i32_1545 v6479
  let v6625 : BitVec 32 := Scalar.addi v6480 v6624
  let c3_i32_1619 : BitVec 32 := 3#32
  let v6628 : BitVec 32 := Scalar.shrsi v6625 c3_i32_1619
  let c3_i32_1620 : BitVec 32 := 3#32
  let v6629 : BitVec 32 := Scalar.shli v6628 c3_i32_1620
  let v6630 : BitVec 32 := v6629
  let v7389 : Index := Scalar.indexCast v6630
  let c0_1791 : Index := 0#32
  ![v7388.toNat, v7389.toNat, 0]
def k0_off671 (v6478 : BitVec 32) (v6483 : BitVec 32) (v6493 : BitVec 32) (v6536 : BitVec 32) (v6624 : BitVec 32) : Fin 3 → Nat :=
  let c199_i32_1548 : BitVec 32 := 199#32
  let c0_i32_1547 : BitVec 32 := 0#32
  let v6484 : BitVec 32 := Scalar.maxsi c0_i32_1547 v6483
  let v6485 : BitVec 32 := Scalar.minsi c199_i32_1548 v6484
  let v6537 : BitVec 32 := Scalar.addi v6485 v6536
  let c1_i32_1574 : BitVec 32 := 1#32
  let v6538 : BitVec 32 := Scalar.addi v6537 c1_i32_1574
  let c199_i32_1554 : BitVec 32 := 199#32
  let c0_i32_1553 : BitVec 32 := 0#32
  let v6494 : BitVec 32 := Scalar.maxsi c0_i32_1553 v6493
  let v6495 : BitVec 32 := Scalar.minsi c199_i32_1554 v6494
  let v6539 : BitVec 32 := Scalar.minsi v6538 v6495
  let v7392 : Index := Scalar.indexCast v6539
  let c199_i32_1545 : BitVec 32 := 199#32
  let c0_i32_1544 : BitVec 32 := 0#32
  let v6479 : BitVec 32 := Scalar.maxsi c0_i32_1544 v6478
  let v6480 : BitVec 32 := Scalar.minsi c199_i32_1545 v6479
  let v6625 : BitVec 32 := Scalar.addi v6480 v6624
  let c3_i32_1619 : BitVec 32 := 3#32
  let v6628 : BitVec 32 := Scalar.shrsi v6625 c3_i32_1619
  let c3_i32_1620 : BitVec 32 := 3#32
  let v6629 : BitVec 32 := Scalar.shli v6628 c3_i32_1620
  let v6630 : BitVec 32 := v6629
  let v7393 : Index := Scalar.indexCast v6630
  let c0_1792 : Index := 0#32
  ![v7392.toNat, v7393.toNat, 0]
def k0_off672 (k0_t1 : Fin k0_t1_loop.trips) : Fin 3 → Nat :=
  let c25_1794 : Index := 25#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c4_i32_1539 : BitVec 32 := 4#32
  let v6470 : BitVec 32 := Scalar.addi v5 c4_i32_1539
  let v7412 : Index := Scalar.indexCast v6470
  let c0_1795 : Index := 0#32
  ![25, v7412.toNat, 0]
def k0_off673 (v6478 : BitVec 32) (v6483 : BitVec 32) (v6536 : BitVec 32) (v6637 : BitVec 32) : Fin 3 → Nat :=
  let c199_i32_1548 : BitVec 32 := 199#32
  let c0_i32_1547 : BitVec 32 := 0#32
  let v6484 : BitVec 32 := Scalar.maxsi c0_i32_1547 v6483
  let v6485 : BitVec 32 := Scalar.minsi c199_i32_1548 v6484
  let v6537 : BitVec 32 := Scalar.addi v6485 v6536
  let v7417 : Index := Scalar.indexCast v6537
  let c199_i32_1545 : BitVec 32 := 199#32
  let c0_i32_1544 : BitVec 32 := 0#32
  let v6479 : BitVec 32 := Scalar.maxsi c0_i32_1544 v6478
  let v6480 : BitVec 32 := Scalar.minsi c199_i32_1545 v6479
  let v6638 : BitVec 32 := Scalar.addi v6480 v6637
  let c3_i32_1626 : BitVec 32 := 3#32
  let v6641 : BitVec 32 := Scalar.shrsi v6638 c3_i32_1626
  let c3_i32_1627 : BitVec 32 := 3#32
  let v6642 : BitVec 32 := Scalar.shli v6641 c3_i32_1627
  let v6643 : BitVec 32 := v6642
  let v7418 : Index := Scalar.indexCast v6643
  let c0_1797 : Index := 0#32
  ![v7417.toNat, v7418.toNat, 0]
def k0_off674 (v6478 : BitVec 32) (v6483 : BitVec 32) (v6493 : BitVec 32) (v6536 : BitVec 32) (v6637 : BitVec 32) : Fin 3 → Nat :=
  let c199_i32_1548 : BitVec 32 := 199#32
  let c0_i32_1547 : BitVec 32 := 0#32
  let v6484 : BitVec 32 := Scalar.maxsi c0_i32_1547 v6483
  let v6485 : BitVec 32 := Scalar.minsi c199_i32_1548 v6484
  let v6537 : BitVec 32 := Scalar.addi v6485 v6536
  let c1_i32_1574 : BitVec 32 := 1#32
  let v6538 : BitVec 32 := Scalar.addi v6537 c1_i32_1574
  let c199_i32_1554 : BitVec 32 := 199#32
  let c0_i32_1553 : BitVec 32 := 0#32
  let v6494 : BitVec 32 := Scalar.maxsi c0_i32_1553 v6493
  let v6495 : BitVec 32 := Scalar.minsi c199_i32_1554 v6494
  let v6539 : BitVec 32 := Scalar.minsi v6538 v6495
  let v7421 : Index := Scalar.indexCast v6539
  let c199_i32_1545 : BitVec 32 := 199#32
  let c0_i32_1544 : BitVec 32 := 0#32
  let v6479 : BitVec 32 := Scalar.maxsi c0_i32_1544 v6478
  let v6480 : BitVec 32 := Scalar.minsi c199_i32_1545 v6479
  let v6638 : BitVec 32 := Scalar.addi v6480 v6637
  let c3_i32_1626 : BitVec 32 := 3#32
  let v6641 : BitVec 32 := Scalar.shrsi v6638 c3_i32_1626
  let c3_i32_1627 : BitVec 32 := 3#32
  let v6642 : BitVec 32 := Scalar.shli v6641 c3_i32_1627
  let v6643 : BitVec 32 := v6642
  let v7422 : Index := Scalar.indexCast v6643
  let c0_1798 : Index := 0#32
  ![v7421.toNat, v7422.toNat, 0]
def k0_off675 (k0_t1 : Fin k0_t1_loop.trips) : Fin 3 → Nat :=
  let c26_1800 : Index := 26#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c4_i32_1539 : BitVec 32 := 4#32
  let v6470 : BitVec 32 := Scalar.addi v5 c4_i32_1539
  let v7441 : Index := Scalar.indexCast v6470
  let c0_1801 : Index := 0#32
  ![26, v7441.toNat, 0]
def k0_off676 (v6478 : BitVec 32) (v6483 : BitVec 32) (v6536 : BitVec 32) (v6650 : BitVec 32) : Fin 3 → Nat :=
  let c199_i32_1548 : BitVec 32 := 199#32
  let c0_i32_1547 : BitVec 32 := 0#32
  let v6484 : BitVec 32 := Scalar.maxsi c0_i32_1547 v6483
  let v6485 : BitVec 32 := Scalar.minsi c199_i32_1548 v6484
  let v6537 : BitVec 32 := Scalar.addi v6485 v6536
  let v7446 : Index := Scalar.indexCast v6537
  let c199_i32_1545 : BitVec 32 := 199#32
  let c0_i32_1544 : BitVec 32 := 0#32
  let v6479 : BitVec 32 := Scalar.maxsi c0_i32_1544 v6478
  let v6480 : BitVec 32 := Scalar.minsi c199_i32_1545 v6479
  let v6651 : BitVec 32 := Scalar.addi v6480 v6650
  let c3_i32_1633 : BitVec 32 := 3#32
  let v6654 : BitVec 32 := Scalar.shrsi v6651 c3_i32_1633
  let c3_i32_1634 : BitVec 32 := 3#32
  let v6655 : BitVec 32 := Scalar.shli v6654 c3_i32_1634
  let v6656 : BitVec 32 := v6655
  let v7447 : Index := Scalar.indexCast v6656
  let c0_1803 : Index := 0#32
  ![v7446.toNat, v7447.toNat, 0]
def k0_off677 (v6478 : BitVec 32) (v6483 : BitVec 32) (v6493 : BitVec 32) (v6536 : BitVec 32) (v6650 : BitVec 32) : Fin 3 → Nat :=
  let c199_i32_1548 : BitVec 32 := 199#32
  let c0_i32_1547 : BitVec 32 := 0#32
  let v6484 : BitVec 32 := Scalar.maxsi c0_i32_1547 v6483
  let v6485 : BitVec 32 := Scalar.minsi c199_i32_1548 v6484
  let v6537 : BitVec 32 := Scalar.addi v6485 v6536
  let c1_i32_1574 : BitVec 32 := 1#32
  let v6538 : BitVec 32 := Scalar.addi v6537 c1_i32_1574
  let c199_i32_1554 : BitVec 32 := 199#32
  let c0_i32_1553 : BitVec 32 := 0#32
  let v6494 : BitVec 32 := Scalar.maxsi c0_i32_1553 v6493
  let v6495 : BitVec 32 := Scalar.minsi c199_i32_1554 v6494
  let v6539 : BitVec 32 := Scalar.minsi v6538 v6495
  let v7450 : Index := Scalar.indexCast v6539
  let c199_i32_1545 : BitVec 32 := 199#32
  let c0_i32_1544 : BitVec 32 := 0#32
  let v6479 : BitVec 32 := Scalar.maxsi c0_i32_1544 v6478
  let v6480 : BitVec 32 := Scalar.minsi c199_i32_1545 v6479
  let v6651 : BitVec 32 := Scalar.addi v6480 v6650
  let c3_i32_1633 : BitVec 32 := 3#32
  let v6654 : BitVec 32 := Scalar.shrsi v6651 c3_i32_1633
  let c3_i32_1634 : BitVec 32 := 3#32
  let v6655 : BitVec 32 := Scalar.shli v6654 c3_i32_1634
  let v6656 : BitVec 32 := v6655
  let v7451 : Index := Scalar.indexCast v6656
  let c0_1804 : Index := 0#32
  ![v7450.toNat, v7451.toNat, 0]
def k0_off678 (k0_t1 : Fin k0_t1_loop.trips) : Fin 3 → Nat :=
  let c27_1806 : Index := 27#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c4_i32_1539 : BitVec 32 := 4#32
  let v6470 : BitVec 32 := Scalar.addi v5 c4_i32_1539
  let v7470 : Index := Scalar.indexCast v6470
  let c0_1807 : Index := 0#32
  ![27, v7470.toNat, 0]
def k0_off679 (v6478 : BitVec 32) (v6483 : BitVec 32) (v6545 : BitVec 32) (v6572 : BitVec 32) : Fin 3 → Nat :=
  let c199_i32_1548 : BitVec 32 := 199#32
  let c0_i32_1547 : BitVec 32 := 0#32
  let v6484 : BitVec 32 := Scalar.maxsi c0_i32_1547 v6483
  let v6485 : BitVec 32 := Scalar.minsi c199_i32_1548 v6484
  let v6546 : BitVec 32 := Scalar.addi v6485 v6545
  let v7476 : Index := Scalar.indexCast v6546
  let c199_i32_1545 : BitVec 32 := 199#32
  let c0_i32_1544 : BitVec 32 := 0#32
  let v6479 : BitVec 32 := Scalar.maxsi c0_i32_1544 v6478
  let v6480 : BitVec 32 := Scalar.minsi c199_i32_1545 v6479
  let v6573 : BitVec 32 := Scalar.addi v6480 v6572
  let c3_i32_1591 : BitVec 32 := 3#32
  let v6576 : BitVec 32 := Scalar.shrsi v6573 c3_i32_1591
  let c3_i32_1592 : BitVec 32 := 3#32
  let v6577 : BitVec 32 := Scalar.shli v6576 c3_i32_1592
  let v6578 : BitVec 32 := v6577
  let v7477 : Index := Scalar.indexCast v6578
  let c0_1810 : Index := 0#32
  ![v7476.toNat, v7477.toNat, 0]
def k0_off680 (v6478 : BitVec 32) (v6483 : BitVec 32) (v6493 : BitVec 32) (v6545 : BitVec 32) (v6572 : BitVec 32) : Fin 3 → Nat :=
  let c199_i32_1548 : BitVec 32 := 199#32
  let c0_i32_1547 : BitVec 32 := 0#32
  let v6484 : BitVec 32 := Scalar.maxsi c0_i32_1547 v6483
  let v6485 : BitVec 32 := Scalar.minsi c199_i32_1548 v6484
  let v6546 : BitVec 32 := Scalar.addi v6485 v6545
  let c1_i32_1578 : BitVec 32 := 1#32
  let v6547 : BitVec 32 := Scalar.addi v6546 c1_i32_1578
  let c199_i32_1554 : BitVec 32 := 199#32
  let c0_i32_1553 : BitVec 32 := 0#32
  let v6494 : BitVec 32 := Scalar.maxsi c0_i32_1553 v6493
  let v6495 : BitVec 32 := Scalar.minsi c199_i32_1554 v6494
  let v6548 : BitVec 32 := Scalar.minsi v6547 v6495
  let v7480 : Index := Scalar.indexCast v6548
  let c199_i32_1545 : BitVec 32 := 199#32
  let c0_i32_1544 : BitVec 32 := 0#32
  let v6479 : BitVec 32 := Scalar.maxsi c0_i32_1544 v6478
  let v6480 : BitVec 32 := Scalar.minsi c199_i32_1545 v6479
  let v6573 : BitVec 32 := Scalar.addi v6480 v6572
  let c3_i32_1591 : BitVec 32 := 3#32
  let v6576 : BitVec 32 := Scalar.shrsi v6573 c3_i32_1591
  let c3_i32_1592 : BitVec 32 := 3#32
  let v6577 : BitVec 32 := Scalar.shli v6576 c3_i32_1592
  let v6578 : BitVec 32 := v6577
  let v7481 : Index := Scalar.indexCast v6578
  let c0_1811 : Index := 0#32
  ![v7480.toNat, v7481.toNat, 0]
def k0_off681 (k0_t1 : Fin k0_t1_loop.trips) : Fin 3 → Nat :=
  let c28_1813 : Index := 28#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c4_i32_1539 : BitVec 32 := 4#32
  let v6470 : BitVec 32 := Scalar.addi v5 c4_i32_1539
  let v7500 : Index := Scalar.indexCast v6470
  let c0_1814 : Index := 0#32
  ![28, v7500.toNat, 0]
def k0_off682 (v6478 : BitVec 32) (v6483 : BitVec 32) (v6545 : BitVec 32) (v6585 : BitVec 32) : Fin 3 → Nat :=
  let c199_i32_1548 : BitVec 32 := 199#32
  let c0_i32_1547 : BitVec 32 := 0#32
  let v6484 : BitVec 32 := Scalar.maxsi c0_i32_1547 v6483
  let v6485 : BitVec 32 := Scalar.minsi c199_i32_1548 v6484
  let v6546 : BitVec 32 := Scalar.addi v6485 v6545
  let v7505 : Index := Scalar.indexCast v6546
  let c199_i32_1545 : BitVec 32 := 199#32
  let c0_i32_1544 : BitVec 32 := 0#32
  let v6479 : BitVec 32 := Scalar.maxsi c0_i32_1544 v6478
  let v6480 : BitVec 32 := Scalar.minsi c199_i32_1545 v6479
  let v6586 : BitVec 32 := Scalar.addi v6480 v6585
  let c3_i32_1598 : BitVec 32 := 3#32
  let v6589 : BitVec 32 := Scalar.shrsi v6586 c3_i32_1598
  let c3_i32_1599 : BitVec 32 := 3#32
  let v6590 : BitVec 32 := Scalar.shli v6589 c3_i32_1599
  let v6591 : BitVec 32 := v6590
  let v7506 : Index := Scalar.indexCast v6591
  let c0_1816 : Index := 0#32
  ![v7505.toNat, v7506.toNat, 0]
def k0_off683 (v6478 : BitVec 32) (v6483 : BitVec 32) (v6493 : BitVec 32) (v6545 : BitVec 32) (v6585 : BitVec 32) : Fin 3 → Nat :=
  let c199_i32_1548 : BitVec 32 := 199#32
  let c0_i32_1547 : BitVec 32 := 0#32
  let v6484 : BitVec 32 := Scalar.maxsi c0_i32_1547 v6483
  let v6485 : BitVec 32 := Scalar.minsi c199_i32_1548 v6484
  let v6546 : BitVec 32 := Scalar.addi v6485 v6545
  let c1_i32_1578 : BitVec 32 := 1#32
  let v6547 : BitVec 32 := Scalar.addi v6546 c1_i32_1578
  let c199_i32_1554 : BitVec 32 := 199#32
  let c0_i32_1553 : BitVec 32 := 0#32
  let v6494 : BitVec 32 := Scalar.maxsi c0_i32_1553 v6493
  let v6495 : BitVec 32 := Scalar.minsi c199_i32_1554 v6494
  let v6548 : BitVec 32 := Scalar.minsi v6547 v6495
  let v7509 : Index := Scalar.indexCast v6548
  let c199_i32_1545 : BitVec 32 := 199#32
  let c0_i32_1544 : BitVec 32 := 0#32
  let v6479 : BitVec 32 := Scalar.maxsi c0_i32_1544 v6478
  let v6480 : BitVec 32 := Scalar.minsi c199_i32_1545 v6479
  let v6586 : BitVec 32 := Scalar.addi v6480 v6585
  let c3_i32_1598 : BitVec 32 := 3#32
  let v6589 : BitVec 32 := Scalar.shrsi v6586 c3_i32_1598
  let c3_i32_1599 : BitVec 32 := 3#32
  let v6590 : BitVec 32 := Scalar.shli v6589 c3_i32_1599
  let v6591 : BitVec 32 := v6590
  let v7510 : Index := Scalar.indexCast v6591
  let c0_1817 : Index := 0#32
  ![v7509.toNat, v7510.toNat, 0]
def k0_off684 (k0_t1 : Fin k0_t1_loop.trips) : Fin 3 → Nat :=
  let c29_1819 : Index := 29#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c4_i32_1539 : BitVec 32 := 4#32
  let v6470 : BitVec 32 := Scalar.addi v5 c4_i32_1539
  let v7529 : Index := Scalar.indexCast v6470
  let c0_1820 : Index := 0#32
  ![29, v7529.toNat, 0]
def k0_off685 (v6478 : BitVec 32) (v6483 : BitVec 32) (v6545 : BitVec 32) (v6598 : BitVec 32) : Fin 3 → Nat :=
  let c199_i32_1548 : BitVec 32 := 199#32
  let c0_i32_1547 : BitVec 32 := 0#32
  let v6484 : BitVec 32 := Scalar.maxsi c0_i32_1547 v6483
  let v6485 : BitVec 32 := Scalar.minsi c199_i32_1548 v6484
  let v6546 : BitVec 32 := Scalar.addi v6485 v6545
  let v7534 : Index := Scalar.indexCast v6546
  let c199_i32_1545 : BitVec 32 := 199#32
  let c0_i32_1544 : BitVec 32 := 0#32
  let v6479 : BitVec 32 := Scalar.maxsi c0_i32_1544 v6478
  let v6480 : BitVec 32 := Scalar.minsi c199_i32_1545 v6479
  let v6599 : BitVec 32 := Scalar.addi v6480 v6598
  let c3_i32_1605 : BitVec 32 := 3#32
  let v6602 : BitVec 32 := Scalar.shrsi v6599 c3_i32_1605
  let c3_i32_1606 : BitVec 32 := 3#32
  let v6603 : BitVec 32 := Scalar.shli v6602 c3_i32_1606
  let v6604 : BitVec 32 := v6603
  let v7535 : Index := Scalar.indexCast v6604
  let c0_1822 : Index := 0#32
  ![v7534.toNat, v7535.toNat, 0]
def k0_off686 (v6478 : BitVec 32) (v6483 : BitVec 32) (v6493 : BitVec 32) (v6545 : BitVec 32) (v6598 : BitVec 32) : Fin 3 → Nat :=
  let c199_i32_1548 : BitVec 32 := 199#32
  let c0_i32_1547 : BitVec 32 := 0#32
  let v6484 : BitVec 32 := Scalar.maxsi c0_i32_1547 v6483
  let v6485 : BitVec 32 := Scalar.minsi c199_i32_1548 v6484
  let v6546 : BitVec 32 := Scalar.addi v6485 v6545
  let c1_i32_1578 : BitVec 32 := 1#32
  let v6547 : BitVec 32 := Scalar.addi v6546 c1_i32_1578
  let c199_i32_1554 : BitVec 32 := 199#32
  let c0_i32_1553 : BitVec 32 := 0#32
  let v6494 : BitVec 32 := Scalar.maxsi c0_i32_1553 v6493
  let v6495 : BitVec 32 := Scalar.minsi c199_i32_1554 v6494
  let v6548 : BitVec 32 := Scalar.minsi v6547 v6495
  let v7538 : Index := Scalar.indexCast v6548
  let c199_i32_1545 : BitVec 32 := 199#32
  let c0_i32_1544 : BitVec 32 := 0#32
  let v6479 : BitVec 32 := Scalar.maxsi c0_i32_1544 v6478
  let v6480 : BitVec 32 := Scalar.minsi c199_i32_1545 v6479
  let v6599 : BitVec 32 := Scalar.addi v6480 v6598
  let c3_i32_1605 : BitVec 32 := 3#32
  let v6602 : BitVec 32 := Scalar.shrsi v6599 c3_i32_1605
  let c3_i32_1606 : BitVec 32 := 3#32
  let v6603 : BitVec 32 := Scalar.shli v6602 c3_i32_1606
  let v6604 : BitVec 32 := v6603
  let v7539 : Index := Scalar.indexCast v6604
  let c0_1823 : Index := 0#32
  ![v7538.toNat, v7539.toNat, 0]
def k0_off687 (k0_t1 : Fin k0_t1_loop.trips) : Fin 3 → Nat :=
  let c30_1825 : Index := 30#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c4_i32_1539 : BitVec 32 := 4#32
  let v6470 : BitVec 32 := Scalar.addi v5 c4_i32_1539
  let v7558 : Index := Scalar.indexCast v6470
  let c0_1826 : Index := 0#32
  ![30, v7558.toNat, 0]
def k0_off688 (v6478 : BitVec 32) (v6483 : BitVec 32) (v6545 : BitVec 32) (v6611 : BitVec 32) : Fin 3 → Nat :=
  let c199_i32_1548 : BitVec 32 := 199#32
  let c0_i32_1547 : BitVec 32 := 0#32
  let v6484 : BitVec 32 := Scalar.maxsi c0_i32_1547 v6483
  let v6485 : BitVec 32 := Scalar.minsi c199_i32_1548 v6484
  let v6546 : BitVec 32 := Scalar.addi v6485 v6545
  let v7563 : Index := Scalar.indexCast v6546
  let c199_i32_1545 : BitVec 32 := 199#32
  let c0_i32_1544 : BitVec 32 := 0#32
  let v6479 : BitVec 32 := Scalar.maxsi c0_i32_1544 v6478
  let v6480 : BitVec 32 := Scalar.minsi c199_i32_1545 v6479
  let v6612 : BitVec 32 := Scalar.addi v6480 v6611
  let c3_i32_1612 : BitVec 32 := 3#32
  let v6615 : BitVec 32 := Scalar.shrsi v6612 c3_i32_1612
  let c3_i32_1613 : BitVec 32 := 3#32
  let v6616 : BitVec 32 := Scalar.shli v6615 c3_i32_1613
  let v6617 : BitVec 32 := v6616
  let v7564 : Index := Scalar.indexCast v6617
  let c0_1828 : Index := 0#32
  ![v7563.toNat, v7564.toNat, 0]
def k0_off689 (v6478 : BitVec 32) (v6483 : BitVec 32) (v6493 : BitVec 32) (v6545 : BitVec 32) (v6611 : BitVec 32) : Fin 3 → Nat :=
  let c199_i32_1548 : BitVec 32 := 199#32
  let c0_i32_1547 : BitVec 32 := 0#32
  let v6484 : BitVec 32 := Scalar.maxsi c0_i32_1547 v6483
  let v6485 : BitVec 32 := Scalar.minsi c199_i32_1548 v6484
  let v6546 : BitVec 32 := Scalar.addi v6485 v6545
  let c1_i32_1578 : BitVec 32 := 1#32
  let v6547 : BitVec 32 := Scalar.addi v6546 c1_i32_1578
  let c199_i32_1554 : BitVec 32 := 199#32
  let c0_i32_1553 : BitVec 32 := 0#32
  let v6494 : BitVec 32 := Scalar.maxsi c0_i32_1553 v6493
  let v6495 : BitVec 32 := Scalar.minsi c199_i32_1554 v6494
  let v6548 : BitVec 32 := Scalar.minsi v6547 v6495
  let v7567 : Index := Scalar.indexCast v6548
  let c199_i32_1545 : BitVec 32 := 199#32
  let c0_i32_1544 : BitVec 32 := 0#32
  let v6479 : BitVec 32 := Scalar.maxsi c0_i32_1544 v6478
  let v6480 : BitVec 32 := Scalar.minsi c199_i32_1545 v6479
  let v6612 : BitVec 32 := Scalar.addi v6480 v6611
  let c3_i32_1612 : BitVec 32 := 3#32
  let v6615 : BitVec 32 := Scalar.shrsi v6612 c3_i32_1612
  let c3_i32_1613 : BitVec 32 := 3#32
  let v6616 : BitVec 32 := Scalar.shli v6615 c3_i32_1613
  let v6617 : BitVec 32 := v6616
  let v7568 : Index := Scalar.indexCast v6617
  let c0_1829 : Index := 0#32
  ![v7567.toNat, v7568.toNat, 0]
def k0_off690 (k0_t1 : Fin k0_t1_loop.trips) : Fin 3 → Nat :=
  let c31_1831 : Index := 31#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c4_i32_1539 : BitVec 32 := 4#32
  let v6470 : BitVec 32 := Scalar.addi v5 c4_i32_1539
  let v7587 : Index := Scalar.indexCast v6470
  let c0_1832 : Index := 0#32
  ![31, v7587.toNat, 0]
def k0_off691 (v6478 : BitVec 32) (v6483 : BitVec 32) (v6545 : BitVec 32) (v6624 : BitVec 32) : Fin 3 → Nat :=
  let c199_i32_1548 : BitVec 32 := 199#32
  let c0_i32_1547 : BitVec 32 := 0#32
  let v6484 : BitVec 32 := Scalar.maxsi c0_i32_1547 v6483
  let v6485 : BitVec 32 := Scalar.minsi c199_i32_1548 v6484
  let v6546 : BitVec 32 := Scalar.addi v6485 v6545
  let v7592 : Index := Scalar.indexCast v6546
  let c199_i32_1545 : BitVec 32 := 199#32
  let c0_i32_1544 : BitVec 32 := 0#32
  let v6479 : BitVec 32 := Scalar.maxsi c0_i32_1544 v6478
  let v6480 : BitVec 32 := Scalar.minsi c199_i32_1545 v6479
  let v6625 : BitVec 32 := Scalar.addi v6480 v6624
  let c3_i32_1619 : BitVec 32 := 3#32
  let v6628 : BitVec 32 := Scalar.shrsi v6625 c3_i32_1619
  let c3_i32_1620 : BitVec 32 := 3#32
  let v6629 : BitVec 32 := Scalar.shli v6628 c3_i32_1620
  let v6630 : BitVec 32 := v6629
  let v7593 : Index := Scalar.indexCast v6630
  let c0_1834 : Index := 0#32
  ![v7592.toNat, v7593.toNat, 0]
def k0_off692 (v6478 : BitVec 32) (v6483 : BitVec 32) (v6493 : BitVec 32) (v6545 : BitVec 32) (v6624 : BitVec 32) : Fin 3 → Nat :=
  let c199_i32_1548 : BitVec 32 := 199#32
  let c0_i32_1547 : BitVec 32 := 0#32
  let v6484 : BitVec 32 := Scalar.maxsi c0_i32_1547 v6483
  let v6485 : BitVec 32 := Scalar.minsi c199_i32_1548 v6484
  let v6546 : BitVec 32 := Scalar.addi v6485 v6545
  let c1_i32_1578 : BitVec 32 := 1#32
  let v6547 : BitVec 32 := Scalar.addi v6546 c1_i32_1578
  let c199_i32_1554 : BitVec 32 := 199#32
  let c0_i32_1553 : BitVec 32 := 0#32
  let v6494 : BitVec 32 := Scalar.maxsi c0_i32_1553 v6493
  let v6495 : BitVec 32 := Scalar.minsi c199_i32_1554 v6494
  let v6548 : BitVec 32 := Scalar.minsi v6547 v6495
  let v7596 : Index := Scalar.indexCast v6548
  let c199_i32_1545 : BitVec 32 := 199#32
  let c0_i32_1544 : BitVec 32 := 0#32
  let v6479 : BitVec 32 := Scalar.maxsi c0_i32_1544 v6478
  let v6480 : BitVec 32 := Scalar.minsi c199_i32_1545 v6479
  let v6625 : BitVec 32 := Scalar.addi v6480 v6624
  let c3_i32_1619 : BitVec 32 := 3#32
  let v6628 : BitVec 32 := Scalar.shrsi v6625 c3_i32_1619
  let c3_i32_1620 : BitVec 32 := 3#32
  let v6629 : BitVec 32 := Scalar.shli v6628 c3_i32_1620
  let v6630 : BitVec 32 := v6629
  let v7597 : Index := Scalar.indexCast v6630
  let c0_1835 : Index := 0#32
  ![v7596.toNat, v7597.toNat, 0]
def k0_off693 (k0_t1 : Fin k0_t1_loop.trips) : Fin 3 → Nat :=
  let c32_1837 : Index := 32#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c4_i32_1539 : BitVec 32 := 4#32
  let v6470 : BitVec 32 := Scalar.addi v5 c4_i32_1539
  let v7616 : Index := Scalar.indexCast v6470
  let c0_1838 : Index := 0#32
  ![32, v7616.toNat, 0]
def k0_off694 (v6478 : BitVec 32) (v6483 : BitVec 32) (v6545 : BitVec 32) (v6637 : BitVec 32) : Fin 3 → Nat :=
  let c199_i32_1548 : BitVec 32 := 199#32
  let c0_i32_1547 : BitVec 32 := 0#32
  let v6484 : BitVec 32 := Scalar.maxsi c0_i32_1547 v6483
  let v6485 : BitVec 32 := Scalar.minsi c199_i32_1548 v6484
  let v6546 : BitVec 32 := Scalar.addi v6485 v6545
  let v7621 : Index := Scalar.indexCast v6546
  let c199_i32_1545 : BitVec 32 := 199#32
  let c0_i32_1544 : BitVec 32 := 0#32
  let v6479 : BitVec 32 := Scalar.maxsi c0_i32_1544 v6478
  let v6480 : BitVec 32 := Scalar.minsi c199_i32_1545 v6479
  let v6638 : BitVec 32 := Scalar.addi v6480 v6637
  let c3_i32_1626 : BitVec 32 := 3#32
  let v6641 : BitVec 32 := Scalar.shrsi v6638 c3_i32_1626
  let c3_i32_1627 : BitVec 32 := 3#32
  let v6642 : BitVec 32 := Scalar.shli v6641 c3_i32_1627
  let v6643 : BitVec 32 := v6642
  let v7622 : Index := Scalar.indexCast v6643
  let c0_1840 : Index := 0#32
  ![v7621.toNat, v7622.toNat, 0]
def k0_off695 (v6478 : BitVec 32) (v6483 : BitVec 32) (v6493 : BitVec 32) (v6545 : BitVec 32) (v6637 : BitVec 32) : Fin 3 → Nat :=
  let c199_i32_1548 : BitVec 32 := 199#32
  let c0_i32_1547 : BitVec 32 := 0#32
  let v6484 : BitVec 32 := Scalar.maxsi c0_i32_1547 v6483
  let v6485 : BitVec 32 := Scalar.minsi c199_i32_1548 v6484
  let v6546 : BitVec 32 := Scalar.addi v6485 v6545
  let c1_i32_1578 : BitVec 32 := 1#32
  let v6547 : BitVec 32 := Scalar.addi v6546 c1_i32_1578
  let c199_i32_1554 : BitVec 32 := 199#32
  let c0_i32_1553 : BitVec 32 := 0#32
  let v6494 : BitVec 32 := Scalar.maxsi c0_i32_1553 v6493
  let v6495 : BitVec 32 := Scalar.minsi c199_i32_1554 v6494
  let v6548 : BitVec 32 := Scalar.minsi v6547 v6495
  let v7625 : Index := Scalar.indexCast v6548
  let c199_i32_1545 : BitVec 32 := 199#32
  let c0_i32_1544 : BitVec 32 := 0#32
  let v6479 : BitVec 32 := Scalar.maxsi c0_i32_1544 v6478
  let v6480 : BitVec 32 := Scalar.minsi c199_i32_1545 v6479
  let v6638 : BitVec 32 := Scalar.addi v6480 v6637
  let c3_i32_1626 : BitVec 32 := 3#32
  let v6641 : BitVec 32 := Scalar.shrsi v6638 c3_i32_1626
  let c3_i32_1627 : BitVec 32 := 3#32
  let v6642 : BitVec 32 := Scalar.shli v6641 c3_i32_1627
  let v6643 : BitVec 32 := v6642
  let v7626 : Index := Scalar.indexCast v6643
  let c0_1841 : Index := 0#32
  ![v7625.toNat, v7626.toNat, 0]
def k0_off696 (k0_t1 : Fin k0_t1_loop.trips) : Fin 3 → Nat :=
  let c33_1843 : Index := 33#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c4_i32_1539 : BitVec 32 := 4#32
  let v6470 : BitVec 32 := Scalar.addi v5 c4_i32_1539
  let v7645 : Index := Scalar.indexCast v6470
  let c0_1844 : Index := 0#32
  ![33, v7645.toNat, 0]
def k0_off697 (v6478 : BitVec 32) (v6483 : BitVec 32) (v6545 : BitVec 32) (v6650 : BitVec 32) : Fin 3 → Nat :=
  let c199_i32_1548 : BitVec 32 := 199#32
  let c0_i32_1547 : BitVec 32 := 0#32
  let v6484 : BitVec 32 := Scalar.maxsi c0_i32_1547 v6483
  let v6485 : BitVec 32 := Scalar.minsi c199_i32_1548 v6484
  let v6546 : BitVec 32 := Scalar.addi v6485 v6545
  let v7650 : Index := Scalar.indexCast v6546
  let c199_i32_1545 : BitVec 32 := 199#32
  let c0_i32_1544 : BitVec 32 := 0#32
  let v6479 : BitVec 32 := Scalar.maxsi c0_i32_1544 v6478
  let v6480 : BitVec 32 := Scalar.minsi c199_i32_1545 v6479
  let v6651 : BitVec 32 := Scalar.addi v6480 v6650
  let c3_i32_1633 : BitVec 32 := 3#32
  let v6654 : BitVec 32 := Scalar.shrsi v6651 c3_i32_1633
  let c3_i32_1634 : BitVec 32 := 3#32
  let v6655 : BitVec 32 := Scalar.shli v6654 c3_i32_1634
  let v6656 : BitVec 32 := v6655
  let v7651 : Index := Scalar.indexCast v6656
  let c0_1846 : Index := 0#32
  ![v7650.toNat, v7651.toNat, 0]
def k0_off698 (v6478 : BitVec 32) (v6483 : BitVec 32) (v6493 : BitVec 32) (v6545 : BitVec 32) (v6650 : BitVec 32) : Fin 3 → Nat :=
  let c199_i32_1548 : BitVec 32 := 199#32
  let c0_i32_1547 : BitVec 32 := 0#32
  let v6484 : BitVec 32 := Scalar.maxsi c0_i32_1547 v6483
  let v6485 : BitVec 32 := Scalar.minsi c199_i32_1548 v6484
  let v6546 : BitVec 32 := Scalar.addi v6485 v6545
  let c1_i32_1578 : BitVec 32 := 1#32
  let v6547 : BitVec 32 := Scalar.addi v6546 c1_i32_1578
  let c199_i32_1554 : BitVec 32 := 199#32
  let c0_i32_1553 : BitVec 32 := 0#32
  let v6494 : BitVec 32 := Scalar.maxsi c0_i32_1553 v6493
  let v6495 : BitVec 32 := Scalar.minsi c199_i32_1554 v6494
  let v6548 : BitVec 32 := Scalar.minsi v6547 v6495
  let v7654 : Index := Scalar.indexCast v6548
  let c199_i32_1545 : BitVec 32 := 199#32
  let c0_i32_1544 : BitVec 32 := 0#32
  let v6479 : BitVec 32 := Scalar.maxsi c0_i32_1544 v6478
  let v6480 : BitVec 32 := Scalar.minsi c199_i32_1545 v6479
  let v6651 : BitVec 32 := Scalar.addi v6480 v6650
  let c3_i32_1633 : BitVec 32 := 3#32
  let v6654 : BitVec 32 := Scalar.shrsi v6651 c3_i32_1633
  let c3_i32_1634 : BitVec 32 := 3#32
  let v6655 : BitVec 32 := Scalar.shli v6654 c3_i32_1634
  let v6656 : BitVec 32 := v6655
  let v7655 : Index := Scalar.indexCast v6656
  let c0_1847 : Index := 0#32
  ![v7654.toNat, v7655.toNat, 0]
def k0_off699 (k0_t1 : Fin k0_t1_loop.trips) : Fin 3 → Nat :=
  let c34_1849 : Index := 34#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c4_i32_1539 : BitVec 32 := 4#32
  let v6470 : BitVec 32 := Scalar.addi v5 c4_i32_1539
  let v7674 : Index := Scalar.indexCast v6470
  let c0_1850 : Index := 0#32
  ![34, v7674.toNat, 0]
def k0_off700 (v6478 : BitVec 32) (v6483 : BitVec 32) (v6554 : BitVec 32) (v6572 : BitVec 32) : Fin 3 → Nat :=
  let c199_i32_1548 : BitVec 32 := 199#32
  let c0_i32_1547 : BitVec 32 := 0#32
  let v6484 : BitVec 32 := Scalar.maxsi c0_i32_1547 v6483
  let v6485 : BitVec 32 := Scalar.minsi c199_i32_1548 v6484
  let v6555 : BitVec 32 := Scalar.addi v6485 v6554
  let v7680 : Index := Scalar.indexCast v6555
  let c199_i32_1545 : BitVec 32 := 199#32
  let c0_i32_1544 : BitVec 32 := 0#32
  let v6479 : BitVec 32 := Scalar.maxsi c0_i32_1544 v6478
  let v6480 : BitVec 32 := Scalar.minsi c199_i32_1545 v6479
  let v6573 : BitVec 32 := Scalar.addi v6480 v6572
  let c3_i32_1591 : BitVec 32 := 3#32
  let v6576 : BitVec 32 := Scalar.shrsi v6573 c3_i32_1591
  let c3_i32_1592 : BitVec 32 := 3#32
  let v6577 : BitVec 32 := Scalar.shli v6576 c3_i32_1592
  let v6578 : BitVec 32 := v6577
  let v7681 : Index := Scalar.indexCast v6578
  let c0_1853 : Index := 0#32
  ![v7680.toNat, v7681.toNat, 0]
def k0_off701 (v6478 : BitVec 32) (v6483 : BitVec 32) (v6493 : BitVec 32) (v6554 : BitVec 32) (v6572 : BitVec 32) : Fin 3 → Nat :=
  let c199_i32_1548 : BitVec 32 := 199#32
  let c0_i32_1547 : BitVec 32 := 0#32
  let v6484 : BitVec 32 := Scalar.maxsi c0_i32_1547 v6483
  let v6485 : BitVec 32 := Scalar.minsi c199_i32_1548 v6484
  let v6555 : BitVec 32 := Scalar.addi v6485 v6554
  let c1_i32_1582 : BitVec 32 := 1#32
  let v6556 : BitVec 32 := Scalar.addi v6555 c1_i32_1582
  let c199_i32_1554 : BitVec 32 := 199#32
  let c0_i32_1553 : BitVec 32 := 0#32
  let v6494 : BitVec 32 := Scalar.maxsi c0_i32_1553 v6493
  let v6495 : BitVec 32 := Scalar.minsi c199_i32_1554 v6494
  let v6557 : BitVec 32 := Scalar.minsi v6556 v6495
  let v7684 : Index := Scalar.indexCast v6557
  let c199_i32_1545 : BitVec 32 := 199#32
  let c0_i32_1544 : BitVec 32 := 0#32
  let v6479 : BitVec 32 := Scalar.maxsi c0_i32_1544 v6478
  let v6480 : BitVec 32 := Scalar.minsi c199_i32_1545 v6479
  let v6573 : BitVec 32 := Scalar.addi v6480 v6572
  let c3_i32_1591 : BitVec 32 := 3#32
  let v6576 : BitVec 32 := Scalar.shrsi v6573 c3_i32_1591
  let c3_i32_1592 : BitVec 32 := 3#32
  let v6577 : BitVec 32 := Scalar.shli v6576 c3_i32_1592
  let v6578 : BitVec 32 := v6577
  let v7685 : Index := Scalar.indexCast v6578
  let c0_1854 : Index := 0#32
  ![v7684.toNat, v7685.toNat, 0]
def k0_off702 (k0_t1 : Fin k0_t1_loop.trips) : Fin 3 → Nat :=
  let c35_1856 : Index := 35#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c4_i32_1539 : BitVec 32 := 4#32
  let v6470 : BitVec 32 := Scalar.addi v5 c4_i32_1539
  let v7704 : Index := Scalar.indexCast v6470
  let c0_1857 : Index := 0#32
  ![35, v7704.toNat, 0]
def k0_off703 (v6478 : BitVec 32) (v6483 : BitVec 32) (v6554 : BitVec 32) (v6585 : BitVec 32) : Fin 3 → Nat :=
  let c199_i32_1548 : BitVec 32 := 199#32
  let c0_i32_1547 : BitVec 32 := 0#32
  let v6484 : BitVec 32 := Scalar.maxsi c0_i32_1547 v6483
  let v6485 : BitVec 32 := Scalar.minsi c199_i32_1548 v6484
  let v6555 : BitVec 32 := Scalar.addi v6485 v6554
  let v7709 : Index := Scalar.indexCast v6555
  let c199_i32_1545 : BitVec 32 := 199#32
  let c0_i32_1544 : BitVec 32 := 0#32
  let v6479 : BitVec 32 := Scalar.maxsi c0_i32_1544 v6478
  let v6480 : BitVec 32 := Scalar.minsi c199_i32_1545 v6479
  let v6586 : BitVec 32 := Scalar.addi v6480 v6585
  let c3_i32_1598 : BitVec 32 := 3#32
  let v6589 : BitVec 32 := Scalar.shrsi v6586 c3_i32_1598
  let c3_i32_1599 : BitVec 32 := 3#32
  let v6590 : BitVec 32 := Scalar.shli v6589 c3_i32_1599
  let v6591 : BitVec 32 := v6590
  let v7710 : Index := Scalar.indexCast v6591
  let c0_1859 : Index := 0#32
  ![v7709.toNat, v7710.toNat, 0]
def k0_off704 (v6478 : BitVec 32) (v6483 : BitVec 32) (v6493 : BitVec 32) (v6554 : BitVec 32) (v6585 : BitVec 32) : Fin 3 → Nat :=
  let c199_i32_1548 : BitVec 32 := 199#32
  let c0_i32_1547 : BitVec 32 := 0#32
  let v6484 : BitVec 32 := Scalar.maxsi c0_i32_1547 v6483
  let v6485 : BitVec 32 := Scalar.minsi c199_i32_1548 v6484
  let v6555 : BitVec 32 := Scalar.addi v6485 v6554
  let c1_i32_1582 : BitVec 32 := 1#32
  let v6556 : BitVec 32 := Scalar.addi v6555 c1_i32_1582
  let c199_i32_1554 : BitVec 32 := 199#32
  let c0_i32_1553 : BitVec 32 := 0#32
  let v6494 : BitVec 32 := Scalar.maxsi c0_i32_1553 v6493
  let v6495 : BitVec 32 := Scalar.minsi c199_i32_1554 v6494
  let v6557 : BitVec 32 := Scalar.minsi v6556 v6495
  let v7713 : Index := Scalar.indexCast v6557
  let c199_i32_1545 : BitVec 32 := 199#32
  let c0_i32_1544 : BitVec 32 := 0#32
  let v6479 : BitVec 32 := Scalar.maxsi c0_i32_1544 v6478
  let v6480 : BitVec 32 := Scalar.minsi c199_i32_1545 v6479
  let v6586 : BitVec 32 := Scalar.addi v6480 v6585
  let c3_i32_1598 : BitVec 32 := 3#32
  let v6589 : BitVec 32 := Scalar.shrsi v6586 c3_i32_1598
  let c3_i32_1599 : BitVec 32 := 3#32
  let v6590 : BitVec 32 := Scalar.shli v6589 c3_i32_1599
  let v6591 : BitVec 32 := v6590
  let v7714 : Index := Scalar.indexCast v6591
  let c0_1860 : Index := 0#32
  ![v7713.toNat, v7714.toNat, 0]
def k0_off705 (k0_t1 : Fin k0_t1_loop.trips) : Fin 3 → Nat :=
  let c36_1862 : Index := 36#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c4_i32_1539 : BitVec 32 := 4#32
  let v6470 : BitVec 32 := Scalar.addi v5 c4_i32_1539
  let v7733 : Index := Scalar.indexCast v6470
  let c0_1863 : Index := 0#32
  ![36, v7733.toNat, 0]
def k0_off706 (v6478 : BitVec 32) (v6483 : BitVec 32) (v6554 : BitVec 32) (v6598 : BitVec 32) : Fin 3 → Nat :=
  let c199_i32_1548 : BitVec 32 := 199#32
  let c0_i32_1547 : BitVec 32 := 0#32
  let v6484 : BitVec 32 := Scalar.maxsi c0_i32_1547 v6483
  let v6485 : BitVec 32 := Scalar.minsi c199_i32_1548 v6484
  let v6555 : BitVec 32 := Scalar.addi v6485 v6554
  let v7738 : Index := Scalar.indexCast v6555
  let c199_i32_1545 : BitVec 32 := 199#32
  let c0_i32_1544 : BitVec 32 := 0#32
  let v6479 : BitVec 32 := Scalar.maxsi c0_i32_1544 v6478
  let v6480 : BitVec 32 := Scalar.minsi c199_i32_1545 v6479
  let v6599 : BitVec 32 := Scalar.addi v6480 v6598
  let c3_i32_1605 : BitVec 32 := 3#32
  let v6602 : BitVec 32 := Scalar.shrsi v6599 c3_i32_1605
  let c3_i32_1606 : BitVec 32 := 3#32
  let v6603 : BitVec 32 := Scalar.shli v6602 c3_i32_1606
  let v6604 : BitVec 32 := v6603
  let v7739 : Index := Scalar.indexCast v6604
  let c0_1865 : Index := 0#32
  ![v7738.toNat, v7739.toNat, 0]
def k0_off707 (v6478 : BitVec 32) (v6483 : BitVec 32) (v6493 : BitVec 32) (v6554 : BitVec 32) (v6598 : BitVec 32) : Fin 3 → Nat :=
  let c199_i32_1548 : BitVec 32 := 199#32
  let c0_i32_1547 : BitVec 32 := 0#32
  let v6484 : BitVec 32 := Scalar.maxsi c0_i32_1547 v6483
  let v6485 : BitVec 32 := Scalar.minsi c199_i32_1548 v6484
  let v6555 : BitVec 32 := Scalar.addi v6485 v6554
  let c1_i32_1582 : BitVec 32 := 1#32
  let v6556 : BitVec 32 := Scalar.addi v6555 c1_i32_1582
  let c199_i32_1554 : BitVec 32 := 199#32
  let c0_i32_1553 : BitVec 32 := 0#32
  let v6494 : BitVec 32 := Scalar.maxsi c0_i32_1553 v6493
  let v6495 : BitVec 32 := Scalar.minsi c199_i32_1554 v6494
  let v6557 : BitVec 32 := Scalar.minsi v6556 v6495
  let v7742 : Index := Scalar.indexCast v6557
  let c199_i32_1545 : BitVec 32 := 199#32
  let c0_i32_1544 : BitVec 32 := 0#32
  let v6479 : BitVec 32 := Scalar.maxsi c0_i32_1544 v6478
  let v6480 : BitVec 32 := Scalar.minsi c199_i32_1545 v6479
  let v6599 : BitVec 32 := Scalar.addi v6480 v6598
  let c3_i32_1605 : BitVec 32 := 3#32
  let v6602 : BitVec 32 := Scalar.shrsi v6599 c3_i32_1605
  let c3_i32_1606 : BitVec 32 := 3#32
  let v6603 : BitVec 32 := Scalar.shli v6602 c3_i32_1606
  let v6604 : BitVec 32 := v6603
  let v7743 : Index := Scalar.indexCast v6604
  let c0_1866 : Index := 0#32
  ![v7742.toNat, v7743.toNat, 0]
def k0_off708 (k0_t1 : Fin k0_t1_loop.trips) : Fin 3 → Nat :=
  let c37_1868 : Index := 37#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c4_i32_1539 : BitVec 32 := 4#32
  let v6470 : BitVec 32 := Scalar.addi v5 c4_i32_1539
  let v7762 : Index := Scalar.indexCast v6470
  let c0_1869 : Index := 0#32
  ![37, v7762.toNat, 0]
def k0_off709 (v6478 : BitVec 32) (v6483 : BitVec 32) (v6554 : BitVec 32) (v6611 : BitVec 32) : Fin 3 → Nat :=
  let c199_i32_1548 : BitVec 32 := 199#32
  let c0_i32_1547 : BitVec 32 := 0#32
  let v6484 : BitVec 32 := Scalar.maxsi c0_i32_1547 v6483
  let v6485 : BitVec 32 := Scalar.minsi c199_i32_1548 v6484
  let v6555 : BitVec 32 := Scalar.addi v6485 v6554
  let v7767 : Index := Scalar.indexCast v6555
  let c199_i32_1545 : BitVec 32 := 199#32
  let c0_i32_1544 : BitVec 32 := 0#32
  let v6479 : BitVec 32 := Scalar.maxsi c0_i32_1544 v6478
  let v6480 : BitVec 32 := Scalar.minsi c199_i32_1545 v6479
  let v6612 : BitVec 32 := Scalar.addi v6480 v6611
  let c3_i32_1612 : BitVec 32 := 3#32
  let v6615 : BitVec 32 := Scalar.shrsi v6612 c3_i32_1612
  let c3_i32_1613 : BitVec 32 := 3#32
  let v6616 : BitVec 32 := Scalar.shli v6615 c3_i32_1613
  let v6617 : BitVec 32 := v6616
  let v7768 : Index := Scalar.indexCast v6617
  let c0_1871 : Index := 0#32
  ![v7767.toNat, v7768.toNat, 0]
def k0_off710 (v6478 : BitVec 32) (v6483 : BitVec 32) (v6493 : BitVec 32) (v6554 : BitVec 32) (v6611 : BitVec 32) : Fin 3 → Nat :=
  let c199_i32_1548 : BitVec 32 := 199#32
  let c0_i32_1547 : BitVec 32 := 0#32
  let v6484 : BitVec 32 := Scalar.maxsi c0_i32_1547 v6483
  let v6485 : BitVec 32 := Scalar.minsi c199_i32_1548 v6484
  let v6555 : BitVec 32 := Scalar.addi v6485 v6554
  let c1_i32_1582 : BitVec 32 := 1#32
  let v6556 : BitVec 32 := Scalar.addi v6555 c1_i32_1582
  let c199_i32_1554 : BitVec 32 := 199#32
  let c0_i32_1553 : BitVec 32 := 0#32
  let v6494 : BitVec 32 := Scalar.maxsi c0_i32_1553 v6493
  let v6495 : BitVec 32 := Scalar.minsi c199_i32_1554 v6494
  let v6557 : BitVec 32 := Scalar.minsi v6556 v6495
  let v7771 : Index := Scalar.indexCast v6557
  let c199_i32_1545 : BitVec 32 := 199#32
  let c0_i32_1544 : BitVec 32 := 0#32
  let v6479 : BitVec 32 := Scalar.maxsi c0_i32_1544 v6478
  let v6480 : BitVec 32 := Scalar.minsi c199_i32_1545 v6479
  let v6612 : BitVec 32 := Scalar.addi v6480 v6611
  let c3_i32_1612 : BitVec 32 := 3#32
  let v6615 : BitVec 32 := Scalar.shrsi v6612 c3_i32_1612
  let c3_i32_1613 : BitVec 32 := 3#32
  let v6616 : BitVec 32 := Scalar.shli v6615 c3_i32_1613
  let v6617 : BitVec 32 := v6616
  let v7772 : Index := Scalar.indexCast v6617
  let c0_1872 : Index := 0#32
  ![v7771.toNat, v7772.toNat, 0]
def k0_off711 (k0_t1 : Fin k0_t1_loop.trips) : Fin 3 → Nat :=
  let c38_1874 : Index := 38#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c4_i32_1539 : BitVec 32 := 4#32
  let v6470 : BitVec 32 := Scalar.addi v5 c4_i32_1539
  let v7791 : Index := Scalar.indexCast v6470
  let c0_1875 : Index := 0#32
  ![38, v7791.toNat, 0]
def k0_off712 (v6478 : BitVec 32) (v6483 : BitVec 32) (v6554 : BitVec 32) (v6624 : BitVec 32) : Fin 3 → Nat :=
  let c199_i32_1548 : BitVec 32 := 199#32
  let c0_i32_1547 : BitVec 32 := 0#32
  let v6484 : BitVec 32 := Scalar.maxsi c0_i32_1547 v6483
  let v6485 : BitVec 32 := Scalar.minsi c199_i32_1548 v6484
  let v6555 : BitVec 32 := Scalar.addi v6485 v6554
  let v7796 : Index := Scalar.indexCast v6555
  let c199_i32_1545 : BitVec 32 := 199#32
  let c0_i32_1544 : BitVec 32 := 0#32
  let v6479 : BitVec 32 := Scalar.maxsi c0_i32_1544 v6478
  let v6480 : BitVec 32 := Scalar.minsi c199_i32_1545 v6479
  let v6625 : BitVec 32 := Scalar.addi v6480 v6624
  let c3_i32_1619 : BitVec 32 := 3#32
  let v6628 : BitVec 32 := Scalar.shrsi v6625 c3_i32_1619
  let c3_i32_1620 : BitVec 32 := 3#32
  let v6629 : BitVec 32 := Scalar.shli v6628 c3_i32_1620
  let v6630 : BitVec 32 := v6629
  let v7797 : Index := Scalar.indexCast v6630
  let c0_1877 : Index := 0#32
  ![v7796.toNat, v7797.toNat, 0]
def k0_off713 (v6478 : BitVec 32) (v6483 : BitVec 32) (v6493 : BitVec 32) (v6554 : BitVec 32) (v6624 : BitVec 32) : Fin 3 → Nat :=
  let c199_i32_1548 : BitVec 32 := 199#32
  let c0_i32_1547 : BitVec 32 := 0#32
  let v6484 : BitVec 32 := Scalar.maxsi c0_i32_1547 v6483
  let v6485 : BitVec 32 := Scalar.minsi c199_i32_1548 v6484
  let v6555 : BitVec 32 := Scalar.addi v6485 v6554
  let c1_i32_1582 : BitVec 32 := 1#32
  let v6556 : BitVec 32 := Scalar.addi v6555 c1_i32_1582
  let c199_i32_1554 : BitVec 32 := 199#32
  let c0_i32_1553 : BitVec 32 := 0#32
  let v6494 : BitVec 32 := Scalar.maxsi c0_i32_1553 v6493
  let v6495 : BitVec 32 := Scalar.minsi c199_i32_1554 v6494
  let v6557 : BitVec 32 := Scalar.minsi v6556 v6495
  let v7800 : Index := Scalar.indexCast v6557
  let c199_i32_1545 : BitVec 32 := 199#32
  let c0_i32_1544 : BitVec 32 := 0#32
  let v6479 : BitVec 32 := Scalar.maxsi c0_i32_1544 v6478
  let v6480 : BitVec 32 := Scalar.minsi c199_i32_1545 v6479
  let v6625 : BitVec 32 := Scalar.addi v6480 v6624
  let c3_i32_1619 : BitVec 32 := 3#32
  let v6628 : BitVec 32 := Scalar.shrsi v6625 c3_i32_1619
  let c3_i32_1620 : BitVec 32 := 3#32
  let v6629 : BitVec 32 := Scalar.shli v6628 c3_i32_1620
  let v6630 : BitVec 32 := v6629
  let v7801 : Index := Scalar.indexCast v6630
  let c0_1878 : Index := 0#32
  ![v7800.toNat, v7801.toNat, 0]
def k0_off714 (k0_t1 : Fin k0_t1_loop.trips) : Fin 3 → Nat :=
  let c39_1880 : Index := 39#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c4_i32_1539 : BitVec 32 := 4#32
  let v6470 : BitVec 32 := Scalar.addi v5 c4_i32_1539
  let v7820 : Index := Scalar.indexCast v6470
  let c0_1881 : Index := 0#32
  ![39, v7820.toNat, 0]
def k0_off715 (v6478 : BitVec 32) (v6483 : BitVec 32) (v6554 : BitVec 32) (v6637 : BitVec 32) : Fin 3 → Nat :=
  let c199_i32_1548 : BitVec 32 := 199#32
  let c0_i32_1547 : BitVec 32 := 0#32
  let v6484 : BitVec 32 := Scalar.maxsi c0_i32_1547 v6483
  let v6485 : BitVec 32 := Scalar.minsi c199_i32_1548 v6484
  let v6555 : BitVec 32 := Scalar.addi v6485 v6554
  let v7825 : Index := Scalar.indexCast v6555
  let c199_i32_1545 : BitVec 32 := 199#32
  let c0_i32_1544 : BitVec 32 := 0#32
  let v6479 : BitVec 32 := Scalar.maxsi c0_i32_1544 v6478
  let v6480 : BitVec 32 := Scalar.minsi c199_i32_1545 v6479
  let v6638 : BitVec 32 := Scalar.addi v6480 v6637
  let c3_i32_1626 : BitVec 32 := 3#32
  let v6641 : BitVec 32 := Scalar.shrsi v6638 c3_i32_1626
  let c3_i32_1627 : BitVec 32 := 3#32
  let v6642 : BitVec 32 := Scalar.shli v6641 c3_i32_1627
  let v6643 : BitVec 32 := v6642
  let v7826 : Index := Scalar.indexCast v6643
  let c0_1883 : Index := 0#32
  ![v7825.toNat, v7826.toNat, 0]
def k0_off716 (v6478 : BitVec 32) (v6483 : BitVec 32) (v6493 : BitVec 32) (v6554 : BitVec 32) (v6637 : BitVec 32) : Fin 3 → Nat :=
  let c199_i32_1548 : BitVec 32 := 199#32
  let c0_i32_1547 : BitVec 32 := 0#32
  let v6484 : BitVec 32 := Scalar.maxsi c0_i32_1547 v6483
  let v6485 : BitVec 32 := Scalar.minsi c199_i32_1548 v6484
  let v6555 : BitVec 32 := Scalar.addi v6485 v6554
  let c1_i32_1582 : BitVec 32 := 1#32
  let v6556 : BitVec 32 := Scalar.addi v6555 c1_i32_1582
  let c199_i32_1554 : BitVec 32 := 199#32
  let c0_i32_1553 : BitVec 32 := 0#32
  let v6494 : BitVec 32 := Scalar.maxsi c0_i32_1553 v6493
  let v6495 : BitVec 32 := Scalar.minsi c199_i32_1554 v6494
  let v6557 : BitVec 32 := Scalar.minsi v6556 v6495
  let v7829 : Index := Scalar.indexCast v6557
  let c199_i32_1545 : BitVec 32 := 199#32
  let c0_i32_1544 : BitVec 32 := 0#32
  let v6479 : BitVec 32 := Scalar.maxsi c0_i32_1544 v6478
  let v6480 : BitVec 32 := Scalar.minsi c199_i32_1545 v6479
  let v6638 : BitVec 32 := Scalar.addi v6480 v6637
  let c3_i32_1626 : BitVec 32 := 3#32
  let v6641 : BitVec 32 := Scalar.shrsi v6638 c3_i32_1626
  let c3_i32_1627 : BitVec 32 := 3#32
  let v6642 : BitVec 32 := Scalar.shli v6641 c3_i32_1627
  let v6643 : BitVec 32 := v6642
  let v7830 : Index := Scalar.indexCast v6643
  let c0_1884 : Index := 0#32
  ![v7829.toNat, v7830.toNat, 0]
def k0_off717 (k0_t1 : Fin k0_t1_loop.trips) : Fin 3 → Nat :=
  let c40_1886 : Index := 40#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c4_i32_1539 : BitVec 32 := 4#32
  let v6470 : BitVec 32 := Scalar.addi v5 c4_i32_1539
  let v7849 : Index := Scalar.indexCast v6470
  let c0_1887 : Index := 0#32
  ![40, v7849.toNat, 0]
def k0_off718 (v6478 : BitVec 32) (v6483 : BitVec 32) (v6554 : BitVec 32) (v6650 : BitVec 32) : Fin 3 → Nat :=
  let c199_i32_1548 : BitVec 32 := 199#32
  let c0_i32_1547 : BitVec 32 := 0#32
  let v6484 : BitVec 32 := Scalar.maxsi c0_i32_1547 v6483
  let v6485 : BitVec 32 := Scalar.minsi c199_i32_1548 v6484
  let v6555 : BitVec 32 := Scalar.addi v6485 v6554
  let v7854 : Index := Scalar.indexCast v6555
  let c199_i32_1545 : BitVec 32 := 199#32
  let c0_i32_1544 : BitVec 32 := 0#32
  let v6479 : BitVec 32 := Scalar.maxsi c0_i32_1544 v6478
  let v6480 : BitVec 32 := Scalar.minsi c199_i32_1545 v6479
  let v6651 : BitVec 32 := Scalar.addi v6480 v6650
  let c3_i32_1633 : BitVec 32 := 3#32
  let v6654 : BitVec 32 := Scalar.shrsi v6651 c3_i32_1633
  let c3_i32_1634 : BitVec 32 := 3#32
  let v6655 : BitVec 32 := Scalar.shli v6654 c3_i32_1634
  let v6656 : BitVec 32 := v6655
  let v7855 : Index := Scalar.indexCast v6656
  let c0_1889 : Index := 0#32
  ![v7854.toNat, v7855.toNat, 0]
def k0_off719 (v6478 : BitVec 32) (v6483 : BitVec 32) (v6493 : BitVec 32) (v6554 : BitVec 32) (v6650 : BitVec 32) : Fin 3 → Nat :=
  let c199_i32_1548 : BitVec 32 := 199#32
  let c0_i32_1547 : BitVec 32 := 0#32
  let v6484 : BitVec 32 := Scalar.maxsi c0_i32_1547 v6483
  let v6485 : BitVec 32 := Scalar.minsi c199_i32_1548 v6484
  let v6555 : BitVec 32 := Scalar.addi v6485 v6554
  let c1_i32_1582 : BitVec 32 := 1#32
  let v6556 : BitVec 32 := Scalar.addi v6555 c1_i32_1582
  let c199_i32_1554 : BitVec 32 := 199#32
  let c0_i32_1553 : BitVec 32 := 0#32
  let v6494 : BitVec 32 := Scalar.maxsi c0_i32_1553 v6493
  let v6495 : BitVec 32 := Scalar.minsi c199_i32_1554 v6494
  let v6557 : BitVec 32 := Scalar.minsi v6556 v6495
  let v7858 : Index := Scalar.indexCast v6557
  let c199_i32_1545 : BitVec 32 := 199#32
  let c0_i32_1544 : BitVec 32 := 0#32
  let v6479 : BitVec 32 := Scalar.maxsi c0_i32_1544 v6478
  let v6480 : BitVec 32 := Scalar.minsi c199_i32_1545 v6479
  let v6651 : BitVec 32 := Scalar.addi v6480 v6650
  let c3_i32_1633 : BitVec 32 := 3#32
  let v6654 : BitVec 32 := Scalar.shrsi v6651 c3_i32_1633
  let c3_i32_1634 : BitVec 32 := 3#32
  let v6655 : BitVec 32 := Scalar.shli v6654 c3_i32_1634
  let v6656 : BitVec 32 := v6655
  let v7859 : Index := Scalar.indexCast v6656
  let c0_1890 : Index := 0#32
  ![v7858.toNat, v7859.toNat, 0]
def k0_off720 (k0_t1 : Fin k0_t1_loop.trips) : Fin 3 → Nat :=
  let c41_1892 : Index := 41#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c4_i32_1539 : BitVec 32 := 4#32
  let v6470 : BitVec 32 := Scalar.addi v5 c4_i32_1539
  let v7878 : Index := Scalar.indexCast v6470
  let c0_1893 : Index := 0#32
  ![41, v7878.toNat, 0]
def k0_off721 (v6478 : BitVec 32) (v6483 : BitVec 32) (v6563 : BitVec 32) (v6572 : BitVec 32) : Fin 3 → Nat :=
  let c199_i32_1548 : BitVec 32 := 199#32
  let c0_i32_1547 : BitVec 32 := 0#32
  let v6484 : BitVec 32 := Scalar.maxsi c0_i32_1547 v6483
  let v6485 : BitVec 32 := Scalar.minsi c199_i32_1548 v6484
  let v6564 : BitVec 32 := Scalar.addi v6485 v6563
  let v7884 : Index := Scalar.indexCast v6564
  let c199_i32_1545 : BitVec 32 := 199#32
  let c0_i32_1544 : BitVec 32 := 0#32
  let v6479 : BitVec 32 := Scalar.maxsi c0_i32_1544 v6478
  let v6480 : BitVec 32 := Scalar.minsi c199_i32_1545 v6479
  let v6573 : BitVec 32 := Scalar.addi v6480 v6572
  let c3_i32_1591 : BitVec 32 := 3#32
  let v6576 : BitVec 32 := Scalar.shrsi v6573 c3_i32_1591
  let c3_i32_1592 : BitVec 32 := 3#32
  let v6577 : BitVec 32 := Scalar.shli v6576 c3_i32_1592
  let v6578 : BitVec 32 := v6577
  let v7885 : Index := Scalar.indexCast v6578
  let c0_1896 : Index := 0#32
  ![v7884.toNat, v7885.toNat, 0]
def k0_off722 (v6478 : BitVec 32) (v6483 : BitVec 32) (v6493 : BitVec 32) (v6563 : BitVec 32) (v6572 : BitVec 32) : Fin 3 → Nat :=
  let c199_i32_1548 : BitVec 32 := 199#32
  let c0_i32_1547 : BitVec 32 := 0#32
  let v6484 : BitVec 32 := Scalar.maxsi c0_i32_1547 v6483
  let v6485 : BitVec 32 := Scalar.minsi c199_i32_1548 v6484
  let v6564 : BitVec 32 := Scalar.addi v6485 v6563
  let c1_i32_1586 : BitVec 32 := 1#32
  let v6565 : BitVec 32 := Scalar.addi v6564 c1_i32_1586
  let c199_i32_1554 : BitVec 32 := 199#32
  let c0_i32_1553 : BitVec 32 := 0#32
  let v6494 : BitVec 32 := Scalar.maxsi c0_i32_1553 v6493
  let v6495 : BitVec 32 := Scalar.minsi c199_i32_1554 v6494
  let v6566 : BitVec 32 := Scalar.minsi v6565 v6495
  let v7888 : Index := Scalar.indexCast v6566
  let c199_i32_1545 : BitVec 32 := 199#32
  let c0_i32_1544 : BitVec 32 := 0#32
  let v6479 : BitVec 32 := Scalar.maxsi c0_i32_1544 v6478
  let v6480 : BitVec 32 := Scalar.minsi c199_i32_1545 v6479
  let v6573 : BitVec 32 := Scalar.addi v6480 v6572
  let c3_i32_1591 : BitVec 32 := 3#32
  let v6576 : BitVec 32 := Scalar.shrsi v6573 c3_i32_1591
  let c3_i32_1592 : BitVec 32 := 3#32
  let v6577 : BitVec 32 := Scalar.shli v6576 c3_i32_1592
  let v6578 : BitVec 32 := v6577
  let v7889 : Index := Scalar.indexCast v6578
  let c0_1897 : Index := 0#32
  ![v7888.toNat, v7889.toNat, 0]

def k0_chk29 (v6478 : BitVec 32) (v6483 : BitVec 32) (v6493 : BitVec 32) (v6509 : BitVec 32) (v6518 : BitVec 32) (v6527 : BitVec 32) (v6536 : BitVec 32) (v6545 : BitVec 32) (v6554 : BitVec 32) (v6563 : BitVec 32) (v6572 : BitVec 32) : Prop :=
  (8 ∣ (k0_mult30 v6478 v6572).toNat) ∧
  (∀ a, (k0_off595 v6478 v6483 v6509 v6572) a + S1x16x256.size a ≤ S200x216x256.size a) ∧
  (∀ a, (k0_off596 v6478 v6483 v6493 v6509 v6572) a + S1x16x256.size a ≤ S200x216x256.size a) ∧
  (∀ a, (k0_off616 v6478 v6483 v6518 v6572) a + S1x16x256.size a ≤ S200x216x256.size a) ∧
  (∀ a, (k0_off617 v6478 v6483 v6493 v6518 v6572) a + S1x16x256.size a ≤ S200x216x256.size a) ∧
  (∀ a, (k0_off637 v6478 v6483 v6527 v6572) a + S1x16x256.size a ≤ S200x216x256.size a) ∧
  (∀ a, (k0_off638 v6478 v6483 v6493 v6527 v6572) a + S1x16x256.size a ≤ S200x216x256.size a) ∧
  (∀ a, (k0_off658 v6478 v6483 v6536 v6572) a + S1x16x256.size a ≤ S200x216x256.size a) ∧
  (∀ a, (k0_off659 v6478 v6483 v6493 v6536 v6572) a + S1x16x256.size a ≤ S200x216x256.size a) ∧
  (∀ a, (k0_off679 v6478 v6483 v6545 v6572) a + S1x16x256.size a ≤ S200x216x256.size a) ∧
  (∀ a, (k0_off680 v6478 v6483 v6493 v6545 v6572) a + S1x16x256.size a ≤ S200x216x256.size a) ∧
  (∀ a, (k0_off700 v6478 v6483 v6554 v6572) a + S1x16x256.size a ≤ S200x216x256.size a) ∧
  (∀ a, (k0_off701 v6478 v6483 v6493 v6554 v6572) a + S1x16x256.size a ≤ S200x216x256.size a) ∧
  (∀ a, (k0_off721 v6478 v6483 v6563 v6572) a + S1x16x256.size a ≤ S200x216x256.size a) ∧
  (∀ a, (k0_off722 v6478 v6483 v6493 v6563 v6572) a + S1x16x256.size a ≤ S200x216x256.size a)
theorem k0_mult30_dvd : ∀ (v6478 : BitVec 32) (v6483 : BitVec 32) (v6493 : BitVec 32) (v6509 : BitVec 32) (v6518 : BitVec 32) (v6527 : BitVec 32) (v6536 : BitVec 32) (v6545 : BitVec 32) (v6554 : BitVec 32) (v6563 : BitVec 32) (v6572 : BitVec 32) (k0_hw29 : k0_chk29 v6478 v6483 v6493 v6509 v6518 v6527 v6536 v6545 v6554 v6563 v6572), 8 ∣ (k0_mult30 v6478 v6572).toNat := fun v6478 v6483 v6493 v6509 v6518 v6527 v6536 v6545 v6554 v6563 v6572 k0_hw29 => k0_hw29.1
theorem k0_off595_inb : ∀ (v6478 : BitVec 32) (v6483 : BitVec 32) (v6493 : BitVec 32) (v6509 : BitVec 32) (v6518 : BitVec 32) (v6527 : BitVec 32) (v6536 : BitVec 32) (v6545 : BitVec 32) (v6554 : BitVec 32) (v6563 : BitVec 32) (v6572 : BitVec 32) (k0_hw29 : k0_chk29 v6478 v6483 v6493 v6509 v6518 v6527 v6536 v6545 v6554 v6563 v6572), ∀ a, (k0_off595 v6478 v6483 v6509 v6572) a + S1x16x256.size a ≤ S200x216x256.size a := fun v6478 v6483 v6493 v6509 v6518 v6527 v6536 v6545 v6554 v6563 v6572 k0_hw29 => k0_hw29.2.1
theorem k0_off596_inb : ∀ (v6478 : BitVec 32) (v6483 : BitVec 32) (v6493 : BitVec 32) (v6509 : BitVec 32) (v6518 : BitVec 32) (v6527 : BitVec 32) (v6536 : BitVec 32) (v6545 : BitVec 32) (v6554 : BitVec 32) (v6563 : BitVec 32) (v6572 : BitVec 32) (k0_hw29 : k0_chk29 v6478 v6483 v6493 v6509 v6518 v6527 v6536 v6545 v6554 v6563 v6572), ∀ a, (k0_off596 v6478 v6483 v6493 v6509 v6572) a + S1x16x256.size a ≤ S200x216x256.size a := fun v6478 v6483 v6493 v6509 v6518 v6527 v6536 v6545 v6554 v6563 v6572 k0_hw29 => k0_hw29.2.2.1
theorem k0_off616_inb : ∀ (v6478 : BitVec 32) (v6483 : BitVec 32) (v6493 : BitVec 32) (v6509 : BitVec 32) (v6518 : BitVec 32) (v6527 : BitVec 32) (v6536 : BitVec 32) (v6545 : BitVec 32) (v6554 : BitVec 32) (v6563 : BitVec 32) (v6572 : BitVec 32) (k0_hw29 : k0_chk29 v6478 v6483 v6493 v6509 v6518 v6527 v6536 v6545 v6554 v6563 v6572), ∀ a, (k0_off616 v6478 v6483 v6518 v6572) a + S1x16x256.size a ≤ S200x216x256.size a := fun v6478 v6483 v6493 v6509 v6518 v6527 v6536 v6545 v6554 v6563 v6572 k0_hw29 => k0_hw29.2.2.2.1
theorem k0_off617_inb : ∀ (v6478 : BitVec 32) (v6483 : BitVec 32) (v6493 : BitVec 32) (v6509 : BitVec 32) (v6518 : BitVec 32) (v6527 : BitVec 32) (v6536 : BitVec 32) (v6545 : BitVec 32) (v6554 : BitVec 32) (v6563 : BitVec 32) (v6572 : BitVec 32) (k0_hw29 : k0_chk29 v6478 v6483 v6493 v6509 v6518 v6527 v6536 v6545 v6554 v6563 v6572), ∀ a, (k0_off617 v6478 v6483 v6493 v6518 v6572) a + S1x16x256.size a ≤ S200x216x256.size a := fun v6478 v6483 v6493 v6509 v6518 v6527 v6536 v6545 v6554 v6563 v6572 k0_hw29 => k0_hw29.2.2.2.2.1
theorem k0_off637_inb : ∀ (v6478 : BitVec 32) (v6483 : BitVec 32) (v6493 : BitVec 32) (v6509 : BitVec 32) (v6518 : BitVec 32) (v6527 : BitVec 32) (v6536 : BitVec 32) (v6545 : BitVec 32) (v6554 : BitVec 32) (v6563 : BitVec 32) (v6572 : BitVec 32) (k0_hw29 : k0_chk29 v6478 v6483 v6493 v6509 v6518 v6527 v6536 v6545 v6554 v6563 v6572), ∀ a, (k0_off637 v6478 v6483 v6527 v6572) a + S1x16x256.size a ≤ S200x216x256.size a := fun v6478 v6483 v6493 v6509 v6518 v6527 v6536 v6545 v6554 v6563 v6572 k0_hw29 => k0_hw29.2.2.2.2.2.1
theorem k0_off638_inb : ∀ (v6478 : BitVec 32) (v6483 : BitVec 32) (v6493 : BitVec 32) (v6509 : BitVec 32) (v6518 : BitVec 32) (v6527 : BitVec 32) (v6536 : BitVec 32) (v6545 : BitVec 32) (v6554 : BitVec 32) (v6563 : BitVec 32) (v6572 : BitVec 32) (k0_hw29 : k0_chk29 v6478 v6483 v6493 v6509 v6518 v6527 v6536 v6545 v6554 v6563 v6572), ∀ a, (k0_off638 v6478 v6483 v6493 v6527 v6572) a + S1x16x256.size a ≤ S200x216x256.size a := fun v6478 v6483 v6493 v6509 v6518 v6527 v6536 v6545 v6554 v6563 v6572 k0_hw29 => k0_hw29.2.2.2.2.2.2.1
theorem k0_off658_inb : ∀ (v6478 : BitVec 32) (v6483 : BitVec 32) (v6493 : BitVec 32) (v6509 : BitVec 32) (v6518 : BitVec 32) (v6527 : BitVec 32) (v6536 : BitVec 32) (v6545 : BitVec 32) (v6554 : BitVec 32) (v6563 : BitVec 32) (v6572 : BitVec 32) (k0_hw29 : k0_chk29 v6478 v6483 v6493 v6509 v6518 v6527 v6536 v6545 v6554 v6563 v6572), ∀ a, (k0_off658 v6478 v6483 v6536 v6572) a + S1x16x256.size a ≤ S200x216x256.size a := fun v6478 v6483 v6493 v6509 v6518 v6527 v6536 v6545 v6554 v6563 v6572 k0_hw29 => k0_hw29.2.2.2.2.2.2.2.1
theorem k0_off659_inb : ∀ (v6478 : BitVec 32) (v6483 : BitVec 32) (v6493 : BitVec 32) (v6509 : BitVec 32) (v6518 : BitVec 32) (v6527 : BitVec 32) (v6536 : BitVec 32) (v6545 : BitVec 32) (v6554 : BitVec 32) (v6563 : BitVec 32) (v6572 : BitVec 32) (k0_hw29 : k0_chk29 v6478 v6483 v6493 v6509 v6518 v6527 v6536 v6545 v6554 v6563 v6572), ∀ a, (k0_off659 v6478 v6483 v6493 v6536 v6572) a + S1x16x256.size a ≤ S200x216x256.size a := fun v6478 v6483 v6493 v6509 v6518 v6527 v6536 v6545 v6554 v6563 v6572 k0_hw29 => k0_hw29.2.2.2.2.2.2.2.2.1
theorem k0_off679_inb : ∀ (v6478 : BitVec 32) (v6483 : BitVec 32) (v6493 : BitVec 32) (v6509 : BitVec 32) (v6518 : BitVec 32) (v6527 : BitVec 32) (v6536 : BitVec 32) (v6545 : BitVec 32) (v6554 : BitVec 32) (v6563 : BitVec 32) (v6572 : BitVec 32) (k0_hw29 : k0_chk29 v6478 v6483 v6493 v6509 v6518 v6527 v6536 v6545 v6554 v6563 v6572), ∀ a, (k0_off679 v6478 v6483 v6545 v6572) a + S1x16x256.size a ≤ S200x216x256.size a := fun v6478 v6483 v6493 v6509 v6518 v6527 v6536 v6545 v6554 v6563 v6572 k0_hw29 => k0_hw29.2.2.2.2.2.2.2.2.2.1
theorem k0_off680_inb : ∀ (v6478 : BitVec 32) (v6483 : BitVec 32) (v6493 : BitVec 32) (v6509 : BitVec 32) (v6518 : BitVec 32) (v6527 : BitVec 32) (v6536 : BitVec 32) (v6545 : BitVec 32) (v6554 : BitVec 32) (v6563 : BitVec 32) (v6572 : BitVec 32) (k0_hw29 : k0_chk29 v6478 v6483 v6493 v6509 v6518 v6527 v6536 v6545 v6554 v6563 v6572), ∀ a, (k0_off680 v6478 v6483 v6493 v6545 v6572) a + S1x16x256.size a ≤ S200x216x256.size a := fun v6478 v6483 v6493 v6509 v6518 v6527 v6536 v6545 v6554 v6563 v6572 k0_hw29 => k0_hw29.2.2.2.2.2.2.2.2.2.2.1
theorem k0_off700_inb : ∀ (v6478 : BitVec 32) (v6483 : BitVec 32) (v6493 : BitVec 32) (v6509 : BitVec 32) (v6518 : BitVec 32) (v6527 : BitVec 32) (v6536 : BitVec 32) (v6545 : BitVec 32) (v6554 : BitVec 32) (v6563 : BitVec 32) (v6572 : BitVec 32) (k0_hw29 : k0_chk29 v6478 v6483 v6493 v6509 v6518 v6527 v6536 v6545 v6554 v6563 v6572), ∀ a, (k0_off700 v6478 v6483 v6554 v6572) a + S1x16x256.size a ≤ S200x216x256.size a := fun v6478 v6483 v6493 v6509 v6518 v6527 v6536 v6545 v6554 v6563 v6572 k0_hw29 => k0_hw29.2.2.2.2.2.2.2.2.2.2.2.1
theorem k0_off701_inb : ∀ (v6478 : BitVec 32) (v6483 : BitVec 32) (v6493 : BitVec 32) (v6509 : BitVec 32) (v6518 : BitVec 32) (v6527 : BitVec 32) (v6536 : BitVec 32) (v6545 : BitVec 32) (v6554 : BitVec 32) (v6563 : BitVec 32) (v6572 : BitVec 32) (k0_hw29 : k0_chk29 v6478 v6483 v6493 v6509 v6518 v6527 v6536 v6545 v6554 v6563 v6572), ∀ a, (k0_off701 v6478 v6483 v6493 v6554 v6572) a + S1x16x256.size a ≤ S200x216x256.size a := fun v6478 v6483 v6493 v6509 v6518 v6527 v6536 v6545 v6554 v6563 v6572 k0_hw29 => k0_hw29.2.2.2.2.2.2.2.2.2.2.2.2.1
theorem k0_off721_inb : ∀ (v6478 : BitVec 32) (v6483 : BitVec 32) (v6493 : BitVec 32) (v6509 : BitVec 32) (v6518 : BitVec 32) (v6527 : BitVec 32) (v6536 : BitVec 32) (v6545 : BitVec 32) (v6554 : BitVec 32) (v6563 : BitVec 32) (v6572 : BitVec 32) (k0_hw29 : k0_chk29 v6478 v6483 v6493 v6509 v6518 v6527 v6536 v6545 v6554 v6563 v6572), ∀ a, (k0_off721 v6478 v6483 v6563 v6572) a + S1x16x256.size a ≤ S200x216x256.size a := fun v6478 v6483 v6493 v6509 v6518 v6527 v6536 v6545 v6554 v6563 v6572 k0_hw29 => k0_hw29.2.2.2.2.2.2.2.2.2.2.2.2.2.1
theorem k0_off722_inb : ∀ (v6478 : BitVec 32) (v6483 : BitVec 32) (v6493 : BitVec 32) (v6509 : BitVec 32) (v6518 : BitVec 32) (v6527 : BitVec 32) (v6536 : BitVec 32) (v6545 : BitVec 32) (v6554 : BitVec 32) (v6563 : BitVec 32) (v6572 : BitVec 32) (k0_hw29 : k0_chk29 v6478 v6483 v6493 v6509 v6518 v6527 v6536 v6545 v6554 v6563 v6572), ∀ a, (k0_off722 v6478 v6483 v6493 v6563 v6572) a + S1x16x256.size a ≤ S200x216x256.size a := fun v6478 v6483 v6493 v6509 v6518 v6527 v6536 v6545 v6554 v6563 v6572 k0_hw29 => k0_hw29.2.2.2.2.2.2.2.2.2.2.2.2.2.2

def k0_off723 (k0_t1 : Fin k0_t1_loop.trips) : Fin 3 → Nat :=
  let c42_1899 : Index := 42#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c4_i32_1539 : BitVec 32 := 4#32
  let v6470 : BitVec 32 := Scalar.addi v5 c4_i32_1539
  let v7908 : Index := Scalar.indexCast v6470
  let c0_1900 : Index := 0#32
  ![42, v7908.toNat, 0]
def k0_off724 (v6478 : BitVec 32) (v6483 : BitVec 32) (v6563 : BitVec 32) (v6585 : BitVec 32) : Fin 3 → Nat :=
  let c199_i32_1548 : BitVec 32 := 199#32
  let c0_i32_1547 : BitVec 32 := 0#32
  let v6484 : BitVec 32 := Scalar.maxsi c0_i32_1547 v6483
  let v6485 : BitVec 32 := Scalar.minsi c199_i32_1548 v6484
  let v6564 : BitVec 32 := Scalar.addi v6485 v6563
  let v7913 : Index := Scalar.indexCast v6564
  let c199_i32_1545 : BitVec 32 := 199#32
  let c0_i32_1544 : BitVec 32 := 0#32
  let v6479 : BitVec 32 := Scalar.maxsi c0_i32_1544 v6478
  let v6480 : BitVec 32 := Scalar.minsi c199_i32_1545 v6479
  let v6586 : BitVec 32 := Scalar.addi v6480 v6585
  let c3_i32_1598 : BitVec 32 := 3#32
  let v6589 : BitVec 32 := Scalar.shrsi v6586 c3_i32_1598
  let c3_i32_1599 : BitVec 32 := 3#32
  let v6590 : BitVec 32 := Scalar.shli v6589 c3_i32_1599
  let v6591 : BitVec 32 := v6590
  let v7914 : Index := Scalar.indexCast v6591
  let c0_1902 : Index := 0#32
  ![v7913.toNat, v7914.toNat, 0]
def k0_off725 (v6478 : BitVec 32) (v6483 : BitVec 32) (v6493 : BitVec 32) (v6563 : BitVec 32) (v6585 : BitVec 32) : Fin 3 → Nat :=
  let c199_i32_1548 : BitVec 32 := 199#32
  let c0_i32_1547 : BitVec 32 := 0#32
  let v6484 : BitVec 32 := Scalar.maxsi c0_i32_1547 v6483
  let v6485 : BitVec 32 := Scalar.minsi c199_i32_1548 v6484
  let v6564 : BitVec 32 := Scalar.addi v6485 v6563
  let c1_i32_1586 : BitVec 32 := 1#32
  let v6565 : BitVec 32 := Scalar.addi v6564 c1_i32_1586
  let c199_i32_1554 : BitVec 32 := 199#32
  let c0_i32_1553 : BitVec 32 := 0#32
  let v6494 : BitVec 32 := Scalar.maxsi c0_i32_1553 v6493
  let v6495 : BitVec 32 := Scalar.minsi c199_i32_1554 v6494
  let v6566 : BitVec 32 := Scalar.minsi v6565 v6495
  let v7917 : Index := Scalar.indexCast v6566
  let c199_i32_1545 : BitVec 32 := 199#32
  let c0_i32_1544 : BitVec 32 := 0#32
  let v6479 : BitVec 32 := Scalar.maxsi c0_i32_1544 v6478
  let v6480 : BitVec 32 := Scalar.minsi c199_i32_1545 v6479
  let v6586 : BitVec 32 := Scalar.addi v6480 v6585
  let c3_i32_1598 : BitVec 32 := 3#32
  let v6589 : BitVec 32 := Scalar.shrsi v6586 c3_i32_1598
  let c3_i32_1599 : BitVec 32 := 3#32
  let v6590 : BitVec 32 := Scalar.shli v6589 c3_i32_1599
  let v6591 : BitVec 32 := v6590
  let v7918 : Index := Scalar.indexCast v6591
  let c0_1903 : Index := 0#32
  ![v7917.toNat, v7918.toNat, 0]

def k0_chk30 (v6478 : BitVec 32) (v6483 : BitVec 32) (v6493 : BitVec 32) (v6509 : BitVec 32) (v6518 : BitVec 32) (v6527 : BitVec 32) (v6536 : BitVec 32) (v6545 : BitVec 32) (v6554 : BitVec 32) (v6563 : BitVec 32) (v6585 : BitVec 32) : Prop :=
  (8 ∣ (k0_mult31 v6478 v6585).toNat) ∧
  (∀ a, (k0_off598 v6478 v6483 v6509 v6585) a + S1x16x256.size a ≤ S200x216x256.size a) ∧
  (∀ a, (k0_off599 v6478 v6483 v6493 v6509 v6585) a + S1x16x256.size a ≤ S200x216x256.size a) ∧
  (∀ a, (k0_off619 v6478 v6483 v6518 v6585) a + S1x16x256.size a ≤ S200x216x256.size a) ∧
  (∀ a, (k0_off620 v6478 v6483 v6493 v6518 v6585) a + S1x16x256.size a ≤ S200x216x256.size a) ∧
  (∀ a, (k0_off640 v6478 v6483 v6527 v6585) a + S1x16x256.size a ≤ S200x216x256.size a) ∧
  (∀ a, (k0_off641 v6478 v6483 v6493 v6527 v6585) a + S1x16x256.size a ≤ S200x216x256.size a) ∧
  (∀ a, (k0_off661 v6478 v6483 v6536 v6585) a + S1x16x256.size a ≤ S200x216x256.size a) ∧
  (∀ a, (k0_off662 v6478 v6483 v6493 v6536 v6585) a + S1x16x256.size a ≤ S200x216x256.size a) ∧
  (∀ a, (k0_off682 v6478 v6483 v6545 v6585) a + S1x16x256.size a ≤ S200x216x256.size a) ∧
  (∀ a, (k0_off683 v6478 v6483 v6493 v6545 v6585) a + S1x16x256.size a ≤ S200x216x256.size a) ∧
  (∀ a, (k0_off703 v6478 v6483 v6554 v6585) a + S1x16x256.size a ≤ S200x216x256.size a) ∧
  (∀ a, (k0_off704 v6478 v6483 v6493 v6554 v6585) a + S1x16x256.size a ≤ S200x216x256.size a) ∧
  (∀ a, (k0_off724 v6478 v6483 v6563 v6585) a + S1x16x256.size a ≤ S200x216x256.size a) ∧
  (∀ a, (k0_off725 v6478 v6483 v6493 v6563 v6585) a + S1x16x256.size a ≤ S200x216x256.size a)
theorem k0_mult31_dvd : ∀ (v6478 : BitVec 32) (v6483 : BitVec 32) (v6493 : BitVec 32) (v6509 : BitVec 32) (v6518 : BitVec 32) (v6527 : BitVec 32) (v6536 : BitVec 32) (v6545 : BitVec 32) (v6554 : BitVec 32) (v6563 : BitVec 32) (v6585 : BitVec 32) (k0_hw30 : k0_chk30 v6478 v6483 v6493 v6509 v6518 v6527 v6536 v6545 v6554 v6563 v6585), 8 ∣ (k0_mult31 v6478 v6585).toNat := fun v6478 v6483 v6493 v6509 v6518 v6527 v6536 v6545 v6554 v6563 v6585 k0_hw30 => k0_hw30.1
theorem k0_off598_inb : ∀ (v6478 : BitVec 32) (v6483 : BitVec 32) (v6493 : BitVec 32) (v6509 : BitVec 32) (v6518 : BitVec 32) (v6527 : BitVec 32) (v6536 : BitVec 32) (v6545 : BitVec 32) (v6554 : BitVec 32) (v6563 : BitVec 32) (v6585 : BitVec 32) (k0_hw30 : k0_chk30 v6478 v6483 v6493 v6509 v6518 v6527 v6536 v6545 v6554 v6563 v6585), ∀ a, (k0_off598 v6478 v6483 v6509 v6585) a + S1x16x256.size a ≤ S200x216x256.size a := fun v6478 v6483 v6493 v6509 v6518 v6527 v6536 v6545 v6554 v6563 v6585 k0_hw30 => k0_hw30.2.1
theorem k0_off599_inb : ∀ (v6478 : BitVec 32) (v6483 : BitVec 32) (v6493 : BitVec 32) (v6509 : BitVec 32) (v6518 : BitVec 32) (v6527 : BitVec 32) (v6536 : BitVec 32) (v6545 : BitVec 32) (v6554 : BitVec 32) (v6563 : BitVec 32) (v6585 : BitVec 32) (k0_hw30 : k0_chk30 v6478 v6483 v6493 v6509 v6518 v6527 v6536 v6545 v6554 v6563 v6585), ∀ a, (k0_off599 v6478 v6483 v6493 v6509 v6585) a + S1x16x256.size a ≤ S200x216x256.size a := fun v6478 v6483 v6493 v6509 v6518 v6527 v6536 v6545 v6554 v6563 v6585 k0_hw30 => k0_hw30.2.2.1
theorem k0_off619_inb : ∀ (v6478 : BitVec 32) (v6483 : BitVec 32) (v6493 : BitVec 32) (v6509 : BitVec 32) (v6518 : BitVec 32) (v6527 : BitVec 32) (v6536 : BitVec 32) (v6545 : BitVec 32) (v6554 : BitVec 32) (v6563 : BitVec 32) (v6585 : BitVec 32) (k0_hw30 : k0_chk30 v6478 v6483 v6493 v6509 v6518 v6527 v6536 v6545 v6554 v6563 v6585), ∀ a, (k0_off619 v6478 v6483 v6518 v6585) a + S1x16x256.size a ≤ S200x216x256.size a := fun v6478 v6483 v6493 v6509 v6518 v6527 v6536 v6545 v6554 v6563 v6585 k0_hw30 => k0_hw30.2.2.2.1
theorem k0_off620_inb : ∀ (v6478 : BitVec 32) (v6483 : BitVec 32) (v6493 : BitVec 32) (v6509 : BitVec 32) (v6518 : BitVec 32) (v6527 : BitVec 32) (v6536 : BitVec 32) (v6545 : BitVec 32) (v6554 : BitVec 32) (v6563 : BitVec 32) (v6585 : BitVec 32) (k0_hw30 : k0_chk30 v6478 v6483 v6493 v6509 v6518 v6527 v6536 v6545 v6554 v6563 v6585), ∀ a, (k0_off620 v6478 v6483 v6493 v6518 v6585) a + S1x16x256.size a ≤ S200x216x256.size a := fun v6478 v6483 v6493 v6509 v6518 v6527 v6536 v6545 v6554 v6563 v6585 k0_hw30 => k0_hw30.2.2.2.2.1
theorem k0_off640_inb : ∀ (v6478 : BitVec 32) (v6483 : BitVec 32) (v6493 : BitVec 32) (v6509 : BitVec 32) (v6518 : BitVec 32) (v6527 : BitVec 32) (v6536 : BitVec 32) (v6545 : BitVec 32) (v6554 : BitVec 32) (v6563 : BitVec 32) (v6585 : BitVec 32) (k0_hw30 : k0_chk30 v6478 v6483 v6493 v6509 v6518 v6527 v6536 v6545 v6554 v6563 v6585), ∀ a, (k0_off640 v6478 v6483 v6527 v6585) a + S1x16x256.size a ≤ S200x216x256.size a := fun v6478 v6483 v6493 v6509 v6518 v6527 v6536 v6545 v6554 v6563 v6585 k0_hw30 => k0_hw30.2.2.2.2.2.1
theorem k0_off641_inb : ∀ (v6478 : BitVec 32) (v6483 : BitVec 32) (v6493 : BitVec 32) (v6509 : BitVec 32) (v6518 : BitVec 32) (v6527 : BitVec 32) (v6536 : BitVec 32) (v6545 : BitVec 32) (v6554 : BitVec 32) (v6563 : BitVec 32) (v6585 : BitVec 32) (k0_hw30 : k0_chk30 v6478 v6483 v6493 v6509 v6518 v6527 v6536 v6545 v6554 v6563 v6585), ∀ a, (k0_off641 v6478 v6483 v6493 v6527 v6585) a + S1x16x256.size a ≤ S200x216x256.size a := fun v6478 v6483 v6493 v6509 v6518 v6527 v6536 v6545 v6554 v6563 v6585 k0_hw30 => k0_hw30.2.2.2.2.2.2.1
theorem k0_off661_inb : ∀ (v6478 : BitVec 32) (v6483 : BitVec 32) (v6493 : BitVec 32) (v6509 : BitVec 32) (v6518 : BitVec 32) (v6527 : BitVec 32) (v6536 : BitVec 32) (v6545 : BitVec 32) (v6554 : BitVec 32) (v6563 : BitVec 32) (v6585 : BitVec 32) (k0_hw30 : k0_chk30 v6478 v6483 v6493 v6509 v6518 v6527 v6536 v6545 v6554 v6563 v6585), ∀ a, (k0_off661 v6478 v6483 v6536 v6585) a + S1x16x256.size a ≤ S200x216x256.size a := fun v6478 v6483 v6493 v6509 v6518 v6527 v6536 v6545 v6554 v6563 v6585 k0_hw30 => k0_hw30.2.2.2.2.2.2.2.1
theorem k0_off662_inb : ∀ (v6478 : BitVec 32) (v6483 : BitVec 32) (v6493 : BitVec 32) (v6509 : BitVec 32) (v6518 : BitVec 32) (v6527 : BitVec 32) (v6536 : BitVec 32) (v6545 : BitVec 32) (v6554 : BitVec 32) (v6563 : BitVec 32) (v6585 : BitVec 32) (k0_hw30 : k0_chk30 v6478 v6483 v6493 v6509 v6518 v6527 v6536 v6545 v6554 v6563 v6585), ∀ a, (k0_off662 v6478 v6483 v6493 v6536 v6585) a + S1x16x256.size a ≤ S200x216x256.size a := fun v6478 v6483 v6493 v6509 v6518 v6527 v6536 v6545 v6554 v6563 v6585 k0_hw30 => k0_hw30.2.2.2.2.2.2.2.2.1
theorem k0_off682_inb : ∀ (v6478 : BitVec 32) (v6483 : BitVec 32) (v6493 : BitVec 32) (v6509 : BitVec 32) (v6518 : BitVec 32) (v6527 : BitVec 32) (v6536 : BitVec 32) (v6545 : BitVec 32) (v6554 : BitVec 32) (v6563 : BitVec 32) (v6585 : BitVec 32) (k0_hw30 : k0_chk30 v6478 v6483 v6493 v6509 v6518 v6527 v6536 v6545 v6554 v6563 v6585), ∀ a, (k0_off682 v6478 v6483 v6545 v6585) a + S1x16x256.size a ≤ S200x216x256.size a := fun v6478 v6483 v6493 v6509 v6518 v6527 v6536 v6545 v6554 v6563 v6585 k0_hw30 => k0_hw30.2.2.2.2.2.2.2.2.2.1
theorem k0_off683_inb : ∀ (v6478 : BitVec 32) (v6483 : BitVec 32) (v6493 : BitVec 32) (v6509 : BitVec 32) (v6518 : BitVec 32) (v6527 : BitVec 32) (v6536 : BitVec 32) (v6545 : BitVec 32) (v6554 : BitVec 32) (v6563 : BitVec 32) (v6585 : BitVec 32) (k0_hw30 : k0_chk30 v6478 v6483 v6493 v6509 v6518 v6527 v6536 v6545 v6554 v6563 v6585), ∀ a, (k0_off683 v6478 v6483 v6493 v6545 v6585) a + S1x16x256.size a ≤ S200x216x256.size a := fun v6478 v6483 v6493 v6509 v6518 v6527 v6536 v6545 v6554 v6563 v6585 k0_hw30 => k0_hw30.2.2.2.2.2.2.2.2.2.2.1
theorem k0_off703_inb : ∀ (v6478 : BitVec 32) (v6483 : BitVec 32) (v6493 : BitVec 32) (v6509 : BitVec 32) (v6518 : BitVec 32) (v6527 : BitVec 32) (v6536 : BitVec 32) (v6545 : BitVec 32) (v6554 : BitVec 32) (v6563 : BitVec 32) (v6585 : BitVec 32) (k0_hw30 : k0_chk30 v6478 v6483 v6493 v6509 v6518 v6527 v6536 v6545 v6554 v6563 v6585), ∀ a, (k0_off703 v6478 v6483 v6554 v6585) a + S1x16x256.size a ≤ S200x216x256.size a := fun v6478 v6483 v6493 v6509 v6518 v6527 v6536 v6545 v6554 v6563 v6585 k0_hw30 => k0_hw30.2.2.2.2.2.2.2.2.2.2.2.1
theorem k0_off704_inb : ∀ (v6478 : BitVec 32) (v6483 : BitVec 32) (v6493 : BitVec 32) (v6509 : BitVec 32) (v6518 : BitVec 32) (v6527 : BitVec 32) (v6536 : BitVec 32) (v6545 : BitVec 32) (v6554 : BitVec 32) (v6563 : BitVec 32) (v6585 : BitVec 32) (k0_hw30 : k0_chk30 v6478 v6483 v6493 v6509 v6518 v6527 v6536 v6545 v6554 v6563 v6585), ∀ a, (k0_off704 v6478 v6483 v6493 v6554 v6585) a + S1x16x256.size a ≤ S200x216x256.size a := fun v6478 v6483 v6493 v6509 v6518 v6527 v6536 v6545 v6554 v6563 v6585 k0_hw30 => k0_hw30.2.2.2.2.2.2.2.2.2.2.2.2.1
theorem k0_off724_inb : ∀ (v6478 : BitVec 32) (v6483 : BitVec 32) (v6493 : BitVec 32) (v6509 : BitVec 32) (v6518 : BitVec 32) (v6527 : BitVec 32) (v6536 : BitVec 32) (v6545 : BitVec 32) (v6554 : BitVec 32) (v6563 : BitVec 32) (v6585 : BitVec 32) (k0_hw30 : k0_chk30 v6478 v6483 v6493 v6509 v6518 v6527 v6536 v6545 v6554 v6563 v6585), ∀ a, (k0_off724 v6478 v6483 v6563 v6585) a + S1x16x256.size a ≤ S200x216x256.size a := fun v6478 v6483 v6493 v6509 v6518 v6527 v6536 v6545 v6554 v6563 v6585 k0_hw30 => k0_hw30.2.2.2.2.2.2.2.2.2.2.2.2.2.1
theorem k0_off725_inb : ∀ (v6478 : BitVec 32) (v6483 : BitVec 32) (v6493 : BitVec 32) (v6509 : BitVec 32) (v6518 : BitVec 32) (v6527 : BitVec 32) (v6536 : BitVec 32) (v6545 : BitVec 32) (v6554 : BitVec 32) (v6563 : BitVec 32) (v6585 : BitVec 32) (k0_hw30 : k0_chk30 v6478 v6483 v6493 v6509 v6518 v6527 v6536 v6545 v6554 v6563 v6585), ∀ a, (k0_off725 v6478 v6483 v6493 v6563 v6585) a + S1x16x256.size a ≤ S200x216x256.size a := fun v6478 v6483 v6493 v6509 v6518 v6527 v6536 v6545 v6554 v6563 v6585 k0_hw30 => k0_hw30.2.2.2.2.2.2.2.2.2.2.2.2.2.2

def k0_off726 (k0_t1 : Fin k0_t1_loop.trips) : Fin 3 → Nat :=
  let c43_1905 : Index := 43#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c4_i32_1539 : BitVec 32 := 4#32
  let v6470 : BitVec 32 := Scalar.addi v5 c4_i32_1539
  let v7937 : Index := Scalar.indexCast v6470
  let c0_1906 : Index := 0#32
  ![43, v7937.toNat, 0]
def k0_off727 (v6478 : BitVec 32) (v6483 : BitVec 32) (v6563 : BitVec 32) (v6598 : BitVec 32) : Fin 3 → Nat :=
  let c199_i32_1548 : BitVec 32 := 199#32
  let c0_i32_1547 : BitVec 32 := 0#32
  let v6484 : BitVec 32 := Scalar.maxsi c0_i32_1547 v6483
  let v6485 : BitVec 32 := Scalar.minsi c199_i32_1548 v6484
  let v6564 : BitVec 32 := Scalar.addi v6485 v6563
  let v7942 : Index := Scalar.indexCast v6564
  let c199_i32_1545 : BitVec 32 := 199#32
  let c0_i32_1544 : BitVec 32 := 0#32
  let v6479 : BitVec 32 := Scalar.maxsi c0_i32_1544 v6478
  let v6480 : BitVec 32 := Scalar.minsi c199_i32_1545 v6479
  let v6599 : BitVec 32 := Scalar.addi v6480 v6598
  let c3_i32_1605 : BitVec 32 := 3#32
  let v6602 : BitVec 32 := Scalar.shrsi v6599 c3_i32_1605
  let c3_i32_1606 : BitVec 32 := 3#32
  let v6603 : BitVec 32 := Scalar.shli v6602 c3_i32_1606
  let v6604 : BitVec 32 := v6603
  let v7943 : Index := Scalar.indexCast v6604
  let c0_1908 : Index := 0#32
  ![v7942.toNat, v7943.toNat, 0]
def k0_off728 (v6478 : BitVec 32) (v6483 : BitVec 32) (v6493 : BitVec 32) (v6563 : BitVec 32) (v6598 : BitVec 32) : Fin 3 → Nat :=
  let c199_i32_1548 : BitVec 32 := 199#32
  let c0_i32_1547 : BitVec 32 := 0#32
  let v6484 : BitVec 32 := Scalar.maxsi c0_i32_1547 v6483
  let v6485 : BitVec 32 := Scalar.minsi c199_i32_1548 v6484
  let v6564 : BitVec 32 := Scalar.addi v6485 v6563
  let c1_i32_1586 : BitVec 32 := 1#32
  let v6565 : BitVec 32 := Scalar.addi v6564 c1_i32_1586
  let c199_i32_1554 : BitVec 32 := 199#32
  let c0_i32_1553 : BitVec 32 := 0#32
  let v6494 : BitVec 32 := Scalar.maxsi c0_i32_1553 v6493
  let v6495 : BitVec 32 := Scalar.minsi c199_i32_1554 v6494
  let v6566 : BitVec 32 := Scalar.minsi v6565 v6495
  let v7946 : Index := Scalar.indexCast v6566
  let c199_i32_1545 : BitVec 32 := 199#32
  let c0_i32_1544 : BitVec 32 := 0#32
  let v6479 : BitVec 32 := Scalar.maxsi c0_i32_1544 v6478
  let v6480 : BitVec 32 := Scalar.minsi c199_i32_1545 v6479
  let v6599 : BitVec 32 := Scalar.addi v6480 v6598
  let c3_i32_1605 : BitVec 32 := 3#32
  let v6602 : BitVec 32 := Scalar.shrsi v6599 c3_i32_1605
  let c3_i32_1606 : BitVec 32 := 3#32
  let v6603 : BitVec 32 := Scalar.shli v6602 c3_i32_1606
  let v6604 : BitVec 32 := v6603
  let v7947 : Index := Scalar.indexCast v6604
  let c0_1909 : Index := 0#32
  ![v7946.toNat, v7947.toNat, 0]

def k0_chk31 (v6478 : BitVec 32) (v6483 : BitVec 32) (v6493 : BitVec 32) (v6509 : BitVec 32) (v6518 : BitVec 32) (v6527 : BitVec 32) (v6536 : BitVec 32) (v6545 : BitVec 32) (v6554 : BitVec 32) (v6563 : BitVec 32) (v6598 : BitVec 32) : Prop :=
  (8 ∣ (k0_mult32 v6478 v6598).toNat) ∧
  (∀ a, (k0_off601 v6478 v6483 v6509 v6598) a + S1x16x256.size a ≤ S200x216x256.size a) ∧
  (∀ a, (k0_off602 v6478 v6483 v6493 v6509 v6598) a + S1x16x256.size a ≤ S200x216x256.size a) ∧
  (∀ a, (k0_off622 v6478 v6483 v6518 v6598) a + S1x16x256.size a ≤ S200x216x256.size a) ∧
  (∀ a, (k0_off623 v6478 v6483 v6493 v6518 v6598) a + S1x16x256.size a ≤ S200x216x256.size a) ∧
  (∀ a, (k0_off643 v6478 v6483 v6527 v6598) a + S1x16x256.size a ≤ S200x216x256.size a) ∧
  (∀ a, (k0_off644 v6478 v6483 v6493 v6527 v6598) a + S1x16x256.size a ≤ S200x216x256.size a) ∧
  (∀ a, (k0_off664 v6478 v6483 v6536 v6598) a + S1x16x256.size a ≤ S200x216x256.size a) ∧
  (∀ a, (k0_off665 v6478 v6483 v6493 v6536 v6598) a + S1x16x256.size a ≤ S200x216x256.size a) ∧
  (∀ a, (k0_off685 v6478 v6483 v6545 v6598) a + S1x16x256.size a ≤ S200x216x256.size a) ∧
  (∀ a, (k0_off686 v6478 v6483 v6493 v6545 v6598) a + S1x16x256.size a ≤ S200x216x256.size a) ∧
  (∀ a, (k0_off706 v6478 v6483 v6554 v6598) a + S1x16x256.size a ≤ S200x216x256.size a) ∧
  (∀ a, (k0_off707 v6478 v6483 v6493 v6554 v6598) a + S1x16x256.size a ≤ S200x216x256.size a) ∧
  (∀ a, (k0_off727 v6478 v6483 v6563 v6598) a + S1x16x256.size a ≤ S200x216x256.size a) ∧
  (∀ a, (k0_off728 v6478 v6483 v6493 v6563 v6598) a + S1x16x256.size a ≤ S200x216x256.size a)
theorem k0_mult32_dvd : ∀ (v6478 : BitVec 32) (v6483 : BitVec 32) (v6493 : BitVec 32) (v6509 : BitVec 32) (v6518 : BitVec 32) (v6527 : BitVec 32) (v6536 : BitVec 32) (v6545 : BitVec 32) (v6554 : BitVec 32) (v6563 : BitVec 32) (v6598 : BitVec 32) (k0_hw31 : k0_chk31 v6478 v6483 v6493 v6509 v6518 v6527 v6536 v6545 v6554 v6563 v6598), 8 ∣ (k0_mult32 v6478 v6598).toNat := fun v6478 v6483 v6493 v6509 v6518 v6527 v6536 v6545 v6554 v6563 v6598 k0_hw31 => k0_hw31.1
theorem k0_off601_inb : ∀ (v6478 : BitVec 32) (v6483 : BitVec 32) (v6493 : BitVec 32) (v6509 : BitVec 32) (v6518 : BitVec 32) (v6527 : BitVec 32) (v6536 : BitVec 32) (v6545 : BitVec 32) (v6554 : BitVec 32) (v6563 : BitVec 32) (v6598 : BitVec 32) (k0_hw31 : k0_chk31 v6478 v6483 v6493 v6509 v6518 v6527 v6536 v6545 v6554 v6563 v6598), ∀ a, (k0_off601 v6478 v6483 v6509 v6598) a + S1x16x256.size a ≤ S200x216x256.size a := fun v6478 v6483 v6493 v6509 v6518 v6527 v6536 v6545 v6554 v6563 v6598 k0_hw31 => k0_hw31.2.1
theorem k0_off602_inb : ∀ (v6478 : BitVec 32) (v6483 : BitVec 32) (v6493 : BitVec 32) (v6509 : BitVec 32) (v6518 : BitVec 32) (v6527 : BitVec 32) (v6536 : BitVec 32) (v6545 : BitVec 32) (v6554 : BitVec 32) (v6563 : BitVec 32) (v6598 : BitVec 32) (k0_hw31 : k0_chk31 v6478 v6483 v6493 v6509 v6518 v6527 v6536 v6545 v6554 v6563 v6598), ∀ a, (k0_off602 v6478 v6483 v6493 v6509 v6598) a + S1x16x256.size a ≤ S200x216x256.size a := fun v6478 v6483 v6493 v6509 v6518 v6527 v6536 v6545 v6554 v6563 v6598 k0_hw31 => k0_hw31.2.2.1
theorem k0_off622_inb : ∀ (v6478 : BitVec 32) (v6483 : BitVec 32) (v6493 : BitVec 32) (v6509 : BitVec 32) (v6518 : BitVec 32) (v6527 : BitVec 32) (v6536 : BitVec 32) (v6545 : BitVec 32) (v6554 : BitVec 32) (v6563 : BitVec 32) (v6598 : BitVec 32) (k0_hw31 : k0_chk31 v6478 v6483 v6493 v6509 v6518 v6527 v6536 v6545 v6554 v6563 v6598), ∀ a, (k0_off622 v6478 v6483 v6518 v6598) a + S1x16x256.size a ≤ S200x216x256.size a := fun v6478 v6483 v6493 v6509 v6518 v6527 v6536 v6545 v6554 v6563 v6598 k0_hw31 => k0_hw31.2.2.2.1
theorem k0_off623_inb : ∀ (v6478 : BitVec 32) (v6483 : BitVec 32) (v6493 : BitVec 32) (v6509 : BitVec 32) (v6518 : BitVec 32) (v6527 : BitVec 32) (v6536 : BitVec 32) (v6545 : BitVec 32) (v6554 : BitVec 32) (v6563 : BitVec 32) (v6598 : BitVec 32) (k0_hw31 : k0_chk31 v6478 v6483 v6493 v6509 v6518 v6527 v6536 v6545 v6554 v6563 v6598), ∀ a, (k0_off623 v6478 v6483 v6493 v6518 v6598) a + S1x16x256.size a ≤ S200x216x256.size a := fun v6478 v6483 v6493 v6509 v6518 v6527 v6536 v6545 v6554 v6563 v6598 k0_hw31 => k0_hw31.2.2.2.2.1
theorem k0_off643_inb : ∀ (v6478 : BitVec 32) (v6483 : BitVec 32) (v6493 : BitVec 32) (v6509 : BitVec 32) (v6518 : BitVec 32) (v6527 : BitVec 32) (v6536 : BitVec 32) (v6545 : BitVec 32) (v6554 : BitVec 32) (v6563 : BitVec 32) (v6598 : BitVec 32) (k0_hw31 : k0_chk31 v6478 v6483 v6493 v6509 v6518 v6527 v6536 v6545 v6554 v6563 v6598), ∀ a, (k0_off643 v6478 v6483 v6527 v6598) a + S1x16x256.size a ≤ S200x216x256.size a := fun v6478 v6483 v6493 v6509 v6518 v6527 v6536 v6545 v6554 v6563 v6598 k0_hw31 => k0_hw31.2.2.2.2.2.1
theorem k0_off644_inb : ∀ (v6478 : BitVec 32) (v6483 : BitVec 32) (v6493 : BitVec 32) (v6509 : BitVec 32) (v6518 : BitVec 32) (v6527 : BitVec 32) (v6536 : BitVec 32) (v6545 : BitVec 32) (v6554 : BitVec 32) (v6563 : BitVec 32) (v6598 : BitVec 32) (k0_hw31 : k0_chk31 v6478 v6483 v6493 v6509 v6518 v6527 v6536 v6545 v6554 v6563 v6598), ∀ a, (k0_off644 v6478 v6483 v6493 v6527 v6598) a + S1x16x256.size a ≤ S200x216x256.size a := fun v6478 v6483 v6493 v6509 v6518 v6527 v6536 v6545 v6554 v6563 v6598 k0_hw31 => k0_hw31.2.2.2.2.2.2.1
theorem k0_off664_inb : ∀ (v6478 : BitVec 32) (v6483 : BitVec 32) (v6493 : BitVec 32) (v6509 : BitVec 32) (v6518 : BitVec 32) (v6527 : BitVec 32) (v6536 : BitVec 32) (v6545 : BitVec 32) (v6554 : BitVec 32) (v6563 : BitVec 32) (v6598 : BitVec 32) (k0_hw31 : k0_chk31 v6478 v6483 v6493 v6509 v6518 v6527 v6536 v6545 v6554 v6563 v6598), ∀ a, (k0_off664 v6478 v6483 v6536 v6598) a + S1x16x256.size a ≤ S200x216x256.size a := fun v6478 v6483 v6493 v6509 v6518 v6527 v6536 v6545 v6554 v6563 v6598 k0_hw31 => k0_hw31.2.2.2.2.2.2.2.1
theorem k0_off665_inb : ∀ (v6478 : BitVec 32) (v6483 : BitVec 32) (v6493 : BitVec 32) (v6509 : BitVec 32) (v6518 : BitVec 32) (v6527 : BitVec 32) (v6536 : BitVec 32) (v6545 : BitVec 32) (v6554 : BitVec 32) (v6563 : BitVec 32) (v6598 : BitVec 32) (k0_hw31 : k0_chk31 v6478 v6483 v6493 v6509 v6518 v6527 v6536 v6545 v6554 v6563 v6598), ∀ a, (k0_off665 v6478 v6483 v6493 v6536 v6598) a + S1x16x256.size a ≤ S200x216x256.size a := fun v6478 v6483 v6493 v6509 v6518 v6527 v6536 v6545 v6554 v6563 v6598 k0_hw31 => k0_hw31.2.2.2.2.2.2.2.2.1
theorem k0_off685_inb : ∀ (v6478 : BitVec 32) (v6483 : BitVec 32) (v6493 : BitVec 32) (v6509 : BitVec 32) (v6518 : BitVec 32) (v6527 : BitVec 32) (v6536 : BitVec 32) (v6545 : BitVec 32) (v6554 : BitVec 32) (v6563 : BitVec 32) (v6598 : BitVec 32) (k0_hw31 : k0_chk31 v6478 v6483 v6493 v6509 v6518 v6527 v6536 v6545 v6554 v6563 v6598), ∀ a, (k0_off685 v6478 v6483 v6545 v6598) a + S1x16x256.size a ≤ S200x216x256.size a := fun v6478 v6483 v6493 v6509 v6518 v6527 v6536 v6545 v6554 v6563 v6598 k0_hw31 => k0_hw31.2.2.2.2.2.2.2.2.2.1
theorem k0_off686_inb : ∀ (v6478 : BitVec 32) (v6483 : BitVec 32) (v6493 : BitVec 32) (v6509 : BitVec 32) (v6518 : BitVec 32) (v6527 : BitVec 32) (v6536 : BitVec 32) (v6545 : BitVec 32) (v6554 : BitVec 32) (v6563 : BitVec 32) (v6598 : BitVec 32) (k0_hw31 : k0_chk31 v6478 v6483 v6493 v6509 v6518 v6527 v6536 v6545 v6554 v6563 v6598), ∀ a, (k0_off686 v6478 v6483 v6493 v6545 v6598) a + S1x16x256.size a ≤ S200x216x256.size a := fun v6478 v6483 v6493 v6509 v6518 v6527 v6536 v6545 v6554 v6563 v6598 k0_hw31 => k0_hw31.2.2.2.2.2.2.2.2.2.2.1
theorem k0_off706_inb : ∀ (v6478 : BitVec 32) (v6483 : BitVec 32) (v6493 : BitVec 32) (v6509 : BitVec 32) (v6518 : BitVec 32) (v6527 : BitVec 32) (v6536 : BitVec 32) (v6545 : BitVec 32) (v6554 : BitVec 32) (v6563 : BitVec 32) (v6598 : BitVec 32) (k0_hw31 : k0_chk31 v6478 v6483 v6493 v6509 v6518 v6527 v6536 v6545 v6554 v6563 v6598), ∀ a, (k0_off706 v6478 v6483 v6554 v6598) a + S1x16x256.size a ≤ S200x216x256.size a := fun v6478 v6483 v6493 v6509 v6518 v6527 v6536 v6545 v6554 v6563 v6598 k0_hw31 => k0_hw31.2.2.2.2.2.2.2.2.2.2.2.1
theorem k0_off707_inb : ∀ (v6478 : BitVec 32) (v6483 : BitVec 32) (v6493 : BitVec 32) (v6509 : BitVec 32) (v6518 : BitVec 32) (v6527 : BitVec 32) (v6536 : BitVec 32) (v6545 : BitVec 32) (v6554 : BitVec 32) (v6563 : BitVec 32) (v6598 : BitVec 32) (k0_hw31 : k0_chk31 v6478 v6483 v6493 v6509 v6518 v6527 v6536 v6545 v6554 v6563 v6598), ∀ a, (k0_off707 v6478 v6483 v6493 v6554 v6598) a + S1x16x256.size a ≤ S200x216x256.size a := fun v6478 v6483 v6493 v6509 v6518 v6527 v6536 v6545 v6554 v6563 v6598 k0_hw31 => k0_hw31.2.2.2.2.2.2.2.2.2.2.2.2.1
theorem k0_off727_inb : ∀ (v6478 : BitVec 32) (v6483 : BitVec 32) (v6493 : BitVec 32) (v6509 : BitVec 32) (v6518 : BitVec 32) (v6527 : BitVec 32) (v6536 : BitVec 32) (v6545 : BitVec 32) (v6554 : BitVec 32) (v6563 : BitVec 32) (v6598 : BitVec 32) (k0_hw31 : k0_chk31 v6478 v6483 v6493 v6509 v6518 v6527 v6536 v6545 v6554 v6563 v6598), ∀ a, (k0_off727 v6478 v6483 v6563 v6598) a + S1x16x256.size a ≤ S200x216x256.size a := fun v6478 v6483 v6493 v6509 v6518 v6527 v6536 v6545 v6554 v6563 v6598 k0_hw31 => k0_hw31.2.2.2.2.2.2.2.2.2.2.2.2.2.1
theorem k0_off728_inb : ∀ (v6478 : BitVec 32) (v6483 : BitVec 32) (v6493 : BitVec 32) (v6509 : BitVec 32) (v6518 : BitVec 32) (v6527 : BitVec 32) (v6536 : BitVec 32) (v6545 : BitVec 32) (v6554 : BitVec 32) (v6563 : BitVec 32) (v6598 : BitVec 32) (k0_hw31 : k0_chk31 v6478 v6483 v6493 v6509 v6518 v6527 v6536 v6545 v6554 v6563 v6598), ∀ a, (k0_off728 v6478 v6483 v6493 v6563 v6598) a + S1x16x256.size a ≤ S200x216x256.size a := fun v6478 v6483 v6493 v6509 v6518 v6527 v6536 v6545 v6554 v6563 v6598 k0_hw31 => k0_hw31.2.2.2.2.2.2.2.2.2.2.2.2.2.2

def k0_off729 (k0_t1 : Fin k0_t1_loop.trips) : Fin 3 → Nat :=
  let c44_1911 : Index := 44#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c4_i32_1539 : BitVec 32 := 4#32
  let v6470 : BitVec 32 := Scalar.addi v5 c4_i32_1539
  let v7966 : Index := Scalar.indexCast v6470
  let c0_1912 : Index := 0#32
  ![44, v7966.toNat, 0]
def k0_off730 (v6478 : BitVec 32) (v6483 : BitVec 32) (v6563 : BitVec 32) (v6611 : BitVec 32) : Fin 3 → Nat :=
  let c199_i32_1548 : BitVec 32 := 199#32
  let c0_i32_1547 : BitVec 32 := 0#32
  let v6484 : BitVec 32 := Scalar.maxsi c0_i32_1547 v6483
  let v6485 : BitVec 32 := Scalar.minsi c199_i32_1548 v6484
  let v6564 : BitVec 32 := Scalar.addi v6485 v6563
  let v7971 : Index := Scalar.indexCast v6564
  let c199_i32_1545 : BitVec 32 := 199#32
  let c0_i32_1544 : BitVec 32 := 0#32
  let v6479 : BitVec 32 := Scalar.maxsi c0_i32_1544 v6478
  let v6480 : BitVec 32 := Scalar.minsi c199_i32_1545 v6479
  let v6612 : BitVec 32 := Scalar.addi v6480 v6611
  let c3_i32_1612 : BitVec 32 := 3#32
  let v6615 : BitVec 32 := Scalar.shrsi v6612 c3_i32_1612
  let c3_i32_1613 : BitVec 32 := 3#32
  let v6616 : BitVec 32 := Scalar.shli v6615 c3_i32_1613
  let v6617 : BitVec 32 := v6616
  let v7972 : Index := Scalar.indexCast v6617
  let c0_1914 : Index := 0#32
  ![v7971.toNat, v7972.toNat, 0]
def k0_off731 (v6478 : BitVec 32) (v6483 : BitVec 32) (v6493 : BitVec 32) (v6563 : BitVec 32) (v6611 : BitVec 32) : Fin 3 → Nat :=
  let c199_i32_1548 : BitVec 32 := 199#32
  let c0_i32_1547 : BitVec 32 := 0#32
  let v6484 : BitVec 32 := Scalar.maxsi c0_i32_1547 v6483
  let v6485 : BitVec 32 := Scalar.minsi c199_i32_1548 v6484
  let v6564 : BitVec 32 := Scalar.addi v6485 v6563
  let c1_i32_1586 : BitVec 32 := 1#32
  let v6565 : BitVec 32 := Scalar.addi v6564 c1_i32_1586
  let c199_i32_1554 : BitVec 32 := 199#32
  let c0_i32_1553 : BitVec 32 := 0#32
  let v6494 : BitVec 32 := Scalar.maxsi c0_i32_1553 v6493
  let v6495 : BitVec 32 := Scalar.minsi c199_i32_1554 v6494
  let v6566 : BitVec 32 := Scalar.minsi v6565 v6495
  let v7975 : Index := Scalar.indexCast v6566
  let c199_i32_1545 : BitVec 32 := 199#32
  let c0_i32_1544 : BitVec 32 := 0#32
  let v6479 : BitVec 32 := Scalar.maxsi c0_i32_1544 v6478
  let v6480 : BitVec 32 := Scalar.minsi c199_i32_1545 v6479
  let v6612 : BitVec 32 := Scalar.addi v6480 v6611
  let c3_i32_1612 : BitVec 32 := 3#32
  let v6615 : BitVec 32 := Scalar.shrsi v6612 c3_i32_1612
  let c3_i32_1613 : BitVec 32 := 3#32
  let v6616 : BitVec 32 := Scalar.shli v6615 c3_i32_1613
  let v6617 : BitVec 32 := v6616
  let v7976 : Index := Scalar.indexCast v6617
  let c0_1915 : Index := 0#32
  ![v7975.toNat, v7976.toNat, 0]

def k0_chk32 (v6478 : BitVec 32) (v6483 : BitVec 32) (v6493 : BitVec 32) (v6509 : BitVec 32) (v6518 : BitVec 32) (v6527 : BitVec 32) (v6536 : BitVec 32) (v6545 : BitVec 32) (v6554 : BitVec 32) (v6563 : BitVec 32) (v6611 : BitVec 32) : Prop :=
  (8 ∣ (k0_mult33 v6478 v6611).toNat) ∧
  (∀ a, (k0_off604 v6478 v6483 v6509 v6611) a + S1x16x256.size a ≤ S200x216x256.size a) ∧
  (∀ a, (k0_off605 v6478 v6483 v6493 v6509 v6611) a + S1x16x256.size a ≤ S200x216x256.size a) ∧
  (∀ a, (k0_off625 v6478 v6483 v6518 v6611) a + S1x16x256.size a ≤ S200x216x256.size a) ∧
  (∀ a, (k0_off626 v6478 v6483 v6493 v6518 v6611) a + S1x16x256.size a ≤ S200x216x256.size a) ∧
  (∀ a, (k0_off646 v6478 v6483 v6527 v6611) a + S1x16x256.size a ≤ S200x216x256.size a) ∧
  (∀ a, (k0_off647 v6478 v6483 v6493 v6527 v6611) a + S1x16x256.size a ≤ S200x216x256.size a) ∧
  (∀ a, (k0_off667 v6478 v6483 v6536 v6611) a + S1x16x256.size a ≤ S200x216x256.size a) ∧
  (∀ a, (k0_off668 v6478 v6483 v6493 v6536 v6611) a + S1x16x256.size a ≤ S200x216x256.size a) ∧
  (∀ a, (k0_off688 v6478 v6483 v6545 v6611) a + S1x16x256.size a ≤ S200x216x256.size a) ∧
  (∀ a, (k0_off689 v6478 v6483 v6493 v6545 v6611) a + S1x16x256.size a ≤ S200x216x256.size a) ∧
  (∀ a, (k0_off709 v6478 v6483 v6554 v6611) a + S1x16x256.size a ≤ S200x216x256.size a) ∧
  (∀ a, (k0_off710 v6478 v6483 v6493 v6554 v6611) a + S1x16x256.size a ≤ S200x216x256.size a) ∧
  (∀ a, (k0_off730 v6478 v6483 v6563 v6611) a + S1x16x256.size a ≤ S200x216x256.size a) ∧
  (∀ a, (k0_off731 v6478 v6483 v6493 v6563 v6611) a + S1x16x256.size a ≤ S200x216x256.size a)
theorem k0_mult33_dvd : ∀ (v6478 : BitVec 32) (v6483 : BitVec 32) (v6493 : BitVec 32) (v6509 : BitVec 32) (v6518 : BitVec 32) (v6527 : BitVec 32) (v6536 : BitVec 32) (v6545 : BitVec 32) (v6554 : BitVec 32) (v6563 : BitVec 32) (v6611 : BitVec 32) (k0_hw32 : k0_chk32 v6478 v6483 v6493 v6509 v6518 v6527 v6536 v6545 v6554 v6563 v6611), 8 ∣ (k0_mult33 v6478 v6611).toNat := fun v6478 v6483 v6493 v6509 v6518 v6527 v6536 v6545 v6554 v6563 v6611 k0_hw32 => k0_hw32.1
theorem k0_off604_inb : ∀ (v6478 : BitVec 32) (v6483 : BitVec 32) (v6493 : BitVec 32) (v6509 : BitVec 32) (v6518 : BitVec 32) (v6527 : BitVec 32) (v6536 : BitVec 32) (v6545 : BitVec 32) (v6554 : BitVec 32) (v6563 : BitVec 32) (v6611 : BitVec 32) (k0_hw32 : k0_chk32 v6478 v6483 v6493 v6509 v6518 v6527 v6536 v6545 v6554 v6563 v6611), ∀ a, (k0_off604 v6478 v6483 v6509 v6611) a + S1x16x256.size a ≤ S200x216x256.size a := fun v6478 v6483 v6493 v6509 v6518 v6527 v6536 v6545 v6554 v6563 v6611 k0_hw32 => k0_hw32.2.1
theorem k0_off605_inb : ∀ (v6478 : BitVec 32) (v6483 : BitVec 32) (v6493 : BitVec 32) (v6509 : BitVec 32) (v6518 : BitVec 32) (v6527 : BitVec 32) (v6536 : BitVec 32) (v6545 : BitVec 32) (v6554 : BitVec 32) (v6563 : BitVec 32) (v6611 : BitVec 32) (k0_hw32 : k0_chk32 v6478 v6483 v6493 v6509 v6518 v6527 v6536 v6545 v6554 v6563 v6611), ∀ a, (k0_off605 v6478 v6483 v6493 v6509 v6611) a + S1x16x256.size a ≤ S200x216x256.size a := fun v6478 v6483 v6493 v6509 v6518 v6527 v6536 v6545 v6554 v6563 v6611 k0_hw32 => k0_hw32.2.2.1
theorem k0_off625_inb : ∀ (v6478 : BitVec 32) (v6483 : BitVec 32) (v6493 : BitVec 32) (v6509 : BitVec 32) (v6518 : BitVec 32) (v6527 : BitVec 32) (v6536 : BitVec 32) (v6545 : BitVec 32) (v6554 : BitVec 32) (v6563 : BitVec 32) (v6611 : BitVec 32) (k0_hw32 : k0_chk32 v6478 v6483 v6493 v6509 v6518 v6527 v6536 v6545 v6554 v6563 v6611), ∀ a, (k0_off625 v6478 v6483 v6518 v6611) a + S1x16x256.size a ≤ S200x216x256.size a := fun v6478 v6483 v6493 v6509 v6518 v6527 v6536 v6545 v6554 v6563 v6611 k0_hw32 => k0_hw32.2.2.2.1
theorem k0_off626_inb : ∀ (v6478 : BitVec 32) (v6483 : BitVec 32) (v6493 : BitVec 32) (v6509 : BitVec 32) (v6518 : BitVec 32) (v6527 : BitVec 32) (v6536 : BitVec 32) (v6545 : BitVec 32) (v6554 : BitVec 32) (v6563 : BitVec 32) (v6611 : BitVec 32) (k0_hw32 : k0_chk32 v6478 v6483 v6493 v6509 v6518 v6527 v6536 v6545 v6554 v6563 v6611), ∀ a, (k0_off626 v6478 v6483 v6493 v6518 v6611) a + S1x16x256.size a ≤ S200x216x256.size a := fun v6478 v6483 v6493 v6509 v6518 v6527 v6536 v6545 v6554 v6563 v6611 k0_hw32 => k0_hw32.2.2.2.2.1
theorem k0_off646_inb : ∀ (v6478 : BitVec 32) (v6483 : BitVec 32) (v6493 : BitVec 32) (v6509 : BitVec 32) (v6518 : BitVec 32) (v6527 : BitVec 32) (v6536 : BitVec 32) (v6545 : BitVec 32) (v6554 : BitVec 32) (v6563 : BitVec 32) (v6611 : BitVec 32) (k0_hw32 : k0_chk32 v6478 v6483 v6493 v6509 v6518 v6527 v6536 v6545 v6554 v6563 v6611), ∀ a, (k0_off646 v6478 v6483 v6527 v6611) a + S1x16x256.size a ≤ S200x216x256.size a := fun v6478 v6483 v6493 v6509 v6518 v6527 v6536 v6545 v6554 v6563 v6611 k0_hw32 => k0_hw32.2.2.2.2.2.1
theorem k0_off647_inb : ∀ (v6478 : BitVec 32) (v6483 : BitVec 32) (v6493 : BitVec 32) (v6509 : BitVec 32) (v6518 : BitVec 32) (v6527 : BitVec 32) (v6536 : BitVec 32) (v6545 : BitVec 32) (v6554 : BitVec 32) (v6563 : BitVec 32) (v6611 : BitVec 32) (k0_hw32 : k0_chk32 v6478 v6483 v6493 v6509 v6518 v6527 v6536 v6545 v6554 v6563 v6611), ∀ a, (k0_off647 v6478 v6483 v6493 v6527 v6611) a + S1x16x256.size a ≤ S200x216x256.size a := fun v6478 v6483 v6493 v6509 v6518 v6527 v6536 v6545 v6554 v6563 v6611 k0_hw32 => k0_hw32.2.2.2.2.2.2.1
theorem k0_off667_inb : ∀ (v6478 : BitVec 32) (v6483 : BitVec 32) (v6493 : BitVec 32) (v6509 : BitVec 32) (v6518 : BitVec 32) (v6527 : BitVec 32) (v6536 : BitVec 32) (v6545 : BitVec 32) (v6554 : BitVec 32) (v6563 : BitVec 32) (v6611 : BitVec 32) (k0_hw32 : k0_chk32 v6478 v6483 v6493 v6509 v6518 v6527 v6536 v6545 v6554 v6563 v6611), ∀ a, (k0_off667 v6478 v6483 v6536 v6611) a + S1x16x256.size a ≤ S200x216x256.size a := fun v6478 v6483 v6493 v6509 v6518 v6527 v6536 v6545 v6554 v6563 v6611 k0_hw32 => k0_hw32.2.2.2.2.2.2.2.1
theorem k0_off668_inb : ∀ (v6478 : BitVec 32) (v6483 : BitVec 32) (v6493 : BitVec 32) (v6509 : BitVec 32) (v6518 : BitVec 32) (v6527 : BitVec 32) (v6536 : BitVec 32) (v6545 : BitVec 32) (v6554 : BitVec 32) (v6563 : BitVec 32) (v6611 : BitVec 32) (k0_hw32 : k0_chk32 v6478 v6483 v6493 v6509 v6518 v6527 v6536 v6545 v6554 v6563 v6611), ∀ a, (k0_off668 v6478 v6483 v6493 v6536 v6611) a + S1x16x256.size a ≤ S200x216x256.size a := fun v6478 v6483 v6493 v6509 v6518 v6527 v6536 v6545 v6554 v6563 v6611 k0_hw32 => k0_hw32.2.2.2.2.2.2.2.2.1
theorem k0_off688_inb : ∀ (v6478 : BitVec 32) (v6483 : BitVec 32) (v6493 : BitVec 32) (v6509 : BitVec 32) (v6518 : BitVec 32) (v6527 : BitVec 32) (v6536 : BitVec 32) (v6545 : BitVec 32) (v6554 : BitVec 32) (v6563 : BitVec 32) (v6611 : BitVec 32) (k0_hw32 : k0_chk32 v6478 v6483 v6493 v6509 v6518 v6527 v6536 v6545 v6554 v6563 v6611), ∀ a, (k0_off688 v6478 v6483 v6545 v6611) a + S1x16x256.size a ≤ S200x216x256.size a := fun v6478 v6483 v6493 v6509 v6518 v6527 v6536 v6545 v6554 v6563 v6611 k0_hw32 => k0_hw32.2.2.2.2.2.2.2.2.2.1
theorem k0_off689_inb : ∀ (v6478 : BitVec 32) (v6483 : BitVec 32) (v6493 : BitVec 32) (v6509 : BitVec 32) (v6518 : BitVec 32) (v6527 : BitVec 32) (v6536 : BitVec 32) (v6545 : BitVec 32) (v6554 : BitVec 32) (v6563 : BitVec 32) (v6611 : BitVec 32) (k0_hw32 : k0_chk32 v6478 v6483 v6493 v6509 v6518 v6527 v6536 v6545 v6554 v6563 v6611), ∀ a, (k0_off689 v6478 v6483 v6493 v6545 v6611) a + S1x16x256.size a ≤ S200x216x256.size a := fun v6478 v6483 v6493 v6509 v6518 v6527 v6536 v6545 v6554 v6563 v6611 k0_hw32 => k0_hw32.2.2.2.2.2.2.2.2.2.2.1
theorem k0_off709_inb : ∀ (v6478 : BitVec 32) (v6483 : BitVec 32) (v6493 : BitVec 32) (v6509 : BitVec 32) (v6518 : BitVec 32) (v6527 : BitVec 32) (v6536 : BitVec 32) (v6545 : BitVec 32) (v6554 : BitVec 32) (v6563 : BitVec 32) (v6611 : BitVec 32) (k0_hw32 : k0_chk32 v6478 v6483 v6493 v6509 v6518 v6527 v6536 v6545 v6554 v6563 v6611), ∀ a, (k0_off709 v6478 v6483 v6554 v6611) a + S1x16x256.size a ≤ S200x216x256.size a := fun v6478 v6483 v6493 v6509 v6518 v6527 v6536 v6545 v6554 v6563 v6611 k0_hw32 => k0_hw32.2.2.2.2.2.2.2.2.2.2.2.1
theorem k0_off710_inb : ∀ (v6478 : BitVec 32) (v6483 : BitVec 32) (v6493 : BitVec 32) (v6509 : BitVec 32) (v6518 : BitVec 32) (v6527 : BitVec 32) (v6536 : BitVec 32) (v6545 : BitVec 32) (v6554 : BitVec 32) (v6563 : BitVec 32) (v6611 : BitVec 32) (k0_hw32 : k0_chk32 v6478 v6483 v6493 v6509 v6518 v6527 v6536 v6545 v6554 v6563 v6611), ∀ a, (k0_off710 v6478 v6483 v6493 v6554 v6611) a + S1x16x256.size a ≤ S200x216x256.size a := fun v6478 v6483 v6493 v6509 v6518 v6527 v6536 v6545 v6554 v6563 v6611 k0_hw32 => k0_hw32.2.2.2.2.2.2.2.2.2.2.2.2.1
theorem k0_off730_inb : ∀ (v6478 : BitVec 32) (v6483 : BitVec 32) (v6493 : BitVec 32) (v6509 : BitVec 32) (v6518 : BitVec 32) (v6527 : BitVec 32) (v6536 : BitVec 32) (v6545 : BitVec 32) (v6554 : BitVec 32) (v6563 : BitVec 32) (v6611 : BitVec 32) (k0_hw32 : k0_chk32 v6478 v6483 v6493 v6509 v6518 v6527 v6536 v6545 v6554 v6563 v6611), ∀ a, (k0_off730 v6478 v6483 v6563 v6611) a + S1x16x256.size a ≤ S200x216x256.size a := fun v6478 v6483 v6493 v6509 v6518 v6527 v6536 v6545 v6554 v6563 v6611 k0_hw32 => k0_hw32.2.2.2.2.2.2.2.2.2.2.2.2.2.1
theorem k0_off731_inb : ∀ (v6478 : BitVec 32) (v6483 : BitVec 32) (v6493 : BitVec 32) (v6509 : BitVec 32) (v6518 : BitVec 32) (v6527 : BitVec 32) (v6536 : BitVec 32) (v6545 : BitVec 32) (v6554 : BitVec 32) (v6563 : BitVec 32) (v6611 : BitVec 32) (k0_hw32 : k0_chk32 v6478 v6483 v6493 v6509 v6518 v6527 v6536 v6545 v6554 v6563 v6611), ∀ a, (k0_off731 v6478 v6483 v6493 v6563 v6611) a + S1x16x256.size a ≤ S200x216x256.size a := fun v6478 v6483 v6493 v6509 v6518 v6527 v6536 v6545 v6554 v6563 v6611 k0_hw32 => k0_hw32.2.2.2.2.2.2.2.2.2.2.2.2.2.2

def k0_off732 (k0_t1 : Fin k0_t1_loop.trips) : Fin 3 → Nat :=
  let c45_1917 : Index := 45#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c4_i32_1539 : BitVec 32 := 4#32
  let v6470 : BitVec 32 := Scalar.addi v5 c4_i32_1539
  let v7995 : Index := Scalar.indexCast v6470
  let c0_1918 : Index := 0#32
  ![45, v7995.toNat, 0]
def k0_off733 (v6478 : BitVec 32) (v6483 : BitVec 32) (v6563 : BitVec 32) (v6624 : BitVec 32) : Fin 3 → Nat :=
  let c199_i32_1548 : BitVec 32 := 199#32
  let c0_i32_1547 : BitVec 32 := 0#32
  let v6484 : BitVec 32 := Scalar.maxsi c0_i32_1547 v6483
  let v6485 : BitVec 32 := Scalar.minsi c199_i32_1548 v6484
  let v6564 : BitVec 32 := Scalar.addi v6485 v6563
  let v8000 : Index := Scalar.indexCast v6564
  let c199_i32_1545 : BitVec 32 := 199#32
  let c0_i32_1544 : BitVec 32 := 0#32
  let v6479 : BitVec 32 := Scalar.maxsi c0_i32_1544 v6478
  let v6480 : BitVec 32 := Scalar.minsi c199_i32_1545 v6479
  let v6625 : BitVec 32 := Scalar.addi v6480 v6624
  let c3_i32_1619 : BitVec 32 := 3#32
  let v6628 : BitVec 32 := Scalar.shrsi v6625 c3_i32_1619
  let c3_i32_1620 : BitVec 32 := 3#32
  let v6629 : BitVec 32 := Scalar.shli v6628 c3_i32_1620
  let v6630 : BitVec 32 := v6629
  let v8001 : Index := Scalar.indexCast v6630
  let c0_1920 : Index := 0#32
  ![v8000.toNat, v8001.toNat, 0]
def k0_off734 (v6478 : BitVec 32) (v6483 : BitVec 32) (v6493 : BitVec 32) (v6563 : BitVec 32) (v6624 : BitVec 32) : Fin 3 → Nat :=
  let c199_i32_1548 : BitVec 32 := 199#32
  let c0_i32_1547 : BitVec 32 := 0#32
  let v6484 : BitVec 32 := Scalar.maxsi c0_i32_1547 v6483
  let v6485 : BitVec 32 := Scalar.minsi c199_i32_1548 v6484
  let v6564 : BitVec 32 := Scalar.addi v6485 v6563
  let c1_i32_1586 : BitVec 32 := 1#32
  let v6565 : BitVec 32 := Scalar.addi v6564 c1_i32_1586
  let c199_i32_1554 : BitVec 32 := 199#32
  let c0_i32_1553 : BitVec 32 := 0#32
  let v6494 : BitVec 32 := Scalar.maxsi c0_i32_1553 v6493
  let v6495 : BitVec 32 := Scalar.minsi c199_i32_1554 v6494
  let v6566 : BitVec 32 := Scalar.minsi v6565 v6495
  let v8004 : Index := Scalar.indexCast v6566
  let c199_i32_1545 : BitVec 32 := 199#32
  let c0_i32_1544 : BitVec 32 := 0#32
  let v6479 : BitVec 32 := Scalar.maxsi c0_i32_1544 v6478
  let v6480 : BitVec 32 := Scalar.minsi c199_i32_1545 v6479
  let v6625 : BitVec 32 := Scalar.addi v6480 v6624
  let c3_i32_1619 : BitVec 32 := 3#32
  let v6628 : BitVec 32 := Scalar.shrsi v6625 c3_i32_1619
  let c3_i32_1620 : BitVec 32 := 3#32
  let v6629 : BitVec 32 := Scalar.shli v6628 c3_i32_1620
  let v6630 : BitVec 32 := v6629
  let v8005 : Index := Scalar.indexCast v6630
  let c0_1921 : Index := 0#32
  ![v8004.toNat, v8005.toNat, 0]

def k0_chk33 (v6478 : BitVec 32) (v6483 : BitVec 32) (v6493 : BitVec 32) (v6509 : BitVec 32) (v6518 : BitVec 32) (v6527 : BitVec 32) (v6536 : BitVec 32) (v6545 : BitVec 32) (v6554 : BitVec 32) (v6563 : BitVec 32) (v6624 : BitVec 32) : Prop :=
  (8 ∣ (k0_mult34 v6478 v6624).toNat) ∧
  (∀ a, (k0_off607 v6478 v6483 v6509 v6624) a + S1x16x256.size a ≤ S200x216x256.size a) ∧
  (∀ a, (k0_off608 v6478 v6483 v6493 v6509 v6624) a + S1x16x256.size a ≤ S200x216x256.size a) ∧
  (∀ a, (k0_off628 v6478 v6483 v6518 v6624) a + S1x16x256.size a ≤ S200x216x256.size a) ∧
  (∀ a, (k0_off629 v6478 v6483 v6493 v6518 v6624) a + S1x16x256.size a ≤ S200x216x256.size a) ∧
  (∀ a, (k0_off649 v6478 v6483 v6527 v6624) a + S1x16x256.size a ≤ S200x216x256.size a) ∧
  (∀ a, (k0_off650 v6478 v6483 v6493 v6527 v6624) a + S1x16x256.size a ≤ S200x216x256.size a) ∧
  (∀ a, (k0_off670 v6478 v6483 v6536 v6624) a + S1x16x256.size a ≤ S200x216x256.size a) ∧
  (∀ a, (k0_off671 v6478 v6483 v6493 v6536 v6624) a + S1x16x256.size a ≤ S200x216x256.size a) ∧
  (∀ a, (k0_off691 v6478 v6483 v6545 v6624) a + S1x16x256.size a ≤ S200x216x256.size a) ∧
  (∀ a, (k0_off692 v6478 v6483 v6493 v6545 v6624) a + S1x16x256.size a ≤ S200x216x256.size a) ∧
  (∀ a, (k0_off712 v6478 v6483 v6554 v6624) a + S1x16x256.size a ≤ S200x216x256.size a) ∧
  (∀ a, (k0_off713 v6478 v6483 v6493 v6554 v6624) a + S1x16x256.size a ≤ S200x216x256.size a) ∧
  (∀ a, (k0_off733 v6478 v6483 v6563 v6624) a + S1x16x256.size a ≤ S200x216x256.size a) ∧
  (∀ a, (k0_off734 v6478 v6483 v6493 v6563 v6624) a + S1x16x256.size a ≤ S200x216x256.size a)
theorem k0_mult34_dvd : ∀ (v6478 : BitVec 32) (v6483 : BitVec 32) (v6493 : BitVec 32) (v6509 : BitVec 32) (v6518 : BitVec 32) (v6527 : BitVec 32) (v6536 : BitVec 32) (v6545 : BitVec 32) (v6554 : BitVec 32) (v6563 : BitVec 32) (v6624 : BitVec 32) (k0_hw33 : k0_chk33 v6478 v6483 v6493 v6509 v6518 v6527 v6536 v6545 v6554 v6563 v6624), 8 ∣ (k0_mult34 v6478 v6624).toNat := fun v6478 v6483 v6493 v6509 v6518 v6527 v6536 v6545 v6554 v6563 v6624 k0_hw33 => k0_hw33.1
theorem k0_off607_inb : ∀ (v6478 : BitVec 32) (v6483 : BitVec 32) (v6493 : BitVec 32) (v6509 : BitVec 32) (v6518 : BitVec 32) (v6527 : BitVec 32) (v6536 : BitVec 32) (v6545 : BitVec 32) (v6554 : BitVec 32) (v6563 : BitVec 32) (v6624 : BitVec 32) (k0_hw33 : k0_chk33 v6478 v6483 v6493 v6509 v6518 v6527 v6536 v6545 v6554 v6563 v6624), ∀ a, (k0_off607 v6478 v6483 v6509 v6624) a + S1x16x256.size a ≤ S200x216x256.size a := fun v6478 v6483 v6493 v6509 v6518 v6527 v6536 v6545 v6554 v6563 v6624 k0_hw33 => k0_hw33.2.1
theorem k0_off608_inb : ∀ (v6478 : BitVec 32) (v6483 : BitVec 32) (v6493 : BitVec 32) (v6509 : BitVec 32) (v6518 : BitVec 32) (v6527 : BitVec 32) (v6536 : BitVec 32) (v6545 : BitVec 32) (v6554 : BitVec 32) (v6563 : BitVec 32) (v6624 : BitVec 32) (k0_hw33 : k0_chk33 v6478 v6483 v6493 v6509 v6518 v6527 v6536 v6545 v6554 v6563 v6624), ∀ a, (k0_off608 v6478 v6483 v6493 v6509 v6624) a + S1x16x256.size a ≤ S200x216x256.size a := fun v6478 v6483 v6493 v6509 v6518 v6527 v6536 v6545 v6554 v6563 v6624 k0_hw33 => k0_hw33.2.2.1
theorem k0_off628_inb : ∀ (v6478 : BitVec 32) (v6483 : BitVec 32) (v6493 : BitVec 32) (v6509 : BitVec 32) (v6518 : BitVec 32) (v6527 : BitVec 32) (v6536 : BitVec 32) (v6545 : BitVec 32) (v6554 : BitVec 32) (v6563 : BitVec 32) (v6624 : BitVec 32) (k0_hw33 : k0_chk33 v6478 v6483 v6493 v6509 v6518 v6527 v6536 v6545 v6554 v6563 v6624), ∀ a, (k0_off628 v6478 v6483 v6518 v6624) a + S1x16x256.size a ≤ S200x216x256.size a := fun v6478 v6483 v6493 v6509 v6518 v6527 v6536 v6545 v6554 v6563 v6624 k0_hw33 => k0_hw33.2.2.2.1
theorem k0_off629_inb : ∀ (v6478 : BitVec 32) (v6483 : BitVec 32) (v6493 : BitVec 32) (v6509 : BitVec 32) (v6518 : BitVec 32) (v6527 : BitVec 32) (v6536 : BitVec 32) (v6545 : BitVec 32) (v6554 : BitVec 32) (v6563 : BitVec 32) (v6624 : BitVec 32) (k0_hw33 : k0_chk33 v6478 v6483 v6493 v6509 v6518 v6527 v6536 v6545 v6554 v6563 v6624), ∀ a, (k0_off629 v6478 v6483 v6493 v6518 v6624) a + S1x16x256.size a ≤ S200x216x256.size a := fun v6478 v6483 v6493 v6509 v6518 v6527 v6536 v6545 v6554 v6563 v6624 k0_hw33 => k0_hw33.2.2.2.2.1
theorem k0_off649_inb : ∀ (v6478 : BitVec 32) (v6483 : BitVec 32) (v6493 : BitVec 32) (v6509 : BitVec 32) (v6518 : BitVec 32) (v6527 : BitVec 32) (v6536 : BitVec 32) (v6545 : BitVec 32) (v6554 : BitVec 32) (v6563 : BitVec 32) (v6624 : BitVec 32) (k0_hw33 : k0_chk33 v6478 v6483 v6493 v6509 v6518 v6527 v6536 v6545 v6554 v6563 v6624), ∀ a, (k0_off649 v6478 v6483 v6527 v6624) a + S1x16x256.size a ≤ S200x216x256.size a := fun v6478 v6483 v6493 v6509 v6518 v6527 v6536 v6545 v6554 v6563 v6624 k0_hw33 => k0_hw33.2.2.2.2.2.1
theorem k0_off650_inb : ∀ (v6478 : BitVec 32) (v6483 : BitVec 32) (v6493 : BitVec 32) (v6509 : BitVec 32) (v6518 : BitVec 32) (v6527 : BitVec 32) (v6536 : BitVec 32) (v6545 : BitVec 32) (v6554 : BitVec 32) (v6563 : BitVec 32) (v6624 : BitVec 32) (k0_hw33 : k0_chk33 v6478 v6483 v6493 v6509 v6518 v6527 v6536 v6545 v6554 v6563 v6624), ∀ a, (k0_off650 v6478 v6483 v6493 v6527 v6624) a + S1x16x256.size a ≤ S200x216x256.size a := fun v6478 v6483 v6493 v6509 v6518 v6527 v6536 v6545 v6554 v6563 v6624 k0_hw33 => k0_hw33.2.2.2.2.2.2.1
theorem k0_off670_inb : ∀ (v6478 : BitVec 32) (v6483 : BitVec 32) (v6493 : BitVec 32) (v6509 : BitVec 32) (v6518 : BitVec 32) (v6527 : BitVec 32) (v6536 : BitVec 32) (v6545 : BitVec 32) (v6554 : BitVec 32) (v6563 : BitVec 32) (v6624 : BitVec 32) (k0_hw33 : k0_chk33 v6478 v6483 v6493 v6509 v6518 v6527 v6536 v6545 v6554 v6563 v6624), ∀ a, (k0_off670 v6478 v6483 v6536 v6624) a + S1x16x256.size a ≤ S200x216x256.size a := fun v6478 v6483 v6493 v6509 v6518 v6527 v6536 v6545 v6554 v6563 v6624 k0_hw33 => k0_hw33.2.2.2.2.2.2.2.1
theorem k0_off671_inb : ∀ (v6478 : BitVec 32) (v6483 : BitVec 32) (v6493 : BitVec 32) (v6509 : BitVec 32) (v6518 : BitVec 32) (v6527 : BitVec 32) (v6536 : BitVec 32) (v6545 : BitVec 32) (v6554 : BitVec 32) (v6563 : BitVec 32) (v6624 : BitVec 32) (k0_hw33 : k0_chk33 v6478 v6483 v6493 v6509 v6518 v6527 v6536 v6545 v6554 v6563 v6624), ∀ a, (k0_off671 v6478 v6483 v6493 v6536 v6624) a + S1x16x256.size a ≤ S200x216x256.size a := fun v6478 v6483 v6493 v6509 v6518 v6527 v6536 v6545 v6554 v6563 v6624 k0_hw33 => k0_hw33.2.2.2.2.2.2.2.2.1
theorem k0_off691_inb : ∀ (v6478 : BitVec 32) (v6483 : BitVec 32) (v6493 : BitVec 32) (v6509 : BitVec 32) (v6518 : BitVec 32) (v6527 : BitVec 32) (v6536 : BitVec 32) (v6545 : BitVec 32) (v6554 : BitVec 32) (v6563 : BitVec 32) (v6624 : BitVec 32) (k0_hw33 : k0_chk33 v6478 v6483 v6493 v6509 v6518 v6527 v6536 v6545 v6554 v6563 v6624), ∀ a, (k0_off691 v6478 v6483 v6545 v6624) a + S1x16x256.size a ≤ S200x216x256.size a := fun v6478 v6483 v6493 v6509 v6518 v6527 v6536 v6545 v6554 v6563 v6624 k0_hw33 => k0_hw33.2.2.2.2.2.2.2.2.2.1
theorem k0_off692_inb : ∀ (v6478 : BitVec 32) (v6483 : BitVec 32) (v6493 : BitVec 32) (v6509 : BitVec 32) (v6518 : BitVec 32) (v6527 : BitVec 32) (v6536 : BitVec 32) (v6545 : BitVec 32) (v6554 : BitVec 32) (v6563 : BitVec 32) (v6624 : BitVec 32) (k0_hw33 : k0_chk33 v6478 v6483 v6493 v6509 v6518 v6527 v6536 v6545 v6554 v6563 v6624), ∀ a, (k0_off692 v6478 v6483 v6493 v6545 v6624) a + S1x16x256.size a ≤ S200x216x256.size a := fun v6478 v6483 v6493 v6509 v6518 v6527 v6536 v6545 v6554 v6563 v6624 k0_hw33 => k0_hw33.2.2.2.2.2.2.2.2.2.2.1
theorem k0_off712_inb : ∀ (v6478 : BitVec 32) (v6483 : BitVec 32) (v6493 : BitVec 32) (v6509 : BitVec 32) (v6518 : BitVec 32) (v6527 : BitVec 32) (v6536 : BitVec 32) (v6545 : BitVec 32) (v6554 : BitVec 32) (v6563 : BitVec 32) (v6624 : BitVec 32) (k0_hw33 : k0_chk33 v6478 v6483 v6493 v6509 v6518 v6527 v6536 v6545 v6554 v6563 v6624), ∀ a, (k0_off712 v6478 v6483 v6554 v6624) a + S1x16x256.size a ≤ S200x216x256.size a := fun v6478 v6483 v6493 v6509 v6518 v6527 v6536 v6545 v6554 v6563 v6624 k0_hw33 => k0_hw33.2.2.2.2.2.2.2.2.2.2.2.1
theorem k0_off713_inb : ∀ (v6478 : BitVec 32) (v6483 : BitVec 32) (v6493 : BitVec 32) (v6509 : BitVec 32) (v6518 : BitVec 32) (v6527 : BitVec 32) (v6536 : BitVec 32) (v6545 : BitVec 32) (v6554 : BitVec 32) (v6563 : BitVec 32) (v6624 : BitVec 32) (k0_hw33 : k0_chk33 v6478 v6483 v6493 v6509 v6518 v6527 v6536 v6545 v6554 v6563 v6624), ∀ a, (k0_off713 v6478 v6483 v6493 v6554 v6624) a + S1x16x256.size a ≤ S200x216x256.size a := fun v6478 v6483 v6493 v6509 v6518 v6527 v6536 v6545 v6554 v6563 v6624 k0_hw33 => k0_hw33.2.2.2.2.2.2.2.2.2.2.2.2.1
theorem k0_off733_inb : ∀ (v6478 : BitVec 32) (v6483 : BitVec 32) (v6493 : BitVec 32) (v6509 : BitVec 32) (v6518 : BitVec 32) (v6527 : BitVec 32) (v6536 : BitVec 32) (v6545 : BitVec 32) (v6554 : BitVec 32) (v6563 : BitVec 32) (v6624 : BitVec 32) (k0_hw33 : k0_chk33 v6478 v6483 v6493 v6509 v6518 v6527 v6536 v6545 v6554 v6563 v6624), ∀ a, (k0_off733 v6478 v6483 v6563 v6624) a + S1x16x256.size a ≤ S200x216x256.size a := fun v6478 v6483 v6493 v6509 v6518 v6527 v6536 v6545 v6554 v6563 v6624 k0_hw33 => k0_hw33.2.2.2.2.2.2.2.2.2.2.2.2.2.1
theorem k0_off734_inb : ∀ (v6478 : BitVec 32) (v6483 : BitVec 32) (v6493 : BitVec 32) (v6509 : BitVec 32) (v6518 : BitVec 32) (v6527 : BitVec 32) (v6536 : BitVec 32) (v6545 : BitVec 32) (v6554 : BitVec 32) (v6563 : BitVec 32) (v6624 : BitVec 32) (k0_hw33 : k0_chk33 v6478 v6483 v6493 v6509 v6518 v6527 v6536 v6545 v6554 v6563 v6624), ∀ a, (k0_off734 v6478 v6483 v6493 v6563 v6624) a + S1x16x256.size a ≤ S200x216x256.size a := fun v6478 v6483 v6493 v6509 v6518 v6527 v6536 v6545 v6554 v6563 v6624 k0_hw33 => k0_hw33.2.2.2.2.2.2.2.2.2.2.2.2.2.2

def k0_off735 (k0_t1 : Fin k0_t1_loop.trips) : Fin 3 → Nat :=
  let c46_1923 : Index := 46#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c4_i32_1539 : BitVec 32 := 4#32
  let v6470 : BitVec 32 := Scalar.addi v5 c4_i32_1539
  let v8024 : Index := Scalar.indexCast v6470
  let c0_1924 : Index := 0#32
  ![46, v8024.toNat, 0]
def k0_off736 (v6478 : BitVec 32) (v6483 : BitVec 32) (v6563 : BitVec 32) (v6637 : BitVec 32) : Fin 3 → Nat :=
  let c199_i32_1548 : BitVec 32 := 199#32
  let c0_i32_1547 : BitVec 32 := 0#32
  let v6484 : BitVec 32 := Scalar.maxsi c0_i32_1547 v6483
  let v6485 : BitVec 32 := Scalar.minsi c199_i32_1548 v6484
  let v6564 : BitVec 32 := Scalar.addi v6485 v6563
  let v8029 : Index := Scalar.indexCast v6564
  let c199_i32_1545 : BitVec 32 := 199#32
  let c0_i32_1544 : BitVec 32 := 0#32
  let v6479 : BitVec 32 := Scalar.maxsi c0_i32_1544 v6478
  let v6480 : BitVec 32 := Scalar.minsi c199_i32_1545 v6479
  let v6638 : BitVec 32 := Scalar.addi v6480 v6637
  let c3_i32_1626 : BitVec 32 := 3#32
  let v6641 : BitVec 32 := Scalar.shrsi v6638 c3_i32_1626
  let c3_i32_1627 : BitVec 32 := 3#32
  let v6642 : BitVec 32 := Scalar.shli v6641 c3_i32_1627
  let v6643 : BitVec 32 := v6642
  let v8030 : Index := Scalar.indexCast v6643
  let c0_1926 : Index := 0#32
  ![v8029.toNat, v8030.toNat, 0]
def k0_off737 (v6478 : BitVec 32) (v6483 : BitVec 32) (v6493 : BitVec 32) (v6563 : BitVec 32) (v6637 : BitVec 32) : Fin 3 → Nat :=
  let c199_i32_1548 : BitVec 32 := 199#32
  let c0_i32_1547 : BitVec 32 := 0#32
  let v6484 : BitVec 32 := Scalar.maxsi c0_i32_1547 v6483
  let v6485 : BitVec 32 := Scalar.minsi c199_i32_1548 v6484
  let v6564 : BitVec 32 := Scalar.addi v6485 v6563
  let c1_i32_1586 : BitVec 32 := 1#32
  let v6565 : BitVec 32 := Scalar.addi v6564 c1_i32_1586
  let c199_i32_1554 : BitVec 32 := 199#32
  let c0_i32_1553 : BitVec 32 := 0#32
  let v6494 : BitVec 32 := Scalar.maxsi c0_i32_1553 v6493
  let v6495 : BitVec 32 := Scalar.minsi c199_i32_1554 v6494
  let v6566 : BitVec 32 := Scalar.minsi v6565 v6495
  let v8033 : Index := Scalar.indexCast v6566
  let c199_i32_1545 : BitVec 32 := 199#32
  let c0_i32_1544 : BitVec 32 := 0#32
  let v6479 : BitVec 32 := Scalar.maxsi c0_i32_1544 v6478
  let v6480 : BitVec 32 := Scalar.minsi c199_i32_1545 v6479
  let v6638 : BitVec 32 := Scalar.addi v6480 v6637
  let c3_i32_1626 : BitVec 32 := 3#32
  let v6641 : BitVec 32 := Scalar.shrsi v6638 c3_i32_1626
  let c3_i32_1627 : BitVec 32 := 3#32
  let v6642 : BitVec 32 := Scalar.shli v6641 c3_i32_1627
  let v6643 : BitVec 32 := v6642
  let v8034 : Index := Scalar.indexCast v6643
  let c0_1927 : Index := 0#32
  ![v8033.toNat, v8034.toNat, 0]

def k0_chk34 (v6478 : BitVec 32) (v6483 : BitVec 32) (v6493 : BitVec 32) (v6509 : BitVec 32) (v6518 : BitVec 32) (v6527 : BitVec 32) (v6536 : BitVec 32) (v6545 : BitVec 32) (v6554 : BitVec 32) (v6563 : BitVec 32) (v6637 : BitVec 32) : Prop :=
  (8 ∣ (k0_mult35 v6478 v6637).toNat) ∧
  (∀ a, (k0_off610 v6478 v6483 v6509 v6637) a + S1x16x256.size a ≤ S200x216x256.size a) ∧
  (∀ a, (k0_off611 v6478 v6483 v6493 v6509 v6637) a + S1x16x256.size a ≤ S200x216x256.size a) ∧
  (∀ a, (k0_off631 v6478 v6483 v6518 v6637) a + S1x16x256.size a ≤ S200x216x256.size a) ∧
  (∀ a, (k0_off632 v6478 v6483 v6493 v6518 v6637) a + S1x16x256.size a ≤ S200x216x256.size a) ∧
  (∀ a, (k0_off652 v6478 v6483 v6527 v6637) a + S1x16x256.size a ≤ S200x216x256.size a) ∧
  (∀ a, (k0_off653 v6478 v6483 v6493 v6527 v6637) a + S1x16x256.size a ≤ S200x216x256.size a) ∧
  (∀ a, (k0_off673 v6478 v6483 v6536 v6637) a + S1x16x256.size a ≤ S200x216x256.size a) ∧
  (∀ a, (k0_off674 v6478 v6483 v6493 v6536 v6637) a + S1x16x256.size a ≤ S200x216x256.size a) ∧
  (∀ a, (k0_off694 v6478 v6483 v6545 v6637) a + S1x16x256.size a ≤ S200x216x256.size a) ∧
  (∀ a, (k0_off695 v6478 v6483 v6493 v6545 v6637) a + S1x16x256.size a ≤ S200x216x256.size a) ∧
  (∀ a, (k0_off715 v6478 v6483 v6554 v6637) a + S1x16x256.size a ≤ S200x216x256.size a) ∧
  (∀ a, (k0_off716 v6478 v6483 v6493 v6554 v6637) a + S1x16x256.size a ≤ S200x216x256.size a) ∧
  (∀ a, (k0_off736 v6478 v6483 v6563 v6637) a + S1x16x256.size a ≤ S200x216x256.size a) ∧
  (∀ a, (k0_off737 v6478 v6483 v6493 v6563 v6637) a + S1x16x256.size a ≤ S200x216x256.size a)
theorem k0_mult35_dvd : ∀ (v6478 : BitVec 32) (v6483 : BitVec 32) (v6493 : BitVec 32) (v6509 : BitVec 32) (v6518 : BitVec 32) (v6527 : BitVec 32) (v6536 : BitVec 32) (v6545 : BitVec 32) (v6554 : BitVec 32) (v6563 : BitVec 32) (v6637 : BitVec 32) (k0_hw34 : k0_chk34 v6478 v6483 v6493 v6509 v6518 v6527 v6536 v6545 v6554 v6563 v6637), 8 ∣ (k0_mult35 v6478 v6637).toNat := fun v6478 v6483 v6493 v6509 v6518 v6527 v6536 v6545 v6554 v6563 v6637 k0_hw34 => k0_hw34.1
theorem k0_off610_inb : ∀ (v6478 : BitVec 32) (v6483 : BitVec 32) (v6493 : BitVec 32) (v6509 : BitVec 32) (v6518 : BitVec 32) (v6527 : BitVec 32) (v6536 : BitVec 32) (v6545 : BitVec 32) (v6554 : BitVec 32) (v6563 : BitVec 32) (v6637 : BitVec 32) (k0_hw34 : k0_chk34 v6478 v6483 v6493 v6509 v6518 v6527 v6536 v6545 v6554 v6563 v6637), ∀ a, (k0_off610 v6478 v6483 v6509 v6637) a + S1x16x256.size a ≤ S200x216x256.size a := fun v6478 v6483 v6493 v6509 v6518 v6527 v6536 v6545 v6554 v6563 v6637 k0_hw34 => k0_hw34.2.1
theorem k0_off611_inb : ∀ (v6478 : BitVec 32) (v6483 : BitVec 32) (v6493 : BitVec 32) (v6509 : BitVec 32) (v6518 : BitVec 32) (v6527 : BitVec 32) (v6536 : BitVec 32) (v6545 : BitVec 32) (v6554 : BitVec 32) (v6563 : BitVec 32) (v6637 : BitVec 32) (k0_hw34 : k0_chk34 v6478 v6483 v6493 v6509 v6518 v6527 v6536 v6545 v6554 v6563 v6637), ∀ a, (k0_off611 v6478 v6483 v6493 v6509 v6637) a + S1x16x256.size a ≤ S200x216x256.size a := fun v6478 v6483 v6493 v6509 v6518 v6527 v6536 v6545 v6554 v6563 v6637 k0_hw34 => k0_hw34.2.2.1
theorem k0_off631_inb : ∀ (v6478 : BitVec 32) (v6483 : BitVec 32) (v6493 : BitVec 32) (v6509 : BitVec 32) (v6518 : BitVec 32) (v6527 : BitVec 32) (v6536 : BitVec 32) (v6545 : BitVec 32) (v6554 : BitVec 32) (v6563 : BitVec 32) (v6637 : BitVec 32) (k0_hw34 : k0_chk34 v6478 v6483 v6493 v6509 v6518 v6527 v6536 v6545 v6554 v6563 v6637), ∀ a, (k0_off631 v6478 v6483 v6518 v6637) a + S1x16x256.size a ≤ S200x216x256.size a := fun v6478 v6483 v6493 v6509 v6518 v6527 v6536 v6545 v6554 v6563 v6637 k0_hw34 => k0_hw34.2.2.2.1
theorem k0_off632_inb : ∀ (v6478 : BitVec 32) (v6483 : BitVec 32) (v6493 : BitVec 32) (v6509 : BitVec 32) (v6518 : BitVec 32) (v6527 : BitVec 32) (v6536 : BitVec 32) (v6545 : BitVec 32) (v6554 : BitVec 32) (v6563 : BitVec 32) (v6637 : BitVec 32) (k0_hw34 : k0_chk34 v6478 v6483 v6493 v6509 v6518 v6527 v6536 v6545 v6554 v6563 v6637), ∀ a, (k0_off632 v6478 v6483 v6493 v6518 v6637) a + S1x16x256.size a ≤ S200x216x256.size a := fun v6478 v6483 v6493 v6509 v6518 v6527 v6536 v6545 v6554 v6563 v6637 k0_hw34 => k0_hw34.2.2.2.2.1
theorem k0_off652_inb : ∀ (v6478 : BitVec 32) (v6483 : BitVec 32) (v6493 : BitVec 32) (v6509 : BitVec 32) (v6518 : BitVec 32) (v6527 : BitVec 32) (v6536 : BitVec 32) (v6545 : BitVec 32) (v6554 : BitVec 32) (v6563 : BitVec 32) (v6637 : BitVec 32) (k0_hw34 : k0_chk34 v6478 v6483 v6493 v6509 v6518 v6527 v6536 v6545 v6554 v6563 v6637), ∀ a, (k0_off652 v6478 v6483 v6527 v6637) a + S1x16x256.size a ≤ S200x216x256.size a := fun v6478 v6483 v6493 v6509 v6518 v6527 v6536 v6545 v6554 v6563 v6637 k0_hw34 => k0_hw34.2.2.2.2.2.1
theorem k0_off653_inb : ∀ (v6478 : BitVec 32) (v6483 : BitVec 32) (v6493 : BitVec 32) (v6509 : BitVec 32) (v6518 : BitVec 32) (v6527 : BitVec 32) (v6536 : BitVec 32) (v6545 : BitVec 32) (v6554 : BitVec 32) (v6563 : BitVec 32) (v6637 : BitVec 32) (k0_hw34 : k0_chk34 v6478 v6483 v6493 v6509 v6518 v6527 v6536 v6545 v6554 v6563 v6637), ∀ a, (k0_off653 v6478 v6483 v6493 v6527 v6637) a + S1x16x256.size a ≤ S200x216x256.size a := fun v6478 v6483 v6493 v6509 v6518 v6527 v6536 v6545 v6554 v6563 v6637 k0_hw34 => k0_hw34.2.2.2.2.2.2.1
theorem k0_off673_inb : ∀ (v6478 : BitVec 32) (v6483 : BitVec 32) (v6493 : BitVec 32) (v6509 : BitVec 32) (v6518 : BitVec 32) (v6527 : BitVec 32) (v6536 : BitVec 32) (v6545 : BitVec 32) (v6554 : BitVec 32) (v6563 : BitVec 32) (v6637 : BitVec 32) (k0_hw34 : k0_chk34 v6478 v6483 v6493 v6509 v6518 v6527 v6536 v6545 v6554 v6563 v6637), ∀ a, (k0_off673 v6478 v6483 v6536 v6637) a + S1x16x256.size a ≤ S200x216x256.size a := fun v6478 v6483 v6493 v6509 v6518 v6527 v6536 v6545 v6554 v6563 v6637 k0_hw34 => k0_hw34.2.2.2.2.2.2.2.1
theorem k0_off674_inb : ∀ (v6478 : BitVec 32) (v6483 : BitVec 32) (v6493 : BitVec 32) (v6509 : BitVec 32) (v6518 : BitVec 32) (v6527 : BitVec 32) (v6536 : BitVec 32) (v6545 : BitVec 32) (v6554 : BitVec 32) (v6563 : BitVec 32) (v6637 : BitVec 32) (k0_hw34 : k0_chk34 v6478 v6483 v6493 v6509 v6518 v6527 v6536 v6545 v6554 v6563 v6637), ∀ a, (k0_off674 v6478 v6483 v6493 v6536 v6637) a + S1x16x256.size a ≤ S200x216x256.size a := fun v6478 v6483 v6493 v6509 v6518 v6527 v6536 v6545 v6554 v6563 v6637 k0_hw34 => k0_hw34.2.2.2.2.2.2.2.2.1
theorem k0_off694_inb : ∀ (v6478 : BitVec 32) (v6483 : BitVec 32) (v6493 : BitVec 32) (v6509 : BitVec 32) (v6518 : BitVec 32) (v6527 : BitVec 32) (v6536 : BitVec 32) (v6545 : BitVec 32) (v6554 : BitVec 32) (v6563 : BitVec 32) (v6637 : BitVec 32) (k0_hw34 : k0_chk34 v6478 v6483 v6493 v6509 v6518 v6527 v6536 v6545 v6554 v6563 v6637), ∀ a, (k0_off694 v6478 v6483 v6545 v6637) a + S1x16x256.size a ≤ S200x216x256.size a := fun v6478 v6483 v6493 v6509 v6518 v6527 v6536 v6545 v6554 v6563 v6637 k0_hw34 => k0_hw34.2.2.2.2.2.2.2.2.2.1
theorem k0_off695_inb : ∀ (v6478 : BitVec 32) (v6483 : BitVec 32) (v6493 : BitVec 32) (v6509 : BitVec 32) (v6518 : BitVec 32) (v6527 : BitVec 32) (v6536 : BitVec 32) (v6545 : BitVec 32) (v6554 : BitVec 32) (v6563 : BitVec 32) (v6637 : BitVec 32) (k0_hw34 : k0_chk34 v6478 v6483 v6493 v6509 v6518 v6527 v6536 v6545 v6554 v6563 v6637), ∀ a, (k0_off695 v6478 v6483 v6493 v6545 v6637) a + S1x16x256.size a ≤ S200x216x256.size a := fun v6478 v6483 v6493 v6509 v6518 v6527 v6536 v6545 v6554 v6563 v6637 k0_hw34 => k0_hw34.2.2.2.2.2.2.2.2.2.2.1
theorem k0_off715_inb : ∀ (v6478 : BitVec 32) (v6483 : BitVec 32) (v6493 : BitVec 32) (v6509 : BitVec 32) (v6518 : BitVec 32) (v6527 : BitVec 32) (v6536 : BitVec 32) (v6545 : BitVec 32) (v6554 : BitVec 32) (v6563 : BitVec 32) (v6637 : BitVec 32) (k0_hw34 : k0_chk34 v6478 v6483 v6493 v6509 v6518 v6527 v6536 v6545 v6554 v6563 v6637), ∀ a, (k0_off715 v6478 v6483 v6554 v6637) a + S1x16x256.size a ≤ S200x216x256.size a := fun v6478 v6483 v6493 v6509 v6518 v6527 v6536 v6545 v6554 v6563 v6637 k0_hw34 => k0_hw34.2.2.2.2.2.2.2.2.2.2.2.1
theorem k0_off716_inb : ∀ (v6478 : BitVec 32) (v6483 : BitVec 32) (v6493 : BitVec 32) (v6509 : BitVec 32) (v6518 : BitVec 32) (v6527 : BitVec 32) (v6536 : BitVec 32) (v6545 : BitVec 32) (v6554 : BitVec 32) (v6563 : BitVec 32) (v6637 : BitVec 32) (k0_hw34 : k0_chk34 v6478 v6483 v6493 v6509 v6518 v6527 v6536 v6545 v6554 v6563 v6637), ∀ a, (k0_off716 v6478 v6483 v6493 v6554 v6637) a + S1x16x256.size a ≤ S200x216x256.size a := fun v6478 v6483 v6493 v6509 v6518 v6527 v6536 v6545 v6554 v6563 v6637 k0_hw34 => k0_hw34.2.2.2.2.2.2.2.2.2.2.2.2.1
theorem k0_off736_inb : ∀ (v6478 : BitVec 32) (v6483 : BitVec 32) (v6493 : BitVec 32) (v6509 : BitVec 32) (v6518 : BitVec 32) (v6527 : BitVec 32) (v6536 : BitVec 32) (v6545 : BitVec 32) (v6554 : BitVec 32) (v6563 : BitVec 32) (v6637 : BitVec 32) (k0_hw34 : k0_chk34 v6478 v6483 v6493 v6509 v6518 v6527 v6536 v6545 v6554 v6563 v6637), ∀ a, (k0_off736 v6478 v6483 v6563 v6637) a + S1x16x256.size a ≤ S200x216x256.size a := fun v6478 v6483 v6493 v6509 v6518 v6527 v6536 v6545 v6554 v6563 v6637 k0_hw34 => k0_hw34.2.2.2.2.2.2.2.2.2.2.2.2.2.1
theorem k0_off737_inb : ∀ (v6478 : BitVec 32) (v6483 : BitVec 32) (v6493 : BitVec 32) (v6509 : BitVec 32) (v6518 : BitVec 32) (v6527 : BitVec 32) (v6536 : BitVec 32) (v6545 : BitVec 32) (v6554 : BitVec 32) (v6563 : BitVec 32) (v6637 : BitVec 32) (k0_hw34 : k0_chk34 v6478 v6483 v6493 v6509 v6518 v6527 v6536 v6545 v6554 v6563 v6637), ∀ a, (k0_off737 v6478 v6483 v6493 v6563 v6637) a + S1x16x256.size a ≤ S200x216x256.size a := fun v6478 v6483 v6493 v6509 v6518 v6527 v6536 v6545 v6554 v6563 v6637 k0_hw34 => k0_hw34.2.2.2.2.2.2.2.2.2.2.2.2.2.2

def k0_off738 (k0_t1 : Fin k0_t1_loop.trips) : Fin 3 → Nat :=
  let c47_1929 : Index := 47#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c4_i32_1539 : BitVec 32 := 4#32
  let v6470 : BitVec 32 := Scalar.addi v5 c4_i32_1539
  let v8053 : Index := Scalar.indexCast v6470
  let c0_1930 : Index := 0#32
  ![47, v8053.toNat, 0]
def k0_off739 (v6478 : BitVec 32) (v6483 : BitVec 32) (v6563 : BitVec 32) (v6650 : BitVec 32) : Fin 3 → Nat :=
  let c199_i32_1548 : BitVec 32 := 199#32
  let c0_i32_1547 : BitVec 32 := 0#32
  let v6484 : BitVec 32 := Scalar.maxsi c0_i32_1547 v6483
  let v6485 : BitVec 32 := Scalar.minsi c199_i32_1548 v6484
  let v6564 : BitVec 32 := Scalar.addi v6485 v6563
  let v8058 : Index := Scalar.indexCast v6564
  let c199_i32_1545 : BitVec 32 := 199#32
  let c0_i32_1544 : BitVec 32 := 0#32
  let v6479 : BitVec 32 := Scalar.maxsi c0_i32_1544 v6478
  let v6480 : BitVec 32 := Scalar.minsi c199_i32_1545 v6479
  let v6651 : BitVec 32 := Scalar.addi v6480 v6650
  let c3_i32_1633 : BitVec 32 := 3#32
  let v6654 : BitVec 32 := Scalar.shrsi v6651 c3_i32_1633
  let c3_i32_1634 : BitVec 32 := 3#32
  let v6655 : BitVec 32 := Scalar.shli v6654 c3_i32_1634
  let v6656 : BitVec 32 := v6655
  let v8059 : Index := Scalar.indexCast v6656
  let c0_1932 : Index := 0#32
  ![v8058.toNat, v8059.toNat, 0]
def k0_off740 (v6478 : BitVec 32) (v6483 : BitVec 32) (v6493 : BitVec 32) (v6563 : BitVec 32) (v6650 : BitVec 32) : Fin 3 → Nat :=
  let c199_i32_1548 : BitVec 32 := 199#32
  let c0_i32_1547 : BitVec 32 := 0#32
  let v6484 : BitVec 32 := Scalar.maxsi c0_i32_1547 v6483
  let v6485 : BitVec 32 := Scalar.minsi c199_i32_1548 v6484
  let v6564 : BitVec 32 := Scalar.addi v6485 v6563
  let c1_i32_1586 : BitVec 32 := 1#32
  let v6565 : BitVec 32 := Scalar.addi v6564 c1_i32_1586
  let c199_i32_1554 : BitVec 32 := 199#32
  let c0_i32_1553 : BitVec 32 := 0#32
  let v6494 : BitVec 32 := Scalar.maxsi c0_i32_1553 v6493
  let v6495 : BitVec 32 := Scalar.minsi c199_i32_1554 v6494
  let v6566 : BitVec 32 := Scalar.minsi v6565 v6495
  let v8062 : Index := Scalar.indexCast v6566
  let c199_i32_1545 : BitVec 32 := 199#32
  let c0_i32_1544 : BitVec 32 := 0#32
  let v6479 : BitVec 32 := Scalar.maxsi c0_i32_1544 v6478
  let v6480 : BitVec 32 := Scalar.minsi c199_i32_1545 v6479
  let v6651 : BitVec 32 := Scalar.addi v6480 v6650
  let c3_i32_1633 : BitVec 32 := 3#32
  let v6654 : BitVec 32 := Scalar.shrsi v6651 c3_i32_1633
  let c3_i32_1634 : BitVec 32 := 3#32
  let v6655 : BitVec 32 := Scalar.shli v6654 c3_i32_1634
  let v6656 : BitVec 32 := v6655
  let v8063 : Index := Scalar.indexCast v6656
  let c0_1933 : Index := 0#32
  ![v8062.toNat, v8063.toNat, 0]

def k0_chk35 (v6478 : BitVec 32) (v6483 : BitVec 32) (v6493 : BitVec 32) (v6509 : BitVec 32) (v6518 : BitVec 32) (v6527 : BitVec 32) (v6536 : BitVec 32) (v6545 : BitVec 32) (v6554 : BitVec 32) (v6563 : BitVec 32) (v6650 : BitVec 32) : Prop :=
  (8 ∣ (k0_mult36 v6478 v6650).toNat) ∧
  (∀ a, (k0_off613 v6478 v6483 v6509 v6650) a + S1x16x256.size a ≤ S200x216x256.size a) ∧
  (∀ a, (k0_off614 v6478 v6483 v6493 v6509 v6650) a + S1x16x256.size a ≤ S200x216x256.size a) ∧
  (∀ a, (k0_off634 v6478 v6483 v6518 v6650) a + S1x16x256.size a ≤ S200x216x256.size a) ∧
  (∀ a, (k0_off635 v6478 v6483 v6493 v6518 v6650) a + S1x16x256.size a ≤ S200x216x256.size a) ∧
  (∀ a, (k0_off655 v6478 v6483 v6527 v6650) a + S1x16x256.size a ≤ S200x216x256.size a) ∧
  (∀ a, (k0_off656 v6478 v6483 v6493 v6527 v6650) a + S1x16x256.size a ≤ S200x216x256.size a) ∧
  (∀ a, (k0_off676 v6478 v6483 v6536 v6650) a + S1x16x256.size a ≤ S200x216x256.size a) ∧
  (∀ a, (k0_off677 v6478 v6483 v6493 v6536 v6650) a + S1x16x256.size a ≤ S200x216x256.size a) ∧
  (∀ a, (k0_off697 v6478 v6483 v6545 v6650) a + S1x16x256.size a ≤ S200x216x256.size a) ∧
  (∀ a, (k0_off698 v6478 v6483 v6493 v6545 v6650) a + S1x16x256.size a ≤ S200x216x256.size a) ∧
  (∀ a, (k0_off718 v6478 v6483 v6554 v6650) a + S1x16x256.size a ≤ S200x216x256.size a) ∧
  (∀ a, (k0_off719 v6478 v6483 v6493 v6554 v6650) a + S1x16x256.size a ≤ S200x216x256.size a) ∧
  (∀ a, (k0_off739 v6478 v6483 v6563 v6650) a + S1x16x256.size a ≤ S200x216x256.size a) ∧
  (∀ a, (k0_off740 v6478 v6483 v6493 v6563 v6650) a + S1x16x256.size a ≤ S200x216x256.size a)
theorem k0_mult36_dvd : ∀ (v6478 : BitVec 32) (v6483 : BitVec 32) (v6493 : BitVec 32) (v6509 : BitVec 32) (v6518 : BitVec 32) (v6527 : BitVec 32) (v6536 : BitVec 32) (v6545 : BitVec 32) (v6554 : BitVec 32) (v6563 : BitVec 32) (v6650 : BitVec 32) (k0_hw35 : k0_chk35 v6478 v6483 v6493 v6509 v6518 v6527 v6536 v6545 v6554 v6563 v6650), 8 ∣ (k0_mult36 v6478 v6650).toNat := fun v6478 v6483 v6493 v6509 v6518 v6527 v6536 v6545 v6554 v6563 v6650 k0_hw35 => k0_hw35.1
theorem k0_off613_inb : ∀ (v6478 : BitVec 32) (v6483 : BitVec 32) (v6493 : BitVec 32) (v6509 : BitVec 32) (v6518 : BitVec 32) (v6527 : BitVec 32) (v6536 : BitVec 32) (v6545 : BitVec 32) (v6554 : BitVec 32) (v6563 : BitVec 32) (v6650 : BitVec 32) (k0_hw35 : k0_chk35 v6478 v6483 v6493 v6509 v6518 v6527 v6536 v6545 v6554 v6563 v6650), ∀ a, (k0_off613 v6478 v6483 v6509 v6650) a + S1x16x256.size a ≤ S200x216x256.size a := fun v6478 v6483 v6493 v6509 v6518 v6527 v6536 v6545 v6554 v6563 v6650 k0_hw35 => k0_hw35.2.1
theorem k0_off614_inb : ∀ (v6478 : BitVec 32) (v6483 : BitVec 32) (v6493 : BitVec 32) (v6509 : BitVec 32) (v6518 : BitVec 32) (v6527 : BitVec 32) (v6536 : BitVec 32) (v6545 : BitVec 32) (v6554 : BitVec 32) (v6563 : BitVec 32) (v6650 : BitVec 32) (k0_hw35 : k0_chk35 v6478 v6483 v6493 v6509 v6518 v6527 v6536 v6545 v6554 v6563 v6650), ∀ a, (k0_off614 v6478 v6483 v6493 v6509 v6650) a + S1x16x256.size a ≤ S200x216x256.size a := fun v6478 v6483 v6493 v6509 v6518 v6527 v6536 v6545 v6554 v6563 v6650 k0_hw35 => k0_hw35.2.2.1
theorem k0_off634_inb : ∀ (v6478 : BitVec 32) (v6483 : BitVec 32) (v6493 : BitVec 32) (v6509 : BitVec 32) (v6518 : BitVec 32) (v6527 : BitVec 32) (v6536 : BitVec 32) (v6545 : BitVec 32) (v6554 : BitVec 32) (v6563 : BitVec 32) (v6650 : BitVec 32) (k0_hw35 : k0_chk35 v6478 v6483 v6493 v6509 v6518 v6527 v6536 v6545 v6554 v6563 v6650), ∀ a, (k0_off634 v6478 v6483 v6518 v6650) a + S1x16x256.size a ≤ S200x216x256.size a := fun v6478 v6483 v6493 v6509 v6518 v6527 v6536 v6545 v6554 v6563 v6650 k0_hw35 => k0_hw35.2.2.2.1
theorem k0_off635_inb : ∀ (v6478 : BitVec 32) (v6483 : BitVec 32) (v6493 : BitVec 32) (v6509 : BitVec 32) (v6518 : BitVec 32) (v6527 : BitVec 32) (v6536 : BitVec 32) (v6545 : BitVec 32) (v6554 : BitVec 32) (v6563 : BitVec 32) (v6650 : BitVec 32) (k0_hw35 : k0_chk35 v6478 v6483 v6493 v6509 v6518 v6527 v6536 v6545 v6554 v6563 v6650), ∀ a, (k0_off635 v6478 v6483 v6493 v6518 v6650) a + S1x16x256.size a ≤ S200x216x256.size a := fun v6478 v6483 v6493 v6509 v6518 v6527 v6536 v6545 v6554 v6563 v6650 k0_hw35 => k0_hw35.2.2.2.2.1
theorem k0_off655_inb : ∀ (v6478 : BitVec 32) (v6483 : BitVec 32) (v6493 : BitVec 32) (v6509 : BitVec 32) (v6518 : BitVec 32) (v6527 : BitVec 32) (v6536 : BitVec 32) (v6545 : BitVec 32) (v6554 : BitVec 32) (v6563 : BitVec 32) (v6650 : BitVec 32) (k0_hw35 : k0_chk35 v6478 v6483 v6493 v6509 v6518 v6527 v6536 v6545 v6554 v6563 v6650), ∀ a, (k0_off655 v6478 v6483 v6527 v6650) a + S1x16x256.size a ≤ S200x216x256.size a := fun v6478 v6483 v6493 v6509 v6518 v6527 v6536 v6545 v6554 v6563 v6650 k0_hw35 => k0_hw35.2.2.2.2.2.1
theorem k0_off656_inb : ∀ (v6478 : BitVec 32) (v6483 : BitVec 32) (v6493 : BitVec 32) (v6509 : BitVec 32) (v6518 : BitVec 32) (v6527 : BitVec 32) (v6536 : BitVec 32) (v6545 : BitVec 32) (v6554 : BitVec 32) (v6563 : BitVec 32) (v6650 : BitVec 32) (k0_hw35 : k0_chk35 v6478 v6483 v6493 v6509 v6518 v6527 v6536 v6545 v6554 v6563 v6650), ∀ a, (k0_off656 v6478 v6483 v6493 v6527 v6650) a + S1x16x256.size a ≤ S200x216x256.size a := fun v6478 v6483 v6493 v6509 v6518 v6527 v6536 v6545 v6554 v6563 v6650 k0_hw35 => k0_hw35.2.2.2.2.2.2.1
theorem k0_off676_inb : ∀ (v6478 : BitVec 32) (v6483 : BitVec 32) (v6493 : BitVec 32) (v6509 : BitVec 32) (v6518 : BitVec 32) (v6527 : BitVec 32) (v6536 : BitVec 32) (v6545 : BitVec 32) (v6554 : BitVec 32) (v6563 : BitVec 32) (v6650 : BitVec 32) (k0_hw35 : k0_chk35 v6478 v6483 v6493 v6509 v6518 v6527 v6536 v6545 v6554 v6563 v6650), ∀ a, (k0_off676 v6478 v6483 v6536 v6650) a + S1x16x256.size a ≤ S200x216x256.size a := fun v6478 v6483 v6493 v6509 v6518 v6527 v6536 v6545 v6554 v6563 v6650 k0_hw35 => k0_hw35.2.2.2.2.2.2.2.1
theorem k0_off677_inb : ∀ (v6478 : BitVec 32) (v6483 : BitVec 32) (v6493 : BitVec 32) (v6509 : BitVec 32) (v6518 : BitVec 32) (v6527 : BitVec 32) (v6536 : BitVec 32) (v6545 : BitVec 32) (v6554 : BitVec 32) (v6563 : BitVec 32) (v6650 : BitVec 32) (k0_hw35 : k0_chk35 v6478 v6483 v6493 v6509 v6518 v6527 v6536 v6545 v6554 v6563 v6650), ∀ a, (k0_off677 v6478 v6483 v6493 v6536 v6650) a + S1x16x256.size a ≤ S200x216x256.size a := fun v6478 v6483 v6493 v6509 v6518 v6527 v6536 v6545 v6554 v6563 v6650 k0_hw35 => k0_hw35.2.2.2.2.2.2.2.2.1
theorem k0_off697_inb : ∀ (v6478 : BitVec 32) (v6483 : BitVec 32) (v6493 : BitVec 32) (v6509 : BitVec 32) (v6518 : BitVec 32) (v6527 : BitVec 32) (v6536 : BitVec 32) (v6545 : BitVec 32) (v6554 : BitVec 32) (v6563 : BitVec 32) (v6650 : BitVec 32) (k0_hw35 : k0_chk35 v6478 v6483 v6493 v6509 v6518 v6527 v6536 v6545 v6554 v6563 v6650), ∀ a, (k0_off697 v6478 v6483 v6545 v6650) a + S1x16x256.size a ≤ S200x216x256.size a := fun v6478 v6483 v6493 v6509 v6518 v6527 v6536 v6545 v6554 v6563 v6650 k0_hw35 => k0_hw35.2.2.2.2.2.2.2.2.2.1
theorem k0_off698_inb : ∀ (v6478 : BitVec 32) (v6483 : BitVec 32) (v6493 : BitVec 32) (v6509 : BitVec 32) (v6518 : BitVec 32) (v6527 : BitVec 32) (v6536 : BitVec 32) (v6545 : BitVec 32) (v6554 : BitVec 32) (v6563 : BitVec 32) (v6650 : BitVec 32) (k0_hw35 : k0_chk35 v6478 v6483 v6493 v6509 v6518 v6527 v6536 v6545 v6554 v6563 v6650), ∀ a, (k0_off698 v6478 v6483 v6493 v6545 v6650) a + S1x16x256.size a ≤ S200x216x256.size a := fun v6478 v6483 v6493 v6509 v6518 v6527 v6536 v6545 v6554 v6563 v6650 k0_hw35 => k0_hw35.2.2.2.2.2.2.2.2.2.2.1
theorem k0_off718_inb : ∀ (v6478 : BitVec 32) (v6483 : BitVec 32) (v6493 : BitVec 32) (v6509 : BitVec 32) (v6518 : BitVec 32) (v6527 : BitVec 32) (v6536 : BitVec 32) (v6545 : BitVec 32) (v6554 : BitVec 32) (v6563 : BitVec 32) (v6650 : BitVec 32) (k0_hw35 : k0_chk35 v6478 v6483 v6493 v6509 v6518 v6527 v6536 v6545 v6554 v6563 v6650), ∀ a, (k0_off718 v6478 v6483 v6554 v6650) a + S1x16x256.size a ≤ S200x216x256.size a := fun v6478 v6483 v6493 v6509 v6518 v6527 v6536 v6545 v6554 v6563 v6650 k0_hw35 => k0_hw35.2.2.2.2.2.2.2.2.2.2.2.1
theorem k0_off719_inb : ∀ (v6478 : BitVec 32) (v6483 : BitVec 32) (v6493 : BitVec 32) (v6509 : BitVec 32) (v6518 : BitVec 32) (v6527 : BitVec 32) (v6536 : BitVec 32) (v6545 : BitVec 32) (v6554 : BitVec 32) (v6563 : BitVec 32) (v6650 : BitVec 32) (k0_hw35 : k0_chk35 v6478 v6483 v6493 v6509 v6518 v6527 v6536 v6545 v6554 v6563 v6650), ∀ a, (k0_off719 v6478 v6483 v6493 v6554 v6650) a + S1x16x256.size a ≤ S200x216x256.size a := fun v6478 v6483 v6493 v6509 v6518 v6527 v6536 v6545 v6554 v6563 v6650 k0_hw35 => k0_hw35.2.2.2.2.2.2.2.2.2.2.2.2.1
theorem k0_off739_inb : ∀ (v6478 : BitVec 32) (v6483 : BitVec 32) (v6493 : BitVec 32) (v6509 : BitVec 32) (v6518 : BitVec 32) (v6527 : BitVec 32) (v6536 : BitVec 32) (v6545 : BitVec 32) (v6554 : BitVec 32) (v6563 : BitVec 32) (v6650 : BitVec 32) (k0_hw35 : k0_chk35 v6478 v6483 v6493 v6509 v6518 v6527 v6536 v6545 v6554 v6563 v6650), ∀ a, (k0_off739 v6478 v6483 v6563 v6650) a + S1x16x256.size a ≤ S200x216x256.size a := fun v6478 v6483 v6493 v6509 v6518 v6527 v6536 v6545 v6554 v6563 v6650 k0_hw35 => k0_hw35.2.2.2.2.2.2.2.2.2.2.2.2.2.1
theorem k0_off740_inb : ∀ (v6478 : BitVec 32) (v6483 : BitVec 32) (v6493 : BitVec 32) (v6509 : BitVec 32) (v6518 : BitVec 32) (v6527 : BitVec 32) (v6536 : BitVec 32) (v6545 : BitVec 32) (v6554 : BitVec 32) (v6563 : BitVec 32) (v6650 : BitVec 32) (k0_hw35 : k0_chk35 v6478 v6483 v6493 v6509 v6518 v6527 v6536 v6545 v6554 v6563 v6650), ∀ a, (k0_off740 v6478 v6483 v6493 v6563 v6650) a + S1x16x256.size a ≤ S200x216x256.size a := fun v6478 v6483 v6493 v6509 v6518 v6527 v6536 v6545 v6554 v6563 v6650 k0_hw35 => k0_hw35.2.2.2.2.2.2.2.2.2.2.2.2.2.2

def k0_off741 (k0_t1 : Fin k0_t1_loop.trips) : Fin 3 → Nat :=
  let c48_1935 : Index := 48#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c4_i32_1539 : BitVec 32 := 4#32
  let v6470 : BitVec 32 := Scalar.addi v5 c4_i32_1539
  let v8082 : Index := Scalar.indexCast v6470
  let c0_1936 : Index := 0#32
  ![48, v8082.toNat, 0]
def k0_off742 (i : grid0.Coords) (k0_t1 : Fin k0_t1_loop.trips) (c0_i32_1940 : BitVec 32) : Fin 1 → Nat :=
  let arg0 : BitVec 32 := BitVec.ofNat 32 (i 0).val
  let c256_i32_1937 : BitVec 32 := 256#32
  let v8087 : BitVec 32 := Scalar.muli arg0 c256_i32_1937
  let arg1 : BitVec 32 := BitVec.ofNat 32 (i 1).val
  let c32_i32_1938 : BitVec 32 := 32#32
  let v8088 : BitVec 32 := Scalar.muli arg1 c32_i32_1938
  let v8089 : BitVec 32 := Scalar.addi v8087 v8088
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c5_i32 : BitVec 32 := 5#32
  let v8086 : BitVec 32 := Scalar.addi v5 c5_i32
  let v8090 : BitVec 32 := Scalar.addi v8089 v8086
  let c4_i32_1939 : BitVec 32 := 4#32
  let v8091 : BitVec 32 := Scalar.muli v8090 c4_i32_1939
  let v8092 : BitVec 32 := Scalar.addi v8091 c0_i32_1940
  let v8093 : Index := Scalar.indexCast v8092
  ![v8093.toNat]
def k0_mult37 (v8094 : BitVec 32) (v8188 : BitVec 32) : BitVec 32 :=
  let c199_i32_1942 : BitVec 32 := 199#32
  let c0_i32_1941 : BitVec 32 := 0#32
  let v8095 : BitVec 32 := Scalar.maxsi c0_i32_1941 v8094
  let v8096 : BitVec 32 := Scalar.minsi c199_i32_1942 v8095
  let v8189 : BitVec 32 := Scalar.addi v8096 v8188
  let c3_i32_1988 : BitVec 32 := 3#32
  let v8192 : BitVec 32 := Scalar.shrsi v8189 c3_i32_1988
  let c3_i32_1989 : BitVec 32 := 3#32
  let v8193 : BitVec 32 := Scalar.shli v8192 c3_i32_1989
  v8193

def k0_mult38 (v8094 : BitVec 32) (v8201 : BitVec 32) : BitVec 32 :=
  let c199_i32_1942 : BitVec 32 := 199#32
  let c0_i32_1941 : BitVec 32 := 0#32
  let v8095 : BitVec 32 := Scalar.maxsi c0_i32_1941 v8094
  let v8096 : BitVec 32 := Scalar.minsi c199_i32_1942 v8095
  let v8202 : BitVec 32 := Scalar.addi v8096 v8201
  let c3_i32_1995 : BitVec 32 := 3#32
  let v8205 : BitVec 32 := Scalar.shrsi v8202 c3_i32_1995
  let c3_i32_1996 : BitVec 32 := 3#32
  let v8206 : BitVec 32 := Scalar.shli v8205 c3_i32_1996
  v8206

def k0_mult39 (v8094 : BitVec 32) (v8214 : BitVec 32) : BitVec 32 :=
  let c199_i32_1942 : BitVec 32 := 199#32
  let c0_i32_1941 : BitVec 32 := 0#32
  let v8095 : BitVec 32 := Scalar.maxsi c0_i32_1941 v8094
  let v8096 : BitVec 32 := Scalar.minsi c199_i32_1942 v8095
  let v8215 : BitVec 32 := Scalar.addi v8096 v8214
  let c3_i32_2002 : BitVec 32 := 3#32
  let v8218 : BitVec 32 := Scalar.shrsi v8215 c3_i32_2002
  let c3_i32_2003 : BitVec 32 := 3#32
  let v8219 : BitVec 32 := Scalar.shli v8218 c3_i32_2003
  v8219

def k0_mult40 (v8094 : BitVec 32) (v8227 : BitVec 32) : BitVec 32 :=
  let c199_i32_1942 : BitVec 32 := 199#32
  let c0_i32_1941 : BitVec 32 := 0#32
  let v8095 : BitVec 32 := Scalar.maxsi c0_i32_1941 v8094
  let v8096 : BitVec 32 := Scalar.minsi c199_i32_1942 v8095
  let v8228 : BitVec 32 := Scalar.addi v8096 v8227
  let c3_i32_2009 : BitVec 32 := 3#32
  let v8231 : BitVec 32 := Scalar.shrsi v8228 c3_i32_2009
  let c3_i32_2010 : BitVec 32 := 3#32
  let v8232 : BitVec 32 := Scalar.shli v8231 c3_i32_2010
  v8232

def k0_mult41 (v8094 : BitVec 32) (v8240 : BitVec 32) : BitVec 32 :=
  let c199_i32_1942 : BitVec 32 := 199#32
  let c0_i32_1941 : BitVec 32 := 0#32
  let v8095 : BitVec 32 := Scalar.maxsi c0_i32_1941 v8094
  let v8096 : BitVec 32 := Scalar.minsi c199_i32_1942 v8095
  let v8241 : BitVec 32 := Scalar.addi v8096 v8240
  let c3_i32_2016 : BitVec 32 := 3#32
  let v8244 : BitVec 32 := Scalar.shrsi v8241 c3_i32_2016
  let c3_i32_2017 : BitVec 32 := 3#32
  let v8245 : BitVec 32 := Scalar.shli v8244 c3_i32_2017
  v8245

def k0_mult42 (v8094 : BitVec 32) (v8253 : BitVec 32) : BitVec 32 :=
  let c199_i32_1942 : BitVec 32 := 199#32
  let c0_i32_1941 : BitVec 32 := 0#32
  let v8095 : BitVec 32 := Scalar.maxsi c0_i32_1941 v8094
  let v8096 : BitVec 32 := Scalar.minsi c199_i32_1942 v8095
  let v8254 : BitVec 32 := Scalar.addi v8096 v8253
  let c3_i32_2023 : BitVec 32 := 3#32
  let v8257 : BitVec 32 := Scalar.shrsi v8254 c3_i32_2023
  let c3_i32_2024 : BitVec 32 := 3#32
  let v8258 : BitVec 32 := Scalar.shli v8257 c3_i32_2024
  v8258

def k0_mult43 (v8094 : BitVec 32) (v8266 : BitVec 32) : BitVec 32 :=
  let c199_i32_1942 : BitVec 32 := 199#32
  let c0_i32_1941 : BitVec 32 := 0#32
  let v8095 : BitVec 32 := Scalar.maxsi c0_i32_1941 v8094
  let v8096 : BitVec 32 := Scalar.minsi c199_i32_1942 v8095
  let v8267 : BitVec 32 := Scalar.addi v8096 v8266
  let c3_i32_2030 : BitVec 32 := 3#32
  let v8270 : BitVec 32 := Scalar.shrsi v8267 c3_i32_2030
  let c3_i32_2031 : BitVec 32 := 3#32
  let v8271 : BitVec 32 := Scalar.shli v8270 c3_i32_2031
  v8271

def k0_off743 (v8094 : BitVec 32) (v8099 : BitVec 32) (v8125 : BitVec 32) (v8188 : BitVec 32) : Fin 3 → Nat :=
  let c199_i32_1945 : BitVec 32 := 199#32
  let c0_i32_1944 : BitVec 32 := 0#32
  let v8100 : BitVec 32 := Scalar.maxsi c0_i32_1944 v8099
  let v8101 : BitVec 32 := Scalar.minsi c199_i32_1945 v8100
  let v8126 : BitVec 32 := Scalar.addi v8101 v8125
  let v8276 : Index := Scalar.indexCast v8126
  let c199_i32_1942 : BitVec 32 := 199#32
  let c0_i32_1941 : BitVec 32 := 0#32
  let v8095 : BitVec 32 := Scalar.maxsi c0_i32_1941 v8094
  let v8096 : BitVec 32 := Scalar.minsi c199_i32_1942 v8095
  let v8189 : BitVec 32 := Scalar.addi v8096 v8188
  let c3_i32_1988 : BitVec 32 := 3#32
  let v8192 : BitVec 32 := Scalar.shrsi v8189 c3_i32_1988
  let c3_i32_1989 : BitVec 32 := 3#32
  let v8193 : BitVec 32 := Scalar.shli v8192 c3_i32_1989
  let v8194 : BitVec 32 := v8193
  let v8277 : Index := Scalar.indexCast v8194
  let c0_2035 : Index := 0#32
  ![v8276.toNat, v8277.toNat, 0]
def k0_off744 (v8094 : BitVec 32) (v8099 : BitVec 32) (v8109 : BitVec 32) (v8125 : BitVec 32) (v8188 : BitVec 32) : Fin 3 → Nat :=
  let c199_i32_1945 : BitVec 32 := 199#32
  let c0_i32_1944 : BitVec 32 := 0#32
  let v8100 : BitVec 32 := Scalar.maxsi c0_i32_1944 v8099
  let v8101 : BitVec 32 := Scalar.minsi c199_i32_1945 v8100
  let v8126 : BitVec 32 := Scalar.addi v8101 v8125
  let c1_i32_1959 : BitVec 32 := 1#32
  let v8127 : BitVec 32 := Scalar.addi v8126 c1_i32_1959
  let c199_i32_1951 : BitVec 32 := 199#32
  let c0_i32_1950 : BitVec 32 := 0#32
  let v8110 : BitVec 32 := Scalar.maxsi c0_i32_1950 v8109
  let v8111 : BitVec 32 := Scalar.minsi c199_i32_1951 v8110
  let v8128 : BitVec 32 := Scalar.minsi v8127 v8111
  let v8280 : Index := Scalar.indexCast v8128
  let c199_i32_1942 : BitVec 32 := 199#32
  let c0_i32_1941 : BitVec 32 := 0#32
  let v8095 : BitVec 32 := Scalar.maxsi c0_i32_1941 v8094
  let v8096 : BitVec 32 := Scalar.minsi c199_i32_1942 v8095
  let v8189 : BitVec 32 := Scalar.addi v8096 v8188
  let c3_i32_1988 : BitVec 32 := 3#32
  let v8192 : BitVec 32 := Scalar.shrsi v8189 c3_i32_1988
  let c3_i32_1989 : BitVec 32 := 3#32
  let v8193 : BitVec 32 := Scalar.shli v8192 c3_i32_1989
  let v8194 : BitVec 32 := v8193
  let v8281 : Index := Scalar.indexCast v8194
  let c0_2036 : Index := 0#32
  ![v8280.toNat, v8281.toNat, 0]
def k0_off745 (k0_t1 : Fin k0_t1_loop.trips) : Fin 3 → Nat :=
  let c0_2038 : Index := 0#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c5_i32 : BitVec 32 := 5#32
  let v8086 : BitVec 32 := Scalar.addi v5 c5_i32
  let v8300 : Index := Scalar.indexCast v8086
  let c0_2039 : Index := 0#32
  ![0, v8300.toNat, 0]
def k0_off746 (v8094 : BitVec 32) (v8099 : BitVec 32) (v8125 : BitVec 32) (v8201 : BitVec 32) : Fin 3 → Nat :=
  let c199_i32_1945 : BitVec 32 := 199#32
  let c0_i32_1944 : BitVec 32 := 0#32
  let v8100 : BitVec 32 := Scalar.maxsi c0_i32_1944 v8099
  let v8101 : BitVec 32 := Scalar.minsi c199_i32_1945 v8100
  let v8126 : BitVec 32 := Scalar.addi v8101 v8125
  let v8305 : Index := Scalar.indexCast v8126
  let c199_i32_1942 : BitVec 32 := 199#32
  let c0_i32_1941 : BitVec 32 := 0#32
  let v8095 : BitVec 32 := Scalar.maxsi c0_i32_1941 v8094
  let v8096 : BitVec 32 := Scalar.minsi c199_i32_1942 v8095
  let v8202 : BitVec 32 := Scalar.addi v8096 v8201
  let c3_i32_1995 : BitVec 32 := 3#32
  let v8205 : BitVec 32 := Scalar.shrsi v8202 c3_i32_1995
  let c3_i32_1996 : BitVec 32 := 3#32
  let v8206 : BitVec 32 := Scalar.shli v8205 c3_i32_1996
  let v8207 : BitVec 32 := v8206
  let v8306 : Index := Scalar.indexCast v8207
  let c0_2041 : Index := 0#32
  ![v8305.toNat, v8306.toNat, 0]
def k0_off747 (v8094 : BitVec 32) (v8099 : BitVec 32) (v8109 : BitVec 32) (v8125 : BitVec 32) (v8201 : BitVec 32) : Fin 3 → Nat :=
  let c199_i32_1945 : BitVec 32 := 199#32
  let c0_i32_1944 : BitVec 32 := 0#32
  let v8100 : BitVec 32 := Scalar.maxsi c0_i32_1944 v8099
  let v8101 : BitVec 32 := Scalar.minsi c199_i32_1945 v8100
  let v8126 : BitVec 32 := Scalar.addi v8101 v8125
  let c1_i32_1959 : BitVec 32 := 1#32
  let v8127 : BitVec 32 := Scalar.addi v8126 c1_i32_1959
  let c199_i32_1951 : BitVec 32 := 199#32
  let c0_i32_1950 : BitVec 32 := 0#32
  let v8110 : BitVec 32 := Scalar.maxsi c0_i32_1950 v8109
  let v8111 : BitVec 32 := Scalar.minsi c199_i32_1951 v8110
  let v8128 : BitVec 32 := Scalar.minsi v8127 v8111
  let v8309 : Index := Scalar.indexCast v8128
  let c199_i32_1942 : BitVec 32 := 199#32
  let c0_i32_1941 : BitVec 32 := 0#32
  let v8095 : BitVec 32 := Scalar.maxsi c0_i32_1941 v8094
  let v8096 : BitVec 32 := Scalar.minsi c199_i32_1942 v8095
  let v8202 : BitVec 32 := Scalar.addi v8096 v8201
  let c3_i32_1995 : BitVec 32 := 3#32
  let v8205 : BitVec 32 := Scalar.shrsi v8202 c3_i32_1995
  let c3_i32_1996 : BitVec 32 := 3#32
  let v8206 : BitVec 32 := Scalar.shli v8205 c3_i32_1996
  let v8207 : BitVec 32 := v8206
  let v8310 : Index := Scalar.indexCast v8207
  let c0_2042 : Index := 0#32
  ![v8309.toNat, v8310.toNat, 0]
def k0_off748 (k0_t1 : Fin k0_t1_loop.trips) : Fin 3 → Nat :=
  let c1_2044 : Index := 1#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c5_i32 : BitVec 32 := 5#32
  let v8086 : BitVec 32 := Scalar.addi v5 c5_i32
  let v8329 : Index := Scalar.indexCast v8086
  let c0_2045 : Index := 0#32
  ![1, v8329.toNat, 0]
def k0_off749 (v8094 : BitVec 32) (v8099 : BitVec 32) (v8125 : BitVec 32) (v8214 : BitVec 32) : Fin 3 → Nat :=
  let c199_i32_1945 : BitVec 32 := 199#32
  let c0_i32_1944 : BitVec 32 := 0#32
  let v8100 : BitVec 32 := Scalar.maxsi c0_i32_1944 v8099
  let v8101 : BitVec 32 := Scalar.minsi c199_i32_1945 v8100
  let v8126 : BitVec 32 := Scalar.addi v8101 v8125
  let v8334 : Index := Scalar.indexCast v8126
  let c199_i32_1942 : BitVec 32 := 199#32
  let c0_i32_1941 : BitVec 32 := 0#32
  let v8095 : BitVec 32 := Scalar.maxsi c0_i32_1941 v8094
  let v8096 : BitVec 32 := Scalar.minsi c199_i32_1942 v8095
  let v8215 : BitVec 32 := Scalar.addi v8096 v8214
  let c3_i32_2002 : BitVec 32 := 3#32
  let v8218 : BitVec 32 := Scalar.shrsi v8215 c3_i32_2002
  let c3_i32_2003 : BitVec 32 := 3#32
  let v8219 : BitVec 32 := Scalar.shli v8218 c3_i32_2003
  let v8220 : BitVec 32 := v8219
  let v8335 : Index := Scalar.indexCast v8220
  let c0_2047 : Index := 0#32
  ![v8334.toNat, v8335.toNat, 0]
def k0_off750 (v8094 : BitVec 32) (v8099 : BitVec 32) (v8109 : BitVec 32) (v8125 : BitVec 32) (v8214 : BitVec 32) : Fin 3 → Nat :=
  let c199_i32_1945 : BitVec 32 := 199#32
  let c0_i32_1944 : BitVec 32 := 0#32
  let v8100 : BitVec 32 := Scalar.maxsi c0_i32_1944 v8099
  let v8101 : BitVec 32 := Scalar.minsi c199_i32_1945 v8100
  let v8126 : BitVec 32 := Scalar.addi v8101 v8125
  let c1_i32_1959 : BitVec 32 := 1#32
  let v8127 : BitVec 32 := Scalar.addi v8126 c1_i32_1959
  let c199_i32_1951 : BitVec 32 := 199#32
  let c0_i32_1950 : BitVec 32 := 0#32
  let v8110 : BitVec 32 := Scalar.maxsi c0_i32_1950 v8109
  let v8111 : BitVec 32 := Scalar.minsi c199_i32_1951 v8110
  let v8128 : BitVec 32 := Scalar.minsi v8127 v8111
  let v8338 : Index := Scalar.indexCast v8128
  let c199_i32_1942 : BitVec 32 := 199#32
  let c0_i32_1941 : BitVec 32 := 0#32
  let v8095 : BitVec 32 := Scalar.maxsi c0_i32_1941 v8094
  let v8096 : BitVec 32 := Scalar.minsi c199_i32_1942 v8095
  let v8215 : BitVec 32 := Scalar.addi v8096 v8214
  let c3_i32_2002 : BitVec 32 := 3#32
  let v8218 : BitVec 32 := Scalar.shrsi v8215 c3_i32_2002
  let c3_i32_2003 : BitVec 32 := 3#32
  let v8219 : BitVec 32 := Scalar.shli v8218 c3_i32_2003
  let v8220 : BitVec 32 := v8219
  let v8339 : Index := Scalar.indexCast v8220
  let c0_2048 : Index := 0#32
  ![v8338.toNat, v8339.toNat, 0]
def k0_off751 (k0_t1 : Fin k0_t1_loop.trips) : Fin 3 → Nat :=
  let c2_2050 : Index := 2#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c5_i32 : BitVec 32 := 5#32
  let v8086 : BitVec 32 := Scalar.addi v5 c5_i32
  let v8358 : Index := Scalar.indexCast v8086
  let c0_2051 : Index := 0#32
  ![2, v8358.toNat, 0]
def k0_off752 (v8094 : BitVec 32) (v8099 : BitVec 32) (v8125 : BitVec 32) (v8227 : BitVec 32) : Fin 3 → Nat :=
  let c199_i32_1945 : BitVec 32 := 199#32
  let c0_i32_1944 : BitVec 32 := 0#32
  let v8100 : BitVec 32 := Scalar.maxsi c0_i32_1944 v8099
  let v8101 : BitVec 32 := Scalar.minsi c199_i32_1945 v8100
  let v8126 : BitVec 32 := Scalar.addi v8101 v8125
  let v8363 : Index := Scalar.indexCast v8126
  let c199_i32_1942 : BitVec 32 := 199#32
  let c0_i32_1941 : BitVec 32 := 0#32
  let v8095 : BitVec 32 := Scalar.maxsi c0_i32_1941 v8094
  let v8096 : BitVec 32 := Scalar.minsi c199_i32_1942 v8095
  let v8228 : BitVec 32 := Scalar.addi v8096 v8227
  let c3_i32_2009 : BitVec 32 := 3#32
  let v8231 : BitVec 32 := Scalar.shrsi v8228 c3_i32_2009
  let c3_i32_2010 : BitVec 32 := 3#32
  let v8232 : BitVec 32 := Scalar.shli v8231 c3_i32_2010
  let v8233 : BitVec 32 := v8232
  let v8364 : Index := Scalar.indexCast v8233
  let c0_2053 : Index := 0#32
  ![v8363.toNat, v8364.toNat, 0]
def k0_off753 (v8094 : BitVec 32) (v8099 : BitVec 32) (v8109 : BitVec 32) (v8125 : BitVec 32) (v8227 : BitVec 32) : Fin 3 → Nat :=
  let c199_i32_1945 : BitVec 32 := 199#32
  let c0_i32_1944 : BitVec 32 := 0#32
  let v8100 : BitVec 32 := Scalar.maxsi c0_i32_1944 v8099
  let v8101 : BitVec 32 := Scalar.minsi c199_i32_1945 v8100
  let v8126 : BitVec 32 := Scalar.addi v8101 v8125
  let c1_i32_1959 : BitVec 32 := 1#32
  let v8127 : BitVec 32 := Scalar.addi v8126 c1_i32_1959
  let c199_i32_1951 : BitVec 32 := 199#32
  let c0_i32_1950 : BitVec 32 := 0#32
  let v8110 : BitVec 32 := Scalar.maxsi c0_i32_1950 v8109
  let v8111 : BitVec 32 := Scalar.minsi c199_i32_1951 v8110
  let v8128 : BitVec 32 := Scalar.minsi v8127 v8111
  let v8367 : Index := Scalar.indexCast v8128
  let c199_i32_1942 : BitVec 32 := 199#32
  let c0_i32_1941 : BitVec 32 := 0#32
  let v8095 : BitVec 32 := Scalar.maxsi c0_i32_1941 v8094
  let v8096 : BitVec 32 := Scalar.minsi c199_i32_1942 v8095
  let v8228 : BitVec 32 := Scalar.addi v8096 v8227
  let c3_i32_2009 : BitVec 32 := 3#32
  let v8231 : BitVec 32 := Scalar.shrsi v8228 c3_i32_2009
  let c3_i32_2010 : BitVec 32 := 3#32
  let v8232 : BitVec 32 := Scalar.shli v8231 c3_i32_2010
  let v8233 : BitVec 32 := v8232
  let v8368 : Index := Scalar.indexCast v8233
  let c0_2054 : Index := 0#32
  ![v8367.toNat, v8368.toNat, 0]
def k0_off754 (k0_t1 : Fin k0_t1_loop.trips) : Fin 3 → Nat :=
  let c3_2056 : Index := 3#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c5_i32 : BitVec 32 := 5#32
  let v8086 : BitVec 32 := Scalar.addi v5 c5_i32
  let v8387 : Index := Scalar.indexCast v8086
  let c0_2057 : Index := 0#32
  ![3, v8387.toNat, 0]
def k0_off755 (v8094 : BitVec 32) (v8099 : BitVec 32) (v8125 : BitVec 32) (v8240 : BitVec 32) : Fin 3 → Nat :=
  let c199_i32_1945 : BitVec 32 := 199#32
  let c0_i32_1944 : BitVec 32 := 0#32
  let v8100 : BitVec 32 := Scalar.maxsi c0_i32_1944 v8099
  let v8101 : BitVec 32 := Scalar.minsi c199_i32_1945 v8100
  let v8126 : BitVec 32 := Scalar.addi v8101 v8125
  let v8392 : Index := Scalar.indexCast v8126
  let c199_i32_1942 : BitVec 32 := 199#32
  let c0_i32_1941 : BitVec 32 := 0#32
  let v8095 : BitVec 32 := Scalar.maxsi c0_i32_1941 v8094
  let v8096 : BitVec 32 := Scalar.minsi c199_i32_1942 v8095
  let v8241 : BitVec 32 := Scalar.addi v8096 v8240
  let c3_i32_2016 : BitVec 32 := 3#32
  let v8244 : BitVec 32 := Scalar.shrsi v8241 c3_i32_2016
  let c3_i32_2017 : BitVec 32 := 3#32
  let v8245 : BitVec 32 := Scalar.shli v8244 c3_i32_2017
  let v8246 : BitVec 32 := v8245
  let v8393 : Index := Scalar.indexCast v8246
  let c0_2059 : Index := 0#32
  ![v8392.toNat, v8393.toNat, 0]
def k0_off756 (v8094 : BitVec 32) (v8099 : BitVec 32) (v8109 : BitVec 32) (v8125 : BitVec 32) (v8240 : BitVec 32) : Fin 3 → Nat :=
  let c199_i32_1945 : BitVec 32 := 199#32
  let c0_i32_1944 : BitVec 32 := 0#32
  let v8100 : BitVec 32 := Scalar.maxsi c0_i32_1944 v8099
  let v8101 : BitVec 32 := Scalar.minsi c199_i32_1945 v8100
  let v8126 : BitVec 32 := Scalar.addi v8101 v8125
  let c1_i32_1959 : BitVec 32 := 1#32
  let v8127 : BitVec 32 := Scalar.addi v8126 c1_i32_1959
  let c199_i32_1951 : BitVec 32 := 199#32
  let c0_i32_1950 : BitVec 32 := 0#32
  let v8110 : BitVec 32 := Scalar.maxsi c0_i32_1950 v8109
  let v8111 : BitVec 32 := Scalar.minsi c199_i32_1951 v8110
  let v8128 : BitVec 32 := Scalar.minsi v8127 v8111
  let v8396 : Index := Scalar.indexCast v8128
  let c199_i32_1942 : BitVec 32 := 199#32
  let c0_i32_1941 : BitVec 32 := 0#32
  let v8095 : BitVec 32 := Scalar.maxsi c0_i32_1941 v8094
  let v8096 : BitVec 32 := Scalar.minsi c199_i32_1942 v8095
  let v8241 : BitVec 32 := Scalar.addi v8096 v8240
  let c3_i32_2016 : BitVec 32 := 3#32
  let v8244 : BitVec 32 := Scalar.shrsi v8241 c3_i32_2016
  let c3_i32_2017 : BitVec 32 := 3#32
  let v8245 : BitVec 32 := Scalar.shli v8244 c3_i32_2017
  let v8246 : BitVec 32 := v8245
  let v8397 : Index := Scalar.indexCast v8246
  let c0_2060 : Index := 0#32
  ![v8396.toNat, v8397.toNat, 0]
def k0_off757 (k0_t1 : Fin k0_t1_loop.trips) : Fin 3 → Nat :=
  let c4_2062 : Index := 4#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c5_i32 : BitVec 32 := 5#32
  let v8086 : BitVec 32 := Scalar.addi v5 c5_i32
  let v8416 : Index := Scalar.indexCast v8086
  let c0_2063 : Index := 0#32
  ![4, v8416.toNat, 0]
def k0_off758 (v8094 : BitVec 32) (v8099 : BitVec 32) (v8125 : BitVec 32) (v8253 : BitVec 32) : Fin 3 → Nat :=
  let c199_i32_1945 : BitVec 32 := 199#32
  let c0_i32_1944 : BitVec 32 := 0#32
  let v8100 : BitVec 32 := Scalar.maxsi c0_i32_1944 v8099
  let v8101 : BitVec 32 := Scalar.minsi c199_i32_1945 v8100
  let v8126 : BitVec 32 := Scalar.addi v8101 v8125
  let v8421 : Index := Scalar.indexCast v8126
  let c199_i32_1942 : BitVec 32 := 199#32
  let c0_i32_1941 : BitVec 32 := 0#32
  let v8095 : BitVec 32 := Scalar.maxsi c0_i32_1941 v8094
  let v8096 : BitVec 32 := Scalar.minsi c199_i32_1942 v8095
  let v8254 : BitVec 32 := Scalar.addi v8096 v8253
  let c3_i32_2023 : BitVec 32 := 3#32
  let v8257 : BitVec 32 := Scalar.shrsi v8254 c3_i32_2023
  let c3_i32_2024 : BitVec 32 := 3#32
  let v8258 : BitVec 32 := Scalar.shli v8257 c3_i32_2024
  let v8259 : BitVec 32 := v8258
  let v8422 : Index := Scalar.indexCast v8259
  let c0_2065 : Index := 0#32
  ![v8421.toNat, v8422.toNat, 0]
def k0_off759 (v8094 : BitVec 32) (v8099 : BitVec 32) (v8109 : BitVec 32) (v8125 : BitVec 32) (v8253 : BitVec 32) : Fin 3 → Nat :=
  let c199_i32_1945 : BitVec 32 := 199#32
  let c0_i32_1944 : BitVec 32 := 0#32
  let v8100 : BitVec 32 := Scalar.maxsi c0_i32_1944 v8099
  let v8101 : BitVec 32 := Scalar.minsi c199_i32_1945 v8100
  let v8126 : BitVec 32 := Scalar.addi v8101 v8125
  let c1_i32_1959 : BitVec 32 := 1#32
  let v8127 : BitVec 32 := Scalar.addi v8126 c1_i32_1959
  let c199_i32_1951 : BitVec 32 := 199#32
  let c0_i32_1950 : BitVec 32 := 0#32
  let v8110 : BitVec 32 := Scalar.maxsi c0_i32_1950 v8109
  let v8111 : BitVec 32 := Scalar.minsi c199_i32_1951 v8110
  let v8128 : BitVec 32 := Scalar.minsi v8127 v8111
  let v8425 : Index := Scalar.indexCast v8128
  let c199_i32_1942 : BitVec 32 := 199#32
  let c0_i32_1941 : BitVec 32 := 0#32
  let v8095 : BitVec 32 := Scalar.maxsi c0_i32_1941 v8094
  let v8096 : BitVec 32 := Scalar.minsi c199_i32_1942 v8095
  let v8254 : BitVec 32 := Scalar.addi v8096 v8253
  let c3_i32_2023 : BitVec 32 := 3#32
  let v8257 : BitVec 32 := Scalar.shrsi v8254 c3_i32_2023
  let c3_i32_2024 : BitVec 32 := 3#32
  let v8258 : BitVec 32 := Scalar.shli v8257 c3_i32_2024
  let v8259 : BitVec 32 := v8258
  let v8426 : Index := Scalar.indexCast v8259
  let c0_2066 : Index := 0#32
  ![v8425.toNat, v8426.toNat, 0]
def k0_off760 (k0_t1 : Fin k0_t1_loop.trips) : Fin 3 → Nat :=
  let c5_2068 : Index := 5#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c5_i32 : BitVec 32 := 5#32
  let v8086 : BitVec 32 := Scalar.addi v5 c5_i32
  let v8445 : Index := Scalar.indexCast v8086
  let c0_2069 : Index := 0#32
  ![5, v8445.toNat, 0]
def k0_off761 (v8094 : BitVec 32) (v8099 : BitVec 32) (v8125 : BitVec 32) (v8266 : BitVec 32) : Fin 3 → Nat :=
  let c199_i32_1945 : BitVec 32 := 199#32
  let c0_i32_1944 : BitVec 32 := 0#32
  let v8100 : BitVec 32 := Scalar.maxsi c0_i32_1944 v8099
  let v8101 : BitVec 32 := Scalar.minsi c199_i32_1945 v8100
  let v8126 : BitVec 32 := Scalar.addi v8101 v8125
  let v8450 : Index := Scalar.indexCast v8126
  let c199_i32_1942 : BitVec 32 := 199#32
  let c0_i32_1941 : BitVec 32 := 0#32
  let v8095 : BitVec 32 := Scalar.maxsi c0_i32_1941 v8094
  let v8096 : BitVec 32 := Scalar.minsi c199_i32_1942 v8095
  let v8267 : BitVec 32 := Scalar.addi v8096 v8266
  let c3_i32_2030 : BitVec 32 := 3#32
  let v8270 : BitVec 32 := Scalar.shrsi v8267 c3_i32_2030
  let c3_i32_2031 : BitVec 32 := 3#32
  let v8271 : BitVec 32 := Scalar.shli v8270 c3_i32_2031
  let v8272 : BitVec 32 := v8271
  let v8451 : Index := Scalar.indexCast v8272
  let c0_2071 : Index := 0#32
  ![v8450.toNat, v8451.toNat, 0]
def k0_off762 (v8094 : BitVec 32) (v8099 : BitVec 32) (v8109 : BitVec 32) (v8125 : BitVec 32) (v8266 : BitVec 32) : Fin 3 → Nat :=
  let c199_i32_1945 : BitVec 32 := 199#32
  let c0_i32_1944 : BitVec 32 := 0#32
  let v8100 : BitVec 32 := Scalar.maxsi c0_i32_1944 v8099
  let v8101 : BitVec 32 := Scalar.minsi c199_i32_1945 v8100
  let v8126 : BitVec 32 := Scalar.addi v8101 v8125
  let c1_i32_1959 : BitVec 32 := 1#32
  let v8127 : BitVec 32 := Scalar.addi v8126 c1_i32_1959
  let c199_i32_1951 : BitVec 32 := 199#32
  let c0_i32_1950 : BitVec 32 := 0#32
  let v8110 : BitVec 32 := Scalar.maxsi c0_i32_1950 v8109
  let v8111 : BitVec 32 := Scalar.minsi c199_i32_1951 v8110
  let v8128 : BitVec 32 := Scalar.minsi v8127 v8111
  let v8454 : Index := Scalar.indexCast v8128
  let c199_i32_1942 : BitVec 32 := 199#32
  let c0_i32_1941 : BitVec 32 := 0#32
  let v8095 : BitVec 32 := Scalar.maxsi c0_i32_1941 v8094
  let v8096 : BitVec 32 := Scalar.minsi c199_i32_1942 v8095
  let v8267 : BitVec 32 := Scalar.addi v8096 v8266
  let c3_i32_2030 : BitVec 32 := 3#32
  let v8270 : BitVec 32 := Scalar.shrsi v8267 c3_i32_2030
  let c3_i32_2031 : BitVec 32 := 3#32
  let v8271 : BitVec 32 := Scalar.shli v8270 c3_i32_2031
  let v8272 : BitVec 32 := v8271
  let v8455 : Index := Scalar.indexCast v8272
  let c0_2072 : Index := 0#32
  ![v8454.toNat, v8455.toNat, 0]
def k0_off763 (k0_t1 : Fin k0_t1_loop.trips) : Fin 3 → Nat :=
  let c6_2074 : Index := 6#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c5_i32 : BitVec 32 := 5#32
  let v8086 : BitVec 32 := Scalar.addi v5 c5_i32
  let v8474 : Index := Scalar.indexCast v8086
  let c0_2075 : Index := 0#32
  ![6, v8474.toNat, 0]
def k0_off764 (v8094 : BitVec 32) (v8099 : BitVec 32) (v8134 : BitVec 32) (v8188 : BitVec 32) : Fin 3 → Nat :=
  let c199_i32_1945 : BitVec 32 := 199#32
  let c0_i32_1944 : BitVec 32 := 0#32
  let v8100 : BitVec 32 := Scalar.maxsi c0_i32_1944 v8099
  let v8101 : BitVec 32 := Scalar.minsi c199_i32_1945 v8100
  let v8135 : BitVec 32 := Scalar.addi v8101 v8134
  let v8480 : Index := Scalar.indexCast v8135
  let c199_i32_1942 : BitVec 32 := 199#32
  let c0_i32_1941 : BitVec 32 := 0#32
  let v8095 : BitVec 32 := Scalar.maxsi c0_i32_1941 v8094
  let v8096 : BitVec 32 := Scalar.minsi c199_i32_1942 v8095
  let v8189 : BitVec 32 := Scalar.addi v8096 v8188
  let c3_i32_1988 : BitVec 32 := 3#32
  let v8192 : BitVec 32 := Scalar.shrsi v8189 c3_i32_1988
  let c3_i32_1989 : BitVec 32 := 3#32
  let v8193 : BitVec 32 := Scalar.shli v8192 c3_i32_1989
  let v8194 : BitVec 32 := v8193
  let v8481 : Index := Scalar.indexCast v8194
  let c0_2078 : Index := 0#32
  ![v8480.toNat, v8481.toNat, 0]
def k0_off765 (v8094 : BitVec 32) (v8099 : BitVec 32) (v8109 : BitVec 32) (v8134 : BitVec 32) (v8188 : BitVec 32) : Fin 3 → Nat :=
  let c199_i32_1945 : BitVec 32 := 199#32
  let c0_i32_1944 : BitVec 32 := 0#32
  let v8100 : BitVec 32 := Scalar.maxsi c0_i32_1944 v8099
  let v8101 : BitVec 32 := Scalar.minsi c199_i32_1945 v8100
  let v8135 : BitVec 32 := Scalar.addi v8101 v8134
  let c1_i32_1963 : BitVec 32 := 1#32
  let v8136 : BitVec 32 := Scalar.addi v8135 c1_i32_1963
  let c199_i32_1951 : BitVec 32 := 199#32
  let c0_i32_1950 : BitVec 32 := 0#32
  let v8110 : BitVec 32 := Scalar.maxsi c0_i32_1950 v8109
  let v8111 : BitVec 32 := Scalar.minsi c199_i32_1951 v8110
  let v8137 : BitVec 32 := Scalar.minsi v8136 v8111
  let v8484 : Index := Scalar.indexCast v8137
  let c199_i32_1942 : BitVec 32 := 199#32
  let c0_i32_1941 : BitVec 32 := 0#32
  let v8095 : BitVec 32 := Scalar.maxsi c0_i32_1941 v8094
  let v8096 : BitVec 32 := Scalar.minsi c199_i32_1942 v8095
  let v8189 : BitVec 32 := Scalar.addi v8096 v8188
  let c3_i32_1988 : BitVec 32 := 3#32
  let v8192 : BitVec 32 := Scalar.shrsi v8189 c3_i32_1988
  let c3_i32_1989 : BitVec 32 := 3#32
  let v8193 : BitVec 32 := Scalar.shli v8192 c3_i32_1989
  let v8194 : BitVec 32 := v8193
  let v8485 : Index := Scalar.indexCast v8194
  let c0_2079 : Index := 0#32
  ![v8484.toNat, v8485.toNat, 0]
def k0_off766 (k0_t1 : Fin k0_t1_loop.trips) : Fin 3 → Nat :=
  let c7_2081 : Index := 7#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c5_i32 : BitVec 32 := 5#32
  let v8086 : BitVec 32 := Scalar.addi v5 c5_i32
  let v8504 : Index := Scalar.indexCast v8086
  let c0_2082 : Index := 0#32
  ![7, v8504.toNat, 0]
def k0_off767 (v8094 : BitVec 32) (v8099 : BitVec 32) (v8134 : BitVec 32) (v8201 : BitVec 32) : Fin 3 → Nat :=
  let c199_i32_1945 : BitVec 32 := 199#32
  let c0_i32_1944 : BitVec 32 := 0#32
  let v8100 : BitVec 32 := Scalar.maxsi c0_i32_1944 v8099
  let v8101 : BitVec 32 := Scalar.minsi c199_i32_1945 v8100
  let v8135 : BitVec 32 := Scalar.addi v8101 v8134
  let v8509 : Index := Scalar.indexCast v8135
  let c199_i32_1942 : BitVec 32 := 199#32
  let c0_i32_1941 : BitVec 32 := 0#32
  let v8095 : BitVec 32 := Scalar.maxsi c0_i32_1941 v8094
  let v8096 : BitVec 32 := Scalar.minsi c199_i32_1942 v8095
  let v8202 : BitVec 32 := Scalar.addi v8096 v8201
  let c3_i32_1995 : BitVec 32 := 3#32
  let v8205 : BitVec 32 := Scalar.shrsi v8202 c3_i32_1995
  let c3_i32_1996 : BitVec 32 := 3#32
  let v8206 : BitVec 32 := Scalar.shli v8205 c3_i32_1996
  let v8207 : BitVec 32 := v8206
  let v8510 : Index := Scalar.indexCast v8207
  let c0_2084 : Index := 0#32
  ![v8509.toNat, v8510.toNat, 0]
def k0_off768 (v8094 : BitVec 32) (v8099 : BitVec 32) (v8109 : BitVec 32) (v8134 : BitVec 32) (v8201 : BitVec 32) : Fin 3 → Nat :=
  let c199_i32_1945 : BitVec 32 := 199#32
  let c0_i32_1944 : BitVec 32 := 0#32
  let v8100 : BitVec 32 := Scalar.maxsi c0_i32_1944 v8099
  let v8101 : BitVec 32 := Scalar.minsi c199_i32_1945 v8100
  let v8135 : BitVec 32 := Scalar.addi v8101 v8134
  let c1_i32_1963 : BitVec 32 := 1#32
  let v8136 : BitVec 32 := Scalar.addi v8135 c1_i32_1963
  let c199_i32_1951 : BitVec 32 := 199#32
  let c0_i32_1950 : BitVec 32 := 0#32
  let v8110 : BitVec 32 := Scalar.maxsi c0_i32_1950 v8109
  let v8111 : BitVec 32 := Scalar.minsi c199_i32_1951 v8110
  let v8137 : BitVec 32 := Scalar.minsi v8136 v8111
  let v8513 : Index := Scalar.indexCast v8137
  let c199_i32_1942 : BitVec 32 := 199#32
  let c0_i32_1941 : BitVec 32 := 0#32
  let v8095 : BitVec 32 := Scalar.maxsi c0_i32_1941 v8094
  let v8096 : BitVec 32 := Scalar.minsi c199_i32_1942 v8095
  let v8202 : BitVec 32 := Scalar.addi v8096 v8201
  let c3_i32_1995 : BitVec 32 := 3#32
  let v8205 : BitVec 32 := Scalar.shrsi v8202 c3_i32_1995
  let c3_i32_1996 : BitVec 32 := 3#32
  let v8206 : BitVec 32 := Scalar.shli v8205 c3_i32_1996
  let v8207 : BitVec 32 := v8206
  let v8514 : Index := Scalar.indexCast v8207
  let c0_2085 : Index := 0#32
  ![v8513.toNat, v8514.toNat, 0]
def k0_off769 (k0_t1 : Fin k0_t1_loop.trips) : Fin 3 → Nat :=
  let c8_2087 : Index := 8#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c5_i32 : BitVec 32 := 5#32
  let v8086 : BitVec 32 := Scalar.addi v5 c5_i32
  let v8533 : Index := Scalar.indexCast v8086
  let c0_2088 : Index := 0#32
  ![8, v8533.toNat, 0]
def k0_off770 (v8094 : BitVec 32) (v8099 : BitVec 32) (v8134 : BitVec 32) (v8214 : BitVec 32) : Fin 3 → Nat :=
  let c199_i32_1945 : BitVec 32 := 199#32
  let c0_i32_1944 : BitVec 32 := 0#32
  let v8100 : BitVec 32 := Scalar.maxsi c0_i32_1944 v8099
  let v8101 : BitVec 32 := Scalar.minsi c199_i32_1945 v8100
  let v8135 : BitVec 32 := Scalar.addi v8101 v8134
  let v8538 : Index := Scalar.indexCast v8135
  let c199_i32_1942 : BitVec 32 := 199#32
  let c0_i32_1941 : BitVec 32 := 0#32
  let v8095 : BitVec 32 := Scalar.maxsi c0_i32_1941 v8094
  let v8096 : BitVec 32 := Scalar.minsi c199_i32_1942 v8095
  let v8215 : BitVec 32 := Scalar.addi v8096 v8214
  let c3_i32_2002 : BitVec 32 := 3#32
  let v8218 : BitVec 32 := Scalar.shrsi v8215 c3_i32_2002
  let c3_i32_2003 : BitVec 32 := 3#32
  let v8219 : BitVec 32 := Scalar.shli v8218 c3_i32_2003
  let v8220 : BitVec 32 := v8219
  let v8539 : Index := Scalar.indexCast v8220
  let c0_2090 : Index := 0#32
  ![v8538.toNat, v8539.toNat, 0]
def k0_off771 (v8094 : BitVec 32) (v8099 : BitVec 32) (v8109 : BitVec 32) (v8134 : BitVec 32) (v8214 : BitVec 32) : Fin 3 → Nat :=
  let c199_i32_1945 : BitVec 32 := 199#32
  let c0_i32_1944 : BitVec 32 := 0#32
  let v8100 : BitVec 32 := Scalar.maxsi c0_i32_1944 v8099
  let v8101 : BitVec 32 := Scalar.minsi c199_i32_1945 v8100
  let v8135 : BitVec 32 := Scalar.addi v8101 v8134
  let c1_i32_1963 : BitVec 32 := 1#32
  let v8136 : BitVec 32 := Scalar.addi v8135 c1_i32_1963
  let c199_i32_1951 : BitVec 32 := 199#32
  let c0_i32_1950 : BitVec 32 := 0#32
  let v8110 : BitVec 32 := Scalar.maxsi c0_i32_1950 v8109
  let v8111 : BitVec 32 := Scalar.minsi c199_i32_1951 v8110
  let v8137 : BitVec 32 := Scalar.minsi v8136 v8111
  let v8542 : Index := Scalar.indexCast v8137
  let c199_i32_1942 : BitVec 32 := 199#32
  let c0_i32_1941 : BitVec 32 := 0#32
  let v8095 : BitVec 32 := Scalar.maxsi c0_i32_1941 v8094
  let v8096 : BitVec 32 := Scalar.minsi c199_i32_1942 v8095
  let v8215 : BitVec 32 := Scalar.addi v8096 v8214
  let c3_i32_2002 : BitVec 32 := 3#32
  let v8218 : BitVec 32 := Scalar.shrsi v8215 c3_i32_2002
  let c3_i32_2003 : BitVec 32 := 3#32
  let v8219 : BitVec 32 := Scalar.shli v8218 c3_i32_2003
  let v8220 : BitVec 32 := v8219
  let v8543 : Index := Scalar.indexCast v8220
  let c0_2091 : Index := 0#32
  ![v8542.toNat, v8543.toNat, 0]
def k0_off772 (k0_t1 : Fin k0_t1_loop.trips) : Fin 3 → Nat :=
  let c9_2093 : Index := 9#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c5_i32 : BitVec 32 := 5#32
  let v8086 : BitVec 32 := Scalar.addi v5 c5_i32
  let v8562 : Index := Scalar.indexCast v8086
  let c0_2094 : Index := 0#32
  ![9, v8562.toNat, 0]
def k0_off773 (v8094 : BitVec 32) (v8099 : BitVec 32) (v8134 : BitVec 32) (v8227 : BitVec 32) : Fin 3 → Nat :=
  let c199_i32_1945 : BitVec 32 := 199#32
  let c0_i32_1944 : BitVec 32 := 0#32
  let v8100 : BitVec 32 := Scalar.maxsi c0_i32_1944 v8099
  let v8101 : BitVec 32 := Scalar.minsi c199_i32_1945 v8100
  let v8135 : BitVec 32 := Scalar.addi v8101 v8134
  let v8567 : Index := Scalar.indexCast v8135
  let c199_i32_1942 : BitVec 32 := 199#32
  let c0_i32_1941 : BitVec 32 := 0#32
  let v8095 : BitVec 32 := Scalar.maxsi c0_i32_1941 v8094
  let v8096 : BitVec 32 := Scalar.minsi c199_i32_1942 v8095
  let v8228 : BitVec 32 := Scalar.addi v8096 v8227
  let c3_i32_2009 : BitVec 32 := 3#32
  let v8231 : BitVec 32 := Scalar.shrsi v8228 c3_i32_2009
  let c3_i32_2010 : BitVec 32 := 3#32
  let v8232 : BitVec 32 := Scalar.shli v8231 c3_i32_2010
  let v8233 : BitVec 32 := v8232
  let v8568 : Index := Scalar.indexCast v8233
  let c0_2096 : Index := 0#32
  ![v8567.toNat, v8568.toNat, 0]
def k0_off774 (v8094 : BitVec 32) (v8099 : BitVec 32) (v8109 : BitVec 32) (v8134 : BitVec 32) (v8227 : BitVec 32) : Fin 3 → Nat :=
  let c199_i32_1945 : BitVec 32 := 199#32
  let c0_i32_1944 : BitVec 32 := 0#32
  let v8100 : BitVec 32 := Scalar.maxsi c0_i32_1944 v8099
  let v8101 : BitVec 32 := Scalar.minsi c199_i32_1945 v8100
  let v8135 : BitVec 32 := Scalar.addi v8101 v8134
  let c1_i32_1963 : BitVec 32 := 1#32
  let v8136 : BitVec 32 := Scalar.addi v8135 c1_i32_1963
  let c199_i32_1951 : BitVec 32 := 199#32
  let c0_i32_1950 : BitVec 32 := 0#32
  let v8110 : BitVec 32 := Scalar.maxsi c0_i32_1950 v8109
  let v8111 : BitVec 32 := Scalar.minsi c199_i32_1951 v8110
  let v8137 : BitVec 32 := Scalar.minsi v8136 v8111
  let v8571 : Index := Scalar.indexCast v8137
  let c199_i32_1942 : BitVec 32 := 199#32
  let c0_i32_1941 : BitVec 32 := 0#32
  let v8095 : BitVec 32 := Scalar.maxsi c0_i32_1941 v8094
  let v8096 : BitVec 32 := Scalar.minsi c199_i32_1942 v8095
  let v8228 : BitVec 32 := Scalar.addi v8096 v8227
  let c3_i32_2009 : BitVec 32 := 3#32
  let v8231 : BitVec 32 := Scalar.shrsi v8228 c3_i32_2009
  let c3_i32_2010 : BitVec 32 := 3#32
  let v8232 : BitVec 32 := Scalar.shli v8231 c3_i32_2010
  let v8233 : BitVec 32 := v8232
  let v8572 : Index := Scalar.indexCast v8233
  let c0_2097 : Index := 0#32
  ![v8571.toNat, v8572.toNat, 0]
def k0_off775 (k0_t1 : Fin k0_t1_loop.trips) : Fin 3 → Nat :=
  let c10_2099 : Index := 10#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c5_i32 : BitVec 32 := 5#32
  let v8086 : BitVec 32 := Scalar.addi v5 c5_i32
  let v8591 : Index := Scalar.indexCast v8086
  let c0_2100 : Index := 0#32
  ![10, v8591.toNat, 0]
def k0_off776 (v8094 : BitVec 32) (v8099 : BitVec 32) (v8134 : BitVec 32) (v8240 : BitVec 32) : Fin 3 → Nat :=
  let c199_i32_1945 : BitVec 32 := 199#32
  let c0_i32_1944 : BitVec 32 := 0#32
  let v8100 : BitVec 32 := Scalar.maxsi c0_i32_1944 v8099
  let v8101 : BitVec 32 := Scalar.minsi c199_i32_1945 v8100
  let v8135 : BitVec 32 := Scalar.addi v8101 v8134
  let v8596 : Index := Scalar.indexCast v8135
  let c199_i32_1942 : BitVec 32 := 199#32
  let c0_i32_1941 : BitVec 32 := 0#32
  let v8095 : BitVec 32 := Scalar.maxsi c0_i32_1941 v8094
  let v8096 : BitVec 32 := Scalar.minsi c199_i32_1942 v8095
  let v8241 : BitVec 32 := Scalar.addi v8096 v8240
  let c3_i32_2016 : BitVec 32 := 3#32
  let v8244 : BitVec 32 := Scalar.shrsi v8241 c3_i32_2016
  let c3_i32_2017 : BitVec 32 := 3#32
  let v8245 : BitVec 32 := Scalar.shli v8244 c3_i32_2017
  let v8246 : BitVec 32 := v8245
  let v8597 : Index := Scalar.indexCast v8246
  let c0_2102 : Index := 0#32
  ![v8596.toNat, v8597.toNat, 0]
def k0_off777 (v8094 : BitVec 32) (v8099 : BitVec 32) (v8109 : BitVec 32) (v8134 : BitVec 32) (v8240 : BitVec 32) : Fin 3 → Nat :=
  let c199_i32_1945 : BitVec 32 := 199#32
  let c0_i32_1944 : BitVec 32 := 0#32
  let v8100 : BitVec 32 := Scalar.maxsi c0_i32_1944 v8099
  let v8101 : BitVec 32 := Scalar.minsi c199_i32_1945 v8100
  let v8135 : BitVec 32 := Scalar.addi v8101 v8134
  let c1_i32_1963 : BitVec 32 := 1#32
  let v8136 : BitVec 32 := Scalar.addi v8135 c1_i32_1963
  let c199_i32_1951 : BitVec 32 := 199#32
  let c0_i32_1950 : BitVec 32 := 0#32
  let v8110 : BitVec 32 := Scalar.maxsi c0_i32_1950 v8109
  let v8111 : BitVec 32 := Scalar.minsi c199_i32_1951 v8110
  let v8137 : BitVec 32 := Scalar.minsi v8136 v8111
  let v8600 : Index := Scalar.indexCast v8137
  let c199_i32_1942 : BitVec 32 := 199#32
  let c0_i32_1941 : BitVec 32 := 0#32
  let v8095 : BitVec 32 := Scalar.maxsi c0_i32_1941 v8094
  let v8096 : BitVec 32 := Scalar.minsi c199_i32_1942 v8095
  let v8241 : BitVec 32 := Scalar.addi v8096 v8240
  let c3_i32_2016 : BitVec 32 := 3#32
  let v8244 : BitVec 32 := Scalar.shrsi v8241 c3_i32_2016
  let c3_i32_2017 : BitVec 32 := 3#32
  let v8245 : BitVec 32 := Scalar.shli v8244 c3_i32_2017
  let v8246 : BitVec 32 := v8245
  let v8601 : Index := Scalar.indexCast v8246
  let c0_2103 : Index := 0#32
  ![v8600.toNat, v8601.toNat, 0]
def k0_off778 (k0_t1 : Fin k0_t1_loop.trips) : Fin 3 → Nat :=
  let c11_2105 : Index := 11#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c5_i32 : BitVec 32 := 5#32
  let v8086 : BitVec 32 := Scalar.addi v5 c5_i32
  let v8620 : Index := Scalar.indexCast v8086
  let c0_2106 : Index := 0#32
  ![11, v8620.toNat, 0]
def k0_off779 (v8094 : BitVec 32) (v8099 : BitVec 32) (v8134 : BitVec 32) (v8253 : BitVec 32) : Fin 3 → Nat :=
  let c199_i32_1945 : BitVec 32 := 199#32
  let c0_i32_1944 : BitVec 32 := 0#32
  let v8100 : BitVec 32 := Scalar.maxsi c0_i32_1944 v8099
  let v8101 : BitVec 32 := Scalar.minsi c199_i32_1945 v8100
  let v8135 : BitVec 32 := Scalar.addi v8101 v8134
  let v8625 : Index := Scalar.indexCast v8135
  let c199_i32_1942 : BitVec 32 := 199#32
  let c0_i32_1941 : BitVec 32 := 0#32
  let v8095 : BitVec 32 := Scalar.maxsi c0_i32_1941 v8094
  let v8096 : BitVec 32 := Scalar.minsi c199_i32_1942 v8095
  let v8254 : BitVec 32 := Scalar.addi v8096 v8253
  let c3_i32_2023 : BitVec 32 := 3#32
  let v8257 : BitVec 32 := Scalar.shrsi v8254 c3_i32_2023
  let c3_i32_2024 : BitVec 32 := 3#32
  let v8258 : BitVec 32 := Scalar.shli v8257 c3_i32_2024
  let v8259 : BitVec 32 := v8258
  let v8626 : Index := Scalar.indexCast v8259
  let c0_2108 : Index := 0#32
  ![v8625.toNat, v8626.toNat, 0]
def k0_off780 (v8094 : BitVec 32) (v8099 : BitVec 32) (v8109 : BitVec 32) (v8134 : BitVec 32) (v8253 : BitVec 32) : Fin 3 → Nat :=
  let c199_i32_1945 : BitVec 32 := 199#32
  let c0_i32_1944 : BitVec 32 := 0#32
  let v8100 : BitVec 32 := Scalar.maxsi c0_i32_1944 v8099
  let v8101 : BitVec 32 := Scalar.minsi c199_i32_1945 v8100
  let v8135 : BitVec 32 := Scalar.addi v8101 v8134
  let c1_i32_1963 : BitVec 32 := 1#32
  let v8136 : BitVec 32 := Scalar.addi v8135 c1_i32_1963
  let c199_i32_1951 : BitVec 32 := 199#32
  let c0_i32_1950 : BitVec 32 := 0#32
  let v8110 : BitVec 32 := Scalar.maxsi c0_i32_1950 v8109
  let v8111 : BitVec 32 := Scalar.minsi c199_i32_1951 v8110
  let v8137 : BitVec 32 := Scalar.minsi v8136 v8111
  let v8629 : Index := Scalar.indexCast v8137
  let c199_i32_1942 : BitVec 32 := 199#32
  let c0_i32_1941 : BitVec 32 := 0#32
  let v8095 : BitVec 32 := Scalar.maxsi c0_i32_1941 v8094
  let v8096 : BitVec 32 := Scalar.minsi c199_i32_1942 v8095
  let v8254 : BitVec 32 := Scalar.addi v8096 v8253
  let c3_i32_2023 : BitVec 32 := 3#32
  let v8257 : BitVec 32 := Scalar.shrsi v8254 c3_i32_2023
  let c3_i32_2024 : BitVec 32 := 3#32
  let v8258 : BitVec 32 := Scalar.shli v8257 c3_i32_2024
  let v8259 : BitVec 32 := v8258
  let v8630 : Index := Scalar.indexCast v8259
  let c0_2109 : Index := 0#32
  ![v8629.toNat, v8630.toNat, 0]
def k0_off781 (k0_t1 : Fin k0_t1_loop.trips) : Fin 3 → Nat :=
  let c12_2111 : Index := 12#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c5_i32 : BitVec 32 := 5#32
  let v8086 : BitVec 32 := Scalar.addi v5 c5_i32
  let v8649 : Index := Scalar.indexCast v8086
  let c0_2112 : Index := 0#32
  ![12, v8649.toNat, 0]
def k0_off782 (v8094 : BitVec 32) (v8099 : BitVec 32) (v8134 : BitVec 32) (v8266 : BitVec 32) : Fin 3 → Nat :=
  let c199_i32_1945 : BitVec 32 := 199#32
  let c0_i32_1944 : BitVec 32 := 0#32
  let v8100 : BitVec 32 := Scalar.maxsi c0_i32_1944 v8099
  let v8101 : BitVec 32 := Scalar.minsi c199_i32_1945 v8100
  let v8135 : BitVec 32 := Scalar.addi v8101 v8134
  let v8654 : Index := Scalar.indexCast v8135
  let c199_i32_1942 : BitVec 32 := 199#32
  let c0_i32_1941 : BitVec 32 := 0#32
  let v8095 : BitVec 32 := Scalar.maxsi c0_i32_1941 v8094
  let v8096 : BitVec 32 := Scalar.minsi c199_i32_1942 v8095
  let v8267 : BitVec 32 := Scalar.addi v8096 v8266
  let c3_i32_2030 : BitVec 32 := 3#32
  let v8270 : BitVec 32 := Scalar.shrsi v8267 c3_i32_2030
  let c3_i32_2031 : BitVec 32 := 3#32
  let v8271 : BitVec 32 := Scalar.shli v8270 c3_i32_2031
  let v8272 : BitVec 32 := v8271
  let v8655 : Index := Scalar.indexCast v8272
  let c0_2114 : Index := 0#32
  ![v8654.toNat, v8655.toNat, 0]
def k0_off783 (v8094 : BitVec 32) (v8099 : BitVec 32) (v8109 : BitVec 32) (v8134 : BitVec 32) (v8266 : BitVec 32) : Fin 3 → Nat :=
  let c199_i32_1945 : BitVec 32 := 199#32
  let c0_i32_1944 : BitVec 32 := 0#32
  let v8100 : BitVec 32 := Scalar.maxsi c0_i32_1944 v8099
  let v8101 : BitVec 32 := Scalar.minsi c199_i32_1945 v8100
  let v8135 : BitVec 32 := Scalar.addi v8101 v8134
  let c1_i32_1963 : BitVec 32 := 1#32
  let v8136 : BitVec 32 := Scalar.addi v8135 c1_i32_1963
  let c199_i32_1951 : BitVec 32 := 199#32
  let c0_i32_1950 : BitVec 32 := 0#32
  let v8110 : BitVec 32 := Scalar.maxsi c0_i32_1950 v8109
  let v8111 : BitVec 32 := Scalar.minsi c199_i32_1951 v8110
  let v8137 : BitVec 32 := Scalar.minsi v8136 v8111
  let v8658 : Index := Scalar.indexCast v8137
  let c199_i32_1942 : BitVec 32 := 199#32
  let c0_i32_1941 : BitVec 32 := 0#32
  let v8095 : BitVec 32 := Scalar.maxsi c0_i32_1941 v8094
  let v8096 : BitVec 32 := Scalar.minsi c199_i32_1942 v8095
  let v8267 : BitVec 32 := Scalar.addi v8096 v8266
  let c3_i32_2030 : BitVec 32 := 3#32
  let v8270 : BitVec 32 := Scalar.shrsi v8267 c3_i32_2030
  let c3_i32_2031 : BitVec 32 := 3#32
  let v8271 : BitVec 32 := Scalar.shli v8270 c3_i32_2031
  let v8272 : BitVec 32 := v8271
  let v8659 : Index := Scalar.indexCast v8272
  let c0_2115 : Index := 0#32
  ![v8658.toNat, v8659.toNat, 0]
def k0_off784 (k0_t1 : Fin k0_t1_loop.trips) : Fin 3 → Nat :=
  let c13_2117 : Index := 13#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c5_i32 : BitVec 32 := 5#32
  let v8086 : BitVec 32 := Scalar.addi v5 c5_i32
  let v8678 : Index := Scalar.indexCast v8086
  let c0_2118 : Index := 0#32
  ![13, v8678.toNat, 0]
def k0_off785 (v8094 : BitVec 32) (v8099 : BitVec 32) (v8143 : BitVec 32) (v8188 : BitVec 32) : Fin 3 → Nat :=
  let c199_i32_1945 : BitVec 32 := 199#32
  let c0_i32_1944 : BitVec 32 := 0#32
  let v8100 : BitVec 32 := Scalar.maxsi c0_i32_1944 v8099
  let v8101 : BitVec 32 := Scalar.minsi c199_i32_1945 v8100
  let v8144 : BitVec 32 := Scalar.addi v8101 v8143
  let v8684 : Index := Scalar.indexCast v8144
  let c199_i32_1942 : BitVec 32 := 199#32
  let c0_i32_1941 : BitVec 32 := 0#32
  let v8095 : BitVec 32 := Scalar.maxsi c0_i32_1941 v8094
  let v8096 : BitVec 32 := Scalar.minsi c199_i32_1942 v8095
  let v8189 : BitVec 32 := Scalar.addi v8096 v8188
  let c3_i32_1988 : BitVec 32 := 3#32
  let v8192 : BitVec 32 := Scalar.shrsi v8189 c3_i32_1988
  let c3_i32_1989 : BitVec 32 := 3#32
  let v8193 : BitVec 32 := Scalar.shli v8192 c3_i32_1989
  let v8194 : BitVec 32 := v8193
  let v8685 : Index := Scalar.indexCast v8194
  let c0_2121 : Index := 0#32
  ![v8684.toNat, v8685.toNat, 0]
def k0_off786 (v8094 : BitVec 32) (v8099 : BitVec 32) (v8109 : BitVec 32) (v8143 : BitVec 32) (v8188 : BitVec 32) : Fin 3 → Nat :=
  let c199_i32_1945 : BitVec 32 := 199#32
  let c0_i32_1944 : BitVec 32 := 0#32
  let v8100 : BitVec 32 := Scalar.maxsi c0_i32_1944 v8099
  let v8101 : BitVec 32 := Scalar.minsi c199_i32_1945 v8100
  let v8144 : BitVec 32 := Scalar.addi v8101 v8143
  let c1_i32_1967 : BitVec 32 := 1#32
  let v8145 : BitVec 32 := Scalar.addi v8144 c1_i32_1967
  let c199_i32_1951 : BitVec 32 := 199#32
  let c0_i32_1950 : BitVec 32 := 0#32
  let v8110 : BitVec 32 := Scalar.maxsi c0_i32_1950 v8109
  let v8111 : BitVec 32 := Scalar.minsi c199_i32_1951 v8110
  let v8146 : BitVec 32 := Scalar.minsi v8145 v8111
  let v8688 : Index := Scalar.indexCast v8146
  let c199_i32_1942 : BitVec 32 := 199#32
  let c0_i32_1941 : BitVec 32 := 0#32
  let v8095 : BitVec 32 := Scalar.maxsi c0_i32_1941 v8094
  let v8096 : BitVec 32 := Scalar.minsi c199_i32_1942 v8095
  let v8189 : BitVec 32 := Scalar.addi v8096 v8188
  let c3_i32_1988 : BitVec 32 := 3#32
  let v8192 : BitVec 32 := Scalar.shrsi v8189 c3_i32_1988
  let c3_i32_1989 : BitVec 32 := 3#32
  let v8193 : BitVec 32 := Scalar.shli v8192 c3_i32_1989
  let v8194 : BitVec 32 := v8193
  let v8689 : Index := Scalar.indexCast v8194
  let c0_2122 : Index := 0#32
  ![v8688.toNat, v8689.toNat, 0]
def k0_off787 (k0_t1 : Fin k0_t1_loop.trips) : Fin 3 → Nat :=
  let c14_2124 : Index := 14#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c5_i32 : BitVec 32 := 5#32
  let v8086 : BitVec 32 := Scalar.addi v5 c5_i32
  let v8708 : Index := Scalar.indexCast v8086
  let c0_2125 : Index := 0#32
  ![14, v8708.toNat, 0]
def k0_off788 (v8094 : BitVec 32) (v8099 : BitVec 32) (v8143 : BitVec 32) (v8201 : BitVec 32) : Fin 3 → Nat :=
  let c199_i32_1945 : BitVec 32 := 199#32
  let c0_i32_1944 : BitVec 32 := 0#32
  let v8100 : BitVec 32 := Scalar.maxsi c0_i32_1944 v8099
  let v8101 : BitVec 32 := Scalar.minsi c199_i32_1945 v8100
  let v8144 : BitVec 32 := Scalar.addi v8101 v8143
  let v8713 : Index := Scalar.indexCast v8144
  let c199_i32_1942 : BitVec 32 := 199#32
  let c0_i32_1941 : BitVec 32 := 0#32
  let v8095 : BitVec 32 := Scalar.maxsi c0_i32_1941 v8094
  let v8096 : BitVec 32 := Scalar.minsi c199_i32_1942 v8095
  let v8202 : BitVec 32 := Scalar.addi v8096 v8201
  let c3_i32_1995 : BitVec 32 := 3#32
  let v8205 : BitVec 32 := Scalar.shrsi v8202 c3_i32_1995
  let c3_i32_1996 : BitVec 32 := 3#32
  let v8206 : BitVec 32 := Scalar.shli v8205 c3_i32_1996
  let v8207 : BitVec 32 := v8206
  let v8714 : Index := Scalar.indexCast v8207
  let c0_2127 : Index := 0#32
  ![v8713.toNat, v8714.toNat, 0]
def k0_off789 (v8094 : BitVec 32) (v8099 : BitVec 32) (v8109 : BitVec 32) (v8143 : BitVec 32) (v8201 : BitVec 32) : Fin 3 → Nat :=
  let c199_i32_1945 : BitVec 32 := 199#32
  let c0_i32_1944 : BitVec 32 := 0#32
  let v8100 : BitVec 32 := Scalar.maxsi c0_i32_1944 v8099
  let v8101 : BitVec 32 := Scalar.minsi c199_i32_1945 v8100
  let v8144 : BitVec 32 := Scalar.addi v8101 v8143
  let c1_i32_1967 : BitVec 32 := 1#32
  let v8145 : BitVec 32 := Scalar.addi v8144 c1_i32_1967
  let c199_i32_1951 : BitVec 32 := 199#32
  let c0_i32_1950 : BitVec 32 := 0#32
  let v8110 : BitVec 32 := Scalar.maxsi c0_i32_1950 v8109
  let v8111 : BitVec 32 := Scalar.minsi c199_i32_1951 v8110
  let v8146 : BitVec 32 := Scalar.minsi v8145 v8111
  let v8717 : Index := Scalar.indexCast v8146
  let c199_i32_1942 : BitVec 32 := 199#32
  let c0_i32_1941 : BitVec 32 := 0#32
  let v8095 : BitVec 32 := Scalar.maxsi c0_i32_1941 v8094
  let v8096 : BitVec 32 := Scalar.minsi c199_i32_1942 v8095
  let v8202 : BitVec 32 := Scalar.addi v8096 v8201
  let c3_i32_1995 : BitVec 32 := 3#32
  let v8205 : BitVec 32 := Scalar.shrsi v8202 c3_i32_1995
  let c3_i32_1996 : BitVec 32 := 3#32
  let v8206 : BitVec 32 := Scalar.shli v8205 c3_i32_1996
  let v8207 : BitVec 32 := v8206
  let v8718 : Index := Scalar.indexCast v8207
  let c0_2128 : Index := 0#32
  ![v8717.toNat, v8718.toNat, 0]
def k0_off790 (k0_t1 : Fin k0_t1_loop.trips) : Fin 3 → Nat :=
  let c15_2130 : Index := 15#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c5_i32 : BitVec 32 := 5#32
  let v8086 : BitVec 32 := Scalar.addi v5 c5_i32
  let v8737 : Index := Scalar.indexCast v8086
  let c0_2131 : Index := 0#32
  ![15, v8737.toNat, 0]
def k0_off791 (v8094 : BitVec 32) (v8099 : BitVec 32) (v8143 : BitVec 32) (v8214 : BitVec 32) : Fin 3 → Nat :=
  let c199_i32_1945 : BitVec 32 := 199#32
  let c0_i32_1944 : BitVec 32 := 0#32
  let v8100 : BitVec 32 := Scalar.maxsi c0_i32_1944 v8099
  let v8101 : BitVec 32 := Scalar.minsi c199_i32_1945 v8100
  let v8144 : BitVec 32 := Scalar.addi v8101 v8143
  let v8742 : Index := Scalar.indexCast v8144
  let c199_i32_1942 : BitVec 32 := 199#32
  let c0_i32_1941 : BitVec 32 := 0#32
  let v8095 : BitVec 32 := Scalar.maxsi c0_i32_1941 v8094
  let v8096 : BitVec 32 := Scalar.minsi c199_i32_1942 v8095
  let v8215 : BitVec 32 := Scalar.addi v8096 v8214
  let c3_i32_2002 : BitVec 32 := 3#32
  let v8218 : BitVec 32 := Scalar.shrsi v8215 c3_i32_2002
  let c3_i32_2003 : BitVec 32 := 3#32
  let v8219 : BitVec 32 := Scalar.shli v8218 c3_i32_2003
  let v8220 : BitVec 32 := v8219
  let v8743 : Index := Scalar.indexCast v8220
  let c0_2133 : Index := 0#32
  ![v8742.toNat, v8743.toNat, 0]
def k0_off792 (v8094 : BitVec 32) (v8099 : BitVec 32) (v8109 : BitVec 32) (v8143 : BitVec 32) (v8214 : BitVec 32) : Fin 3 → Nat :=
  let c199_i32_1945 : BitVec 32 := 199#32
  let c0_i32_1944 : BitVec 32 := 0#32
  let v8100 : BitVec 32 := Scalar.maxsi c0_i32_1944 v8099
  let v8101 : BitVec 32 := Scalar.minsi c199_i32_1945 v8100
  let v8144 : BitVec 32 := Scalar.addi v8101 v8143
  let c1_i32_1967 : BitVec 32 := 1#32
  let v8145 : BitVec 32 := Scalar.addi v8144 c1_i32_1967
  let c199_i32_1951 : BitVec 32 := 199#32
  let c0_i32_1950 : BitVec 32 := 0#32
  let v8110 : BitVec 32 := Scalar.maxsi c0_i32_1950 v8109
  let v8111 : BitVec 32 := Scalar.minsi c199_i32_1951 v8110
  let v8146 : BitVec 32 := Scalar.minsi v8145 v8111
  let v8746 : Index := Scalar.indexCast v8146
  let c199_i32_1942 : BitVec 32 := 199#32
  let c0_i32_1941 : BitVec 32 := 0#32
  let v8095 : BitVec 32 := Scalar.maxsi c0_i32_1941 v8094
  let v8096 : BitVec 32 := Scalar.minsi c199_i32_1942 v8095
  let v8215 : BitVec 32 := Scalar.addi v8096 v8214
  let c3_i32_2002 : BitVec 32 := 3#32
  let v8218 : BitVec 32 := Scalar.shrsi v8215 c3_i32_2002
  let c3_i32_2003 : BitVec 32 := 3#32
  let v8219 : BitVec 32 := Scalar.shli v8218 c3_i32_2003
  let v8220 : BitVec 32 := v8219
  let v8747 : Index := Scalar.indexCast v8220
  let c0_2134 : Index := 0#32
  ![v8746.toNat, v8747.toNat, 0]
def k0_off793 (k0_t1 : Fin k0_t1_loop.trips) : Fin 3 → Nat :=
  let c16_2136 : Index := 16#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c5_i32 : BitVec 32 := 5#32
  let v8086 : BitVec 32 := Scalar.addi v5 c5_i32
  let v8766 : Index := Scalar.indexCast v8086
  let c0_2137 : Index := 0#32
  ![16, v8766.toNat, 0]
def k0_off794 (v8094 : BitVec 32) (v8099 : BitVec 32) (v8143 : BitVec 32) (v8227 : BitVec 32) : Fin 3 → Nat :=
  let c199_i32_1945 : BitVec 32 := 199#32
  let c0_i32_1944 : BitVec 32 := 0#32
  let v8100 : BitVec 32 := Scalar.maxsi c0_i32_1944 v8099
  let v8101 : BitVec 32 := Scalar.minsi c199_i32_1945 v8100
  let v8144 : BitVec 32 := Scalar.addi v8101 v8143
  let v8771 : Index := Scalar.indexCast v8144
  let c199_i32_1942 : BitVec 32 := 199#32
  let c0_i32_1941 : BitVec 32 := 0#32
  let v8095 : BitVec 32 := Scalar.maxsi c0_i32_1941 v8094
  let v8096 : BitVec 32 := Scalar.minsi c199_i32_1942 v8095
  let v8228 : BitVec 32 := Scalar.addi v8096 v8227
  let c3_i32_2009 : BitVec 32 := 3#32
  let v8231 : BitVec 32 := Scalar.shrsi v8228 c3_i32_2009
  let c3_i32_2010 : BitVec 32 := 3#32
  let v8232 : BitVec 32 := Scalar.shli v8231 c3_i32_2010
  let v8233 : BitVec 32 := v8232
  let v8772 : Index := Scalar.indexCast v8233
  let c0_2139 : Index := 0#32
  ![v8771.toNat, v8772.toNat, 0]
def k0_off795 (v8094 : BitVec 32) (v8099 : BitVec 32) (v8109 : BitVec 32) (v8143 : BitVec 32) (v8227 : BitVec 32) : Fin 3 → Nat :=
  let c199_i32_1945 : BitVec 32 := 199#32
  let c0_i32_1944 : BitVec 32 := 0#32
  let v8100 : BitVec 32 := Scalar.maxsi c0_i32_1944 v8099
  let v8101 : BitVec 32 := Scalar.minsi c199_i32_1945 v8100
  let v8144 : BitVec 32 := Scalar.addi v8101 v8143
  let c1_i32_1967 : BitVec 32 := 1#32
  let v8145 : BitVec 32 := Scalar.addi v8144 c1_i32_1967
  let c199_i32_1951 : BitVec 32 := 199#32
  let c0_i32_1950 : BitVec 32 := 0#32
  let v8110 : BitVec 32 := Scalar.maxsi c0_i32_1950 v8109
  let v8111 : BitVec 32 := Scalar.minsi c199_i32_1951 v8110
  let v8146 : BitVec 32 := Scalar.minsi v8145 v8111
  let v8775 : Index := Scalar.indexCast v8146
  let c199_i32_1942 : BitVec 32 := 199#32
  let c0_i32_1941 : BitVec 32 := 0#32
  let v8095 : BitVec 32 := Scalar.maxsi c0_i32_1941 v8094
  let v8096 : BitVec 32 := Scalar.minsi c199_i32_1942 v8095
  let v8228 : BitVec 32 := Scalar.addi v8096 v8227
  let c3_i32_2009 : BitVec 32 := 3#32
  let v8231 : BitVec 32 := Scalar.shrsi v8228 c3_i32_2009
  let c3_i32_2010 : BitVec 32 := 3#32
  let v8232 : BitVec 32 := Scalar.shli v8231 c3_i32_2010
  let v8233 : BitVec 32 := v8232
  let v8776 : Index := Scalar.indexCast v8233
  let c0_2140 : Index := 0#32
  ![v8775.toNat, v8776.toNat, 0]
def k0_off796 (k0_t1 : Fin k0_t1_loop.trips) : Fin 3 → Nat :=
  let c17_2142 : Index := 17#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c5_i32 : BitVec 32 := 5#32
  let v8086 : BitVec 32 := Scalar.addi v5 c5_i32
  let v8795 : Index := Scalar.indexCast v8086
  let c0_2143 : Index := 0#32
  ![17, v8795.toNat, 0]
def k0_off797 (v8094 : BitVec 32) (v8099 : BitVec 32) (v8143 : BitVec 32) (v8240 : BitVec 32) : Fin 3 → Nat :=
  let c199_i32_1945 : BitVec 32 := 199#32
  let c0_i32_1944 : BitVec 32 := 0#32
  let v8100 : BitVec 32 := Scalar.maxsi c0_i32_1944 v8099
  let v8101 : BitVec 32 := Scalar.minsi c199_i32_1945 v8100
  let v8144 : BitVec 32 := Scalar.addi v8101 v8143
  let v8800 : Index := Scalar.indexCast v8144
  let c199_i32_1942 : BitVec 32 := 199#32
  let c0_i32_1941 : BitVec 32 := 0#32
  let v8095 : BitVec 32 := Scalar.maxsi c0_i32_1941 v8094
  let v8096 : BitVec 32 := Scalar.minsi c199_i32_1942 v8095
  let v8241 : BitVec 32 := Scalar.addi v8096 v8240
  let c3_i32_2016 : BitVec 32 := 3#32
  let v8244 : BitVec 32 := Scalar.shrsi v8241 c3_i32_2016
  let c3_i32_2017 : BitVec 32 := 3#32
  let v8245 : BitVec 32 := Scalar.shli v8244 c3_i32_2017
  let v8246 : BitVec 32 := v8245
  let v8801 : Index := Scalar.indexCast v8246
  let c0_2145 : Index := 0#32
  ![v8800.toNat, v8801.toNat, 0]
def k0_off798 (v8094 : BitVec 32) (v8099 : BitVec 32) (v8109 : BitVec 32) (v8143 : BitVec 32) (v8240 : BitVec 32) : Fin 3 → Nat :=
  let c199_i32_1945 : BitVec 32 := 199#32
  let c0_i32_1944 : BitVec 32 := 0#32
  let v8100 : BitVec 32 := Scalar.maxsi c0_i32_1944 v8099
  let v8101 : BitVec 32 := Scalar.minsi c199_i32_1945 v8100
  let v8144 : BitVec 32 := Scalar.addi v8101 v8143
  let c1_i32_1967 : BitVec 32 := 1#32
  let v8145 : BitVec 32 := Scalar.addi v8144 c1_i32_1967
  let c199_i32_1951 : BitVec 32 := 199#32
  let c0_i32_1950 : BitVec 32 := 0#32
  let v8110 : BitVec 32 := Scalar.maxsi c0_i32_1950 v8109
  let v8111 : BitVec 32 := Scalar.minsi c199_i32_1951 v8110
  let v8146 : BitVec 32 := Scalar.minsi v8145 v8111
  let v8804 : Index := Scalar.indexCast v8146
  let c199_i32_1942 : BitVec 32 := 199#32
  let c0_i32_1941 : BitVec 32 := 0#32
  let v8095 : BitVec 32 := Scalar.maxsi c0_i32_1941 v8094
  let v8096 : BitVec 32 := Scalar.minsi c199_i32_1942 v8095
  let v8241 : BitVec 32 := Scalar.addi v8096 v8240
  let c3_i32_2016 : BitVec 32 := 3#32
  let v8244 : BitVec 32 := Scalar.shrsi v8241 c3_i32_2016
  let c3_i32_2017 : BitVec 32 := 3#32
  let v8245 : BitVec 32 := Scalar.shli v8244 c3_i32_2017
  let v8246 : BitVec 32 := v8245
  let v8805 : Index := Scalar.indexCast v8246
  let c0_2146 : Index := 0#32
  ![v8804.toNat, v8805.toNat, 0]
def k0_off799 (k0_t1 : Fin k0_t1_loop.trips) : Fin 3 → Nat :=
  let c18_2148 : Index := 18#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c5_i32 : BitVec 32 := 5#32
  let v8086 : BitVec 32 := Scalar.addi v5 c5_i32
  let v8824 : Index := Scalar.indexCast v8086
  let c0_2149 : Index := 0#32
  ![18, v8824.toNat, 0]
def k0_off800 (v8094 : BitVec 32) (v8099 : BitVec 32) (v8143 : BitVec 32) (v8253 : BitVec 32) : Fin 3 → Nat :=
  let c199_i32_1945 : BitVec 32 := 199#32
  let c0_i32_1944 : BitVec 32 := 0#32
  let v8100 : BitVec 32 := Scalar.maxsi c0_i32_1944 v8099
  let v8101 : BitVec 32 := Scalar.minsi c199_i32_1945 v8100
  let v8144 : BitVec 32 := Scalar.addi v8101 v8143
  let v8829 : Index := Scalar.indexCast v8144
  let c199_i32_1942 : BitVec 32 := 199#32
  let c0_i32_1941 : BitVec 32 := 0#32
  let v8095 : BitVec 32 := Scalar.maxsi c0_i32_1941 v8094
  let v8096 : BitVec 32 := Scalar.minsi c199_i32_1942 v8095
  let v8254 : BitVec 32 := Scalar.addi v8096 v8253
  let c3_i32_2023 : BitVec 32 := 3#32
  let v8257 : BitVec 32 := Scalar.shrsi v8254 c3_i32_2023
  let c3_i32_2024 : BitVec 32 := 3#32
  let v8258 : BitVec 32 := Scalar.shli v8257 c3_i32_2024
  let v8259 : BitVec 32 := v8258
  let v8830 : Index := Scalar.indexCast v8259
  let c0_2151 : Index := 0#32
  ![v8829.toNat, v8830.toNat, 0]
def k0_off801 (v8094 : BitVec 32) (v8099 : BitVec 32) (v8109 : BitVec 32) (v8143 : BitVec 32) (v8253 : BitVec 32) : Fin 3 → Nat :=
  let c199_i32_1945 : BitVec 32 := 199#32
  let c0_i32_1944 : BitVec 32 := 0#32
  let v8100 : BitVec 32 := Scalar.maxsi c0_i32_1944 v8099
  let v8101 : BitVec 32 := Scalar.minsi c199_i32_1945 v8100
  let v8144 : BitVec 32 := Scalar.addi v8101 v8143
  let c1_i32_1967 : BitVec 32 := 1#32
  let v8145 : BitVec 32 := Scalar.addi v8144 c1_i32_1967
  let c199_i32_1951 : BitVec 32 := 199#32
  let c0_i32_1950 : BitVec 32 := 0#32
  let v8110 : BitVec 32 := Scalar.maxsi c0_i32_1950 v8109
  let v8111 : BitVec 32 := Scalar.minsi c199_i32_1951 v8110
  let v8146 : BitVec 32 := Scalar.minsi v8145 v8111
  let v8833 : Index := Scalar.indexCast v8146
  let c199_i32_1942 : BitVec 32 := 199#32
  let c0_i32_1941 : BitVec 32 := 0#32
  let v8095 : BitVec 32 := Scalar.maxsi c0_i32_1941 v8094
  let v8096 : BitVec 32 := Scalar.minsi c199_i32_1942 v8095
  let v8254 : BitVec 32 := Scalar.addi v8096 v8253
  let c3_i32_2023 : BitVec 32 := 3#32
  let v8257 : BitVec 32 := Scalar.shrsi v8254 c3_i32_2023
  let c3_i32_2024 : BitVec 32 := 3#32
  let v8258 : BitVec 32 := Scalar.shli v8257 c3_i32_2024
  let v8259 : BitVec 32 := v8258
  let v8834 : Index := Scalar.indexCast v8259
  let c0_2152 : Index := 0#32
  ![v8833.toNat, v8834.toNat, 0]
def k0_off802 (k0_t1 : Fin k0_t1_loop.trips) : Fin 3 → Nat :=
  let c19_2154 : Index := 19#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c5_i32 : BitVec 32 := 5#32
  let v8086 : BitVec 32 := Scalar.addi v5 c5_i32
  let v8853 : Index := Scalar.indexCast v8086
  let c0_2155 : Index := 0#32
  ![19, v8853.toNat, 0]
def k0_off803 (v8094 : BitVec 32) (v8099 : BitVec 32) (v8143 : BitVec 32) (v8266 : BitVec 32) : Fin 3 → Nat :=
  let c199_i32_1945 : BitVec 32 := 199#32
  let c0_i32_1944 : BitVec 32 := 0#32
  let v8100 : BitVec 32 := Scalar.maxsi c0_i32_1944 v8099
  let v8101 : BitVec 32 := Scalar.minsi c199_i32_1945 v8100
  let v8144 : BitVec 32 := Scalar.addi v8101 v8143
  let v8858 : Index := Scalar.indexCast v8144
  let c199_i32_1942 : BitVec 32 := 199#32
  let c0_i32_1941 : BitVec 32 := 0#32
  let v8095 : BitVec 32 := Scalar.maxsi c0_i32_1941 v8094
  let v8096 : BitVec 32 := Scalar.minsi c199_i32_1942 v8095
  let v8267 : BitVec 32 := Scalar.addi v8096 v8266
  let c3_i32_2030 : BitVec 32 := 3#32
  let v8270 : BitVec 32 := Scalar.shrsi v8267 c3_i32_2030
  let c3_i32_2031 : BitVec 32 := 3#32
  let v8271 : BitVec 32 := Scalar.shli v8270 c3_i32_2031
  let v8272 : BitVec 32 := v8271
  let v8859 : Index := Scalar.indexCast v8272
  let c0_2157 : Index := 0#32
  ![v8858.toNat, v8859.toNat, 0]
def k0_off804 (v8094 : BitVec 32) (v8099 : BitVec 32) (v8109 : BitVec 32) (v8143 : BitVec 32) (v8266 : BitVec 32) : Fin 3 → Nat :=
  let c199_i32_1945 : BitVec 32 := 199#32
  let c0_i32_1944 : BitVec 32 := 0#32
  let v8100 : BitVec 32 := Scalar.maxsi c0_i32_1944 v8099
  let v8101 : BitVec 32 := Scalar.minsi c199_i32_1945 v8100
  let v8144 : BitVec 32 := Scalar.addi v8101 v8143
  let c1_i32_1967 : BitVec 32 := 1#32
  let v8145 : BitVec 32 := Scalar.addi v8144 c1_i32_1967
  let c199_i32_1951 : BitVec 32 := 199#32
  let c0_i32_1950 : BitVec 32 := 0#32
  let v8110 : BitVec 32 := Scalar.maxsi c0_i32_1950 v8109
  let v8111 : BitVec 32 := Scalar.minsi c199_i32_1951 v8110
  let v8146 : BitVec 32 := Scalar.minsi v8145 v8111
  let v8862 : Index := Scalar.indexCast v8146
  let c199_i32_1942 : BitVec 32 := 199#32
  let c0_i32_1941 : BitVec 32 := 0#32
  let v8095 : BitVec 32 := Scalar.maxsi c0_i32_1941 v8094
  let v8096 : BitVec 32 := Scalar.minsi c199_i32_1942 v8095
  let v8267 : BitVec 32 := Scalar.addi v8096 v8266
  let c3_i32_2030 : BitVec 32 := 3#32
  let v8270 : BitVec 32 := Scalar.shrsi v8267 c3_i32_2030
  let c3_i32_2031 : BitVec 32 := 3#32
  let v8271 : BitVec 32 := Scalar.shli v8270 c3_i32_2031
  let v8272 : BitVec 32 := v8271
  let v8863 : Index := Scalar.indexCast v8272
  let c0_2158 : Index := 0#32
  ![v8862.toNat, v8863.toNat, 0]
def k0_off805 (k0_t1 : Fin k0_t1_loop.trips) : Fin 3 → Nat :=
  let c20_2160 : Index := 20#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c5_i32 : BitVec 32 := 5#32
  let v8086 : BitVec 32 := Scalar.addi v5 c5_i32
  let v8882 : Index := Scalar.indexCast v8086
  let c0_2161 : Index := 0#32
  ![20, v8882.toNat, 0]
def k0_off806 (v8094 : BitVec 32) (v8099 : BitVec 32) (v8152 : BitVec 32) (v8188 : BitVec 32) : Fin 3 → Nat :=
  let c199_i32_1945 : BitVec 32 := 199#32
  let c0_i32_1944 : BitVec 32 := 0#32
  let v8100 : BitVec 32 := Scalar.maxsi c0_i32_1944 v8099
  let v8101 : BitVec 32 := Scalar.minsi c199_i32_1945 v8100
  let v8153 : BitVec 32 := Scalar.addi v8101 v8152
  let v8888 : Index := Scalar.indexCast v8153
  let c199_i32_1942 : BitVec 32 := 199#32
  let c0_i32_1941 : BitVec 32 := 0#32
  let v8095 : BitVec 32 := Scalar.maxsi c0_i32_1941 v8094
  let v8096 : BitVec 32 := Scalar.minsi c199_i32_1942 v8095
  let v8189 : BitVec 32 := Scalar.addi v8096 v8188
  let c3_i32_1988 : BitVec 32 := 3#32
  let v8192 : BitVec 32 := Scalar.shrsi v8189 c3_i32_1988
  let c3_i32_1989 : BitVec 32 := 3#32
  let v8193 : BitVec 32 := Scalar.shli v8192 c3_i32_1989
  let v8194 : BitVec 32 := v8193
  let v8889 : Index := Scalar.indexCast v8194
  let c0_2164 : Index := 0#32
  ![v8888.toNat, v8889.toNat, 0]
def k0_off807 (v8094 : BitVec 32) (v8099 : BitVec 32) (v8109 : BitVec 32) (v8152 : BitVec 32) (v8188 : BitVec 32) : Fin 3 → Nat :=
  let c199_i32_1945 : BitVec 32 := 199#32
  let c0_i32_1944 : BitVec 32 := 0#32
  let v8100 : BitVec 32 := Scalar.maxsi c0_i32_1944 v8099
  let v8101 : BitVec 32 := Scalar.minsi c199_i32_1945 v8100
  let v8153 : BitVec 32 := Scalar.addi v8101 v8152
  let c1_i32_1971 : BitVec 32 := 1#32
  let v8154 : BitVec 32 := Scalar.addi v8153 c1_i32_1971
  let c199_i32_1951 : BitVec 32 := 199#32
  let c0_i32_1950 : BitVec 32 := 0#32
  let v8110 : BitVec 32 := Scalar.maxsi c0_i32_1950 v8109
  let v8111 : BitVec 32 := Scalar.minsi c199_i32_1951 v8110
  let v8155 : BitVec 32 := Scalar.minsi v8154 v8111
  let v8892 : Index := Scalar.indexCast v8155
  let c199_i32_1942 : BitVec 32 := 199#32
  let c0_i32_1941 : BitVec 32 := 0#32
  let v8095 : BitVec 32 := Scalar.maxsi c0_i32_1941 v8094
  let v8096 : BitVec 32 := Scalar.minsi c199_i32_1942 v8095
  let v8189 : BitVec 32 := Scalar.addi v8096 v8188
  let c3_i32_1988 : BitVec 32 := 3#32
  let v8192 : BitVec 32 := Scalar.shrsi v8189 c3_i32_1988
  let c3_i32_1989 : BitVec 32 := 3#32
  let v8193 : BitVec 32 := Scalar.shli v8192 c3_i32_1989
  let v8194 : BitVec 32 := v8193
  let v8893 : Index := Scalar.indexCast v8194
  let c0_2165 : Index := 0#32
  ![v8892.toNat, v8893.toNat, 0]
def k0_off808 (k0_t1 : Fin k0_t1_loop.trips) : Fin 3 → Nat :=
  let c21_2167 : Index := 21#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c5_i32 : BitVec 32 := 5#32
  let v8086 : BitVec 32 := Scalar.addi v5 c5_i32
  let v8912 : Index := Scalar.indexCast v8086
  let c0_2168 : Index := 0#32
  ![21, v8912.toNat, 0]
def k0_off809 (v8094 : BitVec 32) (v8099 : BitVec 32) (v8152 : BitVec 32) (v8201 : BitVec 32) : Fin 3 → Nat :=
  let c199_i32_1945 : BitVec 32 := 199#32
  let c0_i32_1944 : BitVec 32 := 0#32
  let v8100 : BitVec 32 := Scalar.maxsi c0_i32_1944 v8099
  let v8101 : BitVec 32 := Scalar.minsi c199_i32_1945 v8100
  let v8153 : BitVec 32 := Scalar.addi v8101 v8152
  let v8917 : Index := Scalar.indexCast v8153
  let c199_i32_1942 : BitVec 32 := 199#32
  let c0_i32_1941 : BitVec 32 := 0#32
  let v8095 : BitVec 32 := Scalar.maxsi c0_i32_1941 v8094
  let v8096 : BitVec 32 := Scalar.minsi c199_i32_1942 v8095
  let v8202 : BitVec 32 := Scalar.addi v8096 v8201
  let c3_i32_1995 : BitVec 32 := 3#32
  let v8205 : BitVec 32 := Scalar.shrsi v8202 c3_i32_1995
  let c3_i32_1996 : BitVec 32 := 3#32
  let v8206 : BitVec 32 := Scalar.shli v8205 c3_i32_1996
  let v8207 : BitVec 32 := v8206
  let v8918 : Index := Scalar.indexCast v8207
  let c0_2170 : Index := 0#32
  ![v8917.toNat, v8918.toNat, 0]
def k0_off810 (v8094 : BitVec 32) (v8099 : BitVec 32) (v8109 : BitVec 32) (v8152 : BitVec 32) (v8201 : BitVec 32) : Fin 3 → Nat :=
  let c199_i32_1945 : BitVec 32 := 199#32
  let c0_i32_1944 : BitVec 32 := 0#32
  let v8100 : BitVec 32 := Scalar.maxsi c0_i32_1944 v8099
  let v8101 : BitVec 32 := Scalar.minsi c199_i32_1945 v8100
  let v8153 : BitVec 32 := Scalar.addi v8101 v8152
  let c1_i32_1971 : BitVec 32 := 1#32
  let v8154 : BitVec 32 := Scalar.addi v8153 c1_i32_1971
  let c199_i32_1951 : BitVec 32 := 199#32
  let c0_i32_1950 : BitVec 32 := 0#32
  let v8110 : BitVec 32 := Scalar.maxsi c0_i32_1950 v8109
  let v8111 : BitVec 32 := Scalar.minsi c199_i32_1951 v8110
  let v8155 : BitVec 32 := Scalar.minsi v8154 v8111
  let v8921 : Index := Scalar.indexCast v8155
  let c199_i32_1942 : BitVec 32 := 199#32
  let c0_i32_1941 : BitVec 32 := 0#32
  let v8095 : BitVec 32 := Scalar.maxsi c0_i32_1941 v8094
  let v8096 : BitVec 32 := Scalar.minsi c199_i32_1942 v8095
  let v8202 : BitVec 32 := Scalar.addi v8096 v8201
  let c3_i32_1995 : BitVec 32 := 3#32
  let v8205 : BitVec 32 := Scalar.shrsi v8202 c3_i32_1995
  let c3_i32_1996 : BitVec 32 := 3#32
  let v8206 : BitVec 32 := Scalar.shli v8205 c3_i32_1996
  let v8207 : BitVec 32 := v8206
  let v8922 : Index := Scalar.indexCast v8207
  let c0_2171 : Index := 0#32
  ![v8921.toNat, v8922.toNat, 0]
def k0_off811 (k0_t1 : Fin k0_t1_loop.trips) : Fin 3 → Nat :=
  let c22_2173 : Index := 22#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c5_i32 : BitVec 32 := 5#32
  let v8086 : BitVec 32 := Scalar.addi v5 c5_i32
  let v8941 : Index := Scalar.indexCast v8086
  let c0_2174 : Index := 0#32
  ![22, v8941.toNat, 0]
def k0_off812 (v8094 : BitVec 32) (v8099 : BitVec 32) (v8152 : BitVec 32) (v8214 : BitVec 32) : Fin 3 → Nat :=
  let c199_i32_1945 : BitVec 32 := 199#32
  let c0_i32_1944 : BitVec 32 := 0#32
  let v8100 : BitVec 32 := Scalar.maxsi c0_i32_1944 v8099
  let v8101 : BitVec 32 := Scalar.minsi c199_i32_1945 v8100
  let v8153 : BitVec 32 := Scalar.addi v8101 v8152
  let v8946 : Index := Scalar.indexCast v8153
  let c199_i32_1942 : BitVec 32 := 199#32
  let c0_i32_1941 : BitVec 32 := 0#32
  let v8095 : BitVec 32 := Scalar.maxsi c0_i32_1941 v8094
  let v8096 : BitVec 32 := Scalar.minsi c199_i32_1942 v8095
  let v8215 : BitVec 32 := Scalar.addi v8096 v8214
  let c3_i32_2002 : BitVec 32 := 3#32
  let v8218 : BitVec 32 := Scalar.shrsi v8215 c3_i32_2002
  let c3_i32_2003 : BitVec 32 := 3#32
  let v8219 : BitVec 32 := Scalar.shli v8218 c3_i32_2003
  let v8220 : BitVec 32 := v8219
  let v8947 : Index := Scalar.indexCast v8220
  let c0_2176 : Index := 0#32
  ![v8946.toNat, v8947.toNat, 0]
def k0_off813 (v8094 : BitVec 32) (v8099 : BitVec 32) (v8109 : BitVec 32) (v8152 : BitVec 32) (v8214 : BitVec 32) : Fin 3 → Nat :=
  let c199_i32_1945 : BitVec 32 := 199#32
  let c0_i32_1944 : BitVec 32 := 0#32
  let v8100 : BitVec 32 := Scalar.maxsi c0_i32_1944 v8099
  let v8101 : BitVec 32 := Scalar.minsi c199_i32_1945 v8100
  let v8153 : BitVec 32 := Scalar.addi v8101 v8152
  let c1_i32_1971 : BitVec 32 := 1#32
  let v8154 : BitVec 32 := Scalar.addi v8153 c1_i32_1971
  let c199_i32_1951 : BitVec 32 := 199#32
  let c0_i32_1950 : BitVec 32 := 0#32
  let v8110 : BitVec 32 := Scalar.maxsi c0_i32_1950 v8109
  let v8111 : BitVec 32 := Scalar.minsi c199_i32_1951 v8110
  let v8155 : BitVec 32 := Scalar.minsi v8154 v8111
  let v8950 : Index := Scalar.indexCast v8155
  let c199_i32_1942 : BitVec 32 := 199#32
  let c0_i32_1941 : BitVec 32 := 0#32
  let v8095 : BitVec 32 := Scalar.maxsi c0_i32_1941 v8094
  let v8096 : BitVec 32 := Scalar.minsi c199_i32_1942 v8095
  let v8215 : BitVec 32 := Scalar.addi v8096 v8214
  let c3_i32_2002 : BitVec 32 := 3#32
  let v8218 : BitVec 32 := Scalar.shrsi v8215 c3_i32_2002
  let c3_i32_2003 : BitVec 32 := 3#32
  let v8219 : BitVec 32 := Scalar.shli v8218 c3_i32_2003
  let v8220 : BitVec 32 := v8219
  let v8951 : Index := Scalar.indexCast v8220
  let c0_2177 : Index := 0#32
  ![v8950.toNat, v8951.toNat, 0]
def k0_off814 (k0_t1 : Fin k0_t1_loop.trips) : Fin 3 → Nat :=
  let c23_2179 : Index := 23#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c5_i32 : BitVec 32 := 5#32
  let v8086 : BitVec 32 := Scalar.addi v5 c5_i32
  let v8970 : Index := Scalar.indexCast v8086
  let c0_2180 : Index := 0#32
  ![23, v8970.toNat, 0]
def k0_off815 (v8094 : BitVec 32) (v8099 : BitVec 32) (v8152 : BitVec 32) (v8227 : BitVec 32) : Fin 3 → Nat :=
  let c199_i32_1945 : BitVec 32 := 199#32
  let c0_i32_1944 : BitVec 32 := 0#32
  let v8100 : BitVec 32 := Scalar.maxsi c0_i32_1944 v8099
  let v8101 : BitVec 32 := Scalar.minsi c199_i32_1945 v8100
  let v8153 : BitVec 32 := Scalar.addi v8101 v8152
  let v8975 : Index := Scalar.indexCast v8153
  let c199_i32_1942 : BitVec 32 := 199#32
  let c0_i32_1941 : BitVec 32 := 0#32
  let v8095 : BitVec 32 := Scalar.maxsi c0_i32_1941 v8094
  let v8096 : BitVec 32 := Scalar.minsi c199_i32_1942 v8095
  let v8228 : BitVec 32 := Scalar.addi v8096 v8227
  let c3_i32_2009 : BitVec 32 := 3#32
  let v8231 : BitVec 32 := Scalar.shrsi v8228 c3_i32_2009
  let c3_i32_2010 : BitVec 32 := 3#32
  let v8232 : BitVec 32 := Scalar.shli v8231 c3_i32_2010
  let v8233 : BitVec 32 := v8232
  let v8976 : Index := Scalar.indexCast v8233
  let c0_2182 : Index := 0#32
  ![v8975.toNat, v8976.toNat, 0]
def k0_off816 (v8094 : BitVec 32) (v8099 : BitVec 32) (v8109 : BitVec 32) (v8152 : BitVec 32) (v8227 : BitVec 32) : Fin 3 → Nat :=
  let c199_i32_1945 : BitVec 32 := 199#32
  let c0_i32_1944 : BitVec 32 := 0#32
  let v8100 : BitVec 32 := Scalar.maxsi c0_i32_1944 v8099
  let v8101 : BitVec 32 := Scalar.minsi c199_i32_1945 v8100
  let v8153 : BitVec 32 := Scalar.addi v8101 v8152
  let c1_i32_1971 : BitVec 32 := 1#32
  let v8154 : BitVec 32 := Scalar.addi v8153 c1_i32_1971
  let c199_i32_1951 : BitVec 32 := 199#32
  let c0_i32_1950 : BitVec 32 := 0#32
  let v8110 : BitVec 32 := Scalar.maxsi c0_i32_1950 v8109
  let v8111 : BitVec 32 := Scalar.minsi c199_i32_1951 v8110
  let v8155 : BitVec 32 := Scalar.minsi v8154 v8111
  let v8979 : Index := Scalar.indexCast v8155
  let c199_i32_1942 : BitVec 32 := 199#32
  let c0_i32_1941 : BitVec 32 := 0#32
  let v8095 : BitVec 32 := Scalar.maxsi c0_i32_1941 v8094
  let v8096 : BitVec 32 := Scalar.minsi c199_i32_1942 v8095
  let v8228 : BitVec 32 := Scalar.addi v8096 v8227
  let c3_i32_2009 : BitVec 32 := 3#32
  let v8231 : BitVec 32 := Scalar.shrsi v8228 c3_i32_2009
  let c3_i32_2010 : BitVec 32 := 3#32
  let v8232 : BitVec 32 := Scalar.shli v8231 c3_i32_2010
  let v8233 : BitVec 32 := v8232
  let v8980 : Index := Scalar.indexCast v8233
  let c0_2183 : Index := 0#32
  ![v8979.toNat, v8980.toNat, 0]
def k0_off817 (k0_t1 : Fin k0_t1_loop.trips) : Fin 3 → Nat :=
  let c24_2185 : Index := 24#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c5_i32 : BitVec 32 := 5#32
  let v8086 : BitVec 32 := Scalar.addi v5 c5_i32
  let v8999 : Index := Scalar.indexCast v8086
  let c0_2186 : Index := 0#32
  ![24, v8999.toNat, 0]
def k0_off818 (v8094 : BitVec 32) (v8099 : BitVec 32) (v8152 : BitVec 32) (v8240 : BitVec 32) : Fin 3 → Nat :=
  let c199_i32_1945 : BitVec 32 := 199#32
  let c0_i32_1944 : BitVec 32 := 0#32
  let v8100 : BitVec 32 := Scalar.maxsi c0_i32_1944 v8099
  let v8101 : BitVec 32 := Scalar.minsi c199_i32_1945 v8100
  let v8153 : BitVec 32 := Scalar.addi v8101 v8152
  let v9004 : Index := Scalar.indexCast v8153
  let c199_i32_1942 : BitVec 32 := 199#32
  let c0_i32_1941 : BitVec 32 := 0#32
  let v8095 : BitVec 32 := Scalar.maxsi c0_i32_1941 v8094
  let v8096 : BitVec 32 := Scalar.minsi c199_i32_1942 v8095
  let v8241 : BitVec 32 := Scalar.addi v8096 v8240
  let c3_i32_2016 : BitVec 32 := 3#32
  let v8244 : BitVec 32 := Scalar.shrsi v8241 c3_i32_2016
  let c3_i32_2017 : BitVec 32 := 3#32
  let v8245 : BitVec 32 := Scalar.shli v8244 c3_i32_2017
  let v8246 : BitVec 32 := v8245
  let v9005 : Index := Scalar.indexCast v8246
  let c0_2188 : Index := 0#32
  ![v9004.toNat, v9005.toNat, 0]
def k0_off819 (v8094 : BitVec 32) (v8099 : BitVec 32) (v8109 : BitVec 32) (v8152 : BitVec 32) (v8240 : BitVec 32) : Fin 3 → Nat :=
  let c199_i32_1945 : BitVec 32 := 199#32
  let c0_i32_1944 : BitVec 32 := 0#32
  let v8100 : BitVec 32 := Scalar.maxsi c0_i32_1944 v8099
  let v8101 : BitVec 32 := Scalar.minsi c199_i32_1945 v8100
  let v8153 : BitVec 32 := Scalar.addi v8101 v8152
  let c1_i32_1971 : BitVec 32 := 1#32
  let v8154 : BitVec 32 := Scalar.addi v8153 c1_i32_1971
  let c199_i32_1951 : BitVec 32 := 199#32
  let c0_i32_1950 : BitVec 32 := 0#32
  let v8110 : BitVec 32 := Scalar.maxsi c0_i32_1950 v8109
  let v8111 : BitVec 32 := Scalar.minsi c199_i32_1951 v8110
  let v8155 : BitVec 32 := Scalar.minsi v8154 v8111
  let v9008 : Index := Scalar.indexCast v8155
  let c199_i32_1942 : BitVec 32 := 199#32
  let c0_i32_1941 : BitVec 32 := 0#32
  let v8095 : BitVec 32 := Scalar.maxsi c0_i32_1941 v8094
  let v8096 : BitVec 32 := Scalar.minsi c199_i32_1942 v8095
  let v8241 : BitVec 32 := Scalar.addi v8096 v8240
  let c3_i32_2016 : BitVec 32 := 3#32
  let v8244 : BitVec 32 := Scalar.shrsi v8241 c3_i32_2016
  let c3_i32_2017 : BitVec 32 := 3#32
  let v8245 : BitVec 32 := Scalar.shli v8244 c3_i32_2017
  let v8246 : BitVec 32 := v8245
  let v9009 : Index := Scalar.indexCast v8246
  let c0_2189 : Index := 0#32
  ![v9008.toNat, v9009.toNat, 0]
def k0_off820 (k0_t1 : Fin k0_t1_loop.trips) : Fin 3 → Nat :=
  let c25_2191 : Index := 25#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c5_i32 : BitVec 32 := 5#32
  let v8086 : BitVec 32 := Scalar.addi v5 c5_i32
  let v9028 : Index := Scalar.indexCast v8086
  let c0_2192 : Index := 0#32
  ![25, v9028.toNat, 0]
def k0_off821 (v8094 : BitVec 32) (v8099 : BitVec 32) (v8152 : BitVec 32) (v8253 : BitVec 32) : Fin 3 → Nat :=
  let c199_i32_1945 : BitVec 32 := 199#32
  let c0_i32_1944 : BitVec 32 := 0#32
  let v8100 : BitVec 32 := Scalar.maxsi c0_i32_1944 v8099
  let v8101 : BitVec 32 := Scalar.minsi c199_i32_1945 v8100
  let v8153 : BitVec 32 := Scalar.addi v8101 v8152
  let v9033 : Index := Scalar.indexCast v8153
  let c199_i32_1942 : BitVec 32 := 199#32
  let c0_i32_1941 : BitVec 32 := 0#32
  let v8095 : BitVec 32 := Scalar.maxsi c0_i32_1941 v8094
  let v8096 : BitVec 32 := Scalar.minsi c199_i32_1942 v8095
  let v8254 : BitVec 32 := Scalar.addi v8096 v8253
  let c3_i32_2023 : BitVec 32 := 3#32
  let v8257 : BitVec 32 := Scalar.shrsi v8254 c3_i32_2023
  let c3_i32_2024 : BitVec 32 := 3#32
  let v8258 : BitVec 32 := Scalar.shli v8257 c3_i32_2024
  let v8259 : BitVec 32 := v8258
  let v9034 : Index := Scalar.indexCast v8259
  let c0_2194 : Index := 0#32
  ![v9033.toNat, v9034.toNat, 0]
def k0_off822 (v8094 : BitVec 32) (v8099 : BitVec 32) (v8109 : BitVec 32) (v8152 : BitVec 32) (v8253 : BitVec 32) : Fin 3 → Nat :=
  let c199_i32_1945 : BitVec 32 := 199#32
  let c0_i32_1944 : BitVec 32 := 0#32
  let v8100 : BitVec 32 := Scalar.maxsi c0_i32_1944 v8099
  let v8101 : BitVec 32 := Scalar.minsi c199_i32_1945 v8100
  let v8153 : BitVec 32 := Scalar.addi v8101 v8152
  let c1_i32_1971 : BitVec 32 := 1#32
  let v8154 : BitVec 32 := Scalar.addi v8153 c1_i32_1971
  let c199_i32_1951 : BitVec 32 := 199#32
  let c0_i32_1950 : BitVec 32 := 0#32
  let v8110 : BitVec 32 := Scalar.maxsi c0_i32_1950 v8109
  let v8111 : BitVec 32 := Scalar.minsi c199_i32_1951 v8110
  let v8155 : BitVec 32 := Scalar.minsi v8154 v8111
  let v9037 : Index := Scalar.indexCast v8155
  let c199_i32_1942 : BitVec 32 := 199#32
  let c0_i32_1941 : BitVec 32 := 0#32
  let v8095 : BitVec 32 := Scalar.maxsi c0_i32_1941 v8094
  let v8096 : BitVec 32 := Scalar.minsi c199_i32_1942 v8095
  let v8254 : BitVec 32 := Scalar.addi v8096 v8253
  let c3_i32_2023 : BitVec 32 := 3#32
  let v8257 : BitVec 32 := Scalar.shrsi v8254 c3_i32_2023
  let c3_i32_2024 : BitVec 32 := 3#32
  let v8258 : BitVec 32 := Scalar.shli v8257 c3_i32_2024
  let v8259 : BitVec 32 := v8258
  let v9038 : Index := Scalar.indexCast v8259
  let c0_2195 : Index := 0#32
  ![v9037.toNat, v9038.toNat, 0]
def k0_off823 (k0_t1 : Fin k0_t1_loop.trips) : Fin 3 → Nat :=
  let c26_2197 : Index := 26#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c5_i32 : BitVec 32 := 5#32
  let v8086 : BitVec 32 := Scalar.addi v5 c5_i32
  let v9057 : Index := Scalar.indexCast v8086
  let c0_2198 : Index := 0#32
  ![26, v9057.toNat, 0]
def k0_off824 (v8094 : BitVec 32) (v8099 : BitVec 32) (v8152 : BitVec 32) (v8266 : BitVec 32) : Fin 3 → Nat :=
  let c199_i32_1945 : BitVec 32 := 199#32
  let c0_i32_1944 : BitVec 32 := 0#32
  let v8100 : BitVec 32 := Scalar.maxsi c0_i32_1944 v8099
  let v8101 : BitVec 32 := Scalar.minsi c199_i32_1945 v8100
  let v8153 : BitVec 32 := Scalar.addi v8101 v8152
  let v9062 : Index := Scalar.indexCast v8153
  let c199_i32_1942 : BitVec 32 := 199#32
  let c0_i32_1941 : BitVec 32 := 0#32
  let v8095 : BitVec 32 := Scalar.maxsi c0_i32_1941 v8094
  let v8096 : BitVec 32 := Scalar.minsi c199_i32_1942 v8095
  let v8267 : BitVec 32 := Scalar.addi v8096 v8266
  let c3_i32_2030 : BitVec 32 := 3#32
  let v8270 : BitVec 32 := Scalar.shrsi v8267 c3_i32_2030
  let c3_i32_2031 : BitVec 32 := 3#32
  let v8271 : BitVec 32 := Scalar.shli v8270 c3_i32_2031
  let v8272 : BitVec 32 := v8271
  let v9063 : Index := Scalar.indexCast v8272
  let c0_2200 : Index := 0#32
  ![v9062.toNat, v9063.toNat, 0]
def k0_off825 (v8094 : BitVec 32) (v8099 : BitVec 32) (v8109 : BitVec 32) (v8152 : BitVec 32) (v8266 : BitVec 32) : Fin 3 → Nat :=
  let c199_i32_1945 : BitVec 32 := 199#32
  let c0_i32_1944 : BitVec 32 := 0#32
  let v8100 : BitVec 32 := Scalar.maxsi c0_i32_1944 v8099
  let v8101 : BitVec 32 := Scalar.minsi c199_i32_1945 v8100
  let v8153 : BitVec 32 := Scalar.addi v8101 v8152
  let c1_i32_1971 : BitVec 32 := 1#32
  let v8154 : BitVec 32 := Scalar.addi v8153 c1_i32_1971
  let c199_i32_1951 : BitVec 32 := 199#32
  let c0_i32_1950 : BitVec 32 := 0#32
  let v8110 : BitVec 32 := Scalar.maxsi c0_i32_1950 v8109
  let v8111 : BitVec 32 := Scalar.minsi c199_i32_1951 v8110
  let v8155 : BitVec 32 := Scalar.minsi v8154 v8111
  let v9066 : Index := Scalar.indexCast v8155
  let c199_i32_1942 : BitVec 32 := 199#32
  let c0_i32_1941 : BitVec 32 := 0#32
  let v8095 : BitVec 32 := Scalar.maxsi c0_i32_1941 v8094
  let v8096 : BitVec 32 := Scalar.minsi c199_i32_1942 v8095
  let v8267 : BitVec 32 := Scalar.addi v8096 v8266
  let c3_i32_2030 : BitVec 32 := 3#32
  let v8270 : BitVec 32 := Scalar.shrsi v8267 c3_i32_2030
  let c3_i32_2031 : BitVec 32 := 3#32
  let v8271 : BitVec 32 := Scalar.shli v8270 c3_i32_2031
  let v8272 : BitVec 32 := v8271
  let v9067 : Index := Scalar.indexCast v8272
  let c0_2201 : Index := 0#32
  ![v9066.toNat, v9067.toNat, 0]
def k0_off826 (k0_t1 : Fin k0_t1_loop.trips) : Fin 3 → Nat :=
  let c27_2203 : Index := 27#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c5_i32 : BitVec 32 := 5#32
  let v8086 : BitVec 32 := Scalar.addi v5 c5_i32
  let v9086 : Index := Scalar.indexCast v8086
  let c0_2204 : Index := 0#32
  ![27, v9086.toNat, 0]
def k0_off827 (v8094 : BitVec 32) (v8099 : BitVec 32) (v8161 : BitVec 32) (v8188 : BitVec 32) : Fin 3 → Nat :=
  let c199_i32_1945 : BitVec 32 := 199#32
  let c0_i32_1944 : BitVec 32 := 0#32
  let v8100 : BitVec 32 := Scalar.maxsi c0_i32_1944 v8099
  let v8101 : BitVec 32 := Scalar.minsi c199_i32_1945 v8100
  let v8162 : BitVec 32 := Scalar.addi v8101 v8161
  let v9092 : Index := Scalar.indexCast v8162
  let c199_i32_1942 : BitVec 32 := 199#32
  let c0_i32_1941 : BitVec 32 := 0#32
  let v8095 : BitVec 32 := Scalar.maxsi c0_i32_1941 v8094
  let v8096 : BitVec 32 := Scalar.minsi c199_i32_1942 v8095
  let v8189 : BitVec 32 := Scalar.addi v8096 v8188
  let c3_i32_1988 : BitVec 32 := 3#32
  let v8192 : BitVec 32 := Scalar.shrsi v8189 c3_i32_1988
  let c3_i32_1989 : BitVec 32 := 3#32
  let v8193 : BitVec 32 := Scalar.shli v8192 c3_i32_1989
  let v8194 : BitVec 32 := v8193
  let v9093 : Index := Scalar.indexCast v8194
  let c0_2207 : Index := 0#32
  ![v9092.toNat, v9093.toNat, 0]
def k0_off828 (v8094 : BitVec 32) (v8099 : BitVec 32) (v8109 : BitVec 32) (v8161 : BitVec 32) (v8188 : BitVec 32) : Fin 3 → Nat :=
  let c199_i32_1945 : BitVec 32 := 199#32
  let c0_i32_1944 : BitVec 32 := 0#32
  let v8100 : BitVec 32 := Scalar.maxsi c0_i32_1944 v8099
  let v8101 : BitVec 32 := Scalar.minsi c199_i32_1945 v8100
  let v8162 : BitVec 32 := Scalar.addi v8101 v8161
  let c1_i32_1975 : BitVec 32 := 1#32
  let v8163 : BitVec 32 := Scalar.addi v8162 c1_i32_1975
  let c199_i32_1951 : BitVec 32 := 199#32
  let c0_i32_1950 : BitVec 32 := 0#32
  let v8110 : BitVec 32 := Scalar.maxsi c0_i32_1950 v8109
  let v8111 : BitVec 32 := Scalar.minsi c199_i32_1951 v8110
  let v8164 : BitVec 32 := Scalar.minsi v8163 v8111
  let v9096 : Index := Scalar.indexCast v8164
  let c199_i32_1942 : BitVec 32 := 199#32
  let c0_i32_1941 : BitVec 32 := 0#32
  let v8095 : BitVec 32 := Scalar.maxsi c0_i32_1941 v8094
  let v8096 : BitVec 32 := Scalar.minsi c199_i32_1942 v8095
  let v8189 : BitVec 32 := Scalar.addi v8096 v8188
  let c3_i32_1988 : BitVec 32 := 3#32
  let v8192 : BitVec 32 := Scalar.shrsi v8189 c3_i32_1988
  let c3_i32_1989 : BitVec 32 := 3#32
  let v8193 : BitVec 32 := Scalar.shli v8192 c3_i32_1989
  let v8194 : BitVec 32 := v8193
  let v9097 : Index := Scalar.indexCast v8194
  let c0_2208 : Index := 0#32
  ![v9096.toNat, v9097.toNat, 0]
def k0_off829 (k0_t1 : Fin k0_t1_loop.trips) : Fin 3 → Nat :=
  let c28_2210 : Index := 28#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c5_i32 : BitVec 32 := 5#32
  let v8086 : BitVec 32 := Scalar.addi v5 c5_i32
  let v9116 : Index := Scalar.indexCast v8086
  let c0_2211 : Index := 0#32
  ![28, v9116.toNat, 0]
def k0_off830 (v8094 : BitVec 32) (v8099 : BitVec 32) (v8161 : BitVec 32) (v8201 : BitVec 32) : Fin 3 → Nat :=
  let c199_i32_1945 : BitVec 32 := 199#32
  let c0_i32_1944 : BitVec 32 := 0#32
  let v8100 : BitVec 32 := Scalar.maxsi c0_i32_1944 v8099
  let v8101 : BitVec 32 := Scalar.minsi c199_i32_1945 v8100
  let v8162 : BitVec 32 := Scalar.addi v8101 v8161
  let v9121 : Index := Scalar.indexCast v8162
  let c199_i32_1942 : BitVec 32 := 199#32
  let c0_i32_1941 : BitVec 32 := 0#32
  let v8095 : BitVec 32 := Scalar.maxsi c0_i32_1941 v8094
  let v8096 : BitVec 32 := Scalar.minsi c199_i32_1942 v8095
  let v8202 : BitVec 32 := Scalar.addi v8096 v8201
  let c3_i32_1995 : BitVec 32 := 3#32
  let v8205 : BitVec 32 := Scalar.shrsi v8202 c3_i32_1995
  let c3_i32_1996 : BitVec 32 := 3#32
  let v8206 : BitVec 32 := Scalar.shli v8205 c3_i32_1996
  let v8207 : BitVec 32 := v8206
  let v9122 : Index := Scalar.indexCast v8207
  let c0_2213 : Index := 0#32
  ![v9121.toNat, v9122.toNat, 0]
def k0_off831 (v8094 : BitVec 32) (v8099 : BitVec 32) (v8109 : BitVec 32) (v8161 : BitVec 32) (v8201 : BitVec 32) : Fin 3 → Nat :=
  let c199_i32_1945 : BitVec 32 := 199#32
  let c0_i32_1944 : BitVec 32 := 0#32
  let v8100 : BitVec 32 := Scalar.maxsi c0_i32_1944 v8099
  let v8101 : BitVec 32 := Scalar.minsi c199_i32_1945 v8100
  let v8162 : BitVec 32 := Scalar.addi v8101 v8161
  let c1_i32_1975 : BitVec 32 := 1#32
  let v8163 : BitVec 32 := Scalar.addi v8162 c1_i32_1975
  let c199_i32_1951 : BitVec 32 := 199#32
  let c0_i32_1950 : BitVec 32 := 0#32
  let v8110 : BitVec 32 := Scalar.maxsi c0_i32_1950 v8109
  let v8111 : BitVec 32 := Scalar.minsi c199_i32_1951 v8110
  let v8164 : BitVec 32 := Scalar.minsi v8163 v8111
  let v9125 : Index := Scalar.indexCast v8164
  let c199_i32_1942 : BitVec 32 := 199#32
  let c0_i32_1941 : BitVec 32 := 0#32
  let v8095 : BitVec 32 := Scalar.maxsi c0_i32_1941 v8094
  let v8096 : BitVec 32 := Scalar.minsi c199_i32_1942 v8095
  let v8202 : BitVec 32 := Scalar.addi v8096 v8201
  let c3_i32_1995 : BitVec 32 := 3#32
  let v8205 : BitVec 32 := Scalar.shrsi v8202 c3_i32_1995
  let c3_i32_1996 : BitVec 32 := 3#32
  let v8206 : BitVec 32 := Scalar.shli v8205 c3_i32_1996
  let v8207 : BitVec 32 := v8206
  let v9126 : Index := Scalar.indexCast v8207
  let c0_2214 : Index := 0#32
  ![v9125.toNat, v9126.toNat, 0]
def k0_off832 (k0_t1 : Fin k0_t1_loop.trips) : Fin 3 → Nat :=
  let c29_2216 : Index := 29#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c5_i32 : BitVec 32 := 5#32
  let v8086 : BitVec 32 := Scalar.addi v5 c5_i32
  let v9145 : Index := Scalar.indexCast v8086
  let c0_2217 : Index := 0#32
  ![29, v9145.toNat, 0]
def k0_off833 (v8094 : BitVec 32) (v8099 : BitVec 32) (v8161 : BitVec 32) (v8214 : BitVec 32) : Fin 3 → Nat :=
  let c199_i32_1945 : BitVec 32 := 199#32
  let c0_i32_1944 : BitVec 32 := 0#32
  let v8100 : BitVec 32 := Scalar.maxsi c0_i32_1944 v8099
  let v8101 : BitVec 32 := Scalar.minsi c199_i32_1945 v8100
  let v8162 : BitVec 32 := Scalar.addi v8101 v8161
  let v9150 : Index := Scalar.indexCast v8162
  let c199_i32_1942 : BitVec 32 := 199#32
  let c0_i32_1941 : BitVec 32 := 0#32
  let v8095 : BitVec 32 := Scalar.maxsi c0_i32_1941 v8094
  let v8096 : BitVec 32 := Scalar.minsi c199_i32_1942 v8095
  let v8215 : BitVec 32 := Scalar.addi v8096 v8214
  let c3_i32_2002 : BitVec 32 := 3#32
  let v8218 : BitVec 32 := Scalar.shrsi v8215 c3_i32_2002
  let c3_i32_2003 : BitVec 32 := 3#32
  let v8219 : BitVec 32 := Scalar.shli v8218 c3_i32_2003
  let v8220 : BitVec 32 := v8219
  let v9151 : Index := Scalar.indexCast v8220
  let c0_2219 : Index := 0#32
  ![v9150.toNat, v9151.toNat, 0]
def k0_off834 (v8094 : BitVec 32) (v8099 : BitVec 32) (v8109 : BitVec 32) (v8161 : BitVec 32) (v8214 : BitVec 32) : Fin 3 → Nat :=
  let c199_i32_1945 : BitVec 32 := 199#32
  let c0_i32_1944 : BitVec 32 := 0#32
  let v8100 : BitVec 32 := Scalar.maxsi c0_i32_1944 v8099
  let v8101 : BitVec 32 := Scalar.minsi c199_i32_1945 v8100
  let v8162 : BitVec 32 := Scalar.addi v8101 v8161
  let c1_i32_1975 : BitVec 32 := 1#32
  let v8163 : BitVec 32 := Scalar.addi v8162 c1_i32_1975
  let c199_i32_1951 : BitVec 32 := 199#32
  let c0_i32_1950 : BitVec 32 := 0#32
  let v8110 : BitVec 32 := Scalar.maxsi c0_i32_1950 v8109
  let v8111 : BitVec 32 := Scalar.minsi c199_i32_1951 v8110
  let v8164 : BitVec 32 := Scalar.minsi v8163 v8111
  let v9154 : Index := Scalar.indexCast v8164
  let c199_i32_1942 : BitVec 32 := 199#32
  let c0_i32_1941 : BitVec 32 := 0#32
  let v8095 : BitVec 32 := Scalar.maxsi c0_i32_1941 v8094
  let v8096 : BitVec 32 := Scalar.minsi c199_i32_1942 v8095
  let v8215 : BitVec 32 := Scalar.addi v8096 v8214
  let c3_i32_2002 : BitVec 32 := 3#32
  let v8218 : BitVec 32 := Scalar.shrsi v8215 c3_i32_2002
  let c3_i32_2003 : BitVec 32 := 3#32
  let v8219 : BitVec 32 := Scalar.shli v8218 c3_i32_2003
  let v8220 : BitVec 32 := v8219
  let v9155 : Index := Scalar.indexCast v8220
  let c0_2220 : Index := 0#32
  ![v9154.toNat, v9155.toNat, 0]
def k0_off835 (k0_t1 : Fin k0_t1_loop.trips) : Fin 3 → Nat :=
  let c30_2222 : Index := 30#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c5_i32 : BitVec 32 := 5#32
  let v8086 : BitVec 32 := Scalar.addi v5 c5_i32
  let v9174 : Index := Scalar.indexCast v8086
  let c0_2223 : Index := 0#32
  ![30, v9174.toNat, 0]
def k0_off836 (v8094 : BitVec 32) (v8099 : BitVec 32) (v8161 : BitVec 32) (v8227 : BitVec 32) : Fin 3 → Nat :=
  let c199_i32_1945 : BitVec 32 := 199#32
  let c0_i32_1944 : BitVec 32 := 0#32
  let v8100 : BitVec 32 := Scalar.maxsi c0_i32_1944 v8099
  let v8101 : BitVec 32 := Scalar.minsi c199_i32_1945 v8100
  let v8162 : BitVec 32 := Scalar.addi v8101 v8161
  let v9179 : Index := Scalar.indexCast v8162
  let c199_i32_1942 : BitVec 32 := 199#32
  let c0_i32_1941 : BitVec 32 := 0#32
  let v8095 : BitVec 32 := Scalar.maxsi c0_i32_1941 v8094
  let v8096 : BitVec 32 := Scalar.minsi c199_i32_1942 v8095
  let v8228 : BitVec 32 := Scalar.addi v8096 v8227
  let c3_i32_2009 : BitVec 32 := 3#32
  let v8231 : BitVec 32 := Scalar.shrsi v8228 c3_i32_2009
  let c3_i32_2010 : BitVec 32 := 3#32
  let v8232 : BitVec 32 := Scalar.shli v8231 c3_i32_2010
  let v8233 : BitVec 32 := v8232
  let v9180 : Index := Scalar.indexCast v8233
  let c0_2225 : Index := 0#32
  ![v9179.toNat, v9180.toNat, 0]
def k0_off837 (v8094 : BitVec 32) (v8099 : BitVec 32) (v8109 : BitVec 32) (v8161 : BitVec 32) (v8227 : BitVec 32) : Fin 3 → Nat :=
  let c199_i32_1945 : BitVec 32 := 199#32
  let c0_i32_1944 : BitVec 32 := 0#32
  let v8100 : BitVec 32 := Scalar.maxsi c0_i32_1944 v8099
  let v8101 : BitVec 32 := Scalar.minsi c199_i32_1945 v8100
  let v8162 : BitVec 32 := Scalar.addi v8101 v8161
  let c1_i32_1975 : BitVec 32 := 1#32
  let v8163 : BitVec 32 := Scalar.addi v8162 c1_i32_1975
  let c199_i32_1951 : BitVec 32 := 199#32
  let c0_i32_1950 : BitVec 32 := 0#32
  let v8110 : BitVec 32 := Scalar.maxsi c0_i32_1950 v8109
  let v8111 : BitVec 32 := Scalar.minsi c199_i32_1951 v8110
  let v8164 : BitVec 32 := Scalar.minsi v8163 v8111
  let v9183 : Index := Scalar.indexCast v8164
  let c199_i32_1942 : BitVec 32 := 199#32
  let c0_i32_1941 : BitVec 32 := 0#32
  let v8095 : BitVec 32 := Scalar.maxsi c0_i32_1941 v8094
  let v8096 : BitVec 32 := Scalar.minsi c199_i32_1942 v8095
  let v8228 : BitVec 32 := Scalar.addi v8096 v8227
  let c3_i32_2009 : BitVec 32 := 3#32
  let v8231 : BitVec 32 := Scalar.shrsi v8228 c3_i32_2009
  let c3_i32_2010 : BitVec 32 := 3#32
  let v8232 : BitVec 32 := Scalar.shli v8231 c3_i32_2010
  let v8233 : BitVec 32 := v8232
  let v9184 : Index := Scalar.indexCast v8233
  let c0_2226 : Index := 0#32
  ![v9183.toNat, v9184.toNat, 0]
def k0_off838 (k0_t1 : Fin k0_t1_loop.trips) : Fin 3 → Nat :=
  let c31_2228 : Index := 31#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c5_i32 : BitVec 32 := 5#32
  let v8086 : BitVec 32 := Scalar.addi v5 c5_i32
  let v9203 : Index := Scalar.indexCast v8086
  let c0_2229 : Index := 0#32
  ![31, v9203.toNat, 0]
def k0_off839 (v8094 : BitVec 32) (v8099 : BitVec 32) (v8161 : BitVec 32) (v8240 : BitVec 32) : Fin 3 → Nat :=
  let c199_i32_1945 : BitVec 32 := 199#32
  let c0_i32_1944 : BitVec 32 := 0#32
  let v8100 : BitVec 32 := Scalar.maxsi c0_i32_1944 v8099
  let v8101 : BitVec 32 := Scalar.minsi c199_i32_1945 v8100
  let v8162 : BitVec 32 := Scalar.addi v8101 v8161
  let v9208 : Index := Scalar.indexCast v8162
  let c199_i32_1942 : BitVec 32 := 199#32
  let c0_i32_1941 : BitVec 32 := 0#32
  let v8095 : BitVec 32 := Scalar.maxsi c0_i32_1941 v8094
  let v8096 : BitVec 32 := Scalar.minsi c199_i32_1942 v8095
  let v8241 : BitVec 32 := Scalar.addi v8096 v8240
  let c3_i32_2016 : BitVec 32 := 3#32
  let v8244 : BitVec 32 := Scalar.shrsi v8241 c3_i32_2016
  let c3_i32_2017 : BitVec 32 := 3#32
  let v8245 : BitVec 32 := Scalar.shli v8244 c3_i32_2017
  let v8246 : BitVec 32 := v8245
  let v9209 : Index := Scalar.indexCast v8246
  let c0_2231 : Index := 0#32
  ![v9208.toNat, v9209.toNat, 0]
def k0_off840 (v8094 : BitVec 32) (v8099 : BitVec 32) (v8109 : BitVec 32) (v8161 : BitVec 32) (v8240 : BitVec 32) : Fin 3 → Nat :=
  let c199_i32_1945 : BitVec 32 := 199#32
  let c0_i32_1944 : BitVec 32 := 0#32
  let v8100 : BitVec 32 := Scalar.maxsi c0_i32_1944 v8099
  let v8101 : BitVec 32 := Scalar.minsi c199_i32_1945 v8100
  let v8162 : BitVec 32 := Scalar.addi v8101 v8161
  let c1_i32_1975 : BitVec 32 := 1#32
  let v8163 : BitVec 32 := Scalar.addi v8162 c1_i32_1975
  let c199_i32_1951 : BitVec 32 := 199#32
  let c0_i32_1950 : BitVec 32 := 0#32
  let v8110 : BitVec 32 := Scalar.maxsi c0_i32_1950 v8109
  let v8111 : BitVec 32 := Scalar.minsi c199_i32_1951 v8110
  let v8164 : BitVec 32 := Scalar.minsi v8163 v8111
  let v9212 : Index := Scalar.indexCast v8164
  let c199_i32_1942 : BitVec 32 := 199#32
  let c0_i32_1941 : BitVec 32 := 0#32
  let v8095 : BitVec 32 := Scalar.maxsi c0_i32_1941 v8094
  let v8096 : BitVec 32 := Scalar.minsi c199_i32_1942 v8095
  let v8241 : BitVec 32 := Scalar.addi v8096 v8240
  let c3_i32_2016 : BitVec 32 := 3#32
  let v8244 : BitVec 32 := Scalar.shrsi v8241 c3_i32_2016
  let c3_i32_2017 : BitVec 32 := 3#32
  let v8245 : BitVec 32 := Scalar.shli v8244 c3_i32_2017
  let v8246 : BitVec 32 := v8245
  let v9213 : Index := Scalar.indexCast v8246
  let c0_2232 : Index := 0#32
  ![v9212.toNat, v9213.toNat, 0]
def k0_off841 (k0_t1 : Fin k0_t1_loop.trips) : Fin 3 → Nat :=
  let c32_2234 : Index := 32#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c5_i32 : BitVec 32 := 5#32
  let v8086 : BitVec 32 := Scalar.addi v5 c5_i32
  let v9232 : Index := Scalar.indexCast v8086
  let c0_2235 : Index := 0#32
  ![32, v9232.toNat, 0]
def k0_off842 (v8094 : BitVec 32) (v8099 : BitVec 32) (v8161 : BitVec 32) (v8253 : BitVec 32) : Fin 3 → Nat :=
  let c199_i32_1945 : BitVec 32 := 199#32
  let c0_i32_1944 : BitVec 32 := 0#32
  let v8100 : BitVec 32 := Scalar.maxsi c0_i32_1944 v8099
  let v8101 : BitVec 32 := Scalar.minsi c199_i32_1945 v8100
  let v8162 : BitVec 32 := Scalar.addi v8101 v8161
  let v9237 : Index := Scalar.indexCast v8162
  let c199_i32_1942 : BitVec 32 := 199#32
  let c0_i32_1941 : BitVec 32 := 0#32
  let v8095 : BitVec 32 := Scalar.maxsi c0_i32_1941 v8094
  let v8096 : BitVec 32 := Scalar.minsi c199_i32_1942 v8095
  let v8254 : BitVec 32 := Scalar.addi v8096 v8253
  let c3_i32_2023 : BitVec 32 := 3#32
  let v8257 : BitVec 32 := Scalar.shrsi v8254 c3_i32_2023
  let c3_i32_2024 : BitVec 32 := 3#32
  let v8258 : BitVec 32 := Scalar.shli v8257 c3_i32_2024
  let v8259 : BitVec 32 := v8258
  let v9238 : Index := Scalar.indexCast v8259
  let c0_2237 : Index := 0#32
  ![v9237.toNat, v9238.toNat, 0]
def k0_off843 (v8094 : BitVec 32) (v8099 : BitVec 32) (v8109 : BitVec 32) (v8161 : BitVec 32) (v8253 : BitVec 32) : Fin 3 → Nat :=
  let c199_i32_1945 : BitVec 32 := 199#32
  let c0_i32_1944 : BitVec 32 := 0#32
  let v8100 : BitVec 32 := Scalar.maxsi c0_i32_1944 v8099
  let v8101 : BitVec 32 := Scalar.minsi c199_i32_1945 v8100
  let v8162 : BitVec 32 := Scalar.addi v8101 v8161
  let c1_i32_1975 : BitVec 32 := 1#32
  let v8163 : BitVec 32 := Scalar.addi v8162 c1_i32_1975
  let c199_i32_1951 : BitVec 32 := 199#32
  let c0_i32_1950 : BitVec 32 := 0#32
  let v8110 : BitVec 32 := Scalar.maxsi c0_i32_1950 v8109
  let v8111 : BitVec 32 := Scalar.minsi c199_i32_1951 v8110
  let v8164 : BitVec 32 := Scalar.minsi v8163 v8111
  let v9241 : Index := Scalar.indexCast v8164
  let c199_i32_1942 : BitVec 32 := 199#32
  let c0_i32_1941 : BitVec 32 := 0#32
  let v8095 : BitVec 32 := Scalar.maxsi c0_i32_1941 v8094
  let v8096 : BitVec 32 := Scalar.minsi c199_i32_1942 v8095
  let v8254 : BitVec 32 := Scalar.addi v8096 v8253
  let c3_i32_2023 : BitVec 32 := 3#32
  let v8257 : BitVec 32 := Scalar.shrsi v8254 c3_i32_2023
  let c3_i32_2024 : BitVec 32 := 3#32
  let v8258 : BitVec 32 := Scalar.shli v8257 c3_i32_2024
  let v8259 : BitVec 32 := v8258
  let v9242 : Index := Scalar.indexCast v8259
  let c0_2238 : Index := 0#32
  ![v9241.toNat, v9242.toNat, 0]
def k0_off844 (k0_t1 : Fin k0_t1_loop.trips) : Fin 3 → Nat :=
  let c33_2240 : Index := 33#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c5_i32 : BitVec 32 := 5#32
  let v8086 : BitVec 32 := Scalar.addi v5 c5_i32
  let v9261 : Index := Scalar.indexCast v8086
  let c0_2241 : Index := 0#32
  ![33, v9261.toNat, 0]
def k0_off845 (v8094 : BitVec 32) (v8099 : BitVec 32) (v8161 : BitVec 32) (v8266 : BitVec 32) : Fin 3 → Nat :=
  let c199_i32_1945 : BitVec 32 := 199#32
  let c0_i32_1944 : BitVec 32 := 0#32
  let v8100 : BitVec 32 := Scalar.maxsi c0_i32_1944 v8099
  let v8101 : BitVec 32 := Scalar.minsi c199_i32_1945 v8100
  let v8162 : BitVec 32 := Scalar.addi v8101 v8161
  let v9266 : Index := Scalar.indexCast v8162
  let c199_i32_1942 : BitVec 32 := 199#32
  let c0_i32_1941 : BitVec 32 := 0#32
  let v8095 : BitVec 32 := Scalar.maxsi c0_i32_1941 v8094
  let v8096 : BitVec 32 := Scalar.minsi c199_i32_1942 v8095
  let v8267 : BitVec 32 := Scalar.addi v8096 v8266
  let c3_i32_2030 : BitVec 32 := 3#32
  let v8270 : BitVec 32 := Scalar.shrsi v8267 c3_i32_2030
  let c3_i32_2031 : BitVec 32 := 3#32
  let v8271 : BitVec 32 := Scalar.shli v8270 c3_i32_2031
  let v8272 : BitVec 32 := v8271
  let v9267 : Index := Scalar.indexCast v8272
  let c0_2243 : Index := 0#32
  ![v9266.toNat, v9267.toNat, 0]
def k0_off846 (v8094 : BitVec 32) (v8099 : BitVec 32) (v8109 : BitVec 32) (v8161 : BitVec 32) (v8266 : BitVec 32) : Fin 3 → Nat :=
  let c199_i32_1945 : BitVec 32 := 199#32
  let c0_i32_1944 : BitVec 32 := 0#32
  let v8100 : BitVec 32 := Scalar.maxsi c0_i32_1944 v8099
  let v8101 : BitVec 32 := Scalar.minsi c199_i32_1945 v8100
  let v8162 : BitVec 32 := Scalar.addi v8101 v8161
  let c1_i32_1975 : BitVec 32 := 1#32
  let v8163 : BitVec 32 := Scalar.addi v8162 c1_i32_1975
  let c199_i32_1951 : BitVec 32 := 199#32
  let c0_i32_1950 : BitVec 32 := 0#32
  let v8110 : BitVec 32 := Scalar.maxsi c0_i32_1950 v8109
  let v8111 : BitVec 32 := Scalar.minsi c199_i32_1951 v8110
  let v8164 : BitVec 32 := Scalar.minsi v8163 v8111
  let v9270 : Index := Scalar.indexCast v8164
  let c199_i32_1942 : BitVec 32 := 199#32
  let c0_i32_1941 : BitVec 32 := 0#32
  let v8095 : BitVec 32 := Scalar.maxsi c0_i32_1941 v8094
  let v8096 : BitVec 32 := Scalar.minsi c199_i32_1942 v8095
  let v8267 : BitVec 32 := Scalar.addi v8096 v8266
  let c3_i32_2030 : BitVec 32 := 3#32
  let v8270 : BitVec 32 := Scalar.shrsi v8267 c3_i32_2030
  let c3_i32_2031 : BitVec 32 := 3#32
  let v8271 : BitVec 32 := Scalar.shli v8270 c3_i32_2031
  let v8272 : BitVec 32 := v8271
  let v9271 : Index := Scalar.indexCast v8272
  let c0_2244 : Index := 0#32
  ![v9270.toNat, v9271.toNat, 0]
def k0_off847 (k0_t1 : Fin k0_t1_loop.trips) : Fin 3 → Nat :=
  let c34_2246 : Index := 34#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c5_i32 : BitVec 32 := 5#32
  let v8086 : BitVec 32 := Scalar.addi v5 c5_i32
  let v9290 : Index := Scalar.indexCast v8086
  let c0_2247 : Index := 0#32
  ![34, v9290.toNat, 0]
def k0_off848 (v8094 : BitVec 32) (v8099 : BitVec 32) (v8170 : BitVec 32) (v8188 : BitVec 32) : Fin 3 → Nat :=
  let c199_i32_1945 : BitVec 32 := 199#32
  let c0_i32_1944 : BitVec 32 := 0#32
  let v8100 : BitVec 32 := Scalar.maxsi c0_i32_1944 v8099
  let v8101 : BitVec 32 := Scalar.minsi c199_i32_1945 v8100
  let v8171 : BitVec 32 := Scalar.addi v8101 v8170
  let v9296 : Index := Scalar.indexCast v8171
  let c199_i32_1942 : BitVec 32 := 199#32
  let c0_i32_1941 : BitVec 32 := 0#32
  let v8095 : BitVec 32 := Scalar.maxsi c0_i32_1941 v8094
  let v8096 : BitVec 32 := Scalar.minsi c199_i32_1942 v8095
  let v8189 : BitVec 32 := Scalar.addi v8096 v8188
  let c3_i32_1988 : BitVec 32 := 3#32
  let v8192 : BitVec 32 := Scalar.shrsi v8189 c3_i32_1988
  let c3_i32_1989 : BitVec 32 := 3#32
  let v8193 : BitVec 32 := Scalar.shli v8192 c3_i32_1989
  let v8194 : BitVec 32 := v8193
  let v9297 : Index := Scalar.indexCast v8194
  let c0_2250 : Index := 0#32
  ![v9296.toNat, v9297.toNat, 0]
def k0_off849 (v8094 : BitVec 32) (v8099 : BitVec 32) (v8109 : BitVec 32) (v8170 : BitVec 32) (v8188 : BitVec 32) : Fin 3 → Nat :=
  let c199_i32_1945 : BitVec 32 := 199#32
  let c0_i32_1944 : BitVec 32 := 0#32
  let v8100 : BitVec 32 := Scalar.maxsi c0_i32_1944 v8099
  let v8101 : BitVec 32 := Scalar.minsi c199_i32_1945 v8100
  let v8171 : BitVec 32 := Scalar.addi v8101 v8170
  let c1_i32_1979 : BitVec 32 := 1#32
  let v8172 : BitVec 32 := Scalar.addi v8171 c1_i32_1979
  let c199_i32_1951 : BitVec 32 := 199#32
  let c0_i32_1950 : BitVec 32 := 0#32
  let v8110 : BitVec 32 := Scalar.maxsi c0_i32_1950 v8109
  let v8111 : BitVec 32 := Scalar.minsi c199_i32_1951 v8110
  let v8173 : BitVec 32 := Scalar.minsi v8172 v8111
  let v9300 : Index := Scalar.indexCast v8173
  let c199_i32_1942 : BitVec 32 := 199#32
  let c0_i32_1941 : BitVec 32 := 0#32
  let v8095 : BitVec 32 := Scalar.maxsi c0_i32_1941 v8094
  let v8096 : BitVec 32 := Scalar.minsi c199_i32_1942 v8095
  let v8189 : BitVec 32 := Scalar.addi v8096 v8188
  let c3_i32_1988 : BitVec 32 := 3#32
  let v8192 : BitVec 32 := Scalar.shrsi v8189 c3_i32_1988
  let c3_i32_1989 : BitVec 32 := 3#32
  let v8193 : BitVec 32 := Scalar.shli v8192 c3_i32_1989
  let v8194 : BitVec 32 := v8193
  let v9301 : Index := Scalar.indexCast v8194
  let c0_2251 : Index := 0#32
  ![v9300.toNat, v9301.toNat, 0]
def k0_off850 (k0_t1 : Fin k0_t1_loop.trips) : Fin 3 → Nat :=
  let c35_2253 : Index := 35#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c5_i32 : BitVec 32 := 5#32
  let v8086 : BitVec 32 := Scalar.addi v5 c5_i32
  let v9320 : Index := Scalar.indexCast v8086
  let c0_2254 : Index := 0#32
  ![35, v9320.toNat, 0]
def k0_off851 (v8094 : BitVec 32) (v8099 : BitVec 32) (v8170 : BitVec 32) (v8201 : BitVec 32) : Fin 3 → Nat :=
  let c199_i32_1945 : BitVec 32 := 199#32
  let c0_i32_1944 : BitVec 32 := 0#32
  let v8100 : BitVec 32 := Scalar.maxsi c0_i32_1944 v8099
  let v8101 : BitVec 32 := Scalar.minsi c199_i32_1945 v8100
  let v8171 : BitVec 32 := Scalar.addi v8101 v8170
  let v9325 : Index := Scalar.indexCast v8171
  let c199_i32_1942 : BitVec 32 := 199#32
  let c0_i32_1941 : BitVec 32 := 0#32
  let v8095 : BitVec 32 := Scalar.maxsi c0_i32_1941 v8094
  let v8096 : BitVec 32 := Scalar.minsi c199_i32_1942 v8095
  let v8202 : BitVec 32 := Scalar.addi v8096 v8201
  let c3_i32_1995 : BitVec 32 := 3#32
  let v8205 : BitVec 32 := Scalar.shrsi v8202 c3_i32_1995
  let c3_i32_1996 : BitVec 32 := 3#32
  let v8206 : BitVec 32 := Scalar.shli v8205 c3_i32_1996
  let v8207 : BitVec 32 := v8206
  let v9326 : Index := Scalar.indexCast v8207
  let c0_2256 : Index := 0#32
  ![v9325.toNat, v9326.toNat, 0]
def k0_off852 (v8094 : BitVec 32) (v8099 : BitVec 32) (v8109 : BitVec 32) (v8170 : BitVec 32) (v8201 : BitVec 32) : Fin 3 → Nat :=
  let c199_i32_1945 : BitVec 32 := 199#32
  let c0_i32_1944 : BitVec 32 := 0#32
  let v8100 : BitVec 32 := Scalar.maxsi c0_i32_1944 v8099
  let v8101 : BitVec 32 := Scalar.minsi c199_i32_1945 v8100
  let v8171 : BitVec 32 := Scalar.addi v8101 v8170
  let c1_i32_1979 : BitVec 32 := 1#32
  let v8172 : BitVec 32 := Scalar.addi v8171 c1_i32_1979
  let c199_i32_1951 : BitVec 32 := 199#32
  let c0_i32_1950 : BitVec 32 := 0#32
  let v8110 : BitVec 32 := Scalar.maxsi c0_i32_1950 v8109
  let v8111 : BitVec 32 := Scalar.minsi c199_i32_1951 v8110
  let v8173 : BitVec 32 := Scalar.minsi v8172 v8111
  let v9329 : Index := Scalar.indexCast v8173
  let c199_i32_1942 : BitVec 32 := 199#32
  let c0_i32_1941 : BitVec 32 := 0#32
  let v8095 : BitVec 32 := Scalar.maxsi c0_i32_1941 v8094
  let v8096 : BitVec 32 := Scalar.minsi c199_i32_1942 v8095
  let v8202 : BitVec 32 := Scalar.addi v8096 v8201
  let c3_i32_1995 : BitVec 32 := 3#32
  let v8205 : BitVec 32 := Scalar.shrsi v8202 c3_i32_1995
  let c3_i32_1996 : BitVec 32 := 3#32
  let v8206 : BitVec 32 := Scalar.shli v8205 c3_i32_1996
  let v8207 : BitVec 32 := v8206
  let v9330 : Index := Scalar.indexCast v8207
  let c0_2257 : Index := 0#32
  ![v9329.toNat, v9330.toNat, 0]
def k0_off853 (k0_t1 : Fin k0_t1_loop.trips) : Fin 3 → Nat :=
  let c36_2259 : Index := 36#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c5_i32 : BitVec 32 := 5#32
  let v8086 : BitVec 32 := Scalar.addi v5 c5_i32
  let v9349 : Index := Scalar.indexCast v8086
  let c0_2260 : Index := 0#32
  ![36, v9349.toNat, 0]
def k0_off854 (v8094 : BitVec 32) (v8099 : BitVec 32) (v8170 : BitVec 32) (v8214 : BitVec 32) : Fin 3 → Nat :=
  let c199_i32_1945 : BitVec 32 := 199#32
  let c0_i32_1944 : BitVec 32 := 0#32
  let v8100 : BitVec 32 := Scalar.maxsi c0_i32_1944 v8099
  let v8101 : BitVec 32 := Scalar.minsi c199_i32_1945 v8100
  let v8171 : BitVec 32 := Scalar.addi v8101 v8170
  let v9354 : Index := Scalar.indexCast v8171
  let c199_i32_1942 : BitVec 32 := 199#32
  let c0_i32_1941 : BitVec 32 := 0#32
  let v8095 : BitVec 32 := Scalar.maxsi c0_i32_1941 v8094
  let v8096 : BitVec 32 := Scalar.minsi c199_i32_1942 v8095
  let v8215 : BitVec 32 := Scalar.addi v8096 v8214
  let c3_i32_2002 : BitVec 32 := 3#32
  let v8218 : BitVec 32 := Scalar.shrsi v8215 c3_i32_2002
  let c3_i32_2003 : BitVec 32 := 3#32
  let v8219 : BitVec 32 := Scalar.shli v8218 c3_i32_2003
  let v8220 : BitVec 32 := v8219
  let v9355 : Index := Scalar.indexCast v8220
  let c0_2262 : Index := 0#32
  ![v9354.toNat, v9355.toNat, 0]
def k0_off855 (v8094 : BitVec 32) (v8099 : BitVec 32) (v8109 : BitVec 32) (v8170 : BitVec 32) (v8214 : BitVec 32) : Fin 3 → Nat :=
  let c199_i32_1945 : BitVec 32 := 199#32
  let c0_i32_1944 : BitVec 32 := 0#32
  let v8100 : BitVec 32 := Scalar.maxsi c0_i32_1944 v8099
  let v8101 : BitVec 32 := Scalar.minsi c199_i32_1945 v8100
  let v8171 : BitVec 32 := Scalar.addi v8101 v8170
  let c1_i32_1979 : BitVec 32 := 1#32
  let v8172 : BitVec 32 := Scalar.addi v8171 c1_i32_1979
  let c199_i32_1951 : BitVec 32 := 199#32
  let c0_i32_1950 : BitVec 32 := 0#32
  let v8110 : BitVec 32 := Scalar.maxsi c0_i32_1950 v8109
  let v8111 : BitVec 32 := Scalar.minsi c199_i32_1951 v8110
  let v8173 : BitVec 32 := Scalar.minsi v8172 v8111
  let v9358 : Index := Scalar.indexCast v8173
  let c199_i32_1942 : BitVec 32 := 199#32
  let c0_i32_1941 : BitVec 32 := 0#32
  let v8095 : BitVec 32 := Scalar.maxsi c0_i32_1941 v8094
  let v8096 : BitVec 32 := Scalar.minsi c199_i32_1942 v8095
  let v8215 : BitVec 32 := Scalar.addi v8096 v8214
  let c3_i32_2002 : BitVec 32 := 3#32
  let v8218 : BitVec 32 := Scalar.shrsi v8215 c3_i32_2002
  let c3_i32_2003 : BitVec 32 := 3#32
  let v8219 : BitVec 32 := Scalar.shli v8218 c3_i32_2003
  let v8220 : BitVec 32 := v8219
  let v9359 : Index := Scalar.indexCast v8220
  let c0_2263 : Index := 0#32
  ![v9358.toNat, v9359.toNat, 0]
def k0_off856 (k0_t1 : Fin k0_t1_loop.trips) : Fin 3 → Nat :=
  let c37_2265 : Index := 37#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c5_i32 : BitVec 32 := 5#32
  let v8086 : BitVec 32 := Scalar.addi v5 c5_i32
  let v9378 : Index := Scalar.indexCast v8086
  let c0_2266 : Index := 0#32
  ![37, v9378.toNat, 0]
def k0_off857 (v8094 : BitVec 32) (v8099 : BitVec 32) (v8170 : BitVec 32) (v8227 : BitVec 32) : Fin 3 → Nat :=
  let c199_i32_1945 : BitVec 32 := 199#32
  let c0_i32_1944 : BitVec 32 := 0#32
  let v8100 : BitVec 32 := Scalar.maxsi c0_i32_1944 v8099
  let v8101 : BitVec 32 := Scalar.minsi c199_i32_1945 v8100
  let v8171 : BitVec 32 := Scalar.addi v8101 v8170
  let v9383 : Index := Scalar.indexCast v8171
  let c199_i32_1942 : BitVec 32 := 199#32
  let c0_i32_1941 : BitVec 32 := 0#32
  let v8095 : BitVec 32 := Scalar.maxsi c0_i32_1941 v8094
  let v8096 : BitVec 32 := Scalar.minsi c199_i32_1942 v8095
  let v8228 : BitVec 32 := Scalar.addi v8096 v8227
  let c3_i32_2009 : BitVec 32 := 3#32
  let v8231 : BitVec 32 := Scalar.shrsi v8228 c3_i32_2009
  let c3_i32_2010 : BitVec 32 := 3#32
  let v8232 : BitVec 32 := Scalar.shli v8231 c3_i32_2010
  let v8233 : BitVec 32 := v8232
  let v9384 : Index := Scalar.indexCast v8233
  let c0_2268 : Index := 0#32
  ![v9383.toNat, v9384.toNat, 0]
def k0_off858 (v8094 : BitVec 32) (v8099 : BitVec 32) (v8109 : BitVec 32) (v8170 : BitVec 32) (v8227 : BitVec 32) : Fin 3 → Nat :=
  let c199_i32_1945 : BitVec 32 := 199#32
  let c0_i32_1944 : BitVec 32 := 0#32
  let v8100 : BitVec 32 := Scalar.maxsi c0_i32_1944 v8099
  let v8101 : BitVec 32 := Scalar.minsi c199_i32_1945 v8100
  let v8171 : BitVec 32 := Scalar.addi v8101 v8170
  let c1_i32_1979 : BitVec 32 := 1#32
  let v8172 : BitVec 32 := Scalar.addi v8171 c1_i32_1979
  let c199_i32_1951 : BitVec 32 := 199#32
  let c0_i32_1950 : BitVec 32 := 0#32
  let v8110 : BitVec 32 := Scalar.maxsi c0_i32_1950 v8109
  let v8111 : BitVec 32 := Scalar.minsi c199_i32_1951 v8110
  let v8173 : BitVec 32 := Scalar.minsi v8172 v8111
  let v9387 : Index := Scalar.indexCast v8173
  let c199_i32_1942 : BitVec 32 := 199#32
  let c0_i32_1941 : BitVec 32 := 0#32
  let v8095 : BitVec 32 := Scalar.maxsi c0_i32_1941 v8094
  let v8096 : BitVec 32 := Scalar.minsi c199_i32_1942 v8095
  let v8228 : BitVec 32 := Scalar.addi v8096 v8227
  let c3_i32_2009 : BitVec 32 := 3#32
  let v8231 : BitVec 32 := Scalar.shrsi v8228 c3_i32_2009
  let c3_i32_2010 : BitVec 32 := 3#32
  let v8232 : BitVec 32 := Scalar.shli v8231 c3_i32_2010
  let v8233 : BitVec 32 := v8232
  let v9388 : Index := Scalar.indexCast v8233
  let c0_2269 : Index := 0#32
  ![v9387.toNat, v9388.toNat, 0]
def k0_off859 (k0_t1 : Fin k0_t1_loop.trips) : Fin 3 → Nat :=
  let c38_2271 : Index := 38#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c5_i32 : BitVec 32 := 5#32
  let v8086 : BitVec 32 := Scalar.addi v5 c5_i32
  let v9407 : Index := Scalar.indexCast v8086
  let c0_2272 : Index := 0#32
  ![38, v9407.toNat, 0]
def k0_off860 (v8094 : BitVec 32) (v8099 : BitVec 32) (v8170 : BitVec 32) (v8240 : BitVec 32) : Fin 3 → Nat :=
  let c199_i32_1945 : BitVec 32 := 199#32
  let c0_i32_1944 : BitVec 32 := 0#32
  let v8100 : BitVec 32 := Scalar.maxsi c0_i32_1944 v8099
  let v8101 : BitVec 32 := Scalar.minsi c199_i32_1945 v8100
  let v8171 : BitVec 32 := Scalar.addi v8101 v8170
  let v9412 : Index := Scalar.indexCast v8171
  let c199_i32_1942 : BitVec 32 := 199#32
  let c0_i32_1941 : BitVec 32 := 0#32
  let v8095 : BitVec 32 := Scalar.maxsi c0_i32_1941 v8094
  let v8096 : BitVec 32 := Scalar.minsi c199_i32_1942 v8095
  let v8241 : BitVec 32 := Scalar.addi v8096 v8240
  let c3_i32_2016 : BitVec 32 := 3#32
  let v8244 : BitVec 32 := Scalar.shrsi v8241 c3_i32_2016
  let c3_i32_2017 : BitVec 32 := 3#32
  let v8245 : BitVec 32 := Scalar.shli v8244 c3_i32_2017
  let v8246 : BitVec 32 := v8245
  let v9413 : Index := Scalar.indexCast v8246
  let c0_2274 : Index := 0#32
  ![v9412.toNat, v9413.toNat, 0]
def k0_off861 (v8094 : BitVec 32) (v8099 : BitVec 32) (v8109 : BitVec 32) (v8170 : BitVec 32) (v8240 : BitVec 32) : Fin 3 → Nat :=
  let c199_i32_1945 : BitVec 32 := 199#32
  let c0_i32_1944 : BitVec 32 := 0#32
  let v8100 : BitVec 32 := Scalar.maxsi c0_i32_1944 v8099
  let v8101 : BitVec 32 := Scalar.minsi c199_i32_1945 v8100
  let v8171 : BitVec 32 := Scalar.addi v8101 v8170
  let c1_i32_1979 : BitVec 32 := 1#32
  let v8172 : BitVec 32 := Scalar.addi v8171 c1_i32_1979
  let c199_i32_1951 : BitVec 32 := 199#32
  let c0_i32_1950 : BitVec 32 := 0#32
  let v8110 : BitVec 32 := Scalar.maxsi c0_i32_1950 v8109
  let v8111 : BitVec 32 := Scalar.minsi c199_i32_1951 v8110
  let v8173 : BitVec 32 := Scalar.minsi v8172 v8111
  let v9416 : Index := Scalar.indexCast v8173
  let c199_i32_1942 : BitVec 32 := 199#32
  let c0_i32_1941 : BitVec 32 := 0#32
  let v8095 : BitVec 32 := Scalar.maxsi c0_i32_1941 v8094
  let v8096 : BitVec 32 := Scalar.minsi c199_i32_1942 v8095
  let v8241 : BitVec 32 := Scalar.addi v8096 v8240
  let c3_i32_2016 : BitVec 32 := 3#32
  let v8244 : BitVec 32 := Scalar.shrsi v8241 c3_i32_2016
  let c3_i32_2017 : BitVec 32 := 3#32
  let v8245 : BitVec 32 := Scalar.shli v8244 c3_i32_2017
  let v8246 : BitVec 32 := v8245
  let v9417 : Index := Scalar.indexCast v8246
  let c0_2275 : Index := 0#32
  ![v9416.toNat, v9417.toNat, 0]
def k0_off862 (k0_t1 : Fin k0_t1_loop.trips) : Fin 3 → Nat :=
  let c39_2277 : Index := 39#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c5_i32 : BitVec 32 := 5#32
  let v8086 : BitVec 32 := Scalar.addi v5 c5_i32
  let v9436 : Index := Scalar.indexCast v8086
  let c0_2278 : Index := 0#32
  ![39, v9436.toNat, 0]
def k0_off863 (v8094 : BitVec 32) (v8099 : BitVec 32) (v8170 : BitVec 32) (v8253 : BitVec 32) : Fin 3 → Nat :=
  let c199_i32_1945 : BitVec 32 := 199#32
  let c0_i32_1944 : BitVec 32 := 0#32
  let v8100 : BitVec 32 := Scalar.maxsi c0_i32_1944 v8099
  let v8101 : BitVec 32 := Scalar.minsi c199_i32_1945 v8100
  let v8171 : BitVec 32 := Scalar.addi v8101 v8170
  let v9441 : Index := Scalar.indexCast v8171
  let c199_i32_1942 : BitVec 32 := 199#32
  let c0_i32_1941 : BitVec 32 := 0#32
  let v8095 : BitVec 32 := Scalar.maxsi c0_i32_1941 v8094
  let v8096 : BitVec 32 := Scalar.minsi c199_i32_1942 v8095
  let v8254 : BitVec 32 := Scalar.addi v8096 v8253
  let c3_i32_2023 : BitVec 32 := 3#32
  let v8257 : BitVec 32 := Scalar.shrsi v8254 c3_i32_2023
  let c3_i32_2024 : BitVec 32 := 3#32
  let v8258 : BitVec 32 := Scalar.shli v8257 c3_i32_2024
  let v8259 : BitVec 32 := v8258
  let v9442 : Index := Scalar.indexCast v8259
  let c0_2280 : Index := 0#32
  ![v9441.toNat, v9442.toNat, 0]
def k0_off864 (v8094 : BitVec 32) (v8099 : BitVec 32) (v8109 : BitVec 32) (v8170 : BitVec 32) (v8253 : BitVec 32) : Fin 3 → Nat :=
  let c199_i32_1945 : BitVec 32 := 199#32
  let c0_i32_1944 : BitVec 32 := 0#32
  let v8100 : BitVec 32 := Scalar.maxsi c0_i32_1944 v8099
  let v8101 : BitVec 32 := Scalar.minsi c199_i32_1945 v8100
  let v8171 : BitVec 32 := Scalar.addi v8101 v8170
  let c1_i32_1979 : BitVec 32 := 1#32
  let v8172 : BitVec 32 := Scalar.addi v8171 c1_i32_1979
  let c199_i32_1951 : BitVec 32 := 199#32
  let c0_i32_1950 : BitVec 32 := 0#32
  let v8110 : BitVec 32 := Scalar.maxsi c0_i32_1950 v8109
  let v8111 : BitVec 32 := Scalar.minsi c199_i32_1951 v8110
  let v8173 : BitVec 32 := Scalar.minsi v8172 v8111
  let v9445 : Index := Scalar.indexCast v8173
  let c199_i32_1942 : BitVec 32 := 199#32
  let c0_i32_1941 : BitVec 32 := 0#32
  let v8095 : BitVec 32 := Scalar.maxsi c0_i32_1941 v8094
  let v8096 : BitVec 32 := Scalar.minsi c199_i32_1942 v8095
  let v8254 : BitVec 32 := Scalar.addi v8096 v8253
  let c3_i32_2023 : BitVec 32 := 3#32
  let v8257 : BitVec 32 := Scalar.shrsi v8254 c3_i32_2023
  let c3_i32_2024 : BitVec 32 := 3#32
  let v8258 : BitVec 32 := Scalar.shli v8257 c3_i32_2024
  let v8259 : BitVec 32 := v8258
  let v9446 : Index := Scalar.indexCast v8259
  let c0_2281 : Index := 0#32
  ![v9445.toNat, v9446.toNat, 0]
def k0_off865 (k0_t1 : Fin k0_t1_loop.trips) : Fin 3 → Nat :=
  let c40_2283 : Index := 40#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c5_i32 : BitVec 32 := 5#32
  let v8086 : BitVec 32 := Scalar.addi v5 c5_i32
  let v9465 : Index := Scalar.indexCast v8086
  let c0_2284 : Index := 0#32
  ![40, v9465.toNat, 0]
def k0_off866 (v8094 : BitVec 32) (v8099 : BitVec 32) (v8170 : BitVec 32) (v8266 : BitVec 32) : Fin 3 → Nat :=
  let c199_i32_1945 : BitVec 32 := 199#32
  let c0_i32_1944 : BitVec 32 := 0#32
  let v8100 : BitVec 32 := Scalar.maxsi c0_i32_1944 v8099
  let v8101 : BitVec 32 := Scalar.minsi c199_i32_1945 v8100
  let v8171 : BitVec 32 := Scalar.addi v8101 v8170
  let v9470 : Index := Scalar.indexCast v8171
  let c199_i32_1942 : BitVec 32 := 199#32
  let c0_i32_1941 : BitVec 32 := 0#32
  let v8095 : BitVec 32 := Scalar.maxsi c0_i32_1941 v8094
  let v8096 : BitVec 32 := Scalar.minsi c199_i32_1942 v8095
  let v8267 : BitVec 32 := Scalar.addi v8096 v8266
  let c3_i32_2030 : BitVec 32 := 3#32
  let v8270 : BitVec 32 := Scalar.shrsi v8267 c3_i32_2030
  let c3_i32_2031 : BitVec 32 := 3#32
  let v8271 : BitVec 32 := Scalar.shli v8270 c3_i32_2031
  let v8272 : BitVec 32 := v8271
  let v9471 : Index := Scalar.indexCast v8272
  let c0_2286 : Index := 0#32
  ![v9470.toNat, v9471.toNat, 0]
def k0_off867 (v8094 : BitVec 32) (v8099 : BitVec 32) (v8109 : BitVec 32) (v8170 : BitVec 32) (v8266 : BitVec 32) : Fin 3 → Nat :=
  let c199_i32_1945 : BitVec 32 := 199#32
  let c0_i32_1944 : BitVec 32 := 0#32
  let v8100 : BitVec 32 := Scalar.maxsi c0_i32_1944 v8099
  let v8101 : BitVec 32 := Scalar.minsi c199_i32_1945 v8100
  let v8171 : BitVec 32 := Scalar.addi v8101 v8170
  let c1_i32_1979 : BitVec 32 := 1#32
  let v8172 : BitVec 32 := Scalar.addi v8171 c1_i32_1979
  let c199_i32_1951 : BitVec 32 := 199#32
  let c0_i32_1950 : BitVec 32 := 0#32
  let v8110 : BitVec 32 := Scalar.maxsi c0_i32_1950 v8109
  let v8111 : BitVec 32 := Scalar.minsi c199_i32_1951 v8110
  let v8173 : BitVec 32 := Scalar.minsi v8172 v8111
  let v9474 : Index := Scalar.indexCast v8173
  let c199_i32_1942 : BitVec 32 := 199#32
  let c0_i32_1941 : BitVec 32 := 0#32
  let v8095 : BitVec 32 := Scalar.maxsi c0_i32_1941 v8094
  let v8096 : BitVec 32 := Scalar.minsi c199_i32_1942 v8095
  let v8267 : BitVec 32 := Scalar.addi v8096 v8266
  let c3_i32_2030 : BitVec 32 := 3#32
  let v8270 : BitVec 32 := Scalar.shrsi v8267 c3_i32_2030
  let c3_i32_2031 : BitVec 32 := 3#32
  let v8271 : BitVec 32 := Scalar.shli v8270 c3_i32_2031
  let v8272 : BitVec 32 := v8271
  let v9475 : Index := Scalar.indexCast v8272
  let c0_2287 : Index := 0#32
  ![v9474.toNat, v9475.toNat, 0]
def k0_off868 (k0_t1 : Fin k0_t1_loop.trips) : Fin 3 → Nat :=
  let c41_2289 : Index := 41#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c5_i32 : BitVec 32 := 5#32
  let v8086 : BitVec 32 := Scalar.addi v5 c5_i32
  let v9494 : Index := Scalar.indexCast v8086
  let c0_2290 : Index := 0#32
  ![41, v9494.toNat, 0]
def k0_off869 (v8094 : BitVec 32) (v8099 : BitVec 32) (v8179 : BitVec 32) (v8188 : BitVec 32) : Fin 3 → Nat :=
  let c199_i32_1945 : BitVec 32 := 199#32
  let c0_i32_1944 : BitVec 32 := 0#32
  let v8100 : BitVec 32 := Scalar.maxsi c0_i32_1944 v8099
  let v8101 : BitVec 32 := Scalar.minsi c199_i32_1945 v8100
  let v8180 : BitVec 32 := Scalar.addi v8101 v8179
  let v9500 : Index := Scalar.indexCast v8180
  let c199_i32_1942 : BitVec 32 := 199#32
  let c0_i32_1941 : BitVec 32 := 0#32
  let v8095 : BitVec 32 := Scalar.maxsi c0_i32_1941 v8094
  let v8096 : BitVec 32 := Scalar.minsi c199_i32_1942 v8095
  let v8189 : BitVec 32 := Scalar.addi v8096 v8188
  let c3_i32_1988 : BitVec 32 := 3#32
  let v8192 : BitVec 32 := Scalar.shrsi v8189 c3_i32_1988
  let c3_i32_1989 : BitVec 32 := 3#32
  let v8193 : BitVec 32 := Scalar.shli v8192 c3_i32_1989
  let v8194 : BitVec 32 := v8193
  let v9501 : Index := Scalar.indexCast v8194
  let c0_2293 : Index := 0#32
  ![v9500.toNat, v9501.toNat, 0]
def k0_off870 (v8094 : BitVec 32) (v8099 : BitVec 32) (v8109 : BitVec 32) (v8179 : BitVec 32) (v8188 : BitVec 32) : Fin 3 → Nat :=
  let c199_i32_1945 : BitVec 32 := 199#32
  let c0_i32_1944 : BitVec 32 := 0#32
  let v8100 : BitVec 32 := Scalar.maxsi c0_i32_1944 v8099
  let v8101 : BitVec 32 := Scalar.minsi c199_i32_1945 v8100
  let v8180 : BitVec 32 := Scalar.addi v8101 v8179
  let c1_i32_1983 : BitVec 32 := 1#32
  let v8181 : BitVec 32 := Scalar.addi v8180 c1_i32_1983
  let c199_i32_1951 : BitVec 32 := 199#32
  let c0_i32_1950 : BitVec 32 := 0#32
  let v8110 : BitVec 32 := Scalar.maxsi c0_i32_1950 v8109
  let v8111 : BitVec 32 := Scalar.minsi c199_i32_1951 v8110
  let v8182 : BitVec 32 := Scalar.minsi v8181 v8111
  let v9504 : Index := Scalar.indexCast v8182
  let c199_i32_1942 : BitVec 32 := 199#32
  let c0_i32_1941 : BitVec 32 := 0#32
  let v8095 : BitVec 32 := Scalar.maxsi c0_i32_1941 v8094
  let v8096 : BitVec 32 := Scalar.minsi c199_i32_1942 v8095
  let v8189 : BitVec 32 := Scalar.addi v8096 v8188
  let c3_i32_1988 : BitVec 32 := 3#32
  let v8192 : BitVec 32 := Scalar.shrsi v8189 c3_i32_1988
  let c3_i32_1989 : BitVec 32 := 3#32
  let v8193 : BitVec 32 := Scalar.shli v8192 c3_i32_1989
  let v8194 : BitVec 32 := v8193
  let v9505 : Index := Scalar.indexCast v8194
  let c0_2294 : Index := 0#32
  ![v9504.toNat, v9505.toNat, 0]

def k0_chk36 (v8094 : BitVec 32) (v8099 : BitVec 32) (v8109 : BitVec 32) (v8125 : BitVec 32) (v8134 : BitVec 32) (v8143 : BitVec 32) (v8152 : BitVec 32) (v8161 : BitVec 32) (v8170 : BitVec 32) (v8179 : BitVec 32) (v8188 : BitVec 32) : Prop :=
  (8 ∣ (k0_mult37 v8094 v8188).toNat) ∧
  (∀ a, (k0_off743 v8094 v8099 v8125 v8188) a + S1x16x256.size a ≤ S200x216x256.size a) ∧
  (∀ a, (k0_off744 v8094 v8099 v8109 v8125 v8188) a + S1x16x256.size a ≤ S200x216x256.size a) ∧
  (∀ a, (k0_off764 v8094 v8099 v8134 v8188) a + S1x16x256.size a ≤ S200x216x256.size a) ∧
  (∀ a, (k0_off765 v8094 v8099 v8109 v8134 v8188) a + S1x16x256.size a ≤ S200x216x256.size a) ∧
  (∀ a, (k0_off785 v8094 v8099 v8143 v8188) a + S1x16x256.size a ≤ S200x216x256.size a) ∧
  (∀ a, (k0_off786 v8094 v8099 v8109 v8143 v8188) a + S1x16x256.size a ≤ S200x216x256.size a) ∧
  (∀ a, (k0_off806 v8094 v8099 v8152 v8188) a + S1x16x256.size a ≤ S200x216x256.size a) ∧
  (∀ a, (k0_off807 v8094 v8099 v8109 v8152 v8188) a + S1x16x256.size a ≤ S200x216x256.size a) ∧
  (∀ a, (k0_off827 v8094 v8099 v8161 v8188) a + S1x16x256.size a ≤ S200x216x256.size a) ∧
  (∀ a, (k0_off828 v8094 v8099 v8109 v8161 v8188) a + S1x16x256.size a ≤ S200x216x256.size a) ∧
  (∀ a, (k0_off848 v8094 v8099 v8170 v8188) a + S1x16x256.size a ≤ S200x216x256.size a) ∧
  (∀ a, (k0_off849 v8094 v8099 v8109 v8170 v8188) a + S1x16x256.size a ≤ S200x216x256.size a) ∧
  (∀ a, (k0_off869 v8094 v8099 v8179 v8188) a + S1x16x256.size a ≤ S200x216x256.size a) ∧
  (∀ a, (k0_off870 v8094 v8099 v8109 v8179 v8188) a + S1x16x256.size a ≤ S200x216x256.size a)
theorem k0_mult37_dvd : ∀ (v8094 : BitVec 32) (v8099 : BitVec 32) (v8109 : BitVec 32) (v8125 : BitVec 32) (v8134 : BitVec 32) (v8143 : BitVec 32) (v8152 : BitVec 32) (v8161 : BitVec 32) (v8170 : BitVec 32) (v8179 : BitVec 32) (v8188 : BitVec 32) (k0_hw36 : k0_chk36 v8094 v8099 v8109 v8125 v8134 v8143 v8152 v8161 v8170 v8179 v8188), 8 ∣ (k0_mult37 v8094 v8188).toNat := fun v8094 v8099 v8109 v8125 v8134 v8143 v8152 v8161 v8170 v8179 v8188 k0_hw36 => k0_hw36.1
theorem k0_off743_inb : ∀ (v8094 : BitVec 32) (v8099 : BitVec 32) (v8109 : BitVec 32) (v8125 : BitVec 32) (v8134 : BitVec 32) (v8143 : BitVec 32) (v8152 : BitVec 32) (v8161 : BitVec 32) (v8170 : BitVec 32) (v8179 : BitVec 32) (v8188 : BitVec 32) (k0_hw36 : k0_chk36 v8094 v8099 v8109 v8125 v8134 v8143 v8152 v8161 v8170 v8179 v8188), ∀ a, (k0_off743 v8094 v8099 v8125 v8188) a + S1x16x256.size a ≤ S200x216x256.size a := fun v8094 v8099 v8109 v8125 v8134 v8143 v8152 v8161 v8170 v8179 v8188 k0_hw36 => k0_hw36.2.1
theorem k0_off744_inb : ∀ (v8094 : BitVec 32) (v8099 : BitVec 32) (v8109 : BitVec 32) (v8125 : BitVec 32) (v8134 : BitVec 32) (v8143 : BitVec 32) (v8152 : BitVec 32) (v8161 : BitVec 32) (v8170 : BitVec 32) (v8179 : BitVec 32) (v8188 : BitVec 32) (k0_hw36 : k0_chk36 v8094 v8099 v8109 v8125 v8134 v8143 v8152 v8161 v8170 v8179 v8188), ∀ a, (k0_off744 v8094 v8099 v8109 v8125 v8188) a + S1x16x256.size a ≤ S200x216x256.size a := fun v8094 v8099 v8109 v8125 v8134 v8143 v8152 v8161 v8170 v8179 v8188 k0_hw36 => k0_hw36.2.2.1
theorem k0_off764_inb : ∀ (v8094 : BitVec 32) (v8099 : BitVec 32) (v8109 : BitVec 32) (v8125 : BitVec 32) (v8134 : BitVec 32) (v8143 : BitVec 32) (v8152 : BitVec 32) (v8161 : BitVec 32) (v8170 : BitVec 32) (v8179 : BitVec 32) (v8188 : BitVec 32) (k0_hw36 : k0_chk36 v8094 v8099 v8109 v8125 v8134 v8143 v8152 v8161 v8170 v8179 v8188), ∀ a, (k0_off764 v8094 v8099 v8134 v8188) a + S1x16x256.size a ≤ S200x216x256.size a := fun v8094 v8099 v8109 v8125 v8134 v8143 v8152 v8161 v8170 v8179 v8188 k0_hw36 => k0_hw36.2.2.2.1
theorem k0_off765_inb : ∀ (v8094 : BitVec 32) (v8099 : BitVec 32) (v8109 : BitVec 32) (v8125 : BitVec 32) (v8134 : BitVec 32) (v8143 : BitVec 32) (v8152 : BitVec 32) (v8161 : BitVec 32) (v8170 : BitVec 32) (v8179 : BitVec 32) (v8188 : BitVec 32) (k0_hw36 : k0_chk36 v8094 v8099 v8109 v8125 v8134 v8143 v8152 v8161 v8170 v8179 v8188), ∀ a, (k0_off765 v8094 v8099 v8109 v8134 v8188) a + S1x16x256.size a ≤ S200x216x256.size a := fun v8094 v8099 v8109 v8125 v8134 v8143 v8152 v8161 v8170 v8179 v8188 k0_hw36 => k0_hw36.2.2.2.2.1
theorem k0_off785_inb : ∀ (v8094 : BitVec 32) (v8099 : BitVec 32) (v8109 : BitVec 32) (v8125 : BitVec 32) (v8134 : BitVec 32) (v8143 : BitVec 32) (v8152 : BitVec 32) (v8161 : BitVec 32) (v8170 : BitVec 32) (v8179 : BitVec 32) (v8188 : BitVec 32) (k0_hw36 : k0_chk36 v8094 v8099 v8109 v8125 v8134 v8143 v8152 v8161 v8170 v8179 v8188), ∀ a, (k0_off785 v8094 v8099 v8143 v8188) a + S1x16x256.size a ≤ S200x216x256.size a := fun v8094 v8099 v8109 v8125 v8134 v8143 v8152 v8161 v8170 v8179 v8188 k0_hw36 => k0_hw36.2.2.2.2.2.1
theorem k0_off786_inb : ∀ (v8094 : BitVec 32) (v8099 : BitVec 32) (v8109 : BitVec 32) (v8125 : BitVec 32) (v8134 : BitVec 32) (v8143 : BitVec 32) (v8152 : BitVec 32) (v8161 : BitVec 32) (v8170 : BitVec 32) (v8179 : BitVec 32) (v8188 : BitVec 32) (k0_hw36 : k0_chk36 v8094 v8099 v8109 v8125 v8134 v8143 v8152 v8161 v8170 v8179 v8188), ∀ a, (k0_off786 v8094 v8099 v8109 v8143 v8188) a + S1x16x256.size a ≤ S200x216x256.size a := fun v8094 v8099 v8109 v8125 v8134 v8143 v8152 v8161 v8170 v8179 v8188 k0_hw36 => k0_hw36.2.2.2.2.2.2.1
theorem k0_off806_inb : ∀ (v8094 : BitVec 32) (v8099 : BitVec 32) (v8109 : BitVec 32) (v8125 : BitVec 32) (v8134 : BitVec 32) (v8143 : BitVec 32) (v8152 : BitVec 32) (v8161 : BitVec 32) (v8170 : BitVec 32) (v8179 : BitVec 32) (v8188 : BitVec 32) (k0_hw36 : k0_chk36 v8094 v8099 v8109 v8125 v8134 v8143 v8152 v8161 v8170 v8179 v8188), ∀ a, (k0_off806 v8094 v8099 v8152 v8188) a + S1x16x256.size a ≤ S200x216x256.size a := fun v8094 v8099 v8109 v8125 v8134 v8143 v8152 v8161 v8170 v8179 v8188 k0_hw36 => k0_hw36.2.2.2.2.2.2.2.1
theorem k0_off807_inb : ∀ (v8094 : BitVec 32) (v8099 : BitVec 32) (v8109 : BitVec 32) (v8125 : BitVec 32) (v8134 : BitVec 32) (v8143 : BitVec 32) (v8152 : BitVec 32) (v8161 : BitVec 32) (v8170 : BitVec 32) (v8179 : BitVec 32) (v8188 : BitVec 32) (k0_hw36 : k0_chk36 v8094 v8099 v8109 v8125 v8134 v8143 v8152 v8161 v8170 v8179 v8188), ∀ a, (k0_off807 v8094 v8099 v8109 v8152 v8188) a + S1x16x256.size a ≤ S200x216x256.size a := fun v8094 v8099 v8109 v8125 v8134 v8143 v8152 v8161 v8170 v8179 v8188 k0_hw36 => k0_hw36.2.2.2.2.2.2.2.2.1
theorem k0_off827_inb : ∀ (v8094 : BitVec 32) (v8099 : BitVec 32) (v8109 : BitVec 32) (v8125 : BitVec 32) (v8134 : BitVec 32) (v8143 : BitVec 32) (v8152 : BitVec 32) (v8161 : BitVec 32) (v8170 : BitVec 32) (v8179 : BitVec 32) (v8188 : BitVec 32) (k0_hw36 : k0_chk36 v8094 v8099 v8109 v8125 v8134 v8143 v8152 v8161 v8170 v8179 v8188), ∀ a, (k0_off827 v8094 v8099 v8161 v8188) a + S1x16x256.size a ≤ S200x216x256.size a := fun v8094 v8099 v8109 v8125 v8134 v8143 v8152 v8161 v8170 v8179 v8188 k0_hw36 => k0_hw36.2.2.2.2.2.2.2.2.2.1
theorem k0_off828_inb : ∀ (v8094 : BitVec 32) (v8099 : BitVec 32) (v8109 : BitVec 32) (v8125 : BitVec 32) (v8134 : BitVec 32) (v8143 : BitVec 32) (v8152 : BitVec 32) (v8161 : BitVec 32) (v8170 : BitVec 32) (v8179 : BitVec 32) (v8188 : BitVec 32) (k0_hw36 : k0_chk36 v8094 v8099 v8109 v8125 v8134 v8143 v8152 v8161 v8170 v8179 v8188), ∀ a, (k0_off828 v8094 v8099 v8109 v8161 v8188) a + S1x16x256.size a ≤ S200x216x256.size a := fun v8094 v8099 v8109 v8125 v8134 v8143 v8152 v8161 v8170 v8179 v8188 k0_hw36 => k0_hw36.2.2.2.2.2.2.2.2.2.2.1
theorem k0_off848_inb : ∀ (v8094 : BitVec 32) (v8099 : BitVec 32) (v8109 : BitVec 32) (v8125 : BitVec 32) (v8134 : BitVec 32) (v8143 : BitVec 32) (v8152 : BitVec 32) (v8161 : BitVec 32) (v8170 : BitVec 32) (v8179 : BitVec 32) (v8188 : BitVec 32) (k0_hw36 : k0_chk36 v8094 v8099 v8109 v8125 v8134 v8143 v8152 v8161 v8170 v8179 v8188), ∀ a, (k0_off848 v8094 v8099 v8170 v8188) a + S1x16x256.size a ≤ S200x216x256.size a := fun v8094 v8099 v8109 v8125 v8134 v8143 v8152 v8161 v8170 v8179 v8188 k0_hw36 => k0_hw36.2.2.2.2.2.2.2.2.2.2.2.1
theorem k0_off849_inb : ∀ (v8094 : BitVec 32) (v8099 : BitVec 32) (v8109 : BitVec 32) (v8125 : BitVec 32) (v8134 : BitVec 32) (v8143 : BitVec 32) (v8152 : BitVec 32) (v8161 : BitVec 32) (v8170 : BitVec 32) (v8179 : BitVec 32) (v8188 : BitVec 32) (k0_hw36 : k0_chk36 v8094 v8099 v8109 v8125 v8134 v8143 v8152 v8161 v8170 v8179 v8188), ∀ a, (k0_off849 v8094 v8099 v8109 v8170 v8188) a + S1x16x256.size a ≤ S200x216x256.size a := fun v8094 v8099 v8109 v8125 v8134 v8143 v8152 v8161 v8170 v8179 v8188 k0_hw36 => k0_hw36.2.2.2.2.2.2.2.2.2.2.2.2.1
theorem k0_off869_inb : ∀ (v8094 : BitVec 32) (v8099 : BitVec 32) (v8109 : BitVec 32) (v8125 : BitVec 32) (v8134 : BitVec 32) (v8143 : BitVec 32) (v8152 : BitVec 32) (v8161 : BitVec 32) (v8170 : BitVec 32) (v8179 : BitVec 32) (v8188 : BitVec 32) (k0_hw36 : k0_chk36 v8094 v8099 v8109 v8125 v8134 v8143 v8152 v8161 v8170 v8179 v8188), ∀ a, (k0_off869 v8094 v8099 v8179 v8188) a + S1x16x256.size a ≤ S200x216x256.size a := fun v8094 v8099 v8109 v8125 v8134 v8143 v8152 v8161 v8170 v8179 v8188 k0_hw36 => k0_hw36.2.2.2.2.2.2.2.2.2.2.2.2.2.1
theorem k0_off870_inb : ∀ (v8094 : BitVec 32) (v8099 : BitVec 32) (v8109 : BitVec 32) (v8125 : BitVec 32) (v8134 : BitVec 32) (v8143 : BitVec 32) (v8152 : BitVec 32) (v8161 : BitVec 32) (v8170 : BitVec 32) (v8179 : BitVec 32) (v8188 : BitVec 32) (k0_hw36 : k0_chk36 v8094 v8099 v8109 v8125 v8134 v8143 v8152 v8161 v8170 v8179 v8188), ∀ a, (k0_off870 v8094 v8099 v8109 v8179 v8188) a + S1x16x256.size a ≤ S200x216x256.size a := fun v8094 v8099 v8109 v8125 v8134 v8143 v8152 v8161 v8170 v8179 v8188 k0_hw36 => k0_hw36.2.2.2.2.2.2.2.2.2.2.2.2.2.2

def k0_off871 (k0_t1 : Fin k0_t1_loop.trips) : Fin 3 → Nat :=
  let c42_2296 : Index := 42#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c5_i32 : BitVec 32 := 5#32
  let v8086 : BitVec 32 := Scalar.addi v5 c5_i32
  let v9524 : Index := Scalar.indexCast v8086
  let c0_2297 : Index := 0#32
  ![42, v9524.toNat, 0]
def k0_off872 (v8094 : BitVec 32) (v8099 : BitVec 32) (v8179 : BitVec 32) (v8201 : BitVec 32) : Fin 3 → Nat :=
  let c199_i32_1945 : BitVec 32 := 199#32
  let c0_i32_1944 : BitVec 32 := 0#32
  let v8100 : BitVec 32 := Scalar.maxsi c0_i32_1944 v8099
  let v8101 : BitVec 32 := Scalar.minsi c199_i32_1945 v8100
  let v8180 : BitVec 32 := Scalar.addi v8101 v8179
  let v9529 : Index := Scalar.indexCast v8180
  let c199_i32_1942 : BitVec 32 := 199#32
  let c0_i32_1941 : BitVec 32 := 0#32
  let v8095 : BitVec 32 := Scalar.maxsi c0_i32_1941 v8094
  let v8096 : BitVec 32 := Scalar.minsi c199_i32_1942 v8095
  let v8202 : BitVec 32 := Scalar.addi v8096 v8201
  let c3_i32_1995 : BitVec 32 := 3#32
  let v8205 : BitVec 32 := Scalar.shrsi v8202 c3_i32_1995
  let c3_i32_1996 : BitVec 32 := 3#32
  let v8206 : BitVec 32 := Scalar.shli v8205 c3_i32_1996
  let v8207 : BitVec 32 := v8206
  let v9530 : Index := Scalar.indexCast v8207
  let c0_2299 : Index := 0#32
  ![v9529.toNat, v9530.toNat, 0]
def k0_off873 (v8094 : BitVec 32) (v8099 : BitVec 32) (v8109 : BitVec 32) (v8179 : BitVec 32) (v8201 : BitVec 32) : Fin 3 → Nat :=
  let c199_i32_1945 : BitVec 32 := 199#32
  let c0_i32_1944 : BitVec 32 := 0#32
  let v8100 : BitVec 32 := Scalar.maxsi c0_i32_1944 v8099
  let v8101 : BitVec 32 := Scalar.minsi c199_i32_1945 v8100
  let v8180 : BitVec 32 := Scalar.addi v8101 v8179
  let c1_i32_1983 : BitVec 32 := 1#32
  let v8181 : BitVec 32 := Scalar.addi v8180 c1_i32_1983
  let c199_i32_1951 : BitVec 32 := 199#32
  let c0_i32_1950 : BitVec 32 := 0#32
  let v8110 : BitVec 32 := Scalar.maxsi c0_i32_1950 v8109
  let v8111 : BitVec 32 := Scalar.minsi c199_i32_1951 v8110
  let v8182 : BitVec 32 := Scalar.minsi v8181 v8111
  let v9533 : Index := Scalar.indexCast v8182
  let c199_i32_1942 : BitVec 32 := 199#32
  let c0_i32_1941 : BitVec 32 := 0#32
  let v8095 : BitVec 32 := Scalar.maxsi c0_i32_1941 v8094
  let v8096 : BitVec 32 := Scalar.minsi c199_i32_1942 v8095
  let v8202 : BitVec 32 := Scalar.addi v8096 v8201
  let c3_i32_1995 : BitVec 32 := 3#32
  let v8205 : BitVec 32 := Scalar.shrsi v8202 c3_i32_1995
  let c3_i32_1996 : BitVec 32 := 3#32
  let v8206 : BitVec 32 := Scalar.shli v8205 c3_i32_1996
  let v8207 : BitVec 32 := v8206
  let v9534 : Index := Scalar.indexCast v8207
  let c0_2300 : Index := 0#32
  ![v9533.toNat, v9534.toNat, 0]

def k0_chk37 (v8094 : BitVec 32) (v8099 : BitVec 32) (v8109 : BitVec 32) (v8125 : BitVec 32) (v8134 : BitVec 32) (v8143 : BitVec 32) (v8152 : BitVec 32) (v8161 : BitVec 32) (v8170 : BitVec 32) (v8179 : BitVec 32) (v8201 : BitVec 32) : Prop :=
  (8 ∣ (k0_mult38 v8094 v8201).toNat) ∧
  (∀ a, (k0_off746 v8094 v8099 v8125 v8201) a + S1x16x256.size a ≤ S200x216x256.size a) ∧
  (∀ a, (k0_off747 v8094 v8099 v8109 v8125 v8201) a + S1x16x256.size a ≤ S200x216x256.size a) ∧
  (∀ a, (k0_off767 v8094 v8099 v8134 v8201) a + S1x16x256.size a ≤ S200x216x256.size a) ∧
  (∀ a, (k0_off768 v8094 v8099 v8109 v8134 v8201) a + S1x16x256.size a ≤ S200x216x256.size a) ∧
  (∀ a, (k0_off788 v8094 v8099 v8143 v8201) a + S1x16x256.size a ≤ S200x216x256.size a) ∧
  (∀ a, (k0_off789 v8094 v8099 v8109 v8143 v8201) a + S1x16x256.size a ≤ S200x216x256.size a) ∧
  (∀ a, (k0_off809 v8094 v8099 v8152 v8201) a + S1x16x256.size a ≤ S200x216x256.size a) ∧
  (∀ a, (k0_off810 v8094 v8099 v8109 v8152 v8201) a + S1x16x256.size a ≤ S200x216x256.size a) ∧
  (∀ a, (k0_off830 v8094 v8099 v8161 v8201) a + S1x16x256.size a ≤ S200x216x256.size a) ∧
  (∀ a, (k0_off831 v8094 v8099 v8109 v8161 v8201) a + S1x16x256.size a ≤ S200x216x256.size a) ∧
  (∀ a, (k0_off851 v8094 v8099 v8170 v8201) a + S1x16x256.size a ≤ S200x216x256.size a) ∧
  (∀ a, (k0_off852 v8094 v8099 v8109 v8170 v8201) a + S1x16x256.size a ≤ S200x216x256.size a) ∧
  (∀ a, (k0_off872 v8094 v8099 v8179 v8201) a + S1x16x256.size a ≤ S200x216x256.size a) ∧
  (∀ a, (k0_off873 v8094 v8099 v8109 v8179 v8201) a + S1x16x256.size a ≤ S200x216x256.size a)
theorem k0_mult38_dvd : ∀ (v8094 : BitVec 32) (v8099 : BitVec 32) (v8109 : BitVec 32) (v8125 : BitVec 32) (v8134 : BitVec 32) (v8143 : BitVec 32) (v8152 : BitVec 32) (v8161 : BitVec 32) (v8170 : BitVec 32) (v8179 : BitVec 32) (v8201 : BitVec 32) (k0_hw37 : k0_chk37 v8094 v8099 v8109 v8125 v8134 v8143 v8152 v8161 v8170 v8179 v8201), 8 ∣ (k0_mult38 v8094 v8201).toNat := fun v8094 v8099 v8109 v8125 v8134 v8143 v8152 v8161 v8170 v8179 v8201 k0_hw37 => k0_hw37.1
theorem k0_off746_inb : ∀ (v8094 : BitVec 32) (v8099 : BitVec 32) (v8109 : BitVec 32) (v8125 : BitVec 32) (v8134 : BitVec 32) (v8143 : BitVec 32) (v8152 : BitVec 32) (v8161 : BitVec 32) (v8170 : BitVec 32) (v8179 : BitVec 32) (v8201 : BitVec 32) (k0_hw37 : k0_chk37 v8094 v8099 v8109 v8125 v8134 v8143 v8152 v8161 v8170 v8179 v8201), ∀ a, (k0_off746 v8094 v8099 v8125 v8201) a + S1x16x256.size a ≤ S200x216x256.size a := fun v8094 v8099 v8109 v8125 v8134 v8143 v8152 v8161 v8170 v8179 v8201 k0_hw37 => k0_hw37.2.1
theorem k0_off747_inb : ∀ (v8094 : BitVec 32) (v8099 : BitVec 32) (v8109 : BitVec 32) (v8125 : BitVec 32) (v8134 : BitVec 32) (v8143 : BitVec 32) (v8152 : BitVec 32) (v8161 : BitVec 32) (v8170 : BitVec 32) (v8179 : BitVec 32) (v8201 : BitVec 32) (k0_hw37 : k0_chk37 v8094 v8099 v8109 v8125 v8134 v8143 v8152 v8161 v8170 v8179 v8201), ∀ a, (k0_off747 v8094 v8099 v8109 v8125 v8201) a + S1x16x256.size a ≤ S200x216x256.size a := fun v8094 v8099 v8109 v8125 v8134 v8143 v8152 v8161 v8170 v8179 v8201 k0_hw37 => k0_hw37.2.2.1
theorem k0_off767_inb : ∀ (v8094 : BitVec 32) (v8099 : BitVec 32) (v8109 : BitVec 32) (v8125 : BitVec 32) (v8134 : BitVec 32) (v8143 : BitVec 32) (v8152 : BitVec 32) (v8161 : BitVec 32) (v8170 : BitVec 32) (v8179 : BitVec 32) (v8201 : BitVec 32) (k0_hw37 : k0_chk37 v8094 v8099 v8109 v8125 v8134 v8143 v8152 v8161 v8170 v8179 v8201), ∀ a, (k0_off767 v8094 v8099 v8134 v8201) a + S1x16x256.size a ≤ S200x216x256.size a := fun v8094 v8099 v8109 v8125 v8134 v8143 v8152 v8161 v8170 v8179 v8201 k0_hw37 => k0_hw37.2.2.2.1
theorem k0_off768_inb : ∀ (v8094 : BitVec 32) (v8099 : BitVec 32) (v8109 : BitVec 32) (v8125 : BitVec 32) (v8134 : BitVec 32) (v8143 : BitVec 32) (v8152 : BitVec 32) (v8161 : BitVec 32) (v8170 : BitVec 32) (v8179 : BitVec 32) (v8201 : BitVec 32) (k0_hw37 : k0_chk37 v8094 v8099 v8109 v8125 v8134 v8143 v8152 v8161 v8170 v8179 v8201), ∀ a, (k0_off768 v8094 v8099 v8109 v8134 v8201) a + S1x16x256.size a ≤ S200x216x256.size a := fun v8094 v8099 v8109 v8125 v8134 v8143 v8152 v8161 v8170 v8179 v8201 k0_hw37 => k0_hw37.2.2.2.2.1
theorem k0_off788_inb : ∀ (v8094 : BitVec 32) (v8099 : BitVec 32) (v8109 : BitVec 32) (v8125 : BitVec 32) (v8134 : BitVec 32) (v8143 : BitVec 32) (v8152 : BitVec 32) (v8161 : BitVec 32) (v8170 : BitVec 32) (v8179 : BitVec 32) (v8201 : BitVec 32) (k0_hw37 : k0_chk37 v8094 v8099 v8109 v8125 v8134 v8143 v8152 v8161 v8170 v8179 v8201), ∀ a, (k0_off788 v8094 v8099 v8143 v8201) a + S1x16x256.size a ≤ S200x216x256.size a := fun v8094 v8099 v8109 v8125 v8134 v8143 v8152 v8161 v8170 v8179 v8201 k0_hw37 => k0_hw37.2.2.2.2.2.1
theorem k0_off789_inb : ∀ (v8094 : BitVec 32) (v8099 : BitVec 32) (v8109 : BitVec 32) (v8125 : BitVec 32) (v8134 : BitVec 32) (v8143 : BitVec 32) (v8152 : BitVec 32) (v8161 : BitVec 32) (v8170 : BitVec 32) (v8179 : BitVec 32) (v8201 : BitVec 32) (k0_hw37 : k0_chk37 v8094 v8099 v8109 v8125 v8134 v8143 v8152 v8161 v8170 v8179 v8201), ∀ a, (k0_off789 v8094 v8099 v8109 v8143 v8201) a + S1x16x256.size a ≤ S200x216x256.size a := fun v8094 v8099 v8109 v8125 v8134 v8143 v8152 v8161 v8170 v8179 v8201 k0_hw37 => k0_hw37.2.2.2.2.2.2.1
theorem k0_off809_inb : ∀ (v8094 : BitVec 32) (v8099 : BitVec 32) (v8109 : BitVec 32) (v8125 : BitVec 32) (v8134 : BitVec 32) (v8143 : BitVec 32) (v8152 : BitVec 32) (v8161 : BitVec 32) (v8170 : BitVec 32) (v8179 : BitVec 32) (v8201 : BitVec 32) (k0_hw37 : k0_chk37 v8094 v8099 v8109 v8125 v8134 v8143 v8152 v8161 v8170 v8179 v8201), ∀ a, (k0_off809 v8094 v8099 v8152 v8201) a + S1x16x256.size a ≤ S200x216x256.size a := fun v8094 v8099 v8109 v8125 v8134 v8143 v8152 v8161 v8170 v8179 v8201 k0_hw37 => k0_hw37.2.2.2.2.2.2.2.1
theorem k0_off810_inb : ∀ (v8094 : BitVec 32) (v8099 : BitVec 32) (v8109 : BitVec 32) (v8125 : BitVec 32) (v8134 : BitVec 32) (v8143 : BitVec 32) (v8152 : BitVec 32) (v8161 : BitVec 32) (v8170 : BitVec 32) (v8179 : BitVec 32) (v8201 : BitVec 32) (k0_hw37 : k0_chk37 v8094 v8099 v8109 v8125 v8134 v8143 v8152 v8161 v8170 v8179 v8201), ∀ a, (k0_off810 v8094 v8099 v8109 v8152 v8201) a + S1x16x256.size a ≤ S200x216x256.size a := fun v8094 v8099 v8109 v8125 v8134 v8143 v8152 v8161 v8170 v8179 v8201 k0_hw37 => k0_hw37.2.2.2.2.2.2.2.2.1
theorem k0_off830_inb : ∀ (v8094 : BitVec 32) (v8099 : BitVec 32) (v8109 : BitVec 32) (v8125 : BitVec 32) (v8134 : BitVec 32) (v8143 : BitVec 32) (v8152 : BitVec 32) (v8161 : BitVec 32) (v8170 : BitVec 32) (v8179 : BitVec 32) (v8201 : BitVec 32) (k0_hw37 : k0_chk37 v8094 v8099 v8109 v8125 v8134 v8143 v8152 v8161 v8170 v8179 v8201), ∀ a, (k0_off830 v8094 v8099 v8161 v8201) a + S1x16x256.size a ≤ S200x216x256.size a := fun v8094 v8099 v8109 v8125 v8134 v8143 v8152 v8161 v8170 v8179 v8201 k0_hw37 => k0_hw37.2.2.2.2.2.2.2.2.2.1
theorem k0_off831_inb : ∀ (v8094 : BitVec 32) (v8099 : BitVec 32) (v8109 : BitVec 32) (v8125 : BitVec 32) (v8134 : BitVec 32) (v8143 : BitVec 32) (v8152 : BitVec 32) (v8161 : BitVec 32) (v8170 : BitVec 32) (v8179 : BitVec 32) (v8201 : BitVec 32) (k0_hw37 : k0_chk37 v8094 v8099 v8109 v8125 v8134 v8143 v8152 v8161 v8170 v8179 v8201), ∀ a, (k0_off831 v8094 v8099 v8109 v8161 v8201) a + S1x16x256.size a ≤ S200x216x256.size a := fun v8094 v8099 v8109 v8125 v8134 v8143 v8152 v8161 v8170 v8179 v8201 k0_hw37 => k0_hw37.2.2.2.2.2.2.2.2.2.2.1
theorem k0_off851_inb : ∀ (v8094 : BitVec 32) (v8099 : BitVec 32) (v8109 : BitVec 32) (v8125 : BitVec 32) (v8134 : BitVec 32) (v8143 : BitVec 32) (v8152 : BitVec 32) (v8161 : BitVec 32) (v8170 : BitVec 32) (v8179 : BitVec 32) (v8201 : BitVec 32) (k0_hw37 : k0_chk37 v8094 v8099 v8109 v8125 v8134 v8143 v8152 v8161 v8170 v8179 v8201), ∀ a, (k0_off851 v8094 v8099 v8170 v8201) a + S1x16x256.size a ≤ S200x216x256.size a := fun v8094 v8099 v8109 v8125 v8134 v8143 v8152 v8161 v8170 v8179 v8201 k0_hw37 => k0_hw37.2.2.2.2.2.2.2.2.2.2.2.1
theorem k0_off852_inb : ∀ (v8094 : BitVec 32) (v8099 : BitVec 32) (v8109 : BitVec 32) (v8125 : BitVec 32) (v8134 : BitVec 32) (v8143 : BitVec 32) (v8152 : BitVec 32) (v8161 : BitVec 32) (v8170 : BitVec 32) (v8179 : BitVec 32) (v8201 : BitVec 32) (k0_hw37 : k0_chk37 v8094 v8099 v8109 v8125 v8134 v8143 v8152 v8161 v8170 v8179 v8201), ∀ a, (k0_off852 v8094 v8099 v8109 v8170 v8201) a + S1x16x256.size a ≤ S200x216x256.size a := fun v8094 v8099 v8109 v8125 v8134 v8143 v8152 v8161 v8170 v8179 v8201 k0_hw37 => k0_hw37.2.2.2.2.2.2.2.2.2.2.2.2.1
theorem k0_off872_inb : ∀ (v8094 : BitVec 32) (v8099 : BitVec 32) (v8109 : BitVec 32) (v8125 : BitVec 32) (v8134 : BitVec 32) (v8143 : BitVec 32) (v8152 : BitVec 32) (v8161 : BitVec 32) (v8170 : BitVec 32) (v8179 : BitVec 32) (v8201 : BitVec 32) (k0_hw37 : k0_chk37 v8094 v8099 v8109 v8125 v8134 v8143 v8152 v8161 v8170 v8179 v8201), ∀ a, (k0_off872 v8094 v8099 v8179 v8201) a + S1x16x256.size a ≤ S200x216x256.size a := fun v8094 v8099 v8109 v8125 v8134 v8143 v8152 v8161 v8170 v8179 v8201 k0_hw37 => k0_hw37.2.2.2.2.2.2.2.2.2.2.2.2.2.1
theorem k0_off873_inb : ∀ (v8094 : BitVec 32) (v8099 : BitVec 32) (v8109 : BitVec 32) (v8125 : BitVec 32) (v8134 : BitVec 32) (v8143 : BitVec 32) (v8152 : BitVec 32) (v8161 : BitVec 32) (v8170 : BitVec 32) (v8179 : BitVec 32) (v8201 : BitVec 32) (k0_hw37 : k0_chk37 v8094 v8099 v8109 v8125 v8134 v8143 v8152 v8161 v8170 v8179 v8201), ∀ a, (k0_off873 v8094 v8099 v8109 v8179 v8201) a + S1x16x256.size a ≤ S200x216x256.size a := fun v8094 v8099 v8109 v8125 v8134 v8143 v8152 v8161 v8170 v8179 v8201 k0_hw37 => k0_hw37.2.2.2.2.2.2.2.2.2.2.2.2.2.2

def k0_off874 (k0_t1 : Fin k0_t1_loop.trips) : Fin 3 → Nat :=
  let c43_2302 : Index := 43#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c5_i32 : BitVec 32 := 5#32
  let v8086 : BitVec 32 := Scalar.addi v5 c5_i32
  let v9553 : Index := Scalar.indexCast v8086
  let c0_2303 : Index := 0#32
  ![43, v9553.toNat, 0]
def k0_off875 (v8094 : BitVec 32) (v8099 : BitVec 32) (v8179 : BitVec 32) (v8214 : BitVec 32) : Fin 3 → Nat :=
  let c199_i32_1945 : BitVec 32 := 199#32
  let c0_i32_1944 : BitVec 32 := 0#32
  let v8100 : BitVec 32 := Scalar.maxsi c0_i32_1944 v8099
  let v8101 : BitVec 32 := Scalar.minsi c199_i32_1945 v8100
  let v8180 : BitVec 32 := Scalar.addi v8101 v8179
  let v9558 : Index := Scalar.indexCast v8180
  let c199_i32_1942 : BitVec 32 := 199#32
  let c0_i32_1941 : BitVec 32 := 0#32
  let v8095 : BitVec 32 := Scalar.maxsi c0_i32_1941 v8094
  let v8096 : BitVec 32 := Scalar.minsi c199_i32_1942 v8095
  let v8215 : BitVec 32 := Scalar.addi v8096 v8214
  let c3_i32_2002 : BitVec 32 := 3#32
  let v8218 : BitVec 32 := Scalar.shrsi v8215 c3_i32_2002
  let c3_i32_2003 : BitVec 32 := 3#32
  let v8219 : BitVec 32 := Scalar.shli v8218 c3_i32_2003
  let v8220 : BitVec 32 := v8219
  let v9559 : Index := Scalar.indexCast v8220
  let c0_2305 : Index := 0#32
  ![v9558.toNat, v9559.toNat, 0]
def k0_off876 (v8094 : BitVec 32) (v8099 : BitVec 32) (v8109 : BitVec 32) (v8179 : BitVec 32) (v8214 : BitVec 32) : Fin 3 → Nat :=
  let c199_i32_1945 : BitVec 32 := 199#32
  let c0_i32_1944 : BitVec 32 := 0#32
  let v8100 : BitVec 32 := Scalar.maxsi c0_i32_1944 v8099
  let v8101 : BitVec 32 := Scalar.minsi c199_i32_1945 v8100
  let v8180 : BitVec 32 := Scalar.addi v8101 v8179
  let c1_i32_1983 : BitVec 32 := 1#32
  let v8181 : BitVec 32 := Scalar.addi v8180 c1_i32_1983
  let c199_i32_1951 : BitVec 32 := 199#32
  let c0_i32_1950 : BitVec 32 := 0#32
  let v8110 : BitVec 32 := Scalar.maxsi c0_i32_1950 v8109
  let v8111 : BitVec 32 := Scalar.minsi c199_i32_1951 v8110
  let v8182 : BitVec 32 := Scalar.minsi v8181 v8111
  let v9562 : Index := Scalar.indexCast v8182
  let c199_i32_1942 : BitVec 32 := 199#32
  let c0_i32_1941 : BitVec 32 := 0#32
  let v8095 : BitVec 32 := Scalar.maxsi c0_i32_1941 v8094
  let v8096 : BitVec 32 := Scalar.minsi c199_i32_1942 v8095
  let v8215 : BitVec 32 := Scalar.addi v8096 v8214
  let c3_i32_2002 : BitVec 32 := 3#32
  let v8218 : BitVec 32 := Scalar.shrsi v8215 c3_i32_2002
  let c3_i32_2003 : BitVec 32 := 3#32
  let v8219 : BitVec 32 := Scalar.shli v8218 c3_i32_2003
  let v8220 : BitVec 32 := v8219
  let v9563 : Index := Scalar.indexCast v8220
  let c0_2306 : Index := 0#32
  ![v9562.toNat, v9563.toNat, 0]

def k0_chk38 (v8094 : BitVec 32) (v8099 : BitVec 32) (v8109 : BitVec 32) (v8125 : BitVec 32) (v8134 : BitVec 32) (v8143 : BitVec 32) (v8152 : BitVec 32) (v8161 : BitVec 32) (v8170 : BitVec 32) (v8179 : BitVec 32) (v8214 : BitVec 32) : Prop :=
  (8 ∣ (k0_mult39 v8094 v8214).toNat) ∧
  (∀ a, (k0_off749 v8094 v8099 v8125 v8214) a + S1x16x256.size a ≤ S200x216x256.size a) ∧
  (∀ a, (k0_off750 v8094 v8099 v8109 v8125 v8214) a + S1x16x256.size a ≤ S200x216x256.size a) ∧
  (∀ a, (k0_off770 v8094 v8099 v8134 v8214) a + S1x16x256.size a ≤ S200x216x256.size a) ∧
  (∀ a, (k0_off771 v8094 v8099 v8109 v8134 v8214) a + S1x16x256.size a ≤ S200x216x256.size a) ∧
  (∀ a, (k0_off791 v8094 v8099 v8143 v8214) a + S1x16x256.size a ≤ S200x216x256.size a) ∧
  (∀ a, (k0_off792 v8094 v8099 v8109 v8143 v8214) a + S1x16x256.size a ≤ S200x216x256.size a) ∧
  (∀ a, (k0_off812 v8094 v8099 v8152 v8214) a + S1x16x256.size a ≤ S200x216x256.size a) ∧
  (∀ a, (k0_off813 v8094 v8099 v8109 v8152 v8214) a + S1x16x256.size a ≤ S200x216x256.size a) ∧
  (∀ a, (k0_off833 v8094 v8099 v8161 v8214) a + S1x16x256.size a ≤ S200x216x256.size a) ∧
  (∀ a, (k0_off834 v8094 v8099 v8109 v8161 v8214) a + S1x16x256.size a ≤ S200x216x256.size a) ∧
  (∀ a, (k0_off854 v8094 v8099 v8170 v8214) a + S1x16x256.size a ≤ S200x216x256.size a) ∧
  (∀ a, (k0_off855 v8094 v8099 v8109 v8170 v8214) a + S1x16x256.size a ≤ S200x216x256.size a) ∧
  (∀ a, (k0_off875 v8094 v8099 v8179 v8214) a + S1x16x256.size a ≤ S200x216x256.size a) ∧
  (∀ a, (k0_off876 v8094 v8099 v8109 v8179 v8214) a + S1x16x256.size a ≤ S200x216x256.size a)
theorem k0_mult39_dvd : ∀ (v8094 : BitVec 32) (v8099 : BitVec 32) (v8109 : BitVec 32) (v8125 : BitVec 32) (v8134 : BitVec 32) (v8143 : BitVec 32) (v8152 : BitVec 32) (v8161 : BitVec 32) (v8170 : BitVec 32) (v8179 : BitVec 32) (v8214 : BitVec 32) (k0_hw38 : k0_chk38 v8094 v8099 v8109 v8125 v8134 v8143 v8152 v8161 v8170 v8179 v8214), 8 ∣ (k0_mult39 v8094 v8214).toNat := fun v8094 v8099 v8109 v8125 v8134 v8143 v8152 v8161 v8170 v8179 v8214 k0_hw38 => k0_hw38.1
theorem k0_off749_inb : ∀ (v8094 : BitVec 32) (v8099 : BitVec 32) (v8109 : BitVec 32) (v8125 : BitVec 32) (v8134 : BitVec 32) (v8143 : BitVec 32) (v8152 : BitVec 32) (v8161 : BitVec 32) (v8170 : BitVec 32) (v8179 : BitVec 32) (v8214 : BitVec 32) (k0_hw38 : k0_chk38 v8094 v8099 v8109 v8125 v8134 v8143 v8152 v8161 v8170 v8179 v8214), ∀ a, (k0_off749 v8094 v8099 v8125 v8214) a + S1x16x256.size a ≤ S200x216x256.size a := fun v8094 v8099 v8109 v8125 v8134 v8143 v8152 v8161 v8170 v8179 v8214 k0_hw38 => k0_hw38.2.1
theorem k0_off750_inb : ∀ (v8094 : BitVec 32) (v8099 : BitVec 32) (v8109 : BitVec 32) (v8125 : BitVec 32) (v8134 : BitVec 32) (v8143 : BitVec 32) (v8152 : BitVec 32) (v8161 : BitVec 32) (v8170 : BitVec 32) (v8179 : BitVec 32) (v8214 : BitVec 32) (k0_hw38 : k0_chk38 v8094 v8099 v8109 v8125 v8134 v8143 v8152 v8161 v8170 v8179 v8214), ∀ a, (k0_off750 v8094 v8099 v8109 v8125 v8214) a + S1x16x256.size a ≤ S200x216x256.size a := fun v8094 v8099 v8109 v8125 v8134 v8143 v8152 v8161 v8170 v8179 v8214 k0_hw38 => k0_hw38.2.2.1
theorem k0_off770_inb : ∀ (v8094 : BitVec 32) (v8099 : BitVec 32) (v8109 : BitVec 32) (v8125 : BitVec 32) (v8134 : BitVec 32) (v8143 : BitVec 32) (v8152 : BitVec 32) (v8161 : BitVec 32) (v8170 : BitVec 32) (v8179 : BitVec 32) (v8214 : BitVec 32) (k0_hw38 : k0_chk38 v8094 v8099 v8109 v8125 v8134 v8143 v8152 v8161 v8170 v8179 v8214), ∀ a, (k0_off770 v8094 v8099 v8134 v8214) a + S1x16x256.size a ≤ S200x216x256.size a := fun v8094 v8099 v8109 v8125 v8134 v8143 v8152 v8161 v8170 v8179 v8214 k0_hw38 => k0_hw38.2.2.2.1
theorem k0_off771_inb : ∀ (v8094 : BitVec 32) (v8099 : BitVec 32) (v8109 : BitVec 32) (v8125 : BitVec 32) (v8134 : BitVec 32) (v8143 : BitVec 32) (v8152 : BitVec 32) (v8161 : BitVec 32) (v8170 : BitVec 32) (v8179 : BitVec 32) (v8214 : BitVec 32) (k0_hw38 : k0_chk38 v8094 v8099 v8109 v8125 v8134 v8143 v8152 v8161 v8170 v8179 v8214), ∀ a, (k0_off771 v8094 v8099 v8109 v8134 v8214) a + S1x16x256.size a ≤ S200x216x256.size a := fun v8094 v8099 v8109 v8125 v8134 v8143 v8152 v8161 v8170 v8179 v8214 k0_hw38 => k0_hw38.2.2.2.2.1
theorem k0_off791_inb : ∀ (v8094 : BitVec 32) (v8099 : BitVec 32) (v8109 : BitVec 32) (v8125 : BitVec 32) (v8134 : BitVec 32) (v8143 : BitVec 32) (v8152 : BitVec 32) (v8161 : BitVec 32) (v8170 : BitVec 32) (v8179 : BitVec 32) (v8214 : BitVec 32) (k0_hw38 : k0_chk38 v8094 v8099 v8109 v8125 v8134 v8143 v8152 v8161 v8170 v8179 v8214), ∀ a, (k0_off791 v8094 v8099 v8143 v8214) a + S1x16x256.size a ≤ S200x216x256.size a := fun v8094 v8099 v8109 v8125 v8134 v8143 v8152 v8161 v8170 v8179 v8214 k0_hw38 => k0_hw38.2.2.2.2.2.1
theorem k0_off792_inb : ∀ (v8094 : BitVec 32) (v8099 : BitVec 32) (v8109 : BitVec 32) (v8125 : BitVec 32) (v8134 : BitVec 32) (v8143 : BitVec 32) (v8152 : BitVec 32) (v8161 : BitVec 32) (v8170 : BitVec 32) (v8179 : BitVec 32) (v8214 : BitVec 32) (k0_hw38 : k0_chk38 v8094 v8099 v8109 v8125 v8134 v8143 v8152 v8161 v8170 v8179 v8214), ∀ a, (k0_off792 v8094 v8099 v8109 v8143 v8214) a + S1x16x256.size a ≤ S200x216x256.size a := fun v8094 v8099 v8109 v8125 v8134 v8143 v8152 v8161 v8170 v8179 v8214 k0_hw38 => k0_hw38.2.2.2.2.2.2.1
theorem k0_off812_inb : ∀ (v8094 : BitVec 32) (v8099 : BitVec 32) (v8109 : BitVec 32) (v8125 : BitVec 32) (v8134 : BitVec 32) (v8143 : BitVec 32) (v8152 : BitVec 32) (v8161 : BitVec 32) (v8170 : BitVec 32) (v8179 : BitVec 32) (v8214 : BitVec 32) (k0_hw38 : k0_chk38 v8094 v8099 v8109 v8125 v8134 v8143 v8152 v8161 v8170 v8179 v8214), ∀ a, (k0_off812 v8094 v8099 v8152 v8214) a + S1x16x256.size a ≤ S200x216x256.size a := fun v8094 v8099 v8109 v8125 v8134 v8143 v8152 v8161 v8170 v8179 v8214 k0_hw38 => k0_hw38.2.2.2.2.2.2.2.1
theorem k0_off813_inb : ∀ (v8094 : BitVec 32) (v8099 : BitVec 32) (v8109 : BitVec 32) (v8125 : BitVec 32) (v8134 : BitVec 32) (v8143 : BitVec 32) (v8152 : BitVec 32) (v8161 : BitVec 32) (v8170 : BitVec 32) (v8179 : BitVec 32) (v8214 : BitVec 32) (k0_hw38 : k0_chk38 v8094 v8099 v8109 v8125 v8134 v8143 v8152 v8161 v8170 v8179 v8214), ∀ a, (k0_off813 v8094 v8099 v8109 v8152 v8214) a + S1x16x256.size a ≤ S200x216x256.size a := fun v8094 v8099 v8109 v8125 v8134 v8143 v8152 v8161 v8170 v8179 v8214 k0_hw38 => k0_hw38.2.2.2.2.2.2.2.2.1
theorem k0_off833_inb : ∀ (v8094 : BitVec 32) (v8099 : BitVec 32) (v8109 : BitVec 32) (v8125 : BitVec 32) (v8134 : BitVec 32) (v8143 : BitVec 32) (v8152 : BitVec 32) (v8161 : BitVec 32) (v8170 : BitVec 32) (v8179 : BitVec 32) (v8214 : BitVec 32) (k0_hw38 : k0_chk38 v8094 v8099 v8109 v8125 v8134 v8143 v8152 v8161 v8170 v8179 v8214), ∀ a, (k0_off833 v8094 v8099 v8161 v8214) a + S1x16x256.size a ≤ S200x216x256.size a := fun v8094 v8099 v8109 v8125 v8134 v8143 v8152 v8161 v8170 v8179 v8214 k0_hw38 => k0_hw38.2.2.2.2.2.2.2.2.2.1
theorem k0_off834_inb : ∀ (v8094 : BitVec 32) (v8099 : BitVec 32) (v8109 : BitVec 32) (v8125 : BitVec 32) (v8134 : BitVec 32) (v8143 : BitVec 32) (v8152 : BitVec 32) (v8161 : BitVec 32) (v8170 : BitVec 32) (v8179 : BitVec 32) (v8214 : BitVec 32) (k0_hw38 : k0_chk38 v8094 v8099 v8109 v8125 v8134 v8143 v8152 v8161 v8170 v8179 v8214), ∀ a, (k0_off834 v8094 v8099 v8109 v8161 v8214) a + S1x16x256.size a ≤ S200x216x256.size a := fun v8094 v8099 v8109 v8125 v8134 v8143 v8152 v8161 v8170 v8179 v8214 k0_hw38 => k0_hw38.2.2.2.2.2.2.2.2.2.2.1
theorem k0_off854_inb : ∀ (v8094 : BitVec 32) (v8099 : BitVec 32) (v8109 : BitVec 32) (v8125 : BitVec 32) (v8134 : BitVec 32) (v8143 : BitVec 32) (v8152 : BitVec 32) (v8161 : BitVec 32) (v8170 : BitVec 32) (v8179 : BitVec 32) (v8214 : BitVec 32) (k0_hw38 : k0_chk38 v8094 v8099 v8109 v8125 v8134 v8143 v8152 v8161 v8170 v8179 v8214), ∀ a, (k0_off854 v8094 v8099 v8170 v8214) a + S1x16x256.size a ≤ S200x216x256.size a := fun v8094 v8099 v8109 v8125 v8134 v8143 v8152 v8161 v8170 v8179 v8214 k0_hw38 => k0_hw38.2.2.2.2.2.2.2.2.2.2.2.1
theorem k0_off855_inb : ∀ (v8094 : BitVec 32) (v8099 : BitVec 32) (v8109 : BitVec 32) (v8125 : BitVec 32) (v8134 : BitVec 32) (v8143 : BitVec 32) (v8152 : BitVec 32) (v8161 : BitVec 32) (v8170 : BitVec 32) (v8179 : BitVec 32) (v8214 : BitVec 32) (k0_hw38 : k0_chk38 v8094 v8099 v8109 v8125 v8134 v8143 v8152 v8161 v8170 v8179 v8214), ∀ a, (k0_off855 v8094 v8099 v8109 v8170 v8214) a + S1x16x256.size a ≤ S200x216x256.size a := fun v8094 v8099 v8109 v8125 v8134 v8143 v8152 v8161 v8170 v8179 v8214 k0_hw38 => k0_hw38.2.2.2.2.2.2.2.2.2.2.2.2.1
theorem k0_off875_inb : ∀ (v8094 : BitVec 32) (v8099 : BitVec 32) (v8109 : BitVec 32) (v8125 : BitVec 32) (v8134 : BitVec 32) (v8143 : BitVec 32) (v8152 : BitVec 32) (v8161 : BitVec 32) (v8170 : BitVec 32) (v8179 : BitVec 32) (v8214 : BitVec 32) (k0_hw38 : k0_chk38 v8094 v8099 v8109 v8125 v8134 v8143 v8152 v8161 v8170 v8179 v8214), ∀ a, (k0_off875 v8094 v8099 v8179 v8214) a + S1x16x256.size a ≤ S200x216x256.size a := fun v8094 v8099 v8109 v8125 v8134 v8143 v8152 v8161 v8170 v8179 v8214 k0_hw38 => k0_hw38.2.2.2.2.2.2.2.2.2.2.2.2.2.1
theorem k0_off876_inb : ∀ (v8094 : BitVec 32) (v8099 : BitVec 32) (v8109 : BitVec 32) (v8125 : BitVec 32) (v8134 : BitVec 32) (v8143 : BitVec 32) (v8152 : BitVec 32) (v8161 : BitVec 32) (v8170 : BitVec 32) (v8179 : BitVec 32) (v8214 : BitVec 32) (k0_hw38 : k0_chk38 v8094 v8099 v8109 v8125 v8134 v8143 v8152 v8161 v8170 v8179 v8214), ∀ a, (k0_off876 v8094 v8099 v8109 v8179 v8214) a + S1x16x256.size a ≤ S200x216x256.size a := fun v8094 v8099 v8109 v8125 v8134 v8143 v8152 v8161 v8170 v8179 v8214 k0_hw38 => k0_hw38.2.2.2.2.2.2.2.2.2.2.2.2.2.2

def k0_off877 (k0_t1 : Fin k0_t1_loop.trips) : Fin 3 → Nat :=
  let c44_2308 : Index := 44#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c5_i32 : BitVec 32 := 5#32
  let v8086 : BitVec 32 := Scalar.addi v5 c5_i32
  let v9582 : Index := Scalar.indexCast v8086
  let c0_2309 : Index := 0#32
  ![44, v9582.toNat, 0]
def k0_off878 (v8094 : BitVec 32) (v8099 : BitVec 32) (v8179 : BitVec 32) (v8227 : BitVec 32) : Fin 3 → Nat :=
  let c199_i32_1945 : BitVec 32 := 199#32
  let c0_i32_1944 : BitVec 32 := 0#32
  let v8100 : BitVec 32 := Scalar.maxsi c0_i32_1944 v8099
  let v8101 : BitVec 32 := Scalar.minsi c199_i32_1945 v8100
  let v8180 : BitVec 32 := Scalar.addi v8101 v8179
  let v9587 : Index := Scalar.indexCast v8180
  let c199_i32_1942 : BitVec 32 := 199#32
  let c0_i32_1941 : BitVec 32 := 0#32
  let v8095 : BitVec 32 := Scalar.maxsi c0_i32_1941 v8094
  let v8096 : BitVec 32 := Scalar.minsi c199_i32_1942 v8095
  let v8228 : BitVec 32 := Scalar.addi v8096 v8227
  let c3_i32_2009 : BitVec 32 := 3#32
  let v8231 : BitVec 32 := Scalar.shrsi v8228 c3_i32_2009
  let c3_i32_2010 : BitVec 32 := 3#32
  let v8232 : BitVec 32 := Scalar.shli v8231 c3_i32_2010
  let v8233 : BitVec 32 := v8232
  let v9588 : Index := Scalar.indexCast v8233
  let c0_2311 : Index := 0#32
  ![v9587.toNat, v9588.toNat, 0]
def k0_off879 (v8094 : BitVec 32) (v8099 : BitVec 32) (v8109 : BitVec 32) (v8179 : BitVec 32) (v8227 : BitVec 32) : Fin 3 → Nat :=
  let c199_i32_1945 : BitVec 32 := 199#32
  let c0_i32_1944 : BitVec 32 := 0#32
  let v8100 : BitVec 32 := Scalar.maxsi c0_i32_1944 v8099
  let v8101 : BitVec 32 := Scalar.minsi c199_i32_1945 v8100
  let v8180 : BitVec 32 := Scalar.addi v8101 v8179
  let c1_i32_1983 : BitVec 32 := 1#32
  let v8181 : BitVec 32 := Scalar.addi v8180 c1_i32_1983
  let c199_i32_1951 : BitVec 32 := 199#32
  let c0_i32_1950 : BitVec 32 := 0#32
  let v8110 : BitVec 32 := Scalar.maxsi c0_i32_1950 v8109
  let v8111 : BitVec 32 := Scalar.minsi c199_i32_1951 v8110
  let v8182 : BitVec 32 := Scalar.minsi v8181 v8111
  let v9591 : Index := Scalar.indexCast v8182
  let c199_i32_1942 : BitVec 32 := 199#32
  let c0_i32_1941 : BitVec 32 := 0#32
  let v8095 : BitVec 32 := Scalar.maxsi c0_i32_1941 v8094
  let v8096 : BitVec 32 := Scalar.minsi c199_i32_1942 v8095
  let v8228 : BitVec 32 := Scalar.addi v8096 v8227
  let c3_i32_2009 : BitVec 32 := 3#32
  let v8231 : BitVec 32 := Scalar.shrsi v8228 c3_i32_2009
  let c3_i32_2010 : BitVec 32 := 3#32
  let v8232 : BitVec 32 := Scalar.shli v8231 c3_i32_2010
  let v8233 : BitVec 32 := v8232
  let v9592 : Index := Scalar.indexCast v8233
  let c0_2312 : Index := 0#32
  ![v9591.toNat, v9592.toNat, 0]

def k0_chk39 (v8094 : BitVec 32) (v8099 : BitVec 32) (v8109 : BitVec 32) (v8125 : BitVec 32) (v8134 : BitVec 32) (v8143 : BitVec 32) (v8152 : BitVec 32) (v8161 : BitVec 32) (v8170 : BitVec 32) (v8179 : BitVec 32) (v8227 : BitVec 32) : Prop :=
  (8 ∣ (k0_mult40 v8094 v8227).toNat) ∧
  (∀ a, (k0_off752 v8094 v8099 v8125 v8227) a + S1x16x256.size a ≤ S200x216x256.size a) ∧
  (∀ a, (k0_off753 v8094 v8099 v8109 v8125 v8227) a + S1x16x256.size a ≤ S200x216x256.size a) ∧
  (∀ a, (k0_off773 v8094 v8099 v8134 v8227) a + S1x16x256.size a ≤ S200x216x256.size a) ∧
  (∀ a, (k0_off774 v8094 v8099 v8109 v8134 v8227) a + S1x16x256.size a ≤ S200x216x256.size a) ∧
  (∀ a, (k0_off794 v8094 v8099 v8143 v8227) a + S1x16x256.size a ≤ S200x216x256.size a) ∧
  (∀ a, (k0_off795 v8094 v8099 v8109 v8143 v8227) a + S1x16x256.size a ≤ S200x216x256.size a) ∧
  (∀ a, (k0_off815 v8094 v8099 v8152 v8227) a + S1x16x256.size a ≤ S200x216x256.size a) ∧
  (∀ a, (k0_off816 v8094 v8099 v8109 v8152 v8227) a + S1x16x256.size a ≤ S200x216x256.size a) ∧
  (∀ a, (k0_off836 v8094 v8099 v8161 v8227) a + S1x16x256.size a ≤ S200x216x256.size a) ∧
  (∀ a, (k0_off837 v8094 v8099 v8109 v8161 v8227) a + S1x16x256.size a ≤ S200x216x256.size a) ∧
  (∀ a, (k0_off857 v8094 v8099 v8170 v8227) a + S1x16x256.size a ≤ S200x216x256.size a) ∧
  (∀ a, (k0_off858 v8094 v8099 v8109 v8170 v8227) a + S1x16x256.size a ≤ S200x216x256.size a) ∧
  (∀ a, (k0_off878 v8094 v8099 v8179 v8227) a + S1x16x256.size a ≤ S200x216x256.size a) ∧
  (∀ a, (k0_off879 v8094 v8099 v8109 v8179 v8227) a + S1x16x256.size a ≤ S200x216x256.size a)
theorem k0_mult40_dvd : ∀ (v8094 : BitVec 32) (v8099 : BitVec 32) (v8109 : BitVec 32) (v8125 : BitVec 32) (v8134 : BitVec 32) (v8143 : BitVec 32) (v8152 : BitVec 32) (v8161 : BitVec 32) (v8170 : BitVec 32) (v8179 : BitVec 32) (v8227 : BitVec 32) (k0_hw39 : k0_chk39 v8094 v8099 v8109 v8125 v8134 v8143 v8152 v8161 v8170 v8179 v8227), 8 ∣ (k0_mult40 v8094 v8227).toNat := fun v8094 v8099 v8109 v8125 v8134 v8143 v8152 v8161 v8170 v8179 v8227 k0_hw39 => k0_hw39.1
theorem k0_off752_inb : ∀ (v8094 : BitVec 32) (v8099 : BitVec 32) (v8109 : BitVec 32) (v8125 : BitVec 32) (v8134 : BitVec 32) (v8143 : BitVec 32) (v8152 : BitVec 32) (v8161 : BitVec 32) (v8170 : BitVec 32) (v8179 : BitVec 32) (v8227 : BitVec 32) (k0_hw39 : k0_chk39 v8094 v8099 v8109 v8125 v8134 v8143 v8152 v8161 v8170 v8179 v8227), ∀ a, (k0_off752 v8094 v8099 v8125 v8227) a + S1x16x256.size a ≤ S200x216x256.size a := fun v8094 v8099 v8109 v8125 v8134 v8143 v8152 v8161 v8170 v8179 v8227 k0_hw39 => k0_hw39.2.1
theorem k0_off753_inb : ∀ (v8094 : BitVec 32) (v8099 : BitVec 32) (v8109 : BitVec 32) (v8125 : BitVec 32) (v8134 : BitVec 32) (v8143 : BitVec 32) (v8152 : BitVec 32) (v8161 : BitVec 32) (v8170 : BitVec 32) (v8179 : BitVec 32) (v8227 : BitVec 32) (k0_hw39 : k0_chk39 v8094 v8099 v8109 v8125 v8134 v8143 v8152 v8161 v8170 v8179 v8227), ∀ a, (k0_off753 v8094 v8099 v8109 v8125 v8227) a + S1x16x256.size a ≤ S200x216x256.size a := fun v8094 v8099 v8109 v8125 v8134 v8143 v8152 v8161 v8170 v8179 v8227 k0_hw39 => k0_hw39.2.2.1
theorem k0_off773_inb : ∀ (v8094 : BitVec 32) (v8099 : BitVec 32) (v8109 : BitVec 32) (v8125 : BitVec 32) (v8134 : BitVec 32) (v8143 : BitVec 32) (v8152 : BitVec 32) (v8161 : BitVec 32) (v8170 : BitVec 32) (v8179 : BitVec 32) (v8227 : BitVec 32) (k0_hw39 : k0_chk39 v8094 v8099 v8109 v8125 v8134 v8143 v8152 v8161 v8170 v8179 v8227), ∀ a, (k0_off773 v8094 v8099 v8134 v8227) a + S1x16x256.size a ≤ S200x216x256.size a := fun v8094 v8099 v8109 v8125 v8134 v8143 v8152 v8161 v8170 v8179 v8227 k0_hw39 => k0_hw39.2.2.2.1
theorem k0_off774_inb : ∀ (v8094 : BitVec 32) (v8099 : BitVec 32) (v8109 : BitVec 32) (v8125 : BitVec 32) (v8134 : BitVec 32) (v8143 : BitVec 32) (v8152 : BitVec 32) (v8161 : BitVec 32) (v8170 : BitVec 32) (v8179 : BitVec 32) (v8227 : BitVec 32) (k0_hw39 : k0_chk39 v8094 v8099 v8109 v8125 v8134 v8143 v8152 v8161 v8170 v8179 v8227), ∀ a, (k0_off774 v8094 v8099 v8109 v8134 v8227) a + S1x16x256.size a ≤ S200x216x256.size a := fun v8094 v8099 v8109 v8125 v8134 v8143 v8152 v8161 v8170 v8179 v8227 k0_hw39 => k0_hw39.2.2.2.2.1
theorem k0_off794_inb : ∀ (v8094 : BitVec 32) (v8099 : BitVec 32) (v8109 : BitVec 32) (v8125 : BitVec 32) (v8134 : BitVec 32) (v8143 : BitVec 32) (v8152 : BitVec 32) (v8161 : BitVec 32) (v8170 : BitVec 32) (v8179 : BitVec 32) (v8227 : BitVec 32) (k0_hw39 : k0_chk39 v8094 v8099 v8109 v8125 v8134 v8143 v8152 v8161 v8170 v8179 v8227), ∀ a, (k0_off794 v8094 v8099 v8143 v8227) a + S1x16x256.size a ≤ S200x216x256.size a := fun v8094 v8099 v8109 v8125 v8134 v8143 v8152 v8161 v8170 v8179 v8227 k0_hw39 => k0_hw39.2.2.2.2.2.1
theorem k0_off795_inb : ∀ (v8094 : BitVec 32) (v8099 : BitVec 32) (v8109 : BitVec 32) (v8125 : BitVec 32) (v8134 : BitVec 32) (v8143 : BitVec 32) (v8152 : BitVec 32) (v8161 : BitVec 32) (v8170 : BitVec 32) (v8179 : BitVec 32) (v8227 : BitVec 32) (k0_hw39 : k0_chk39 v8094 v8099 v8109 v8125 v8134 v8143 v8152 v8161 v8170 v8179 v8227), ∀ a, (k0_off795 v8094 v8099 v8109 v8143 v8227) a + S1x16x256.size a ≤ S200x216x256.size a := fun v8094 v8099 v8109 v8125 v8134 v8143 v8152 v8161 v8170 v8179 v8227 k0_hw39 => k0_hw39.2.2.2.2.2.2.1
theorem k0_off815_inb : ∀ (v8094 : BitVec 32) (v8099 : BitVec 32) (v8109 : BitVec 32) (v8125 : BitVec 32) (v8134 : BitVec 32) (v8143 : BitVec 32) (v8152 : BitVec 32) (v8161 : BitVec 32) (v8170 : BitVec 32) (v8179 : BitVec 32) (v8227 : BitVec 32) (k0_hw39 : k0_chk39 v8094 v8099 v8109 v8125 v8134 v8143 v8152 v8161 v8170 v8179 v8227), ∀ a, (k0_off815 v8094 v8099 v8152 v8227) a + S1x16x256.size a ≤ S200x216x256.size a := fun v8094 v8099 v8109 v8125 v8134 v8143 v8152 v8161 v8170 v8179 v8227 k0_hw39 => k0_hw39.2.2.2.2.2.2.2.1
theorem k0_off816_inb : ∀ (v8094 : BitVec 32) (v8099 : BitVec 32) (v8109 : BitVec 32) (v8125 : BitVec 32) (v8134 : BitVec 32) (v8143 : BitVec 32) (v8152 : BitVec 32) (v8161 : BitVec 32) (v8170 : BitVec 32) (v8179 : BitVec 32) (v8227 : BitVec 32) (k0_hw39 : k0_chk39 v8094 v8099 v8109 v8125 v8134 v8143 v8152 v8161 v8170 v8179 v8227), ∀ a, (k0_off816 v8094 v8099 v8109 v8152 v8227) a + S1x16x256.size a ≤ S200x216x256.size a := fun v8094 v8099 v8109 v8125 v8134 v8143 v8152 v8161 v8170 v8179 v8227 k0_hw39 => k0_hw39.2.2.2.2.2.2.2.2.1
theorem k0_off836_inb : ∀ (v8094 : BitVec 32) (v8099 : BitVec 32) (v8109 : BitVec 32) (v8125 : BitVec 32) (v8134 : BitVec 32) (v8143 : BitVec 32) (v8152 : BitVec 32) (v8161 : BitVec 32) (v8170 : BitVec 32) (v8179 : BitVec 32) (v8227 : BitVec 32) (k0_hw39 : k0_chk39 v8094 v8099 v8109 v8125 v8134 v8143 v8152 v8161 v8170 v8179 v8227), ∀ a, (k0_off836 v8094 v8099 v8161 v8227) a + S1x16x256.size a ≤ S200x216x256.size a := fun v8094 v8099 v8109 v8125 v8134 v8143 v8152 v8161 v8170 v8179 v8227 k0_hw39 => k0_hw39.2.2.2.2.2.2.2.2.2.1
theorem k0_off837_inb : ∀ (v8094 : BitVec 32) (v8099 : BitVec 32) (v8109 : BitVec 32) (v8125 : BitVec 32) (v8134 : BitVec 32) (v8143 : BitVec 32) (v8152 : BitVec 32) (v8161 : BitVec 32) (v8170 : BitVec 32) (v8179 : BitVec 32) (v8227 : BitVec 32) (k0_hw39 : k0_chk39 v8094 v8099 v8109 v8125 v8134 v8143 v8152 v8161 v8170 v8179 v8227), ∀ a, (k0_off837 v8094 v8099 v8109 v8161 v8227) a + S1x16x256.size a ≤ S200x216x256.size a := fun v8094 v8099 v8109 v8125 v8134 v8143 v8152 v8161 v8170 v8179 v8227 k0_hw39 => k0_hw39.2.2.2.2.2.2.2.2.2.2.1
theorem k0_off857_inb : ∀ (v8094 : BitVec 32) (v8099 : BitVec 32) (v8109 : BitVec 32) (v8125 : BitVec 32) (v8134 : BitVec 32) (v8143 : BitVec 32) (v8152 : BitVec 32) (v8161 : BitVec 32) (v8170 : BitVec 32) (v8179 : BitVec 32) (v8227 : BitVec 32) (k0_hw39 : k0_chk39 v8094 v8099 v8109 v8125 v8134 v8143 v8152 v8161 v8170 v8179 v8227), ∀ a, (k0_off857 v8094 v8099 v8170 v8227) a + S1x16x256.size a ≤ S200x216x256.size a := fun v8094 v8099 v8109 v8125 v8134 v8143 v8152 v8161 v8170 v8179 v8227 k0_hw39 => k0_hw39.2.2.2.2.2.2.2.2.2.2.2.1
theorem k0_off858_inb : ∀ (v8094 : BitVec 32) (v8099 : BitVec 32) (v8109 : BitVec 32) (v8125 : BitVec 32) (v8134 : BitVec 32) (v8143 : BitVec 32) (v8152 : BitVec 32) (v8161 : BitVec 32) (v8170 : BitVec 32) (v8179 : BitVec 32) (v8227 : BitVec 32) (k0_hw39 : k0_chk39 v8094 v8099 v8109 v8125 v8134 v8143 v8152 v8161 v8170 v8179 v8227), ∀ a, (k0_off858 v8094 v8099 v8109 v8170 v8227) a + S1x16x256.size a ≤ S200x216x256.size a := fun v8094 v8099 v8109 v8125 v8134 v8143 v8152 v8161 v8170 v8179 v8227 k0_hw39 => k0_hw39.2.2.2.2.2.2.2.2.2.2.2.2.1
theorem k0_off878_inb : ∀ (v8094 : BitVec 32) (v8099 : BitVec 32) (v8109 : BitVec 32) (v8125 : BitVec 32) (v8134 : BitVec 32) (v8143 : BitVec 32) (v8152 : BitVec 32) (v8161 : BitVec 32) (v8170 : BitVec 32) (v8179 : BitVec 32) (v8227 : BitVec 32) (k0_hw39 : k0_chk39 v8094 v8099 v8109 v8125 v8134 v8143 v8152 v8161 v8170 v8179 v8227), ∀ a, (k0_off878 v8094 v8099 v8179 v8227) a + S1x16x256.size a ≤ S200x216x256.size a := fun v8094 v8099 v8109 v8125 v8134 v8143 v8152 v8161 v8170 v8179 v8227 k0_hw39 => k0_hw39.2.2.2.2.2.2.2.2.2.2.2.2.2.1
theorem k0_off879_inb : ∀ (v8094 : BitVec 32) (v8099 : BitVec 32) (v8109 : BitVec 32) (v8125 : BitVec 32) (v8134 : BitVec 32) (v8143 : BitVec 32) (v8152 : BitVec 32) (v8161 : BitVec 32) (v8170 : BitVec 32) (v8179 : BitVec 32) (v8227 : BitVec 32) (k0_hw39 : k0_chk39 v8094 v8099 v8109 v8125 v8134 v8143 v8152 v8161 v8170 v8179 v8227), ∀ a, (k0_off879 v8094 v8099 v8109 v8179 v8227) a + S1x16x256.size a ≤ S200x216x256.size a := fun v8094 v8099 v8109 v8125 v8134 v8143 v8152 v8161 v8170 v8179 v8227 k0_hw39 => k0_hw39.2.2.2.2.2.2.2.2.2.2.2.2.2.2

def k0_off880 (k0_t1 : Fin k0_t1_loop.trips) : Fin 3 → Nat :=
  let c45_2314 : Index := 45#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c5_i32 : BitVec 32 := 5#32
  let v8086 : BitVec 32 := Scalar.addi v5 c5_i32
  let v9611 : Index := Scalar.indexCast v8086
  let c0_2315 : Index := 0#32
  ![45, v9611.toNat, 0]
def k0_off881 (v8094 : BitVec 32) (v8099 : BitVec 32) (v8179 : BitVec 32) (v8240 : BitVec 32) : Fin 3 → Nat :=
  let c199_i32_1945 : BitVec 32 := 199#32
  let c0_i32_1944 : BitVec 32 := 0#32
  let v8100 : BitVec 32 := Scalar.maxsi c0_i32_1944 v8099
  let v8101 : BitVec 32 := Scalar.minsi c199_i32_1945 v8100
  let v8180 : BitVec 32 := Scalar.addi v8101 v8179
  let v9616 : Index := Scalar.indexCast v8180
  let c199_i32_1942 : BitVec 32 := 199#32
  let c0_i32_1941 : BitVec 32 := 0#32
  let v8095 : BitVec 32 := Scalar.maxsi c0_i32_1941 v8094
  let v8096 : BitVec 32 := Scalar.minsi c199_i32_1942 v8095
  let v8241 : BitVec 32 := Scalar.addi v8096 v8240
  let c3_i32_2016 : BitVec 32 := 3#32
  let v8244 : BitVec 32 := Scalar.shrsi v8241 c3_i32_2016
  let c3_i32_2017 : BitVec 32 := 3#32
  let v8245 : BitVec 32 := Scalar.shli v8244 c3_i32_2017
  let v8246 : BitVec 32 := v8245
  let v9617 : Index := Scalar.indexCast v8246
  let c0_2317 : Index := 0#32
  ![v9616.toNat, v9617.toNat, 0]
def k0_off882 (v8094 : BitVec 32) (v8099 : BitVec 32) (v8109 : BitVec 32) (v8179 : BitVec 32) (v8240 : BitVec 32) : Fin 3 → Nat :=
  let c199_i32_1945 : BitVec 32 := 199#32
  let c0_i32_1944 : BitVec 32 := 0#32
  let v8100 : BitVec 32 := Scalar.maxsi c0_i32_1944 v8099
  let v8101 : BitVec 32 := Scalar.minsi c199_i32_1945 v8100
  let v8180 : BitVec 32 := Scalar.addi v8101 v8179
  let c1_i32_1983 : BitVec 32 := 1#32
  let v8181 : BitVec 32 := Scalar.addi v8180 c1_i32_1983
  let c199_i32_1951 : BitVec 32 := 199#32
  let c0_i32_1950 : BitVec 32 := 0#32
  let v8110 : BitVec 32 := Scalar.maxsi c0_i32_1950 v8109
  let v8111 : BitVec 32 := Scalar.minsi c199_i32_1951 v8110
  let v8182 : BitVec 32 := Scalar.minsi v8181 v8111
  let v9620 : Index := Scalar.indexCast v8182
  let c199_i32_1942 : BitVec 32 := 199#32
  let c0_i32_1941 : BitVec 32 := 0#32
  let v8095 : BitVec 32 := Scalar.maxsi c0_i32_1941 v8094
  let v8096 : BitVec 32 := Scalar.minsi c199_i32_1942 v8095
  let v8241 : BitVec 32 := Scalar.addi v8096 v8240
  let c3_i32_2016 : BitVec 32 := 3#32
  let v8244 : BitVec 32 := Scalar.shrsi v8241 c3_i32_2016
  let c3_i32_2017 : BitVec 32 := 3#32
  let v8245 : BitVec 32 := Scalar.shli v8244 c3_i32_2017
  let v8246 : BitVec 32 := v8245
  let v9621 : Index := Scalar.indexCast v8246
  let c0_2318 : Index := 0#32
  ![v9620.toNat, v9621.toNat, 0]

def k0_chk40 (v8094 : BitVec 32) (v8099 : BitVec 32) (v8109 : BitVec 32) (v8125 : BitVec 32) (v8134 : BitVec 32) (v8143 : BitVec 32) (v8152 : BitVec 32) (v8161 : BitVec 32) (v8170 : BitVec 32) (v8179 : BitVec 32) (v8240 : BitVec 32) : Prop :=
  (8 ∣ (k0_mult41 v8094 v8240).toNat) ∧
  (∀ a, (k0_off755 v8094 v8099 v8125 v8240) a + S1x16x256.size a ≤ S200x216x256.size a) ∧
  (∀ a, (k0_off756 v8094 v8099 v8109 v8125 v8240) a + S1x16x256.size a ≤ S200x216x256.size a) ∧
  (∀ a, (k0_off776 v8094 v8099 v8134 v8240) a + S1x16x256.size a ≤ S200x216x256.size a) ∧
  (∀ a, (k0_off777 v8094 v8099 v8109 v8134 v8240) a + S1x16x256.size a ≤ S200x216x256.size a) ∧
  (∀ a, (k0_off797 v8094 v8099 v8143 v8240) a + S1x16x256.size a ≤ S200x216x256.size a) ∧
  (∀ a, (k0_off798 v8094 v8099 v8109 v8143 v8240) a + S1x16x256.size a ≤ S200x216x256.size a) ∧
  (∀ a, (k0_off818 v8094 v8099 v8152 v8240) a + S1x16x256.size a ≤ S200x216x256.size a) ∧
  (∀ a, (k0_off819 v8094 v8099 v8109 v8152 v8240) a + S1x16x256.size a ≤ S200x216x256.size a) ∧
  (∀ a, (k0_off839 v8094 v8099 v8161 v8240) a + S1x16x256.size a ≤ S200x216x256.size a) ∧
  (∀ a, (k0_off840 v8094 v8099 v8109 v8161 v8240) a + S1x16x256.size a ≤ S200x216x256.size a) ∧
  (∀ a, (k0_off860 v8094 v8099 v8170 v8240) a + S1x16x256.size a ≤ S200x216x256.size a) ∧
  (∀ a, (k0_off861 v8094 v8099 v8109 v8170 v8240) a + S1x16x256.size a ≤ S200x216x256.size a) ∧
  (∀ a, (k0_off881 v8094 v8099 v8179 v8240) a + S1x16x256.size a ≤ S200x216x256.size a) ∧
  (∀ a, (k0_off882 v8094 v8099 v8109 v8179 v8240) a + S1x16x256.size a ≤ S200x216x256.size a)
theorem k0_mult41_dvd : ∀ (v8094 : BitVec 32) (v8099 : BitVec 32) (v8109 : BitVec 32) (v8125 : BitVec 32) (v8134 : BitVec 32) (v8143 : BitVec 32) (v8152 : BitVec 32) (v8161 : BitVec 32) (v8170 : BitVec 32) (v8179 : BitVec 32) (v8240 : BitVec 32) (k0_hw40 : k0_chk40 v8094 v8099 v8109 v8125 v8134 v8143 v8152 v8161 v8170 v8179 v8240), 8 ∣ (k0_mult41 v8094 v8240).toNat := fun v8094 v8099 v8109 v8125 v8134 v8143 v8152 v8161 v8170 v8179 v8240 k0_hw40 => k0_hw40.1
theorem k0_off755_inb : ∀ (v8094 : BitVec 32) (v8099 : BitVec 32) (v8109 : BitVec 32) (v8125 : BitVec 32) (v8134 : BitVec 32) (v8143 : BitVec 32) (v8152 : BitVec 32) (v8161 : BitVec 32) (v8170 : BitVec 32) (v8179 : BitVec 32) (v8240 : BitVec 32) (k0_hw40 : k0_chk40 v8094 v8099 v8109 v8125 v8134 v8143 v8152 v8161 v8170 v8179 v8240), ∀ a, (k0_off755 v8094 v8099 v8125 v8240) a + S1x16x256.size a ≤ S200x216x256.size a := fun v8094 v8099 v8109 v8125 v8134 v8143 v8152 v8161 v8170 v8179 v8240 k0_hw40 => k0_hw40.2.1
theorem k0_off756_inb : ∀ (v8094 : BitVec 32) (v8099 : BitVec 32) (v8109 : BitVec 32) (v8125 : BitVec 32) (v8134 : BitVec 32) (v8143 : BitVec 32) (v8152 : BitVec 32) (v8161 : BitVec 32) (v8170 : BitVec 32) (v8179 : BitVec 32) (v8240 : BitVec 32) (k0_hw40 : k0_chk40 v8094 v8099 v8109 v8125 v8134 v8143 v8152 v8161 v8170 v8179 v8240), ∀ a, (k0_off756 v8094 v8099 v8109 v8125 v8240) a + S1x16x256.size a ≤ S200x216x256.size a := fun v8094 v8099 v8109 v8125 v8134 v8143 v8152 v8161 v8170 v8179 v8240 k0_hw40 => k0_hw40.2.2.1
theorem k0_off776_inb : ∀ (v8094 : BitVec 32) (v8099 : BitVec 32) (v8109 : BitVec 32) (v8125 : BitVec 32) (v8134 : BitVec 32) (v8143 : BitVec 32) (v8152 : BitVec 32) (v8161 : BitVec 32) (v8170 : BitVec 32) (v8179 : BitVec 32) (v8240 : BitVec 32) (k0_hw40 : k0_chk40 v8094 v8099 v8109 v8125 v8134 v8143 v8152 v8161 v8170 v8179 v8240), ∀ a, (k0_off776 v8094 v8099 v8134 v8240) a + S1x16x256.size a ≤ S200x216x256.size a := fun v8094 v8099 v8109 v8125 v8134 v8143 v8152 v8161 v8170 v8179 v8240 k0_hw40 => k0_hw40.2.2.2.1
theorem k0_off777_inb : ∀ (v8094 : BitVec 32) (v8099 : BitVec 32) (v8109 : BitVec 32) (v8125 : BitVec 32) (v8134 : BitVec 32) (v8143 : BitVec 32) (v8152 : BitVec 32) (v8161 : BitVec 32) (v8170 : BitVec 32) (v8179 : BitVec 32) (v8240 : BitVec 32) (k0_hw40 : k0_chk40 v8094 v8099 v8109 v8125 v8134 v8143 v8152 v8161 v8170 v8179 v8240), ∀ a, (k0_off777 v8094 v8099 v8109 v8134 v8240) a + S1x16x256.size a ≤ S200x216x256.size a := fun v8094 v8099 v8109 v8125 v8134 v8143 v8152 v8161 v8170 v8179 v8240 k0_hw40 => k0_hw40.2.2.2.2.1
theorem k0_off797_inb : ∀ (v8094 : BitVec 32) (v8099 : BitVec 32) (v8109 : BitVec 32) (v8125 : BitVec 32) (v8134 : BitVec 32) (v8143 : BitVec 32) (v8152 : BitVec 32) (v8161 : BitVec 32) (v8170 : BitVec 32) (v8179 : BitVec 32) (v8240 : BitVec 32) (k0_hw40 : k0_chk40 v8094 v8099 v8109 v8125 v8134 v8143 v8152 v8161 v8170 v8179 v8240), ∀ a, (k0_off797 v8094 v8099 v8143 v8240) a + S1x16x256.size a ≤ S200x216x256.size a := fun v8094 v8099 v8109 v8125 v8134 v8143 v8152 v8161 v8170 v8179 v8240 k0_hw40 => k0_hw40.2.2.2.2.2.1
theorem k0_off798_inb : ∀ (v8094 : BitVec 32) (v8099 : BitVec 32) (v8109 : BitVec 32) (v8125 : BitVec 32) (v8134 : BitVec 32) (v8143 : BitVec 32) (v8152 : BitVec 32) (v8161 : BitVec 32) (v8170 : BitVec 32) (v8179 : BitVec 32) (v8240 : BitVec 32) (k0_hw40 : k0_chk40 v8094 v8099 v8109 v8125 v8134 v8143 v8152 v8161 v8170 v8179 v8240), ∀ a, (k0_off798 v8094 v8099 v8109 v8143 v8240) a + S1x16x256.size a ≤ S200x216x256.size a := fun v8094 v8099 v8109 v8125 v8134 v8143 v8152 v8161 v8170 v8179 v8240 k0_hw40 => k0_hw40.2.2.2.2.2.2.1
theorem k0_off818_inb : ∀ (v8094 : BitVec 32) (v8099 : BitVec 32) (v8109 : BitVec 32) (v8125 : BitVec 32) (v8134 : BitVec 32) (v8143 : BitVec 32) (v8152 : BitVec 32) (v8161 : BitVec 32) (v8170 : BitVec 32) (v8179 : BitVec 32) (v8240 : BitVec 32) (k0_hw40 : k0_chk40 v8094 v8099 v8109 v8125 v8134 v8143 v8152 v8161 v8170 v8179 v8240), ∀ a, (k0_off818 v8094 v8099 v8152 v8240) a + S1x16x256.size a ≤ S200x216x256.size a := fun v8094 v8099 v8109 v8125 v8134 v8143 v8152 v8161 v8170 v8179 v8240 k0_hw40 => k0_hw40.2.2.2.2.2.2.2.1
theorem k0_off819_inb : ∀ (v8094 : BitVec 32) (v8099 : BitVec 32) (v8109 : BitVec 32) (v8125 : BitVec 32) (v8134 : BitVec 32) (v8143 : BitVec 32) (v8152 : BitVec 32) (v8161 : BitVec 32) (v8170 : BitVec 32) (v8179 : BitVec 32) (v8240 : BitVec 32) (k0_hw40 : k0_chk40 v8094 v8099 v8109 v8125 v8134 v8143 v8152 v8161 v8170 v8179 v8240), ∀ a, (k0_off819 v8094 v8099 v8109 v8152 v8240) a + S1x16x256.size a ≤ S200x216x256.size a := fun v8094 v8099 v8109 v8125 v8134 v8143 v8152 v8161 v8170 v8179 v8240 k0_hw40 => k0_hw40.2.2.2.2.2.2.2.2.1
theorem k0_off839_inb : ∀ (v8094 : BitVec 32) (v8099 : BitVec 32) (v8109 : BitVec 32) (v8125 : BitVec 32) (v8134 : BitVec 32) (v8143 : BitVec 32) (v8152 : BitVec 32) (v8161 : BitVec 32) (v8170 : BitVec 32) (v8179 : BitVec 32) (v8240 : BitVec 32) (k0_hw40 : k0_chk40 v8094 v8099 v8109 v8125 v8134 v8143 v8152 v8161 v8170 v8179 v8240), ∀ a, (k0_off839 v8094 v8099 v8161 v8240) a + S1x16x256.size a ≤ S200x216x256.size a := fun v8094 v8099 v8109 v8125 v8134 v8143 v8152 v8161 v8170 v8179 v8240 k0_hw40 => k0_hw40.2.2.2.2.2.2.2.2.2.1
theorem k0_off840_inb : ∀ (v8094 : BitVec 32) (v8099 : BitVec 32) (v8109 : BitVec 32) (v8125 : BitVec 32) (v8134 : BitVec 32) (v8143 : BitVec 32) (v8152 : BitVec 32) (v8161 : BitVec 32) (v8170 : BitVec 32) (v8179 : BitVec 32) (v8240 : BitVec 32) (k0_hw40 : k0_chk40 v8094 v8099 v8109 v8125 v8134 v8143 v8152 v8161 v8170 v8179 v8240), ∀ a, (k0_off840 v8094 v8099 v8109 v8161 v8240) a + S1x16x256.size a ≤ S200x216x256.size a := fun v8094 v8099 v8109 v8125 v8134 v8143 v8152 v8161 v8170 v8179 v8240 k0_hw40 => k0_hw40.2.2.2.2.2.2.2.2.2.2.1
theorem k0_off860_inb : ∀ (v8094 : BitVec 32) (v8099 : BitVec 32) (v8109 : BitVec 32) (v8125 : BitVec 32) (v8134 : BitVec 32) (v8143 : BitVec 32) (v8152 : BitVec 32) (v8161 : BitVec 32) (v8170 : BitVec 32) (v8179 : BitVec 32) (v8240 : BitVec 32) (k0_hw40 : k0_chk40 v8094 v8099 v8109 v8125 v8134 v8143 v8152 v8161 v8170 v8179 v8240), ∀ a, (k0_off860 v8094 v8099 v8170 v8240) a + S1x16x256.size a ≤ S200x216x256.size a := fun v8094 v8099 v8109 v8125 v8134 v8143 v8152 v8161 v8170 v8179 v8240 k0_hw40 => k0_hw40.2.2.2.2.2.2.2.2.2.2.2.1
theorem k0_off861_inb : ∀ (v8094 : BitVec 32) (v8099 : BitVec 32) (v8109 : BitVec 32) (v8125 : BitVec 32) (v8134 : BitVec 32) (v8143 : BitVec 32) (v8152 : BitVec 32) (v8161 : BitVec 32) (v8170 : BitVec 32) (v8179 : BitVec 32) (v8240 : BitVec 32) (k0_hw40 : k0_chk40 v8094 v8099 v8109 v8125 v8134 v8143 v8152 v8161 v8170 v8179 v8240), ∀ a, (k0_off861 v8094 v8099 v8109 v8170 v8240) a + S1x16x256.size a ≤ S200x216x256.size a := fun v8094 v8099 v8109 v8125 v8134 v8143 v8152 v8161 v8170 v8179 v8240 k0_hw40 => k0_hw40.2.2.2.2.2.2.2.2.2.2.2.2.1
theorem k0_off881_inb : ∀ (v8094 : BitVec 32) (v8099 : BitVec 32) (v8109 : BitVec 32) (v8125 : BitVec 32) (v8134 : BitVec 32) (v8143 : BitVec 32) (v8152 : BitVec 32) (v8161 : BitVec 32) (v8170 : BitVec 32) (v8179 : BitVec 32) (v8240 : BitVec 32) (k0_hw40 : k0_chk40 v8094 v8099 v8109 v8125 v8134 v8143 v8152 v8161 v8170 v8179 v8240), ∀ a, (k0_off881 v8094 v8099 v8179 v8240) a + S1x16x256.size a ≤ S200x216x256.size a := fun v8094 v8099 v8109 v8125 v8134 v8143 v8152 v8161 v8170 v8179 v8240 k0_hw40 => k0_hw40.2.2.2.2.2.2.2.2.2.2.2.2.2.1
theorem k0_off882_inb : ∀ (v8094 : BitVec 32) (v8099 : BitVec 32) (v8109 : BitVec 32) (v8125 : BitVec 32) (v8134 : BitVec 32) (v8143 : BitVec 32) (v8152 : BitVec 32) (v8161 : BitVec 32) (v8170 : BitVec 32) (v8179 : BitVec 32) (v8240 : BitVec 32) (k0_hw40 : k0_chk40 v8094 v8099 v8109 v8125 v8134 v8143 v8152 v8161 v8170 v8179 v8240), ∀ a, (k0_off882 v8094 v8099 v8109 v8179 v8240) a + S1x16x256.size a ≤ S200x216x256.size a := fun v8094 v8099 v8109 v8125 v8134 v8143 v8152 v8161 v8170 v8179 v8240 k0_hw40 => k0_hw40.2.2.2.2.2.2.2.2.2.2.2.2.2.2

def k0_off883 (k0_t1 : Fin k0_t1_loop.trips) : Fin 3 → Nat :=
  let c46_2320 : Index := 46#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c5_i32 : BitVec 32 := 5#32
  let v8086 : BitVec 32 := Scalar.addi v5 c5_i32
  let v9640 : Index := Scalar.indexCast v8086
  let c0_2321 : Index := 0#32
  ![46, v9640.toNat, 0]
def k0_off884 (v8094 : BitVec 32) (v8099 : BitVec 32) (v8179 : BitVec 32) (v8253 : BitVec 32) : Fin 3 → Nat :=
  let c199_i32_1945 : BitVec 32 := 199#32
  let c0_i32_1944 : BitVec 32 := 0#32
  let v8100 : BitVec 32 := Scalar.maxsi c0_i32_1944 v8099
  let v8101 : BitVec 32 := Scalar.minsi c199_i32_1945 v8100
  let v8180 : BitVec 32 := Scalar.addi v8101 v8179
  let v9645 : Index := Scalar.indexCast v8180
  let c199_i32_1942 : BitVec 32 := 199#32
  let c0_i32_1941 : BitVec 32 := 0#32
  let v8095 : BitVec 32 := Scalar.maxsi c0_i32_1941 v8094
  let v8096 : BitVec 32 := Scalar.minsi c199_i32_1942 v8095
  let v8254 : BitVec 32 := Scalar.addi v8096 v8253
  let c3_i32_2023 : BitVec 32 := 3#32
  let v8257 : BitVec 32 := Scalar.shrsi v8254 c3_i32_2023
  let c3_i32_2024 : BitVec 32 := 3#32
  let v8258 : BitVec 32 := Scalar.shli v8257 c3_i32_2024
  let v8259 : BitVec 32 := v8258
  let v9646 : Index := Scalar.indexCast v8259
  let c0_2323 : Index := 0#32
  ![v9645.toNat, v9646.toNat, 0]
def k0_off885 (v8094 : BitVec 32) (v8099 : BitVec 32) (v8109 : BitVec 32) (v8179 : BitVec 32) (v8253 : BitVec 32) : Fin 3 → Nat :=
  let c199_i32_1945 : BitVec 32 := 199#32
  let c0_i32_1944 : BitVec 32 := 0#32
  let v8100 : BitVec 32 := Scalar.maxsi c0_i32_1944 v8099
  let v8101 : BitVec 32 := Scalar.minsi c199_i32_1945 v8100
  let v8180 : BitVec 32 := Scalar.addi v8101 v8179
  let c1_i32_1983 : BitVec 32 := 1#32
  let v8181 : BitVec 32 := Scalar.addi v8180 c1_i32_1983
  let c199_i32_1951 : BitVec 32 := 199#32
  let c0_i32_1950 : BitVec 32 := 0#32
  let v8110 : BitVec 32 := Scalar.maxsi c0_i32_1950 v8109
  let v8111 : BitVec 32 := Scalar.minsi c199_i32_1951 v8110
  let v8182 : BitVec 32 := Scalar.minsi v8181 v8111
  let v9649 : Index := Scalar.indexCast v8182
  let c199_i32_1942 : BitVec 32 := 199#32
  let c0_i32_1941 : BitVec 32 := 0#32
  let v8095 : BitVec 32 := Scalar.maxsi c0_i32_1941 v8094
  let v8096 : BitVec 32 := Scalar.minsi c199_i32_1942 v8095
  let v8254 : BitVec 32 := Scalar.addi v8096 v8253
  let c3_i32_2023 : BitVec 32 := 3#32
  let v8257 : BitVec 32 := Scalar.shrsi v8254 c3_i32_2023
  let c3_i32_2024 : BitVec 32 := 3#32
  let v8258 : BitVec 32 := Scalar.shli v8257 c3_i32_2024
  let v8259 : BitVec 32 := v8258
  let v9650 : Index := Scalar.indexCast v8259
  let c0_2324 : Index := 0#32
  ![v9649.toNat, v9650.toNat, 0]

def k0_chk41 (v8094 : BitVec 32) (v8099 : BitVec 32) (v8109 : BitVec 32) (v8125 : BitVec 32) (v8134 : BitVec 32) (v8143 : BitVec 32) (v8152 : BitVec 32) (v8161 : BitVec 32) (v8170 : BitVec 32) (v8179 : BitVec 32) (v8253 : BitVec 32) : Prop :=
  (8 ∣ (k0_mult42 v8094 v8253).toNat) ∧
  (∀ a, (k0_off758 v8094 v8099 v8125 v8253) a + S1x16x256.size a ≤ S200x216x256.size a) ∧
  (∀ a, (k0_off759 v8094 v8099 v8109 v8125 v8253) a + S1x16x256.size a ≤ S200x216x256.size a) ∧
  (∀ a, (k0_off779 v8094 v8099 v8134 v8253) a + S1x16x256.size a ≤ S200x216x256.size a) ∧
  (∀ a, (k0_off780 v8094 v8099 v8109 v8134 v8253) a + S1x16x256.size a ≤ S200x216x256.size a) ∧
  (∀ a, (k0_off800 v8094 v8099 v8143 v8253) a + S1x16x256.size a ≤ S200x216x256.size a) ∧
  (∀ a, (k0_off801 v8094 v8099 v8109 v8143 v8253) a + S1x16x256.size a ≤ S200x216x256.size a) ∧
  (∀ a, (k0_off821 v8094 v8099 v8152 v8253) a + S1x16x256.size a ≤ S200x216x256.size a) ∧
  (∀ a, (k0_off822 v8094 v8099 v8109 v8152 v8253) a + S1x16x256.size a ≤ S200x216x256.size a) ∧
  (∀ a, (k0_off842 v8094 v8099 v8161 v8253) a + S1x16x256.size a ≤ S200x216x256.size a) ∧
  (∀ a, (k0_off843 v8094 v8099 v8109 v8161 v8253) a + S1x16x256.size a ≤ S200x216x256.size a) ∧
  (∀ a, (k0_off863 v8094 v8099 v8170 v8253) a + S1x16x256.size a ≤ S200x216x256.size a) ∧
  (∀ a, (k0_off864 v8094 v8099 v8109 v8170 v8253) a + S1x16x256.size a ≤ S200x216x256.size a) ∧
  (∀ a, (k0_off884 v8094 v8099 v8179 v8253) a + S1x16x256.size a ≤ S200x216x256.size a) ∧
  (∀ a, (k0_off885 v8094 v8099 v8109 v8179 v8253) a + S1x16x256.size a ≤ S200x216x256.size a)
theorem k0_mult42_dvd : ∀ (v8094 : BitVec 32) (v8099 : BitVec 32) (v8109 : BitVec 32) (v8125 : BitVec 32) (v8134 : BitVec 32) (v8143 : BitVec 32) (v8152 : BitVec 32) (v8161 : BitVec 32) (v8170 : BitVec 32) (v8179 : BitVec 32) (v8253 : BitVec 32) (k0_hw41 : k0_chk41 v8094 v8099 v8109 v8125 v8134 v8143 v8152 v8161 v8170 v8179 v8253), 8 ∣ (k0_mult42 v8094 v8253).toNat := fun v8094 v8099 v8109 v8125 v8134 v8143 v8152 v8161 v8170 v8179 v8253 k0_hw41 => k0_hw41.1
theorem k0_off758_inb : ∀ (v8094 : BitVec 32) (v8099 : BitVec 32) (v8109 : BitVec 32) (v8125 : BitVec 32) (v8134 : BitVec 32) (v8143 : BitVec 32) (v8152 : BitVec 32) (v8161 : BitVec 32) (v8170 : BitVec 32) (v8179 : BitVec 32) (v8253 : BitVec 32) (k0_hw41 : k0_chk41 v8094 v8099 v8109 v8125 v8134 v8143 v8152 v8161 v8170 v8179 v8253), ∀ a, (k0_off758 v8094 v8099 v8125 v8253) a + S1x16x256.size a ≤ S200x216x256.size a := fun v8094 v8099 v8109 v8125 v8134 v8143 v8152 v8161 v8170 v8179 v8253 k0_hw41 => k0_hw41.2.1
theorem k0_off759_inb : ∀ (v8094 : BitVec 32) (v8099 : BitVec 32) (v8109 : BitVec 32) (v8125 : BitVec 32) (v8134 : BitVec 32) (v8143 : BitVec 32) (v8152 : BitVec 32) (v8161 : BitVec 32) (v8170 : BitVec 32) (v8179 : BitVec 32) (v8253 : BitVec 32) (k0_hw41 : k0_chk41 v8094 v8099 v8109 v8125 v8134 v8143 v8152 v8161 v8170 v8179 v8253), ∀ a, (k0_off759 v8094 v8099 v8109 v8125 v8253) a + S1x16x256.size a ≤ S200x216x256.size a := fun v8094 v8099 v8109 v8125 v8134 v8143 v8152 v8161 v8170 v8179 v8253 k0_hw41 => k0_hw41.2.2.1
theorem k0_off779_inb : ∀ (v8094 : BitVec 32) (v8099 : BitVec 32) (v8109 : BitVec 32) (v8125 : BitVec 32) (v8134 : BitVec 32) (v8143 : BitVec 32) (v8152 : BitVec 32) (v8161 : BitVec 32) (v8170 : BitVec 32) (v8179 : BitVec 32) (v8253 : BitVec 32) (k0_hw41 : k0_chk41 v8094 v8099 v8109 v8125 v8134 v8143 v8152 v8161 v8170 v8179 v8253), ∀ a, (k0_off779 v8094 v8099 v8134 v8253) a + S1x16x256.size a ≤ S200x216x256.size a := fun v8094 v8099 v8109 v8125 v8134 v8143 v8152 v8161 v8170 v8179 v8253 k0_hw41 => k0_hw41.2.2.2.1
theorem k0_off780_inb : ∀ (v8094 : BitVec 32) (v8099 : BitVec 32) (v8109 : BitVec 32) (v8125 : BitVec 32) (v8134 : BitVec 32) (v8143 : BitVec 32) (v8152 : BitVec 32) (v8161 : BitVec 32) (v8170 : BitVec 32) (v8179 : BitVec 32) (v8253 : BitVec 32) (k0_hw41 : k0_chk41 v8094 v8099 v8109 v8125 v8134 v8143 v8152 v8161 v8170 v8179 v8253), ∀ a, (k0_off780 v8094 v8099 v8109 v8134 v8253) a + S1x16x256.size a ≤ S200x216x256.size a := fun v8094 v8099 v8109 v8125 v8134 v8143 v8152 v8161 v8170 v8179 v8253 k0_hw41 => k0_hw41.2.2.2.2.1
theorem k0_off800_inb : ∀ (v8094 : BitVec 32) (v8099 : BitVec 32) (v8109 : BitVec 32) (v8125 : BitVec 32) (v8134 : BitVec 32) (v8143 : BitVec 32) (v8152 : BitVec 32) (v8161 : BitVec 32) (v8170 : BitVec 32) (v8179 : BitVec 32) (v8253 : BitVec 32) (k0_hw41 : k0_chk41 v8094 v8099 v8109 v8125 v8134 v8143 v8152 v8161 v8170 v8179 v8253), ∀ a, (k0_off800 v8094 v8099 v8143 v8253) a + S1x16x256.size a ≤ S200x216x256.size a := fun v8094 v8099 v8109 v8125 v8134 v8143 v8152 v8161 v8170 v8179 v8253 k0_hw41 => k0_hw41.2.2.2.2.2.1
theorem k0_off801_inb : ∀ (v8094 : BitVec 32) (v8099 : BitVec 32) (v8109 : BitVec 32) (v8125 : BitVec 32) (v8134 : BitVec 32) (v8143 : BitVec 32) (v8152 : BitVec 32) (v8161 : BitVec 32) (v8170 : BitVec 32) (v8179 : BitVec 32) (v8253 : BitVec 32) (k0_hw41 : k0_chk41 v8094 v8099 v8109 v8125 v8134 v8143 v8152 v8161 v8170 v8179 v8253), ∀ a, (k0_off801 v8094 v8099 v8109 v8143 v8253) a + S1x16x256.size a ≤ S200x216x256.size a := fun v8094 v8099 v8109 v8125 v8134 v8143 v8152 v8161 v8170 v8179 v8253 k0_hw41 => k0_hw41.2.2.2.2.2.2.1
theorem k0_off821_inb : ∀ (v8094 : BitVec 32) (v8099 : BitVec 32) (v8109 : BitVec 32) (v8125 : BitVec 32) (v8134 : BitVec 32) (v8143 : BitVec 32) (v8152 : BitVec 32) (v8161 : BitVec 32) (v8170 : BitVec 32) (v8179 : BitVec 32) (v8253 : BitVec 32) (k0_hw41 : k0_chk41 v8094 v8099 v8109 v8125 v8134 v8143 v8152 v8161 v8170 v8179 v8253), ∀ a, (k0_off821 v8094 v8099 v8152 v8253) a + S1x16x256.size a ≤ S200x216x256.size a := fun v8094 v8099 v8109 v8125 v8134 v8143 v8152 v8161 v8170 v8179 v8253 k0_hw41 => k0_hw41.2.2.2.2.2.2.2.1
theorem k0_off822_inb : ∀ (v8094 : BitVec 32) (v8099 : BitVec 32) (v8109 : BitVec 32) (v8125 : BitVec 32) (v8134 : BitVec 32) (v8143 : BitVec 32) (v8152 : BitVec 32) (v8161 : BitVec 32) (v8170 : BitVec 32) (v8179 : BitVec 32) (v8253 : BitVec 32) (k0_hw41 : k0_chk41 v8094 v8099 v8109 v8125 v8134 v8143 v8152 v8161 v8170 v8179 v8253), ∀ a, (k0_off822 v8094 v8099 v8109 v8152 v8253) a + S1x16x256.size a ≤ S200x216x256.size a := fun v8094 v8099 v8109 v8125 v8134 v8143 v8152 v8161 v8170 v8179 v8253 k0_hw41 => k0_hw41.2.2.2.2.2.2.2.2.1
theorem k0_off842_inb : ∀ (v8094 : BitVec 32) (v8099 : BitVec 32) (v8109 : BitVec 32) (v8125 : BitVec 32) (v8134 : BitVec 32) (v8143 : BitVec 32) (v8152 : BitVec 32) (v8161 : BitVec 32) (v8170 : BitVec 32) (v8179 : BitVec 32) (v8253 : BitVec 32) (k0_hw41 : k0_chk41 v8094 v8099 v8109 v8125 v8134 v8143 v8152 v8161 v8170 v8179 v8253), ∀ a, (k0_off842 v8094 v8099 v8161 v8253) a + S1x16x256.size a ≤ S200x216x256.size a := fun v8094 v8099 v8109 v8125 v8134 v8143 v8152 v8161 v8170 v8179 v8253 k0_hw41 => k0_hw41.2.2.2.2.2.2.2.2.2.1
theorem k0_off843_inb : ∀ (v8094 : BitVec 32) (v8099 : BitVec 32) (v8109 : BitVec 32) (v8125 : BitVec 32) (v8134 : BitVec 32) (v8143 : BitVec 32) (v8152 : BitVec 32) (v8161 : BitVec 32) (v8170 : BitVec 32) (v8179 : BitVec 32) (v8253 : BitVec 32) (k0_hw41 : k0_chk41 v8094 v8099 v8109 v8125 v8134 v8143 v8152 v8161 v8170 v8179 v8253), ∀ a, (k0_off843 v8094 v8099 v8109 v8161 v8253) a + S1x16x256.size a ≤ S200x216x256.size a := fun v8094 v8099 v8109 v8125 v8134 v8143 v8152 v8161 v8170 v8179 v8253 k0_hw41 => k0_hw41.2.2.2.2.2.2.2.2.2.2.1
theorem k0_off863_inb : ∀ (v8094 : BitVec 32) (v8099 : BitVec 32) (v8109 : BitVec 32) (v8125 : BitVec 32) (v8134 : BitVec 32) (v8143 : BitVec 32) (v8152 : BitVec 32) (v8161 : BitVec 32) (v8170 : BitVec 32) (v8179 : BitVec 32) (v8253 : BitVec 32) (k0_hw41 : k0_chk41 v8094 v8099 v8109 v8125 v8134 v8143 v8152 v8161 v8170 v8179 v8253), ∀ a, (k0_off863 v8094 v8099 v8170 v8253) a + S1x16x256.size a ≤ S200x216x256.size a := fun v8094 v8099 v8109 v8125 v8134 v8143 v8152 v8161 v8170 v8179 v8253 k0_hw41 => k0_hw41.2.2.2.2.2.2.2.2.2.2.2.1
theorem k0_off864_inb : ∀ (v8094 : BitVec 32) (v8099 : BitVec 32) (v8109 : BitVec 32) (v8125 : BitVec 32) (v8134 : BitVec 32) (v8143 : BitVec 32) (v8152 : BitVec 32) (v8161 : BitVec 32) (v8170 : BitVec 32) (v8179 : BitVec 32) (v8253 : BitVec 32) (k0_hw41 : k0_chk41 v8094 v8099 v8109 v8125 v8134 v8143 v8152 v8161 v8170 v8179 v8253), ∀ a, (k0_off864 v8094 v8099 v8109 v8170 v8253) a + S1x16x256.size a ≤ S200x216x256.size a := fun v8094 v8099 v8109 v8125 v8134 v8143 v8152 v8161 v8170 v8179 v8253 k0_hw41 => k0_hw41.2.2.2.2.2.2.2.2.2.2.2.2.1
theorem k0_off884_inb : ∀ (v8094 : BitVec 32) (v8099 : BitVec 32) (v8109 : BitVec 32) (v8125 : BitVec 32) (v8134 : BitVec 32) (v8143 : BitVec 32) (v8152 : BitVec 32) (v8161 : BitVec 32) (v8170 : BitVec 32) (v8179 : BitVec 32) (v8253 : BitVec 32) (k0_hw41 : k0_chk41 v8094 v8099 v8109 v8125 v8134 v8143 v8152 v8161 v8170 v8179 v8253), ∀ a, (k0_off884 v8094 v8099 v8179 v8253) a + S1x16x256.size a ≤ S200x216x256.size a := fun v8094 v8099 v8109 v8125 v8134 v8143 v8152 v8161 v8170 v8179 v8253 k0_hw41 => k0_hw41.2.2.2.2.2.2.2.2.2.2.2.2.2.1
theorem k0_off885_inb : ∀ (v8094 : BitVec 32) (v8099 : BitVec 32) (v8109 : BitVec 32) (v8125 : BitVec 32) (v8134 : BitVec 32) (v8143 : BitVec 32) (v8152 : BitVec 32) (v8161 : BitVec 32) (v8170 : BitVec 32) (v8179 : BitVec 32) (v8253 : BitVec 32) (k0_hw41 : k0_chk41 v8094 v8099 v8109 v8125 v8134 v8143 v8152 v8161 v8170 v8179 v8253), ∀ a, (k0_off885 v8094 v8099 v8109 v8179 v8253) a + S1x16x256.size a ≤ S200x216x256.size a := fun v8094 v8099 v8109 v8125 v8134 v8143 v8152 v8161 v8170 v8179 v8253 k0_hw41 => k0_hw41.2.2.2.2.2.2.2.2.2.2.2.2.2.2

def k0_off886 (k0_t1 : Fin k0_t1_loop.trips) : Fin 3 → Nat :=
  let c47_2326 : Index := 47#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c5_i32 : BitVec 32 := 5#32
  let v8086 : BitVec 32 := Scalar.addi v5 c5_i32
  let v9669 : Index := Scalar.indexCast v8086
  let c0_2327 : Index := 0#32
  ![47, v9669.toNat, 0]
def k0_off887 (v8094 : BitVec 32) (v8099 : BitVec 32) (v8179 : BitVec 32) (v8266 : BitVec 32) : Fin 3 → Nat :=
  let c199_i32_1945 : BitVec 32 := 199#32
  let c0_i32_1944 : BitVec 32 := 0#32
  let v8100 : BitVec 32 := Scalar.maxsi c0_i32_1944 v8099
  let v8101 : BitVec 32 := Scalar.minsi c199_i32_1945 v8100
  let v8180 : BitVec 32 := Scalar.addi v8101 v8179
  let v9674 : Index := Scalar.indexCast v8180
  let c199_i32_1942 : BitVec 32 := 199#32
  let c0_i32_1941 : BitVec 32 := 0#32
  let v8095 : BitVec 32 := Scalar.maxsi c0_i32_1941 v8094
  let v8096 : BitVec 32 := Scalar.minsi c199_i32_1942 v8095
  let v8267 : BitVec 32 := Scalar.addi v8096 v8266
  let c3_i32_2030 : BitVec 32 := 3#32
  let v8270 : BitVec 32 := Scalar.shrsi v8267 c3_i32_2030
  let c3_i32_2031 : BitVec 32 := 3#32
  let v8271 : BitVec 32 := Scalar.shli v8270 c3_i32_2031
  let v8272 : BitVec 32 := v8271
  let v9675 : Index := Scalar.indexCast v8272
  let c0_2329 : Index := 0#32
  ![v9674.toNat, v9675.toNat, 0]
def k0_off888 (v8094 : BitVec 32) (v8099 : BitVec 32) (v8109 : BitVec 32) (v8179 : BitVec 32) (v8266 : BitVec 32) : Fin 3 → Nat :=
  let c199_i32_1945 : BitVec 32 := 199#32
  let c0_i32_1944 : BitVec 32 := 0#32
  let v8100 : BitVec 32 := Scalar.maxsi c0_i32_1944 v8099
  let v8101 : BitVec 32 := Scalar.minsi c199_i32_1945 v8100
  let v8180 : BitVec 32 := Scalar.addi v8101 v8179
  let c1_i32_1983 : BitVec 32 := 1#32
  let v8181 : BitVec 32 := Scalar.addi v8180 c1_i32_1983
  let c199_i32_1951 : BitVec 32 := 199#32
  let c0_i32_1950 : BitVec 32 := 0#32
  let v8110 : BitVec 32 := Scalar.maxsi c0_i32_1950 v8109
  let v8111 : BitVec 32 := Scalar.minsi c199_i32_1951 v8110
  let v8182 : BitVec 32 := Scalar.minsi v8181 v8111
  let v9678 : Index := Scalar.indexCast v8182
  let c199_i32_1942 : BitVec 32 := 199#32
  let c0_i32_1941 : BitVec 32 := 0#32
  let v8095 : BitVec 32 := Scalar.maxsi c0_i32_1941 v8094
  let v8096 : BitVec 32 := Scalar.minsi c199_i32_1942 v8095
  let v8267 : BitVec 32 := Scalar.addi v8096 v8266
  let c3_i32_2030 : BitVec 32 := 3#32
  let v8270 : BitVec 32 := Scalar.shrsi v8267 c3_i32_2030
  let c3_i32_2031 : BitVec 32 := 3#32
  let v8271 : BitVec 32 := Scalar.shli v8270 c3_i32_2031
  let v8272 : BitVec 32 := v8271
  let v9679 : Index := Scalar.indexCast v8272
  let c0_2330 : Index := 0#32
  ![v9678.toNat, v9679.toNat, 0]

def k0_chk42 (v8094 : BitVec 32) (v8099 : BitVec 32) (v8109 : BitVec 32) (v8125 : BitVec 32) (v8134 : BitVec 32) (v8143 : BitVec 32) (v8152 : BitVec 32) (v8161 : BitVec 32) (v8170 : BitVec 32) (v8179 : BitVec 32) (v8266 : BitVec 32) : Prop :=
  (8 ∣ (k0_mult43 v8094 v8266).toNat) ∧
  (∀ a, (k0_off761 v8094 v8099 v8125 v8266) a + S1x16x256.size a ≤ S200x216x256.size a) ∧
  (∀ a, (k0_off762 v8094 v8099 v8109 v8125 v8266) a + S1x16x256.size a ≤ S200x216x256.size a) ∧
  (∀ a, (k0_off782 v8094 v8099 v8134 v8266) a + S1x16x256.size a ≤ S200x216x256.size a) ∧
  (∀ a, (k0_off783 v8094 v8099 v8109 v8134 v8266) a + S1x16x256.size a ≤ S200x216x256.size a) ∧
  (∀ a, (k0_off803 v8094 v8099 v8143 v8266) a + S1x16x256.size a ≤ S200x216x256.size a) ∧
  (∀ a, (k0_off804 v8094 v8099 v8109 v8143 v8266) a + S1x16x256.size a ≤ S200x216x256.size a) ∧
  (∀ a, (k0_off824 v8094 v8099 v8152 v8266) a + S1x16x256.size a ≤ S200x216x256.size a) ∧
  (∀ a, (k0_off825 v8094 v8099 v8109 v8152 v8266) a + S1x16x256.size a ≤ S200x216x256.size a) ∧
  (∀ a, (k0_off845 v8094 v8099 v8161 v8266) a + S1x16x256.size a ≤ S200x216x256.size a) ∧
  (∀ a, (k0_off846 v8094 v8099 v8109 v8161 v8266) a + S1x16x256.size a ≤ S200x216x256.size a) ∧
  (∀ a, (k0_off866 v8094 v8099 v8170 v8266) a + S1x16x256.size a ≤ S200x216x256.size a) ∧
  (∀ a, (k0_off867 v8094 v8099 v8109 v8170 v8266) a + S1x16x256.size a ≤ S200x216x256.size a) ∧
  (∀ a, (k0_off887 v8094 v8099 v8179 v8266) a + S1x16x256.size a ≤ S200x216x256.size a) ∧
  (∀ a, (k0_off888 v8094 v8099 v8109 v8179 v8266) a + S1x16x256.size a ≤ S200x216x256.size a)
theorem k0_mult43_dvd : ∀ (v8094 : BitVec 32) (v8099 : BitVec 32) (v8109 : BitVec 32) (v8125 : BitVec 32) (v8134 : BitVec 32) (v8143 : BitVec 32) (v8152 : BitVec 32) (v8161 : BitVec 32) (v8170 : BitVec 32) (v8179 : BitVec 32) (v8266 : BitVec 32) (k0_hw42 : k0_chk42 v8094 v8099 v8109 v8125 v8134 v8143 v8152 v8161 v8170 v8179 v8266), 8 ∣ (k0_mult43 v8094 v8266).toNat := fun v8094 v8099 v8109 v8125 v8134 v8143 v8152 v8161 v8170 v8179 v8266 k0_hw42 => k0_hw42.1
theorem k0_off761_inb : ∀ (v8094 : BitVec 32) (v8099 : BitVec 32) (v8109 : BitVec 32) (v8125 : BitVec 32) (v8134 : BitVec 32) (v8143 : BitVec 32) (v8152 : BitVec 32) (v8161 : BitVec 32) (v8170 : BitVec 32) (v8179 : BitVec 32) (v8266 : BitVec 32) (k0_hw42 : k0_chk42 v8094 v8099 v8109 v8125 v8134 v8143 v8152 v8161 v8170 v8179 v8266), ∀ a, (k0_off761 v8094 v8099 v8125 v8266) a + S1x16x256.size a ≤ S200x216x256.size a := fun v8094 v8099 v8109 v8125 v8134 v8143 v8152 v8161 v8170 v8179 v8266 k0_hw42 => k0_hw42.2.1
theorem k0_off762_inb : ∀ (v8094 : BitVec 32) (v8099 : BitVec 32) (v8109 : BitVec 32) (v8125 : BitVec 32) (v8134 : BitVec 32) (v8143 : BitVec 32) (v8152 : BitVec 32) (v8161 : BitVec 32) (v8170 : BitVec 32) (v8179 : BitVec 32) (v8266 : BitVec 32) (k0_hw42 : k0_chk42 v8094 v8099 v8109 v8125 v8134 v8143 v8152 v8161 v8170 v8179 v8266), ∀ a, (k0_off762 v8094 v8099 v8109 v8125 v8266) a + S1x16x256.size a ≤ S200x216x256.size a := fun v8094 v8099 v8109 v8125 v8134 v8143 v8152 v8161 v8170 v8179 v8266 k0_hw42 => k0_hw42.2.2.1
theorem k0_off782_inb : ∀ (v8094 : BitVec 32) (v8099 : BitVec 32) (v8109 : BitVec 32) (v8125 : BitVec 32) (v8134 : BitVec 32) (v8143 : BitVec 32) (v8152 : BitVec 32) (v8161 : BitVec 32) (v8170 : BitVec 32) (v8179 : BitVec 32) (v8266 : BitVec 32) (k0_hw42 : k0_chk42 v8094 v8099 v8109 v8125 v8134 v8143 v8152 v8161 v8170 v8179 v8266), ∀ a, (k0_off782 v8094 v8099 v8134 v8266) a + S1x16x256.size a ≤ S200x216x256.size a := fun v8094 v8099 v8109 v8125 v8134 v8143 v8152 v8161 v8170 v8179 v8266 k0_hw42 => k0_hw42.2.2.2.1
theorem k0_off783_inb : ∀ (v8094 : BitVec 32) (v8099 : BitVec 32) (v8109 : BitVec 32) (v8125 : BitVec 32) (v8134 : BitVec 32) (v8143 : BitVec 32) (v8152 : BitVec 32) (v8161 : BitVec 32) (v8170 : BitVec 32) (v8179 : BitVec 32) (v8266 : BitVec 32) (k0_hw42 : k0_chk42 v8094 v8099 v8109 v8125 v8134 v8143 v8152 v8161 v8170 v8179 v8266), ∀ a, (k0_off783 v8094 v8099 v8109 v8134 v8266) a + S1x16x256.size a ≤ S200x216x256.size a := fun v8094 v8099 v8109 v8125 v8134 v8143 v8152 v8161 v8170 v8179 v8266 k0_hw42 => k0_hw42.2.2.2.2.1
theorem k0_off803_inb : ∀ (v8094 : BitVec 32) (v8099 : BitVec 32) (v8109 : BitVec 32) (v8125 : BitVec 32) (v8134 : BitVec 32) (v8143 : BitVec 32) (v8152 : BitVec 32) (v8161 : BitVec 32) (v8170 : BitVec 32) (v8179 : BitVec 32) (v8266 : BitVec 32) (k0_hw42 : k0_chk42 v8094 v8099 v8109 v8125 v8134 v8143 v8152 v8161 v8170 v8179 v8266), ∀ a, (k0_off803 v8094 v8099 v8143 v8266) a + S1x16x256.size a ≤ S200x216x256.size a := fun v8094 v8099 v8109 v8125 v8134 v8143 v8152 v8161 v8170 v8179 v8266 k0_hw42 => k0_hw42.2.2.2.2.2.1
theorem k0_off804_inb : ∀ (v8094 : BitVec 32) (v8099 : BitVec 32) (v8109 : BitVec 32) (v8125 : BitVec 32) (v8134 : BitVec 32) (v8143 : BitVec 32) (v8152 : BitVec 32) (v8161 : BitVec 32) (v8170 : BitVec 32) (v8179 : BitVec 32) (v8266 : BitVec 32) (k0_hw42 : k0_chk42 v8094 v8099 v8109 v8125 v8134 v8143 v8152 v8161 v8170 v8179 v8266), ∀ a, (k0_off804 v8094 v8099 v8109 v8143 v8266) a + S1x16x256.size a ≤ S200x216x256.size a := fun v8094 v8099 v8109 v8125 v8134 v8143 v8152 v8161 v8170 v8179 v8266 k0_hw42 => k0_hw42.2.2.2.2.2.2.1
theorem k0_off824_inb : ∀ (v8094 : BitVec 32) (v8099 : BitVec 32) (v8109 : BitVec 32) (v8125 : BitVec 32) (v8134 : BitVec 32) (v8143 : BitVec 32) (v8152 : BitVec 32) (v8161 : BitVec 32) (v8170 : BitVec 32) (v8179 : BitVec 32) (v8266 : BitVec 32) (k0_hw42 : k0_chk42 v8094 v8099 v8109 v8125 v8134 v8143 v8152 v8161 v8170 v8179 v8266), ∀ a, (k0_off824 v8094 v8099 v8152 v8266) a + S1x16x256.size a ≤ S200x216x256.size a := fun v8094 v8099 v8109 v8125 v8134 v8143 v8152 v8161 v8170 v8179 v8266 k0_hw42 => k0_hw42.2.2.2.2.2.2.2.1
theorem k0_off825_inb : ∀ (v8094 : BitVec 32) (v8099 : BitVec 32) (v8109 : BitVec 32) (v8125 : BitVec 32) (v8134 : BitVec 32) (v8143 : BitVec 32) (v8152 : BitVec 32) (v8161 : BitVec 32) (v8170 : BitVec 32) (v8179 : BitVec 32) (v8266 : BitVec 32) (k0_hw42 : k0_chk42 v8094 v8099 v8109 v8125 v8134 v8143 v8152 v8161 v8170 v8179 v8266), ∀ a, (k0_off825 v8094 v8099 v8109 v8152 v8266) a + S1x16x256.size a ≤ S200x216x256.size a := fun v8094 v8099 v8109 v8125 v8134 v8143 v8152 v8161 v8170 v8179 v8266 k0_hw42 => k0_hw42.2.2.2.2.2.2.2.2.1
theorem k0_off845_inb : ∀ (v8094 : BitVec 32) (v8099 : BitVec 32) (v8109 : BitVec 32) (v8125 : BitVec 32) (v8134 : BitVec 32) (v8143 : BitVec 32) (v8152 : BitVec 32) (v8161 : BitVec 32) (v8170 : BitVec 32) (v8179 : BitVec 32) (v8266 : BitVec 32) (k0_hw42 : k0_chk42 v8094 v8099 v8109 v8125 v8134 v8143 v8152 v8161 v8170 v8179 v8266), ∀ a, (k0_off845 v8094 v8099 v8161 v8266) a + S1x16x256.size a ≤ S200x216x256.size a := fun v8094 v8099 v8109 v8125 v8134 v8143 v8152 v8161 v8170 v8179 v8266 k0_hw42 => k0_hw42.2.2.2.2.2.2.2.2.2.1
theorem k0_off846_inb : ∀ (v8094 : BitVec 32) (v8099 : BitVec 32) (v8109 : BitVec 32) (v8125 : BitVec 32) (v8134 : BitVec 32) (v8143 : BitVec 32) (v8152 : BitVec 32) (v8161 : BitVec 32) (v8170 : BitVec 32) (v8179 : BitVec 32) (v8266 : BitVec 32) (k0_hw42 : k0_chk42 v8094 v8099 v8109 v8125 v8134 v8143 v8152 v8161 v8170 v8179 v8266), ∀ a, (k0_off846 v8094 v8099 v8109 v8161 v8266) a + S1x16x256.size a ≤ S200x216x256.size a := fun v8094 v8099 v8109 v8125 v8134 v8143 v8152 v8161 v8170 v8179 v8266 k0_hw42 => k0_hw42.2.2.2.2.2.2.2.2.2.2.1
theorem k0_off866_inb : ∀ (v8094 : BitVec 32) (v8099 : BitVec 32) (v8109 : BitVec 32) (v8125 : BitVec 32) (v8134 : BitVec 32) (v8143 : BitVec 32) (v8152 : BitVec 32) (v8161 : BitVec 32) (v8170 : BitVec 32) (v8179 : BitVec 32) (v8266 : BitVec 32) (k0_hw42 : k0_chk42 v8094 v8099 v8109 v8125 v8134 v8143 v8152 v8161 v8170 v8179 v8266), ∀ a, (k0_off866 v8094 v8099 v8170 v8266) a + S1x16x256.size a ≤ S200x216x256.size a := fun v8094 v8099 v8109 v8125 v8134 v8143 v8152 v8161 v8170 v8179 v8266 k0_hw42 => k0_hw42.2.2.2.2.2.2.2.2.2.2.2.1
theorem k0_off867_inb : ∀ (v8094 : BitVec 32) (v8099 : BitVec 32) (v8109 : BitVec 32) (v8125 : BitVec 32) (v8134 : BitVec 32) (v8143 : BitVec 32) (v8152 : BitVec 32) (v8161 : BitVec 32) (v8170 : BitVec 32) (v8179 : BitVec 32) (v8266 : BitVec 32) (k0_hw42 : k0_chk42 v8094 v8099 v8109 v8125 v8134 v8143 v8152 v8161 v8170 v8179 v8266), ∀ a, (k0_off867 v8094 v8099 v8109 v8170 v8266) a + S1x16x256.size a ≤ S200x216x256.size a := fun v8094 v8099 v8109 v8125 v8134 v8143 v8152 v8161 v8170 v8179 v8266 k0_hw42 => k0_hw42.2.2.2.2.2.2.2.2.2.2.2.2.1
theorem k0_off887_inb : ∀ (v8094 : BitVec 32) (v8099 : BitVec 32) (v8109 : BitVec 32) (v8125 : BitVec 32) (v8134 : BitVec 32) (v8143 : BitVec 32) (v8152 : BitVec 32) (v8161 : BitVec 32) (v8170 : BitVec 32) (v8179 : BitVec 32) (v8266 : BitVec 32) (k0_hw42 : k0_chk42 v8094 v8099 v8109 v8125 v8134 v8143 v8152 v8161 v8170 v8179 v8266), ∀ a, (k0_off887 v8094 v8099 v8179 v8266) a + S1x16x256.size a ≤ S200x216x256.size a := fun v8094 v8099 v8109 v8125 v8134 v8143 v8152 v8161 v8170 v8179 v8266 k0_hw42 => k0_hw42.2.2.2.2.2.2.2.2.2.2.2.2.2.1
theorem k0_off888_inb : ∀ (v8094 : BitVec 32) (v8099 : BitVec 32) (v8109 : BitVec 32) (v8125 : BitVec 32) (v8134 : BitVec 32) (v8143 : BitVec 32) (v8152 : BitVec 32) (v8161 : BitVec 32) (v8170 : BitVec 32) (v8179 : BitVec 32) (v8266 : BitVec 32) (k0_hw42 : k0_chk42 v8094 v8099 v8109 v8125 v8134 v8143 v8152 v8161 v8170 v8179 v8266), ∀ a, (k0_off888 v8094 v8099 v8109 v8179 v8266) a + S1x16x256.size a ≤ S200x216x256.size a := fun v8094 v8099 v8109 v8125 v8134 v8143 v8152 v8161 v8170 v8179 v8266 k0_hw42 => k0_hw42.2.2.2.2.2.2.2.2.2.2.2.2.2.2

def k0_off889 (k0_t1 : Fin k0_t1_loop.trips) : Fin 3 → Nat :=
  let c48_2332 : Index := 48#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c5_i32 : BitVec 32 := 5#32
  let v8086 : BitVec 32 := Scalar.addi v5 c5_i32
  let v9698 : Index := Scalar.indexCast v8086
  let c0_2333 : Index := 0#32
  ![48, v9698.toNat, 0]
def k0_off890 (i : grid0.Coords) (k0_t1 : Fin k0_t1_loop.trips) (c0_i32_2337 : BitVec 32) : Fin 1 → Nat :=
  let arg0 : BitVec 32 := BitVec.ofNat 32 (i 0).val
  let c256_i32_2334 : BitVec 32 := 256#32
  let v9703 : BitVec 32 := Scalar.muli arg0 c256_i32_2334
  let arg1 : BitVec 32 := BitVec.ofNat 32 (i 1).val
  let c32_i32_2335 : BitVec 32 := 32#32
  let v9704 : BitVec 32 := Scalar.muli arg1 c32_i32_2335
  let v9705 : BitVec 32 := Scalar.addi v9703 v9704
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c6_i32 : BitVec 32 := 6#32
  let v9702 : BitVec 32 := Scalar.addi v5 c6_i32
  let v9706 : BitVec 32 := Scalar.addi v9705 v9702
  let c4_i32_2336 : BitVec 32 := 4#32
  let v9707 : BitVec 32 := Scalar.muli v9706 c4_i32_2336
  let v9708 : BitVec 32 := Scalar.addi v9707 c0_i32_2337
  let v9709 : Index := Scalar.indexCast v9708
  ![v9709.toNat]
def k0_mult44 (v9710 : BitVec 32) (v9804 : BitVec 32) : BitVec 32 :=
  let c199_i32_2339 : BitVec 32 := 199#32
  let c0_i32_2338 : BitVec 32 := 0#32
  let v9711 : BitVec 32 := Scalar.maxsi c0_i32_2338 v9710
  let v9712 : BitVec 32 := Scalar.minsi c199_i32_2339 v9711
  let v9805 : BitVec 32 := Scalar.addi v9712 v9804
  let c3_i32_2385 : BitVec 32 := 3#32
  let v9808 : BitVec 32 := Scalar.shrsi v9805 c3_i32_2385
  let c3_i32_2386 : BitVec 32 := 3#32
  let v9809 : BitVec 32 := Scalar.shli v9808 c3_i32_2386
  v9809

def k0_mult45 (v9710 : BitVec 32) (v9817 : BitVec 32) : BitVec 32 :=
  let c199_i32_2339 : BitVec 32 := 199#32
  let c0_i32_2338 : BitVec 32 := 0#32
  let v9711 : BitVec 32 := Scalar.maxsi c0_i32_2338 v9710
  let v9712 : BitVec 32 := Scalar.minsi c199_i32_2339 v9711
  let v9818 : BitVec 32 := Scalar.addi v9712 v9817
  let c3_i32_2392 : BitVec 32 := 3#32
  let v9821 : BitVec 32 := Scalar.shrsi v9818 c3_i32_2392
  let c3_i32_2393 : BitVec 32 := 3#32
  let v9822 : BitVec 32 := Scalar.shli v9821 c3_i32_2393
  v9822

def k0_mult46 (v9710 : BitVec 32) (v9830 : BitVec 32) : BitVec 32 :=
  let c199_i32_2339 : BitVec 32 := 199#32
  let c0_i32_2338 : BitVec 32 := 0#32
  let v9711 : BitVec 32 := Scalar.maxsi c0_i32_2338 v9710
  let v9712 : BitVec 32 := Scalar.minsi c199_i32_2339 v9711
  let v9831 : BitVec 32 := Scalar.addi v9712 v9830
  let c3_i32_2399 : BitVec 32 := 3#32
  let v9834 : BitVec 32 := Scalar.shrsi v9831 c3_i32_2399
  let c3_i32_2400 : BitVec 32 := 3#32
  let v9835 : BitVec 32 := Scalar.shli v9834 c3_i32_2400
  v9835

def k0_mult47 (v9710 : BitVec 32) (v9843 : BitVec 32) : BitVec 32 :=
  let c199_i32_2339 : BitVec 32 := 199#32
  let c0_i32_2338 : BitVec 32 := 0#32
  let v9711 : BitVec 32 := Scalar.maxsi c0_i32_2338 v9710
  let v9712 : BitVec 32 := Scalar.minsi c199_i32_2339 v9711
  let v9844 : BitVec 32 := Scalar.addi v9712 v9843
  let c3_i32_2406 : BitVec 32 := 3#32
  let v9847 : BitVec 32 := Scalar.shrsi v9844 c3_i32_2406
  let c3_i32_2407 : BitVec 32 := 3#32
  let v9848 : BitVec 32 := Scalar.shli v9847 c3_i32_2407
  v9848

def k0_mult48 (v9710 : BitVec 32) (v9856 : BitVec 32) : BitVec 32 :=
  let c199_i32_2339 : BitVec 32 := 199#32
  let c0_i32_2338 : BitVec 32 := 0#32
  let v9711 : BitVec 32 := Scalar.maxsi c0_i32_2338 v9710
  let v9712 : BitVec 32 := Scalar.minsi c199_i32_2339 v9711
  let v9857 : BitVec 32 := Scalar.addi v9712 v9856
  let c3_i32_2413 : BitVec 32 := 3#32
  let v9860 : BitVec 32 := Scalar.shrsi v9857 c3_i32_2413
  let c3_i32_2414 : BitVec 32 := 3#32
  let v9861 : BitVec 32 := Scalar.shli v9860 c3_i32_2414
  v9861

def k0_mult49 (v9710 : BitVec 32) (v9869 : BitVec 32) : BitVec 32 :=
  let c199_i32_2339 : BitVec 32 := 199#32
  let c0_i32_2338 : BitVec 32 := 0#32
  let v9711 : BitVec 32 := Scalar.maxsi c0_i32_2338 v9710
  let v9712 : BitVec 32 := Scalar.minsi c199_i32_2339 v9711
  let v9870 : BitVec 32 := Scalar.addi v9712 v9869
  let c3_i32_2420 : BitVec 32 := 3#32
  let v9873 : BitVec 32 := Scalar.shrsi v9870 c3_i32_2420
  let c3_i32_2421 : BitVec 32 := 3#32
  let v9874 : BitVec 32 := Scalar.shli v9873 c3_i32_2421
  v9874

def k0_mult50 (v9710 : BitVec 32) (v9882 : BitVec 32) : BitVec 32 :=
  let c199_i32_2339 : BitVec 32 := 199#32
  let c0_i32_2338 : BitVec 32 := 0#32
  let v9711 : BitVec 32 := Scalar.maxsi c0_i32_2338 v9710
  let v9712 : BitVec 32 := Scalar.minsi c199_i32_2339 v9711
  let v9883 : BitVec 32 := Scalar.addi v9712 v9882
  let c3_i32_2427 : BitVec 32 := 3#32
  let v9886 : BitVec 32 := Scalar.shrsi v9883 c3_i32_2427
  let c3_i32_2428 : BitVec 32 := 3#32
  let v9887 : BitVec 32 := Scalar.shli v9886 c3_i32_2428
  v9887

def k0_off891 (v9710 : BitVec 32) (v9715 : BitVec 32) (v9741 : BitVec 32) (v9804 : BitVec 32) : Fin 3 → Nat :=
  let c199_i32_2342 : BitVec 32 := 199#32
  let c0_i32_2341 : BitVec 32 := 0#32
  let v9716 : BitVec 32 := Scalar.maxsi c0_i32_2341 v9715
  let v9717 : BitVec 32 := Scalar.minsi c199_i32_2342 v9716
  let v9742 : BitVec 32 := Scalar.addi v9717 v9741
  let v9892 : Index := Scalar.indexCast v9742
  let c199_i32_2339 : BitVec 32 := 199#32
  let c0_i32_2338 : BitVec 32 := 0#32
  let v9711 : BitVec 32 := Scalar.maxsi c0_i32_2338 v9710
  let v9712 : BitVec 32 := Scalar.minsi c199_i32_2339 v9711
  let v9805 : BitVec 32 := Scalar.addi v9712 v9804
  let c3_i32_2385 : BitVec 32 := 3#32
  let v9808 : BitVec 32 := Scalar.shrsi v9805 c3_i32_2385
  let c3_i32_2386 : BitVec 32 := 3#32
  let v9809 : BitVec 32 := Scalar.shli v9808 c3_i32_2386
  let v9810 : BitVec 32 := v9809
  let v9893 : Index := Scalar.indexCast v9810
  let c0_2432 : Index := 0#32
  ![v9892.toNat, v9893.toNat, 0]
def k0_off892 (v9710 : BitVec 32) (v9715 : BitVec 32) (v9725 : BitVec 32) (v9741 : BitVec 32) (v9804 : BitVec 32) : Fin 3 → Nat :=
  let c199_i32_2342 : BitVec 32 := 199#32
  let c0_i32_2341 : BitVec 32 := 0#32
  let v9716 : BitVec 32 := Scalar.maxsi c0_i32_2341 v9715
  let v9717 : BitVec 32 := Scalar.minsi c199_i32_2342 v9716
  let v9742 : BitVec 32 := Scalar.addi v9717 v9741
  let c1_i32_2356 : BitVec 32 := 1#32
  let v9743 : BitVec 32 := Scalar.addi v9742 c1_i32_2356
  let c199_i32_2348 : BitVec 32 := 199#32
  let c0_i32_2347 : BitVec 32 := 0#32
  let v9726 : BitVec 32 := Scalar.maxsi c0_i32_2347 v9725
  let v9727 : BitVec 32 := Scalar.minsi c199_i32_2348 v9726
  let v9744 : BitVec 32 := Scalar.minsi v9743 v9727
  let v9896 : Index := Scalar.indexCast v9744
  let c199_i32_2339 : BitVec 32 := 199#32
  let c0_i32_2338 : BitVec 32 := 0#32
  let v9711 : BitVec 32 := Scalar.maxsi c0_i32_2338 v9710
  let v9712 : BitVec 32 := Scalar.minsi c199_i32_2339 v9711
  let v9805 : BitVec 32 := Scalar.addi v9712 v9804
  let c3_i32_2385 : BitVec 32 := 3#32
  let v9808 : BitVec 32 := Scalar.shrsi v9805 c3_i32_2385
  let c3_i32_2386 : BitVec 32 := 3#32
  let v9809 : BitVec 32 := Scalar.shli v9808 c3_i32_2386
  let v9810 : BitVec 32 := v9809
  let v9897 : Index := Scalar.indexCast v9810
  let c0_2433 : Index := 0#32
  ![v9896.toNat, v9897.toNat, 0]
def k0_off893 (k0_t1 : Fin k0_t1_loop.trips) : Fin 3 → Nat :=
  let c0_2435 : Index := 0#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c6_i32 : BitVec 32 := 6#32
  let v9702 : BitVec 32 := Scalar.addi v5 c6_i32
  let v9916 : Index := Scalar.indexCast v9702
  let c0_2436 : Index := 0#32
  ![0, v9916.toNat, 0]
def k0_off894 (v9710 : BitVec 32) (v9715 : BitVec 32) (v9741 : BitVec 32) (v9817 : BitVec 32) : Fin 3 → Nat :=
  let c199_i32_2342 : BitVec 32 := 199#32
  let c0_i32_2341 : BitVec 32 := 0#32
  let v9716 : BitVec 32 := Scalar.maxsi c0_i32_2341 v9715
  let v9717 : BitVec 32 := Scalar.minsi c199_i32_2342 v9716
  let v9742 : BitVec 32 := Scalar.addi v9717 v9741
  let v9921 : Index := Scalar.indexCast v9742
  let c199_i32_2339 : BitVec 32 := 199#32
  let c0_i32_2338 : BitVec 32 := 0#32
  let v9711 : BitVec 32 := Scalar.maxsi c0_i32_2338 v9710
  let v9712 : BitVec 32 := Scalar.minsi c199_i32_2339 v9711
  let v9818 : BitVec 32 := Scalar.addi v9712 v9817
  let c3_i32_2392 : BitVec 32 := 3#32
  let v9821 : BitVec 32 := Scalar.shrsi v9818 c3_i32_2392
  let c3_i32_2393 : BitVec 32 := 3#32
  let v9822 : BitVec 32 := Scalar.shli v9821 c3_i32_2393
  let v9823 : BitVec 32 := v9822
  let v9922 : Index := Scalar.indexCast v9823
  let c0_2438 : Index := 0#32
  ![v9921.toNat, v9922.toNat, 0]
def k0_off895 (v9710 : BitVec 32) (v9715 : BitVec 32) (v9725 : BitVec 32) (v9741 : BitVec 32) (v9817 : BitVec 32) : Fin 3 → Nat :=
  let c199_i32_2342 : BitVec 32 := 199#32
  let c0_i32_2341 : BitVec 32 := 0#32
  let v9716 : BitVec 32 := Scalar.maxsi c0_i32_2341 v9715
  let v9717 : BitVec 32 := Scalar.minsi c199_i32_2342 v9716
  let v9742 : BitVec 32 := Scalar.addi v9717 v9741
  let c1_i32_2356 : BitVec 32 := 1#32
  let v9743 : BitVec 32 := Scalar.addi v9742 c1_i32_2356
  let c199_i32_2348 : BitVec 32 := 199#32
  let c0_i32_2347 : BitVec 32 := 0#32
  let v9726 : BitVec 32 := Scalar.maxsi c0_i32_2347 v9725
  let v9727 : BitVec 32 := Scalar.minsi c199_i32_2348 v9726
  let v9744 : BitVec 32 := Scalar.minsi v9743 v9727
  let v9925 : Index := Scalar.indexCast v9744
  let c199_i32_2339 : BitVec 32 := 199#32
  let c0_i32_2338 : BitVec 32 := 0#32
  let v9711 : BitVec 32 := Scalar.maxsi c0_i32_2338 v9710
  let v9712 : BitVec 32 := Scalar.minsi c199_i32_2339 v9711
  let v9818 : BitVec 32 := Scalar.addi v9712 v9817
  let c3_i32_2392 : BitVec 32 := 3#32
  let v9821 : BitVec 32 := Scalar.shrsi v9818 c3_i32_2392
  let c3_i32_2393 : BitVec 32 := 3#32
  let v9822 : BitVec 32 := Scalar.shli v9821 c3_i32_2393
  let v9823 : BitVec 32 := v9822
  let v9926 : Index := Scalar.indexCast v9823
  let c0_2439 : Index := 0#32
  ![v9925.toNat, v9926.toNat, 0]
def k0_off896 (k0_t1 : Fin k0_t1_loop.trips) : Fin 3 → Nat :=
  let c1_2441 : Index := 1#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c6_i32 : BitVec 32 := 6#32
  let v9702 : BitVec 32 := Scalar.addi v5 c6_i32
  let v9945 : Index := Scalar.indexCast v9702
  let c0_2442 : Index := 0#32
  ![1, v9945.toNat, 0]
def k0_off897 (v9710 : BitVec 32) (v9715 : BitVec 32) (v9741 : BitVec 32) (v9830 : BitVec 32) : Fin 3 → Nat :=
  let c199_i32_2342 : BitVec 32 := 199#32
  let c0_i32_2341 : BitVec 32 := 0#32
  let v9716 : BitVec 32 := Scalar.maxsi c0_i32_2341 v9715
  let v9717 : BitVec 32 := Scalar.minsi c199_i32_2342 v9716
  let v9742 : BitVec 32 := Scalar.addi v9717 v9741
  let v9950 : Index := Scalar.indexCast v9742
  let c199_i32_2339 : BitVec 32 := 199#32
  let c0_i32_2338 : BitVec 32 := 0#32
  let v9711 : BitVec 32 := Scalar.maxsi c0_i32_2338 v9710
  let v9712 : BitVec 32 := Scalar.minsi c199_i32_2339 v9711
  let v9831 : BitVec 32 := Scalar.addi v9712 v9830
  let c3_i32_2399 : BitVec 32 := 3#32
  let v9834 : BitVec 32 := Scalar.shrsi v9831 c3_i32_2399
  let c3_i32_2400 : BitVec 32 := 3#32
  let v9835 : BitVec 32 := Scalar.shli v9834 c3_i32_2400
  let v9836 : BitVec 32 := v9835
  let v9951 : Index := Scalar.indexCast v9836
  let c0_2444 : Index := 0#32
  ![v9950.toNat, v9951.toNat, 0]
def k0_off898 (v9710 : BitVec 32) (v9715 : BitVec 32) (v9725 : BitVec 32) (v9741 : BitVec 32) (v9830 : BitVec 32) : Fin 3 → Nat :=
  let c199_i32_2342 : BitVec 32 := 199#32
  let c0_i32_2341 : BitVec 32 := 0#32
  let v9716 : BitVec 32 := Scalar.maxsi c0_i32_2341 v9715
  let v9717 : BitVec 32 := Scalar.minsi c199_i32_2342 v9716
  let v9742 : BitVec 32 := Scalar.addi v9717 v9741
  let c1_i32_2356 : BitVec 32 := 1#32
  let v9743 : BitVec 32 := Scalar.addi v9742 c1_i32_2356
  let c199_i32_2348 : BitVec 32 := 199#32
  let c0_i32_2347 : BitVec 32 := 0#32
  let v9726 : BitVec 32 := Scalar.maxsi c0_i32_2347 v9725
  let v9727 : BitVec 32 := Scalar.minsi c199_i32_2348 v9726
  let v9744 : BitVec 32 := Scalar.minsi v9743 v9727
  let v9954 : Index := Scalar.indexCast v9744
  let c199_i32_2339 : BitVec 32 := 199#32
  let c0_i32_2338 : BitVec 32 := 0#32
  let v9711 : BitVec 32 := Scalar.maxsi c0_i32_2338 v9710
  let v9712 : BitVec 32 := Scalar.minsi c199_i32_2339 v9711
  let v9831 : BitVec 32 := Scalar.addi v9712 v9830
  let c3_i32_2399 : BitVec 32 := 3#32
  let v9834 : BitVec 32 := Scalar.shrsi v9831 c3_i32_2399
  let c3_i32_2400 : BitVec 32 := 3#32
  let v9835 : BitVec 32 := Scalar.shli v9834 c3_i32_2400
  let v9836 : BitVec 32 := v9835
  let v9955 : Index := Scalar.indexCast v9836
  let c0_2445 : Index := 0#32
  ![v9954.toNat, v9955.toNat, 0]
def k0_off899 (k0_t1 : Fin k0_t1_loop.trips) : Fin 3 → Nat :=
  let c2_2447 : Index := 2#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c6_i32 : BitVec 32 := 6#32
  let v9702 : BitVec 32 := Scalar.addi v5 c6_i32
  let v9974 : Index := Scalar.indexCast v9702
  let c0_2448 : Index := 0#32
  ![2, v9974.toNat, 0]
def k0_off900 (v9710 : BitVec 32) (v9715 : BitVec 32) (v9741 : BitVec 32) (v9843 : BitVec 32) : Fin 3 → Nat :=
  let c199_i32_2342 : BitVec 32 := 199#32
  let c0_i32_2341 : BitVec 32 := 0#32
  let v9716 : BitVec 32 := Scalar.maxsi c0_i32_2341 v9715
  let v9717 : BitVec 32 := Scalar.minsi c199_i32_2342 v9716
  let v9742 : BitVec 32 := Scalar.addi v9717 v9741
  let v9979 : Index := Scalar.indexCast v9742
  let c199_i32_2339 : BitVec 32 := 199#32
  let c0_i32_2338 : BitVec 32 := 0#32
  let v9711 : BitVec 32 := Scalar.maxsi c0_i32_2338 v9710
  let v9712 : BitVec 32 := Scalar.minsi c199_i32_2339 v9711
  let v9844 : BitVec 32 := Scalar.addi v9712 v9843
  let c3_i32_2406 : BitVec 32 := 3#32
  let v9847 : BitVec 32 := Scalar.shrsi v9844 c3_i32_2406
  let c3_i32_2407 : BitVec 32 := 3#32
  let v9848 : BitVec 32 := Scalar.shli v9847 c3_i32_2407
  let v9849 : BitVec 32 := v9848
  let v9980 : Index := Scalar.indexCast v9849
  let c0_2450 : Index := 0#32
  ![v9979.toNat, v9980.toNat, 0]
def k0_off901 (v9710 : BitVec 32) (v9715 : BitVec 32) (v9725 : BitVec 32) (v9741 : BitVec 32) (v9843 : BitVec 32) : Fin 3 → Nat :=
  let c199_i32_2342 : BitVec 32 := 199#32
  let c0_i32_2341 : BitVec 32 := 0#32
  let v9716 : BitVec 32 := Scalar.maxsi c0_i32_2341 v9715
  let v9717 : BitVec 32 := Scalar.minsi c199_i32_2342 v9716
  let v9742 : BitVec 32 := Scalar.addi v9717 v9741
  let c1_i32_2356 : BitVec 32 := 1#32
  let v9743 : BitVec 32 := Scalar.addi v9742 c1_i32_2356
  let c199_i32_2348 : BitVec 32 := 199#32
  let c0_i32_2347 : BitVec 32 := 0#32
  let v9726 : BitVec 32 := Scalar.maxsi c0_i32_2347 v9725
  let v9727 : BitVec 32 := Scalar.minsi c199_i32_2348 v9726
  let v9744 : BitVec 32 := Scalar.minsi v9743 v9727
  let v9983 : Index := Scalar.indexCast v9744
  let c199_i32_2339 : BitVec 32 := 199#32
  let c0_i32_2338 : BitVec 32 := 0#32
  let v9711 : BitVec 32 := Scalar.maxsi c0_i32_2338 v9710
  let v9712 : BitVec 32 := Scalar.minsi c199_i32_2339 v9711
  let v9844 : BitVec 32 := Scalar.addi v9712 v9843
  let c3_i32_2406 : BitVec 32 := 3#32
  let v9847 : BitVec 32 := Scalar.shrsi v9844 c3_i32_2406
  let c3_i32_2407 : BitVec 32 := 3#32
  let v9848 : BitVec 32 := Scalar.shli v9847 c3_i32_2407
  let v9849 : BitVec 32 := v9848
  let v9984 : Index := Scalar.indexCast v9849
  let c0_2451 : Index := 0#32
  ![v9983.toNat, v9984.toNat, 0]
def k0_off902 (k0_t1 : Fin k0_t1_loop.trips) : Fin 3 → Nat :=
  let c3_2453 : Index := 3#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c6_i32 : BitVec 32 := 6#32
  let v9702 : BitVec 32 := Scalar.addi v5 c6_i32
  let v10003 : Index := Scalar.indexCast v9702
  let c0_2454 : Index := 0#32
  ![3, v10003.toNat, 0]
def k0_off903 (v9710 : BitVec 32) (v9715 : BitVec 32) (v9741 : BitVec 32) (v9856 : BitVec 32) : Fin 3 → Nat :=
  let c199_i32_2342 : BitVec 32 := 199#32
  let c0_i32_2341 : BitVec 32 := 0#32
  let v9716 : BitVec 32 := Scalar.maxsi c0_i32_2341 v9715
  let v9717 : BitVec 32 := Scalar.minsi c199_i32_2342 v9716
  let v9742 : BitVec 32 := Scalar.addi v9717 v9741
  let v10008 : Index := Scalar.indexCast v9742
  let c199_i32_2339 : BitVec 32 := 199#32
  let c0_i32_2338 : BitVec 32 := 0#32
  let v9711 : BitVec 32 := Scalar.maxsi c0_i32_2338 v9710
  let v9712 : BitVec 32 := Scalar.minsi c199_i32_2339 v9711
  let v9857 : BitVec 32 := Scalar.addi v9712 v9856
  let c3_i32_2413 : BitVec 32 := 3#32
  let v9860 : BitVec 32 := Scalar.shrsi v9857 c3_i32_2413
  let c3_i32_2414 : BitVec 32 := 3#32
  let v9861 : BitVec 32 := Scalar.shli v9860 c3_i32_2414
  let v9862 : BitVec 32 := v9861
  let v10009 : Index := Scalar.indexCast v9862
  let c0_2456 : Index := 0#32
  ![v10008.toNat, v10009.toNat, 0]
def k0_off904 (v9710 : BitVec 32) (v9715 : BitVec 32) (v9725 : BitVec 32) (v9741 : BitVec 32) (v9856 : BitVec 32) : Fin 3 → Nat :=
  let c199_i32_2342 : BitVec 32 := 199#32
  let c0_i32_2341 : BitVec 32 := 0#32
  let v9716 : BitVec 32 := Scalar.maxsi c0_i32_2341 v9715
  let v9717 : BitVec 32 := Scalar.minsi c199_i32_2342 v9716
  let v9742 : BitVec 32 := Scalar.addi v9717 v9741
  let c1_i32_2356 : BitVec 32 := 1#32
  let v9743 : BitVec 32 := Scalar.addi v9742 c1_i32_2356
  let c199_i32_2348 : BitVec 32 := 199#32
  let c0_i32_2347 : BitVec 32 := 0#32
  let v9726 : BitVec 32 := Scalar.maxsi c0_i32_2347 v9725
  let v9727 : BitVec 32 := Scalar.minsi c199_i32_2348 v9726
  let v9744 : BitVec 32 := Scalar.minsi v9743 v9727
  let v10012 : Index := Scalar.indexCast v9744
  let c199_i32_2339 : BitVec 32 := 199#32
  let c0_i32_2338 : BitVec 32 := 0#32
  let v9711 : BitVec 32 := Scalar.maxsi c0_i32_2338 v9710
  let v9712 : BitVec 32 := Scalar.minsi c199_i32_2339 v9711
  let v9857 : BitVec 32 := Scalar.addi v9712 v9856
  let c3_i32_2413 : BitVec 32 := 3#32
  let v9860 : BitVec 32 := Scalar.shrsi v9857 c3_i32_2413
  let c3_i32_2414 : BitVec 32 := 3#32
  let v9861 : BitVec 32 := Scalar.shli v9860 c3_i32_2414
  let v9862 : BitVec 32 := v9861
  let v10013 : Index := Scalar.indexCast v9862
  let c0_2457 : Index := 0#32
  ![v10012.toNat, v10013.toNat, 0]
def k0_off905 (k0_t1 : Fin k0_t1_loop.trips) : Fin 3 → Nat :=
  let c4_2459 : Index := 4#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c6_i32 : BitVec 32 := 6#32
  let v9702 : BitVec 32 := Scalar.addi v5 c6_i32
  let v10032 : Index := Scalar.indexCast v9702
  let c0_2460 : Index := 0#32
  ![4, v10032.toNat, 0]
def k0_off906 (v9710 : BitVec 32) (v9715 : BitVec 32) (v9741 : BitVec 32) (v9869 : BitVec 32) : Fin 3 → Nat :=
  let c199_i32_2342 : BitVec 32 := 199#32
  let c0_i32_2341 : BitVec 32 := 0#32
  let v9716 : BitVec 32 := Scalar.maxsi c0_i32_2341 v9715
  let v9717 : BitVec 32 := Scalar.minsi c199_i32_2342 v9716
  let v9742 : BitVec 32 := Scalar.addi v9717 v9741
  let v10037 : Index := Scalar.indexCast v9742
  let c199_i32_2339 : BitVec 32 := 199#32
  let c0_i32_2338 : BitVec 32 := 0#32
  let v9711 : BitVec 32 := Scalar.maxsi c0_i32_2338 v9710
  let v9712 : BitVec 32 := Scalar.minsi c199_i32_2339 v9711
  let v9870 : BitVec 32 := Scalar.addi v9712 v9869
  let c3_i32_2420 : BitVec 32 := 3#32
  let v9873 : BitVec 32 := Scalar.shrsi v9870 c3_i32_2420
  let c3_i32_2421 : BitVec 32 := 3#32
  let v9874 : BitVec 32 := Scalar.shli v9873 c3_i32_2421
  let v9875 : BitVec 32 := v9874
  let v10038 : Index := Scalar.indexCast v9875
  let c0_2462 : Index := 0#32
  ![v10037.toNat, v10038.toNat, 0]
def k0_off907 (v9710 : BitVec 32) (v9715 : BitVec 32) (v9725 : BitVec 32) (v9741 : BitVec 32) (v9869 : BitVec 32) : Fin 3 → Nat :=
  let c199_i32_2342 : BitVec 32 := 199#32
  let c0_i32_2341 : BitVec 32 := 0#32
  let v9716 : BitVec 32 := Scalar.maxsi c0_i32_2341 v9715
  let v9717 : BitVec 32 := Scalar.minsi c199_i32_2342 v9716
  let v9742 : BitVec 32 := Scalar.addi v9717 v9741
  let c1_i32_2356 : BitVec 32 := 1#32
  let v9743 : BitVec 32 := Scalar.addi v9742 c1_i32_2356
  let c199_i32_2348 : BitVec 32 := 199#32
  let c0_i32_2347 : BitVec 32 := 0#32
  let v9726 : BitVec 32 := Scalar.maxsi c0_i32_2347 v9725
  let v9727 : BitVec 32 := Scalar.minsi c199_i32_2348 v9726
  let v9744 : BitVec 32 := Scalar.minsi v9743 v9727
  let v10041 : Index := Scalar.indexCast v9744
  let c199_i32_2339 : BitVec 32 := 199#32
  let c0_i32_2338 : BitVec 32 := 0#32
  let v9711 : BitVec 32 := Scalar.maxsi c0_i32_2338 v9710
  let v9712 : BitVec 32 := Scalar.minsi c199_i32_2339 v9711
  let v9870 : BitVec 32 := Scalar.addi v9712 v9869
  let c3_i32_2420 : BitVec 32 := 3#32
  let v9873 : BitVec 32 := Scalar.shrsi v9870 c3_i32_2420
  let c3_i32_2421 : BitVec 32 := 3#32
  let v9874 : BitVec 32 := Scalar.shli v9873 c3_i32_2421
  let v9875 : BitVec 32 := v9874
  let v10042 : Index := Scalar.indexCast v9875
  let c0_2463 : Index := 0#32
  ![v10041.toNat, v10042.toNat, 0]
def k0_off908 (k0_t1 : Fin k0_t1_loop.trips) : Fin 3 → Nat :=
  let c5_2465 : Index := 5#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c6_i32 : BitVec 32 := 6#32
  let v9702 : BitVec 32 := Scalar.addi v5 c6_i32
  let v10061 : Index := Scalar.indexCast v9702
  let c0_2466 : Index := 0#32
  ![5, v10061.toNat, 0]
def k0_off909 (v9710 : BitVec 32) (v9715 : BitVec 32) (v9741 : BitVec 32) (v9882 : BitVec 32) : Fin 3 → Nat :=
  let c199_i32_2342 : BitVec 32 := 199#32
  let c0_i32_2341 : BitVec 32 := 0#32
  let v9716 : BitVec 32 := Scalar.maxsi c0_i32_2341 v9715
  let v9717 : BitVec 32 := Scalar.minsi c199_i32_2342 v9716
  let v9742 : BitVec 32 := Scalar.addi v9717 v9741
  let v10066 : Index := Scalar.indexCast v9742
  let c199_i32_2339 : BitVec 32 := 199#32
  let c0_i32_2338 : BitVec 32 := 0#32
  let v9711 : BitVec 32 := Scalar.maxsi c0_i32_2338 v9710
  let v9712 : BitVec 32 := Scalar.minsi c199_i32_2339 v9711
  let v9883 : BitVec 32 := Scalar.addi v9712 v9882
  let c3_i32_2427 : BitVec 32 := 3#32
  let v9886 : BitVec 32 := Scalar.shrsi v9883 c3_i32_2427
  let c3_i32_2428 : BitVec 32 := 3#32
  let v9887 : BitVec 32 := Scalar.shli v9886 c3_i32_2428
  let v9888 : BitVec 32 := v9887
  let v10067 : Index := Scalar.indexCast v9888
  let c0_2468 : Index := 0#32
  ![v10066.toNat, v10067.toNat, 0]
def k0_off910 (v9710 : BitVec 32) (v9715 : BitVec 32) (v9725 : BitVec 32) (v9741 : BitVec 32) (v9882 : BitVec 32) : Fin 3 → Nat :=
  let c199_i32_2342 : BitVec 32 := 199#32
  let c0_i32_2341 : BitVec 32 := 0#32
  let v9716 : BitVec 32 := Scalar.maxsi c0_i32_2341 v9715
  let v9717 : BitVec 32 := Scalar.minsi c199_i32_2342 v9716
  let v9742 : BitVec 32 := Scalar.addi v9717 v9741
  let c1_i32_2356 : BitVec 32 := 1#32
  let v9743 : BitVec 32 := Scalar.addi v9742 c1_i32_2356
  let c199_i32_2348 : BitVec 32 := 199#32
  let c0_i32_2347 : BitVec 32 := 0#32
  let v9726 : BitVec 32 := Scalar.maxsi c0_i32_2347 v9725
  let v9727 : BitVec 32 := Scalar.minsi c199_i32_2348 v9726
  let v9744 : BitVec 32 := Scalar.minsi v9743 v9727
  let v10070 : Index := Scalar.indexCast v9744
  let c199_i32_2339 : BitVec 32 := 199#32
  let c0_i32_2338 : BitVec 32 := 0#32
  let v9711 : BitVec 32 := Scalar.maxsi c0_i32_2338 v9710
  let v9712 : BitVec 32 := Scalar.minsi c199_i32_2339 v9711
  let v9883 : BitVec 32 := Scalar.addi v9712 v9882
  let c3_i32_2427 : BitVec 32 := 3#32
  let v9886 : BitVec 32 := Scalar.shrsi v9883 c3_i32_2427
  let c3_i32_2428 : BitVec 32 := 3#32
  let v9887 : BitVec 32 := Scalar.shli v9886 c3_i32_2428
  let v9888 : BitVec 32 := v9887
  let v10071 : Index := Scalar.indexCast v9888
  let c0_2469 : Index := 0#32
  ![v10070.toNat, v10071.toNat, 0]
def k0_off911 (k0_t1 : Fin k0_t1_loop.trips) : Fin 3 → Nat :=
  let c6_2471 : Index := 6#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c6_i32 : BitVec 32 := 6#32
  let v9702 : BitVec 32 := Scalar.addi v5 c6_i32
  let v10090 : Index := Scalar.indexCast v9702
  let c0_2472 : Index := 0#32
  ![6, v10090.toNat, 0]
def k0_off912 (v9710 : BitVec 32) (v9715 : BitVec 32) (v9750 : BitVec 32) (v9804 : BitVec 32) : Fin 3 → Nat :=
  let c199_i32_2342 : BitVec 32 := 199#32
  let c0_i32_2341 : BitVec 32 := 0#32
  let v9716 : BitVec 32 := Scalar.maxsi c0_i32_2341 v9715
  let v9717 : BitVec 32 := Scalar.minsi c199_i32_2342 v9716
  let v9751 : BitVec 32 := Scalar.addi v9717 v9750
  let v10096 : Index := Scalar.indexCast v9751
  let c199_i32_2339 : BitVec 32 := 199#32
  let c0_i32_2338 : BitVec 32 := 0#32
  let v9711 : BitVec 32 := Scalar.maxsi c0_i32_2338 v9710
  let v9712 : BitVec 32 := Scalar.minsi c199_i32_2339 v9711
  let v9805 : BitVec 32 := Scalar.addi v9712 v9804
  let c3_i32_2385 : BitVec 32 := 3#32
  let v9808 : BitVec 32 := Scalar.shrsi v9805 c3_i32_2385
  let c3_i32_2386 : BitVec 32 := 3#32
  let v9809 : BitVec 32 := Scalar.shli v9808 c3_i32_2386
  let v9810 : BitVec 32 := v9809
  let v10097 : Index := Scalar.indexCast v9810
  let c0_2475 : Index := 0#32
  ![v10096.toNat, v10097.toNat, 0]
def k0_off913 (v9710 : BitVec 32) (v9715 : BitVec 32) (v9725 : BitVec 32) (v9750 : BitVec 32) (v9804 : BitVec 32) : Fin 3 → Nat :=
  let c199_i32_2342 : BitVec 32 := 199#32
  let c0_i32_2341 : BitVec 32 := 0#32
  let v9716 : BitVec 32 := Scalar.maxsi c0_i32_2341 v9715
  let v9717 : BitVec 32 := Scalar.minsi c199_i32_2342 v9716
  let v9751 : BitVec 32 := Scalar.addi v9717 v9750
  let c1_i32_2360 : BitVec 32 := 1#32
  let v9752 : BitVec 32 := Scalar.addi v9751 c1_i32_2360
  let c199_i32_2348 : BitVec 32 := 199#32
  let c0_i32_2347 : BitVec 32 := 0#32
  let v9726 : BitVec 32 := Scalar.maxsi c0_i32_2347 v9725
  let v9727 : BitVec 32 := Scalar.minsi c199_i32_2348 v9726
  let v9753 : BitVec 32 := Scalar.minsi v9752 v9727
  let v10100 : Index := Scalar.indexCast v9753
  let c199_i32_2339 : BitVec 32 := 199#32
  let c0_i32_2338 : BitVec 32 := 0#32
  let v9711 : BitVec 32 := Scalar.maxsi c0_i32_2338 v9710
  let v9712 : BitVec 32 := Scalar.minsi c199_i32_2339 v9711
  let v9805 : BitVec 32 := Scalar.addi v9712 v9804
  let c3_i32_2385 : BitVec 32 := 3#32
  let v9808 : BitVec 32 := Scalar.shrsi v9805 c3_i32_2385
  let c3_i32_2386 : BitVec 32 := 3#32
  let v9809 : BitVec 32 := Scalar.shli v9808 c3_i32_2386
  let v9810 : BitVec 32 := v9809
  let v10101 : Index := Scalar.indexCast v9810
  let c0_2476 : Index := 0#32
  ![v10100.toNat, v10101.toNat, 0]
def k0_off914 (k0_t1 : Fin k0_t1_loop.trips) : Fin 3 → Nat :=
  let c7_2478 : Index := 7#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c6_i32 : BitVec 32 := 6#32
  let v9702 : BitVec 32 := Scalar.addi v5 c6_i32
  let v10120 : Index := Scalar.indexCast v9702
  let c0_2479 : Index := 0#32
  ![7, v10120.toNat, 0]
def k0_off915 (v9710 : BitVec 32) (v9715 : BitVec 32) (v9750 : BitVec 32) (v9817 : BitVec 32) : Fin 3 → Nat :=
  let c199_i32_2342 : BitVec 32 := 199#32
  let c0_i32_2341 : BitVec 32 := 0#32
  let v9716 : BitVec 32 := Scalar.maxsi c0_i32_2341 v9715
  let v9717 : BitVec 32 := Scalar.minsi c199_i32_2342 v9716
  let v9751 : BitVec 32 := Scalar.addi v9717 v9750
  let v10125 : Index := Scalar.indexCast v9751
  let c199_i32_2339 : BitVec 32 := 199#32
  let c0_i32_2338 : BitVec 32 := 0#32
  let v9711 : BitVec 32 := Scalar.maxsi c0_i32_2338 v9710
  let v9712 : BitVec 32 := Scalar.minsi c199_i32_2339 v9711
  let v9818 : BitVec 32 := Scalar.addi v9712 v9817
  let c3_i32_2392 : BitVec 32 := 3#32
  let v9821 : BitVec 32 := Scalar.shrsi v9818 c3_i32_2392
  let c3_i32_2393 : BitVec 32 := 3#32
  let v9822 : BitVec 32 := Scalar.shli v9821 c3_i32_2393
  let v9823 : BitVec 32 := v9822
  let v10126 : Index := Scalar.indexCast v9823
  let c0_2481 : Index := 0#32
  ![v10125.toNat, v10126.toNat, 0]
def k0_off916 (v9710 : BitVec 32) (v9715 : BitVec 32) (v9725 : BitVec 32) (v9750 : BitVec 32) (v9817 : BitVec 32) : Fin 3 → Nat :=
  let c199_i32_2342 : BitVec 32 := 199#32
  let c0_i32_2341 : BitVec 32 := 0#32
  let v9716 : BitVec 32 := Scalar.maxsi c0_i32_2341 v9715
  let v9717 : BitVec 32 := Scalar.minsi c199_i32_2342 v9716
  let v9751 : BitVec 32 := Scalar.addi v9717 v9750
  let c1_i32_2360 : BitVec 32 := 1#32
  let v9752 : BitVec 32 := Scalar.addi v9751 c1_i32_2360
  let c199_i32_2348 : BitVec 32 := 199#32
  let c0_i32_2347 : BitVec 32 := 0#32
  let v9726 : BitVec 32 := Scalar.maxsi c0_i32_2347 v9725
  let v9727 : BitVec 32 := Scalar.minsi c199_i32_2348 v9726
  let v9753 : BitVec 32 := Scalar.minsi v9752 v9727
  let v10129 : Index := Scalar.indexCast v9753
  let c199_i32_2339 : BitVec 32 := 199#32
  let c0_i32_2338 : BitVec 32 := 0#32
  let v9711 : BitVec 32 := Scalar.maxsi c0_i32_2338 v9710
  let v9712 : BitVec 32 := Scalar.minsi c199_i32_2339 v9711
  let v9818 : BitVec 32 := Scalar.addi v9712 v9817
  let c3_i32_2392 : BitVec 32 := 3#32
  let v9821 : BitVec 32 := Scalar.shrsi v9818 c3_i32_2392
  let c3_i32_2393 : BitVec 32 := 3#32
  let v9822 : BitVec 32 := Scalar.shli v9821 c3_i32_2393
  let v9823 : BitVec 32 := v9822
  let v10130 : Index := Scalar.indexCast v9823
  let c0_2482 : Index := 0#32
  ![v10129.toNat, v10130.toNat, 0]
def k0_off917 (k0_t1 : Fin k0_t1_loop.trips) : Fin 3 → Nat :=
  let c8_2484 : Index := 8#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c6_i32 : BitVec 32 := 6#32
  let v9702 : BitVec 32 := Scalar.addi v5 c6_i32
  let v10149 : Index := Scalar.indexCast v9702
  let c0_2485 : Index := 0#32
  ![8, v10149.toNat, 0]
def k0_off918 (v9710 : BitVec 32) (v9715 : BitVec 32) (v9750 : BitVec 32) (v9830 : BitVec 32) : Fin 3 → Nat :=
  let c199_i32_2342 : BitVec 32 := 199#32
  let c0_i32_2341 : BitVec 32 := 0#32
  let v9716 : BitVec 32 := Scalar.maxsi c0_i32_2341 v9715
  let v9717 : BitVec 32 := Scalar.minsi c199_i32_2342 v9716
  let v9751 : BitVec 32 := Scalar.addi v9717 v9750
  let v10154 : Index := Scalar.indexCast v9751
  let c199_i32_2339 : BitVec 32 := 199#32
  let c0_i32_2338 : BitVec 32 := 0#32
  let v9711 : BitVec 32 := Scalar.maxsi c0_i32_2338 v9710
  let v9712 : BitVec 32 := Scalar.minsi c199_i32_2339 v9711
  let v9831 : BitVec 32 := Scalar.addi v9712 v9830
  let c3_i32_2399 : BitVec 32 := 3#32
  let v9834 : BitVec 32 := Scalar.shrsi v9831 c3_i32_2399
  let c3_i32_2400 : BitVec 32 := 3#32
  let v9835 : BitVec 32 := Scalar.shli v9834 c3_i32_2400
  let v9836 : BitVec 32 := v9835
  let v10155 : Index := Scalar.indexCast v9836
  let c0_2487 : Index := 0#32
  ![v10154.toNat, v10155.toNat, 0]
def k0_off919 (v9710 : BitVec 32) (v9715 : BitVec 32) (v9725 : BitVec 32) (v9750 : BitVec 32) (v9830 : BitVec 32) : Fin 3 → Nat :=
  let c199_i32_2342 : BitVec 32 := 199#32
  let c0_i32_2341 : BitVec 32 := 0#32
  let v9716 : BitVec 32 := Scalar.maxsi c0_i32_2341 v9715
  let v9717 : BitVec 32 := Scalar.minsi c199_i32_2342 v9716
  let v9751 : BitVec 32 := Scalar.addi v9717 v9750
  let c1_i32_2360 : BitVec 32 := 1#32
  let v9752 : BitVec 32 := Scalar.addi v9751 c1_i32_2360
  let c199_i32_2348 : BitVec 32 := 199#32
  let c0_i32_2347 : BitVec 32 := 0#32
  let v9726 : BitVec 32 := Scalar.maxsi c0_i32_2347 v9725
  let v9727 : BitVec 32 := Scalar.minsi c199_i32_2348 v9726
  let v9753 : BitVec 32 := Scalar.minsi v9752 v9727
  let v10158 : Index := Scalar.indexCast v9753
  let c199_i32_2339 : BitVec 32 := 199#32
  let c0_i32_2338 : BitVec 32 := 0#32
  let v9711 : BitVec 32 := Scalar.maxsi c0_i32_2338 v9710
  let v9712 : BitVec 32 := Scalar.minsi c199_i32_2339 v9711
  let v9831 : BitVec 32 := Scalar.addi v9712 v9830
  let c3_i32_2399 : BitVec 32 := 3#32
  let v9834 : BitVec 32 := Scalar.shrsi v9831 c3_i32_2399
  let c3_i32_2400 : BitVec 32 := 3#32
  let v9835 : BitVec 32 := Scalar.shli v9834 c3_i32_2400
  let v9836 : BitVec 32 := v9835
  let v10159 : Index := Scalar.indexCast v9836
  let c0_2488 : Index := 0#32
  ![v10158.toNat, v10159.toNat, 0]
def k0_off920 (k0_t1 : Fin k0_t1_loop.trips) : Fin 3 → Nat :=
  let c9_2490 : Index := 9#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c6_i32 : BitVec 32 := 6#32
  let v9702 : BitVec 32 := Scalar.addi v5 c6_i32
  let v10178 : Index := Scalar.indexCast v9702
  let c0_2491 : Index := 0#32
  ![9, v10178.toNat, 0]
def k0_off921 (v9710 : BitVec 32) (v9715 : BitVec 32) (v9750 : BitVec 32) (v9843 : BitVec 32) : Fin 3 → Nat :=
  let c199_i32_2342 : BitVec 32 := 199#32
  let c0_i32_2341 : BitVec 32 := 0#32
  let v9716 : BitVec 32 := Scalar.maxsi c0_i32_2341 v9715
  let v9717 : BitVec 32 := Scalar.minsi c199_i32_2342 v9716
  let v9751 : BitVec 32 := Scalar.addi v9717 v9750
  let v10183 : Index := Scalar.indexCast v9751
  let c199_i32_2339 : BitVec 32 := 199#32
  let c0_i32_2338 : BitVec 32 := 0#32
  let v9711 : BitVec 32 := Scalar.maxsi c0_i32_2338 v9710
  let v9712 : BitVec 32 := Scalar.minsi c199_i32_2339 v9711
  let v9844 : BitVec 32 := Scalar.addi v9712 v9843
  let c3_i32_2406 : BitVec 32 := 3#32
  let v9847 : BitVec 32 := Scalar.shrsi v9844 c3_i32_2406
  let c3_i32_2407 : BitVec 32 := 3#32
  let v9848 : BitVec 32 := Scalar.shli v9847 c3_i32_2407
  let v9849 : BitVec 32 := v9848
  let v10184 : Index := Scalar.indexCast v9849
  let c0_2493 : Index := 0#32
  ![v10183.toNat, v10184.toNat, 0]
def k0_off922 (v9710 : BitVec 32) (v9715 : BitVec 32) (v9725 : BitVec 32) (v9750 : BitVec 32) (v9843 : BitVec 32) : Fin 3 → Nat :=
  let c199_i32_2342 : BitVec 32 := 199#32
  let c0_i32_2341 : BitVec 32 := 0#32
  let v9716 : BitVec 32 := Scalar.maxsi c0_i32_2341 v9715
  let v9717 : BitVec 32 := Scalar.minsi c199_i32_2342 v9716
  let v9751 : BitVec 32 := Scalar.addi v9717 v9750
  let c1_i32_2360 : BitVec 32 := 1#32
  let v9752 : BitVec 32 := Scalar.addi v9751 c1_i32_2360
  let c199_i32_2348 : BitVec 32 := 199#32
  let c0_i32_2347 : BitVec 32 := 0#32
  let v9726 : BitVec 32 := Scalar.maxsi c0_i32_2347 v9725
  let v9727 : BitVec 32 := Scalar.minsi c199_i32_2348 v9726
  let v9753 : BitVec 32 := Scalar.minsi v9752 v9727
  let v10187 : Index := Scalar.indexCast v9753
  let c199_i32_2339 : BitVec 32 := 199#32
  let c0_i32_2338 : BitVec 32 := 0#32
  let v9711 : BitVec 32 := Scalar.maxsi c0_i32_2338 v9710
  let v9712 : BitVec 32 := Scalar.minsi c199_i32_2339 v9711
  let v9844 : BitVec 32 := Scalar.addi v9712 v9843
  let c3_i32_2406 : BitVec 32 := 3#32
  let v9847 : BitVec 32 := Scalar.shrsi v9844 c3_i32_2406
  let c3_i32_2407 : BitVec 32 := 3#32
  let v9848 : BitVec 32 := Scalar.shli v9847 c3_i32_2407
  let v9849 : BitVec 32 := v9848
  let v10188 : Index := Scalar.indexCast v9849
  let c0_2494 : Index := 0#32
  ![v10187.toNat, v10188.toNat, 0]
def k0_off923 (k0_t1 : Fin k0_t1_loop.trips) : Fin 3 → Nat :=
  let c10_2496 : Index := 10#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c6_i32 : BitVec 32 := 6#32
  let v9702 : BitVec 32 := Scalar.addi v5 c6_i32
  let v10207 : Index := Scalar.indexCast v9702
  let c0_2497 : Index := 0#32
  ![10, v10207.toNat, 0]
def k0_off924 (v9710 : BitVec 32) (v9715 : BitVec 32) (v9750 : BitVec 32) (v9856 : BitVec 32) : Fin 3 → Nat :=
  let c199_i32_2342 : BitVec 32 := 199#32
  let c0_i32_2341 : BitVec 32 := 0#32
  let v9716 : BitVec 32 := Scalar.maxsi c0_i32_2341 v9715
  let v9717 : BitVec 32 := Scalar.minsi c199_i32_2342 v9716
  let v9751 : BitVec 32 := Scalar.addi v9717 v9750
  let v10212 : Index := Scalar.indexCast v9751
  let c199_i32_2339 : BitVec 32 := 199#32
  let c0_i32_2338 : BitVec 32 := 0#32
  let v9711 : BitVec 32 := Scalar.maxsi c0_i32_2338 v9710
  let v9712 : BitVec 32 := Scalar.minsi c199_i32_2339 v9711
  let v9857 : BitVec 32 := Scalar.addi v9712 v9856
  let c3_i32_2413 : BitVec 32 := 3#32
  let v9860 : BitVec 32 := Scalar.shrsi v9857 c3_i32_2413
  let c3_i32_2414 : BitVec 32 := 3#32
  let v9861 : BitVec 32 := Scalar.shli v9860 c3_i32_2414
  let v9862 : BitVec 32 := v9861
  let v10213 : Index := Scalar.indexCast v9862
  let c0_2499 : Index := 0#32
  ![v10212.toNat, v10213.toNat, 0]
def k0_off925 (v9710 : BitVec 32) (v9715 : BitVec 32) (v9725 : BitVec 32) (v9750 : BitVec 32) (v9856 : BitVec 32) : Fin 3 → Nat :=
  let c199_i32_2342 : BitVec 32 := 199#32
  let c0_i32_2341 : BitVec 32 := 0#32
  let v9716 : BitVec 32 := Scalar.maxsi c0_i32_2341 v9715
  let v9717 : BitVec 32 := Scalar.minsi c199_i32_2342 v9716
  let v9751 : BitVec 32 := Scalar.addi v9717 v9750
  let c1_i32_2360 : BitVec 32 := 1#32
  let v9752 : BitVec 32 := Scalar.addi v9751 c1_i32_2360
  let c199_i32_2348 : BitVec 32 := 199#32
  let c0_i32_2347 : BitVec 32 := 0#32
  let v9726 : BitVec 32 := Scalar.maxsi c0_i32_2347 v9725
  let v9727 : BitVec 32 := Scalar.minsi c199_i32_2348 v9726
  let v9753 : BitVec 32 := Scalar.minsi v9752 v9727
  let v10216 : Index := Scalar.indexCast v9753
  let c199_i32_2339 : BitVec 32 := 199#32
  let c0_i32_2338 : BitVec 32 := 0#32
  let v9711 : BitVec 32 := Scalar.maxsi c0_i32_2338 v9710
  let v9712 : BitVec 32 := Scalar.minsi c199_i32_2339 v9711
  let v9857 : BitVec 32 := Scalar.addi v9712 v9856
  let c3_i32_2413 : BitVec 32 := 3#32
  let v9860 : BitVec 32 := Scalar.shrsi v9857 c3_i32_2413
  let c3_i32_2414 : BitVec 32 := 3#32
  let v9861 : BitVec 32 := Scalar.shli v9860 c3_i32_2414
  let v9862 : BitVec 32 := v9861
  let v10217 : Index := Scalar.indexCast v9862
  let c0_2500 : Index := 0#32
  ![v10216.toNat, v10217.toNat, 0]
def k0_off926 (k0_t1 : Fin k0_t1_loop.trips) : Fin 3 → Nat :=
  let c11_2502 : Index := 11#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c6_i32 : BitVec 32 := 6#32
  let v9702 : BitVec 32 := Scalar.addi v5 c6_i32
  let v10236 : Index := Scalar.indexCast v9702
  let c0_2503 : Index := 0#32
  ![11, v10236.toNat, 0]
def k0_off927 (v9710 : BitVec 32) (v9715 : BitVec 32) (v9750 : BitVec 32) (v9869 : BitVec 32) : Fin 3 → Nat :=
  let c199_i32_2342 : BitVec 32 := 199#32
  let c0_i32_2341 : BitVec 32 := 0#32
  let v9716 : BitVec 32 := Scalar.maxsi c0_i32_2341 v9715
  let v9717 : BitVec 32 := Scalar.minsi c199_i32_2342 v9716
  let v9751 : BitVec 32 := Scalar.addi v9717 v9750
  let v10241 : Index := Scalar.indexCast v9751
  let c199_i32_2339 : BitVec 32 := 199#32
  let c0_i32_2338 : BitVec 32 := 0#32
  let v9711 : BitVec 32 := Scalar.maxsi c0_i32_2338 v9710
  let v9712 : BitVec 32 := Scalar.minsi c199_i32_2339 v9711
  let v9870 : BitVec 32 := Scalar.addi v9712 v9869
  let c3_i32_2420 : BitVec 32 := 3#32
  let v9873 : BitVec 32 := Scalar.shrsi v9870 c3_i32_2420
  let c3_i32_2421 : BitVec 32 := 3#32
  let v9874 : BitVec 32 := Scalar.shli v9873 c3_i32_2421
  let v9875 : BitVec 32 := v9874
  let v10242 : Index := Scalar.indexCast v9875
  let c0_2505 : Index := 0#32
  ![v10241.toNat, v10242.toNat, 0]
def k0_off928 (v9710 : BitVec 32) (v9715 : BitVec 32) (v9725 : BitVec 32) (v9750 : BitVec 32) (v9869 : BitVec 32) : Fin 3 → Nat :=
  let c199_i32_2342 : BitVec 32 := 199#32
  let c0_i32_2341 : BitVec 32 := 0#32
  let v9716 : BitVec 32 := Scalar.maxsi c0_i32_2341 v9715
  let v9717 : BitVec 32 := Scalar.minsi c199_i32_2342 v9716
  let v9751 : BitVec 32 := Scalar.addi v9717 v9750
  let c1_i32_2360 : BitVec 32 := 1#32
  let v9752 : BitVec 32 := Scalar.addi v9751 c1_i32_2360
  let c199_i32_2348 : BitVec 32 := 199#32
  let c0_i32_2347 : BitVec 32 := 0#32
  let v9726 : BitVec 32 := Scalar.maxsi c0_i32_2347 v9725
  let v9727 : BitVec 32 := Scalar.minsi c199_i32_2348 v9726
  let v9753 : BitVec 32 := Scalar.minsi v9752 v9727
  let v10245 : Index := Scalar.indexCast v9753
  let c199_i32_2339 : BitVec 32 := 199#32
  let c0_i32_2338 : BitVec 32 := 0#32
  let v9711 : BitVec 32 := Scalar.maxsi c0_i32_2338 v9710
  let v9712 : BitVec 32 := Scalar.minsi c199_i32_2339 v9711
  let v9870 : BitVec 32 := Scalar.addi v9712 v9869
  let c3_i32_2420 : BitVec 32 := 3#32
  let v9873 : BitVec 32 := Scalar.shrsi v9870 c3_i32_2420
  let c3_i32_2421 : BitVec 32 := 3#32
  let v9874 : BitVec 32 := Scalar.shli v9873 c3_i32_2421
  let v9875 : BitVec 32 := v9874
  let v10246 : Index := Scalar.indexCast v9875
  let c0_2506 : Index := 0#32
  ![v10245.toNat, v10246.toNat, 0]
def k0_off929 (k0_t1 : Fin k0_t1_loop.trips) : Fin 3 → Nat :=
  let c12_2508 : Index := 12#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c6_i32 : BitVec 32 := 6#32
  let v9702 : BitVec 32 := Scalar.addi v5 c6_i32
  let v10265 : Index := Scalar.indexCast v9702
  let c0_2509 : Index := 0#32
  ![12, v10265.toNat, 0]
def k0_off930 (v9710 : BitVec 32) (v9715 : BitVec 32) (v9750 : BitVec 32) (v9882 : BitVec 32) : Fin 3 → Nat :=
  let c199_i32_2342 : BitVec 32 := 199#32
  let c0_i32_2341 : BitVec 32 := 0#32
  let v9716 : BitVec 32 := Scalar.maxsi c0_i32_2341 v9715
  let v9717 : BitVec 32 := Scalar.minsi c199_i32_2342 v9716
  let v9751 : BitVec 32 := Scalar.addi v9717 v9750
  let v10270 : Index := Scalar.indexCast v9751
  let c199_i32_2339 : BitVec 32 := 199#32
  let c0_i32_2338 : BitVec 32 := 0#32
  let v9711 : BitVec 32 := Scalar.maxsi c0_i32_2338 v9710
  let v9712 : BitVec 32 := Scalar.minsi c199_i32_2339 v9711
  let v9883 : BitVec 32 := Scalar.addi v9712 v9882
  let c3_i32_2427 : BitVec 32 := 3#32
  let v9886 : BitVec 32 := Scalar.shrsi v9883 c3_i32_2427
  let c3_i32_2428 : BitVec 32 := 3#32
  let v9887 : BitVec 32 := Scalar.shli v9886 c3_i32_2428
  let v9888 : BitVec 32 := v9887
  let v10271 : Index := Scalar.indexCast v9888
  let c0_2511 : Index := 0#32
  ![v10270.toNat, v10271.toNat, 0]
def k0_off931 (v9710 : BitVec 32) (v9715 : BitVec 32) (v9725 : BitVec 32) (v9750 : BitVec 32) (v9882 : BitVec 32) : Fin 3 → Nat :=
  let c199_i32_2342 : BitVec 32 := 199#32
  let c0_i32_2341 : BitVec 32 := 0#32
  let v9716 : BitVec 32 := Scalar.maxsi c0_i32_2341 v9715
  let v9717 : BitVec 32 := Scalar.minsi c199_i32_2342 v9716
  let v9751 : BitVec 32 := Scalar.addi v9717 v9750
  let c1_i32_2360 : BitVec 32 := 1#32
  let v9752 : BitVec 32 := Scalar.addi v9751 c1_i32_2360
  let c199_i32_2348 : BitVec 32 := 199#32
  let c0_i32_2347 : BitVec 32 := 0#32
  let v9726 : BitVec 32 := Scalar.maxsi c0_i32_2347 v9725
  let v9727 : BitVec 32 := Scalar.minsi c199_i32_2348 v9726
  let v9753 : BitVec 32 := Scalar.minsi v9752 v9727
  let v10274 : Index := Scalar.indexCast v9753
  let c199_i32_2339 : BitVec 32 := 199#32
  let c0_i32_2338 : BitVec 32 := 0#32
  let v9711 : BitVec 32 := Scalar.maxsi c0_i32_2338 v9710
  let v9712 : BitVec 32 := Scalar.minsi c199_i32_2339 v9711
  let v9883 : BitVec 32 := Scalar.addi v9712 v9882
  let c3_i32_2427 : BitVec 32 := 3#32
  let v9886 : BitVec 32 := Scalar.shrsi v9883 c3_i32_2427
  let c3_i32_2428 : BitVec 32 := 3#32
  let v9887 : BitVec 32 := Scalar.shli v9886 c3_i32_2428
  let v9888 : BitVec 32 := v9887
  let v10275 : Index := Scalar.indexCast v9888
  let c0_2512 : Index := 0#32
  ![v10274.toNat, v10275.toNat, 0]
def k0_off932 (k0_t1 : Fin k0_t1_loop.trips) : Fin 3 → Nat :=
  let c13_2514 : Index := 13#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c6_i32 : BitVec 32 := 6#32
  let v9702 : BitVec 32 := Scalar.addi v5 c6_i32
  let v10294 : Index := Scalar.indexCast v9702
  let c0_2515 : Index := 0#32
  ![13, v10294.toNat, 0]
def k0_off933 (v9710 : BitVec 32) (v9715 : BitVec 32) (v9759 : BitVec 32) (v9804 : BitVec 32) : Fin 3 → Nat :=
  let c199_i32_2342 : BitVec 32 := 199#32
  let c0_i32_2341 : BitVec 32 := 0#32
  let v9716 : BitVec 32 := Scalar.maxsi c0_i32_2341 v9715
  let v9717 : BitVec 32 := Scalar.minsi c199_i32_2342 v9716
  let v9760 : BitVec 32 := Scalar.addi v9717 v9759
  let v10300 : Index := Scalar.indexCast v9760
  let c199_i32_2339 : BitVec 32 := 199#32
  let c0_i32_2338 : BitVec 32 := 0#32
  let v9711 : BitVec 32 := Scalar.maxsi c0_i32_2338 v9710
  let v9712 : BitVec 32 := Scalar.minsi c199_i32_2339 v9711
  let v9805 : BitVec 32 := Scalar.addi v9712 v9804
  let c3_i32_2385 : BitVec 32 := 3#32
  let v9808 : BitVec 32 := Scalar.shrsi v9805 c3_i32_2385
  let c3_i32_2386 : BitVec 32 := 3#32
  let v9809 : BitVec 32 := Scalar.shli v9808 c3_i32_2386
  let v9810 : BitVec 32 := v9809
  let v10301 : Index := Scalar.indexCast v9810
  let c0_2518 : Index := 0#32
  ![v10300.toNat, v10301.toNat, 0]
def k0_off934 (v9710 : BitVec 32) (v9715 : BitVec 32) (v9725 : BitVec 32) (v9759 : BitVec 32) (v9804 : BitVec 32) : Fin 3 → Nat :=
  let c199_i32_2342 : BitVec 32 := 199#32
  let c0_i32_2341 : BitVec 32 := 0#32
  let v9716 : BitVec 32 := Scalar.maxsi c0_i32_2341 v9715
  let v9717 : BitVec 32 := Scalar.minsi c199_i32_2342 v9716
  let v9760 : BitVec 32 := Scalar.addi v9717 v9759
  let c1_i32_2364 : BitVec 32 := 1#32
  let v9761 : BitVec 32 := Scalar.addi v9760 c1_i32_2364
  let c199_i32_2348 : BitVec 32 := 199#32
  let c0_i32_2347 : BitVec 32 := 0#32
  let v9726 : BitVec 32 := Scalar.maxsi c0_i32_2347 v9725
  let v9727 : BitVec 32 := Scalar.minsi c199_i32_2348 v9726
  let v9762 : BitVec 32 := Scalar.minsi v9761 v9727
  let v10304 : Index := Scalar.indexCast v9762
  let c199_i32_2339 : BitVec 32 := 199#32
  let c0_i32_2338 : BitVec 32 := 0#32
  let v9711 : BitVec 32 := Scalar.maxsi c0_i32_2338 v9710
  let v9712 : BitVec 32 := Scalar.minsi c199_i32_2339 v9711
  let v9805 : BitVec 32 := Scalar.addi v9712 v9804
  let c3_i32_2385 : BitVec 32 := 3#32
  let v9808 : BitVec 32 := Scalar.shrsi v9805 c3_i32_2385
  let c3_i32_2386 : BitVec 32 := 3#32
  let v9809 : BitVec 32 := Scalar.shli v9808 c3_i32_2386
  let v9810 : BitVec 32 := v9809
  let v10305 : Index := Scalar.indexCast v9810
  let c0_2519 : Index := 0#32
  ![v10304.toNat, v10305.toNat, 0]
def k0_off935 (k0_t1 : Fin k0_t1_loop.trips) : Fin 3 → Nat :=
  let c14_2521 : Index := 14#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c6_i32 : BitVec 32 := 6#32
  let v9702 : BitVec 32 := Scalar.addi v5 c6_i32
  let v10324 : Index := Scalar.indexCast v9702
  let c0_2522 : Index := 0#32
  ![14, v10324.toNat, 0]
def k0_off936 (v9710 : BitVec 32) (v9715 : BitVec 32) (v9759 : BitVec 32) (v9817 : BitVec 32) : Fin 3 → Nat :=
  let c199_i32_2342 : BitVec 32 := 199#32
  let c0_i32_2341 : BitVec 32 := 0#32
  let v9716 : BitVec 32 := Scalar.maxsi c0_i32_2341 v9715
  let v9717 : BitVec 32 := Scalar.minsi c199_i32_2342 v9716
  let v9760 : BitVec 32 := Scalar.addi v9717 v9759
  let v10329 : Index := Scalar.indexCast v9760
  let c199_i32_2339 : BitVec 32 := 199#32
  let c0_i32_2338 : BitVec 32 := 0#32
  let v9711 : BitVec 32 := Scalar.maxsi c0_i32_2338 v9710
  let v9712 : BitVec 32 := Scalar.minsi c199_i32_2339 v9711
  let v9818 : BitVec 32 := Scalar.addi v9712 v9817
  let c3_i32_2392 : BitVec 32 := 3#32
  let v9821 : BitVec 32 := Scalar.shrsi v9818 c3_i32_2392
  let c3_i32_2393 : BitVec 32 := 3#32
  let v9822 : BitVec 32 := Scalar.shli v9821 c3_i32_2393
  let v9823 : BitVec 32 := v9822
  let v10330 : Index := Scalar.indexCast v9823
  let c0_2524 : Index := 0#32
  ![v10329.toNat, v10330.toNat, 0]
def k0_off937 (v9710 : BitVec 32) (v9715 : BitVec 32) (v9725 : BitVec 32) (v9759 : BitVec 32) (v9817 : BitVec 32) : Fin 3 → Nat :=
  let c199_i32_2342 : BitVec 32 := 199#32
  let c0_i32_2341 : BitVec 32 := 0#32
  let v9716 : BitVec 32 := Scalar.maxsi c0_i32_2341 v9715
  let v9717 : BitVec 32 := Scalar.minsi c199_i32_2342 v9716
  let v9760 : BitVec 32 := Scalar.addi v9717 v9759
  let c1_i32_2364 : BitVec 32 := 1#32
  let v9761 : BitVec 32 := Scalar.addi v9760 c1_i32_2364
  let c199_i32_2348 : BitVec 32 := 199#32
  let c0_i32_2347 : BitVec 32 := 0#32
  let v9726 : BitVec 32 := Scalar.maxsi c0_i32_2347 v9725
  let v9727 : BitVec 32 := Scalar.minsi c199_i32_2348 v9726
  let v9762 : BitVec 32 := Scalar.minsi v9761 v9727
  let v10333 : Index := Scalar.indexCast v9762
  let c199_i32_2339 : BitVec 32 := 199#32
  let c0_i32_2338 : BitVec 32 := 0#32
  let v9711 : BitVec 32 := Scalar.maxsi c0_i32_2338 v9710
  let v9712 : BitVec 32 := Scalar.minsi c199_i32_2339 v9711
  let v9818 : BitVec 32 := Scalar.addi v9712 v9817
  let c3_i32_2392 : BitVec 32 := 3#32
  let v9821 : BitVec 32 := Scalar.shrsi v9818 c3_i32_2392
  let c3_i32_2393 : BitVec 32 := 3#32
  let v9822 : BitVec 32 := Scalar.shli v9821 c3_i32_2393
  let v9823 : BitVec 32 := v9822
  let v10334 : Index := Scalar.indexCast v9823
  let c0_2525 : Index := 0#32
  ![v10333.toNat, v10334.toNat, 0]
def k0_off938 (k0_t1 : Fin k0_t1_loop.trips) : Fin 3 → Nat :=
  let c15_2527 : Index := 15#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c6_i32 : BitVec 32 := 6#32
  let v9702 : BitVec 32 := Scalar.addi v5 c6_i32
  let v10353 : Index := Scalar.indexCast v9702
  let c0_2528 : Index := 0#32
  ![15, v10353.toNat, 0]
def k0_off939 (v9710 : BitVec 32) (v9715 : BitVec 32) (v9759 : BitVec 32) (v9830 : BitVec 32) : Fin 3 → Nat :=
  let c199_i32_2342 : BitVec 32 := 199#32
  let c0_i32_2341 : BitVec 32 := 0#32
  let v9716 : BitVec 32 := Scalar.maxsi c0_i32_2341 v9715
  let v9717 : BitVec 32 := Scalar.minsi c199_i32_2342 v9716
  let v9760 : BitVec 32 := Scalar.addi v9717 v9759
  let v10358 : Index := Scalar.indexCast v9760
  let c199_i32_2339 : BitVec 32 := 199#32
  let c0_i32_2338 : BitVec 32 := 0#32
  let v9711 : BitVec 32 := Scalar.maxsi c0_i32_2338 v9710
  let v9712 : BitVec 32 := Scalar.minsi c199_i32_2339 v9711
  let v9831 : BitVec 32 := Scalar.addi v9712 v9830
  let c3_i32_2399 : BitVec 32 := 3#32
  let v9834 : BitVec 32 := Scalar.shrsi v9831 c3_i32_2399
  let c3_i32_2400 : BitVec 32 := 3#32
  let v9835 : BitVec 32 := Scalar.shli v9834 c3_i32_2400
  let v9836 : BitVec 32 := v9835
  let v10359 : Index := Scalar.indexCast v9836
  let c0_2530 : Index := 0#32
  ![v10358.toNat, v10359.toNat, 0]
def k0_off940 (v9710 : BitVec 32) (v9715 : BitVec 32) (v9725 : BitVec 32) (v9759 : BitVec 32) (v9830 : BitVec 32) : Fin 3 → Nat :=
  let c199_i32_2342 : BitVec 32 := 199#32
  let c0_i32_2341 : BitVec 32 := 0#32
  let v9716 : BitVec 32 := Scalar.maxsi c0_i32_2341 v9715
  let v9717 : BitVec 32 := Scalar.minsi c199_i32_2342 v9716
  let v9760 : BitVec 32 := Scalar.addi v9717 v9759
  let c1_i32_2364 : BitVec 32 := 1#32
  let v9761 : BitVec 32 := Scalar.addi v9760 c1_i32_2364
  let c199_i32_2348 : BitVec 32 := 199#32
  let c0_i32_2347 : BitVec 32 := 0#32
  let v9726 : BitVec 32 := Scalar.maxsi c0_i32_2347 v9725
  let v9727 : BitVec 32 := Scalar.minsi c199_i32_2348 v9726
  let v9762 : BitVec 32 := Scalar.minsi v9761 v9727
  let v10362 : Index := Scalar.indexCast v9762
  let c199_i32_2339 : BitVec 32 := 199#32
  let c0_i32_2338 : BitVec 32 := 0#32
  let v9711 : BitVec 32 := Scalar.maxsi c0_i32_2338 v9710
  let v9712 : BitVec 32 := Scalar.minsi c199_i32_2339 v9711
  let v9831 : BitVec 32 := Scalar.addi v9712 v9830
  let c3_i32_2399 : BitVec 32 := 3#32
  let v9834 : BitVec 32 := Scalar.shrsi v9831 c3_i32_2399
  let c3_i32_2400 : BitVec 32 := 3#32
  let v9835 : BitVec 32 := Scalar.shli v9834 c3_i32_2400
  let v9836 : BitVec 32 := v9835
  let v10363 : Index := Scalar.indexCast v9836
  let c0_2531 : Index := 0#32
  ![v10362.toNat, v10363.toNat, 0]
def k0_off941 (k0_t1 : Fin k0_t1_loop.trips) : Fin 3 → Nat :=
  let c16_2533 : Index := 16#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c6_i32 : BitVec 32 := 6#32
  let v9702 : BitVec 32 := Scalar.addi v5 c6_i32
  let v10382 : Index := Scalar.indexCast v9702
  let c0_2534 : Index := 0#32
  ![16, v10382.toNat, 0]
def k0_off942 (v9710 : BitVec 32) (v9715 : BitVec 32) (v9759 : BitVec 32) (v9843 : BitVec 32) : Fin 3 → Nat :=
  let c199_i32_2342 : BitVec 32 := 199#32
  let c0_i32_2341 : BitVec 32 := 0#32
  let v9716 : BitVec 32 := Scalar.maxsi c0_i32_2341 v9715
  let v9717 : BitVec 32 := Scalar.minsi c199_i32_2342 v9716
  let v9760 : BitVec 32 := Scalar.addi v9717 v9759
  let v10387 : Index := Scalar.indexCast v9760
  let c199_i32_2339 : BitVec 32 := 199#32
  let c0_i32_2338 : BitVec 32 := 0#32
  let v9711 : BitVec 32 := Scalar.maxsi c0_i32_2338 v9710
  let v9712 : BitVec 32 := Scalar.minsi c199_i32_2339 v9711
  let v9844 : BitVec 32 := Scalar.addi v9712 v9843
  let c3_i32_2406 : BitVec 32 := 3#32
  let v9847 : BitVec 32 := Scalar.shrsi v9844 c3_i32_2406
  let c3_i32_2407 : BitVec 32 := 3#32
  let v9848 : BitVec 32 := Scalar.shli v9847 c3_i32_2407
  let v9849 : BitVec 32 := v9848
  let v10388 : Index := Scalar.indexCast v9849
  let c0_2536 : Index := 0#32
  ![v10387.toNat, v10388.toNat, 0]
def k0_off943 (v9710 : BitVec 32) (v9715 : BitVec 32) (v9725 : BitVec 32) (v9759 : BitVec 32) (v9843 : BitVec 32) : Fin 3 → Nat :=
  let c199_i32_2342 : BitVec 32 := 199#32
  let c0_i32_2341 : BitVec 32 := 0#32
  let v9716 : BitVec 32 := Scalar.maxsi c0_i32_2341 v9715
  let v9717 : BitVec 32 := Scalar.minsi c199_i32_2342 v9716
  let v9760 : BitVec 32 := Scalar.addi v9717 v9759
  let c1_i32_2364 : BitVec 32 := 1#32
  let v9761 : BitVec 32 := Scalar.addi v9760 c1_i32_2364
  let c199_i32_2348 : BitVec 32 := 199#32
  let c0_i32_2347 : BitVec 32 := 0#32
  let v9726 : BitVec 32 := Scalar.maxsi c0_i32_2347 v9725
  let v9727 : BitVec 32 := Scalar.minsi c199_i32_2348 v9726
  let v9762 : BitVec 32 := Scalar.minsi v9761 v9727
  let v10391 : Index := Scalar.indexCast v9762
  let c199_i32_2339 : BitVec 32 := 199#32
  let c0_i32_2338 : BitVec 32 := 0#32
  let v9711 : BitVec 32 := Scalar.maxsi c0_i32_2338 v9710
  let v9712 : BitVec 32 := Scalar.minsi c199_i32_2339 v9711
  let v9844 : BitVec 32 := Scalar.addi v9712 v9843
  let c3_i32_2406 : BitVec 32 := 3#32
  let v9847 : BitVec 32 := Scalar.shrsi v9844 c3_i32_2406
  let c3_i32_2407 : BitVec 32 := 3#32
  let v9848 : BitVec 32 := Scalar.shli v9847 c3_i32_2407
  let v9849 : BitVec 32 := v9848
  let v10392 : Index := Scalar.indexCast v9849
  let c0_2537 : Index := 0#32
  ![v10391.toNat, v10392.toNat, 0]
def k0_off944 (k0_t1 : Fin k0_t1_loop.trips) : Fin 3 → Nat :=
  let c17_2539 : Index := 17#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c6_i32 : BitVec 32 := 6#32
  let v9702 : BitVec 32 := Scalar.addi v5 c6_i32
  let v10411 : Index := Scalar.indexCast v9702
  let c0_2540 : Index := 0#32
  ![17, v10411.toNat, 0]
def k0_off945 (v9710 : BitVec 32) (v9715 : BitVec 32) (v9759 : BitVec 32) (v9856 : BitVec 32) : Fin 3 → Nat :=
  let c199_i32_2342 : BitVec 32 := 199#32
  let c0_i32_2341 : BitVec 32 := 0#32
  let v9716 : BitVec 32 := Scalar.maxsi c0_i32_2341 v9715
  let v9717 : BitVec 32 := Scalar.minsi c199_i32_2342 v9716
  let v9760 : BitVec 32 := Scalar.addi v9717 v9759
  let v10416 : Index := Scalar.indexCast v9760
  let c199_i32_2339 : BitVec 32 := 199#32
  let c0_i32_2338 : BitVec 32 := 0#32
  let v9711 : BitVec 32 := Scalar.maxsi c0_i32_2338 v9710
  let v9712 : BitVec 32 := Scalar.minsi c199_i32_2339 v9711
  let v9857 : BitVec 32 := Scalar.addi v9712 v9856
  let c3_i32_2413 : BitVec 32 := 3#32
  let v9860 : BitVec 32 := Scalar.shrsi v9857 c3_i32_2413
  let c3_i32_2414 : BitVec 32 := 3#32
  let v9861 : BitVec 32 := Scalar.shli v9860 c3_i32_2414
  let v9862 : BitVec 32 := v9861
  let v10417 : Index := Scalar.indexCast v9862
  let c0_2542 : Index := 0#32
  ![v10416.toNat, v10417.toNat, 0]
def k0_off946 (v9710 : BitVec 32) (v9715 : BitVec 32) (v9725 : BitVec 32) (v9759 : BitVec 32) (v9856 : BitVec 32) : Fin 3 → Nat :=
  let c199_i32_2342 : BitVec 32 := 199#32
  let c0_i32_2341 : BitVec 32 := 0#32
  let v9716 : BitVec 32 := Scalar.maxsi c0_i32_2341 v9715
  let v9717 : BitVec 32 := Scalar.minsi c199_i32_2342 v9716
  let v9760 : BitVec 32 := Scalar.addi v9717 v9759
  let c1_i32_2364 : BitVec 32 := 1#32
  let v9761 : BitVec 32 := Scalar.addi v9760 c1_i32_2364
  let c199_i32_2348 : BitVec 32 := 199#32
  let c0_i32_2347 : BitVec 32 := 0#32
  let v9726 : BitVec 32 := Scalar.maxsi c0_i32_2347 v9725
  let v9727 : BitVec 32 := Scalar.minsi c199_i32_2348 v9726
  let v9762 : BitVec 32 := Scalar.minsi v9761 v9727
  let v10420 : Index := Scalar.indexCast v9762
  let c199_i32_2339 : BitVec 32 := 199#32
  let c0_i32_2338 : BitVec 32 := 0#32
  let v9711 : BitVec 32 := Scalar.maxsi c0_i32_2338 v9710
  let v9712 : BitVec 32 := Scalar.minsi c199_i32_2339 v9711
  let v9857 : BitVec 32 := Scalar.addi v9712 v9856
  let c3_i32_2413 : BitVec 32 := 3#32
  let v9860 : BitVec 32 := Scalar.shrsi v9857 c3_i32_2413
  let c3_i32_2414 : BitVec 32 := 3#32
  let v9861 : BitVec 32 := Scalar.shli v9860 c3_i32_2414
  let v9862 : BitVec 32 := v9861
  let v10421 : Index := Scalar.indexCast v9862
  let c0_2543 : Index := 0#32
  ![v10420.toNat, v10421.toNat, 0]
def k0_off947 (k0_t1 : Fin k0_t1_loop.trips) : Fin 3 → Nat :=
  let c18_2545 : Index := 18#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c6_i32 : BitVec 32 := 6#32
  let v9702 : BitVec 32 := Scalar.addi v5 c6_i32
  let v10440 : Index := Scalar.indexCast v9702
  let c0_2546 : Index := 0#32
  ![18, v10440.toNat, 0]
def k0_off948 (v9710 : BitVec 32) (v9715 : BitVec 32) (v9759 : BitVec 32) (v9869 : BitVec 32) : Fin 3 → Nat :=
  let c199_i32_2342 : BitVec 32 := 199#32
  let c0_i32_2341 : BitVec 32 := 0#32
  let v9716 : BitVec 32 := Scalar.maxsi c0_i32_2341 v9715
  let v9717 : BitVec 32 := Scalar.minsi c199_i32_2342 v9716
  let v9760 : BitVec 32 := Scalar.addi v9717 v9759
  let v10445 : Index := Scalar.indexCast v9760
  let c199_i32_2339 : BitVec 32 := 199#32
  let c0_i32_2338 : BitVec 32 := 0#32
  let v9711 : BitVec 32 := Scalar.maxsi c0_i32_2338 v9710
  let v9712 : BitVec 32 := Scalar.minsi c199_i32_2339 v9711
  let v9870 : BitVec 32 := Scalar.addi v9712 v9869
  let c3_i32_2420 : BitVec 32 := 3#32
  let v9873 : BitVec 32 := Scalar.shrsi v9870 c3_i32_2420
  let c3_i32_2421 : BitVec 32 := 3#32
  let v9874 : BitVec 32 := Scalar.shli v9873 c3_i32_2421
  let v9875 : BitVec 32 := v9874
  let v10446 : Index := Scalar.indexCast v9875
  let c0_2548 : Index := 0#32
  ![v10445.toNat, v10446.toNat, 0]
def k0_off949 (v9710 : BitVec 32) (v9715 : BitVec 32) (v9725 : BitVec 32) (v9759 : BitVec 32) (v9869 : BitVec 32) : Fin 3 → Nat :=
  let c199_i32_2342 : BitVec 32 := 199#32
  let c0_i32_2341 : BitVec 32 := 0#32
  let v9716 : BitVec 32 := Scalar.maxsi c0_i32_2341 v9715
  let v9717 : BitVec 32 := Scalar.minsi c199_i32_2342 v9716
  let v9760 : BitVec 32 := Scalar.addi v9717 v9759
  let c1_i32_2364 : BitVec 32 := 1#32
  let v9761 : BitVec 32 := Scalar.addi v9760 c1_i32_2364
  let c199_i32_2348 : BitVec 32 := 199#32
  let c0_i32_2347 : BitVec 32 := 0#32
  let v9726 : BitVec 32 := Scalar.maxsi c0_i32_2347 v9725
  let v9727 : BitVec 32 := Scalar.minsi c199_i32_2348 v9726
  let v9762 : BitVec 32 := Scalar.minsi v9761 v9727
  let v10449 : Index := Scalar.indexCast v9762
  let c199_i32_2339 : BitVec 32 := 199#32
  let c0_i32_2338 : BitVec 32 := 0#32
  let v9711 : BitVec 32 := Scalar.maxsi c0_i32_2338 v9710
  let v9712 : BitVec 32 := Scalar.minsi c199_i32_2339 v9711
  let v9870 : BitVec 32 := Scalar.addi v9712 v9869
  let c3_i32_2420 : BitVec 32 := 3#32
  let v9873 : BitVec 32 := Scalar.shrsi v9870 c3_i32_2420
  let c3_i32_2421 : BitVec 32 := 3#32
  let v9874 : BitVec 32 := Scalar.shli v9873 c3_i32_2421
  let v9875 : BitVec 32 := v9874
  let v10450 : Index := Scalar.indexCast v9875
  let c0_2549 : Index := 0#32
  ![v10449.toNat, v10450.toNat, 0]
def k0_off950 (k0_t1 : Fin k0_t1_loop.trips) : Fin 3 → Nat :=
  let c19_2551 : Index := 19#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c6_i32 : BitVec 32 := 6#32
  let v9702 : BitVec 32 := Scalar.addi v5 c6_i32
  let v10469 : Index := Scalar.indexCast v9702
  let c0_2552 : Index := 0#32
  ![19, v10469.toNat, 0]
def k0_off951 (v9710 : BitVec 32) (v9715 : BitVec 32) (v9759 : BitVec 32) (v9882 : BitVec 32) : Fin 3 → Nat :=
  let c199_i32_2342 : BitVec 32 := 199#32
  let c0_i32_2341 : BitVec 32 := 0#32
  let v9716 : BitVec 32 := Scalar.maxsi c0_i32_2341 v9715
  let v9717 : BitVec 32 := Scalar.minsi c199_i32_2342 v9716
  let v9760 : BitVec 32 := Scalar.addi v9717 v9759
  let v10474 : Index := Scalar.indexCast v9760
  let c199_i32_2339 : BitVec 32 := 199#32
  let c0_i32_2338 : BitVec 32 := 0#32
  let v9711 : BitVec 32 := Scalar.maxsi c0_i32_2338 v9710
  let v9712 : BitVec 32 := Scalar.minsi c199_i32_2339 v9711
  let v9883 : BitVec 32 := Scalar.addi v9712 v9882
  let c3_i32_2427 : BitVec 32 := 3#32
  let v9886 : BitVec 32 := Scalar.shrsi v9883 c3_i32_2427
  let c3_i32_2428 : BitVec 32 := 3#32
  let v9887 : BitVec 32 := Scalar.shli v9886 c3_i32_2428
  let v9888 : BitVec 32 := v9887
  let v10475 : Index := Scalar.indexCast v9888
  let c0_2554 : Index := 0#32
  ![v10474.toNat, v10475.toNat, 0]
def k0_off952 (v9710 : BitVec 32) (v9715 : BitVec 32) (v9725 : BitVec 32) (v9759 : BitVec 32) (v9882 : BitVec 32) : Fin 3 → Nat :=
  let c199_i32_2342 : BitVec 32 := 199#32
  let c0_i32_2341 : BitVec 32 := 0#32
  let v9716 : BitVec 32 := Scalar.maxsi c0_i32_2341 v9715
  let v9717 : BitVec 32 := Scalar.minsi c199_i32_2342 v9716
  let v9760 : BitVec 32 := Scalar.addi v9717 v9759
  let c1_i32_2364 : BitVec 32 := 1#32
  let v9761 : BitVec 32 := Scalar.addi v9760 c1_i32_2364
  let c199_i32_2348 : BitVec 32 := 199#32
  let c0_i32_2347 : BitVec 32 := 0#32
  let v9726 : BitVec 32 := Scalar.maxsi c0_i32_2347 v9725
  let v9727 : BitVec 32 := Scalar.minsi c199_i32_2348 v9726
  let v9762 : BitVec 32 := Scalar.minsi v9761 v9727
  let v10478 : Index := Scalar.indexCast v9762
  let c199_i32_2339 : BitVec 32 := 199#32
  let c0_i32_2338 : BitVec 32 := 0#32
  let v9711 : BitVec 32 := Scalar.maxsi c0_i32_2338 v9710
  let v9712 : BitVec 32 := Scalar.minsi c199_i32_2339 v9711
  let v9883 : BitVec 32 := Scalar.addi v9712 v9882
  let c3_i32_2427 : BitVec 32 := 3#32
  let v9886 : BitVec 32 := Scalar.shrsi v9883 c3_i32_2427
  let c3_i32_2428 : BitVec 32 := 3#32
  let v9887 : BitVec 32 := Scalar.shli v9886 c3_i32_2428
  let v9888 : BitVec 32 := v9887
  let v10479 : Index := Scalar.indexCast v9888
  let c0_2555 : Index := 0#32
  ![v10478.toNat, v10479.toNat, 0]
def k0_off953 (k0_t1 : Fin k0_t1_loop.trips) : Fin 3 → Nat :=
  let c20_2557 : Index := 20#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c6_i32 : BitVec 32 := 6#32
  let v9702 : BitVec 32 := Scalar.addi v5 c6_i32
  let v10498 : Index := Scalar.indexCast v9702
  let c0_2558 : Index := 0#32
  ![20, v10498.toNat, 0]
def k0_off954 (v9710 : BitVec 32) (v9715 : BitVec 32) (v9768 : BitVec 32) (v9804 : BitVec 32) : Fin 3 → Nat :=
  let c199_i32_2342 : BitVec 32 := 199#32
  let c0_i32_2341 : BitVec 32 := 0#32
  let v9716 : BitVec 32 := Scalar.maxsi c0_i32_2341 v9715
  let v9717 : BitVec 32 := Scalar.minsi c199_i32_2342 v9716
  let v9769 : BitVec 32 := Scalar.addi v9717 v9768
  let v10504 : Index := Scalar.indexCast v9769
  let c199_i32_2339 : BitVec 32 := 199#32
  let c0_i32_2338 : BitVec 32 := 0#32
  let v9711 : BitVec 32 := Scalar.maxsi c0_i32_2338 v9710
  let v9712 : BitVec 32 := Scalar.minsi c199_i32_2339 v9711
  let v9805 : BitVec 32 := Scalar.addi v9712 v9804
  let c3_i32_2385 : BitVec 32 := 3#32
  let v9808 : BitVec 32 := Scalar.shrsi v9805 c3_i32_2385
  let c3_i32_2386 : BitVec 32 := 3#32
  let v9809 : BitVec 32 := Scalar.shli v9808 c3_i32_2386
  let v9810 : BitVec 32 := v9809
  let v10505 : Index := Scalar.indexCast v9810
  let c0_2561 : Index := 0#32
  ![v10504.toNat, v10505.toNat, 0]
def k0_off955 (v9710 : BitVec 32) (v9715 : BitVec 32) (v9725 : BitVec 32) (v9768 : BitVec 32) (v9804 : BitVec 32) : Fin 3 → Nat :=
  let c199_i32_2342 : BitVec 32 := 199#32
  let c0_i32_2341 : BitVec 32 := 0#32
  let v9716 : BitVec 32 := Scalar.maxsi c0_i32_2341 v9715
  let v9717 : BitVec 32 := Scalar.minsi c199_i32_2342 v9716
  let v9769 : BitVec 32 := Scalar.addi v9717 v9768
  let c1_i32_2368 : BitVec 32 := 1#32
  let v9770 : BitVec 32 := Scalar.addi v9769 c1_i32_2368
  let c199_i32_2348 : BitVec 32 := 199#32
  let c0_i32_2347 : BitVec 32 := 0#32
  let v9726 : BitVec 32 := Scalar.maxsi c0_i32_2347 v9725
  let v9727 : BitVec 32 := Scalar.minsi c199_i32_2348 v9726
  let v9771 : BitVec 32 := Scalar.minsi v9770 v9727
  let v10508 : Index := Scalar.indexCast v9771
  let c199_i32_2339 : BitVec 32 := 199#32
  let c0_i32_2338 : BitVec 32 := 0#32
  let v9711 : BitVec 32 := Scalar.maxsi c0_i32_2338 v9710
  let v9712 : BitVec 32 := Scalar.minsi c199_i32_2339 v9711
  let v9805 : BitVec 32 := Scalar.addi v9712 v9804
  let c3_i32_2385 : BitVec 32 := 3#32
  let v9808 : BitVec 32 := Scalar.shrsi v9805 c3_i32_2385
  let c3_i32_2386 : BitVec 32 := 3#32
  let v9809 : BitVec 32 := Scalar.shli v9808 c3_i32_2386
  let v9810 : BitVec 32 := v9809
  let v10509 : Index := Scalar.indexCast v9810
  let c0_2562 : Index := 0#32
  ![v10508.toNat, v10509.toNat, 0]
def k0_off956 (k0_t1 : Fin k0_t1_loop.trips) : Fin 3 → Nat :=
  let c21_2564 : Index := 21#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c6_i32 : BitVec 32 := 6#32
  let v9702 : BitVec 32 := Scalar.addi v5 c6_i32
  let v10528 : Index := Scalar.indexCast v9702
  let c0_2565 : Index := 0#32
  ![21, v10528.toNat, 0]
def k0_off957 (v9710 : BitVec 32) (v9715 : BitVec 32) (v9768 : BitVec 32) (v9817 : BitVec 32) : Fin 3 → Nat :=
  let c199_i32_2342 : BitVec 32 := 199#32
  let c0_i32_2341 : BitVec 32 := 0#32
  let v9716 : BitVec 32 := Scalar.maxsi c0_i32_2341 v9715
  let v9717 : BitVec 32 := Scalar.minsi c199_i32_2342 v9716
  let v9769 : BitVec 32 := Scalar.addi v9717 v9768
  let v10533 : Index := Scalar.indexCast v9769
  let c199_i32_2339 : BitVec 32 := 199#32
  let c0_i32_2338 : BitVec 32 := 0#32
  let v9711 : BitVec 32 := Scalar.maxsi c0_i32_2338 v9710
  let v9712 : BitVec 32 := Scalar.minsi c199_i32_2339 v9711
  let v9818 : BitVec 32 := Scalar.addi v9712 v9817
  let c3_i32_2392 : BitVec 32 := 3#32
  let v9821 : BitVec 32 := Scalar.shrsi v9818 c3_i32_2392
  let c3_i32_2393 : BitVec 32 := 3#32
  let v9822 : BitVec 32 := Scalar.shli v9821 c3_i32_2393
  let v9823 : BitVec 32 := v9822
  let v10534 : Index := Scalar.indexCast v9823
  let c0_2567 : Index := 0#32
  ![v10533.toNat, v10534.toNat, 0]
def k0_off958 (v9710 : BitVec 32) (v9715 : BitVec 32) (v9725 : BitVec 32) (v9768 : BitVec 32) (v9817 : BitVec 32) : Fin 3 → Nat :=
  let c199_i32_2342 : BitVec 32 := 199#32
  let c0_i32_2341 : BitVec 32 := 0#32
  let v9716 : BitVec 32 := Scalar.maxsi c0_i32_2341 v9715
  let v9717 : BitVec 32 := Scalar.minsi c199_i32_2342 v9716
  let v9769 : BitVec 32 := Scalar.addi v9717 v9768
  let c1_i32_2368 : BitVec 32 := 1#32
  let v9770 : BitVec 32 := Scalar.addi v9769 c1_i32_2368
  let c199_i32_2348 : BitVec 32 := 199#32
  let c0_i32_2347 : BitVec 32 := 0#32
  let v9726 : BitVec 32 := Scalar.maxsi c0_i32_2347 v9725
  let v9727 : BitVec 32 := Scalar.minsi c199_i32_2348 v9726
  let v9771 : BitVec 32 := Scalar.minsi v9770 v9727
  let v10537 : Index := Scalar.indexCast v9771
  let c199_i32_2339 : BitVec 32 := 199#32
  let c0_i32_2338 : BitVec 32 := 0#32
  let v9711 : BitVec 32 := Scalar.maxsi c0_i32_2338 v9710
  let v9712 : BitVec 32 := Scalar.minsi c199_i32_2339 v9711
  let v9818 : BitVec 32 := Scalar.addi v9712 v9817
  let c3_i32_2392 : BitVec 32 := 3#32
  let v9821 : BitVec 32 := Scalar.shrsi v9818 c3_i32_2392
  let c3_i32_2393 : BitVec 32 := 3#32
  let v9822 : BitVec 32 := Scalar.shli v9821 c3_i32_2393
  let v9823 : BitVec 32 := v9822
  let v10538 : Index := Scalar.indexCast v9823
  let c0_2568 : Index := 0#32
  ![v10537.toNat, v10538.toNat, 0]
def k0_off959 (k0_t1 : Fin k0_t1_loop.trips) : Fin 3 → Nat :=
  let c22_2570 : Index := 22#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c6_i32 : BitVec 32 := 6#32
  let v9702 : BitVec 32 := Scalar.addi v5 c6_i32
  let v10557 : Index := Scalar.indexCast v9702
  let c0_2571 : Index := 0#32
  ![22, v10557.toNat, 0]
def k0_off960 (v9710 : BitVec 32) (v9715 : BitVec 32) (v9768 : BitVec 32) (v9830 : BitVec 32) : Fin 3 → Nat :=
  let c199_i32_2342 : BitVec 32 := 199#32
  let c0_i32_2341 : BitVec 32 := 0#32
  let v9716 : BitVec 32 := Scalar.maxsi c0_i32_2341 v9715
  let v9717 : BitVec 32 := Scalar.minsi c199_i32_2342 v9716
  let v9769 : BitVec 32 := Scalar.addi v9717 v9768
  let v10562 : Index := Scalar.indexCast v9769
  let c199_i32_2339 : BitVec 32 := 199#32
  let c0_i32_2338 : BitVec 32 := 0#32
  let v9711 : BitVec 32 := Scalar.maxsi c0_i32_2338 v9710
  let v9712 : BitVec 32 := Scalar.minsi c199_i32_2339 v9711
  let v9831 : BitVec 32 := Scalar.addi v9712 v9830
  let c3_i32_2399 : BitVec 32 := 3#32
  let v9834 : BitVec 32 := Scalar.shrsi v9831 c3_i32_2399
  let c3_i32_2400 : BitVec 32 := 3#32
  let v9835 : BitVec 32 := Scalar.shli v9834 c3_i32_2400
  let v9836 : BitVec 32 := v9835
  let v10563 : Index := Scalar.indexCast v9836
  let c0_2573 : Index := 0#32
  ![v10562.toNat, v10563.toNat, 0]
def k0_off961 (v9710 : BitVec 32) (v9715 : BitVec 32) (v9725 : BitVec 32) (v9768 : BitVec 32) (v9830 : BitVec 32) : Fin 3 → Nat :=
  let c199_i32_2342 : BitVec 32 := 199#32
  let c0_i32_2341 : BitVec 32 := 0#32
  let v9716 : BitVec 32 := Scalar.maxsi c0_i32_2341 v9715
  let v9717 : BitVec 32 := Scalar.minsi c199_i32_2342 v9716
  let v9769 : BitVec 32 := Scalar.addi v9717 v9768
  let c1_i32_2368 : BitVec 32 := 1#32
  let v9770 : BitVec 32 := Scalar.addi v9769 c1_i32_2368
  let c199_i32_2348 : BitVec 32 := 199#32
  let c0_i32_2347 : BitVec 32 := 0#32
  let v9726 : BitVec 32 := Scalar.maxsi c0_i32_2347 v9725
  let v9727 : BitVec 32 := Scalar.minsi c199_i32_2348 v9726
  let v9771 : BitVec 32 := Scalar.minsi v9770 v9727
  let v10566 : Index := Scalar.indexCast v9771
  let c199_i32_2339 : BitVec 32 := 199#32
  let c0_i32_2338 : BitVec 32 := 0#32
  let v9711 : BitVec 32 := Scalar.maxsi c0_i32_2338 v9710
  let v9712 : BitVec 32 := Scalar.minsi c199_i32_2339 v9711
  let v9831 : BitVec 32 := Scalar.addi v9712 v9830
  let c3_i32_2399 : BitVec 32 := 3#32
  let v9834 : BitVec 32 := Scalar.shrsi v9831 c3_i32_2399
  let c3_i32_2400 : BitVec 32 := 3#32
  let v9835 : BitVec 32 := Scalar.shli v9834 c3_i32_2400
  let v9836 : BitVec 32 := v9835
  let v10567 : Index := Scalar.indexCast v9836
  let c0_2574 : Index := 0#32
  ![v10566.toNat, v10567.toNat, 0]
def k0_off962 (k0_t1 : Fin k0_t1_loop.trips) : Fin 3 → Nat :=
  let c23_2576 : Index := 23#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c6_i32 : BitVec 32 := 6#32
  let v9702 : BitVec 32 := Scalar.addi v5 c6_i32
  let v10586 : Index := Scalar.indexCast v9702
  let c0_2577 : Index := 0#32
  ![23, v10586.toNat, 0]
def k0_off963 (v9710 : BitVec 32) (v9715 : BitVec 32) (v9768 : BitVec 32) (v9843 : BitVec 32) : Fin 3 → Nat :=
  let c199_i32_2342 : BitVec 32 := 199#32
  let c0_i32_2341 : BitVec 32 := 0#32
  let v9716 : BitVec 32 := Scalar.maxsi c0_i32_2341 v9715
  let v9717 : BitVec 32 := Scalar.minsi c199_i32_2342 v9716
  let v9769 : BitVec 32 := Scalar.addi v9717 v9768
  let v10591 : Index := Scalar.indexCast v9769
  let c199_i32_2339 : BitVec 32 := 199#32
  let c0_i32_2338 : BitVec 32 := 0#32
  let v9711 : BitVec 32 := Scalar.maxsi c0_i32_2338 v9710
  let v9712 : BitVec 32 := Scalar.minsi c199_i32_2339 v9711
  let v9844 : BitVec 32 := Scalar.addi v9712 v9843
  let c3_i32_2406 : BitVec 32 := 3#32
  let v9847 : BitVec 32 := Scalar.shrsi v9844 c3_i32_2406
  let c3_i32_2407 : BitVec 32 := 3#32
  let v9848 : BitVec 32 := Scalar.shli v9847 c3_i32_2407
  let v9849 : BitVec 32 := v9848
  let v10592 : Index := Scalar.indexCast v9849
  let c0_2579 : Index := 0#32
  ![v10591.toNat, v10592.toNat, 0]
def k0_off964 (v9710 : BitVec 32) (v9715 : BitVec 32) (v9725 : BitVec 32) (v9768 : BitVec 32) (v9843 : BitVec 32) : Fin 3 → Nat :=
  let c199_i32_2342 : BitVec 32 := 199#32
  let c0_i32_2341 : BitVec 32 := 0#32
  let v9716 : BitVec 32 := Scalar.maxsi c0_i32_2341 v9715
  let v9717 : BitVec 32 := Scalar.minsi c199_i32_2342 v9716
  let v9769 : BitVec 32 := Scalar.addi v9717 v9768
  let c1_i32_2368 : BitVec 32 := 1#32
  let v9770 : BitVec 32 := Scalar.addi v9769 c1_i32_2368
  let c199_i32_2348 : BitVec 32 := 199#32
  let c0_i32_2347 : BitVec 32 := 0#32
  let v9726 : BitVec 32 := Scalar.maxsi c0_i32_2347 v9725
  let v9727 : BitVec 32 := Scalar.minsi c199_i32_2348 v9726
  let v9771 : BitVec 32 := Scalar.minsi v9770 v9727
  let v10595 : Index := Scalar.indexCast v9771
  let c199_i32_2339 : BitVec 32 := 199#32
  let c0_i32_2338 : BitVec 32 := 0#32
  let v9711 : BitVec 32 := Scalar.maxsi c0_i32_2338 v9710
  let v9712 : BitVec 32 := Scalar.minsi c199_i32_2339 v9711
  let v9844 : BitVec 32 := Scalar.addi v9712 v9843
  let c3_i32_2406 : BitVec 32 := 3#32
  let v9847 : BitVec 32 := Scalar.shrsi v9844 c3_i32_2406
  let c3_i32_2407 : BitVec 32 := 3#32
  let v9848 : BitVec 32 := Scalar.shli v9847 c3_i32_2407
  let v9849 : BitVec 32 := v9848
  let v10596 : Index := Scalar.indexCast v9849
  let c0_2580 : Index := 0#32
  ![v10595.toNat, v10596.toNat, 0]
def k0_off965 (k0_t1 : Fin k0_t1_loop.trips) : Fin 3 → Nat :=
  let c24_2582 : Index := 24#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c6_i32 : BitVec 32 := 6#32
  let v9702 : BitVec 32 := Scalar.addi v5 c6_i32
  let v10615 : Index := Scalar.indexCast v9702
  let c0_2583 : Index := 0#32
  ![24, v10615.toNat, 0]
def k0_off966 (v9710 : BitVec 32) (v9715 : BitVec 32) (v9768 : BitVec 32) (v9856 : BitVec 32) : Fin 3 → Nat :=
  let c199_i32_2342 : BitVec 32 := 199#32
  let c0_i32_2341 : BitVec 32 := 0#32
  let v9716 : BitVec 32 := Scalar.maxsi c0_i32_2341 v9715
  let v9717 : BitVec 32 := Scalar.minsi c199_i32_2342 v9716
  let v9769 : BitVec 32 := Scalar.addi v9717 v9768
  let v10620 : Index := Scalar.indexCast v9769
  let c199_i32_2339 : BitVec 32 := 199#32
  let c0_i32_2338 : BitVec 32 := 0#32
  let v9711 : BitVec 32 := Scalar.maxsi c0_i32_2338 v9710
  let v9712 : BitVec 32 := Scalar.minsi c199_i32_2339 v9711
  let v9857 : BitVec 32 := Scalar.addi v9712 v9856
  let c3_i32_2413 : BitVec 32 := 3#32
  let v9860 : BitVec 32 := Scalar.shrsi v9857 c3_i32_2413
  let c3_i32_2414 : BitVec 32 := 3#32
  let v9861 : BitVec 32 := Scalar.shli v9860 c3_i32_2414
  let v9862 : BitVec 32 := v9861
  let v10621 : Index := Scalar.indexCast v9862
  let c0_2585 : Index := 0#32
  ![v10620.toNat, v10621.toNat, 0]
def k0_off967 (v9710 : BitVec 32) (v9715 : BitVec 32) (v9725 : BitVec 32) (v9768 : BitVec 32) (v9856 : BitVec 32) : Fin 3 → Nat :=
  let c199_i32_2342 : BitVec 32 := 199#32
  let c0_i32_2341 : BitVec 32 := 0#32
  let v9716 : BitVec 32 := Scalar.maxsi c0_i32_2341 v9715
  let v9717 : BitVec 32 := Scalar.minsi c199_i32_2342 v9716
  let v9769 : BitVec 32 := Scalar.addi v9717 v9768
  let c1_i32_2368 : BitVec 32 := 1#32
  let v9770 : BitVec 32 := Scalar.addi v9769 c1_i32_2368
  let c199_i32_2348 : BitVec 32 := 199#32
  let c0_i32_2347 : BitVec 32 := 0#32
  let v9726 : BitVec 32 := Scalar.maxsi c0_i32_2347 v9725
  let v9727 : BitVec 32 := Scalar.minsi c199_i32_2348 v9726
  let v9771 : BitVec 32 := Scalar.minsi v9770 v9727
  let v10624 : Index := Scalar.indexCast v9771
  let c199_i32_2339 : BitVec 32 := 199#32
  let c0_i32_2338 : BitVec 32 := 0#32
  let v9711 : BitVec 32 := Scalar.maxsi c0_i32_2338 v9710
  let v9712 : BitVec 32 := Scalar.minsi c199_i32_2339 v9711
  let v9857 : BitVec 32 := Scalar.addi v9712 v9856
  let c3_i32_2413 : BitVec 32 := 3#32
  let v9860 : BitVec 32 := Scalar.shrsi v9857 c3_i32_2413
  let c3_i32_2414 : BitVec 32 := 3#32
  let v9861 : BitVec 32 := Scalar.shli v9860 c3_i32_2414
  let v9862 : BitVec 32 := v9861
  let v10625 : Index := Scalar.indexCast v9862
  let c0_2586 : Index := 0#32
  ![v10624.toNat, v10625.toNat, 0]
def k0_off968 (k0_t1 : Fin k0_t1_loop.trips) : Fin 3 → Nat :=
  let c25_2588 : Index := 25#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c6_i32 : BitVec 32 := 6#32
  let v9702 : BitVec 32 := Scalar.addi v5 c6_i32
  let v10644 : Index := Scalar.indexCast v9702
  let c0_2589 : Index := 0#32
  ![25, v10644.toNat, 0]
def k0_off969 (v9710 : BitVec 32) (v9715 : BitVec 32) (v9768 : BitVec 32) (v9869 : BitVec 32) : Fin 3 → Nat :=
  let c199_i32_2342 : BitVec 32 := 199#32
  let c0_i32_2341 : BitVec 32 := 0#32
  let v9716 : BitVec 32 := Scalar.maxsi c0_i32_2341 v9715
  let v9717 : BitVec 32 := Scalar.minsi c199_i32_2342 v9716
  let v9769 : BitVec 32 := Scalar.addi v9717 v9768
  let v10649 : Index := Scalar.indexCast v9769
  let c199_i32_2339 : BitVec 32 := 199#32
  let c0_i32_2338 : BitVec 32 := 0#32
  let v9711 : BitVec 32 := Scalar.maxsi c0_i32_2338 v9710
  let v9712 : BitVec 32 := Scalar.minsi c199_i32_2339 v9711
  let v9870 : BitVec 32 := Scalar.addi v9712 v9869
  let c3_i32_2420 : BitVec 32 := 3#32
  let v9873 : BitVec 32 := Scalar.shrsi v9870 c3_i32_2420
  let c3_i32_2421 : BitVec 32 := 3#32
  let v9874 : BitVec 32 := Scalar.shli v9873 c3_i32_2421
  let v9875 : BitVec 32 := v9874
  let v10650 : Index := Scalar.indexCast v9875
  let c0_2591 : Index := 0#32
  ![v10649.toNat, v10650.toNat, 0]
def k0_off970 (v9710 : BitVec 32) (v9715 : BitVec 32) (v9725 : BitVec 32) (v9768 : BitVec 32) (v9869 : BitVec 32) : Fin 3 → Nat :=
  let c199_i32_2342 : BitVec 32 := 199#32
  let c0_i32_2341 : BitVec 32 := 0#32
  let v9716 : BitVec 32 := Scalar.maxsi c0_i32_2341 v9715
  let v9717 : BitVec 32 := Scalar.minsi c199_i32_2342 v9716
  let v9769 : BitVec 32 := Scalar.addi v9717 v9768
  let c1_i32_2368 : BitVec 32 := 1#32
  let v9770 : BitVec 32 := Scalar.addi v9769 c1_i32_2368
  let c199_i32_2348 : BitVec 32 := 199#32
  let c0_i32_2347 : BitVec 32 := 0#32
  let v9726 : BitVec 32 := Scalar.maxsi c0_i32_2347 v9725
  let v9727 : BitVec 32 := Scalar.minsi c199_i32_2348 v9726
  let v9771 : BitVec 32 := Scalar.minsi v9770 v9727
  let v10653 : Index := Scalar.indexCast v9771
  let c199_i32_2339 : BitVec 32 := 199#32
  let c0_i32_2338 : BitVec 32 := 0#32
  let v9711 : BitVec 32 := Scalar.maxsi c0_i32_2338 v9710
  let v9712 : BitVec 32 := Scalar.minsi c199_i32_2339 v9711
  let v9870 : BitVec 32 := Scalar.addi v9712 v9869
  let c3_i32_2420 : BitVec 32 := 3#32
  let v9873 : BitVec 32 := Scalar.shrsi v9870 c3_i32_2420
  let c3_i32_2421 : BitVec 32 := 3#32
  let v9874 : BitVec 32 := Scalar.shli v9873 c3_i32_2421
  let v9875 : BitVec 32 := v9874
  let v10654 : Index := Scalar.indexCast v9875
  let c0_2592 : Index := 0#32
  ![v10653.toNat, v10654.toNat, 0]
def k0_off971 (k0_t1 : Fin k0_t1_loop.trips) : Fin 3 → Nat :=
  let c26_2594 : Index := 26#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c6_i32 : BitVec 32 := 6#32
  let v9702 : BitVec 32 := Scalar.addi v5 c6_i32
  let v10673 : Index := Scalar.indexCast v9702
  let c0_2595 : Index := 0#32
  ![26, v10673.toNat, 0]
def k0_off972 (v9710 : BitVec 32) (v9715 : BitVec 32) (v9768 : BitVec 32) (v9882 : BitVec 32) : Fin 3 → Nat :=
  let c199_i32_2342 : BitVec 32 := 199#32
  let c0_i32_2341 : BitVec 32 := 0#32
  let v9716 : BitVec 32 := Scalar.maxsi c0_i32_2341 v9715
  let v9717 : BitVec 32 := Scalar.minsi c199_i32_2342 v9716
  let v9769 : BitVec 32 := Scalar.addi v9717 v9768
  let v10678 : Index := Scalar.indexCast v9769
  let c199_i32_2339 : BitVec 32 := 199#32
  let c0_i32_2338 : BitVec 32 := 0#32
  let v9711 : BitVec 32 := Scalar.maxsi c0_i32_2338 v9710
  let v9712 : BitVec 32 := Scalar.minsi c199_i32_2339 v9711
  let v9883 : BitVec 32 := Scalar.addi v9712 v9882
  let c3_i32_2427 : BitVec 32 := 3#32
  let v9886 : BitVec 32 := Scalar.shrsi v9883 c3_i32_2427
  let c3_i32_2428 : BitVec 32 := 3#32
  let v9887 : BitVec 32 := Scalar.shli v9886 c3_i32_2428
  let v9888 : BitVec 32 := v9887
  let v10679 : Index := Scalar.indexCast v9888
  let c0_2597 : Index := 0#32
  ![v10678.toNat, v10679.toNat, 0]
def k0_off973 (v9710 : BitVec 32) (v9715 : BitVec 32) (v9725 : BitVec 32) (v9768 : BitVec 32) (v9882 : BitVec 32) : Fin 3 → Nat :=
  let c199_i32_2342 : BitVec 32 := 199#32
  let c0_i32_2341 : BitVec 32 := 0#32
  let v9716 : BitVec 32 := Scalar.maxsi c0_i32_2341 v9715
  let v9717 : BitVec 32 := Scalar.minsi c199_i32_2342 v9716
  let v9769 : BitVec 32 := Scalar.addi v9717 v9768
  let c1_i32_2368 : BitVec 32 := 1#32
  let v9770 : BitVec 32 := Scalar.addi v9769 c1_i32_2368
  let c199_i32_2348 : BitVec 32 := 199#32
  let c0_i32_2347 : BitVec 32 := 0#32
  let v9726 : BitVec 32 := Scalar.maxsi c0_i32_2347 v9725
  let v9727 : BitVec 32 := Scalar.minsi c199_i32_2348 v9726
  let v9771 : BitVec 32 := Scalar.minsi v9770 v9727
  let v10682 : Index := Scalar.indexCast v9771
  let c199_i32_2339 : BitVec 32 := 199#32
  let c0_i32_2338 : BitVec 32 := 0#32
  let v9711 : BitVec 32 := Scalar.maxsi c0_i32_2338 v9710
  let v9712 : BitVec 32 := Scalar.minsi c199_i32_2339 v9711
  let v9883 : BitVec 32 := Scalar.addi v9712 v9882
  let c3_i32_2427 : BitVec 32 := 3#32
  let v9886 : BitVec 32 := Scalar.shrsi v9883 c3_i32_2427
  let c3_i32_2428 : BitVec 32 := 3#32
  let v9887 : BitVec 32 := Scalar.shli v9886 c3_i32_2428
  let v9888 : BitVec 32 := v9887
  let v10683 : Index := Scalar.indexCast v9888
  let c0_2598 : Index := 0#32
  ![v10682.toNat, v10683.toNat, 0]
def k0_off974 (k0_t1 : Fin k0_t1_loop.trips) : Fin 3 → Nat :=
  let c27_2600 : Index := 27#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c6_i32 : BitVec 32 := 6#32
  let v9702 : BitVec 32 := Scalar.addi v5 c6_i32
  let v10702 : Index := Scalar.indexCast v9702
  let c0_2601 : Index := 0#32
  ![27, v10702.toNat, 0]
def k0_off975 (v9710 : BitVec 32) (v9715 : BitVec 32) (v9777 : BitVec 32) (v9804 : BitVec 32) : Fin 3 → Nat :=
  let c199_i32_2342 : BitVec 32 := 199#32
  let c0_i32_2341 : BitVec 32 := 0#32
  let v9716 : BitVec 32 := Scalar.maxsi c0_i32_2341 v9715
  let v9717 : BitVec 32 := Scalar.minsi c199_i32_2342 v9716
  let v9778 : BitVec 32 := Scalar.addi v9717 v9777
  let v10708 : Index := Scalar.indexCast v9778
  let c199_i32_2339 : BitVec 32 := 199#32
  let c0_i32_2338 : BitVec 32 := 0#32
  let v9711 : BitVec 32 := Scalar.maxsi c0_i32_2338 v9710
  let v9712 : BitVec 32 := Scalar.minsi c199_i32_2339 v9711
  let v9805 : BitVec 32 := Scalar.addi v9712 v9804
  let c3_i32_2385 : BitVec 32 := 3#32
  let v9808 : BitVec 32 := Scalar.shrsi v9805 c3_i32_2385
  let c3_i32_2386 : BitVec 32 := 3#32
  let v9809 : BitVec 32 := Scalar.shli v9808 c3_i32_2386
  let v9810 : BitVec 32 := v9809
  let v10709 : Index := Scalar.indexCast v9810
  let c0_2604 : Index := 0#32
  ![v10708.toNat, v10709.toNat, 0]
def k0_off976 (v9710 : BitVec 32) (v9715 : BitVec 32) (v9725 : BitVec 32) (v9777 : BitVec 32) (v9804 : BitVec 32) : Fin 3 → Nat :=
  let c199_i32_2342 : BitVec 32 := 199#32
  let c0_i32_2341 : BitVec 32 := 0#32
  let v9716 : BitVec 32 := Scalar.maxsi c0_i32_2341 v9715
  let v9717 : BitVec 32 := Scalar.minsi c199_i32_2342 v9716
  let v9778 : BitVec 32 := Scalar.addi v9717 v9777
  let c1_i32_2372 : BitVec 32 := 1#32
  let v9779 : BitVec 32 := Scalar.addi v9778 c1_i32_2372
  let c199_i32_2348 : BitVec 32 := 199#32
  let c0_i32_2347 : BitVec 32 := 0#32
  let v9726 : BitVec 32 := Scalar.maxsi c0_i32_2347 v9725
  let v9727 : BitVec 32 := Scalar.minsi c199_i32_2348 v9726
  let v9780 : BitVec 32 := Scalar.minsi v9779 v9727
  let v10712 : Index := Scalar.indexCast v9780
  let c199_i32_2339 : BitVec 32 := 199#32
  let c0_i32_2338 : BitVec 32 := 0#32
  let v9711 : BitVec 32 := Scalar.maxsi c0_i32_2338 v9710
  let v9712 : BitVec 32 := Scalar.minsi c199_i32_2339 v9711
  let v9805 : BitVec 32 := Scalar.addi v9712 v9804
  let c3_i32_2385 : BitVec 32 := 3#32
  let v9808 : BitVec 32 := Scalar.shrsi v9805 c3_i32_2385
  let c3_i32_2386 : BitVec 32 := 3#32
  let v9809 : BitVec 32 := Scalar.shli v9808 c3_i32_2386
  let v9810 : BitVec 32 := v9809
  let v10713 : Index := Scalar.indexCast v9810
  let c0_2605 : Index := 0#32
  ![v10712.toNat, v10713.toNat, 0]
def k0_off977 (k0_t1 : Fin k0_t1_loop.trips) : Fin 3 → Nat :=
  let c28_2607 : Index := 28#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c6_i32 : BitVec 32 := 6#32
  let v9702 : BitVec 32 := Scalar.addi v5 c6_i32
  let v10732 : Index := Scalar.indexCast v9702
  let c0_2608 : Index := 0#32
  ![28, v10732.toNat, 0]
def k0_off978 (v9710 : BitVec 32) (v9715 : BitVec 32) (v9777 : BitVec 32) (v9817 : BitVec 32) : Fin 3 → Nat :=
  let c199_i32_2342 : BitVec 32 := 199#32
  let c0_i32_2341 : BitVec 32 := 0#32
  let v9716 : BitVec 32 := Scalar.maxsi c0_i32_2341 v9715
  let v9717 : BitVec 32 := Scalar.minsi c199_i32_2342 v9716
  let v9778 : BitVec 32 := Scalar.addi v9717 v9777
  let v10737 : Index := Scalar.indexCast v9778
  let c199_i32_2339 : BitVec 32 := 199#32
  let c0_i32_2338 : BitVec 32 := 0#32
  let v9711 : BitVec 32 := Scalar.maxsi c0_i32_2338 v9710
  let v9712 : BitVec 32 := Scalar.minsi c199_i32_2339 v9711
  let v9818 : BitVec 32 := Scalar.addi v9712 v9817
  let c3_i32_2392 : BitVec 32 := 3#32
  let v9821 : BitVec 32 := Scalar.shrsi v9818 c3_i32_2392
  let c3_i32_2393 : BitVec 32 := 3#32
  let v9822 : BitVec 32 := Scalar.shli v9821 c3_i32_2393
  let v9823 : BitVec 32 := v9822
  let v10738 : Index := Scalar.indexCast v9823
  let c0_2610 : Index := 0#32
  ![v10737.toNat, v10738.toNat, 0]
def k0_off979 (v9710 : BitVec 32) (v9715 : BitVec 32) (v9725 : BitVec 32) (v9777 : BitVec 32) (v9817 : BitVec 32) : Fin 3 → Nat :=
  let c199_i32_2342 : BitVec 32 := 199#32
  let c0_i32_2341 : BitVec 32 := 0#32
  let v9716 : BitVec 32 := Scalar.maxsi c0_i32_2341 v9715
  let v9717 : BitVec 32 := Scalar.minsi c199_i32_2342 v9716
  let v9778 : BitVec 32 := Scalar.addi v9717 v9777
  let c1_i32_2372 : BitVec 32 := 1#32
  let v9779 : BitVec 32 := Scalar.addi v9778 c1_i32_2372
  let c199_i32_2348 : BitVec 32 := 199#32
  let c0_i32_2347 : BitVec 32 := 0#32
  let v9726 : BitVec 32 := Scalar.maxsi c0_i32_2347 v9725
  let v9727 : BitVec 32 := Scalar.minsi c199_i32_2348 v9726
  let v9780 : BitVec 32 := Scalar.minsi v9779 v9727
  let v10741 : Index := Scalar.indexCast v9780
  let c199_i32_2339 : BitVec 32 := 199#32
  let c0_i32_2338 : BitVec 32 := 0#32
  let v9711 : BitVec 32 := Scalar.maxsi c0_i32_2338 v9710
  let v9712 : BitVec 32 := Scalar.minsi c199_i32_2339 v9711
  let v9818 : BitVec 32 := Scalar.addi v9712 v9817
  let c3_i32_2392 : BitVec 32 := 3#32
  let v9821 : BitVec 32 := Scalar.shrsi v9818 c3_i32_2392
  let c3_i32_2393 : BitVec 32 := 3#32
  let v9822 : BitVec 32 := Scalar.shli v9821 c3_i32_2393
  let v9823 : BitVec 32 := v9822
  let v10742 : Index := Scalar.indexCast v9823
  let c0_2611 : Index := 0#32
  ![v10741.toNat, v10742.toNat, 0]
def k0_off980 (k0_t1 : Fin k0_t1_loop.trips) : Fin 3 → Nat :=
  let c29_2613 : Index := 29#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c6_i32 : BitVec 32 := 6#32
  let v9702 : BitVec 32 := Scalar.addi v5 c6_i32
  let v10761 : Index := Scalar.indexCast v9702
  let c0_2614 : Index := 0#32
  ![29, v10761.toNat, 0]
def k0_off981 (v9710 : BitVec 32) (v9715 : BitVec 32) (v9777 : BitVec 32) (v9830 : BitVec 32) : Fin 3 → Nat :=
  let c199_i32_2342 : BitVec 32 := 199#32
  let c0_i32_2341 : BitVec 32 := 0#32
  let v9716 : BitVec 32 := Scalar.maxsi c0_i32_2341 v9715
  let v9717 : BitVec 32 := Scalar.minsi c199_i32_2342 v9716
  let v9778 : BitVec 32 := Scalar.addi v9717 v9777
  let v10766 : Index := Scalar.indexCast v9778
  let c199_i32_2339 : BitVec 32 := 199#32
  let c0_i32_2338 : BitVec 32 := 0#32
  let v9711 : BitVec 32 := Scalar.maxsi c0_i32_2338 v9710
  let v9712 : BitVec 32 := Scalar.minsi c199_i32_2339 v9711
  let v9831 : BitVec 32 := Scalar.addi v9712 v9830
  let c3_i32_2399 : BitVec 32 := 3#32
  let v9834 : BitVec 32 := Scalar.shrsi v9831 c3_i32_2399
  let c3_i32_2400 : BitVec 32 := 3#32
  let v9835 : BitVec 32 := Scalar.shli v9834 c3_i32_2400
  let v9836 : BitVec 32 := v9835
  let v10767 : Index := Scalar.indexCast v9836
  let c0_2616 : Index := 0#32
  ![v10766.toNat, v10767.toNat, 0]
def k0_off982 (v9710 : BitVec 32) (v9715 : BitVec 32) (v9725 : BitVec 32) (v9777 : BitVec 32) (v9830 : BitVec 32) : Fin 3 → Nat :=
  let c199_i32_2342 : BitVec 32 := 199#32
  let c0_i32_2341 : BitVec 32 := 0#32
  let v9716 : BitVec 32 := Scalar.maxsi c0_i32_2341 v9715
  let v9717 : BitVec 32 := Scalar.minsi c199_i32_2342 v9716
  let v9778 : BitVec 32 := Scalar.addi v9717 v9777
  let c1_i32_2372 : BitVec 32 := 1#32
  let v9779 : BitVec 32 := Scalar.addi v9778 c1_i32_2372
  let c199_i32_2348 : BitVec 32 := 199#32
  let c0_i32_2347 : BitVec 32 := 0#32
  let v9726 : BitVec 32 := Scalar.maxsi c0_i32_2347 v9725
  let v9727 : BitVec 32 := Scalar.minsi c199_i32_2348 v9726
  let v9780 : BitVec 32 := Scalar.minsi v9779 v9727
  let v10770 : Index := Scalar.indexCast v9780
  let c199_i32_2339 : BitVec 32 := 199#32
  let c0_i32_2338 : BitVec 32 := 0#32
  let v9711 : BitVec 32 := Scalar.maxsi c0_i32_2338 v9710
  let v9712 : BitVec 32 := Scalar.minsi c199_i32_2339 v9711
  let v9831 : BitVec 32 := Scalar.addi v9712 v9830
  let c3_i32_2399 : BitVec 32 := 3#32
  let v9834 : BitVec 32 := Scalar.shrsi v9831 c3_i32_2399
  let c3_i32_2400 : BitVec 32 := 3#32
  let v9835 : BitVec 32 := Scalar.shli v9834 c3_i32_2400
  let v9836 : BitVec 32 := v9835
  let v10771 : Index := Scalar.indexCast v9836
  let c0_2617 : Index := 0#32
  ![v10770.toNat, v10771.toNat, 0]
def k0_off983 (k0_t1 : Fin k0_t1_loop.trips) : Fin 3 → Nat :=
  let c30_2619 : Index := 30#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c6_i32 : BitVec 32 := 6#32
  let v9702 : BitVec 32 := Scalar.addi v5 c6_i32
  let v10790 : Index := Scalar.indexCast v9702
  let c0_2620 : Index := 0#32
  ![30, v10790.toNat, 0]
def k0_off984 (v9710 : BitVec 32) (v9715 : BitVec 32) (v9777 : BitVec 32) (v9843 : BitVec 32) : Fin 3 → Nat :=
  let c199_i32_2342 : BitVec 32 := 199#32
  let c0_i32_2341 : BitVec 32 := 0#32
  let v9716 : BitVec 32 := Scalar.maxsi c0_i32_2341 v9715
  let v9717 : BitVec 32 := Scalar.minsi c199_i32_2342 v9716
  let v9778 : BitVec 32 := Scalar.addi v9717 v9777
  let v10795 : Index := Scalar.indexCast v9778
  let c199_i32_2339 : BitVec 32 := 199#32
  let c0_i32_2338 : BitVec 32 := 0#32
  let v9711 : BitVec 32 := Scalar.maxsi c0_i32_2338 v9710
  let v9712 : BitVec 32 := Scalar.minsi c199_i32_2339 v9711
  let v9844 : BitVec 32 := Scalar.addi v9712 v9843
  let c3_i32_2406 : BitVec 32 := 3#32
  let v9847 : BitVec 32 := Scalar.shrsi v9844 c3_i32_2406
  let c3_i32_2407 : BitVec 32 := 3#32
  let v9848 : BitVec 32 := Scalar.shli v9847 c3_i32_2407
  let v9849 : BitVec 32 := v9848
  let v10796 : Index := Scalar.indexCast v9849
  let c0_2622 : Index := 0#32
  ![v10795.toNat, v10796.toNat, 0]
def k0_off985 (v9710 : BitVec 32) (v9715 : BitVec 32) (v9725 : BitVec 32) (v9777 : BitVec 32) (v9843 : BitVec 32) : Fin 3 → Nat :=
  let c199_i32_2342 : BitVec 32 := 199#32
  let c0_i32_2341 : BitVec 32 := 0#32
  let v9716 : BitVec 32 := Scalar.maxsi c0_i32_2341 v9715
  let v9717 : BitVec 32 := Scalar.minsi c199_i32_2342 v9716
  let v9778 : BitVec 32 := Scalar.addi v9717 v9777
  let c1_i32_2372 : BitVec 32 := 1#32
  let v9779 : BitVec 32 := Scalar.addi v9778 c1_i32_2372
  let c199_i32_2348 : BitVec 32 := 199#32
  let c0_i32_2347 : BitVec 32 := 0#32
  let v9726 : BitVec 32 := Scalar.maxsi c0_i32_2347 v9725
  let v9727 : BitVec 32 := Scalar.minsi c199_i32_2348 v9726
  let v9780 : BitVec 32 := Scalar.minsi v9779 v9727
  let v10799 : Index := Scalar.indexCast v9780
  let c199_i32_2339 : BitVec 32 := 199#32
  let c0_i32_2338 : BitVec 32 := 0#32
  let v9711 : BitVec 32 := Scalar.maxsi c0_i32_2338 v9710
  let v9712 : BitVec 32 := Scalar.minsi c199_i32_2339 v9711
  let v9844 : BitVec 32 := Scalar.addi v9712 v9843
  let c3_i32_2406 : BitVec 32 := 3#32
  let v9847 : BitVec 32 := Scalar.shrsi v9844 c3_i32_2406
  let c3_i32_2407 : BitVec 32 := 3#32
  let v9848 : BitVec 32 := Scalar.shli v9847 c3_i32_2407
  let v9849 : BitVec 32 := v9848
  let v10800 : Index := Scalar.indexCast v9849
  let c0_2623 : Index := 0#32
  ![v10799.toNat, v10800.toNat, 0]
def k0_off986 (k0_t1 : Fin k0_t1_loop.trips) : Fin 3 → Nat :=
  let c31_2625 : Index := 31#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c6_i32 : BitVec 32 := 6#32
  let v9702 : BitVec 32 := Scalar.addi v5 c6_i32
  let v10819 : Index := Scalar.indexCast v9702
  let c0_2626 : Index := 0#32
  ![31, v10819.toNat, 0]
def k0_off987 (v9710 : BitVec 32) (v9715 : BitVec 32) (v9777 : BitVec 32) (v9856 : BitVec 32) : Fin 3 → Nat :=
  let c199_i32_2342 : BitVec 32 := 199#32
  let c0_i32_2341 : BitVec 32 := 0#32
  let v9716 : BitVec 32 := Scalar.maxsi c0_i32_2341 v9715
  let v9717 : BitVec 32 := Scalar.minsi c199_i32_2342 v9716
  let v9778 : BitVec 32 := Scalar.addi v9717 v9777
  let v10824 : Index := Scalar.indexCast v9778
  let c199_i32_2339 : BitVec 32 := 199#32
  let c0_i32_2338 : BitVec 32 := 0#32
  let v9711 : BitVec 32 := Scalar.maxsi c0_i32_2338 v9710
  let v9712 : BitVec 32 := Scalar.minsi c199_i32_2339 v9711
  let v9857 : BitVec 32 := Scalar.addi v9712 v9856
  let c3_i32_2413 : BitVec 32 := 3#32
  let v9860 : BitVec 32 := Scalar.shrsi v9857 c3_i32_2413
  let c3_i32_2414 : BitVec 32 := 3#32
  let v9861 : BitVec 32 := Scalar.shli v9860 c3_i32_2414
  let v9862 : BitVec 32 := v9861
  let v10825 : Index := Scalar.indexCast v9862
  let c0_2628 : Index := 0#32
  ![v10824.toNat, v10825.toNat, 0]
def k0_off988 (v9710 : BitVec 32) (v9715 : BitVec 32) (v9725 : BitVec 32) (v9777 : BitVec 32) (v9856 : BitVec 32) : Fin 3 → Nat :=
  let c199_i32_2342 : BitVec 32 := 199#32
  let c0_i32_2341 : BitVec 32 := 0#32
  let v9716 : BitVec 32 := Scalar.maxsi c0_i32_2341 v9715
  let v9717 : BitVec 32 := Scalar.minsi c199_i32_2342 v9716
  let v9778 : BitVec 32 := Scalar.addi v9717 v9777
  let c1_i32_2372 : BitVec 32 := 1#32
  let v9779 : BitVec 32 := Scalar.addi v9778 c1_i32_2372
  let c199_i32_2348 : BitVec 32 := 199#32
  let c0_i32_2347 : BitVec 32 := 0#32
  let v9726 : BitVec 32 := Scalar.maxsi c0_i32_2347 v9725
  let v9727 : BitVec 32 := Scalar.minsi c199_i32_2348 v9726
  let v9780 : BitVec 32 := Scalar.minsi v9779 v9727
  let v10828 : Index := Scalar.indexCast v9780
  let c199_i32_2339 : BitVec 32 := 199#32
  let c0_i32_2338 : BitVec 32 := 0#32
  let v9711 : BitVec 32 := Scalar.maxsi c0_i32_2338 v9710
  let v9712 : BitVec 32 := Scalar.minsi c199_i32_2339 v9711
  let v9857 : BitVec 32 := Scalar.addi v9712 v9856
  let c3_i32_2413 : BitVec 32 := 3#32
  let v9860 : BitVec 32 := Scalar.shrsi v9857 c3_i32_2413
  let c3_i32_2414 : BitVec 32 := 3#32
  let v9861 : BitVec 32 := Scalar.shli v9860 c3_i32_2414
  let v9862 : BitVec 32 := v9861
  let v10829 : Index := Scalar.indexCast v9862
  let c0_2629 : Index := 0#32
  ![v10828.toNat, v10829.toNat, 0]
def k0_off989 (k0_t1 : Fin k0_t1_loop.trips) : Fin 3 → Nat :=
  let c32_2631 : Index := 32#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c6_i32 : BitVec 32 := 6#32
  let v9702 : BitVec 32 := Scalar.addi v5 c6_i32
  let v10848 : Index := Scalar.indexCast v9702
  let c0_2632 : Index := 0#32
  ![32, v10848.toNat, 0]
def k0_off990 (v9710 : BitVec 32) (v9715 : BitVec 32) (v9777 : BitVec 32) (v9869 : BitVec 32) : Fin 3 → Nat :=
  let c199_i32_2342 : BitVec 32 := 199#32
  let c0_i32_2341 : BitVec 32 := 0#32
  let v9716 : BitVec 32 := Scalar.maxsi c0_i32_2341 v9715
  let v9717 : BitVec 32 := Scalar.minsi c199_i32_2342 v9716
  let v9778 : BitVec 32 := Scalar.addi v9717 v9777
  let v10853 : Index := Scalar.indexCast v9778
  let c199_i32_2339 : BitVec 32 := 199#32
  let c0_i32_2338 : BitVec 32 := 0#32
  let v9711 : BitVec 32 := Scalar.maxsi c0_i32_2338 v9710
  let v9712 : BitVec 32 := Scalar.minsi c199_i32_2339 v9711
  let v9870 : BitVec 32 := Scalar.addi v9712 v9869
  let c3_i32_2420 : BitVec 32 := 3#32
  let v9873 : BitVec 32 := Scalar.shrsi v9870 c3_i32_2420
  let c3_i32_2421 : BitVec 32 := 3#32
  let v9874 : BitVec 32 := Scalar.shli v9873 c3_i32_2421
  let v9875 : BitVec 32 := v9874
  let v10854 : Index := Scalar.indexCast v9875
  let c0_2634 : Index := 0#32
  ![v10853.toNat, v10854.toNat, 0]
def k0_off991 (v9710 : BitVec 32) (v9715 : BitVec 32) (v9725 : BitVec 32) (v9777 : BitVec 32) (v9869 : BitVec 32) : Fin 3 → Nat :=
  let c199_i32_2342 : BitVec 32 := 199#32
  let c0_i32_2341 : BitVec 32 := 0#32
  let v9716 : BitVec 32 := Scalar.maxsi c0_i32_2341 v9715
  let v9717 : BitVec 32 := Scalar.minsi c199_i32_2342 v9716
  let v9778 : BitVec 32 := Scalar.addi v9717 v9777
  let c1_i32_2372 : BitVec 32 := 1#32
  let v9779 : BitVec 32 := Scalar.addi v9778 c1_i32_2372
  let c199_i32_2348 : BitVec 32 := 199#32
  let c0_i32_2347 : BitVec 32 := 0#32
  let v9726 : BitVec 32 := Scalar.maxsi c0_i32_2347 v9725
  let v9727 : BitVec 32 := Scalar.minsi c199_i32_2348 v9726
  let v9780 : BitVec 32 := Scalar.minsi v9779 v9727
  let v10857 : Index := Scalar.indexCast v9780
  let c199_i32_2339 : BitVec 32 := 199#32
  let c0_i32_2338 : BitVec 32 := 0#32
  let v9711 : BitVec 32 := Scalar.maxsi c0_i32_2338 v9710
  let v9712 : BitVec 32 := Scalar.minsi c199_i32_2339 v9711
  let v9870 : BitVec 32 := Scalar.addi v9712 v9869
  let c3_i32_2420 : BitVec 32 := 3#32
  let v9873 : BitVec 32 := Scalar.shrsi v9870 c3_i32_2420
  let c3_i32_2421 : BitVec 32 := 3#32
  let v9874 : BitVec 32 := Scalar.shli v9873 c3_i32_2421
  let v9875 : BitVec 32 := v9874
  let v10858 : Index := Scalar.indexCast v9875
  let c0_2635 : Index := 0#32
  ![v10857.toNat, v10858.toNat, 0]
def k0_off992 (k0_t1 : Fin k0_t1_loop.trips) : Fin 3 → Nat :=
  let c33_2637 : Index := 33#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c6_i32 : BitVec 32 := 6#32
  let v9702 : BitVec 32 := Scalar.addi v5 c6_i32
  let v10877 : Index := Scalar.indexCast v9702
  let c0_2638 : Index := 0#32
  ![33, v10877.toNat, 0]
def k0_off993 (v9710 : BitVec 32) (v9715 : BitVec 32) (v9777 : BitVec 32) (v9882 : BitVec 32) : Fin 3 → Nat :=
  let c199_i32_2342 : BitVec 32 := 199#32
  let c0_i32_2341 : BitVec 32 := 0#32
  let v9716 : BitVec 32 := Scalar.maxsi c0_i32_2341 v9715
  let v9717 : BitVec 32 := Scalar.minsi c199_i32_2342 v9716
  let v9778 : BitVec 32 := Scalar.addi v9717 v9777
  let v10882 : Index := Scalar.indexCast v9778
  let c199_i32_2339 : BitVec 32 := 199#32
  let c0_i32_2338 : BitVec 32 := 0#32
  let v9711 : BitVec 32 := Scalar.maxsi c0_i32_2338 v9710
  let v9712 : BitVec 32 := Scalar.minsi c199_i32_2339 v9711
  let v9883 : BitVec 32 := Scalar.addi v9712 v9882
  let c3_i32_2427 : BitVec 32 := 3#32
  let v9886 : BitVec 32 := Scalar.shrsi v9883 c3_i32_2427
  let c3_i32_2428 : BitVec 32 := 3#32
  let v9887 : BitVec 32 := Scalar.shli v9886 c3_i32_2428
  let v9888 : BitVec 32 := v9887
  let v10883 : Index := Scalar.indexCast v9888
  let c0_2640 : Index := 0#32
  ![v10882.toNat, v10883.toNat, 0]
def k0_off994 (v9710 : BitVec 32) (v9715 : BitVec 32) (v9725 : BitVec 32) (v9777 : BitVec 32) (v9882 : BitVec 32) : Fin 3 → Nat :=
  let c199_i32_2342 : BitVec 32 := 199#32
  let c0_i32_2341 : BitVec 32 := 0#32
  let v9716 : BitVec 32 := Scalar.maxsi c0_i32_2341 v9715
  let v9717 : BitVec 32 := Scalar.minsi c199_i32_2342 v9716
  let v9778 : BitVec 32 := Scalar.addi v9717 v9777
  let c1_i32_2372 : BitVec 32 := 1#32
  let v9779 : BitVec 32 := Scalar.addi v9778 c1_i32_2372
  let c199_i32_2348 : BitVec 32 := 199#32
  let c0_i32_2347 : BitVec 32 := 0#32
  let v9726 : BitVec 32 := Scalar.maxsi c0_i32_2347 v9725
  let v9727 : BitVec 32 := Scalar.minsi c199_i32_2348 v9726
  let v9780 : BitVec 32 := Scalar.minsi v9779 v9727
  let v10886 : Index := Scalar.indexCast v9780
  let c199_i32_2339 : BitVec 32 := 199#32
  let c0_i32_2338 : BitVec 32 := 0#32
  let v9711 : BitVec 32 := Scalar.maxsi c0_i32_2338 v9710
  let v9712 : BitVec 32 := Scalar.minsi c199_i32_2339 v9711
  let v9883 : BitVec 32 := Scalar.addi v9712 v9882
  let c3_i32_2427 : BitVec 32 := 3#32
  let v9886 : BitVec 32 := Scalar.shrsi v9883 c3_i32_2427
  let c3_i32_2428 : BitVec 32 := 3#32
  let v9887 : BitVec 32 := Scalar.shli v9886 c3_i32_2428
  let v9888 : BitVec 32 := v9887
  let v10887 : Index := Scalar.indexCast v9888
  let c0_2641 : Index := 0#32
  ![v10886.toNat, v10887.toNat, 0]
def k0_off995 (k0_t1 : Fin k0_t1_loop.trips) : Fin 3 → Nat :=
  let c34_2643 : Index := 34#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c6_i32 : BitVec 32 := 6#32
  let v9702 : BitVec 32 := Scalar.addi v5 c6_i32
  let v10906 : Index := Scalar.indexCast v9702
  let c0_2644 : Index := 0#32
  ![34, v10906.toNat, 0]
def k0_off996 (v9710 : BitVec 32) (v9715 : BitVec 32) (v9786 : BitVec 32) (v9804 : BitVec 32) : Fin 3 → Nat :=
  let c199_i32_2342 : BitVec 32 := 199#32
  let c0_i32_2341 : BitVec 32 := 0#32
  let v9716 : BitVec 32 := Scalar.maxsi c0_i32_2341 v9715
  let v9717 : BitVec 32 := Scalar.minsi c199_i32_2342 v9716
  let v9787 : BitVec 32 := Scalar.addi v9717 v9786
  let v10912 : Index := Scalar.indexCast v9787
  let c199_i32_2339 : BitVec 32 := 199#32
  let c0_i32_2338 : BitVec 32 := 0#32
  let v9711 : BitVec 32 := Scalar.maxsi c0_i32_2338 v9710
  let v9712 : BitVec 32 := Scalar.minsi c199_i32_2339 v9711
  let v9805 : BitVec 32 := Scalar.addi v9712 v9804
  let c3_i32_2385 : BitVec 32 := 3#32
  let v9808 : BitVec 32 := Scalar.shrsi v9805 c3_i32_2385
  let c3_i32_2386 : BitVec 32 := 3#32
  let v9809 : BitVec 32 := Scalar.shli v9808 c3_i32_2386
  let v9810 : BitVec 32 := v9809
  let v10913 : Index := Scalar.indexCast v9810
  let c0_2647 : Index := 0#32
  ![v10912.toNat, v10913.toNat, 0]
def k0_off997 (v9710 : BitVec 32) (v9715 : BitVec 32) (v9725 : BitVec 32) (v9786 : BitVec 32) (v9804 : BitVec 32) : Fin 3 → Nat :=
  let c199_i32_2342 : BitVec 32 := 199#32
  let c0_i32_2341 : BitVec 32 := 0#32
  let v9716 : BitVec 32 := Scalar.maxsi c0_i32_2341 v9715
  let v9717 : BitVec 32 := Scalar.minsi c199_i32_2342 v9716
  let v9787 : BitVec 32 := Scalar.addi v9717 v9786
  let c1_i32_2376 : BitVec 32 := 1#32
  let v9788 : BitVec 32 := Scalar.addi v9787 c1_i32_2376
  let c199_i32_2348 : BitVec 32 := 199#32
  let c0_i32_2347 : BitVec 32 := 0#32
  let v9726 : BitVec 32 := Scalar.maxsi c0_i32_2347 v9725
  let v9727 : BitVec 32 := Scalar.minsi c199_i32_2348 v9726
  let v9789 : BitVec 32 := Scalar.minsi v9788 v9727
  let v10916 : Index := Scalar.indexCast v9789
  let c199_i32_2339 : BitVec 32 := 199#32
  let c0_i32_2338 : BitVec 32 := 0#32
  let v9711 : BitVec 32 := Scalar.maxsi c0_i32_2338 v9710
  let v9712 : BitVec 32 := Scalar.minsi c199_i32_2339 v9711
  let v9805 : BitVec 32 := Scalar.addi v9712 v9804
  let c3_i32_2385 : BitVec 32 := 3#32
  let v9808 : BitVec 32 := Scalar.shrsi v9805 c3_i32_2385
  let c3_i32_2386 : BitVec 32 := 3#32
  let v9809 : BitVec 32 := Scalar.shli v9808 c3_i32_2386
  let v9810 : BitVec 32 := v9809
  let v10917 : Index := Scalar.indexCast v9810
  let c0_2648 : Index := 0#32
  ![v10916.toNat, v10917.toNat, 0]
def k0_off998 (k0_t1 : Fin k0_t1_loop.trips) : Fin 3 → Nat :=
  let c35_2650 : Index := 35#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c6_i32 : BitVec 32 := 6#32
  let v9702 : BitVec 32 := Scalar.addi v5 c6_i32
  let v10936 : Index := Scalar.indexCast v9702
  let c0_2651 : Index := 0#32
  ![35, v10936.toNat, 0]
def k0_off999 (v9710 : BitVec 32) (v9715 : BitVec 32) (v9786 : BitVec 32) (v9817 : BitVec 32) : Fin 3 → Nat :=
  let c199_i32_2342 : BitVec 32 := 199#32
  let c0_i32_2341 : BitVec 32 := 0#32
  let v9716 : BitVec 32 := Scalar.maxsi c0_i32_2341 v9715
  let v9717 : BitVec 32 := Scalar.minsi c199_i32_2342 v9716
  let v9787 : BitVec 32 := Scalar.addi v9717 v9786
  let v10941 : Index := Scalar.indexCast v9787
  let c199_i32_2339 : BitVec 32 := 199#32
  let c0_i32_2338 : BitVec 32 := 0#32
  let v9711 : BitVec 32 := Scalar.maxsi c0_i32_2338 v9710
  let v9712 : BitVec 32 := Scalar.minsi c199_i32_2339 v9711
  let v9818 : BitVec 32 := Scalar.addi v9712 v9817
  let c3_i32_2392 : BitVec 32 := 3#32
  let v9821 : BitVec 32 := Scalar.shrsi v9818 c3_i32_2392
  let c3_i32_2393 : BitVec 32 := 3#32
  let v9822 : BitVec 32 := Scalar.shli v9821 c3_i32_2393
  let v9823 : BitVec 32 := v9822
  let v10942 : Index := Scalar.indexCast v9823
  let c0_2653 : Index := 0#32
  ![v10941.toNat, v10942.toNat, 0]
def k0_off1000 (v9710 : BitVec 32) (v9715 : BitVec 32) (v9725 : BitVec 32) (v9786 : BitVec 32) (v9817 : BitVec 32) : Fin 3 → Nat :=
  let c199_i32_2342 : BitVec 32 := 199#32
  let c0_i32_2341 : BitVec 32 := 0#32
  let v9716 : BitVec 32 := Scalar.maxsi c0_i32_2341 v9715
  let v9717 : BitVec 32 := Scalar.minsi c199_i32_2342 v9716
  let v9787 : BitVec 32 := Scalar.addi v9717 v9786
  let c1_i32_2376 : BitVec 32 := 1#32
  let v9788 : BitVec 32 := Scalar.addi v9787 c1_i32_2376
  let c199_i32_2348 : BitVec 32 := 199#32
  let c0_i32_2347 : BitVec 32 := 0#32
  let v9726 : BitVec 32 := Scalar.maxsi c0_i32_2347 v9725
  let v9727 : BitVec 32 := Scalar.minsi c199_i32_2348 v9726
  let v9789 : BitVec 32 := Scalar.minsi v9788 v9727
  let v10945 : Index := Scalar.indexCast v9789
  let c199_i32_2339 : BitVec 32 := 199#32
  let c0_i32_2338 : BitVec 32 := 0#32
  let v9711 : BitVec 32 := Scalar.maxsi c0_i32_2338 v9710
  let v9712 : BitVec 32 := Scalar.minsi c199_i32_2339 v9711
  let v9818 : BitVec 32 := Scalar.addi v9712 v9817
  let c3_i32_2392 : BitVec 32 := 3#32
  let v9821 : BitVec 32 := Scalar.shrsi v9818 c3_i32_2392
  let c3_i32_2393 : BitVec 32 := 3#32
  let v9822 : BitVec 32 := Scalar.shli v9821 c3_i32_2393
  let v9823 : BitVec 32 := v9822
  let v10946 : Index := Scalar.indexCast v9823
  let c0_2654 : Index := 0#32
  ![v10945.toNat, v10946.toNat, 0]
def k0_off1001 (k0_t1 : Fin k0_t1_loop.trips) : Fin 3 → Nat :=
  let c36_2656 : Index := 36#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c6_i32 : BitVec 32 := 6#32
  let v9702 : BitVec 32 := Scalar.addi v5 c6_i32
  let v10965 : Index := Scalar.indexCast v9702
  let c0_2657 : Index := 0#32
  ![36, v10965.toNat, 0]
def k0_off1002 (v9710 : BitVec 32) (v9715 : BitVec 32) (v9786 : BitVec 32) (v9830 : BitVec 32) : Fin 3 → Nat :=
  let c199_i32_2342 : BitVec 32 := 199#32
  let c0_i32_2341 : BitVec 32 := 0#32
  let v9716 : BitVec 32 := Scalar.maxsi c0_i32_2341 v9715
  let v9717 : BitVec 32 := Scalar.minsi c199_i32_2342 v9716
  let v9787 : BitVec 32 := Scalar.addi v9717 v9786
  let v10970 : Index := Scalar.indexCast v9787
  let c199_i32_2339 : BitVec 32 := 199#32
  let c0_i32_2338 : BitVec 32 := 0#32
  let v9711 : BitVec 32 := Scalar.maxsi c0_i32_2338 v9710
  let v9712 : BitVec 32 := Scalar.minsi c199_i32_2339 v9711
  let v9831 : BitVec 32 := Scalar.addi v9712 v9830
  let c3_i32_2399 : BitVec 32 := 3#32
  let v9834 : BitVec 32 := Scalar.shrsi v9831 c3_i32_2399
  let c3_i32_2400 : BitVec 32 := 3#32
  let v9835 : BitVec 32 := Scalar.shli v9834 c3_i32_2400
  let v9836 : BitVec 32 := v9835
  let v10971 : Index := Scalar.indexCast v9836
  let c0_2659 : Index := 0#32
  ![v10970.toNat, v10971.toNat, 0]
def k0_off1003 (v9710 : BitVec 32) (v9715 : BitVec 32) (v9725 : BitVec 32) (v9786 : BitVec 32) (v9830 : BitVec 32) : Fin 3 → Nat :=
  let c199_i32_2342 : BitVec 32 := 199#32
  let c0_i32_2341 : BitVec 32 := 0#32
  let v9716 : BitVec 32 := Scalar.maxsi c0_i32_2341 v9715
  let v9717 : BitVec 32 := Scalar.minsi c199_i32_2342 v9716
  let v9787 : BitVec 32 := Scalar.addi v9717 v9786
  let c1_i32_2376 : BitVec 32 := 1#32
  let v9788 : BitVec 32 := Scalar.addi v9787 c1_i32_2376
  let c199_i32_2348 : BitVec 32 := 199#32
  let c0_i32_2347 : BitVec 32 := 0#32
  let v9726 : BitVec 32 := Scalar.maxsi c0_i32_2347 v9725
  let v9727 : BitVec 32 := Scalar.minsi c199_i32_2348 v9726
  let v9789 : BitVec 32 := Scalar.minsi v9788 v9727
  let v10974 : Index := Scalar.indexCast v9789
  let c199_i32_2339 : BitVec 32 := 199#32
  let c0_i32_2338 : BitVec 32 := 0#32
  let v9711 : BitVec 32 := Scalar.maxsi c0_i32_2338 v9710
  let v9712 : BitVec 32 := Scalar.minsi c199_i32_2339 v9711
  let v9831 : BitVec 32 := Scalar.addi v9712 v9830
  let c3_i32_2399 : BitVec 32 := 3#32
  let v9834 : BitVec 32 := Scalar.shrsi v9831 c3_i32_2399
  let c3_i32_2400 : BitVec 32 := 3#32
  let v9835 : BitVec 32 := Scalar.shli v9834 c3_i32_2400
  let v9836 : BitVec 32 := v9835
  let v10975 : Index := Scalar.indexCast v9836
  let c0_2660 : Index := 0#32
  ![v10974.toNat, v10975.toNat, 0]
def k0_off1004 (k0_t1 : Fin k0_t1_loop.trips) : Fin 3 → Nat :=
  let c37_2662 : Index := 37#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c6_i32 : BitVec 32 := 6#32
  let v9702 : BitVec 32 := Scalar.addi v5 c6_i32
  let v10994 : Index := Scalar.indexCast v9702
  let c0_2663 : Index := 0#32
  ![37, v10994.toNat, 0]
def k0_off1005 (v9710 : BitVec 32) (v9715 : BitVec 32) (v9786 : BitVec 32) (v9843 : BitVec 32) : Fin 3 → Nat :=
  let c199_i32_2342 : BitVec 32 := 199#32
  let c0_i32_2341 : BitVec 32 := 0#32
  let v9716 : BitVec 32 := Scalar.maxsi c0_i32_2341 v9715
  let v9717 : BitVec 32 := Scalar.minsi c199_i32_2342 v9716
  let v9787 : BitVec 32 := Scalar.addi v9717 v9786
  let v10999 : Index := Scalar.indexCast v9787
  let c199_i32_2339 : BitVec 32 := 199#32
  let c0_i32_2338 : BitVec 32 := 0#32
  let v9711 : BitVec 32 := Scalar.maxsi c0_i32_2338 v9710
  let v9712 : BitVec 32 := Scalar.minsi c199_i32_2339 v9711
  let v9844 : BitVec 32 := Scalar.addi v9712 v9843
  let c3_i32_2406 : BitVec 32 := 3#32
  let v9847 : BitVec 32 := Scalar.shrsi v9844 c3_i32_2406
  let c3_i32_2407 : BitVec 32 := 3#32
  let v9848 : BitVec 32 := Scalar.shli v9847 c3_i32_2407
  let v9849 : BitVec 32 := v9848
  let v11000 : Index := Scalar.indexCast v9849
  let c0_2665 : Index := 0#32
  ![v10999.toNat, v11000.toNat, 0]
def k0_off1006 (v9710 : BitVec 32) (v9715 : BitVec 32) (v9725 : BitVec 32) (v9786 : BitVec 32) (v9843 : BitVec 32) : Fin 3 → Nat :=
  let c199_i32_2342 : BitVec 32 := 199#32
  let c0_i32_2341 : BitVec 32 := 0#32
  let v9716 : BitVec 32 := Scalar.maxsi c0_i32_2341 v9715
  let v9717 : BitVec 32 := Scalar.minsi c199_i32_2342 v9716
  let v9787 : BitVec 32 := Scalar.addi v9717 v9786
  let c1_i32_2376 : BitVec 32 := 1#32
  let v9788 : BitVec 32 := Scalar.addi v9787 c1_i32_2376
  let c199_i32_2348 : BitVec 32 := 199#32
  let c0_i32_2347 : BitVec 32 := 0#32
  let v9726 : BitVec 32 := Scalar.maxsi c0_i32_2347 v9725
  let v9727 : BitVec 32 := Scalar.minsi c199_i32_2348 v9726
  let v9789 : BitVec 32 := Scalar.minsi v9788 v9727
  let v11003 : Index := Scalar.indexCast v9789
  let c199_i32_2339 : BitVec 32 := 199#32
  let c0_i32_2338 : BitVec 32 := 0#32
  let v9711 : BitVec 32 := Scalar.maxsi c0_i32_2338 v9710
  let v9712 : BitVec 32 := Scalar.minsi c199_i32_2339 v9711
  let v9844 : BitVec 32 := Scalar.addi v9712 v9843
  let c3_i32_2406 : BitVec 32 := 3#32
  let v9847 : BitVec 32 := Scalar.shrsi v9844 c3_i32_2406
  let c3_i32_2407 : BitVec 32 := 3#32
  let v9848 : BitVec 32 := Scalar.shli v9847 c3_i32_2407
  let v9849 : BitVec 32 := v9848
  let v11004 : Index := Scalar.indexCast v9849
  let c0_2666 : Index := 0#32
  ![v11003.toNat, v11004.toNat, 0]
def k0_off1007 (k0_t1 : Fin k0_t1_loop.trips) : Fin 3 → Nat :=
  let c38_2668 : Index := 38#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c6_i32 : BitVec 32 := 6#32
  let v9702 : BitVec 32 := Scalar.addi v5 c6_i32
  let v11023 : Index := Scalar.indexCast v9702
  let c0_2669 : Index := 0#32
  ![38, v11023.toNat, 0]
def k0_off1008 (v9710 : BitVec 32) (v9715 : BitVec 32) (v9786 : BitVec 32) (v9856 : BitVec 32) : Fin 3 → Nat :=
  let c199_i32_2342 : BitVec 32 := 199#32
  let c0_i32_2341 : BitVec 32 := 0#32
  let v9716 : BitVec 32 := Scalar.maxsi c0_i32_2341 v9715
  let v9717 : BitVec 32 := Scalar.minsi c199_i32_2342 v9716
  let v9787 : BitVec 32 := Scalar.addi v9717 v9786
  let v11028 : Index := Scalar.indexCast v9787
  let c199_i32_2339 : BitVec 32 := 199#32
  let c0_i32_2338 : BitVec 32 := 0#32
  let v9711 : BitVec 32 := Scalar.maxsi c0_i32_2338 v9710
  let v9712 : BitVec 32 := Scalar.minsi c199_i32_2339 v9711
  let v9857 : BitVec 32 := Scalar.addi v9712 v9856
  let c3_i32_2413 : BitVec 32 := 3#32
  let v9860 : BitVec 32 := Scalar.shrsi v9857 c3_i32_2413
  let c3_i32_2414 : BitVec 32 := 3#32
  let v9861 : BitVec 32 := Scalar.shli v9860 c3_i32_2414
  let v9862 : BitVec 32 := v9861
  let v11029 : Index := Scalar.indexCast v9862
  let c0_2671 : Index := 0#32
  ![v11028.toNat, v11029.toNat, 0]
def k0_off1009 (v9710 : BitVec 32) (v9715 : BitVec 32) (v9725 : BitVec 32) (v9786 : BitVec 32) (v9856 : BitVec 32) : Fin 3 → Nat :=
  let c199_i32_2342 : BitVec 32 := 199#32
  let c0_i32_2341 : BitVec 32 := 0#32
  let v9716 : BitVec 32 := Scalar.maxsi c0_i32_2341 v9715
  let v9717 : BitVec 32 := Scalar.minsi c199_i32_2342 v9716
  let v9787 : BitVec 32 := Scalar.addi v9717 v9786
  let c1_i32_2376 : BitVec 32 := 1#32
  let v9788 : BitVec 32 := Scalar.addi v9787 c1_i32_2376
  let c199_i32_2348 : BitVec 32 := 199#32
  let c0_i32_2347 : BitVec 32 := 0#32
  let v9726 : BitVec 32 := Scalar.maxsi c0_i32_2347 v9725
  let v9727 : BitVec 32 := Scalar.minsi c199_i32_2348 v9726
  let v9789 : BitVec 32 := Scalar.minsi v9788 v9727
  let v11032 : Index := Scalar.indexCast v9789
  let c199_i32_2339 : BitVec 32 := 199#32
  let c0_i32_2338 : BitVec 32 := 0#32
  let v9711 : BitVec 32 := Scalar.maxsi c0_i32_2338 v9710
  let v9712 : BitVec 32 := Scalar.minsi c199_i32_2339 v9711
  let v9857 : BitVec 32 := Scalar.addi v9712 v9856
  let c3_i32_2413 : BitVec 32 := 3#32
  let v9860 : BitVec 32 := Scalar.shrsi v9857 c3_i32_2413
  let c3_i32_2414 : BitVec 32 := 3#32
  let v9861 : BitVec 32 := Scalar.shli v9860 c3_i32_2414
  let v9862 : BitVec 32 := v9861
  let v11033 : Index := Scalar.indexCast v9862
  let c0_2672 : Index := 0#32
  ![v11032.toNat, v11033.toNat, 0]
def k0_off1010 (k0_t1 : Fin k0_t1_loop.trips) : Fin 3 → Nat :=
  let c39_2674 : Index := 39#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c6_i32 : BitVec 32 := 6#32
  let v9702 : BitVec 32 := Scalar.addi v5 c6_i32
  let v11052 : Index := Scalar.indexCast v9702
  let c0_2675 : Index := 0#32
  ![39, v11052.toNat, 0]
def k0_off1011 (v9710 : BitVec 32) (v9715 : BitVec 32) (v9786 : BitVec 32) (v9869 : BitVec 32) : Fin 3 → Nat :=
  let c199_i32_2342 : BitVec 32 := 199#32
  let c0_i32_2341 : BitVec 32 := 0#32
  let v9716 : BitVec 32 := Scalar.maxsi c0_i32_2341 v9715
  let v9717 : BitVec 32 := Scalar.minsi c199_i32_2342 v9716
  let v9787 : BitVec 32 := Scalar.addi v9717 v9786
  let v11057 : Index := Scalar.indexCast v9787
  let c199_i32_2339 : BitVec 32 := 199#32
  let c0_i32_2338 : BitVec 32 := 0#32
  let v9711 : BitVec 32 := Scalar.maxsi c0_i32_2338 v9710
  let v9712 : BitVec 32 := Scalar.minsi c199_i32_2339 v9711
  let v9870 : BitVec 32 := Scalar.addi v9712 v9869
  let c3_i32_2420 : BitVec 32 := 3#32
  let v9873 : BitVec 32 := Scalar.shrsi v9870 c3_i32_2420
  let c3_i32_2421 : BitVec 32 := 3#32
  let v9874 : BitVec 32 := Scalar.shli v9873 c3_i32_2421
  let v9875 : BitVec 32 := v9874
  let v11058 : Index := Scalar.indexCast v9875
  let c0_2677 : Index := 0#32
  ![v11057.toNat, v11058.toNat, 0]
def k0_off1012 (v9710 : BitVec 32) (v9715 : BitVec 32) (v9725 : BitVec 32) (v9786 : BitVec 32) (v9869 : BitVec 32) : Fin 3 → Nat :=
  let c199_i32_2342 : BitVec 32 := 199#32
  let c0_i32_2341 : BitVec 32 := 0#32
  let v9716 : BitVec 32 := Scalar.maxsi c0_i32_2341 v9715
  let v9717 : BitVec 32 := Scalar.minsi c199_i32_2342 v9716
  let v9787 : BitVec 32 := Scalar.addi v9717 v9786
  let c1_i32_2376 : BitVec 32 := 1#32
  let v9788 : BitVec 32 := Scalar.addi v9787 c1_i32_2376
  let c199_i32_2348 : BitVec 32 := 199#32
  let c0_i32_2347 : BitVec 32 := 0#32
  let v9726 : BitVec 32 := Scalar.maxsi c0_i32_2347 v9725
  let v9727 : BitVec 32 := Scalar.minsi c199_i32_2348 v9726
  let v9789 : BitVec 32 := Scalar.minsi v9788 v9727
  let v11061 : Index := Scalar.indexCast v9789
  let c199_i32_2339 : BitVec 32 := 199#32
  let c0_i32_2338 : BitVec 32 := 0#32
  let v9711 : BitVec 32 := Scalar.maxsi c0_i32_2338 v9710
  let v9712 : BitVec 32 := Scalar.minsi c199_i32_2339 v9711
  let v9870 : BitVec 32 := Scalar.addi v9712 v9869
  let c3_i32_2420 : BitVec 32 := 3#32
  let v9873 : BitVec 32 := Scalar.shrsi v9870 c3_i32_2420
  let c3_i32_2421 : BitVec 32 := 3#32
  let v9874 : BitVec 32 := Scalar.shli v9873 c3_i32_2421
  let v9875 : BitVec 32 := v9874
  let v11062 : Index := Scalar.indexCast v9875
  let c0_2678 : Index := 0#32
  ![v11061.toNat, v11062.toNat, 0]
def k0_off1013 (k0_t1 : Fin k0_t1_loop.trips) : Fin 3 → Nat :=
  let c40_2680 : Index := 40#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c6_i32 : BitVec 32 := 6#32
  let v9702 : BitVec 32 := Scalar.addi v5 c6_i32
  let v11081 : Index := Scalar.indexCast v9702
  let c0_2681 : Index := 0#32
  ![40, v11081.toNat, 0]
def k0_off1014 (v9710 : BitVec 32) (v9715 : BitVec 32) (v9786 : BitVec 32) (v9882 : BitVec 32) : Fin 3 → Nat :=
  let c199_i32_2342 : BitVec 32 := 199#32
  let c0_i32_2341 : BitVec 32 := 0#32
  let v9716 : BitVec 32 := Scalar.maxsi c0_i32_2341 v9715
  let v9717 : BitVec 32 := Scalar.minsi c199_i32_2342 v9716
  let v9787 : BitVec 32 := Scalar.addi v9717 v9786
  let v11086 : Index := Scalar.indexCast v9787
  let c199_i32_2339 : BitVec 32 := 199#32
  let c0_i32_2338 : BitVec 32 := 0#32
  let v9711 : BitVec 32 := Scalar.maxsi c0_i32_2338 v9710
  let v9712 : BitVec 32 := Scalar.minsi c199_i32_2339 v9711
  let v9883 : BitVec 32 := Scalar.addi v9712 v9882
  let c3_i32_2427 : BitVec 32 := 3#32
  let v9886 : BitVec 32 := Scalar.shrsi v9883 c3_i32_2427
  let c3_i32_2428 : BitVec 32 := 3#32
  let v9887 : BitVec 32 := Scalar.shli v9886 c3_i32_2428
  let v9888 : BitVec 32 := v9887
  let v11087 : Index := Scalar.indexCast v9888
  let c0_2683 : Index := 0#32
  ![v11086.toNat, v11087.toNat, 0]
def k0_off1015 (v9710 : BitVec 32) (v9715 : BitVec 32) (v9725 : BitVec 32) (v9786 : BitVec 32) (v9882 : BitVec 32) : Fin 3 → Nat :=
  let c199_i32_2342 : BitVec 32 := 199#32
  let c0_i32_2341 : BitVec 32 := 0#32
  let v9716 : BitVec 32 := Scalar.maxsi c0_i32_2341 v9715
  let v9717 : BitVec 32 := Scalar.minsi c199_i32_2342 v9716
  let v9787 : BitVec 32 := Scalar.addi v9717 v9786
  let c1_i32_2376 : BitVec 32 := 1#32
  let v9788 : BitVec 32 := Scalar.addi v9787 c1_i32_2376
  let c199_i32_2348 : BitVec 32 := 199#32
  let c0_i32_2347 : BitVec 32 := 0#32
  let v9726 : BitVec 32 := Scalar.maxsi c0_i32_2347 v9725
  let v9727 : BitVec 32 := Scalar.minsi c199_i32_2348 v9726
  let v9789 : BitVec 32 := Scalar.minsi v9788 v9727
  let v11090 : Index := Scalar.indexCast v9789
  let c199_i32_2339 : BitVec 32 := 199#32
  let c0_i32_2338 : BitVec 32 := 0#32
  let v9711 : BitVec 32 := Scalar.maxsi c0_i32_2338 v9710
  let v9712 : BitVec 32 := Scalar.minsi c199_i32_2339 v9711
  let v9883 : BitVec 32 := Scalar.addi v9712 v9882
  let c3_i32_2427 : BitVec 32 := 3#32
  let v9886 : BitVec 32 := Scalar.shrsi v9883 c3_i32_2427
  let c3_i32_2428 : BitVec 32 := 3#32
  let v9887 : BitVec 32 := Scalar.shli v9886 c3_i32_2428
  let v9888 : BitVec 32 := v9887
  let v11091 : Index := Scalar.indexCast v9888
  let c0_2684 : Index := 0#32
  ![v11090.toNat, v11091.toNat, 0]
def k0_off1016 (k0_t1 : Fin k0_t1_loop.trips) : Fin 3 → Nat :=
  let c41_2686 : Index := 41#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c6_i32 : BitVec 32 := 6#32
  let v9702 : BitVec 32 := Scalar.addi v5 c6_i32
  let v11110 : Index := Scalar.indexCast v9702
  let c0_2687 : Index := 0#32
  ![41, v11110.toNat, 0]
def k0_off1017 (v9710 : BitVec 32) (v9715 : BitVec 32) (v9795 : BitVec 32) (v9804 : BitVec 32) : Fin 3 → Nat :=
  let c199_i32_2342 : BitVec 32 := 199#32
  let c0_i32_2341 : BitVec 32 := 0#32
  let v9716 : BitVec 32 := Scalar.maxsi c0_i32_2341 v9715
  let v9717 : BitVec 32 := Scalar.minsi c199_i32_2342 v9716
  let v9796 : BitVec 32 := Scalar.addi v9717 v9795
  let v11116 : Index := Scalar.indexCast v9796
  let c199_i32_2339 : BitVec 32 := 199#32
  let c0_i32_2338 : BitVec 32 := 0#32
  let v9711 : BitVec 32 := Scalar.maxsi c0_i32_2338 v9710
  let v9712 : BitVec 32 := Scalar.minsi c199_i32_2339 v9711
  let v9805 : BitVec 32 := Scalar.addi v9712 v9804
  let c3_i32_2385 : BitVec 32 := 3#32
  let v9808 : BitVec 32 := Scalar.shrsi v9805 c3_i32_2385
  let c3_i32_2386 : BitVec 32 := 3#32
  let v9809 : BitVec 32 := Scalar.shli v9808 c3_i32_2386
  let v9810 : BitVec 32 := v9809
  let v11117 : Index := Scalar.indexCast v9810
  let c0_2690 : Index := 0#32
  ![v11116.toNat, v11117.toNat, 0]
def k0_off1018 (v9710 : BitVec 32) (v9715 : BitVec 32) (v9725 : BitVec 32) (v9795 : BitVec 32) (v9804 : BitVec 32) : Fin 3 → Nat :=
  let c199_i32_2342 : BitVec 32 := 199#32
  let c0_i32_2341 : BitVec 32 := 0#32
  let v9716 : BitVec 32 := Scalar.maxsi c0_i32_2341 v9715
  let v9717 : BitVec 32 := Scalar.minsi c199_i32_2342 v9716
  let v9796 : BitVec 32 := Scalar.addi v9717 v9795
  let c1_i32_2380 : BitVec 32 := 1#32
  let v9797 : BitVec 32 := Scalar.addi v9796 c1_i32_2380
  let c199_i32_2348 : BitVec 32 := 199#32
  let c0_i32_2347 : BitVec 32 := 0#32
  let v9726 : BitVec 32 := Scalar.maxsi c0_i32_2347 v9725
  let v9727 : BitVec 32 := Scalar.minsi c199_i32_2348 v9726
  let v9798 : BitVec 32 := Scalar.minsi v9797 v9727
  let v11120 : Index := Scalar.indexCast v9798
  let c199_i32_2339 : BitVec 32 := 199#32
  let c0_i32_2338 : BitVec 32 := 0#32
  let v9711 : BitVec 32 := Scalar.maxsi c0_i32_2338 v9710
  let v9712 : BitVec 32 := Scalar.minsi c199_i32_2339 v9711
  let v9805 : BitVec 32 := Scalar.addi v9712 v9804
  let c3_i32_2385 : BitVec 32 := 3#32
  let v9808 : BitVec 32 := Scalar.shrsi v9805 c3_i32_2385
  let c3_i32_2386 : BitVec 32 := 3#32
  let v9809 : BitVec 32 := Scalar.shli v9808 c3_i32_2386
  let v9810 : BitVec 32 := v9809
  let v11121 : Index := Scalar.indexCast v9810
  let c0_2691 : Index := 0#32
  ![v11120.toNat, v11121.toNat, 0]

def k0_chk43 (v9710 : BitVec 32) (v9715 : BitVec 32) (v9725 : BitVec 32) (v9741 : BitVec 32) (v9750 : BitVec 32) (v9759 : BitVec 32) (v9768 : BitVec 32) (v9777 : BitVec 32) (v9786 : BitVec 32) (v9795 : BitVec 32) (v9804 : BitVec 32) : Prop :=
  (8 ∣ (k0_mult44 v9710 v9804).toNat) ∧
  (∀ a, (k0_off891 v9710 v9715 v9741 v9804) a + S1x16x256.size a ≤ S200x216x256.size a) ∧
  (∀ a, (k0_off892 v9710 v9715 v9725 v9741 v9804) a + S1x16x256.size a ≤ S200x216x256.size a) ∧
  (∀ a, (k0_off912 v9710 v9715 v9750 v9804) a + S1x16x256.size a ≤ S200x216x256.size a) ∧
  (∀ a, (k0_off913 v9710 v9715 v9725 v9750 v9804) a + S1x16x256.size a ≤ S200x216x256.size a) ∧
  (∀ a, (k0_off933 v9710 v9715 v9759 v9804) a + S1x16x256.size a ≤ S200x216x256.size a) ∧
  (∀ a, (k0_off934 v9710 v9715 v9725 v9759 v9804) a + S1x16x256.size a ≤ S200x216x256.size a) ∧
  (∀ a, (k0_off954 v9710 v9715 v9768 v9804) a + S1x16x256.size a ≤ S200x216x256.size a) ∧
  (∀ a, (k0_off955 v9710 v9715 v9725 v9768 v9804) a + S1x16x256.size a ≤ S200x216x256.size a) ∧
  (∀ a, (k0_off975 v9710 v9715 v9777 v9804) a + S1x16x256.size a ≤ S200x216x256.size a) ∧
  (∀ a, (k0_off976 v9710 v9715 v9725 v9777 v9804) a + S1x16x256.size a ≤ S200x216x256.size a) ∧
  (∀ a, (k0_off996 v9710 v9715 v9786 v9804) a + S1x16x256.size a ≤ S200x216x256.size a) ∧
  (∀ a, (k0_off997 v9710 v9715 v9725 v9786 v9804) a + S1x16x256.size a ≤ S200x216x256.size a) ∧
  (∀ a, (k0_off1017 v9710 v9715 v9795 v9804) a + S1x16x256.size a ≤ S200x216x256.size a) ∧
  (∀ a, (k0_off1018 v9710 v9715 v9725 v9795 v9804) a + S1x16x256.size a ≤ S200x216x256.size a)
theorem k0_mult44_dvd : ∀ (v9710 : BitVec 32) (v9715 : BitVec 32) (v9725 : BitVec 32) (v9741 : BitVec 32) (v9750 : BitVec 32) (v9759 : BitVec 32) (v9768 : BitVec 32) (v9777 : BitVec 32) (v9786 : BitVec 32) (v9795 : BitVec 32) (v9804 : BitVec 32) (k0_hw43 : k0_chk43 v9710 v9715 v9725 v9741 v9750 v9759 v9768 v9777 v9786 v9795 v9804), 8 ∣ (k0_mult44 v9710 v9804).toNat := fun v9710 v9715 v9725 v9741 v9750 v9759 v9768 v9777 v9786 v9795 v9804 k0_hw43 => k0_hw43.1
theorem k0_off891_inb : ∀ (v9710 : BitVec 32) (v9715 : BitVec 32) (v9725 : BitVec 32) (v9741 : BitVec 32) (v9750 : BitVec 32) (v9759 : BitVec 32) (v9768 : BitVec 32) (v9777 : BitVec 32) (v9786 : BitVec 32) (v9795 : BitVec 32) (v9804 : BitVec 32) (k0_hw43 : k0_chk43 v9710 v9715 v9725 v9741 v9750 v9759 v9768 v9777 v9786 v9795 v9804), ∀ a, (k0_off891 v9710 v9715 v9741 v9804) a + S1x16x256.size a ≤ S200x216x256.size a := fun v9710 v9715 v9725 v9741 v9750 v9759 v9768 v9777 v9786 v9795 v9804 k0_hw43 => k0_hw43.2.1
theorem k0_off892_inb : ∀ (v9710 : BitVec 32) (v9715 : BitVec 32) (v9725 : BitVec 32) (v9741 : BitVec 32) (v9750 : BitVec 32) (v9759 : BitVec 32) (v9768 : BitVec 32) (v9777 : BitVec 32) (v9786 : BitVec 32) (v9795 : BitVec 32) (v9804 : BitVec 32) (k0_hw43 : k0_chk43 v9710 v9715 v9725 v9741 v9750 v9759 v9768 v9777 v9786 v9795 v9804), ∀ a, (k0_off892 v9710 v9715 v9725 v9741 v9804) a + S1x16x256.size a ≤ S200x216x256.size a := fun v9710 v9715 v9725 v9741 v9750 v9759 v9768 v9777 v9786 v9795 v9804 k0_hw43 => k0_hw43.2.2.1
theorem k0_off912_inb : ∀ (v9710 : BitVec 32) (v9715 : BitVec 32) (v9725 : BitVec 32) (v9741 : BitVec 32) (v9750 : BitVec 32) (v9759 : BitVec 32) (v9768 : BitVec 32) (v9777 : BitVec 32) (v9786 : BitVec 32) (v9795 : BitVec 32) (v9804 : BitVec 32) (k0_hw43 : k0_chk43 v9710 v9715 v9725 v9741 v9750 v9759 v9768 v9777 v9786 v9795 v9804), ∀ a, (k0_off912 v9710 v9715 v9750 v9804) a + S1x16x256.size a ≤ S200x216x256.size a := fun v9710 v9715 v9725 v9741 v9750 v9759 v9768 v9777 v9786 v9795 v9804 k0_hw43 => k0_hw43.2.2.2.1
theorem k0_off913_inb : ∀ (v9710 : BitVec 32) (v9715 : BitVec 32) (v9725 : BitVec 32) (v9741 : BitVec 32) (v9750 : BitVec 32) (v9759 : BitVec 32) (v9768 : BitVec 32) (v9777 : BitVec 32) (v9786 : BitVec 32) (v9795 : BitVec 32) (v9804 : BitVec 32) (k0_hw43 : k0_chk43 v9710 v9715 v9725 v9741 v9750 v9759 v9768 v9777 v9786 v9795 v9804), ∀ a, (k0_off913 v9710 v9715 v9725 v9750 v9804) a + S1x16x256.size a ≤ S200x216x256.size a := fun v9710 v9715 v9725 v9741 v9750 v9759 v9768 v9777 v9786 v9795 v9804 k0_hw43 => k0_hw43.2.2.2.2.1
theorem k0_off933_inb : ∀ (v9710 : BitVec 32) (v9715 : BitVec 32) (v9725 : BitVec 32) (v9741 : BitVec 32) (v9750 : BitVec 32) (v9759 : BitVec 32) (v9768 : BitVec 32) (v9777 : BitVec 32) (v9786 : BitVec 32) (v9795 : BitVec 32) (v9804 : BitVec 32) (k0_hw43 : k0_chk43 v9710 v9715 v9725 v9741 v9750 v9759 v9768 v9777 v9786 v9795 v9804), ∀ a, (k0_off933 v9710 v9715 v9759 v9804) a + S1x16x256.size a ≤ S200x216x256.size a := fun v9710 v9715 v9725 v9741 v9750 v9759 v9768 v9777 v9786 v9795 v9804 k0_hw43 => k0_hw43.2.2.2.2.2.1
theorem k0_off934_inb : ∀ (v9710 : BitVec 32) (v9715 : BitVec 32) (v9725 : BitVec 32) (v9741 : BitVec 32) (v9750 : BitVec 32) (v9759 : BitVec 32) (v9768 : BitVec 32) (v9777 : BitVec 32) (v9786 : BitVec 32) (v9795 : BitVec 32) (v9804 : BitVec 32) (k0_hw43 : k0_chk43 v9710 v9715 v9725 v9741 v9750 v9759 v9768 v9777 v9786 v9795 v9804), ∀ a, (k0_off934 v9710 v9715 v9725 v9759 v9804) a + S1x16x256.size a ≤ S200x216x256.size a := fun v9710 v9715 v9725 v9741 v9750 v9759 v9768 v9777 v9786 v9795 v9804 k0_hw43 => k0_hw43.2.2.2.2.2.2.1
theorem k0_off954_inb : ∀ (v9710 : BitVec 32) (v9715 : BitVec 32) (v9725 : BitVec 32) (v9741 : BitVec 32) (v9750 : BitVec 32) (v9759 : BitVec 32) (v9768 : BitVec 32) (v9777 : BitVec 32) (v9786 : BitVec 32) (v9795 : BitVec 32) (v9804 : BitVec 32) (k0_hw43 : k0_chk43 v9710 v9715 v9725 v9741 v9750 v9759 v9768 v9777 v9786 v9795 v9804), ∀ a, (k0_off954 v9710 v9715 v9768 v9804) a + S1x16x256.size a ≤ S200x216x256.size a := fun v9710 v9715 v9725 v9741 v9750 v9759 v9768 v9777 v9786 v9795 v9804 k0_hw43 => k0_hw43.2.2.2.2.2.2.2.1
theorem k0_off955_inb : ∀ (v9710 : BitVec 32) (v9715 : BitVec 32) (v9725 : BitVec 32) (v9741 : BitVec 32) (v9750 : BitVec 32) (v9759 : BitVec 32) (v9768 : BitVec 32) (v9777 : BitVec 32) (v9786 : BitVec 32) (v9795 : BitVec 32) (v9804 : BitVec 32) (k0_hw43 : k0_chk43 v9710 v9715 v9725 v9741 v9750 v9759 v9768 v9777 v9786 v9795 v9804), ∀ a, (k0_off955 v9710 v9715 v9725 v9768 v9804) a + S1x16x256.size a ≤ S200x216x256.size a := fun v9710 v9715 v9725 v9741 v9750 v9759 v9768 v9777 v9786 v9795 v9804 k0_hw43 => k0_hw43.2.2.2.2.2.2.2.2.1
theorem k0_off975_inb : ∀ (v9710 : BitVec 32) (v9715 : BitVec 32) (v9725 : BitVec 32) (v9741 : BitVec 32) (v9750 : BitVec 32) (v9759 : BitVec 32) (v9768 : BitVec 32) (v9777 : BitVec 32) (v9786 : BitVec 32) (v9795 : BitVec 32) (v9804 : BitVec 32) (k0_hw43 : k0_chk43 v9710 v9715 v9725 v9741 v9750 v9759 v9768 v9777 v9786 v9795 v9804), ∀ a, (k0_off975 v9710 v9715 v9777 v9804) a + S1x16x256.size a ≤ S200x216x256.size a := fun v9710 v9715 v9725 v9741 v9750 v9759 v9768 v9777 v9786 v9795 v9804 k0_hw43 => k0_hw43.2.2.2.2.2.2.2.2.2.1
theorem k0_off976_inb : ∀ (v9710 : BitVec 32) (v9715 : BitVec 32) (v9725 : BitVec 32) (v9741 : BitVec 32) (v9750 : BitVec 32) (v9759 : BitVec 32) (v9768 : BitVec 32) (v9777 : BitVec 32) (v9786 : BitVec 32) (v9795 : BitVec 32) (v9804 : BitVec 32) (k0_hw43 : k0_chk43 v9710 v9715 v9725 v9741 v9750 v9759 v9768 v9777 v9786 v9795 v9804), ∀ a, (k0_off976 v9710 v9715 v9725 v9777 v9804) a + S1x16x256.size a ≤ S200x216x256.size a := fun v9710 v9715 v9725 v9741 v9750 v9759 v9768 v9777 v9786 v9795 v9804 k0_hw43 => k0_hw43.2.2.2.2.2.2.2.2.2.2.1
theorem k0_off996_inb : ∀ (v9710 : BitVec 32) (v9715 : BitVec 32) (v9725 : BitVec 32) (v9741 : BitVec 32) (v9750 : BitVec 32) (v9759 : BitVec 32) (v9768 : BitVec 32) (v9777 : BitVec 32) (v9786 : BitVec 32) (v9795 : BitVec 32) (v9804 : BitVec 32) (k0_hw43 : k0_chk43 v9710 v9715 v9725 v9741 v9750 v9759 v9768 v9777 v9786 v9795 v9804), ∀ a, (k0_off996 v9710 v9715 v9786 v9804) a + S1x16x256.size a ≤ S200x216x256.size a := fun v9710 v9715 v9725 v9741 v9750 v9759 v9768 v9777 v9786 v9795 v9804 k0_hw43 => k0_hw43.2.2.2.2.2.2.2.2.2.2.2.1
theorem k0_off997_inb : ∀ (v9710 : BitVec 32) (v9715 : BitVec 32) (v9725 : BitVec 32) (v9741 : BitVec 32) (v9750 : BitVec 32) (v9759 : BitVec 32) (v9768 : BitVec 32) (v9777 : BitVec 32) (v9786 : BitVec 32) (v9795 : BitVec 32) (v9804 : BitVec 32) (k0_hw43 : k0_chk43 v9710 v9715 v9725 v9741 v9750 v9759 v9768 v9777 v9786 v9795 v9804), ∀ a, (k0_off997 v9710 v9715 v9725 v9786 v9804) a + S1x16x256.size a ≤ S200x216x256.size a := fun v9710 v9715 v9725 v9741 v9750 v9759 v9768 v9777 v9786 v9795 v9804 k0_hw43 => k0_hw43.2.2.2.2.2.2.2.2.2.2.2.2.1
theorem k0_off1017_inb : ∀ (v9710 : BitVec 32) (v9715 : BitVec 32) (v9725 : BitVec 32) (v9741 : BitVec 32) (v9750 : BitVec 32) (v9759 : BitVec 32) (v9768 : BitVec 32) (v9777 : BitVec 32) (v9786 : BitVec 32) (v9795 : BitVec 32) (v9804 : BitVec 32) (k0_hw43 : k0_chk43 v9710 v9715 v9725 v9741 v9750 v9759 v9768 v9777 v9786 v9795 v9804), ∀ a, (k0_off1017 v9710 v9715 v9795 v9804) a + S1x16x256.size a ≤ S200x216x256.size a := fun v9710 v9715 v9725 v9741 v9750 v9759 v9768 v9777 v9786 v9795 v9804 k0_hw43 => k0_hw43.2.2.2.2.2.2.2.2.2.2.2.2.2.1
theorem k0_off1018_inb : ∀ (v9710 : BitVec 32) (v9715 : BitVec 32) (v9725 : BitVec 32) (v9741 : BitVec 32) (v9750 : BitVec 32) (v9759 : BitVec 32) (v9768 : BitVec 32) (v9777 : BitVec 32) (v9786 : BitVec 32) (v9795 : BitVec 32) (v9804 : BitVec 32) (k0_hw43 : k0_chk43 v9710 v9715 v9725 v9741 v9750 v9759 v9768 v9777 v9786 v9795 v9804), ∀ a, (k0_off1018 v9710 v9715 v9725 v9795 v9804) a + S1x16x256.size a ≤ S200x216x256.size a := fun v9710 v9715 v9725 v9741 v9750 v9759 v9768 v9777 v9786 v9795 v9804 k0_hw43 => k0_hw43.2.2.2.2.2.2.2.2.2.2.2.2.2.2

def k0_off1019 (k0_t1 : Fin k0_t1_loop.trips) : Fin 3 → Nat :=
  let c42_2693 : Index := 42#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c6_i32 : BitVec 32 := 6#32
  let v9702 : BitVec 32 := Scalar.addi v5 c6_i32
  let v11140 : Index := Scalar.indexCast v9702
  let c0_2694 : Index := 0#32
  ![42, v11140.toNat, 0]
def k0_off1020 (v9710 : BitVec 32) (v9715 : BitVec 32) (v9795 : BitVec 32) (v9817 : BitVec 32) : Fin 3 → Nat :=
  let c199_i32_2342 : BitVec 32 := 199#32
  let c0_i32_2341 : BitVec 32 := 0#32
  let v9716 : BitVec 32 := Scalar.maxsi c0_i32_2341 v9715
  let v9717 : BitVec 32 := Scalar.minsi c199_i32_2342 v9716
  let v9796 : BitVec 32 := Scalar.addi v9717 v9795
  let v11145 : Index := Scalar.indexCast v9796
  let c199_i32_2339 : BitVec 32 := 199#32
  let c0_i32_2338 : BitVec 32 := 0#32
  let v9711 : BitVec 32 := Scalar.maxsi c0_i32_2338 v9710
  let v9712 : BitVec 32 := Scalar.minsi c199_i32_2339 v9711
  let v9818 : BitVec 32 := Scalar.addi v9712 v9817
  let c3_i32_2392 : BitVec 32 := 3#32
  let v9821 : BitVec 32 := Scalar.shrsi v9818 c3_i32_2392
  let c3_i32_2393 : BitVec 32 := 3#32
  let v9822 : BitVec 32 := Scalar.shli v9821 c3_i32_2393
  let v9823 : BitVec 32 := v9822
  let v11146 : Index := Scalar.indexCast v9823
  let c0_2696 : Index := 0#32
  ![v11145.toNat, v11146.toNat, 0]
def k0_off1021 (v9710 : BitVec 32) (v9715 : BitVec 32) (v9725 : BitVec 32) (v9795 : BitVec 32) (v9817 : BitVec 32) : Fin 3 → Nat :=
  let c199_i32_2342 : BitVec 32 := 199#32
  let c0_i32_2341 : BitVec 32 := 0#32
  let v9716 : BitVec 32 := Scalar.maxsi c0_i32_2341 v9715
  let v9717 : BitVec 32 := Scalar.minsi c199_i32_2342 v9716
  let v9796 : BitVec 32 := Scalar.addi v9717 v9795
  let c1_i32_2380 : BitVec 32 := 1#32
  let v9797 : BitVec 32 := Scalar.addi v9796 c1_i32_2380
  let c199_i32_2348 : BitVec 32 := 199#32
  let c0_i32_2347 : BitVec 32 := 0#32
  let v9726 : BitVec 32 := Scalar.maxsi c0_i32_2347 v9725
  let v9727 : BitVec 32 := Scalar.minsi c199_i32_2348 v9726
  let v9798 : BitVec 32 := Scalar.minsi v9797 v9727
  let v11149 : Index := Scalar.indexCast v9798
  let c199_i32_2339 : BitVec 32 := 199#32
  let c0_i32_2338 : BitVec 32 := 0#32
  let v9711 : BitVec 32 := Scalar.maxsi c0_i32_2338 v9710
  let v9712 : BitVec 32 := Scalar.minsi c199_i32_2339 v9711
  let v9818 : BitVec 32 := Scalar.addi v9712 v9817
  let c3_i32_2392 : BitVec 32 := 3#32
  let v9821 : BitVec 32 := Scalar.shrsi v9818 c3_i32_2392
  let c3_i32_2393 : BitVec 32 := 3#32
  let v9822 : BitVec 32 := Scalar.shli v9821 c3_i32_2393
  let v9823 : BitVec 32 := v9822
  let v11150 : Index := Scalar.indexCast v9823
  let c0_2697 : Index := 0#32
  ![v11149.toNat, v11150.toNat, 0]

def k0_chk44 (v9710 : BitVec 32) (v9715 : BitVec 32) (v9725 : BitVec 32) (v9741 : BitVec 32) (v9750 : BitVec 32) (v9759 : BitVec 32) (v9768 : BitVec 32) (v9777 : BitVec 32) (v9786 : BitVec 32) (v9795 : BitVec 32) (v9817 : BitVec 32) : Prop :=
  (8 ∣ (k0_mult45 v9710 v9817).toNat) ∧
  (∀ a, (k0_off894 v9710 v9715 v9741 v9817) a + S1x16x256.size a ≤ S200x216x256.size a) ∧
  (∀ a, (k0_off895 v9710 v9715 v9725 v9741 v9817) a + S1x16x256.size a ≤ S200x216x256.size a) ∧
  (∀ a, (k0_off915 v9710 v9715 v9750 v9817) a + S1x16x256.size a ≤ S200x216x256.size a) ∧
  (∀ a, (k0_off916 v9710 v9715 v9725 v9750 v9817) a + S1x16x256.size a ≤ S200x216x256.size a) ∧
  (∀ a, (k0_off936 v9710 v9715 v9759 v9817) a + S1x16x256.size a ≤ S200x216x256.size a) ∧
  (∀ a, (k0_off937 v9710 v9715 v9725 v9759 v9817) a + S1x16x256.size a ≤ S200x216x256.size a) ∧
  (∀ a, (k0_off957 v9710 v9715 v9768 v9817) a + S1x16x256.size a ≤ S200x216x256.size a) ∧
  (∀ a, (k0_off958 v9710 v9715 v9725 v9768 v9817) a + S1x16x256.size a ≤ S200x216x256.size a) ∧
  (∀ a, (k0_off978 v9710 v9715 v9777 v9817) a + S1x16x256.size a ≤ S200x216x256.size a) ∧
  (∀ a, (k0_off979 v9710 v9715 v9725 v9777 v9817) a + S1x16x256.size a ≤ S200x216x256.size a) ∧
  (∀ a, (k0_off999 v9710 v9715 v9786 v9817) a + S1x16x256.size a ≤ S200x216x256.size a) ∧
  (∀ a, (k0_off1000 v9710 v9715 v9725 v9786 v9817) a + S1x16x256.size a ≤ S200x216x256.size a) ∧
  (∀ a, (k0_off1020 v9710 v9715 v9795 v9817) a + S1x16x256.size a ≤ S200x216x256.size a) ∧
  (∀ a, (k0_off1021 v9710 v9715 v9725 v9795 v9817) a + S1x16x256.size a ≤ S200x216x256.size a)
theorem k0_mult45_dvd : ∀ (v9710 : BitVec 32) (v9715 : BitVec 32) (v9725 : BitVec 32) (v9741 : BitVec 32) (v9750 : BitVec 32) (v9759 : BitVec 32) (v9768 : BitVec 32) (v9777 : BitVec 32) (v9786 : BitVec 32) (v9795 : BitVec 32) (v9817 : BitVec 32) (k0_hw44 : k0_chk44 v9710 v9715 v9725 v9741 v9750 v9759 v9768 v9777 v9786 v9795 v9817), 8 ∣ (k0_mult45 v9710 v9817).toNat := fun v9710 v9715 v9725 v9741 v9750 v9759 v9768 v9777 v9786 v9795 v9817 k0_hw44 => k0_hw44.1
theorem k0_off894_inb : ∀ (v9710 : BitVec 32) (v9715 : BitVec 32) (v9725 : BitVec 32) (v9741 : BitVec 32) (v9750 : BitVec 32) (v9759 : BitVec 32) (v9768 : BitVec 32) (v9777 : BitVec 32) (v9786 : BitVec 32) (v9795 : BitVec 32) (v9817 : BitVec 32) (k0_hw44 : k0_chk44 v9710 v9715 v9725 v9741 v9750 v9759 v9768 v9777 v9786 v9795 v9817), ∀ a, (k0_off894 v9710 v9715 v9741 v9817) a + S1x16x256.size a ≤ S200x216x256.size a := fun v9710 v9715 v9725 v9741 v9750 v9759 v9768 v9777 v9786 v9795 v9817 k0_hw44 => k0_hw44.2.1
theorem k0_off895_inb : ∀ (v9710 : BitVec 32) (v9715 : BitVec 32) (v9725 : BitVec 32) (v9741 : BitVec 32) (v9750 : BitVec 32) (v9759 : BitVec 32) (v9768 : BitVec 32) (v9777 : BitVec 32) (v9786 : BitVec 32) (v9795 : BitVec 32) (v9817 : BitVec 32) (k0_hw44 : k0_chk44 v9710 v9715 v9725 v9741 v9750 v9759 v9768 v9777 v9786 v9795 v9817), ∀ a, (k0_off895 v9710 v9715 v9725 v9741 v9817) a + S1x16x256.size a ≤ S200x216x256.size a := fun v9710 v9715 v9725 v9741 v9750 v9759 v9768 v9777 v9786 v9795 v9817 k0_hw44 => k0_hw44.2.2.1
theorem k0_off915_inb : ∀ (v9710 : BitVec 32) (v9715 : BitVec 32) (v9725 : BitVec 32) (v9741 : BitVec 32) (v9750 : BitVec 32) (v9759 : BitVec 32) (v9768 : BitVec 32) (v9777 : BitVec 32) (v9786 : BitVec 32) (v9795 : BitVec 32) (v9817 : BitVec 32) (k0_hw44 : k0_chk44 v9710 v9715 v9725 v9741 v9750 v9759 v9768 v9777 v9786 v9795 v9817), ∀ a, (k0_off915 v9710 v9715 v9750 v9817) a + S1x16x256.size a ≤ S200x216x256.size a := fun v9710 v9715 v9725 v9741 v9750 v9759 v9768 v9777 v9786 v9795 v9817 k0_hw44 => k0_hw44.2.2.2.1
theorem k0_off916_inb : ∀ (v9710 : BitVec 32) (v9715 : BitVec 32) (v9725 : BitVec 32) (v9741 : BitVec 32) (v9750 : BitVec 32) (v9759 : BitVec 32) (v9768 : BitVec 32) (v9777 : BitVec 32) (v9786 : BitVec 32) (v9795 : BitVec 32) (v9817 : BitVec 32) (k0_hw44 : k0_chk44 v9710 v9715 v9725 v9741 v9750 v9759 v9768 v9777 v9786 v9795 v9817), ∀ a, (k0_off916 v9710 v9715 v9725 v9750 v9817) a + S1x16x256.size a ≤ S200x216x256.size a := fun v9710 v9715 v9725 v9741 v9750 v9759 v9768 v9777 v9786 v9795 v9817 k0_hw44 => k0_hw44.2.2.2.2.1
theorem k0_off936_inb : ∀ (v9710 : BitVec 32) (v9715 : BitVec 32) (v9725 : BitVec 32) (v9741 : BitVec 32) (v9750 : BitVec 32) (v9759 : BitVec 32) (v9768 : BitVec 32) (v9777 : BitVec 32) (v9786 : BitVec 32) (v9795 : BitVec 32) (v9817 : BitVec 32) (k0_hw44 : k0_chk44 v9710 v9715 v9725 v9741 v9750 v9759 v9768 v9777 v9786 v9795 v9817), ∀ a, (k0_off936 v9710 v9715 v9759 v9817) a + S1x16x256.size a ≤ S200x216x256.size a := fun v9710 v9715 v9725 v9741 v9750 v9759 v9768 v9777 v9786 v9795 v9817 k0_hw44 => k0_hw44.2.2.2.2.2.1
theorem k0_off937_inb : ∀ (v9710 : BitVec 32) (v9715 : BitVec 32) (v9725 : BitVec 32) (v9741 : BitVec 32) (v9750 : BitVec 32) (v9759 : BitVec 32) (v9768 : BitVec 32) (v9777 : BitVec 32) (v9786 : BitVec 32) (v9795 : BitVec 32) (v9817 : BitVec 32) (k0_hw44 : k0_chk44 v9710 v9715 v9725 v9741 v9750 v9759 v9768 v9777 v9786 v9795 v9817), ∀ a, (k0_off937 v9710 v9715 v9725 v9759 v9817) a + S1x16x256.size a ≤ S200x216x256.size a := fun v9710 v9715 v9725 v9741 v9750 v9759 v9768 v9777 v9786 v9795 v9817 k0_hw44 => k0_hw44.2.2.2.2.2.2.1
theorem k0_off957_inb : ∀ (v9710 : BitVec 32) (v9715 : BitVec 32) (v9725 : BitVec 32) (v9741 : BitVec 32) (v9750 : BitVec 32) (v9759 : BitVec 32) (v9768 : BitVec 32) (v9777 : BitVec 32) (v9786 : BitVec 32) (v9795 : BitVec 32) (v9817 : BitVec 32) (k0_hw44 : k0_chk44 v9710 v9715 v9725 v9741 v9750 v9759 v9768 v9777 v9786 v9795 v9817), ∀ a, (k0_off957 v9710 v9715 v9768 v9817) a + S1x16x256.size a ≤ S200x216x256.size a := fun v9710 v9715 v9725 v9741 v9750 v9759 v9768 v9777 v9786 v9795 v9817 k0_hw44 => k0_hw44.2.2.2.2.2.2.2.1
theorem k0_off958_inb : ∀ (v9710 : BitVec 32) (v9715 : BitVec 32) (v9725 : BitVec 32) (v9741 : BitVec 32) (v9750 : BitVec 32) (v9759 : BitVec 32) (v9768 : BitVec 32) (v9777 : BitVec 32) (v9786 : BitVec 32) (v9795 : BitVec 32) (v9817 : BitVec 32) (k0_hw44 : k0_chk44 v9710 v9715 v9725 v9741 v9750 v9759 v9768 v9777 v9786 v9795 v9817), ∀ a, (k0_off958 v9710 v9715 v9725 v9768 v9817) a + S1x16x256.size a ≤ S200x216x256.size a := fun v9710 v9715 v9725 v9741 v9750 v9759 v9768 v9777 v9786 v9795 v9817 k0_hw44 => k0_hw44.2.2.2.2.2.2.2.2.1
theorem k0_off978_inb : ∀ (v9710 : BitVec 32) (v9715 : BitVec 32) (v9725 : BitVec 32) (v9741 : BitVec 32) (v9750 : BitVec 32) (v9759 : BitVec 32) (v9768 : BitVec 32) (v9777 : BitVec 32) (v9786 : BitVec 32) (v9795 : BitVec 32) (v9817 : BitVec 32) (k0_hw44 : k0_chk44 v9710 v9715 v9725 v9741 v9750 v9759 v9768 v9777 v9786 v9795 v9817), ∀ a, (k0_off978 v9710 v9715 v9777 v9817) a + S1x16x256.size a ≤ S200x216x256.size a := fun v9710 v9715 v9725 v9741 v9750 v9759 v9768 v9777 v9786 v9795 v9817 k0_hw44 => k0_hw44.2.2.2.2.2.2.2.2.2.1
theorem k0_off979_inb : ∀ (v9710 : BitVec 32) (v9715 : BitVec 32) (v9725 : BitVec 32) (v9741 : BitVec 32) (v9750 : BitVec 32) (v9759 : BitVec 32) (v9768 : BitVec 32) (v9777 : BitVec 32) (v9786 : BitVec 32) (v9795 : BitVec 32) (v9817 : BitVec 32) (k0_hw44 : k0_chk44 v9710 v9715 v9725 v9741 v9750 v9759 v9768 v9777 v9786 v9795 v9817), ∀ a, (k0_off979 v9710 v9715 v9725 v9777 v9817) a + S1x16x256.size a ≤ S200x216x256.size a := fun v9710 v9715 v9725 v9741 v9750 v9759 v9768 v9777 v9786 v9795 v9817 k0_hw44 => k0_hw44.2.2.2.2.2.2.2.2.2.2.1
theorem k0_off999_inb : ∀ (v9710 : BitVec 32) (v9715 : BitVec 32) (v9725 : BitVec 32) (v9741 : BitVec 32) (v9750 : BitVec 32) (v9759 : BitVec 32) (v9768 : BitVec 32) (v9777 : BitVec 32) (v9786 : BitVec 32) (v9795 : BitVec 32) (v9817 : BitVec 32) (k0_hw44 : k0_chk44 v9710 v9715 v9725 v9741 v9750 v9759 v9768 v9777 v9786 v9795 v9817), ∀ a, (k0_off999 v9710 v9715 v9786 v9817) a + S1x16x256.size a ≤ S200x216x256.size a := fun v9710 v9715 v9725 v9741 v9750 v9759 v9768 v9777 v9786 v9795 v9817 k0_hw44 => k0_hw44.2.2.2.2.2.2.2.2.2.2.2.1
theorem k0_off1000_inb : ∀ (v9710 : BitVec 32) (v9715 : BitVec 32) (v9725 : BitVec 32) (v9741 : BitVec 32) (v9750 : BitVec 32) (v9759 : BitVec 32) (v9768 : BitVec 32) (v9777 : BitVec 32) (v9786 : BitVec 32) (v9795 : BitVec 32) (v9817 : BitVec 32) (k0_hw44 : k0_chk44 v9710 v9715 v9725 v9741 v9750 v9759 v9768 v9777 v9786 v9795 v9817), ∀ a, (k0_off1000 v9710 v9715 v9725 v9786 v9817) a + S1x16x256.size a ≤ S200x216x256.size a := fun v9710 v9715 v9725 v9741 v9750 v9759 v9768 v9777 v9786 v9795 v9817 k0_hw44 => k0_hw44.2.2.2.2.2.2.2.2.2.2.2.2.1
theorem k0_off1020_inb : ∀ (v9710 : BitVec 32) (v9715 : BitVec 32) (v9725 : BitVec 32) (v9741 : BitVec 32) (v9750 : BitVec 32) (v9759 : BitVec 32) (v9768 : BitVec 32) (v9777 : BitVec 32) (v9786 : BitVec 32) (v9795 : BitVec 32) (v9817 : BitVec 32) (k0_hw44 : k0_chk44 v9710 v9715 v9725 v9741 v9750 v9759 v9768 v9777 v9786 v9795 v9817), ∀ a, (k0_off1020 v9710 v9715 v9795 v9817) a + S1x16x256.size a ≤ S200x216x256.size a := fun v9710 v9715 v9725 v9741 v9750 v9759 v9768 v9777 v9786 v9795 v9817 k0_hw44 => k0_hw44.2.2.2.2.2.2.2.2.2.2.2.2.2.1
theorem k0_off1021_inb : ∀ (v9710 : BitVec 32) (v9715 : BitVec 32) (v9725 : BitVec 32) (v9741 : BitVec 32) (v9750 : BitVec 32) (v9759 : BitVec 32) (v9768 : BitVec 32) (v9777 : BitVec 32) (v9786 : BitVec 32) (v9795 : BitVec 32) (v9817 : BitVec 32) (k0_hw44 : k0_chk44 v9710 v9715 v9725 v9741 v9750 v9759 v9768 v9777 v9786 v9795 v9817), ∀ a, (k0_off1021 v9710 v9715 v9725 v9795 v9817) a + S1x16x256.size a ≤ S200x216x256.size a := fun v9710 v9715 v9725 v9741 v9750 v9759 v9768 v9777 v9786 v9795 v9817 k0_hw44 => k0_hw44.2.2.2.2.2.2.2.2.2.2.2.2.2.2

def k0_off1022 (k0_t1 : Fin k0_t1_loop.trips) : Fin 3 → Nat :=
  let c43_2699 : Index := 43#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c6_i32 : BitVec 32 := 6#32
  let v9702 : BitVec 32 := Scalar.addi v5 c6_i32
  let v11169 : Index := Scalar.indexCast v9702
  let c0_2700 : Index := 0#32
  ![43, v11169.toNat, 0]
def k0_off1023 (v9710 : BitVec 32) (v9715 : BitVec 32) (v9795 : BitVec 32) (v9830 : BitVec 32) : Fin 3 → Nat :=
  let c199_i32_2342 : BitVec 32 := 199#32
  let c0_i32_2341 : BitVec 32 := 0#32
  let v9716 : BitVec 32 := Scalar.maxsi c0_i32_2341 v9715
  let v9717 : BitVec 32 := Scalar.minsi c199_i32_2342 v9716
  let v9796 : BitVec 32 := Scalar.addi v9717 v9795
  let v11174 : Index := Scalar.indexCast v9796
  let c199_i32_2339 : BitVec 32 := 199#32
  let c0_i32_2338 : BitVec 32 := 0#32
  let v9711 : BitVec 32 := Scalar.maxsi c0_i32_2338 v9710
  let v9712 : BitVec 32 := Scalar.minsi c199_i32_2339 v9711
  let v9831 : BitVec 32 := Scalar.addi v9712 v9830
  let c3_i32_2399 : BitVec 32 := 3#32
  let v9834 : BitVec 32 := Scalar.shrsi v9831 c3_i32_2399
  let c3_i32_2400 : BitVec 32 := 3#32
  let v9835 : BitVec 32 := Scalar.shli v9834 c3_i32_2400
  let v9836 : BitVec 32 := v9835
  let v11175 : Index := Scalar.indexCast v9836
  let c0_2702 : Index := 0#32
  ![v11174.toNat, v11175.toNat, 0]
def k0_off1024 (v9710 : BitVec 32) (v9715 : BitVec 32) (v9725 : BitVec 32) (v9795 : BitVec 32) (v9830 : BitVec 32) : Fin 3 → Nat :=
  let c199_i32_2342 : BitVec 32 := 199#32
  let c0_i32_2341 : BitVec 32 := 0#32
  let v9716 : BitVec 32 := Scalar.maxsi c0_i32_2341 v9715
  let v9717 : BitVec 32 := Scalar.minsi c199_i32_2342 v9716
  let v9796 : BitVec 32 := Scalar.addi v9717 v9795
  let c1_i32_2380 : BitVec 32 := 1#32
  let v9797 : BitVec 32 := Scalar.addi v9796 c1_i32_2380
  let c199_i32_2348 : BitVec 32 := 199#32
  let c0_i32_2347 : BitVec 32 := 0#32
  let v9726 : BitVec 32 := Scalar.maxsi c0_i32_2347 v9725
  let v9727 : BitVec 32 := Scalar.minsi c199_i32_2348 v9726
  let v9798 : BitVec 32 := Scalar.minsi v9797 v9727
  let v11178 : Index := Scalar.indexCast v9798
  let c199_i32_2339 : BitVec 32 := 199#32
  let c0_i32_2338 : BitVec 32 := 0#32
  let v9711 : BitVec 32 := Scalar.maxsi c0_i32_2338 v9710
  let v9712 : BitVec 32 := Scalar.minsi c199_i32_2339 v9711
  let v9831 : BitVec 32 := Scalar.addi v9712 v9830
  let c3_i32_2399 : BitVec 32 := 3#32
  let v9834 : BitVec 32 := Scalar.shrsi v9831 c3_i32_2399
  let c3_i32_2400 : BitVec 32 := 3#32
  let v9835 : BitVec 32 := Scalar.shli v9834 c3_i32_2400
  let v9836 : BitVec 32 := v9835
  let v11179 : Index := Scalar.indexCast v9836
  let c0_2703 : Index := 0#32
  ![v11178.toNat, v11179.toNat, 0]

def k0_chk45 (v9710 : BitVec 32) (v9715 : BitVec 32) (v9725 : BitVec 32) (v9741 : BitVec 32) (v9750 : BitVec 32) (v9759 : BitVec 32) (v9768 : BitVec 32) (v9777 : BitVec 32) (v9786 : BitVec 32) (v9795 : BitVec 32) (v9830 : BitVec 32) : Prop :=
  (8 ∣ (k0_mult46 v9710 v9830).toNat) ∧
  (∀ a, (k0_off897 v9710 v9715 v9741 v9830) a + S1x16x256.size a ≤ S200x216x256.size a) ∧
  (∀ a, (k0_off898 v9710 v9715 v9725 v9741 v9830) a + S1x16x256.size a ≤ S200x216x256.size a) ∧
  (∀ a, (k0_off918 v9710 v9715 v9750 v9830) a + S1x16x256.size a ≤ S200x216x256.size a) ∧
  (∀ a, (k0_off919 v9710 v9715 v9725 v9750 v9830) a + S1x16x256.size a ≤ S200x216x256.size a) ∧
  (∀ a, (k0_off939 v9710 v9715 v9759 v9830) a + S1x16x256.size a ≤ S200x216x256.size a) ∧
  (∀ a, (k0_off940 v9710 v9715 v9725 v9759 v9830) a + S1x16x256.size a ≤ S200x216x256.size a) ∧
  (∀ a, (k0_off960 v9710 v9715 v9768 v9830) a + S1x16x256.size a ≤ S200x216x256.size a) ∧
  (∀ a, (k0_off961 v9710 v9715 v9725 v9768 v9830) a + S1x16x256.size a ≤ S200x216x256.size a) ∧
  (∀ a, (k0_off981 v9710 v9715 v9777 v9830) a + S1x16x256.size a ≤ S200x216x256.size a) ∧
  (∀ a, (k0_off982 v9710 v9715 v9725 v9777 v9830) a + S1x16x256.size a ≤ S200x216x256.size a) ∧
  (∀ a, (k0_off1002 v9710 v9715 v9786 v9830) a + S1x16x256.size a ≤ S200x216x256.size a) ∧
  (∀ a, (k0_off1003 v9710 v9715 v9725 v9786 v9830) a + S1x16x256.size a ≤ S200x216x256.size a) ∧
  (∀ a, (k0_off1023 v9710 v9715 v9795 v9830) a + S1x16x256.size a ≤ S200x216x256.size a) ∧
  (∀ a, (k0_off1024 v9710 v9715 v9725 v9795 v9830) a + S1x16x256.size a ≤ S200x216x256.size a)
theorem k0_mult46_dvd : ∀ (v9710 : BitVec 32) (v9715 : BitVec 32) (v9725 : BitVec 32) (v9741 : BitVec 32) (v9750 : BitVec 32) (v9759 : BitVec 32) (v9768 : BitVec 32) (v9777 : BitVec 32) (v9786 : BitVec 32) (v9795 : BitVec 32) (v9830 : BitVec 32) (k0_hw45 : k0_chk45 v9710 v9715 v9725 v9741 v9750 v9759 v9768 v9777 v9786 v9795 v9830), 8 ∣ (k0_mult46 v9710 v9830).toNat := fun v9710 v9715 v9725 v9741 v9750 v9759 v9768 v9777 v9786 v9795 v9830 k0_hw45 => k0_hw45.1
theorem k0_off897_inb : ∀ (v9710 : BitVec 32) (v9715 : BitVec 32) (v9725 : BitVec 32) (v9741 : BitVec 32) (v9750 : BitVec 32) (v9759 : BitVec 32) (v9768 : BitVec 32) (v9777 : BitVec 32) (v9786 : BitVec 32) (v9795 : BitVec 32) (v9830 : BitVec 32) (k0_hw45 : k0_chk45 v9710 v9715 v9725 v9741 v9750 v9759 v9768 v9777 v9786 v9795 v9830), ∀ a, (k0_off897 v9710 v9715 v9741 v9830) a + S1x16x256.size a ≤ S200x216x256.size a := fun v9710 v9715 v9725 v9741 v9750 v9759 v9768 v9777 v9786 v9795 v9830 k0_hw45 => k0_hw45.2.1
theorem k0_off898_inb : ∀ (v9710 : BitVec 32) (v9715 : BitVec 32) (v9725 : BitVec 32) (v9741 : BitVec 32) (v9750 : BitVec 32) (v9759 : BitVec 32) (v9768 : BitVec 32) (v9777 : BitVec 32) (v9786 : BitVec 32) (v9795 : BitVec 32) (v9830 : BitVec 32) (k0_hw45 : k0_chk45 v9710 v9715 v9725 v9741 v9750 v9759 v9768 v9777 v9786 v9795 v9830), ∀ a, (k0_off898 v9710 v9715 v9725 v9741 v9830) a + S1x16x256.size a ≤ S200x216x256.size a := fun v9710 v9715 v9725 v9741 v9750 v9759 v9768 v9777 v9786 v9795 v9830 k0_hw45 => k0_hw45.2.2.1
theorem k0_off918_inb : ∀ (v9710 : BitVec 32) (v9715 : BitVec 32) (v9725 : BitVec 32) (v9741 : BitVec 32) (v9750 : BitVec 32) (v9759 : BitVec 32) (v9768 : BitVec 32) (v9777 : BitVec 32) (v9786 : BitVec 32) (v9795 : BitVec 32) (v9830 : BitVec 32) (k0_hw45 : k0_chk45 v9710 v9715 v9725 v9741 v9750 v9759 v9768 v9777 v9786 v9795 v9830), ∀ a, (k0_off918 v9710 v9715 v9750 v9830) a + S1x16x256.size a ≤ S200x216x256.size a := fun v9710 v9715 v9725 v9741 v9750 v9759 v9768 v9777 v9786 v9795 v9830 k0_hw45 => k0_hw45.2.2.2.1
theorem k0_off919_inb : ∀ (v9710 : BitVec 32) (v9715 : BitVec 32) (v9725 : BitVec 32) (v9741 : BitVec 32) (v9750 : BitVec 32) (v9759 : BitVec 32) (v9768 : BitVec 32) (v9777 : BitVec 32) (v9786 : BitVec 32) (v9795 : BitVec 32) (v9830 : BitVec 32) (k0_hw45 : k0_chk45 v9710 v9715 v9725 v9741 v9750 v9759 v9768 v9777 v9786 v9795 v9830), ∀ a, (k0_off919 v9710 v9715 v9725 v9750 v9830) a + S1x16x256.size a ≤ S200x216x256.size a := fun v9710 v9715 v9725 v9741 v9750 v9759 v9768 v9777 v9786 v9795 v9830 k0_hw45 => k0_hw45.2.2.2.2.1
theorem k0_off939_inb : ∀ (v9710 : BitVec 32) (v9715 : BitVec 32) (v9725 : BitVec 32) (v9741 : BitVec 32) (v9750 : BitVec 32) (v9759 : BitVec 32) (v9768 : BitVec 32) (v9777 : BitVec 32) (v9786 : BitVec 32) (v9795 : BitVec 32) (v9830 : BitVec 32) (k0_hw45 : k0_chk45 v9710 v9715 v9725 v9741 v9750 v9759 v9768 v9777 v9786 v9795 v9830), ∀ a, (k0_off939 v9710 v9715 v9759 v9830) a + S1x16x256.size a ≤ S200x216x256.size a := fun v9710 v9715 v9725 v9741 v9750 v9759 v9768 v9777 v9786 v9795 v9830 k0_hw45 => k0_hw45.2.2.2.2.2.1
theorem k0_off940_inb : ∀ (v9710 : BitVec 32) (v9715 : BitVec 32) (v9725 : BitVec 32) (v9741 : BitVec 32) (v9750 : BitVec 32) (v9759 : BitVec 32) (v9768 : BitVec 32) (v9777 : BitVec 32) (v9786 : BitVec 32) (v9795 : BitVec 32) (v9830 : BitVec 32) (k0_hw45 : k0_chk45 v9710 v9715 v9725 v9741 v9750 v9759 v9768 v9777 v9786 v9795 v9830), ∀ a, (k0_off940 v9710 v9715 v9725 v9759 v9830) a + S1x16x256.size a ≤ S200x216x256.size a := fun v9710 v9715 v9725 v9741 v9750 v9759 v9768 v9777 v9786 v9795 v9830 k0_hw45 => k0_hw45.2.2.2.2.2.2.1
theorem k0_off960_inb : ∀ (v9710 : BitVec 32) (v9715 : BitVec 32) (v9725 : BitVec 32) (v9741 : BitVec 32) (v9750 : BitVec 32) (v9759 : BitVec 32) (v9768 : BitVec 32) (v9777 : BitVec 32) (v9786 : BitVec 32) (v9795 : BitVec 32) (v9830 : BitVec 32) (k0_hw45 : k0_chk45 v9710 v9715 v9725 v9741 v9750 v9759 v9768 v9777 v9786 v9795 v9830), ∀ a, (k0_off960 v9710 v9715 v9768 v9830) a + S1x16x256.size a ≤ S200x216x256.size a := fun v9710 v9715 v9725 v9741 v9750 v9759 v9768 v9777 v9786 v9795 v9830 k0_hw45 => k0_hw45.2.2.2.2.2.2.2.1
theorem k0_off961_inb : ∀ (v9710 : BitVec 32) (v9715 : BitVec 32) (v9725 : BitVec 32) (v9741 : BitVec 32) (v9750 : BitVec 32) (v9759 : BitVec 32) (v9768 : BitVec 32) (v9777 : BitVec 32) (v9786 : BitVec 32) (v9795 : BitVec 32) (v9830 : BitVec 32) (k0_hw45 : k0_chk45 v9710 v9715 v9725 v9741 v9750 v9759 v9768 v9777 v9786 v9795 v9830), ∀ a, (k0_off961 v9710 v9715 v9725 v9768 v9830) a + S1x16x256.size a ≤ S200x216x256.size a := fun v9710 v9715 v9725 v9741 v9750 v9759 v9768 v9777 v9786 v9795 v9830 k0_hw45 => k0_hw45.2.2.2.2.2.2.2.2.1
theorem k0_off981_inb : ∀ (v9710 : BitVec 32) (v9715 : BitVec 32) (v9725 : BitVec 32) (v9741 : BitVec 32) (v9750 : BitVec 32) (v9759 : BitVec 32) (v9768 : BitVec 32) (v9777 : BitVec 32) (v9786 : BitVec 32) (v9795 : BitVec 32) (v9830 : BitVec 32) (k0_hw45 : k0_chk45 v9710 v9715 v9725 v9741 v9750 v9759 v9768 v9777 v9786 v9795 v9830), ∀ a, (k0_off981 v9710 v9715 v9777 v9830) a + S1x16x256.size a ≤ S200x216x256.size a := fun v9710 v9715 v9725 v9741 v9750 v9759 v9768 v9777 v9786 v9795 v9830 k0_hw45 => k0_hw45.2.2.2.2.2.2.2.2.2.1
theorem k0_off982_inb : ∀ (v9710 : BitVec 32) (v9715 : BitVec 32) (v9725 : BitVec 32) (v9741 : BitVec 32) (v9750 : BitVec 32) (v9759 : BitVec 32) (v9768 : BitVec 32) (v9777 : BitVec 32) (v9786 : BitVec 32) (v9795 : BitVec 32) (v9830 : BitVec 32) (k0_hw45 : k0_chk45 v9710 v9715 v9725 v9741 v9750 v9759 v9768 v9777 v9786 v9795 v9830), ∀ a, (k0_off982 v9710 v9715 v9725 v9777 v9830) a + S1x16x256.size a ≤ S200x216x256.size a := fun v9710 v9715 v9725 v9741 v9750 v9759 v9768 v9777 v9786 v9795 v9830 k0_hw45 => k0_hw45.2.2.2.2.2.2.2.2.2.2.1
theorem k0_off1002_inb : ∀ (v9710 : BitVec 32) (v9715 : BitVec 32) (v9725 : BitVec 32) (v9741 : BitVec 32) (v9750 : BitVec 32) (v9759 : BitVec 32) (v9768 : BitVec 32) (v9777 : BitVec 32) (v9786 : BitVec 32) (v9795 : BitVec 32) (v9830 : BitVec 32) (k0_hw45 : k0_chk45 v9710 v9715 v9725 v9741 v9750 v9759 v9768 v9777 v9786 v9795 v9830), ∀ a, (k0_off1002 v9710 v9715 v9786 v9830) a + S1x16x256.size a ≤ S200x216x256.size a := fun v9710 v9715 v9725 v9741 v9750 v9759 v9768 v9777 v9786 v9795 v9830 k0_hw45 => k0_hw45.2.2.2.2.2.2.2.2.2.2.2.1
theorem k0_off1003_inb : ∀ (v9710 : BitVec 32) (v9715 : BitVec 32) (v9725 : BitVec 32) (v9741 : BitVec 32) (v9750 : BitVec 32) (v9759 : BitVec 32) (v9768 : BitVec 32) (v9777 : BitVec 32) (v9786 : BitVec 32) (v9795 : BitVec 32) (v9830 : BitVec 32) (k0_hw45 : k0_chk45 v9710 v9715 v9725 v9741 v9750 v9759 v9768 v9777 v9786 v9795 v9830), ∀ a, (k0_off1003 v9710 v9715 v9725 v9786 v9830) a + S1x16x256.size a ≤ S200x216x256.size a := fun v9710 v9715 v9725 v9741 v9750 v9759 v9768 v9777 v9786 v9795 v9830 k0_hw45 => k0_hw45.2.2.2.2.2.2.2.2.2.2.2.2.1
theorem k0_off1023_inb : ∀ (v9710 : BitVec 32) (v9715 : BitVec 32) (v9725 : BitVec 32) (v9741 : BitVec 32) (v9750 : BitVec 32) (v9759 : BitVec 32) (v9768 : BitVec 32) (v9777 : BitVec 32) (v9786 : BitVec 32) (v9795 : BitVec 32) (v9830 : BitVec 32) (k0_hw45 : k0_chk45 v9710 v9715 v9725 v9741 v9750 v9759 v9768 v9777 v9786 v9795 v9830), ∀ a, (k0_off1023 v9710 v9715 v9795 v9830) a + S1x16x256.size a ≤ S200x216x256.size a := fun v9710 v9715 v9725 v9741 v9750 v9759 v9768 v9777 v9786 v9795 v9830 k0_hw45 => k0_hw45.2.2.2.2.2.2.2.2.2.2.2.2.2.1
theorem k0_off1024_inb : ∀ (v9710 : BitVec 32) (v9715 : BitVec 32) (v9725 : BitVec 32) (v9741 : BitVec 32) (v9750 : BitVec 32) (v9759 : BitVec 32) (v9768 : BitVec 32) (v9777 : BitVec 32) (v9786 : BitVec 32) (v9795 : BitVec 32) (v9830 : BitVec 32) (k0_hw45 : k0_chk45 v9710 v9715 v9725 v9741 v9750 v9759 v9768 v9777 v9786 v9795 v9830), ∀ a, (k0_off1024 v9710 v9715 v9725 v9795 v9830) a + S1x16x256.size a ≤ S200x216x256.size a := fun v9710 v9715 v9725 v9741 v9750 v9759 v9768 v9777 v9786 v9795 v9830 k0_hw45 => k0_hw45.2.2.2.2.2.2.2.2.2.2.2.2.2.2

def k0_off1025 (k0_t1 : Fin k0_t1_loop.trips) : Fin 3 → Nat :=
  let c44_2705 : Index := 44#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c6_i32 : BitVec 32 := 6#32
  let v9702 : BitVec 32 := Scalar.addi v5 c6_i32
  let v11198 : Index := Scalar.indexCast v9702
  let c0_2706 : Index := 0#32
  ![44, v11198.toNat, 0]
def k0_off1026 (v9710 : BitVec 32) (v9715 : BitVec 32) (v9795 : BitVec 32) (v9843 : BitVec 32) : Fin 3 → Nat :=
  let c199_i32_2342 : BitVec 32 := 199#32
  let c0_i32_2341 : BitVec 32 := 0#32
  let v9716 : BitVec 32 := Scalar.maxsi c0_i32_2341 v9715
  let v9717 : BitVec 32 := Scalar.minsi c199_i32_2342 v9716
  let v9796 : BitVec 32 := Scalar.addi v9717 v9795
  let v11203 : Index := Scalar.indexCast v9796
  let c199_i32_2339 : BitVec 32 := 199#32
  let c0_i32_2338 : BitVec 32 := 0#32
  let v9711 : BitVec 32 := Scalar.maxsi c0_i32_2338 v9710
  let v9712 : BitVec 32 := Scalar.minsi c199_i32_2339 v9711
  let v9844 : BitVec 32 := Scalar.addi v9712 v9843
  let c3_i32_2406 : BitVec 32 := 3#32
  let v9847 : BitVec 32 := Scalar.shrsi v9844 c3_i32_2406
  let c3_i32_2407 : BitVec 32 := 3#32
  let v9848 : BitVec 32 := Scalar.shli v9847 c3_i32_2407
  let v9849 : BitVec 32 := v9848
  let v11204 : Index := Scalar.indexCast v9849
  let c0_2708 : Index := 0#32
  ![v11203.toNat, v11204.toNat, 0]
def k0_off1027 (v9710 : BitVec 32) (v9715 : BitVec 32) (v9725 : BitVec 32) (v9795 : BitVec 32) (v9843 : BitVec 32) : Fin 3 → Nat :=
  let c199_i32_2342 : BitVec 32 := 199#32
  let c0_i32_2341 : BitVec 32 := 0#32
  let v9716 : BitVec 32 := Scalar.maxsi c0_i32_2341 v9715
  let v9717 : BitVec 32 := Scalar.minsi c199_i32_2342 v9716
  let v9796 : BitVec 32 := Scalar.addi v9717 v9795
  let c1_i32_2380 : BitVec 32 := 1#32
  let v9797 : BitVec 32 := Scalar.addi v9796 c1_i32_2380
  let c199_i32_2348 : BitVec 32 := 199#32
  let c0_i32_2347 : BitVec 32 := 0#32
  let v9726 : BitVec 32 := Scalar.maxsi c0_i32_2347 v9725
  let v9727 : BitVec 32 := Scalar.minsi c199_i32_2348 v9726
  let v9798 : BitVec 32 := Scalar.minsi v9797 v9727
  let v11207 : Index := Scalar.indexCast v9798
  let c199_i32_2339 : BitVec 32 := 199#32
  let c0_i32_2338 : BitVec 32 := 0#32
  let v9711 : BitVec 32 := Scalar.maxsi c0_i32_2338 v9710
  let v9712 : BitVec 32 := Scalar.minsi c199_i32_2339 v9711
  let v9844 : BitVec 32 := Scalar.addi v9712 v9843
  let c3_i32_2406 : BitVec 32 := 3#32
  let v9847 : BitVec 32 := Scalar.shrsi v9844 c3_i32_2406
  let c3_i32_2407 : BitVec 32 := 3#32
  let v9848 : BitVec 32 := Scalar.shli v9847 c3_i32_2407
  let v9849 : BitVec 32 := v9848
  let v11208 : Index := Scalar.indexCast v9849
  let c0_2709 : Index := 0#32
  ![v11207.toNat, v11208.toNat, 0]

def k0_chk46 (v9710 : BitVec 32) (v9715 : BitVec 32) (v9725 : BitVec 32) (v9741 : BitVec 32) (v9750 : BitVec 32) (v9759 : BitVec 32) (v9768 : BitVec 32) (v9777 : BitVec 32) (v9786 : BitVec 32) (v9795 : BitVec 32) (v9843 : BitVec 32) : Prop :=
  (8 ∣ (k0_mult47 v9710 v9843).toNat) ∧
  (∀ a, (k0_off900 v9710 v9715 v9741 v9843) a + S1x16x256.size a ≤ S200x216x256.size a) ∧
  (∀ a, (k0_off901 v9710 v9715 v9725 v9741 v9843) a + S1x16x256.size a ≤ S200x216x256.size a) ∧
  (∀ a, (k0_off921 v9710 v9715 v9750 v9843) a + S1x16x256.size a ≤ S200x216x256.size a) ∧
  (∀ a, (k0_off922 v9710 v9715 v9725 v9750 v9843) a + S1x16x256.size a ≤ S200x216x256.size a) ∧
  (∀ a, (k0_off942 v9710 v9715 v9759 v9843) a + S1x16x256.size a ≤ S200x216x256.size a) ∧
  (∀ a, (k0_off943 v9710 v9715 v9725 v9759 v9843) a + S1x16x256.size a ≤ S200x216x256.size a) ∧
  (∀ a, (k0_off963 v9710 v9715 v9768 v9843) a + S1x16x256.size a ≤ S200x216x256.size a) ∧
  (∀ a, (k0_off964 v9710 v9715 v9725 v9768 v9843) a + S1x16x256.size a ≤ S200x216x256.size a) ∧
  (∀ a, (k0_off984 v9710 v9715 v9777 v9843) a + S1x16x256.size a ≤ S200x216x256.size a) ∧
  (∀ a, (k0_off985 v9710 v9715 v9725 v9777 v9843) a + S1x16x256.size a ≤ S200x216x256.size a) ∧
  (∀ a, (k0_off1005 v9710 v9715 v9786 v9843) a + S1x16x256.size a ≤ S200x216x256.size a) ∧
  (∀ a, (k0_off1006 v9710 v9715 v9725 v9786 v9843) a + S1x16x256.size a ≤ S200x216x256.size a) ∧
  (∀ a, (k0_off1026 v9710 v9715 v9795 v9843) a + S1x16x256.size a ≤ S200x216x256.size a) ∧
  (∀ a, (k0_off1027 v9710 v9715 v9725 v9795 v9843) a + S1x16x256.size a ≤ S200x216x256.size a)
theorem k0_mult47_dvd : ∀ (v9710 : BitVec 32) (v9715 : BitVec 32) (v9725 : BitVec 32) (v9741 : BitVec 32) (v9750 : BitVec 32) (v9759 : BitVec 32) (v9768 : BitVec 32) (v9777 : BitVec 32) (v9786 : BitVec 32) (v9795 : BitVec 32) (v9843 : BitVec 32) (k0_hw46 : k0_chk46 v9710 v9715 v9725 v9741 v9750 v9759 v9768 v9777 v9786 v9795 v9843), 8 ∣ (k0_mult47 v9710 v9843).toNat := fun v9710 v9715 v9725 v9741 v9750 v9759 v9768 v9777 v9786 v9795 v9843 k0_hw46 => k0_hw46.1
theorem k0_off900_inb : ∀ (v9710 : BitVec 32) (v9715 : BitVec 32) (v9725 : BitVec 32) (v9741 : BitVec 32) (v9750 : BitVec 32) (v9759 : BitVec 32) (v9768 : BitVec 32) (v9777 : BitVec 32) (v9786 : BitVec 32) (v9795 : BitVec 32) (v9843 : BitVec 32) (k0_hw46 : k0_chk46 v9710 v9715 v9725 v9741 v9750 v9759 v9768 v9777 v9786 v9795 v9843), ∀ a, (k0_off900 v9710 v9715 v9741 v9843) a + S1x16x256.size a ≤ S200x216x256.size a := fun v9710 v9715 v9725 v9741 v9750 v9759 v9768 v9777 v9786 v9795 v9843 k0_hw46 => k0_hw46.2.1
theorem k0_off901_inb : ∀ (v9710 : BitVec 32) (v9715 : BitVec 32) (v9725 : BitVec 32) (v9741 : BitVec 32) (v9750 : BitVec 32) (v9759 : BitVec 32) (v9768 : BitVec 32) (v9777 : BitVec 32) (v9786 : BitVec 32) (v9795 : BitVec 32) (v9843 : BitVec 32) (k0_hw46 : k0_chk46 v9710 v9715 v9725 v9741 v9750 v9759 v9768 v9777 v9786 v9795 v9843), ∀ a, (k0_off901 v9710 v9715 v9725 v9741 v9843) a + S1x16x256.size a ≤ S200x216x256.size a := fun v9710 v9715 v9725 v9741 v9750 v9759 v9768 v9777 v9786 v9795 v9843 k0_hw46 => k0_hw46.2.2.1
theorem k0_off921_inb : ∀ (v9710 : BitVec 32) (v9715 : BitVec 32) (v9725 : BitVec 32) (v9741 : BitVec 32) (v9750 : BitVec 32) (v9759 : BitVec 32) (v9768 : BitVec 32) (v9777 : BitVec 32) (v9786 : BitVec 32) (v9795 : BitVec 32) (v9843 : BitVec 32) (k0_hw46 : k0_chk46 v9710 v9715 v9725 v9741 v9750 v9759 v9768 v9777 v9786 v9795 v9843), ∀ a, (k0_off921 v9710 v9715 v9750 v9843) a + S1x16x256.size a ≤ S200x216x256.size a := fun v9710 v9715 v9725 v9741 v9750 v9759 v9768 v9777 v9786 v9795 v9843 k0_hw46 => k0_hw46.2.2.2.1
theorem k0_off922_inb : ∀ (v9710 : BitVec 32) (v9715 : BitVec 32) (v9725 : BitVec 32) (v9741 : BitVec 32) (v9750 : BitVec 32) (v9759 : BitVec 32) (v9768 : BitVec 32) (v9777 : BitVec 32) (v9786 : BitVec 32) (v9795 : BitVec 32) (v9843 : BitVec 32) (k0_hw46 : k0_chk46 v9710 v9715 v9725 v9741 v9750 v9759 v9768 v9777 v9786 v9795 v9843), ∀ a, (k0_off922 v9710 v9715 v9725 v9750 v9843) a + S1x16x256.size a ≤ S200x216x256.size a := fun v9710 v9715 v9725 v9741 v9750 v9759 v9768 v9777 v9786 v9795 v9843 k0_hw46 => k0_hw46.2.2.2.2.1
theorem k0_off942_inb : ∀ (v9710 : BitVec 32) (v9715 : BitVec 32) (v9725 : BitVec 32) (v9741 : BitVec 32) (v9750 : BitVec 32) (v9759 : BitVec 32) (v9768 : BitVec 32) (v9777 : BitVec 32) (v9786 : BitVec 32) (v9795 : BitVec 32) (v9843 : BitVec 32) (k0_hw46 : k0_chk46 v9710 v9715 v9725 v9741 v9750 v9759 v9768 v9777 v9786 v9795 v9843), ∀ a, (k0_off942 v9710 v9715 v9759 v9843) a + S1x16x256.size a ≤ S200x216x256.size a := fun v9710 v9715 v9725 v9741 v9750 v9759 v9768 v9777 v9786 v9795 v9843 k0_hw46 => k0_hw46.2.2.2.2.2.1
theorem k0_off943_inb : ∀ (v9710 : BitVec 32) (v9715 : BitVec 32) (v9725 : BitVec 32) (v9741 : BitVec 32) (v9750 : BitVec 32) (v9759 : BitVec 32) (v9768 : BitVec 32) (v9777 : BitVec 32) (v9786 : BitVec 32) (v9795 : BitVec 32) (v9843 : BitVec 32) (k0_hw46 : k0_chk46 v9710 v9715 v9725 v9741 v9750 v9759 v9768 v9777 v9786 v9795 v9843), ∀ a, (k0_off943 v9710 v9715 v9725 v9759 v9843) a + S1x16x256.size a ≤ S200x216x256.size a := fun v9710 v9715 v9725 v9741 v9750 v9759 v9768 v9777 v9786 v9795 v9843 k0_hw46 => k0_hw46.2.2.2.2.2.2.1
theorem k0_off963_inb : ∀ (v9710 : BitVec 32) (v9715 : BitVec 32) (v9725 : BitVec 32) (v9741 : BitVec 32) (v9750 : BitVec 32) (v9759 : BitVec 32) (v9768 : BitVec 32) (v9777 : BitVec 32) (v9786 : BitVec 32) (v9795 : BitVec 32) (v9843 : BitVec 32) (k0_hw46 : k0_chk46 v9710 v9715 v9725 v9741 v9750 v9759 v9768 v9777 v9786 v9795 v9843), ∀ a, (k0_off963 v9710 v9715 v9768 v9843) a + S1x16x256.size a ≤ S200x216x256.size a := fun v9710 v9715 v9725 v9741 v9750 v9759 v9768 v9777 v9786 v9795 v9843 k0_hw46 => k0_hw46.2.2.2.2.2.2.2.1
theorem k0_off964_inb : ∀ (v9710 : BitVec 32) (v9715 : BitVec 32) (v9725 : BitVec 32) (v9741 : BitVec 32) (v9750 : BitVec 32) (v9759 : BitVec 32) (v9768 : BitVec 32) (v9777 : BitVec 32) (v9786 : BitVec 32) (v9795 : BitVec 32) (v9843 : BitVec 32) (k0_hw46 : k0_chk46 v9710 v9715 v9725 v9741 v9750 v9759 v9768 v9777 v9786 v9795 v9843), ∀ a, (k0_off964 v9710 v9715 v9725 v9768 v9843) a + S1x16x256.size a ≤ S200x216x256.size a := fun v9710 v9715 v9725 v9741 v9750 v9759 v9768 v9777 v9786 v9795 v9843 k0_hw46 => k0_hw46.2.2.2.2.2.2.2.2.1
theorem k0_off984_inb : ∀ (v9710 : BitVec 32) (v9715 : BitVec 32) (v9725 : BitVec 32) (v9741 : BitVec 32) (v9750 : BitVec 32) (v9759 : BitVec 32) (v9768 : BitVec 32) (v9777 : BitVec 32) (v9786 : BitVec 32) (v9795 : BitVec 32) (v9843 : BitVec 32) (k0_hw46 : k0_chk46 v9710 v9715 v9725 v9741 v9750 v9759 v9768 v9777 v9786 v9795 v9843), ∀ a, (k0_off984 v9710 v9715 v9777 v9843) a + S1x16x256.size a ≤ S200x216x256.size a := fun v9710 v9715 v9725 v9741 v9750 v9759 v9768 v9777 v9786 v9795 v9843 k0_hw46 => k0_hw46.2.2.2.2.2.2.2.2.2.1
theorem k0_off985_inb : ∀ (v9710 : BitVec 32) (v9715 : BitVec 32) (v9725 : BitVec 32) (v9741 : BitVec 32) (v9750 : BitVec 32) (v9759 : BitVec 32) (v9768 : BitVec 32) (v9777 : BitVec 32) (v9786 : BitVec 32) (v9795 : BitVec 32) (v9843 : BitVec 32) (k0_hw46 : k0_chk46 v9710 v9715 v9725 v9741 v9750 v9759 v9768 v9777 v9786 v9795 v9843), ∀ a, (k0_off985 v9710 v9715 v9725 v9777 v9843) a + S1x16x256.size a ≤ S200x216x256.size a := fun v9710 v9715 v9725 v9741 v9750 v9759 v9768 v9777 v9786 v9795 v9843 k0_hw46 => k0_hw46.2.2.2.2.2.2.2.2.2.2.1
theorem k0_off1005_inb : ∀ (v9710 : BitVec 32) (v9715 : BitVec 32) (v9725 : BitVec 32) (v9741 : BitVec 32) (v9750 : BitVec 32) (v9759 : BitVec 32) (v9768 : BitVec 32) (v9777 : BitVec 32) (v9786 : BitVec 32) (v9795 : BitVec 32) (v9843 : BitVec 32) (k0_hw46 : k0_chk46 v9710 v9715 v9725 v9741 v9750 v9759 v9768 v9777 v9786 v9795 v9843), ∀ a, (k0_off1005 v9710 v9715 v9786 v9843) a + S1x16x256.size a ≤ S200x216x256.size a := fun v9710 v9715 v9725 v9741 v9750 v9759 v9768 v9777 v9786 v9795 v9843 k0_hw46 => k0_hw46.2.2.2.2.2.2.2.2.2.2.2.1
theorem k0_off1006_inb : ∀ (v9710 : BitVec 32) (v9715 : BitVec 32) (v9725 : BitVec 32) (v9741 : BitVec 32) (v9750 : BitVec 32) (v9759 : BitVec 32) (v9768 : BitVec 32) (v9777 : BitVec 32) (v9786 : BitVec 32) (v9795 : BitVec 32) (v9843 : BitVec 32) (k0_hw46 : k0_chk46 v9710 v9715 v9725 v9741 v9750 v9759 v9768 v9777 v9786 v9795 v9843), ∀ a, (k0_off1006 v9710 v9715 v9725 v9786 v9843) a + S1x16x256.size a ≤ S200x216x256.size a := fun v9710 v9715 v9725 v9741 v9750 v9759 v9768 v9777 v9786 v9795 v9843 k0_hw46 => k0_hw46.2.2.2.2.2.2.2.2.2.2.2.2.1
theorem k0_off1026_inb : ∀ (v9710 : BitVec 32) (v9715 : BitVec 32) (v9725 : BitVec 32) (v9741 : BitVec 32) (v9750 : BitVec 32) (v9759 : BitVec 32) (v9768 : BitVec 32) (v9777 : BitVec 32) (v9786 : BitVec 32) (v9795 : BitVec 32) (v9843 : BitVec 32) (k0_hw46 : k0_chk46 v9710 v9715 v9725 v9741 v9750 v9759 v9768 v9777 v9786 v9795 v9843), ∀ a, (k0_off1026 v9710 v9715 v9795 v9843) a + S1x16x256.size a ≤ S200x216x256.size a := fun v9710 v9715 v9725 v9741 v9750 v9759 v9768 v9777 v9786 v9795 v9843 k0_hw46 => k0_hw46.2.2.2.2.2.2.2.2.2.2.2.2.2.1
theorem k0_off1027_inb : ∀ (v9710 : BitVec 32) (v9715 : BitVec 32) (v9725 : BitVec 32) (v9741 : BitVec 32) (v9750 : BitVec 32) (v9759 : BitVec 32) (v9768 : BitVec 32) (v9777 : BitVec 32) (v9786 : BitVec 32) (v9795 : BitVec 32) (v9843 : BitVec 32) (k0_hw46 : k0_chk46 v9710 v9715 v9725 v9741 v9750 v9759 v9768 v9777 v9786 v9795 v9843), ∀ a, (k0_off1027 v9710 v9715 v9725 v9795 v9843) a + S1x16x256.size a ≤ S200x216x256.size a := fun v9710 v9715 v9725 v9741 v9750 v9759 v9768 v9777 v9786 v9795 v9843 k0_hw46 => k0_hw46.2.2.2.2.2.2.2.2.2.2.2.2.2.2

def k0_off1028 (k0_t1 : Fin k0_t1_loop.trips) : Fin 3 → Nat :=
  let c45_2711 : Index := 45#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c6_i32 : BitVec 32 := 6#32
  let v9702 : BitVec 32 := Scalar.addi v5 c6_i32
  let v11227 : Index := Scalar.indexCast v9702
  let c0_2712 : Index := 0#32
  ![45, v11227.toNat, 0]
def k0_off1029 (v9710 : BitVec 32) (v9715 : BitVec 32) (v9795 : BitVec 32) (v9856 : BitVec 32) : Fin 3 → Nat :=
  let c199_i32_2342 : BitVec 32 := 199#32
  let c0_i32_2341 : BitVec 32 := 0#32
  let v9716 : BitVec 32 := Scalar.maxsi c0_i32_2341 v9715
  let v9717 : BitVec 32 := Scalar.minsi c199_i32_2342 v9716
  let v9796 : BitVec 32 := Scalar.addi v9717 v9795
  let v11232 : Index := Scalar.indexCast v9796
  let c199_i32_2339 : BitVec 32 := 199#32
  let c0_i32_2338 : BitVec 32 := 0#32
  let v9711 : BitVec 32 := Scalar.maxsi c0_i32_2338 v9710
  let v9712 : BitVec 32 := Scalar.minsi c199_i32_2339 v9711
  let v9857 : BitVec 32 := Scalar.addi v9712 v9856
  let c3_i32_2413 : BitVec 32 := 3#32
  let v9860 : BitVec 32 := Scalar.shrsi v9857 c3_i32_2413
  let c3_i32_2414 : BitVec 32 := 3#32
  let v9861 : BitVec 32 := Scalar.shli v9860 c3_i32_2414
  let v9862 : BitVec 32 := v9861
  let v11233 : Index := Scalar.indexCast v9862
  let c0_2714 : Index := 0#32
  ![v11232.toNat, v11233.toNat, 0]
def k0_off1030 (v9710 : BitVec 32) (v9715 : BitVec 32) (v9725 : BitVec 32) (v9795 : BitVec 32) (v9856 : BitVec 32) : Fin 3 → Nat :=
  let c199_i32_2342 : BitVec 32 := 199#32
  let c0_i32_2341 : BitVec 32 := 0#32
  let v9716 : BitVec 32 := Scalar.maxsi c0_i32_2341 v9715
  let v9717 : BitVec 32 := Scalar.minsi c199_i32_2342 v9716
  let v9796 : BitVec 32 := Scalar.addi v9717 v9795
  let c1_i32_2380 : BitVec 32 := 1#32
  let v9797 : BitVec 32 := Scalar.addi v9796 c1_i32_2380
  let c199_i32_2348 : BitVec 32 := 199#32
  let c0_i32_2347 : BitVec 32 := 0#32
  let v9726 : BitVec 32 := Scalar.maxsi c0_i32_2347 v9725
  let v9727 : BitVec 32 := Scalar.minsi c199_i32_2348 v9726
  let v9798 : BitVec 32 := Scalar.minsi v9797 v9727
  let v11236 : Index := Scalar.indexCast v9798
  let c199_i32_2339 : BitVec 32 := 199#32
  let c0_i32_2338 : BitVec 32 := 0#32
  let v9711 : BitVec 32 := Scalar.maxsi c0_i32_2338 v9710
  let v9712 : BitVec 32 := Scalar.minsi c199_i32_2339 v9711
  let v9857 : BitVec 32 := Scalar.addi v9712 v9856
  let c3_i32_2413 : BitVec 32 := 3#32
  let v9860 : BitVec 32 := Scalar.shrsi v9857 c3_i32_2413
  let c3_i32_2414 : BitVec 32 := 3#32
  let v9861 : BitVec 32 := Scalar.shli v9860 c3_i32_2414
  let v9862 : BitVec 32 := v9861
  let v11237 : Index := Scalar.indexCast v9862
  let c0_2715 : Index := 0#32
  ![v11236.toNat, v11237.toNat, 0]

def k0_chk47 (v9710 : BitVec 32) (v9715 : BitVec 32) (v9725 : BitVec 32) (v9741 : BitVec 32) (v9750 : BitVec 32) (v9759 : BitVec 32) (v9768 : BitVec 32) (v9777 : BitVec 32) (v9786 : BitVec 32) (v9795 : BitVec 32) (v9856 : BitVec 32) : Prop :=
  (8 ∣ (k0_mult48 v9710 v9856).toNat) ∧
  (∀ a, (k0_off903 v9710 v9715 v9741 v9856) a + S1x16x256.size a ≤ S200x216x256.size a) ∧
  (∀ a, (k0_off904 v9710 v9715 v9725 v9741 v9856) a + S1x16x256.size a ≤ S200x216x256.size a) ∧
  (∀ a, (k0_off924 v9710 v9715 v9750 v9856) a + S1x16x256.size a ≤ S200x216x256.size a) ∧
  (∀ a, (k0_off925 v9710 v9715 v9725 v9750 v9856) a + S1x16x256.size a ≤ S200x216x256.size a) ∧
  (∀ a, (k0_off945 v9710 v9715 v9759 v9856) a + S1x16x256.size a ≤ S200x216x256.size a) ∧
  (∀ a, (k0_off946 v9710 v9715 v9725 v9759 v9856) a + S1x16x256.size a ≤ S200x216x256.size a) ∧
  (∀ a, (k0_off966 v9710 v9715 v9768 v9856) a + S1x16x256.size a ≤ S200x216x256.size a) ∧
  (∀ a, (k0_off967 v9710 v9715 v9725 v9768 v9856) a + S1x16x256.size a ≤ S200x216x256.size a) ∧
  (∀ a, (k0_off987 v9710 v9715 v9777 v9856) a + S1x16x256.size a ≤ S200x216x256.size a) ∧
  (∀ a, (k0_off988 v9710 v9715 v9725 v9777 v9856) a + S1x16x256.size a ≤ S200x216x256.size a) ∧
  (∀ a, (k0_off1008 v9710 v9715 v9786 v9856) a + S1x16x256.size a ≤ S200x216x256.size a) ∧
  (∀ a, (k0_off1009 v9710 v9715 v9725 v9786 v9856) a + S1x16x256.size a ≤ S200x216x256.size a) ∧
  (∀ a, (k0_off1029 v9710 v9715 v9795 v9856) a + S1x16x256.size a ≤ S200x216x256.size a) ∧
  (∀ a, (k0_off1030 v9710 v9715 v9725 v9795 v9856) a + S1x16x256.size a ≤ S200x216x256.size a)
theorem k0_mult48_dvd : ∀ (v9710 : BitVec 32) (v9715 : BitVec 32) (v9725 : BitVec 32) (v9741 : BitVec 32) (v9750 : BitVec 32) (v9759 : BitVec 32) (v9768 : BitVec 32) (v9777 : BitVec 32) (v9786 : BitVec 32) (v9795 : BitVec 32) (v9856 : BitVec 32) (k0_hw47 : k0_chk47 v9710 v9715 v9725 v9741 v9750 v9759 v9768 v9777 v9786 v9795 v9856), 8 ∣ (k0_mult48 v9710 v9856).toNat := fun v9710 v9715 v9725 v9741 v9750 v9759 v9768 v9777 v9786 v9795 v9856 k0_hw47 => k0_hw47.1
theorem k0_off903_inb : ∀ (v9710 : BitVec 32) (v9715 : BitVec 32) (v9725 : BitVec 32) (v9741 : BitVec 32) (v9750 : BitVec 32) (v9759 : BitVec 32) (v9768 : BitVec 32) (v9777 : BitVec 32) (v9786 : BitVec 32) (v9795 : BitVec 32) (v9856 : BitVec 32) (k0_hw47 : k0_chk47 v9710 v9715 v9725 v9741 v9750 v9759 v9768 v9777 v9786 v9795 v9856), ∀ a, (k0_off903 v9710 v9715 v9741 v9856) a + S1x16x256.size a ≤ S200x216x256.size a := fun v9710 v9715 v9725 v9741 v9750 v9759 v9768 v9777 v9786 v9795 v9856 k0_hw47 => k0_hw47.2.1
theorem k0_off904_inb : ∀ (v9710 : BitVec 32) (v9715 : BitVec 32) (v9725 : BitVec 32) (v9741 : BitVec 32) (v9750 : BitVec 32) (v9759 : BitVec 32) (v9768 : BitVec 32) (v9777 : BitVec 32) (v9786 : BitVec 32) (v9795 : BitVec 32) (v9856 : BitVec 32) (k0_hw47 : k0_chk47 v9710 v9715 v9725 v9741 v9750 v9759 v9768 v9777 v9786 v9795 v9856), ∀ a, (k0_off904 v9710 v9715 v9725 v9741 v9856) a + S1x16x256.size a ≤ S200x216x256.size a := fun v9710 v9715 v9725 v9741 v9750 v9759 v9768 v9777 v9786 v9795 v9856 k0_hw47 => k0_hw47.2.2.1
theorem k0_off924_inb : ∀ (v9710 : BitVec 32) (v9715 : BitVec 32) (v9725 : BitVec 32) (v9741 : BitVec 32) (v9750 : BitVec 32) (v9759 : BitVec 32) (v9768 : BitVec 32) (v9777 : BitVec 32) (v9786 : BitVec 32) (v9795 : BitVec 32) (v9856 : BitVec 32) (k0_hw47 : k0_chk47 v9710 v9715 v9725 v9741 v9750 v9759 v9768 v9777 v9786 v9795 v9856), ∀ a, (k0_off924 v9710 v9715 v9750 v9856) a + S1x16x256.size a ≤ S200x216x256.size a := fun v9710 v9715 v9725 v9741 v9750 v9759 v9768 v9777 v9786 v9795 v9856 k0_hw47 => k0_hw47.2.2.2.1
theorem k0_off925_inb : ∀ (v9710 : BitVec 32) (v9715 : BitVec 32) (v9725 : BitVec 32) (v9741 : BitVec 32) (v9750 : BitVec 32) (v9759 : BitVec 32) (v9768 : BitVec 32) (v9777 : BitVec 32) (v9786 : BitVec 32) (v9795 : BitVec 32) (v9856 : BitVec 32) (k0_hw47 : k0_chk47 v9710 v9715 v9725 v9741 v9750 v9759 v9768 v9777 v9786 v9795 v9856), ∀ a, (k0_off925 v9710 v9715 v9725 v9750 v9856) a + S1x16x256.size a ≤ S200x216x256.size a := fun v9710 v9715 v9725 v9741 v9750 v9759 v9768 v9777 v9786 v9795 v9856 k0_hw47 => k0_hw47.2.2.2.2.1
theorem k0_off945_inb : ∀ (v9710 : BitVec 32) (v9715 : BitVec 32) (v9725 : BitVec 32) (v9741 : BitVec 32) (v9750 : BitVec 32) (v9759 : BitVec 32) (v9768 : BitVec 32) (v9777 : BitVec 32) (v9786 : BitVec 32) (v9795 : BitVec 32) (v9856 : BitVec 32) (k0_hw47 : k0_chk47 v9710 v9715 v9725 v9741 v9750 v9759 v9768 v9777 v9786 v9795 v9856), ∀ a, (k0_off945 v9710 v9715 v9759 v9856) a + S1x16x256.size a ≤ S200x216x256.size a := fun v9710 v9715 v9725 v9741 v9750 v9759 v9768 v9777 v9786 v9795 v9856 k0_hw47 => k0_hw47.2.2.2.2.2.1
theorem k0_off946_inb : ∀ (v9710 : BitVec 32) (v9715 : BitVec 32) (v9725 : BitVec 32) (v9741 : BitVec 32) (v9750 : BitVec 32) (v9759 : BitVec 32) (v9768 : BitVec 32) (v9777 : BitVec 32) (v9786 : BitVec 32) (v9795 : BitVec 32) (v9856 : BitVec 32) (k0_hw47 : k0_chk47 v9710 v9715 v9725 v9741 v9750 v9759 v9768 v9777 v9786 v9795 v9856), ∀ a, (k0_off946 v9710 v9715 v9725 v9759 v9856) a + S1x16x256.size a ≤ S200x216x256.size a := fun v9710 v9715 v9725 v9741 v9750 v9759 v9768 v9777 v9786 v9795 v9856 k0_hw47 => k0_hw47.2.2.2.2.2.2.1
theorem k0_off966_inb : ∀ (v9710 : BitVec 32) (v9715 : BitVec 32) (v9725 : BitVec 32) (v9741 : BitVec 32) (v9750 : BitVec 32) (v9759 : BitVec 32) (v9768 : BitVec 32) (v9777 : BitVec 32) (v9786 : BitVec 32) (v9795 : BitVec 32) (v9856 : BitVec 32) (k0_hw47 : k0_chk47 v9710 v9715 v9725 v9741 v9750 v9759 v9768 v9777 v9786 v9795 v9856), ∀ a, (k0_off966 v9710 v9715 v9768 v9856) a + S1x16x256.size a ≤ S200x216x256.size a := fun v9710 v9715 v9725 v9741 v9750 v9759 v9768 v9777 v9786 v9795 v9856 k0_hw47 => k0_hw47.2.2.2.2.2.2.2.1
theorem k0_off967_inb : ∀ (v9710 : BitVec 32) (v9715 : BitVec 32) (v9725 : BitVec 32) (v9741 : BitVec 32) (v9750 : BitVec 32) (v9759 : BitVec 32) (v9768 : BitVec 32) (v9777 : BitVec 32) (v9786 : BitVec 32) (v9795 : BitVec 32) (v9856 : BitVec 32) (k0_hw47 : k0_chk47 v9710 v9715 v9725 v9741 v9750 v9759 v9768 v9777 v9786 v9795 v9856), ∀ a, (k0_off967 v9710 v9715 v9725 v9768 v9856) a + S1x16x256.size a ≤ S200x216x256.size a := fun v9710 v9715 v9725 v9741 v9750 v9759 v9768 v9777 v9786 v9795 v9856 k0_hw47 => k0_hw47.2.2.2.2.2.2.2.2.1
theorem k0_off987_inb : ∀ (v9710 : BitVec 32) (v9715 : BitVec 32) (v9725 : BitVec 32) (v9741 : BitVec 32) (v9750 : BitVec 32) (v9759 : BitVec 32) (v9768 : BitVec 32) (v9777 : BitVec 32) (v9786 : BitVec 32) (v9795 : BitVec 32) (v9856 : BitVec 32) (k0_hw47 : k0_chk47 v9710 v9715 v9725 v9741 v9750 v9759 v9768 v9777 v9786 v9795 v9856), ∀ a, (k0_off987 v9710 v9715 v9777 v9856) a + S1x16x256.size a ≤ S200x216x256.size a := fun v9710 v9715 v9725 v9741 v9750 v9759 v9768 v9777 v9786 v9795 v9856 k0_hw47 => k0_hw47.2.2.2.2.2.2.2.2.2.1
theorem k0_off988_inb : ∀ (v9710 : BitVec 32) (v9715 : BitVec 32) (v9725 : BitVec 32) (v9741 : BitVec 32) (v9750 : BitVec 32) (v9759 : BitVec 32) (v9768 : BitVec 32) (v9777 : BitVec 32) (v9786 : BitVec 32) (v9795 : BitVec 32) (v9856 : BitVec 32) (k0_hw47 : k0_chk47 v9710 v9715 v9725 v9741 v9750 v9759 v9768 v9777 v9786 v9795 v9856), ∀ a, (k0_off988 v9710 v9715 v9725 v9777 v9856) a + S1x16x256.size a ≤ S200x216x256.size a := fun v9710 v9715 v9725 v9741 v9750 v9759 v9768 v9777 v9786 v9795 v9856 k0_hw47 => k0_hw47.2.2.2.2.2.2.2.2.2.2.1
theorem k0_off1008_inb : ∀ (v9710 : BitVec 32) (v9715 : BitVec 32) (v9725 : BitVec 32) (v9741 : BitVec 32) (v9750 : BitVec 32) (v9759 : BitVec 32) (v9768 : BitVec 32) (v9777 : BitVec 32) (v9786 : BitVec 32) (v9795 : BitVec 32) (v9856 : BitVec 32) (k0_hw47 : k0_chk47 v9710 v9715 v9725 v9741 v9750 v9759 v9768 v9777 v9786 v9795 v9856), ∀ a, (k0_off1008 v9710 v9715 v9786 v9856) a + S1x16x256.size a ≤ S200x216x256.size a := fun v9710 v9715 v9725 v9741 v9750 v9759 v9768 v9777 v9786 v9795 v9856 k0_hw47 => k0_hw47.2.2.2.2.2.2.2.2.2.2.2.1
theorem k0_off1009_inb : ∀ (v9710 : BitVec 32) (v9715 : BitVec 32) (v9725 : BitVec 32) (v9741 : BitVec 32) (v9750 : BitVec 32) (v9759 : BitVec 32) (v9768 : BitVec 32) (v9777 : BitVec 32) (v9786 : BitVec 32) (v9795 : BitVec 32) (v9856 : BitVec 32) (k0_hw47 : k0_chk47 v9710 v9715 v9725 v9741 v9750 v9759 v9768 v9777 v9786 v9795 v9856), ∀ a, (k0_off1009 v9710 v9715 v9725 v9786 v9856) a + S1x16x256.size a ≤ S200x216x256.size a := fun v9710 v9715 v9725 v9741 v9750 v9759 v9768 v9777 v9786 v9795 v9856 k0_hw47 => k0_hw47.2.2.2.2.2.2.2.2.2.2.2.2.1
theorem k0_off1029_inb : ∀ (v9710 : BitVec 32) (v9715 : BitVec 32) (v9725 : BitVec 32) (v9741 : BitVec 32) (v9750 : BitVec 32) (v9759 : BitVec 32) (v9768 : BitVec 32) (v9777 : BitVec 32) (v9786 : BitVec 32) (v9795 : BitVec 32) (v9856 : BitVec 32) (k0_hw47 : k0_chk47 v9710 v9715 v9725 v9741 v9750 v9759 v9768 v9777 v9786 v9795 v9856), ∀ a, (k0_off1029 v9710 v9715 v9795 v9856) a + S1x16x256.size a ≤ S200x216x256.size a := fun v9710 v9715 v9725 v9741 v9750 v9759 v9768 v9777 v9786 v9795 v9856 k0_hw47 => k0_hw47.2.2.2.2.2.2.2.2.2.2.2.2.2.1
theorem k0_off1030_inb : ∀ (v9710 : BitVec 32) (v9715 : BitVec 32) (v9725 : BitVec 32) (v9741 : BitVec 32) (v9750 : BitVec 32) (v9759 : BitVec 32) (v9768 : BitVec 32) (v9777 : BitVec 32) (v9786 : BitVec 32) (v9795 : BitVec 32) (v9856 : BitVec 32) (k0_hw47 : k0_chk47 v9710 v9715 v9725 v9741 v9750 v9759 v9768 v9777 v9786 v9795 v9856), ∀ a, (k0_off1030 v9710 v9715 v9725 v9795 v9856) a + S1x16x256.size a ≤ S200x216x256.size a := fun v9710 v9715 v9725 v9741 v9750 v9759 v9768 v9777 v9786 v9795 v9856 k0_hw47 => k0_hw47.2.2.2.2.2.2.2.2.2.2.2.2.2.2

def k0_off1031 (k0_t1 : Fin k0_t1_loop.trips) : Fin 3 → Nat :=
  let c46_2717 : Index := 46#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c6_i32 : BitVec 32 := 6#32
  let v9702 : BitVec 32 := Scalar.addi v5 c6_i32
  let v11256 : Index := Scalar.indexCast v9702
  let c0_2718 : Index := 0#32
  ![46, v11256.toNat, 0]
def k0_off1032 (v9710 : BitVec 32) (v9715 : BitVec 32) (v9795 : BitVec 32) (v9869 : BitVec 32) : Fin 3 → Nat :=
  let c199_i32_2342 : BitVec 32 := 199#32
  let c0_i32_2341 : BitVec 32 := 0#32
  let v9716 : BitVec 32 := Scalar.maxsi c0_i32_2341 v9715
  let v9717 : BitVec 32 := Scalar.minsi c199_i32_2342 v9716
  let v9796 : BitVec 32 := Scalar.addi v9717 v9795
  let v11261 : Index := Scalar.indexCast v9796
  let c199_i32_2339 : BitVec 32 := 199#32
  let c0_i32_2338 : BitVec 32 := 0#32
  let v9711 : BitVec 32 := Scalar.maxsi c0_i32_2338 v9710
  let v9712 : BitVec 32 := Scalar.minsi c199_i32_2339 v9711
  let v9870 : BitVec 32 := Scalar.addi v9712 v9869
  let c3_i32_2420 : BitVec 32 := 3#32
  let v9873 : BitVec 32 := Scalar.shrsi v9870 c3_i32_2420
  let c3_i32_2421 : BitVec 32 := 3#32
  let v9874 : BitVec 32 := Scalar.shli v9873 c3_i32_2421
  let v9875 : BitVec 32 := v9874
  let v11262 : Index := Scalar.indexCast v9875
  let c0_2720 : Index := 0#32
  ![v11261.toNat, v11262.toNat, 0]
def k0_off1033 (v9710 : BitVec 32) (v9715 : BitVec 32) (v9725 : BitVec 32) (v9795 : BitVec 32) (v9869 : BitVec 32) : Fin 3 → Nat :=
  let c199_i32_2342 : BitVec 32 := 199#32
  let c0_i32_2341 : BitVec 32 := 0#32
  let v9716 : BitVec 32 := Scalar.maxsi c0_i32_2341 v9715
  let v9717 : BitVec 32 := Scalar.minsi c199_i32_2342 v9716
  let v9796 : BitVec 32 := Scalar.addi v9717 v9795
  let c1_i32_2380 : BitVec 32 := 1#32
  let v9797 : BitVec 32 := Scalar.addi v9796 c1_i32_2380
  let c199_i32_2348 : BitVec 32 := 199#32
  let c0_i32_2347 : BitVec 32 := 0#32
  let v9726 : BitVec 32 := Scalar.maxsi c0_i32_2347 v9725
  let v9727 : BitVec 32 := Scalar.minsi c199_i32_2348 v9726
  let v9798 : BitVec 32 := Scalar.minsi v9797 v9727
  let v11265 : Index := Scalar.indexCast v9798
  let c199_i32_2339 : BitVec 32 := 199#32
  let c0_i32_2338 : BitVec 32 := 0#32
  let v9711 : BitVec 32 := Scalar.maxsi c0_i32_2338 v9710
  let v9712 : BitVec 32 := Scalar.minsi c199_i32_2339 v9711
  let v9870 : BitVec 32 := Scalar.addi v9712 v9869
  let c3_i32_2420 : BitVec 32 := 3#32
  let v9873 : BitVec 32 := Scalar.shrsi v9870 c3_i32_2420
  let c3_i32_2421 : BitVec 32 := 3#32
  let v9874 : BitVec 32 := Scalar.shli v9873 c3_i32_2421
  let v9875 : BitVec 32 := v9874
  let v11266 : Index := Scalar.indexCast v9875
  let c0_2721 : Index := 0#32
  ![v11265.toNat, v11266.toNat, 0]

def k0_chk48 (v9710 : BitVec 32) (v9715 : BitVec 32) (v9725 : BitVec 32) (v9741 : BitVec 32) (v9750 : BitVec 32) (v9759 : BitVec 32) (v9768 : BitVec 32) (v9777 : BitVec 32) (v9786 : BitVec 32) (v9795 : BitVec 32) (v9869 : BitVec 32) : Prop :=
  (8 ∣ (k0_mult49 v9710 v9869).toNat) ∧
  (∀ a, (k0_off906 v9710 v9715 v9741 v9869) a + S1x16x256.size a ≤ S200x216x256.size a) ∧
  (∀ a, (k0_off907 v9710 v9715 v9725 v9741 v9869) a + S1x16x256.size a ≤ S200x216x256.size a) ∧
  (∀ a, (k0_off927 v9710 v9715 v9750 v9869) a + S1x16x256.size a ≤ S200x216x256.size a) ∧
  (∀ a, (k0_off928 v9710 v9715 v9725 v9750 v9869) a + S1x16x256.size a ≤ S200x216x256.size a) ∧
  (∀ a, (k0_off948 v9710 v9715 v9759 v9869) a + S1x16x256.size a ≤ S200x216x256.size a) ∧
  (∀ a, (k0_off949 v9710 v9715 v9725 v9759 v9869) a + S1x16x256.size a ≤ S200x216x256.size a) ∧
  (∀ a, (k0_off969 v9710 v9715 v9768 v9869) a + S1x16x256.size a ≤ S200x216x256.size a) ∧
  (∀ a, (k0_off970 v9710 v9715 v9725 v9768 v9869) a + S1x16x256.size a ≤ S200x216x256.size a) ∧
  (∀ a, (k0_off990 v9710 v9715 v9777 v9869) a + S1x16x256.size a ≤ S200x216x256.size a) ∧
  (∀ a, (k0_off991 v9710 v9715 v9725 v9777 v9869) a + S1x16x256.size a ≤ S200x216x256.size a) ∧
  (∀ a, (k0_off1011 v9710 v9715 v9786 v9869) a + S1x16x256.size a ≤ S200x216x256.size a) ∧
  (∀ a, (k0_off1012 v9710 v9715 v9725 v9786 v9869) a + S1x16x256.size a ≤ S200x216x256.size a) ∧
  (∀ a, (k0_off1032 v9710 v9715 v9795 v9869) a + S1x16x256.size a ≤ S200x216x256.size a) ∧
  (∀ a, (k0_off1033 v9710 v9715 v9725 v9795 v9869) a + S1x16x256.size a ≤ S200x216x256.size a)
theorem k0_mult49_dvd : ∀ (v9710 : BitVec 32) (v9715 : BitVec 32) (v9725 : BitVec 32) (v9741 : BitVec 32) (v9750 : BitVec 32) (v9759 : BitVec 32) (v9768 : BitVec 32) (v9777 : BitVec 32) (v9786 : BitVec 32) (v9795 : BitVec 32) (v9869 : BitVec 32) (k0_hw48 : k0_chk48 v9710 v9715 v9725 v9741 v9750 v9759 v9768 v9777 v9786 v9795 v9869), 8 ∣ (k0_mult49 v9710 v9869).toNat := fun v9710 v9715 v9725 v9741 v9750 v9759 v9768 v9777 v9786 v9795 v9869 k0_hw48 => k0_hw48.1
theorem k0_off906_inb : ∀ (v9710 : BitVec 32) (v9715 : BitVec 32) (v9725 : BitVec 32) (v9741 : BitVec 32) (v9750 : BitVec 32) (v9759 : BitVec 32) (v9768 : BitVec 32) (v9777 : BitVec 32) (v9786 : BitVec 32) (v9795 : BitVec 32) (v9869 : BitVec 32) (k0_hw48 : k0_chk48 v9710 v9715 v9725 v9741 v9750 v9759 v9768 v9777 v9786 v9795 v9869), ∀ a, (k0_off906 v9710 v9715 v9741 v9869) a + S1x16x256.size a ≤ S200x216x256.size a := fun v9710 v9715 v9725 v9741 v9750 v9759 v9768 v9777 v9786 v9795 v9869 k0_hw48 => k0_hw48.2.1
theorem k0_off907_inb : ∀ (v9710 : BitVec 32) (v9715 : BitVec 32) (v9725 : BitVec 32) (v9741 : BitVec 32) (v9750 : BitVec 32) (v9759 : BitVec 32) (v9768 : BitVec 32) (v9777 : BitVec 32) (v9786 : BitVec 32) (v9795 : BitVec 32) (v9869 : BitVec 32) (k0_hw48 : k0_chk48 v9710 v9715 v9725 v9741 v9750 v9759 v9768 v9777 v9786 v9795 v9869), ∀ a, (k0_off907 v9710 v9715 v9725 v9741 v9869) a + S1x16x256.size a ≤ S200x216x256.size a := fun v9710 v9715 v9725 v9741 v9750 v9759 v9768 v9777 v9786 v9795 v9869 k0_hw48 => k0_hw48.2.2.1
theorem k0_off927_inb : ∀ (v9710 : BitVec 32) (v9715 : BitVec 32) (v9725 : BitVec 32) (v9741 : BitVec 32) (v9750 : BitVec 32) (v9759 : BitVec 32) (v9768 : BitVec 32) (v9777 : BitVec 32) (v9786 : BitVec 32) (v9795 : BitVec 32) (v9869 : BitVec 32) (k0_hw48 : k0_chk48 v9710 v9715 v9725 v9741 v9750 v9759 v9768 v9777 v9786 v9795 v9869), ∀ a, (k0_off927 v9710 v9715 v9750 v9869) a + S1x16x256.size a ≤ S200x216x256.size a := fun v9710 v9715 v9725 v9741 v9750 v9759 v9768 v9777 v9786 v9795 v9869 k0_hw48 => k0_hw48.2.2.2.1
theorem k0_off928_inb : ∀ (v9710 : BitVec 32) (v9715 : BitVec 32) (v9725 : BitVec 32) (v9741 : BitVec 32) (v9750 : BitVec 32) (v9759 : BitVec 32) (v9768 : BitVec 32) (v9777 : BitVec 32) (v9786 : BitVec 32) (v9795 : BitVec 32) (v9869 : BitVec 32) (k0_hw48 : k0_chk48 v9710 v9715 v9725 v9741 v9750 v9759 v9768 v9777 v9786 v9795 v9869), ∀ a, (k0_off928 v9710 v9715 v9725 v9750 v9869) a + S1x16x256.size a ≤ S200x216x256.size a := fun v9710 v9715 v9725 v9741 v9750 v9759 v9768 v9777 v9786 v9795 v9869 k0_hw48 => k0_hw48.2.2.2.2.1
theorem k0_off948_inb : ∀ (v9710 : BitVec 32) (v9715 : BitVec 32) (v9725 : BitVec 32) (v9741 : BitVec 32) (v9750 : BitVec 32) (v9759 : BitVec 32) (v9768 : BitVec 32) (v9777 : BitVec 32) (v9786 : BitVec 32) (v9795 : BitVec 32) (v9869 : BitVec 32) (k0_hw48 : k0_chk48 v9710 v9715 v9725 v9741 v9750 v9759 v9768 v9777 v9786 v9795 v9869), ∀ a, (k0_off948 v9710 v9715 v9759 v9869) a + S1x16x256.size a ≤ S200x216x256.size a := fun v9710 v9715 v9725 v9741 v9750 v9759 v9768 v9777 v9786 v9795 v9869 k0_hw48 => k0_hw48.2.2.2.2.2.1
theorem k0_off949_inb : ∀ (v9710 : BitVec 32) (v9715 : BitVec 32) (v9725 : BitVec 32) (v9741 : BitVec 32) (v9750 : BitVec 32) (v9759 : BitVec 32) (v9768 : BitVec 32) (v9777 : BitVec 32) (v9786 : BitVec 32) (v9795 : BitVec 32) (v9869 : BitVec 32) (k0_hw48 : k0_chk48 v9710 v9715 v9725 v9741 v9750 v9759 v9768 v9777 v9786 v9795 v9869), ∀ a, (k0_off949 v9710 v9715 v9725 v9759 v9869) a + S1x16x256.size a ≤ S200x216x256.size a := fun v9710 v9715 v9725 v9741 v9750 v9759 v9768 v9777 v9786 v9795 v9869 k0_hw48 => k0_hw48.2.2.2.2.2.2.1
theorem k0_off969_inb : ∀ (v9710 : BitVec 32) (v9715 : BitVec 32) (v9725 : BitVec 32) (v9741 : BitVec 32) (v9750 : BitVec 32) (v9759 : BitVec 32) (v9768 : BitVec 32) (v9777 : BitVec 32) (v9786 : BitVec 32) (v9795 : BitVec 32) (v9869 : BitVec 32) (k0_hw48 : k0_chk48 v9710 v9715 v9725 v9741 v9750 v9759 v9768 v9777 v9786 v9795 v9869), ∀ a, (k0_off969 v9710 v9715 v9768 v9869) a + S1x16x256.size a ≤ S200x216x256.size a := fun v9710 v9715 v9725 v9741 v9750 v9759 v9768 v9777 v9786 v9795 v9869 k0_hw48 => k0_hw48.2.2.2.2.2.2.2.1
theorem k0_off970_inb : ∀ (v9710 : BitVec 32) (v9715 : BitVec 32) (v9725 : BitVec 32) (v9741 : BitVec 32) (v9750 : BitVec 32) (v9759 : BitVec 32) (v9768 : BitVec 32) (v9777 : BitVec 32) (v9786 : BitVec 32) (v9795 : BitVec 32) (v9869 : BitVec 32) (k0_hw48 : k0_chk48 v9710 v9715 v9725 v9741 v9750 v9759 v9768 v9777 v9786 v9795 v9869), ∀ a, (k0_off970 v9710 v9715 v9725 v9768 v9869) a + S1x16x256.size a ≤ S200x216x256.size a := fun v9710 v9715 v9725 v9741 v9750 v9759 v9768 v9777 v9786 v9795 v9869 k0_hw48 => k0_hw48.2.2.2.2.2.2.2.2.1
theorem k0_off990_inb : ∀ (v9710 : BitVec 32) (v9715 : BitVec 32) (v9725 : BitVec 32) (v9741 : BitVec 32) (v9750 : BitVec 32) (v9759 : BitVec 32) (v9768 : BitVec 32) (v9777 : BitVec 32) (v9786 : BitVec 32) (v9795 : BitVec 32) (v9869 : BitVec 32) (k0_hw48 : k0_chk48 v9710 v9715 v9725 v9741 v9750 v9759 v9768 v9777 v9786 v9795 v9869), ∀ a, (k0_off990 v9710 v9715 v9777 v9869) a + S1x16x256.size a ≤ S200x216x256.size a := fun v9710 v9715 v9725 v9741 v9750 v9759 v9768 v9777 v9786 v9795 v9869 k0_hw48 => k0_hw48.2.2.2.2.2.2.2.2.2.1
theorem k0_off991_inb : ∀ (v9710 : BitVec 32) (v9715 : BitVec 32) (v9725 : BitVec 32) (v9741 : BitVec 32) (v9750 : BitVec 32) (v9759 : BitVec 32) (v9768 : BitVec 32) (v9777 : BitVec 32) (v9786 : BitVec 32) (v9795 : BitVec 32) (v9869 : BitVec 32) (k0_hw48 : k0_chk48 v9710 v9715 v9725 v9741 v9750 v9759 v9768 v9777 v9786 v9795 v9869), ∀ a, (k0_off991 v9710 v9715 v9725 v9777 v9869) a + S1x16x256.size a ≤ S200x216x256.size a := fun v9710 v9715 v9725 v9741 v9750 v9759 v9768 v9777 v9786 v9795 v9869 k0_hw48 => k0_hw48.2.2.2.2.2.2.2.2.2.2.1
theorem k0_off1011_inb : ∀ (v9710 : BitVec 32) (v9715 : BitVec 32) (v9725 : BitVec 32) (v9741 : BitVec 32) (v9750 : BitVec 32) (v9759 : BitVec 32) (v9768 : BitVec 32) (v9777 : BitVec 32) (v9786 : BitVec 32) (v9795 : BitVec 32) (v9869 : BitVec 32) (k0_hw48 : k0_chk48 v9710 v9715 v9725 v9741 v9750 v9759 v9768 v9777 v9786 v9795 v9869), ∀ a, (k0_off1011 v9710 v9715 v9786 v9869) a + S1x16x256.size a ≤ S200x216x256.size a := fun v9710 v9715 v9725 v9741 v9750 v9759 v9768 v9777 v9786 v9795 v9869 k0_hw48 => k0_hw48.2.2.2.2.2.2.2.2.2.2.2.1
theorem k0_off1012_inb : ∀ (v9710 : BitVec 32) (v9715 : BitVec 32) (v9725 : BitVec 32) (v9741 : BitVec 32) (v9750 : BitVec 32) (v9759 : BitVec 32) (v9768 : BitVec 32) (v9777 : BitVec 32) (v9786 : BitVec 32) (v9795 : BitVec 32) (v9869 : BitVec 32) (k0_hw48 : k0_chk48 v9710 v9715 v9725 v9741 v9750 v9759 v9768 v9777 v9786 v9795 v9869), ∀ a, (k0_off1012 v9710 v9715 v9725 v9786 v9869) a + S1x16x256.size a ≤ S200x216x256.size a := fun v9710 v9715 v9725 v9741 v9750 v9759 v9768 v9777 v9786 v9795 v9869 k0_hw48 => k0_hw48.2.2.2.2.2.2.2.2.2.2.2.2.1
theorem k0_off1032_inb : ∀ (v9710 : BitVec 32) (v9715 : BitVec 32) (v9725 : BitVec 32) (v9741 : BitVec 32) (v9750 : BitVec 32) (v9759 : BitVec 32) (v9768 : BitVec 32) (v9777 : BitVec 32) (v9786 : BitVec 32) (v9795 : BitVec 32) (v9869 : BitVec 32) (k0_hw48 : k0_chk48 v9710 v9715 v9725 v9741 v9750 v9759 v9768 v9777 v9786 v9795 v9869), ∀ a, (k0_off1032 v9710 v9715 v9795 v9869) a + S1x16x256.size a ≤ S200x216x256.size a := fun v9710 v9715 v9725 v9741 v9750 v9759 v9768 v9777 v9786 v9795 v9869 k0_hw48 => k0_hw48.2.2.2.2.2.2.2.2.2.2.2.2.2.1
theorem k0_off1033_inb : ∀ (v9710 : BitVec 32) (v9715 : BitVec 32) (v9725 : BitVec 32) (v9741 : BitVec 32) (v9750 : BitVec 32) (v9759 : BitVec 32) (v9768 : BitVec 32) (v9777 : BitVec 32) (v9786 : BitVec 32) (v9795 : BitVec 32) (v9869 : BitVec 32) (k0_hw48 : k0_chk48 v9710 v9715 v9725 v9741 v9750 v9759 v9768 v9777 v9786 v9795 v9869), ∀ a, (k0_off1033 v9710 v9715 v9725 v9795 v9869) a + S1x16x256.size a ≤ S200x216x256.size a := fun v9710 v9715 v9725 v9741 v9750 v9759 v9768 v9777 v9786 v9795 v9869 k0_hw48 => k0_hw48.2.2.2.2.2.2.2.2.2.2.2.2.2.2

def k0_off1034 (k0_t1 : Fin k0_t1_loop.trips) : Fin 3 → Nat :=
  let c47_2723 : Index := 47#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c6_i32 : BitVec 32 := 6#32
  let v9702 : BitVec 32 := Scalar.addi v5 c6_i32
  let v11285 : Index := Scalar.indexCast v9702
  let c0_2724 : Index := 0#32
  ![47, v11285.toNat, 0]
def k0_off1035 (v9710 : BitVec 32) (v9715 : BitVec 32) (v9795 : BitVec 32) (v9882 : BitVec 32) : Fin 3 → Nat :=
  let c199_i32_2342 : BitVec 32 := 199#32
  let c0_i32_2341 : BitVec 32 := 0#32
  let v9716 : BitVec 32 := Scalar.maxsi c0_i32_2341 v9715
  let v9717 : BitVec 32 := Scalar.minsi c199_i32_2342 v9716
  let v9796 : BitVec 32 := Scalar.addi v9717 v9795
  let v11290 : Index := Scalar.indexCast v9796
  let c199_i32_2339 : BitVec 32 := 199#32
  let c0_i32_2338 : BitVec 32 := 0#32
  let v9711 : BitVec 32 := Scalar.maxsi c0_i32_2338 v9710
  let v9712 : BitVec 32 := Scalar.minsi c199_i32_2339 v9711
  let v9883 : BitVec 32 := Scalar.addi v9712 v9882
  let c3_i32_2427 : BitVec 32 := 3#32
  let v9886 : BitVec 32 := Scalar.shrsi v9883 c3_i32_2427
  let c3_i32_2428 : BitVec 32 := 3#32
  let v9887 : BitVec 32 := Scalar.shli v9886 c3_i32_2428
  let v9888 : BitVec 32 := v9887
  let v11291 : Index := Scalar.indexCast v9888
  let c0_2726 : Index := 0#32
  ![v11290.toNat, v11291.toNat, 0]
def k0_off1036 (v9710 : BitVec 32) (v9715 : BitVec 32) (v9725 : BitVec 32) (v9795 : BitVec 32) (v9882 : BitVec 32) : Fin 3 → Nat :=
  let c199_i32_2342 : BitVec 32 := 199#32
  let c0_i32_2341 : BitVec 32 := 0#32
  let v9716 : BitVec 32 := Scalar.maxsi c0_i32_2341 v9715
  let v9717 : BitVec 32 := Scalar.minsi c199_i32_2342 v9716
  let v9796 : BitVec 32 := Scalar.addi v9717 v9795
  let c1_i32_2380 : BitVec 32 := 1#32
  let v9797 : BitVec 32 := Scalar.addi v9796 c1_i32_2380
  let c199_i32_2348 : BitVec 32 := 199#32
  let c0_i32_2347 : BitVec 32 := 0#32
  let v9726 : BitVec 32 := Scalar.maxsi c0_i32_2347 v9725
  let v9727 : BitVec 32 := Scalar.minsi c199_i32_2348 v9726
  let v9798 : BitVec 32 := Scalar.minsi v9797 v9727
  let v11294 : Index := Scalar.indexCast v9798
  let c199_i32_2339 : BitVec 32 := 199#32
  let c0_i32_2338 : BitVec 32 := 0#32
  let v9711 : BitVec 32 := Scalar.maxsi c0_i32_2338 v9710
  let v9712 : BitVec 32 := Scalar.minsi c199_i32_2339 v9711
  let v9883 : BitVec 32 := Scalar.addi v9712 v9882
  let c3_i32_2427 : BitVec 32 := 3#32
  let v9886 : BitVec 32 := Scalar.shrsi v9883 c3_i32_2427
  let c3_i32_2428 : BitVec 32 := 3#32
  let v9887 : BitVec 32 := Scalar.shli v9886 c3_i32_2428
  let v9888 : BitVec 32 := v9887
  let v11295 : Index := Scalar.indexCast v9888
  let c0_2727 : Index := 0#32
  ![v11294.toNat, v11295.toNat, 0]

def k0_chk49 (v9710 : BitVec 32) (v9715 : BitVec 32) (v9725 : BitVec 32) (v9741 : BitVec 32) (v9750 : BitVec 32) (v9759 : BitVec 32) (v9768 : BitVec 32) (v9777 : BitVec 32) (v9786 : BitVec 32) (v9795 : BitVec 32) (v9882 : BitVec 32) : Prop :=
  (8 ∣ (k0_mult50 v9710 v9882).toNat) ∧
  (∀ a, (k0_off909 v9710 v9715 v9741 v9882) a + S1x16x256.size a ≤ S200x216x256.size a) ∧
  (∀ a, (k0_off910 v9710 v9715 v9725 v9741 v9882) a + S1x16x256.size a ≤ S200x216x256.size a) ∧
  (∀ a, (k0_off930 v9710 v9715 v9750 v9882) a + S1x16x256.size a ≤ S200x216x256.size a) ∧
  (∀ a, (k0_off931 v9710 v9715 v9725 v9750 v9882) a + S1x16x256.size a ≤ S200x216x256.size a) ∧
  (∀ a, (k0_off951 v9710 v9715 v9759 v9882) a + S1x16x256.size a ≤ S200x216x256.size a) ∧
  (∀ a, (k0_off952 v9710 v9715 v9725 v9759 v9882) a + S1x16x256.size a ≤ S200x216x256.size a) ∧
  (∀ a, (k0_off972 v9710 v9715 v9768 v9882) a + S1x16x256.size a ≤ S200x216x256.size a) ∧
  (∀ a, (k0_off973 v9710 v9715 v9725 v9768 v9882) a + S1x16x256.size a ≤ S200x216x256.size a) ∧
  (∀ a, (k0_off993 v9710 v9715 v9777 v9882) a + S1x16x256.size a ≤ S200x216x256.size a) ∧
  (∀ a, (k0_off994 v9710 v9715 v9725 v9777 v9882) a + S1x16x256.size a ≤ S200x216x256.size a) ∧
  (∀ a, (k0_off1014 v9710 v9715 v9786 v9882) a + S1x16x256.size a ≤ S200x216x256.size a) ∧
  (∀ a, (k0_off1015 v9710 v9715 v9725 v9786 v9882) a + S1x16x256.size a ≤ S200x216x256.size a) ∧
  (∀ a, (k0_off1035 v9710 v9715 v9795 v9882) a + S1x16x256.size a ≤ S200x216x256.size a) ∧
  (∀ a, (k0_off1036 v9710 v9715 v9725 v9795 v9882) a + S1x16x256.size a ≤ S200x216x256.size a)
theorem k0_mult50_dvd : ∀ (v9710 : BitVec 32) (v9715 : BitVec 32) (v9725 : BitVec 32) (v9741 : BitVec 32) (v9750 : BitVec 32) (v9759 : BitVec 32) (v9768 : BitVec 32) (v9777 : BitVec 32) (v9786 : BitVec 32) (v9795 : BitVec 32) (v9882 : BitVec 32) (k0_hw49 : k0_chk49 v9710 v9715 v9725 v9741 v9750 v9759 v9768 v9777 v9786 v9795 v9882), 8 ∣ (k0_mult50 v9710 v9882).toNat := fun v9710 v9715 v9725 v9741 v9750 v9759 v9768 v9777 v9786 v9795 v9882 k0_hw49 => k0_hw49.1
theorem k0_off909_inb : ∀ (v9710 : BitVec 32) (v9715 : BitVec 32) (v9725 : BitVec 32) (v9741 : BitVec 32) (v9750 : BitVec 32) (v9759 : BitVec 32) (v9768 : BitVec 32) (v9777 : BitVec 32) (v9786 : BitVec 32) (v9795 : BitVec 32) (v9882 : BitVec 32) (k0_hw49 : k0_chk49 v9710 v9715 v9725 v9741 v9750 v9759 v9768 v9777 v9786 v9795 v9882), ∀ a, (k0_off909 v9710 v9715 v9741 v9882) a + S1x16x256.size a ≤ S200x216x256.size a := fun v9710 v9715 v9725 v9741 v9750 v9759 v9768 v9777 v9786 v9795 v9882 k0_hw49 => k0_hw49.2.1
theorem k0_off910_inb : ∀ (v9710 : BitVec 32) (v9715 : BitVec 32) (v9725 : BitVec 32) (v9741 : BitVec 32) (v9750 : BitVec 32) (v9759 : BitVec 32) (v9768 : BitVec 32) (v9777 : BitVec 32) (v9786 : BitVec 32) (v9795 : BitVec 32) (v9882 : BitVec 32) (k0_hw49 : k0_chk49 v9710 v9715 v9725 v9741 v9750 v9759 v9768 v9777 v9786 v9795 v9882), ∀ a, (k0_off910 v9710 v9715 v9725 v9741 v9882) a + S1x16x256.size a ≤ S200x216x256.size a := fun v9710 v9715 v9725 v9741 v9750 v9759 v9768 v9777 v9786 v9795 v9882 k0_hw49 => k0_hw49.2.2.1
theorem k0_off930_inb : ∀ (v9710 : BitVec 32) (v9715 : BitVec 32) (v9725 : BitVec 32) (v9741 : BitVec 32) (v9750 : BitVec 32) (v9759 : BitVec 32) (v9768 : BitVec 32) (v9777 : BitVec 32) (v9786 : BitVec 32) (v9795 : BitVec 32) (v9882 : BitVec 32) (k0_hw49 : k0_chk49 v9710 v9715 v9725 v9741 v9750 v9759 v9768 v9777 v9786 v9795 v9882), ∀ a, (k0_off930 v9710 v9715 v9750 v9882) a + S1x16x256.size a ≤ S200x216x256.size a := fun v9710 v9715 v9725 v9741 v9750 v9759 v9768 v9777 v9786 v9795 v9882 k0_hw49 => k0_hw49.2.2.2.1
theorem k0_off931_inb : ∀ (v9710 : BitVec 32) (v9715 : BitVec 32) (v9725 : BitVec 32) (v9741 : BitVec 32) (v9750 : BitVec 32) (v9759 : BitVec 32) (v9768 : BitVec 32) (v9777 : BitVec 32) (v9786 : BitVec 32) (v9795 : BitVec 32) (v9882 : BitVec 32) (k0_hw49 : k0_chk49 v9710 v9715 v9725 v9741 v9750 v9759 v9768 v9777 v9786 v9795 v9882), ∀ a, (k0_off931 v9710 v9715 v9725 v9750 v9882) a + S1x16x256.size a ≤ S200x216x256.size a := fun v9710 v9715 v9725 v9741 v9750 v9759 v9768 v9777 v9786 v9795 v9882 k0_hw49 => k0_hw49.2.2.2.2.1
theorem k0_off951_inb : ∀ (v9710 : BitVec 32) (v9715 : BitVec 32) (v9725 : BitVec 32) (v9741 : BitVec 32) (v9750 : BitVec 32) (v9759 : BitVec 32) (v9768 : BitVec 32) (v9777 : BitVec 32) (v9786 : BitVec 32) (v9795 : BitVec 32) (v9882 : BitVec 32) (k0_hw49 : k0_chk49 v9710 v9715 v9725 v9741 v9750 v9759 v9768 v9777 v9786 v9795 v9882), ∀ a, (k0_off951 v9710 v9715 v9759 v9882) a + S1x16x256.size a ≤ S200x216x256.size a := fun v9710 v9715 v9725 v9741 v9750 v9759 v9768 v9777 v9786 v9795 v9882 k0_hw49 => k0_hw49.2.2.2.2.2.1
theorem k0_off952_inb : ∀ (v9710 : BitVec 32) (v9715 : BitVec 32) (v9725 : BitVec 32) (v9741 : BitVec 32) (v9750 : BitVec 32) (v9759 : BitVec 32) (v9768 : BitVec 32) (v9777 : BitVec 32) (v9786 : BitVec 32) (v9795 : BitVec 32) (v9882 : BitVec 32) (k0_hw49 : k0_chk49 v9710 v9715 v9725 v9741 v9750 v9759 v9768 v9777 v9786 v9795 v9882), ∀ a, (k0_off952 v9710 v9715 v9725 v9759 v9882) a + S1x16x256.size a ≤ S200x216x256.size a := fun v9710 v9715 v9725 v9741 v9750 v9759 v9768 v9777 v9786 v9795 v9882 k0_hw49 => k0_hw49.2.2.2.2.2.2.1
theorem k0_off972_inb : ∀ (v9710 : BitVec 32) (v9715 : BitVec 32) (v9725 : BitVec 32) (v9741 : BitVec 32) (v9750 : BitVec 32) (v9759 : BitVec 32) (v9768 : BitVec 32) (v9777 : BitVec 32) (v9786 : BitVec 32) (v9795 : BitVec 32) (v9882 : BitVec 32) (k0_hw49 : k0_chk49 v9710 v9715 v9725 v9741 v9750 v9759 v9768 v9777 v9786 v9795 v9882), ∀ a, (k0_off972 v9710 v9715 v9768 v9882) a + S1x16x256.size a ≤ S200x216x256.size a := fun v9710 v9715 v9725 v9741 v9750 v9759 v9768 v9777 v9786 v9795 v9882 k0_hw49 => k0_hw49.2.2.2.2.2.2.2.1
theorem k0_off973_inb : ∀ (v9710 : BitVec 32) (v9715 : BitVec 32) (v9725 : BitVec 32) (v9741 : BitVec 32) (v9750 : BitVec 32) (v9759 : BitVec 32) (v9768 : BitVec 32) (v9777 : BitVec 32) (v9786 : BitVec 32) (v9795 : BitVec 32) (v9882 : BitVec 32) (k0_hw49 : k0_chk49 v9710 v9715 v9725 v9741 v9750 v9759 v9768 v9777 v9786 v9795 v9882), ∀ a, (k0_off973 v9710 v9715 v9725 v9768 v9882) a + S1x16x256.size a ≤ S200x216x256.size a := fun v9710 v9715 v9725 v9741 v9750 v9759 v9768 v9777 v9786 v9795 v9882 k0_hw49 => k0_hw49.2.2.2.2.2.2.2.2.1
theorem k0_off993_inb : ∀ (v9710 : BitVec 32) (v9715 : BitVec 32) (v9725 : BitVec 32) (v9741 : BitVec 32) (v9750 : BitVec 32) (v9759 : BitVec 32) (v9768 : BitVec 32) (v9777 : BitVec 32) (v9786 : BitVec 32) (v9795 : BitVec 32) (v9882 : BitVec 32) (k0_hw49 : k0_chk49 v9710 v9715 v9725 v9741 v9750 v9759 v9768 v9777 v9786 v9795 v9882), ∀ a, (k0_off993 v9710 v9715 v9777 v9882) a + S1x16x256.size a ≤ S200x216x256.size a := fun v9710 v9715 v9725 v9741 v9750 v9759 v9768 v9777 v9786 v9795 v9882 k0_hw49 => k0_hw49.2.2.2.2.2.2.2.2.2.1
theorem k0_off994_inb : ∀ (v9710 : BitVec 32) (v9715 : BitVec 32) (v9725 : BitVec 32) (v9741 : BitVec 32) (v9750 : BitVec 32) (v9759 : BitVec 32) (v9768 : BitVec 32) (v9777 : BitVec 32) (v9786 : BitVec 32) (v9795 : BitVec 32) (v9882 : BitVec 32) (k0_hw49 : k0_chk49 v9710 v9715 v9725 v9741 v9750 v9759 v9768 v9777 v9786 v9795 v9882), ∀ a, (k0_off994 v9710 v9715 v9725 v9777 v9882) a + S1x16x256.size a ≤ S200x216x256.size a := fun v9710 v9715 v9725 v9741 v9750 v9759 v9768 v9777 v9786 v9795 v9882 k0_hw49 => k0_hw49.2.2.2.2.2.2.2.2.2.2.1
theorem k0_off1014_inb : ∀ (v9710 : BitVec 32) (v9715 : BitVec 32) (v9725 : BitVec 32) (v9741 : BitVec 32) (v9750 : BitVec 32) (v9759 : BitVec 32) (v9768 : BitVec 32) (v9777 : BitVec 32) (v9786 : BitVec 32) (v9795 : BitVec 32) (v9882 : BitVec 32) (k0_hw49 : k0_chk49 v9710 v9715 v9725 v9741 v9750 v9759 v9768 v9777 v9786 v9795 v9882), ∀ a, (k0_off1014 v9710 v9715 v9786 v9882) a + S1x16x256.size a ≤ S200x216x256.size a := fun v9710 v9715 v9725 v9741 v9750 v9759 v9768 v9777 v9786 v9795 v9882 k0_hw49 => k0_hw49.2.2.2.2.2.2.2.2.2.2.2.1
theorem k0_off1015_inb : ∀ (v9710 : BitVec 32) (v9715 : BitVec 32) (v9725 : BitVec 32) (v9741 : BitVec 32) (v9750 : BitVec 32) (v9759 : BitVec 32) (v9768 : BitVec 32) (v9777 : BitVec 32) (v9786 : BitVec 32) (v9795 : BitVec 32) (v9882 : BitVec 32) (k0_hw49 : k0_chk49 v9710 v9715 v9725 v9741 v9750 v9759 v9768 v9777 v9786 v9795 v9882), ∀ a, (k0_off1015 v9710 v9715 v9725 v9786 v9882) a + S1x16x256.size a ≤ S200x216x256.size a := fun v9710 v9715 v9725 v9741 v9750 v9759 v9768 v9777 v9786 v9795 v9882 k0_hw49 => k0_hw49.2.2.2.2.2.2.2.2.2.2.2.2.1
theorem k0_off1035_inb : ∀ (v9710 : BitVec 32) (v9715 : BitVec 32) (v9725 : BitVec 32) (v9741 : BitVec 32) (v9750 : BitVec 32) (v9759 : BitVec 32) (v9768 : BitVec 32) (v9777 : BitVec 32) (v9786 : BitVec 32) (v9795 : BitVec 32) (v9882 : BitVec 32) (k0_hw49 : k0_chk49 v9710 v9715 v9725 v9741 v9750 v9759 v9768 v9777 v9786 v9795 v9882), ∀ a, (k0_off1035 v9710 v9715 v9795 v9882) a + S1x16x256.size a ≤ S200x216x256.size a := fun v9710 v9715 v9725 v9741 v9750 v9759 v9768 v9777 v9786 v9795 v9882 k0_hw49 => k0_hw49.2.2.2.2.2.2.2.2.2.2.2.2.2.1
theorem k0_off1036_inb : ∀ (v9710 : BitVec 32) (v9715 : BitVec 32) (v9725 : BitVec 32) (v9741 : BitVec 32) (v9750 : BitVec 32) (v9759 : BitVec 32) (v9768 : BitVec 32) (v9777 : BitVec 32) (v9786 : BitVec 32) (v9795 : BitVec 32) (v9882 : BitVec 32) (k0_hw49 : k0_chk49 v9710 v9715 v9725 v9741 v9750 v9759 v9768 v9777 v9786 v9795 v9882), ∀ a, (k0_off1036 v9710 v9715 v9725 v9795 v9882) a + S1x16x256.size a ≤ S200x216x256.size a := fun v9710 v9715 v9725 v9741 v9750 v9759 v9768 v9777 v9786 v9795 v9882 k0_hw49 => k0_hw49.2.2.2.2.2.2.2.2.2.2.2.2.2.2

def k0_off1037 (k0_t1 : Fin k0_t1_loop.trips) : Fin 3 → Nat :=
  let c48_2729 : Index := 48#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c6_i32 : BitVec 32 := 6#32
  let v9702 : BitVec 32 := Scalar.addi v5 c6_i32
  let v11314 : Index := Scalar.indexCast v9702
  let c0_2730 : Index := 0#32
  ![48, v11314.toNat, 0]
def k0_off1038 (i : grid0.Coords) (k0_t1 : Fin k0_t1_loop.trips) (c0_i32_2735 : BitVec 32) : Fin 1 → Nat :=
  let arg0 : BitVec 32 := BitVec.ofNat 32 (i 0).val
  let c256_i32_2732 : BitVec 32 := 256#32
  let v11319 : BitVec 32 := Scalar.muli arg0 c256_i32_2732
  let arg1 : BitVec 32 := BitVec.ofNat 32 (i 1).val
  let c32_i32_2733 : BitVec 32 := 32#32
  let v11320 : BitVec 32 := Scalar.muli arg1 c32_i32_2733
  let v11321 : BitVec 32 := Scalar.addi v11319 v11320
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c7_i32_2731 : BitVec 32 := 7#32
  let v11318 : BitVec 32 := Scalar.addi v5 c7_i32_2731
  let v11322 : BitVec 32 := Scalar.addi v11321 v11318
  let c4_i32_2734 : BitVec 32 := 4#32
  let v11323 : BitVec 32 := Scalar.muli v11322 c4_i32_2734
  let v11324 : BitVec 32 := Scalar.addi v11323 c0_i32_2735
  let v11325 : Index := Scalar.indexCast v11324
  ![v11325.toNat]
def k0_mult51 (v11326 : BitVec 32) (v11420 : BitVec 32) : BitVec 32 :=
  let c199_i32_2737 : BitVec 32 := 199#32
  let c0_i32_2736 : BitVec 32 := 0#32
  let v11327 : BitVec 32 := Scalar.maxsi c0_i32_2736 v11326
  let v11328 : BitVec 32 := Scalar.minsi c199_i32_2737 v11327
  let v11421 : BitVec 32 := Scalar.addi v11328 v11420
  let c3_i32_2783 : BitVec 32 := 3#32
  let v11424 : BitVec 32 := Scalar.shrsi v11421 c3_i32_2783
  let c3_i32_2784 : BitVec 32 := 3#32
  let v11425 : BitVec 32 := Scalar.shli v11424 c3_i32_2784
  v11425

def k0_mult52 (v11326 : BitVec 32) (v11433 : BitVec 32) : BitVec 32 :=
  let c199_i32_2737 : BitVec 32 := 199#32
  let c0_i32_2736 : BitVec 32 := 0#32
  let v11327 : BitVec 32 := Scalar.maxsi c0_i32_2736 v11326
  let v11328 : BitVec 32 := Scalar.minsi c199_i32_2737 v11327
  let v11434 : BitVec 32 := Scalar.addi v11328 v11433
  let c3_i32_2790 : BitVec 32 := 3#32
  let v11437 : BitVec 32 := Scalar.shrsi v11434 c3_i32_2790
  let c3_i32_2791 : BitVec 32 := 3#32
  let v11438 : BitVec 32 := Scalar.shli v11437 c3_i32_2791
  v11438

def k0_mult53 (v11326 : BitVec 32) (v11446 : BitVec 32) : BitVec 32 :=
  let c199_i32_2737 : BitVec 32 := 199#32
  let c0_i32_2736 : BitVec 32 := 0#32
  let v11327 : BitVec 32 := Scalar.maxsi c0_i32_2736 v11326
  let v11328 : BitVec 32 := Scalar.minsi c199_i32_2737 v11327
  let v11447 : BitVec 32 := Scalar.addi v11328 v11446
  let c3_i32_2797 : BitVec 32 := 3#32
  let v11450 : BitVec 32 := Scalar.shrsi v11447 c3_i32_2797
  let c3_i32_2798 : BitVec 32 := 3#32
  let v11451 : BitVec 32 := Scalar.shli v11450 c3_i32_2798
  v11451

def k0_mult54 (v11326 : BitVec 32) (v11459 : BitVec 32) : BitVec 32 :=
  let c199_i32_2737 : BitVec 32 := 199#32
  let c0_i32_2736 : BitVec 32 := 0#32
  let v11327 : BitVec 32 := Scalar.maxsi c0_i32_2736 v11326
  let v11328 : BitVec 32 := Scalar.minsi c199_i32_2737 v11327
  let v11460 : BitVec 32 := Scalar.addi v11328 v11459
  let c3_i32_2804 : BitVec 32 := 3#32
  let v11463 : BitVec 32 := Scalar.shrsi v11460 c3_i32_2804
  let c3_i32_2805 : BitVec 32 := 3#32
  let v11464 : BitVec 32 := Scalar.shli v11463 c3_i32_2805
  v11464

def k0_mult55 (v11326 : BitVec 32) (v11472 : BitVec 32) : BitVec 32 :=
  let c199_i32_2737 : BitVec 32 := 199#32
  let c0_i32_2736 : BitVec 32 := 0#32
  let v11327 : BitVec 32 := Scalar.maxsi c0_i32_2736 v11326
  let v11328 : BitVec 32 := Scalar.minsi c199_i32_2737 v11327
  let v11473 : BitVec 32 := Scalar.addi v11328 v11472
  let c3_i32_2811 : BitVec 32 := 3#32
  let v11476 : BitVec 32 := Scalar.shrsi v11473 c3_i32_2811
  let c3_i32_2812 : BitVec 32 := 3#32
  let v11477 : BitVec 32 := Scalar.shli v11476 c3_i32_2812
  v11477

def k0_mult56 (v11326 : BitVec 32) (v11485 : BitVec 32) : BitVec 32 :=
  let c199_i32_2737 : BitVec 32 := 199#32
  let c0_i32_2736 : BitVec 32 := 0#32
  let v11327 : BitVec 32 := Scalar.maxsi c0_i32_2736 v11326
  let v11328 : BitVec 32 := Scalar.minsi c199_i32_2737 v11327
  let v11486 : BitVec 32 := Scalar.addi v11328 v11485
  let c3_i32_2818 : BitVec 32 := 3#32
  let v11489 : BitVec 32 := Scalar.shrsi v11486 c3_i32_2818
  let c3_i32_2819 : BitVec 32 := 3#32
  let v11490 : BitVec 32 := Scalar.shli v11489 c3_i32_2819
  v11490

def k0_mult57 (v11326 : BitVec 32) (v11498 : BitVec 32) : BitVec 32 :=
  let c199_i32_2737 : BitVec 32 := 199#32
  let c0_i32_2736 : BitVec 32 := 0#32
  let v11327 : BitVec 32 := Scalar.maxsi c0_i32_2736 v11326
  let v11328 : BitVec 32 := Scalar.minsi c199_i32_2737 v11327
  let v11499 : BitVec 32 := Scalar.addi v11328 v11498
  let c3_i32_2825 : BitVec 32 := 3#32
  let v11502 : BitVec 32 := Scalar.shrsi v11499 c3_i32_2825
  let c3_i32_2826 : BitVec 32 := 3#32
  let v11503 : BitVec 32 := Scalar.shli v11502 c3_i32_2826
  v11503

def k0_off1039 (v11326 : BitVec 32) (v11331 : BitVec 32) (v11357 : BitVec 32) (v11420 : BitVec 32) : Fin 3 → Nat :=
  let c199_i32_2740 : BitVec 32 := 199#32
  let c0_i32_2739 : BitVec 32 := 0#32
  let v11332 : BitVec 32 := Scalar.maxsi c0_i32_2739 v11331
  let v11333 : BitVec 32 := Scalar.minsi c199_i32_2740 v11332
  let v11358 : BitVec 32 := Scalar.addi v11333 v11357
  let v11508 : Index := Scalar.indexCast v11358
  let c199_i32_2737 : BitVec 32 := 199#32
  let c0_i32_2736 : BitVec 32 := 0#32
  let v11327 : BitVec 32 := Scalar.maxsi c0_i32_2736 v11326
  let v11328 : BitVec 32 := Scalar.minsi c199_i32_2737 v11327
  let v11421 : BitVec 32 := Scalar.addi v11328 v11420
  let c3_i32_2783 : BitVec 32 := 3#32
  let v11424 : BitVec 32 := Scalar.shrsi v11421 c3_i32_2783
  let c3_i32_2784 : BitVec 32 := 3#32
  let v11425 : BitVec 32 := Scalar.shli v11424 c3_i32_2784
  let v11426 : BitVec 32 := v11425
  let v11509 : Index := Scalar.indexCast v11426
  let c0_2830 : Index := 0#32
  ![v11508.toNat, v11509.toNat, 0]
def k0_off1040 (v11326 : BitVec 32) (v11331 : BitVec 32) (v11341 : BitVec 32) (v11357 : BitVec 32) (v11420 : BitVec 32) : Fin 3 → Nat :=
  let c199_i32_2740 : BitVec 32 := 199#32
  let c0_i32_2739 : BitVec 32 := 0#32
  let v11332 : BitVec 32 := Scalar.maxsi c0_i32_2739 v11331
  let v11333 : BitVec 32 := Scalar.minsi c199_i32_2740 v11332
  let v11358 : BitVec 32 := Scalar.addi v11333 v11357
  let c1_i32_2754 : BitVec 32 := 1#32
  let v11359 : BitVec 32 := Scalar.addi v11358 c1_i32_2754
  let c199_i32_2746 : BitVec 32 := 199#32
  let c0_i32_2745 : BitVec 32 := 0#32
  let v11342 : BitVec 32 := Scalar.maxsi c0_i32_2745 v11341
  let v11343 : BitVec 32 := Scalar.minsi c199_i32_2746 v11342
  let v11360 : BitVec 32 := Scalar.minsi v11359 v11343
  let v11512 : Index := Scalar.indexCast v11360
  let c199_i32_2737 : BitVec 32 := 199#32
  let c0_i32_2736 : BitVec 32 := 0#32
  let v11327 : BitVec 32 := Scalar.maxsi c0_i32_2736 v11326
  let v11328 : BitVec 32 := Scalar.minsi c199_i32_2737 v11327
  let v11421 : BitVec 32 := Scalar.addi v11328 v11420
  let c3_i32_2783 : BitVec 32 := 3#32
  let v11424 : BitVec 32 := Scalar.shrsi v11421 c3_i32_2783
  let c3_i32_2784 : BitVec 32 := 3#32
  let v11425 : BitVec 32 := Scalar.shli v11424 c3_i32_2784
  let v11426 : BitVec 32 := v11425
  let v11513 : Index := Scalar.indexCast v11426
  let c0_2831 : Index := 0#32
  ![v11512.toNat, v11513.toNat, 0]
def k0_off1041 (k0_t1 : Fin k0_t1_loop.trips) : Fin 3 → Nat :=
  let c0_2833 : Index := 0#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c7_i32_2731 : BitVec 32 := 7#32
  let v11318 : BitVec 32 := Scalar.addi v5 c7_i32_2731
  let v11532 : Index := Scalar.indexCast v11318
  let c0_2834 : Index := 0#32
  ![0, v11532.toNat, 0]
def k0_off1042 (v11326 : BitVec 32) (v11331 : BitVec 32) (v11357 : BitVec 32) (v11433 : BitVec 32) : Fin 3 → Nat :=
  let c199_i32_2740 : BitVec 32 := 199#32
  let c0_i32_2739 : BitVec 32 := 0#32
  let v11332 : BitVec 32 := Scalar.maxsi c0_i32_2739 v11331
  let v11333 : BitVec 32 := Scalar.minsi c199_i32_2740 v11332
  let v11358 : BitVec 32 := Scalar.addi v11333 v11357
  let v11537 : Index := Scalar.indexCast v11358
  let c199_i32_2737 : BitVec 32 := 199#32
  let c0_i32_2736 : BitVec 32 := 0#32
  let v11327 : BitVec 32 := Scalar.maxsi c0_i32_2736 v11326
  let v11328 : BitVec 32 := Scalar.minsi c199_i32_2737 v11327
  let v11434 : BitVec 32 := Scalar.addi v11328 v11433
  let c3_i32_2790 : BitVec 32 := 3#32
  let v11437 : BitVec 32 := Scalar.shrsi v11434 c3_i32_2790
  let c3_i32_2791 : BitVec 32 := 3#32
  let v11438 : BitVec 32 := Scalar.shli v11437 c3_i32_2791
  let v11439 : BitVec 32 := v11438
  let v11538 : Index := Scalar.indexCast v11439
  let c0_2836 : Index := 0#32
  ![v11537.toNat, v11538.toNat, 0]
def k0_off1043 (v11326 : BitVec 32) (v11331 : BitVec 32) (v11341 : BitVec 32) (v11357 : BitVec 32) (v11433 : BitVec 32) : Fin 3 → Nat :=
  let c199_i32_2740 : BitVec 32 := 199#32
  let c0_i32_2739 : BitVec 32 := 0#32
  let v11332 : BitVec 32 := Scalar.maxsi c0_i32_2739 v11331
  let v11333 : BitVec 32 := Scalar.minsi c199_i32_2740 v11332
  let v11358 : BitVec 32 := Scalar.addi v11333 v11357
  let c1_i32_2754 : BitVec 32 := 1#32
  let v11359 : BitVec 32 := Scalar.addi v11358 c1_i32_2754
  let c199_i32_2746 : BitVec 32 := 199#32
  let c0_i32_2745 : BitVec 32 := 0#32
  let v11342 : BitVec 32 := Scalar.maxsi c0_i32_2745 v11341
  let v11343 : BitVec 32 := Scalar.minsi c199_i32_2746 v11342
  let v11360 : BitVec 32 := Scalar.minsi v11359 v11343
  let v11541 : Index := Scalar.indexCast v11360
  let c199_i32_2737 : BitVec 32 := 199#32
  let c0_i32_2736 : BitVec 32 := 0#32
  let v11327 : BitVec 32 := Scalar.maxsi c0_i32_2736 v11326
  let v11328 : BitVec 32 := Scalar.minsi c199_i32_2737 v11327
  let v11434 : BitVec 32 := Scalar.addi v11328 v11433
  let c3_i32_2790 : BitVec 32 := 3#32
  let v11437 : BitVec 32 := Scalar.shrsi v11434 c3_i32_2790
  let c3_i32_2791 : BitVec 32 := 3#32
  let v11438 : BitVec 32 := Scalar.shli v11437 c3_i32_2791
  let v11439 : BitVec 32 := v11438
  let v11542 : Index := Scalar.indexCast v11439
  let c0_2837 : Index := 0#32
  ![v11541.toNat, v11542.toNat, 0]
def k0_off1044 (k0_t1 : Fin k0_t1_loop.trips) : Fin 3 → Nat :=
  let c1_2839 : Index := 1#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c7_i32_2731 : BitVec 32 := 7#32
  let v11318 : BitVec 32 := Scalar.addi v5 c7_i32_2731
  let v11561 : Index := Scalar.indexCast v11318
  let c0_2840 : Index := 0#32
  ![1, v11561.toNat, 0]
def k0_off1045 (v11326 : BitVec 32) (v11331 : BitVec 32) (v11357 : BitVec 32) (v11446 : BitVec 32) : Fin 3 → Nat :=
  let c199_i32_2740 : BitVec 32 := 199#32
  let c0_i32_2739 : BitVec 32 := 0#32
  let v11332 : BitVec 32 := Scalar.maxsi c0_i32_2739 v11331
  let v11333 : BitVec 32 := Scalar.minsi c199_i32_2740 v11332
  let v11358 : BitVec 32 := Scalar.addi v11333 v11357
  let v11566 : Index := Scalar.indexCast v11358
  let c199_i32_2737 : BitVec 32 := 199#32
  let c0_i32_2736 : BitVec 32 := 0#32
  let v11327 : BitVec 32 := Scalar.maxsi c0_i32_2736 v11326
  let v11328 : BitVec 32 := Scalar.minsi c199_i32_2737 v11327
  let v11447 : BitVec 32 := Scalar.addi v11328 v11446
  let c3_i32_2797 : BitVec 32 := 3#32
  let v11450 : BitVec 32 := Scalar.shrsi v11447 c3_i32_2797
  let c3_i32_2798 : BitVec 32 := 3#32
  let v11451 : BitVec 32 := Scalar.shli v11450 c3_i32_2798
  let v11452 : BitVec 32 := v11451
  let v11567 : Index := Scalar.indexCast v11452
  let c0_2842 : Index := 0#32
  ![v11566.toNat, v11567.toNat, 0]
def k0_off1046 (v11326 : BitVec 32) (v11331 : BitVec 32) (v11341 : BitVec 32) (v11357 : BitVec 32) (v11446 : BitVec 32) : Fin 3 → Nat :=
  let c199_i32_2740 : BitVec 32 := 199#32
  let c0_i32_2739 : BitVec 32 := 0#32
  let v11332 : BitVec 32 := Scalar.maxsi c0_i32_2739 v11331
  let v11333 : BitVec 32 := Scalar.minsi c199_i32_2740 v11332
  let v11358 : BitVec 32 := Scalar.addi v11333 v11357
  let c1_i32_2754 : BitVec 32 := 1#32
  let v11359 : BitVec 32 := Scalar.addi v11358 c1_i32_2754
  let c199_i32_2746 : BitVec 32 := 199#32
  let c0_i32_2745 : BitVec 32 := 0#32
  let v11342 : BitVec 32 := Scalar.maxsi c0_i32_2745 v11341
  let v11343 : BitVec 32 := Scalar.minsi c199_i32_2746 v11342
  let v11360 : BitVec 32 := Scalar.minsi v11359 v11343
  let v11570 : Index := Scalar.indexCast v11360
  let c199_i32_2737 : BitVec 32 := 199#32
  let c0_i32_2736 : BitVec 32 := 0#32
  let v11327 : BitVec 32 := Scalar.maxsi c0_i32_2736 v11326
  let v11328 : BitVec 32 := Scalar.minsi c199_i32_2737 v11327
  let v11447 : BitVec 32 := Scalar.addi v11328 v11446
  let c3_i32_2797 : BitVec 32 := 3#32
  let v11450 : BitVec 32 := Scalar.shrsi v11447 c3_i32_2797
  let c3_i32_2798 : BitVec 32 := 3#32
  let v11451 : BitVec 32 := Scalar.shli v11450 c3_i32_2798
  let v11452 : BitVec 32 := v11451
  let v11571 : Index := Scalar.indexCast v11452
  let c0_2843 : Index := 0#32
  ![v11570.toNat, v11571.toNat, 0]
def k0_off1047 (k0_t1 : Fin k0_t1_loop.trips) : Fin 3 → Nat :=
  let c2_2845 : Index := 2#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c7_i32_2731 : BitVec 32 := 7#32
  let v11318 : BitVec 32 := Scalar.addi v5 c7_i32_2731
  let v11590 : Index := Scalar.indexCast v11318
  let c0_2846 : Index := 0#32
  ![2, v11590.toNat, 0]
def k0_off1048 (v11326 : BitVec 32) (v11331 : BitVec 32) (v11357 : BitVec 32) (v11459 : BitVec 32) : Fin 3 → Nat :=
  let c199_i32_2740 : BitVec 32 := 199#32
  let c0_i32_2739 : BitVec 32 := 0#32
  let v11332 : BitVec 32 := Scalar.maxsi c0_i32_2739 v11331
  let v11333 : BitVec 32 := Scalar.minsi c199_i32_2740 v11332
  let v11358 : BitVec 32 := Scalar.addi v11333 v11357
  let v11595 : Index := Scalar.indexCast v11358
  let c199_i32_2737 : BitVec 32 := 199#32
  let c0_i32_2736 : BitVec 32 := 0#32
  let v11327 : BitVec 32 := Scalar.maxsi c0_i32_2736 v11326
  let v11328 : BitVec 32 := Scalar.minsi c199_i32_2737 v11327
  let v11460 : BitVec 32 := Scalar.addi v11328 v11459
  let c3_i32_2804 : BitVec 32 := 3#32
  let v11463 : BitVec 32 := Scalar.shrsi v11460 c3_i32_2804
  let c3_i32_2805 : BitVec 32 := 3#32
  let v11464 : BitVec 32 := Scalar.shli v11463 c3_i32_2805
  let v11465 : BitVec 32 := v11464
  let v11596 : Index := Scalar.indexCast v11465
  let c0_2848 : Index := 0#32
  ![v11595.toNat, v11596.toNat, 0]
def k0_off1049 (v11326 : BitVec 32) (v11331 : BitVec 32) (v11341 : BitVec 32) (v11357 : BitVec 32) (v11459 : BitVec 32) : Fin 3 → Nat :=
  let c199_i32_2740 : BitVec 32 := 199#32
  let c0_i32_2739 : BitVec 32 := 0#32
  let v11332 : BitVec 32 := Scalar.maxsi c0_i32_2739 v11331
  let v11333 : BitVec 32 := Scalar.minsi c199_i32_2740 v11332
  let v11358 : BitVec 32 := Scalar.addi v11333 v11357
  let c1_i32_2754 : BitVec 32 := 1#32
  let v11359 : BitVec 32 := Scalar.addi v11358 c1_i32_2754
  let c199_i32_2746 : BitVec 32 := 199#32
  let c0_i32_2745 : BitVec 32 := 0#32
  let v11342 : BitVec 32 := Scalar.maxsi c0_i32_2745 v11341
  let v11343 : BitVec 32 := Scalar.minsi c199_i32_2746 v11342
  let v11360 : BitVec 32 := Scalar.minsi v11359 v11343
  let v11599 : Index := Scalar.indexCast v11360
  let c199_i32_2737 : BitVec 32 := 199#32
  let c0_i32_2736 : BitVec 32 := 0#32
  let v11327 : BitVec 32 := Scalar.maxsi c0_i32_2736 v11326
  let v11328 : BitVec 32 := Scalar.minsi c199_i32_2737 v11327
  let v11460 : BitVec 32 := Scalar.addi v11328 v11459
  let c3_i32_2804 : BitVec 32 := 3#32
  let v11463 : BitVec 32 := Scalar.shrsi v11460 c3_i32_2804
  let c3_i32_2805 : BitVec 32 := 3#32
  let v11464 : BitVec 32 := Scalar.shli v11463 c3_i32_2805
  let v11465 : BitVec 32 := v11464
  let v11600 : Index := Scalar.indexCast v11465
  let c0_2849 : Index := 0#32
  ![v11599.toNat, v11600.toNat, 0]
def k0_off1050 (k0_t1 : Fin k0_t1_loop.trips) : Fin 3 → Nat :=
  let c3_2851 : Index := 3#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c7_i32_2731 : BitVec 32 := 7#32
  let v11318 : BitVec 32 := Scalar.addi v5 c7_i32_2731
  let v11619 : Index := Scalar.indexCast v11318
  let c0_2852 : Index := 0#32
  ![3, v11619.toNat, 0]
def k0_off1051 (v11326 : BitVec 32) (v11331 : BitVec 32) (v11357 : BitVec 32) (v11472 : BitVec 32) : Fin 3 → Nat :=
  let c199_i32_2740 : BitVec 32 := 199#32
  let c0_i32_2739 : BitVec 32 := 0#32
  let v11332 : BitVec 32 := Scalar.maxsi c0_i32_2739 v11331
  let v11333 : BitVec 32 := Scalar.minsi c199_i32_2740 v11332
  let v11358 : BitVec 32 := Scalar.addi v11333 v11357
  let v11624 : Index := Scalar.indexCast v11358
  let c199_i32_2737 : BitVec 32 := 199#32
  let c0_i32_2736 : BitVec 32 := 0#32
  let v11327 : BitVec 32 := Scalar.maxsi c0_i32_2736 v11326
  let v11328 : BitVec 32 := Scalar.minsi c199_i32_2737 v11327
  let v11473 : BitVec 32 := Scalar.addi v11328 v11472
  let c3_i32_2811 : BitVec 32 := 3#32
  let v11476 : BitVec 32 := Scalar.shrsi v11473 c3_i32_2811
  let c3_i32_2812 : BitVec 32 := 3#32
  let v11477 : BitVec 32 := Scalar.shli v11476 c3_i32_2812
  let v11478 : BitVec 32 := v11477
  let v11625 : Index := Scalar.indexCast v11478
  let c0_2854 : Index := 0#32
  ![v11624.toNat, v11625.toNat, 0]
def k0_off1052 (v11326 : BitVec 32) (v11331 : BitVec 32) (v11341 : BitVec 32) (v11357 : BitVec 32) (v11472 : BitVec 32) : Fin 3 → Nat :=
  let c199_i32_2740 : BitVec 32 := 199#32
  let c0_i32_2739 : BitVec 32 := 0#32
  let v11332 : BitVec 32 := Scalar.maxsi c0_i32_2739 v11331
  let v11333 : BitVec 32 := Scalar.minsi c199_i32_2740 v11332
  let v11358 : BitVec 32 := Scalar.addi v11333 v11357
  let c1_i32_2754 : BitVec 32 := 1#32
  let v11359 : BitVec 32 := Scalar.addi v11358 c1_i32_2754
  let c199_i32_2746 : BitVec 32 := 199#32
  let c0_i32_2745 : BitVec 32 := 0#32
  let v11342 : BitVec 32 := Scalar.maxsi c0_i32_2745 v11341
  let v11343 : BitVec 32 := Scalar.minsi c199_i32_2746 v11342
  let v11360 : BitVec 32 := Scalar.minsi v11359 v11343
  let v11628 : Index := Scalar.indexCast v11360
  let c199_i32_2737 : BitVec 32 := 199#32
  let c0_i32_2736 : BitVec 32 := 0#32
  let v11327 : BitVec 32 := Scalar.maxsi c0_i32_2736 v11326
  let v11328 : BitVec 32 := Scalar.minsi c199_i32_2737 v11327
  let v11473 : BitVec 32 := Scalar.addi v11328 v11472
  let c3_i32_2811 : BitVec 32 := 3#32
  let v11476 : BitVec 32 := Scalar.shrsi v11473 c3_i32_2811
  let c3_i32_2812 : BitVec 32 := 3#32
  let v11477 : BitVec 32 := Scalar.shli v11476 c3_i32_2812
  let v11478 : BitVec 32 := v11477
  let v11629 : Index := Scalar.indexCast v11478
  let c0_2855 : Index := 0#32
  ![v11628.toNat, v11629.toNat, 0]
def k0_off1053 (k0_t1 : Fin k0_t1_loop.trips) : Fin 3 → Nat :=
  let c4_2857 : Index := 4#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c7_i32_2731 : BitVec 32 := 7#32
  let v11318 : BitVec 32 := Scalar.addi v5 c7_i32_2731
  let v11648 : Index := Scalar.indexCast v11318
  let c0_2858 : Index := 0#32
  ![4, v11648.toNat, 0]
def k0_off1054 (v11326 : BitVec 32) (v11331 : BitVec 32) (v11357 : BitVec 32) (v11485 : BitVec 32) : Fin 3 → Nat :=
  let c199_i32_2740 : BitVec 32 := 199#32
  let c0_i32_2739 : BitVec 32 := 0#32
  let v11332 : BitVec 32 := Scalar.maxsi c0_i32_2739 v11331
  let v11333 : BitVec 32 := Scalar.minsi c199_i32_2740 v11332
  let v11358 : BitVec 32 := Scalar.addi v11333 v11357
  let v11653 : Index := Scalar.indexCast v11358
  let c199_i32_2737 : BitVec 32 := 199#32
  let c0_i32_2736 : BitVec 32 := 0#32
  let v11327 : BitVec 32 := Scalar.maxsi c0_i32_2736 v11326
  let v11328 : BitVec 32 := Scalar.minsi c199_i32_2737 v11327
  let v11486 : BitVec 32 := Scalar.addi v11328 v11485
  let c3_i32_2818 : BitVec 32 := 3#32
  let v11489 : BitVec 32 := Scalar.shrsi v11486 c3_i32_2818
  let c3_i32_2819 : BitVec 32 := 3#32
  let v11490 : BitVec 32 := Scalar.shli v11489 c3_i32_2819
  let v11491 : BitVec 32 := v11490
  let v11654 : Index := Scalar.indexCast v11491
  let c0_2860 : Index := 0#32
  ![v11653.toNat, v11654.toNat, 0]
def k0_off1055 (v11326 : BitVec 32) (v11331 : BitVec 32) (v11341 : BitVec 32) (v11357 : BitVec 32) (v11485 : BitVec 32) : Fin 3 → Nat :=
  let c199_i32_2740 : BitVec 32 := 199#32
  let c0_i32_2739 : BitVec 32 := 0#32
  let v11332 : BitVec 32 := Scalar.maxsi c0_i32_2739 v11331
  let v11333 : BitVec 32 := Scalar.minsi c199_i32_2740 v11332
  let v11358 : BitVec 32 := Scalar.addi v11333 v11357
  let c1_i32_2754 : BitVec 32 := 1#32
  let v11359 : BitVec 32 := Scalar.addi v11358 c1_i32_2754
  let c199_i32_2746 : BitVec 32 := 199#32
  let c0_i32_2745 : BitVec 32 := 0#32
  let v11342 : BitVec 32 := Scalar.maxsi c0_i32_2745 v11341
  let v11343 : BitVec 32 := Scalar.minsi c199_i32_2746 v11342
  let v11360 : BitVec 32 := Scalar.minsi v11359 v11343
  let v11657 : Index := Scalar.indexCast v11360
  let c199_i32_2737 : BitVec 32 := 199#32
  let c0_i32_2736 : BitVec 32 := 0#32
  let v11327 : BitVec 32 := Scalar.maxsi c0_i32_2736 v11326
  let v11328 : BitVec 32 := Scalar.minsi c199_i32_2737 v11327
  let v11486 : BitVec 32 := Scalar.addi v11328 v11485
  let c3_i32_2818 : BitVec 32 := 3#32
  let v11489 : BitVec 32 := Scalar.shrsi v11486 c3_i32_2818
  let c3_i32_2819 : BitVec 32 := 3#32
  let v11490 : BitVec 32 := Scalar.shli v11489 c3_i32_2819
  let v11491 : BitVec 32 := v11490
  let v11658 : Index := Scalar.indexCast v11491
  let c0_2861 : Index := 0#32
  ![v11657.toNat, v11658.toNat, 0]
def k0_off1056 (k0_t1 : Fin k0_t1_loop.trips) : Fin 3 → Nat :=
  let c5_2863 : Index := 5#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c7_i32_2731 : BitVec 32 := 7#32
  let v11318 : BitVec 32 := Scalar.addi v5 c7_i32_2731
  let v11677 : Index := Scalar.indexCast v11318
  let c0_2864 : Index := 0#32
  ![5, v11677.toNat, 0]
def k0_off1057 (v11326 : BitVec 32) (v11331 : BitVec 32) (v11357 : BitVec 32) (v11498 : BitVec 32) : Fin 3 → Nat :=
  let c199_i32_2740 : BitVec 32 := 199#32
  let c0_i32_2739 : BitVec 32 := 0#32
  let v11332 : BitVec 32 := Scalar.maxsi c0_i32_2739 v11331
  let v11333 : BitVec 32 := Scalar.minsi c199_i32_2740 v11332
  let v11358 : BitVec 32 := Scalar.addi v11333 v11357
  let v11682 : Index := Scalar.indexCast v11358
  let c199_i32_2737 : BitVec 32 := 199#32
  let c0_i32_2736 : BitVec 32 := 0#32
  let v11327 : BitVec 32 := Scalar.maxsi c0_i32_2736 v11326
  let v11328 : BitVec 32 := Scalar.minsi c199_i32_2737 v11327
  let v11499 : BitVec 32 := Scalar.addi v11328 v11498
  let c3_i32_2825 : BitVec 32 := 3#32
  let v11502 : BitVec 32 := Scalar.shrsi v11499 c3_i32_2825
  let c3_i32_2826 : BitVec 32 := 3#32
  let v11503 : BitVec 32 := Scalar.shli v11502 c3_i32_2826
  let v11504 : BitVec 32 := v11503
  let v11683 : Index := Scalar.indexCast v11504
  let c0_2866 : Index := 0#32
  ![v11682.toNat, v11683.toNat, 0]
def k0_off1058 (v11326 : BitVec 32) (v11331 : BitVec 32) (v11341 : BitVec 32) (v11357 : BitVec 32) (v11498 : BitVec 32) : Fin 3 → Nat :=
  let c199_i32_2740 : BitVec 32 := 199#32
  let c0_i32_2739 : BitVec 32 := 0#32
  let v11332 : BitVec 32 := Scalar.maxsi c0_i32_2739 v11331
  let v11333 : BitVec 32 := Scalar.minsi c199_i32_2740 v11332
  let v11358 : BitVec 32 := Scalar.addi v11333 v11357
  let c1_i32_2754 : BitVec 32 := 1#32
  let v11359 : BitVec 32 := Scalar.addi v11358 c1_i32_2754
  let c199_i32_2746 : BitVec 32 := 199#32
  let c0_i32_2745 : BitVec 32 := 0#32
  let v11342 : BitVec 32 := Scalar.maxsi c0_i32_2745 v11341
  let v11343 : BitVec 32 := Scalar.minsi c199_i32_2746 v11342
  let v11360 : BitVec 32 := Scalar.minsi v11359 v11343
  let v11686 : Index := Scalar.indexCast v11360
  let c199_i32_2737 : BitVec 32 := 199#32
  let c0_i32_2736 : BitVec 32 := 0#32
  let v11327 : BitVec 32 := Scalar.maxsi c0_i32_2736 v11326
  let v11328 : BitVec 32 := Scalar.minsi c199_i32_2737 v11327
  let v11499 : BitVec 32 := Scalar.addi v11328 v11498
  let c3_i32_2825 : BitVec 32 := 3#32
  let v11502 : BitVec 32 := Scalar.shrsi v11499 c3_i32_2825
  let c3_i32_2826 : BitVec 32 := 3#32
  let v11503 : BitVec 32 := Scalar.shli v11502 c3_i32_2826
  let v11504 : BitVec 32 := v11503
  let v11687 : Index := Scalar.indexCast v11504
  let c0_2867 : Index := 0#32
  ![v11686.toNat, v11687.toNat, 0]
def k0_off1059 (k0_t1 : Fin k0_t1_loop.trips) : Fin 3 → Nat :=
  let c6_2869 : Index := 6#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c7_i32_2731 : BitVec 32 := 7#32
  let v11318 : BitVec 32 := Scalar.addi v5 c7_i32_2731
  let v11706 : Index := Scalar.indexCast v11318
  let c0_2870 : Index := 0#32
  ![6, v11706.toNat, 0]
def k0_off1060 (v11326 : BitVec 32) (v11331 : BitVec 32) (v11366 : BitVec 32) (v11420 : BitVec 32) : Fin 3 → Nat :=
  let c199_i32_2740 : BitVec 32 := 199#32
  let c0_i32_2739 : BitVec 32 := 0#32
  let v11332 : BitVec 32 := Scalar.maxsi c0_i32_2739 v11331
  let v11333 : BitVec 32 := Scalar.minsi c199_i32_2740 v11332
  let v11367 : BitVec 32 := Scalar.addi v11333 v11366
  let v11712 : Index := Scalar.indexCast v11367
  let c199_i32_2737 : BitVec 32 := 199#32
  let c0_i32_2736 : BitVec 32 := 0#32
  let v11327 : BitVec 32 := Scalar.maxsi c0_i32_2736 v11326
  let v11328 : BitVec 32 := Scalar.minsi c199_i32_2737 v11327
  let v11421 : BitVec 32 := Scalar.addi v11328 v11420
  let c3_i32_2783 : BitVec 32 := 3#32
  let v11424 : BitVec 32 := Scalar.shrsi v11421 c3_i32_2783
  let c3_i32_2784 : BitVec 32 := 3#32
  let v11425 : BitVec 32 := Scalar.shli v11424 c3_i32_2784
  let v11426 : BitVec 32 := v11425
  let v11713 : Index := Scalar.indexCast v11426
  let c0_2873 : Index := 0#32
  ![v11712.toNat, v11713.toNat, 0]
def k0_off1061 (v11326 : BitVec 32) (v11331 : BitVec 32) (v11341 : BitVec 32) (v11366 : BitVec 32) (v11420 : BitVec 32) : Fin 3 → Nat :=
  let c199_i32_2740 : BitVec 32 := 199#32
  let c0_i32_2739 : BitVec 32 := 0#32
  let v11332 : BitVec 32 := Scalar.maxsi c0_i32_2739 v11331
  let v11333 : BitVec 32 := Scalar.minsi c199_i32_2740 v11332
  let v11367 : BitVec 32 := Scalar.addi v11333 v11366
  let c1_i32_2758 : BitVec 32 := 1#32
  let v11368 : BitVec 32 := Scalar.addi v11367 c1_i32_2758
  let c199_i32_2746 : BitVec 32 := 199#32
  let c0_i32_2745 : BitVec 32 := 0#32
  let v11342 : BitVec 32 := Scalar.maxsi c0_i32_2745 v11341
  let v11343 : BitVec 32 := Scalar.minsi c199_i32_2746 v11342
  let v11369 : BitVec 32 := Scalar.minsi v11368 v11343
  let v11716 : Index := Scalar.indexCast v11369
  let c199_i32_2737 : BitVec 32 := 199#32
  let c0_i32_2736 : BitVec 32 := 0#32
  let v11327 : BitVec 32 := Scalar.maxsi c0_i32_2736 v11326
  let v11328 : BitVec 32 := Scalar.minsi c199_i32_2737 v11327
  let v11421 : BitVec 32 := Scalar.addi v11328 v11420
  let c3_i32_2783 : BitVec 32 := 3#32
  let v11424 : BitVec 32 := Scalar.shrsi v11421 c3_i32_2783
  let c3_i32_2784 : BitVec 32 := 3#32
  let v11425 : BitVec 32 := Scalar.shli v11424 c3_i32_2784
  let v11426 : BitVec 32 := v11425
  let v11717 : Index := Scalar.indexCast v11426
  let c0_2874 : Index := 0#32
  ![v11716.toNat, v11717.toNat, 0]
def k0_off1062 (k0_t1 : Fin k0_t1_loop.trips) : Fin 3 → Nat :=
  let c7_2876 : Index := 7#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c7_i32_2731 : BitVec 32 := 7#32
  let v11318 : BitVec 32 := Scalar.addi v5 c7_i32_2731
  let v11736 : Index := Scalar.indexCast v11318
  let c0_2877 : Index := 0#32
  ![7, v11736.toNat, 0]
def k0_off1063 (v11326 : BitVec 32) (v11331 : BitVec 32) (v11366 : BitVec 32) (v11433 : BitVec 32) : Fin 3 → Nat :=
  let c199_i32_2740 : BitVec 32 := 199#32
  let c0_i32_2739 : BitVec 32 := 0#32
  let v11332 : BitVec 32 := Scalar.maxsi c0_i32_2739 v11331
  let v11333 : BitVec 32 := Scalar.minsi c199_i32_2740 v11332
  let v11367 : BitVec 32 := Scalar.addi v11333 v11366
  let v11741 : Index := Scalar.indexCast v11367
  let c199_i32_2737 : BitVec 32 := 199#32
  let c0_i32_2736 : BitVec 32 := 0#32
  let v11327 : BitVec 32 := Scalar.maxsi c0_i32_2736 v11326
  let v11328 : BitVec 32 := Scalar.minsi c199_i32_2737 v11327
  let v11434 : BitVec 32 := Scalar.addi v11328 v11433
  let c3_i32_2790 : BitVec 32 := 3#32
  let v11437 : BitVec 32 := Scalar.shrsi v11434 c3_i32_2790
  let c3_i32_2791 : BitVec 32 := 3#32
  let v11438 : BitVec 32 := Scalar.shli v11437 c3_i32_2791
  let v11439 : BitVec 32 := v11438
  let v11742 : Index := Scalar.indexCast v11439
  let c0_2879 : Index := 0#32
  ![v11741.toNat, v11742.toNat, 0]
def k0_off1064 (v11326 : BitVec 32) (v11331 : BitVec 32) (v11341 : BitVec 32) (v11366 : BitVec 32) (v11433 : BitVec 32) : Fin 3 → Nat :=
  let c199_i32_2740 : BitVec 32 := 199#32
  let c0_i32_2739 : BitVec 32 := 0#32
  let v11332 : BitVec 32 := Scalar.maxsi c0_i32_2739 v11331
  let v11333 : BitVec 32 := Scalar.minsi c199_i32_2740 v11332
  let v11367 : BitVec 32 := Scalar.addi v11333 v11366
  let c1_i32_2758 : BitVec 32 := 1#32
  let v11368 : BitVec 32 := Scalar.addi v11367 c1_i32_2758
  let c199_i32_2746 : BitVec 32 := 199#32
  let c0_i32_2745 : BitVec 32 := 0#32
  let v11342 : BitVec 32 := Scalar.maxsi c0_i32_2745 v11341
  let v11343 : BitVec 32 := Scalar.minsi c199_i32_2746 v11342
  let v11369 : BitVec 32 := Scalar.minsi v11368 v11343
  let v11745 : Index := Scalar.indexCast v11369
  let c199_i32_2737 : BitVec 32 := 199#32
  let c0_i32_2736 : BitVec 32 := 0#32
  let v11327 : BitVec 32 := Scalar.maxsi c0_i32_2736 v11326
  let v11328 : BitVec 32 := Scalar.minsi c199_i32_2737 v11327
  let v11434 : BitVec 32 := Scalar.addi v11328 v11433
  let c3_i32_2790 : BitVec 32 := 3#32
  let v11437 : BitVec 32 := Scalar.shrsi v11434 c3_i32_2790
  let c3_i32_2791 : BitVec 32 := 3#32
  let v11438 : BitVec 32 := Scalar.shli v11437 c3_i32_2791
  let v11439 : BitVec 32 := v11438
  let v11746 : Index := Scalar.indexCast v11439
  let c0_2880 : Index := 0#32
  ![v11745.toNat, v11746.toNat, 0]
def k0_off1065 (k0_t1 : Fin k0_t1_loop.trips) : Fin 3 → Nat :=
  let c8_2882 : Index := 8#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c7_i32_2731 : BitVec 32 := 7#32
  let v11318 : BitVec 32 := Scalar.addi v5 c7_i32_2731
  let v11765 : Index := Scalar.indexCast v11318
  let c0_2883 : Index := 0#32
  ![8, v11765.toNat, 0]
def k0_off1066 (v11326 : BitVec 32) (v11331 : BitVec 32) (v11366 : BitVec 32) (v11446 : BitVec 32) : Fin 3 → Nat :=
  let c199_i32_2740 : BitVec 32 := 199#32
  let c0_i32_2739 : BitVec 32 := 0#32
  let v11332 : BitVec 32 := Scalar.maxsi c0_i32_2739 v11331
  let v11333 : BitVec 32 := Scalar.minsi c199_i32_2740 v11332
  let v11367 : BitVec 32 := Scalar.addi v11333 v11366
  let v11770 : Index := Scalar.indexCast v11367
  let c199_i32_2737 : BitVec 32 := 199#32
  let c0_i32_2736 : BitVec 32 := 0#32
  let v11327 : BitVec 32 := Scalar.maxsi c0_i32_2736 v11326
  let v11328 : BitVec 32 := Scalar.minsi c199_i32_2737 v11327
  let v11447 : BitVec 32 := Scalar.addi v11328 v11446
  let c3_i32_2797 : BitVec 32 := 3#32
  let v11450 : BitVec 32 := Scalar.shrsi v11447 c3_i32_2797
  let c3_i32_2798 : BitVec 32 := 3#32
  let v11451 : BitVec 32 := Scalar.shli v11450 c3_i32_2798
  let v11452 : BitVec 32 := v11451
  let v11771 : Index := Scalar.indexCast v11452
  let c0_2885 : Index := 0#32
  ![v11770.toNat, v11771.toNat, 0]
def k0_off1067 (v11326 : BitVec 32) (v11331 : BitVec 32) (v11341 : BitVec 32) (v11366 : BitVec 32) (v11446 : BitVec 32) : Fin 3 → Nat :=
  let c199_i32_2740 : BitVec 32 := 199#32
  let c0_i32_2739 : BitVec 32 := 0#32
  let v11332 : BitVec 32 := Scalar.maxsi c0_i32_2739 v11331
  let v11333 : BitVec 32 := Scalar.minsi c199_i32_2740 v11332
  let v11367 : BitVec 32 := Scalar.addi v11333 v11366
  let c1_i32_2758 : BitVec 32 := 1#32
  let v11368 : BitVec 32 := Scalar.addi v11367 c1_i32_2758
  let c199_i32_2746 : BitVec 32 := 199#32
  let c0_i32_2745 : BitVec 32 := 0#32
  let v11342 : BitVec 32 := Scalar.maxsi c0_i32_2745 v11341
  let v11343 : BitVec 32 := Scalar.minsi c199_i32_2746 v11342
  let v11369 : BitVec 32 := Scalar.minsi v11368 v11343
  let v11774 : Index := Scalar.indexCast v11369
  let c199_i32_2737 : BitVec 32 := 199#32
  let c0_i32_2736 : BitVec 32 := 0#32
  let v11327 : BitVec 32 := Scalar.maxsi c0_i32_2736 v11326
  let v11328 : BitVec 32 := Scalar.minsi c199_i32_2737 v11327
  let v11447 : BitVec 32 := Scalar.addi v11328 v11446
  let c3_i32_2797 : BitVec 32 := 3#32
  let v11450 : BitVec 32 := Scalar.shrsi v11447 c3_i32_2797
  let c3_i32_2798 : BitVec 32 := 3#32
  let v11451 : BitVec 32 := Scalar.shli v11450 c3_i32_2798
  let v11452 : BitVec 32 := v11451
  let v11775 : Index := Scalar.indexCast v11452
  let c0_2886 : Index := 0#32
  ![v11774.toNat, v11775.toNat, 0]
def k0_off1068 (k0_t1 : Fin k0_t1_loop.trips) : Fin 3 → Nat :=
  let c9_2888 : Index := 9#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c7_i32_2731 : BitVec 32 := 7#32
  let v11318 : BitVec 32 := Scalar.addi v5 c7_i32_2731
  let v11794 : Index := Scalar.indexCast v11318
  let c0_2889 : Index := 0#32
  ![9, v11794.toNat, 0]
def k0_off1069 (v11326 : BitVec 32) (v11331 : BitVec 32) (v11366 : BitVec 32) (v11459 : BitVec 32) : Fin 3 → Nat :=
  let c199_i32_2740 : BitVec 32 := 199#32
  let c0_i32_2739 : BitVec 32 := 0#32
  let v11332 : BitVec 32 := Scalar.maxsi c0_i32_2739 v11331
  let v11333 : BitVec 32 := Scalar.minsi c199_i32_2740 v11332
  let v11367 : BitVec 32 := Scalar.addi v11333 v11366
  let v11799 : Index := Scalar.indexCast v11367
  let c199_i32_2737 : BitVec 32 := 199#32
  let c0_i32_2736 : BitVec 32 := 0#32
  let v11327 : BitVec 32 := Scalar.maxsi c0_i32_2736 v11326
  let v11328 : BitVec 32 := Scalar.minsi c199_i32_2737 v11327
  let v11460 : BitVec 32 := Scalar.addi v11328 v11459
  let c3_i32_2804 : BitVec 32 := 3#32
  let v11463 : BitVec 32 := Scalar.shrsi v11460 c3_i32_2804
  let c3_i32_2805 : BitVec 32 := 3#32
  let v11464 : BitVec 32 := Scalar.shli v11463 c3_i32_2805
  let v11465 : BitVec 32 := v11464
  let v11800 : Index := Scalar.indexCast v11465
  let c0_2891 : Index := 0#32
  ![v11799.toNat, v11800.toNat, 0]
def k0_off1070 (v11326 : BitVec 32) (v11331 : BitVec 32) (v11341 : BitVec 32) (v11366 : BitVec 32) (v11459 : BitVec 32) : Fin 3 → Nat :=
  let c199_i32_2740 : BitVec 32 := 199#32
  let c0_i32_2739 : BitVec 32 := 0#32
  let v11332 : BitVec 32 := Scalar.maxsi c0_i32_2739 v11331
  let v11333 : BitVec 32 := Scalar.minsi c199_i32_2740 v11332
  let v11367 : BitVec 32 := Scalar.addi v11333 v11366
  let c1_i32_2758 : BitVec 32 := 1#32
  let v11368 : BitVec 32 := Scalar.addi v11367 c1_i32_2758
  let c199_i32_2746 : BitVec 32 := 199#32
  let c0_i32_2745 : BitVec 32 := 0#32
  let v11342 : BitVec 32 := Scalar.maxsi c0_i32_2745 v11341
  let v11343 : BitVec 32 := Scalar.minsi c199_i32_2746 v11342
  let v11369 : BitVec 32 := Scalar.minsi v11368 v11343
  let v11803 : Index := Scalar.indexCast v11369
  let c199_i32_2737 : BitVec 32 := 199#32
  let c0_i32_2736 : BitVec 32 := 0#32
  let v11327 : BitVec 32 := Scalar.maxsi c0_i32_2736 v11326
  let v11328 : BitVec 32 := Scalar.minsi c199_i32_2737 v11327
  let v11460 : BitVec 32 := Scalar.addi v11328 v11459
  let c3_i32_2804 : BitVec 32 := 3#32
  let v11463 : BitVec 32 := Scalar.shrsi v11460 c3_i32_2804
  let c3_i32_2805 : BitVec 32 := 3#32
  let v11464 : BitVec 32 := Scalar.shli v11463 c3_i32_2805
  let v11465 : BitVec 32 := v11464
  let v11804 : Index := Scalar.indexCast v11465
  let c0_2892 : Index := 0#32
  ![v11803.toNat, v11804.toNat, 0]
def k0_off1071 (k0_t1 : Fin k0_t1_loop.trips) : Fin 3 → Nat :=
  let c10_2894 : Index := 10#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c7_i32_2731 : BitVec 32 := 7#32
  let v11318 : BitVec 32 := Scalar.addi v5 c7_i32_2731
  let v11823 : Index := Scalar.indexCast v11318
  let c0_2895 : Index := 0#32
  ![10, v11823.toNat, 0]
def k0_off1072 (v11326 : BitVec 32) (v11331 : BitVec 32) (v11366 : BitVec 32) (v11472 : BitVec 32) : Fin 3 → Nat :=
  let c199_i32_2740 : BitVec 32 := 199#32
  let c0_i32_2739 : BitVec 32 := 0#32
  let v11332 : BitVec 32 := Scalar.maxsi c0_i32_2739 v11331
  let v11333 : BitVec 32 := Scalar.minsi c199_i32_2740 v11332
  let v11367 : BitVec 32 := Scalar.addi v11333 v11366
  let v11828 : Index := Scalar.indexCast v11367
  let c199_i32_2737 : BitVec 32 := 199#32
  let c0_i32_2736 : BitVec 32 := 0#32
  let v11327 : BitVec 32 := Scalar.maxsi c0_i32_2736 v11326
  let v11328 : BitVec 32 := Scalar.minsi c199_i32_2737 v11327
  let v11473 : BitVec 32 := Scalar.addi v11328 v11472
  let c3_i32_2811 : BitVec 32 := 3#32
  let v11476 : BitVec 32 := Scalar.shrsi v11473 c3_i32_2811
  let c3_i32_2812 : BitVec 32 := 3#32
  let v11477 : BitVec 32 := Scalar.shli v11476 c3_i32_2812
  let v11478 : BitVec 32 := v11477
  let v11829 : Index := Scalar.indexCast v11478
  let c0_2897 : Index := 0#32
  ![v11828.toNat, v11829.toNat, 0]
def k0_off1073 (v11326 : BitVec 32) (v11331 : BitVec 32) (v11341 : BitVec 32) (v11366 : BitVec 32) (v11472 : BitVec 32) : Fin 3 → Nat :=
  let c199_i32_2740 : BitVec 32 := 199#32
  let c0_i32_2739 : BitVec 32 := 0#32
  let v11332 : BitVec 32 := Scalar.maxsi c0_i32_2739 v11331
  let v11333 : BitVec 32 := Scalar.minsi c199_i32_2740 v11332
  let v11367 : BitVec 32 := Scalar.addi v11333 v11366
  let c1_i32_2758 : BitVec 32 := 1#32
  let v11368 : BitVec 32 := Scalar.addi v11367 c1_i32_2758
  let c199_i32_2746 : BitVec 32 := 199#32
  let c0_i32_2745 : BitVec 32 := 0#32
  let v11342 : BitVec 32 := Scalar.maxsi c0_i32_2745 v11341
  let v11343 : BitVec 32 := Scalar.minsi c199_i32_2746 v11342
  let v11369 : BitVec 32 := Scalar.minsi v11368 v11343
  let v11832 : Index := Scalar.indexCast v11369
  let c199_i32_2737 : BitVec 32 := 199#32
  let c0_i32_2736 : BitVec 32 := 0#32
  let v11327 : BitVec 32 := Scalar.maxsi c0_i32_2736 v11326
  let v11328 : BitVec 32 := Scalar.minsi c199_i32_2737 v11327
  let v11473 : BitVec 32 := Scalar.addi v11328 v11472
  let c3_i32_2811 : BitVec 32 := 3#32
  let v11476 : BitVec 32 := Scalar.shrsi v11473 c3_i32_2811
  let c3_i32_2812 : BitVec 32 := 3#32
  let v11477 : BitVec 32 := Scalar.shli v11476 c3_i32_2812
  let v11478 : BitVec 32 := v11477
  let v11833 : Index := Scalar.indexCast v11478
  let c0_2898 : Index := 0#32
  ![v11832.toNat, v11833.toNat, 0]
def k0_off1074 (k0_t1 : Fin k0_t1_loop.trips) : Fin 3 → Nat :=
  let c11_2900 : Index := 11#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c7_i32_2731 : BitVec 32 := 7#32
  let v11318 : BitVec 32 := Scalar.addi v5 c7_i32_2731
  let v11852 : Index := Scalar.indexCast v11318
  let c0_2901 : Index := 0#32
  ![11, v11852.toNat, 0]
def k0_off1075 (v11326 : BitVec 32) (v11331 : BitVec 32) (v11366 : BitVec 32) (v11485 : BitVec 32) : Fin 3 → Nat :=
  let c199_i32_2740 : BitVec 32 := 199#32
  let c0_i32_2739 : BitVec 32 := 0#32
  let v11332 : BitVec 32 := Scalar.maxsi c0_i32_2739 v11331
  let v11333 : BitVec 32 := Scalar.minsi c199_i32_2740 v11332
  let v11367 : BitVec 32 := Scalar.addi v11333 v11366
  let v11857 : Index := Scalar.indexCast v11367
  let c199_i32_2737 : BitVec 32 := 199#32
  let c0_i32_2736 : BitVec 32 := 0#32
  let v11327 : BitVec 32 := Scalar.maxsi c0_i32_2736 v11326
  let v11328 : BitVec 32 := Scalar.minsi c199_i32_2737 v11327
  let v11486 : BitVec 32 := Scalar.addi v11328 v11485
  let c3_i32_2818 : BitVec 32 := 3#32
  let v11489 : BitVec 32 := Scalar.shrsi v11486 c3_i32_2818
  let c3_i32_2819 : BitVec 32 := 3#32
  let v11490 : BitVec 32 := Scalar.shli v11489 c3_i32_2819
  let v11491 : BitVec 32 := v11490
  let v11858 : Index := Scalar.indexCast v11491
  let c0_2903 : Index := 0#32
  ![v11857.toNat, v11858.toNat, 0]
def k0_off1076 (v11326 : BitVec 32) (v11331 : BitVec 32) (v11341 : BitVec 32) (v11366 : BitVec 32) (v11485 : BitVec 32) : Fin 3 → Nat :=
  let c199_i32_2740 : BitVec 32 := 199#32
  let c0_i32_2739 : BitVec 32 := 0#32
  let v11332 : BitVec 32 := Scalar.maxsi c0_i32_2739 v11331
  let v11333 : BitVec 32 := Scalar.minsi c199_i32_2740 v11332
  let v11367 : BitVec 32 := Scalar.addi v11333 v11366
  let c1_i32_2758 : BitVec 32 := 1#32
  let v11368 : BitVec 32 := Scalar.addi v11367 c1_i32_2758
  let c199_i32_2746 : BitVec 32 := 199#32
  let c0_i32_2745 : BitVec 32 := 0#32
  let v11342 : BitVec 32 := Scalar.maxsi c0_i32_2745 v11341
  let v11343 : BitVec 32 := Scalar.minsi c199_i32_2746 v11342
  let v11369 : BitVec 32 := Scalar.minsi v11368 v11343
  let v11861 : Index := Scalar.indexCast v11369
  let c199_i32_2737 : BitVec 32 := 199#32
  let c0_i32_2736 : BitVec 32 := 0#32
  let v11327 : BitVec 32 := Scalar.maxsi c0_i32_2736 v11326
  let v11328 : BitVec 32 := Scalar.minsi c199_i32_2737 v11327
  let v11486 : BitVec 32 := Scalar.addi v11328 v11485
  let c3_i32_2818 : BitVec 32 := 3#32
  let v11489 : BitVec 32 := Scalar.shrsi v11486 c3_i32_2818
  let c3_i32_2819 : BitVec 32 := 3#32
  let v11490 : BitVec 32 := Scalar.shli v11489 c3_i32_2819
  let v11491 : BitVec 32 := v11490
  let v11862 : Index := Scalar.indexCast v11491
  let c0_2904 : Index := 0#32
  ![v11861.toNat, v11862.toNat, 0]
def k0_off1077 (k0_t1 : Fin k0_t1_loop.trips) : Fin 3 → Nat :=
  let c12_2906 : Index := 12#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c7_i32_2731 : BitVec 32 := 7#32
  let v11318 : BitVec 32 := Scalar.addi v5 c7_i32_2731
  let v11881 : Index := Scalar.indexCast v11318
  let c0_2907 : Index := 0#32
  ![12, v11881.toNat, 0]
def k0_off1078 (v11326 : BitVec 32) (v11331 : BitVec 32) (v11366 : BitVec 32) (v11498 : BitVec 32) : Fin 3 → Nat :=
  let c199_i32_2740 : BitVec 32 := 199#32
  let c0_i32_2739 : BitVec 32 := 0#32
  let v11332 : BitVec 32 := Scalar.maxsi c0_i32_2739 v11331
  let v11333 : BitVec 32 := Scalar.minsi c199_i32_2740 v11332
  let v11367 : BitVec 32 := Scalar.addi v11333 v11366
  let v11886 : Index := Scalar.indexCast v11367
  let c199_i32_2737 : BitVec 32 := 199#32
  let c0_i32_2736 : BitVec 32 := 0#32
  let v11327 : BitVec 32 := Scalar.maxsi c0_i32_2736 v11326
  let v11328 : BitVec 32 := Scalar.minsi c199_i32_2737 v11327
  let v11499 : BitVec 32 := Scalar.addi v11328 v11498
  let c3_i32_2825 : BitVec 32 := 3#32
  let v11502 : BitVec 32 := Scalar.shrsi v11499 c3_i32_2825
  let c3_i32_2826 : BitVec 32 := 3#32
  let v11503 : BitVec 32 := Scalar.shli v11502 c3_i32_2826
  let v11504 : BitVec 32 := v11503
  let v11887 : Index := Scalar.indexCast v11504
  let c0_2909 : Index := 0#32
  ![v11886.toNat, v11887.toNat, 0]
def k0_off1079 (v11326 : BitVec 32) (v11331 : BitVec 32) (v11341 : BitVec 32) (v11366 : BitVec 32) (v11498 : BitVec 32) : Fin 3 → Nat :=
  let c199_i32_2740 : BitVec 32 := 199#32
  let c0_i32_2739 : BitVec 32 := 0#32
  let v11332 : BitVec 32 := Scalar.maxsi c0_i32_2739 v11331
  let v11333 : BitVec 32 := Scalar.minsi c199_i32_2740 v11332
  let v11367 : BitVec 32 := Scalar.addi v11333 v11366
  let c1_i32_2758 : BitVec 32 := 1#32
  let v11368 : BitVec 32 := Scalar.addi v11367 c1_i32_2758
  let c199_i32_2746 : BitVec 32 := 199#32
  let c0_i32_2745 : BitVec 32 := 0#32
  let v11342 : BitVec 32 := Scalar.maxsi c0_i32_2745 v11341
  let v11343 : BitVec 32 := Scalar.minsi c199_i32_2746 v11342
  let v11369 : BitVec 32 := Scalar.minsi v11368 v11343
  let v11890 : Index := Scalar.indexCast v11369
  let c199_i32_2737 : BitVec 32 := 199#32
  let c0_i32_2736 : BitVec 32 := 0#32
  let v11327 : BitVec 32 := Scalar.maxsi c0_i32_2736 v11326
  let v11328 : BitVec 32 := Scalar.minsi c199_i32_2737 v11327
  let v11499 : BitVec 32 := Scalar.addi v11328 v11498
  let c3_i32_2825 : BitVec 32 := 3#32
  let v11502 : BitVec 32 := Scalar.shrsi v11499 c3_i32_2825
  let c3_i32_2826 : BitVec 32 := 3#32
  let v11503 : BitVec 32 := Scalar.shli v11502 c3_i32_2826
  let v11504 : BitVec 32 := v11503
  let v11891 : Index := Scalar.indexCast v11504
  let c0_2910 : Index := 0#32
  ![v11890.toNat, v11891.toNat, 0]
def k0_off1080 (k0_t1 : Fin k0_t1_loop.trips) : Fin 3 → Nat :=
  let c13_2912 : Index := 13#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c7_i32_2731 : BitVec 32 := 7#32
  let v11318 : BitVec 32 := Scalar.addi v5 c7_i32_2731
  let v11910 : Index := Scalar.indexCast v11318
  let c0_2913 : Index := 0#32
  ![13, v11910.toNat, 0]
def k0_off1081 (v11326 : BitVec 32) (v11331 : BitVec 32) (v11375 : BitVec 32) (v11420 : BitVec 32) : Fin 3 → Nat :=
  let c199_i32_2740 : BitVec 32 := 199#32
  let c0_i32_2739 : BitVec 32 := 0#32
  let v11332 : BitVec 32 := Scalar.maxsi c0_i32_2739 v11331
  let v11333 : BitVec 32 := Scalar.minsi c199_i32_2740 v11332
  let v11376 : BitVec 32 := Scalar.addi v11333 v11375
  let v11916 : Index := Scalar.indexCast v11376
  let c199_i32_2737 : BitVec 32 := 199#32
  let c0_i32_2736 : BitVec 32 := 0#32
  let v11327 : BitVec 32 := Scalar.maxsi c0_i32_2736 v11326
  let v11328 : BitVec 32 := Scalar.minsi c199_i32_2737 v11327
  let v11421 : BitVec 32 := Scalar.addi v11328 v11420
  let c3_i32_2783 : BitVec 32 := 3#32
  let v11424 : BitVec 32 := Scalar.shrsi v11421 c3_i32_2783
  let c3_i32_2784 : BitVec 32 := 3#32
  let v11425 : BitVec 32 := Scalar.shli v11424 c3_i32_2784
  let v11426 : BitVec 32 := v11425
  let v11917 : Index := Scalar.indexCast v11426
  let c0_2916 : Index := 0#32
  ![v11916.toNat, v11917.toNat, 0]
def k0_off1082 (v11326 : BitVec 32) (v11331 : BitVec 32) (v11341 : BitVec 32) (v11375 : BitVec 32) (v11420 : BitVec 32) : Fin 3 → Nat :=
  let c199_i32_2740 : BitVec 32 := 199#32
  let c0_i32_2739 : BitVec 32 := 0#32
  let v11332 : BitVec 32 := Scalar.maxsi c0_i32_2739 v11331
  let v11333 : BitVec 32 := Scalar.minsi c199_i32_2740 v11332
  let v11376 : BitVec 32 := Scalar.addi v11333 v11375
  let c1_i32_2762 : BitVec 32 := 1#32
  let v11377 : BitVec 32 := Scalar.addi v11376 c1_i32_2762
  let c199_i32_2746 : BitVec 32 := 199#32
  let c0_i32_2745 : BitVec 32 := 0#32
  let v11342 : BitVec 32 := Scalar.maxsi c0_i32_2745 v11341
  let v11343 : BitVec 32 := Scalar.minsi c199_i32_2746 v11342
  let v11378 : BitVec 32 := Scalar.minsi v11377 v11343
  let v11920 : Index := Scalar.indexCast v11378
  let c199_i32_2737 : BitVec 32 := 199#32
  let c0_i32_2736 : BitVec 32 := 0#32
  let v11327 : BitVec 32 := Scalar.maxsi c0_i32_2736 v11326
  let v11328 : BitVec 32 := Scalar.minsi c199_i32_2737 v11327
  let v11421 : BitVec 32 := Scalar.addi v11328 v11420
  let c3_i32_2783 : BitVec 32 := 3#32
  let v11424 : BitVec 32 := Scalar.shrsi v11421 c3_i32_2783
  let c3_i32_2784 : BitVec 32 := 3#32
  let v11425 : BitVec 32 := Scalar.shli v11424 c3_i32_2784
  let v11426 : BitVec 32 := v11425
  let v11921 : Index := Scalar.indexCast v11426
  let c0_2917 : Index := 0#32
  ![v11920.toNat, v11921.toNat, 0]
def k0_off1083 (k0_t1 : Fin k0_t1_loop.trips) : Fin 3 → Nat :=
  let c14_2919 : Index := 14#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c7_i32_2731 : BitVec 32 := 7#32
  let v11318 : BitVec 32 := Scalar.addi v5 c7_i32_2731
  let v11940 : Index := Scalar.indexCast v11318
  let c0_2920 : Index := 0#32
  ![14, v11940.toNat, 0]
def k0_off1084 (v11326 : BitVec 32) (v11331 : BitVec 32) (v11375 : BitVec 32) (v11433 : BitVec 32) : Fin 3 → Nat :=
  let c199_i32_2740 : BitVec 32 := 199#32
  let c0_i32_2739 : BitVec 32 := 0#32
  let v11332 : BitVec 32 := Scalar.maxsi c0_i32_2739 v11331
  let v11333 : BitVec 32 := Scalar.minsi c199_i32_2740 v11332
  let v11376 : BitVec 32 := Scalar.addi v11333 v11375
  let v11945 : Index := Scalar.indexCast v11376
  let c199_i32_2737 : BitVec 32 := 199#32
  let c0_i32_2736 : BitVec 32 := 0#32
  let v11327 : BitVec 32 := Scalar.maxsi c0_i32_2736 v11326
  let v11328 : BitVec 32 := Scalar.minsi c199_i32_2737 v11327
  let v11434 : BitVec 32 := Scalar.addi v11328 v11433
  let c3_i32_2790 : BitVec 32 := 3#32
  let v11437 : BitVec 32 := Scalar.shrsi v11434 c3_i32_2790
  let c3_i32_2791 : BitVec 32 := 3#32
  let v11438 : BitVec 32 := Scalar.shli v11437 c3_i32_2791
  let v11439 : BitVec 32 := v11438
  let v11946 : Index := Scalar.indexCast v11439
  let c0_2922 : Index := 0#32
  ![v11945.toNat, v11946.toNat, 0]
def k0_off1085 (v11326 : BitVec 32) (v11331 : BitVec 32) (v11341 : BitVec 32) (v11375 : BitVec 32) (v11433 : BitVec 32) : Fin 3 → Nat :=
  let c199_i32_2740 : BitVec 32 := 199#32
  let c0_i32_2739 : BitVec 32 := 0#32
  let v11332 : BitVec 32 := Scalar.maxsi c0_i32_2739 v11331
  let v11333 : BitVec 32 := Scalar.minsi c199_i32_2740 v11332
  let v11376 : BitVec 32 := Scalar.addi v11333 v11375
  let c1_i32_2762 : BitVec 32 := 1#32
  let v11377 : BitVec 32 := Scalar.addi v11376 c1_i32_2762
  let c199_i32_2746 : BitVec 32 := 199#32
  let c0_i32_2745 : BitVec 32 := 0#32
  let v11342 : BitVec 32 := Scalar.maxsi c0_i32_2745 v11341
  let v11343 : BitVec 32 := Scalar.minsi c199_i32_2746 v11342
  let v11378 : BitVec 32 := Scalar.minsi v11377 v11343
  let v11949 : Index := Scalar.indexCast v11378
  let c199_i32_2737 : BitVec 32 := 199#32
  let c0_i32_2736 : BitVec 32 := 0#32
  let v11327 : BitVec 32 := Scalar.maxsi c0_i32_2736 v11326
  let v11328 : BitVec 32 := Scalar.minsi c199_i32_2737 v11327
  let v11434 : BitVec 32 := Scalar.addi v11328 v11433
  let c3_i32_2790 : BitVec 32 := 3#32
  let v11437 : BitVec 32 := Scalar.shrsi v11434 c3_i32_2790
  let c3_i32_2791 : BitVec 32 := 3#32
  let v11438 : BitVec 32 := Scalar.shli v11437 c3_i32_2791
  let v11439 : BitVec 32 := v11438
  let v11950 : Index := Scalar.indexCast v11439
  let c0_2923 : Index := 0#32
  ![v11949.toNat, v11950.toNat, 0]
def k0_off1086 (k0_t1 : Fin k0_t1_loop.trips) : Fin 3 → Nat :=
  let c15_2925 : Index := 15#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c7_i32_2731 : BitVec 32 := 7#32
  let v11318 : BitVec 32 := Scalar.addi v5 c7_i32_2731
  let v11969 : Index := Scalar.indexCast v11318
  let c0_2926 : Index := 0#32
  ![15, v11969.toNat, 0]
def k0_off1087 (v11326 : BitVec 32) (v11331 : BitVec 32) (v11375 : BitVec 32) (v11446 : BitVec 32) : Fin 3 → Nat :=
  let c199_i32_2740 : BitVec 32 := 199#32
  let c0_i32_2739 : BitVec 32 := 0#32
  let v11332 : BitVec 32 := Scalar.maxsi c0_i32_2739 v11331
  let v11333 : BitVec 32 := Scalar.minsi c199_i32_2740 v11332
  let v11376 : BitVec 32 := Scalar.addi v11333 v11375
  let v11974 : Index := Scalar.indexCast v11376
  let c199_i32_2737 : BitVec 32 := 199#32
  let c0_i32_2736 : BitVec 32 := 0#32
  let v11327 : BitVec 32 := Scalar.maxsi c0_i32_2736 v11326
  let v11328 : BitVec 32 := Scalar.minsi c199_i32_2737 v11327
  let v11447 : BitVec 32 := Scalar.addi v11328 v11446
  let c3_i32_2797 : BitVec 32 := 3#32
  let v11450 : BitVec 32 := Scalar.shrsi v11447 c3_i32_2797
  let c3_i32_2798 : BitVec 32 := 3#32
  let v11451 : BitVec 32 := Scalar.shli v11450 c3_i32_2798
  let v11452 : BitVec 32 := v11451
  let v11975 : Index := Scalar.indexCast v11452
  let c0_2928 : Index := 0#32
  ![v11974.toNat, v11975.toNat, 0]
def k0_off1088 (v11326 : BitVec 32) (v11331 : BitVec 32) (v11341 : BitVec 32) (v11375 : BitVec 32) (v11446 : BitVec 32) : Fin 3 → Nat :=
  let c199_i32_2740 : BitVec 32 := 199#32
  let c0_i32_2739 : BitVec 32 := 0#32
  let v11332 : BitVec 32 := Scalar.maxsi c0_i32_2739 v11331
  let v11333 : BitVec 32 := Scalar.minsi c199_i32_2740 v11332
  let v11376 : BitVec 32 := Scalar.addi v11333 v11375
  let c1_i32_2762 : BitVec 32 := 1#32
  let v11377 : BitVec 32 := Scalar.addi v11376 c1_i32_2762
  let c199_i32_2746 : BitVec 32 := 199#32
  let c0_i32_2745 : BitVec 32 := 0#32
  let v11342 : BitVec 32 := Scalar.maxsi c0_i32_2745 v11341
  let v11343 : BitVec 32 := Scalar.minsi c199_i32_2746 v11342
  let v11378 : BitVec 32 := Scalar.minsi v11377 v11343
  let v11978 : Index := Scalar.indexCast v11378
  let c199_i32_2737 : BitVec 32 := 199#32
  let c0_i32_2736 : BitVec 32 := 0#32
  let v11327 : BitVec 32 := Scalar.maxsi c0_i32_2736 v11326
  let v11328 : BitVec 32 := Scalar.minsi c199_i32_2737 v11327
  let v11447 : BitVec 32 := Scalar.addi v11328 v11446
  let c3_i32_2797 : BitVec 32 := 3#32
  let v11450 : BitVec 32 := Scalar.shrsi v11447 c3_i32_2797
  let c3_i32_2798 : BitVec 32 := 3#32
  let v11451 : BitVec 32 := Scalar.shli v11450 c3_i32_2798
  let v11452 : BitVec 32 := v11451
  let v11979 : Index := Scalar.indexCast v11452
  let c0_2929 : Index := 0#32
  ![v11978.toNat, v11979.toNat, 0]
def k0_off1089 (k0_t1 : Fin k0_t1_loop.trips) : Fin 3 → Nat :=
  let c16_2931 : Index := 16#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c7_i32_2731 : BitVec 32 := 7#32
  let v11318 : BitVec 32 := Scalar.addi v5 c7_i32_2731
  let v11998 : Index := Scalar.indexCast v11318
  let c0_2932 : Index := 0#32
  ![16, v11998.toNat, 0]
def k0_off1090 (v11326 : BitVec 32) (v11331 : BitVec 32) (v11375 : BitVec 32) (v11459 : BitVec 32) : Fin 3 → Nat :=
  let c199_i32_2740 : BitVec 32 := 199#32
  let c0_i32_2739 : BitVec 32 := 0#32
  let v11332 : BitVec 32 := Scalar.maxsi c0_i32_2739 v11331
  let v11333 : BitVec 32 := Scalar.minsi c199_i32_2740 v11332
  let v11376 : BitVec 32 := Scalar.addi v11333 v11375
  let v12003 : Index := Scalar.indexCast v11376
  let c199_i32_2737 : BitVec 32 := 199#32
  let c0_i32_2736 : BitVec 32 := 0#32
  let v11327 : BitVec 32 := Scalar.maxsi c0_i32_2736 v11326
  let v11328 : BitVec 32 := Scalar.minsi c199_i32_2737 v11327
  let v11460 : BitVec 32 := Scalar.addi v11328 v11459
  let c3_i32_2804 : BitVec 32 := 3#32
  let v11463 : BitVec 32 := Scalar.shrsi v11460 c3_i32_2804
  let c3_i32_2805 : BitVec 32 := 3#32
  let v11464 : BitVec 32 := Scalar.shli v11463 c3_i32_2805
  let v11465 : BitVec 32 := v11464
  let v12004 : Index := Scalar.indexCast v11465
  let c0_2934 : Index := 0#32
  ![v12003.toNat, v12004.toNat, 0]
def k0_off1091 (v11326 : BitVec 32) (v11331 : BitVec 32) (v11341 : BitVec 32) (v11375 : BitVec 32) (v11459 : BitVec 32) : Fin 3 → Nat :=
  let c199_i32_2740 : BitVec 32 := 199#32
  let c0_i32_2739 : BitVec 32 := 0#32
  let v11332 : BitVec 32 := Scalar.maxsi c0_i32_2739 v11331
  let v11333 : BitVec 32 := Scalar.minsi c199_i32_2740 v11332
  let v11376 : BitVec 32 := Scalar.addi v11333 v11375
  let c1_i32_2762 : BitVec 32 := 1#32
  let v11377 : BitVec 32 := Scalar.addi v11376 c1_i32_2762
  let c199_i32_2746 : BitVec 32 := 199#32
  let c0_i32_2745 : BitVec 32 := 0#32
  let v11342 : BitVec 32 := Scalar.maxsi c0_i32_2745 v11341
  let v11343 : BitVec 32 := Scalar.minsi c199_i32_2746 v11342
  let v11378 : BitVec 32 := Scalar.minsi v11377 v11343
  let v12007 : Index := Scalar.indexCast v11378
  let c199_i32_2737 : BitVec 32 := 199#32
  let c0_i32_2736 : BitVec 32 := 0#32
  let v11327 : BitVec 32 := Scalar.maxsi c0_i32_2736 v11326
  let v11328 : BitVec 32 := Scalar.minsi c199_i32_2737 v11327
  let v11460 : BitVec 32 := Scalar.addi v11328 v11459
  let c3_i32_2804 : BitVec 32 := 3#32
  let v11463 : BitVec 32 := Scalar.shrsi v11460 c3_i32_2804
  let c3_i32_2805 : BitVec 32 := 3#32
  let v11464 : BitVec 32 := Scalar.shli v11463 c3_i32_2805
  let v11465 : BitVec 32 := v11464
  let v12008 : Index := Scalar.indexCast v11465
  let c0_2935 : Index := 0#32
  ![v12007.toNat, v12008.toNat, 0]
def k0_off1092 (k0_t1 : Fin k0_t1_loop.trips) : Fin 3 → Nat :=
  let c17_2937 : Index := 17#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c7_i32_2731 : BitVec 32 := 7#32
  let v11318 : BitVec 32 := Scalar.addi v5 c7_i32_2731
  let v12027 : Index := Scalar.indexCast v11318
  let c0_2938 : Index := 0#32
  ![17, v12027.toNat, 0]
def k0_off1093 (v11326 : BitVec 32) (v11331 : BitVec 32) (v11375 : BitVec 32) (v11472 : BitVec 32) : Fin 3 → Nat :=
  let c199_i32_2740 : BitVec 32 := 199#32
  let c0_i32_2739 : BitVec 32 := 0#32
  let v11332 : BitVec 32 := Scalar.maxsi c0_i32_2739 v11331
  let v11333 : BitVec 32 := Scalar.minsi c199_i32_2740 v11332
  let v11376 : BitVec 32 := Scalar.addi v11333 v11375
  let v12032 : Index := Scalar.indexCast v11376
  let c199_i32_2737 : BitVec 32 := 199#32
  let c0_i32_2736 : BitVec 32 := 0#32
  let v11327 : BitVec 32 := Scalar.maxsi c0_i32_2736 v11326
  let v11328 : BitVec 32 := Scalar.minsi c199_i32_2737 v11327
  let v11473 : BitVec 32 := Scalar.addi v11328 v11472
  let c3_i32_2811 : BitVec 32 := 3#32
  let v11476 : BitVec 32 := Scalar.shrsi v11473 c3_i32_2811
  let c3_i32_2812 : BitVec 32 := 3#32
  let v11477 : BitVec 32 := Scalar.shli v11476 c3_i32_2812
  let v11478 : BitVec 32 := v11477
  let v12033 : Index := Scalar.indexCast v11478
  let c0_2940 : Index := 0#32
  ![v12032.toNat, v12033.toNat, 0]
def k0_off1094 (v11326 : BitVec 32) (v11331 : BitVec 32) (v11341 : BitVec 32) (v11375 : BitVec 32) (v11472 : BitVec 32) : Fin 3 → Nat :=
  let c199_i32_2740 : BitVec 32 := 199#32
  let c0_i32_2739 : BitVec 32 := 0#32
  let v11332 : BitVec 32 := Scalar.maxsi c0_i32_2739 v11331
  let v11333 : BitVec 32 := Scalar.minsi c199_i32_2740 v11332
  let v11376 : BitVec 32 := Scalar.addi v11333 v11375
  let c1_i32_2762 : BitVec 32 := 1#32
  let v11377 : BitVec 32 := Scalar.addi v11376 c1_i32_2762
  let c199_i32_2746 : BitVec 32 := 199#32
  let c0_i32_2745 : BitVec 32 := 0#32
  let v11342 : BitVec 32 := Scalar.maxsi c0_i32_2745 v11341
  let v11343 : BitVec 32 := Scalar.minsi c199_i32_2746 v11342
  let v11378 : BitVec 32 := Scalar.minsi v11377 v11343
  let v12036 : Index := Scalar.indexCast v11378
  let c199_i32_2737 : BitVec 32 := 199#32
  let c0_i32_2736 : BitVec 32 := 0#32
  let v11327 : BitVec 32 := Scalar.maxsi c0_i32_2736 v11326
  let v11328 : BitVec 32 := Scalar.minsi c199_i32_2737 v11327
  let v11473 : BitVec 32 := Scalar.addi v11328 v11472
  let c3_i32_2811 : BitVec 32 := 3#32
  let v11476 : BitVec 32 := Scalar.shrsi v11473 c3_i32_2811
  let c3_i32_2812 : BitVec 32 := 3#32
  let v11477 : BitVec 32 := Scalar.shli v11476 c3_i32_2812
  let v11478 : BitVec 32 := v11477
  let v12037 : Index := Scalar.indexCast v11478
  let c0_2941 : Index := 0#32
  ![v12036.toNat, v12037.toNat, 0]
def k0_off1095 (k0_t1 : Fin k0_t1_loop.trips) : Fin 3 → Nat :=
  let c18_2943 : Index := 18#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c7_i32_2731 : BitVec 32 := 7#32
  let v11318 : BitVec 32 := Scalar.addi v5 c7_i32_2731
  let v12056 : Index := Scalar.indexCast v11318
  let c0_2944 : Index := 0#32
  ![18, v12056.toNat, 0]
def k0_off1096 (v11326 : BitVec 32) (v11331 : BitVec 32) (v11375 : BitVec 32) (v11485 : BitVec 32) : Fin 3 → Nat :=
  let c199_i32_2740 : BitVec 32 := 199#32
  let c0_i32_2739 : BitVec 32 := 0#32
  let v11332 : BitVec 32 := Scalar.maxsi c0_i32_2739 v11331
  let v11333 : BitVec 32 := Scalar.minsi c199_i32_2740 v11332
  let v11376 : BitVec 32 := Scalar.addi v11333 v11375
  let v12061 : Index := Scalar.indexCast v11376
  let c199_i32_2737 : BitVec 32 := 199#32
  let c0_i32_2736 : BitVec 32 := 0#32
  let v11327 : BitVec 32 := Scalar.maxsi c0_i32_2736 v11326
  let v11328 : BitVec 32 := Scalar.minsi c199_i32_2737 v11327
  let v11486 : BitVec 32 := Scalar.addi v11328 v11485
  let c3_i32_2818 : BitVec 32 := 3#32
  let v11489 : BitVec 32 := Scalar.shrsi v11486 c3_i32_2818
  let c3_i32_2819 : BitVec 32 := 3#32
  let v11490 : BitVec 32 := Scalar.shli v11489 c3_i32_2819
  let v11491 : BitVec 32 := v11490
  let v12062 : Index := Scalar.indexCast v11491
  let c0_2946 : Index := 0#32
  ![v12061.toNat, v12062.toNat, 0]
def k0_off1097 (v11326 : BitVec 32) (v11331 : BitVec 32) (v11341 : BitVec 32) (v11375 : BitVec 32) (v11485 : BitVec 32) : Fin 3 → Nat :=
  let c199_i32_2740 : BitVec 32 := 199#32
  let c0_i32_2739 : BitVec 32 := 0#32
  let v11332 : BitVec 32 := Scalar.maxsi c0_i32_2739 v11331
  let v11333 : BitVec 32 := Scalar.minsi c199_i32_2740 v11332
  let v11376 : BitVec 32 := Scalar.addi v11333 v11375
  let c1_i32_2762 : BitVec 32 := 1#32
  let v11377 : BitVec 32 := Scalar.addi v11376 c1_i32_2762
  let c199_i32_2746 : BitVec 32 := 199#32
  let c0_i32_2745 : BitVec 32 := 0#32
  let v11342 : BitVec 32 := Scalar.maxsi c0_i32_2745 v11341
  let v11343 : BitVec 32 := Scalar.minsi c199_i32_2746 v11342
  let v11378 : BitVec 32 := Scalar.minsi v11377 v11343
  let v12065 : Index := Scalar.indexCast v11378
  let c199_i32_2737 : BitVec 32 := 199#32
  let c0_i32_2736 : BitVec 32 := 0#32
  let v11327 : BitVec 32 := Scalar.maxsi c0_i32_2736 v11326
  let v11328 : BitVec 32 := Scalar.minsi c199_i32_2737 v11327
  let v11486 : BitVec 32 := Scalar.addi v11328 v11485
  let c3_i32_2818 : BitVec 32 := 3#32
  let v11489 : BitVec 32 := Scalar.shrsi v11486 c3_i32_2818
  let c3_i32_2819 : BitVec 32 := 3#32
  let v11490 : BitVec 32 := Scalar.shli v11489 c3_i32_2819
  let v11491 : BitVec 32 := v11490
  let v12066 : Index := Scalar.indexCast v11491
  let c0_2947 : Index := 0#32
  ![v12065.toNat, v12066.toNat, 0]
def k0_off1098 (k0_t1 : Fin k0_t1_loop.trips) : Fin 3 → Nat :=
  let c19_2949 : Index := 19#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c7_i32_2731 : BitVec 32 := 7#32
  let v11318 : BitVec 32 := Scalar.addi v5 c7_i32_2731
  let v12085 : Index := Scalar.indexCast v11318
  let c0_2950 : Index := 0#32
  ![19, v12085.toNat, 0]
def k0_off1099 (v11326 : BitVec 32) (v11331 : BitVec 32) (v11375 : BitVec 32) (v11498 : BitVec 32) : Fin 3 → Nat :=
  let c199_i32_2740 : BitVec 32 := 199#32
  let c0_i32_2739 : BitVec 32 := 0#32
  let v11332 : BitVec 32 := Scalar.maxsi c0_i32_2739 v11331
  let v11333 : BitVec 32 := Scalar.minsi c199_i32_2740 v11332
  let v11376 : BitVec 32 := Scalar.addi v11333 v11375
  let v12090 : Index := Scalar.indexCast v11376
  let c199_i32_2737 : BitVec 32 := 199#32
  let c0_i32_2736 : BitVec 32 := 0#32
  let v11327 : BitVec 32 := Scalar.maxsi c0_i32_2736 v11326
  let v11328 : BitVec 32 := Scalar.minsi c199_i32_2737 v11327
  let v11499 : BitVec 32 := Scalar.addi v11328 v11498
  let c3_i32_2825 : BitVec 32 := 3#32
  let v11502 : BitVec 32 := Scalar.shrsi v11499 c3_i32_2825
  let c3_i32_2826 : BitVec 32 := 3#32
  let v11503 : BitVec 32 := Scalar.shli v11502 c3_i32_2826
  let v11504 : BitVec 32 := v11503
  let v12091 : Index := Scalar.indexCast v11504
  let c0_2952 : Index := 0#32
  ![v12090.toNat, v12091.toNat, 0]
def k0_off1100 (v11326 : BitVec 32) (v11331 : BitVec 32) (v11341 : BitVec 32) (v11375 : BitVec 32) (v11498 : BitVec 32) : Fin 3 → Nat :=
  let c199_i32_2740 : BitVec 32 := 199#32
  let c0_i32_2739 : BitVec 32 := 0#32
  let v11332 : BitVec 32 := Scalar.maxsi c0_i32_2739 v11331
  let v11333 : BitVec 32 := Scalar.minsi c199_i32_2740 v11332
  let v11376 : BitVec 32 := Scalar.addi v11333 v11375
  let c1_i32_2762 : BitVec 32 := 1#32
  let v11377 : BitVec 32 := Scalar.addi v11376 c1_i32_2762
  let c199_i32_2746 : BitVec 32 := 199#32
  let c0_i32_2745 : BitVec 32 := 0#32
  let v11342 : BitVec 32 := Scalar.maxsi c0_i32_2745 v11341
  let v11343 : BitVec 32 := Scalar.minsi c199_i32_2746 v11342
  let v11378 : BitVec 32 := Scalar.minsi v11377 v11343
  let v12094 : Index := Scalar.indexCast v11378
  let c199_i32_2737 : BitVec 32 := 199#32
  let c0_i32_2736 : BitVec 32 := 0#32
  let v11327 : BitVec 32 := Scalar.maxsi c0_i32_2736 v11326
  let v11328 : BitVec 32 := Scalar.minsi c199_i32_2737 v11327
  let v11499 : BitVec 32 := Scalar.addi v11328 v11498
  let c3_i32_2825 : BitVec 32 := 3#32
  let v11502 : BitVec 32 := Scalar.shrsi v11499 c3_i32_2825
  let c3_i32_2826 : BitVec 32 := 3#32
  let v11503 : BitVec 32 := Scalar.shli v11502 c3_i32_2826
  let v11504 : BitVec 32 := v11503
  let v12095 : Index := Scalar.indexCast v11504
  let c0_2953 : Index := 0#32
  ![v12094.toNat, v12095.toNat, 0]
def k0_off1101 (k0_t1 : Fin k0_t1_loop.trips) : Fin 3 → Nat :=
  let c20_2955 : Index := 20#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c7_i32_2731 : BitVec 32 := 7#32
  let v11318 : BitVec 32 := Scalar.addi v5 c7_i32_2731
  let v12114 : Index := Scalar.indexCast v11318
  let c0_2956 : Index := 0#32
  ![20, v12114.toNat, 0]
def k0_off1102 (v11326 : BitVec 32) (v11331 : BitVec 32) (v11384 : BitVec 32) (v11420 : BitVec 32) : Fin 3 → Nat :=
  let c199_i32_2740 : BitVec 32 := 199#32
  let c0_i32_2739 : BitVec 32 := 0#32
  let v11332 : BitVec 32 := Scalar.maxsi c0_i32_2739 v11331
  let v11333 : BitVec 32 := Scalar.minsi c199_i32_2740 v11332
  let v11385 : BitVec 32 := Scalar.addi v11333 v11384
  let v12120 : Index := Scalar.indexCast v11385
  let c199_i32_2737 : BitVec 32 := 199#32
  let c0_i32_2736 : BitVec 32 := 0#32
  let v11327 : BitVec 32 := Scalar.maxsi c0_i32_2736 v11326
  let v11328 : BitVec 32 := Scalar.minsi c199_i32_2737 v11327
  let v11421 : BitVec 32 := Scalar.addi v11328 v11420
  let c3_i32_2783 : BitVec 32 := 3#32
  let v11424 : BitVec 32 := Scalar.shrsi v11421 c3_i32_2783
  let c3_i32_2784 : BitVec 32 := 3#32
  let v11425 : BitVec 32 := Scalar.shli v11424 c3_i32_2784
  let v11426 : BitVec 32 := v11425
  let v12121 : Index := Scalar.indexCast v11426
  let c0_2959 : Index := 0#32
  ![v12120.toNat, v12121.toNat, 0]
def k0_off1103 (v11326 : BitVec 32) (v11331 : BitVec 32) (v11341 : BitVec 32) (v11384 : BitVec 32) (v11420 : BitVec 32) : Fin 3 → Nat :=
  let c199_i32_2740 : BitVec 32 := 199#32
  let c0_i32_2739 : BitVec 32 := 0#32
  let v11332 : BitVec 32 := Scalar.maxsi c0_i32_2739 v11331
  let v11333 : BitVec 32 := Scalar.minsi c199_i32_2740 v11332
  let v11385 : BitVec 32 := Scalar.addi v11333 v11384
  let c1_i32_2766 : BitVec 32 := 1#32
  let v11386 : BitVec 32 := Scalar.addi v11385 c1_i32_2766
  let c199_i32_2746 : BitVec 32 := 199#32
  let c0_i32_2745 : BitVec 32 := 0#32
  let v11342 : BitVec 32 := Scalar.maxsi c0_i32_2745 v11341
  let v11343 : BitVec 32 := Scalar.minsi c199_i32_2746 v11342
  let v11387 : BitVec 32 := Scalar.minsi v11386 v11343
  let v12124 : Index := Scalar.indexCast v11387
  let c199_i32_2737 : BitVec 32 := 199#32
  let c0_i32_2736 : BitVec 32 := 0#32
  let v11327 : BitVec 32 := Scalar.maxsi c0_i32_2736 v11326
  let v11328 : BitVec 32 := Scalar.minsi c199_i32_2737 v11327
  let v11421 : BitVec 32 := Scalar.addi v11328 v11420
  let c3_i32_2783 : BitVec 32 := 3#32
  let v11424 : BitVec 32 := Scalar.shrsi v11421 c3_i32_2783
  let c3_i32_2784 : BitVec 32 := 3#32
  let v11425 : BitVec 32 := Scalar.shli v11424 c3_i32_2784
  let v11426 : BitVec 32 := v11425
  let v12125 : Index := Scalar.indexCast v11426
  let c0_2960 : Index := 0#32
  ![v12124.toNat, v12125.toNat, 0]
def k0_off1104 (k0_t1 : Fin k0_t1_loop.trips) : Fin 3 → Nat :=
  let c21_2962 : Index := 21#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c7_i32_2731 : BitVec 32 := 7#32
  let v11318 : BitVec 32 := Scalar.addi v5 c7_i32_2731
  let v12144 : Index := Scalar.indexCast v11318
  let c0_2963 : Index := 0#32
  ![21, v12144.toNat, 0]
def k0_off1105 (v11326 : BitVec 32) (v11331 : BitVec 32) (v11384 : BitVec 32) (v11433 : BitVec 32) : Fin 3 → Nat :=
  let c199_i32_2740 : BitVec 32 := 199#32
  let c0_i32_2739 : BitVec 32 := 0#32
  let v11332 : BitVec 32 := Scalar.maxsi c0_i32_2739 v11331
  let v11333 : BitVec 32 := Scalar.minsi c199_i32_2740 v11332
  let v11385 : BitVec 32 := Scalar.addi v11333 v11384
  let v12149 : Index := Scalar.indexCast v11385
  let c199_i32_2737 : BitVec 32 := 199#32
  let c0_i32_2736 : BitVec 32 := 0#32
  let v11327 : BitVec 32 := Scalar.maxsi c0_i32_2736 v11326
  let v11328 : BitVec 32 := Scalar.minsi c199_i32_2737 v11327
  let v11434 : BitVec 32 := Scalar.addi v11328 v11433
  let c3_i32_2790 : BitVec 32 := 3#32
  let v11437 : BitVec 32 := Scalar.shrsi v11434 c3_i32_2790
  let c3_i32_2791 : BitVec 32 := 3#32
  let v11438 : BitVec 32 := Scalar.shli v11437 c3_i32_2791
  let v11439 : BitVec 32 := v11438
  let v12150 : Index := Scalar.indexCast v11439
  let c0_2965 : Index := 0#32
  ![v12149.toNat, v12150.toNat, 0]
def k0_off1106 (v11326 : BitVec 32) (v11331 : BitVec 32) (v11341 : BitVec 32) (v11384 : BitVec 32) (v11433 : BitVec 32) : Fin 3 → Nat :=
  let c199_i32_2740 : BitVec 32 := 199#32
  let c0_i32_2739 : BitVec 32 := 0#32
  let v11332 : BitVec 32 := Scalar.maxsi c0_i32_2739 v11331
  let v11333 : BitVec 32 := Scalar.minsi c199_i32_2740 v11332
  let v11385 : BitVec 32 := Scalar.addi v11333 v11384
  let c1_i32_2766 : BitVec 32 := 1#32
  let v11386 : BitVec 32 := Scalar.addi v11385 c1_i32_2766
  let c199_i32_2746 : BitVec 32 := 199#32
  let c0_i32_2745 : BitVec 32 := 0#32
  let v11342 : BitVec 32 := Scalar.maxsi c0_i32_2745 v11341
  let v11343 : BitVec 32 := Scalar.minsi c199_i32_2746 v11342
  let v11387 : BitVec 32 := Scalar.minsi v11386 v11343
  let v12153 : Index := Scalar.indexCast v11387
  let c199_i32_2737 : BitVec 32 := 199#32
  let c0_i32_2736 : BitVec 32 := 0#32
  let v11327 : BitVec 32 := Scalar.maxsi c0_i32_2736 v11326
  let v11328 : BitVec 32 := Scalar.minsi c199_i32_2737 v11327
  let v11434 : BitVec 32 := Scalar.addi v11328 v11433
  let c3_i32_2790 : BitVec 32 := 3#32
  let v11437 : BitVec 32 := Scalar.shrsi v11434 c3_i32_2790
  let c3_i32_2791 : BitVec 32 := 3#32
  let v11438 : BitVec 32 := Scalar.shli v11437 c3_i32_2791
  let v11439 : BitVec 32 := v11438
  let v12154 : Index := Scalar.indexCast v11439
  let c0_2966 : Index := 0#32
  ![v12153.toNat, v12154.toNat, 0]
def k0_off1107 (k0_t1 : Fin k0_t1_loop.trips) : Fin 3 → Nat :=
  let c22_2968 : Index := 22#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c7_i32_2731 : BitVec 32 := 7#32
  let v11318 : BitVec 32 := Scalar.addi v5 c7_i32_2731
  let v12173 : Index := Scalar.indexCast v11318
  let c0_2969 : Index := 0#32
  ![22, v12173.toNat, 0]
def k0_off1108 (v11326 : BitVec 32) (v11331 : BitVec 32) (v11384 : BitVec 32) (v11446 : BitVec 32) : Fin 3 → Nat :=
  let c199_i32_2740 : BitVec 32 := 199#32
  let c0_i32_2739 : BitVec 32 := 0#32
  let v11332 : BitVec 32 := Scalar.maxsi c0_i32_2739 v11331
  let v11333 : BitVec 32 := Scalar.minsi c199_i32_2740 v11332
  let v11385 : BitVec 32 := Scalar.addi v11333 v11384
  let v12178 : Index := Scalar.indexCast v11385
  let c199_i32_2737 : BitVec 32 := 199#32
  let c0_i32_2736 : BitVec 32 := 0#32
  let v11327 : BitVec 32 := Scalar.maxsi c0_i32_2736 v11326
  let v11328 : BitVec 32 := Scalar.minsi c199_i32_2737 v11327
  let v11447 : BitVec 32 := Scalar.addi v11328 v11446
  let c3_i32_2797 : BitVec 32 := 3#32
  let v11450 : BitVec 32 := Scalar.shrsi v11447 c3_i32_2797
  let c3_i32_2798 : BitVec 32 := 3#32
  let v11451 : BitVec 32 := Scalar.shli v11450 c3_i32_2798
  let v11452 : BitVec 32 := v11451
  let v12179 : Index := Scalar.indexCast v11452
  let c0_2971 : Index := 0#32
  ![v12178.toNat, v12179.toNat, 0]
def k0_off1109 (v11326 : BitVec 32) (v11331 : BitVec 32) (v11341 : BitVec 32) (v11384 : BitVec 32) (v11446 : BitVec 32) : Fin 3 → Nat :=
  let c199_i32_2740 : BitVec 32 := 199#32
  let c0_i32_2739 : BitVec 32 := 0#32
  let v11332 : BitVec 32 := Scalar.maxsi c0_i32_2739 v11331
  let v11333 : BitVec 32 := Scalar.minsi c199_i32_2740 v11332
  let v11385 : BitVec 32 := Scalar.addi v11333 v11384
  let c1_i32_2766 : BitVec 32 := 1#32
  let v11386 : BitVec 32 := Scalar.addi v11385 c1_i32_2766
  let c199_i32_2746 : BitVec 32 := 199#32
  let c0_i32_2745 : BitVec 32 := 0#32
  let v11342 : BitVec 32 := Scalar.maxsi c0_i32_2745 v11341
  let v11343 : BitVec 32 := Scalar.minsi c199_i32_2746 v11342
  let v11387 : BitVec 32 := Scalar.minsi v11386 v11343
  let v12182 : Index := Scalar.indexCast v11387
  let c199_i32_2737 : BitVec 32 := 199#32
  let c0_i32_2736 : BitVec 32 := 0#32
  let v11327 : BitVec 32 := Scalar.maxsi c0_i32_2736 v11326
  let v11328 : BitVec 32 := Scalar.minsi c199_i32_2737 v11327
  let v11447 : BitVec 32 := Scalar.addi v11328 v11446
  let c3_i32_2797 : BitVec 32 := 3#32
  let v11450 : BitVec 32 := Scalar.shrsi v11447 c3_i32_2797
  let c3_i32_2798 : BitVec 32 := 3#32
  let v11451 : BitVec 32 := Scalar.shli v11450 c3_i32_2798
  let v11452 : BitVec 32 := v11451
  let v12183 : Index := Scalar.indexCast v11452
  let c0_2972 : Index := 0#32
  ![v12182.toNat, v12183.toNat, 0]
def k0_off1110 (k0_t1 : Fin k0_t1_loop.trips) : Fin 3 → Nat :=
  let c23_2974 : Index := 23#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c7_i32_2731 : BitVec 32 := 7#32
  let v11318 : BitVec 32 := Scalar.addi v5 c7_i32_2731
  let v12202 : Index := Scalar.indexCast v11318
  let c0_2975 : Index := 0#32
  ![23, v12202.toNat, 0]
def k0_off1111 (v11326 : BitVec 32) (v11331 : BitVec 32) (v11384 : BitVec 32) (v11459 : BitVec 32) : Fin 3 → Nat :=
  let c199_i32_2740 : BitVec 32 := 199#32
  let c0_i32_2739 : BitVec 32 := 0#32
  let v11332 : BitVec 32 := Scalar.maxsi c0_i32_2739 v11331
  let v11333 : BitVec 32 := Scalar.minsi c199_i32_2740 v11332
  let v11385 : BitVec 32 := Scalar.addi v11333 v11384
  let v12207 : Index := Scalar.indexCast v11385
  let c199_i32_2737 : BitVec 32 := 199#32
  let c0_i32_2736 : BitVec 32 := 0#32
  let v11327 : BitVec 32 := Scalar.maxsi c0_i32_2736 v11326
  let v11328 : BitVec 32 := Scalar.minsi c199_i32_2737 v11327
  let v11460 : BitVec 32 := Scalar.addi v11328 v11459
  let c3_i32_2804 : BitVec 32 := 3#32
  let v11463 : BitVec 32 := Scalar.shrsi v11460 c3_i32_2804
  let c3_i32_2805 : BitVec 32 := 3#32
  let v11464 : BitVec 32 := Scalar.shli v11463 c3_i32_2805
  let v11465 : BitVec 32 := v11464
  let v12208 : Index := Scalar.indexCast v11465
  let c0_2977 : Index := 0#32
  ![v12207.toNat, v12208.toNat, 0]
def k0_off1112 (v11326 : BitVec 32) (v11331 : BitVec 32) (v11341 : BitVec 32) (v11384 : BitVec 32) (v11459 : BitVec 32) : Fin 3 → Nat :=
  let c199_i32_2740 : BitVec 32 := 199#32
  let c0_i32_2739 : BitVec 32 := 0#32
  let v11332 : BitVec 32 := Scalar.maxsi c0_i32_2739 v11331
  let v11333 : BitVec 32 := Scalar.minsi c199_i32_2740 v11332
  let v11385 : BitVec 32 := Scalar.addi v11333 v11384
  let c1_i32_2766 : BitVec 32 := 1#32
  let v11386 : BitVec 32 := Scalar.addi v11385 c1_i32_2766
  let c199_i32_2746 : BitVec 32 := 199#32
  let c0_i32_2745 : BitVec 32 := 0#32
  let v11342 : BitVec 32 := Scalar.maxsi c0_i32_2745 v11341
  let v11343 : BitVec 32 := Scalar.minsi c199_i32_2746 v11342
  let v11387 : BitVec 32 := Scalar.minsi v11386 v11343
  let v12211 : Index := Scalar.indexCast v11387
  let c199_i32_2737 : BitVec 32 := 199#32
  let c0_i32_2736 : BitVec 32 := 0#32
  let v11327 : BitVec 32 := Scalar.maxsi c0_i32_2736 v11326
  let v11328 : BitVec 32 := Scalar.minsi c199_i32_2737 v11327
  let v11460 : BitVec 32 := Scalar.addi v11328 v11459
  let c3_i32_2804 : BitVec 32 := 3#32
  let v11463 : BitVec 32 := Scalar.shrsi v11460 c3_i32_2804
  let c3_i32_2805 : BitVec 32 := 3#32
  let v11464 : BitVec 32 := Scalar.shli v11463 c3_i32_2805
  let v11465 : BitVec 32 := v11464
  let v12212 : Index := Scalar.indexCast v11465
  let c0_2978 : Index := 0#32
  ![v12211.toNat, v12212.toNat, 0]
def k0_off1113 (k0_t1 : Fin k0_t1_loop.trips) : Fin 3 → Nat :=
  let c24_2980 : Index := 24#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c7_i32_2731 : BitVec 32 := 7#32
  let v11318 : BitVec 32 := Scalar.addi v5 c7_i32_2731
  let v12231 : Index := Scalar.indexCast v11318
  let c0_2981 : Index := 0#32
  ![24, v12231.toNat, 0]
def k0_off1114 (v11326 : BitVec 32) (v11331 : BitVec 32) (v11384 : BitVec 32) (v11472 : BitVec 32) : Fin 3 → Nat :=
  let c199_i32_2740 : BitVec 32 := 199#32
  let c0_i32_2739 : BitVec 32 := 0#32
  let v11332 : BitVec 32 := Scalar.maxsi c0_i32_2739 v11331
  let v11333 : BitVec 32 := Scalar.minsi c199_i32_2740 v11332
  let v11385 : BitVec 32 := Scalar.addi v11333 v11384
  let v12236 : Index := Scalar.indexCast v11385
  let c199_i32_2737 : BitVec 32 := 199#32
  let c0_i32_2736 : BitVec 32 := 0#32
  let v11327 : BitVec 32 := Scalar.maxsi c0_i32_2736 v11326
  let v11328 : BitVec 32 := Scalar.minsi c199_i32_2737 v11327
  let v11473 : BitVec 32 := Scalar.addi v11328 v11472
  let c3_i32_2811 : BitVec 32 := 3#32
  let v11476 : BitVec 32 := Scalar.shrsi v11473 c3_i32_2811
  let c3_i32_2812 : BitVec 32 := 3#32
  let v11477 : BitVec 32 := Scalar.shli v11476 c3_i32_2812
  let v11478 : BitVec 32 := v11477
  let v12237 : Index := Scalar.indexCast v11478
  let c0_2983 : Index := 0#32
  ![v12236.toNat, v12237.toNat, 0]
def k0_off1115 (v11326 : BitVec 32) (v11331 : BitVec 32) (v11341 : BitVec 32) (v11384 : BitVec 32) (v11472 : BitVec 32) : Fin 3 → Nat :=
  let c199_i32_2740 : BitVec 32 := 199#32
  let c0_i32_2739 : BitVec 32 := 0#32
  let v11332 : BitVec 32 := Scalar.maxsi c0_i32_2739 v11331
  let v11333 : BitVec 32 := Scalar.minsi c199_i32_2740 v11332
  let v11385 : BitVec 32 := Scalar.addi v11333 v11384
  let c1_i32_2766 : BitVec 32 := 1#32
  let v11386 : BitVec 32 := Scalar.addi v11385 c1_i32_2766
  let c199_i32_2746 : BitVec 32 := 199#32
  let c0_i32_2745 : BitVec 32 := 0#32
  let v11342 : BitVec 32 := Scalar.maxsi c0_i32_2745 v11341
  let v11343 : BitVec 32 := Scalar.minsi c199_i32_2746 v11342
  let v11387 : BitVec 32 := Scalar.minsi v11386 v11343
  let v12240 : Index := Scalar.indexCast v11387
  let c199_i32_2737 : BitVec 32 := 199#32
  let c0_i32_2736 : BitVec 32 := 0#32
  let v11327 : BitVec 32 := Scalar.maxsi c0_i32_2736 v11326
  let v11328 : BitVec 32 := Scalar.minsi c199_i32_2737 v11327
  let v11473 : BitVec 32 := Scalar.addi v11328 v11472
  let c3_i32_2811 : BitVec 32 := 3#32
  let v11476 : BitVec 32 := Scalar.shrsi v11473 c3_i32_2811
  let c3_i32_2812 : BitVec 32 := 3#32
  let v11477 : BitVec 32 := Scalar.shli v11476 c3_i32_2812
  let v11478 : BitVec 32 := v11477
  let v12241 : Index := Scalar.indexCast v11478
  let c0_2984 : Index := 0#32
  ![v12240.toNat, v12241.toNat, 0]
def k0_off1116 (k0_t1 : Fin k0_t1_loop.trips) : Fin 3 → Nat :=
  let c25_2986 : Index := 25#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c7_i32_2731 : BitVec 32 := 7#32
  let v11318 : BitVec 32 := Scalar.addi v5 c7_i32_2731
  let v12260 : Index := Scalar.indexCast v11318
  let c0_2987 : Index := 0#32
  ![25, v12260.toNat, 0]
def k0_off1117 (v11326 : BitVec 32) (v11331 : BitVec 32) (v11384 : BitVec 32) (v11485 : BitVec 32) : Fin 3 → Nat :=
  let c199_i32_2740 : BitVec 32 := 199#32
  let c0_i32_2739 : BitVec 32 := 0#32
  let v11332 : BitVec 32 := Scalar.maxsi c0_i32_2739 v11331
  let v11333 : BitVec 32 := Scalar.minsi c199_i32_2740 v11332
  let v11385 : BitVec 32 := Scalar.addi v11333 v11384
  let v12265 : Index := Scalar.indexCast v11385
  let c199_i32_2737 : BitVec 32 := 199#32
  let c0_i32_2736 : BitVec 32 := 0#32
  let v11327 : BitVec 32 := Scalar.maxsi c0_i32_2736 v11326
  let v11328 : BitVec 32 := Scalar.minsi c199_i32_2737 v11327
  let v11486 : BitVec 32 := Scalar.addi v11328 v11485
  let c3_i32_2818 : BitVec 32 := 3#32
  let v11489 : BitVec 32 := Scalar.shrsi v11486 c3_i32_2818
  let c3_i32_2819 : BitVec 32 := 3#32
  let v11490 : BitVec 32 := Scalar.shli v11489 c3_i32_2819
  let v11491 : BitVec 32 := v11490
  let v12266 : Index := Scalar.indexCast v11491
  let c0_2989 : Index := 0#32
  ![v12265.toNat, v12266.toNat, 0]
def k0_off1118 (v11326 : BitVec 32) (v11331 : BitVec 32) (v11341 : BitVec 32) (v11384 : BitVec 32) (v11485 : BitVec 32) : Fin 3 → Nat :=
  let c199_i32_2740 : BitVec 32 := 199#32
  let c0_i32_2739 : BitVec 32 := 0#32
  let v11332 : BitVec 32 := Scalar.maxsi c0_i32_2739 v11331
  let v11333 : BitVec 32 := Scalar.minsi c199_i32_2740 v11332
  let v11385 : BitVec 32 := Scalar.addi v11333 v11384
  let c1_i32_2766 : BitVec 32 := 1#32
  let v11386 : BitVec 32 := Scalar.addi v11385 c1_i32_2766
  let c199_i32_2746 : BitVec 32 := 199#32
  let c0_i32_2745 : BitVec 32 := 0#32
  let v11342 : BitVec 32 := Scalar.maxsi c0_i32_2745 v11341
  let v11343 : BitVec 32 := Scalar.minsi c199_i32_2746 v11342
  let v11387 : BitVec 32 := Scalar.minsi v11386 v11343
  let v12269 : Index := Scalar.indexCast v11387
  let c199_i32_2737 : BitVec 32 := 199#32
  let c0_i32_2736 : BitVec 32 := 0#32
  let v11327 : BitVec 32 := Scalar.maxsi c0_i32_2736 v11326
  let v11328 : BitVec 32 := Scalar.minsi c199_i32_2737 v11327
  let v11486 : BitVec 32 := Scalar.addi v11328 v11485
  let c3_i32_2818 : BitVec 32 := 3#32
  let v11489 : BitVec 32 := Scalar.shrsi v11486 c3_i32_2818
  let c3_i32_2819 : BitVec 32 := 3#32
  let v11490 : BitVec 32 := Scalar.shli v11489 c3_i32_2819
  let v11491 : BitVec 32 := v11490
  let v12270 : Index := Scalar.indexCast v11491
  let c0_2990 : Index := 0#32
  ![v12269.toNat, v12270.toNat, 0]
def k0_off1119 (k0_t1 : Fin k0_t1_loop.trips) : Fin 3 → Nat :=
  let c26_2992 : Index := 26#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c7_i32_2731 : BitVec 32 := 7#32
  let v11318 : BitVec 32 := Scalar.addi v5 c7_i32_2731
  let v12289 : Index := Scalar.indexCast v11318
  let c0_2993 : Index := 0#32
  ![26, v12289.toNat, 0]
def k0_off1120 (v11326 : BitVec 32) (v11331 : BitVec 32) (v11384 : BitVec 32) (v11498 : BitVec 32) : Fin 3 → Nat :=
  let c199_i32_2740 : BitVec 32 := 199#32
  let c0_i32_2739 : BitVec 32 := 0#32
  let v11332 : BitVec 32 := Scalar.maxsi c0_i32_2739 v11331
  let v11333 : BitVec 32 := Scalar.minsi c199_i32_2740 v11332
  let v11385 : BitVec 32 := Scalar.addi v11333 v11384
  let v12294 : Index := Scalar.indexCast v11385
  let c199_i32_2737 : BitVec 32 := 199#32
  let c0_i32_2736 : BitVec 32 := 0#32
  let v11327 : BitVec 32 := Scalar.maxsi c0_i32_2736 v11326
  let v11328 : BitVec 32 := Scalar.minsi c199_i32_2737 v11327
  let v11499 : BitVec 32 := Scalar.addi v11328 v11498
  let c3_i32_2825 : BitVec 32 := 3#32
  let v11502 : BitVec 32 := Scalar.shrsi v11499 c3_i32_2825
  let c3_i32_2826 : BitVec 32 := 3#32
  let v11503 : BitVec 32 := Scalar.shli v11502 c3_i32_2826
  let v11504 : BitVec 32 := v11503
  let v12295 : Index := Scalar.indexCast v11504
  let c0_2995 : Index := 0#32
  ![v12294.toNat, v12295.toNat, 0]
def k0_off1121 (v11326 : BitVec 32) (v11331 : BitVec 32) (v11341 : BitVec 32) (v11384 : BitVec 32) (v11498 : BitVec 32) : Fin 3 → Nat :=
  let c199_i32_2740 : BitVec 32 := 199#32
  let c0_i32_2739 : BitVec 32 := 0#32
  let v11332 : BitVec 32 := Scalar.maxsi c0_i32_2739 v11331
  let v11333 : BitVec 32 := Scalar.minsi c199_i32_2740 v11332
  let v11385 : BitVec 32 := Scalar.addi v11333 v11384
  let c1_i32_2766 : BitVec 32 := 1#32
  let v11386 : BitVec 32 := Scalar.addi v11385 c1_i32_2766
  let c199_i32_2746 : BitVec 32 := 199#32
  let c0_i32_2745 : BitVec 32 := 0#32
  let v11342 : BitVec 32 := Scalar.maxsi c0_i32_2745 v11341
  let v11343 : BitVec 32 := Scalar.minsi c199_i32_2746 v11342
  let v11387 : BitVec 32 := Scalar.minsi v11386 v11343
  let v12298 : Index := Scalar.indexCast v11387
  let c199_i32_2737 : BitVec 32 := 199#32
  let c0_i32_2736 : BitVec 32 := 0#32
  let v11327 : BitVec 32 := Scalar.maxsi c0_i32_2736 v11326
  let v11328 : BitVec 32 := Scalar.minsi c199_i32_2737 v11327
  let v11499 : BitVec 32 := Scalar.addi v11328 v11498
  let c3_i32_2825 : BitVec 32 := 3#32
  let v11502 : BitVec 32 := Scalar.shrsi v11499 c3_i32_2825
  let c3_i32_2826 : BitVec 32 := 3#32
  let v11503 : BitVec 32 := Scalar.shli v11502 c3_i32_2826
  let v11504 : BitVec 32 := v11503
  let v12299 : Index := Scalar.indexCast v11504
  let c0_2996 : Index := 0#32
  ![v12298.toNat, v12299.toNat, 0]
def k0_off1122 (k0_t1 : Fin k0_t1_loop.trips) : Fin 3 → Nat :=
  let c27_2998 : Index := 27#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c7_i32_2731 : BitVec 32 := 7#32
  let v11318 : BitVec 32 := Scalar.addi v5 c7_i32_2731
  let v12318 : Index := Scalar.indexCast v11318
  let c0_2999 : Index := 0#32
  ![27, v12318.toNat, 0]
def k0_off1123 (v11326 : BitVec 32) (v11331 : BitVec 32) (v11393 : BitVec 32) (v11420 : BitVec 32) : Fin 3 → Nat :=
  let c199_i32_2740 : BitVec 32 := 199#32
  let c0_i32_2739 : BitVec 32 := 0#32
  let v11332 : BitVec 32 := Scalar.maxsi c0_i32_2739 v11331
  let v11333 : BitVec 32 := Scalar.minsi c199_i32_2740 v11332
  let v11394 : BitVec 32 := Scalar.addi v11333 v11393
  let v12324 : Index := Scalar.indexCast v11394
  let c199_i32_2737 : BitVec 32 := 199#32
  let c0_i32_2736 : BitVec 32 := 0#32
  let v11327 : BitVec 32 := Scalar.maxsi c0_i32_2736 v11326
  let v11328 : BitVec 32 := Scalar.minsi c199_i32_2737 v11327
  let v11421 : BitVec 32 := Scalar.addi v11328 v11420
  let c3_i32_2783 : BitVec 32 := 3#32
  let v11424 : BitVec 32 := Scalar.shrsi v11421 c3_i32_2783
  let c3_i32_2784 : BitVec 32 := 3#32
  let v11425 : BitVec 32 := Scalar.shli v11424 c3_i32_2784
  let v11426 : BitVec 32 := v11425
  let v12325 : Index := Scalar.indexCast v11426
  let c0_3002 : Index := 0#32
  ![v12324.toNat, v12325.toNat, 0]
def k0_off1124 (v11326 : BitVec 32) (v11331 : BitVec 32) (v11341 : BitVec 32) (v11393 : BitVec 32) (v11420 : BitVec 32) : Fin 3 → Nat :=
  let c199_i32_2740 : BitVec 32 := 199#32
  let c0_i32_2739 : BitVec 32 := 0#32
  let v11332 : BitVec 32 := Scalar.maxsi c0_i32_2739 v11331
  let v11333 : BitVec 32 := Scalar.minsi c199_i32_2740 v11332
  let v11394 : BitVec 32 := Scalar.addi v11333 v11393
  let c1_i32_2770 : BitVec 32 := 1#32
  let v11395 : BitVec 32 := Scalar.addi v11394 c1_i32_2770
  let c199_i32_2746 : BitVec 32 := 199#32
  let c0_i32_2745 : BitVec 32 := 0#32
  let v11342 : BitVec 32 := Scalar.maxsi c0_i32_2745 v11341
  let v11343 : BitVec 32 := Scalar.minsi c199_i32_2746 v11342
  let v11396 : BitVec 32 := Scalar.minsi v11395 v11343
  let v12328 : Index := Scalar.indexCast v11396
  let c199_i32_2737 : BitVec 32 := 199#32
  let c0_i32_2736 : BitVec 32 := 0#32
  let v11327 : BitVec 32 := Scalar.maxsi c0_i32_2736 v11326
  let v11328 : BitVec 32 := Scalar.minsi c199_i32_2737 v11327
  let v11421 : BitVec 32 := Scalar.addi v11328 v11420
  let c3_i32_2783 : BitVec 32 := 3#32
  let v11424 : BitVec 32 := Scalar.shrsi v11421 c3_i32_2783
  let c3_i32_2784 : BitVec 32 := 3#32
  let v11425 : BitVec 32 := Scalar.shli v11424 c3_i32_2784
  let v11426 : BitVec 32 := v11425
  let v12329 : Index := Scalar.indexCast v11426
  let c0_3003 : Index := 0#32
  ![v12328.toNat, v12329.toNat, 0]
def k0_off1125 (k0_t1 : Fin k0_t1_loop.trips) : Fin 3 → Nat :=
  let c28_3005 : Index := 28#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c7_i32_2731 : BitVec 32 := 7#32
  let v11318 : BitVec 32 := Scalar.addi v5 c7_i32_2731
  let v12348 : Index := Scalar.indexCast v11318
  let c0_3006 : Index := 0#32
  ![28, v12348.toNat, 0]
def k0_off1126 (v11326 : BitVec 32) (v11331 : BitVec 32) (v11393 : BitVec 32) (v11433 : BitVec 32) : Fin 3 → Nat :=
  let c199_i32_2740 : BitVec 32 := 199#32
  let c0_i32_2739 : BitVec 32 := 0#32
  let v11332 : BitVec 32 := Scalar.maxsi c0_i32_2739 v11331
  let v11333 : BitVec 32 := Scalar.minsi c199_i32_2740 v11332
  let v11394 : BitVec 32 := Scalar.addi v11333 v11393
  let v12353 : Index := Scalar.indexCast v11394
  let c199_i32_2737 : BitVec 32 := 199#32
  let c0_i32_2736 : BitVec 32 := 0#32
  let v11327 : BitVec 32 := Scalar.maxsi c0_i32_2736 v11326
  let v11328 : BitVec 32 := Scalar.minsi c199_i32_2737 v11327
  let v11434 : BitVec 32 := Scalar.addi v11328 v11433
  let c3_i32_2790 : BitVec 32 := 3#32
  let v11437 : BitVec 32 := Scalar.shrsi v11434 c3_i32_2790
  let c3_i32_2791 : BitVec 32 := 3#32
  let v11438 : BitVec 32 := Scalar.shli v11437 c3_i32_2791
  let v11439 : BitVec 32 := v11438
  let v12354 : Index := Scalar.indexCast v11439
  let c0_3008 : Index := 0#32
  ![v12353.toNat, v12354.toNat, 0]
def k0_off1127 (v11326 : BitVec 32) (v11331 : BitVec 32) (v11341 : BitVec 32) (v11393 : BitVec 32) (v11433 : BitVec 32) : Fin 3 → Nat :=
  let c199_i32_2740 : BitVec 32 := 199#32
  let c0_i32_2739 : BitVec 32 := 0#32
  let v11332 : BitVec 32 := Scalar.maxsi c0_i32_2739 v11331
  let v11333 : BitVec 32 := Scalar.minsi c199_i32_2740 v11332
  let v11394 : BitVec 32 := Scalar.addi v11333 v11393
  let c1_i32_2770 : BitVec 32 := 1#32
  let v11395 : BitVec 32 := Scalar.addi v11394 c1_i32_2770
  let c199_i32_2746 : BitVec 32 := 199#32
  let c0_i32_2745 : BitVec 32 := 0#32
  let v11342 : BitVec 32 := Scalar.maxsi c0_i32_2745 v11341
  let v11343 : BitVec 32 := Scalar.minsi c199_i32_2746 v11342
  let v11396 : BitVec 32 := Scalar.minsi v11395 v11343
  let v12357 : Index := Scalar.indexCast v11396
  let c199_i32_2737 : BitVec 32 := 199#32
  let c0_i32_2736 : BitVec 32 := 0#32
  let v11327 : BitVec 32 := Scalar.maxsi c0_i32_2736 v11326
  let v11328 : BitVec 32 := Scalar.minsi c199_i32_2737 v11327
  let v11434 : BitVec 32 := Scalar.addi v11328 v11433
  let c3_i32_2790 : BitVec 32 := 3#32
  let v11437 : BitVec 32 := Scalar.shrsi v11434 c3_i32_2790
  let c3_i32_2791 : BitVec 32 := 3#32
  let v11438 : BitVec 32 := Scalar.shli v11437 c3_i32_2791
  let v11439 : BitVec 32 := v11438
  let v12358 : Index := Scalar.indexCast v11439
  let c0_3009 : Index := 0#32
  ![v12357.toNat, v12358.toNat, 0]
def k0_off1128 (k0_t1 : Fin k0_t1_loop.trips) : Fin 3 → Nat :=
  let c29_3011 : Index := 29#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c7_i32_2731 : BitVec 32 := 7#32
  let v11318 : BitVec 32 := Scalar.addi v5 c7_i32_2731
  let v12377 : Index := Scalar.indexCast v11318
  let c0_3012 : Index := 0#32
  ![29, v12377.toNat, 0]
def k0_off1129 (v11326 : BitVec 32) (v11331 : BitVec 32) (v11393 : BitVec 32) (v11446 : BitVec 32) : Fin 3 → Nat :=
  let c199_i32_2740 : BitVec 32 := 199#32
  let c0_i32_2739 : BitVec 32 := 0#32
  let v11332 : BitVec 32 := Scalar.maxsi c0_i32_2739 v11331
  let v11333 : BitVec 32 := Scalar.minsi c199_i32_2740 v11332
  let v11394 : BitVec 32 := Scalar.addi v11333 v11393
  let v12382 : Index := Scalar.indexCast v11394
  let c199_i32_2737 : BitVec 32 := 199#32
  let c0_i32_2736 : BitVec 32 := 0#32
  let v11327 : BitVec 32 := Scalar.maxsi c0_i32_2736 v11326
  let v11328 : BitVec 32 := Scalar.minsi c199_i32_2737 v11327
  let v11447 : BitVec 32 := Scalar.addi v11328 v11446
  let c3_i32_2797 : BitVec 32 := 3#32
  let v11450 : BitVec 32 := Scalar.shrsi v11447 c3_i32_2797
  let c3_i32_2798 : BitVec 32 := 3#32
  let v11451 : BitVec 32 := Scalar.shli v11450 c3_i32_2798
  let v11452 : BitVec 32 := v11451
  let v12383 : Index := Scalar.indexCast v11452
  let c0_3014 : Index := 0#32
  ![v12382.toNat, v12383.toNat, 0]
def k0_off1130 (v11326 : BitVec 32) (v11331 : BitVec 32) (v11341 : BitVec 32) (v11393 : BitVec 32) (v11446 : BitVec 32) : Fin 3 → Nat :=
  let c199_i32_2740 : BitVec 32 := 199#32
  let c0_i32_2739 : BitVec 32 := 0#32
  let v11332 : BitVec 32 := Scalar.maxsi c0_i32_2739 v11331
  let v11333 : BitVec 32 := Scalar.minsi c199_i32_2740 v11332
  let v11394 : BitVec 32 := Scalar.addi v11333 v11393
  let c1_i32_2770 : BitVec 32 := 1#32
  let v11395 : BitVec 32 := Scalar.addi v11394 c1_i32_2770
  let c199_i32_2746 : BitVec 32 := 199#32
  let c0_i32_2745 : BitVec 32 := 0#32
  let v11342 : BitVec 32 := Scalar.maxsi c0_i32_2745 v11341
  let v11343 : BitVec 32 := Scalar.minsi c199_i32_2746 v11342
  let v11396 : BitVec 32 := Scalar.minsi v11395 v11343
  let v12386 : Index := Scalar.indexCast v11396
  let c199_i32_2737 : BitVec 32 := 199#32
  let c0_i32_2736 : BitVec 32 := 0#32
  let v11327 : BitVec 32 := Scalar.maxsi c0_i32_2736 v11326
  let v11328 : BitVec 32 := Scalar.minsi c199_i32_2737 v11327
  let v11447 : BitVec 32 := Scalar.addi v11328 v11446
  let c3_i32_2797 : BitVec 32 := 3#32
  let v11450 : BitVec 32 := Scalar.shrsi v11447 c3_i32_2797
  let c3_i32_2798 : BitVec 32 := 3#32
  let v11451 : BitVec 32 := Scalar.shli v11450 c3_i32_2798
  let v11452 : BitVec 32 := v11451
  let v12387 : Index := Scalar.indexCast v11452
  let c0_3015 : Index := 0#32
  ![v12386.toNat, v12387.toNat, 0]
def k0_off1131 (k0_t1 : Fin k0_t1_loop.trips) : Fin 3 → Nat :=
  let c30_3017 : Index := 30#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c7_i32_2731 : BitVec 32 := 7#32
  let v11318 : BitVec 32 := Scalar.addi v5 c7_i32_2731
  let v12406 : Index := Scalar.indexCast v11318
  let c0_3018 : Index := 0#32
  ![30, v12406.toNat, 0]
def k0_off1132 (v11326 : BitVec 32) (v11331 : BitVec 32) (v11393 : BitVec 32) (v11459 : BitVec 32) : Fin 3 → Nat :=
  let c199_i32_2740 : BitVec 32 := 199#32
  let c0_i32_2739 : BitVec 32 := 0#32
  let v11332 : BitVec 32 := Scalar.maxsi c0_i32_2739 v11331
  let v11333 : BitVec 32 := Scalar.minsi c199_i32_2740 v11332
  let v11394 : BitVec 32 := Scalar.addi v11333 v11393
  let v12411 : Index := Scalar.indexCast v11394
  let c199_i32_2737 : BitVec 32 := 199#32
  let c0_i32_2736 : BitVec 32 := 0#32
  let v11327 : BitVec 32 := Scalar.maxsi c0_i32_2736 v11326
  let v11328 : BitVec 32 := Scalar.minsi c199_i32_2737 v11327
  let v11460 : BitVec 32 := Scalar.addi v11328 v11459
  let c3_i32_2804 : BitVec 32 := 3#32
  let v11463 : BitVec 32 := Scalar.shrsi v11460 c3_i32_2804
  let c3_i32_2805 : BitVec 32 := 3#32
  let v11464 : BitVec 32 := Scalar.shli v11463 c3_i32_2805
  let v11465 : BitVec 32 := v11464
  let v12412 : Index := Scalar.indexCast v11465
  let c0_3020 : Index := 0#32
  ![v12411.toNat, v12412.toNat, 0]
def k0_off1133 (v11326 : BitVec 32) (v11331 : BitVec 32) (v11341 : BitVec 32) (v11393 : BitVec 32) (v11459 : BitVec 32) : Fin 3 → Nat :=
  let c199_i32_2740 : BitVec 32 := 199#32
  let c0_i32_2739 : BitVec 32 := 0#32
  let v11332 : BitVec 32 := Scalar.maxsi c0_i32_2739 v11331
  let v11333 : BitVec 32 := Scalar.minsi c199_i32_2740 v11332
  let v11394 : BitVec 32 := Scalar.addi v11333 v11393
  let c1_i32_2770 : BitVec 32 := 1#32
  let v11395 : BitVec 32 := Scalar.addi v11394 c1_i32_2770
  let c199_i32_2746 : BitVec 32 := 199#32
  let c0_i32_2745 : BitVec 32 := 0#32
  let v11342 : BitVec 32 := Scalar.maxsi c0_i32_2745 v11341
  let v11343 : BitVec 32 := Scalar.minsi c199_i32_2746 v11342
  let v11396 : BitVec 32 := Scalar.minsi v11395 v11343
  let v12415 : Index := Scalar.indexCast v11396
  let c199_i32_2737 : BitVec 32 := 199#32
  let c0_i32_2736 : BitVec 32 := 0#32
  let v11327 : BitVec 32 := Scalar.maxsi c0_i32_2736 v11326
  let v11328 : BitVec 32 := Scalar.minsi c199_i32_2737 v11327
  let v11460 : BitVec 32 := Scalar.addi v11328 v11459
  let c3_i32_2804 : BitVec 32 := 3#32
  let v11463 : BitVec 32 := Scalar.shrsi v11460 c3_i32_2804
  let c3_i32_2805 : BitVec 32 := 3#32
  let v11464 : BitVec 32 := Scalar.shli v11463 c3_i32_2805
  let v11465 : BitVec 32 := v11464
  let v12416 : Index := Scalar.indexCast v11465
  let c0_3021 : Index := 0#32
  ![v12415.toNat, v12416.toNat, 0]
def k0_off1134 (k0_t1 : Fin k0_t1_loop.trips) : Fin 3 → Nat :=
  let c31_3023 : Index := 31#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c7_i32_2731 : BitVec 32 := 7#32
  let v11318 : BitVec 32 := Scalar.addi v5 c7_i32_2731
  let v12435 : Index := Scalar.indexCast v11318
  let c0_3024 : Index := 0#32
  ![31, v12435.toNat, 0]
def k0_off1135 (v11326 : BitVec 32) (v11331 : BitVec 32) (v11393 : BitVec 32) (v11472 : BitVec 32) : Fin 3 → Nat :=
  let c199_i32_2740 : BitVec 32 := 199#32
  let c0_i32_2739 : BitVec 32 := 0#32
  let v11332 : BitVec 32 := Scalar.maxsi c0_i32_2739 v11331
  let v11333 : BitVec 32 := Scalar.minsi c199_i32_2740 v11332
  let v11394 : BitVec 32 := Scalar.addi v11333 v11393
  let v12440 : Index := Scalar.indexCast v11394
  let c199_i32_2737 : BitVec 32 := 199#32
  let c0_i32_2736 : BitVec 32 := 0#32
  let v11327 : BitVec 32 := Scalar.maxsi c0_i32_2736 v11326
  let v11328 : BitVec 32 := Scalar.minsi c199_i32_2737 v11327
  let v11473 : BitVec 32 := Scalar.addi v11328 v11472
  let c3_i32_2811 : BitVec 32 := 3#32
  let v11476 : BitVec 32 := Scalar.shrsi v11473 c3_i32_2811
  let c3_i32_2812 : BitVec 32 := 3#32
  let v11477 : BitVec 32 := Scalar.shli v11476 c3_i32_2812
  let v11478 : BitVec 32 := v11477
  let v12441 : Index := Scalar.indexCast v11478
  let c0_3026 : Index := 0#32
  ![v12440.toNat, v12441.toNat, 0]
def k0_off1136 (v11326 : BitVec 32) (v11331 : BitVec 32) (v11341 : BitVec 32) (v11393 : BitVec 32) (v11472 : BitVec 32) : Fin 3 → Nat :=
  let c199_i32_2740 : BitVec 32 := 199#32
  let c0_i32_2739 : BitVec 32 := 0#32
  let v11332 : BitVec 32 := Scalar.maxsi c0_i32_2739 v11331
  let v11333 : BitVec 32 := Scalar.minsi c199_i32_2740 v11332
  let v11394 : BitVec 32 := Scalar.addi v11333 v11393
  let c1_i32_2770 : BitVec 32 := 1#32
  let v11395 : BitVec 32 := Scalar.addi v11394 c1_i32_2770
  let c199_i32_2746 : BitVec 32 := 199#32
  let c0_i32_2745 : BitVec 32 := 0#32
  let v11342 : BitVec 32 := Scalar.maxsi c0_i32_2745 v11341
  let v11343 : BitVec 32 := Scalar.minsi c199_i32_2746 v11342
  let v11396 : BitVec 32 := Scalar.minsi v11395 v11343
  let v12444 : Index := Scalar.indexCast v11396
  let c199_i32_2737 : BitVec 32 := 199#32
  let c0_i32_2736 : BitVec 32 := 0#32
  let v11327 : BitVec 32 := Scalar.maxsi c0_i32_2736 v11326
  let v11328 : BitVec 32 := Scalar.minsi c199_i32_2737 v11327
  let v11473 : BitVec 32 := Scalar.addi v11328 v11472
  let c3_i32_2811 : BitVec 32 := 3#32
  let v11476 : BitVec 32 := Scalar.shrsi v11473 c3_i32_2811
  let c3_i32_2812 : BitVec 32 := 3#32
  let v11477 : BitVec 32 := Scalar.shli v11476 c3_i32_2812
  let v11478 : BitVec 32 := v11477
  let v12445 : Index := Scalar.indexCast v11478
  let c0_3027 : Index := 0#32
  ![v12444.toNat, v12445.toNat, 0]
def k0_off1137 (k0_t1 : Fin k0_t1_loop.trips) : Fin 3 → Nat :=
  let c32_3029 : Index := 32#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c7_i32_2731 : BitVec 32 := 7#32
  let v11318 : BitVec 32 := Scalar.addi v5 c7_i32_2731
  let v12464 : Index := Scalar.indexCast v11318
  let c0_3030 : Index := 0#32
  ![32, v12464.toNat, 0]
def k0_off1138 (v11326 : BitVec 32) (v11331 : BitVec 32) (v11393 : BitVec 32) (v11485 : BitVec 32) : Fin 3 → Nat :=
  let c199_i32_2740 : BitVec 32 := 199#32
  let c0_i32_2739 : BitVec 32 := 0#32
  let v11332 : BitVec 32 := Scalar.maxsi c0_i32_2739 v11331
  let v11333 : BitVec 32 := Scalar.minsi c199_i32_2740 v11332
  let v11394 : BitVec 32 := Scalar.addi v11333 v11393
  let v12469 : Index := Scalar.indexCast v11394
  let c199_i32_2737 : BitVec 32 := 199#32
  let c0_i32_2736 : BitVec 32 := 0#32
  let v11327 : BitVec 32 := Scalar.maxsi c0_i32_2736 v11326
  let v11328 : BitVec 32 := Scalar.minsi c199_i32_2737 v11327
  let v11486 : BitVec 32 := Scalar.addi v11328 v11485
  let c3_i32_2818 : BitVec 32 := 3#32
  let v11489 : BitVec 32 := Scalar.shrsi v11486 c3_i32_2818
  let c3_i32_2819 : BitVec 32 := 3#32
  let v11490 : BitVec 32 := Scalar.shli v11489 c3_i32_2819
  let v11491 : BitVec 32 := v11490
  let v12470 : Index := Scalar.indexCast v11491
  let c0_3032 : Index := 0#32
  ![v12469.toNat, v12470.toNat, 0]
def k0_off1139 (v11326 : BitVec 32) (v11331 : BitVec 32) (v11341 : BitVec 32) (v11393 : BitVec 32) (v11485 : BitVec 32) : Fin 3 → Nat :=
  let c199_i32_2740 : BitVec 32 := 199#32
  let c0_i32_2739 : BitVec 32 := 0#32
  let v11332 : BitVec 32 := Scalar.maxsi c0_i32_2739 v11331
  let v11333 : BitVec 32 := Scalar.minsi c199_i32_2740 v11332
  let v11394 : BitVec 32 := Scalar.addi v11333 v11393
  let c1_i32_2770 : BitVec 32 := 1#32
  let v11395 : BitVec 32 := Scalar.addi v11394 c1_i32_2770
  let c199_i32_2746 : BitVec 32 := 199#32
  let c0_i32_2745 : BitVec 32 := 0#32
  let v11342 : BitVec 32 := Scalar.maxsi c0_i32_2745 v11341
  let v11343 : BitVec 32 := Scalar.minsi c199_i32_2746 v11342
  let v11396 : BitVec 32 := Scalar.minsi v11395 v11343
  let v12473 : Index := Scalar.indexCast v11396
  let c199_i32_2737 : BitVec 32 := 199#32
  let c0_i32_2736 : BitVec 32 := 0#32
  let v11327 : BitVec 32 := Scalar.maxsi c0_i32_2736 v11326
  let v11328 : BitVec 32 := Scalar.minsi c199_i32_2737 v11327
  let v11486 : BitVec 32 := Scalar.addi v11328 v11485
  let c3_i32_2818 : BitVec 32 := 3#32
  let v11489 : BitVec 32 := Scalar.shrsi v11486 c3_i32_2818
  let c3_i32_2819 : BitVec 32 := 3#32
  let v11490 : BitVec 32 := Scalar.shli v11489 c3_i32_2819
  let v11491 : BitVec 32 := v11490
  let v12474 : Index := Scalar.indexCast v11491
  let c0_3033 : Index := 0#32
  ![v12473.toNat, v12474.toNat, 0]
def k0_off1140 (k0_t1 : Fin k0_t1_loop.trips) : Fin 3 → Nat :=
  let c33_3035 : Index := 33#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c7_i32_2731 : BitVec 32 := 7#32
  let v11318 : BitVec 32 := Scalar.addi v5 c7_i32_2731
  let v12493 : Index := Scalar.indexCast v11318
  let c0_3036 : Index := 0#32
  ![33, v12493.toNat, 0]
def k0_off1141 (v11326 : BitVec 32) (v11331 : BitVec 32) (v11393 : BitVec 32) (v11498 : BitVec 32) : Fin 3 → Nat :=
  let c199_i32_2740 : BitVec 32 := 199#32
  let c0_i32_2739 : BitVec 32 := 0#32
  let v11332 : BitVec 32 := Scalar.maxsi c0_i32_2739 v11331
  let v11333 : BitVec 32 := Scalar.minsi c199_i32_2740 v11332
  let v11394 : BitVec 32 := Scalar.addi v11333 v11393
  let v12498 : Index := Scalar.indexCast v11394
  let c199_i32_2737 : BitVec 32 := 199#32
  let c0_i32_2736 : BitVec 32 := 0#32
  let v11327 : BitVec 32 := Scalar.maxsi c0_i32_2736 v11326
  let v11328 : BitVec 32 := Scalar.minsi c199_i32_2737 v11327
  let v11499 : BitVec 32 := Scalar.addi v11328 v11498
  let c3_i32_2825 : BitVec 32 := 3#32
  let v11502 : BitVec 32 := Scalar.shrsi v11499 c3_i32_2825
  let c3_i32_2826 : BitVec 32 := 3#32
  let v11503 : BitVec 32 := Scalar.shli v11502 c3_i32_2826
  let v11504 : BitVec 32 := v11503
  let v12499 : Index := Scalar.indexCast v11504
  let c0_3038 : Index := 0#32
  ![v12498.toNat, v12499.toNat, 0]
def k0_off1142 (v11326 : BitVec 32) (v11331 : BitVec 32) (v11341 : BitVec 32) (v11393 : BitVec 32) (v11498 : BitVec 32) : Fin 3 → Nat :=
  let c199_i32_2740 : BitVec 32 := 199#32
  let c0_i32_2739 : BitVec 32 := 0#32
  let v11332 : BitVec 32 := Scalar.maxsi c0_i32_2739 v11331
  let v11333 : BitVec 32 := Scalar.minsi c199_i32_2740 v11332
  let v11394 : BitVec 32 := Scalar.addi v11333 v11393
  let c1_i32_2770 : BitVec 32 := 1#32
  let v11395 : BitVec 32 := Scalar.addi v11394 c1_i32_2770
  let c199_i32_2746 : BitVec 32 := 199#32
  let c0_i32_2745 : BitVec 32 := 0#32
  let v11342 : BitVec 32 := Scalar.maxsi c0_i32_2745 v11341
  let v11343 : BitVec 32 := Scalar.minsi c199_i32_2746 v11342
  let v11396 : BitVec 32 := Scalar.minsi v11395 v11343
  let v12502 : Index := Scalar.indexCast v11396
  let c199_i32_2737 : BitVec 32 := 199#32
  let c0_i32_2736 : BitVec 32 := 0#32
  let v11327 : BitVec 32 := Scalar.maxsi c0_i32_2736 v11326
  let v11328 : BitVec 32 := Scalar.minsi c199_i32_2737 v11327
  let v11499 : BitVec 32 := Scalar.addi v11328 v11498
  let c3_i32_2825 : BitVec 32 := 3#32
  let v11502 : BitVec 32 := Scalar.shrsi v11499 c3_i32_2825
  let c3_i32_2826 : BitVec 32 := 3#32
  let v11503 : BitVec 32 := Scalar.shli v11502 c3_i32_2826
  let v11504 : BitVec 32 := v11503
  let v12503 : Index := Scalar.indexCast v11504
  let c0_3039 : Index := 0#32
  ![v12502.toNat, v12503.toNat, 0]
def k0_off1143 (k0_t1 : Fin k0_t1_loop.trips) : Fin 3 → Nat :=
  let c34_3041 : Index := 34#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c7_i32_2731 : BitVec 32 := 7#32
  let v11318 : BitVec 32 := Scalar.addi v5 c7_i32_2731
  let v12522 : Index := Scalar.indexCast v11318
  let c0_3042 : Index := 0#32
  ![34, v12522.toNat, 0]
def k0_off1144 (v11326 : BitVec 32) (v11331 : BitVec 32) (v11402 : BitVec 32) (v11420 : BitVec 32) : Fin 3 → Nat :=
  let c199_i32_2740 : BitVec 32 := 199#32
  let c0_i32_2739 : BitVec 32 := 0#32
  let v11332 : BitVec 32 := Scalar.maxsi c0_i32_2739 v11331
  let v11333 : BitVec 32 := Scalar.minsi c199_i32_2740 v11332
  let v11403 : BitVec 32 := Scalar.addi v11333 v11402
  let v12528 : Index := Scalar.indexCast v11403
  let c199_i32_2737 : BitVec 32 := 199#32
  let c0_i32_2736 : BitVec 32 := 0#32
  let v11327 : BitVec 32 := Scalar.maxsi c0_i32_2736 v11326
  let v11328 : BitVec 32 := Scalar.minsi c199_i32_2737 v11327
  let v11421 : BitVec 32 := Scalar.addi v11328 v11420
  let c3_i32_2783 : BitVec 32 := 3#32
  let v11424 : BitVec 32 := Scalar.shrsi v11421 c3_i32_2783
  let c3_i32_2784 : BitVec 32 := 3#32
  let v11425 : BitVec 32 := Scalar.shli v11424 c3_i32_2784
  let v11426 : BitVec 32 := v11425
  let v12529 : Index := Scalar.indexCast v11426
  let c0_3045 : Index := 0#32
  ![v12528.toNat, v12529.toNat, 0]
def k0_off1145 (v11326 : BitVec 32) (v11331 : BitVec 32) (v11341 : BitVec 32) (v11402 : BitVec 32) (v11420 : BitVec 32) : Fin 3 → Nat :=
  let c199_i32_2740 : BitVec 32 := 199#32
  let c0_i32_2739 : BitVec 32 := 0#32
  let v11332 : BitVec 32 := Scalar.maxsi c0_i32_2739 v11331
  let v11333 : BitVec 32 := Scalar.minsi c199_i32_2740 v11332
  let v11403 : BitVec 32 := Scalar.addi v11333 v11402
  let c1_i32_2774 : BitVec 32 := 1#32
  let v11404 : BitVec 32 := Scalar.addi v11403 c1_i32_2774
  let c199_i32_2746 : BitVec 32 := 199#32
  let c0_i32_2745 : BitVec 32 := 0#32
  let v11342 : BitVec 32 := Scalar.maxsi c0_i32_2745 v11341
  let v11343 : BitVec 32 := Scalar.minsi c199_i32_2746 v11342
  let v11405 : BitVec 32 := Scalar.minsi v11404 v11343
  let v12532 : Index := Scalar.indexCast v11405
  let c199_i32_2737 : BitVec 32 := 199#32
  let c0_i32_2736 : BitVec 32 := 0#32
  let v11327 : BitVec 32 := Scalar.maxsi c0_i32_2736 v11326
  let v11328 : BitVec 32 := Scalar.minsi c199_i32_2737 v11327
  let v11421 : BitVec 32 := Scalar.addi v11328 v11420
  let c3_i32_2783 : BitVec 32 := 3#32
  let v11424 : BitVec 32 := Scalar.shrsi v11421 c3_i32_2783
  let c3_i32_2784 : BitVec 32 := 3#32
  let v11425 : BitVec 32 := Scalar.shli v11424 c3_i32_2784
  let v11426 : BitVec 32 := v11425
  let v12533 : Index := Scalar.indexCast v11426
  let c0_3046 : Index := 0#32
  ![v12532.toNat, v12533.toNat, 0]
def k0_off1146 (k0_t1 : Fin k0_t1_loop.trips) : Fin 3 → Nat :=
  let c35_3048 : Index := 35#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c7_i32_2731 : BitVec 32 := 7#32
  let v11318 : BitVec 32 := Scalar.addi v5 c7_i32_2731
  let v12552 : Index := Scalar.indexCast v11318
  let c0_3049 : Index := 0#32
  ![35, v12552.toNat, 0]
def k0_off1147 (v11326 : BitVec 32) (v11331 : BitVec 32) (v11402 : BitVec 32) (v11433 : BitVec 32) : Fin 3 → Nat :=
  let c199_i32_2740 : BitVec 32 := 199#32
  let c0_i32_2739 : BitVec 32 := 0#32
  let v11332 : BitVec 32 := Scalar.maxsi c0_i32_2739 v11331
  let v11333 : BitVec 32 := Scalar.minsi c199_i32_2740 v11332
  let v11403 : BitVec 32 := Scalar.addi v11333 v11402
  let v12557 : Index := Scalar.indexCast v11403
  let c199_i32_2737 : BitVec 32 := 199#32
  let c0_i32_2736 : BitVec 32 := 0#32
  let v11327 : BitVec 32 := Scalar.maxsi c0_i32_2736 v11326
  let v11328 : BitVec 32 := Scalar.minsi c199_i32_2737 v11327
  let v11434 : BitVec 32 := Scalar.addi v11328 v11433
  let c3_i32_2790 : BitVec 32 := 3#32
  let v11437 : BitVec 32 := Scalar.shrsi v11434 c3_i32_2790
  let c3_i32_2791 : BitVec 32 := 3#32
  let v11438 : BitVec 32 := Scalar.shli v11437 c3_i32_2791
  let v11439 : BitVec 32 := v11438
  let v12558 : Index := Scalar.indexCast v11439
  let c0_3051 : Index := 0#32
  ![v12557.toNat, v12558.toNat, 0]
def k0_off1148 (v11326 : BitVec 32) (v11331 : BitVec 32) (v11341 : BitVec 32) (v11402 : BitVec 32) (v11433 : BitVec 32) : Fin 3 → Nat :=
  let c199_i32_2740 : BitVec 32 := 199#32
  let c0_i32_2739 : BitVec 32 := 0#32
  let v11332 : BitVec 32 := Scalar.maxsi c0_i32_2739 v11331
  let v11333 : BitVec 32 := Scalar.minsi c199_i32_2740 v11332
  let v11403 : BitVec 32 := Scalar.addi v11333 v11402
  let c1_i32_2774 : BitVec 32 := 1#32
  let v11404 : BitVec 32 := Scalar.addi v11403 c1_i32_2774
  let c199_i32_2746 : BitVec 32 := 199#32
  let c0_i32_2745 : BitVec 32 := 0#32
  let v11342 : BitVec 32 := Scalar.maxsi c0_i32_2745 v11341
  let v11343 : BitVec 32 := Scalar.minsi c199_i32_2746 v11342
  let v11405 : BitVec 32 := Scalar.minsi v11404 v11343
  let v12561 : Index := Scalar.indexCast v11405
  let c199_i32_2737 : BitVec 32 := 199#32
  let c0_i32_2736 : BitVec 32 := 0#32
  let v11327 : BitVec 32 := Scalar.maxsi c0_i32_2736 v11326
  let v11328 : BitVec 32 := Scalar.minsi c199_i32_2737 v11327
  let v11434 : BitVec 32 := Scalar.addi v11328 v11433
  let c3_i32_2790 : BitVec 32 := 3#32
  let v11437 : BitVec 32 := Scalar.shrsi v11434 c3_i32_2790
  let c3_i32_2791 : BitVec 32 := 3#32
  let v11438 : BitVec 32 := Scalar.shli v11437 c3_i32_2791
  let v11439 : BitVec 32 := v11438
  let v12562 : Index := Scalar.indexCast v11439
  let c0_3052 : Index := 0#32
  ![v12561.toNat, v12562.toNat, 0]
def k0_off1149 (k0_t1 : Fin k0_t1_loop.trips) : Fin 3 → Nat :=
  let c36_3054 : Index := 36#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c7_i32_2731 : BitVec 32 := 7#32
  let v11318 : BitVec 32 := Scalar.addi v5 c7_i32_2731
  let v12581 : Index := Scalar.indexCast v11318
  let c0_3055 : Index := 0#32
  ![36, v12581.toNat, 0]
def k0_off1150 (v11326 : BitVec 32) (v11331 : BitVec 32) (v11402 : BitVec 32) (v11446 : BitVec 32) : Fin 3 → Nat :=
  let c199_i32_2740 : BitVec 32 := 199#32
  let c0_i32_2739 : BitVec 32 := 0#32
  let v11332 : BitVec 32 := Scalar.maxsi c0_i32_2739 v11331
  let v11333 : BitVec 32 := Scalar.minsi c199_i32_2740 v11332
  let v11403 : BitVec 32 := Scalar.addi v11333 v11402
  let v12586 : Index := Scalar.indexCast v11403
  let c199_i32_2737 : BitVec 32 := 199#32
  let c0_i32_2736 : BitVec 32 := 0#32
  let v11327 : BitVec 32 := Scalar.maxsi c0_i32_2736 v11326
  let v11328 : BitVec 32 := Scalar.minsi c199_i32_2737 v11327
  let v11447 : BitVec 32 := Scalar.addi v11328 v11446
  let c3_i32_2797 : BitVec 32 := 3#32
  let v11450 : BitVec 32 := Scalar.shrsi v11447 c3_i32_2797
  let c3_i32_2798 : BitVec 32 := 3#32
  let v11451 : BitVec 32 := Scalar.shli v11450 c3_i32_2798
  let v11452 : BitVec 32 := v11451
  let v12587 : Index := Scalar.indexCast v11452
  let c0_3057 : Index := 0#32
  ![v12586.toNat, v12587.toNat, 0]
def k0_off1151 (v11326 : BitVec 32) (v11331 : BitVec 32) (v11341 : BitVec 32) (v11402 : BitVec 32) (v11446 : BitVec 32) : Fin 3 → Nat :=
  let c199_i32_2740 : BitVec 32 := 199#32
  let c0_i32_2739 : BitVec 32 := 0#32
  let v11332 : BitVec 32 := Scalar.maxsi c0_i32_2739 v11331
  let v11333 : BitVec 32 := Scalar.minsi c199_i32_2740 v11332
  let v11403 : BitVec 32 := Scalar.addi v11333 v11402
  let c1_i32_2774 : BitVec 32 := 1#32
  let v11404 : BitVec 32 := Scalar.addi v11403 c1_i32_2774
  let c199_i32_2746 : BitVec 32 := 199#32
  let c0_i32_2745 : BitVec 32 := 0#32
  let v11342 : BitVec 32 := Scalar.maxsi c0_i32_2745 v11341
  let v11343 : BitVec 32 := Scalar.minsi c199_i32_2746 v11342
  let v11405 : BitVec 32 := Scalar.minsi v11404 v11343
  let v12590 : Index := Scalar.indexCast v11405
  let c199_i32_2737 : BitVec 32 := 199#32
  let c0_i32_2736 : BitVec 32 := 0#32
  let v11327 : BitVec 32 := Scalar.maxsi c0_i32_2736 v11326
  let v11328 : BitVec 32 := Scalar.minsi c199_i32_2737 v11327
  let v11447 : BitVec 32 := Scalar.addi v11328 v11446
  let c3_i32_2797 : BitVec 32 := 3#32
  let v11450 : BitVec 32 := Scalar.shrsi v11447 c3_i32_2797
  let c3_i32_2798 : BitVec 32 := 3#32
  let v11451 : BitVec 32 := Scalar.shli v11450 c3_i32_2798
  let v11452 : BitVec 32 := v11451
  let v12591 : Index := Scalar.indexCast v11452
  let c0_3058 : Index := 0#32
  ![v12590.toNat, v12591.toNat, 0]
def k0_off1152 (k0_t1 : Fin k0_t1_loop.trips) : Fin 3 → Nat :=
  let c37_3060 : Index := 37#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c7_i32_2731 : BitVec 32 := 7#32
  let v11318 : BitVec 32 := Scalar.addi v5 c7_i32_2731
  let v12610 : Index := Scalar.indexCast v11318
  let c0_3061 : Index := 0#32
  ![37, v12610.toNat, 0]
def k0_off1153 (v11326 : BitVec 32) (v11331 : BitVec 32) (v11402 : BitVec 32) (v11459 : BitVec 32) : Fin 3 → Nat :=
  let c199_i32_2740 : BitVec 32 := 199#32
  let c0_i32_2739 : BitVec 32 := 0#32
  let v11332 : BitVec 32 := Scalar.maxsi c0_i32_2739 v11331
  let v11333 : BitVec 32 := Scalar.minsi c199_i32_2740 v11332
  let v11403 : BitVec 32 := Scalar.addi v11333 v11402
  let v12615 : Index := Scalar.indexCast v11403
  let c199_i32_2737 : BitVec 32 := 199#32
  let c0_i32_2736 : BitVec 32 := 0#32
  let v11327 : BitVec 32 := Scalar.maxsi c0_i32_2736 v11326
  let v11328 : BitVec 32 := Scalar.minsi c199_i32_2737 v11327
  let v11460 : BitVec 32 := Scalar.addi v11328 v11459
  let c3_i32_2804 : BitVec 32 := 3#32
  let v11463 : BitVec 32 := Scalar.shrsi v11460 c3_i32_2804
  let c3_i32_2805 : BitVec 32 := 3#32
  let v11464 : BitVec 32 := Scalar.shli v11463 c3_i32_2805
  let v11465 : BitVec 32 := v11464
  let v12616 : Index := Scalar.indexCast v11465
  let c0_3063 : Index := 0#32
  ![v12615.toNat, v12616.toNat, 0]
def k0_off1154 (v11326 : BitVec 32) (v11331 : BitVec 32) (v11341 : BitVec 32) (v11402 : BitVec 32) (v11459 : BitVec 32) : Fin 3 → Nat :=
  let c199_i32_2740 : BitVec 32 := 199#32
  let c0_i32_2739 : BitVec 32 := 0#32
  let v11332 : BitVec 32 := Scalar.maxsi c0_i32_2739 v11331
  let v11333 : BitVec 32 := Scalar.minsi c199_i32_2740 v11332
  let v11403 : BitVec 32 := Scalar.addi v11333 v11402
  let c1_i32_2774 : BitVec 32 := 1#32
  let v11404 : BitVec 32 := Scalar.addi v11403 c1_i32_2774
  let c199_i32_2746 : BitVec 32 := 199#32
  let c0_i32_2745 : BitVec 32 := 0#32
  let v11342 : BitVec 32 := Scalar.maxsi c0_i32_2745 v11341
  let v11343 : BitVec 32 := Scalar.minsi c199_i32_2746 v11342
  let v11405 : BitVec 32 := Scalar.minsi v11404 v11343
  let v12619 : Index := Scalar.indexCast v11405
  let c199_i32_2737 : BitVec 32 := 199#32
  let c0_i32_2736 : BitVec 32 := 0#32
  let v11327 : BitVec 32 := Scalar.maxsi c0_i32_2736 v11326
  let v11328 : BitVec 32 := Scalar.minsi c199_i32_2737 v11327
  let v11460 : BitVec 32 := Scalar.addi v11328 v11459
  let c3_i32_2804 : BitVec 32 := 3#32
  let v11463 : BitVec 32 := Scalar.shrsi v11460 c3_i32_2804
  let c3_i32_2805 : BitVec 32 := 3#32
  let v11464 : BitVec 32 := Scalar.shli v11463 c3_i32_2805
  let v11465 : BitVec 32 := v11464
  let v12620 : Index := Scalar.indexCast v11465
  let c0_3064 : Index := 0#32
  ![v12619.toNat, v12620.toNat, 0]
def k0_off1155 (k0_t1 : Fin k0_t1_loop.trips) : Fin 3 → Nat :=
  let c38_3066 : Index := 38#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c7_i32_2731 : BitVec 32 := 7#32
  let v11318 : BitVec 32 := Scalar.addi v5 c7_i32_2731
  let v12639 : Index := Scalar.indexCast v11318
  let c0_3067 : Index := 0#32
  ![38, v12639.toNat, 0]
def k0_off1156 (v11326 : BitVec 32) (v11331 : BitVec 32) (v11402 : BitVec 32) (v11472 : BitVec 32) : Fin 3 → Nat :=
  let c199_i32_2740 : BitVec 32 := 199#32
  let c0_i32_2739 : BitVec 32 := 0#32
  let v11332 : BitVec 32 := Scalar.maxsi c0_i32_2739 v11331
  let v11333 : BitVec 32 := Scalar.minsi c199_i32_2740 v11332
  let v11403 : BitVec 32 := Scalar.addi v11333 v11402
  let v12644 : Index := Scalar.indexCast v11403
  let c199_i32_2737 : BitVec 32 := 199#32
  let c0_i32_2736 : BitVec 32 := 0#32
  let v11327 : BitVec 32 := Scalar.maxsi c0_i32_2736 v11326
  let v11328 : BitVec 32 := Scalar.minsi c199_i32_2737 v11327
  let v11473 : BitVec 32 := Scalar.addi v11328 v11472
  let c3_i32_2811 : BitVec 32 := 3#32
  let v11476 : BitVec 32 := Scalar.shrsi v11473 c3_i32_2811
  let c3_i32_2812 : BitVec 32 := 3#32
  let v11477 : BitVec 32 := Scalar.shli v11476 c3_i32_2812
  let v11478 : BitVec 32 := v11477
  let v12645 : Index := Scalar.indexCast v11478
  let c0_3069 : Index := 0#32
  ![v12644.toNat, v12645.toNat, 0]
def k0_off1157 (v11326 : BitVec 32) (v11331 : BitVec 32) (v11341 : BitVec 32) (v11402 : BitVec 32) (v11472 : BitVec 32) : Fin 3 → Nat :=
  let c199_i32_2740 : BitVec 32 := 199#32
  let c0_i32_2739 : BitVec 32 := 0#32
  let v11332 : BitVec 32 := Scalar.maxsi c0_i32_2739 v11331
  let v11333 : BitVec 32 := Scalar.minsi c199_i32_2740 v11332
  let v11403 : BitVec 32 := Scalar.addi v11333 v11402
  let c1_i32_2774 : BitVec 32 := 1#32
  let v11404 : BitVec 32 := Scalar.addi v11403 c1_i32_2774
  let c199_i32_2746 : BitVec 32 := 199#32
  let c0_i32_2745 : BitVec 32 := 0#32
  let v11342 : BitVec 32 := Scalar.maxsi c0_i32_2745 v11341
  let v11343 : BitVec 32 := Scalar.minsi c199_i32_2746 v11342
  let v11405 : BitVec 32 := Scalar.minsi v11404 v11343
  let v12648 : Index := Scalar.indexCast v11405
  let c199_i32_2737 : BitVec 32 := 199#32
  let c0_i32_2736 : BitVec 32 := 0#32
  let v11327 : BitVec 32 := Scalar.maxsi c0_i32_2736 v11326
  let v11328 : BitVec 32 := Scalar.minsi c199_i32_2737 v11327
  let v11473 : BitVec 32 := Scalar.addi v11328 v11472
  let c3_i32_2811 : BitVec 32 := 3#32
  let v11476 : BitVec 32 := Scalar.shrsi v11473 c3_i32_2811
  let c3_i32_2812 : BitVec 32 := 3#32
  let v11477 : BitVec 32 := Scalar.shli v11476 c3_i32_2812
  let v11478 : BitVec 32 := v11477
  let v12649 : Index := Scalar.indexCast v11478
  let c0_3070 : Index := 0#32
  ![v12648.toNat, v12649.toNat, 0]
def k0_off1158 (k0_t1 : Fin k0_t1_loop.trips) : Fin 3 → Nat :=
  let c39_3072 : Index := 39#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c7_i32_2731 : BitVec 32 := 7#32
  let v11318 : BitVec 32 := Scalar.addi v5 c7_i32_2731
  let v12668 : Index := Scalar.indexCast v11318
  let c0_3073 : Index := 0#32
  ![39, v12668.toNat, 0]
def k0_off1159 (v11326 : BitVec 32) (v11331 : BitVec 32) (v11402 : BitVec 32) (v11485 : BitVec 32) : Fin 3 → Nat :=
  let c199_i32_2740 : BitVec 32 := 199#32
  let c0_i32_2739 : BitVec 32 := 0#32
  let v11332 : BitVec 32 := Scalar.maxsi c0_i32_2739 v11331
  let v11333 : BitVec 32 := Scalar.minsi c199_i32_2740 v11332
  let v11403 : BitVec 32 := Scalar.addi v11333 v11402
  let v12673 : Index := Scalar.indexCast v11403
  let c199_i32_2737 : BitVec 32 := 199#32
  let c0_i32_2736 : BitVec 32 := 0#32
  let v11327 : BitVec 32 := Scalar.maxsi c0_i32_2736 v11326
  let v11328 : BitVec 32 := Scalar.minsi c199_i32_2737 v11327
  let v11486 : BitVec 32 := Scalar.addi v11328 v11485
  let c3_i32_2818 : BitVec 32 := 3#32
  let v11489 : BitVec 32 := Scalar.shrsi v11486 c3_i32_2818
  let c3_i32_2819 : BitVec 32 := 3#32
  let v11490 : BitVec 32 := Scalar.shli v11489 c3_i32_2819
  let v11491 : BitVec 32 := v11490
  let v12674 : Index := Scalar.indexCast v11491
  let c0_3075 : Index := 0#32
  ![v12673.toNat, v12674.toNat, 0]
def k0_off1160 (v11326 : BitVec 32) (v11331 : BitVec 32) (v11341 : BitVec 32) (v11402 : BitVec 32) (v11485 : BitVec 32) : Fin 3 → Nat :=
  let c199_i32_2740 : BitVec 32 := 199#32
  let c0_i32_2739 : BitVec 32 := 0#32
  let v11332 : BitVec 32 := Scalar.maxsi c0_i32_2739 v11331
  let v11333 : BitVec 32 := Scalar.minsi c199_i32_2740 v11332
  let v11403 : BitVec 32 := Scalar.addi v11333 v11402
  let c1_i32_2774 : BitVec 32 := 1#32
  let v11404 : BitVec 32 := Scalar.addi v11403 c1_i32_2774
  let c199_i32_2746 : BitVec 32 := 199#32
  let c0_i32_2745 : BitVec 32 := 0#32
  let v11342 : BitVec 32 := Scalar.maxsi c0_i32_2745 v11341
  let v11343 : BitVec 32 := Scalar.minsi c199_i32_2746 v11342
  let v11405 : BitVec 32 := Scalar.minsi v11404 v11343
  let v12677 : Index := Scalar.indexCast v11405
  let c199_i32_2737 : BitVec 32 := 199#32
  let c0_i32_2736 : BitVec 32 := 0#32
  let v11327 : BitVec 32 := Scalar.maxsi c0_i32_2736 v11326
  let v11328 : BitVec 32 := Scalar.minsi c199_i32_2737 v11327
  let v11486 : BitVec 32 := Scalar.addi v11328 v11485
  let c3_i32_2818 : BitVec 32 := 3#32
  let v11489 : BitVec 32 := Scalar.shrsi v11486 c3_i32_2818
  let c3_i32_2819 : BitVec 32 := 3#32
  let v11490 : BitVec 32 := Scalar.shli v11489 c3_i32_2819
  let v11491 : BitVec 32 := v11490
  let v12678 : Index := Scalar.indexCast v11491
  let c0_3076 : Index := 0#32
  ![v12677.toNat, v12678.toNat, 0]
def k0_off1161 (k0_t1 : Fin k0_t1_loop.trips) : Fin 3 → Nat :=
  let c40_3078 : Index := 40#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c7_i32_2731 : BitVec 32 := 7#32
  let v11318 : BitVec 32 := Scalar.addi v5 c7_i32_2731
  let v12697 : Index := Scalar.indexCast v11318
  let c0_3079 : Index := 0#32
  ![40, v12697.toNat, 0]
def k0_off1162 (v11326 : BitVec 32) (v11331 : BitVec 32) (v11402 : BitVec 32) (v11498 : BitVec 32) : Fin 3 → Nat :=
  let c199_i32_2740 : BitVec 32 := 199#32
  let c0_i32_2739 : BitVec 32 := 0#32
  let v11332 : BitVec 32 := Scalar.maxsi c0_i32_2739 v11331
  let v11333 : BitVec 32 := Scalar.minsi c199_i32_2740 v11332
  let v11403 : BitVec 32 := Scalar.addi v11333 v11402
  let v12702 : Index := Scalar.indexCast v11403
  let c199_i32_2737 : BitVec 32 := 199#32
  let c0_i32_2736 : BitVec 32 := 0#32
  let v11327 : BitVec 32 := Scalar.maxsi c0_i32_2736 v11326
  let v11328 : BitVec 32 := Scalar.minsi c199_i32_2737 v11327
  let v11499 : BitVec 32 := Scalar.addi v11328 v11498
  let c3_i32_2825 : BitVec 32 := 3#32
  let v11502 : BitVec 32 := Scalar.shrsi v11499 c3_i32_2825
  let c3_i32_2826 : BitVec 32 := 3#32
  let v11503 : BitVec 32 := Scalar.shli v11502 c3_i32_2826
  let v11504 : BitVec 32 := v11503
  let v12703 : Index := Scalar.indexCast v11504
  let c0_3081 : Index := 0#32
  ![v12702.toNat, v12703.toNat, 0]
def k0_off1163 (v11326 : BitVec 32) (v11331 : BitVec 32) (v11341 : BitVec 32) (v11402 : BitVec 32) (v11498 : BitVec 32) : Fin 3 → Nat :=
  let c199_i32_2740 : BitVec 32 := 199#32
  let c0_i32_2739 : BitVec 32 := 0#32
  let v11332 : BitVec 32 := Scalar.maxsi c0_i32_2739 v11331
  let v11333 : BitVec 32 := Scalar.minsi c199_i32_2740 v11332
  let v11403 : BitVec 32 := Scalar.addi v11333 v11402
  let c1_i32_2774 : BitVec 32 := 1#32
  let v11404 : BitVec 32 := Scalar.addi v11403 c1_i32_2774
  let c199_i32_2746 : BitVec 32 := 199#32
  let c0_i32_2745 : BitVec 32 := 0#32
  let v11342 : BitVec 32 := Scalar.maxsi c0_i32_2745 v11341
  let v11343 : BitVec 32 := Scalar.minsi c199_i32_2746 v11342
  let v11405 : BitVec 32 := Scalar.minsi v11404 v11343
  let v12706 : Index := Scalar.indexCast v11405
  let c199_i32_2737 : BitVec 32 := 199#32
  let c0_i32_2736 : BitVec 32 := 0#32
  let v11327 : BitVec 32 := Scalar.maxsi c0_i32_2736 v11326
  let v11328 : BitVec 32 := Scalar.minsi c199_i32_2737 v11327
  let v11499 : BitVec 32 := Scalar.addi v11328 v11498
  let c3_i32_2825 : BitVec 32 := 3#32
  let v11502 : BitVec 32 := Scalar.shrsi v11499 c3_i32_2825
  let c3_i32_2826 : BitVec 32 := 3#32
  let v11503 : BitVec 32 := Scalar.shli v11502 c3_i32_2826
  let v11504 : BitVec 32 := v11503
  let v12707 : Index := Scalar.indexCast v11504
  let c0_3082 : Index := 0#32
  ![v12706.toNat, v12707.toNat, 0]
def k0_off1164 (k0_t1 : Fin k0_t1_loop.trips) : Fin 3 → Nat :=
  let c41_3084 : Index := 41#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c7_i32_2731 : BitVec 32 := 7#32
  let v11318 : BitVec 32 := Scalar.addi v5 c7_i32_2731
  let v12726 : Index := Scalar.indexCast v11318
  let c0_3085 : Index := 0#32
  ![41, v12726.toNat, 0]
def k0_off1165 (v11326 : BitVec 32) (v11331 : BitVec 32) (v11411 : BitVec 32) (v11420 : BitVec 32) : Fin 3 → Nat :=
  let c199_i32_2740 : BitVec 32 := 199#32
  let c0_i32_2739 : BitVec 32 := 0#32
  let v11332 : BitVec 32 := Scalar.maxsi c0_i32_2739 v11331
  let v11333 : BitVec 32 := Scalar.minsi c199_i32_2740 v11332
  let v11412 : BitVec 32 := Scalar.addi v11333 v11411
  let v12732 : Index := Scalar.indexCast v11412
  let c199_i32_2737 : BitVec 32 := 199#32
  let c0_i32_2736 : BitVec 32 := 0#32
  let v11327 : BitVec 32 := Scalar.maxsi c0_i32_2736 v11326
  let v11328 : BitVec 32 := Scalar.minsi c199_i32_2737 v11327
  let v11421 : BitVec 32 := Scalar.addi v11328 v11420
  let c3_i32_2783 : BitVec 32 := 3#32
  let v11424 : BitVec 32 := Scalar.shrsi v11421 c3_i32_2783
  let c3_i32_2784 : BitVec 32 := 3#32
  let v11425 : BitVec 32 := Scalar.shli v11424 c3_i32_2784
  let v11426 : BitVec 32 := v11425
  let v12733 : Index := Scalar.indexCast v11426
  let c0_3088 : Index := 0#32
  ![v12732.toNat, v12733.toNat, 0]
def k0_off1166 (v11326 : BitVec 32) (v11331 : BitVec 32) (v11341 : BitVec 32) (v11411 : BitVec 32) (v11420 : BitVec 32) : Fin 3 → Nat :=
  let c199_i32_2740 : BitVec 32 := 199#32
  let c0_i32_2739 : BitVec 32 := 0#32
  let v11332 : BitVec 32 := Scalar.maxsi c0_i32_2739 v11331
  let v11333 : BitVec 32 := Scalar.minsi c199_i32_2740 v11332
  let v11412 : BitVec 32 := Scalar.addi v11333 v11411
  let c1_i32_2778 : BitVec 32 := 1#32
  let v11413 : BitVec 32 := Scalar.addi v11412 c1_i32_2778
  let c199_i32_2746 : BitVec 32 := 199#32
  let c0_i32_2745 : BitVec 32 := 0#32
  let v11342 : BitVec 32 := Scalar.maxsi c0_i32_2745 v11341
  let v11343 : BitVec 32 := Scalar.minsi c199_i32_2746 v11342
  let v11414 : BitVec 32 := Scalar.minsi v11413 v11343
  let v12736 : Index := Scalar.indexCast v11414
  let c199_i32_2737 : BitVec 32 := 199#32
  let c0_i32_2736 : BitVec 32 := 0#32
  let v11327 : BitVec 32 := Scalar.maxsi c0_i32_2736 v11326
  let v11328 : BitVec 32 := Scalar.minsi c199_i32_2737 v11327
  let v11421 : BitVec 32 := Scalar.addi v11328 v11420
  let c3_i32_2783 : BitVec 32 := 3#32
  let v11424 : BitVec 32 := Scalar.shrsi v11421 c3_i32_2783
  let c3_i32_2784 : BitVec 32 := 3#32
  let v11425 : BitVec 32 := Scalar.shli v11424 c3_i32_2784
  let v11426 : BitVec 32 := v11425
  let v12737 : Index := Scalar.indexCast v11426
  let c0_3089 : Index := 0#32
  ![v12736.toNat, v12737.toNat, 0]

def k0_chk50 (v11326 : BitVec 32) (v11331 : BitVec 32) (v11341 : BitVec 32) (v11357 : BitVec 32) (v11366 : BitVec 32) (v11375 : BitVec 32) (v11384 : BitVec 32) (v11393 : BitVec 32) (v11402 : BitVec 32) (v11411 : BitVec 32) (v11420 : BitVec 32) : Prop :=
  (8 ∣ (k0_mult51 v11326 v11420).toNat) ∧
  (∀ a, (k0_off1039 v11326 v11331 v11357 v11420) a + S1x16x256.size a ≤ S200x216x256.size a) ∧
  (∀ a, (k0_off1040 v11326 v11331 v11341 v11357 v11420) a + S1x16x256.size a ≤ S200x216x256.size a) ∧
  (∀ a, (k0_off1060 v11326 v11331 v11366 v11420) a + S1x16x256.size a ≤ S200x216x256.size a) ∧
  (∀ a, (k0_off1061 v11326 v11331 v11341 v11366 v11420) a + S1x16x256.size a ≤ S200x216x256.size a) ∧
  (∀ a, (k0_off1081 v11326 v11331 v11375 v11420) a + S1x16x256.size a ≤ S200x216x256.size a) ∧
  (∀ a, (k0_off1082 v11326 v11331 v11341 v11375 v11420) a + S1x16x256.size a ≤ S200x216x256.size a) ∧
  (∀ a, (k0_off1102 v11326 v11331 v11384 v11420) a + S1x16x256.size a ≤ S200x216x256.size a) ∧
  (∀ a, (k0_off1103 v11326 v11331 v11341 v11384 v11420) a + S1x16x256.size a ≤ S200x216x256.size a) ∧
  (∀ a, (k0_off1123 v11326 v11331 v11393 v11420) a + S1x16x256.size a ≤ S200x216x256.size a) ∧
  (∀ a, (k0_off1124 v11326 v11331 v11341 v11393 v11420) a + S1x16x256.size a ≤ S200x216x256.size a) ∧
  (∀ a, (k0_off1144 v11326 v11331 v11402 v11420) a + S1x16x256.size a ≤ S200x216x256.size a) ∧
  (∀ a, (k0_off1145 v11326 v11331 v11341 v11402 v11420) a + S1x16x256.size a ≤ S200x216x256.size a) ∧
  (∀ a, (k0_off1165 v11326 v11331 v11411 v11420) a + S1x16x256.size a ≤ S200x216x256.size a) ∧
  (∀ a, (k0_off1166 v11326 v11331 v11341 v11411 v11420) a + S1x16x256.size a ≤ S200x216x256.size a)
theorem k0_mult51_dvd : ∀ (v11326 : BitVec 32) (v11331 : BitVec 32) (v11341 : BitVec 32) (v11357 : BitVec 32) (v11366 : BitVec 32) (v11375 : BitVec 32) (v11384 : BitVec 32) (v11393 : BitVec 32) (v11402 : BitVec 32) (v11411 : BitVec 32) (v11420 : BitVec 32) (k0_hw50 : k0_chk50 v11326 v11331 v11341 v11357 v11366 v11375 v11384 v11393 v11402 v11411 v11420), 8 ∣ (k0_mult51 v11326 v11420).toNat := fun v11326 v11331 v11341 v11357 v11366 v11375 v11384 v11393 v11402 v11411 v11420 k0_hw50 => k0_hw50.1
theorem k0_off1039_inb : ∀ (v11326 : BitVec 32) (v11331 : BitVec 32) (v11341 : BitVec 32) (v11357 : BitVec 32) (v11366 : BitVec 32) (v11375 : BitVec 32) (v11384 : BitVec 32) (v11393 : BitVec 32) (v11402 : BitVec 32) (v11411 : BitVec 32) (v11420 : BitVec 32) (k0_hw50 : k0_chk50 v11326 v11331 v11341 v11357 v11366 v11375 v11384 v11393 v11402 v11411 v11420), ∀ a, (k0_off1039 v11326 v11331 v11357 v11420) a + S1x16x256.size a ≤ S200x216x256.size a := fun v11326 v11331 v11341 v11357 v11366 v11375 v11384 v11393 v11402 v11411 v11420 k0_hw50 => k0_hw50.2.1
theorem k0_off1040_inb : ∀ (v11326 : BitVec 32) (v11331 : BitVec 32) (v11341 : BitVec 32) (v11357 : BitVec 32) (v11366 : BitVec 32) (v11375 : BitVec 32) (v11384 : BitVec 32) (v11393 : BitVec 32) (v11402 : BitVec 32) (v11411 : BitVec 32) (v11420 : BitVec 32) (k0_hw50 : k0_chk50 v11326 v11331 v11341 v11357 v11366 v11375 v11384 v11393 v11402 v11411 v11420), ∀ a, (k0_off1040 v11326 v11331 v11341 v11357 v11420) a + S1x16x256.size a ≤ S200x216x256.size a := fun v11326 v11331 v11341 v11357 v11366 v11375 v11384 v11393 v11402 v11411 v11420 k0_hw50 => k0_hw50.2.2.1
theorem k0_off1060_inb : ∀ (v11326 : BitVec 32) (v11331 : BitVec 32) (v11341 : BitVec 32) (v11357 : BitVec 32) (v11366 : BitVec 32) (v11375 : BitVec 32) (v11384 : BitVec 32) (v11393 : BitVec 32) (v11402 : BitVec 32) (v11411 : BitVec 32) (v11420 : BitVec 32) (k0_hw50 : k0_chk50 v11326 v11331 v11341 v11357 v11366 v11375 v11384 v11393 v11402 v11411 v11420), ∀ a, (k0_off1060 v11326 v11331 v11366 v11420) a + S1x16x256.size a ≤ S200x216x256.size a := fun v11326 v11331 v11341 v11357 v11366 v11375 v11384 v11393 v11402 v11411 v11420 k0_hw50 => k0_hw50.2.2.2.1
theorem k0_off1061_inb : ∀ (v11326 : BitVec 32) (v11331 : BitVec 32) (v11341 : BitVec 32) (v11357 : BitVec 32) (v11366 : BitVec 32) (v11375 : BitVec 32) (v11384 : BitVec 32) (v11393 : BitVec 32) (v11402 : BitVec 32) (v11411 : BitVec 32) (v11420 : BitVec 32) (k0_hw50 : k0_chk50 v11326 v11331 v11341 v11357 v11366 v11375 v11384 v11393 v11402 v11411 v11420), ∀ a, (k0_off1061 v11326 v11331 v11341 v11366 v11420) a + S1x16x256.size a ≤ S200x216x256.size a := fun v11326 v11331 v11341 v11357 v11366 v11375 v11384 v11393 v11402 v11411 v11420 k0_hw50 => k0_hw50.2.2.2.2.1
theorem k0_off1081_inb : ∀ (v11326 : BitVec 32) (v11331 : BitVec 32) (v11341 : BitVec 32) (v11357 : BitVec 32) (v11366 : BitVec 32) (v11375 : BitVec 32) (v11384 : BitVec 32) (v11393 : BitVec 32) (v11402 : BitVec 32) (v11411 : BitVec 32) (v11420 : BitVec 32) (k0_hw50 : k0_chk50 v11326 v11331 v11341 v11357 v11366 v11375 v11384 v11393 v11402 v11411 v11420), ∀ a, (k0_off1081 v11326 v11331 v11375 v11420) a + S1x16x256.size a ≤ S200x216x256.size a := fun v11326 v11331 v11341 v11357 v11366 v11375 v11384 v11393 v11402 v11411 v11420 k0_hw50 => k0_hw50.2.2.2.2.2.1
theorem k0_off1082_inb : ∀ (v11326 : BitVec 32) (v11331 : BitVec 32) (v11341 : BitVec 32) (v11357 : BitVec 32) (v11366 : BitVec 32) (v11375 : BitVec 32) (v11384 : BitVec 32) (v11393 : BitVec 32) (v11402 : BitVec 32) (v11411 : BitVec 32) (v11420 : BitVec 32) (k0_hw50 : k0_chk50 v11326 v11331 v11341 v11357 v11366 v11375 v11384 v11393 v11402 v11411 v11420), ∀ a, (k0_off1082 v11326 v11331 v11341 v11375 v11420) a + S1x16x256.size a ≤ S200x216x256.size a := fun v11326 v11331 v11341 v11357 v11366 v11375 v11384 v11393 v11402 v11411 v11420 k0_hw50 => k0_hw50.2.2.2.2.2.2.1
theorem k0_off1102_inb : ∀ (v11326 : BitVec 32) (v11331 : BitVec 32) (v11341 : BitVec 32) (v11357 : BitVec 32) (v11366 : BitVec 32) (v11375 : BitVec 32) (v11384 : BitVec 32) (v11393 : BitVec 32) (v11402 : BitVec 32) (v11411 : BitVec 32) (v11420 : BitVec 32) (k0_hw50 : k0_chk50 v11326 v11331 v11341 v11357 v11366 v11375 v11384 v11393 v11402 v11411 v11420), ∀ a, (k0_off1102 v11326 v11331 v11384 v11420) a + S1x16x256.size a ≤ S200x216x256.size a := fun v11326 v11331 v11341 v11357 v11366 v11375 v11384 v11393 v11402 v11411 v11420 k0_hw50 => k0_hw50.2.2.2.2.2.2.2.1
theorem k0_off1103_inb : ∀ (v11326 : BitVec 32) (v11331 : BitVec 32) (v11341 : BitVec 32) (v11357 : BitVec 32) (v11366 : BitVec 32) (v11375 : BitVec 32) (v11384 : BitVec 32) (v11393 : BitVec 32) (v11402 : BitVec 32) (v11411 : BitVec 32) (v11420 : BitVec 32) (k0_hw50 : k0_chk50 v11326 v11331 v11341 v11357 v11366 v11375 v11384 v11393 v11402 v11411 v11420), ∀ a, (k0_off1103 v11326 v11331 v11341 v11384 v11420) a + S1x16x256.size a ≤ S200x216x256.size a := fun v11326 v11331 v11341 v11357 v11366 v11375 v11384 v11393 v11402 v11411 v11420 k0_hw50 => k0_hw50.2.2.2.2.2.2.2.2.1
theorem k0_off1123_inb : ∀ (v11326 : BitVec 32) (v11331 : BitVec 32) (v11341 : BitVec 32) (v11357 : BitVec 32) (v11366 : BitVec 32) (v11375 : BitVec 32) (v11384 : BitVec 32) (v11393 : BitVec 32) (v11402 : BitVec 32) (v11411 : BitVec 32) (v11420 : BitVec 32) (k0_hw50 : k0_chk50 v11326 v11331 v11341 v11357 v11366 v11375 v11384 v11393 v11402 v11411 v11420), ∀ a, (k0_off1123 v11326 v11331 v11393 v11420) a + S1x16x256.size a ≤ S200x216x256.size a := fun v11326 v11331 v11341 v11357 v11366 v11375 v11384 v11393 v11402 v11411 v11420 k0_hw50 => k0_hw50.2.2.2.2.2.2.2.2.2.1
theorem k0_off1124_inb : ∀ (v11326 : BitVec 32) (v11331 : BitVec 32) (v11341 : BitVec 32) (v11357 : BitVec 32) (v11366 : BitVec 32) (v11375 : BitVec 32) (v11384 : BitVec 32) (v11393 : BitVec 32) (v11402 : BitVec 32) (v11411 : BitVec 32) (v11420 : BitVec 32) (k0_hw50 : k0_chk50 v11326 v11331 v11341 v11357 v11366 v11375 v11384 v11393 v11402 v11411 v11420), ∀ a, (k0_off1124 v11326 v11331 v11341 v11393 v11420) a + S1x16x256.size a ≤ S200x216x256.size a := fun v11326 v11331 v11341 v11357 v11366 v11375 v11384 v11393 v11402 v11411 v11420 k0_hw50 => k0_hw50.2.2.2.2.2.2.2.2.2.2.1
theorem k0_off1144_inb : ∀ (v11326 : BitVec 32) (v11331 : BitVec 32) (v11341 : BitVec 32) (v11357 : BitVec 32) (v11366 : BitVec 32) (v11375 : BitVec 32) (v11384 : BitVec 32) (v11393 : BitVec 32) (v11402 : BitVec 32) (v11411 : BitVec 32) (v11420 : BitVec 32) (k0_hw50 : k0_chk50 v11326 v11331 v11341 v11357 v11366 v11375 v11384 v11393 v11402 v11411 v11420), ∀ a, (k0_off1144 v11326 v11331 v11402 v11420) a + S1x16x256.size a ≤ S200x216x256.size a := fun v11326 v11331 v11341 v11357 v11366 v11375 v11384 v11393 v11402 v11411 v11420 k0_hw50 => k0_hw50.2.2.2.2.2.2.2.2.2.2.2.1
theorem k0_off1145_inb : ∀ (v11326 : BitVec 32) (v11331 : BitVec 32) (v11341 : BitVec 32) (v11357 : BitVec 32) (v11366 : BitVec 32) (v11375 : BitVec 32) (v11384 : BitVec 32) (v11393 : BitVec 32) (v11402 : BitVec 32) (v11411 : BitVec 32) (v11420 : BitVec 32) (k0_hw50 : k0_chk50 v11326 v11331 v11341 v11357 v11366 v11375 v11384 v11393 v11402 v11411 v11420), ∀ a, (k0_off1145 v11326 v11331 v11341 v11402 v11420) a + S1x16x256.size a ≤ S200x216x256.size a := fun v11326 v11331 v11341 v11357 v11366 v11375 v11384 v11393 v11402 v11411 v11420 k0_hw50 => k0_hw50.2.2.2.2.2.2.2.2.2.2.2.2.1
theorem k0_off1165_inb : ∀ (v11326 : BitVec 32) (v11331 : BitVec 32) (v11341 : BitVec 32) (v11357 : BitVec 32) (v11366 : BitVec 32) (v11375 : BitVec 32) (v11384 : BitVec 32) (v11393 : BitVec 32) (v11402 : BitVec 32) (v11411 : BitVec 32) (v11420 : BitVec 32) (k0_hw50 : k0_chk50 v11326 v11331 v11341 v11357 v11366 v11375 v11384 v11393 v11402 v11411 v11420), ∀ a, (k0_off1165 v11326 v11331 v11411 v11420) a + S1x16x256.size a ≤ S200x216x256.size a := fun v11326 v11331 v11341 v11357 v11366 v11375 v11384 v11393 v11402 v11411 v11420 k0_hw50 => k0_hw50.2.2.2.2.2.2.2.2.2.2.2.2.2.1
theorem k0_off1166_inb : ∀ (v11326 : BitVec 32) (v11331 : BitVec 32) (v11341 : BitVec 32) (v11357 : BitVec 32) (v11366 : BitVec 32) (v11375 : BitVec 32) (v11384 : BitVec 32) (v11393 : BitVec 32) (v11402 : BitVec 32) (v11411 : BitVec 32) (v11420 : BitVec 32) (k0_hw50 : k0_chk50 v11326 v11331 v11341 v11357 v11366 v11375 v11384 v11393 v11402 v11411 v11420), ∀ a, (k0_off1166 v11326 v11331 v11341 v11411 v11420) a + S1x16x256.size a ≤ S200x216x256.size a := fun v11326 v11331 v11341 v11357 v11366 v11375 v11384 v11393 v11402 v11411 v11420 k0_hw50 => k0_hw50.2.2.2.2.2.2.2.2.2.2.2.2.2.2

def k0_off1167 (k0_t1 : Fin k0_t1_loop.trips) : Fin 3 → Nat :=
  let c42_3091 : Index := 42#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c7_i32_2731 : BitVec 32 := 7#32
  let v11318 : BitVec 32 := Scalar.addi v5 c7_i32_2731
  let v12756 : Index := Scalar.indexCast v11318
  let c0_3092 : Index := 0#32
  ![42, v12756.toNat, 0]
def k0_off1168 (v11326 : BitVec 32) (v11331 : BitVec 32) (v11411 : BitVec 32) (v11433 : BitVec 32) : Fin 3 → Nat :=
  let c199_i32_2740 : BitVec 32 := 199#32
  let c0_i32_2739 : BitVec 32 := 0#32
  let v11332 : BitVec 32 := Scalar.maxsi c0_i32_2739 v11331
  let v11333 : BitVec 32 := Scalar.minsi c199_i32_2740 v11332
  let v11412 : BitVec 32 := Scalar.addi v11333 v11411
  let v12761 : Index := Scalar.indexCast v11412
  let c199_i32_2737 : BitVec 32 := 199#32
  let c0_i32_2736 : BitVec 32 := 0#32
  let v11327 : BitVec 32 := Scalar.maxsi c0_i32_2736 v11326
  let v11328 : BitVec 32 := Scalar.minsi c199_i32_2737 v11327
  let v11434 : BitVec 32 := Scalar.addi v11328 v11433
  let c3_i32_2790 : BitVec 32 := 3#32
  let v11437 : BitVec 32 := Scalar.shrsi v11434 c3_i32_2790
  let c3_i32_2791 : BitVec 32 := 3#32
  let v11438 : BitVec 32 := Scalar.shli v11437 c3_i32_2791
  let v11439 : BitVec 32 := v11438
  let v12762 : Index := Scalar.indexCast v11439
  let c0_3094 : Index := 0#32
  ![v12761.toNat, v12762.toNat, 0]
def k0_off1169 (v11326 : BitVec 32) (v11331 : BitVec 32) (v11341 : BitVec 32) (v11411 : BitVec 32) (v11433 : BitVec 32) : Fin 3 → Nat :=
  let c199_i32_2740 : BitVec 32 := 199#32
  let c0_i32_2739 : BitVec 32 := 0#32
  let v11332 : BitVec 32 := Scalar.maxsi c0_i32_2739 v11331
  let v11333 : BitVec 32 := Scalar.minsi c199_i32_2740 v11332
  let v11412 : BitVec 32 := Scalar.addi v11333 v11411
  let c1_i32_2778 : BitVec 32 := 1#32
  let v11413 : BitVec 32 := Scalar.addi v11412 c1_i32_2778
  let c199_i32_2746 : BitVec 32 := 199#32
  let c0_i32_2745 : BitVec 32 := 0#32
  let v11342 : BitVec 32 := Scalar.maxsi c0_i32_2745 v11341
  let v11343 : BitVec 32 := Scalar.minsi c199_i32_2746 v11342
  let v11414 : BitVec 32 := Scalar.minsi v11413 v11343
  let v12765 : Index := Scalar.indexCast v11414
  let c199_i32_2737 : BitVec 32 := 199#32
  let c0_i32_2736 : BitVec 32 := 0#32
  let v11327 : BitVec 32 := Scalar.maxsi c0_i32_2736 v11326
  let v11328 : BitVec 32 := Scalar.minsi c199_i32_2737 v11327
  let v11434 : BitVec 32 := Scalar.addi v11328 v11433
  let c3_i32_2790 : BitVec 32 := 3#32
  let v11437 : BitVec 32 := Scalar.shrsi v11434 c3_i32_2790
  let c3_i32_2791 : BitVec 32 := 3#32
  let v11438 : BitVec 32 := Scalar.shli v11437 c3_i32_2791
  let v11439 : BitVec 32 := v11438
  let v12766 : Index := Scalar.indexCast v11439
  let c0_3095 : Index := 0#32
  ![v12765.toNat, v12766.toNat, 0]

def k0_chk51 (v11326 : BitVec 32) (v11331 : BitVec 32) (v11341 : BitVec 32) (v11357 : BitVec 32) (v11366 : BitVec 32) (v11375 : BitVec 32) (v11384 : BitVec 32) (v11393 : BitVec 32) (v11402 : BitVec 32) (v11411 : BitVec 32) (v11433 : BitVec 32) : Prop :=
  (8 ∣ (k0_mult52 v11326 v11433).toNat) ∧
  (∀ a, (k0_off1042 v11326 v11331 v11357 v11433) a + S1x16x256.size a ≤ S200x216x256.size a) ∧
  (∀ a, (k0_off1043 v11326 v11331 v11341 v11357 v11433) a + S1x16x256.size a ≤ S200x216x256.size a) ∧
  (∀ a, (k0_off1063 v11326 v11331 v11366 v11433) a + S1x16x256.size a ≤ S200x216x256.size a) ∧
  (∀ a, (k0_off1064 v11326 v11331 v11341 v11366 v11433) a + S1x16x256.size a ≤ S200x216x256.size a) ∧
  (∀ a, (k0_off1084 v11326 v11331 v11375 v11433) a + S1x16x256.size a ≤ S200x216x256.size a) ∧
  (∀ a, (k0_off1085 v11326 v11331 v11341 v11375 v11433) a + S1x16x256.size a ≤ S200x216x256.size a) ∧
  (∀ a, (k0_off1105 v11326 v11331 v11384 v11433) a + S1x16x256.size a ≤ S200x216x256.size a) ∧
  (∀ a, (k0_off1106 v11326 v11331 v11341 v11384 v11433) a + S1x16x256.size a ≤ S200x216x256.size a) ∧
  (∀ a, (k0_off1126 v11326 v11331 v11393 v11433) a + S1x16x256.size a ≤ S200x216x256.size a) ∧
  (∀ a, (k0_off1127 v11326 v11331 v11341 v11393 v11433) a + S1x16x256.size a ≤ S200x216x256.size a) ∧
  (∀ a, (k0_off1147 v11326 v11331 v11402 v11433) a + S1x16x256.size a ≤ S200x216x256.size a) ∧
  (∀ a, (k0_off1148 v11326 v11331 v11341 v11402 v11433) a + S1x16x256.size a ≤ S200x216x256.size a) ∧
  (∀ a, (k0_off1168 v11326 v11331 v11411 v11433) a + S1x16x256.size a ≤ S200x216x256.size a) ∧
  (∀ a, (k0_off1169 v11326 v11331 v11341 v11411 v11433) a + S1x16x256.size a ≤ S200x216x256.size a)
theorem k0_mult52_dvd : ∀ (v11326 : BitVec 32) (v11331 : BitVec 32) (v11341 : BitVec 32) (v11357 : BitVec 32) (v11366 : BitVec 32) (v11375 : BitVec 32) (v11384 : BitVec 32) (v11393 : BitVec 32) (v11402 : BitVec 32) (v11411 : BitVec 32) (v11433 : BitVec 32) (k0_hw51 : k0_chk51 v11326 v11331 v11341 v11357 v11366 v11375 v11384 v11393 v11402 v11411 v11433), 8 ∣ (k0_mult52 v11326 v11433).toNat := fun v11326 v11331 v11341 v11357 v11366 v11375 v11384 v11393 v11402 v11411 v11433 k0_hw51 => k0_hw51.1
theorem k0_off1042_inb : ∀ (v11326 : BitVec 32) (v11331 : BitVec 32) (v11341 : BitVec 32) (v11357 : BitVec 32) (v11366 : BitVec 32) (v11375 : BitVec 32) (v11384 : BitVec 32) (v11393 : BitVec 32) (v11402 : BitVec 32) (v11411 : BitVec 32) (v11433 : BitVec 32) (k0_hw51 : k0_chk51 v11326 v11331 v11341 v11357 v11366 v11375 v11384 v11393 v11402 v11411 v11433), ∀ a, (k0_off1042 v11326 v11331 v11357 v11433) a + S1x16x256.size a ≤ S200x216x256.size a := fun v11326 v11331 v11341 v11357 v11366 v11375 v11384 v11393 v11402 v11411 v11433 k0_hw51 => k0_hw51.2.1
theorem k0_off1043_inb : ∀ (v11326 : BitVec 32) (v11331 : BitVec 32) (v11341 : BitVec 32) (v11357 : BitVec 32) (v11366 : BitVec 32) (v11375 : BitVec 32) (v11384 : BitVec 32) (v11393 : BitVec 32) (v11402 : BitVec 32) (v11411 : BitVec 32) (v11433 : BitVec 32) (k0_hw51 : k0_chk51 v11326 v11331 v11341 v11357 v11366 v11375 v11384 v11393 v11402 v11411 v11433), ∀ a, (k0_off1043 v11326 v11331 v11341 v11357 v11433) a + S1x16x256.size a ≤ S200x216x256.size a := fun v11326 v11331 v11341 v11357 v11366 v11375 v11384 v11393 v11402 v11411 v11433 k0_hw51 => k0_hw51.2.2.1
theorem k0_off1063_inb : ∀ (v11326 : BitVec 32) (v11331 : BitVec 32) (v11341 : BitVec 32) (v11357 : BitVec 32) (v11366 : BitVec 32) (v11375 : BitVec 32) (v11384 : BitVec 32) (v11393 : BitVec 32) (v11402 : BitVec 32) (v11411 : BitVec 32) (v11433 : BitVec 32) (k0_hw51 : k0_chk51 v11326 v11331 v11341 v11357 v11366 v11375 v11384 v11393 v11402 v11411 v11433), ∀ a, (k0_off1063 v11326 v11331 v11366 v11433) a + S1x16x256.size a ≤ S200x216x256.size a := fun v11326 v11331 v11341 v11357 v11366 v11375 v11384 v11393 v11402 v11411 v11433 k0_hw51 => k0_hw51.2.2.2.1
theorem k0_off1064_inb : ∀ (v11326 : BitVec 32) (v11331 : BitVec 32) (v11341 : BitVec 32) (v11357 : BitVec 32) (v11366 : BitVec 32) (v11375 : BitVec 32) (v11384 : BitVec 32) (v11393 : BitVec 32) (v11402 : BitVec 32) (v11411 : BitVec 32) (v11433 : BitVec 32) (k0_hw51 : k0_chk51 v11326 v11331 v11341 v11357 v11366 v11375 v11384 v11393 v11402 v11411 v11433), ∀ a, (k0_off1064 v11326 v11331 v11341 v11366 v11433) a + S1x16x256.size a ≤ S200x216x256.size a := fun v11326 v11331 v11341 v11357 v11366 v11375 v11384 v11393 v11402 v11411 v11433 k0_hw51 => k0_hw51.2.2.2.2.1
theorem k0_off1084_inb : ∀ (v11326 : BitVec 32) (v11331 : BitVec 32) (v11341 : BitVec 32) (v11357 : BitVec 32) (v11366 : BitVec 32) (v11375 : BitVec 32) (v11384 : BitVec 32) (v11393 : BitVec 32) (v11402 : BitVec 32) (v11411 : BitVec 32) (v11433 : BitVec 32) (k0_hw51 : k0_chk51 v11326 v11331 v11341 v11357 v11366 v11375 v11384 v11393 v11402 v11411 v11433), ∀ a, (k0_off1084 v11326 v11331 v11375 v11433) a + S1x16x256.size a ≤ S200x216x256.size a := fun v11326 v11331 v11341 v11357 v11366 v11375 v11384 v11393 v11402 v11411 v11433 k0_hw51 => k0_hw51.2.2.2.2.2.1
theorem k0_off1085_inb : ∀ (v11326 : BitVec 32) (v11331 : BitVec 32) (v11341 : BitVec 32) (v11357 : BitVec 32) (v11366 : BitVec 32) (v11375 : BitVec 32) (v11384 : BitVec 32) (v11393 : BitVec 32) (v11402 : BitVec 32) (v11411 : BitVec 32) (v11433 : BitVec 32) (k0_hw51 : k0_chk51 v11326 v11331 v11341 v11357 v11366 v11375 v11384 v11393 v11402 v11411 v11433), ∀ a, (k0_off1085 v11326 v11331 v11341 v11375 v11433) a + S1x16x256.size a ≤ S200x216x256.size a := fun v11326 v11331 v11341 v11357 v11366 v11375 v11384 v11393 v11402 v11411 v11433 k0_hw51 => k0_hw51.2.2.2.2.2.2.1
theorem k0_off1105_inb : ∀ (v11326 : BitVec 32) (v11331 : BitVec 32) (v11341 : BitVec 32) (v11357 : BitVec 32) (v11366 : BitVec 32) (v11375 : BitVec 32) (v11384 : BitVec 32) (v11393 : BitVec 32) (v11402 : BitVec 32) (v11411 : BitVec 32) (v11433 : BitVec 32) (k0_hw51 : k0_chk51 v11326 v11331 v11341 v11357 v11366 v11375 v11384 v11393 v11402 v11411 v11433), ∀ a, (k0_off1105 v11326 v11331 v11384 v11433) a + S1x16x256.size a ≤ S200x216x256.size a := fun v11326 v11331 v11341 v11357 v11366 v11375 v11384 v11393 v11402 v11411 v11433 k0_hw51 => k0_hw51.2.2.2.2.2.2.2.1
theorem k0_off1106_inb : ∀ (v11326 : BitVec 32) (v11331 : BitVec 32) (v11341 : BitVec 32) (v11357 : BitVec 32) (v11366 : BitVec 32) (v11375 : BitVec 32) (v11384 : BitVec 32) (v11393 : BitVec 32) (v11402 : BitVec 32) (v11411 : BitVec 32) (v11433 : BitVec 32) (k0_hw51 : k0_chk51 v11326 v11331 v11341 v11357 v11366 v11375 v11384 v11393 v11402 v11411 v11433), ∀ a, (k0_off1106 v11326 v11331 v11341 v11384 v11433) a + S1x16x256.size a ≤ S200x216x256.size a := fun v11326 v11331 v11341 v11357 v11366 v11375 v11384 v11393 v11402 v11411 v11433 k0_hw51 => k0_hw51.2.2.2.2.2.2.2.2.1
theorem k0_off1126_inb : ∀ (v11326 : BitVec 32) (v11331 : BitVec 32) (v11341 : BitVec 32) (v11357 : BitVec 32) (v11366 : BitVec 32) (v11375 : BitVec 32) (v11384 : BitVec 32) (v11393 : BitVec 32) (v11402 : BitVec 32) (v11411 : BitVec 32) (v11433 : BitVec 32) (k0_hw51 : k0_chk51 v11326 v11331 v11341 v11357 v11366 v11375 v11384 v11393 v11402 v11411 v11433), ∀ a, (k0_off1126 v11326 v11331 v11393 v11433) a + S1x16x256.size a ≤ S200x216x256.size a := fun v11326 v11331 v11341 v11357 v11366 v11375 v11384 v11393 v11402 v11411 v11433 k0_hw51 => k0_hw51.2.2.2.2.2.2.2.2.2.1
theorem k0_off1127_inb : ∀ (v11326 : BitVec 32) (v11331 : BitVec 32) (v11341 : BitVec 32) (v11357 : BitVec 32) (v11366 : BitVec 32) (v11375 : BitVec 32) (v11384 : BitVec 32) (v11393 : BitVec 32) (v11402 : BitVec 32) (v11411 : BitVec 32) (v11433 : BitVec 32) (k0_hw51 : k0_chk51 v11326 v11331 v11341 v11357 v11366 v11375 v11384 v11393 v11402 v11411 v11433), ∀ a, (k0_off1127 v11326 v11331 v11341 v11393 v11433) a + S1x16x256.size a ≤ S200x216x256.size a := fun v11326 v11331 v11341 v11357 v11366 v11375 v11384 v11393 v11402 v11411 v11433 k0_hw51 => k0_hw51.2.2.2.2.2.2.2.2.2.2.1
theorem k0_off1147_inb : ∀ (v11326 : BitVec 32) (v11331 : BitVec 32) (v11341 : BitVec 32) (v11357 : BitVec 32) (v11366 : BitVec 32) (v11375 : BitVec 32) (v11384 : BitVec 32) (v11393 : BitVec 32) (v11402 : BitVec 32) (v11411 : BitVec 32) (v11433 : BitVec 32) (k0_hw51 : k0_chk51 v11326 v11331 v11341 v11357 v11366 v11375 v11384 v11393 v11402 v11411 v11433), ∀ a, (k0_off1147 v11326 v11331 v11402 v11433) a + S1x16x256.size a ≤ S200x216x256.size a := fun v11326 v11331 v11341 v11357 v11366 v11375 v11384 v11393 v11402 v11411 v11433 k0_hw51 => k0_hw51.2.2.2.2.2.2.2.2.2.2.2.1
theorem k0_off1148_inb : ∀ (v11326 : BitVec 32) (v11331 : BitVec 32) (v11341 : BitVec 32) (v11357 : BitVec 32) (v11366 : BitVec 32) (v11375 : BitVec 32) (v11384 : BitVec 32) (v11393 : BitVec 32) (v11402 : BitVec 32) (v11411 : BitVec 32) (v11433 : BitVec 32) (k0_hw51 : k0_chk51 v11326 v11331 v11341 v11357 v11366 v11375 v11384 v11393 v11402 v11411 v11433), ∀ a, (k0_off1148 v11326 v11331 v11341 v11402 v11433) a + S1x16x256.size a ≤ S200x216x256.size a := fun v11326 v11331 v11341 v11357 v11366 v11375 v11384 v11393 v11402 v11411 v11433 k0_hw51 => k0_hw51.2.2.2.2.2.2.2.2.2.2.2.2.1
theorem k0_off1168_inb : ∀ (v11326 : BitVec 32) (v11331 : BitVec 32) (v11341 : BitVec 32) (v11357 : BitVec 32) (v11366 : BitVec 32) (v11375 : BitVec 32) (v11384 : BitVec 32) (v11393 : BitVec 32) (v11402 : BitVec 32) (v11411 : BitVec 32) (v11433 : BitVec 32) (k0_hw51 : k0_chk51 v11326 v11331 v11341 v11357 v11366 v11375 v11384 v11393 v11402 v11411 v11433), ∀ a, (k0_off1168 v11326 v11331 v11411 v11433) a + S1x16x256.size a ≤ S200x216x256.size a := fun v11326 v11331 v11341 v11357 v11366 v11375 v11384 v11393 v11402 v11411 v11433 k0_hw51 => k0_hw51.2.2.2.2.2.2.2.2.2.2.2.2.2.1
theorem k0_off1169_inb : ∀ (v11326 : BitVec 32) (v11331 : BitVec 32) (v11341 : BitVec 32) (v11357 : BitVec 32) (v11366 : BitVec 32) (v11375 : BitVec 32) (v11384 : BitVec 32) (v11393 : BitVec 32) (v11402 : BitVec 32) (v11411 : BitVec 32) (v11433 : BitVec 32) (k0_hw51 : k0_chk51 v11326 v11331 v11341 v11357 v11366 v11375 v11384 v11393 v11402 v11411 v11433), ∀ a, (k0_off1169 v11326 v11331 v11341 v11411 v11433) a + S1x16x256.size a ≤ S200x216x256.size a := fun v11326 v11331 v11341 v11357 v11366 v11375 v11384 v11393 v11402 v11411 v11433 k0_hw51 => k0_hw51.2.2.2.2.2.2.2.2.2.2.2.2.2.2

def k0_off1170 (k0_t1 : Fin k0_t1_loop.trips) : Fin 3 → Nat :=
  let c43_3097 : Index := 43#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c7_i32_2731 : BitVec 32 := 7#32
  let v11318 : BitVec 32 := Scalar.addi v5 c7_i32_2731
  let v12785 : Index := Scalar.indexCast v11318
  let c0_3098 : Index := 0#32
  ![43, v12785.toNat, 0]
def k0_off1171 (v11326 : BitVec 32) (v11331 : BitVec 32) (v11411 : BitVec 32) (v11446 : BitVec 32) : Fin 3 → Nat :=
  let c199_i32_2740 : BitVec 32 := 199#32
  let c0_i32_2739 : BitVec 32 := 0#32
  let v11332 : BitVec 32 := Scalar.maxsi c0_i32_2739 v11331
  let v11333 : BitVec 32 := Scalar.minsi c199_i32_2740 v11332
  let v11412 : BitVec 32 := Scalar.addi v11333 v11411
  let v12790 : Index := Scalar.indexCast v11412
  let c199_i32_2737 : BitVec 32 := 199#32
  let c0_i32_2736 : BitVec 32 := 0#32
  let v11327 : BitVec 32 := Scalar.maxsi c0_i32_2736 v11326
  let v11328 : BitVec 32 := Scalar.minsi c199_i32_2737 v11327
  let v11447 : BitVec 32 := Scalar.addi v11328 v11446
  let c3_i32_2797 : BitVec 32 := 3#32
  let v11450 : BitVec 32 := Scalar.shrsi v11447 c3_i32_2797
  let c3_i32_2798 : BitVec 32 := 3#32
  let v11451 : BitVec 32 := Scalar.shli v11450 c3_i32_2798
  let v11452 : BitVec 32 := v11451
  let v12791 : Index := Scalar.indexCast v11452
  let c0_3100 : Index := 0#32
  ![v12790.toNat, v12791.toNat, 0]
def k0_off1172 (v11326 : BitVec 32) (v11331 : BitVec 32) (v11341 : BitVec 32) (v11411 : BitVec 32) (v11446 : BitVec 32) : Fin 3 → Nat :=
  let c199_i32_2740 : BitVec 32 := 199#32
  let c0_i32_2739 : BitVec 32 := 0#32
  let v11332 : BitVec 32 := Scalar.maxsi c0_i32_2739 v11331
  let v11333 : BitVec 32 := Scalar.minsi c199_i32_2740 v11332
  let v11412 : BitVec 32 := Scalar.addi v11333 v11411
  let c1_i32_2778 : BitVec 32 := 1#32
  let v11413 : BitVec 32 := Scalar.addi v11412 c1_i32_2778
  let c199_i32_2746 : BitVec 32 := 199#32
  let c0_i32_2745 : BitVec 32 := 0#32
  let v11342 : BitVec 32 := Scalar.maxsi c0_i32_2745 v11341
  let v11343 : BitVec 32 := Scalar.minsi c199_i32_2746 v11342
  let v11414 : BitVec 32 := Scalar.minsi v11413 v11343
  let v12794 : Index := Scalar.indexCast v11414
  let c199_i32_2737 : BitVec 32 := 199#32
  let c0_i32_2736 : BitVec 32 := 0#32
  let v11327 : BitVec 32 := Scalar.maxsi c0_i32_2736 v11326
  let v11328 : BitVec 32 := Scalar.minsi c199_i32_2737 v11327
  let v11447 : BitVec 32 := Scalar.addi v11328 v11446
  let c3_i32_2797 : BitVec 32 := 3#32
  let v11450 : BitVec 32 := Scalar.shrsi v11447 c3_i32_2797
  let c3_i32_2798 : BitVec 32 := 3#32
  let v11451 : BitVec 32 := Scalar.shli v11450 c3_i32_2798
  let v11452 : BitVec 32 := v11451
  let v12795 : Index := Scalar.indexCast v11452
  let c0_3101 : Index := 0#32
  ![v12794.toNat, v12795.toNat, 0]

def k0_chk52 (v11326 : BitVec 32) (v11331 : BitVec 32) (v11341 : BitVec 32) (v11357 : BitVec 32) (v11366 : BitVec 32) (v11375 : BitVec 32) (v11384 : BitVec 32) (v11393 : BitVec 32) (v11402 : BitVec 32) (v11411 : BitVec 32) (v11446 : BitVec 32) : Prop :=
  (8 ∣ (k0_mult53 v11326 v11446).toNat) ∧
  (∀ a, (k0_off1045 v11326 v11331 v11357 v11446) a + S1x16x256.size a ≤ S200x216x256.size a) ∧
  (∀ a, (k0_off1046 v11326 v11331 v11341 v11357 v11446) a + S1x16x256.size a ≤ S200x216x256.size a) ∧
  (∀ a, (k0_off1066 v11326 v11331 v11366 v11446) a + S1x16x256.size a ≤ S200x216x256.size a) ∧
  (∀ a, (k0_off1067 v11326 v11331 v11341 v11366 v11446) a + S1x16x256.size a ≤ S200x216x256.size a) ∧
  (∀ a, (k0_off1087 v11326 v11331 v11375 v11446) a + S1x16x256.size a ≤ S200x216x256.size a) ∧
  (∀ a, (k0_off1088 v11326 v11331 v11341 v11375 v11446) a + S1x16x256.size a ≤ S200x216x256.size a) ∧
  (∀ a, (k0_off1108 v11326 v11331 v11384 v11446) a + S1x16x256.size a ≤ S200x216x256.size a) ∧
  (∀ a, (k0_off1109 v11326 v11331 v11341 v11384 v11446) a + S1x16x256.size a ≤ S200x216x256.size a) ∧
  (∀ a, (k0_off1129 v11326 v11331 v11393 v11446) a + S1x16x256.size a ≤ S200x216x256.size a) ∧
  (∀ a, (k0_off1130 v11326 v11331 v11341 v11393 v11446) a + S1x16x256.size a ≤ S200x216x256.size a) ∧
  (∀ a, (k0_off1150 v11326 v11331 v11402 v11446) a + S1x16x256.size a ≤ S200x216x256.size a) ∧
  (∀ a, (k0_off1151 v11326 v11331 v11341 v11402 v11446) a + S1x16x256.size a ≤ S200x216x256.size a) ∧
  (∀ a, (k0_off1171 v11326 v11331 v11411 v11446) a + S1x16x256.size a ≤ S200x216x256.size a) ∧
  (∀ a, (k0_off1172 v11326 v11331 v11341 v11411 v11446) a + S1x16x256.size a ≤ S200x216x256.size a)
theorem k0_mult53_dvd : ∀ (v11326 : BitVec 32) (v11331 : BitVec 32) (v11341 : BitVec 32) (v11357 : BitVec 32) (v11366 : BitVec 32) (v11375 : BitVec 32) (v11384 : BitVec 32) (v11393 : BitVec 32) (v11402 : BitVec 32) (v11411 : BitVec 32) (v11446 : BitVec 32) (k0_hw52 : k0_chk52 v11326 v11331 v11341 v11357 v11366 v11375 v11384 v11393 v11402 v11411 v11446), 8 ∣ (k0_mult53 v11326 v11446).toNat := fun v11326 v11331 v11341 v11357 v11366 v11375 v11384 v11393 v11402 v11411 v11446 k0_hw52 => k0_hw52.1
theorem k0_off1045_inb : ∀ (v11326 : BitVec 32) (v11331 : BitVec 32) (v11341 : BitVec 32) (v11357 : BitVec 32) (v11366 : BitVec 32) (v11375 : BitVec 32) (v11384 : BitVec 32) (v11393 : BitVec 32) (v11402 : BitVec 32) (v11411 : BitVec 32) (v11446 : BitVec 32) (k0_hw52 : k0_chk52 v11326 v11331 v11341 v11357 v11366 v11375 v11384 v11393 v11402 v11411 v11446), ∀ a, (k0_off1045 v11326 v11331 v11357 v11446) a + S1x16x256.size a ≤ S200x216x256.size a := fun v11326 v11331 v11341 v11357 v11366 v11375 v11384 v11393 v11402 v11411 v11446 k0_hw52 => k0_hw52.2.1
theorem k0_off1046_inb : ∀ (v11326 : BitVec 32) (v11331 : BitVec 32) (v11341 : BitVec 32) (v11357 : BitVec 32) (v11366 : BitVec 32) (v11375 : BitVec 32) (v11384 : BitVec 32) (v11393 : BitVec 32) (v11402 : BitVec 32) (v11411 : BitVec 32) (v11446 : BitVec 32) (k0_hw52 : k0_chk52 v11326 v11331 v11341 v11357 v11366 v11375 v11384 v11393 v11402 v11411 v11446), ∀ a, (k0_off1046 v11326 v11331 v11341 v11357 v11446) a + S1x16x256.size a ≤ S200x216x256.size a := fun v11326 v11331 v11341 v11357 v11366 v11375 v11384 v11393 v11402 v11411 v11446 k0_hw52 => k0_hw52.2.2.1
theorem k0_off1066_inb : ∀ (v11326 : BitVec 32) (v11331 : BitVec 32) (v11341 : BitVec 32) (v11357 : BitVec 32) (v11366 : BitVec 32) (v11375 : BitVec 32) (v11384 : BitVec 32) (v11393 : BitVec 32) (v11402 : BitVec 32) (v11411 : BitVec 32) (v11446 : BitVec 32) (k0_hw52 : k0_chk52 v11326 v11331 v11341 v11357 v11366 v11375 v11384 v11393 v11402 v11411 v11446), ∀ a, (k0_off1066 v11326 v11331 v11366 v11446) a + S1x16x256.size a ≤ S200x216x256.size a := fun v11326 v11331 v11341 v11357 v11366 v11375 v11384 v11393 v11402 v11411 v11446 k0_hw52 => k0_hw52.2.2.2.1
theorem k0_off1067_inb : ∀ (v11326 : BitVec 32) (v11331 : BitVec 32) (v11341 : BitVec 32) (v11357 : BitVec 32) (v11366 : BitVec 32) (v11375 : BitVec 32) (v11384 : BitVec 32) (v11393 : BitVec 32) (v11402 : BitVec 32) (v11411 : BitVec 32) (v11446 : BitVec 32) (k0_hw52 : k0_chk52 v11326 v11331 v11341 v11357 v11366 v11375 v11384 v11393 v11402 v11411 v11446), ∀ a, (k0_off1067 v11326 v11331 v11341 v11366 v11446) a + S1x16x256.size a ≤ S200x216x256.size a := fun v11326 v11331 v11341 v11357 v11366 v11375 v11384 v11393 v11402 v11411 v11446 k0_hw52 => k0_hw52.2.2.2.2.1
theorem k0_off1087_inb : ∀ (v11326 : BitVec 32) (v11331 : BitVec 32) (v11341 : BitVec 32) (v11357 : BitVec 32) (v11366 : BitVec 32) (v11375 : BitVec 32) (v11384 : BitVec 32) (v11393 : BitVec 32) (v11402 : BitVec 32) (v11411 : BitVec 32) (v11446 : BitVec 32) (k0_hw52 : k0_chk52 v11326 v11331 v11341 v11357 v11366 v11375 v11384 v11393 v11402 v11411 v11446), ∀ a, (k0_off1087 v11326 v11331 v11375 v11446) a + S1x16x256.size a ≤ S200x216x256.size a := fun v11326 v11331 v11341 v11357 v11366 v11375 v11384 v11393 v11402 v11411 v11446 k0_hw52 => k0_hw52.2.2.2.2.2.1
theorem k0_off1088_inb : ∀ (v11326 : BitVec 32) (v11331 : BitVec 32) (v11341 : BitVec 32) (v11357 : BitVec 32) (v11366 : BitVec 32) (v11375 : BitVec 32) (v11384 : BitVec 32) (v11393 : BitVec 32) (v11402 : BitVec 32) (v11411 : BitVec 32) (v11446 : BitVec 32) (k0_hw52 : k0_chk52 v11326 v11331 v11341 v11357 v11366 v11375 v11384 v11393 v11402 v11411 v11446), ∀ a, (k0_off1088 v11326 v11331 v11341 v11375 v11446) a + S1x16x256.size a ≤ S200x216x256.size a := fun v11326 v11331 v11341 v11357 v11366 v11375 v11384 v11393 v11402 v11411 v11446 k0_hw52 => k0_hw52.2.2.2.2.2.2.1
theorem k0_off1108_inb : ∀ (v11326 : BitVec 32) (v11331 : BitVec 32) (v11341 : BitVec 32) (v11357 : BitVec 32) (v11366 : BitVec 32) (v11375 : BitVec 32) (v11384 : BitVec 32) (v11393 : BitVec 32) (v11402 : BitVec 32) (v11411 : BitVec 32) (v11446 : BitVec 32) (k0_hw52 : k0_chk52 v11326 v11331 v11341 v11357 v11366 v11375 v11384 v11393 v11402 v11411 v11446), ∀ a, (k0_off1108 v11326 v11331 v11384 v11446) a + S1x16x256.size a ≤ S200x216x256.size a := fun v11326 v11331 v11341 v11357 v11366 v11375 v11384 v11393 v11402 v11411 v11446 k0_hw52 => k0_hw52.2.2.2.2.2.2.2.1
theorem k0_off1109_inb : ∀ (v11326 : BitVec 32) (v11331 : BitVec 32) (v11341 : BitVec 32) (v11357 : BitVec 32) (v11366 : BitVec 32) (v11375 : BitVec 32) (v11384 : BitVec 32) (v11393 : BitVec 32) (v11402 : BitVec 32) (v11411 : BitVec 32) (v11446 : BitVec 32) (k0_hw52 : k0_chk52 v11326 v11331 v11341 v11357 v11366 v11375 v11384 v11393 v11402 v11411 v11446), ∀ a, (k0_off1109 v11326 v11331 v11341 v11384 v11446) a + S1x16x256.size a ≤ S200x216x256.size a := fun v11326 v11331 v11341 v11357 v11366 v11375 v11384 v11393 v11402 v11411 v11446 k0_hw52 => k0_hw52.2.2.2.2.2.2.2.2.1
theorem k0_off1129_inb : ∀ (v11326 : BitVec 32) (v11331 : BitVec 32) (v11341 : BitVec 32) (v11357 : BitVec 32) (v11366 : BitVec 32) (v11375 : BitVec 32) (v11384 : BitVec 32) (v11393 : BitVec 32) (v11402 : BitVec 32) (v11411 : BitVec 32) (v11446 : BitVec 32) (k0_hw52 : k0_chk52 v11326 v11331 v11341 v11357 v11366 v11375 v11384 v11393 v11402 v11411 v11446), ∀ a, (k0_off1129 v11326 v11331 v11393 v11446) a + S1x16x256.size a ≤ S200x216x256.size a := fun v11326 v11331 v11341 v11357 v11366 v11375 v11384 v11393 v11402 v11411 v11446 k0_hw52 => k0_hw52.2.2.2.2.2.2.2.2.2.1
theorem k0_off1130_inb : ∀ (v11326 : BitVec 32) (v11331 : BitVec 32) (v11341 : BitVec 32) (v11357 : BitVec 32) (v11366 : BitVec 32) (v11375 : BitVec 32) (v11384 : BitVec 32) (v11393 : BitVec 32) (v11402 : BitVec 32) (v11411 : BitVec 32) (v11446 : BitVec 32) (k0_hw52 : k0_chk52 v11326 v11331 v11341 v11357 v11366 v11375 v11384 v11393 v11402 v11411 v11446), ∀ a, (k0_off1130 v11326 v11331 v11341 v11393 v11446) a + S1x16x256.size a ≤ S200x216x256.size a := fun v11326 v11331 v11341 v11357 v11366 v11375 v11384 v11393 v11402 v11411 v11446 k0_hw52 => k0_hw52.2.2.2.2.2.2.2.2.2.2.1
theorem k0_off1150_inb : ∀ (v11326 : BitVec 32) (v11331 : BitVec 32) (v11341 : BitVec 32) (v11357 : BitVec 32) (v11366 : BitVec 32) (v11375 : BitVec 32) (v11384 : BitVec 32) (v11393 : BitVec 32) (v11402 : BitVec 32) (v11411 : BitVec 32) (v11446 : BitVec 32) (k0_hw52 : k0_chk52 v11326 v11331 v11341 v11357 v11366 v11375 v11384 v11393 v11402 v11411 v11446), ∀ a, (k0_off1150 v11326 v11331 v11402 v11446) a + S1x16x256.size a ≤ S200x216x256.size a := fun v11326 v11331 v11341 v11357 v11366 v11375 v11384 v11393 v11402 v11411 v11446 k0_hw52 => k0_hw52.2.2.2.2.2.2.2.2.2.2.2.1
theorem k0_off1151_inb : ∀ (v11326 : BitVec 32) (v11331 : BitVec 32) (v11341 : BitVec 32) (v11357 : BitVec 32) (v11366 : BitVec 32) (v11375 : BitVec 32) (v11384 : BitVec 32) (v11393 : BitVec 32) (v11402 : BitVec 32) (v11411 : BitVec 32) (v11446 : BitVec 32) (k0_hw52 : k0_chk52 v11326 v11331 v11341 v11357 v11366 v11375 v11384 v11393 v11402 v11411 v11446), ∀ a, (k0_off1151 v11326 v11331 v11341 v11402 v11446) a + S1x16x256.size a ≤ S200x216x256.size a := fun v11326 v11331 v11341 v11357 v11366 v11375 v11384 v11393 v11402 v11411 v11446 k0_hw52 => k0_hw52.2.2.2.2.2.2.2.2.2.2.2.2.1
theorem k0_off1171_inb : ∀ (v11326 : BitVec 32) (v11331 : BitVec 32) (v11341 : BitVec 32) (v11357 : BitVec 32) (v11366 : BitVec 32) (v11375 : BitVec 32) (v11384 : BitVec 32) (v11393 : BitVec 32) (v11402 : BitVec 32) (v11411 : BitVec 32) (v11446 : BitVec 32) (k0_hw52 : k0_chk52 v11326 v11331 v11341 v11357 v11366 v11375 v11384 v11393 v11402 v11411 v11446), ∀ a, (k0_off1171 v11326 v11331 v11411 v11446) a + S1x16x256.size a ≤ S200x216x256.size a := fun v11326 v11331 v11341 v11357 v11366 v11375 v11384 v11393 v11402 v11411 v11446 k0_hw52 => k0_hw52.2.2.2.2.2.2.2.2.2.2.2.2.2.1
theorem k0_off1172_inb : ∀ (v11326 : BitVec 32) (v11331 : BitVec 32) (v11341 : BitVec 32) (v11357 : BitVec 32) (v11366 : BitVec 32) (v11375 : BitVec 32) (v11384 : BitVec 32) (v11393 : BitVec 32) (v11402 : BitVec 32) (v11411 : BitVec 32) (v11446 : BitVec 32) (k0_hw52 : k0_chk52 v11326 v11331 v11341 v11357 v11366 v11375 v11384 v11393 v11402 v11411 v11446), ∀ a, (k0_off1172 v11326 v11331 v11341 v11411 v11446) a + S1x16x256.size a ≤ S200x216x256.size a := fun v11326 v11331 v11341 v11357 v11366 v11375 v11384 v11393 v11402 v11411 v11446 k0_hw52 => k0_hw52.2.2.2.2.2.2.2.2.2.2.2.2.2.2

def k0_off1173 (k0_t1 : Fin k0_t1_loop.trips) : Fin 3 → Nat :=
  let c44_3103 : Index := 44#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c7_i32_2731 : BitVec 32 := 7#32
  let v11318 : BitVec 32 := Scalar.addi v5 c7_i32_2731
  let v12814 : Index := Scalar.indexCast v11318
  let c0_3104 : Index := 0#32
  ![44, v12814.toNat, 0]
def k0_off1174 (v11326 : BitVec 32) (v11331 : BitVec 32) (v11411 : BitVec 32) (v11459 : BitVec 32) : Fin 3 → Nat :=
  let c199_i32_2740 : BitVec 32 := 199#32
  let c0_i32_2739 : BitVec 32 := 0#32
  let v11332 : BitVec 32 := Scalar.maxsi c0_i32_2739 v11331
  let v11333 : BitVec 32 := Scalar.minsi c199_i32_2740 v11332
  let v11412 : BitVec 32 := Scalar.addi v11333 v11411
  let v12819 : Index := Scalar.indexCast v11412
  let c199_i32_2737 : BitVec 32 := 199#32
  let c0_i32_2736 : BitVec 32 := 0#32
  let v11327 : BitVec 32 := Scalar.maxsi c0_i32_2736 v11326
  let v11328 : BitVec 32 := Scalar.minsi c199_i32_2737 v11327
  let v11460 : BitVec 32 := Scalar.addi v11328 v11459
  let c3_i32_2804 : BitVec 32 := 3#32
  let v11463 : BitVec 32 := Scalar.shrsi v11460 c3_i32_2804
  let c3_i32_2805 : BitVec 32 := 3#32
  let v11464 : BitVec 32 := Scalar.shli v11463 c3_i32_2805
  let v11465 : BitVec 32 := v11464
  let v12820 : Index := Scalar.indexCast v11465
  let c0_3106 : Index := 0#32
  ![v12819.toNat, v12820.toNat, 0]
def k0_off1175 (v11326 : BitVec 32) (v11331 : BitVec 32) (v11341 : BitVec 32) (v11411 : BitVec 32) (v11459 : BitVec 32) : Fin 3 → Nat :=
  let c199_i32_2740 : BitVec 32 := 199#32
  let c0_i32_2739 : BitVec 32 := 0#32
  let v11332 : BitVec 32 := Scalar.maxsi c0_i32_2739 v11331
  let v11333 : BitVec 32 := Scalar.minsi c199_i32_2740 v11332
  let v11412 : BitVec 32 := Scalar.addi v11333 v11411
  let c1_i32_2778 : BitVec 32 := 1#32
  let v11413 : BitVec 32 := Scalar.addi v11412 c1_i32_2778
  let c199_i32_2746 : BitVec 32 := 199#32
  let c0_i32_2745 : BitVec 32 := 0#32
  let v11342 : BitVec 32 := Scalar.maxsi c0_i32_2745 v11341
  let v11343 : BitVec 32 := Scalar.minsi c199_i32_2746 v11342
  let v11414 : BitVec 32 := Scalar.minsi v11413 v11343
  let v12823 : Index := Scalar.indexCast v11414
  let c199_i32_2737 : BitVec 32 := 199#32
  let c0_i32_2736 : BitVec 32 := 0#32
  let v11327 : BitVec 32 := Scalar.maxsi c0_i32_2736 v11326
  let v11328 : BitVec 32 := Scalar.minsi c199_i32_2737 v11327
  let v11460 : BitVec 32 := Scalar.addi v11328 v11459
  let c3_i32_2804 : BitVec 32 := 3#32
  let v11463 : BitVec 32 := Scalar.shrsi v11460 c3_i32_2804
  let c3_i32_2805 : BitVec 32 := 3#32
  let v11464 : BitVec 32 := Scalar.shli v11463 c3_i32_2805
  let v11465 : BitVec 32 := v11464
  let v12824 : Index := Scalar.indexCast v11465
  let c0_3107 : Index := 0#32
  ![v12823.toNat, v12824.toNat, 0]

def k0_chk53 (v11326 : BitVec 32) (v11331 : BitVec 32) (v11341 : BitVec 32) (v11357 : BitVec 32) (v11366 : BitVec 32) (v11375 : BitVec 32) (v11384 : BitVec 32) (v11393 : BitVec 32) (v11402 : BitVec 32) (v11411 : BitVec 32) (v11459 : BitVec 32) : Prop :=
  (8 ∣ (k0_mult54 v11326 v11459).toNat) ∧
  (∀ a, (k0_off1048 v11326 v11331 v11357 v11459) a + S1x16x256.size a ≤ S200x216x256.size a) ∧
  (∀ a, (k0_off1049 v11326 v11331 v11341 v11357 v11459) a + S1x16x256.size a ≤ S200x216x256.size a) ∧
  (∀ a, (k0_off1069 v11326 v11331 v11366 v11459) a + S1x16x256.size a ≤ S200x216x256.size a) ∧
  (∀ a, (k0_off1070 v11326 v11331 v11341 v11366 v11459) a + S1x16x256.size a ≤ S200x216x256.size a) ∧
  (∀ a, (k0_off1090 v11326 v11331 v11375 v11459) a + S1x16x256.size a ≤ S200x216x256.size a) ∧
  (∀ a, (k0_off1091 v11326 v11331 v11341 v11375 v11459) a + S1x16x256.size a ≤ S200x216x256.size a) ∧
  (∀ a, (k0_off1111 v11326 v11331 v11384 v11459) a + S1x16x256.size a ≤ S200x216x256.size a) ∧
  (∀ a, (k0_off1112 v11326 v11331 v11341 v11384 v11459) a + S1x16x256.size a ≤ S200x216x256.size a) ∧
  (∀ a, (k0_off1132 v11326 v11331 v11393 v11459) a + S1x16x256.size a ≤ S200x216x256.size a) ∧
  (∀ a, (k0_off1133 v11326 v11331 v11341 v11393 v11459) a + S1x16x256.size a ≤ S200x216x256.size a) ∧
  (∀ a, (k0_off1153 v11326 v11331 v11402 v11459) a + S1x16x256.size a ≤ S200x216x256.size a) ∧
  (∀ a, (k0_off1154 v11326 v11331 v11341 v11402 v11459) a + S1x16x256.size a ≤ S200x216x256.size a) ∧
  (∀ a, (k0_off1174 v11326 v11331 v11411 v11459) a + S1x16x256.size a ≤ S200x216x256.size a) ∧
  (∀ a, (k0_off1175 v11326 v11331 v11341 v11411 v11459) a + S1x16x256.size a ≤ S200x216x256.size a)
theorem k0_mult54_dvd : ∀ (v11326 : BitVec 32) (v11331 : BitVec 32) (v11341 : BitVec 32) (v11357 : BitVec 32) (v11366 : BitVec 32) (v11375 : BitVec 32) (v11384 : BitVec 32) (v11393 : BitVec 32) (v11402 : BitVec 32) (v11411 : BitVec 32) (v11459 : BitVec 32) (k0_hw53 : k0_chk53 v11326 v11331 v11341 v11357 v11366 v11375 v11384 v11393 v11402 v11411 v11459), 8 ∣ (k0_mult54 v11326 v11459).toNat := fun v11326 v11331 v11341 v11357 v11366 v11375 v11384 v11393 v11402 v11411 v11459 k0_hw53 => k0_hw53.1
theorem k0_off1048_inb : ∀ (v11326 : BitVec 32) (v11331 : BitVec 32) (v11341 : BitVec 32) (v11357 : BitVec 32) (v11366 : BitVec 32) (v11375 : BitVec 32) (v11384 : BitVec 32) (v11393 : BitVec 32) (v11402 : BitVec 32) (v11411 : BitVec 32) (v11459 : BitVec 32) (k0_hw53 : k0_chk53 v11326 v11331 v11341 v11357 v11366 v11375 v11384 v11393 v11402 v11411 v11459), ∀ a, (k0_off1048 v11326 v11331 v11357 v11459) a + S1x16x256.size a ≤ S200x216x256.size a := fun v11326 v11331 v11341 v11357 v11366 v11375 v11384 v11393 v11402 v11411 v11459 k0_hw53 => k0_hw53.2.1
theorem k0_off1049_inb : ∀ (v11326 : BitVec 32) (v11331 : BitVec 32) (v11341 : BitVec 32) (v11357 : BitVec 32) (v11366 : BitVec 32) (v11375 : BitVec 32) (v11384 : BitVec 32) (v11393 : BitVec 32) (v11402 : BitVec 32) (v11411 : BitVec 32) (v11459 : BitVec 32) (k0_hw53 : k0_chk53 v11326 v11331 v11341 v11357 v11366 v11375 v11384 v11393 v11402 v11411 v11459), ∀ a, (k0_off1049 v11326 v11331 v11341 v11357 v11459) a + S1x16x256.size a ≤ S200x216x256.size a := fun v11326 v11331 v11341 v11357 v11366 v11375 v11384 v11393 v11402 v11411 v11459 k0_hw53 => k0_hw53.2.2.1
theorem k0_off1069_inb : ∀ (v11326 : BitVec 32) (v11331 : BitVec 32) (v11341 : BitVec 32) (v11357 : BitVec 32) (v11366 : BitVec 32) (v11375 : BitVec 32) (v11384 : BitVec 32) (v11393 : BitVec 32) (v11402 : BitVec 32) (v11411 : BitVec 32) (v11459 : BitVec 32) (k0_hw53 : k0_chk53 v11326 v11331 v11341 v11357 v11366 v11375 v11384 v11393 v11402 v11411 v11459), ∀ a, (k0_off1069 v11326 v11331 v11366 v11459) a + S1x16x256.size a ≤ S200x216x256.size a := fun v11326 v11331 v11341 v11357 v11366 v11375 v11384 v11393 v11402 v11411 v11459 k0_hw53 => k0_hw53.2.2.2.1
theorem k0_off1070_inb : ∀ (v11326 : BitVec 32) (v11331 : BitVec 32) (v11341 : BitVec 32) (v11357 : BitVec 32) (v11366 : BitVec 32) (v11375 : BitVec 32) (v11384 : BitVec 32) (v11393 : BitVec 32) (v11402 : BitVec 32) (v11411 : BitVec 32) (v11459 : BitVec 32) (k0_hw53 : k0_chk53 v11326 v11331 v11341 v11357 v11366 v11375 v11384 v11393 v11402 v11411 v11459), ∀ a, (k0_off1070 v11326 v11331 v11341 v11366 v11459) a + S1x16x256.size a ≤ S200x216x256.size a := fun v11326 v11331 v11341 v11357 v11366 v11375 v11384 v11393 v11402 v11411 v11459 k0_hw53 => k0_hw53.2.2.2.2.1
theorem k0_off1090_inb : ∀ (v11326 : BitVec 32) (v11331 : BitVec 32) (v11341 : BitVec 32) (v11357 : BitVec 32) (v11366 : BitVec 32) (v11375 : BitVec 32) (v11384 : BitVec 32) (v11393 : BitVec 32) (v11402 : BitVec 32) (v11411 : BitVec 32) (v11459 : BitVec 32) (k0_hw53 : k0_chk53 v11326 v11331 v11341 v11357 v11366 v11375 v11384 v11393 v11402 v11411 v11459), ∀ a, (k0_off1090 v11326 v11331 v11375 v11459) a + S1x16x256.size a ≤ S200x216x256.size a := fun v11326 v11331 v11341 v11357 v11366 v11375 v11384 v11393 v11402 v11411 v11459 k0_hw53 => k0_hw53.2.2.2.2.2.1
theorem k0_off1091_inb : ∀ (v11326 : BitVec 32) (v11331 : BitVec 32) (v11341 : BitVec 32) (v11357 : BitVec 32) (v11366 : BitVec 32) (v11375 : BitVec 32) (v11384 : BitVec 32) (v11393 : BitVec 32) (v11402 : BitVec 32) (v11411 : BitVec 32) (v11459 : BitVec 32) (k0_hw53 : k0_chk53 v11326 v11331 v11341 v11357 v11366 v11375 v11384 v11393 v11402 v11411 v11459), ∀ a, (k0_off1091 v11326 v11331 v11341 v11375 v11459) a + S1x16x256.size a ≤ S200x216x256.size a := fun v11326 v11331 v11341 v11357 v11366 v11375 v11384 v11393 v11402 v11411 v11459 k0_hw53 => k0_hw53.2.2.2.2.2.2.1
theorem k0_off1111_inb : ∀ (v11326 : BitVec 32) (v11331 : BitVec 32) (v11341 : BitVec 32) (v11357 : BitVec 32) (v11366 : BitVec 32) (v11375 : BitVec 32) (v11384 : BitVec 32) (v11393 : BitVec 32) (v11402 : BitVec 32) (v11411 : BitVec 32) (v11459 : BitVec 32) (k0_hw53 : k0_chk53 v11326 v11331 v11341 v11357 v11366 v11375 v11384 v11393 v11402 v11411 v11459), ∀ a, (k0_off1111 v11326 v11331 v11384 v11459) a + S1x16x256.size a ≤ S200x216x256.size a := fun v11326 v11331 v11341 v11357 v11366 v11375 v11384 v11393 v11402 v11411 v11459 k0_hw53 => k0_hw53.2.2.2.2.2.2.2.1
theorem k0_off1112_inb : ∀ (v11326 : BitVec 32) (v11331 : BitVec 32) (v11341 : BitVec 32) (v11357 : BitVec 32) (v11366 : BitVec 32) (v11375 : BitVec 32) (v11384 : BitVec 32) (v11393 : BitVec 32) (v11402 : BitVec 32) (v11411 : BitVec 32) (v11459 : BitVec 32) (k0_hw53 : k0_chk53 v11326 v11331 v11341 v11357 v11366 v11375 v11384 v11393 v11402 v11411 v11459), ∀ a, (k0_off1112 v11326 v11331 v11341 v11384 v11459) a + S1x16x256.size a ≤ S200x216x256.size a := fun v11326 v11331 v11341 v11357 v11366 v11375 v11384 v11393 v11402 v11411 v11459 k0_hw53 => k0_hw53.2.2.2.2.2.2.2.2.1
theorem k0_off1132_inb : ∀ (v11326 : BitVec 32) (v11331 : BitVec 32) (v11341 : BitVec 32) (v11357 : BitVec 32) (v11366 : BitVec 32) (v11375 : BitVec 32) (v11384 : BitVec 32) (v11393 : BitVec 32) (v11402 : BitVec 32) (v11411 : BitVec 32) (v11459 : BitVec 32) (k0_hw53 : k0_chk53 v11326 v11331 v11341 v11357 v11366 v11375 v11384 v11393 v11402 v11411 v11459), ∀ a, (k0_off1132 v11326 v11331 v11393 v11459) a + S1x16x256.size a ≤ S200x216x256.size a := fun v11326 v11331 v11341 v11357 v11366 v11375 v11384 v11393 v11402 v11411 v11459 k0_hw53 => k0_hw53.2.2.2.2.2.2.2.2.2.1
theorem k0_off1133_inb : ∀ (v11326 : BitVec 32) (v11331 : BitVec 32) (v11341 : BitVec 32) (v11357 : BitVec 32) (v11366 : BitVec 32) (v11375 : BitVec 32) (v11384 : BitVec 32) (v11393 : BitVec 32) (v11402 : BitVec 32) (v11411 : BitVec 32) (v11459 : BitVec 32) (k0_hw53 : k0_chk53 v11326 v11331 v11341 v11357 v11366 v11375 v11384 v11393 v11402 v11411 v11459), ∀ a, (k0_off1133 v11326 v11331 v11341 v11393 v11459) a + S1x16x256.size a ≤ S200x216x256.size a := fun v11326 v11331 v11341 v11357 v11366 v11375 v11384 v11393 v11402 v11411 v11459 k0_hw53 => k0_hw53.2.2.2.2.2.2.2.2.2.2.1
theorem k0_off1153_inb : ∀ (v11326 : BitVec 32) (v11331 : BitVec 32) (v11341 : BitVec 32) (v11357 : BitVec 32) (v11366 : BitVec 32) (v11375 : BitVec 32) (v11384 : BitVec 32) (v11393 : BitVec 32) (v11402 : BitVec 32) (v11411 : BitVec 32) (v11459 : BitVec 32) (k0_hw53 : k0_chk53 v11326 v11331 v11341 v11357 v11366 v11375 v11384 v11393 v11402 v11411 v11459), ∀ a, (k0_off1153 v11326 v11331 v11402 v11459) a + S1x16x256.size a ≤ S200x216x256.size a := fun v11326 v11331 v11341 v11357 v11366 v11375 v11384 v11393 v11402 v11411 v11459 k0_hw53 => k0_hw53.2.2.2.2.2.2.2.2.2.2.2.1
theorem k0_off1154_inb : ∀ (v11326 : BitVec 32) (v11331 : BitVec 32) (v11341 : BitVec 32) (v11357 : BitVec 32) (v11366 : BitVec 32) (v11375 : BitVec 32) (v11384 : BitVec 32) (v11393 : BitVec 32) (v11402 : BitVec 32) (v11411 : BitVec 32) (v11459 : BitVec 32) (k0_hw53 : k0_chk53 v11326 v11331 v11341 v11357 v11366 v11375 v11384 v11393 v11402 v11411 v11459), ∀ a, (k0_off1154 v11326 v11331 v11341 v11402 v11459) a + S1x16x256.size a ≤ S200x216x256.size a := fun v11326 v11331 v11341 v11357 v11366 v11375 v11384 v11393 v11402 v11411 v11459 k0_hw53 => k0_hw53.2.2.2.2.2.2.2.2.2.2.2.2.1
theorem k0_off1174_inb : ∀ (v11326 : BitVec 32) (v11331 : BitVec 32) (v11341 : BitVec 32) (v11357 : BitVec 32) (v11366 : BitVec 32) (v11375 : BitVec 32) (v11384 : BitVec 32) (v11393 : BitVec 32) (v11402 : BitVec 32) (v11411 : BitVec 32) (v11459 : BitVec 32) (k0_hw53 : k0_chk53 v11326 v11331 v11341 v11357 v11366 v11375 v11384 v11393 v11402 v11411 v11459), ∀ a, (k0_off1174 v11326 v11331 v11411 v11459) a + S1x16x256.size a ≤ S200x216x256.size a := fun v11326 v11331 v11341 v11357 v11366 v11375 v11384 v11393 v11402 v11411 v11459 k0_hw53 => k0_hw53.2.2.2.2.2.2.2.2.2.2.2.2.2.1
theorem k0_off1175_inb : ∀ (v11326 : BitVec 32) (v11331 : BitVec 32) (v11341 : BitVec 32) (v11357 : BitVec 32) (v11366 : BitVec 32) (v11375 : BitVec 32) (v11384 : BitVec 32) (v11393 : BitVec 32) (v11402 : BitVec 32) (v11411 : BitVec 32) (v11459 : BitVec 32) (k0_hw53 : k0_chk53 v11326 v11331 v11341 v11357 v11366 v11375 v11384 v11393 v11402 v11411 v11459), ∀ a, (k0_off1175 v11326 v11331 v11341 v11411 v11459) a + S1x16x256.size a ≤ S200x216x256.size a := fun v11326 v11331 v11341 v11357 v11366 v11375 v11384 v11393 v11402 v11411 v11459 k0_hw53 => k0_hw53.2.2.2.2.2.2.2.2.2.2.2.2.2.2

def k0_off1176 (k0_t1 : Fin k0_t1_loop.trips) : Fin 3 → Nat :=
  let c45_3109 : Index := 45#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c7_i32_2731 : BitVec 32 := 7#32
  let v11318 : BitVec 32 := Scalar.addi v5 c7_i32_2731
  let v12843 : Index := Scalar.indexCast v11318
  let c0_3110 : Index := 0#32
  ![45, v12843.toNat, 0]
def k0_off1177 (v11326 : BitVec 32) (v11331 : BitVec 32) (v11411 : BitVec 32) (v11472 : BitVec 32) : Fin 3 → Nat :=
  let c199_i32_2740 : BitVec 32 := 199#32
  let c0_i32_2739 : BitVec 32 := 0#32
  let v11332 : BitVec 32 := Scalar.maxsi c0_i32_2739 v11331
  let v11333 : BitVec 32 := Scalar.minsi c199_i32_2740 v11332
  let v11412 : BitVec 32 := Scalar.addi v11333 v11411
  let v12848 : Index := Scalar.indexCast v11412
  let c199_i32_2737 : BitVec 32 := 199#32
  let c0_i32_2736 : BitVec 32 := 0#32
  let v11327 : BitVec 32 := Scalar.maxsi c0_i32_2736 v11326
  let v11328 : BitVec 32 := Scalar.minsi c199_i32_2737 v11327
  let v11473 : BitVec 32 := Scalar.addi v11328 v11472
  let c3_i32_2811 : BitVec 32 := 3#32
  let v11476 : BitVec 32 := Scalar.shrsi v11473 c3_i32_2811
  let c3_i32_2812 : BitVec 32 := 3#32
  let v11477 : BitVec 32 := Scalar.shli v11476 c3_i32_2812
  let v11478 : BitVec 32 := v11477
  let v12849 : Index := Scalar.indexCast v11478
  let c0_3112 : Index := 0#32
  ![v12848.toNat, v12849.toNat, 0]
def k0_off1178 (v11326 : BitVec 32) (v11331 : BitVec 32) (v11341 : BitVec 32) (v11411 : BitVec 32) (v11472 : BitVec 32) : Fin 3 → Nat :=
  let c199_i32_2740 : BitVec 32 := 199#32
  let c0_i32_2739 : BitVec 32 := 0#32
  let v11332 : BitVec 32 := Scalar.maxsi c0_i32_2739 v11331
  let v11333 : BitVec 32 := Scalar.minsi c199_i32_2740 v11332
  let v11412 : BitVec 32 := Scalar.addi v11333 v11411
  let c1_i32_2778 : BitVec 32 := 1#32
  let v11413 : BitVec 32 := Scalar.addi v11412 c1_i32_2778
  let c199_i32_2746 : BitVec 32 := 199#32
  let c0_i32_2745 : BitVec 32 := 0#32
  let v11342 : BitVec 32 := Scalar.maxsi c0_i32_2745 v11341
  let v11343 : BitVec 32 := Scalar.minsi c199_i32_2746 v11342
  let v11414 : BitVec 32 := Scalar.minsi v11413 v11343
  let v12852 : Index := Scalar.indexCast v11414
  let c199_i32_2737 : BitVec 32 := 199#32
  let c0_i32_2736 : BitVec 32 := 0#32
  let v11327 : BitVec 32 := Scalar.maxsi c0_i32_2736 v11326
  let v11328 : BitVec 32 := Scalar.minsi c199_i32_2737 v11327
  let v11473 : BitVec 32 := Scalar.addi v11328 v11472
  let c3_i32_2811 : BitVec 32 := 3#32
  let v11476 : BitVec 32 := Scalar.shrsi v11473 c3_i32_2811
  let c3_i32_2812 : BitVec 32 := 3#32
  let v11477 : BitVec 32 := Scalar.shli v11476 c3_i32_2812
  let v11478 : BitVec 32 := v11477
  let v12853 : Index := Scalar.indexCast v11478
  let c0_3113 : Index := 0#32
  ![v12852.toNat, v12853.toNat, 0]

def k0_chk54 (v11326 : BitVec 32) (v11331 : BitVec 32) (v11341 : BitVec 32) (v11357 : BitVec 32) (v11366 : BitVec 32) (v11375 : BitVec 32) (v11384 : BitVec 32) (v11393 : BitVec 32) (v11402 : BitVec 32) (v11411 : BitVec 32) (v11472 : BitVec 32) : Prop :=
  (8 ∣ (k0_mult55 v11326 v11472).toNat) ∧
  (∀ a, (k0_off1051 v11326 v11331 v11357 v11472) a + S1x16x256.size a ≤ S200x216x256.size a) ∧
  (∀ a, (k0_off1052 v11326 v11331 v11341 v11357 v11472) a + S1x16x256.size a ≤ S200x216x256.size a) ∧
  (∀ a, (k0_off1072 v11326 v11331 v11366 v11472) a + S1x16x256.size a ≤ S200x216x256.size a) ∧
  (∀ a, (k0_off1073 v11326 v11331 v11341 v11366 v11472) a + S1x16x256.size a ≤ S200x216x256.size a) ∧
  (∀ a, (k0_off1093 v11326 v11331 v11375 v11472) a + S1x16x256.size a ≤ S200x216x256.size a) ∧
  (∀ a, (k0_off1094 v11326 v11331 v11341 v11375 v11472) a + S1x16x256.size a ≤ S200x216x256.size a) ∧
  (∀ a, (k0_off1114 v11326 v11331 v11384 v11472) a + S1x16x256.size a ≤ S200x216x256.size a) ∧
  (∀ a, (k0_off1115 v11326 v11331 v11341 v11384 v11472) a + S1x16x256.size a ≤ S200x216x256.size a) ∧
  (∀ a, (k0_off1135 v11326 v11331 v11393 v11472) a + S1x16x256.size a ≤ S200x216x256.size a) ∧
  (∀ a, (k0_off1136 v11326 v11331 v11341 v11393 v11472) a + S1x16x256.size a ≤ S200x216x256.size a) ∧
  (∀ a, (k0_off1156 v11326 v11331 v11402 v11472) a + S1x16x256.size a ≤ S200x216x256.size a) ∧
  (∀ a, (k0_off1157 v11326 v11331 v11341 v11402 v11472) a + S1x16x256.size a ≤ S200x216x256.size a) ∧
  (∀ a, (k0_off1177 v11326 v11331 v11411 v11472) a + S1x16x256.size a ≤ S200x216x256.size a) ∧
  (∀ a, (k0_off1178 v11326 v11331 v11341 v11411 v11472) a + S1x16x256.size a ≤ S200x216x256.size a)
theorem k0_mult55_dvd : ∀ (v11326 : BitVec 32) (v11331 : BitVec 32) (v11341 : BitVec 32) (v11357 : BitVec 32) (v11366 : BitVec 32) (v11375 : BitVec 32) (v11384 : BitVec 32) (v11393 : BitVec 32) (v11402 : BitVec 32) (v11411 : BitVec 32) (v11472 : BitVec 32) (k0_hw54 : k0_chk54 v11326 v11331 v11341 v11357 v11366 v11375 v11384 v11393 v11402 v11411 v11472), 8 ∣ (k0_mult55 v11326 v11472).toNat := fun v11326 v11331 v11341 v11357 v11366 v11375 v11384 v11393 v11402 v11411 v11472 k0_hw54 => k0_hw54.1
theorem k0_off1051_inb : ∀ (v11326 : BitVec 32) (v11331 : BitVec 32) (v11341 : BitVec 32) (v11357 : BitVec 32) (v11366 : BitVec 32) (v11375 : BitVec 32) (v11384 : BitVec 32) (v11393 : BitVec 32) (v11402 : BitVec 32) (v11411 : BitVec 32) (v11472 : BitVec 32) (k0_hw54 : k0_chk54 v11326 v11331 v11341 v11357 v11366 v11375 v11384 v11393 v11402 v11411 v11472), ∀ a, (k0_off1051 v11326 v11331 v11357 v11472) a + S1x16x256.size a ≤ S200x216x256.size a := fun v11326 v11331 v11341 v11357 v11366 v11375 v11384 v11393 v11402 v11411 v11472 k0_hw54 => k0_hw54.2.1
theorem k0_off1052_inb : ∀ (v11326 : BitVec 32) (v11331 : BitVec 32) (v11341 : BitVec 32) (v11357 : BitVec 32) (v11366 : BitVec 32) (v11375 : BitVec 32) (v11384 : BitVec 32) (v11393 : BitVec 32) (v11402 : BitVec 32) (v11411 : BitVec 32) (v11472 : BitVec 32) (k0_hw54 : k0_chk54 v11326 v11331 v11341 v11357 v11366 v11375 v11384 v11393 v11402 v11411 v11472), ∀ a, (k0_off1052 v11326 v11331 v11341 v11357 v11472) a + S1x16x256.size a ≤ S200x216x256.size a := fun v11326 v11331 v11341 v11357 v11366 v11375 v11384 v11393 v11402 v11411 v11472 k0_hw54 => k0_hw54.2.2.1
theorem k0_off1072_inb : ∀ (v11326 : BitVec 32) (v11331 : BitVec 32) (v11341 : BitVec 32) (v11357 : BitVec 32) (v11366 : BitVec 32) (v11375 : BitVec 32) (v11384 : BitVec 32) (v11393 : BitVec 32) (v11402 : BitVec 32) (v11411 : BitVec 32) (v11472 : BitVec 32) (k0_hw54 : k0_chk54 v11326 v11331 v11341 v11357 v11366 v11375 v11384 v11393 v11402 v11411 v11472), ∀ a, (k0_off1072 v11326 v11331 v11366 v11472) a + S1x16x256.size a ≤ S200x216x256.size a := fun v11326 v11331 v11341 v11357 v11366 v11375 v11384 v11393 v11402 v11411 v11472 k0_hw54 => k0_hw54.2.2.2.1
theorem k0_off1073_inb : ∀ (v11326 : BitVec 32) (v11331 : BitVec 32) (v11341 : BitVec 32) (v11357 : BitVec 32) (v11366 : BitVec 32) (v11375 : BitVec 32) (v11384 : BitVec 32) (v11393 : BitVec 32) (v11402 : BitVec 32) (v11411 : BitVec 32) (v11472 : BitVec 32) (k0_hw54 : k0_chk54 v11326 v11331 v11341 v11357 v11366 v11375 v11384 v11393 v11402 v11411 v11472), ∀ a, (k0_off1073 v11326 v11331 v11341 v11366 v11472) a + S1x16x256.size a ≤ S200x216x256.size a := fun v11326 v11331 v11341 v11357 v11366 v11375 v11384 v11393 v11402 v11411 v11472 k0_hw54 => k0_hw54.2.2.2.2.1
theorem k0_off1093_inb : ∀ (v11326 : BitVec 32) (v11331 : BitVec 32) (v11341 : BitVec 32) (v11357 : BitVec 32) (v11366 : BitVec 32) (v11375 : BitVec 32) (v11384 : BitVec 32) (v11393 : BitVec 32) (v11402 : BitVec 32) (v11411 : BitVec 32) (v11472 : BitVec 32) (k0_hw54 : k0_chk54 v11326 v11331 v11341 v11357 v11366 v11375 v11384 v11393 v11402 v11411 v11472), ∀ a, (k0_off1093 v11326 v11331 v11375 v11472) a + S1x16x256.size a ≤ S200x216x256.size a := fun v11326 v11331 v11341 v11357 v11366 v11375 v11384 v11393 v11402 v11411 v11472 k0_hw54 => k0_hw54.2.2.2.2.2.1
theorem k0_off1094_inb : ∀ (v11326 : BitVec 32) (v11331 : BitVec 32) (v11341 : BitVec 32) (v11357 : BitVec 32) (v11366 : BitVec 32) (v11375 : BitVec 32) (v11384 : BitVec 32) (v11393 : BitVec 32) (v11402 : BitVec 32) (v11411 : BitVec 32) (v11472 : BitVec 32) (k0_hw54 : k0_chk54 v11326 v11331 v11341 v11357 v11366 v11375 v11384 v11393 v11402 v11411 v11472), ∀ a, (k0_off1094 v11326 v11331 v11341 v11375 v11472) a + S1x16x256.size a ≤ S200x216x256.size a := fun v11326 v11331 v11341 v11357 v11366 v11375 v11384 v11393 v11402 v11411 v11472 k0_hw54 => k0_hw54.2.2.2.2.2.2.1
theorem k0_off1114_inb : ∀ (v11326 : BitVec 32) (v11331 : BitVec 32) (v11341 : BitVec 32) (v11357 : BitVec 32) (v11366 : BitVec 32) (v11375 : BitVec 32) (v11384 : BitVec 32) (v11393 : BitVec 32) (v11402 : BitVec 32) (v11411 : BitVec 32) (v11472 : BitVec 32) (k0_hw54 : k0_chk54 v11326 v11331 v11341 v11357 v11366 v11375 v11384 v11393 v11402 v11411 v11472), ∀ a, (k0_off1114 v11326 v11331 v11384 v11472) a + S1x16x256.size a ≤ S200x216x256.size a := fun v11326 v11331 v11341 v11357 v11366 v11375 v11384 v11393 v11402 v11411 v11472 k0_hw54 => k0_hw54.2.2.2.2.2.2.2.1
theorem k0_off1115_inb : ∀ (v11326 : BitVec 32) (v11331 : BitVec 32) (v11341 : BitVec 32) (v11357 : BitVec 32) (v11366 : BitVec 32) (v11375 : BitVec 32) (v11384 : BitVec 32) (v11393 : BitVec 32) (v11402 : BitVec 32) (v11411 : BitVec 32) (v11472 : BitVec 32) (k0_hw54 : k0_chk54 v11326 v11331 v11341 v11357 v11366 v11375 v11384 v11393 v11402 v11411 v11472), ∀ a, (k0_off1115 v11326 v11331 v11341 v11384 v11472) a + S1x16x256.size a ≤ S200x216x256.size a := fun v11326 v11331 v11341 v11357 v11366 v11375 v11384 v11393 v11402 v11411 v11472 k0_hw54 => k0_hw54.2.2.2.2.2.2.2.2.1
theorem k0_off1135_inb : ∀ (v11326 : BitVec 32) (v11331 : BitVec 32) (v11341 : BitVec 32) (v11357 : BitVec 32) (v11366 : BitVec 32) (v11375 : BitVec 32) (v11384 : BitVec 32) (v11393 : BitVec 32) (v11402 : BitVec 32) (v11411 : BitVec 32) (v11472 : BitVec 32) (k0_hw54 : k0_chk54 v11326 v11331 v11341 v11357 v11366 v11375 v11384 v11393 v11402 v11411 v11472), ∀ a, (k0_off1135 v11326 v11331 v11393 v11472) a + S1x16x256.size a ≤ S200x216x256.size a := fun v11326 v11331 v11341 v11357 v11366 v11375 v11384 v11393 v11402 v11411 v11472 k0_hw54 => k0_hw54.2.2.2.2.2.2.2.2.2.1
theorem k0_off1136_inb : ∀ (v11326 : BitVec 32) (v11331 : BitVec 32) (v11341 : BitVec 32) (v11357 : BitVec 32) (v11366 : BitVec 32) (v11375 : BitVec 32) (v11384 : BitVec 32) (v11393 : BitVec 32) (v11402 : BitVec 32) (v11411 : BitVec 32) (v11472 : BitVec 32) (k0_hw54 : k0_chk54 v11326 v11331 v11341 v11357 v11366 v11375 v11384 v11393 v11402 v11411 v11472), ∀ a, (k0_off1136 v11326 v11331 v11341 v11393 v11472) a + S1x16x256.size a ≤ S200x216x256.size a := fun v11326 v11331 v11341 v11357 v11366 v11375 v11384 v11393 v11402 v11411 v11472 k0_hw54 => k0_hw54.2.2.2.2.2.2.2.2.2.2.1
theorem k0_off1156_inb : ∀ (v11326 : BitVec 32) (v11331 : BitVec 32) (v11341 : BitVec 32) (v11357 : BitVec 32) (v11366 : BitVec 32) (v11375 : BitVec 32) (v11384 : BitVec 32) (v11393 : BitVec 32) (v11402 : BitVec 32) (v11411 : BitVec 32) (v11472 : BitVec 32) (k0_hw54 : k0_chk54 v11326 v11331 v11341 v11357 v11366 v11375 v11384 v11393 v11402 v11411 v11472), ∀ a, (k0_off1156 v11326 v11331 v11402 v11472) a + S1x16x256.size a ≤ S200x216x256.size a := fun v11326 v11331 v11341 v11357 v11366 v11375 v11384 v11393 v11402 v11411 v11472 k0_hw54 => k0_hw54.2.2.2.2.2.2.2.2.2.2.2.1
theorem k0_off1157_inb : ∀ (v11326 : BitVec 32) (v11331 : BitVec 32) (v11341 : BitVec 32) (v11357 : BitVec 32) (v11366 : BitVec 32) (v11375 : BitVec 32) (v11384 : BitVec 32) (v11393 : BitVec 32) (v11402 : BitVec 32) (v11411 : BitVec 32) (v11472 : BitVec 32) (k0_hw54 : k0_chk54 v11326 v11331 v11341 v11357 v11366 v11375 v11384 v11393 v11402 v11411 v11472), ∀ a, (k0_off1157 v11326 v11331 v11341 v11402 v11472) a + S1x16x256.size a ≤ S200x216x256.size a := fun v11326 v11331 v11341 v11357 v11366 v11375 v11384 v11393 v11402 v11411 v11472 k0_hw54 => k0_hw54.2.2.2.2.2.2.2.2.2.2.2.2.1
theorem k0_off1177_inb : ∀ (v11326 : BitVec 32) (v11331 : BitVec 32) (v11341 : BitVec 32) (v11357 : BitVec 32) (v11366 : BitVec 32) (v11375 : BitVec 32) (v11384 : BitVec 32) (v11393 : BitVec 32) (v11402 : BitVec 32) (v11411 : BitVec 32) (v11472 : BitVec 32) (k0_hw54 : k0_chk54 v11326 v11331 v11341 v11357 v11366 v11375 v11384 v11393 v11402 v11411 v11472), ∀ a, (k0_off1177 v11326 v11331 v11411 v11472) a + S1x16x256.size a ≤ S200x216x256.size a := fun v11326 v11331 v11341 v11357 v11366 v11375 v11384 v11393 v11402 v11411 v11472 k0_hw54 => k0_hw54.2.2.2.2.2.2.2.2.2.2.2.2.2.1
theorem k0_off1178_inb : ∀ (v11326 : BitVec 32) (v11331 : BitVec 32) (v11341 : BitVec 32) (v11357 : BitVec 32) (v11366 : BitVec 32) (v11375 : BitVec 32) (v11384 : BitVec 32) (v11393 : BitVec 32) (v11402 : BitVec 32) (v11411 : BitVec 32) (v11472 : BitVec 32) (k0_hw54 : k0_chk54 v11326 v11331 v11341 v11357 v11366 v11375 v11384 v11393 v11402 v11411 v11472), ∀ a, (k0_off1178 v11326 v11331 v11341 v11411 v11472) a + S1x16x256.size a ≤ S200x216x256.size a := fun v11326 v11331 v11341 v11357 v11366 v11375 v11384 v11393 v11402 v11411 v11472 k0_hw54 => k0_hw54.2.2.2.2.2.2.2.2.2.2.2.2.2.2

def k0_off1179 (k0_t1 : Fin k0_t1_loop.trips) : Fin 3 → Nat :=
  let c46_3115 : Index := 46#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c7_i32_2731 : BitVec 32 := 7#32
  let v11318 : BitVec 32 := Scalar.addi v5 c7_i32_2731
  let v12872 : Index := Scalar.indexCast v11318
  let c0_3116 : Index := 0#32
  ![46, v12872.toNat, 0]
def k0_off1180 (v11326 : BitVec 32) (v11331 : BitVec 32) (v11411 : BitVec 32) (v11485 : BitVec 32) : Fin 3 → Nat :=
  let c199_i32_2740 : BitVec 32 := 199#32
  let c0_i32_2739 : BitVec 32 := 0#32
  let v11332 : BitVec 32 := Scalar.maxsi c0_i32_2739 v11331
  let v11333 : BitVec 32 := Scalar.minsi c199_i32_2740 v11332
  let v11412 : BitVec 32 := Scalar.addi v11333 v11411
  let v12877 : Index := Scalar.indexCast v11412
  let c199_i32_2737 : BitVec 32 := 199#32
  let c0_i32_2736 : BitVec 32 := 0#32
  let v11327 : BitVec 32 := Scalar.maxsi c0_i32_2736 v11326
  let v11328 : BitVec 32 := Scalar.minsi c199_i32_2737 v11327
  let v11486 : BitVec 32 := Scalar.addi v11328 v11485
  let c3_i32_2818 : BitVec 32 := 3#32
  let v11489 : BitVec 32 := Scalar.shrsi v11486 c3_i32_2818
  let c3_i32_2819 : BitVec 32 := 3#32
  let v11490 : BitVec 32 := Scalar.shli v11489 c3_i32_2819
  let v11491 : BitVec 32 := v11490
  let v12878 : Index := Scalar.indexCast v11491
  let c0_3118 : Index := 0#32
  ![v12877.toNat, v12878.toNat, 0]
def k0_off1181 (v11326 : BitVec 32) (v11331 : BitVec 32) (v11341 : BitVec 32) (v11411 : BitVec 32) (v11485 : BitVec 32) : Fin 3 → Nat :=
  let c199_i32_2740 : BitVec 32 := 199#32
  let c0_i32_2739 : BitVec 32 := 0#32
  let v11332 : BitVec 32 := Scalar.maxsi c0_i32_2739 v11331
  let v11333 : BitVec 32 := Scalar.minsi c199_i32_2740 v11332
  let v11412 : BitVec 32 := Scalar.addi v11333 v11411
  let c1_i32_2778 : BitVec 32 := 1#32
  let v11413 : BitVec 32 := Scalar.addi v11412 c1_i32_2778
  let c199_i32_2746 : BitVec 32 := 199#32
  let c0_i32_2745 : BitVec 32 := 0#32
  let v11342 : BitVec 32 := Scalar.maxsi c0_i32_2745 v11341
  let v11343 : BitVec 32 := Scalar.minsi c199_i32_2746 v11342
  let v11414 : BitVec 32 := Scalar.minsi v11413 v11343
  let v12881 : Index := Scalar.indexCast v11414
  let c199_i32_2737 : BitVec 32 := 199#32
  let c0_i32_2736 : BitVec 32 := 0#32
  let v11327 : BitVec 32 := Scalar.maxsi c0_i32_2736 v11326
  let v11328 : BitVec 32 := Scalar.minsi c199_i32_2737 v11327
  let v11486 : BitVec 32 := Scalar.addi v11328 v11485
  let c3_i32_2818 : BitVec 32 := 3#32
  let v11489 : BitVec 32 := Scalar.shrsi v11486 c3_i32_2818
  let c3_i32_2819 : BitVec 32 := 3#32
  let v11490 : BitVec 32 := Scalar.shli v11489 c3_i32_2819
  let v11491 : BitVec 32 := v11490
  let v12882 : Index := Scalar.indexCast v11491
  let c0_3119 : Index := 0#32
  ![v12881.toNat, v12882.toNat, 0]

def k0_chk55 (v11326 : BitVec 32) (v11331 : BitVec 32) (v11341 : BitVec 32) (v11357 : BitVec 32) (v11366 : BitVec 32) (v11375 : BitVec 32) (v11384 : BitVec 32) (v11393 : BitVec 32) (v11402 : BitVec 32) (v11411 : BitVec 32) (v11485 : BitVec 32) : Prop :=
  (8 ∣ (k0_mult56 v11326 v11485).toNat) ∧
  (∀ a, (k0_off1054 v11326 v11331 v11357 v11485) a + S1x16x256.size a ≤ S200x216x256.size a) ∧
  (∀ a, (k0_off1055 v11326 v11331 v11341 v11357 v11485) a + S1x16x256.size a ≤ S200x216x256.size a) ∧
  (∀ a, (k0_off1075 v11326 v11331 v11366 v11485) a + S1x16x256.size a ≤ S200x216x256.size a) ∧
  (∀ a, (k0_off1076 v11326 v11331 v11341 v11366 v11485) a + S1x16x256.size a ≤ S200x216x256.size a) ∧
  (∀ a, (k0_off1096 v11326 v11331 v11375 v11485) a + S1x16x256.size a ≤ S200x216x256.size a) ∧
  (∀ a, (k0_off1097 v11326 v11331 v11341 v11375 v11485) a + S1x16x256.size a ≤ S200x216x256.size a) ∧
  (∀ a, (k0_off1117 v11326 v11331 v11384 v11485) a + S1x16x256.size a ≤ S200x216x256.size a) ∧
  (∀ a, (k0_off1118 v11326 v11331 v11341 v11384 v11485) a + S1x16x256.size a ≤ S200x216x256.size a) ∧
  (∀ a, (k0_off1138 v11326 v11331 v11393 v11485) a + S1x16x256.size a ≤ S200x216x256.size a) ∧
  (∀ a, (k0_off1139 v11326 v11331 v11341 v11393 v11485) a + S1x16x256.size a ≤ S200x216x256.size a) ∧
  (∀ a, (k0_off1159 v11326 v11331 v11402 v11485) a + S1x16x256.size a ≤ S200x216x256.size a) ∧
  (∀ a, (k0_off1160 v11326 v11331 v11341 v11402 v11485) a + S1x16x256.size a ≤ S200x216x256.size a) ∧
  (∀ a, (k0_off1180 v11326 v11331 v11411 v11485) a + S1x16x256.size a ≤ S200x216x256.size a) ∧
  (∀ a, (k0_off1181 v11326 v11331 v11341 v11411 v11485) a + S1x16x256.size a ≤ S200x216x256.size a)
theorem k0_mult56_dvd : ∀ (v11326 : BitVec 32) (v11331 : BitVec 32) (v11341 : BitVec 32) (v11357 : BitVec 32) (v11366 : BitVec 32) (v11375 : BitVec 32) (v11384 : BitVec 32) (v11393 : BitVec 32) (v11402 : BitVec 32) (v11411 : BitVec 32) (v11485 : BitVec 32) (k0_hw55 : k0_chk55 v11326 v11331 v11341 v11357 v11366 v11375 v11384 v11393 v11402 v11411 v11485), 8 ∣ (k0_mult56 v11326 v11485).toNat := fun v11326 v11331 v11341 v11357 v11366 v11375 v11384 v11393 v11402 v11411 v11485 k0_hw55 => k0_hw55.1
theorem k0_off1054_inb : ∀ (v11326 : BitVec 32) (v11331 : BitVec 32) (v11341 : BitVec 32) (v11357 : BitVec 32) (v11366 : BitVec 32) (v11375 : BitVec 32) (v11384 : BitVec 32) (v11393 : BitVec 32) (v11402 : BitVec 32) (v11411 : BitVec 32) (v11485 : BitVec 32) (k0_hw55 : k0_chk55 v11326 v11331 v11341 v11357 v11366 v11375 v11384 v11393 v11402 v11411 v11485), ∀ a, (k0_off1054 v11326 v11331 v11357 v11485) a + S1x16x256.size a ≤ S200x216x256.size a := fun v11326 v11331 v11341 v11357 v11366 v11375 v11384 v11393 v11402 v11411 v11485 k0_hw55 => k0_hw55.2.1
theorem k0_off1055_inb : ∀ (v11326 : BitVec 32) (v11331 : BitVec 32) (v11341 : BitVec 32) (v11357 : BitVec 32) (v11366 : BitVec 32) (v11375 : BitVec 32) (v11384 : BitVec 32) (v11393 : BitVec 32) (v11402 : BitVec 32) (v11411 : BitVec 32) (v11485 : BitVec 32) (k0_hw55 : k0_chk55 v11326 v11331 v11341 v11357 v11366 v11375 v11384 v11393 v11402 v11411 v11485), ∀ a, (k0_off1055 v11326 v11331 v11341 v11357 v11485) a + S1x16x256.size a ≤ S200x216x256.size a := fun v11326 v11331 v11341 v11357 v11366 v11375 v11384 v11393 v11402 v11411 v11485 k0_hw55 => k0_hw55.2.2.1
theorem k0_off1075_inb : ∀ (v11326 : BitVec 32) (v11331 : BitVec 32) (v11341 : BitVec 32) (v11357 : BitVec 32) (v11366 : BitVec 32) (v11375 : BitVec 32) (v11384 : BitVec 32) (v11393 : BitVec 32) (v11402 : BitVec 32) (v11411 : BitVec 32) (v11485 : BitVec 32) (k0_hw55 : k0_chk55 v11326 v11331 v11341 v11357 v11366 v11375 v11384 v11393 v11402 v11411 v11485), ∀ a, (k0_off1075 v11326 v11331 v11366 v11485) a + S1x16x256.size a ≤ S200x216x256.size a := fun v11326 v11331 v11341 v11357 v11366 v11375 v11384 v11393 v11402 v11411 v11485 k0_hw55 => k0_hw55.2.2.2.1
theorem k0_off1076_inb : ∀ (v11326 : BitVec 32) (v11331 : BitVec 32) (v11341 : BitVec 32) (v11357 : BitVec 32) (v11366 : BitVec 32) (v11375 : BitVec 32) (v11384 : BitVec 32) (v11393 : BitVec 32) (v11402 : BitVec 32) (v11411 : BitVec 32) (v11485 : BitVec 32) (k0_hw55 : k0_chk55 v11326 v11331 v11341 v11357 v11366 v11375 v11384 v11393 v11402 v11411 v11485), ∀ a, (k0_off1076 v11326 v11331 v11341 v11366 v11485) a + S1x16x256.size a ≤ S200x216x256.size a := fun v11326 v11331 v11341 v11357 v11366 v11375 v11384 v11393 v11402 v11411 v11485 k0_hw55 => k0_hw55.2.2.2.2.1
theorem k0_off1096_inb : ∀ (v11326 : BitVec 32) (v11331 : BitVec 32) (v11341 : BitVec 32) (v11357 : BitVec 32) (v11366 : BitVec 32) (v11375 : BitVec 32) (v11384 : BitVec 32) (v11393 : BitVec 32) (v11402 : BitVec 32) (v11411 : BitVec 32) (v11485 : BitVec 32) (k0_hw55 : k0_chk55 v11326 v11331 v11341 v11357 v11366 v11375 v11384 v11393 v11402 v11411 v11485), ∀ a, (k0_off1096 v11326 v11331 v11375 v11485) a + S1x16x256.size a ≤ S200x216x256.size a := fun v11326 v11331 v11341 v11357 v11366 v11375 v11384 v11393 v11402 v11411 v11485 k0_hw55 => k0_hw55.2.2.2.2.2.1
theorem k0_off1097_inb : ∀ (v11326 : BitVec 32) (v11331 : BitVec 32) (v11341 : BitVec 32) (v11357 : BitVec 32) (v11366 : BitVec 32) (v11375 : BitVec 32) (v11384 : BitVec 32) (v11393 : BitVec 32) (v11402 : BitVec 32) (v11411 : BitVec 32) (v11485 : BitVec 32) (k0_hw55 : k0_chk55 v11326 v11331 v11341 v11357 v11366 v11375 v11384 v11393 v11402 v11411 v11485), ∀ a, (k0_off1097 v11326 v11331 v11341 v11375 v11485) a + S1x16x256.size a ≤ S200x216x256.size a := fun v11326 v11331 v11341 v11357 v11366 v11375 v11384 v11393 v11402 v11411 v11485 k0_hw55 => k0_hw55.2.2.2.2.2.2.1
theorem k0_off1117_inb : ∀ (v11326 : BitVec 32) (v11331 : BitVec 32) (v11341 : BitVec 32) (v11357 : BitVec 32) (v11366 : BitVec 32) (v11375 : BitVec 32) (v11384 : BitVec 32) (v11393 : BitVec 32) (v11402 : BitVec 32) (v11411 : BitVec 32) (v11485 : BitVec 32) (k0_hw55 : k0_chk55 v11326 v11331 v11341 v11357 v11366 v11375 v11384 v11393 v11402 v11411 v11485), ∀ a, (k0_off1117 v11326 v11331 v11384 v11485) a + S1x16x256.size a ≤ S200x216x256.size a := fun v11326 v11331 v11341 v11357 v11366 v11375 v11384 v11393 v11402 v11411 v11485 k0_hw55 => k0_hw55.2.2.2.2.2.2.2.1
theorem k0_off1118_inb : ∀ (v11326 : BitVec 32) (v11331 : BitVec 32) (v11341 : BitVec 32) (v11357 : BitVec 32) (v11366 : BitVec 32) (v11375 : BitVec 32) (v11384 : BitVec 32) (v11393 : BitVec 32) (v11402 : BitVec 32) (v11411 : BitVec 32) (v11485 : BitVec 32) (k0_hw55 : k0_chk55 v11326 v11331 v11341 v11357 v11366 v11375 v11384 v11393 v11402 v11411 v11485), ∀ a, (k0_off1118 v11326 v11331 v11341 v11384 v11485) a + S1x16x256.size a ≤ S200x216x256.size a := fun v11326 v11331 v11341 v11357 v11366 v11375 v11384 v11393 v11402 v11411 v11485 k0_hw55 => k0_hw55.2.2.2.2.2.2.2.2.1
theorem k0_off1138_inb : ∀ (v11326 : BitVec 32) (v11331 : BitVec 32) (v11341 : BitVec 32) (v11357 : BitVec 32) (v11366 : BitVec 32) (v11375 : BitVec 32) (v11384 : BitVec 32) (v11393 : BitVec 32) (v11402 : BitVec 32) (v11411 : BitVec 32) (v11485 : BitVec 32) (k0_hw55 : k0_chk55 v11326 v11331 v11341 v11357 v11366 v11375 v11384 v11393 v11402 v11411 v11485), ∀ a, (k0_off1138 v11326 v11331 v11393 v11485) a + S1x16x256.size a ≤ S200x216x256.size a := fun v11326 v11331 v11341 v11357 v11366 v11375 v11384 v11393 v11402 v11411 v11485 k0_hw55 => k0_hw55.2.2.2.2.2.2.2.2.2.1
theorem k0_off1139_inb : ∀ (v11326 : BitVec 32) (v11331 : BitVec 32) (v11341 : BitVec 32) (v11357 : BitVec 32) (v11366 : BitVec 32) (v11375 : BitVec 32) (v11384 : BitVec 32) (v11393 : BitVec 32) (v11402 : BitVec 32) (v11411 : BitVec 32) (v11485 : BitVec 32) (k0_hw55 : k0_chk55 v11326 v11331 v11341 v11357 v11366 v11375 v11384 v11393 v11402 v11411 v11485), ∀ a, (k0_off1139 v11326 v11331 v11341 v11393 v11485) a + S1x16x256.size a ≤ S200x216x256.size a := fun v11326 v11331 v11341 v11357 v11366 v11375 v11384 v11393 v11402 v11411 v11485 k0_hw55 => k0_hw55.2.2.2.2.2.2.2.2.2.2.1
theorem k0_off1159_inb : ∀ (v11326 : BitVec 32) (v11331 : BitVec 32) (v11341 : BitVec 32) (v11357 : BitVec 32) (v11366 : BitVec 32) (v11375 : BitVec 32) (v11384 : BitVec 32) (v11393 : BitVec 32) (v11402 : BitVec 32) (v11411 : BitVec 32) (v11485 : BitVec 32) (k0_hw55 : k0_chk55 v11326 v11331 v11341 v11357 v11366 v11375 v11384 v11393 v11402 v11411 v11485), ∀ a, (k0_off1159 v11326 v11331 v11402 v11485) a + S1x16x256.size a ≤ S200x216x256.size a := fun v11326 v11331 v11341 v11357 v11366 v11375 v11384 v11393 v11402 v11411 v11485 k0_hw55 => k0_hw55.2.2.2.2.2.2.2.2.2.2.2.1
theorem k0_off1160_inb : ∀ (v11326 : BitVec 32) (v11331 : BitVec 32) (v11341 : BitVec 32) (v11357 : BitVec 32) (v11366 : BitVec 32) (v11375 : BitVec 32) (v11384 : BitVec 32) (v11393 : BitVec 32) (v11402 : BitVec 32) (v11411 : BitVec 32) (v11485 : BitVec 32) (k0_hw55 : k0_chk55 v11326 v11331 v11341 v11357 v11366 v11375 v11384 v11393 v11402 v11411 v11485), ∀ a, (k0_off1160 v11326 v11331 v11341 v11402 v11485) a + S1x16x256.size a ≤ S200x216x256.size a := fun v11326 v11331 v11341 v11357 v11366 v11375 v11384 v11393 v11402 v11411 v11485 k0_hw55 => k0_hw55.2.2.2.2.2.2.2.2.2.2.2.2.1
theorem k0_off1180_inb : ∀ (v11326 : BitVec 32) (v11331 : BitVec 32) (v11341 : BitVec 32) (v11357 : BitVec 32) (v11366 : BitVec 32) (v11375 : BitVec 32) (v11384 : BitVec 32) (v11393 : BitVec 32) (v11402 : BitVec 32) (v11411 : BitVec 32) (v11485 : BitVec 32) (k0_hw55 : k0_chk55 v11326 v11331 v11341 v11357 v11366 v11375 v11384 v11393 v11402 v11411 v11485), ∀ a, (k0_off1180 v11326 v11331 v11411 v11485) a + S1x16x256.size a ≤ S200x216x256.size a := fun v11326 v11331 v11341 v11357 v11366 v11375 v11384 v11393 v11402 v11411 v11485 k0_hw55 => k0_hw55.2.2.2.2.2.2.2.2.2.2.2.2.2.1
theorem k0_off1181_inb : ∀ (v11326 : BitVec 32) (v11331 : BitVec 32) (v11341 : BitVec 32) (v11357 : BitVec 32) (v11366 : BitVec 32) (v11375 : BitVec 32) (v11384 : BitVec 32) (v11393 : BitVec 32) (v11402 : BitVec 32) (v11411 : BitVec 32) (v11485 : BitVec 32) (k0_hw55 : k0_chk55 v11326 v11331 v11341 v11357 v11366 v11375 v11384 v11393 v11402 v11411 v11485), ∀ a, (k0_off1181 v11326 v11331 v11341 v11411 v11485) a + S1x16x256.size a ≤ S200x216x256.size a := fun v11326 v11331 v11341 v11357 v11366 v11375 v11384 v11393 v11402 v11411 v11485 k0_hw55 => k0_hw55.2.2.2.2.2.2.2.2.2.2.2.2.2.2

def k0_off1182 (k0_t1 : Fin k0_t1_loop.trips) : Fin 3 → Nat :=
  let c47_3121 : Index := 47#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c7_i32_2731 : BitVec 32 := 7#32
  let v11318 : BitVec 32 := Scalar.addi v5 c7_i32_2731
  let v12901 : Index := Scalar.indexCast v11318
  let c0_3122 : Index := 0#32
  ![47, v12901.toNat, 0]
def k0_off1183 (v11326 : BitVec 32) (v11331 : BitVec 32) (v11411 : BitVec 32) (v11498 : BitVec 32) : Fin 3 → Nat :=
  let c199_i32_2740 : BitVec 32 := 199#32
  let c0_i32_2739 : BitVec 32 := 0#32
  let v11332 : BitVec 32 := Scalar.maxsi c0_i32_2739 v11331
  let v11333 : BitVec 32 := Scalar.minsi c199_i32_2740 v11332
  let v11412 : BitVec 32 := Scalar.addi v11333 v11411
  let v12906 : Index := Scalar.indexCast v11412
  let c199_i32_2737 : BitVec 32 := 199#32
  let c0_i32_2736 : BitVec 32 := 0#32
  let v11327 : BitVec 32 := Scalar.maxsi c0_i32_2736 v11326
  let v11328 : BitVec 32 := Scalar.minsi c199_i32_2737 v11327
  let v11499 : BitVec 32 := Scalar.addi v11328 v11498
  let c3_i32_2825 : BitVec 32 := 3#32
  let v11502 : BitVec 32 := Scalar.shrsi v11499 c3_i32_2825
  let c3_i32_2826 : BitVec 32 := 3#32
  let v11503 : BitVec 32 := Scalar.shli v11502 c3_i32_2826
  let v11504 : BitVec 32 := v11503
  let v12907 : Index := Scalar.indexCast v11504
  let c0_3124 : Index := 0#32
  ![v12906.toNat, v12907.toNat, 0]
def k0_off1184 (v11326 : BitVec 32) (v11331 : BitVec 32) (v11341 : BitVec 32) (v11411 : BitVec 32) (v11498 : BitVec 32) : Fin 3 → Nat :=
  let c199_i32_2740 : BitVec 32 := 199#32
  let c0_i32_2739 : BitVec 32 := 0#32
  let v11332 : BitVec 32 := Scalar.maxsi c0_i32_2739 v11331
  let v11333 : BitVec 32 := Scalar.minsi c199_i32_2740 v11332
  let v11412 : BitVec 32 := Scalar.addi v11333 v11411
  let c1_i32_2778 : BitVec 32 := 1#32
  let v11413 : BitVec 32 := Scalar.addi v11412 c1_i32_2778
  let c199_i32_2746 : BitVec 32 := 199#32
  let c0_i32_2745 : BitVec 32 := 0#32
  let v11342 : BitVec 32 := Scalar.maxsi c0_i32_2745 v11341
  let v11343 : BitVec 32 := Scalar.minsi c199_i32_2746 v11342
  let v11414 : BitVec 32 := Scalar.minsi v11413 v11343
  let v12910 : Index := Scalar.indexCast v11414
  let c199_i32_2737 : BitVec 32 := 199#32
  let c0_i32_2736 : BitVec 32 := 0#32
  let v11327 : BitVec 32 := Scalar.maxsi c0_i32_2736 v11326
  let v11328 : BitVec 32 := Scalar.minsi c199_i32_2737 v11327
  let v11499 : BitVec 32 := Scalar.addi v11328 v11498
  let c3_i32_2825 : BitVec 32 := 3#32
  let v11502 : BitVec 32 := Scalar.shrsi v11499 c3_i32_2825
  let c3_i32_2826 : BitVec 32 := 3#32
  let v11503 : BitVec 32 := Scalar.shli v11502 c3_i32_2826
  let v11504 : BitVec 32 := v11503
  let v12911 : Index := Scalar.indexCast v11504
  let c0_3125 : Index := 0#32
  ![v12910.toNat, v12911.toNat, 0]

def k0_chk56 (v11326 : BitVec 32) (v11331 : BitVec 32) (v11341 : BitVec 32) (v11357 : BitVec 32) (v11366 : BitVec 32) (v11375 : BitVec 32) (v11384 : BitVec 32) (v11393 : BitVec 32) (v11402 : BitVec 32) (v11411 : BitVec 32) (v11498 : BitVec 32) : Prop :=
  (8 ∣ (k0_mult57 v11326 v11498).toNat) ∧
  (∀ a, (k0_off1057 v11326 v11331 v11357 v11498) a + S1x16x256.size a ≤ S200x216x256.size a) ∧
  (∀ a, (k0_off1058 v11326 v11331 v11341 v11357 v11498) a + S1x16x256.size a ≤ S200x216x256.size a) ∧
  (∀ a, (k0_off1078 v11326 v11331 v11366 v11498) a + S1x16x256.size a ≤ S200x216x256.size a) ∧
  (∀ a, (k0_off1079 v11326 v11331 v11341 v11366 v11498) a + S1x16x256.size a ≤ S200x216x256.size a) ∧
  (∀ a, (k0_off1099 v11326 v11331 v11375 v11498) a + S1x16x256.size a ≤ S200x216x256.size a) ∧
  (∀ a, (k0_off1100 v11326 v11331 v11341 v11375 v11498) a + S1x16x256.size a ≤ S200x216x256.size a) ∧
  (∀ a, (k0_off1120 v11326 v11331 v11384 v11498) a + S1x16x256.size a ≤ S200x216x256.size a) ∧
  (∀ a, (k0_off1121 v11326 v11331 v11341 v11384 v11498) a + S1x16x256.size a ≤ S200x216x256.size a) ∧
  (∀ a, (k0_off1141 v11326 v11331 v11393 v11498) a + S1x16x256.size a ≤ S200x216x256.size a) ∧
  (∀ a, (k0_off1142 v11326 v11331 v11341 v11393 v11498) a + S1x16x256.size a ≤ S200x216x256.size a) ∧
  (∀ a, (k0_off1162 v11326 v11331 v11402 v11498) a + S1x16x256.size a ≤ S200x216x256.size a) ∧
  (∀ a, (k0_off1163 v11326 v11331 v11341 v11402 v11498) a + S1x16x256.size a ≤ S200x216x256.size a) ∧
  (∀ a, (k0_off1183 v11326 v11331 v11411 v11498) a + S1x16x256.size a ≤ S200x216x256.size a) ∧
  (∀ a, (k0_off1184 v11326 v11331 v11341 v11411 v11498) a + S1x16x256.size a ≤ S200x216x256.size a)
theorem k0_mult57_dvd : ∀ (v11326 : BitVec 32) (v11331 : BitVec 32) (v11341 : BitVec 32) (v11357 : BitVec 32) (v11366 : BitVec 32) (v11375 : BitVec 32) (v11384 : BitVec 32) (v11393 : BitVec 32) (v11402 : BitVec 32) (v11411 : BitVec 32) (v11498 : BitVec 32) (k0_hw56 : k0_chk56 v11326 v11331 v11341 v11357 v11366 v11375 v11384 v11393 v11402 v11411 v11498), 8 ∣ (k0_mult57 v11326 v11498).toNat := fun v11326 v11331 v11341 v11357 v11366 v11375 v11384 v11393 v11402 v11411 v11498 k0_hw56 => k0_hw56.1
theorem k0_off1057_inb : ∀ (v11326 : BitVec 32) (v11331 : BitVec 32) (v11341 : BitVec 32) (v11357 : BitVec 32) (v11366 : BitVec 32) (v11375 : BitVec 32) (v11384 : BitVec 32) (v11393 : BitVec 32) (v11402 : BitVec 32) (v11411 : BitVec 32) (v11498 : BitVec 32) (k0_hw56 : k0_chk56 v11326 v11331 v11341 v11357 v11366 v11375 v11384 v11393 v11402 v11411 v11498), ∀ a, (k0_off1057 v11326 v11331 v11357 v11498) a + S1x16x256.size a ≤ S200x216x256.size a := fun v11326 v11331 v11341 v11357 v11366 v11375 v11384 v11393 v11402 v11411 v11498 k0_hw56 => k0_hw56.2.1
theorem k0_off1058_inb : ∀ (v11326 : BitVec 32) (v11331 : BitVec 32) (v11341 : BitVec 32) (v11357 : BitVec 32) (v11366 : BitVec 32) (v11375 : BitVec 32) (v11384 : BitVec 32) (v11393 : BitVec 32) (v11402 : BitVec 32) (v11411 : BitVec 32) (v11498 : BitVec 32) (k0_hw56 : k0_chk56 v11326 v11331 v11341 v11357 v11366 v11375 v11384 v11393 v11402 v11411 v11498), ∀ a, (k0_off1058 v11326 v11331 v11341 v11357 v11498) a + S1x16x256.size a ≤ S200x216x256.size a := fun v11326 v11331 v11341 v11357 v11366 v11375 v11384 v11393 v11402 v11411 v11498 k0_hw56 => k0_hw56.2.2.1
theorem k0_off1078_inb : ∀ (v11326 : BitVec 32) (v11331 : BitVec 32) (v11341 : BitVec 32) (v11357 : BitVec 32) (v11366 : BitVec 32) (v11375 : BitVec 32) (v11384 : BitVec 32) (v11393 : BitVec 32) (v11402 : BitVec 32) (v11411 : BitVec 32) (v11498 : BitVec 32) (k0_hw56 : k0_chk56 v11326 v11331 v11341 v11357 v11366 v11375 v11384 v11393 v11402 v11411 v11498), ∀ a, (k0_off1078 v11326 v11331 v11366 v11498) a + S1x16x256.size a ≤ S200x216x256.size a := fun v11326 v11331 v11341 v11357 v11366 v11375 v11384 v11393 v11402 v11411 v11498 k0_hw56 => k0_hw56.2.2.2.1
theorem k0_off1079_inb : ∀ (v11326 : BitVec 32) (v11331 : BitVec 32) (v11341 : BitVec 32) (v11357 : BitVec 32) (v11366 : BitVec 32) (v11375 : BitVec 32) (v11384 : BitVec 32) (v11393 : BitVec 32) (v11402 : BitVec 32) (v11411 : BitVec 32) (v11498 : BitVec 32) (k0_hw56 : k0_chk56 v11326 v11331 v11341 v11357 v11366 v11375 v11384 v11393 v11402 v11411 v11498), ∀ a, (k0_off1079 v11326 v11331 v11341 v11366 v11498) a + S1x16x256.size a ≤ S200x216x256.size a := fun v11326 v11331 v11341 v11357 v11366 v11375 v11384 v11393 v11402 v11411 v11498 k0_hw56 => k0_hw56.2.2.2.2.1
theorem k0_off1099_inb : ∀ (v11326 : BitVec 32) (v11331 : BitVec 32) (v11341 : BitVec 32) (v11357 : BitVec 32) (v11366 : BitVec 32) (v11375 : BitVec 32) (v11384 : BitVec 32) (v11393 : BitVec 32) (v11402 : BitVec 32) (v11411 : BitVec 32) (v11498 : BitVec 32) (k0_hw56 : k0_chk56 v11326 v11331 v11341 v11357 v11366 v11375 v11384 v11393 v11402 v11411 v11498), ∀ a, (k0_off1099 v11326 v11331 v11375 v11498) a + S1x16x256.size a ≤ S200x216x256.size a := fun v11326 v11331 v11341 v11357 v11366 v11375 v11384 v11393 v11402 v11411 v11498 k0_hw56 => k0_hw56.2.2.2.2.2.1
theorem k0_off1100_inb : ∀ (v11326 : BitVec 32) (v11331 : BitVec 32) (v11341 : BitVec 32) (v11357 : BitVec 32) (v11366 : BitVec 32) (v11375 : BitVec 32) (v11384 : BitVec 32) (v11393 : BitVec 32) (v11402 : BitVec 32) (v11411 : BitVec 32) (v11498 : BitVec 32) (k0_hw56 : k0_chk56 v11326 v11331 v11341 v11357 v11366 v11375 v11384 v11393 v11402 v11411 v11498), ∀ a, (k0_off1100 v11326 v11331 v11341 v11375 v11498) a + S1x16x256.size a ≤ S200x216x256.size a := fun v11326 v11331 v11341 v11357 v11366 v11375 v11384 v11393 v11402 v11411 v11498 k0_hw56 => k0_hw56.2.2.2.2.2.2.1
theorem k0_off1120_inb : ∀ (v11326 : BitVec 32) (v11331 : BitVec 32) (v11341 : BitVec 32) (v11357 : BitVec 32) (v11366 : BitVec 32) (v11375 : BitVec 32) (v11384 : BitVec 32) (v11393 : BitVec 32) (v11402 : BitVec 32) (v11411 : BitVec 32) (v11498 : BitVec 32) (k0_hw56 : k0_chk56 v11326 v11331 v11341 v11357 v11366 v11375 v11384 v11393 v11402 v11411 v11498), ∀ a, (k0_off1120 v11326 v11331 v11384 v11498) a + S1x16x256.size a ≤ S200x216x256.size a := fun v11326 v11331 v11341 v11357 v11366 v11375 v11384 v11393 v11402 v11411 v11498 k0_hw56 => k0_hw56.2.2.2.2.2.2.2.1
theorem k0_off1121_inb : ∀ (v11326 : BitVec 32) (v11331 : BitVec 32) (v11341 : BitVec 32) (v11357 : BitVec 32) (v11366 : BitVec 32) (v11375 : BitVec 32) (v11384 : BitVec 32) (v11393 : BitVec 32) (v11402 : BitVec 32) (v11411 : BitVec 32) (v11498 : BitVec 32) (k0_hw56 : k0_chk56 v11326 v11331 v11341 v11357 v11366 v11375 v11384 v11393 v11402 v11411 v11498), ∀ a, (k0_off1121 v11326 v11331 v11341 v11384 v11498) a + S1x16x256.size a ≤ S200x216x256.size a := fun v11326 v11331 v11341 v11357 v11366 v11375 v11384 v11393 v11402 v11411 v11498 k0_hw56 => k0_hw56.2.2.2.2.2.2.2.2.1
theorem k0_off1141_inb : ∀ (v11326 : BitVec 32) (v11331 : BitVec 32) (v11341 : BitVec 32) (v11357 : BitVec 32) (v11366 : BitVec 32) (v11375 : BitVec 32) (v11384 : BitVec 32) (v11393 : BitVec 32) (v11402 : BitVec 32) (v11411 : BitVec 32) (v11498 : BitVec 32) (k0_hw56 : k0_chk56 v11326 v11331 v11341 v11357 v11366 v11375 v11384 v11393 v11402 v11411 v11498), ∀ a, (k0_off1141 v11326 v11331 v11393 v11498) a + S1x16x256.size a ≤ S200x216x256.size a := fun v11326 v11331 v11341 v11357 v11366 v11375 v11384 v11393 v11402 v11411 v11498 k0_hw56 => k0_hw56.2.2.2.2.2.2.2.2.2.1
theorem k0_off1142_inb : ∀ (v11326 : BitVec 32) (v11331 : BitVec 32) (v11341 : BitVec 32) (v11357 : BitVec 32) (v11366 : BitVec 32) (v11375 : BitVec 32) (v11384 : BitVec 32) (v11393 : BitVec 32) (v11402 : BitVec 32) (v11411 : BitVec 32) (v11498 : BitVec 32) (k0_hw56 : k0_chk56 v11326 v11331 v11341 v11357 v11366 v11375 v11384 v11393 v11402 v11411 v11498), ∀ a, (k0_off1142 v11326 v11331 v11341 v11393 v11498) a + S1x16x256.size a ≤ S200x216x256.size a := fun v11326 v11331 v11341 v11357 v11366 v11375 v11384 v11393 v11402 v11411 v11498 k0_hw56 => k0_hw56.2.2.2.2.2.2.2.2.2.2.1
theorem k0_off1162_inb : ∀ (v11326 : BitVec 32) (v11331 : BitVec 32) (v11341 : BitVec 32) (v11357 : BitVec 32) (v11366 : BitVec 32) (v11375 : BitVec 32) (v11384 : BitVec 32) (v11393 : BitVec 32) (v11402 : BitVec 32) (v11411 : BitVec 32) (v11498 : BitVec 32) (k0_hw56 : k0_chk56 v11326 v11331 v11341 v11357 v11366 v11375 v11384 v11393 v11402 v11411 v11498), ∀ a, (k0_off1162 v11326 v11331 v11402 v11498) a + S1x16x256.size a ≤ S200x216x256.size a := fun v11326 v11331 v11341 v11357 v11366 v11375 v11384 v11393 v11402 v11411 v11498 k0_hw56 => k0_hw56.2.2.2.2.2.2.2.2.2.2.2.1
theorem k0_off1163_inb : ∀ (v11326 : BitVec 32) (v11331 : BitVec 32) (v11341 : BitVec 32) (v11357 : BitVec 32) (v11366 : BitVec 32) (v11375 : BitVec 32) (v11384 : BitVec 32) (v11393 : BitVec 32) (v11402 : BitVec 32) (v11411 : BitVec 32) (v11498 : BitVec 32) (k0_hw56 : k0_chk56 v11326 v11331 v11341 v11357 v11366 v11375 v11384 v11393 v11402 v11411 v11498), ∀ a, (k0_off1163 v11326 v11331 v11341 v11402 v11498) a + S1x16x256.size a ≤ S200x216x256.size a := fun v11326 v11331 v11341 v11357 v11366 v11375 v11384 v11393 v11402 v11411 v11498 k0_hw56 => k0_hw56.2.2.2.2.2.2.2.2.2.2.2.2.1
theorem k0_off1183_inb : ∀ (v11326 : BitVec 32) (v11331 : BitVec 32) (v11341 : BitVec 32) (v11357 : BitVec 32) (v11366 : BitVec 32) (v11375 : BitVec 32) (v11384 : BitVec 32) (v11393 : BitVec 32) (v11402 : BitVec 32) (v11411 : BitVec 32) (v11498 : BitVec 32) (k0_hw56 : k0_chk56 v11326 v11331 v11341 v11357 v11366 v11375 v11384 v11393 v11402 v11411 v11498), ∀ a, (k0_off1183 v11326 v11331 v11411 v11498) a + S1x16x256.size a ≤ S200x216x256.size a := fun v11326 v11331 v11341 v11357 v11366 v11375 v11384 v11393 v11402 v11411 v11498 k0_hw56 => k0_hw56.2.2.2.2.2.2.2.2.2.2.2.2.2.1
theorem k0_off1184_inb : ∀ (v11326 : BitVec 32) (v11331 : BitVec 32) (v11341 : BitVec 32) (v11357 : BitVec 32) (v11366 : BitVec 32) (v11375 : BitVec 32) (v11384 : BitVec 32) (v11393 : BitVec 32) (v11402 : BitVec 32) (v11411 : BitVec 32) (v11498 : BitVec 32) (k0_hw56 : k0_chk56 v11326 v11331 v11341 v11357 v11366 v11375 v11384 v11393 v11402 v11411 v11498), ∀ a, (k0_off1184 v11326 v11331 v11341 v11411 v11498) a + S1x16x256.size a ≤ S200x216x256.size a := fun v11326 v11331 v11341 v11357 v11366 v11375 v11384 v11393 v11402 v11411 v11498 k0_hw56 => k0_hw56.2.2.2.2.2.2.2.2.2.2.2.2.2.2

def k0_off1185 (k0_t1 : Fin k0_t1_loop.trips) : Fin 3 → Nat :=
  let c48_3127 : Index := 48#32
  let c0_i32_1 : BitVec 32 := 0#32
  let c1_i32 : BitVec 32 := 1#32
  let arg7 : BitVec 32 := Scf.iv c0_i32_1 c1_i32 k0_t1
  let c8_i32 : BitVec 32 := 8#32
  let v4 : BitVec 32 := Scalar.muli arg7 c8_i32
  let v5 : BitVec 32 := v4
  let c7_i32_2731 : BitVec 32 := 7#32
  let v11318 : BitVec 32 := Scalar.addi v5 c7_i32_2731
  let v12930 : Index := Scalar.indexCast v11318
  let c0_3128 : Index := 0#32
  ![48, v12930.toNat, 0]
def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

abbrev stage0_0 : Fin 1 → Memref sig .tc .smem S8192 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S49x32x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== ReferenceIdeal.lean ====
abbrev S8x256x200x200 : Shape := ⟨4, ![8, 256, 200, 200]⟩
abbrev S8x256x4 : Shape := ⟨3, ![8, 256, 4]⟩
abbrev S2048x4 : Shape := ⟨2, ![2048, 4]⟩
abbrev S2048x1 : Shape := ⟨2, ![2048, 1]⟩
abbrev S2048 : Shape := ⟨1, ![2048]⟩
abbrev S_ : Shape := ⟨0, ![]⟩
abbrev S7 : Shape := ⟨1, ![7]⟩
abbrev S1x7 : Shape := ⟨2, ![1, 7]⟩
abbrev S2048x7 : Shape := ⟨2, ![2048, 7]⟩
abbrev S8x200x200x256 : Shape := ⟨4, ![8, 200, 200, 256]⟩
abbrev S2048x7x1x1 : Shape := ⟨4, ![2048, 7, 1, 1]⟩
abbrev S2048x1x7x1 : Shape := ⟨4, ![2048, 1, 7, 1]⟩
abbrev S2048x7x7x1 : Shape := ⟨4, ![2048, 7, 7, 1]⟩
abbrev S2048x1x1 : Shape := ⟨3, ![2048, 1, 1]⟩
abbrev S2048x7x1 : Shape := ⟨3, ![2048, 7, 1]⟩
abbrev S2048x1x7 : Shape := ⟨3, ![2048, 1, 7]⟩
abbrev S2048x7x7 : Shape := ⟨3, ![2048, 7, 7]⟩
abbrev S2048x7x7x3 : Shape := ⟨4, ![2048, 7, 7, 3]⟩
abbrev S2048x7x7x256 : Shape := ⟨4, ![2048, 7, 7, 256]⟩
abbrev S2048x256x7x7 : Shape := ⟨4, ![2048, 256, 7, 7]⟩

abbrev nBuf : Space → Nat
  | .hbm => 307
  | .vmem => 0
  | .smem => 0
  | _ => 0

abbrev hbmTy0_0 (i : Nat) : BufTy := match i % 128 with
  | 0 => ⟨S8x256x200x200, .f32⟩
  | 1 => ⟨S8x256x4, .i32⟩
  | 2 => ⟨S2048x4, .i32⟩
  | 3 => ⟨S2048x1, .i32⟩
  | 4 => ⟨S2048, .i32⟩
  | 5 => ⟨S_, .i32⟩
  | 6 => ⟨S_, .i32⟩
  | 7 => ⟨S_, .i32⟩
  | 8 => ⟨S2048, .i32⟩
  | 9 => ⟨S2048, .i32⟩
  | 10 => ⟨S_, .i32⟩
  | 11 => ⟨S2048, .i32⟩
  | 12 => ⟨S2048, .i32⟩
  | 13 => ⟨S2048x1, .i32⟩
  | 14 => ⟨S2048, .i32⟩
  | 15 => ⟨S_, .i32⟩
  | 16 => ⟨S_, .i32⟩
  | 17 => ⟨S_, .i32⟩
  | 18 => ⟨S2048, .i32⟩
  | 19 => ⟨S2048, .i32⟩
  | 20 => ⟨S_, .i32⟩
  | 21 => ⟨S2048, .i32⟩
  | 22 => ⟨S2048, .i32⟩
  | 23 => ⟨S2048x1, .i32⟩
  | 24 => ⟨S2048, .i32⟩
  | 25 => ⟨S_, .i32⟩
  | 26 => ⟨S_, .i32⟩
  | 27 => ⟨S_, .i32⟩
  | 28 => ⟨S2048, .i32⟩
  | 29 => ⟨S2048, .i32⟩
  | 30 => ⟨S_, .i32⟩
  | 31 => ⟨S2048, .i32⟩
  | 32 => ⟨S2048, .i32⟩
  | 33 => ⟨S2048x1, .i32⟩
  | 34 => ⟨S2048, .i32⟩
  | 35 => ⟨S_, .i32⟩
  | 36 => ⟨S_, .i32⟩
  | 37 => ⟨S_, .i32⟩
  | 38 => ⟨S2048, .i32⟩
  | 39 => ⟨S2048, .i32⟩
  | 40 => ⟨S_, .i32⟩
  | 41 => ⟨S2048, .i32⟩
  | 42 => ⟨S2048, .i32⟩
  | 43 => ⟨S2048, .i32⟩
  | 44 => ⟨S_, .i32⟩
  | 45 => ⟨S2048, .i32⟩
  | 46 => ⟨S2048, .i32⟩
  | 47 => ⟨S2048, .i32⟩
  | 48 => ⟨S_, .i32⟩
  | 49 => ⟨S2048, .i32⟩
  | 50 => ⟨S2048, .i32⟩
  | 51 => ⟨S7, .f32⟩
  | 52 => ⟨S_, .f32⟩
  | 53 => ⟨S7, .f32⟩
  | 54 => ⟨S7, .f32⟩
  | 55 => ⟨S1x7, .f32⟩
  | 56 => ⟨S2048, .f32⟩
  | 57 => ⟨S2048x1, .f32⟩
  | 58 => ⟨S_, .f32⟩
  | 59 => ⟨S2048x1, .f32⟩
  | 60 => ⟨S2048x1, .f32⟩
  | 61 => ⟨S2048x7, .f32⟩
  | 62 => ⟨S2048x7, .f32⟩
  | 63 => ⟨S2048x7, .f32⟩
  | 64 => ⟨S_, .f32⟩
  | 65 => ⟨S2048x7, .f32⟩
  | 66 => ⟨S2048x7, .f32⟩
  | 67 => ⟨S_, .f32⟩
  | 68 => ⟨S2048x7, .f32⟩
  | 69 => ⟨S2048x7, .f32⟩
  | 70 => ⟨S1x7, .f32⟩
  | 71 => ⟨S2048, .f32⟩
  | 72 => ⟨S2048x1, .f32⟩
  | 73 => ⟨S_, .f32⟩
  | 74 => ⟨S2048x1, .f32⟩
  | 75 => ⟨S2048x1, .f32⟩
  | 76 => ⟨S2048x7, .f32⟩
  | 77 => ⟨S2048x7, .f32⟩
  | 78 => ⟨S2048x7, .f32⟩
  | 79 => ⟨S_, .f32⟩
  | 80 => ⟨S2048x7, .f32⟩
  | 81 => ⟨S2048x7, .f32⟩
  | 82 => ⟨S_, .f32⟩
  | 83 => ⟨S2048x7, .f32⟩
  | 84 => ⟨S2048x7, .f32⟩
  | 85 => ⟨S2048x7, .f32⟩
  | 86 => ⟨S2048x7, .f32⟩
  | 87 => ⟨S2048x7, .f32⟩
  | 88 => ⟨S2048x7, .f32⟩
  | 89 => ⟨S2048x7, .i32⟩
  | 90 => ⟨S2048x7, .i32⟩
  | 91 => ⟨S_, .i32⟩
  | 92 => ⟨S2048x7, .i32⟩
  | 93 => ⟨S2048x7, .i32⟩
  | 94 => ⟨S_, .i32⟩
  | 95 => ⟨S2048, .i32⟩
  | 96 => ⟨S2048, .i32⟩
  | 97 => ⟨S2048x1, .i32⟩
  | 98 => ⟨S2048x7, .i32⟩
  | 99 => ⟨S2048x7, .i32⟩
  | 100 => ⟨S_, .i32⟩
  | 101 => ⟨S2048x7, .i32⟩
  | 102 => ⟨S2048x7, .i32⟩
  | 103 => ⟨S_, .i32⟩
  | 104 => ⟨S2048, .i32⟩
  | 105 => ⟨S2048, .i32⟩
  | 106 => ⟨S2048x1, .i32⟩
  | 107 => ⟨S2048x7, .i32⟩
  | 108 => ⟨S2048x7, .i32⟩
  | 109 => ⟨S2048x1, .i32⟩
  | 110 => ⟨S2048x7, .i32⟩
  | 111 => ⟨S2048x7, .i32⟩
  | 112 => ⟨S2048x1, .i32⟩
  | 113 => ⟨S2048x7, .i32⟩
  | 114 => ⟨S2048x7, .i32⟩
  | 115 => ⟨S2048x1, .i32⟩
  | 116 => ⟨S2048x7, .i32⟩
  | 117 => ⟨S2048x7, .i32⟩
  | 118 => ⟨S2048x1, .i32⟩
  | 119 => ⟨S2048x7, .i32⟩
  | 120 => ⟨S2048x7, .i32⟩
  | 121 => ⟨S2048, .i32⟩
  | 122 => ⟨S_, .i32⟩
  | 123 => ⟨S_, .i32⟩
  | 124 => ⟨S2048, .i32⟩
  | 125 => ⟨S2048, .i32⟩
  | 126 => ⟨S2048, .i32⟩
  | 127 => ⟨S_, .i32⟩
  | _ => ⟨S8x256x200x200, .f32⟩

abbrev hbmTy0_1 (i : Nat) : BufTy := match i % 128 with
  | 0 => ⟨S2048, .i32⟩
  | 1 => ⟨S2048, .i1⟩
  | 2 => ⟨S2048, .i32⟩
  | 3 => ⟨S2048, .i32⟩
  | 4 => ⟨S_, .i32⟩
  | 5 => ⟨S2048, .i32⟩
  | 6 => ⟨S2048, .i1⟩
  | 7 => ⟨S2048, .i1⟩
  | 8 => ⟨S_, .i32⟩
  | 9 => ⟨S2048, .i32⟩
  | 10 => ⟨S2048, .i32⟩
  | 11 => ⟨S2048, .i32⟩
  | 12 => ⟨S8x200x200x256, .f32⟩
  | 13 => ⟨S2048x7x1x1, .f32⟩
  | 14 => ⟨S2048x1x7x1, .f32⟩
  | 15 => ⟨S_, .f32⟩
  | 16 => ⟨S2048x7x1x1, .f32⟩
  | 17 => ⟨S2048x7x1x1, .f32⟩
  | 18 => ⟨S_, .f32⟩
  | 19 => ⟨S2048x1x7x1, .f32⟩
  | 20 => ⟨S2048x1x7x1, .f32⟩
  | 21 => ⟨S2048x7x7x1, .f32⟩
  | 22 => ⟨S2048x7x7x1, .f32⟩
  | 23 => ⟨S2048x7x7x1, .f32⟩
  | 24 => ⟨S2048x1x1, .i32⟩
  | 25 => ⟨S2048x7x1, .i32⟩
  | 26 => ⟨S2048x1x7, .i32⟩
  | 27 => ⟨S_, .i32⟩
  | 28 => ⟨S2048x1x1, .i32⟩
  | 29 => ⟨S2048x1x1, .i1⟩
  | 30 => ⟨S_, .i32⟩
  | 31 => ⟨S2048x1x1, .i32⟩
  | 32 => ⟨S2048x1x1, .i32⟩
  | 33 => ⟨S2048x1x1, .i32⟩
  | 34 => ⟨S_, .i32⟩
  | 35 => ⟨S2048x7x1, .i32⟩
  | 36 => ⟨S2048x7x1, .i1⟩
  | 37 => ⟨S_, .i32⟩
  | 38 => ⟨S2048x7x1, .i32⟩
  | 39 => ⟨S2048x7x1, .i32⟩
  | 40 => ⟨S2048x7x1, .i32⟩
  | 41 => ⟨S_, .i32⟩
  | 42 => ⟨S2048x1x7, .i32⟩
  | 43 => ⟨S2048x1x7, .i1⟩
  | 44 => ⟨S_, .i32⟩
  | 45 => ⟨S2048x1x7, .i32⟩
  | 46 => ⟨S2048x1x7, .i32⟩
  | 47 => ⟨S2048x1x7, .i32⟩
  | 48 => ⟨S2048x7x7, .i32⟩
  | 49 => ⟨S2048x7x7, .i32⟩
  | 50 => ⟨S2048x7x7, .i32⟩
  | 51 => ⟨S2048x7x7x1, .i32⟩
  | 52 => ⟨S2048x7x7x1, .i32⟩
  | 53 => ⟨S2048x7x7x1, .i32⟩
  | 54 => ⟨S2048x7x7x3, .i32⟩
  | 55 => ⟨S2048x7x7x256, .f32⟩
  | 56 => ⟨S2048x7x7x256, .f32⟩
  | 57 => ⟨S2048x7x7x256, .f32⟩
  | 58 => ⟨S_, .f32⟩
  | 59 => ⟨S2048x7x1x1, .f32⟩
  | 60 => ⟨S2048x7x1x1, .f32⟩
  | 61 => ⟨S2048x7x7x1, .f32⟩
  | 62 => ⟨S2048x7x7x1, .f32⟩
  | 63 => ⟨S2048x7x7x1, .f32⟩
  | 64 => ⟨S2048x1x1, .i32⟩
  | 65 => ⟨S2048x7x1, .i32⟩
  | 66 => ⟨S2048x1x7, .i32⟩
  | 67 => ⟨S_, .i32⟩
  | 68 => ⟨S2048x1x1, .i32⟩
  | 69 => ⟨S2048x1x1, .i1⟩
  | 70 => ⟨S_, .i32⟩
  | 71 => ⟨S2048x1x1, .i32⟩
  | 72 => ⟨S2048x1x1, .i32⟩
  | 73 => ⟨S2048x1x1, .i32⟩
  | 74 => ⟨S_, .i32⟩
  | 75 => ⟨S2048x7x1, .i32⟩
  | 76 => ⟨S2048x7x1, .i1⟩
  | 77 => ⟨S_, .i32⟩
  | 78 => ⟨S2048x7x1, .i32⟩
  | 79 => ⟨S2048x7x1, .i32⟩
  | 80 => ⟨S2048x7x1, .i32⟩
  | 81 => ⟨S_, .i32⟩
  | 82 => ⟨S2048x1x7, .i32⟩
  | 83 => ⟨S2048x1x7, .i1⟩
  | 84 => ⟨S_, .i32⟩
  | 85 => ⟨S2048x1x7, .i32⟩
  | 86 => ⟨S2048x1x7, .i32⟩
  | 87 => ⟨S2048x1x7, .i32⟩
  | 88 => ⟨S2048x7x7, .i32⟩
  | 89 => ⟨S2048x7x7, .i32⟩
  | 90 => ⟨S2048x7x7, .i32⟩
  | 91 => ⟨S2048x7x7x1, .i32⟩
  | 92 => ⟨S2048x7x7x1, .i32⟩
  | 93 => ⟨S2048x7x7x1, .i32⟩
  | 94 => ⟨S2048x7x7x3, .i32⟩
  | 95 => ⟨S2048x7x7x256, .f32⟩
  | 96 => ⟨S2048x7x7x256, .f32⟩
  | 97 => ⟨S2048x7x7x256, .f32⟩
  | 98 => ⟨S2048x7x7x256, .f32⟩
  | 99 => ⟨S_, .f32⟩
  | 100 => ⟨S2048x1x7x1, .f32⟩
  | 101 => ⟨S2048x1x7x1, .f32⟩
  | 102 => ⟨S2048x7x7x1, .f32⟩
  | 103 => ⟨S2048x7x7x1, .f32⟩
  | 104 => ⟨S2048x7x7x1, .f32⟩
  | 105 => ⟨S2048x1x1, .i32⟩
  | 106 => ⟨S2048x7x1, .i32⟩
  | 107 => ⟨S2048x1x7, .i32⟩
  | 108 => ⟨S_, .i32⟩
  | 109 => ⟨S2048x1x1, .i32⟩
  | 110 => ⟨S2048x1x1, .i1⟩
  | 111 => ⟨S_, .i32⟩
  | 112 => ⟨S2048x1x1, .i32⟩
  | 113 => ⟨S2048x1x1, .i32⟩
  | 114 => ⟨S2048x1x1, .i32⟩
  | 115 => ⟨S_, .i32⟩
  | 116 => ⟨S2048x7x1, .i32⟩
  | 117 => ⟨S2048x7x1, .i1⟩
  | 118 => ⟨S_, .i32⟩
  | 119 => ⟨S2048x7x1, .i32⟩
  | 120 => ⟨S2048x7x1, .i32⟩
  | 121 => ⟨S2048x7x1, .i32⟩
  | 122 => ⟨S_, .i32⟩
  | 123 => ⟨S2048x1x7, .i32⟩
  | 124 => ⟨S2048x1x7, .i1⟩
  | 125 => ⟨S_, .i32⟩
  | 126 => ⟨S2048x1x7, .i32⟩
  | 127 => ⟨S2048x1x7, .i32⟩
  | _ => ⟨S8x256x200x200, .f32⟩

abbrev hbmTy0_2 (i : Nat) : BufTy := match i % 128 with
  | 0 => ⟨S2048x1x7, .i32⟩
  | 1 => ⟨S2048x7x7, .i32⟩
  | 2 => ⟨S2048x7x7, .i32⟩
  | 3 => ⟨S2048x7x7, .i32⟩
  | 4 => ⟨S2048x7x7x1, .i32⟩
  | 5 => ⟨S2048x7x7x1, .i32⟩
  | 6 => ⟨S2048x7x7x1, .i32⟩
  | 7 => ⟨S2048x7x7x3, .i32⟩
  | 8 => ⟨S2048x7x7x256, .f32⟩
  | 9 => ⟨S2048x7x7x256, .f32⟩
  | 10 => ⟨S2048x7x7x256, .f32⟩
  | 11 => ⟨S2048x7x7x256, .f32⟩
  | 12 => ⟨S2048x7x7x1, .f32⟩
  | 13 => ⟨S2048x7x7x1, .f32⟩
  | 14 => ⟨S2048x7x7x1, .f32⟩
  | 15 => ⟨S2048x1x1, .i32⟩
  | 16 => ⟨S2048x7x1, .i32⟩
  | 17 => ⟨S2048x1x7, .i32⟩
  | 18 => ⟨S_, .i32⟩
  | 19 => ⟨S2048x1x1, .i32⟩
  | 20 => ⟨S2048x1x1, .i1⟩
  | 21 => ⟨S_, .i32⟩
  | 22 => ⟨S2048x1x1, .i32⟩
  | 23 => ⟨S2048x1x1, .i32⟩
  | 24 => ⟨S2048x1x1, .i32⟩
  | 25 => ⟨S_, .i32⟩
  | 26 => ⟨S2048x7x1, .i32⟩
  | 27 => ⟨S2048x7x1, .i1⟩
  | 28 => ⟨S_, .i32⟩
  | 29 => ⟨S2048x7x1, .i32⟩
  | 30 => ⟨S2048x7x1, .i32⟩
  | 31 => ⟨S2048x7x1, .i32⟩
  | 32 => ⟨S_, .i32⟩
  | 33 => ⟨S2048x1x7, .i32⟩
  | 34 => ⟨S2048x1x7, .i1⟩
  | 35 => ⟨S_, .i32⟩
  | 36 => ⟨S2048x1x7, .i32⟩
  | 37 => ⟨S2048x1x7, .i32⟩
  | 38 => ⟨S2048x1x7, .i32⟩
  | 39 => ⟨S2048x7x7, .i32⟩
  | 40 => ⟨S2048x7x7, .i32⟩
  | 41 => ⟨S2048x7x7, .i32⟩
  | 42 => ⟨S2048x7x7x1, .i32⟩
  | 43 => ⟨S2048x7x7x1, .i32⟩
  | 44 => ⟨S2048x7x7x1, .i32⟩
  | 45 => ⟨S2048x7x7x3, .i32⟩
  | 46 => ⟨S2048x7x7x256, .f32⟩
  | 47 => ⟨S2048x7x7x256, .f32⟩
  | 48 => ⟨S2048x7x7x256, .f32⟩
  | 49 => ⟨S2048x7x7x256, .f32⟩
  | 50 => ⟨S2048x256x7x7, .f32⟩
  | _ => ⟨S8x256x200x200, .f32⟩

abbrev hbmTy (i : Nat) : BufTy := match i / 128 with
  | 0 => hbmTy0_0 i
  | 1 => hbmTy0_1 i
  | 2 => hbmTy0_2 i
  | _ => ⟨S8x256x200x200, .f32⟩

abbrev bufTy : (tb : Table) → Fin (tcTables nBuf tb) → BufTy
  | .hbm, ⟨i, _⟩ => hbmTy i
  | _, _ => ⟨S8x256x200x200, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_c_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c_1 : Ref sig .tc := ⟨.hbm, 15, rfl⟩
abbrev main_c_2 : Ref sig .tc := ⟨.hbm, 16, rfl⟩
abbrev main_call1_v0 : Ref sig .tc := ⟨.hbm, 17, rfl⟩
abbrev main_call1_v1 : Ref sig .tc := ⟨.hbm, 18, rfl⟩
abbrev main_call1_v2 : Ref sig .tc := ⟨.hbm, 19, rfl⟩
abbrev main_call1_v3 : Ref sig .tc := ⟨.hbm, 20, rfl⟩
abbrev main_call1_v4 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_c_3 : Ref sig .tc := ⟨.hbm, 25, rfl⟩
abbrev main_c_4 : Ref sig .tc := ⟨.hbm, 26, rfl⟩
abbrev main_call2_v0 : Ref sig .tc := ⟨.hbm, 27, rfl⟩
abbrev main_call2_v1 : Ref sig .tc := ⟨.hbm, 28, rfl⟩
abbrev main_call2_v2 : Ref sig .tc := ⟨.hbm, 29, rfl⟩
abbrev main_call2_v3 : Ref sig .tc := ⟨.hbm, 30, rfl⟩
abbrev main_call2_v4 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_c_5 : Ref sig .tc := ⟨.hbm, 35, rfl⟩
abbrev main_c_6 : Ref sig .tc := ⟨.hbm, 36, rfl⟩
abbrev main_call3_v0 : Ref sig .tc := ⟨.hbm, 37, rfl⟩
abbrev main_call3_v1 : Ref sig .tc := ⟨.hbm, 38, rfl⟩
abbrev main_call3_v2 : Ref sig .tc := ⟨.hbm, 39, rfl⟩
abbrev main_call3_v3 : Ref sig .tc := ⟨.hbm, 40, rfl⟩
abbrev main_call3_v4 : Ref sig .tc := ⟨.hbm, 41, rfl⟩
abbrev main_v12 : Ref sig .tc := ⟨.hbm, 42, rfl⟩
abbrev main_v13 : Ref sig .tc := ⟨.hbm, 43, rfl⟩
abbrev main_c_7 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_c_8 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_cst : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_cst_9 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_cst_10 : Ref sig .tc := ⟨.hbm, 64, rfl⟩
abbrev main_v30 : Ref sig .tc := ⟨.hbm, 65, rfl⟩
abbrev main_v31 : Ref sig .tc := ⟨.hbm, 66, rfl⟩
abbrev main_cst_11 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_cst_12 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_cst_13 : Ref sig .tc := ⟨.hbm, 79, rfl⟩
abbrev main_v42 : Ref sig .tc := ⟨.hbm, 80, rfl⟩
abbrev main_v43 : Ref sig .tc := ⟨.hbm, 81, rfl⟩
abbrev main_cst_14 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_c_15 : Ref sig .tc := ⟨.hbm, 91, rfl⟩
abbrev main_v52 : Ref sig .tc := ⟨.hbm, 92, rfl⟩
abbrev main_v53 : Ref sig .tc := ⟨.hbm, 93, rfl⟩
abbrev main_c_16 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_c_17 : Ref sig .tc := ⟨.hbm, 100, rfl⟩
abbrev main_v59 : Ref sig .tc := ⟨.hbm, 101, rfl⟩
abbrev main_v60 : Ref sig .tc := ⟨.hbm, 102, rfl⟩
abbrev main_c_18 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_c_19 : Ref sig .tc := ⟨.hbm, 122, rfl⟩
abbrev main_call4_v0 : Ref sig .tc := ⟨.hbm, 123, rfl⟩
abbrev main_call4_v1 : Ref sig .tc := ⟨.hbm, 124, rfl⟩
abbrev main_call4_v2 : Ref sig .tc := ⟨.hbm, 125, rfl⟩
abbrev main_call4_v3 : Ref sig .tc := ⟨.hbm, 126, rfl⟩
abbrev main_call4_v4 : Ref sig .tc := ⟨.hbm, 127, rfl⟩
abbrev main_call4_v5 : Ref sig .tc := ⟨.hbm, 128, rfl⟩
abbrev main_call4_v6 : Ref sig .tc := ⟨.hbm, 129, rfl⟩
abbrev main_call4_v7 : Ref sig .tc := ⟨.hbm, 130, rfl⟩
abbrev main_call4_v8 : Ref sig .tc := ⟨.hbm, 131, rfl⟩
abbrev main_call4_c : Ref sig .tc := ⟨.hbm, 132, rfl⟩
abbrev main_call4_v9 : Ref sig .tc := ⟨.hbm, 133, rfl⟩
abbrev main_call4_v10 : Ref sig .tc := ⟨.hbm, 134, rfl⟩
abbrev main_call4_v11 : Ref sig .tc := ⟨.hbm, 135, rfl⟩
abbrev main_call4_c_0 : Ref sig .tc := ⟨.hbm, 136, rfl⟩
abbrev main_call4_v12 : Ref sig .tc := ⟨.hbm, 137, rfl⟩
abbrev main_call4_v13 : Ref sig .tc := ⟨.hbm, 138, rfl⟩
abbrev main_v79 : Ref sig .tc := ⟨.hbm, 139, rfl⟩
abbrev main_v80 : Ref sig .tc := ⟨.hbm, 140, rfl⟩
abbrev main_v81 : Ref sig .tc := ⟨.hbm, 141, rfl⟩
abbrev main_v82 : Ref sig .tc := ⟨.hbm, 142, rfl⟩
abbrev main_cst_20 : Ref sig .tc := ⟨.hbm, 143, rfl⟩
abbrev main_v83 : Ref sig .tc := ⟨.hbm, 144, rfl⟩
abbrev main_v84 : Ref sig .tc := ⟨.hbm, 145, rfl⟩
abbrev main_cst_21 : Ref sig .tc := ⟨.hbm, 146, rfl⟩
abbrev main_v85 : Ref sig .tc := ⟨.hbm, 147, rfl⟩
abbrev main_v86 : Ref sig .tc := ⟨.hbm, 148, rfl⟩
abbrev main_v87 : Ref sig .tc := ⟨.hbm, 149, rfl⟩
abbrev main_v88 : Ref sig .tc := ⟨.hbm, 150, rfl⟩
abbrev main_v89 : Ref sig .tc := ⟨.hbm, 151, rfl⟩
abbrev main_v90 : Ref sig .tc := ⟨.hbm, 152, rfl⟩
abbrev main_v91 : Ref sig .tc := ⟨.hbm, 153, rfl⟩
abbrev main_v92 : Ref sig .tc := ⟨.hbm, 154, rfl⟩
abbrev main_c_22 : Ref sig .tc := ⟨.hbm, 155, rfl⟩
abbrev main_v93 : Ref sig .tc := ⟨.hbm, 156, rfl⟩
abbrev main_v94 : Ref sig .tc := ⟨.hbm, 157, rfl⟩
abbrev main_c_23 : Ref sig .tc := ⟨.hbm, 158, rfl⟩
abbrev main_v95 : Ref sig .tc := ⟨.hbm, 159, rfl⟩
abbrev main_v96 : Ref sig .tc := ⟨.hbm, 160, rfl⟩
abbrev main_v97 : Ref sig .tc := ⟨.hbm, 161, rfl⟩
abbrev main_c_24 : Ref sig .tc := ⟨.hbm, 162, rfl⟩
abbrev main_v98 : Ref sig .tc := ⟨.hbm, 163, rfl⟩
abbrev main_v99 : Ref sig .tc := ⟨.hbm, 164, rfl⟩
abbrev main_c_25 : Ref sig .tc := ⟨.hbm, 165, rfl⟩
abbrev main_v100 : Ref sig .tc := ⟨.hbm, 166, rfl⟩
abbrev main_v101 : Ref sig .tc := ⟨.hbm, 167, rfl⟩
abbrev main_v102 : Ref sig .tc := ⟨.hbm, 168, rfl⟩
abbrev main_c_26 : Ref sig .tc := ⟨.hbm, 169, rfl⟩
abbrev main_v103 : Ref sig .tc := ⟨.hbm, 170, rfl⟩
abbrev main_v104 : Ref sig .tc := ⟨.hbm, 171, rfl⟩
abbrev main_c_27 : Ref sig .tc := ⟨.hbm, 172, rfl⟩
abbrev main_v105 : Ref sig .tc := ⟨.hbm, 173, rfl⟩
abbrev main_v106 : Ref sig .tc := ⟨.hbm, 174, rfl⟩
abbrev main_v107 : Ref sig .tc := ⟨.hbm, 175, rfl⟩
abbrev main_v108 : Ref sig .tc := ⟨.hbm, 176, rfl⟩
abbrev main_v109 : Ref sig .tc := ⟨.hbm, 177, rfl⟩
abbrev main_v110 : Ref sig .tc := ⟨.hbm, 178, rfl⟩
abbrev main_v111 : Ref sig .tc := ⟨.hbm, 179, rfl⟩
abbrev main_v112 : Ref sig .tc := ⟨.hbm, 180, rfl⟩
abbrev main_v113 : Ref sig .tc := ⟨.hbm, 181, rfl⟩
abbrev main_v114 : Ref sig .tc := ⟨.hbm, 182, rfl⟩
abbrev main_v115 : Ref sig .tc := ⟨.hbm, 183, rfl⟩
abbrev main_v116 : Ref sig .tc := ⟨.hbm, 184, rfl⟩
abbrev main_v117 : Ref sig .tc := ⟨.hbm, 185, rfl⟩
abbrev main_cst_28 : Ref sig .tc := ⟨.hbm, 186, rfl⟩
abbrev main_v118 : Ref sig .tc := ⟨.hbm, 187, rfl⟩
abbrev main_v119 : Ref sig .tc := ⟨.hbm, 188, rfl⟩
abbrev main_v120 : Ref sig .tc := ⟨.hbm, 189, rfl⟩
abbrev main_v121 : Ref sig .tc := ⟨.hbm, 190, rfl⟩
abbrev main_v122 : Ref sig .tc := ⟨.hbm, 191, rfl⟩
abbrev main_v123 : Ref sig .tc := ⟨.hbm, 192, rfl⟩
abbrev main_v124 : Ref sig .tc := ⟨.hbm, 193, rfl⟩
abbrev main_v125 : Ref sig .tc := ⟨.hbm, 194, rfl⟩
abbrev main_c_29 : Ref sig .tc := ⟨.hbm, 195, rfl⟩
abbrev main_v126 : Ref sig .tc := ⟨.hbm, 196, rfl⟩
abbrev main_v127 : Ref sig .tc := ⟨.hbm, 197, rfl⟩
abbrev main_c_30 : Ref sig .tc := ⟨.hbm, 198, rfl⟩
abbrev main_v128 : Ref sig .tc := ⟨.hbm, 199, rfl⟩
abbrev main_v129 : Ref sig .tc := ⟨.hbm, 200, rfl⟩
abbrev main_v130 : Ref sig .tc := ⟨.hbm, 201, rfl⟩
abbrev main_c_31 : Ref sig .tc := ⟨.hbm, 202, rfl⟩
abbrev main_v131 : Ref sig .tc := ⟨.hbm, 203, rfl⟩
abbrev main_v132 : Ref sig .tc := ⟨.hbm, 204, rfl⟩
abbrev main_c_32 : Ref sig .tc := ⟨.hbm, 205, rfl⟩
abbrev main_v133 : Ref sig .tc := ⟨.hbm, 206, rfl⟩
abbrev main_v134 : Ref sig .tc := ⟨.hbm, 207, rfl⟩
abbrev main_v135 : Ref sig .tc := ⟨.hbm, 208, rfl⟩
abbrev main_c_33 : Ref sig .tc := ⟨.hbm, 209, rfl⟩
abbrev main_v136 : Ref sig .tc := ⟨.hbm, 210, rfl⟩
abbrev main_v137 : Ref sig .tc := ⟨.hbm, 211, rfl⟩
abbrev main_c_34 : Ref sig .tc := ⟨.hbm, 212, rfl⟩
abbrev main_v138 : Ref sig .tc := ⟨.hbm, 213, rfl⟩
abbrev main_v139 : Ref sig .tc := ⟨.hbm, 214, rfl⟩
abbrev main_v140 : Ref sig .tc := ⟨.hbm, 215, rfl⟩
abbrev main_v141 : Ref sig .tc := ⟨.hbm, 216, rfl⟩
abbrev main_v142 : Ref sig .tc := ⟨.hbm, 217, rfl⟩
abbrev main_v143 : Ref sig .tc := ⟨.hbm, 218, rfl⟩
abbrev main_v144 : Ref sig .tc := ⟨.hbm, 219, rfl⟩
abbrev main_v145 : Ref sig .tc := ⟨.hbm, 220, rfl⟩
abbrev main_v146 : Ref sig .tc := ⟨.hbm, 221, rfl⟩
abbrev main_v147 : Ref sig .tc := ⟨.hbm, 222, rfl⟩
abbrev main_v148 : Ref sig .tc := ⟨.hbm, 223, rfl⟩
abbrev main_v149 : Ref sig .tc := ⟨.hbm, 224, rfl⟩
abbrev main_v150 : Ref sig .tc := ⟨.hbm, 225, rfl⟩
abbrev main_v151 : Ref sig .tc := ⟨.hbm, 226, rfl⟩
abbrev main_cst_35 : Ref sig .tc := ⟨.hbm, 227, rfl⟩
abbrev main_v152 : Ref sig .tc := ⟨.hbm, 228, rfl⟩
abbrev main_v153 : Ref sig .tc := ⟨.hbm, 229, rfl⟩
abbrev main_v154 : Ref sig .tc := ⟨.hbm, 230, rfl⟩
abbrev main_v155 : Ref sig .tc := ⟨.hbm, 231, rfl⟩
abbrev main_v156 : Ref sig .tc := ⟨.hbm, 232, rfl⟩
abbrev main_v157 : Ref sig .tc := ⟨.hbm, 233, rfl⟩
abbrev main_v158 : Ref sig .tc := ⟨.hbm, 234, rfl⟩
abbrev main_v159 : Ref sig .tc := ⟨.hbm, 235, rfl⟩
abbrev main_c_36 : Ref sig .tc := ⟨.hbm, 236, rfl⟩
abbrev main_v160 : Ref sig .tc := ⟨.hbm, 237, rfl⟩
abbrev main_v161 : Ref sig .tc := ⟨.hbm, 238, rfl⟩
abbrev main_c_37 : Ref sig .tc := ⟨.hbm, 239, rfl⟩
abbrev main_v162 : Ref sig .tc := ⟨.hbm, 240, rfl⟩
abbrev main_v163 : Ref sig .tc := ⟨.hbm, 241, rfl⟩
abbrev main_v164 : Ref sig .tc := ⟨.hbm, 242, rfl⟩
abbrev main_c_38 : Ref sig .tc := ⟨.hbm, 243, rfl⟩
abbrev main_v165 : Ref sig .tc := ⟨.hbm, 244, rfl⟩
abbrev main_v166 : Ref sig .tc := ⟨.hbm, 245, rfl⟩
abbrev main_c_39 : Ref sig .tc := ⟨.hbm, 246, rfl⟩
abbrev main_v167 : Ref sig .tc := ⟨.hbm, 247, rfl⟩
abbrev main_v168 : Ref sig .tc := ⟨.hbm, 248, rfl⟩
abbrev main_v169 : Ref sig .tc := ⟨.hbm, 249, rfl⟩
abbrev main_c_40 : Ref sig .tc := ⟨.hbm, 250, rfl⟩
abbrev main_v170 : Ref sig .tc := ⟨.hbm, 251, rfl⟩
abbrev main_v171 : Ref sig .tc := ⟨.hbm, 252, rfl⟩
abbrev main_c_41 : Ref sig .tc := ⟨.hbm, 253, rfl⟩
abbrev main_v172 : Ref sig .tc := ⟨.hbm, 254, rfl⟩
abbrev main_v173 : Ref sig .tc := ⟨.hbm, 255, rfl⟩
abbrev main_v174 : Ref sig .tc := ⟨.hbm, 256, rfl⟩
abbrev main_v175 : Ref sig .tc := ⟨.hbm, 257, rfl⟩
abbrev main_v176 : Ref sig .tc := ⟨.hbm, 258, rfl⟩
abbrev main_v177 : Ref sig .tc := ⟨.hbm, 259, rfl⟩
abbrev main_v178 : Ref sig .tc := ⟨.hbm, 260, rfl⟩
abbrev main_v179 : Ref sig .tc := ⟨.hbm, 261, rfl⟩
abbrev main_v180 : Ref sig .tc := ⟨.hbm, 262, rfl⟩
abbrev main_v181 : Ref sig .tc := ⟨.hbm, 263, rfl⟩
abbrev main_v182 : Ref sig .tc := ⟨.hbm, 264, rfl⟩
abbrev main_v183 : Ref sig .tc := ⟨.hbm, 265, rfl⟩
abbrev main_v184 : Ref sig .tc := ⟨.hbm, 266, rfl⟩
abbrev main_v185 : Ref sig .tc := ⟨.hbm, 267, rfl⟩
abbrev main_v186 : Ref sig .tc := ⟨.hbm, 268, rfl⟩
abbrev main_v187 : Ref sig .tc := ⟨.hbm, 269, rfl⟩
abbrev main_v188 : Ref sig .tc := ⟨.hbm, 270, rfl⟩
abbrev main_v189 : Ref sig .tc := ⟨.hbm, 271, rfl⟩
abbrev main_v190 : Ref sig .tc := ⟨.hbm, 272, rfl⟩
abbrev main_v191 : Ref sig .tc := ⟨.hbm, 273, rfl⟩
abbrev main_c_42 : Ref sig .tc := ⟨.hbm, 274, rfl⟩
abbrev main_v192 : Ref sig .tc := ⟨.hbm, 275, rfl⟩
abbrev main_v193 : Ref sig .tc := ⟨.hbm, 276, rfl⟩
abbrev main_c_43 : Ref sig .tc := ⟨.hbm, 277, rfl⟩
abbrev main_v194 : Ref sig .tc := ⟨.hbm, 278, rfl⟩
abbrev main_v195 : Ref sig .tc := ⟨.hbm, 279, rfl⟩
abbrev main_v196 : Ref sig .tc := ⟨.hbm, 280, rfl⟩
abbrev main_c_44 : Ref sig .tc := ⟨.hbm, 281, rfl⟩
abbrev main_v197 : Ref sig .tc := ⟨.hbm, 282, rfl⟩
abbrev main_v198 : Ref sig .tc := ⟨.hbm, 283, rfl⟩
abbrev main_c_45 : Ref sig .tc := ⟨.hbm, 284, rfl⟩
abbrev main_v199 : Ref sig .tc := ⟨.hbm, 285, rfl⟩
abbrev main_v200 : Ref sig .tc := ⟨.hbm, 286, rfl⟩
abbrev main_v201 : Ref sig .tc := ⟨.hbm, 287, rfl⟩
abbrev main_c_46 : Ref sig .tc := ⟨.hbm, 288, rfl⟩
abbrev main_v202 : Ref sig .tc := ⟨.hbm, 289, rfl⟩
abbrev main_v203 : Ref sig .tc := ⟨.hbm, 290, rfl⟩
abbrev main_c_47 : Ref sig .tc := ⟨.hbm, 291, rfl⟩
abbrev main_v204 : Ref sig .tc := ⟨.hbm, 292, rfl⟩
abbrev main_v205 : Ref sig .tc := ⟨.hbm, 293, rfl⟩
abbrev main_v206 : Ref sig .tc := ⟨.hbm, 294, rfl⟩
abbrev main_v207 : Ref sig .tc := ⟨.hbm, 295, rfl⟩
abbrev main_v208 : Ref sig .tc := ⟨.hbm, 296, rfl⟩
abbrev main_v209 : Ref sig .tc := ⟨.hbm, 297, rfl⟩
abbrev main_v210 : Ref sig .tc := ⟨.hbm, 298, rfl⟩
abbrev main_v211 : Ref sig .tc := ⟨.hbm, 299, rfl⟩
abbrev main_v212 : Ref sig .tc := ⟨.hbm, 300, rfl⟩
abbrev main_v213 : Ref sig .tc := ⟨.hbm, 301, rfl⟩
abbrev main_v214 : Ref sig .tc := ⟨.hbm, 302, rfl⟩
abbrev main_v215 : Ref sig .tc := ⟨.hbm, 303, rfl⟩
abbrev main_v216 : Ref sig .tc := ⟨.hbm, 304, rfl⟩
abbrev main_v217 : Ref sig .tc := ⟨.hbm, 305, rfl⟩
abbrev main_v218 : Ref sig .tc := ⟨.hbm, 306, rfl⟩

abbrev nD : Nat := 1
abbrev τ : Topo := Topo.v7x

variable {F : FTy → Type} [FloatOps F]
-- ==== Proof.Trip.lean ====
/- One trip of the kernel's loop, written over its eight boxes, seven rows and seven columns instead of line by line, and that
   the printed trip is this one. -/
module

public import proofs.«01_k».proof.Proof.Gen.KernelIdeal
public import Idealize.ShloMosaic.Lib.Pipeline.Kit
public import Idealize.ShloMosaic.Lib.Pipeline.Regions

@[expose] public section

noncomputable section

namespace Cert.Roi

open Cert.KernelIdeal Cert.KernelIdeal.Facts₀ Cert.KernelIdeal.Facts
open Idealize.ShloMosaic Idealize.ShloMosaic.TcCoe
open Idealize.SL Idealize.SL.Sem

variable {F : FTy → Type} [FloatOps F]

attribute [local instance] Cert.KernelIdeal.Gen.facts

/-- A program of the kernel's core. -/
abbrev Run (F : FTy → Type) [FloatOps F] (α : Type) : Type 1 := Prog (TpuEff nD τ sig (Elt F) Λ₀ Proc.tc) α

/-- A coordinate of a box cut to the rows (or columns) of the feature map. -/
def cut (v : BitVec 32) : BitVec 32 := Scalar.minsi 199#32 (Scalar.maxsi 0#32 v)

/-- The half-integers 1/2, 3/2, …, 13/2 as words. -/
def halfWord : Fin 7 → BitVec 32
  | 0 => 0x3F000000#32
  | 1 => 0x3FC00000#32
  | 2 => 0x40200000#32
  | 3 => 0x40600000#32
  | 4 => 0x40900000#32
  | 5 => 0x40B00000#32
  | 6 => 0x40D00000#32

/-- A seventh of the side of a box whose cut corners on this axis are `lo` and `hi`. -/
def seventh (lo hi : BitVec 32) : F .f32 :=
  Scalar.divf (Scalar.sitofp .f32 (Scalar.addi (Scalar.subi hi lo) 1#32)) (Scalar.ofBits .f32 0x40E00000#32)

/-- Where sample `k` of a side falls, from the corner, never before it. -/
def place (k : Fin 7) (s : F .f32) : F .f32 :=
  Scalar.maximumf (Scalar.subf (Scalar.mulf (Scalar.ofBits .f32 (halfWord k)) s) (Scalar.ofBits .f32 0x3F000000#32))
    (Scalar.ofBits .f32 0x00000000#32)

/-- The fractional part of that place. -/
def part (k : Fin 7) (s : F .f32) : F .f32 := Scalar.subf (place k s) (Scalar.floor (place k s))

/-- Its whole part, an integer word. -/
def whole (k : Fin 7) (s : F .f32) : BitVec 32 := Scalar.fptosi 32 (Scalar.floor (place k s))

/-- The first column of the aligned window of sixteen that holds column `v`. -/
def align (v : BitVec 32) : BitVec 32 := Scalar.shli (Scalar.shrsi v 3#32) 3#32

/-- Where the window of sixteen columns on the upper row starts. -/
def upper (x1 y1 fy fx : BitVec 32) : Fin 3 → Nat :=
  ![(Scalar.addi (cut y1) fy).toNat, (align (Scalar.addi (cut x1) fx)).toNat, 0]

/-- Where the window of sixteen columns on the lower row starts. -/
def lower (x1 y1 y2 fy fx : BitVec 32) : Fin 3 → Nat :=
  ![(Scalar.minsi (Scalar.addi (Scalar.addi (cut y1) fy) 1#32) (cut y2)).toNat, (align (Scalar.addi (cut x1) fx)).toNat, 0]

/-- What the kernel assumes of one column of samples: every window it reads there lies in the feature map's copy. -/
abbrev Chk (x1 y1 y2 : BitVec 32) (fy : Fin 7 → BitVec 32) (fx : BitVec 32) : Prop :=
  k0_chk1 x1 y1 y2 (fy 0) (fy 1) (fy 2) (fy 3) (fy 4) (fy 5) (fy 6) fx

theorem upper_inb {x1 y1 y2 : BitVec 32} {fy : Fin 7 → BitVec 32} {fx : BitVec 32} (h : Chk x1 y1 y2 fy fx) (i : Fin 7) :
    ∀ a, upper x1 y1 (fy i) fx a + S1x16x256.size a ≤ S200x216x256.size a := by
  obtain ⟨-, h0, -, h1, -, h2, -, h3, -, h4, -, h5, -, h6, -⟩ := h
  match i with
  | 0 => exact h0
  | 1 => exact h1
  | 2 => exact h2
  | 3 => exact h3
  | 4 => exact h4
  | 5 => exact h5
  | 6 => exact h6

theorem lower_inb {x1 y1 y2 : BitVec 32} {fy : Fin 7 → BitVec 32} {fx : BitVec 32} (h : Chk x1 y1 y2 fy fx) (i : Fin 7) :
    ∀ a, lower x1 y1 y2 (fy i) fx a + S1x16x256.size a ≤ S200x216x256.size a := by
  obtain ⟨-, -, h0, -, h1, -, h2, -, h3, -, h4, -, h5, -, h6⟩ := h
  match i with
  | 0 => exact h0
  | 1 => exact h1
  | 2 => exact h2
  | 3 => exact h3
  | 4 => exact h4
  | 5 => exact h5
  | 6 => exact h6

/-- The row of the output block that box `u` of trip `t` writes. -/
def boxRow (t : Fin k0_t1_loop.trips) (u : Fin 8) : BitVec 32 :=
  Scalar.addi (Scalar.muli (Scf.iv 0#32 1#32 t) 8#32) (BitVec.ofNat 32 u.val)

theorem trips_eq : k0_t1_loop.trips = 4 := by decide

theorem boxRow_toNat : ∀ (t : Fin k0_t1_loop.trips) (u : Fin 8), (boxRow t u).toNat = t.val * 8 + u.val := by
  decide +kernel

/-- The address of word `c` of box `u` of trip `t` at grid point `i`. -/
def wordAt (i : grid0.Coords) (t : Fin k0_t1_loop.trips) (u : Fin 8) (c : Fin 4) : Fin 1 → Nat :=
  ![(Scalar.addi (Scalar.muli (Scalar.addi (Scalar.addi (Scalar.muli (BitVec.ofNat 32 (i 0).val) 256#32)
      (Scalar.muli (BitVec.ofNat 32 (i 1).val) 32#32)) (boxRow t u)) 4#32) (BitVec.ofNat 32 c.val)).toNat]

theorem wordAt_eq (i : grid0.Coords) (t : Fin k0_t1_loop.trips) (u : Fin 8) (c : Fin 4) :
    wordAt i t u c 0 = (((i 0).val * 256 + (i 1).val * 32) + (t.val * 8 + u.val)) * 4 + c.val := by
  have h0 : (i 0).val < 8 := (i 0).isLt
  have h1 : (i 1).val < 8 := (i 1).isLt
  have ht : t.val < 4 := trips_eq ▸ t.isLt
  have hr := boxRow_toNat t u
  simp only [wordAt, Scalar.addi, Scalar.muli, Matrix.cons_val_zero]
  simp only [IntOp.addi, IntOp.muli, BitVec.toNat_add, BitVec.toNat_mul, BitVec.toNat_ofNat, hr]
  omega

theorem wordAt_inb (i : grid0.Coords) (t : Fin k0_t1_loop.trips) (u : Fin 8) (c : Fin 4) :
    ∀ a, wordAt i t u c a + S1.size a ≤ S8192.size a := by
  intro a
  have h0 : (i 0).val < 8 := (i 0).isLt
  have h1 : (i 1).val < 8 := (i 1).isLt
  have ht : t.val < 4 := trips_eq ▸ t.isLt
  have e := wordAt_eq i t u c
  fin_cases a
  show wordAt i t u c 0 + 1 ≤ 8192
  omega

/-- Where cell (`i`, `j`) of that box is written. -/
def outAt (t : Fin k0_t1_loop.trips) (u : Fin 8) (i j : Fin 7) : Fin 3 → Nat :=
  ![i.val * 7 + j.val, (boxRow t u).toNat, 0]

theorem outAt_inb (t : Fin k0_t1_loop.trips) (u : Fin 8) (i j : Fin 7) :
    ∀ a, outAt t u i j a + S1x1x256.size a ≤ S49x32x256.size a := by
  intro a
  have ht : t.val < 4 := trips_eq ▸ t.isLt
  have e := boxRow_toNat t u
  fin_cases a
  · show i.val * 7 + j.val + 1 ≤ 49; omega
  · show (boxRow t u).toNat + 1 ≤ 32; omega
  · show 0 + 256 ≤ 256; omega

/-- The blend of the two rows read, the windows `a` and `b`, at weight `wy`, before the rotation. -/
def blendRows (wy : F .f32) (a b : Vec F S1x16x256 .f32) : FVec F S16x256 .f32 :=
  addf (mulf (broadcast S16x256 (Scalar.subf (Scalar.ofBits .f32 0x3F800000#32) wy)) (shapeCast S16x256 a shapeCasts_S1x16x256_S16x256))
    (mulf (broadcast S16x256 wy) (shapeCast S16x256 b shapeCasts_S1x16x256_S16x256))

/-- The blend of the first two columns of the rotated rows `r`, at weight `wx`. -/
def blendCols (wx : F .f32) (r : FVec F S16x256 .f32) : FVec F S256 .f32 :=
  addf (mulf (broadcast S256 (Scalar.subf (Scalar.ofBits .f32 0x3F800000#32) wx))
      (shapeCast S256 (extractStridedSlice S1x256 ![0, 0] r slices_S16x256_o0_0_S1x256) shapeCasts_S1x256_S256))
    (mulf (broadcast S256 wx)
      (shapeCast S256 (extractStridedSlice S1x256 ![1, 0] r slices_S16x256_o1_0_S1x256) shapeCasts_S1x256_S256))

/-- What a cell stores: the blend of the windows `a` and `b`, `k` columns in. -/
def cellValue (wy wx : F .f32) (k : BitVec 32) (a b : Vec F S1x16x256 .f32) : FVec F S1x1x256 .f32 :=
  shapeCast S1x1x256 (blendCols wx (dynamicRotate 0 (Scalar.subi 0#32 k) none (blendRows wy a b) rotates_S16x256_d0))
    shapeCasts_S256_S1x1x256

/-- The weight of the right column of a sample: none when the sample's column is the box's last one or beyond. -/
def colWeight (x1 x2 : BitVec 32) (j : Fin 7) (s : F .f32) : F .f32 :=
  Scalar.select (Scalar.cmpi .sge (Scalar.addi (cut x1) (whole j s)) (cut x2)) (Scalar.ofBits .f32 0x00000000#32) (part j s)

/-- One cell: read the two windows, blend, store. -/
def cell (arg4 : Memref sig .tc .vmem S49x32x256 .f32) (arg5 : Memref sig .tc .vmem S200x216x256 .f32)
    (t : Fin k0_t1_loop.trips) (u : Fin 8) (x1 y1 x2 y2 : BitVec 32) (sy sx : F .f32) (i j : Fin 7)
    (h : Chk x1 y1 y2 (fun i => whole i sy) (whole j sx)) : Run F PUnit := do
  let a : Vec F S1x16x256 .f32 ← Prog.lift (.load arg5 (Rect.unit (s := S200x216x256)
    (upper x1 y1 (whole i sy) (whole j sx)) S1x16x256.size (upper_inb h i)).toLoadRect (View.loadsAt_vmem h_S1x16x256))
  let b : Vec F S1x16x256 .f32 ← Prog.lift (.load arg5 (Rect.unit (s := S200x216x256)
    (lower x1 y1 y2 (whole i sy) (whole j sx)) S1x16x256.size (lower_inb h i)).toLoadRect (View.loadsAt_vmem h_S1x16x256))
  let _ : Vec F S1x1x256 .f32 ← Prog.lift (.load arg4 (Rect.unit (s := S49x32x256) (outAt t u i j) S1x1x256.size
    (outAt_inb t u i j)).toLoadRect (View.loadsAt_vmem h_S1x1x256))
  Prog.lift (.store arg4 (Rect.unit (s := S49x32x256) (outAt t u i j) S1x1x256.size (outAt_inb t u i j))
    (cellValue (part i sy) (colWeight x1 x2 j sx) (Scalar.andi (Scalar.addi (cut x1) (whole j sx)) 7#32) a b)
    Finset.univ (View.stores_vmem_bits_univ h_S1x1x256 rfl) (.inl rfl))

/-- Seven programs in a row. -/
def seq7 (f : Fin 7 → Run F PUnit) : Run F PUnit := do f 0; f 1; f 2; f 3; f 4; f 5; f 6

/-- Seven assumed conditions in a row. -/
def ask7 (P : Fin 7 → Prop) (d : ∀ j, Decidable (P j)) : Run F (PLift (∀ j, P j)) := do
  let h0 ← Prog.lift (TpuEff.assume (P 0) (d 0))
  let h1 ← Prog.lift (TpuEff.assume (P 1) (d 1))
  let h2 ← Prog.lift (TpuEff.assume (P 2) (d 2))
  let h3 ← Prog.lift (TpuEff.assume (P 3) (d 3))
  let h4 ← Prog.lift (TpuEff.assume (P 4) (d 4))
  let h5 ← Prog.lift (TpuEff.assume (P 5) (d 5))
  let h6 ← Prog.lift (TpuEff.assume (P 6) (d 6))
  pure ⟨fun | 0 => h0.down | 1 => h1.down | 2 => h2.down | 3 => h3.down | 4 => h4.down | 5 => h5.down | 6 => h6.down⟩

/-- One word of a box. -/
def word (i : grid0.Coords) (arg3 : Memref sig .tc .smem S8192 .i32) (t : Fin k0_t1_loop.trips) (u : Fin 8) (c : Fin 4) :
    Run F (Elt F .i32) :=
  smemLoad arg3 (Rect.unit (s := S8192) (wordAt i t u c) S1.size (wordAt_inb i t u c)) numel1_S1 rfl

/-- The cells of a box whose words are read. -/
def cells (arg4 : Memref sig .tc .vmem S49x32x256 .f32) (arg5 : Memref sig .tc .vmem S200x216x256 .f32)
    (t : Fin k0_t1_loop.trips) (u : Fin 8) (x1 y1 x2 y2 : BitVec 32) (sy sx : F .f32) : Run F PUnit := do
  let h ← ask7 (fun j => Chk x1 y1 y2 (fun i => whole i sy) (whole j sx)) (fun _ => k0_chk1.dec _ _ _ _ _ _ _ _ _ _ _)
  seq7 fun i => seq7 fun j => cell arg4 arg5 t u x1 y1 x2 y2 sy sx i j (h.down j)

/-- One box: its four words, then its cells. -/
def box (i : grid0.Coords) (arg3 : Memref sig .tc .smem S8192 .i32) (arg4 : Memref sig .tc .vmem S49x32x256 .f32)
    (arg5 : Memref sig .tc .vmem S200x216x256 .f32) (t : Fin k0_t1_loop.trips) (u : Fin 8) : Run F PUnit := do
  let x1 ← word i arg3 t u 0
  let y1 ← word i arg3 t u 1
  let x2 ← word i arg3 t u 2
  let y2 ← word i arg3 t u 3
  cells arg4 arg5 t u x1 y1 x2 y2 (seventh (cut y1) (cut y2)) (seventh (cut x1) (cut x2))

/-- One trip: its eight boxes. -/
def trip (i : grid0.Coords) (arg3 : Memref sig .tc .smem S8192 .i32) (arg4 : Memref sig .tc .vmem S49x32x256 .f32)
    (arg5 : Memref sig .tc .vmem S200x216x256 .f32) (t : Fin k0_t1_loop.trips) : Run F PUnit := do
  box i arg3 arg4 arg5 t 0
  box i arg3 arg4 arg5 t 1
  box i arg3 arg4 arg5 t 2
  box i arg3 arg4 arg5 t 3
  box i arg3 arg4 arg5 t 4
  box i arg3 arg4 arg5 t 5
  box i arg3 arg4 arg5 t 6
  box i arg3 arg4 arg5 t 7
  pure ⟨⟩

/-- The copy of an image into the scratch buffer, and the wait for it. -/
def bring (i : grid0.Coords) (arg2 : Memref sig .tc .hbm S8x200x200x256 .f32) (arg5 : Memref sig .tc .vmem S200x216x256 .f32)
    (arg6 : DmaSems sig S_) (h : k0_cond1 i = 1#1) : Run F PUnit := do
  Prog.lift (.enqueueDma ((arg2.slice (Rect.unit (s := S8x200x200x256) (k0_off1 i) S1x200x200x256.size (k0_off1_inb i h)) (fun _ => rfl)).squeeze
      S200x200x256 squeezes_S1x200x200x256_S200x200x256)
    (.here (arg5.slice (Rect.unit (s := S200x216x256) ![0, 0, 0] S200x200x256.size inb_S200x216x256_S200x200x256_0_0_0) (fun _ => rfl)))
    (.dma arg6.sem) ((View.wordExact_bits rfl).reshape _ _) (View.wordExact_bits rfl) ⟨Or.inl rfl, trivial⟩)
  Prog.lift (.waitDma2 arg6.sem ((arg2.slice (Rect.unit (s := S8x200x200x256) (k0_off1 i) S1x200x200x256.size (k0_off1_inb i h)) (fun _ => rfl)).squeeze
      S200x200x256 squeezes_S1x200x200x256_S200x200x256)
    (arg5.slice (Rect.unit (s := S200x216x256) ![0, 0, 0] S200x200x256.size inb_S200x216x256_S200x200x256_0_0_0) (fun _ => rfl))
    ((View.wordExact_bits rfl).reshape _ _) (View.wordExact_bits rfl))

/-- The four trips. -/
def trips (i : grid0.Coords) (arg3 : Memref sig .tc .smem S8192 .i32) (arg4 : Memref sig .tc .vmem S49x32x256 .f32)
    (arg5 : Memref sig .tc .vmem S200x216x256 .f32) : Run F PUnit := do
  let _ ← Scf.Loop.for k0_t1_loop k0_t1_ok ⟨⟩ fun t _ => trip i arg3 arg4 arg5 t
  pure ⟨⟩

/-- The kernel's body: at the first block of an image the copy, then four trips. -/
def body (i : grid0.Coords) (arg2 : Memref sig .tc .hbm S8x200x200x256 .f32) (arg3 : Memref sig .tc .smem S8192 .i32)
    (arg4 : Memref sig .tc .vmem S49x32x256 .f32) (arg5 : Memref sig .tc .vmem S200x216x256 .f32) (arg6 : DmaSems sig S_) :
    Run F PUnit :=
  if h : k0_cond1 i = 1#1 then do
    bring i arg2 arg5 arg6 h
    trips i arg3 arg4 arg5
  else trips i arg3 arg4 arg5

set_option maxRecDepth 100000 in
set_option maxHeartbeats 0 in
/-- The printed kernel is this program. -/
theorem printed_eq (i : grid0.Coords) (arg2 : Memref sig .tc .hbm S8x200x200x256 .f32) (harg2 : arg2.IsWhole)
    (arg3 : Memref sig .tc .smem S8192 .i32) (harg3 : arg3.IsWhole) (arg4 : Memref sig .tc .vmem S49x32x256 .f32) (harg4 : arg4.IsWhole)
    (arg5 : Memref sig .tc .vmem S200x216x256 .f32) (harg5 : arg5.IsWhole) (arg6 : DmaSems sig S_) :
    cc0_roi_align (F := F) i arg2 harg2 arg3 harg3 arg4 harg4 arg5 harg5 arg6 = body i arg2 arg3 arg4 arg5 arg6 := by
  chain_rfl

end Cert.Roi

end
-- ==== Proof.Axis.lean ====
/- One axis of a box over the extended reals: where its seven samples fall, the whole and the fractional part of each, and that
   they stay within the box. -/
module

public import proofs.«01_k».proof.Proof.Trip
public import Idealize.ShloMosaic.Lib.IdealHost

@[expose] public section

noncomputable section

namespace Cert.Roi

open Idealize.ShloMosaic

/-- A word cut to the feature map lies on it. -/
theorem cut_toInt (v : BitVec 32) : 0 ≤ (cut v).toInt ∧ (cut v).toInt ≤ 199 := by
  have h0 : (0#32 : BitVec 32).toInt = 0 := by decide
  have h1 : (199#32 : BitVec 32).toInt = 199 := by decide
  simp only [cut, Scalar.minsi, Scalar.maxsi, IntOp.minsi, IntOp.maxsi, BitVec.slt, decide_eq_true_eq]
  split <;> split at * <;> omega

/-- The same, read unsigned. -/
theorem cut_toNat (v : BitVec 32) : (cut v).toNat ≤ 199 := by
  have h := cut_toInt v
  have := BitVec.toInt_eq_toNat_cond (cut v)
  have := (cut v).isLt
  split at * <;> omega

/-- The pattern of one half. -/
theorem ofBits_half_f32 : Ideal.ofBits .f32 0x3F000000#32 = ((1 / 2 : ℝ) : EReal) := by
  simp [Ideal.ofBits, Ideal.ieee, -EReal.coe_mul]; norm_num

/-- The pattern of seven. -/
theorem ofBits_seven_f32 : Ideal.ofBits .f32 0x40E00000#32 = ((7 : ℝ) : EReal) := by
  simp [Ideal.ofBits, Ideal.ieee, -EReal.coe_mul]; norm_num

/-- The half-integers' patterns. -/
theorem ofBits_halfWord (k : Fin 7) : Ideal.ofBits .f32 (halfWord k) = (((k.val : ℝ) + 1 / 2 : ℝ) : EReal) := by
  fin_cases k <;> simp [halfWord, Ideal.ofBits, Ideal.ieee, -EReal.coe_mul, -EReal.coe_add] <;> norm_num

/-- The side of a box of cut corners `lo` and `hi`, a signed integer. -/
theorem side_toInt {lo hi : BitVec 32} (hl : lo.toNat ≤ 199) (hh : hi.toNat ≤ 199) :
    (Scalar.addi (Scalar.subi hi lo) 1#32).toInt = (hi.toNat : ℤ) - lo.toNat + 1 := by
  simp only [Scalar.addi, Scalar.subi, IntOp.addi, IntOp.subi]
  rw [BitVec.toInt_eq_toNat_cond]
  simp only [BitVec.toNat_add, BitVec.toNat_sub, BitVec.toNat_ofNat]
  split <;> omega

/-- A seventh of the side, the real number. -/
theorem seventh_eq {lo hi : BitVec 32} (hl : lo.toNat ≤ 199) (hh : hi.toNat ≤ 199) :
    seventh (F := Ideal) lo hi = ((((hi.toNat : ℝ) - lo.toNat + 1) / 7 : ℝ) : EReal) := by
  have e : seventh (F := Ideal) lo hi
      = Ideal.div (((Scalar.addi (Scalar.subi hi lo) 1#32).toInt : ℝ) : EReal) (Ideal.ofBits .f32 0x40E00000#32) := rfl
  rw [e, ofBits_seven_f32, side_toInt hl hh, Ideal.div, if_neg (by norm_num), ← EReal.coe_inv, ← EReal.coe_mul]
  push_cast
  rfl

/-- The real number a sample's place is. -/
def spot (k : Fin 7) (r : ℝ) : ℝ := max (((k.val : ℝ) + 1 / 2) * r - 1 / 2) 0

/-- A sample's place on a side whose seventh is the real `r`. -/
theorem place_eq (k : Fin 7) (r : ℝ) : place (F := Ideal) k (r : EReal) = ((spot k r : ℝ) : EReal) := by
  have e : place (F := Ideal) k (r : EReal)
      = max (Ideal.ofBits .f32 (halfWord k) * (r : EReal) - Ideal.ofBits .f32 0x3F000000#32) (Ideal.ofBits .f32 0x00000000#32) := rfl
  rw [e, ofBits_halfWord, ofBits_half_f32, Ideal.ofBits_zero_f32, ← EReal.coe_mul, ← EReal.coe_sub, ← EReal.coe_zero,
    ← EReal.coe_strictMono.monotone.map_max]
  rfl

/-- The fractional part of a sample's place. -/
theorem part_eq (k : Fin 7) (r : ℝ) : part (F := Ideal) k (r : EReal) = ((Int.fract (spot k r) : ℝ) : EReal) := by
  have e : part (F := Ideal) k (r : EReal) = place (F := Ideal) k (r : EReal) - Ideal.liftRound Int.floor (place (F := Ideal) k (r : EReal)) := rfl
  rw [e, place_eq]
  show ((spot k r : ℝ) : EReal) - ((⌊spot k r⌋ : ℝ) : EReal) = _
  rw [← EReal.coe_sub]
  rfl

/-- What one axis of a box gives a sample: its whole part `n` and its weight `w`, a real number in [0, 1), the sample's line and the
    box's corners related as the box's shape has it. -/
structure AxisAt (lo hi : BitVec 32) (k : Fin 7) (n : ℕ) (w : ℝ) : Prop where
  whole_eq : whole (F := Ideal) k (seventh lo hi) = BitVec.ofNat 32 n
  part_eq : part (F := Ideal) k (seventh lo hi) = (w : EReal)
  nonneg : 0 ≤ w
  lt_one : w < 1
  within : lo.toNat + n ≤ hi.toNat ∨ (n = 0 ∧ w = 0 ∧ hi.toNat < lo.toNat)

/-- Every sample of every axis is of that kind. -/
theorem axis_exists {lo hi : BitVec 32} (hl : lo.toNat ≤ 199) (hh : hi.toNat ≤ 199) (k : Fin 7) : ∃ n w, AxisAt lo hi k n w := by
  have hk : ((k.val : ℝ)) ≤ 6 := by exact_mod_cast (by omega : k.val ≤ 6)
  have hk0 : (0 : ℝ) ≤ (k.val : ℝ) := Nat.cast_nonneg _
  set r : ℝ := ((hi.toNat : ℝ) - lo.toNat + 1) / 7 with hr
  have hs := seventh_eq hl hh
  rw [← hr] at hs
  have hf0 : 0 ≤ ⌊spot k r⌋ := Int.floor_nonneg.2 (le_max_right _ _)
  obtain ⟨n, hn⟩ := Int.eq_ofNat_of_zero_le hf0
  have hin : lo.toNat + n ≤ hi.toNat ∨ (n = 0 ∧ Int.fract (spot k r) = 0 ∧ hi.toNat < lo.toNat) := by
    by_cases hc : lo.toNat ≤ hi.toNat
    · left
      have hc' : (lo.toNat : ℝ) ≤ hi.toNat := by exact_mod_cast hc
      have hlt : spot k r < (((hi.toNat : ℤ) - lo.toNat + 1 : ℤ) : ℝ) := by
        push_cast
        refine max_lt ?_ (by linarith)
        rw [hr]
        nlinarith
      have := Int.floor_lt.2 hlt
      rw [hn] at this
      omega
    · right
      have hc' : (hi.toNat : ℝ) + 1 ≤ lo.toNat := by exact_mod_cast (by omega : hi.toNat + 1 ≤ lo.toNat)
      have h0 : spot k r = 0 := by
        refine max_eq_right ?_
        rw [hr]
        nlinarith
      rw [h0] at hn ⊢
      simp at hn
      exact ⟨by omega, by simp, by omega⟩
  refine ⟨n, Int.fract (spot k r), ?_, by rw [hs]; exact part_eq k r, Int.fract_nonneg _, Int.fract_lt_one _, hin⟩
  have e : whole (F := Ideal) k (seventh lo hi) = Ideal.fptosi 32 (Ideal.liftRound Int.floor (place (F := Ideal) k (seventh lo hi))) := rfl
  rw [e, hs, place_eq]
  show BitVec.ofInt 32 (max (-(2 ^ (32 - 1) : ℕ)) (min ((2 ^ (32 - 1) : ℕ) - 1)
    (if (0 : ℝ) ≤ ((⌊spot k r⌋ : ℤ) : ℝ) then ⌊((⌊spot k r⌋ : ℤ) : ℝ)⌋ else ⌈((⌊spot k r⌋ : ℤ) : ℝ)⌉))) = _
  rw [Int.floor_intCast, Int.ceil_intCast, ite_self, hn]
  have hb : n ≤ 199 := by omega
  have hm : max (-((2 ^ (32 - 1) : ℕ) : ℤ)) (min (((2 ^ (32 - 1) : ℕ) : ℤ) - 1) (n : ℤ)) = (n : ℤ) := by
    norm_num; omega
  rw [hm]
  exact BitVec.ofInt_natCast 32 n

end Cert.Roi

end
-- ==== Proof.Blend.lean ====
/- What one cell of the kernel computes over the extended reals: the reference's blend of four entries of the image. -/
module

public import proofs.«01_k».proof.Proof.Axis
public import Idealize.ShloMosaic.Lib.ValueLayout
public import Idealize.ShloMosaic.Lib.KernelVsHost

@[expose] public section

noncomputable section

namespace Cert.Roi

open Cert.KernelIdeal Cert.KernelIdeal.Facts₀ Cert.KernelIdeal.Facts
open Idealize.ShloMosaic Idealize.ShloMosaic.ValueIdx

/-! ## Blends -/

/-- The reference's blend of four entries at the weights of their lower row and right column. -/
def blend (wy wx p q r s : EReal) : EReal :=
  (1 - wy) * (1 - wx) * p + (1 - wy) * wx * q + wy * (1 - wx) * r + wy * wx * s

/-- The kernel's blend: rows first, then columns. -/
def rows (wy p r : EReal) : EReal := (1 - wy) * p + wy * r

theorem one_sub_nonneg {w : ℝ} (h : w < 1) : (0 : EReal) ≤ 1 - (w : EReal) := by
  rw [show (1 : EReal) = ((1 : ℝ) : EReal) from rfl, ← EReal.coe_sub]
  exact EReal.coe_nonneg.2 (by linarith)

theorem one_sub_ne_top (w : ℝ) : (1 : EReal) - (w : EReal) ≠ ⊤ := by
  rw [show (1 : EReal) = ((1 : ℝ) : EReal) from rfl, ← EReal.coe_sub]
  exact EReal.coe_ne_top _

/-- Rows first and then columns is the blend, at weights in [0, 1). -/
theorem rows_cols (wy : EReal) {wx : ℝ} (h0 : 0 ≤ wx) (h1 : wx < 1) (p q r s : EReal) :
    (1 - (wx : EReal)) * rows wy p r + (wx : EReal) * rows wy q s = blend wy wx p q r s := by
  unfold rows blend
  rw [EReal.left_distrib_of_nonneg_of_ne_top (one_sub_nonneg h1) (one_sub_ne_top wx),
    EReal.left_distrib_of_nonneg_of_ne_top (EReal.coe_nonneg.2 h0) (EReal.coe_ne_top wx),
    ← mul_assoc, ← mul_assoc, ← mul_assoc, ← mul_assoc, mul_comm (1 - (wx : EReal)) (1 - wy), mul_comm (1 - (wx : EReal)) wy,
    mul_comm (wx : EReal) (1 - wy), mul_comm (wx : EReal) wy]
  abel

/-- The blend of two equal columns is the blend of the rows, at weights in [0, 1). -/
theorem blend_same {wy wx : ℝ} (y0 : 0 ≤ wy) (y1 : wy < 1) (x0 : 0 ≤ wx) (x1 : wx < 1) (p r : EReal) :
    blend wy wx p p r r = rows wy p r := by
  have h : (1 : EReal) - (wx : EReal) + (wx : EReal) = 1 := by
    rw [show (1 : EReal) = ((1 : ℝ) : EReal) from rfl, ← EReal.coe_sub, ← EReal.coe_add, sub_add_cancel]
  have hx0 : (0 : EReal) ≤ (wx : EReal) := EReal.coe_nonneg.2 x0
  have hy0 : (0 : EReal) ≤ (wy : EReal) := EReal.coe_nonneg.2 y0
  unfold rows blend
  rw [add_assoc, ← EReal.right_distrib_of_nonneg (mul_nonneg (one_sub_nonneg y1) (one_sub_nonneg x1)) (mul_nonneg (one_sub_nonneg y1) hx0),
    ← EReal.left_distrib_of_nonneg (one_sub_nonneg x1) hx0, h, mul_one,
    ← EReal.right_distrib_of_nonneg (mul_nonneg hy0 (one_sub_nonneg x1)) (mul_nonneg hy0 hx0),
    ← EReal.left_distrib_of_nonneg (one_sub_nonneg x1) hx0, h, mul_one]

/-- The blend at no weight on the right column is the blend of the left one's rows. -/
theorem blend_zero (wy p q r s : EReal) : blend wy 0 p q r s = rows wy p r := by
  simp [blend, rows]

/-! ## A cell's value -/

/-- Entry (`d`, `z`) of the rows' blend. -/
theorem blendRows_apply (wy : Ideal .f32) (a b : Vec Ideal S1x16x256 .f32) (d : Fin 16) (z : Fin 256) :
    blendRows wy a b (ix2 d z) = rows wy (a (ix3 (0 : Fin 1) d z)) (b (ix3 (0 : Fin 1) d z)) := by
  have ea := shapeCast_1ab_ab_apply a shapeCasts_S1x16x256_S16x256 d z
  have eb := shapeCast_1ab_ab_apply b shapeCasts_S1x16x256_S16x256 d z
  have e1 : Ideal.ofBits .f32 0x3F800000#32 = 1 := Ideal.ofBits_one_f32
  show (Ideal.ofBits .f32 0x3F800000#32 - wy) * shapeCast S16x256 a shapeCasts_S1x16x256_S16x256 (ix2 d z)
    + wy * shapeCast S16x256 b shapeCasts_S1x16x256_S16x256 (ix2 d z) = _
  rw [ea, eb, e1]
  rfl

/-- What a cell stores at channel `z`: the blend, by columns, of the rows' blends `k` and `k + 1` columns into the windows. -/
theorem cellValue_apply (wy wx : Ideal .f32) (k : BitVec 32) (hk : k.toNat < 8) (a b : Vec Ideal S1x16x256 .f32) (p q : Fin 1) (z : Fin 256) :
    cellValue wy wx k a b (ix3 p q z)
      = (1 - wx) * rows wy (a (ix3 (0 : Fin 1) (⟨k.toNat, by omega⟩ : Fin 16) z)) (b (ix3 (0 : Fin 1) (⟨k.toNat, by omega⟩ : Fin 16) z))
        + wx * rows wy (a (ix3 (0 : Fin 1) (⟨k.toNat + 1, by omega⟩ : Fin 16) z)) (b (ix3 (0 : Fin 1) (⟨k.toNat + 1, by omega⟩ : Fin 16) z)) := by
  have e1 : Ideal.ofBits .f32 0x3F800000#32 = 1 := Ideal.ofBits_one_f32
  have hs : (Scalar.subi 0#32 k).toNat % 16 = (16 - k.toNat) % 16 := by
    simp only [Scalar.subi, IntOp.subi, BitVec.toNat_sub, BitVec.toNat_ofNat]
    omega
  have hr : ∀ (d : Fin 16) (hd : d.val < 2), dynamicRotate 0 (Scalar.subi 0#32 k) none (blendRows wy a b) rotates_S16x256_d0 (ix2 d z)
      = rows wy (a (ix3 (0 : Fin 1) (⟨k.toNat + d.val, by omega⟩ : Fin 16) z)) (b (ix3 (0 : Fin 1) (⟨k.toNat + d.val, by omega⟩ : Fin 16) z)) := by
    intro d hd
    rw [← blendRows_apply]
    refine congrArg (blendRows wy a b) (funext fun x => Fin.ext ?_)
    match x with
    | ⟨0, _⟩ =>
      show (d.val + 16 - (Scalar.subi 0#32 k).toNat % 16) % 16 = k.toNat + d.val
      rw [hs]; omega
    | ⟨1, _⟩ => rfl
  unfold cellValue
  rw [shapeCast_apply _ shapeCasts_S256_S1x1x256 (ix3 p q z) (ix1 z) (by
    rw [Shape.rowMajor_val_one, Shape.rowMajor_val_three]
    show z.val = (p.val * 1 + q.val) * 256 + z.val
    omega)]
  unfold blendCols
  have hc : ∀ (d : Fin 16) (h : S16x256.Slices ![d.val, 0] S1x256) (r : FVec Ideal S16x256 .f32),
      shapeCast S256 (extractStridedSlice S1x256 ![d.val, 0] r h) shapeCasts_S1x256_S256 (ix1 z) = r (ix2 d z) := by
    intro d h r
    refine (shapeCast_1a_a_apply _ shapeCasts_S1x256_S256 z).trans ?_
    refine extractStridedSlice_apply _ r h _ _ fun x => ?_
    match x with
    | ⟨0, _⟩ => show d.val = d.val + 0; omega
    | ⟨1, _⟩ => show z.val = 0 + z.val; omega
  have h0 := (hc 0 slices_S16x256_o0_0_S1x256 (dynamicRotate 0 (Scalar.subi 0#32 k) none (blendRows wy a b) rotates_S16x256_d0)).trans (hr 0 (by decide))
  have h1 := (hc 1 slices_S16x256_o1_0_S1x256 (dynamicRotate 0 (Scalar.subi 0#32 k) none (blendRows wy a b) rotates_S16x256_d0)).trans (hr 1 (by decide))
  refine congrArg₂ (fun u v => u + v) (congrArg₂ (fun u v => u * v) (congrArg (fun u => u - wx) e1) h0) (congrArg (fun u => wx * u) h1)

end Cert.Roi

end
-- ==== Proof.Walk.lean ====
/- The kernel's four trips walked cell by cell: whatever block `T` the cells' values are, cell after cell, the trips leave the
   output block holding `T`. -/
module

public import proofs.«01_k».proof.Proof.Trip
public import Idealize.ShloMosaic.Lib.Pipeline.FrameBody
public import Idealize.ShloMosaic.Lib.Tactic
public import Idealize.ShloMosaic.Lib.Transfers
public import Idealize.ShloMosaic.Lib.Scf
public import Idealize.ShloMosaic.Lib.Writes

@[expose] public section

noncomputable section

namespace Cert.Roi

open Cert.KernelIdeal Cert.KernelIdeal.Facts₀ Cert.KernelIdeal.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

attribute [local instance] Cert.KernelIdeal.Gen.facts

local notation "𝕄" => MT nD τ sig Unit (Elt F) ℕ (Pipeline.UD sig nD τ) ℕ

/-- What a program of core `c` must establish to end in `K`. -/
abbrev need (c : Dev nD) {α : Type} (p : Run F α) (K : α → sProp 𝕄) : sProp 𝕄 :=
  wp frame (wpE (defs₀ (F := F)) Variants.none c none) Set.univ p K

/-- Two programs in a row, each meeting what the next starts from. -/
theorem need_then {c : Dev nD} {α β : Type} {p : Run F α} {q : α → Run F β} {A : sProp 𝕄} {B : sProp 𝕄} {K : β → sProp 𝕄}
    (hp : A ⊢ need c p fun _ => B) (hq : ∀ a, B ⊢ need c (q a) K) : A ⊢ need c (p >>= q) K := by
  unfold need at *
  rw [wp_bind]
  exact hp.trans (wp_mono _ _ _ hq)

/-- Seven programs in a row, each taking one stage to the next. -/
theorem need_seq7 {c : Dev nD} (P : ℕ → sProp 𝕄) {f : Fin 7 → Run F PUnit}
    (h : ∀ i : Fin 7, P i.val ⊢ need c (f i) fun _ => P (i.val + 1)) : P 0 ⊢ need c (seq7 f) fun _ => P 7 := by
  unfold seq7
  refine need_then (B := P 1) (h 0) fun _ => need_then (B := P 2) (h 1) fun _ => need_then (B := P 3) (h 2) fun _ =>
    need_then (B := P 4) (h 3) fun _ => need_then (B := P 5) (h 4) fun _ => need_then (B := P 6) (h 5) fun _ => ?_
  exact h 6

/-- A program that only returns needs what it ends in. -/
theorem need_pure {c : Dev nD} {α : Type} {a : α} {K : α → sProp 𝕄} : K a ⊢ need (F := F) c (pure a) K := by
  unfold need
  exact le_wp_ret _ _ _ _ _

/-- A condition that holds is passed. -/
theorem need_ask {c : Dev nD} {α : Type} {P : Prop} {d : Decidable P} {k : PLift P → Run F α} {A : sProp 𝕄} {K : α → sProp 𝕄} (h : P)
    (hk : A ⊢ need c (k ⟨h⟩) K) : A ⊢ need c (Prog.lift (TpuEff.assume P d) >>= k) K :=
  hk.trans (by
    unfold need
    exact wp_assume (defs := defs₀ (F := F)) Variants.none (c : Thread nD τ) none Set.univ (d := d) (k := k) (Q := K) h)

/-- Seven conditions that hold are passed. -/
theorem need_ask7 {c : Dev nD} {P : Fin 7 → Prop} {d : ∀ j, Decidable (P j)} {A : sProp 𝕄} (h : ∀ j, P j) :
    A ⊢ need (F := F) c (ask7 P d) fun _ => A := by
  unfold ask7
  exact need_ask (h 0) <| need_ask (h 1) <| need_ask (h 2) <| need_ask (h 3) <| need_ask (h 4) <| need_ask (h 5) <|
    need_ask (h 6) <| need_pure (K := fun _ => A)

/-- A loop, each trip taking one stage to the next. -/
theorem need_for {c : Dev nD} {W : Nat} (l : Scf.Loop W) (hok : Scf.OK l.lb l.ub l.st) {f : Fin l.trips → PUnit → Run F PUnit} {I : ℕ → sProp 𝕄}
    (h : ∀ (t : Fin l.trips) (a : PUnit), I t.val ⊢ need c (f t a) fun _ => I (t.val + 1)) :
    I 0 ⊢ need c (Scf.Loop.for l hok ⟨⟩ f) fun _ => I l.trips := by
  refine BIBase.Entails.trans ?_ (Scf.wp_for (Idealize.ShloMosaic.frame) (wpE (defs₀ (F := F)) Variants.none c none) Set.univ l.lb l.ub l.st hok
    (⟨⟩ : PUnit) f (fun n _ => I n) h)
  iintro H
  isplitl [H]
  · iexact H
  iintro %a H
  iexact H

section Block

variable (c : Dev nD) (i : grid0.Coords) (arg3 : Memref sig .tc .smem S8192 .i32) (arg4 : Memref sig .tc .vmem S49x32x256 .f32)
  (arg5 : Memref sig .tc .vmem S200x216x256 .f32)
  (w : Buf (Elt F) (arg3.view.loc (c : Thread nD τ))) (g : Buf (Elt F) (arg5.view.loc (c : Thread nD τ)))
  (T : S49x32x256.Idx → Elt F .f32)

/-- Where the walk stands: the words and the image in place, and the first `n` cells of the block, counted box by box, written. -/
def Stage (n : ℕ) : sProp 𝕄 :=
  iprop((arg3.view.loc (c : Thread nD τ) ↦[arg3.view.set]{fullShare} w) ∗ (arg5.view.loc (c : Thread nD τ) ↦[arg5.view.set]{fullShare} g)
    ∗ ∃ f : Buf (Elt F) (arg4.view.loc (c : Thread nD τ)), ⌜∀ y : S49x32x256.Idx, (y 1).val * 49 + (y 0).val < n → arg4.view.read (Elt F) f y = T y⌝
      ∗ (arg4.view.loc (c : Thread nD τ) ↦[arg4.view.set]{fullShare} f))

/-- Word `k` of a box as the kernel reads it. -/
def readWord (t : Fin k0_t1_loop.trips) (u : Fin 8) (k : Fin 4) : BitVec 32 :=
  (arg3.access (Rect.unit (s := S8192) (wordAt i t u k) S1.size (wordAt_inb i t u k))).read (Elt F) w (Shape.Idx.first (numel1_S1.symm ▸ Nat.one_pos))

/-- The window a load of the image reads. -/
def readWindow (off : Fin 3 → ℕ) (h : ∀ a, off a + S1x16x256.size a ≤ S200x216x256.size a) : Vec F S1x16x256 .f32 :=
  arg5.view.readAt (Elt F) (Rect.unit (s := S200x216x256) off S1x16x256.size h).toLoadRect g

/-- One cell, given that what it stores is the block's. -/
theorem need_cell (t : Fin k0_t1_loop.trips) (u : Fin 8) (x1 y1 x2 y2 : BitVec 32) (sy sx : F .f32) (a j : Fin 7)
    (h : Chk x1 y1 y2 (fun i => whole i sy) (whole j sx))
    (hv : ∀ z, cellValue (part a sy) (colWeight x1 x2 j sx) (Scalar.andi (Scalar.addi (cut x1) (whole j sx)) 7#32)
        (readWindow c arg5 g _ (upper_inb h a)) (readWindow c arg5 g _ (lower_inb h a)) z
      = T ((Rect.unit (s := S49x32x256) (outAt t u a j) S1x1x256.size (outAt_inb t u a j)).emb z)) :
    Stage c arg3 arg4 arg5 w g T ((t.val * 8 + u.val) * 49 + a.val * 7 + j.val)
      ⊢ need c (cell arg4 arg5 t u x1 y1 x2 y2 sy sx a j h)
          fun _ => Stage c arg3 arg4 arg5 w g T ((t.val * 8 + u.val) * 49 + a.val * 7 + j.val + 1) := by
  unfold Stage cell need
  iintro ⟨Hw, Hg, %f, %hf, Hf⟩
  sl_exec
  sl_step
  isplitl [Hw]; · iexact Hw
  isplitl [Hg]; · iexact Hg
  iexists _; isplitr; swap; · iexact Hf
  ipureintro
  intro y hy
  have hr := boxRow_toNat t u
  rcases Nat.lt_or_ge ((y 1).val * 49 + (y 0).val) ((t.val * 8 + u.val) * 49 + a.val * 7 + j.val) with hlt | hge
  · rw [View.read_writes_cons_miss, View.writes_nil]
    · exact hf y hlt
    · rw [Rect.mem_set_unit]
      intro hm
      have h0 : a.val * 7 + j.val ≤ (y 0).val ∧ (y 0).val < a.val * 7 + j.val + 1 := hm 0
      have h1 : (boxRow t u).toNat ≤ (y 1).val ∧ (y 1).val < (boxRow t u).toNat + 1 := hm 1
      omega
  · have hy0 : (y 0).val < 49 := (y 0).isLt
    have e1 : (y 1).val = (boxRow t u).toNat := by omega
    have e0 : (y 0).val = a.val * 7 + j.val := by omega
    have ez : (Rect.unit (s := S49x32x256) (outAt t u a j) S1x1x256.size (outAt_inb t u a j)).emb
        (fun | 0 => (⟨0, Nat.one_pos⟩ : Fin 1) | 1 => (⟨0, Nat.one_pos⟩ : Fin 1) | 2 => (y 2 : Fin 256)) = y := by
      refine Rect.emb_eq_of_coords _ _ _ fun b => ?_
      fin_cases b
      · show (y 0).val = a.val * 7 + j.val + 1 * 0; omega
      · show (y 1).val = (boxRow t u).toNat + 1 * 0; omega
      · show (y 2).val = 0 + 1 * (y 2).val; omega
    rw [View.read_writes_cons_hit _ _ _ _ _ _ y ez]
    exact (hv _).trans (congrArg T ez)

/-- Reading one word of a box changes nothing. -/
theorem need_word (n : ℕ) (t : Fin k0_t1_loop.trips) (u : Fin 8) (d : Fin 4) {α : Type} {k : BitVec 32 → Run F α} {K : α → sProp 𝕄}
    (hk : Stage c arg3 arg4 arg5 w g T n ⊢ need c (k (readWord c i arg3 w t u d)) K) :
    Stage c arg3 arg4 arg5 w g T n ⊢ need c (word i arg3 t u d >>= k) K := by
  unfold need at hk ⊢
  rw [wp_bind]
  unfold word smemLoad
  unfold Stage at hk ⊢
  iintro ⟨Hw, Hr⟩
  iapply (wp_smemLoadElt (defs := defs₀ (F := F)) Variants.none (c : Thread nD τ) none Set.univ (m := arg3)
    (r := Rect.unit (s := S8192) (wordAt i t u d) S1.size (wordAt_inb i t u d)) (S := arg3.view.set) (q := fullShare) (f := w) ?_) $$ Hw
  · exact View.set_slice_subset _ _
  iintro Hw
  iapply le_wp_ret
  iapply hk
  isplitl [Hw]; · iexact Hw
  iexact Hr

/-- What the walk asks of box `u` of trip `t`: the conditions the kernel assumes, and that its cells' values are the block's. -/
def Meets (t : Fin k0_t1_loop.trips) (u : Fin 8) : Prop :=
  ∀ x1 y1 x2 y2 : BitVec 32, x1 = readWord c i arg3 w t u 0 → y1 = readWord c i arg3 w t u 1 → x2 = readWord c i arg3 w t u 2 →
    y2 = readWord c i arg3 w t u 3 → ∀ sy sx : F .f32, sy = seventh (cut y1) (cut y2) → sx = seventh (cut x1) (cut x2) →
    (∀ j, Chk x1 y1 y2 (fun i => whole i sy) (whole j sx)) ∧
    ∀ a j (h : Chk x1 y1 y2 (fun i => whole i sy) (whole j sx)) z,
      cellValue (part a sy) (colWeight x1 x2 j sx) (Scalar.andi (Scalar.addi (cut x1) (whole j sx)) 7#32)
        (readWindow c arg5 g _ (upper_inb h a)) (readWindow c arg5 g _ (lower_inb h a)) z
      = T ((Rect.unit (s := S49x32x256) (outAt t u a j) S1x1x256.size (outAt_inb t u a j)).emb z)

/-- One box. -/
theorem need_box (t : Fin k0_t1_loop.trips) (u : Fin 8) (hm : Meets c i arg3 arg5 w g T t u) :
    Stage c arg3 arg4 arg5 w g T ((t.val * 8 + u.val) * 49)
      ⊢ need c (box i arg3 arg4 arg5 t u) fun _ => Stage c arg3 arg4 arg5 w g T ((t.val * 8 + u.val + 1) * 49) := by
  unfold box
  refine need_word c i arg3 arg4 arg5 w g T _ t u 0 ?_
  refine need_word c i arg3 arg4 arg5 w g T _ t u 1 ?_
  refine need_word c i arg3 arg4 arg5 w g T _ t u 2 ?_
  refine need_word c i arg3 arg4 arg5 w g T _ t u 3 ?_
  obtain ⟨hc, hv⟩ := hm _ _ _ _ rfl rfl rfl rfl _ _ rfl rfl
  unfold cells
  refine need_then (B := Stage c arg3 arg4 arg5 w g T ((t.val * 8 + u.val) * 49)) (need_ask7 hc) fun h => ?_
  have e7 : (t.val * 8 + u.val + 1) * 49 = (t.val * 8 + u.val) * 49 + 7 * 7 := by omega
  have e0 : Stage c arg3 arg4 arg5 w g T ((t.val * 8 + u.val) * 49) = Stage c arg3 arg4 arg5 w g T ((t.val * 8 + u.val) * 49 + 0 * 7) := by
    rw [Nat.zero_mul, Nat.add_zero]
  rw [e7, e0]
  refine need_seq7 (fun k => Stage c arg3 arg4 arg5 w g T ((t.val * 8 + u.val) * 49 + k * 7)) fun a => ?_
  have e : (t.val * 8 + u.val) * 49 + (a.val + 1) * 7 = (t.val * 8 + u.val) * 49 + a.val * 7 + 7 := by omega
  have e0 : Stage c arg3 arg4 arg5 w g T ((t.val * 8 + u.val) * 49 + a.val * 7) = Stage c arg3 arg4 arg5 w g T ((t.val * 8 + u.val) * 49 + a.val * 7 + 0) := by
    rw [Nat.add_zero]
  beta_reduce
  rw [e, e0]
  exact need_seq7 (fun k => Stage c arg3 arg4 arg5 w g T ((t.val * 8 + u.val) * 49 + a.val * 7 + k)) fun j =>
    need_cell c arg3 arg4 arg5 w g T t u _ _ _ _ _ _ a j (h.down j) (hv a j (h.down j))

/-- One trip. -/
theorem need_trip (t : Fin k0_t1_loop.trips) (hm : ∀ u, Meets c i arg3 arg5 w g T t u) :
    Stage c arg3 arg4 arg5 w g T (t.val * 392)
      ⊢ need c (trip i arg3 arg4 arg5 t) fun _ => Stage c arg3 arg4 arg5 w g T ((t.val + 1) * 392) := by
  have s : ∀ u : Fin 8, Stage c arg3 arg4 arg5 w g T (t.val * 392 + u.val * 49)
      ⊢ need c (box i arg3 arg4 arg5 t u) fun _ => Stage c arg3 arg4 arg5 w g T (t.val * 392 + (u.val + 1) * 49) := fun u => by
    have h := need_box c i arg3 arg4 arg5 w g T t u (hm u)
    rwa [show (t.val * 8 + u.val) * 49 = t.val * 392 + u.val * 49 by omega,
      show (t.val * 8 + u.val + 1) * 49 = t.val * 392 + (u.val + 1) * 49 by omega] at h
  have e : (t.val + 1) * 392 = t.val * 392 + 8 * 49 := by omega
  rw [e]
  unfold trip
  refine need_then (B := Stage c arg3 arg4 arg5 w g T (t.val * 392 + 1 * 49)) (s 0) fun _ => ?_
  refine need_then (B := Stage c arg3 arg4 arg5 w g T (t.val * 392 + 2 * 49)) (s 1) fun _ => ?_
  refine need_then (B := Stage c arg3 arg4 arg5 w g T (t.val * 392 + 3 * 49)) (s 2) fun _ => ?_
  refine need_then (B := Stage c arg3 arg4 arg5 w g T (t.val * 392 + 4 * 49)) (s 3) fun _ => ?_
  refine need_then (B := Stage c arg3 arg4 arg5 w g T (t.val * 392 + 5 * 49)) (s 4) fun _ => ?_
  refine need_then (B := Stage c arg3 arg4 arg5 w g T (t.val * 392 + 6 * 49)) (s 5) fun _ => ?_
  refine need_then (B := Stage c arg3 arg4 arg5 w g T (t.val * 392 + 7 * 49)) (s 6) fun _ => ?_
  refine need_then (B := Stage c arg3 arg4 arg5 w g T (t.val * 392 + 8 * 49)) (s 7) fun _ => ?_
  exact need_pure (K := fun _ => Stage c arg3 arg4 arg5 w g T (t.val * 392 + 8 * 49))

/-- The four trips write the whole block. -/
theorem need_trips (hm : ∀ t u, Meets c i arg3 arg5 w g T t u) :
    Stage c arg3 arg4 arg5 w g T 0 ⊢ need c (trips i arg3 arg4 arg5) fun _ => Stage c arg3 arg4 arg5 w g T 1568 := by
  have hb : ∀ (t : Fin k0_t1_loop.trips) (_ : PUnit), Stage c arg3 arg4 arg5 w g T (t.val * 392)
      ⊢ need c (trip i arg3 arg4 arg5 t) fun _ => Stage c arg3 arg4 arg5 w g T ((t.val + 1) * 392) :=
    fun t _ => need_trip c i arg3 arg4 arg5 w g T t (hm t)
  have h := need_for k0_t1_loop k0_t1_ok (I := fun n => Stage c arg3 arg4 arg5 w g T (n * 392)) hb
  have e : Stage c arg3 arg4 arg5 w g T (k0_t1_loop.trips * 392) = Stage c arg3 arg4 arg5 w g T 1568 :=
    congrArg (fun n => Stage c arg3 arg4 arg5 w g T (n * 392)) trips_eq
  beta_reduce at h
  rw [e, Nat.zero_mul] at h
  unfold trips
  exact need_then h fun _ => need_pure (K := fun _ => Stage c arg3 arg4 arg5 w g T 1568)

end Block

end Cert.Roi

end
-- ==== Proof.Bring.lean ====
/- The copy of an image into the scratch buffer: run once, and what the buffer holds after it. -/
module

public import proofs.«01_k».proof.Proof.Walk
public import Idealize.ShloMosaic.Lib.ValueLayout

@[expose] public section

noncomputable section

namespace Cert.Roi

open Cert.KernelIdeal Cert.KernelIdeal.Facts₀ Cert.KernelIdeal.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

attribute [local instance] Cert.KernelIdeal.Gen.facts

local notation "𝕄" => MT nD τ sig Unit (Elt F) ℕ (Pipeline.UD sig nD τ) ℕ

/-- The scratch buffer and the images in their own memory, whole. -/
abbrev scM : Memref sig .tc .vmem S200x216x256 .f32 := Memref.whole cc0_scratch0
abbrev hbM : Memref sig .tc .hbm S8x200x200x256 .f32 := Memref.whole main_v0

/-- The image of grid point `i`, and the part of the scratch buffer it is copied to. -/
abbrev image (i : grid0.Coords) (h : k0_cond1 i = 1#1) : Memref sig .tc .hbm S200x200x256 .f32 :=
  (hbM.slice (Rect.unit (s := S8x200x200x256) (k0_off1 i) S1x200x200x256.size (k0_off1_inb i h)) (fun _ => rfl)).squeeze
      S200x200x256 squeezes_S1x200x200x256_S200x200x256
abbrev target : Memref sig .tc .vmem S200x200x256 .f32 :=
  scM.slice (Rect.unit (s := S200x216x256) ![0, 0, 0] S200x200x256.size inb_S200x216x256_S200x200x256_0_0_0) (fun _ => rfl)

/-- The scratch buffer after the copy. -/
abbrev brought (i : grid0.Coords) (h : k0_cond1 i = 1#1) {c : Dev nD} (fh : Buf (Elt F) (hbM.view.loc (c : Thread nD τ)))
    (fs : Buf (Elt F) (scM.view.loc (c : Thread nD τ))) : Buf (Elt F) (scM.view.loc (c : Thread nD τ)) :=
  View.write (Elt F) target.view fs (ReadAs.same.apply ((image i h).view.read (Elt F) fh)) Finset.univ

/-- The copy runs to its end, the scratch buffer then holding the image over what it held. -/
theorem need_bring (c : Dev nD) (i : grid0.Coords) (h : k0_cond1 i = 1#1) (fh : Buf (Elt F) (hbM.view.loc (c : Thread nD τ)))
    (fs : Buf (Elt F) (scM.view.loc (c : Thread nD τ))) (W : Waits sig Unit) (K : PUnit → sProp 𝕄) :
    iprop((scM.view.loc (c : Thread nD τ) ↦{fullShare} fs) ∗ semVal ((c : Thread nD τ), SemLoc.dma 3) 0
        ∗ (hbM.view.loc (c : Thread nD τ) ↦{fullShare} fh) ∗ owes (c : Thread nD τ) 0 W
        ∗ (iprop((scM.view.loc (c : Thread nD τ) ↦{fullShare} brought i h fh fs) ∗ semVal ((c : Thread nD τ), SemLoc.dma 3) 0
            ∗ (hbM.view.loc (c : Thread nD τ) ↦{fullShare} fh) ∗ ∃ W', owes (c : Thread nD τ) 0 W') -∗ K ⟨⟩))
      ⊢ need c (bring i hbM scM cc0_scratch1 h) K := by
  unfold need bring
  iintro ⟨HS, Hq, Hh, HW, Hk⟩
  sl_exec
  sl_step
  iapply Hk
  isplitl [HS]; · iexact HS
  isplitl [Hq]; · iexact Hq
  isplitl [Hh]; · iexact Hh
  iexists _; iexact HW

/-- The copy is made at the first block of an image. -/
theorem cond_iff : ∀ i : grid0.Coords, k0_cond1 i = 1#1 ↔ (i 1).val = 0 := by decide +kernel

/-- The image of grid point `i` starts at entry `i 0` of the images. -/
theorem off1_eq (i : grid0.Coords) : k0_off1 i = ![(i 0).val, 0, 0, 0] := by
  have h0 : (i 0).val < 8 := (i 0).isLt
  have e : (BitVec.ofNat 32 (i 0).val).toNat = (i 0).val := by rw [BitVec.toNat_ofNat]; omega
  show ![(BitVec.ofNat 32 (i 0).val).toNat, 0, 0, 0] = _
  rw [e]

open ValueIdx in
/-- After the copy the first 200 columns of the scratch buffer are the image. -/
theorem brought_apply (i : grid0.Coords) (h : k0_cond1 i = 1#1) {c : Dev nD} (fh : Buf (Elt F) (hbM.view.loc (c : Thread nD τ)))
    (fs : Buf (Elt F) (scM.view.loc (c : Thread nD τ))) (a : Fin 200) (b : Fin 200) (d : Fin 256) :
    brought i h fh fs (ix3 a (⟨b.val, by omega⟩ : Fin 216) d) = fh (ix4 (⟨(i 0).val, (i 0).isLt⟩ : Fin 8) a b d) := by
  have e := congrFun (View.read_write_univ (Val := Elt F) (v := target.view) fs (ReadAs.same.apply ((image i h).view.read (Elt F) fh))) (ix3 a b d)
  have ht : target.view.emb (ix3 a b d) = ix3 a (⟨b.val, by omega⟩ : Fin 216) d := by
    refine funext fun k => Fin.ext ?_
    match k with
    | ⟨0, _⟩ => show 0 + 1 * a.val = a.val; omega
    | ⟨1, _⟩ => show 0 + 1 * b.val = b.val; omega
    | ⟨2, _⟩ => show 0 + 1 * d.val = d.val; omega
  have hi : (image i h).view.emb (ix3 a b d) = ix4 (⟨(i 0).val, (i 0).isLt⟩ : Fin 8) a b d := by
    show (hbM.slice (Rect.unit (s := S8x200x200x256) (k0_off1 i) S1x200x200x256.size (k0_off1_inb i h)) (fun _ => rfl)).view.emb
      (Shape.reshapeEquiv (Shape.Squeezes.numel_eq squeezes_S1x200x200x256_S200x200x256) (ix3 a b d)) = _
    rw [reshapeEquiv_ix3_1abc]
    have ho := off1_eq i
    refine funext fun k => Fin.ext ?_
    match k with
    | ⟨0, _⟩ => show k0_off1 i 0 + 1 * 0 = (i 0).val; rw [ho]; rfl
    | ⟨1, _⟩ => show k0_off1 i 1 + 1 * a.val = a.val; rw [ho]; show 0 + 1 * a.val = a.val; omega
    | ⟨2, _⟩ => show k0_off1 i 2 + 1 * b.val = b.val; rw [ho]; show 0 + 1 * b.val = b.val; omega
    | ⟨3, _⟩ => show k0_off1 i 3 + 1 * d.val = d.val; rw [ho]; show 0 + 1 * d.val = d.val; omega
  rw [← ht, ← hi]
  exact e

end Cert.Roi

end
-- ==== Proof.Sample.lean ====
/- The value of a sample of a box, and that the kernel's cell is it: the windows it reads lie in the scratch buffer and hold the
   entries of the image that the sample blends. -/
module

public import proofs.«01_k».proof.Proof.Blend
public import proofs.«01_k».proof.Proof.Bring

@[expose] public section

noncomputable section

namespace Cert.Roi

open Cert.KernelIdeal Cert.KernelIdeal.Facts₀ Cert.KernelIdeal.Facts
open Idealize.ShloMosaic Idealize.ShloMosaic.TcCoe Idealize.ShloMosaic.ValueIdx

attribute [local instance] Cert.KernelIdeal.Gen.facts

/-- A line of the image by a word, the last one for a word beyond it. -/
def line (v : BitVec 32) : Fin 200 := ⟨min v.toNat 199, by omega⟩

/-- The line before a sample, and the one after it, never beyond the box. -/
def near (v : BitVec 32) (k : Fin 7) (s : Ideal .f32) : BitVec 32 := Scalar.addi (cut v) (whole k s)
def far (v v2 : BitVec 32) (k : Fin 7) (s : Ideal .f32) : BitVec 32 := Scalar.minsi (Scalar.addi (near v k s) 1#32) (cut v2)

/-- The sample (`i`, `j`) of the box of corners (`x1`, `y1`) and (`x2`, `y2`) on an image `A`. -/
def sample (A : Fin 200 → Fin 200 → EReal) (x1 y1 x2 y2 : BitVec 32) (i j : Fin 7) : EReal :=
  let sy : Ideal .f32 := seventh (cut y1) (cut y2)
  let sx : Ideal .f32 := seventh (cut x1) (cut x2)
  blend (part i sy) (part j sx)
    (A (line (near y1 i sy)) (line (near x1 j sx))) (A (line (near y1 i sy)) (line (far x1 x2 j sx)))
    (A (line (far y1 y2 i sy)) (line (near x1 j sx))) (A (line (far y1 y2 i sy)) (line (far x1 x2 j sx)))

/-! ## Words -/

theorem minsi_toNat {a b : BitVec 32} (ha : a.toNat < 2 ^ 31) (hb : b.toNat < 2 ^ 31) : (Scalar.minsi a b).toNat = min a.toNat b.toNat := by
  have ea : a.toInt = a.toNat := by rw [BitVec.toInt_eq_toNat_cond]; split <;> omega
  have eb : b.toInt = b.toNat := by rw [BitVec.toInt_eq_toNat_cond]; split <;> omega
  simp only [Scalar.minsi, IntOp.minsi, BitVec.slt, decide_eq_true_eq]
  split <;> omega

theorem align_of_lt : ∀ n : Fin 200, (align (BitVec.ofNat 32 n.val)).toNat = n.val / 8 * 8 := by decide +kernel
theorem low_of_lt : ∀ n : Fin 200, (Scalar.andi (BitVec.ofNat 32 n.val) 7#32).toNat = n.val % 8 := by decide +kernel

theorem align_toNat {v : BitVec 32} (h : v.toNat < 200) : (align v).toNat = v.toNat / 8 * 8 := by
  have e := align_of_lt ⟨v.toNat, h⟩
  rwa [BitVec.ofNat_toNat, BitVec.setWidth_eq] at e

theorem low_toNat {v : BitVec 32} (h : v.toNat < 200) : (Scalar.andi v 7#32).toNat = v.toNat % 8 := by
  have e := low_of_lt ⟨v.toNat, h⟩
  rwa [BitVec.ofNat_toNat, BitVec.setWidth_eq] at e

/-- The near line's number. -/
theorem near_toNat {v v2 : BitVec 32} {k : Fin 7} {n : ℕ} {w : ℝ} (h : AxisAt (cut v) (cut v2) k n w) :
    (near v k (seventh (cut v) (cut v2))).toNat = (cut v).toNat + n := by
  have h1 := cut_toNat v
  have h2 := cut_toNat v2
  have hw := h.within
  unfold near
  rw [h.whole_eq]
  simp only [Scalar.addi, IntOp.addi, BitVec.toNat_add, BitVec.toNat_ofNat]
  omega

theorem near_le {v v2 : BitVec 32} {k : Fin 7} {n : ℕ} {w : ℝ} (h : AxisAt (cut v) (cut v2) k n w) : (cut v).toNat + n ≤ 199 := by
  have h1 := cut_toNat v
  have h2 := cut_toNat v2
  have hw := h.within
  omega

/-- The far line's number. -/
theorem far_toNat {v v2 : BitVec 32} {k : Fin 7} {n : ℕ} {w : ℝ} (h : AxisAt (cut v) (cut v2) k n w) :
    (far v v2 k (seventh (cut v) (cut v2))).toNat = min ((cut v).toNat + n + 1) (cut v2).toNat := by
  have e := near_toNat h
  have hl := near_le h
  have h2 := cut_toNat v2
  have e1 : (Scalar.addi (near v k (seventh (cut v) (cut v2))) 1#32).toNat = (cut v).toNat + n + 1 := by
    simp only [Scalar.addi, IntOp.addi, BitVec.toNat_add, BitVec.toNat_ofNat, e]
    omega
  unfold far
  rw [minsi_toNat (by omega) (by omega), e1]

/-! ## The windows -/

section Box
variable (x1 y1 x2 y2 : BitVec 32) (i j : Fin 7)

/-- The windows lie in the scratch buffer. -/
theorem upper_fits : ∀ a, upper x1 y1 (whole i (seventh (F := Ideal) (cut y1) (cut y2))) (whole j (seventh (F := Ideal) (cut x1) (cut x2))) a
    + S1x16x256.size a ≤ S200x216x256.size a := by
  obtain ⟨n, w, hy⟩ := axis_exists (cut_toNat y1) (cut_toNat y2) i
  obtain ⟨n', w', hx⟩ := axis_exists (cut_toNat x1) (cut_toNat x2) j
  have ey := near_toNat hy
  have ex := near_toNat hx
  have ly := near_le hy
  have lx := near_le hx
  have ea := align_toNat (v := near x1 j (seventh (cut x1) (cut x2))) (by omega)
  intro a
  match a with
  | ⟨0, _⟩ => show (near y1 i (seventh (cut y1) (cut y2))).toNat + 1 ≤ 200; omega
  | ⟨1, _⟩ => show (align (near x1 j (seventh (cut x1) (cut x2)))).toNat + 16 ≤ 216; omega
  | ⟨2, _⟩ => show 0 + 256 ≤ 256; omega

theorem lower_fits : ∀ a, lower x1 y1 y2 (whole i (seventh (F := Ideal) (cut y1) (cut y2))) (whole j (seventh (F := Ideal) (cut x1) (cut x2))) a
    + S1x16x256.size a ≤ S200x216x256.size a := by
  obtain ⟨n, w, hy⟩ := axis_exists (cut_toNat y1) (cut_toNat y2) i
  obtain ⟨n', w', hx⟩ := axis_exists (cut_toNat x1) (cut_toNat x2) j
  have ey := far_toNat hy
  have ex := near_toNat hx
  have ly := cut_toNat y2
  have lx := near_le hx
  have ea := align_toNat (v := near x1 j (seventh (cut x1) (cut x2))) (by omega)
  intro a
  match a with
  | ⟨0, _⟩ => show (far y1 y2 i (seventh (cut y1) (cut y2))).toNat + 1 ≤ 200; omega
  | ⟨1, _⟩ => show (align (near x1 j (seventh (cut x1) (cut x2)))).toNat + 16 ≤ 216; omega
  | ⟨2, _⟩ => show 0 + 256 ≤ 256; omega

/-- What the kernel assumes of a column of samples holds. -/
theorem chk_holds : Chk x1 y1 y2 (fun i => whole i (seventh (F := Ideal) (cut y1) (cut y2))) (whole j (seventh (F := Ideal) (cut x1) (cut x2))) := by
  obtain ⟨n', w', hx⟩ := axis_exists (cut_toNat x1) (cut_toNat x2) j
  have ex := near_toNat hx
  have lx := near_le hx
  have ea := align_toNat (v := near x1 j (seventh (cut x1) (cut x2))) (by omega)
  have hd : 8 ∣ (align (near x1 j (seventh (cut x1) (cut x2)))).toNat := by rw [ea]; exact Nat.dvd_mul_left _ _
  exact ⟨hd, upper_fits x1 y1 x2 y2 0 j, lower_fits x1 y1 x2 y2 0 j, upper_fits x1 y1 x2 y2 1 j, lower_fits x1 y1 x2 y2 1 j,
    upper_fits x1 y1 x2 y2 2 j, lower_fits x1 y1 x2 y2 2 j, upper_fits x1 y1 x2 y2 3 j, lower_fits x1 y1 x2 y2 3 j,
    upper_fits x1 y1 x2 y2 4 j, lower_fits x1 y1 x2 y2 4 j, upper_fits x1 y1 x2 y2 5 j, lower_fits x1 y1 x2 y2 5 j,
    upper_fits x1 y1 x2 y2 6 j, lower_fits x1 y1 x2 y2 6 j⟩

/-- The right column's weight: none where the near column is the box's last one or beyond. -/
theorem colWeight_eq {n : ℕ} {w : ℝ} (h : AxisAt (cut x1) (cut x2) j n w) :
    colWeight x1 x2 j (seventh (F := Ideal) (cut x1) (cut x2)) = if (cut x2).toNat ≤ (cut x1).toNat + n then 0 else (w : EReal) := by
  have ex := near_toNat h
  have lx := near_le h
  have l2 := cut_toNat x2
  have e2 : (cut x2).toInt = (cut x2).toNat := by rw [BitVec.toInt_eq_toNat_cond]; split <;> omega
  have en : (near x1 j (seventh (cut x1) (cut x2))).toInt = (near x1 j (seventh (cut x1) (cut x2))).toNat := by
    rw [BitVec.toInt_eq_toNat_cond]; split <;> omega
  have e0 : Ideal.ofBits .f32 0x00000000#32 = 0 := Ideal.ofBits_zero_f32
  show Scalar.select (BitVec.ofBool ((cut x2).sle (near x1 j (seventh (cut x1) (cut x2))))) (Ideal.ofBits .f32 0x00000000#32)
    (part j (seventh (cut x1) (cut x2))) = _
  rw [e0, h.part_eq]
  by_cases hc : (cut x2).toNat ≤ (cut x1).toNat + n
  · rw [if_pos hc, show (cut x2).sle (near x1 j (seventh (cut x1) (cut x2))) = true by
      simp only [BitVec.sle, decide_eq_true_eq]; omega]
    rfl
  · rw [if_neg hc, show (cut x2).sle (near x1 j (seventh (cut x1) (cut x2))) = false by
      simp only [BitVec.sle, decide_eq_false_iff_not]; omega]
    rfl

/-- The kernel's cell is the sample, on any scratch contents whose first 200 columns are the image. -/
theorem cell_eq (c : Dev nD) (g : Buf (Elt Ideal) (scM.view.loc (c.tc : Thread nD τ))) (A : Fin 256 → Fin 200 → Fin 200 → EReal)
    (hg : ∀ (a b : Fin 200) (d : Fin 256), g (ix3 a (⟨b.val, by omega⟩ : Fin 216) d) = A d a b)
    (hu : ∀ a, upper x1 y1 (whole i (seventh (F := Ideal) (cut y1) (cut y2))) (whole j (seventh (F := Ideal) (cut x1) (cut x2))) a
      + S1x16x256.size a ≤ S200x216x256.size a)
    (hl : ∀ a, lower x1 y1 y2 (whole i (seventh (F := Ideal) (cut y1) (cut y2))) (whole j (seventh (F := Ideal) (cut x1) (cut x2))) a
      + S1x16x256.size a ≤ S200x216x256.size a) (p q : Fin 1) (z : Fin 256) :
    cellValue (part i (seventh (F := Ideal) (cut y1) (cut y2))) (colWeight x1 x2 j (seventh (F := Ideal) (cut x1) (cut x2)))
        (Scalar.andi (Scalar.addi (cut x1) (whole j (seventh (F := Ideal) (cut x1) (cut x2)))) 7#32)
        (readWindow c scM g _ hu) (readWindow c scM g _ hl) (ix3 p q z)
      = sample (A z) x1 y1 x2 y2 i j := by
  obtain ⟨n, w, hy⟩ := axis_exists (cut_toNat y1) (cut_toNat y2) i
  obtain ⟨n', w', hx⟩ := axis_exists (cut_toNat x1) (cut_toNat x2) j
  have ey := near_toNat hy
  have ly := near_le hy
  have fy := far_toNat hy
  have ex := near_toNat hx
  have lx := near_le hx
  have fx := far_toNat hx
  have l2 := cut_toNat x2
  have m2 := cut_toNat y2
  have ea := align_toNat (v := near x1 j (seventh (cut x1) (cut x2))) (by omega)
  have eb := low_toNat (v := near x1 j (seventh (cut x1) (cut x2))) (by omega)
  have hk : (Scalar.andi (near x1 j (seventh (cut x1) (cut x2))) 7#32).toNat < 8 := by omega
  -- what the windows hold at a column on the image
  have hup : ∀ (d : Fin 16) (b : Fin 200), (align (near x1 j (seventh (cut x1) (cut x2)))).toNat + d.val = b.val →
      readWindow c scM g _ hu (ix3 (0 : Fin 1) d z) = A z (line (near y1 i (seventh (cut y1) (cut y2)))) b := by
    intro d b hb
    rw [← hg]
    refine congrArg g (funext fun x => Fin.ext ?_)
    match x with
    | ⟨0, _⟩ =>
      show (near y1 i (seventh (cut y1) (cut y2))).toNat + 1 * 0 = min (near y1 i (seventh (cut y1) (cut y2))).toNat 199
      omega
    | ⟨1, _⟩ => show (align (near x1 j (seventh (cut x1) (cut x2)))).toNat + 1 * d.val = b.val; omega
    | ⟨2, _⟩ => show 0 + 1 * z.val = z.val; omega
  have hlo : ∀ (d : Fin 16) (b : Fin 200), (align (near x1 j (seventh (cut x1) (cut x2)))).toNat + d.val = b.val →
      readWindow c scM g _ hl (ix3 (0 : Fin 1) d z) = A z (line (far y1 y2 i (seventh (cut y1) (cut y2)))) b := by
    intro d b hb
    rw [← hg]
    refine congrArg g (funext fun x => Fin.ext ?_)
    match x with
    | ⟨0, _⟩ =>
      show (far y1 y2 i (seventh (cut y1) (cut y2))).toNat + 1 * 0 = min (far y1 y2 i (seventh (cut y1) (cut y2))).toNat 199
      omega
    | ⟨1, _⟩ => show (align (near x1 j (seventh (cut x1) (cut x2)))).toNat + 1 * d.val = b.val; omega
    | ⟨2, _⟩ => show 0 + 1 * z.val = z.val; omega
  have hline : (line (near x1 j (seventh (cut x1) (cut x2)))).val = (cut x1).toNat + n' := by
    show min (near x1 j (seventh (cut x1) (cut x2))).toNat 199 = _
    omega
  refine (cellValue_apply _ _ _ hk _ _ p q z).trans ?_
  rw [colWeight_eq x1 x2 j hx, hy.part_eq,
    hup _ (line (near x1 j (seventh (cut x1) (cut x2)))) (by rw [hline]; dsimp only; omega),
    hlo _ (line (near x1 j (seventh (cut x1) (cut x2)))) (by rw [hline]; dsimp only; omega)]
  unfold sample
  dsimp only
  rw [hy.part_eq, hx.part_eq]
  by_cases hc : (cut x2).toNat ≤ (cut x1).toNat + n'
  · rw [if_pos hc]
    rw [sub_zero, one_mul, zero_mul, add_zero]
    rcases hx.within with hw | ⟨-, hw0, -⟩
    · have hf : line (far x1 x2 j (seventh (cut x1) (cut x2))) = line (near x1 j (seventh (cut x1) (cut x2))) := by
        refine Fin.ext ?_
        rw [hline]
        show min (far x1 x2 j (seventh (cut x1) (cut x2))).toNat 199 = _
        omega
      rw [hf]
      exact (blend_same hy.nonneg hy.lt_one hx.nonneg hx.lt_one _ _).symm
    · rw [hw0, EReal.coe_zero]
      exact (blend_zero _ _ _ _ _).symm
  · rw [if_neg hc]
    have hf : (line (far x1 x2 j (seventh (cut x1) (cut x2)))).val = (cut x1).toNat + n' + 1 := by
      show min (far x1 x2 j (seventh (cut x1) (cut x2))).toNat 199 = _
      omega
    rw [hup _ (line (far x1 x2 j (seventh (cut x1) (cut x2)))) (by rw [hf]; dsimp only; omega),
      hlo _ (line (far x1 x2 j (seventh (cut x1) (cut x2)))) (by rw [hf]; dsimp only; omega)]
    exact rows_cols _ hx.nonneg hx.lt_one _ _ _ _

end Box

end Cert.Roi

end
-- ==== Proof.Point.lean ====
/- One grid point of the kernel over the extended reals: the block of samples it leaves, the scratch buffer holding the point's
   image after it. -/
module

public import proofs.«01_k».proof.Proof.Sample

@[expose] public section

noncomputable section

namespace Cert.Roi

open Cert.KernelIdeal Cert.KernelIdeal.Facts₀ Cert.KernelIdeal.Facts
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

attribute [local instance] Cert.KernelIdeal.Gen.facts

local notation "𝕄" => MT nD τ sig Unit (Elt Ideal) ℕ (Pipeline.UD sig nD τ) ℕ

/-- Word `k` of box `r`. -/
def corner (X : S8192.Idx → BitVec 32) (r : Fin 2048) (k : Fin 4) : BitVec 32 := X (ix1 (⟨r.val * 4 + k.val, by omega⟩ : Fin 8192))

/-- The sample (`i`, `j`) of box `r` on channel `d`, of the images `M` and the boxes' words `X`: 256 boxes to an image. -/
def roi (M : S8x200x200x256.Idx → EReal) (X : S8192.Idx → BitVec 32) (r : Fin 2048) (i j : Fin 7) (d : Fin 256) : EReal :=
  sample (fun a b => M (ix4 (⟨r.val / 256, by omega⟩ : Fin 8) a b d)) (corner X r 0) (corner X r 1) (corner X r 2) (corner X r 3) i j

/-- The block of grid point `i`. -/
def block (M : S8x200x200x256.Idx → EReal) (X : S8192.Idx → BitVec 32) (i : grid0.Coords) (y : S49x32x256.Idx) : EReal :=
  roi M X (⟨(i 0).val * 256 + (i 1).val * 32 + (y 1).val, by
      have h0 : (i 0).val < 8 := (i 0).isLt
      have h1 : (i 1).val < 8 := (i 1).isLt
      have h2 : (y 1).val < 32 := (y 1).isLt
      omega⟩ : Fin 2048)
    (⟨(y 0).val / 7, by have h : (y 0).val < 49 := (y 0).isLt; omega⟩ : Fin 7) (⟨(y 0).val % 7, by omega⟩ : Fin 7) (⟨(y 2).val, (y 2).isLt⟩ : Fin 256)

/-- The scratch buffer's first 200 columns are image `b`. -/
def Holds {c : Dev nD} (M : S8x200x200x256.Idx → EReal) (b : Fin 8) (g : Buf (Elt Ideal) (scM.view.loc (c.tc : Thread nD τ))) : Prop :=
  ∀ (x y : Fin 200) (d : Fin 256), g (ix3 x (⟨y.val, by omega⟩ : Fin 216) d) = M (ix4 b x y d)

/-- The image of a grid point. -/
abbrev imageNo (i : grid0.Coords) : Fin 8 := ⟨(i 0).val, (i 0).isLt⟩

section Block
variable (c : Dev nD) (i : grid0.Coords) (arg3 : Memref sig .tc .smem S8192 .i32) (arg4 : Memref sig .tc .vmem S49x32x256 .f32)
variable (w : Buf (Elt Ideal) (arg3.view.loc (c.tc : Thread nD τ))) (g : Buf (Elt Ideal) (scM.view.loc (c.tc : Thread nD τ)))
variable (M : S8x200x200x256.Idx → EReal) (X : S8192.Idx → BitVec 32)

/-- Every box of the point meets its samples. -/
theorem meets (hw : arg3.view.read (Elt Ideal) w = X) (hg : Holds M (imageNo i) g) (t : Fin k0_t1_loop.trips) (u : Fin 8) :
    Meets c i arg3 scM w g (block M X i) t u := by
  have h0 : (i 0).val < 8 := (i 0).isLt
  have h1 : (i 1).val < 8 := (i 1).isLt
  have ht : t.val < 4 := trips_eq ▸ t.isLt
  have hr : (i 0).val * 256 + (i 1).val * 32 + (t.val * 8 + u.val) < 2048 := by omega
  have hword : ∀ k : Fin 4, readWord c i arg3 w t u k = corner X ⟨(i 0).val * 256 + (i 1).val * 32 + (t.val * 8 + u.val), hr⟩ k := by
    intro k
    unfold corner
    rw [← hw]
    refine congrArg (arg3.view.read (Elt Ideal) w) (funext fun x => Fin.ext ?_)
    match x with
    | ⟨0, _⟩ =>
      have e := wordAt_eq i t u k
      show wordAt i t u k 0 + 1 * 0 = _
      omega
  intro x1 y1 x2 y2 ex1 ey1 ex2 ey2 sy sx esy esx
  subst esy esx
  refine ⟨fun j => chk_holds x1 y1 x2 y2 j, fun a j h z => ?_⟩
  obtain ⟨p, q, d, rfl⟩ : ∃ p q d, z = ix3 p q d := ⟨_, _, _, eq_ix3 z⟩
  have hz : (Rect.unit (s := S49x32x256) (outAt t u a j) S1x1x256.size (outAt_inb t u a j)).emb (ix3 p q d)
      = ix3 (⟨a.val * 7 + j.val, by omega⟩ : Fin 49) (⟨t.val * 8 + u.val, by omega⟩ : Fin 32) d := by
    have eb := boxRow_toNat t u
    refine Rect.emb_eq_of_coords _ _ _ fun x => ?_
    match x with
    | ⟨0, _⟩ => show a.val * 7 + j.val = a.val * 7 + j.val + 1 * p.val; omega
    | ⟨1, _⟩ => show t.val * 8 + u.val = (boxRow t u).toNat + 1 * q.val; omega
    | ⟨2, _⟩ => show d.val = 0 + 1 * d.val; omega
  rw [hz]
  have hc := cell_eq x1 y1 x2 y2 a j c g (fun d x y => M (ix4 (imageNo i) x y d)) (fun x y d => hg x y d) (upper_inb h a) (lower_inb h a) p q d
  refine hc.trans ?_
  unfold block roi
  rw [hword] at ex1 ey1 ex2 ey2
  rw [ex1, ey1, ex2, ey2]
  have e7 : (⟨(a.val * 7 + j.val) / 7, by omega⟩ : Fin 7) = a := Fin.ext (by dsimp only; omega)
  have m7 : (⟨(a.val * 7 + j.val) % 7, by omega⟩ : Fin 7) = j := Fin.ext (by dsimp only; omega)
  have ei : (⟨((i 0).val * 256 + (i 1).val * 32 + (t.val * 8 + u.val)) / 256, by omega⟩ : Fin 8) = imageNo i := Fin.ext (by dsimp only; omega)
  dsimp only
  rw [ei]
  exact congrArg₂ _ e7.symm m7.symm

/-- The body at one point, from the scratch buffer at the point's image or, at the image's first point, at anything. -/
theorem need_body (fs : Buf (Elt Ideal) (scM.view.loc (c.tc : Thread nD τ))) (hfs : k0_cond1 i ≠ 1#1 → Holds M (imageNo i) fs)
    (W : Waits sig Unit) (K : PUnit → sProp 𝕄) :
    iprop((scM.view.loc (c : Thread nD τ) ↦{fullShare} fs) ∗ semVal ((c : Thread nD τ), SemLoc.dma 3) 0
        ∗ (hbM.view.loc (c : Thread nD τ) ↦{fullShare} M) ∗ owes (c : Thread nD τ) 0 W
        ∗ owns (c : Thread nD τ) arg3 fullShare X ∗ (∃ d, owns (c : Thread nD τ) arg4 fullShare d)
        ∗ (iprop((∃ g, ⌜Holds M (imageNo i) g⌝ ∗ (scM.view.loc (c : Thread nD τ) ↦{fullShare} g)) ∗ semVal ((c : Thread nD τ), SemLoc.dma 3) 0
            ∗ (hbM.view.loc (c : Thread nD τ) ↦{fullShare} M) ∗ (∃ W', owes (c : Thread nD τ) 0 W')
            ∗ owns (c : Thread nD τ) arg3 fullShare X ∗ owns (c : Thread nD τ) arg4 fullShare (block M X i)) -∗ K ⟨⟩))
      ⊢ need c (body i hbM arg3 arg4 scM cc0_scratch1) K := by
  -- the trips, from the scratch buffer at the image
  have htrips : ∀ g : Buf (Elt Ideal) (scM.view.loc (c.tc : Thread nD τ)), Holds M (imageNo i) g →
      iprop((scM.view.loc (c : Thread nD τ) ↦{fullShare} g) ∗ owns (c : Thread nD τ) arg3 fullShare X ∗ (∃ d, owns (c : Thread nD τ) arg4 fullShare d)
        ∗ (iprop((scM.view.loc (c : Thread nD τ) ↦{fullShare} g) ∗ owns (c : Thread nD τ) arg3 fullShare X
            ∗ owns (c : Thread nD τ) arg4 fullShare (block M X i)) -∗ K ⟨⟩))
      ⊢ need c (trips i arg3 arg4 scM) K := by
    intro g hg
    unfold owns
    iintro ⟨HS, ⟨%w, %hw, Hw⟩, ⟨%d, %f, -, Hf⟩, Hk⟩
    have ht := need_trips c i arg3 arg4 scM w g (block M X i) (meets c i arg3 w g M X hw hg)
    unfold Stage at ht
    rw [show (scM.view.set : Finset _) = Finset.univ from View.set_whole _] at ht
    unfold need at ht ⊢
    iapply (wp_wand_r Idealize.ShloMosaic.frame (wpE (defs₀ (F := Ideal)) Variants.none c none) Set.univ)
    isplitl [HS Hw Hf]
    · iapply ht
      isplitl [Hw]; · iexact Hw
      isplitl [HS]; · iexact HS
      iexists f
      isplitr
      · ipureintro
        intro y hy
        exact absurd hy (Nat.not_lt_zero _)
      iexact Hf
    iintro %_ ⟨Hw, HS, ⟨%f', %hf, Hf⟩⟩
    iapply Hk
    isplitl [HS]; · iexact HS
    isplitl [Hw]
    · iexists w; isplitr; · ipureintro; exact hw
      iexact Hw
    iexists f'; isplitr
    · ipureintro
      funext y
      refine hf y ?_
      have a0 : (y 0).val < 49 := (y 0).isLt
      have a1 : (y 1).val < 32 := (y 1).isLt
      omega
    iexact Hf
  unfold body
  by_cases h : k0_cond1 i = 1#1
  · rw [dif_pos h]
    unfold need
    rw [wp_bind]
    iintro ⟨HS, Hq, Hh, HW, Hx, Ho, Hk⟩
    iapply (need_bring c i h M fs W)
    isplitl [HS]; · iexact HS
    isplitl [Hq]; · iexact Hq
    isplitl [Hh]; · iexact Hh
    isplitl [HW]; · iexact HW
    iintro ⟨HS, Hq, Hh, HW⟩
    iapply (htrips (brought i h M fs) fun x y d => brought_apply i h M fs x y d)
    isplitl [HS]; · iexact HS
    isplitl [Hx]; · iexact Hx
    isplitl [Ho]; · iexact Ho
    iintro ⟨HS, Hx, Ho⟩
    iapply Hk
    isplitl [HS]
    · iexists _; isplitr; · ipureintro; exact fun x y d => brought_apply i h M fs x y d
      iexact HS
    isplitl [Hq]; · iexact Hq
    isplitl [Hh]; · iexact Hh
    isplitl [HW]; · iexact HW
    isplitl [Hx]; · iexact Hx
    iexact Ho
  · rw [dif_neg h]
    iintro ⟨HS, Hq, Hh, HW, Hx, Ho, Hk⟩
    iapply (htrips fs (hfs h))
    isplitl [HS]; · iexact HS
    isplitl [Hx]; · iexact Hx
    isplitl [Ho]; · iexact Ho
    iintro ⟨HS, Hx, Ho⟩
    iapply Hk
    isplitl [HS]
    · iexists _; isplitr; · ipureintro; exact hfs h
      iexact HS
    isplitl [Hq]; · iexact Hq
    isplitl [Hh]; · iexact Hh
    isplitl [HW]; · iexists W; iexact HW
    isplitl [Hx]; · iexact Hx
    iexact Ho

end Block

end Cert.Roi

end
-- ==== Proof.Region.lean ====
/- The launch of the kernel over the extended reals: the scratch buffer, from one grid point to the next, keeps the image which the
   first point of every eight brings in; the output window's block at a point is that point's samples. -/
module

public import proofs.«01_k».proof.Proof.Point
public import proofs.«01_k».proof.Proof.Gen.KernelIdeal.Frame
public import Idealize.ShloMosaic.Lib.Pipeline.Value

@[expose] public section

set_option maxRecDepth 16384

noncomputable section

namespace Cert.Roi

open Cert.KernelIdeal Cert.KernelIdeal.Facts₀ Cert.KernelIdeal.Facts Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

attribute [local instance] Cert.KernelIdeal.Gen.facts

local notation "𝕄" => MT nD τ sig Unit (Elt Ideal) ℕ (Pipeline.UD sig nD τ) ℕ

variable (m : (ℓ : Loc nD τ sig) → Buf (Elt Ideal) ℓ) (ρ : Dev nD → PrngReg)

/-! ## The grid's points -/

/-- Eight points to an image. -/
theorem coords_zero (t : Fin cfg0.N) : ((grid0.coords t) 0).val = t.val / 8 := by
  have ht : t.val < 64 := lt_of_lt_of_eq t.isLt N_0
  show t.val / 8 % 8 = _
  omega
theorem coords_one (t : Fin cfg0.N) : ((grid0.coords t) 1).val = t.val % 8 := by
  show t.val / 1 % 8 = _
  omega

/-! ## What the kernel keeps between points -/

/-- The semaphore of the kernel's own transfer. -/
abbrev ownSem : Fin 1 → SemLoc sig := fun j => (![SemLoc.dma 3] : Fin 1 → SemLoc sig) j
theorem ownSem_facts : Pipeline.OwnSemFacts spec0 ownSem := by decide
/-- The images stay in the large memory: the kernel copies out of them itself. -/
def large : Finset (Ref sig .tc) := {main_v0}
theorem large_sub : large ⊆ Pipeline.restRefs sig spec0 := by decide

/-- What is kept whatever the point: the generator's state, the counter at zero, the images. -/
def kept (c : Dev nD) : sProp 𝕄 :=
  iprop((∃ r, prngReg c r) ∗ semVal ((c : Thread nD τ), SemLoc.dma 3) 0 ∗ (hbM.view.loc (c.tc : Thread nD τ) ↦{fullShare} V m c main_v0))

/-- Before point `n` the scratch buffer holds the image of its eight points, unless `n` is the first of them. -/
def between (c : Dev nD) (n : ℕ) : sProp 𝕄 :=
  iprop((∃ g : Buf (Elt Ideal) (scM.view.loc (c.tc : Thread nD τ)),
      ⌜∀ b : Fin 8, n % 8 ≠ 0 → n / 8 = b.val → Holds (c := c) (V m c main_v0) b g⌝ ∗ (scM.view.loc (c.tc : Thread nD τ) ↦{fullShare} g))
    ∗ kept m c)

/-- The library's invariant of the launch, conjunct by conjunct. -/
theorem between_launch (c : Dev nD) :
    (Pipeline.ΦD ownSem spec0 large (V m) c : sProp 𝕄)
      = iprop((∃ g : Buf (Elt Ideal) (scM.view.loc (c.tc : Thread nD τ)), (scM.view.loc (c.tc : Thread nD τ) ↦{fullShare} g)) ∗ kept m c) := by
  rw [Pipeline.ΦD_eq, scopedRest0_eq, Pipeline.ownSems0_eq_of_list c ownSem [0] (by decide) (by decide),
    BI.bigSep_eq_bigSepL_of_eq [main_v0] (by decide) (by decide)]
  rfl

/-- At the first point nothing is asked of the scratch buffer. -/
theorem between_first (c : Dev nD) : (Pipeline.ΦD ownSem spec0 large (V m) c : sProp 𝕄) ⊢ between m c 0 := by
  rw [between_launch]
  unfold between
  iintro ⟨⟨%g, HS⟩, Hk⟩
  isplitl [HS]
  · iexists g; isplitr
    · ipureintro; intro b hb; exact absurd rfl hb
    iexact HS
  iexact Hk

/-- What the scratch buffer holds may be forgotten. -/
theorem between_last (c : Dev nD) (n : ℕ) : between m c n ⊢ (Pipeline.ΦD ownSem spec0 large (V m) c : sProp 𝕄) := by
  rw [between_launch]
  unfold between
  iintro ⟨⟨%g, -, HS⟩, Hk⟩
  isplitl [HS]
  · iexists g; iexact HS
  iexact Hk

/-! ## The proof data -/

/-- The words' window keeps the words; the output's window holds the point's block of samples. -/
def dats (_ : Fin 1) (c : Dev nD) : Dat τ (Elt Ideal) Unit ℕ (Pipeline.UD sig nD τ) ℕ cfg0 c where
  A w := V m c (Pipeline.arrRef spec0 w)
  after w t := match w with
    | ⟨0, _⟩ => iblk m c 0 t
    | ⟨1, _⟩ => block (V m c main_v0) (V m c main_v1) (grid0.coords t)
  Φ n := between m c n.val
  q _ := fullShare
  owed _ := 0

theorem A_eq (c : Dev nD) (w : Fin cfg0.W) : (dats m 0 c).A w = V m c (Pipeline.arrRef spec0 w) := by dsimp only [dats]
theorem after_words (c : Dev nD) (t : Fin cfg0.N) : (dats m 0 c).after 0 t = iblk m c 0 t := by dsimp only [dats]
theorem after_block (c : Dev nD) (t : Fin cfg0.N) :
    (dats m 0 c).after 1 t = block (V m c main_v0) (V m c main_v1) (grid0.coords t) := by dsimp only [dats]

/-- The words' block is all the words, at every point. -/
theorem words_whole (c : Dev nD) (t : Fin cfg0.N) : iblk m c 0 t = V m c main_v1 := by
  have hz : (fun a => win0_0.index t a * main_v1.ty.shape.size a) = fun _ => 0 := by
    funext a
    rw [show win0_0.index t a = 0 from by fin_cases a; rfl, Nat.zero_mul]
  exact Memref.read_access_unit_zero (Elt Ideal) main_v1 hz (fun a => by rw [congrFun hz a]; simp) (V m c main_v1)

/-- Its staging buffer holds them before the body. -/
theorem words_before (c : Dev nD) (t : Fin cfg0.N) (d) : (dats m 0 c).before 0 t d = V m c main_v1 := by
  have hA := A_eq m c 0
  refine (((dats m 0 c).before_in_eq_fetched 0 rfl (fun _ => rfl) (fun _ _ _ => rfl)
      (fun t => by rw [after_words]; unfold Dat.blockOf iblk; rw [hA]; try rfl) t d).trans
    (by unfold Dat.fetched Dat.blockOf iblk; rw [hA]; try rfl : _ = iblk m c 0 t)).trans (words_whole m c t)

/-! ## The body at a point -/

abbrev wordsStage (t : Fin cfg0.N) : Memref sig .tc .smem S8192 .i32 := win0_0.stage (cfg0.slots t 0)
abbrev blockStage (t : Fin cfg0.N) : Memref sig .tc .vmem S49x32x256 .f32 := win0_1.stage (cfg0.slots t 1)

def bodyPre (c : Dev nD) (t : Fin cfg0.N) : sProp 𝕄 :=
  iprop((dats m 0 c).Φ t.castSucc ∗ (dats m 0 c).owesAt () t.castSucc
    ∗ (∃ d, owns (c : Thread nD τ) (wordsStage t) fullShare ((dats m 0 c).before 0 t d))
    ∗ (∃ d, owns (c : Thread nD τ) (blockStage t) fullShare ((dats m 0 c).before 1 t d)))
def bodyPost (c : Dev nD) (t : Fin cfg0.N) : sProp 𝕄 :=
  iprop((dats m 0 c).Φ t.succ ∗ (dats m 0 c).owesAt () t.succ
    ∗ owns (c : Thread nD τ) (wordsStage t) fullShare ((dats m 0 c).after 0 t)
    ∗ owns (c : Thread nD τ) (blockStage t) fullShare ((dats m 0 c).after 1 t))

theorem sound_body (c : Dev nD) (t : Fin cfg0.N) :
    bodyPre m c t ⊢ wp Idealize.ShloMosaic.frame (wpE (defs₀ (F := Ideal)) Variants.none c none) Set.univ (bodyAt0 t) (fun _ => bodyPost m c t) := by
  have h0 := coords_zero t
  have h1 := coords_one t
  have hΦ : (dats m 0 c).Φ t.castSucc = between m c t.val := rfl
  have hΦ' : (dats m 0 c).Φ t.succ = between m c (t.val + 1) := rfl
  have hrun : bodyAt0 (F := Ideal) t = body (grid0.coords t) hbM (wordsStage t) (blockStage t) scM cc0_scratch1 := by
    unfold bodyAt0
    exact printed_eq _ _ _ _ _ _ _ _ _ _
  unfold bodyPre bodyPost
  simp only [words_before, after_words, words_whole, after_block]
  rw [hΦ, hΦ', hrun]
  unfold between Dat.owesAt Pipeline.owesWithin kept
  rw [show (dats m 0 c).owed t.castSucc = 0 from rfl, show (dats m 0 c).owed t.succ = 0 from rfl]
  iintro ⟨⟨⟨%g, %hg, HS⟩, Hr, Hq, Hh⟩, ⟨%W, -, HO⟩, ⟨%d0, Hx⟩, ⟨%d1, Hb⟩⟩
  have hneed := need_body c (grid0.coords t) (wordsStage t) (blockStage t) (V m c main_v0) (V m c main_v1) g
    (fun h => hg (imageNo (grid0.coords t)) (by
      intro h8
      exact h ((cond_iff (grid0.coords t)).mpr (h1.trans h8))) h0.symm) W
  unfold need at hneed
  iapply (hneed _)
  isplitl [HS]; · iexact HS
  isplitl [Hq]; · iexact Hq
  isplitl [Hh]; · iexact Hh
  isplitl [HO]; · iexact HO
  isplitl [Hx]; · iexact Hx
  isplitl [Hb]; · iexists _; iexact Hb
  iintro ⟨⟨%g', %hg', HS⟩, Hq, Hh, ⟨%W', HO⟩, Hx, Hb⟩
  isplitl [HS Hr Hq Hh]
  · isplitl [HS]
    · iexists g'; isplitr
      · ipureintro
        intro b hb hn
        have e : b = imageNo (grid0.coords t) := Fin.ext (by show b.val = ((grid0.coords t) 0).val; omega)
        rw [e]; exact hg'
      iexact HS
    isplitl [Hr]; · iexact Hr
    isplitl [Hq]; · iexact Hq
    iexact Hh
  isplitl [HO]
  · iexists W'; isplitr; · ipureintro; exact fun _ _ => Or.inl trivial
    iexact HO
  isplitl [Hx]; · iexact Hx
  iexact Hb

/-- The body table's row at the point is the body. -/
theorem defs₀_row (t : Fin cfg0.N) : defs₀ (F := Ideal) .tc cfg0.body (cfg0.bodyArgs t (cfg0.slots t)) = bodyAt0 t := by
  unfold defs₀; rw [Defs.onTc_tc]

/-- The library's obligation. -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

/-! ## The launch -/

/-- The lines after the region touch the output's array and buffers that no window and no transfer of the kernel touches. -/
theorem after_sub : ∀ ops ∈ ([hostOps1] : List (List (HloOp τ sig (Elt Ideal)))), ∀ op ∈ ops,
    op.bufs ⊆ Pipeline.tailRefsBut sig Pipeline.Prefetch.none spec0 large := by
  intro ops hops op hop
  simp only [List.mem_cons, List.mem_nil_iff, or_false] at hops
  rcases hops with rfl
  simp only [hostOps1, List.mem_cons, List.mem_nil_iff, or_false] at hop
  rcases hop with rfl | rfl
  · rw [StableHlo.unary_bufs]; decide
  · rw [StableHlo.reshape_bufs]; decide

/-- @main up to the region, continued by the later lines. -/
theorem hmain_at (𝒱₀ : Variants) : Pipeline.HMainK (Ix := Unit) (Name := ℕ) (U := Pipeline.UD sig nD τ) (Lvl := ℕ) cfgs 0 defs₀ 𝒱₀ m
      (main (F := Ideal)) (V m) (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

set_option backward.isDefEq.respectTransparency.types false in
/-- Every run ends: the windows' arrays at what the proof data says, the other buffers as the host lines leave them, the counters at
    zero. -/
theorem run_main : θ_run defs (onTc (τ := τ) (main (F := Ideal))) (s₀ m ρ)
    (fun r => Pipeline.FramePost cfgs (dats m) 0 (Pipeline.afterTail₀ cfgs (dats m) 0 (V0 m) [hostOps1]) r ∧ r.2.sem = fun _ => 0) :=
  Pipeline.θ_run_frame_dma_around (Q' := _) cfgs (dats m) (0 : Fin 1) launch0 ownSem defs₀ Variants.none ownSem_facts large large_sub m ρ main
    (hbody := fun c => (body_obligation m c).loose) (hshare := fun c => (dats m 0 c).share_full fun _ => rfl)
    (howed := fun _ _ => rfl) (V₀ := V0 m) (opss := [hostOps1]) (hsub := after_sub) (hfresh := sfx_fresh) (hkeep := sfx_keeps)
    (hmain := hmain_at m Variants.none) (hA := A_eq m)
    (hin := between_first m) (hout := fun c => between_last m c _)

end Cert.Roi

end
-- ==== Proof.Result.lean ====
/- What a run of the kernel over the extended reals leaves: the result array's entries are the boxes' samples, the arguments are as
   they were, every counter is at zero. -/
module

public import proofs.«01_k».proof.Proof.Region

@[expose] public section

set_option maxRecDepth 16384

noncomputable section

namespace Cert.Roi

open Cert.KernelIdeal Cert.KernelIdeal.Facts₀ Cert.KernelIdeal.Facts Cert.KernelIdeal.Gen
open Idealize.ShloMosaic Idealize.ShloMosaic.TcCoe Idealize.ShloMosaic.Tactic Idealize.ShloMosaic.ValueIdx
open Idealize.SL.Sem
open Idealize.ShloMosaic.Pipeline (Dat)

attribute [local instance] Cert.KernelIdeal.Gen.facts

variable (m : (ℓ : Loc nD τ sig) → Buf (Elt Ideal) ℓ) (ρ : Dev nD → PrngReg)

/-! ## The array the kernel writes -/

/-- Entry (`p`, `r`, `d`): sample `p` (row by row) of box `r` on channel `d`. -/
def samples (M : S8x200x200x256.Idx → EReal) (X : S8192.Idx → BitVec 32) (y : S49x2048x256.Idx) : EReal :=
  roi M X (⟨(y 1).val, (y 1).isLt⟩ : Fin 2048) (⟨(y 0).val / 7, by have h : (y 0).val < 49 := (y 0).isLt; omega⟩ : Fin 7)
    (⟨(y 0).val % 7, by omega⟩ : Fin 7) (⟨(y 2).val, (y 2).isLt⟩ : Fin 256)

/-- A point's block starts at its first box. -/
theorem start_zero (t : Fin cfg0.N) : win0_1.index t 0 = 0 := rfl
theorem start_two (t : Fin cfg0.N) : win0_1.index t 2 = 0 := rfl
theorem start_one (t : Fin cfg0.N) : win0_1.index t 1 = t.val := by
  have h0 := coords_zero t
  have h1 := coords_one t
  have ht : t.val < 64 := lt_of_lt_of_eq t.isLt N_0
  show (Scalar.addi (Scalar.muli (BitVec.ofNat 32 ((grid0.coords t) 0).val) 8#32) (BitVec.ofNat 32 ((grid0.coords t) 1).val)).toNat = _
  rw [h0, h1]
  simp only [Scalar.addi, Scalar.muli, IntOp.addi, IntOp.muli, BitVec.toNat_add, BitVec.toNat_mul, BitVec.toNat_ofNat]
  omega

/-- An entry of a point's block is the array's entry at that box. -/
theorem block_samples (M : S8x200x200x256.Idx → EReal) (X : S8192.Idx → BitVec 32) (i : grid0.Coords) (y : S49x32x256.Idx)
    (z : S49x2048x256.Idx) (h0 : (z 0).val = (y 0).val) (h1 : (z 1).val = (i 0).val * 256 + (i 1).val * 32 + (y 1).val)
    (h2 : (z 2).val = (y 2).val) : block M X i y = samples M X z := by
  unfold block samples
  simp only [h0, h1, h2]

/-- What a point writes back is its block of the array of samples. -/
theorem flushed_eq (c : Dev nD) (t : Fin cfg0.N) (_ : (cfg0.win 1).flush t = true) :
    (dats m 0 c).flushed 1 t = ((cfg0.win 1).blk t).view.read (Elt Ideal) (samples (V m c main_v0) (V m c main_v1)) := by
  have h0 := coords_zero t
  have h1 := coords_one t
  have s0 := start_zero t
  have s1 := start_one t
  have s2 := start_two t
  show (cfg0.win 1).cut (grid0.coords t) ((dats m 0 c).after 1 t) = _
  rw [after_block]
  generalize V m c main_v0 = M
  generalize V m c main_v1 = X
  funext y
  refine block_samples M X (grid0.coords t) y (((cfg0.win 1).blk t).view.emb y) ?_ ?_ ?_
  · show win0_1.index t 0 * 49 + 1 * (y 0).val = (y 0).val
    rw [s0]; omega
  · show win0_1.index t 1 * 32 + 1 * (y 1).val = _
    rw [h0, h1, s1]; omega
  · show win0_1.index t 2 * 256 + 1 * (y 2).val = (y 2).val
    rw [s2]; omega

/-- The points' blocks cover the array, so it ends holding the samples. -/
theorem samples_final (c : Dev nD) : (dats m 0 c).arrAt 1 cfg0.N = samples (V m c main_v0) (V m c main_v1) :=
  (dats m 0 c).arrAt_eq_of_cover 1 (samples (V m c main_v0) (V m c main_v1)) (flushed_eq m c) fun i => by
    have h0 : (i 0 : Nat) < 49 := (i 0).isLt
    have h1 : (i 1 : Nat) < 2048 := (i 1).isLt
    have h2 : (i 2 : Nat) < 256 := (i 2).isLt
    have hN : (i 1 : Nat) / 32 < cfg0.N := lt_of_lt_of_eq (by omega : (i 1 : Nat) / 32 < 64) N_0.symm
    refine ⟨⟨(i 1 : Nat) / 32, hN⟩, flush0_1 _, ?_⟩
    have s0 := start_zero ⟨(i 1 : Nat) / 32, hN⟩
    have s1 := start_one ⟨(i 1 : Nat) / 32, hN⟩
    have s2 := start_two ⟨(i 1 : Nat) / 32, hN⟩
    show i ∈ ((View.whole main_v2).slice (win0_1.rect ⟨(i 1 : Nat) / 32, hN⟩)).set
    rw [View.set_slice_whole, Rect.mem_set_unit]
    intro a
    match a with
    | ⟨0, _⟩ =>
      show win0_1.index ⟨(i 1 : Nat) / 32, hN⟩ 0 * 49 ≤ (i 0 : Nat) ∧ (i 0 : Nat) < win0_1.index ⟨(i 1 : Nat) / 32, hN⟩ 0 * 49 + 49
      rw [s0]; omega
    | ⟨1, _⟩ =>
      show win0_1.index ⟨(i 1 : Nat) / 32, hN⟩ 1 * 32 ≤ (i 1 : Nat) ∧ (i 1 : Nat) < win0_1.index ⟨(i 1 : Nat) / 32, hN⟩ 1 * 32 + 32
      rw [s1]; dsimp only; omega
    | ⟨2, _⟩ =>
      show win0_1.index ⟨(i 1 : Nat) / 32, hN⟩ 2 * 256 ≤ (i 2 : Nat) ∧ (i 2 : Nat) < win0_1.index ⟨(i 1 : Nat) / 32, hN⟩ 2 * 256 + 256
      rw [s2]; omega

/-! ## The result -/

/-- The images with the channels last, and the boxes' words in a row. -/
def images (A : S8x256x200x200.Idx → EReal) (y : S8x200x200x256.Idx) : EReal := A (ix4 (y 0) (y 3) (y 1) (y 2))
def words (B : S8x256x4.Idx → BitVec 32) (y : S8192.Idx) : BitVec 32 :=
  B (ix3 (⟨(y 0).val / 1024, by have h : (y 0).val < 8192 := (y 0).isLt; omega⟩ : Fin 8) (⟨(y 0).val / 4 % 256, by omega⟩ : Fin 256)
    (⟨(y 0).val % 4, by omega⟩ : Fin 4))

/-- Entry (`r`, `d`, `i`, `j`) of the result: sample (`i`, `j`) of box `r` on channel `d`. -/
def result (A : S8x256x200x200.Idx → EReal) (B : S8x256x4.Idx → BitVec 32) (y : S2048x256x7x7.Idx) : EReal :=
  roi (images A) (words B) (⟨(y 0).val, (y 0).isLt⟩ : Fin 2048) (⟨(y 2).val, (y 2).isLt⟩ : Fin 7) (⟨(y 3).val, (y 3).isLt⟩ : Fin 7)
    (⟨(y 1).val, (y 1).isLt⟩ : Fin 256)

/-- What the lines before the region compute. -/
theorem images_eq (c : Dev nD) : V m c main_v0 = images (m ((c : Thread nD τ).loc main_arg0)) := by
  have e : V m c main_v0 = transpose S8x200x200x256 [0, 2, 3, 1] (m ((c : Thread nD τ).loc main_arg0)) Facts₀.transposes_S8x256x200x200_S8x200x200x256_0_2_3_1 := by
    show StableHlo.after (List.flatten [hostOps0]) (fun b => m (c, b)) (Proc.devRef .tc main_v0) = _
    simp only [hostOps0, List.flatten_cons, List.flatten_nil, List.cons_append, List.nil_append]
    after_results_simp
    try rfl
  rw [e]
  funext y
  refine transpose_apply _ _ _ y _ fun b => ?_
  match b with
  | ⟨0, _⟩ => rfl
  | ⟨1, _⟩ => rfl
  | ⟨2, _⟩ => rfl
  | ⟨3, _⟩ => rfl

theorem words_eq (c : Dev nD) : V m c main_v1 = words (m ((c : Thread nD τ).loc main_arg1)) := by
  have e : V m c main_v1 = shapeCast S8192 (m ((c : Thread nD τ).loc main_arg1)) Facts₀.shapeCasts_S8x256x4_S8192 := by
    show StableHlo.after (List.flatten [hostOps0]) (fun b => m (c, b)) (Proc.devRef .tc main_v1) = _
    simp only [hostOps0, List.flatten_cons, List.flatten_nil, List.cons_append, List.nil_append]
    after_results_simp
    try rfl
  rw [e]
  generalize m ((c : Thread nD τ).loc main_arg1) = B
  revert B
  intro (B : S8x256x4.Idx → BitVec 32)
  funext y
  refine shapeCast_apply B _ y _ ?_
  rw [Shape.rowMajor_val_three, Shape.rowMajor_val_one]
  show ((y 0).val / 1024 * 256 + (y 0).val / 4 % 256) * 4 + (y 0).val % 4 = (y 0).val
  omega

/-- What the lines after the region compute of the array of samples. -/
theorem result_eq (c : Dev nD) : Pipeline.afterTail₀ cfgs (dats m) 0 (V0 m) [hostOps1] c main_v4
    = result (m ((c : Thread nD τ).loc main_arg0)) (m ((c : Thread nD τ).loc main_arg1)) := by
  have e : Pipeline.afterTail₀ cfgs (dats m) 0 (V0 m) [hostOps1] c main_v4
      = shapeCast S2048x256x7x7 (transpose S2048x256x49 [1, 2, 0] (samples (V m c main_v0) (V m c main_v1)) Facts₀.transposes_S49x2048x256_S2048x256x49_1_2_0)
        Facts₀.shapeCasts_S2048x256x49_S2048x256x7x7 := by
    have hw := Pipeline.withArrays_arr spec0 launch0.win.arr_inj c (V0 m c) (fun w => (dats m 0 c).arrAt w cfg0.N) 1
    rw [samples_final] at hw
    unfold Pipeline.afterTail₀
    simp only [hostOps1, List.flatten_cons, List.flatten_nil, List.cons_append, List.nil_append]
    after_results_simp
    exact congrArg (fun u => shapeCast S2048x256x7x7 (transpose S2048x256x49 [1, 2, 0] u Facts₀.transposes_S49x2048x256_S2048x256x49_1_2_0)
      Facts₀.shapeCasts_S2048x256x49_S2048x256x7x7) hw
  rw [e, images_eq, words_eq]
  funext y
  have h0 : (y 0).val < 2048 := (y 0).isLt
  have h1 : (y 1).val < 256 := (y 1).isLt
  have h2 : (y 2).val < 7 := (y 2).isLt
  have h3 : (y 3).val < 7 := (y 3).isLt
  refine (shapeCast_apply _ _ y (ix3 (⟨(y 0).val, h0⟩ : Fin 2048) (⟨(y 1).val, h1⟩ : Fin 256) (⟨(y 2).val * 7 + (y 3).val, by omega⟩ : Fin 49)) ?_).trans ?_
  · rw [Shape.rowMajor_val_three, Shape.rowMajor_val_four]
    show ((y 0).val * 256 + (y 1).val) * 49 + ((y 2).val * 7 + (y 3).val) = (((y 0).val * 256 + (y 1).val) * 7 + (y 2).val) * 7 + (y 3).val
    omega
  refine (transpose_apply _ _ _ _ (ix3 (⟨(y 2).val * 7 + (y 3).val, by omega⟩ : Fin 49) (⟨(y 0).val, h0⟩ : Fin 2048) (⟨(y 1).val, h1⟩ : Fin 256)) fun b => ?_).trans ?_
  · match b with
    | ⟨0, _⟩ => rfl
    | ⟨1, _⟩ => rfl
    | ⟨2, _⟩ => rfl
  show roi _ _ (⟨(y 0).val, _⟩ : Fin 2048) (⟨((y 2).val * 7 + (y 3).val) / 7, _⟩ : Fin 7) (⟨((y 2).val * 7 + (y 3).val) % 7, _⟩ : Fin 7)
      (⟨(y 1).val, _⟩ : Fin 256)
    = roi _ _ (⟨(y 0).val, _⟩ : Fin 2048) (⟨(y 2).val, _⟩ : Fin 7) (⟨(y 3).val, _⟩ : Fin 7) (⟨(y 1).val, _⟩ : Fin 256)
  congr 1 <;> refine Fin.ext ?_ <;> dsimp only <;> omega

/-! ## The arguments -/

/-- A buffer that no line writes and no window stages ends as it was. -/
theorem kept_buffer (c : Dev nD) (b : Ref sig .tc) (h0 : b ≠ main_v0) (h1 : b ≠ main_v1) (h2 : b ≠ main_v2) (h3 : b ≠ main_v3) (h4 : b ≠ main_v4) :
    Pipeline.afterTail₀ cfgs (dats m) 0 (V0 m) [hostOps1] c b = m ((c : Thread nD τ).loc b) := by
  unfold Pipeline.afterTail₀
  rw [StableHlo.after_of_forall_not_mem (b := Proc.devRef .tc b) _ _ (List.forall_iff_forall_mem.mp (by
      simp only [hostOps1, List.flatten_cons, List.flatten_nil, List.append_nil, List.Forall, StableHlo.unary_writes,
        StableHlo.reshape_writes, Finset.mem_singleton]
      exact ⟨StableHlo.devRef_ne_of_ne h3, StableHlo.devRef_ne_of_ne h4⟩)),
    Pipeline.withArrays_of_ne _ c (V0 m c) _ b (by intro w; fin_cases w; exacts [h1.symm, h2.symm])]
  exact StableHlo.after_of_forall_not_mem (b := Proc.devRef .tc b) _ _ (List.forall_iff_forall_mem.mp (by
      simp only [hostOps0, List.flatten_cons, List.flatten_nil, List.append_nil, List.Forall, StableHlo.unary_writes,
        StableHlo.reshape_writes, Finset.mem_singleton]
      exact ⟨StableHlo.devRef_ne_of_ne h0, StableHlo.devRef_ne_of_ne h1⟩))

/-- The kernel's run: the result, the arguments, the counters. -/
theorem run : θ_run defs (onTc (τ := τ) (main (F := Ideal))) ⟨m, fun _ => 0, ρ⟩ (fun r => (∀ c : Dev nD,
      r.2.mem ((c : Thread nD τ).loc main_v4) = result (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1))
      ∧ r.2.sem = fun _ => 0) :=
  (θ_run defs _ _).mono (fun _ h => ⟨fun c =>
    ⟨((h.1 c).2 main_v4 (Pipeline.mem_restRefs_of main_v4 (by decide) (by decide))).trans (result_eq m c),
      ((h.1 c).2 main_arg0 (Pipeline.mem_restRefs_of main_arg0 (by decide) (by decide))).trans
        (kept_buffer m c main_arg0 (by decide) (by decide) (by decide) (by decide) (by decide)),
      ((h.1 c).2 main_arg1 (Pipeline.mem_restRefs_of main_arg1 (by decide) (by decide))).trans
        (kept_buffer m c main_arg1 (by decide) (by decide) (by decide) (by decide) (by decide))⟩, h.2⟩) (run_main m ρ)

end Cert.Roi

end
-- ==== Proof.RefAxis.lean ====
/- What the reference computes along one axis of a box: the cut corners, the samples' places, their weights and the lines before and
   after them, each at a box and a sample the word or the number the box's own corners give. -/
module

public import proofs.«01_k».proof.Proof.Sample
public import proofs.«01_k».proof.Proof.Gen.ReferenceIdeal.Run

@[expose] public section

noncomputable section

namespace Cert.Roi

open Cert.ReferenceIdeal Cert.ReferenceIdeal.Gen
open Idealize.ShloMosaic Idealize.ShloMosaic.ValueIdx

/-! ## Words -/

/-- A box's cut corner from the column of corners. -/
theorem clip_apply (u : IVec S2048x1 32) (r : Fin 2048) :
    minsi (broadcastInDim S2048 ![] bcast_S_S2048 (id (constantI S_ 32 199#32)))
      (maxsi (broadcastInDim S2048 ![] bcast_S_S2048 (id (constantI S_ 32 0#32))) (shapeCast S2048 u shapeCasts_S2048x1_S2048)) (ix1 r)
      = cut (u (ix2 r (0 : Fin 1))) := by
  have e : shapeCast S2048 u shapeCasts_S2048x1_S2048 (ix1 r) = u (ix2 r (0 : Fin 1)) := by
    refine shapeCast_apply u _ (ix1 r) _ ?_
    rw [Shape.rowMajor_val_two, Shape.rowMajor_val_one]
    show r.val * 1 + 0 = r.val
    omega
  show IntOp.minsi 199#32 (IntOp.maxsi 0#32 (shapeCast S2048 u shapeCasts_S2048x1_S2048 (ix1 r))) = _
  rw [e]
  rfl

/-- A box's number read off the boxes' vector, spread over the seven samples. -/
theorem spread_apply {α : Type} (u : S2048.Idx → α) (r : Fin 2048) (k : Fin 7) :
    broadcastInDim S2048x7 ![0, 1] bcast_S2048x1_S2048x7_0_1 (broadcastInDim S2048x1 ![0] bcast_S2048_S2048x1_0 u) (ix2 r k) = u (ix1 r) := by
  refine (broadcastInDim_apply _ _ _ (ix2 r k) (ix2 r (0 : Fin 1)) fun a => ?_).trans
    (broadcastInDim_apply _ _ _ (ix2 r (0 : Fin 1)) (ix1 r) fun a => ?_)
  · match a with
    | ⟨0, _⟩ => rfl
    | ⟨1, _⟩ => rfl
  · match a with
    | ⟨0, _⟩ => rfl

/-- The sample's half-integer. -/
theorem half_apply (k : Fin 7) :
    addf (sitofp (F := Ideal) .f32 (iotaInDim S7 32 0)) (broadcastInDim S7 ![] bcast_S_S7 (constant S_ .f32 0x3F000000#32)) (ix1 k)
      = Ideal.ofBits .f32 (halfWord k) := by
  show (((BitVec.ofNat 32 k.val).toInt : ℝ) : EReal) + Ideal.ofBits .f32 0x3F000000#32 = _
  rw [ofBits_half_f32, ofBits_halfWord, show (BitVec.ofNat 32 k.val).toInt = (k.val : ℤ) by revert k; decide, EReal.coe_add]
  norm_cast

/-- The samples' places along the axis, of the vector of sides. -/
def places (h : IVec S2048 32) : FVec Ideal S2048x7 .f32 :=
  maximumf (subf (mulf (broadcastInDim S2048x7 ![0, 1] bcast_S1x7_S2048x7_0_1 (broadcastInDim S1x7 ![1] bcast_S7_S1x7_1
      (addf (sitofp .f32 (iotaInDim S7 32 0)) (broadcastInDim S7 ![] bcast_S_S7 (constant S_ .f32 0x3F000000#32)))))
      (broadcastInDim S2048x7 ![0, 1] bcast_S2048x1_S2048x7_0_1 (Host.divf (broadcastInDim S2048x1 ![0] bcast_S2048_S2048x1_0 (sitofp .f32 h))
        (broadcastInDim S2048x1 ![] bcast_S_S2048x1 (constant S_ .f32 0x40E00000#32)))))
    (broadcastInDim S2048x7 ![] bcast_S_S2048x7 (constant S_ .f32 0x3F000000#32))) (broadcastInDim S2048x7 ![] bcast_S_S2048x7 (constant S_ .f32 0x00000000#32))

theorem places_apply (h : IVec S2048 32) (r : Fin 2048) (k : Fin 7) (lo hi : BitVec 32)
    (e : h (ix1 r) = Scalar.addi (Scalar.subi hi lo) 1#32) : places h (ix2 r k) = place k (seventh (F := Ideal) lo hi) := by
  have ek : broadcastInDim S2048x7 ![0, 1] bcast_S1x7_S2048x7_0_1 (broadcastInDim S1x7 ![1] bcast_S7_S1x7_1
      (addf (sitofp (F := Ideal) .f32 (iotaInDim S7 32 0)) (broadcastInDim S7 ![] bcast_S_S7 (constant S_ .f32 0x3F000000#32)))) (ix2 r k)
      = Ideal.ofBits .f32 (halfWord k) := by
    refine ((broadcastInDim_apply _ _ _ (ix2 r k) (ix2 (0 : Fin 1) k) fun a => ?_).trans
      (broadcastInDim_apply _ _ _ (ix2 (0 : Fin 1) k) (ix1 k) fun a => ?_)).trans (half_apply k)
    · match a with
      | ⟨0, _⟩ => rfl
      | ⟨1, _⟩ => rfl
    · match a with
      | ⟨0, _⟩ => rfl
  have es : broadcastInDim S2048x7 ![0, 1] bcast_S2048x1_S2048x7_0_1 (Host.divf (F := Ideal) (φ := .f32)
        (broadcastInDim S2048x1 ![0] bcast_S2048_S2048x1_0 (sitofp .f32 h))
        (broadcastInDim S2048x1 ![] bcast_S_S2048x1 (constant S_ .f32 0x40E00000#32))) (ix2 r k) = seventh (F := Ideal) lo hi := by
    refine (broadcastInDim_apply _ _ _ (ix2 r k) (ix2 r (0 : Fin 1)) fun a => ?_).trans ?_
    · match a with
      | ⟨0, _⟩ => rfl
      | ⟨1, _⟩ => rfl
    have eh : broadcastInDim S2048x1 ![0] bcast_S2048_S2048x1_0 (sitofp (F := Ideal) .f32 h) (ix2 r (0 : Fin 1))
        = ((((h (ix1 r)).toInt : ℝ)) : EReal) := by
      refine broadcastInDim_apply _ _ _ (ix2 r (0 : Fin 1)) (ix1 r) fun a => ?_
      match a with
      | ⟨0, _⟩ => rfl
    show Ideal.div (broadcastInDim S2048x1 ![0] bcast_S2048_S2048x1_0 (sitofp (F := Ideal) .f32 h) (ix2 r (0 : Fin 1))) (Ideal.ofBits .f32 0x40E00000#32) = _
    rw [eh, e]
    rfl
  unfold places
  show max (_ * _ - Ideal.ofBits .f32 0x3F000000#32) (Ideal.ofBits .f32 0x00000000#32) = _
  rw [ek, es]
  rfl

/-- The reference's far line is the sample's: never beyond the box's last one. -/
theorem far_word {v v2 : BitVec 32} {k : Fin 7} :
    IntOp.addi (cut v) (IntOp.minsi (IntOp.addi (whole k (seventh (F := Ideal) (cut v) (cut v2))) 1#32)
        (IntOp.subi (Scalar.addi (Scalar.subi (cut v2) (cut v)) 1#32) 1#32))
      = far v v2 k (seventh (cut v) (cut v2)) := by
  obtain ⟨n, w, h⟩ := axis_exists (cut_toNat v) (cut_toNat v2) k
  have e := far_toNat h
  have hl := near_le h
  have h1 := cut_toNat v
  have h2 := cut_toNat v2
  have hw := h.within
  refine BitVec.eq_of_toNat_eq ?_
  rw [e, h.whole_eq]
  generalize cut v = lo at *
  generalize cut v2 = hi at *
  have ea : (IntOp.addi (BitVec.ofNat 32 n) 1#32).toNat = n + 1 := by
    simp only [IntOp.addi, BitVec.toNat_add, BitVec.toNat_ofNat]; omega
  have eb : (IntOp.subi (Scalar.addi (Scalar.subi hi lo) 1#32) 1#32).toNat = (hi.toNat + 2 ^ 32 - lo.toNat) % 2 ^ 32 := by
    simp only [IntOp.subi, IntOp.addi, Scalar.addi, Scalar.subi, BitVec.toNat_add, BitVec.toNat_sub, BitVec.toNat_ofNat]; omega
  generalize IntOp.addi (BitVec.ofNat 32 n) 1#32 = p at *
  generalize IntOp.subi (Scalar.addi (Scalar.subi hi lo) 1#32) 1#32 = q at *
  have tp := BitVec.toInt_eq_toNat_cond p
  have tq := BitVec.toInt_eq_toNat_cond q
  simp only [IntOp.addi, IntOp.minsi, BitVec.slt, decide_eq_true_eq, BitVec.toNat_add]
  split <;> split at tp <;> split at tq <;> omega

/-- Along one axis, at a box and a sample: the weight, the near line and the far line. -/
theorem weight_apply (h : IVec S2048 32) (r : Fin 2048) (k : Fin 7) (lo hi : BitVec 32)
    (e : h (ix1 r) = Scalar.addi (Scalar.subi hi lo) 1#32) :
    subf (places h) (Host.floor (places h)) (ix2 r k) = part k (seventh (F := Ideal) lo hi) := by
  have ep := places_apply h r k lo hi e
  show places h (ix2 r k) - Ideal.liftRound Int.floor (places h (ix2 r k)) = _
  rw [ep]
  rfl

theorem whole_apply (h : IVec S2048 32) (r : Fin 2048) (k : Fin 7) (lo hi : BitVec 32)
    (e : h (ix1 r) = Scalar.addi (Scalar.subi hi lo) 1#32) :
    fptosi 32 (Host.floor (places h)) (ix2 r k) = whole k (seventh (F := Ideal) lo hi) := by
  have ep := places_apply h r k lo hi e
  show Ideal.fptosi 32 (Ideal.liftRound Int.floor (places h (ix2 r k))) = _
  rw [ep]
  rfl

theorem near_apply (a h : IVec S2048 32) (r : Fin 2048) (k : Fin 7) (v v2 : BitVec 32) (ea : a (ix1 r) = cut v)
    (e : h (ix1 r) = Scalar.addi (Scalar.subi (cut v2) (cut v)) 1#32) :
    addi (broadcastInDim S2048x7 ![0, 1] bcast_S2048x1_S2048x7_0_1 (broadcastInDim S2048x1 ![0] bcast_S2048_S2048x1_0 a))
      (fptosi 32 (Host.floor (places h))) (ix2 r k) = near v k (seventh (cut v) (cut v2)) := by
  show IntOp.addi (broadcastInDim S2048x7 ![0, 1] bcast_S2048x1_S2048x7_0_1 (broadcastInDim S2048x1 ![0] bcast_S2048_S2048x1_0 a) (ix2 r k))
    (fptosi 32 (Host.floor (places h)) (ix2 r k)) = _
  rw [spread_apply, whole_apply h r k _ _ e, ea]
  rfl

theorem far_apply (a h : IVec S2048 32) (r : Fin 2048) (k : Fin 7) (v v2 : BitVec 32) (ea : a (ix1 r) = cut v)
    (e : h (ix1 r) = Scalar.addi (Scalar.subi (cut v2) (cut v)) 1#32) :
    addi (broadcastInDim S2048x7 ![0, 1] bcast_S2048x1_S2048x7_0_1 (broadcastInDim S2048x1 ![0] bcast_S2048_S2048x1_0 a))
      (minsi (addi (fptosi 32 (Host.floor (places h))) (broadcastInDim S2048x7 ![] bcast_S_S2048x7 (constantI S_ 32 1#32)))
        (broadcastInDim S2048x7 ![0, 1] bcast_S2048x1_S2048x7_0_1 (broadcastInDim S2048x1 ![0] bcast_S2048_S2048x1_0
          (subi h (broadcastInDim S2048 ![] bcast_S_S2048 (constantI S_ 32 1#32)))))) (ix2 r k) = far v v2 k (seventh (cut v) (cut v2)) := by
  show IntOp.addi (broadcastInDim S2048x7 ![0, 1] bcast_S2048x1_S2048x7_0_1 (broadcastInDim S2048x1 ![0] bcast_S2048_S2048x1_0 a) (ix2 r k))
    (IntOp.minsi (IntOp.addi (fptosi 32 (Host.floor (places h)) (ix2 r k)) 1#32)
      (broadcastInDim S2048x7 ![0, 1] bcast_S2048x1_S2048x7_0_1 (broadcastInDim S2048x1 ![0] bcast_S2048_S2048x1_0
          (subi h (broadcastInDim S2048 ![] bcast_S_S2048 (constantI S_ 32 1#32)))) (ix2 r k))) = _
  rw [spread_apply, spread_apply, whole_apply h r k _ _ e, ea]
  show IntOp.addi (cut v) (IntOp.minsi (IntOp.addi (whole k (seventh (F := Ideal) (cut v) (cut v2))) 1#32) (IntOp.subi (h (ix1 r)) 1#32)) = _
  rw [e]
  exact far_word

end Cert.Roi

end
-- ==== Proof.RefGather.lean ====
/- What the reference reads off the images: entry (r, i, j, d) of one of its four gathers is the images' entry at the box's image, the
   sample's lines and the channel. -/
module

public import proofs.«01_k».proof.Proof.RefAxis

@[expose] public section

noncomputable section

namespace Cert.Roi

open Cert.ReferenceIdeal Cert.ReferenceIdeal.Gen
open Idealize.ShloMosaic Idealize.ShloMosaic.ValueIdx

attribute [local instance] Cert.ReferenceIdeal.Gen.facts

/-! ## Words read as indices -/

/-- A word that is no negative integer is left as it is where negative ones are moved up. -/
theorem wrap_eq (v n : BitVec 32) (h : v.toNat < 2 ^ 31) : Scalar.select (IntOp.cmpi .slt v 0#32) (IntOp.addi v n) v = v := by
  have e : v.toInt = v.toNat := by rw [BitVec.toInt_eq_toNat_cond]; split <;> omega
  have e0 : (0#32 : BitVec 32).toInt = 0 := by decide
  have hs : IntOp.cmpi .slt v 0#32 = 0#1 := by
    show BitVec.ofBool (v.slt 0#32) = 0#1
    rw [show v.slt 0#32 = false by simp only [BitVec.slt, decide_eq_false_iff_not]; omega]
    rfl
  rw [hs]
  rfl

theorem toInt_toNat (v : BitVec 32) (h : v.toNat < 2 ^ 31) : v.toInt.toNat = v.toNat := by
  have e : v.toInt = v.toNat := by rw [BitVec.toInt_eq_toNat_cond]; split <;> omega
  rw [e, Int.toNat_natCast]

/-! ## The gather -/

/-- The index words (r, i, j, ·): where the gather starts. -/
abbrev startAt (r : Fin 2048) (i j : Fin 7) (k : Fin 3) : S2048x7x7x3.Idx := ix4 r i j k

abbrev dims4 : GatherDims S8x200x200x256 S2048x7x7x3 S2048x7x7x256 := gather_S8x200x200x256_S2048x7x7x3_S2048x7x7x256_3_012_n_n_012_3_111256

/-- The start-indices index of a word of result index (r, i, j, d). -/
theorem siIdx_eq (r : Fin 2048) (i j : Fin 7) (d : Fin 256) (k : Fin 3) (hk : k.val < dims4.startIndexMap.length) :
    dims4.siIdx (ix4 r i j d) ⟨k.val, hk⟩ = startAt r i j k := by
  funext b
  refine Fin.ext ?_
  match b with
  | ⟨0, _⟩ => rfl
  | ⟨1, _⟩ => rfl
  | ⟨2, _⟩ => rfl
  | ⟨3, _⟩ => rfl

/-- An indexed axis's coordinate: its word, cut to the axis. -/
theorem start_eq (idx : IVec S2048x7x7x3 32) (r : Fin 2048) (i j : Fin 7) (d : Fin 256) (a : Fin 4) (k : Fin 3) (hak : a.val = k.val) :
    dims4.start (ix4 r i j d) idx a = min (idx (startAt r i j k)).toInt.toNat (S8x200x200x256.size a - 1) := by
  unfold GatherDims.start
  match a, k, hak with
  | ⟨0, _⟩, ⟨0, _⟩, _ =>
    exact (dif_pos (show (0 : Fin 4) ∈ dims4.startIndexMap from by decide)).trans <| congrArg (fun q => min (idx q).toInt.toNat 7) (siIdx_eq r i j d 0 (by decide))
  | ⟨1, _⟩, ⟨1, _⟩, _ =>
    exact (dif_pos (show (1 : Fin 4) ∈ dims4.startIndexMap from by decide)).trans <| congrArg (fun q => min (idx q).toInt.toNat 199) (siIdx_eq r i j d 1 (by decide))
  | ⟨2, _⟩, ⟨2, _⟩, _ =>
    exact (dif_pos (show (2 : Fin 4) ∈ dims4.startIndexMap from by decide)).trans <| congrArg (fun q => min (idx q).toInt.toNat 199) (siIdx_eq r i j d 2 (by decide))

/-- An indexed axis keeps no offset. -/
theorem offset_none (y : S2048x7x7x256.Idx) (a : Fin 4) (ha : a.val < 3) : dims4.offCoord y a = 0 :=
  GatherDims.offCoord_eq_zero _ _ _ fun h => ((GatherDims.mem_sKept _ _).mp h).1 (by
    match a, ha with
    | ⟨0, _⟩, _ => exact (by decide : (0 : Fin 4) ∈ dims4.collapsedSliceDims)
    | ⟨1, _⟩, _ => exact (by decide : (1 : Fin 4) ∈ dims4.collapsedSliceDims)
    | ⟨2, _⟩, _ => exact (by decide : (2 : Fin 4) ∈ dims4.collapsedSliceDims))

/-- The gather at an index: the images at the three words, and the channel. -/
theorem gather_apply (M : S8x200x200x256.Idx → EReal) (idx : IVec S2048x7x7x3 32) (r : Fin 2048) (i j : Fin 7) (d : Fin 256) (n : Fin 8)
    (b y x : BitVec 32) (hb : idx (startAt r i j 0) = b) (hy : idx (startAt r i j 1) = y) (hx : idx (startAt r i j 2) = x)
    (lb : b.toNat = n.val) (ly : y.toNat ≤ 199) (lx : x.toNat ≤ 199) :
    Host.gather dims4 M idx (ix4 r i j d) = M (ix4 n (line y) (line x) d) := by
  have hn := n.isLt
  unfold Host.gather
  congr 1
  funext a
  refine Fin.ext ?_
  show dims4.start (ix4 r i j d) idx a + dims4.batchCoord (ix4 r i j d) a + dims4.offCoord (ix4 r i j d) a = _
  rw [GatherDims.batchCoord_eq_zero _ _ _ List.not_mem_nil]
  match a with
  | ⟨0, _⟩ =>
    rw [offset_none _ _ (by decide : (0 : ℕ) < 3), start_eq idx r i j d ⟨0, _⟩ 0 rfl, hb, toInt_toNat b (by omega)]
    show min b.toNat 7 + 0 + 0 = n.val
    omega
  | ⟨1, _⟩ =>
    rw [offset_none _ _ (by decide : (1 : ℕ) < 3), start_eq idx r i j d ⟨1, _⟩ 1 rfl, hy, toInt_toNat y (by omega)]
    rfl
  | ⟨2, _⟩ =>
    rw [offset_none _ _ (by decide : (2 : ℕ) < 3), start_eq idx r i j d ⟨2, _⟩ 2 rfl, hx, toInt_toNat x (by omega)]
    rfl
  | ⟨3, _⟩ =>
    rw [show dims4.start (ix4 r i j d) idx ⟨3, _⟩ = 0 from by
      unfold GatherDims.start
      exact dif_neg (show ¬ (3 : Fin 4) ∈ dims4.startIndexMap from by decide)]
    show 0 + 0 + dims4.offCoord (ix4 r i j d) (3 : Fin 4) = d.val
    rw [Nat.zero_add]
    rfl

/-! ## The index words -/

/-- The three index words of the boxes' samples. -/
def starts (b : IVec S2048x1x1 32) (y : IVec S2048x7x1 32) (x : IVec S2048x1x7 32) : IVec S2048x7x7x3 32 :=
  concatenate S2048x7x7x3 3 [
    ⟨S2048x7x7x1, broadcastInDim S2048x7x7x1 ![0, 1, 2] bcast_S2048x7x7_S2048x7x7x1_0_1_2 (broadcastInDim S2048x7x7 ![0, 1, 2] bcast_S2048x1x1_S2048x7x7_0_1_2
      (select (cmpi .slt b (broadcastInDim S2048x1x1 ![] bcast_S_S2048x1x1 (constantI S_ 32 0#32)))
        (addi b (broadcastInDim S2048x1x1 ![] bcast_S_S2048x1x1 (constantI S_ 32 8#32))) b))⟩,
    ⟨S2048x7x7x1, broadcastInDim S2048x7x7x1 ![0, 1, 2] bcast_S2048x7x7_S2048x7x7x1_0_1_2 (broadcastInDim S2048x7x7 ![0, 1, 2] bcast_S2048x7x1_S2048x7x7_0_1_2
      (select (cmpi .slt y (broadcastInDim S2048x7x1 ![] bcast_S_S2048x7x1 (constantI S_ 32 0#32)))
        (addi y (broadcastInDim S2048x7x1 ![] bcast_S_S2048x7x1 (constantI S_ 32 200#32))) y))⟩,
    ⟨S2048x7x7x1, broadcastInDim S2048x7x7x1 ![0, 1, 2] bcast_S2048x7x7_S2048x7x7x1_0_1_2 (broadcastInDim S2048x7x7 ![0, 1, 2] bcast_S2048x1x7_S2048x7x7_0_1_2
      (select (cmpi .slt x (broadcastInDim S2048x1x7 ![] bcast_S_S2048x1x7 (constantI S_ 32 0#32)))
        (addi x (broadcastInDim S2048x1x7 ![] bcast_S_S2048x1x7 (constantI S_ 32 200#32))) x))⟩]
    concatenates_S2048x7x7x1_S2048x7x7x1_S2048x7x7x1_S2048x7x7x3_d3

/-- The piece that holds word `k`. -/
def piece (p q s : IVec S2048x7x7x1 32) : Fin 3 → IVec S2048x7x7x1 32
  | 0 => p
  | 1 => q
  | 2 => s

theorem piece_zero (p q s : IVec S2048x7x7x1 32) : piece p q s 0 = p := rfl
theorem piece_one (p q s : IVec S2048x7x7x1 32) : piece p q s 1 = q := rfl
theorem piece_two (p q s : IVec S2048x7x7x1 32) : piece p q s 2 = s := rfl

/-- Word `k` of the three is read off piece `k`. -/
theorem starts_piece (p q s : IVec S2048x7x7x1 32) (r : Fin 2048) (i j : Fin 7) (k : Fin 3) :
    concatenate S2048x7x7x3 3 [⟨S2048x7x7x1, p⟩, ⟨S2048x7x7x1, q⟩, ⟨S2048x7x7x1, s⟩]
        concatenates_S2048x7x7x1_S2048x7x7x1_S2048x7x7x1_S2048x7x7x3_d3 (startAt r i j k)
      = piece p q s k (ix4 r i j (0 : Fin 1)) := by
  have hi : ∀ b : Fin 4, b ≠ (3 : Fin 4) → ((ix4 r i j (0 : Fin 1) : S2048x7x7x1.Idx) b).val = ((startAt r i j k) b).val := fun b hb => by
    match b, hb with
    | ⟨0, _⟩, _ => rfl
    | ⟨1, _⟩, _ => rfl
    | ⟨2, _⟩, _ => rfl
    | ⟨3, _⟩, hb => exact absurd rfl hb
  match k with
  | ⟨0, _⟩ => exact concatenate_apply_piece 3 [⟨S2048x7x7x1, p⟩, ⟨S2048x7x7x1, q⟩, ⟨S2048x7x7x1, s⟩] _ (startAt r i j 0) 0 (by simp) S2048x7x7x1 p rfl rfl 0 rfl (ix4 r i j (0 : Fin 1)) hi rfl
  | ⟨1, _⟩ => exact concatenate_apply_piece 3 [⟨S2048x7x7x1, p⟩, ⟨S2048x7x7x1, q⟩, ⟨S2048x7x7x1, s⟩] _ (startAt r i j 1) 1 (by simp) S2048x7x7x1 q rfl rfl 1 rfl (ix4 r i j (0 : Fin 1)) hi rfl
  | ⟨2, _⟩ => exact concatenate_apply_piece 3 [⟨S2048x7x7x1, p⟩, ⟨S2048x7x7x1, q⟩, ⟨S2048x7x7x1, s⟩] _ (startAt r i j 2) 2 (by simp) S2048x7x7x1 s rfl rfl 2 rfl (ix4 r i j (0 : Fin 1)) hi rfl

/-- A trailing axis of one entry adds nothing. -/
theorem unit_apply (p : IVec S2048x7x7 32) (r : Fin 2048) (i j : Fin 7) :
    broadcastInDim S2048x7x7x1 ![0, 1, 2] bcast_S2048x7x7_S2048x7x7x1_0_1_2 p (ix4 r i j (0 : Fin 1)) = p (ix3 r i j) := by
  refine broadcastInDim_apply _ _ _ _ (ix3 r i j) fun a => ?_
  match a with
  | ⟨0, _⟩ => rfl
  | ⟨1, _⟩ => rfl
  | ⟨2, _⟩ => rfl

/-- A box's word spread over its samples, a row's over its columns, a column's over its rows. -/
theorem box_apply (u : IVec S2048x1x1 32) (r : Fin 2048) (i j : Fin 7) :
    broadcastInDim S2048x7x7 ![0, 1, 2] bcast_S2048x1x1_S2048x7x7_0_1_2 u (ix3 r i j) = u (ix3 r (0 : Fin 1) (0 : Fin 1)) := by
  refine broadcastInDim_apply _ _ _ _ (ix3 r (0 : Fin 1) (0 : Fin 1)) fun a => ?_
  match a with
  | ⟨0, _⟩ => rfl
  | ⟨1, _⟩ => rfl
  | ⟨2, _⟩ => rfl
theorem row_apply (u : IVec S2048x7x1 32) (r : Fin 2048) (i j : Fin 7) :
    broadcastInDim S2048x7x7 ![0, 1, 2] bcast_S2048x7x1_S2048x7x7_0_1_2 u (ix3 r i j) = u (ix3 r i (0 : Fin 1)) := by
  refine broadcastInDim_apply _ _ _ _ (ix3 r i (0 : Fin 1)) fun a => ?_
  match a with
  | ⟨0, _⟩ => rfl
  | ⟨1, _⟩ => rfl
  | ⟨2, _⟩ => rfl
theorem col_apply (u : IVec S2048x1x7 32) (r : Fin 2048) (i j : Fin 7) :
    broadcastInDim S2048x7x7 ![0, 1, 2] bcast_S2048x1x7_S2048x7x7_0_1_2 u (ix3 r i j) = u (ix3 r (0 : Fin 1) j) := by
  refine broadcastInDim_apply _ _ _ _ (ix3 r (0 : Fin 1) j) fun a => ?_
  match a with
  | ⟨0, _⟩ => rfl
  | ⟨1, _⟩ => rfl
  | ⟨2, _⟩ => rfl

/-- One of the reference's gathers at an index. -/
theorem corner_apply (M : S8x200x200x256.Idx → EReal) (b : IVec S2048x1x1 32) (y : IVec S2048x7x1 32) (x : IVec S2048x1x7 32)
    (r : Fin 2048) (i j : Fin 7) (d : Fin 256) (n : Fin 8) (v w : BitVec 32)
    (hb : (b (ix3 r (0 : Fin 1) (0 : Fin 1))).toNat = n.val) (hy : y (ix3 r i (0 : Fin 1)) = v) (hx : x (ix3 r (0 : Fin 1) j) = w)
    (ly : v.toNat ≤ 199) (lx : w.toNat ≤ 199) :
    Host.gather dims4 M (starts b y x) (ix4 r i j d) = M (ix4 n (line v) (line w) d) := by
  have hn := n.isLt
  have e0 : starts b y x (startAt r i j 0) = b (ix3 r (0 : Fin 1) (0 : Fin 1)) := by
    refine (starts_piece _ _ _ r i j 0).trans ?_
    rw [piece_zero, unit_apply, box_apply]
    exact wrap_eq _ 8#32 (by omega)
  have e1 : starts b y x (startAt r i j 1) = v := by
    refine (starts_piece _ _ _ r i j 1).trans ?_
    rw [piece_one, unit_apply, row_apply, ← hy]
    exact wrap_eq _ 200#32 (by rw [hy]; omega)
  have e2 : starts b y x (startAt r i j 2) = w := by
    refine (starts_piece _ _ _ r i j 2).trans ?_
    rw [piece_two, unit_apply, col_apply, ← hx]
    exact wrap_eq _ 200#32 (by rw [hx]; omega)
  exact gather_apply M _ r i j d n _ v w e0 e1 e2 hb ly lx

/-! ## The weights -/

/-- A weight at an index: the row's times the column's. -/
theorem weights_apply (a : FVec Ideal S2048x7x1x1 .f32) (b : FVec Ideal S2048x1x7x1 .f32) (r : Fin 2048) (i j : Fin 7) (d : Fin 256) :
    broadcastInDim S2048x7x7x256 ![0, 1, 2, 3] bcast_S2048x7x7x1_S2048x7x7x256_0_1_2_3
        (mulf (broadcastInDim S2048x7x7x1 ![0, 1, 2, 3] bcast_S2048x7x1x1_S2048x7x7x1_0_1_2_3 a)
          (broadcastInDim S2048x7x7x1 ![0, 1, 2, 3] bcast_S2048x1x7x1_S2048x7x7x1_0_1_2_3 b)) (ix4 r i j d)
      = (a (ix4 r i (0 : Fin 1) (0 : Fin 1)) : EReal) * b (ix4 r (0 : Fin 1) j (0 : Fin 1)) := by
  refine (broadcastInDim_apply _ _ _ _ (ix4 r i j (0 : Fin 1)) fun a => ?_).trans ?_
  · match a with
    | ⟨0, _⟩ => rfl
    | ⟨1, _⟩ => rfl
    | ⟨2, _⟩ => rfl
    | ⟨3, _⟩ => rfl
  refine congrArg₂ (fun p q : EReal => p * q) (broadcastInDim_apply _ _ a _ (ix4 r i (0 : Fin 1) (0 : Fin 1)) fun a => ?_)
    (broadcastInDim_apply _ _ b _ (ix4 r (0 : Fin 1) j (0 : Fin 1)) fun a => ?_)
  · match a with
    | ⟨0, _⟩ => rfl
    | ⟨1, _⟩ => rfl
    | ⟨2, _⟩ => rfl
    | ⟨3, _⟩ => rfl
  · match a with
    | ⟨0, _⟩ => rfl
    | ⟨1, _⟩ => rfl
    | ⟨2, _⟩ => rfl
    | ⟨3, _⟩ => rfl

/-! ## The box's image -/

/-- A word's sign, as a word. -/
def sign (v : BitVec 32) : BitVec 32 := if v = 0 then 0 else if v.msb then -1 else 1

/-- The reference's quotient of a word by 256, rounded down. -/
def quotient (v : BitVec 32) : BitVec 32 :=
  Scalar.select (IntOp.andi (IntOp.cmpi .ne (sign v) (sign 256#32)) (IntOp.cmpi .ne (IntOp.remsi .host v 256#32) 0#32))
    (IntOp.subi (IntOp.divsi .host v 256#32) 1#32) (IntOp.divsi .host v 256#32)

theorem quotient_eq : ∀ r : Fin 2048, (quotient (BitVec.ofNat 32 r.val)).toNat = r.val / 256 := by decide +kernel

end Cert.Roi

end
-- ==== Proof.RefValue.lean ====
/- The reference's result: entry (r, d, i, j) is the sample (i, j) of box r on channel d. -/
module

public import proofs.«01_k».proof.Proof.RefGather
public import proofs.«01_k».proof.Proof.Result

@[expose] public section

set_option maxRecDepth 16384

noncomputable section

namespace Cert.Roi

open Cert.ReferenceIdeal Cert.ReferenceIdeal.Gen Cert.ReferenceIdeal.Value
open Idealize.ShloMosaic Idealize.ShloMosaic.TcCoe Idealize.ShloMosaic.ValueIdx Idealize.ShloMosaic.StableHlo
open Idealize.SL.Sem

attribute [local instance] Cert.ReferenceIdeal.Gen.facts

section Entry

variable (V0 : Valuation τ sig (Elt Ideal))

/-- The boxes' words the reference is given, and the corner `k` of box `r`. -/
def given : S8x256x4.Idx → BitVec 32 := V0 (Proc.devRef .tc main_arg1)
abbrev boxWord (r : Fin 2048) (k : Fin 4) : BitVec 32 := corner (words (given V0)) r k

/-- The boxes' words, four to a box. -/
theorem words_apply (r : Fin 2048) (k : Fin 4) : res_main_v0 V0 (ix2 r k) = boxWord V0 r k := by
  refine shapeCast_apply (given V0) shapeCasts_S8x256x4_S2048x4 (ix2 r k) _ ?_
  rw [Shape.rowMajor_val_three, Shape.rowMajor_val_two]
  show ((r.val * 4 + k.val) / 1024 * 256 + (r.val * 4 + k.val) / 4 % 256) * 4 + (r.val * 4 + k.val) % 4 = r.val * 4 + k.val
  omega

/-- A column of the words. -/
theorem column_apply (off : Fin 2 → Nat) (h : S2048x4.Slices off S2048x1) (r : Fin 2048) (k : Fin 4) (h0 : off 0 = 0) (h1 : off 1 = k.val) :
    extractStridedSlice S2048x1 off (res_main_v0 V0) h (ix2 r (0 : Fin 1)) = boxWord V0 r k := by
  rw [← words_apply]
  generalize res_main_v0 V0 = u
  revert u
  intro (u : S2048x4.Idx → BitVec 32)
  refine extractStridedSlice_apply off u h (ix2 r (0 : Fin 1)) (ix2 r k) fun a => ?_
  match a with
  | ⟨0, _⟩ => show r.val = off 0 + r.val; omega
  | ⟨1, _⟩ => show k.val = off 1 + 0; omega

/-! ## The corners and the sides -/

theorem left_apply (r : Fin 2048) : res_main_v3 V0 (ix1 r) = cut (boxWord V0 r 0) :=
  (clip_apply _ r).trans (congrArg cut (column_apply V0 ![0, 0] slices_S2048x4_S2048x1_0_0 r 0 rfl rfl))

theorem top_apply (r : Fin 2048) : res_main_v6 V0 (ix1 r) = cut (boxWord V0 r 1) :=
  (clip_apply _ r).trans (congrArg cut (column_apply V0 ![0, 1] slices_S2048x4_S2048x1_0_1 r 1 rfl rfl))

theorem height_apply (r : Fin 2048) :
    res_main_v15 V0 (ix1 r) = Scalar.addi (Scalar.subi (cut (boxWord V0 r 3)) (cut (boxWord V0 r 1))) 1#32 :=
  congrArg₂ (fun p q => IntOp.addi (IntOp.subi p q) 1#32)
    ((clip_apply _ r).trans (congrArg cut (column_apply V0 ![0, 3] slices_S2048x4_S2048x1_0_3 r 3 rfl rfl))) (top_apply V0 r)

theorem width_apply (r : Fin 2048) :
    res_main_v18 V0 (ix1 r) = Scalar.addi (Scalar.subi (cut (boxWord V0 r 2)) (cut (boxWord V0 r 0))) 1#32 :=
  congrArg₂ (fun p q => IntOp.addi (IntOp.subi p q) 1#32)
    ((clip_apply _ r).trans (congrArg cut (column_apply V0 ![0, 2] slices_S2048x4_S2048x1_0_2 r 2 rfl rfl))) (left_apply V0 r)

theorem rows_eq : res_main_v33 V0 = places (res_main_v15 V0) := rfl
theorem cols_eq : res_main_v45 V0 = places (res_main_v18 V0) := rfl

/-- The seventh of a box's side down and across. -/
abbrev down (r : Fin 2048) : Ideal .f32 := seventh (cut (boxWord V0 r 1)) (cut (boxWord V0 r 3))
abbrev across (r : Fin 2048) : Ideal .f32 := seventh (cut (boxWord V0 r 0)) (cut (boxWord V0 r 2))

/-! ## The weights and the lines -/

/-- A row's weight. -/
theorem rowPart_apply (r : Fin 2048) (i : Fin 7) : res_main_v81 V0 (ix4 r i (0 : Fin 1) (0 : Fin 1)) = part i (down V0 r) := by
  refine (broadcastInDim_apply _ bcast_S2048x7_S2048x7x1x1_0_1 (subf (places (res_main_v15 V0)) (Host.floor (places (res_main_v15 V0)))) _ (ix2 r i)
    fun a => ?_).trans (weight_apply _ r i _ _ (height_apply V0 r))
  match a with
  | ⟨0, _⟩ => rfl
  | ⟨1, _⟩ => rfl

/-- A column's weight. -/
theorem colPart_apply (r : Fin 2048) (j : Fin 7) : res_main_v82 V0 (ix4 r (0 : Fin 1) j (0 : Fin 1)) = part j (across V0 r) := by
  refine (broadcastInDim_apply _ bcast_S2048x7_S2048x1x7x1_0_2 (subf (places (res_main_v18 V0)) (Host.floor (places (res_main_v18 V0)))) _ (ix2 r j)
    fun a => ?_).trans (weight_apply _ r j _ _ (width_apply V0 r))
  match a with
  | ⟨0, _⟩ => rfl
  | ⟨1, _⟩ => rfl

/-- The word of a vector over the boxes, of one over the boxes' rows, of one over the boxes' columns. -/
theorem ofBox_apply (u : IVec S2048 32) (r : Fin 2048) :
    broadcastInDim S2048x1x1 ![0] bcast_S2048_S2048x1x1_0 u (ix3 r (0 : Fin 1) (0 : Fin 1)) = u (ix1 r) :=
  broadcastInDim_apply _ _ _ _ (ix1 r) fun a => match a with | ⟨0, _⟩ => rfl
theorem ofRow_apply (u : IVec S2048x7 32) (r : Fin 2048) (i : Fin 7) :
    broadcastInDim S2048x7x1 ![0, 1] bcast_S2048x7_S2048x7x1_0_1 u (ix3 r i (0 : Fin 1)) = u (ix2 r i) :=
  broadcastInDim_apply _ _ _ _ (ix2 r i) fun a => match a with | ⟨0, _⟩ => rfl | ⟨1, _⟩ => rfl
theorem ofCol_apply (u : IVec S2048x7 32) (r : Fin 2048) (j : Fin 7) :
    broadcastInDim S2048x1x7 ![0, 2] bcast_S2048x7_S2048x1x7_0_2 u (ix3 r (0 : Fin 1) j) = u (ix2 r j) :=
  broadcastInDim_apply _ _ _ _ (ix2 r j) fun a => match a with | ⟨0, _⟩ => rfl | ⟨1, _⟩ => rfl

theorem image_apply (r : Fin 2048) : res_main_v79 V0 (ix1 r) = quotient (BitVec.ofNat 32 r.val) := rfl
theorem nearRow_apply (r : Fin 2048) (i : Fin 7) : res_main_v68 V0 (ix2 r i) = near (boxWord V0 r 1) i (down V0 r) :=
  near_apply _ _ r i _ _ (top_apply V0 r) (height_apply V0 r)
theorem farRow_apply (r : Fin 2048) (i : Fin 7) : res_main_v71 V0 (ix2 r i) = far (boxWord V0 r 1) (boxWord V0 r 3) i (down V0 r) :=
  far_apply _ _ r i _ _ (top_apply V0 r) (height_apply V0 r)
theorem nearCol_apply (r : Fin 2048) (j : Fin 7) : res_main_v74 V0 (ix2 r j) = near (boxWord V0 r 0) j (across V0 r) :=
  near_apply _ _ r j _ _ (left_apply V0 r) (width_apply V0 r)
theorem farCol_apply (r : Fin 2048) (j : Fin 7) : res_main_v77 V0 (ix2 r j) = far (boxWord V0 r 0) (boxWord V0 r 2) j (across V0 r) :=
  far_apply _ _ r j _ _ (left_apply V0 r) (width_apply V0 r)

/-- A sample's lines are on the image. -/
theorem near_within (v v2 : BitVec 32) (k : Fin 7) : (near v k (seventh (F := Ideal) (cut v) (cut v2))).toNat ≤ 199 := by
  obtain ⟨n, w, h⟩ := axis_exists (cut_toNat v) (cut_toNat v2) k
  rw [near_toNat h]
  exact near_le h
theorem far_within (v v2 : BitVec 32) (k : Fin 7) : (far v v2 k (seventh (F := Ideal) (cut v) (cut v2))).toNat ≤ 199 := by
  obtain ⟨n, w, h⟩ := axis_exists (cut_toNat v) (cut_toNat v2) k
  rw [far_toNat h]
  exact (min_le_right _ _).trans (cut_toNat v2)

/-! ## The result -/

/-- One of the four gathers: at the lines `y` and `x`. -/
def read (y x : IVec S2048x7 32) : FVec Ideal S2048x7x7x256 .f32 :=
  Host.gather dims4 (res_main_v80 V0) (starts (broadcastInDim S2048x1x1 ![0] bcast_S2048_S2048x1x1_0 (res_main_v79 V0))
    (broadcastInDim S2048x7x1 ![0, 1] bcast_S2048x7_S2048x7x1_0_1 y) (broadcastInDim S2048x1x7 ![0, 2] bcast_S2048x7_S2048x1x7_0_2 x))

theorem read_apply (y x : IVec S2048x7 32) (r : Fin 2048) (i j : Fin 7) (d : Fin 256) (v w : BitVec 32) (hy : y (ix2 r i) = v)
    (hx : x (ix2 r j) = w) (ly : v.toNat ≤ 199) (lx : w.toNat ≤ 199) :
    read V0 y x (ix4 r i j d) = res_main_v80 V0 (ix4 (⟨r.val / 256, by omega⟩ : Fin 8) (line v) (line w) d) :=
  corner_apply (res_main_v80 V0) _ _ _ r i j d ⟨r.val / 256, by omega⟩ v w
    (by rw [ofBox_apply, image_apply, quotient_eq]) ((ofRow_apply y r i).trans hy) ((ofCol_apply x r j).trans hx) ly lx

/-- A weight of the blend, of a row's and a column's. -/
def weigh (a : FVec Ideal S2048x7x1x1 .f32) (b : FVec Ideal S2048x1x7x1 .f32) : FVec Ideal S2048x7x7x256 .f32 :=
  broadcastInDim S2048x7x7x256 ![0, 1, 2, 3] bcast_S2048x7x7x1_S2048x7x7x256_0_1_2_3
    (mulf (broadcastInDim S2048x7x7x1 ![0, 1, 2, 3] bcast_S2048x7x1x1_S2048x7x7x1_0_1_2_3 a)
      (broadcastInDim S2048x7x7x1 ![0, 1, 2, 3] bcast_S2048x1x7x1_S2048x7x7x1_0_1_2_3 b))

def restRow : FVec Ideal S2048x7x1x1 .f32 := subf (broadcastInDim S2048x7x1x1 ![] bcast_S_S2048x7x1x1 (constant S_ .f32 0x3F800000#32)) (res_main_v81 V0)
def restCol : FVec Ideal S2048x1x7x1 .f32 := subf (broadcastInDim S2048x1x7x1 ![] bcast_S_S2048x1x7x1 (constant S_ .f32 0x3F800000#32)) (res_main_v82 V0)

theorem restRow_apply (r : Fin 2048) (i : Fin 7) : restRow V0 (ix4 r i (0 : Fin 1) (0 : Fin 1)) = (1 : EReal) - part i (down V0 r) := by
  show Ideal.ofBits .f32 0x3F800000#32 - res_main_v81 V0 (ix4 r i (0 : Fin 1) (0 : Fin 1)) = _
  rw [rowPart_apply, Ideal.ofBits_one_f32]
theorem restCol_apply (r : Fin 2048) (j : Fin 7) : restCol V0 (ix4 r (0 : Fin 1) j (0 : Fin 1)) = (1 : EReal) - part j (across V0 r) := by
  show Ideal.ofBits .f32 0x3F800000#32 - res_main_v82 V0 (ix4 r (0 : Fin 1) j (0 : Fin 1)) = _
  rw [colPart_apply, Ideal.ofBits_one_f32]

/-- The blend of the four gathers. -/
def blended : FVec Ideal S2048x7x7x256 .f32 :=
  addf (addf (addf (mulf (weigh (restRow V0) (restCol V0)) (read V0 (res_main_v68 V0) (res_main_v74 V0)))
      (mulf (weigh (restRow V0) (res_main_v82 V0)) (read V0 (res_main_v68 V0) (res_main_v77 V0))))
      (mulf (weigh (res_main_v81 V0) (restCol V0)) (read V0 (res_main_v71 V0) (res_main_v74 V0))))
    (mulf (weigh (res_main_v81 V0) (res_main_v82 V0)) (read V0 (res_main_v71 V0) (res_main_v77 V0)))

/-- The images with the channels last. -/
theorem channels_last : res_main_v80 V0 = images (V0 (Proc.devRef .tc main_arg0)) := by
  funext y
  refine transpose_apply _ _ _ y _ fun b => ?_
  match b with
  | ⟨0, _⟩ => rfl
  | ⟨1, _⟩ => rfl
  | ⟨2, _⟩ => rfl
  | ⟨3, _⟩ => rfl

theorem blended_apply (r : Fin 2048) (i j : Fin 7) (d : Fin 256) :
    blended V0 (ix4 r i j d) = roi (images (V0 (Proc.devRef .tc main_arg0))) (words (given V0)) r i j d := by
  show weigh (restRow V0) (restCol V0) (ix4 r i j d) * read V0 (res_main_v68 V0) (res_main_v74 V0) (ix4 r i j d)
    + weigh (restRow V0) (res_main_v82 V0) (ix4 r i j d) * read V0 (res_main_v68 V0) (res_main_v77 V0) (ix4 r i j d)
    + weigh (res_main_v81 V0) (restCol V0) (ix4 r i j d) * read V0 (res_main_v71 V0) (res_main_v74 V0) (ix4 r i j d)
    + weigh (res_main_v81 V0) (res_main_v82 V0) (ix4 r i j d) * read V0 (res_main_v71 V0) (res_main_v77 V0) (ix4 r i j d) = _
  have hny := near_within (boxWord V0 r 1) (boxWord V0 r 3) i
  have hfy := far_within (boxWord V0 r 1) (boxWord V0 r 3) i
  have hnx := near_within (boxWord V0 r 0) (boxWord V0 r 2) j
  have hfx := far_within (boxWord V0 r 0) (boxWord V0 r 2) j
  rw [read_apply V0 _ _ r i j d _ _ (nearRow_apply V0 r i) (nearCol_apply V0 r j) hny hnx,
    read_apply V0 _ _ r i j d _ _ (nearRow_apply V0 r i) (farCol_apply V0 r j) hny hfx,
    read_apply V0 _ _ r i j d _ _ (farRow_apply V0 r i) (nearCol_apply V0 r j) hfy hnx,
    read_apply V0 _ _ r i j d _ _ (farRow_apply V0 r i) (farCol_apply V0 r j) hfy hfx]
  unfold weigh
  rw [weights_apply, weights_apply, weights_apply, weights_apply, restRow_apply, restCol_apply, rowPart_apply, colPart_apply, channels_last]
  rfl

/-- The reference's result array. -/
theorem result_value : transpose S2048x256x7x7 [0, 3, 1, 2] (blended V0) transposes_S2048x7x7x256_S2048x256x7x7_0_3_1_2
    = result (V0 (Proc.devRef .tc main_arg0)) (V0 (Proc.devRef .tc main_arg1)) := by
  funext y
  refine (transpose_apply _ _ _ y (ix4 (⟨(y 0).val, (y 0).isLt⟩ : Fin 2048) (⟨(y 2).val, (y 2).isLt⟩ : Fin 7) (⟨(y 3).val, (y 3).isLt⟩ : Fin 7)
    (⟨(y 1).val, (y 1).isLt⟩ : Fin 256)) fun b => ?_).trans (blended_apply V0 _ _ _ _)
  match b with
  | ⟨0, _⟩ => rfl
  | ⟨1, _⟩ => rfl
  | ⟨2, _⟩ => rfl
  | ⟨3, _⟩ => rfl

end Entry

/-- The reference's run: the result, the arguments, the counters. -/
theorem reference_run (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c : Thread nD τ).loc main_v218) = result (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1))
      ∧ r.2.sem = fun _ => 0) :=
  (θ_run defs _ _).mono (fun r h => ⟨fun c => ⟨(h c).1.trans (result_value (launchContents m c)), (h c).2⟩,
    sem_eq_zero_of_no_sems (by decide) r.2⟩) (Value.run (F := Ideal) m ρ)

end Cert.Roi

end
-- ==== Proof.lean ====
module

public import proofs.«01_k».proof.Defs
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Result
public import proofs.«01_k».proof.Proof.RefValue

@[expose] public section

noncomputable section

namespace Cert.Proof

open Idealize.ShloMosaic Idealize.SL.Sem

/-- The kernel's frame. -/
theorem frame_kernel : Cert.quiescent_KernelIdeal (hKernelIdeal := Cert.KernelIdeal.Gen.facts) := fun m g _ =>
  (θ_run _ _ _).mono (fun _ h => ⟨fun c => (h.1 c).2, h.2⟩) (Cert.Roi.run m g)

/-- The reference's frame. -/
theorem frame_reference : Cert.quiescent_ReferenceIdeal (hReferenceIdeal := Cert.ReferenceIdeal.Gen.facts) := fun m g _ =>
  (θ_run _ _ _).mono (fun _ h => ⟨fun c => (h.1 c).2, h.2⟩) (Cert.Roi.reference_run m g)

/-- The kernel and the reference compute the same array. -/
theorem same_result : Cert.algebraic_KernelIdeal_ReferenceIdeal (hKernelIdeal := Cert.KernelIdeal.Gen.facts)
    (hReferenceIdeal := Cert.ReferenceIdeal.Gen.facts) := fun m g m' g' _ hagree =>
  ⟨fun c => Cert.Roi.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    (θ_run _ _ _).mono (fun _ h => h.1) (Cert.Roi.run m g),
    (θ_run _ _ _).mono (fun _ h c => ⟨(h.1 c).1.trans (congrArg₂ Cert.Roi.result (hagree c).1 (hagree c).2), (h.1 c).2⟩)
      (Cert.Roi.reference_run m' g')⟩

/-- Everything the certificate claims. -/
theorem claim : Cert.Claim :=
  ⟨Cert.KernelIdeal.Gen.facts, Cert.ReferenceIdeal.Gen.facts, frame_kernel, frame_reference, same_result⟩

end Cert.Proof

end
